-- ==== Defs.lean ====
def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmIdeal_finite [hPre_finite : Cert.Pre_finite.Facts] (m : (ℓ : Loc Cert.GmIdeal.nD Cert.GmIdeal.τ Cert.GmIdeal.sig) → Buf (Elt Ideal) ℓ) : Prop :=
  ∀ c : Dev Cert.GmIdeal.nD,
    (Cert.Pre_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))) = (fun _ => 1#1)

def Pre_GmRefIdeal (m : (ℓ : Loc Cert.GmRefIdeal.nD Cert.GmRefIdeal.τ Cert.GmRefIdeal.sig) → Buf (Elt Ideal) ℓ) : Prop :=
  True

def Pre_GmRefIdeal_finite [hPre_finite : Cert.Pre_finite.Facts] (m : (ℓ : Loc Cert.GmRefIdeal.nD Cert.GmRefIdeal.τ Cert.GmRefIdeal.sig) → Buf (Elt Ideal) ℓ) : Prop :=
  ∀ c : Dev Cert.GmRefIdeal.nD,
    (Cert.Pre_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))) = (fun _ => 1#1)

def Pre_FfDa (m : (ℓ : Loc Cert.FfDa.nD Cert.FfDa.τ Cert.FfDa.sig) → Buf (Elt Bits) ℓ) : Prop :=
  True

def Pre_FfDaIdeal (m : (ℓ : Loc Cert.FfDaIdeal.nD Cert.FfDaIdeal.τ Cert.FfDaIdeal.sig) → Buf (Elt Ideal) ℓ) : Prop :=
  True

def Pre_FfDaRefIdeal (m : (ℓ : Loc Cert.FfDaRefIdeal.nD Cert.FfDaRefIdeal.τ Cert.FfDaRefIdeal.sig) → Buf (Elt Ideal) ℓ) : Prop :=
  True

def Pre_FfDown0 (m : (ℓ : Loc Cert.FfDown0.nD Cert.FfDown0.τ Cert.FfDown0.sig) → Buf (Elt Bits) ℓ) : Prop :=
  True

def Pre_FfDown0Ideal (m : (ℓ : Loc Cert.FfDown0Ideal.nD Cert.FfDown0Ideal.τ Cert.FfDown0Ideal.sig) → Buf (Elt Ideal) ℓ) : Prop :=
  True

def Pre_FfDown0RefIdeal (m : (ℓ : Loc Cert.FfDown0RefIdeal.nD Cert.FfDown0RefIdeal.τ Cert.FfDown0RefIdeal.sig) → Buf (Elt Ideal) ℓ) : Prop :=
  True

def Pre_FfDown1 (m : (ℓ : Loc Cert.FfDown1.nD Cert.FfDown1.τ Cert.FfDown1.sig) → Buf (Elt Bits) ℓ) : Prop :=
  True

def Pre_FfDown1Ideal (m : (ℓ : Loc Cert.FfDown1Ideal.nD Cert.FfDown1Ideal.τ Cert.FfDown1Ideal.sig) → Buf (Elt Ideal) ℓ) : Prop :=
  True

def Pre_FfDown1RefIdeal (m : (ℓ : Loc Cert.FfDown1RefIdeal.nD Cert.FfDown1RefIdeal.τ Cert.FfDown1RefIdeal.sig) → Buf (Elt Ideal) ℓ) : Prop :=
  True

def Pre_FfDown2 (m : (ℓ : Loc Cert.FfDown2.nD Cert.FfDown2.τ Cert.FfDown2.sig) → Buf (Elt Bits) ℓ) : Prop :=
  True

def Pre_FfDown2Ideal (m : (ℓ : Loc Cert.FfDown2Ideal.nD Cert.FfDown2Ideal.τ Cert.FfDown2Ideal.sig) → Buf (Elt Ideal) ℓ) : Prop :=
  True

def Pre_FfDown2RefIdeal (m : (ℓ : Loc Cert.FfDown2RefIdeal.nD Cert.FfDown2RefIdeal.τ Cert.FfDown2RefIdeal.sig) → Buf (Elt Ideal) ℓ) : Prop :=
  True

def Pre_FfDhn0 (m : (ℓ : Loc Cert.FfDhn0.nD Cert.FfDhn0.τ Cert.FfDhn0.sig) → Buf (Elt Bits) ℓ) : Prop :=
  True

def Pre_FfDhn0Ideal (m : (ℓ : Loc Cert.FfDhn0Ideal.nD Cert.FfDhn0Ideal.τ Cert.FfDhn0Ideal.sig) → Buf (Elt Ideal) ℓ) : Prop :=
  True

def Pre_FfDhn0RefIdeal (m : (ℓ : Loc Cert.FfDhn0RefIdeal.nD Cert.FfDhn0RefIdeal.τ Cert.FfDhn0RefIdeal.sig) → Buf (Elt Ideal) ℓ) : Prop :=
  True

def Pre_FfDhn1 (m : (ℓ : Loc Cert.FfDhn1.nD Cert.FfDhn1.τ Cert.FfDhn1.sig) → Buf (Elt Bits) ℓ) : Prop :=
  True

def Pre_FfDhn1Ideal (m : (ℓ : Loc Cert.FfDhn1Ideal.nD Cert.FfDhn1Ideal.τ Cert.FfDhn1Ideal.sig) → Buf (Elt Ideal) ℓ) : Prop :=
  True

def Pre_FfDhn1RefIdeal (m : (ℓ : Loc Cert.FfDhn1RefIdeal.nD Cert.FfDhn1RefIdeal.τ Cert.FfDhn1RefIdeal.sig) → Buf (Elt Ideal) ℓ) : Prop :=
  True

def Pre_FfDhn2 (m : (ℓ : Loc Cert.FfDhn2.nD Cert.FfDhn2.τ Cert.FfDhn2.sig) → Buf (Elt Bits) ℓ) : Prop :=
  True

def Pre_FfDhn2Ideal (m : (ℓ : Loc Cert.FfDhn2Ideal.nD Cert.FfDhn2Ideal.τ Cert.FfDhn2Ideal.sig) → Buf (Elt Ideal) ℓ) : Prop :=
  True

def Pre_FfDhn2RefIdeal (m : (ℓ : Loc Cert.FfDhn2RefIdeal.nD Cert.FfDhn2RefIdeal.τ Cert.FfDhn2RefIdeal.sig) → Buf (Elt Ideal) ℓ) : Prop :=
  True

def Pre_FfDhn3 (m : (ℓ : Loc Cert.FfDhn3.nD Cert.FfDhn3.τ Cert.FfDhn3.sig) → Buf (Elt Bits) ℓ) : Prop :=
  True

def Pre_FfDhn3Ideal (m : (ℓ : Loc Cert.FfDhn3Ideal.nD Cert.FfDhn3Ideal.τ Cert.FfDhn3Ideal.sig) → Buf (Elt Ideal) ℓ) : Prop :=
  True

def Pre_FfDhn3RefIdeal (m : (ℓ : Loc Cert.FfDhn3RefIdeal.nD Cert.FfDhn3RefIdeal.τ Cert.FfDhn3RefIdeal.sig) → Buf (Elt Ideal) ℓ) : Prop :=
  True

def Pre_FfUp0 (m : (ℓ : Loc Cert.FfUp0.nD Cert.FfUp0.τ Cert.FfUp0.sig) → Buf (Elt Bits) ℓ) : Prop :=
  True

def Pre_FfUp0Ideal (m : (ℓ : Loc Cert.FfUp0Ideal.nD Cert.FfUp0Ideal.τ Cert.FfUp0Ideal.sig) → Buf (Elt Ideal) ℓ) : Prop :=
  True

def Pre_FfUp0RefIdeal (m : (ℓ : Loc Cert.FfUp0RefIdeal.nD Cert.FfUp0RefIdeal.τ Cert.FfUp0RefIdeal.sig) → Buf (Elt Ideal) ℓ) : Prop :=
  True

def Pre_FfUp1 (m : (ℓ : Loc Cert.FfUp1.nD Cert.FfUp1.τ Cert.FfUp1.sig) → Buf (Elt Bits) ℓ) : Prop :=
  True

def Pre_FfUp1Ideal (m : (ℓ : Loc Cert.FfUp1Ideal.nD Cert.FfUp1Ideal.τ Cert.FfUp1Ideal.sig) → Buf (Elt Ideal) ℓ) : Prop :=
  True

def Pre_FfUp1RefIdeal (m : (ℓ : Loc Cert.FfUp1RefIdeal.nD Cert.FfUp1RefIdeal.τ Cert.FfUp1RefIdeal.sig) → Buf (Elt Ideal) ℓ) : Prop :=
  True

def Pre_FfUp2 (m : (ℓ : Loc Cert.FfUp2.nD Cert.FfUp2.τ Cert.FfUp2.sig) → Buf (Elt Bits) ℓ) : Prop :=
  True

def Pre_FfUp2Ideal (m : (ℓ : Loc Cert.FfUp2Ideal.nD Cert.FfUp2Ideal.τ Cert.FfUp2Ideal.sig) → Buf (Elt Ideal) ℓ) : Prop :=
  True

def Pre_FfUp2RefIdeal (m : (ℓ : Loc Cert.FfUp2RefIdeal.nD Cert.FfUp2RefIdeal.τ Cert.FfUp2RefIdeal.sig) → Buf (Elt Ideal) ℓ) : Prop :=
  True

def Pre_EvDcat (m : (ℓ : Loc Cert.EvDcat.nD Cert.EvDcat.τ Cert.EvDcat.sig) → Buf (Elt Bits) ℓ) : Prop :=
  True

def Pre_EvDcatIdeal (m : (ℓ : Loc Cert.EvDcatIdeal.nD Cert.EvDcatIdeal.τ Cert.EvDcatIdeal.sig) → Buf (Elt Ideal) ℓ) : Prop :=
  True

def Pre_EvDcatRefIdeal (m : (ℓ : Loc Cert.EvDcatRefIdeal.nD Cert.EvDcatRefIdeal.τ Cert.EvDcatRefIdeal.sig) → Buf (Elt Ideal) ℓ) : Prop :=
  True

def Pre_EvWout (m : (ℓ : Loc Cert.EvWout.nD Cert.EvWout.τ Cert.EvWout.sig) → Buf (Elt Bits) ℓ) : Prop :=
  True

def Pre_EvWoutIdeal (m : (ℓ : Loc Cert.EvWoutIdeal.nD Cert.EvWoutIdeal.τ Cert.EvWoutIdeal.sig) → Buf (Elt Ideal) ℓ) : Prop :=
  True

def Pre_EvWoutRefIdeal (m : (ℓ : Loc Cert.EvWoutRefIdeal.nD Cert.EvWoutRefIdeal.τ Cert.EvWoutRefIdeal.sig) → Buf (Elt Ideal) ℓ) : Prop :=
  True

def Pre_EvDhn (m : (ℓ : Loc Cert.EvDhn.nD Cert.EvDhn.τ Cert.EvDhn.sig) → Buf (Elt Bits) ℓ) : Prop :=
  True

def Pre_EvDhnIdeal (m : (ℓ : Loc Cert.EvDhnIdeal.nD Cert.EvDhnIdeal.τ Cert.EvDhnIdeal.sig) → Buf (Elt Ideal) ℓ) : Prop :=
  True

def Pre_EvDhnRefIdeal (m : (ℓ : Loc Cert.EvDhnRefIdeal.nD Cert.EvDhnRefIdeal.τ Cert.EvDhnRefIdeal.sig) → Buf (Elt Ideal) ℓ) : Prop :=
  True

def Pre_EvDhn2 (m : (ℓ : Loc Cert.EvDhn2.nD Cert.EvDhn2.τ Cert.EvDhn2.sig) → Buf (Elt Bits) ℓ) : Prop :=
  True

def Pre_EvDhn2Ideal (m : (ℓ : Loc Cert.EvDhn2Ideal.nD Cert.EvDhn2Ideal.τ Cert.EvDhn2Ideal.sig) → Buf (Elt Ideal) ℓ) : Prop :=
  True

def Pre_EvDhn2RefIdeal (m : (ℓ : Loc Cert.EvDhn2RefIdeal.nD Cert.EvDhn2RefIdeal.τ Cert.EvDhn2RefIdeal.sig) → Buf (Elt Ideal) ℓ) : Prop :=
  True

def Pre_EvWin (m : (ℓ : Loc Cert.EvWin.nD Cert.EvWin.τ Cert.EvWin.sig) → Buf (Elt Bits) ℓ) : Prop :=
  True

def Pre_EvWinIdeal (m : (ℓ : Loc Cert.EvWinIdeal.nD Cert.EvWinIdeal.τ Cert.EvWinIdeal.sig) → Buf (Elt Ideal) ℓ) : Prop :=
  True

def Pre_EvWinRefIdeal (m : (ℓ : Loc Cert.EvWinRefIdeal.nD Cert.EvWinRefIdeal.τ Cert.EvWinRefIdeal.sig) → Buf (Elt Ideal) ℓ) : Prop :=
  True

def Pre_EvWdt (m : (ℓ : Loc Cert.EvWdt.nD Cert.EvWdt.τ Cert.EvWdt.sig) → Buf (Elt Bits) ℓ) : Prop :=
  True

def Pre_EvWdtIdeal (m : (ℓ : Loc Cert.EvWdtIdeal.nD Cert.EvWdtIdeal.τ Cert.EvWdtIdeal.sig) → Buf (Elt Ideal) ℓ) : Prop :=
  True

def Pre_EvWdtRefIdeal (m : (ℓ : Loc Cert.EvWdtRefIdeal.nD Cert.EvWdtRefIdeal.τ Cert.EvWdtRefIdeal.sig) → Buf (Elt Ideal) ℓ) : Prop :=
  True

def Pre_OdDo (m : (ℓ : Loc Cert.OdDo.nD Cert.OdDo.τ Cert.OdDo.sig) → Buf (Elt Bits) ℓ) : Prop :=
  True

def Pre_OdDoIdeal (m : (ℓ : Loc Cert.OdDoIdeal.nD Cert.OdDoIdeal.τ Cert.OdDoIdeal.sig) → Buf (Elt Ideal) ℓ) : Prop :=
  True

def Pre_OdDoRefIdeal (m : (ℓ : Loc Cert.OdDoRefIdeal.nD Cert.OdDoRefIdeal.τ Cert.OdDoRefIdeal.sig) → Buf (Elt Ideal) ℓ) : Prop :=
  True

def Pre_OdWo (m : (ℓ : Loc Cert.OdWo.nD Cert.OdWo.τ Cert.OdWo.sig) → Buf (Elt Bits) ℓ) : Prop :=
  True

def Pre_OdWoIdeal (m : (ℓ : Loc Cert.OdWoIdeal.nD Cert.OdWoIdeal.τ Cert.OdWoIdeal.sig) → Buf (Elt Ideal) ℓ) : Prop :=
  True

def Pre_OdWoRefIdeal (m : (ℓ : Loc Cert.OdWoRefIdeal.nD Cert.OdWoRefIdeal.τ Cert.OdWoRefIdeal.sig) → Buf (Elt Ideal) ℓ) : Prop :=
  True

def Pre_OdDcq (m : (ℓ : Loc Cert.OdDcq.nD Cert.OdDcq.τ Cert.OdDcq.sig) → Buf (Elt Bits) ℓ) : Prop :=
  True

def Pre_OdDcqIdeal (m : (ℓ : Loc Cert.OdDcqIdeal.nD Cert.OdDcqIdeal.τ Cert.OdDcqIdeal.sig) → Buf (Elt Ideal) ℓ) : Prop :=
  True

def Pre_OdDcqRefIdeal (m : (ℓ : Loc Cert.OdDcqRefIdeal.nD Cert.OdDcqRefIdeal.τ Cert.OdDcqRefIdeal.sig) → Buf (Elt Ideal) ℓ) : Prop :=
  True

def Pre_OdWuq (m : (ℓ : Loc Cert.OdWuq.nD Cert.OdWuq.τ Cert.OdWuq.sig) → Buf (Elt Bits) ℓ) : Prop :=
  True

def Pre_OdWuqIdeal (m : (ℓ : Loc Cert.OdWuqIdeal.nD Cert.OdWuqIdeal.τ Cert.OdWuqIdeal.sig) → Buf (Elt Ideal) ℓ) : Prop :=
  True

def Pre_OdWuqRefIdeal (m : (ℓ : Loc Cert.OdWuqRefIdeal.nD Cert.OdWuqRefIdeal.τ Cert.OdWuqRefIdeal.sig) → Buf (Elt Ideal) ℓ) : Prop :=
  True

def Pre_OdDckv (m : (ℓ : Loc Cert.OdDckv.nD Cert.OdDckv.τ Cert.OdDckv.sig) → Buf (Elt Bits) ℓ) : Prop :=
  True

def Pre_OdDckvIdeal (m : (ℓ : Loc Cert.OdDckvIdeal.nD Cert.OdDckvIdeal.τ Cert.OdDckvIdeal.sig) → Buf (Elt Ideal) ℓ) : Prop :=
  True

def Pre_OdDckvRefIdeal (m : (ℓ : Loc Cert.OdDckvRefIdeal.nD Cert.OdDckvRefIdeal.τ Cert.OdDckvRefIdeal.sig) → Buf (Elt Ideal) ℓ) : Prop :=
  True

def Pre_OdWukv (m : (ℓ : Loc Cert.OdWukv.nD Cert.OdWukv.τ Cert.OdWukv.sig) → Buf (Elt Bits) ℓ) : Prop :=
  True

def Pre_OdWukvIdeal (m : (ℓ : Loc Cert.OdWukvIdeal.nD Cert.OdWukvIdeal.τ Cert.OdWukvIdeal.sig) → Buf (Elt Ideal) ℓ) : Prop :=
  True

def Pre_OdWukvRefIdeal (m : (ℓ : Loc Cert.OdWukvRefIdeal.nD Cert.OdWukvRefIdeal.τ Cert.OdWukvRefIdeal.sig) → Buf (Elt Ideal) ℓ) : Prop :=
  True

def Pre_OdDhn (m : (ℓ : Loc Cert.OdDhn.nD Cert.OdDhn.τ Cert.OdDhn.sig) → Buf (Elt Bits) ℓ) : Prop :=
  True

def Pre_OdDhnIdeal (m : (ℓ : Loc Cert.OdDhnIdeal.nD Cert.OdDhnIdeal.τ Cert.OdDhnIdeal.sig) → Buf (Elt Ideal) ℓ) : Prop :=
  True

def Pre_OdDhnRefIdeal (m : (ℓ : Loc Cert.OdDhnRefIdeal.nD Cert.OdDhnRefIdeal.τ Cert.OdDhnRefIdeal.sig) → Buf (Elt Ideal) ℓ) : Prop :=
  True

def Pre_OdWin (m : (ℓ : Loc Cert.OdWin.nD Cert.OdWin.τ Cert.OdWin.sig) → Buf (Elt Bits) ℓ) : Prop :=
  True

def Pre_OdWinIdeal (m : (ℓ : Loc Cert.OdWinIdeal.nD Cert.OdWinIdeal.τ Cert.OdWinIdeal.sig) → Buf (Elt Ideal) ℓ) : Prop :=
  True

def Pre_OdWinRefIdeal (m : (ℓ : Loc Cert.OdWinRefIdeal.nD Cert.OdWinRefIdeal.τ Cert.OdWinRefIdeal.sig) → Buf (Elt Ideal) ℓ) : Prop :=
  True

def Pre_FwUp0 (m : (ℓ : Loc Cert.FwUp0.nD Cert.FwUp0.τ Cert.FwUp0.sig) → Buf (Elt Bits) ℓ) : Prop :=
  True

def Pre_FwUp0Ideal (m : (ℓ : Loc Cert.FwUp0Ideal.nD Cert.FwUp0Ideal.τ Cert.FwUp0Ideal.sig) → Buf (Elt Ideal) ℓ) : Prop :=
  True

def Pre_FwUp0RefIdeal (m : (ℓ : Loc Cert.FwUp0RefIdeal.nD Cert.FwUp0RefIdeal.τ Cert.FwUp0RefIdeal.sig) → Buf (Elt Ideal) ℓ) : Prop :=
  True

def Pre_FwUp1 (m : (ℓ : Loc Cert.FwUp1.nD Cert.FwUp1.τ Cert.FwUp1.sig) → Buf (Elt Bits) ℓ) : Prop :=
  True

def Pre_FwUp1Ideal (m : (ℓ : Loc Cert.FwUp1Ideal.nD Cert.FwUp1Ideal.τ Cert.FwUp1Ideal.sig) → Buf (Elt Ideal) ℓ) : Prop :=
  True

def Pre_FwUp1RefIdeal (m : (ℓ : Loc Cert.FwUp1RefIdeal.nD Cert.FwUp1RefIdeal.τ Cert.FwUp1RefIdeal.sig) → Buf (Elt Ideal) ℓ) : Prop :=
  True

def Pre_FwUp2 (m : (ℓ : Loc Cert.FwUp2.nD Cert.FwUp2.τ Cert.FwUp2.sig) → Buf (Elt Bits) ℓ) : Prop :=
  True

def Pre_FwUp2Ideal (m : (ℓ : Loc Cert.FwUp2Ideal.nD Cert.FwUp2Ideal.τ Cert.FwUp2Ideal.sig) → Buf (Elt Ideal) ℓ) : Prop :=
  True

def Pre_FwUp2RefIdeal (m : (ℓ : Loc Cert.FwUp2RefIdeal.nD Cert.FwUp2RefIdeal.τ Cert.FwUp2RefIdeal.sig) → Buf (Elt Ideal) ℓ) : Prop :=
  True

def Pre_FwUp3 (m : (ℓ : Loc Cert.FwUp3.nD Cert.FwUp3.τ Cert.FwUp3.sig) → Buf (Elt Bits) ℓ) : Prop :=
  True

def Pre_FwUp3Ideal (m : (ℓ : Loc Cert.FwUp3Ideal.nD Cert.FwUp3Ideal.τ Cert.FwUp3Ideal.sig) → Buf (Elt Ideal) ℓ) : Prop :=
  True

def Pre_FwUp3RefIdeal (m : (ℓ : Loc Cert.FwUp3RefIdeal.nD Cert.FwUp3RefIdeal.τ Cert.FwUp3RefIdeal.sig) → Buf (Elt Ideal) ℓ) : Prop :=
  True

def Pre_FwDown (m : (ℓ : Loc Cert.FwDown.nD Cert.FwDown.τ Cert.FwDown.sig) → Buf (Elt Bits) ℓ) : Prop :=
  True

def Pre_FwDownIdeal (m : (ℓ : Loc Cert.FwDownIdeal.nD Cert.FwDownIdeal.τ Cert.FwDownIdeal.sig) → Buf (Elt Ideal) ℓ) : Prop :=
  True

def Pre_FwDownRefIdeal (m : (ℓ : Loc Cert.FwDownRefIdeal.nD Cert.FwDownRefIdeal.τ Cert.FwDownRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvInDt (m : (ℓ : Loc Cert.EvInDt.nD Cert.EvInDt.τ Cert.EvInDt.sig) → Buf (Elt Bits) ℓ) : Prop :=
  True

def Pre_EvInDtIdeal (m : (ℓ : Loc Cert.EvInDtIdeal.nD Cert.EvInDtIdeal.τ Cert.EvInDtIdeal.sig) → Buf (Elt Ideal) ℓ) : Prop :=
  True

def Pre_EvInDtRefIdeal (m : (ℓ : Loc Cert.EvInDtRefIdeal.nD Cert.EvInDtRefIdeal.τ Cert.EvInDtRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_OdUq (m : (ℓ : Loc Cert.OdUq.nD Cert.OdUq.τ Cert.OdUq.sig) → Buf (Elt Bits) ℓ) : Prop :=
  True

def Pre_OdUqIdeal (m : (ℓ : Loc Cert.OdUqIdeal.nD Cert.OdUqIdeal.τ Cert.OdUqIdeal.sig) → Buf (Elt Ideal) ℓ) : Prop :=
  True

def Pre_OdUqRefIdeal (m : (ℓ : Loc Cert.OdUqRefIdeal.nD Cert.OdUqRefIdeal.τ Cert.OdUqRefIdeal.sig) → Buf (Elt Ideal) ℓ) : Prop :=
  True

def Pre_OdUkv (m : (ℓ : Loc Cert.OdUkv.nD Cert.OdUkv.τ Cert.OdUkv.sig) → Buf (Elt Bits) ℓ) : Prop :=
  True

def Pre_OdUkvIdeal (m : (ℓ : Loc Cert.OdUkvIdeal.nD Cert.OdUkvIdeal.τ Cert.OdUkvIdeal.sig) → Buf (Elt Ideal) ℓ) : Prop :=
  True

def Pre_OdUkvRefIdeal (m : (ℓ : Loc Cert.OdUkvRefIdeal.nD Cert.OdUkvRefIdeal.τ Cert.OdUkvRefIdeal.sig) → Buf (Elt Ideal) ℓ) : Prop :=
  True

def Pre_OdO (m : (ℓ : Loc Cert.OdO.nD Cert.OdO.τ Cert.OdO.sig) → Buf (Elt Bits) ℓ) : Prop :=
  True

def Pre_OdOIdeal (m : (ℓ : Loc Cert.OdOIdeal.nD Cert.OdOIdeal.τ Cert.OdOIdeal.sig) → Buf (Elt Ideal) ℓ) : Prop :=
  True

def Pre_OdORefIdeal (m : (ℓ : Loc Cert.OdORefIdeal.nD Cert.OdORefIdeal.τ Cert.OdORefIdeal.sig) → Buf (Elt Ideal) ℓ) : Prop :=
  True

def Pre_FfDowns (m : (ℓ : Loc Cert.FfDowns.nD Cert.FfDowns.τ Cert.FfDowns.sig) → Buf (Elt Bits) ℓ) : Prop :=
  True

def Pre_FfDownsIdeal (m : (ℓ : Loc Cert.FfDownsIdeal.nD Cert.FfDownsIdeal.τ Cert.FfDownsIdeal.sig) → Buf (Elt Ideal) ℓ) : Prop :=
  True

def Pre_FfDownsRefIdeal (m : (ℓ : Loc Cert.FfDownsRefIdeal.nD Cert.FfDownsRefIdeal.τ Cert.FfDownsRefIdeal.sig) → Buf (Elt Ideal) ℓ) : Prop :=
  True

def Pre_FfUps (m : (ℓ : Loc Cert.FfUps.nD Cert.FfUps.τ Cert.FfUps.sig) → Buf (Elt Bits) ℓ) : Prop :=
  True

def Pre_FfUpsIdeal (m : (ℓ : Loc Cert.FfUpsIdeal.nD Cert.FfUpsIdeal.τ Cert.FfUpsIdeal.sig) → Buf (Elt Ideal) ℓ) : Prop :=
  True

def Pre_FfUpsRefIdeal (m : (ℓ : Loc Cert.FfUpsRefIdeal.nD Cert.FfUpsRefIdeal.τ Cert.FfUpsRefIdeal.sig) → Buf (Elt Ideal) ℓ) : Prop :=
  True

def Pre_EvWouts (m : (ℓ : Loc Cert.EvWouts.nD Cert.EvWouts.τ Cert.EvWouts.sig) → Buf (Elt Bits) ℓ) : Prop :=
  True

def Pre_EvWoutsIdeal (m : (ℓ : Loc Cert.EvWoutsIdeal.nD Cert.EvWoutsIdeal.τ Cert.EvWoutsIdeal.sig) → Buf (Elt Ideal) ℓ) : Prop :=
  True

def Pre_EvWoutsRefIdeal (m : (ℓ : Loc Cert.EvWoutsRefIdeal.nD Cert.EvWoutsRefIdeal.τ Cert.EvWoutsRefIdeal.sig) → Buf (Elt Ideal) ℓ) : Prop :=
  True

def Pre_OdWos (m : (ℓ : Loc Cert.OdWos.nD Cert.OdWos.τ Cert.OdWos.sig) → Buf (Elt Bits) ℓ) : Prop :=
  True

def Pre_OdWosIdeal (m : (ℓ : Loc Cert.OdWosIdeal.nD Cert.OdWosIdeal.τ Cert.OdWosIdeal.sig) → Buf (Elt Ideal) ℓ) : Prop :=
  True

def Pre_OdWosRefIdeal (m : (ℓ : Loc Cert.OdWosRefIdeal.nD Cert.OdWosRefIdeal.τ Cert.OdWosRefIdeal.sig) → Buf (Elt Ideal) ℓ) : Prop :=
  True

def Pre_At0 (m : (ℓ : Loc Cert.At0.nD Cert.At0.τ Cert.At0.sig) → Buf (Elt Bits) ℓ) : Prop :=
  True

def Pre_At0Ideal (m : (ℓ : Loc Cert.At0Ideal.nD Cert.At0Ideal.τ Cert.At0Ideal.sig) → Buf (Elt Ideal) ℓ) : Prop :=
  True

def Pre_At0Ideal_attn_finite [hPre_attn_finite : Cert.Pre_attn_finite.Facts] (m : (ℓ : Loc Cert.At0Ideal.nD Cert.At0Ideal.τ Cert.At0Ideal.sig) → Buf (Elt Ideal) ℓ) : Prop :=
  ∀ c : Dev Cert.At0Ideal.nD,
    (Cert.Pre_attn_finite.fn (F := Ideal) (m ((c.tc : Thread Cert.At0Ideal.nD Cert.At0Ideal.τ).loc Cert.At0Ideal.main_arg0)) (m ((c.tc : Thread Cert.At0Ideal.nD Cert.At0Ideal.τ).loc Cert.At0Ideal.main_arg1)) (m ((c.tc : Thread Cert.At0Ideal.nD Cert.At0Ideal.τ).loc Cert.At0Ideal.main_arg2)) (m ((c.tc : Thread Cert.At0Ideal.nD Cert.At0Ideal.τ).loc Cert.At0Ideal.main_arg3)) (m ((c.tc : Thread Cert.At0Ideal.nD Cert.At0Ideal.τ).loc Cert.At0Ideal.main_arg4)) (m ((c.tc : Thread Cert.At0Ideal.nD Cert.At0Ideal.τ).loc Cert.At0Ideal.main_arg5)) (m ((c.tc : Thread Cert.At0Ideal.nD Cert.At0Ideal.τ).loc Cert.At0Ideal.main_arg6)) (m ((c.tc : Thread Cert.At0Ideal.nD Cert.At0Ideal.τ).loc Cert.At0Ideal.main_arg7))) = (fun _ => 1#1)

def Pre_At0RefIdeal (m : (ℓ : Loc Cert.At0RefIdeal.nD Cert.At0RefIdeal.τ Cert.At0RefIdeal.sig) → Buf (Elt Ideal) ℓ) : Prop :=
  True

def Pre_At0RefIdeal_attn_finite [hPre_attn_finite : Cert.Pre_attn_finite.Facts] (m : (ℓ : Loc Cert.At0RefIdeal.nD Cert.At0RefIdeal.τ Cert.At0RefIdeal.sig) → Buf (Elt Ideal) ℓ) : Prop :=
  ∀ c : Dev Cert.At0RefIdeal.nD,
    (Cert.Pre_attn_finite.fn (F := Ideal) (m ((c.tc : Thread Cert.At0RefIdeal.nD Cert.At0RefIdeal.τ).loc Cert.At0RefIdeal.main_arg0)) (m ((c.tc : Thread Cert.At0RefIdeal.nD Cert.At0RefIdeal.τ).loc Cert.At0RefIdeal.main_arg1)) (m ((c.tc : Thread Cert.At0RefIdeal.nD Cert.At0RefIdeal.τ).loc Cert.At0RefIdeal.main_arg2)) (m ((c.tc : Thread Cert.At0RefIdeal.nD Cert.At0RefIdeal.τ).loc Cert.At0RefIdeal.main_arg3)) (m ((c.tc : Thread Cert.At0RefIdeal.nD Cert.At0RefIdeal.τ).loc Cert.At0RefIdeal.main_arg4)) (m ((c.tc : Thread Cert.At0RefIdeal.nD Cert.At0RefIdeal.τ).loc Cert.At0RefIdeal.main_arg5)) (m ((c.tc : Thread Cert.At0RefIdeal.nD Cert.At0RefIdeal.τ).loc Cert.At0RefIdeal.main_arg6)) (m ((c.tc : Thread Cert.At0RefIdeal.nD Cert.At0RefIdeal.τ).loc Cert.At0RefIdeal.main_arg7))) = (fun _ => 1#1)

def Pre_At1 (m : (ℓ : Loc Cert.At1.nD Cert.At1.τ Cert.At1.sig) → Buf (Elt Bits) ℓ) : Prop :=
  True

def Pre_At1Ideal (m : (ℓ : Loc Cert.At1Ideal.nD Cert.At1Ideal.τ Cert.At1Ideal.sig) → Buf (Elt Ideal) ℓ) : Prop :=
  True

def Pre_At1Ideal_attn_finite [hPre_attn_finite : Cert.Pre_attn_finite.Facts] (m : (ℓ : Loc Cert.At1Ideal.nD Cert.At1Ideal.τ Cert.At1Ideal.sig) → Buf (Elt Ideal) ℓ) : Prop :=
  ∀ c : Dev Cert.At1Ideal.nD,
    (Cert.Pre_attn_finite.fn (F := Ideal) (m ((c.tc : Thread Cert.At1Ideal.nD Cert.At1Ideal.τ).loc Cert.At1Ideal.main_arg0)) (m ((c.tc : Thread Cert.At1Ideal.nD Cert.At1Ideal.τ).loc Cert.At1Ideal.main_arg1)) (m ((c.tc : Thread Cert.At1Ideal.nD Cert.At1Ideal.τ).loc Cert.At1Ideal.main_arg2)) (m ((c.tc : Thread Cert.At1Ideal.nD Cert.At1Ideal.τ).loc Cert.At1Ideal.main_arg3)) (m ((c.tc : Thread Cert.At1Ideal.nD Cert.At1Ideal.τ).loc Cert.At1Ideal.main_arg4)) (m ((c.tc : Thread Cert.At1Ideal.nD Cert.At1Ideal.τ).loc Cert.At1Ideal.main_arg5)) (m ((c.tc : Thread Cert.At1Ideal.nD Cert.At1Ideal.τ).loc Cert.At1Ideal.main_arg6)) (m ((c.tc : Thread Cert.At1Ideal.nD Cert.At1Ideal.τ).loc Cert.At1Ideal.main_arg7))) = (fun _ => 1#1)

def Pre_At1RefIdeal (m : (ℓ : Loc Cert.At1RefIdeal.nD Cert.At1RefIdeal.τ Cert.At1RefIdeal.sig) → Buf (Elt Ideal) ℓ) : Prop :=
  True

def Pre_At1RefIdeal_attn_finite [hPre_attn_finite : Cert.Pre_attn_finite.Facts] (m : (ℓ : Loc Cert.At1RefIdeal.nD Cert.At1RefIdeal.τ Cert.At1RefIdeal.sig) → Buf (Elt Ideal) ℓ) : Prop :=
  ∀ c : Dev Cert.At1RefIdeal.nD,
    (Cert.Pre_attn_finite.fn (F := Ideal) (m ((c.tc : Thread Cert.At1RefIdeal.nD Cert.At1RefIdeal.τ).loc Cert.At1RefIdeal.main_arg0)) (m ((c.tc : Thread Cert.At1RefIdeal.nD Cert.At1RefIdeal.τ).loc Cert.At1RefIdeal.main_arg1)) (m ((c.tc : Thread Cert.At1RefIdeal.nD Cert.At1RefIdeal.τ).loc Cert.At1RefIdeal.main_arg2)) (m ((c.tc : Thread Cert.At1RefIdeal.nD Cert.At1RefIdeal.τ).loc Cert.At1RefIdeal.main_arg3)) (m ((c.tc : Thread Cert.At1RefIdeal.nD Cert.At1RefIdeal.τ).loc Cert.At1RefIdeal.main_arg4)) (m ((c.tc : Thread Cert.At1RefIdeal.nD Cert.At1RefIdeal.τ).loc Cert.At1RefIdeal.main_arg5)) (m ((c.tc : Thread Cert.At1RefIdeal.nD Cert.At1RefIdeal.τ).loc Cert.At1RefIdeal.main_arg6)) (m ((c.tc : Thread Cert.At1RefIdeal.nD Cert.At1RefIdeal.τ).loc Cert.At1RefIdeal.main_arg7))) = (fun _ => 1#1)

def Pre_Af1 (m : (ℓ : Loc Cert.Af1.nD Cert.Af1.τ Cert.Af1.sig) → Buf (Elt Bits) ℓ) : Prop :=
  True

def Pre_Af1Ideal (m : (ℓ : Loc Cert.Af1Ideal.nD Cert.Af1Ideal.τ Cert.Af1Ideal.sig) → Buf (Elt Ideal) ℓ) : Prop :=
  True

def Pre_Af1RefIdeal (m : (ℓ : Loc Cert.Af1RefIdeal.nD Cert.Af1RefIdeal.τ Cert.Af1RefIdeal.sig) → Buf (Elt Ideal) ℓ) : Prop :=
  True

def Pre_Af2 (m : (ℓ : Loc Cert.Af2.nD Cert.Af2.τ Cert.Af2.sig) → Buf (Elt Bits) ℓ) : Prop :=
  True

def Pre_Af2Ideal (m : (ℓ : Loc Cert.Af2Ideal.nD Cert.Af2Ideal.τ Cert.Af2Ideal.sig) → Buf (Elt Ideal) ℓ) : Prop :=
  True

def Pre_Af2RefIdeal (m : (ℓ : Loc Cert.Af2RefIdeal.nD Cert.Af2RefIdeal.τ Cert.Af2RefIdeal.sig) → Buf (Elt Ideal) ℓ) : Prop :=
  True

def Pre_Af3 (m : (ℓ : Loc Cert.Af3.nD Cert.Af3.τ Cert.Af3.sig) → Buf (Elt Bits) ℓ) : Prop :=
  True

def Pre_Af3Ideal (m : (ℓ : Loc Cert.Af3Ideal.nD Cert.Af3Ideal.τ Cert.Af3Ideal.sig) → Buf (Elt Ideal) ℓ) : Prop :=
  True

def Pre_Af3RefIdeal (m : (ℓ : Loc Cert.Af3RefIdeal.nD Cert.Af3RefIdeal.τ Cert.Af3RefIdeal.sig) → Buf (Elt Ideal) ℓ) : Prop :=
  True

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3)
      ∧ r.2.mem ((c.tc : Thread Cert.Gm.nD Cert.Gm.τ).loc Cert.Gm.main_arg4) = m ((c.tc : Thread Cert.Gm.nD Cert.Gm.τ).loc Cert.Gm.main_arg4)
      ∧ r.2.mem ((c.tc : Thread Cert.Gm.nD Cert.Gm.τ).loc Cert.Gm.main_arg5) = m ((c.tc : Thread Cert.Gm.nD Cert.Gm.τ).loc Cert.Gm.main_arg5))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ r.2.sem = fun _ => 0)

def quiescent_GmIdeal_pre_finite [hGmIdeal : Cert.GmIdeal.Facts] [hPre_finite : Cert.Pre_finite.Facts] : Prop :=
  ∀ (m : (ℓ : Loc Cert.GmIdeal.nD Cert.GmIdeal.τ Cert.GmIdeal.sig) → Buf (Elt Ideal) ℓ) (g : Dev Cert.GmIdeal.nD → PrngReg), Pre_GmIdeal_finite m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5))
      ∧ r.2.sem = fun _ => 0)

def quiescent_GmRefIdeal_pre_finite [hGmRefIdeal : Cert.GmRefIdeal.Facts] [hPre_finite : Cert.Pre_finite.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal_finite m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5))
      ∧ r.2.sem = fun _ => 0)

def quiescent_FfDa [hFfDa : Cert.FfDa.Facts] : Prop :=
  ∀ (m : (ℓ : Loc Cert.FfDa.nD Cert.FfDa.τ Cert.FfDa.sig) → Buf (Elt Bits) ℓ) (g : Dev Cert.FfDa.nD → PrngReg), Pre_FfDa m →
    θ_run (Cert.FfDa.defs (F := Bits)) (onTc (τ := Cert.FfDa.τ) (Cert.FfDa.main (F := Bits))) ⟨m, fun _ => 0, g⟩ (fun r => (∀ c : Dev Cert.FfDa.nD,
      r.2.mem ((c.tc : Thread Cert.FfDa.nD Cert.FfDa.τ).loc Cert.FfDa.main_arg0) = m ((c.tc : Thread Cert.FfDa.nD Cert.FfDa.τ).loc Cert.FfDa.main_arg0)
      ∧ r.2.mem ((c.tc : Thread Cert.FfDa.nD Cert.FfDa.τ).loc Cert.FfDa.main_arg1) = m ((c.tc : Thread Cert.FfDa.nD Cert.FfDa.τ).loc Cert.FfDa.main_arg1))
      ∧ r.2.sem = fun _ => 0)

def quiescent_FfDaIdeal [hFfDaIdeal : Cert.FfDaIdeal.Facts] : Prop :=
  ∀ (m : (ℓ : Loc Cert.FfDaIdeal.nD Cert.FfDaIdeal.τ Cert.FfDaIdeal.sig) → Buf (Elt Ideal) ℓ) (g : Dev Cert.FfDaIdeal.nD → PrngReg), Pre_FfDaIdeal m →
    θ_run (Cert.FfDaIdeal.defs (F := Ideal)) (onTc (τ := Cert.FfDaIdeal.τ) (Cert.FfDaIdeal.main (F := Ideal))) ⟨m, fun _ => 0, g⟩ (fun r => (∀ c : Dev Cert.FfDaIdeal.nD,
      r.2.mem ((c.tc : Thread Cert.FfDaIdeal.nD Cert.FfDaIdeal.τ).loc Cert.FfDaIdeal.main_arg0) = m ((c.tc : Thread Cert.FfDaIdeal.nD Cert.FfDaIdeal.τ).loc Cert.FfDaIdeal.main_arg0)
      ∧ r.2.mem ((c.tc : Thread Cert.FfDaIdeal.nD Cert.FfDaIdeal.τ).loc Cert.FfDaIdeal.main_arg1) = m ((c.tc : Thread Cert.FfDaIdeal.nD Cert.FfDaIdeal.τ).loc Cert.FfDaIdeal.main_arg1))
      ∧ r.2.sem = fun _ => 0)

def quiescent_FfDaRefIdeal [hFfDaRefIdeal : Cert.FfDaRefIdeal.Facts] : Prop :=
  ∀ (m : (ℓ : Loc Cert.FfDaRefIdeal.nD Cert.FfDaRefIdeal.τ Cert.FfDaRefIdeal.sig) → Buf (Elt Ideal) ℓ) (g : Dev Cert.FfDaRefIdeal.nD → PrngReg), Pre_FfDaRefIdeal m →
    θ_run (Cert.FfDaRefIdeal.defs (F := Ideal)) (onTc (τ := Cert.FfDaRefIdeal.τ) (Cert.FfDaRefIdeal.main (F := Ideal))) ⟨m, fun _ => 0, g⟩ (fun r => (∀ c : Dev Cert.FfDaRefIdeal.nD,
      r.2.mem ((c.tc : Thread Cert.FfDaRefIdeal.nD Cert.FfDaRefIdeal.τ).loc Cert.FfDaRefIdeal.main_arg0) = m ((c.tc : Thread Cert.FfDaRefIdeal.nD Cert.FfDaRefIdeal.τ).loc Cert.FfDaRefIdeal.main_arg0)
      ∧ r.2.mem ((c.tc : Thread Cert.FfDaRefIdeal.nD Cert.FfDaRefIdeal.τ).loc Cert.FfDaRefIdeal.main_arg1) = m ((c.tc : Thread Cert.FfDaRefIdeal.nD Cert.FfDaRefIdeal.τ).loc Cert.FfDaRefIdeal.main_arg1))
      ∧ r.2.sem = fun _ => 0)

def quiescent_FfDown0 [hFfDown0 : Cert.FfDown0.Facts] : Prop :=
  ∀ (m : (ℓ : Loc Cert.FfDown0.nD Cert.FfDown0.τ Cert.FfDown0.sig) → Buf (Elt Bits) ℓ) (g : Dev Cert.FfDown0.nD → PrngReg), Pre_FfDown0 m →
    θ_run (Cert.FfDown0.defs (F := Bits)) (onTc (τ := Cert.FfDown0.τ) (Cert.FfDown0.main (F := Bits))) ⟨m, fun _ => 0, g⟩ (fun r => (∀ c : Dev Cert.FfDown0.nD,
      r.2.mem ((c.tc : Thread Cert.FfDown0.nD Cert.FfDown0.τ).loc Cert.FfDown0.main_arg0) = m ((c.tc : Thread Cert.FfDown0.nD Cert.FfDown0.τ).loc Cert.FfDown0.main_arg0)
      ∧ r.2.mem ((c.tc : Thread Cert.FfDown0.nD Cert.FfDown0.τ).loc Cert.FfDown0.main_arg1) = m ((c.tc : Thread Cert.FfDown0.nD Cert.FfDown0.τ).loc Cert.FfDown0.main_arg1)
      ∧ r.2.mem ((c.tc : Thread Cert.FfDown0.nD Cert.FfDown0.τ).loc Cert.FfDown0.main_arg2) = m ((c.tc : Thread Cert.FfDown0.nD Cert.FfDown0.τ).loc Cert.FfDown0.main_arg2))
      ∧ r.2.sem = fun _ => 0)

def quiescent_FfDown0Ideal [hFfDown0Ideal : Cert.FfDown0Ideal.Facts] : Prop :=
  ∀ (m : (ℓ : Loc Cert.FfDown0Ideal.nD Cert.FfDown0Ideal.τ Cert.FfDown0Ideal.sig) → Buf (Elt Ideal) ℓ) (g : Dev Cert.FfDown0Ideal.nD → PrngReg), Pre_FfDown0Ideal m →
    θ_run (Cert.FfDown0Ideal.defs (F := Ideal)) (onTc (τ := Cert.FfDown0Ideal.τ) (Cert.FfDown0Ideal.main (F := Ideal))) ⟨m, fun _ => 0, g⟩ (fun r => (∀ c : Dev Cert.FfDown0Ideal.nD,
      r.2.mem ((c.tc : Thread Cert.FfDown0Ideal.nD Cert.FfDown0Ideal.τ).loc Cert.FfDown0Ideal.main_arg0) = m ((c.tc : Thread Cert.FfDown0Ideal.nD Cert.FfDown0Ideal.τ).loc Cert.FfDown0Ideal.main_arg0)
      ∧ r.2.mem ((c.tc : Thread Cert.FfDown0Ideal.nD Cert.FfDown0Ideal.τ).loc Cert.FfDown0Ideal.main_arg1) = m ((c.tc : Thread Cert.FfDown0Ideal.nD Cert.FfDown0Ideal.τ).loc Cert.FfDown0Ideal.main_arg1)
      ∧ r.2.mem ((c.tc : Thread Cert.FfDown0Ideal.nD Cert.FfDown0Ideal.τ).loc Cert.FfDown0Ideal.main_arg2) = m ((c.tc : Thread Cert.FfDown0Ideal.nD Cert.FfDown0Ideal.τ).loc Cert.FfDown0Ideal.main_arg2))
      ∧ r.2.sem = fun _ => 0)

def quiescent_FfDown0RefIdeal [hFfDown0RefIdeal : Cert.FfDown0RefIdeal.Facts] : Prop :=
  ∀ (m : (ℓ : Loc Cert.FfDown0RefIdeal.nD Cert.FfDown0RefIdeal.τ Cert.FfDown0RefIdeal.sig) → Buf (Elt Ideal) ℓ) (g : Dev Cert.FfDown0RefIdeal.nD → PrngReg), Pre_FfDown0RefIdeal m →
    θ_run (Cert.FfDown0RefIdeal.defs (F := Ideal)) (onTc (τ := Cert.FfDown0RefIdeal.τ) (Cert.FfDown0RefIdeal.main (F := Ideal))) ⟨m, fun _ => 0, g⟩ (fun r => (∀ c : Dev Cert.FfDown0RefIdeal.nD,
      r.2.mem ((c.tc : Thread Cert.FfDown0RefIdeal.nD Cert.FfDown0RefIdeal.τ).loc Cert.FfDown0RefIdeal.main_arg0) = m ((c.tc : Thread Cert.FfDown0RefIdeal.nD Cert.FfDown0RefIdeal.τ).loc Cert.FfDown0RefIdeal.main_arg0)
      ∧ r.2.mem ((c.tc : Thread Cert.FfDown0RefIdeal.nD Cert.FfDown0RefIdeal.τ).loc Cert.FfDown0RefIdeal.main_arg1) = m ((c.tc : Thread Cert.FfDown0RefIdeal.nD Cert.FfDown0RefIdeal.τ).loc Cert.FfDown0RefIdeal.main_arg1)
      ∧ r.2.mem ((c.tc : Thread Cert.FfDown0RefIdeal.nD Cert.FfDown0RefIdeal.τ).loc Cert.FfDown0RefIdeal.main_arg2) = m ((c.tc : Thread Cert.FfDown0RefIdeal.nD Cert.FfDown0RefIdeal.τ).loc Cert.FfDown0RefIdeal.main_arg2))
      ∧ r.2.sem = fun _ => 0)

def quiescent_FfDown1 [hFfDown1 : Cert.FfDown1.Facts] : Prop :=
  ∀ (m : (ℓ : Loc Cert.FfDown1.nD Cert.FfDown1.τ Cert.FfDown1.sig) → Buf (Elt Bits) ℓ) (g : Dev Cert.FfDown1.nD → PrngReg), Pre_FfDown1 m →
    θ_run (Cert.FfDown1.defs (F := Bits)) (onTc (τ := Cert.FfDown1.τ) (Cert.FfDown1.main (F := Bits))) ⟨m, fun _ => 0, g⟩ (fun r => (∀ c : Dev Cert.FfDown1.nD,
      r.2.mem ((c.tc : Thread Cert.FfDown1.nD Cert.FfDown1.τ).loc Cert.FfDown1.main_arg0) = m ((c.tc : Thread Cert.FfDown1.nD Cert.FfDown1.τ).loc Cert.FfDown1.main_arg0)
      ∧ r.2.mem ((c.tc : Thread Cert.FfDown1.nD Cert.FfDown1.τ).loc Cert.FfDown1.main_arg1) = m ((c.tc : Thread Cert.FfDown1.nD Cert.FfDown1.τ).loc Cert.FfDown1.main_arg1)
      ∧ r.2.mem ((c.tc : Thread Cert.FfDown1.nD Cert.FfDown1.τ).loc Cert.FfDown1.main_arg2) = m ((c.tc : Thread Cert.FfDown1.nD Cert.FfDown1.τ).loc Cert.FfDown1.main_arg2))
      ∧ r.2.sem = fun _ => 0)

def quiescent_FfDown1Ideal [hFfDown1Ideal : Cert.FfDown1Ideal.Facts] : Prop :=
  ∀ (m : (ℓ : Loc Cert.FfDown1Ideal.nD Cert.FfDown1Ideal.τ Cert.FfDown1Ideal.sig) → Buf (Elt Ideal) ℓ) (g : Dev Cert.FfDown1Ideal.nD → PrngReg), Pre_FfDown1Ideal m →
    θ_run (Cert.FfDown1Ideal.defs (F := Ideal)) (onTc (τ := Cert.FfDown1Ideal.τ) (Cert.FfDown1Ideal.main (F := Ideal))) ⟨m, fun _ => 0, g⟩ (fun r => (∀ c : Dev Cert.FfDown1Ideal.nD,
      r.2.mem ((c.tc : Thread Cert.FfDown1Ideal.nD Cert.FfDown1Ideal.τ).loc Cert.FfDown1Ideal.main_arg0) = m ((c.tc : Thread Cert.FfDown1Ideal.nD Cert.FfDown1Ideal.τ).loc Cert.FfDown1Ideal.main_arg0)
      ∧ r.2.mem ((c.tc : Thread Cert.FfDown1Ideal.nD Cert.FfDown1Ideal.τ).loc Cert.FfDown1Ideal.main_arg1) = m ((c.tc : Thread Cert.FfDown1Ideal.nD Cert.FfDown1Ideal.τ).loc Cert.FfDown1Ideal.main_arg1)
      ∧ r.2.mem ((c.tc : Thread Cert.FfDown1Ideal.nD Cert.FfDown1Ideal.τ).loc Cert.FfDown1Ideal.main_arg2) = m ((c.tc : Thread Cert.FfDown1Ideal.nD Cert.FfDown1Ideal.τ).loc Cert.FfDown1Ideal.main_arg2))
      ∧ r.2.sem = fun _ => 0)

def quiescent_FfDown1RefIdeal [hFfDown1RefIdeal : Cert.FfDown1RefIdeal.Facts] : Prop :=
  ∀ (m : (ℓ : Loc Cert.FfDown1RefIdeal.nD Cert.FfDown1RefIdeal.τ Cert.FfDown1RefIdeal.sig) → Buf (Elt Ideal) ℓ) (g : Dev Cert.FfDown1RefIdeal.nD → PrngReg), Pre_FfDown1RefIdeal m →
    θ_run (Cert.FfDown1RefIdeal.defs (F := Ideal)) (onTc (τ := Cert.FfDown1RefIdeal.τ) (Cert.FfDown1RefIdeal.main (F := Ideal))) ⟨m, fun _ => 0, g⟩ (fun r => (∀ c : Dev Cert.FfDown1RefIdeal.nD,
      r.2.mem ((c.tc : Thread Cert.FfDown1RefIdeal.nD Cert.FfDown1RefIdeal.τ).loc Cert.FfDown1RefIdeal.main_arg0) = m ((c.tc : Thread Cert.FfDown1RefIdeal.nD Cert.FfDown1RefIdeal.τ).loc Cert.FfDown1RefIdeal.main_arg0)
      ∧ r.2.mem ((c.tc : Thread Cert.FfDown1RefIdeal.nD Cert.FfDown1RefIdeal.τ).loc Cert.FfDown1RefIdeal.main_arg1) = m ((c.tc : Thread Cert.FfDown1RefIdeal.nD Cert.FfDown1RefIdeal.τ).loc Cert.FfDown1RefIdeal.main_arg1)
      ∧ r.2.mem ((c.tc : Thread Cert.FfDown1RefIdeal.nD Cert.FfDown1RefIdeal.τ).loc Cert.FfDown1RefIdeal.main_arg2) = m ((c.tc : Thread Cert.FfDown1RefIdeal.nD Cert.FfDown1RefIdeal.τ).loc Cert.FfDown1RefIdeal.main_arg2))
      ∧ r.2.sem = fun _ => 0)

def quiescent_FfDown2 [hFfDown2 : Cert.FfDown2.Facts] : Prop :=
  ∀ (m : (ℓ : Loc Cert.FfDown2.nD Cert.FfDown2.τ Cert.FfDown2.sig) → Buf (Elt Bits) ℓ) (g : Dev Cert.FfDown2.nD → PrngReg), Pre_FfDown2 m →
    θ_run (Cert.FfDown2.defs (F := Bits)) (onTc (τ := Cert.FfDown2.τ) (Cert.FfDown2.main (F := Bits))) ⟨m, fun _ => 0, g⟩ (fun r => (∀ c : Dev Cert.FfDown2.nD,
      r.2.mem ((c.tc : Thread Cert.FfDown2.nD Cert.FfDown2.τ).loc Cert.FfDown2.main_arg0) = m ((c.tc : Thread Cert.FfDown2.nD Cert.FfDown2.τ).loc Cert.FfDown2.main_arg0)
      ∧ r.2.mem ((c.tc : Thread Cert.FfDown2.nD Cert.FfDown2.τ).loc Cert.FfDown2.main_arg1) = m ((c.tc : Thread Cert.FfDown2.nD Cert.FfDown2.τ).loc Cert.FfDown2.main_arg1)
      ∧ r.2.mem ((c.tc : Thread Cert.FfDown2.nD Cert.FfDown2.τ).loc Cert.FfDown2.main_arg2) = m ((c.tc : Thread Cert.FfDown2.nD Cert.FfDown2.τ).loc Cert.FfDown2.main_arg2))
      ∧ r.2.sem = fun _ => 0)

def quiescent_FfDown2Ideal [hFfDown2Ideal : Cert.FfDown2Ideal.Facts] : Prop :=
  ∀ (m : (ℓ : Loc Cert.FfDown2Ideal.nD Cert.FfDown2Ideal.τ Cert.FfDown2Ideal.sig) → Buf (Elt Ideal) ℓ) (g : Dev Cert.FfDown2Ideal.nD → PrngReg), Pre_FfDown2Ideal m →
    θ_run (Cert.FfDown2Ideal.defs (F := Ideal)) (onTc (τ := Cert.FfDown2Ideal.τ) (Cert.FfDown2Ideal.main (F := Ideal))) ⟨m, fun _ => 0, g⟩ (fun r => (∀ c : Dev Cert.FfDown2Ideal.nD,
      r.2.mem ((c.tc : Thread Cert.FfDown2Ideal.nD Cert.FfDown2Ideal.τ).loc Cert.FfDown2Ideal.main_arg0) = m ((c.tc : Thread Cert.FfDown2Ideal.nD Cert.FfDown2Ideal.τ).loc Cert.FfDown2Ideal.main_arg0)
      ∧ r.2.mem ((c.tc : Thread Cert.FfDown2Ideal.nD Cert.FfDown2Ideal.τ).loc Cert.FfDown2Ideal.main_arg1) = m ((c.tc : Thread Cert.FfDown2Ideal.nD Cert.FfDown2Ideal.τ).loc Cert.FfDown2Ideal.main_arg1)
      ∧ r.2.mem ((c.tc : Thread Cert.FfDown2Ideal.nD Cert.FfDown2Ideal.τ).loc Cert.FfDown2Ideal.main_arg2) = m ((c.tc : Thread Cert.FfDown2Ideal.nD Cert.FfDown2Ideal.τ).loc Cert.FfDown2Ideal.main_arg2))
      ∧ r.2.sem = fun _ => 0)

def quiescent_FfDown2RefIdeal [hFfDown2RefIdeal : Cert.FfDown2RefIdeal.Facts] : Prop :=
  ∀ (m : (ℓ : Loc Cert.FfDown2RefIdeal.nD Cert.FfDown2RefIdeal.τ Cert.FfDown2RefIdeal.sig) → Buf (Elt Ideal) ℓ) (g : Dev Cert.FfDown2RefIdeal.nD → PrngReg), Pre_FfDown2RefIdeal m →
    θ_run (Cert.FfDown2RefIdeal.defs (F := Ideal)) (onTc (τ := Cert.FfDown2RefIdeal.τ) (Cert.FfDown2RefIdeal.main (F := Ideal))) ⟨m, fun _ => 0, g⟩ (fun r => (∀ c : Dev Cert.FfDown2RefIdeal.nD,
      r.2.mem ((c.tc : Thread Cert.FfDown2RefIdeal.nD Cert.FfDown2RefIdeal.τ).loc Cert.FfDown2RefIdeal.main_arg0) = m ((c.tc : Thread Cert.FfDown2RefIdeal.nD Cert.FfDown2RefIdeal.τ).loc Cert.FfDown2RefIdeal.main_arg0)
      ∧ r.2.mem ((c.tc : Thread Cert.FfDown2RefIdeal.nD Cert.FfDown2RefIdeal.τ).loc Cert.FfDown2RefIdeal.main_arg1) = m ((c.tc : Thread Cert.FfDown2RefIdeal.nD Cert.FfDown2RefIdeal.τ).loc Cert.FfDown2RefIdeal.main_arg1)
      ∧ r.2.mem ((c.tc : Thread Cert.FfDown2RefIdeal.nD Cert.FfDown2RefIdeal.τ).loc Cert.FfDown2RefIdeal.main_arg2) = m ((c.tc : Thread Cert.FfDown2RefIdeal.nD Cert.FfDown2RefIdeal.τ).loc Cert.FfDown2RefIdeal.main_arg2))
      ∧ r.2.sem = fun _ => 0)

def quiescent_FfDhn0 [hFfDhn0 : Cert.FfDhn0.Facts] : Prop :=
  ∀ (m : (ℓ : Loc Cert.FfDhn0.nD Cert.FfDhn0.τ Cert.FfDhn0.sig) → Buf (Elt Bits) ℓ) (g : Dev Cert.FfDhn0.nD → PrngReg), Pre_FfDhn0 m →
    θ_run (Cert.FfDhn0.defs (F := Bits)) (onTc (τ := Cert.FfDhn0.τ) (Cert.FfDhn0.main (F := Bits))) ⟨m, fun _ => 0, g⟩ (fun r => (∀ c : Dev Cert.FfDhn0.nD,
      r.2.mem ((c.tc : Thread Cert.FfDhn0.nD Cert.FfDhn0.τ).loc Cert.FfDhn0.main_arg0) = m ((c.tc : Thread Cert.FfDhn0.nD Cert.FfDhn0.τ).loc Cert.FfDhn0.main_arg0)
      ∧ r.2.mem ((c.tc : Thread Cert.FfDhn0.nD Cert.FfDhn0.τ).loc Cert.FfDhn0.main_arg1) = m ((c.tc : Thread Cert.FfDhn0.nD Cert.FfDhn0.τ).loc Cert.FfDhn0.main_arg1))
      ∧ r.2.sem = fun _ => 0)

def quiescent_FfDhn0Ideal [hFfDhn0Ideal : Cert.FfDhn0Ideal.Facts] : Prop :=
  ∀ (m : (ℓ : Loc Cert.FfDhn0Ideal.nD Cert.FfDhn0Ideal.τ Cert.FfDhn0Ideal.sig) → Buf (Elt Ideal) ℓ) (g : Dev Cert.FfDhn0Ideal.nD → PrngReg), Pre_FfDhn0Ideal m →
    θ_run (Cert.FfDhn0Ideal.defs (F := Ideal)) (onTc (τ := Cert.FfDhn0Ideal.τ) (Cert.FfDhn0Ideal.main (F := Ideal))) ⟨m, fun _ => 0, g⟩ (fun r => (∀ c : Dev Cert.FfDhn0Ideal.nD,
      r.2.mem ((c.tc : Thread Cert.FfDhn0Ideal.nD Cert.FfDhn0Ideal.τ).loc Cert.FfDhn0Ideal.main_arg0) = m ((c.tc : Thread Cert.FfDhn0Ideal.nD Cert.FfDhn0Ideal.τ).loc Cert.FfDhn0Ideal.main_arg0)
      ∧ r.2.mem ((c.tc : Thread Cert.FfDhn0Ideal.nD Cert.FfDhn0Ideal.τ).loc Cert.FfDhn0Ideal.main_arg1) = m ((c.tc : Thread Cert.FfDhn0Ideal.nD Cert.FfDhn0Ideal.τ).loc Cert.FfDhn0Ideal.main_arg1))
      ∧ r.2.sem = fun _ => 0)

def quiescent_FfDhn0RefIdeal [hFfDhn0RefIdeal : Cert.FfDhn0RefIdeal.Facts] : Prop :=
  ∀ (m : (ℓ : Loc Cert.FfDhn0RefIdeal.nD Cert.FfDhn0RefIdeal.τ Cert.FfDhn0RefIdeal.sig) → Buf (Elt Ideal) ℓ) (g : Dev Cert.FfDhn0RefIdeal.nD → PrngReg), Pre_FfDhn0RefIdeal m →
    θ_run (Cert.FfDhn0RefIdeal.defs (F := Ideal)) (onTc (τ := Cert.FfDhn0RefIdeal.τ) (Cert.FfDhn0RefIdeal.main (F := Ideal))) ⟨m, fun _ => 0, g⟩ (fun r => (∀ c : Dev Cert.FfDhn0RefIdeal.nD,
      r.2.mem ((c.tc : Thread Cert.FfDhn0RefIdeal.nD Cert.FfDhn0RefIdeal.τ).loc Cert.FfDhn0RefIdeal.main_arg0) = m ((c.tc : Thread Cert.FfDhn0RefIdeal.nD Cert.FfDhn0RefIdeal.τ).loc Cert.FfDhn0RefIdeal.main_arg0)
      ∧ r.2.mem ((c.tc : Thread Cert.FfDhn0RefIdeal.nD Cert.FfDhn0RefIdeal.τ).loc Cert.FfDhn0RefIdeal.main_arg1) = m ((c.tc : Thread Cert.FfDhn0RefIdeal.nD Cert.FfDhn0RefIdeal.τ).loc Cert.FfDhn0RefIdeal.main_arg1))
      ∧ r.2.sem = fun _ => 0)

def quiescent_FfDhn1 [hFfDhn1 : Cert.FfDhn1.Facts] : Prop :=
  ∀ (m : (ℓ : Loc Cert.FfDhn1.nD Cert.FfDhn1.τ Cert.FfDhn1.sig) → Buf (Elt Bits) ℓ) (g : Dev Cert.FfDhn1.nD → PrngReg), Pre_FfDhn1 m →
    θ_run (Cert.FfDhn1.defs (F := Bits)) (onTc (τ := Cert.FfDhn1.τ) (Cert.FfDhn1.main (F := Bits))) ⟨m, fun _ => 0, g⟩ (fun r => (∀ c : Dev Cert.FfDhn1.nD,
      r.2.mem ((c.tc : Thread Cert.FfDhn1.nD Cert.FfDhn1.τ).loc Cert.FfDhn1.main_arg0) = m ((c.tc : Thread Cert.FfDhn1.nD Cert.FfDhn1.τ).loc Cert.FfDhn1.main_arg0)
      ∧ r.2.mem ((c.tc : Thread Cert.FfDhn1.nD Cert.FfDhn1.τ).loc Cert.FfDhn1.main_arg1) = m ((c.tc : Thread Cert.FfDhn1.nD Cert.FfDhn1.τ).loc Cert.FfDhn1.main_arg1))
      ∧ r.2.sem = fun _ => 0)

def quiescent_FfDhn1Ideal [hFfDhn1Ideal : Cert.FfDhn1Ideal.Facts] : Prop :=
  ∀ (m : (ℓ : Loc Cert.FfDhn1Ideal.nD Cert.FfDhn1Ideal.τ Cert.FfDhn1Ideal.sig) → Buf (Elt Ideal) ℓ) (g : Dev Cert.FfDhn1Ideal.nD → PrngReg), Pre_FfDhn1Ideal m →
    θ_run (Cert.FfDhn1Ideal.defs (F := Ideal)) (onTc (τ := Cert.FfDhn1Ideal.τ) (Cert.FfDhn1Ideal.main (F := Ideal))) ⟨m, fun _ => 0, g⟩ (fun r => (∀ c : Dev Cert.FfDhn1Ideal.nD,
      r.2.mem ((c.tc : Thread Cert.FfDhn1Ideal.nD Cert.FfDhn1Ideal.τ).loc Cert.FfDhn1Ideal.main_arg0) = m ((c.tc : Thread Cert.FfDhn1Ideal.nD Cert.FfDhn1Ideal.τ).loc Cert.FfDhn1Ideal.main_arg0)
      ∧ r.2.mem ((c.tc : Thread Cert.FfDhn1Ideal.nD Cert.FfDhn1Ideal.τ).loc Cert.FfDhn1Ideal.main_arg1) = m ((c.tc : Thread Cert.FfDhn1Ideal.nD Cert.FfDhn1Ideal.τ).loc Cert.FfDhn1Ideal.main_arg1))
      ∧ r.2.sem = fun _ => 0)

def quiescent_FfDhn1RefIdeal [hFfDhn1RefIdeal : Cert.FfDhn1RefIdeal.Facts] : Prop :=
  ∀ (m : (ℓ : Loc Cert.FfDhn1RefIdeal.nD Cert.FfDhn1RefIdeal.τ Cert.FfDhn1RefIdeal.sig) → Buf (Elt Ideal) ℓ) (g : Dev Cert.FfDhn1RefIdeal.nD → PrngReg), Pre_FfDhn1RefIdeal m →
    θ_run (Cert.FfDhn1RefIdeal.defs (F := Ideal)) (onTc (τ := Cert.FfDhn1RefIdeal.τ) (Cert.FfDhn1RefIdeal.main (F := Ideal))) ⟨m, fun _ => 0, g⟩ (fun r => (∀ c : Dev Cert.FfDhn1RefIdeal.nD,
      r.2.mem ((c.tc : Thread Cert.FfDhn1RefIdeal.nD Cert.FfDhn1RefIdeal.τ).loc Cert.FfDhn1RefIdeal.main_arg0) = m ((c.tc : Thread Cert.FfDhn1RefIdeal.nD Cert.FfDhn1RefIdeal.τ).loc Cert.FfDhn1RefIdeal.main_arg0)
      ∧ r.2.mem ((c.tc : Thread Cert.FfDhn1RefIdeal.nD Cert.FfDhn1RefIdeal.τ).loc Cert.FfDhn1RefIdeal.main_arg1) = m ((c.tc : Thread Cert.FfDhn1RefIdeal.nD Cert.FfDhn1RefIdeal.τ).loc Cert.FfDhn1RefIdeal.main_arg1))
      ∧ r.2.sem = fun _ => 0)

def quiescent_FfDhn2 [hFfDhn2 : Cert.FfDhn2.Facts] : Prop :=
  ∀ (m : (ℓ : Loc Cert.FfDhn2.nD Cert.FfDhn2.τ Cert.FfDhn2.sig) → Buf (Elt Bits) ℓ) (g : Dev Cert.FfDhn2.nD → PrngReg), Pre_FfDhn2 m →
    θ_run (Cert.FfDhn2.defs (F := Bits)) (onTc (τ := Cert.FfDhn2.τ) (Cert.FfDhn2.main (F := Bits))) ⟨m, fun _ => 0, g⟩ (fun r => (∀ c : Dev Cert.FfDhn2.nD,
      r.2.mem ((c.tc : Thread Cert.FfDhn2.nD Cert.FfDhn2.τ).loc Cert.FfDhn2.main_arg0) = m ((c.tc : Thread Cert.FfDhn2.nD Cert.FfDhn2.τ).loc Cert.FfDhn2.main_arg0)
      ∧ r.2.mem ((c.tc : Thread Cert.FfDhn2.nD Cert.FfDhn2.τ).loc Cert.FfDhn2.main_arg1) = m ((c.tc : Thread Cert.FfDhn2.nD Cert.FfDhn2.τ).loc Cert.FfDhn2.main_arg1))
      ∧ r.2.sem = fun _ => 0)

def quiescent_FfDhn2Ideal [hFfDhn2Ideal : Cert.FfDhn2Ideal.Facts] : Prop :=
  ∀ (m : (ℓ : Loc Cert.FfDhn2Ideal.nD Cert.FfDhn2Ideal.τ Cert.FfDhn2Ideal.sig) → Buf (Elt Ideal) ℓ) (g : Dev Cert.FfDhn2Ideal.nD → PrngReg), Pre_FfDhn2Ideal m →
    θ_run (Cert.FfDhn2Ideal.defs (F := Ideal)) (onTc (τ := Cert.FfDhn2Ideal.τ) (Cert.FfDhn2Ideal.main (F := Ideal))) ⟨m, fun _ => 0, g⟩ (fun r => (∀ c : Dev Cert.FfDhn2Ideal.nD,
      r.2.mem ((c.tc : Thread Cert.FfDhn2Ideal.nD Cert.FfDhn2Ideal.τ).loc Cert.FfDhn2Ideal.main_arg0) = m ((c.tc : Thread Cert.FfDhn2Ideal.nD Cert.FfDhn2Ideal.τ).loc Cert.FfDhn2Ideal.main_arg0)
      ∧ r.2.mem ((c.tc : Thread Cert.FfDhn2Ideal.nD Cert.FfDhn2Ideal.τ).loc Cert.FfDhn2Ideal.main_arg1) = m ((c.tc : Thread Cert.FfDhn2Ideal.nD Cert.FfDhn2Ideal.τ).loc Cert.FfDhn2Ideal.main_arg1))
      ∧ r.2.sem = fun _ => 0)

def quiescent_FfDhn2RefIdeal [hFfDhn2RefIdeal : Cert.FfDhn2RefIdeal.Facts] : Prop :=
  ∀ (m : (ℓ : Loc Cert.FfDhn2RefIdeal.nD Cert.FfDhn2RefIdeal.τ Cert.FfDhn2RefIdeal.sig) → Buf (Elt Ideal) ℓ) (g : Dev Cert.FfDhn2RefIdeal.nD → PrngReg), Pre_FfDhn2RefIdeal m →
    θ_run (Cert.FfDhn2RefIdeal.defs (F := Ideal)) (onTc (τ := Cert.FfDhn2RefIdeal.τ) (Cert.FfDhn2RefIdeal.main (F := Ideal))) ⟨m, fun _ => 0, g⟩ (fun r => (∀ c : Dev Cert.FfDhn2RefIdeal.nD,
      r.2.mem ((c.tc : Thread Cert.FfDhn2RefIdeal.nD Cert.FfDhn2RefIdeal.τ).loc Cert.FfDhn2RefIdeal.main_arg0) = m ((c.tc : Thread Cert.FfDhn2RefIdeal.nD Cert.FfDhn2RefIdeal.τ).loc Cert.FfDhn2RefIdeal.main_arg0)
      ∧ r.2.mem ((c.tc : Thread Cert.FfDhn2RefIdeal.nD Cert.FfDhn2RefIdeal.τ).loc Cert.FfDhn2RefIdeal.main_arg1) = m ((c.tc : Thread Cert.FfDhn2RefIdeal.nD Cert.FfDhn2RefIdeal.τ).loc Cert.FfDhn2RefIdeal.main_arg1))
      ∧ r.2.sem = fun _ => 0)

def quiescent_FfDhn3 [hFfDhn3 : Cert.FfDhn3.Facts] : Prop :=
  ∀ (m : (ℓ : Loc Cert.FfDhn3.nD Cert.FfDhn3.τ Cert.FfDhn3.sig) → Buf (Elt Bits) ℓ) (g : Dev Cert.FfDhn3.nD → PrngReg), Pre_FfDhn3 m →
    θ_run (Cert.FfDhn3.defs (F := Bits)) (onTc (τ := Cert.FfDhn3.τ) (Cert.FfDhn3.main (F := Bits))) ⟨m, fun _ => 0, g⟩ (fun r => (∀ c : Dev Cert.FfDhn3.nD,
      r.2.mem ((c.tc : Thread Cert.FfDhn3.nD Cert.FfDhn3.τ).loc Cert.FfDhn3.main_arg0) = m ((c.tc : Thread Cert.FfDhn3.nD Cert.FfDhn3.τ).loc Cert.FfDhn3.main_arg0)
      ∧ r.2.mem ((c.tc : Thread Cert.FfDhn3.nD Cert.FfDhn3.τ).loc Cert.FfDhn3.main_arg1) = m ((c.tc : Thread Cert.FfDhn3.nD Cert.FfDhn3.τ).loc Cert.FfDhn3.main_arg1))
      ∧ r.2.sem = fun _ => 0)

def quiescent_FfDhn3Ideal [hFfDhn3Ideal : Cert.FfDhn3Ideal.Facts] : Prop :=
  ∀ (m : (ℓ : Loc Cert.FfDhn3Ideal.nD Cert.FfDhn3Ideal.τ Cert.FfDhn3Ideal.sig) → Buf (Elt Ideal) ℓ) (g : Dev Cert.FfDhn3Ideal.nD → PrngReg), Pre_FfDhn3Ideal m →
    θ_run (Cert.FfDhn3Ideal.defs (F := Ideal)) (onTc (τ := Cert.FfDhn3Ideal.τ) (Cert.FfDhn3Ideal.main (F := Ideal))) ⟨m, fun _ => 0, g⟩ (fun r => (∀ c : Dev Cert.FfDhn3Ideal.nD,
      r.2.mem ((c.tc : Thread Cert.FfDhn3Ideal.nD Cert.FfDhn3Ideal.τ).loc Cert.FfDhn3Ideal.main_arg0) = m ((c.tc : Thread Cert.FfDhn3Ideal.nD Cert.FfDhn3Ideal.τ).loc Cert.FfDhn3Ideal.main_arg0)
      ∧ r.2.mem ((c.tc : Thread Cert.FfDhn3Ideal.nD Cert.FfDhn3Ideal.τ).loc Cert.FfDhn3Ideal.main_arg1) = m ((c.tc : Thread Cert.FfDhn3Ideal.nD Cert.FfDhn3Ideal.τ).loc Cert.FfDhn3Ideal.main_arg1))
      ∧ r.2.sem = fun _ => 0)

def quiescent_FfDhn3RefIdeal [hFfDhn3RefIdeal : Cert.FfDhn3RefIdeal.Facts] : Prop :=
  ∀ (m : (ℓ : Loc Cert.FfDhn3RefIdeal.nD Cert.FfDhn3RefIdeal.τ Cert.FfDhn3RefIdeal.sig) → Buf (Elt Ideal) ℓ) (g : Dev Cert.FfDhn3RefIdeal.nD → PrngReg), Pre_FfDhn3RefIdeal m →
    θ_run (Cert.FfDhn3RefIdeal.defs (F := Ideal)) (onTc (τ := Cert.FfDhn3RefIdeal.τ) (Cert.FfDhn3RefIdeal.main (F := Ideal))) ⟨m, fun _ => 0, g⟩ (fun r => (∀ c : Dev Cert.FfDhn3RefIdeal.nD,
      r.2.mem ((c.tc : Thread Cert.FfDhn3RefIdeal.nD Cert.FfDhn3RefIdeal.τ).loc Cert.FfDhn3RefIdeal.main_arg0) = m ((c.tc : Thread Cert.FfDhn3RefIdeal.nD Cert.FfDhn3RefIdeal.τ).loc Cert.FfDhn3RefIdeal.main_arg0)
      ∧ r.2.mem ((c.tc : Thread Cert.FfDhn3RefIdeal.nD Cert.FfDhn3RefIdeal.τ).loc Cert.FfDhn3RefIdeal.main_arg1) = m ((c.tc : Thread Cert.FfDhn3RefIdeal.nD Cert.FfDhn3RefIdeal.τ).loc Cert.FfDhn3RefIdeal.main_arg1))
      ∧ r.2.sem = fun _ => 0)

def quiescent_FfUp0 [hFfUp0 : Cert.FfUp0.Facts] : Prop :=
  ∀ (m : (ℓ : Loc Cert.FfUp0.nD Cert.FfUp0.τ Cert.FfUp0.sig) → Buf (Elt Bits) ℓ) (g : Dev Cert.FfUp0.nD → PrngReg), Pre_FfUp0 m →
    θ_run (Cert.FfUp0.defs (F := Bits)) (onTc (τ := Cert.FfUp0.τ) (Cert.FfUp0.main (F := Bits))) ⟨m, fun _ => 0, g⟩ (fun r => (∀ c : Dev Cert.FfUp0.nD,
      r.2.mem ((c.tc : Thread Cert.FfUp0.nD Cert.FfUp0.τ).loc Cert.FfUp0.main_arg0) = m ((c.tc : Thread Cert.FfUp0.nD Cert.FfUp0.τ).loc Cert.FfUp0.main_arg0)
      ∧ r.2.mem ((c.tc : Thread Cert.FfUp0.nD Cert.FfUp0.τ).loc Cert.FfUp0.main_arg1) = m ((c.tc : Thread Cert.FfUp0.nD Cert.FfUp0.τ).loc Cert.FfUp0.main_arg1)
      ∧ r.2.mem ((c.tc : Thread Cert.FfUp0.nD Cert.FfUp0.τ).loc Cert.FfUp0.main_arg2) = m ((c.tc : Thread Cert.FfUp0.nD Cert.FfUp0.τ).loc Cert.FfUp0.main_arg2))
      ∧ r.2.sem = fun _ => 0)

def quiescent_FfUp0Ideal [hFfUp0Ideal : Cert.FfUp0Ideal.Facts] : Prop :=
  ∀ (m : (ℓ : Loc Cert.FfUp0Ideal.nD Cert.FfUp0Ideal.τ Cert.FfUp0Ideal.sig) → Buf (Elt Ideal) ℓ) (g : Dev Cert.FfUp0Ideal.nD → PrngReg), Pre_FfUp0Ideal m →
    θ_run (Cert.FfUp0Ideal.defs (F := Ideal)) (onTc (τ := Cert.FfUp0Ideal.τ) (Cert.FfUp0Ideal.main (F := Ideal))) ⟨m, fun _ => 0, g⟩ (fun r => (∀ c : Dev Cert.FfUp0Ideal.nD,
      r.2.mem ((c.tc : Thread Cert.FfUp0Ideal.nD Cert.FfUp0Ideal.τ).loc Cert.FfUp0Ideal.main_arg0) = m ((c.tc : Thread Cert.FfUp0Ideal.nD Cert.FfUp0Ideal.τ).loc Cert.FfUp0Ideal.main_arg0)
      ∧ r.2.mem ((c.tc : Thread Cert.FfUp0Ideal.nD Cert.FfUp0Ideal.τ).loc Cert.FfUp0Ideal.main_arg1) = m ((c.tc : Thread Cert.FfUp0Ideal.nD Cert.FfUp0Ideal.τ).loc Cert.FfUp0Ideal.main_arg1)
      ∧ r.2.mem ((c.tc : Thread Cert.FfUp0Ideal.nD Cert.FfUp0Ideal.τ).loc Cert.FfUp0Ideal.main_arg2) = m ((c.tc : Thread Cert.FfUp0Ideal.nD Cert.FfUp0Ideal.τ).loc Cert.FfUp0Ideal.main_arg2))
      ∧ r.2.sem = fun _ => 0)

def quiescent_FfUp0RefIdeal [hFfUp0RefIdeal : Cert.FfUp0RefIdeal.Facts] : Prop :=
  ∀ (m : (ℓ : Loc Cert.FfUp0RefIdeal.nD Cert.FfUp0RefIdeal.τ Cert.FfUp0RefIdeal.sig) → Buf (Elt Ideal) ℓ) (g : Dev Cert.FfUp0RefIdeal.nD → PrngReg), Pre_FfUp0RefIdeal m →
    θ_run (Cert.FfUp0RefIdeal.defs (F := Ideal)) (onTc (τ := Cert.FfUp0RefIdeal.τ) (Cert.FfUp0RefIdeal.main (F := Ideal))) ⟨m, fun _ => 0, g⟩ (fun r => (∀ c : Dev Cert.FfUp0RefIdeal.nD,
      r.2.mem ((c.tc : Thread Cert.FfUp0RefIdeal.nD Cert.FfUp0RefIdeal.τ).loc Cert.FfUp0RefIdeal.main_arg0) = m ((c.tc : Thread Cert.FfUp0RefIdeal.nD Cert.FfUp0RefIdeal.τ).loc Cert.FfUp0RefIdeal.main_arg0)
      ∧ r.2.mem ((c.tc : Thread Cert.FfUp0RefIdeal.nD Cert.FfUp0RefIdeal.τ).loc Cert.FfUp0RefIdeal.main_arg1) = m ((c.tc : Thread Cert.FfUp0RefIdeal.nD Cert.FfUp0RefIdeal.τ).loc Cert.FfUp0RefIdeal.main_arg1)
      ∧ r.2.mem ((c.tc : Thread Cert.FfUp0RefIdeal.nD Cert.FfUp0RefIdeal.τ).loc Cert.FfUp0RefIdeal.main_arg2) = m ((c.tc : Thread Cert.FfUp0RefIdeal.nD Cert.FfUp0RefIdeal.τ).loc Cert.FfUp0RefIdeal.main_arg2))
      ∧ r.2.sem = fun _ => 0)

def quiescent_FfUp1 [hFfUp1 : Cert.FfUp1.Facts] : Prop :=
  ∀ (m : (ℓ : Loc Cert.FfUp1.nD Cert.FfUp1.τ Cert.FfUp1.sig) → Buf (Elt Bits) ℓ) (g : Dev Cert.FfUp1.nD → PrngReg), Pre_FfUp1 m →
    θ_run (Cert.FfUp1.defs (F := Bits)) (onTc (τ := Cert.FfUp1.τ) (Cert.FfUp1.main (F := Bits))) ⟨m, fun _ => 0, g⟩ (fun r => (∀ c : Dev Cert.FfUp1.nD,
      r.2.mem ((c.tc : Thread Cert.FfUp1.nD Cert.FfUp1.τ).loc Cert.FfUp1.main_arg0) = m ((c.tc : Thread Cert.FfUp1.nD Cert.FfUp1.τ).loc Cert.FfUp1.main_arg0)
      ∧ r.2.mem ((c.tc : Thread Cert.FfUp1.nD Cert.FfUp1.τ).loc Cert.FfUp1.main_arg1) = m ((c.tc : Thread Cert.FfUp1.nD Cert.FfUp1.τ).loc Cert.FfUp1.main_arg1)
      ∧ r.2.mem ((c.tc : Thread Cert.FfUp1.nD Cert.FfUp1.τ).loc Cert.FfUp1.main_arg2) = m ((c.tc : Thread Cert.FfUp1.nD Cert.FfUp1.τ).loc Cert.FfUp1.main_arg2))
      ∧ r.2.sem = fun _ => 0)

def quiescent_FfUp1Ideal [hFfUp1Ideal : Cert.FfUp1Ideal.Facts] : Prop :=
  ∀ (m : (ℓ : Loc Cert.FfUp1Ideal.nD Cert.FfUp1Ideal.τ Cert.FfUp1Ideal.sig) → Buf (Elt Ideal) ℓ) (g : Dev Cert.FfUp1Ideal.nD → PrngReg), Pre_FfUp1Ideal m →
    θ_run (Cert.FfUp1Ideal.defs (F := Ideal)) (onTc (τ := Cert.FfUp1Ideal.τ) (Cert.FfUp1Ideal.main (F := Ideal))) ⟨m, fun _ => 0, g⟩ (fun r => (∀ c : Dev Cert.FfUp1Ideal.nD,
      r.2.mem ((c.tc : Thread Cert.FfUp1Ideal.nD Cert.FfUp1Ideal.τ).loc Cert.FfUp1Ideal.main_arg0) = m ((c.tc : Thread Cert.FfUp1Ideal.nD Cert.FfUp1Ideal.τ).loc Cert.FfUp1Ideal.main_arg0)
      ∧ r.2.mem ((c.tc : Thread Cert.FfUp1Ideal.nD Cert.FfUp1Ideal.τ).loc Cert.FfUp1Ideal.main_arg1) = m ((c.tc : Thread Cert.FfUp1Ideal.nD Cert.FfUp1Ideal.τ).loc Cert.FfUp1Ideal.main_arg1)
      ∧ r.2.mem ((c.tc : Thread Cert.FfUp1Ideal.nD Cert.FfUp1Ideal.τ).loc Cert.FfUp1Ideal.main_arg2) = m ((c.tc : Thread Cert.FfUp1Ideal.nD Cert.FfUp1Ideal.τ).loc Cert.FfUp1Ideal.main_arg2))
      ∧ r.2.sem = fun _ => 0)

def quiescent_FfUp1RefIdeal [hFfUp1RefIdeal : Cert.FfUp1RefIdeal.Facts] : Prop :=
  ∀ (m : (ℓ : Loc Cert.FfUp1RefIdeal.nD Cert.FfUp1RefIdeal.τ Cert.FfUp1RefIdeal.sig) → Buf (Elt Ideal) ℓ) (g : Dev Cert.FfUp1RefIdeal.nD → PrngReg), Pre_FfUp1RefIdeal m →
    θ_run (Cert.FfUp1RefIdeal.defs (F := Ideal)) (onTc (τ := Cert.FfUp1RefIdeal.τ) (Cert.FfUp1RefIdeal.main (F := Ideal))) ⟨m, fun _ => 0, g⟩ (fun r => (∀ c : Dev Cert.FfUp1RefIdeal.nD,
      r.2.mem ((c.tc : Thread Cert.FfUp1RefIdeal.nD Cert.FfUp1RefIdeal.τ).loc Cert.FfUp1RefIdeal.main_arg0) = m ((c.tc : Thread Cert.FfUp1RefIdeal.nD Cert.FfUp1RefIdeal.τ).loc Cert.FfUp1RefIdeal.main_arg0)
      ∧ r.2.mem ((c.tc : Thread Cert.FfUp1RefIdeal.nD Cert.FfUp1RefIdeal.τ).loc Cert.FfUp1RefIdeal.main_arg1) = m ((c.tc : Thread Cert.FfUp1RefIdeal.nD Cert.FfUp1RefIdeal.τ).loc Cert.FfUp1RefIdeal.main_arg1)
      ∧ r.2.mem ((c.tc : Thread Cert.FfUp1RefIdeal.nD Cert.FfUp1RefIdeal.τ).loc Cert.FfUp1RefIdeal.main_arg2) = m ((c.tc : Thread Cert.FfUp1RefIdeal.nD Cert.FfUp1RefIdeal.τ).loc Cert.FfUp1RefIdeal.main_arg2))
      ∧ r.2.sem = fun _ => 0)

def quiescent_FfUp2 [hFfUp2 : Cert.FfUp2.Facts] : Prop :=
  ∀ (m : (ℓ : Loc Cert.FfUp2.nD Cert.FfUp2.τ Cert.FfUp2.sig) → Buf (Elt Bits) ℓ) (g : Dev Cert.FfUp2.nD → PrngReg), Pre_FfUp2 m →
    θ_run (Cert.FfUp2.defs (F := Bits)) (onTc (τ := Cert.FfUp2.τ) (Cert.FfUp2.main (F := Bits))) ⟨m, fun _ => 0, g⟩ (fun r => (∀ c : Dev Cert.FfUp2.nD,
      r.2.mem ((c.tc : Thread Cert.FfUp2.nD Cert.FfUp2.τ).loc Cert.FfUp2.main_arg0) = m ((c.tc : Thread Cert.FfUp2.nD Cert.FfUp2.τ).loc Cert.FfUp2.main_arg0)
      ∧ r.2.mem ((c.tc : Thread Cert.FfUp2.nD Cert.FfUp2.τ).loc Cert.FfUp2.main_arg1) = m ((c.tc : Thread Cert.FfUp2.nD Cert.FfUp2.τ).loc Cert.FfUp2.main_arg1)
      ∧ r.2.mem ((c.tc : Thread Cert.FfUp2.nD Cert.FfUp2.τ).loc Cert.FfUp2.main_arg2) = m ((c.tc : Thread Cert.FfUp2.nD Cert.FfUp2.τ).loc Cert.FfUp2.main_arg2))
      ∧ r.2.sem = fun _ => 0)

def quiescent_FfUp2Ideal [hFfUp2Ideal : Cert.FfUp2Ideal.Facts] : Prop :=
  ∀ (m : (ℓ : Loc Cert.FfUp2Ideal.nD Cert.FfUp2Ideal.τ Cert.FfUp2Ideal.sig) → Buf (Elt Ideal) ℓ) (g : Dev Cert.FfUp2Ideal.nD → PrngReg), Pre_FfUp2Ideal m →
    θ_run (Cert.FfUp2Ideal.defs (F := Ideal)) (onTc (τ := Cert.FfUp2Ideal.τ) (Cert.FfUp2Ideal.main (F := Ideal))) ⟨m, fun _ => 0, g⟩ (fun r => (∀ c : Dev Cert.FfUp2Ideal.nD,
      r.2.mem ((c.tc : Thread Cert.FfUp2Ideal.nD Cert.FfUp2Ideal.τ).loc Cert.FfUp2Ideal.main_arg0) = m ((c.tc : Thread Cert.FfUp2Ideal.nD Cert.FfUp2Ideal.τ).loc Cert.FfUp2Ideal.main_arg0)
      ∧ r.2.mem ((c.tc : Thread Cert.FfUp2Ideal.nD Cert.FfUp2Ideal.τ).loc Cert.FfUp2Ideal.main_arg1) = m ((c.tc : Thread Cert.FfUp2Ideal.nD Cert.FfUp2Ideal.τ).loc Cert.FfUp2Ideal.main_arg1)
      ∧ r.2.mem ((c.tc : Thread Cert.FfUp2Ideal.nD Cert.FfUp2Ideal.τ).loc Cert.FfUp2Ideal.main_arg2) = m ((c.tc : Thread Cert.FfUp2Ideal.nD Cert.FfUp2Ideal.τ).loc Cert.FfUp2Ideal.main_arg2))
      ∧ r.2.sem = fun _ => 0)

def quiescent_FfUp2RefIdeal [hFfUp2RefIdeal : Cert.FfUp2RefIdeal.Facts] : Prop :=
  ∀ (m : (ℓ : Loc Cert.FfUp2RefIdeal.nD Cert.FfUp2RefIdeal.τ Cert.FfUp2RefIdeal.sig) → Buf (Elt Ideal) ℓ) (g : Dev Cert.FfUp2RefIdeal.nD → PrngReg), Pre_FfUp2RefIdeal m →
    θ_run (Cert.FfUp2RefIdeal.defs (F := Ideal)) (onTc (τ := Cert.FfUp2RefIdeal.τ) (Cert.FfUp2RefIdeal.main (F := Ideal))) ⟨m, fun _ => 0, g⟩ (fun r => (∀ c : Dev Cert.FfUp2RefIdeal.nD,
      r.2.mem ((c.tc : Thread Cert.FfUp2RefIdeal.nD Cert.FfUp2RefIdeal.τ).loc Cert.FfUp2RefIdeal.main_arg0) = m ((c.tc : Thread Cert.FfUp2RefIdeal.nD Cert.FfUp2RefIdeal.τ).loc Cert.FfUp2RefIdeal.main_arg0)
      ∧ r.2.mem ((c.tc : Thread Cert.FfUp2RefIdeal.nD Cert.FfUp2RefIdeal.τ).loc Cert.FfUp2RefIdeal.main_arg1) = m ((c.tc : Thread Cert.FfUp2RefIdeal.nD Cert.FfUp2RefIdeal.τ).loc Cert.FfUp2RefIdeal.main_arg1)
      ∧ r.2.mem ((c.tc : Thread Cert.FfUp2RefIdeal.nD Cert.FfUp2RefIdeal.τ).loc Cert.FfUp2RefIdeal.main_arg2) = m ((c.tc : Thread Cert.FfUp2RefIdeal.nD Cert.FfUp2RefIdeal.τ).loc Cert.FfUp2RefIdeal.main_arg2))
      ∧ r.2.sem = fun _ => 0)

def quiescent_EvDcat [hEvDcat : Cert.EvDcat.Facts] : Prop :=
  ∀ (m : (ℓ : Loc Cert.EvDcat.nD Cert.EvDcat.τ Cert.EvDcat.sig) → Buf (Elt Bits) ℓ) (g : Dev Cert.EvDcat.nD → PrngReg), Pre_EvDcat m →
    θ_run (Cert.EvDcat.defs (F := Bits)) (onTc (τ := Cert.EvDcat.τ) (Cert.EvDcat.main (F := Bits))) ⟨m, fun _ => 0, g⟩ (fun r => (∀ c : Dev Cert.EvDcat.nD,
      r.2.mem ((c.tc : Thread Cert.EvDcat.nD Cert.EvDcat.τ).loc Cert.EvDcat.main_arg0) = m ((c.tc : Thread Cert.EvDcat.nD Cert.EvDcat.τ).loc Cert.EvDcat.main_arg0)
      ∧ r.2.mem ((c.tc : Thread Cert.EvDcat.nD Cert.EvDcat.τ).loc Cert.EvDcat.main_arg1) = m ((c.tc : Thread Cert.EvDcat.nD Cert.EvDcat.τ).loc Cert.EvDcat.main_arg1))
      ∧ r.2.sem = fun _ => 0)

def quiescent_EvDcatIdeal [hEvDcatIdeal : Cert.EvDcatIdeal.Facts] : Prop :=
  ∀ (m : (ℓ : Loc Cert.EvDcatIdeal.nD Cert.EvDcatIdeal.τ Cert.EvDcatIdeal.sig) → Buf (Elt Ideal) ℓ) (g : Dev Cert.EvDcatIdeal.nD → PrngReg), Pre_EvDcatIdeal m →
    θ_run (Cert.EvDcatIdeal.defs (F := Ideal)) (onTc (τ := Cert.EvDcatIdeal.τ) (Cert.EvDcatIdeal.main (F := Ideal))) ⟨m, fun _ => 0, g⟩ (fun r => (∀ c : Dev Cert.EvDcatIdeal.nD,
      r.2.mem ((c.tc : Thread Cert.EvDcatIdeal.nD Cert.EvDcatIdeal.τ).loc Cert.EvDcatIdeal.main_arg0) = m ((c.tc : Thread Cert.EvDcatIdeal.nD Cert.EvDcatIdeal.τ).loc Cert.EvDcatIdeal.main_arg0)
      ∧ r.2.mem ((c.tc : Thread Cert.EvDcatIdeal.nD Cert.EvDcatIdeal.τ).loc Cert.EvDcatIdeal.main_arg1) = m ((c.tc : Thread Cert.EvDcatIdeal.nD Cert.EvDcatIdeal.τ).loc Cert.EvDcatIdeal.main_arg1))
      ∧ r.2.sem = fun _ => 0)

def quiescent_EvDcatRefIdeal [hEvDcatRefIdeal : Cert.EvDcatRefIdeal.Facts] : Prop :=
  ∀ (m : (ℓ : Loc Cert.EvDcatRefIdeal.nD Cert.EvDcatRefIdeal.τ Cert.EvDcatRefIdeal.sig) → Buf (Elt Ideal) ℓ) (g : Dev Cert.EvDcatRefIdeal.nD → PrngReg), Pre_EvDcatRefIdeal m →
    θ_run (Cert.EvDcatRefIdeal.defs (F := Ideal)) (onTc (τ := Cert.EvDcatRefIdeal.τ) (Cert.EvDcatRefIdeal.main (F := Ideal))) ⟨m, fun _ => 0, g⟩ (fun r => (∀ c : Dev Cert.EvDcatRefIdeal.nD,
      r.2.mem ((c.tc : Thread Cert.EvDcatRefIdeal.nD Cert.EvDcatRefIdeal.τ).loc Cert.EvDcatRefIdeal.main_arg0) = m ((c.tc : Thread Cert.EvDcatRefIdeal.nD Cert.EvDcatRefIdeal.τ).loc Cert.EvDcatRefIdeal.main_arg0)
      ∧ r.2.mem ((c.tc : Thread Cert.EvDcatRefIdeal.nD Cert.EvDcatRefIdeal.τ).loc Cert.EvDcatRefIdeal.main_arg1) = m ((c.tc : Thread Cert.EvDcatRefIdeal.nD Cert.EvDcatRefIdeal.τ).loc Cert.EvDcatRefIdeal.main_arg1))
      ∧ r.2.sem = fun _ => 0)

def quiescent_EvWout [hEvWout : Cert.EvWout.Facts] : Prop :=
  ∀ (m : (ℓ : Loc Cert.EvWout.nD Cert.EvWout.τ Cert.EvWout.sig) → Buf (Elt Bits) ℓ) (g : Dev Cert.EvWout.nD → PrngReg), Pre_EvWout m →
    θ_run (Cert.EvWout.defs (F := Bits)) (onTc (τ := Cert.EvWout.τ) (Cert.EvWout.main (F := Bits))) ⟨m, fun _ => 0, g⟩ (fun r => (∀ c : Dev Cert.EvWout.nD,
      r.2.mem ((c.tc : Thread Cert.EvWout.nD Cert.EvWout.τ).loc Cert.EvWout.main_arg0) = m ((c.tc : Thread Cert.EvWout.nD Cert.EvWout.τ).loc Cert.EvWout.main_arg0)
      ∧ r.2.mem ((c.tc : Thread Cert.EvWout.nD Cert.EvWout.τ).loc Cert.EvWout.main_arg1) = m ((c.tc : Thread Cert.EvWout.nD Cert.EvWout.τ).loc Cert.EvWout.main_arg1)
      ∧ r.2.mem ((c.tc : Thread Cert.EvWout.nD Cert.EvWout.τ).loc Cert.EvWout.main_arg2) = m ((c.tc : Thread Cert.EvWout.nD Cert.EvWout.τ).loc Cert.EvWout.main_arg2))
      ∧ r.2.sem = fun _ => 0)

def quiescent_EvWoutIdeal [hEvWoutIdeal : Cert.EvWoutIdeal.Facts] : Prop :=
  ∀ (m : (ℓ : Loc Cert.EvWoutIdeal.nD Cert.EvWoutIdeal.τ Cert.EvWoutIdeal.sig) → Buf (Elt Ideal) ℓ) (g : Dev Cert.EvWoutIdeal.nD → PrngReg), Pre_EvWoutIdeal m →
    θ_run (Cert.EvWoutIdeal.defs (F := Ideal)) (onTc (τ := Cert.EvWoutIdeal.τ) (Cert.EvWoutIdeal.main (F := Ideal))) ⟨m, fun _ => 0, g⟩ (fun r => (∀ c : Dev Cert.EvWoutIdeal.nD,
      r.2.mem ((c.tc : Thread Cert.EvWoutIdeal.nD Cert.EvWoutIdeal.τ).loc Cert.EvWoutIdeal.main_arg0) = m ((c.tc : Thread Cert.EvWoutIdeal.nD Cert.EvWoutIdeal.τ).loc Cert.EvWoutIdeal.main_arg0)
      ∧ r.2.mem ((c.tc : Thread Cert.EvWoutIdeal.nD Cert.EvWoutIdeal.τ).loc Cert.EvWoutIdeal.main_arg1) = m ((c.tc : Thread Cert.EvWoutIdeal.nD Cert.EvWoutIdeal.τ).loc Cert.EvWoutIdeal.main_arg1)
      ∧ r.2.mem ((c.tc : Thread Cert.EvWoutIdeal.nD Cert.EvWoutIdeal.τ).loc Cert.EvWoutIdeal.main_arg2) = m ((c.tc : Thread Cert.EvWoutIdeal.nD Cert.EvWoutIdeal.τ).loc Cert.EvWoutIdeal.main_arg2))
      ∧ r.2.sem = fun _ => 0)

def quiescent_EvWoutRefIdeal [hEvWoutRefIdeal : Cert.EvWoutRefIdeal.Facts] : Prop :=
  ∀ (m : (ℓ : Loc Cert.EvWoutRefIdeal.nD Cert.EvWoutRefIdeal.τ Cert.EvWoutRefIdeal.sig) → Buf (Elt Ideal) ℓ) (g : Dev Cert.EvWoutRefIdeal.nD → PrngReg), Pre_EvWoutRefIdeal m →
    θ_run (Cert.EvWoutRefIdeal.defs (F := Ideal)) (onTc (τ := Cert.EvWoutRefIdeal.τ) (Cert.EvWoutRefIdeal.main (F := Ideal))) ⟨m, fun _ => 0, g⟩ (fun r => (∀ c : Dev Cert.EvWoutRefIdeal.nD,
      r.2.mem ((c.tc : Thread Cert.EvWoutRefIdeal.nD Cert.EvWoutRefIdeal.τ).loc Cert.EvWoutRefIdeal.main_arg0) = m ((c.tc : Thread Cert.EvWoutRefIdeal.nD Cert.EvWoutRefIdeal.τ).loc Cert.EvWoutRefIdeal.main_arg0)
      ∧ r.2.mem ((c.tc : Thread Cert.EvWoutRefIdeal.nD Cert.EvWoutRefIdeal.τ).loc Cert.EvWoutRefIdeal.main_arg1) = m ((c.tc : Thread Cert.EvWoutRefIdeal.nD Cert.EvWoutRefIdeal.τ).loc Cert.EvWoutRefIdeal.main_arg1)
      ∧ r.2.mem ((c.tc : Thread Cert.EvWoutRefIdeal.nD Cert.EvWoutRefIdeal.τ).loc Cert.EvWoutRefIdeal.main_arg2) = m ((c.tc : Thread Cert.EvWoutRefIdeal.nD Cert.EvWoutRefIdeal.τ).loc Cert.EvWoutRefIdeal.main_arg2))
      ∧ r.2.sem = fun _ => 0)

def quiescent_EvDhn [hEvDhn : Cert.EvDhn.Facts] : Prop :=
  ∀ (m : (ℓ : Loc Cert.EvDhn.nD Cert.EvDhn.τ Cert.EvDhn.sig) → Buf (Elt Bits) ℓ) (g : Dev Cert.EvDhn.nD → PrngReg), Pre_EvDhn m →
    θ_run (Cert.EvDhn.defs (F := Bits)) (onTc (τ := Cert.EvDhn.τ) (Cert.EvDhn.main (F := Bits))) ⟨m, fun _ => 0, g⟩ (fun r => (∀ c : Dev Cert.EvDhn.nD,
      r.2.mem ((c.tc : Thread Cert.EvDhn.nD Cert.EvDhn.τ).loc Cert.EvDhn.main_arg0) = m ((c.tc : Thread Cert.EvDhn.nD Cert.EvDhn.τ).loc Cert.EvDhn.main_arg0)
      ∧ r.2.mem ((c.tc : Thread Cert.EvDhn.nD Cert.EvDhn.τ).loc Cert.EvDhn.main_arg1) = m ((c.tc : Thread Cert.EvDhn.nD Cert.EvDhn.τ).loc Cert.EvDhn.main_arg1))
      ∧ r.2.sem = fun _ => 0)

def quiescent_EvDhnIdeal [hEvDhnIdeal : Cert.EvDhnIdeal.Facts] : Prop :=
  ∀ (m : (ℓ : Loc Cert.EvDhnIdeal.nD Cert.EvDhnIdeal.τ Cert.EvDhnIdeal.sig) → Buf (Elt Ideal) ℓ) (g : Dev Cert.EvDhnIdeal.nD → PrngReg), Pre_EvDhnIdeal m →
    θ_run (Cert.EvDhnIdeal.defs (F := Ideal)) (onTc (τ := Cert.EvDhnIdeal.τ) (Cert.EvDhnIdeal.main (F := Ideal))) ⟨m, fun _ => 0, g⟩ (fun r => (∀ c : Dev Cert.EvDhnIdeal.nD,
      r.2.mem ((c.tc : Thread Cert.EvDhnIdeal.nD Cert.EvDhnIdeal.τ).loc Cert.EvDhnIdeal.main_arg0) = m ((c.tc : Thread Cert.EvDhnIdeal.nD Cert.EvDhnIdeal.τ).loc Cert.EvDhnIdeal.main_arg0)
      ∧ r.2.mem ((c.tc : Thread Cert.EvDhnIdeal.nD Cert.EvDhnIdeal.τ).loc Cert.EvDhnIdeal.main_arg1) = m ((c.tc : Thread Cert.EvDhnIdeal.nD Cert.EvDhnIdeal.τ).loc Cert.EvDhnIdeal.main_arg1))
      ∧ r.2.sem = fun _ => 0)

def quiescent_EvDhnRefIdeal [hEvDhnRefIdeal : Cert.EvDhnRefIdeal.Facts] : Prop :=
  ∀ (m : (ℓ : Loc Cert.EvDhnRefIdeal.nD Cert.EvDhnRefIdeal.τ Cert.EvDhnRefIdeal.sig) → Buf (Elt Ideal) ℓ) (g : Dev Cert.EvDhnRefIdeal.nD → PrngReg), Pre_EvDhnRefIdeal m →
    θ_run (Cert.EvDhnRefIdeal.defs (F := Ideal)) (onTc (τ := Cert.EvDhnRefIdeal.τ) (Cert.EvDhnRefIdeal.main (F := Ideal))) ⟨m, fun _ => 0, g⟩ (fun r => (∀ c : Dev Cert.EvDhnRefIdeal.nD,
      r.2.mem ((c.tc : Thread Cert.EvDhnRefIdeal.nD Cert.EvDhnRefIdeal.τ).loc Cert.EvDhnRefIdeal.main_arg0) = m ((c.tc : Thread Cert.EvDhnRefIdeal.nD Cert.EvDhnRefIdeal.τ).loc Cert.EvDhnRefIdeal.main_arg0)
      ∧ r.2.mem ((c.tc : Thread Cert.EvDhnRefIdeal.nD Cert.EvDhnRefIdeal.τ).loc Cert.EvDhnRefIdeal.main_arg1) = m ((c.tc : Thread Cert.EvDhnRefIdeal.nD Cert.EvDhnRefIdeal.τ).loc Cert.EvDhnRefIdeal.main_arg1))
      ∧ r.2.sem = fun _ => 0)

def quiescent_EvDhn2 [hEvDhn2 : Cert.EvDhn2.Facts] : Prop :=
  ∀ (m : (ℓ : Loc Cert.EvDhn2.nD Cert.EvDhn2.τ Cert.EvDhn2.sig) → Buf (Elt Bits) ℓ) (g : Dev Cert.EvDhn2.nD → PrngReg), Pre_EvDhn2 m →
    θ_run (Cert.EvDhn2.defs (F := Bits)) (onTc (τ := Cert.EvDhn2.τ) (Cert.EvDhn2.main (F := Bits))) ⟨m, fun _ => 0, g⟩ (fun r => (∀ c : Dev Cert.EvDhn2.nD,
      r.2.mem ((c.tc : Thread Cert.EvDhn2.nD Cert.EvDhn2.τ).loc Cert.EvDhn2.main_arg0) = m ((c.tc : Thread Cert.EvDhn2.nD Cert.EvDhn2.τ).loc Cert.EvDhn2.main_arg0)
      ∧ r.2.mem ((c.tc : Thread Cert.EvDhn2.nD Cert.EvDhn2.τ).loc Cert.EvDhn2.main_arg1) = m ((c.tc : Thread Cert.EvDhn2.nD Cert.EvDhn2.τ).loc Cert.EvDhn2.main_arg1)
      ∧ r.2.mem ((c.tc : Thread Cert.EvDhn2.nD Cert.EvDhn2.τ).loc Cert.EvDhn2.main_arg2) = m ((c.tc : Thread Cert.EvDhn2.nD Cert.EvDhn2.τ).loc Cert.EvDhn2.main_arg2))
      ∧ r.2.sem = fun _ => 0)

def quiescent_EvDhn2Ideal [hEvDhn2Ideal : Cert.EvDhn2Ideal.Facts] : Prop :=
  ∀ (m : (ℓ : Loc Cert.EvDhn2Ideal.nD Cert.EvDhn2Ideal.τ Cert.EvDhn2Ideal.sig) → Buf (Elt Ideal) ℓ) (g : Dev Cert.EvDhn2Ideal.nD → PrngReg), Pre_EvDhn2Ideal m →
    θ_run (Cert.EvDhn2Ideal.defs (F := Ideal)) (onTc (τ := Cert.EvDhn2Ideal.τ) (Cert.EvDhn2Ideal.main (F := Ideal))) ⟨m, fun _ => 0, g⟩ (fun r => (∀ c : Dev Cert.EvDhn2Ideal.nD,
      r.2.mem ((c.tc : Thread Cert.EvDhn2Ideal.nD Cert.EvDhn2Ideal.τ).loc Cert.EvDhn2Ideal.main_arg0) = m ((c.tc : Thread Cert.EvDhn2Ideal.nD Cert.EvDhn2Ideal.τ).loc Cert.EvDhn2Ideal.main_arg0)
      ∧ r.2.mem ((c.tc : Thread Cert.EvDhn2Ideal.nD Cert.EvDhn2Ideal.τ).loc Cert.EvDhn2Ideal.main_arg1) = m ((c.tc : Thread Cert.EvDhn2Ideal.nD Cert.EvDhn2Ideal.τ).loc Cert.EvDhn2Ideal.main_arg1)
      ∧ r.2.mem ((c.tc : Thread Cert.EvDhn2Ideal.nD Cert.EvDhn2Ideal.τ).loc Cert.EvDhn2Ideal.main_arg2) = m ((c.tc : Thread Cert.EvDhn2Ideal.nD Cert.EvDhn2Ideal.τ).loc Cert.EvDhn2Ideal.main_arg2))
      ∧ r.2.sem = fun _ => 0)

def quiescent_EvDhn2RefIdeal [hEvDhn2RefIdeal : Cert.EvDhn2RefIdeal.Facts] : Prop :=
  ∀ (m : (ℓ : Loc Cert.EvDhn2RefIdeal.nD Cert.EvDhn2RefIdeal.τ Cert.EvDhn2RefIdeal.sig) → Buf (Elt Ideal) ℓ) (g : Dev Cert.EvDhn2RefIdeal.nD → PrngReg), Pre_EvDhn2RefIdeal m →
    θ_run (Cert.EvDhn2RefIdeal.defs (F := Ideal)) (onTc (τ := Cert.EvDhn2RefIdeal.τ) (Cert.EvDhn2RefIdeal.main (F := Ideal))) ⟨m, fun _ => 0, g⟩ (fun r => (∀ c : Dev Cert.EvDhn2RefIdeal.nD,
      r.2.mem ((c.tc : Thread Cert.EvDhn2RefIdeal.nD Cert.EvDhn2RefIdeal.τ).loc Cert.EvDhn2RefIdeal.main_arg0) = m ((c.tc : Thread Cert.EvDhn2RefIdeal.nD Cert.EvDhn2RefIdeal.τ).loc Cert.EvDhn2RefIdeal.main_arg0)
      ∧ r.2.mem ((c.tc : Thread Cert.EvDhn2RefIdeal.nD Cert.EvDhn2RefIdeal.τ).loc Cert.EvDhn2RefIdeal.main_arg1) = m ((c.tc : Thread Cert.EvDhn2RefIdeal.nD Cert.EvDhn2RefIdeal.τ).loc Cert.EvDhn2RefIdeal.main_arg1)
      ∧ r.2.mem ((c.tc : Thread Cert.EvDhn2RefIdeal.nD Cert.EvDhn2RefIdeal.τ).loc Cert.EvDhn2RefIdeal.main_arg2) = m ((c.tc : Thread Cert.EvDhn2RefIdeal.nD Cert.EvDhn2RefIdeal.τ).loc Cert.EvDhn2RefIdeal.main_arg2))
      ∧ r.2.sem = fun _ => 0)

def quiescent_EvWin [hEvWin : Cert.EvWin.Facts] : Prop :=
  ∀ (m : (ℓ : Loc Cert.EvWin.nD Cert.EvWin.τ Cert.EvWin.sig) → Buf (Elt Bits) ℓ) (g : Dev Cert.EvWin.nD → PrngReg), Pre_EvWin m →
    θ_run (Cert.EvWin.defs (F := Bits)) (onTc (τ := Cert.EvWin.τ) (Cert.EvWin.main (F := Bits))) ⟨m, fun _ => 0, g⟩ (fun r => (∀ c : Dev Cert.EvWin.nD,
      r.2.mem ((c.tc : Thread Cert.EvWin.nD Cert.EvWin.τ).loc Cert.EvWin.main_arg0) = m ((c.tc : Thread Cert.EvWin.nD Cert.EvWin.τ).loc Cert.EvWin.main_arg0)
      ∧ r.2.mem ((c.tc : Thread Cert.EvWin.nD Cert.EvWin.τ).loc Cert.EvWin.main_arg1) = m ((c.tc : Thread Cert.EvWin.nD Cert.EvWin.τ).loc Cert.EvWin.main_arg1))
      ∧ r.2.sem = fun _ => 0)

def quiescent_EvWinIdeal [hEvWinIdeal : Cert.EvWinIdeal.Facts] : Prop :=
  ∀ (m : (ℓ : Loc Cert.EvWinIdeal.nD Cert.EvWinIdeal.τ Cert.EvWinIdeal.sig) → Buf (Elt Ideal) ℓ) (g : Dev Cert.EvWinIdeal.nD → PrngReg), Pre_EvWinIdeal m →
    θ_run (Cert.EvWinIdeal.defs (F := Ideal)) (onTc (τ := Cert.EvWinIdeal.τ) (Cert.EvWinIdeal.main (F := Ideal))) ⟨m, fun _ => 0, g⟩ (fun r => (∀ c : Dev Cert.EvWinIdeal.nD,
      r.2.mem ((c.tc : Thread Cert.EvWinIdeal.nD Cert.EvWinIdeal.τ).loc Cert.EvWinIdeal.main_arg0) = m ((c.tc : Thread Cert.EvWinIdeal.nD Cert.EvWinIdeal.τ).loc Cert.EvWinIdeal.main_arg0)
      ∧ r.2.mem ((c.tc : Thread Cert.EvWinIdeal.nD Cert.EvWinIdeal.τ).loc Cert.EvWinIdeal.main_arg1) = m ((c.tc : Thread Cert.EvWinIdeal.nD Cert.EvWinIdeal.τ).loc Cert.EvWinIdeal.main_arg1))
      ∧ r.2.sem = fun _ => 0)

def quiescent_EvWinRefIdeal [hEvWinRefIdeal : Cert.EvWinRefIdeal.Facts] : Prop :=
  ∀ (m : (ℓ : Loc Cert.EvWinRefIdeal.nD Cert.EvWinRefIdeal.τ Cert.EvWinRefIdeal.sig) → Buf (Elt Ideal) ℓ) (g : Dev Cert.EvWinRefIdeal.nD → PrngReg), Pre_EvWinRefIdeal m →
    θ_run (Cert.EvWinRefIdeal.defs (F := Ideal)) (onTc (τ := Cert.EvWinRefIdeal.τ) (Cert.EvWinRefIdeal.main (F := Ideal))) ⟨m, fun _ => 0, g⟩ (fun r => (∀ c : Dev Cert.EvWinRefIdeal.nD,
      r.2.mem ((c.tc : Thread Cert.EvWinRefIdeal.nD Cert.EvWinRefIdeal.τ).loc Cert.EvWinRefIdeal.main_arg0) = m ((c.tc : Thread Cert.EvWinRefIdeal.nD Cert.EvWinRefIdeal.τ).loc Cert.EvWinRefIdeal.main_arg0)
      ∧ r.2.mem ((c.tc : Thread Cert.EvWinRefIdeal.nD Cert.EvWinRefIdeal.τ).loc Cert.EvWinRefIdeal.main_arg1) = m ((c.tc : Thread Cert.EvWinRefIdeal.nD Cert.EvWinRefIdeal.τ).loc Cert.EvWinRefIdeal.main_arg1))
      ∧ r.2.sem = fun _ => 0)

def quiescent_EvWdt [hEvWdt : Cert.EvWdt.Facts] : Prop :=
  ∀ (m : (ℓ : Loc Cert.EvWdt.nD Cert.EvWdt.τ Cert.EvWdt.sig) → Buf (Elt Bits) ℓ) (g : Dev Cert.EvWdt.nD → PrngReg), Pre_EvWdt m →
    θ_run (Cert.EvWdt.defs (F := Bits)) (onTc (τ := Cert.EvWdt.τ) (Cert.EvWdt.main (F := Bits))) ⟨m, fun _ => 0, g⟩ (fun r => (∀ c : Dev Cert.EvWdt.nD,
      r.2.mem ((c.tc : Thread Cert.EvWdt.nD Cert.EvWdt.τ).loc Cert.EvWdt.main_arg0) = m ((c.tc : Thread Cert.EvWdt.nD Cert.EvWdt.τ).loc Cert.EvWdt.main_arg0)
      ∧ r.2.mem ((c.tc : Thread Cert.EvWdt.nD Cert.EvWdt.τ).loc Cert.EvWdt.main_arg1) = m ((c.tc : Thread Cert.EvWdt.nD Cert.EvWdt.τ).loc Cert.EvWdt.main_arg1))
      ∧ r.2.sem = fun _ => 0)

def quiescent_EvWdtIdeal [hEvWdtIdeal : Cert.EvWdtIdeal.Facts] : Prop :=
  ∀ (m : (ℓ : Loc Cert.EvWdtIdeal.nD Cert.EvWdtIdeal.τ Cert.EvWdtIdeal.sig) → Buf (Elt Ideal) ℓ) (g : Dev Cert.EvWdtIdeal.nD → PrngReg), Pre_EvWdtIdeal m →
    θ_run (Cert.EvWdtIdeal.defs (F := Ideal)) (onTc (τ := Cert.EvWdtIdeal.τ) (Cert.EvWdtIdeal.main (F := Ideal))) ⟨m, fun _ => 0, g⟩ (fun r => (∀ c : Dev Cert.EvWdtIdeal.nD,
      r.2.mem ((c.tc : Thread Cert.EvWdtIdeal.nD Cert.EvWdtIdeal.τ).loc Cert.EvWdtIdeal.main_arg0) = m ((c.tc : Thread Cert.EvWdtIdeal.nD Cert.EvWdtIdeal.τ).loc Cert.EvWdtIdeal.main_arg0)
      ∧ r.2.mem ((c.tc : Thread Cert.EvWdtIdeal.nD Cert.EvWdtIdeal.τ).loc Cert.EvWdtIdeal.main_arg1) = m ((c.tc : Thread Cert.EvWdtIdeal.nD Cert.EvWdtIdeal.τ).loc Cert.EvWdtIdeal.main_arg1))
      ∧ r.2.sem = fun _ => 0)

def quiescent_EvWdtRefIdeal [hEvWdtRefIdeal : Cert.EvWdtRefIdeal.Facts] : Prop :=
  ∀ (m : (ℓ : Loc Cert.EvWdtRefIdeal.nD Cert.EvWdtRefIdeal.τ Cert.EvWdtRefIdeal.sig) → Buf (Elt Ideal) ℓ) (g : Dev Cert.EvWdtRefIdeal.nD → PrngReg), Pre_EvWdtRefIdeal m →
    θ_run (Cert.EvWdtRefIdeal.defs (F := Ideal)) (onTc (τ := Cert.EvWdtRefIdeal.τ) (Cert.EvWdtRefIdeal.main (F := Ideal))) ⟨m, fun _ => 0, g⟩ (fun r => (∀ c : Dev Cert.EvWdtRefIdeal.nD,
      r.2.mem ((c.tc : Thread Cert.EvWdtRefIdeal.nD Cert.EvWdtRefIdeal.τ).loc Cert.EvWdtRefIdeal.main_arg0) = m ((c.tc : Thread Cert.EvWdtRefIdeal.nD Cert.EvWdtRefIdeal.τ).loc Cert.EvWdtRefIdeal.main_arg0)
      ∧ r.2.mem ((c.tc : Thread Cert.EvWdtRefIdeal.nD Cert.EvWdtRefIdeal.τ).loc Cert.EvWdtRefIdeal.main_arg1) = m ((c.tc : Thread Cert.EvWdtRefIdeal.nD Cert.EvWdtRefIdeal.τ).loc Cert.EvWdtRefIdeal.main_arg1))
      ∧ r.2.sem = fun _ => 0)

def quiescent_OdDo [hOdDo : Cert.OdDo.Facts] : Prop :=
  ∀ (m : (ℓ : Loc Cert.OdDo.nD Cert.OdDo.τ Cert.OdDo.sig) → Buf (Elt Bits) ℓ) (g : Dev Cert.OdDo.nD → PrngReg), Pre_OdDo m →
    θ_run (Cert.OdDo.defs (F := Bits)) (onTc (τ := Cert.OdDo.τ) (Cert.OdDo.main (F := Bits))) ⟨m, fun _ => 0, g⟩ (fun r => (∀ c : Dev Cert.OdDo.nD,
      r.2.mem ((c.tc : Thread Cert.OdDo.nD Cert.OdDo.τ).loc Cert.OdDo.main_arg0) = m ((c.tc : Thread Cert.OdDo.nD Cert.OdDo.τ).loc Cert.OdDo.main_arg0)
      ∧ r.2.mem ((c.tc : Thread Cert.OdDo.nD Cert.OdDo.τ).loc Cert.OdDo.main_arg1) = m ((c.tc : Thread Cert.OdDo.nD Cert.OdDo.τ).loc Cert.OdDo.main_arg1))
      ∧ r.2.sem = fun _ => 0)

def quiescent_OdDoIdeal [hOdDoIdeal : Cert.OdDoIdeal.Facts] : Prop :=
  ∀ (m : (ℓ : Loc Cert.OdDoIdeal.nD Cert.OdDoIdeal.τ Cert.OdDoIdeal.sig) → Buf (Elt Ideal) ℓ) (g : Dev Cert.OdDoIdeal.nD → PrngReg), Pre_OdDoIdeal m →
    θ_run (Cert.OdDoIdeal.defs (F := Ideal)) (onTc (τ := Cert.OdDoIdeal.τ) (Cert.OdDoIdeal.main (F := Ideal))) ⟨m, fun _ => 0, g⟩ (fun r => (∀ c : Dev Cert.OdDoIdeal.nD,
      r.2.mem ((c.tc : Thread Cert.OdDoIdeal.nD Cert.OdDoIdeal.τ).loc Cert.OdDoIdeal.main_arg0) = m ((c.tc : Thread Cert.OdDoIdeal.nD Cert.OdDoIdeal.τ).loc Cert.OdDoIdeal.main_arg0)
      ∧ r.2.mem ((c.tc : Thread Cert.OdDoIdeal.nD Cert.OdDoIdeal.τ).loc Cert.OdDoIdeal.main_arg1) = m ((c.tc : Thread Cert.OdDoIdeal.nD Cert.OdDoIdeal.τ).loc Cert.OdDoIdeal.main_arg1))
      ∧ r.2.sem = fun _ => 0)

def quiescent_OdDoRefIdeal [hOdDoRefIdeal : Cert.OdDoRefIdeal.Facts] : Prop :=
  ∀ (m : (ℓ : Loc Cert.OdDoRefIdeal.nD Cert.OdDoRefIdeal.τ Cert.OdDoRefIdeal.sig) → Buf (Elt Ideal) ℓ) (g : Dev Cert.OdDoRefIdeal.nD → PrngReg), Pre_OdDoRefIdeal m →
    θ_run (Cert.OdDoRefIdeal.defs (F := Ideal)) (onTc (τ := Cert.OdDoRefIdeal.τ) (Cert.OdDoRefIdeal.main (F := Ideal))) ⟨m, fun _ => 0, g⟩ (fun r => (∀ c : Dev Cert.OdDoRefIdeal.nD,
      r.2.mem ((c.tc : Thread Cert.OdDoRefIdeal.nD Cert.OdDoRefIdeal.τ).loc Cert.OdDoRefIdeal.main_arg0) = m ((c.tc : Thread Cert.OdDoRefIdeal.nD Cert.OdDoRefIdeal.τ).loc Cert.OdDoRefIdeal.main_arg0)
      ∧ r.2.mem ((c.tc : Thread Cert.OdDoRefIdeal.nD Cert.OdDoRefIdeal.τ).loc Cert.OdDoRefIdeal.main_arg1) = m ((c.tc : Thread Cert.OdDoRefIdeal.nD Cert.OdDoRefIdeal.τ).loc Cert.OdDoRefIdeal.main_arg1))
      ∧ r.2.sem = fun _ => 0)

def quiescent_OdWo [hOdWo : Cert.OdWo.Facts] : Prop :=
  ∀ (m : (ℓ : Loc Cert.OdWo.nD Cert.OdWo.τ Cert.OdWo.sig) → Buf (Elt Bits) ℓ) (g : Dev Cert.OdWo.nD → PrngReg), Pre_OdWo m →
    θ_run (Cert.OdWo.defs (F := Bits)) (onTc (τ := Cert.OdWo.τ) (Cert.OdWo.main (F := Bits))) ⟨m, fun _ => 0, g⟩ (fun r => (∀ c : Dev Cert.OdWo.nD,
      r.2.mem ((c.tc : Thread Cert.OdWo.nD Cert.OdWo.τ).loc Cert.OdWo.main_arg0) = m ((c.tc : Thread Cert.OdWo.nD Cert.OdWo.τ).loc Cert.OdWo.main_arg0)
      ∧ r.2.mem ((c.tc : Thread Cert.OdWo.nD Cert.OdWo.τ).loc Cert.OdWo.main_arg1) = m ((c.tc : Thread Cert.OdWo.nD Cert.OdWo.τ).loc Cert.OdWo.main_arg1)
      ∧ r.2.mem ((c.tc : Thread Cert.OdWo.nD Cert.OdWo.τ).loc Cert.OdWo.main_arg2) = m ((c.tc : Thread Cert.OdWo.nD Cert.OdWo.τ).loc Cert.OdWo.main_arg2))
      ∧ r.2.sem = fun _ => 0)

def quiescent_OdWoIdeal [hOdWoIdeal : Cert.OdWoIdeal.Facts] : Prop :=
  ∀ (m : (ℓ : Loc Cert.OdWoIdeal.nD Cert.OdWoIdeal.τ Cert.OdWoIdeal.sig) → Buf (Elt Ideal) ℓ) (g : Dev Cert.OdWoIdeal.nD → PrngReg), Pre_OdWoIdeal m →
    θ_run (Cert.OdWoIdeal.defs (F := Ideal)) (onTc (τ := Cert.OdWoIdeal.τ) (Cert.OdWoIdeal.main (F := Ideal))) ⟨m, fun _ => 0, g⟩ (fun r => (∀ c : Dev Cert.OdWoIdeal.nD,
      r.2.mem ((c.tc : Thread Cert.OdWoIdeal.nD Cert.OdWoIdeal.τ).loc Cert.OdWoIdeal.main_arg0) = m ((c.tc : Thread Cert.OdWoIdeal.nD Cert.OdWoIdeal.τ).loc Cert.OdWoIdeal.main_arg0)
      ∧ r.2.mem ((c.tc : Thread Cert.OdWoIdeal.nD Cert.OdWoIdeal.τ).loc Cert.OdWoIdeal.main_arg1) = m ((c.tc : Thread Cert.OdWoIdeal.nD Cert.OdWoIdeal.τ).loc Cert.OdWoIdeal.main_arg1)
      ∧ r.2.mem ((c.tc : Thread Cert.OdWoIdeal.nD Cert.OdWoIdeal.τ).loc Cert.OdWoIdeal.main_arg2) = m ((c.tc : Thread Cert.OdWoIdeal.nD Cert.OdWoIdeal.τ).loc Cert.OdWoIdeal.main_arg2))
      ∧ r.2.sem = fun _ => 0)

def quiescent_OdWoRefIdeal [hOdWoRefIdeal : Cert.OdWoRefIdeal.Facts] : Prop :=
  ∀ (m : (ℓ : Loc Cert.OdWoRefIdeal.nD Cert.OdWoRefIdeal.τ Cert.OdWoRefIdeal.sig) → Buf (Elt Ideal) ℓ) (g : Dev Cert.OdWoRefIdeal.nD → PrngReg), Pre_OdWoRefIdeal m →
    θ_run (Cert.OdWoRefIdeal.defs (F := Ideal)) (onTc (τ := Cert.OdWoRefIdeal.τ) (Cert.OdWoRefIdeal.main (F := Ideal))) ⟨m, fun _ => 0, g⟩ (fun r => (∀ c : Dev Cert.OdWoRefIdeal.nD,
      r.2.mem ((c.tc : Thread Cert.OdWoRefIdeal.nD Cert.OdWoRefIdeal.τ).loc Cert.OdWoRefIdeal.main_arg0) = m ((c.tc : Thread Cert.OdWoRefIdeal.nD Cert.OdWoRefIdeal.τ).loc Cert.OdWoRefIdeal.main_arg0)
      ∧ r.2.mem ((c.tc : Thread Cert.OdWoRefIdeal.nD Cert.OdWoRefIdeal.τ).loc Cert.OdWoRefIdeal.main_arg1) = m ((c.tc : Thread Cert.OdWoRefIdeal.nD Cert.OdWoRefIdeal.τ).loc Cert.OdWoRefIdeal.main_arg1)
      ∧ r.2.mem ((c.tc : Thread Cert.OdWoRefIdeal.nD Cert.OdWoRefIdeal.τ).loc Cert.OdWoRefIdeal.main_arg2) = m ((c.tc : Thread Cert.OdWoRefIdeal.nD Cert.OdWoRefIdeal.τ).loc Cert.OdWoRefIdeal.main_arg2))
      ∧ r.2.sem = fun _ => 0)

def quiescent_OdDcq [hOdDcq : Cert.OdDcq.Facts] : Prop :=
  ∀ (m : (ℓ : Loc Cert.OdDcq.nD Cert.OdDcq.τ Cert.OdDcq.sig) → Buf (Elt Bits) ℓ) (g : Dev Cert.OdDcq.nD → PrngReg), Pre_OdDcq m →
    θ_run (Cert.OdDcq.defs (F := Bits)) (onTc (τ := Cert.OdDcq.τ) (Cert.OdDcq.main (F := Bits))) ⟨m, fun _ => 0, g⟩ (fun r => (∀ c : Dev Cert.OdDcq.nD,
      r.2.mem ((c.tc : Thread Cert.OdDcq.nD Cert.OdDcq.τ).loc Cert.OdDcq.main_arg0) = m ((c.tc : Thread Cert.OdDcq.nD Cert.OdDcq.τ).loc Cert.OdDcq.main_arg0)
      ∧ r.2.mem ((c.tc : Thread Cert.OdDcq.nD Cert.OdDcq.τ).loc Cert.OdDcq.main_arg1) = m ((c.tc : Thread Cert.OdDcq.nD Cert.OdDcq.τ).loc Cert.OdDcq.main_arg1))
      ∧ r.2.sem = fun _ => 0)

def quiescent_OdDcqIdeal [hOdDcqIdeal : Cert.OdDcqIdeal.Facts] : Prop :=
  ∀ (m : (ℓ : Loc Cert.OdDcqIdeal.nD Cert.OdDcqIdeal.τ Cert.OdDcqIdeal.sig) → Buf (Elt Ideal) ℓ) (g : Dev Cert.OdDcqIdeal.nD → PrngReg), Pre_OdDcqIdeal m →
    θ_run (Cert.OdDcqIdeal.defs (F := Ideal)) (onTc (τ := Cert.OdDcqIdeal.τ) (Cert.OdDcqIdeal.main (F := Ideal))) ⟨m, fun _ => 0, g⟩ (fun r => (∀ c : Dev Cert.OdDcqIdeal.nD,
      r.2.mem ((c.tc : Thread Cert.OdDcqIdeal.nD Cert.OdDcqIdeal.τ).loc Cert.OdDcqIdeal.main_arg0) = m ((c.tc : Thread Cert.OdDcqIdeal.nD Cert.OdDcqIdeal.τ).loc Cert.OdDcqIdeal.main_arg0)
      ∧ r.2.mem ((c.tc : Thread Cert.OdDcqIdeal.nD Cert.OdDcqIdeal.τ).loc Cert.OdDcqIdeal.main_arg1) = m ((c.tc : Thread Cert.OdDcqIdeal.nD Cert.OdDcqIdeal.τ).loc Cert.OdDcqIdeal.main_arg1))
      ∧ r.2.sem = fun _ => 0)

def quiescent_OdDcqRefIdeal [hOdDcqRefIdeal : Cert.OdDcqRefIdeal.Facts] : Prop :=
  ∀ (m : (ℓ : Loc Cert.OdDcqRefIdeal.nD Cert.OdDcqRefIdeal.τ Cert.OdDcqRefIdeal.sig) → Buf (Elt Ideal) ℓ) (g : Dev Cert.OdDcqRefIdeal.nD → PrngReg), Pre_OdDcqRefIdeal m →
    θ_run (Cert.OdDcqRefIdeal.defs (F := Ideal)) (onTc (τ := Cert.OdDcqRefIdeal.τ) (Cert.OdDcqRefIdeal.main (F := Ideal))) ⟨m, fun _ => 0, g⟩ (fun r => (∀ c : Dev Cert.OdDcqRefIdeal.nD,
      r.2.mem ((c.tc : Thread Cert.OdDcqRefIdeal.nD Cert.OdDcqRefIdeal.τ).loc Cert.OdDcqRefIdeal.main_arg0) = m ((c.tc : Thread Cert.OdDcqRefIdeal.nD Cert.OdDcqRefIdeal.τ).loc Cert.OdDcqRefIdeal.main_arg0)
      ∧ r.2.mem ((c.tc : Thread Cert.OdDcqRefIdeal.nD Cert.OdDcqRefIdeal.τ).loc Cert.OdDcqRefIdeal.main_arg1) = m ((c.tc : Thread Cert.OdDcqRefIdeal.nD Cert.OdDcqRefIdeal.τ).loc Cert.OdDcqRefIdeal.main_arg1))
      ∧ r.2.sem = fun _ => 0)

def quiescent_OdWuq [hOdWuq : Cert.OdWuq.Facts] : Prop :=
  ∀ (m : (ℓ : Loc Cert.OdWuq.nD Cert.OdWuq.τ Cert.OdWuq.sig) → Buf (Elt Bits) ℓ) (g : Dev Cert.OdWuq.nD → PrngReg), Pre_OdWuq m →
    θ_run (Cert.OdWuq.defs (F := Bits)) (onTc (τ := Cert.OdWuq.τ) (Cert.OdWuq.main (F := Bits))) ⟨m, fun _ => 0, g⟩ (fun r => (∀ c : Dev Cert.OdWuq.nD,
      r.2.mem ((c.tc : Thread Cert.OdWuq.nD Cert.OdWuq.τ).loc Cert.OdWuq.main_arg0) = m ((c.tc : Thread Cert.OdWuq.nD Cert.OdWuq.τ).loc Cert.OdWuq.main_arg0)
      ∧ r.2.mem ((c.tc : Thread Cert.OdWuq.nD Cert.OdWuq.τ).loc Cert.OdWuq.main_arg1) = m ((c.tc : Thread Cert.OdWuq.nD Cert.OdWuq.τ).loc Cert.OdWuq.main_arg1))
      ∧ r.2.sem = fun _ => 0)

def quiescent_OdWuqIdeal [hOdWuqIdeal : Cert.OdWuqIdeal.Facts] : Prop :=
  ∀ (m : (ℓ : Loc Cert.OdWuqIdeal.nD Cert.OdWuqIdeal.τ Cert.OdWuqIdeal.sig) → Buf (Elt Ideal) ℓ) (g : Dev Cert.OdWuqIdeal.nD → PrngReg), Pre_OdWuqIdeal m →
    θ_run (Cert.OdWuqIdeal.defs (F := Ideal)) (onTc (τ := Cert.OdWuqIdeal.τ) (Cert.OdWuqIdeal.main (F := Ideal))) ⟨m, fun _ => 0, g⟩ (fun r => (∀ c : Dev Cert.OdWuqIdeal.nD,
      r.2.mem ((c.tc : Thread Cert.OdWuqIdeal.nD Cert.OdWuqIdeal.τ).loc Cert.OdWuqIdeal.main_arg0) = m ((c.tc : Thread Cert.OdWuqIdeal.nD Cert.OdWuqIdeal.τ).loc Cert.OdWuqIdeal.main_arg0)
      ∧ r.2.mem ((c.tc : Thread Cert.OdWuqIdeal.nD Cert.OdWuqIdeal.τ).loc Cert.OdWuqIdeal.main_arg1) = m ((c.tc : Thread Cert.OdWuqIdeal.nD Cert.OdWuqIdeal.τ).loc Cert.OdWuqIdeal.main_arg1))
      ∧ r.2.sem = fun _ => 0)

def quiescent_OdWuqRefIdeal [hOdWuqRefIdeal : Cert.OdWuqRefIdeal.Facts] : Prop :=
  ∀ (m : (ℓ : Loc Cert.OdWuqRefIdeal.nD Cert.OdWuqRefIdeal.τ Cert.OdWuqRefIdeal.sig) → Buf (Elt Ideal) ℓ) (g : Dev Cert.OdWuqRefIdeal.nD → PrngReg), Pre_OdWuqRefIdeal m →
    θ_run (Cert.OdWuqRefIdeal.defs (F := Ideal)) (onTc (τ := Cert.OdWuqRefIdeal.τ) (Cert.OdWuqRefIdeal.main (F := Ideal))) ⟨m, fun _ => 0, g⟩ (fun r => (∀ c : Dev Cert.OdWuqRefIdeal.nD,
      r.2.mem ((c.tc : Thread Cert.OdWuqRefIdeal.nD Cert.OdWuqRefIdeal.τ).loc Cert.OdWuqRefIdeal.main_arg0) = m ((c.tc : Thread Cert.OdWuqRefIdeal.nD Cert.OdWuqRefIdeal.τ).loc Cert.OdWuqRefIdeal.main_arg0)
      ∧ r.2.mem ((c.tc : Thread Cert.OdWuqRefIdeal.nD Cert.OdWuqRefIdeal.τ).loc Cert.OdWuqRefIdeal.main_arg1) = m ((c.tc : Thread Cert.OdWuqRefIdeal.nD Cert.OdWuqRefIdeal.τ).loc Cert.OdWuqRefIdeal.main_arg1))
      ∧ r.2.sem = fun _ => 0)

def quiescent_OdDckv [hOdDckv : Cert.OdDckv.Facts] : Prop :=
  ∀ (m : (ℓ : Loc Cert.OdDckv.nD Cert.OdDckv.τ Cert.OdDckv.sig) → Buf (Elt Bits) ℓ) (g : Dev Cert.OdDckv.nD → PrngReg), Pre_OdDckv m →
    θ_run (Cert.OdDckv.defs (F := Bits)) (onTc (τ := Cert.OdDckv.τ) (Cert.OdDckv.main (F := Bits))) ⟨m, fun _ => 0, g⟩ (fun r => (∀ c : Dev Cert.OdDckv.nD,
      r.2.mem ((c.tc : Thread Cert.OdDckv.nD Cert.OdDckv.τ).loc Cert.OdDckv.main_arg0) = m ((c.tc : Thread Cert.OdDckv.nD Cert.OdDckv.τ).loc Cert.OdDckv.main_arg0)
      ∧ r.2.mem ((c.tc : Thread Cert.OdDckv.nD Cert.OdDckv.τ).loc Cert.OdDckv.main_arg1) = m ((c.tc : Thread Cert.OdDckv.nD Cert.OdDckv.τ).loc Cert.OdDckv.main_arg1))
      ∧ r.2.sem = fun _ => 0)

def quiescent_OdDckvIdeal [hOdDckvIdeal : Cert.OdDckvIdeal.Facts] : Prop :=
  ∀ (m : (ℓ : Loc Cert.OdDckvIdeal.nD Cert.OdDckvIdeal.τ Cert.OdDckvIdeal.sig) → Buf (Elt Ideal) ℓ) (g : Dev Cert.OdDckvIdeal.nD → PrngReg), Pre_OdDckvIdeal m →
    θ_run (Cert.OdDckvIdeal.defs (F := Ideal)) (onTc (τ := Cert.OdDckvIdeal.τ) (Cert.OdDckvIdeal.main (F := Ideal))) ⟨m, fun _ => 0, g⟩ (fun r => (∀ c : Dev Cert.OdDckvIdeal.nD,
      r.2.mem ((c.tc : Thread Cert.OdDckvIdeal.nD Cert.OdDckvIdeal.τ).loc Cert.OdDckvIdeal.main_arg0) = m ((c.tc : Thread Cert.OdDckvIdeal.nD Cert.OdDckvIdeal.τ).loc Cert.OdDckvIdeal.main_arg0)
      ∧ r.2.mem ((c.tc : Thread Cert.OdDckvIdeal.nD Cert.OdDckvIdeal.τ).loc Cert.OdDckvIdeal.main_arg1) = m ((c.tc : Thread Cert.OdDckvIdeal.nD Cert.OdDckvIdeal.τ).loc Cert.OdDckvIdeal.main_arg1))
      ∧ r.2.sem = fun _ => 0)

def quiescent_OdDckvRefIdeal [hOdDckvRefIdeal : Cert.OdDckvRefIdeal.Facts] : Prop :=
  ∀ (m : (ℓ : Loc Cert.OdDckvRefIdeal.nD Cert.OdDckvRefIdeal.τ Cert.OdDckvRefIdeal.sig) → Buf (Elt Ideal) ℓ) (g : Dev Cert.OdDckvRefIdeal.nD → PrngReg), Pre_OdDckvRefIdeal m →
    θ_run (Cert.OdDckvRefIdeal.defs (F := Ideal)) (onTc (τ := Cert.OdDckvRefIdeal.τ) (Cert.OdDckvRefIdeal.main (F := Ideal))) ⟨m, fun _ => 0, g⟩ (fun r => (∀ c : Dev Cert.OdDckvRefIdeal.nD,
      r.2.mem ((c.tc : Thread Cert.OdDckvRefIdeal.nD Cert.OdDckvRefIdeal.τ).loc Cert.OdDckvRefIdeal.main_arg0) = m ((c.tc : Thread Cert.OdDckvRefIdeal.nD Cert.OdDckvRefIdeal.τ).loc Cert.OdDckvRefIdeal.main_arg0)
      ∧ r.2.mem ((c.tc : Thread Cert.OdDckvRefIdeal.nD Cert.OdDckvRefIdeal.τ).loc Cert.OdDckvRefIdeal.main_arg1) = m ((c.tc : Thread Cert.OdDckvRefIdeal.nD Cert.OdDckvRefIdeal.τ).loc Cert.OdDckvRefIdeal.main_arg1))
      ∧ r.2.sem = fun _ => 0)

def quiescent_OdWukv [hOdWukv : Cert.OdWukv.Facts] : Prop :=
  ∀ (m : (ℓ : Loc Cert.OdWukv.nD Cert.OdWukv.τ Cert.OdWukv.sig) → Buf (Elt Bits) ℓ) (g : Dev Cert.OdWukv.nD → PrngReg), Pre_OdWukv m →
    θ_run (Cert.OdWukv.defs (F := Bits)) (onTc (τ := Cert.OdWukv.τ) (Cert.OdWukv.main (F := Bits))) ⟨m, fun _ => 0, g⟩ (fun r => (∀ c : Dev Cert.OdWukv.nD,
      r.2.mem ((c.tc : Thread Cert.OdWukv.nD Cert.OdWukv.τ).loc Cert.OdWukv.main_arg0) = m ((c.tc : Thread Cert.OdWukv.nD Cert.OdWukv.τ).loc Cert.OdWukv.main_arg0)
      ∧ r.2.mem ((c.tc : Thread Cert.OdWukv.nD Cert.OdWukv.τ).loc Cert.OdWukv.main_arg1) = m ((c.tc : Thread Cert.OdWukv.nD Cert.OdWukv.τ).loc Cert.OdWukv.main_arg1))
      ∧ r.2.sem = fun _ => 0)

def quiescent_OdWukvIdeal [hOdWukvIdeal : Cert.OdWukvIdeal.Facts] : Prop :=
  ∀ (m : (ℓ : Loc Cert.OdWukvIdeal.nD Cert.OdWukvIdeal.τ Cert.OdWukvIdeal.sig) → Buf (Elt Ideal) ℓ) (g : Dev Cert.OdWukvIdeal.nD → PrngReg), Pre_OdWukvIdeal m →
    θ_run (Cert.OdWukvIdeal.defs (F := Ideal)) (onTc (τ := Cert.OdWukvIdeal.τ) (Cert.OdWukvIdeal.main (F := Ideal))) ⟨m, fun _ => 0, g⟩ (fun r => (∀ c : Dev Cert.OdWukvIdeal.nD,
      r.2.mem ((c.tc : Thread Cert.OdWukvIdeal.nD Cert.OdWukvIdeal.τ).loc Cert.OdWukvIdeal.main_arg0) = m ((c.tc : Thread Cert.OdWukvIdeal.nD Cert.OdWukvIdeal.τ).loc Cert.OdWukvIdeal.main_arg0)
      ∧ r.2.mem ((c.tc : Thread Cert.OdWukvIdeal.nD Cert.OdWukvIdeal.τ).loc Cert.OdWukvIdeal.main_arg1) = m ((c.tc : Thread Cert.OdWukvIdeal.nD Cert.OdWukvIdeal.τ).loc Cert.OdWukvIdeal.main_arg1))
      ∧ r.2.sem = fun _ => 0)

def quiescent_OdWukvRefIdeal [hOdWukvRefIdeal : Cert.OdWukvRefIdeal.Facts] : Prop :=
  ∀ (m : (ℓ : Loc Cert.OdWukvRefIdeal.nD Cert.OdWukvRefIdeal.τ Cert.OdWukvRefIdeal.sig) → Buf (Elt Ideal) ℓ) (g : Dev Cert.OdWukvRefIdeal.nD → PrngReg), Pre_OdWukvRefIdeal m →
    θ_run (Cert.OdWukvRefIdeal.defs (F := Ideal)) (onTc (τ := Cert.OdWukvRefIdeal.τ) (Cert.OdWukvRefIdeal.main (F := Ideal))) ⟨m, fun _ => 0, g⟩ (fun r => (∀ c : Dev Cert.OdWukvRefIdeal.nD,
      r.2.mem ((c.tc : Thread Cert.OdWukvRefIdeal.nD Cert.OdWukvRefIdeal.τ).loc Cert.OdWukvRefIdeal.main_arg0) = m ((c.tc : Thread Cert.OdWukvRefIdeal.nD Cert.OdWukvRefIdeal.τ).loc Cert.OdWukvRefIdeal.main_arg0)
      ∧ r.2.mem ((c.tc : Thread Cert.OdWukvRefIdeal.nD Cert.OdWukvRefIdeal.τ).loc Cert.OdWukvRefIdeal.main_arg1) = m ((c.tc : Thread Cert.OdWukvRefIdeal.nD Cert.OdWukvRefIdeal.τ).loc Cert.OdWukvRefIdeal.main_arg1))
      ∧ r.2.sem = fun _ => 0)

def quiescent_OdDhn [hOdDhn : Cert.OdDhn.Facts] : Prop :=
  ∀ (m : (ℓ : Loc Cert.OdDhn.nD Cert.OdDhn.τ Cert.OdDhn.sig) → Buf (Elt Bits) ℓ) (g : Dev Cert.OdDhn.nD → PrngReg), Pre_OdDhn m →
    θ_run (Cert.OdDhn.defs (F := Bits)) (onTc (τ := Cert.OdDhn.τ) (Cert.OdDhn.main (F := Bits))) ⟨m, fun _ => 0, g⟩ (fun r => (∀ c : Dev Cert.OdDhn.nD,
      r.2.mem ((c.tc : Thread Cert.OdDhn.nD Cert.OdDhn.τ).loc Cert.OdDhn.main_arg0) = m ((c.tc : Thread Cert.OdDhn.nD Cert.OdDhn.τ).loc Cert.OdDhn.main_arg0)
      ∧ r.2.mem ((c.tc : Thread Cert.OdDhn.nD Cert.OdDhn.τ).loc Cert.OdDhn.main_arg1) = m ((c.tc : Thread Cert.OdDhn.nD Cert.OdDhn.τ).loc Cert.OdDhn.main_arg1))
      ∧ r.2.sem = fun _ => 0)

def quiescent_OdDhnIdeal [hOdDhnIdeal : Cert.OdDhnIdeal.Facts] : Prop :=
  ∀ (m : (ℓ : Loc Cert.OdDhnIdeal.nD Cert.OdDhnIdeal.τ Cert.OdDhnIdeal.sig) → Buf (Elt Ideal) ℓ) (g : Dev Cert.OdDhnIdeal.nD → PrngReg), Pre_OdDhnIdeal m →
    θ_run (Cert.OdDhnIdeal.defs (F := Ideal)) (onTc (τ := Cert.OdDhnIdeal.τ) (Cert.OdDhnIdeal.main (F := Ideal))) ⟨m, fun _ => 0, g⟩ (fun r => (∀ c : Dev Cert.OdDhnIdeal.nD,
      r.2.mem ((c.tc : Thread Cert.OdDhnIdeal.nD Cert.OdDhnIdeal.τ).loc Cert.OdDhnIdeal.main_arg0) = m ((c.tc : Thread Cert.OdDhnIdeal.nD Cert.OdDhnIdeal.τ).loc Cert.OdDhnIdeal.main_arg0)
      ∧ r.2.mem ((c.tc : Thread Cert.OdDhnIdeal.nD Cert.OdDhnIdeal.τ).loc Cert.OdDhnIdeal.main_arg1) = m ((c.tc : Thread Cert.OdDhnIdeal.nD Cert.OdDhnIdeal.τ).loc Cert.OdDhnIdeal.main_arg1))
      ∧ r.2.sem = fun _ => 0)

def quiescent_OdDhnRefIdeal [hOdDhnRefIdeal : Cert.OdDhnRefIdeal.Facts] : Prop :=
  ∀ (m : (ℓ : Loc Cert.OdDhnRefIdeal.nD Cert.OdDhnRefIdeal.τ Cert.OdDhnRefIdeal.sig) → Buf (Elt Ideal) ℓ) (g : Dev Cert.OdDhnRefIdeal.nD → PrngReg), Pre_OdDhnRefIdeal m →
    θ_run (Cert.OdDhnRefIdeal.defs (F := Ideal)) (onTc (τ := Cert.OdDhnRefIdeal.τ) (Cert.OdDhnRefIdeal.main (F := Ideal))) ⟨m, fun _ => 0, g⟩ (fun r => (∀ c : Dev Cert.OdDhnRefIdeal.nD,
      r.2.mem ((c.tc : Thread Cert.OdDhnRefIdeal.nD Cert.OdDhnRefIdeal.τ).loc Cert.OdDhnRefIdeal.main_arg0) = m ((c.tc : Thread Cert.OdDhnRefIdeal.nD Cert.OdDhnRefIdeal.τ).loc Cert.OdDhnRefIdeal.main_arg0)
      ∧ r.2.mem ((c.tc : Thread Cert.OdDhnRefIdeal.nD Cert.OdDhnRefIdeal.τ).loc Cert.OdDhnRefIdeal.main_arg1) = m ((c.tc : Thread Cert.OdDhnRefIdeal.nD Cert.OdDhnRefIdeal.τ).loc Cert.OdDhnRefIdeal.main_arg1))
      ∧ r.2.sem = fun _ => 0)

def quiescent_OdWin [hOdWin : Cert.OdWin.Facts] : Prop :=
  ∀ (m : (ℓ : Loc Cert.OdWin.nD Cert.OdWin.τ Cert.OdWin.sig) → Buf (Elt Bits) ℓ) (g : Dev Cert.OdWin.nD → PrngReg), Pre_OdWin m →
    θ_run (Cert.OdWin.defs (F := Bits)) (onTc (τ := Cert.OdWin.τ) (Cert.OdWin.main (F := Bits))) ⟨m, fun _ => 0, g⟩ (fun r => (∀ c : Dev Cert.OdWin.nD,
      r.2.mem ((c.tc : Thread Cert.OdWin.nD Cert.OdWin.τ).loc Cert.OdWin.main_arg0) = m ((c.tc : Thread Cert.OdWin.nD Cert.OdWin.τ).loc Cert.OdWin.main_arg0)
      ∧ r.2.mem ((c.tc : Thread Cert.OdWin.nD Cert.OdWin.τ).loc Cert.OdWin.main_arg1) = m ((c.tc : Thread Cert.OdWin.nD Cert.OdWin.τ).loc Cert.OdWin.main_arg1))
      ∧ r.2.sem = fun _ => 0)

def quiescent_OdWinIdeal [hOdWinIdeal : Cert.OdWinIdeal.Facts] : Prop :=
  ∀ (m : (ℓ : Loc Cert.OdWinIdeal.nD Cert.OdWinIdeal.τ Cert.OdWinIdeal.sig) → Buf (Elt Ideal) ℓ) (g : Dev Cert.OdWinIdeal.nD → PrngReg), Pre_OdWinIdeal m →
    θ_run (Cert.OdWinIdeal.defs (F := Ideal)) (onTc (τ := Cert.OdWinIdeal.τ) (Cert.OdWinIdeal.main (F := Ideal))) ⟨m, fun _ => 0, g⟩ (fun r => (∀ c : Dev Cert.OdWinIdeal.nD,
      r.2.mem ((c.tc : Thread Cert.OdWinIdeal.nD Cert.OdWinIdeal.τ).loc Cert.OdWinIdeal.main_arg0) = m ((c.tc : Thread Cert.OdWinIdeal.nD Cert.OdWinIdeal.τ).loc Cert.OdWinIdeal.main_arg0)
      ∧ r.2.mem ((c.tc : Thread Cert.OdWinIdeal.nD Cert.OdWinIdeal.τ).loc Cert.OdWinIdeal.main_arg1) = m ((c.tc : Thread Cert.OdWinIdeal.nD Cert.OdWinIdeal.τ).loc Cert.OdWinIdeal.main_arg1))
      ∧ r.2.sem = fun _ => 0)

def quiescent_OdWinRefIdeal [hOdWinRefIdeal : Cert.OdWinRefIdeal.Facts] : Prop :=
  ∀ (m : (ℓ : Loc Cert.OdWinRefIdeal.nD Cert.OdWinRefIdeal.τ Cert.OdWinRefIdeal.sig) → Buf (Elt Ideal) ℓ) (g : Dev Cert.OdWinRefIdeal.nD → PrngReg), Pre_OdWinRefIdeal m →
    θ_run (Cert.OdWinRefIdeal.defs (F := Ideal)) (onTc (τ := Cert.OdWinRefIdeal.τ) (Cert.OdWinRefIdeal.main (F := Ideal))) ⟨m, fun _ => 0, g⟩ (fun r => (∀ c : Dev Cert.OdWinRefIdeal.nD,
      r.2.mem ((c.tc : Thread Cert.OdWinRefIdeal.nD Cert.OdWinRefIdeal.τ).loc Cert.OdWinRefIdeal.main_arg0) = m ((c.tc : Thread Cert.OdWinRefIdeal.nD Cert.OdWinRefIdeal.τ).loc Cert.OdWinRefIdeal.main_arg0)
      ∧ r.2.mem ((c.tc : Thread Cert.OdWinRefIdeal.nD Cert.OdWinRefIdeal.τ).loc Cert.OdWinRefIdeal.main_arg1) = m ((c.tc : Thread Cert.OdWinRefIdeal.nD Cert.OdWinRefIdeal.τ).loc Cert.OdWinRefIdeal.main_arg1))
      ∧ r.2.sem = fun _ => 0)

def quiescent_FwUp0 [hFwUp0 : Cert.FwUp0.Facts] : Prop :=
  ∀ (m : (ℓ : Loc Cert.FwUp0.nD Cert.FwUp0.τ Cert.FwUp0.sig) → Buf (Elt Bits) ℓ) (g : Dev Cert.FwUp0.nD → PrngReg), Pre_FwUp0 m →
    θ_run (Cert.FwUp0.defs (F := Bits)) (onTc (τ := Cert.FwUp0.τ) (Cert.FwUp0.main (F := Bits))) ⟨m, fun _ => 0, g⟩ (fun r => (∀ c : Dev Cert.FwUp0.nD,
      r.2.mem ((c.tc : Thread Cert.FwUp0.nD Cert.FwUp0.τ).loc Cert.FwUp0.main_arg0) = m ((c.tc : Thread Cert.FwUp0.nD Cert.FwUp0.τ).loc Cert.FwUp0.main_arg0)
      ∧ r.2.mem ((c.tc : Thread Cert.FwUp0.nD Cert.FwUp0.τ).loc Cert.FwUp0.main_arg1) = m ((c.tc : Thread Cert.FwUp0.nD Cert.FwUp0.τ).loc Cert.FwUp0.main_arg1))
      ∧ r.2.sem = fun _ => 0)

def quiescent_FwUp0Ideal [hFwUp0Ideal : Cert.FwUp0Ideal.Facts] : Prop :=
  ∀ (m : (ℓ : Loc Cert.FwUp0Ideal.nD Cert.FwUp0Ideal.τ Cert.FwUp0Ideal.sig) → Buf (Elt Ideal) ℓ) (g : Dev Cert.FwUp0Ideal.nD → PrngReg), Pre_FwUp0Ideal m →
    θ_run (Cert.FwUp0Ideal.defs (F := Ideal)) (onTc (τ := Cert.FwUp0Ideal.τ) (Cert.FwUp0Ideal.main (F := Ideal))) ⟨m, fun _ => 0, g⟩ (fun r => (∀ c : Dev Cert.FwUp0Ideal.nD,
      r.2.mem ((c.tc : Thread Cert.FwUp0Ideal.nD Cert.FwUp0Ideal.τ).loc Cert.FwUp0Ideal.main_arg0) = m ((c.tc : Thread Cert.FwUp0Ideal.nD Cert.FwUp0Ideal.τ).loc Cert.FwUp0Ideal.main_arg0)
      ∧ r.2.mem ((c.tc : Thread Cert.FwUp0Ideal.nD Cert.FwUp0Ideal.τ).loc Cert.FwUp0Ideal.main_arg1) = m ((c.tc : Thread Cert.FwUp0Ideal.nD Cert.FwUp0Ideal.τ).loc Cert.FwUp0Ideal.main_arg1))
      ∧ r.2.sem = fun _ => 0)

def quiescent_FwUp0RefIdeal [hFwUp0RefIdeal : Cert.FwUp0RefIdeal.Facts] : Prop :=
  ∀ (m : (ℓ : Loc Cert.FwUp0RefIdeal.nD Cert.FwUp0RefIdeal.τ Cert.FwUp0RefIdeal.sig) → Buf (Elt Ideal) ℓ) (g : Dev Cert.FwUp0RefIdeal.nD → PrngReg), Pre_FwUp0RefIdeal m →
    θ_run (Cert.FwUp0RefIdeal.defs (F := Ideal)) (onTc (τ := Cert.FwUp0RefIdeal.τ) (Cert.FwUp0RefIdeal.main (F := Ideal))) ⟨m, fun _ => 0, g⟩ (fun r => (∀ c : Dev Cert.FwUp0RefIdeal.nD,
      r.2.mem ((c.tc : Thread Cert.FwUp0RefIdeal.nD Cert.FwUp0RefIdeal.τ).loc Cert.FwUp0RefIdeal.main_arg0) = m ((c.tc : Thread Cert.FwUp0RefIdeal.nD Cert.FwUp0RefIdeal.τ).loc Cert.FwUp0RefIdeal.main_arg0)
      ∧ r.2.mem ((c.tc : Thread Cert.FwUp0RefIdeal.nD Cert.FwUp0RefIdeal.τ).loc Cert.FwUp0RefIdeal.main_arg1) = m ((c.tc : Thread Cert.FwUp0RefIdeal.nD Cert.FwUp0RefIdeal.τ).loc Cert.FwUp0RefIdeal.main_arg1))
      ∧ r.2.sem = fun _ => 0)

def quiescent_FwUp1 [hFwUp1 : Cert.FwUp1.Facts] : Prop :=
  ∀ (m : (ℓ : Loc Cert.FwUp1.nD Cert.FwUp1.τ Cert.FwUp1.sig) → Buf (Elt Bits) ℓ) (g : Dev Cert.FwUp1.nD → PrngReg), Pre_FwUp1 m →
    θ_run (Cert.FwUp1.defs (F := Bits)) (onTc (τ := Cert.FwUp1.τ) (Cert.FwUp1.main (F := Bits))) ⟨m, fun _ => 0, g⟩ (fun r => (∀ c : Dev Cert.FwUp1.nD,
      r.2.mem ((c.tc : Thread Cert.FwUp1.nD Cert.FwUp1.τ).loc Cert.FwUp1.main_arg0) = m ((c.tc : Thread Cert.FwUp1.nD Cert.FwUp1.τ).loc Cert.FwUp1.main_arg0)
      ∧ r.2.mem ((c.tc : Thread Cert.FwUp1.nD Cert.FwUp1.τ).loc Cert.FwUp1.main_arg1) = m ((c.tc : Thread Cert.FwUp1.nD Cert.FwUp1.τ).loc Cert.FwUp1.main_arg1))
      ∧ r.2.sem = fun _ => 0)

def quiescent_FwUp1Ideal [hFwUp1Ideal : Cert.FwUp1Ideal.Facts] : Prop :=
  ∀ (m : (ℓ : Loc Cert.FwUp1Ideal.nD Cert.FwUp1Ideal.τ Cert.FwUp1Ideal.sig) → Buf (Elt Ideal) ℓ) (g : Dev Cert.FwUp1Ideal.nD → PrngReg), Pre_FwUp1Ideal m →
    θ_run (Cert.FwUp1Ideal.defs (F := Ideal)) (onTc (τ := Cert.FwUp1Ideal.τ) (Cert.FwUp1Ideal.main (F := Ideal))) ⟨m, fun _ => 0, g⟩ (fun r => (∀ c : Dev Cert.FwUp1Ideal.nD,
      r.2.mem ((c.tc : Thread Cert.FwUp1Ideal.nD Cert.FwUp1Ideal.τ).loc Cert.FwUp1Ideal.main_arg0) = m ((c.tc : Thread Cert.FwUp1Ideal.nD Cert.FwUp1Ideal.τ).loc Cert.FwUp1Ideal.main_arg0)
      ∧ r.2.mem ((c.tc : Thread Cert.FwUp1Ideal.nD Cert.FwUp1Ideal.τ).loc Cert.FwUp1Ideal.main_arg1) = m ((c.tc : Thread Cert.FwUp1Ideal.nD Cert.FwUp1Ideal.τ).loc Cert.FwUp1Ideal.main_arg1))
      ∧ r.2.sem = fun _ => 0)

def quiescent_FwUp1RefIdeal [hFwUp1RefIdeal : Cert.FwUp1RefIdeal.Facts] : Prop :=
  ∀ (m : (ℓ : Loc Cert.FwUp1RefIdeal.nD Cert.FwUp1RefIdeal.τ Cert.FwUp1RefIdeal.sig) → Buf (Elt Ideal) ℓ) (g : Dev Cert.FwUp1RefIdeal.nD → PrngReg), Pre_FwUp1RefIdeal m →
    θ_run (Cert.FwUp1RefIdeal.defs (F := Ideal)) (onTc (τ := Cert.FwUp1RefIdeal.τ) (Cert.FwUp1RefIdeal.main (F := Ideal))) ⟨m, fun _ => 0, g⟩ (fun r => (∀ c : Dev Cert.FwUp1RefIdeal.nD,
      r.2.mem ((c.tc : Thread Cert.FwUp1RefIdeal.nD Cert.FwUp1RefIdeal.τ).loc Cert.FwUp1RefIdeal.main_arg0) = m ((c.tc : Thread Cert.FwUp1RefIdeal.nD Cert.FwUp1RefIdeal.τ).loc Cert.FwUp1RefIdeal.main_arg0)
      ∧ r.2.mem ((c.tc : Thread Cert.FwUp1RefIdeal.nD Cert.FwUp1RefIdeal.τ).loc Cert.FwUp1RefIdeal.main_arg1) = m ((c.tc : Thread Cert.FwUp1RefIdeal.nD Cert.FwUp1RefIdeal.τ).loc Cert.FwUp1RefIdeal.main_arg1))
      ∧ r.2.sem = fun _ => 0)

def quiescent_FwUp2 [hFwUp2 : Cert.FwUp2.Facts] : Prop :=
  ∀ (m : (ℓ : Loc Cert.FwUp2.nD Cert.FwUp2.τ Cert.FwUp2.sig) → Buf (Elt Bits) ℓ) (g : Dev Cert.FwUp2.nD → PrngReg), Pre_FwUp2 m →
    θ_run (Cert.FwUp2.defs (F := Bits)) (onTc (τ := Cert.FwUp2.τ) (Cert.FwUp2.main (F := Bits))) ⟨m, fun _ => 0, g⟩ (fun r => (∀ c : Dev Cert.FwUp2.nD,
      r.2.mem ((c.tc : Thread Cert.FwUp2.nD Cert.FwUp2.τ).loc Cert.FwUp2.main_arg0) = m ((c.tc : Thread Cert.FwUp2.nD Cert.FwUp2.τ).loc Cert.FwUp2.main_arg0)
      ∧ r.2.mem ((c.tc : Thread Cert.FwUp2.nD Cert.FwUp2.τ).loc Cert.FwUp2.main_arg1) = m ((c.tc : Thread Cert.FwUp2.nD Cert.FwUp2.τ).loc Cert.FwUp2.main_arg1))
      ∧ r.2.sem = fun _ => 0)

def quiescent_FwUp2Ideal [hFwUp2Ideal : Cert.FwUp2Ideal.Facts] : Prop :=
  ∀ (m : (ℓ : Loc Cert.FwUp2Ideal.nD Cert.FwUp2Ideal.τ Cert.FwUp2Ideal.sig) → Buf (Elt Ideal) ℓ) (g : Dev Cert.FwUp2Ideal.nD → PrngReg), Pre_FwUp2Ideal m →
    θ_run (Cert.FwUp2Ideal.defs (F := Ideal)) (onTc (τ := Cert.FwUp2Ideal.τ) (Cert.FwUp2Ideal.main (F := Ideal))) ⟨m, fun _ => 0, g⟩ (fun r => (∀ c : Dev Cert.FwUp2Ideal.nD,
      r.2.mem ((c.tc : Thread Cert.FwUp2Ideal.nD Cert.FwUp2Ideal.τ).loc Cert.FwUp2Ideal.main_arg0) = m ((c.tc : Thread Cert.FwUp2Ideal.nD Cert.FwUp2Ideal.τ).loc Cert.FwUp2Ideal.main_arg0)
      ∧ r.2.mem ((c.tc : Thread Cert.FwUp2Ideal.nD Cert.FwUp2Ideal.τ).loc Cert.FwUp2Ideal.main_arg1) = m ((c.tc : Thread Cert.FwUp2Ideal.nD Cert.FwUp2Ideal.τ).loc Cert.FwUp2Ideal.main_arg1))
      ∧ r.2.sem = fun _ => 0)

def quiescent_FwUp2RefIdeal [hFwUp2RefIdeal : Cert.FwUp2RefIdeal.Facts] : Prop :=
  ∀ (m : (ℓ : Loc Cert.FwUp2RefIdeal.nD Cert.FwUp2RefIdeal.τ Cert.FwUp2RefIdeal.sig) → Buf (Elt Ideal) ℓ) (g : Dev Cert.FwUp2RefIdeal.nD → PrngReg), Pre_FwUp2RefIdeal m →
    θ_run (Cert.FwUp2RefIdeal.defs (F := Ideal)) (onTc (τ := Cert.FwUp2RefIdeal.τ) (Cert.FwUp2RefIdeal.main (F := Ideal))) ⟨m, fun _ => 0, g⟩ (fun r => (∀ c : Dev Cert.FwUp2RefIdeal.nD,
      r.2.mem ((c.tc : Thread Cert.FwUp2RefIdeal.nD Cert.FwUp2RefIdeal.τ).loc Cert.FwUp2RefIdeal.main_arg0) = m ((c.tc : Thread Cert.FwUp2RefIdeal.nD Cert.FwUp2RefIdeal.τ).loc Cert.FwUp2RefIdeal.main_arg0)
      ∧ r.2.mem ((c.tc : Thread Cert.FwUp2RefIdeal.nD Cert.FwUp2RefIdeal.τ).loc Cert.FwUp2RefIdeal.main_arg1) = m ((c.tc : Thread Cert.FwUp2RefIdeal.nD Cert.FwUp2RefIdeal.τ).loc Cert.FwUp2RefIdeal.main_arg1))
      ∧ r.2.sem = fun _ => 0)

def quiescent_FwUp3 [hFwUp3 : Cert.FwUp3.Facts] : Prop :=
  ∀ (m : (ℓ : Loc Cert.FwUp3.nD Cert.FwUp3.τ Cert.FwUp3.sig) → Buf (Elt Bits) ℓ) (g : Dev Cert.FwUp3.nD → PrngReg), Pre_FwUp3 m →
    θ_run (Cert.FwUp3.defs (F := Bits)) (onTc (τ := Cert.FwUp3.τ) (Cert.FwUp3.main (F := Bits))) ⟨m, fun _ => 0, g⟩ (fun r => (∀ c : Dev Cert.FwUp3.nD,
      r.2.mem ((c.tc : Thread Cert.FwUp3.nD Cert.FwUp3.τ).loc Cert.FwUp3.main_arg0) = m ((c.tc : Thread Cert.FwUp3.nD Cert.FwUp3.τ).loc Cert.FwUp3.main_arg0)
      ∧ r.2.mem ((c.tc : Thread Cert.FwUp3.nD Cert.FwUp3.τ).loc Cert.FwUp3.main_arg1) = m ((c.tc : Thread Cert.FwUp3.nD Cert.FwUp3.τ).loc Cert.FwUp3.main_arg1))
      ∧ r.2.sem = fun _ => 0)

def quiescent_FwUp3Ideal [hFwUp3Ideal : Cert.FwUp3Ideal.Facts] : Prop :=
  ∀ (m : (ℓ : Loc Cert.FwUp3Ideal.nD Cert.FwUp3Ideal.τ Cert.FwUp3Ideal.sig) → Buf (Elt Ideal) ℓ) (g : Dev Cert.FwUp3Ideal.nD → PrngReg), Pre_FwUp3Ideal m →
    θ_run (Cert.FwUp3Ideal.defs (F := Ideal)) (onTc (τ := Cert.FwUp3Ideal.τ) (Cert.FwUp3Ideal.main (F := Ideal))) ⟨m, fun _ => 0, g⟩ (fun r => (∀ c : Dev Cert.FwUp3Ideal.nD,
      r.2.mem ((c.tc : Thread Cert.FwUp3Ideal.nD Cert.FwUp3Ideal.τ).loc Cert.FwUp3Ideal.main_arg0) = m ((c.tc : Thread Cert.FwUp3Ideal.nD Cert.FwUp3Ideal.τ).loc Cert.FwUp3Ideal.main_arg0)
      ∧ r.2.mem ((c.tc : Thread Cert.FwUp3Ideal.nD Cert.FwUp3Ideal.τ).loc Cert.FwUp3Ideal.main_arg1) = m ((c.tc : Thread Cert.FwUp3Ideal.nD Cert.FwUp3Ideal.τ).loc Cert.FwUp3Ideal.main_arg1))
      ∧ r.2.sem = fun _ => 0)

def quiescent_FwUp3RefIdeal [hFwUp3RefIdeal : Cert.FwUp3RefIdeal.Facts] : Prop :=
  ∀ (m : (ℓ : Loc Cert.FwUp3RefIdeal.nD Cert.FwUp3RefIdeal.τ Cert.FwUp3RefIdeal.sig) → Buf (Elt Ideal) ℓ) (g : Dev Cert.FwUp3RefIdeal.nD → PrngReg), Pre_FwUp3RefIdeal m →
    θ_run (Cert.FwUp3RefIdeal.defs (F := Ideal)) (onTc (τ := Cert.FwUp3RefIdeal.τ) (Cert.FwUp3RefIdeal.main (F := Ideal))) ⟨m, fun _ => 0, g⟩ (fun r => (∀ c : Dev Cert.FwUp3RefIdeal.nD,
      r.2.mem ((c.tc : Thread Cert.FwUp3RefIdeal.nD Cert.FwUp3RefIdeal.τ).loc Cert.FwUp3RefIdeal.main_arg0) = m ((c.tc : Thread Cert.FwUp3RefIdeal.nD Cert.FwUp3RefIdeal.τ).loc Cert.FwUp3RefIdeal.main_arg0)
      ∧ r.2.mem ((c.tc : Thread Cert.FwUp3RefIdeal.nD Cert.FwUp3RefIdeal.τ).loc Cert.FwUp3RefIdeal.main_arg1) = m ((c.tc : Thread Cert.FwUp3RefIdeal.nD Cert.FwUp3RefIdeal.τ).loc Cert.FwUp3RefIdeal.main_arg1))
      ∧ r.2.sem = fun _ => 0)

def quiescent_FwDown [hFwDown : Cert.FwDown.Facts] : Prop :=
  ∀ (m : (ℓ : Loc Cert.FwDown.nD Cert.FwDown.τ Cert.FwDown.sig) → Buf (Elt Bits) ℓ) (g : Dev Cert.FwDown.nD → PrngReg), Pre_FwDown m →
    θ_run (Cert.FwDown.defs (F := Bits)) (onTc (τ := Cert.FwDown.τ) (Cert.FwDown.main (F := Bits))) ⟨m, fun _ => 0, g⟩ (fun r => (∀ c : Dev Cert.FwDown.nD,
      r.2.mem ((c.tc : Thread Cert.FwDown.nD Cert.FwDown.τ).loc Cert.FwDown.main_arg0) = m ((c.tc : Thread Cert.FwDown.nD Cert.FwDown.τ).loc Cert.FwDown.main_arg0)
      ∧ r.2.mem ((c.tc : Thread Cert.FwDown.nD Cert.FwDown.τ).loc Cert.FwDown.main_arg1) = m ((c.tc : Thread Cert.FwDown.nD Cert.FwDown.τ).loc Cert.FwDown.main_arg1)
      ∧ r.2.mem ((c.tc : Thread Cert.FwDown.nD Cert.FwDown.τ).loc Cert.FwDown.main_arg2) = m ((c.tc : Thread Cert.FwDown.nD Cert.FwDown.τ).loc Cert.FwDown.main_arg2))
      ∧ r.2.sem = fun _ => 0)

def quiescent_FwDownIdeal [hFwDownIdeal : Cert.FwDownIdeal.Facts] : Prop :=
  ∀ (m : (ℓ : Loc Cert.FwDownIdeal.nD Cert.FwDownIdeal.τ Cert.FwDownIdeal.sig) → Buf (Elt Ideal) ℓ) (g : Dev Cert.FwDownIdeal.nD → PrngReg), Pre_FwDownIdeal m →
    θ_run (Cert.FwDownIdeal.defs (F := Ideal)) (onTc (τ := Cert.FwDownIdeal.τ) (Cert.FwDownIdeal.main (F := Ideal))) ⟨m, fun _ => 0, g⟩ (fun r => (∀ c : Dev Cert.FwDownIdeal.nD,
      r.2.mem ((c.tc : Thread Cert.FwDownIdeal.nD Cert.FwDownIdeal.τ).loc Cert.FwDownIdeal.main_arg0) = m ((c.tc : Thread Cert.FwDownIdeal.nD Cert.FwDownIdeal.τ).loc Cert.FwDownIdeal.main_arg0)
      ∧ r.2.mem ((c.tc : Thread Cert.FwDownIdeal.nD Cert.FwDownIdeal.τ).loc Cert.FwDownIdeal.main_arg1) = m ((c.tc : Thread Cert.FwDownIdeal.nD Cert.FwDownIdeal.τ).loc Cert.FwDownIdeal.main_arg1)
      ∧ r.2.mem ((c.tc : Thread Cert.FwDownIdeal.nD Cert.FwDownIdeal.τ).loc Cert.FwDownIdeal.main_arg2) = m ((c.tc : Thread Cert.FwDownIdeal.nD Cert.FwDownIdeal.τ).loc Cert.FwDownIdeal.main_arg2))
      ∧ r.2.sem = fun _ => 0)

def quiescent_FwDownRefIdeal [hFwDownRefIdeal : Cert.FwDownRefIdeal.Facts] : Prop :=
  ∀ (m : (ℓ : Loc Cert.FwDownRefIdeal.nD Cert.FwDownRefIdeal.τ Cert.FwDownRefIdeal.sig) → Buf (Elt Ideal) ℓ) (g : Dev Cert.FwDownRefIdeal.nD → PrngReg), Pre_FwDownRefIdeal m →
    θ_run (Cert.FwDownRefIdeal.defs (F := Ideal)) (onTc (τ := Cert.FwDownRefIdeal.τ) (Cert.FwDownRefIdeal.main (F := Ideal))) ⟨m, fun _ => 0, g⟩ (fun r => (∀ c : Dev Cert.FwDownRefIdeal.nD,
      r.2.mem ((c.tc : Thread Cert.FwDownRefIdeal.nD Cert.FwDownRefIdeal.τ).loc Cert.FwDownRefIdeal.main_arg0) = m ((c.tc : Thread Cert.FwDownRefIdeal.nD Cert.FwDownRefIdeal.τ).loc Cert.FwDownRefIdeal.main_arg0)
      ∧ r.2.mem ((c.tc : Thread Cert.FwDownRefIdeal.nD Cert.FwDownRefIdeal.τ).loc Cert.FwDownRefIdeal.main_arg1) = m ((c.tc : Thread Cert.FwDownRefIdeal.nD Cert.FwDownRefIdeal.τ).loc Cert.FwDownRefIdeal.main_arg1)
      ∧ r.2.mem ((c.tc : Thread Cert.FwDownRefIdeal.nD Cert.FwDownRefIdeal.τ).loc Cert.FwDownRefIdeal.main_arg2) = m ((c.tc : Thread Cert.FwDownRefIdeal.nD Cert.FwDownRefIdeal.τ).loc Cert.FwDownRefIdeal.main_arg2))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvInDt [hEvInDt : Cert.EvInDt.Facts] : Prop :=
  ∀ (m : (ℓ : Loc Cert.EvInDt.nD Cert.EvInDt.τ Cert.EvInDt.sig) → Buf (Elt Bits) ℓ) (g : Dev Cert.EvInDt.nD → PrngReg), Pre_EvInDt m →
    θ_run (Cert.EvInDt.defs (F := Bits)) (onTc (τ := Cert.EvInDt.τ) (Cert.EvInDt.main (F := Bits))) ⟨m, fun _ => 0, g⟩ (fun r => (∀ c : Dev Cert.EvInDt.nD,
      r.2.mem ((c.tc : Thread Cert.EvInDt.nD Cert.EvInDt.τ).loc Cert.EvInDt.main_arg0) = m ((c.tc : Thread Cert.EvInDt.nD Cert.EvInDt.τ).loc Cert.EvInDt.main_arg0)
      ∧ r.2.mem ((c.tc : Thread Cert.EvInDt.nD Cert.EvInDt.τ).loc Cert.EvInDt.main_arg1) = m ((c.tc : Thread Cert.EvInDt.nD Cert.EvInDt.τ).loc Cert.EvInDt.main_arg1))
      ∧ r.2.sem = fun _ => 0)

def quiescent_EvInDtIdeal [hEvInDtIdeal : Cert.EvInDtIdeal.Facts] : Prop :=
  ∀ (m : (ℓ : Loc Cert.EvInDtIdeal.nD Cert.EvInDtIdeal.τ Cert.EvInDtIdeal.sig) → Buf (Elt Ideal) ℓ) (g : Dev Cert.EvInDtIdeal.nD → PrngReg), Pre_EvInDtIdeal m →
    θ_run (Cert.EvInDtIdeal.defs (F := Ideal)) (onTc (τ := Cert.EvInDtIdeal.τ) (Cert.EvInDtIdeal.main (F := Ideal))) ⟨m, fun _ => 0, g⟩ (fun r => (∀ c : Dev Cert.EvInDtIdeal.nD,
      r.2.mem ((c.tc : Thread Cert.EvInDtIdeal.nD Cert.EvInDtIdeal.τ).loc Cert.EvInDtIdeal.main_arg0) = m ((c.tc : Thread Cert.EvInDtIdeal.nD Cert.EvInDtIdeal.τ).loc Cert.EvInDtIdeal.main_arg0)
      ∧ r.2.mem ((c.tc : Thread Cert.EvInDtIdeal.nD Cert.EvInDtIdeal.τ).loc Cert.EvInDtIdeal.main_arg1) = m ((c.tc : Thread Cert.EvInDtIdeal.nD Cert.EvInDtIdeal.τ).loc Cert.EvInDtIdeal.main_arg1))
      ∧ r.2.sem = fun _ => 0)

def quiescent_EvInDtRefIdeal [hEvInDtRefIdeal : Cert.EvInDtRefIdeal.Facts] : Prop :=
  ∀ (m : (ℓ : Loc Cert.EvInDtRefIdeal.nD Cert.EvInDtRefIdeal.τ Cert.EvInDtRefIdeal.sig) → Buf (Elt Ideal) ℓ) (g : Dev Cert.EvInDtRefIdeal.nD → PrngReg), Pre_EvInDtRefIdeal m →
    θ_run (Cert.EvInDtRefIdeal.defs (F := Ideal)) (onTc (τ := Cert.EvInDtRefIdeal.τ) (Cert.EvInDtRefIdeal.main (F := Ideal))) ⟨m, fun _ => 0, g⟩ (fun r => (∀ c : Dev Cert.EvInDtRefIdeal.nD,
      r.2.mem ((c.tc : Thread Cert.EvInDtRefIdeal.nD Cert.EvInDtRefIdeal.τ).loc Cert.EvInDtRefIdeal.main_arg0) = m ((c.tc : Thread Cert.EvInDtRefIdeal.nD Cert.EvInDtRefIdeal.τ).loc Cert.EvInDtRefIdeal.main_arg0)
      ∧ r.2.mem ((c.tc : Thread Cert.EvInDtRefIdeal.nD Cert.EvInDtRefIdeal.τ).loc Cert.EvInDtRefIdeal.main_arg1) = m ((c.tc : Thread Cert.EvInDtRefIdeal.nD Cert.EvInDtRefIdeal.τ).loc Cert.EvInDtRefIdeal.main_arg1))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_OdUq [hOdUq : Cert.OdUq.Facts] : Prop :=
  ∀ (m : (ℓ : Loc Cert.OdUq.nD Cert.OdUq.τ Cert.OdUq.sig) → Buf (Elt Bits) ℓ) (g : Dev Cert.OdUq.nD → PrngReg), Pre_OdUq m →
    θ_run (Cert.OdUq.defs (F := Bits)) (onTc (τ := Cert.OdUq.τ) (Cert.OdUq.main (F := Bits))) ⟨m, fun _ => 0, g⟩ (fun r => (∀ c : Dev Cert.OdUq.nD,
      r.2.mem ((c.tc : Thread Cert.OdUq.nD Cert.OdUq.τ).loc Cert.OdUq.main_arg0) = m ((c.tc : Thread Cert.OdUq.nD Cert.OdUq.τ).loc Cert.OdUq.main_arg0)
      ∧ r.2.mem ((c.tc : Thread Cert.OdUq.nD Cert.OdUq.τ).loc Cert.OdUq.main_arg1) = m ((c.tc : Thread Cert.OdUq.nD Cert.OdUq.τ).loc Cert.OdUq.main_arg1))
      ∧ r.2.sem = fun _ => 0)

def quiescent_OdUqIdeal [hOdUqIdeal : Cert.OdUqIdeal.Facts] : Prop :=
  ∀ (m : (ℓ : Loc Cert.OdUqIdeal.nD Cert.OdUqIdeal.τ Cert.OdUqIdeal.sig) → Buf (Elt Ideal) ℓ) (g : Dev Cert.OdUqIdeal.nD → PrngReg), Pre_OdUqIdeal m →
    θ_run (Cert.OdUqIdeal.defs (F := Ideal)) (onTc (τ := Cert.OdUqIdeal.τ) (Cert.OdUqIdeal.main (F := Ideal))) ⟨m, fun _ => 0, g⟩ (fun r => (∀ c : Dev Cert.OdUqIdeal.nD,
      r.2.mem ((c.tc : Thread Cert.OdUqIdeal.nD Cert.OdUqIdeal.τ).loc Cert.OdUqIdeal.main_arg0) = m ((c.tc : Thread Cert.OdUqIdeal.nD Cert.OdUqIdeal.τ).loc Cert.OdUqIdeal.main_arg0)
      ∧ r.2.mem ((c.tc : Thread Cert.OdUqIdeal.nD Cert.OdUqIdeal.τ).loc Cert.OdUqIdeal.main_arg1) = m ((c.tc : Thread Cert.OdUqIdeal.nD Cert.OdUqIdeal.τ).loc Cert.OdUqIdeal.main_arg1))
      ∧ r.2.sem = fun _ => 0)

def quiescent_OdUqRefIdeal [hOdUqRefIdeal : Cert.OdUqRefIdeal.Facts] : Prop :=
  ∀ (m : (ℓ : Loc Cert.OdUqRefIdeal.nD Cert.OdUqRefIdeal.τ Cert.OdUqRefIdeal.sig) → Buf (Elt Ideal) ℓ) (g : Dev Cert.OdUqRefIdeal.nD → PrngReg), Pre_OdUqRefIdeal m →
    θ_run (Cert.OdUqRefIdeal.defs (F := Ideal)) (onTc (τ := Cert.OdUqRefIdeal.τ) (Cert.OdUqRefIdeal.main (F := Ideal))) ⟨m, fun _ => 0, g⟩ (fun r => (∀ c : Dev Cert.OdUqRefIdeal.nD,
      r.2.mem ((c.tc : Thread Cert.OdUqRefIdeal.nD Cert.OdUqRefIdeal.τ).loc Cert.OdUqRefIdeal.main_arg0) = m ((c.tc : Thread Cert.OdUqRefIdeal.nD Cert.OdUqRefIdeal.τ).loc Cert.OdUqRefIdeal.main_arg0)
      ∧ r.2.mem ((c.tc : Thread Cert.OdUqRefIdeal.nD Cert.OdUqRefIdeal.τ).loc Cert.OdUqRefIdeal.main_arg1) = m ((c.tc : Thread Cert.OdUqRefIdeal.nD Cert.OdUqRefIdeal.τ).loc Cert.OdUqRefIdeal.main_arg1))
      ∧ r.2.sem = fun _ => 0)

def quiescent_OdUkv [hOdUkv : Cert.OdUkv.Facts] : Prop :=
  ∀ (m : (ℓ : Loc Cert.OdUkv.nD Cert.OdUkv.τ Cert.OdUkv.sig) → Buf (Elt Bits) ℓ) (g : Dev Cert.OdUkv.nD → PrngReg), Pre_OdUkv m →
    θ_run (Cert.OdUkv.defs (F := Bits)) (onTc (τ := Cert.OdUkv.τ) (Cert.OdUkv.main (F := Bits))) ⟨m, fun _ => 0, g⟩ (fun r => (∀ c : Dev Cert.OdUkv.nD,
      r.2.mem ((c.tc : Thread Cert.OdUkv.nD Cert.OdUkv.τ).loc Cert.OdUkv.main_arg0) = m ((c.tc : Thread Cert.OdUkv.nD Cert.OdUkv.τ).loc Cert.OdUkv.main_arg0)
      ∧ r.2.mem ((c.tc : Thread Cert.OdUkv.nD Cert.OdUkv.τ).loc Cert.OdUkv.main_arg1) = m ((c.tc : Thread Cert.OdUkv.nD Cert.OdUkv.τ).loc Cert.OdUkv.main_arg1))
      ∧ r.2.sem = fun _ => 0)

def quiescent_OdUkvIdeal [hOdUkvIdeal : Cert.OdUkvIdeal.Facts] : Prop :=
  ∀ (m : (ℓ : Loc Cert.OdUkvIdeal.nD Cert.OdUkvIdeal.τ Cert.OdUkvIdeal.sig) → Buf (Elt Ideal) ℓ) (g : Dev Cert.OdUkvIdeal.nD → PrngReg), Pre_OdUkvIdeal m →
    θ_run (Cert.OdUkvIdeal.defs (F := Ideal)) (onTc (τ := Cert.OdUkvIdeal.τ) (Cert.OdUkvIdeal.main (F := Ideal))) ⟨m, fun _ => 0, g⟩ (fun r => (∀ c : Dev Cert.OdUkvIdeal.nD,
      r.2.mem ((c.tc : Thread Cert.OdUkvIdeal.nD Cert.OdUkvIdeal.τ).loc Cert.OdUkvIdeal.main_arg0) = m ((c.tc : Thread Cert.OdUkvIdeal.nD Cert.OdUkvIdeal.τ).loc Cert.OdUkvIdeal.main_arg0)
      ∧ r.2.mem ((c.tc : Thread Cert.OdUkvIdeal.nD Cert.OdUkvIdeal.τ).loc Cert.OdUkvIdeal.main_arg1) = m ((c.tc : Thread Cert.OdUkvIdeal.nD Cert.OdUkvIdeal.τ).loc Cert.OdUkvIdeal.main_arg1))
      ∧ r.2.sem = fun _ => 0)

def quiescent_OdUkvRefIdeal [hOdUkvRefIdeal : Cert.OdUkvRefIdeal.Facts] : Prop :=
  ∀ (m : (ℓ : Loc Cert.OdUkvRefIdeal.nD Cert.OdUkvRefIdeal.τ Cert.OdUkvRefIdeal.sig) → Buf (Elt Ideal) ℓ) (g : Dev Cert.OdUkvRefIdeal.nD → PrngReg), Pre_OdUkvRefIdeal m →
    θ_run (Cert.OdUkvRefIdeal.defs (F := Ideal)) (onTc (τ := Cert.OdUkvRefIdeal.τ) (Cert.OdUkvRefIdeal.main (F := Ideal))) ⟨m, fun _ => 0, g⟩ (fun r => (∀ c : Dev Cert.OdUkvRefIdeal.nD,
      r.2.mem ((c.tc : Thread Cert.OdUkvRefIdeal.nD Cert.OdUkvRefIdeal.τ).loc Cert.OdUkvRefIdeal.main_arg0) = m ((c.tc : Thread Cert.OdUkvRefIdeal.nD Cert.OdUkvRefIdeal.τ).loc Cert.OdUkvRefIdeal.main_arg0)
      ∧ r.2.mem ((c.tc : Thread Cert.OdUkvRefIdeal.nD Cert.OdUkvRefIdeal.τ).loc Cert.OdUkvRefIdeal.main_arg1) = m ((c.tc : Thread Cert.OdUkvRefIdeal.nD Cert.OdUkvRefIdeal.τ).loc Cert.OdUkvRefIdeal.main_arg1))
      ∧ r.2.sem = fun _ => 0)

def quiescent_OdO [hOdO : Cert.OdO.Facts] : Prop :=
  ∀ (m : (ℓ : Loc Cert.OdO.nD Cert.OdO.τ Cert.OdO.sig) → Buf (Elt Bits) ℓ) (g : Dev Cert.OdO.nD → PrngReg), Pre_OdO m →
    θ_run (Cert.OdO.defs (F := Bits)) (onTc (τ := Cert.OdO.τ) (Cert.OdO.main (F := Bits))) ⟨m, fun _ => 0, g⟩ (fun r => (∀ c : Dev Cert.OdO.nD,
      r.2.mem ((c.tc : Thread Cert.OdO.nD Cert.OdO.τ).loc Cert.OdO.main_arg0) = m ((c.tc : Thread Cert.OdO.nD Cert.OdO.τ).loc Cert.OdO.main_arg0)
      ∧ r.2.mem ((c.tc : Thread Cert.OdO.nD Cert.OdO.τ).loc Cert.OdO.main_arg1) = m ((c.tc : Thread Cert.OdO.nD Cert.OdO.τ).loc Cert.OdO.main_arg1)
      ∧ r.2.mem ((c.tc : Thread Cert.OdO.nD Cert.OdO.τ).loc Cert.OdO.main_arg2) = m ((c.tc : Thread Cert.OdO.nD Cert.OdO.τ).loc Cert.OdO.main_arg2))
      ∧ r.2.sem = fun _ => 0)

def quiescent_OdOIdeal [hOdOIdeal : Cert.OdOIdeal.Facts] : Prop :=
  ∀ (m : (ℓ : Loc Cert.OdOIdeal.nD Cert.OdOIdeal.τ Cert.OdOIdeal.sig) → Buf (Elt Ideal) ℓ) (g : Dev Cert.OdOIdeal.nD → PrngReg), Pre_OdOIdeal m →
    θ_run (Cert.OdOIdeal.defs (F := Ideal)) (onTc (τ := Cert.OdOIdeal.τ) (Cert.OdOIdeal.main (F := Ideal))) ⟨m, fun _ => 0, g⟩ (fun r => (∀ c : Dev Cert.OdOIdeal.nD,
      r.2.mem ((c.tc : Thread Cert.OdOIdeal.nD Cert.OdOIdeal.τ).loc Cert.OdOIdeal.main_arg0) = m ((c.tc : Thread Cert.OdOIdeal.nD Cert.OdOIdeal.τ).loc Cert.OdOIdeal.main_arg0)
      ∧ r.2.mem ((c.tc : Thread Cert.OdOIdeal.nD Cert.OdOIdeal.τ).loc Cert.OdOIdeal.main_arg1) = m ((c.tc : Thread Cert.OdOIdeal.nD Cert.OdOIdeal.τ).loc Cert.OdOIdeal.main_arg1)
      ∧ r.2.mem ((c.tc : Thread Cert.OdOIdeal.nD Cert.OdOIdeal.τ).loc Cert.OdOIdeal.main_arg2) = m ((c.tc : Thread Cert.OdOIdeal.nD Cert.OdOIdeal.τ).loc Cert.OdOIdeal.main_arg2))
      ∧ r.2.sem = fun _ => 0)

def quiescent_OdORefIdeal [hOdORefIdeal : Cert.OdORefIdeal.Facts] : Prop :=
  ∀ (m : (ℓ : Loc Cert.OdORefIdeal.nD Cert.OdORefIdeal.τ Cert.OdORefIdeal.sig) → Buf (Elt Ideal) ℓ) (g : Dev Cert.OdORefIdeal.nD → PrngReg), Pre_OdORefIdeal m →
    θ_run (Cert.OdORefIdeal.defs (F := Ideal)) (onTc (τ := Cert.OdORefIdeal.τ) (Cert.OdORefIdeal.main (F := Ideal))) ⟨m, fun _ => 0, g⟩ (fun r => (∀ c : Dev Cert.OdORefIdeal.nD,
      r.2.mem ((c.tc : Thread Cert.OdORefIdeal.nD Cert.OdORefIdeal.τ).loc Cert.OdORefIdeal.main_arg0) = m ((c.tc : Thread Cert.OdORefIdeal.nD Cert.OdORefIdeal.τ).loc Cert.OdORefIdeal.main_arg0)
      ∧ r.2.mem ((c.tc : Thread Cert.OdORefIdeal.nD Cert.OdORefIdeal.τ).loc Cert.OdORefIdeal.main_arg1) = m ((c.tc : Thread Cert.OdORefIdeal.nD Cert.OdORefIdeal.τ).loc Cert.OdORefIdeal.main_arg1)
      ∧ r.2.mem ((c.tc : Thread Cert.OdORefIdeal.nD Cert.OdORefIdeal.τ).loc Cert.OdORefIdeal.main_arg2) = m ((c.tc : Thread Cert.OdORefIdeal.nD Cert.OdORefIdeal.τ).loc Cert.OdORefIdeal.main_arg2))
      ∧ r.2.sem = fun _ => 0)

def quiescent_FfDowns [hFfDowns : Cert.FfDowns.Facts] : Prop :=
  ∀ (m : (ℓ : Loc Cert.FfDowns.nD Cert.FfDowns.τ Cert.FfDowns.sig) → Buf (Elt Bits) ℓ) (g : Dev Cert.FfDowns.nD → PrngReg), Pre_FfDowns m →
    θ_run (Cert.FfDowns.defs (F := Bits)) (onTc (τ := Cert.FfDowns.τ) (Cert.FfDowns.main (F := Bits))) ⟨m, fun _ => 0, g⟩ (fun r => (∀ c : Dev Cert.FfDowns.nD,
      r.2.mem ((c.tc : Thread Cert.FfDowns.nD Cert.FfDowns.τ).loc Cert.FfDowns.main_arg0) = m ((c.tc : Thread Cert.FfDowns.nD Cert.FfDowns.τ).loc Cert.FfDowns.main_arg0)
      ∧ r.2.mem ((c.tc : Thread Cert.FfDowns.nD Cert.FfDowns.τ).loc Cert.FfDowns.main_arg1) = m ((c.tc : Thread Cert.FfDowns.nD Cert.FfDowns.τ).loc Cert.FfDowns.main_arg1)
      ∧ r.2.mem ((c.tc : Thread Cert.FfDowns.nD Cert.FfDowns.τ).loc Cert.FfDowns.main_arg2) = m ((c.tc : Thread Cert.FfDowns.nD Cert.FfDowns.τ).loc Cert.FfDowns.main_arg2)
      ∧ r.2.mem ((c.tc : Thread Cert.FfDowns.nD Cert.FfDowns.τ).loc Cert.FfDowns.main_arg3) = m ((c.tc : Thread Cert.FfDowns.nD Cert.FfDowns.τ).loc Cert.FfDowns.main_arg3)
      ∧ r.2.mem ((c.tc : Thread Cert.FfDowns.nD Cert.FfDowns.τ).loc Cert.FfDowns.main_arg4) = m ((c.tc : Thread Cert.FfDowns.nD Cert.FfDowns.τ).loc Cert.FfDowns.main_arg4)
      ∧ r.2.mem ((c.tc : Thread Cert.FfDowns.nD Cert.FfDowns.τ).loc Cert.FfDowns.main_arg5) = m ((c.tc : Thread Cert.FfDowns.nD Cert.FfDowns.τ).loc Cert.FfDowns.main_arg5)
      ∧ r.2.mem ((c.tc : Thread Cert.FfDowns.nD Cert.FfDowns.τ).loc Cert.FfDowns.main_arg6) = m ((c.tc : Thread Cert.FfDowns.nD Cert.FfDowns.τ).loc Cert.FfDowns.main_arg6)
      ∧ r.2.mem ((c.tc : Thread Cert.FfDowns.nD Cert.FfDowns.τ).loc Cert.FfDowns.main_arg7) = m ((c.tc : Thread Cert.FfDowns.nD Cert.FfDowns.τ).loc Cert.FfDowns.main_arg7))
      ∧ r.2.sem = fun _ => 0)

def quiescent_FfDownsIdeal [hFfDownsIdeal : Cert.FfDownsIdeal.Facts] : Prop :=
  ∀ (m : (ℓ : Loc Cert.FfDownsIdeal.nD Cert.FfDownsIdeal.τ Cert.FfDownsIdeal.sig) → Buf (Elt Ideal) ℓ) (g : Dev Cert.FfDownsIdeal.nD → PrngReg), Pre_FfDownsIdeal m →
    θ_run (Cert.FfDownsIdeal.defs (F := Ideal)) (onTc (τ := Cert.FfDownsIdeal.τ) (Cert.FfDownsIdeal.main (F := Ideal))) ⟨m, fun _ => 0, g⟩ (fun r => (∀ c : Dev Cert.FfDownsIdeal.nD,
      r.2.mem ((c.tc : Thread Cert.FfDownsIdeal.nD Cert.FfDownsIdeal.τ).loc Cert.FfDownsIdeal.main_arg0) = m ((c.tc : Thread Cert.FfDownsIdeal.nD Cert.FfDownsIdeal.τ).loc Cert.FfDownsIdeal.main_arg0)
      ∧ r.2.mem ((c.tc : Thread Cert.FfDownsIdeal.nD Cert.FfDownsIdeal.τ).loc Cert.FfDownsIdeal.main_arg1) = m ((c.tc : Thread Cert.FfDownsIdeal.nD Cert.FfDownsIdeal.τ).loc Cert.FfDownsIdeal.main_arg1)
      ∧ r.2.mem ((c.tc : Thread Cert.FfDownsIdeal.nD Cert.FfDownsIdeal.τ).loc Cert.FfDownsIdeal.main_arg2) = m ((c.tc : Thread Cert.FfDownsIdeal.nD Cert.FfDownsIdeal.τ).loc Cert.FfDownsIdeal.main_arg2)
      ∧ r.2.mem ((c.tc : Thread Cert.FfDownsIdeal.nD Cert.FfDownsIdeal.τ).loc Cert.FfDownsIdeal.main_arg3) = m ((c.tc : Thread Cert.FfDownsIdeal.nD Cert.FfDownsIdeal.τ).loc Cert.FfDownsIdeal.main_arg3)
      ∧ r.2.mem ((c.tc : Thread Cert.FfDownsIdeal.nD Cert.FfDownsIdeal.τ).loc Cert.FfDownsIdeal.main_arg4) = m ((c.tc : Thread Cert.FfDownsIdeal.nD Cert.FfDownsIdeal.τ).loc Cert.FfDownsIdeal.main_arg4)
      ∧ r.2.mem ((c.tc : Thread Cert.FfDownsIdeal.nD Cert.FfDownsIdeal.τ).loc Cert.FfDownsIdeal.main_arg5) = m ((c.tc : Thread Cert.FfDownsIdeal.nD Cert.FfDownsIdeal.τ).loc Cert.FfDownsIdeal.main_arg5)
      ∧ r.2.mem ((c.tc : Thread Cert.FfDownsIdeal.nD Cert.FfDownsIdeal.τ).loc Cert.FfDownsIdeal.main_arg6) = m ((c.tc : Thread Cert.FfDownsIdeal.nD Cert.FfDownsIdeal.τ).loc Cert.FfDownsIdeal.main_arg6)
      ∧ r.2.mem ((c.tc : Thread Cert.FfDownsIdeal.nD Cert.FfDownsIdeal.τ).loc Cert.FfDownsIdeal.main_arg7) = m ((c.tc : Thread Cert.FfDownsIdeal.nD Cert.FfDownsIdeal.τ).loc Cert.FfDownsIdeal.main_arg7))
      ∧ r.2.sem = fun _ => 0)

def quiescent_FfDownsRefIdeal [hFfDownsRefIdeal : Cert.FfDownsRefIdeal.Facts] : Prop :=
  ∀ (m : (ℓ : Loc Cert.FfDownsRefIdeal.nD Cert.FfDownsRefIdeal.τ Cert.FfDownsRefIdeal.sig) → Buf (Elt Ideal) ℓ) (g : Dev Cert.FfDownsRefIdeal.nD → PrngReg), Pre_FfDownsRefIdeal m →
    θ_run (Cert.FfDownsRefIdeal.defs (F := Ideal)) (onTc (τ := Cert.FfDownsRefIdeal.τ) (Cert.FfDownsRefIdeal.main (F := Ideal))) ⟨m, fun _ => 0, g⟩ (fun r => (∀ c : Dev Cert.FfDownsRefIdeal.nD,
      r.2.mem ((c.tc : Thread Cert.FfDownsRefIdeal.nD Cert.FfDownsRefIdeal.τ).loc Cert.FfDownsRefIdeal.main_arg0) = m ((c.tc : Thread Cert.FfDownsRefIdeal.nD Cert.FfDownsRefIdeal.τ).loc Cert.FfDownsRefIdeal.main_arg0)
      ∧ r.2.mem ((c.tc : Thread Cert.FfDownsRefIdeal.nD Cert.FfDownsRefIdeal.τ).loc Cert.FfDownsRefIdeal.main_arg1) = m ((c.tc : Thread Cert.FfDownsRefIdeal.nD Cert.FfDownsRefIdeal.τ).loc Cert.FfDownsRefIdeal.main_arg1)
      ∧ r.2.mem ((c.tc : Thread Cert.FfDownsRefIdeal.nD Cert.FfDownsRefIdeal.τ).loc Cert.FfDownsRefIdeal.main_arg2) = m ((c.tc : Thread Cert.FfDownsRefIdeal.nD Cert.FfDownsRefIdeal.τ).loc Cert.FfDownsRefIdeal.main_arg2)
      ∧ r.2.mem ((c.tc : Thread Cert.FfDownsRefIdeal.nD Cert.FfDownsRefIdeal.τ).loc Cert.FfDownsRefIdeal.main_arg3) = m ((c.tc : Thread Cert.FfDownsRefIdeal.nD Cert.FfDownsRefIdeal.τ).loc Cert.FfDownsRefIdeal.main_arg3)
      ∧ r.2.mem ((c.tc : Thread Cert.FfDownsRefIdeal.nD Cert.FfDownsRefIdeal.τ).loc Cert.FfDownsRefIdeal.main_arg4) = m ((c.tc : Thread Cert.FfDownsRefIdeal.nD Cert.FfDownsRefIdeal.τ).loc Cert.FfDownsRefIdeal.main_arg4)
      ∧ r.2.mem ((c.tc : Thread Cert.FfDownsRefIdeal.nD Cert.FfDownsRefIdeal.τ).loc Cert.FfDownsRefIdeal.main_arg5) = m ((c.tc : Thread Cert.FfDownsRefIdeal.nD Cert.FfDownsRefIdeal.τ).loc Cert.FfDownsRefIdeal.main_arg5)
      ∧ r.2.mem ((c.tc : Thread Cert.FfDownsRefIdeal.nD Cert.FfDownsRefIdeal.τ).loc Cert.FfDownsRefIdeal.main_arg6) = m ((c.tc : Thread Cert.FfDownsRefIdeal.nD Cert.FfDownsRefIdeal.τ).loc Cert.FfDownsRefIdeal.main_arg6)
      ∧ r.2.mem ((c.tc : Thread Cert.FfDownsRefIdeal.nD Cert.FfDownsRefIdeal.τ).loc Cert.FfDownsRefIdeal.main_arg7) = m ((c.tc : Thread Cert.FfDownsRefIdeal.nD Cert.FfDownsRefIdeal.τ).loc Cert.FfDownsRefIdeal.main_arg7))
      ∧ r.2.sem = fun _ => 0)

def quiescent_FfUps [hFfUps : Cert.FfUps.Facts] : Prop :=
  ∀ (m : (ℓ : Loc Cert.FfUps.nD Cert.FfUps.τ Cert.FfUps.sig) → Buf (Elt Bits) ℓ) (g : Dev Cert.FfUps.nD → PrngReg), Pre_FfUps m →
    θ_run (Cert.FfUps.defs (F := Bits)) (onTc (τ := Cert.FfUps.τ) (Cert.FfUps.main (F := Bits))) ⟨m, fun _ => 0, g⟩ (fun r => (∀ c : Dev Cert.FfUps.nD,
      r.2.mem ((c.tc : Thread Cert.FfUps.nD Cert.FfUps.τ).loc Cert.FfUps.main_arg0) = m ((c.tc : Thread Cert.FfUps.nD Cert.FfUps.τ).loc Cert.FfUps.main_arg0)
      ∧ r.2.mem ((c.tc : Thread Cert.FfUps.nD Cert.FfUps.τ).loc Cert.FfUps.main_arg1) = m ((c.tc : Thread Cert.FfUps.nD Cert.FfUps.τ).loc Cert.FfUps.main_arg1)
      ∧ r.2.mem ((c.tc : Thread Cert.FfUps.nD Cert.FfUps.τ).loc Cert.FfUps.main_arg2) = m ((c.tc : Thread Cert.FfUps.nD Cert.FfUps.τ).loc Cert.FfUps.main_arg2)
      ∧ r.2.mem ((c.tc : Thread Cert.FfUps.nD Cert.FfUps.τ).loc Cert.FfUps.main_arg3) = m ((c.tc : Thread Cert.FfUps.nD Cert.FfUps.τ).loc Cert.FfUps.main_arg3)
      ∧ r.2.mem ((c.tc : Thread Cert.FfUps.nD Cert.FfUps.τ).loc Cert.FfUps.main_arg4) = m ((c.tc : Thread Cert.FfUps.nD Cert.FfUps.τ).loc Cert.FfUps.main_arg4)
      ∧ r.2.mem ((c.tc : Thread Cert.FfUps.nD Cert.FfUps.τ).loc Cert.FfUps.main_arg5) = m ((c.tc : Thread Cert.FfUps.nD Cert.FfUps.τ).loc Cert.FfUps.main_arg5)
      ∧ r.2.mem ((c.tc : Thread Cert.FfUps.nD Cert.FfUps.τ).loc Cert.FfUps.main_arg6) = m ((c.tc : Thread Cert.FfUps.nD Cert.FfUps.τ).loc Cert.FfUps.main_arg6)
      ∧ r.2.mem ((c.tc : Thread Cert.FfUps.nD Cert.FfUps.τ).loc Cert.FfUps.main_arg7) = m ((c.tc : Thread Cert.FfUps.nD Cert.FfUps.τ).loc Cert.FfUps.main_arg7))
      ∧ r.2.sem = fun _ => 0)

def quiescent_FfUpsIdeal [hFfUpsIdeal : Cert.FfUpsIdeal.Facts] : Prop :=
  ∀ (m : (ℓ : Loc Cert.FfUpsIdeal.nD Cert.FfUpsIdeal.τ Cert.FfUpsIdeal.sig) → Buf (Elt Ideal) ℓ) (g : Dev Cert.FfUpsIdeal.nD → PrngReg), Pre_FfUpsIdeal m →
    θ_run (Cert.FfUpsIdeal.defs (F := Ideal)) (onTc (τ := Cert.FfUpsIdeal.τ) (Cert.FfUpsIdeal.main (F := Ideal))) ⟨m, fun _ => 0, g⟩ (fun r => (∀ c : Dev Cert.FfUpsIdeal.nD,
      r.2.mem ((c.tc : Thread Cert.FfUpsIdeal.nD Cert.FfUpsIdeal.τ).loc Cert.FfUpsIdeal.main_arg0) = m ((c.tc : Thread Cert.FfUpsIdeal.nD Cert.FfUpsIdeal.τ).loc Cert.FfUpsIdeal.main_arg0)
      ∧ r.2.mem ((c.tc : Thread Cert.FfUpsIdeal.nD Cert.FfUpsIdeal.τ).loc Cert.FfUpsIdeal.main_arg1) = m ((c.tc : Thread Cert.FfUpsIdeal.nD Cert.FfUpsIdeal.τ).loc Cert.FfUpsIdeal.main_arg1)
      ∧ r.2.mem ((c.tc : Thread Cert.FfUpsIdeal.nD Cert.FfUpsIdeal.τ).loc Cert.FfUpsIdeal.main_arg2) = m ((c.tc : Thread Cert.FfUpsIdeal.nD Cert.FfUpsIdeal.τ).loc Cert.FfUpsIdeal.main_arg2)
      ∧ r.2.mem ((c.tc : Thread Cert.FfUpsIdeal.nD Cert.FfUpsIdeal.τ).loc Cert.FfUpsIdeal.main_arg3) = m ((c.tc : Thread Cert.FfUpsIdeal.nD Cert.FfUpsIdeal.τ).loc Cert.FfUpsIdeal.main_arg3)
      ∧ r.2.mem ((c.tc : Thread Cert.FfUpsIdeal.nD Cert.FfUpsIdeal.τ).loc Cert.FfUpsIdeal.main_arg4) = m ((c.tc : Thread Cert.FfUpsIdeal.nD Cert.FfUpsIdeal.τ).loc Cert.FfUpsIdeal.main_arg4)
      ∧ r.2.mem ((c.tc : Thread Cert.FfUpsIdeal.nD Cert.FfUpsIdeal.τ).loc Cert.FfUpsIdeal.main_arg5) = m ((c.tc : Thread Cert.FfUpsIdeal.nD Cert.FfUpsIdeal.τ).loc Cert.FfUpsIdeal.main_arg5)
      ∧ r.2.mem ((c.tc : Thread Cert.FfUpsIdeal.nD Cert.FfUpsIdeal.τ).loc Cert.FfUpsIdeal.main_arg6) = m ((c.tc : Thread Cert.FfUpsIdeal.nD Cert.FfUpsIdeal.τ).loc Cert.FfUpsIdeal.main_arg6)
      ∧ r.2.mem ((c.tc : Thread Cert.FfUpsIdeal.nD Cert.FfUpsIdeal.τ).loc Cert.FfUpsIdeal.main_arg7) = m ((c.tc : Thread Cert.FfUpsIdeal.nD Cert.FfUpsIdeal.τ).loc Cert.FfUpsIdeal.main_arg7))
      ∧ r.2.sem = fun _ => 0)

def quiescent_FfUpsRefIdeal [hFfUpsRefIdeal : Cert.FfUpsRefIdeal.Facts] : Prop :=
  ∀ (m : (ℓ : Loc Cert.FfUpsRefIdeal.nD Cert.FfUpsRefIdeal.τ Cert.FfUpsRefIdeal.sig) → Buf (Elt Ideal) ℓ) (g : Dev Cert.FfUpsRefIdeal.nD → PrngReg), Pre_FfUpsRefIdeal m →
    θ_run (Cert.FfUpsRefIdeal.defs (F := Ideal)) (onTc (τ := Cert.FfUpsRefIdeal.τ) (Cert.FfUpsRefIdeal.main (F := Ideal))) ⟨m, fun _ => 0, g⟩ (fun r => (∀ c : Dev Cert.FfUpsRefIdeal.nD,
      r.2.mem ((c.tc : Thread Cert.FfUpsRefIdeal.nD Cert.FfUpsRefIdeal.τ).loc Cert.FfUpsRefIdeal.main_arg0) = m ((c.tc : Thread Cert.FfUpsRefIdeal.nD Cert.FfUpsRefIdeal.τ).loc Cert.FfUpsRefIdeal.main_arg0)
      ∧ r.2.mem ((c.tc : Thread Cert.FfUpsRefIdeal.nD Cert.FfUpsRefIdeal.τ).loc Cert.FfUpsRefIdeal.main_arg1) = m ((c.tc : Thread Cert.FfUpsRefIdeal.nD Cert.FfUpsRefIdeal.τ).loc Cert.FfUpsRefIdeal.main_arg1)
      ∧ r.2.mem ((c.tc : Thread Cert.FfUpsRefIdeal.nD Cert.FfUpsRefIdeal.τ).loc Cert.FfUpsRefIdeal.main_arg2) = m ((c.tc : Thread Cert.FfUpsRefIdeal.nD Cert.FfUpsRefIdeal.τ).loc Cert.FfUpsRefIdeal.main_arg2)
      ∧ r.2.mem ((c.tc : Thread Cert.FfUpsRefIdeal.nD Cert.FfUpsRefIdeal.τ).loc Cert.FfUpsRefIdeal.main_arg3) = m ((c.tc : Thread Cert.FfUpsRefIdeal.nD Cert.FfUpsRefIdeal.τ).loc Cert.FfUpsRefIdeal.main_arg3)
      ∧ r.2.mem ((c.tc : Thread Cert.FfUpsRefIdeal.nD Cert.FfUpsRefIdeal.τ).loc Cert.FfUpsRefIdeal.main_arg4) = m ((c.tc : Thread Cert.FfUpsRefIdeal.nD Cert.FfUpsRefIdeal.τ).loc Cert.FfUpsRefIdeal.main_arg4)
      ∧ r.2.mem ((c.tc : Thread Cert.FfUpsRefIdeal.nD Cert.FfUpsRefIdeal.τ).loc Cert.FfUpsRefIdeal.main_arg5) = m ((c.tc : Thread Cert.FfUpsRefIdeal.nD Cert.FfUpsRefIdeal.τ).loc Cert.FfUpsRefIdeal.main_arg5)
      ∧ r.2.mem ((c.tc : Thread Cert.FfUpsRefIdeal.nD Cert.FfUpsRefIdeal.τ).loc Cert.FfUpsRefIdeal.main_arg6) = m ((c.tc : Thread Cert.FfUpsRefIdeal.nD Cert.FfUpsRefIdeal.τ).loc Cert.FfUpsRefIdeal.main_arg6)
      ∧ r.2.mem ((c.tc : Thread Cert.FfUpsRefIdeal.nD Cert.FfUpsRefIdeal.τ).loc Cert.FfUpsRefIdeal.main_arg7) = m ((c.tc : Thread Cert.FfUpsRefIdeal.nD Cert.FfUpsRefIdeal.τ).loc Cert.FfUpsRefIdeal.main_arg7))
      ∧ r.2.sem = fun _ => 0)

def quiescent_EvWouts [hEvWouts : Cert.EvWouts.Facts] : Prop :=
  ∀ (m : (ℓ : Loc Cert.EvWouts.nD Cert.EvWouts.τ Cert.EvWouts.sig) → Buf (Elt Bits) ℓ) (g : Dev Cert.EvWouts.nD → PrngReg), Pre_EvWouts m →
    θ_run (Cert.EvWouts.defs (F := Bits)) (onTc (τ := Cert.EvWouts.τ) (Cert.EvWouts.main (F := Bits))) ⟨m, fun _ => 0, g⟩ (fun r => (∀ c : Dev Cert.EvWouts.nD,
      r.2.mem ((c.tc : Thread Cert.EvWouts.nD Cert.EvWouts.τ).loc Cert.EvWouts.main_arg0) = m ((c.tc : Thread Cert.EvWouts.nD Cert.EvWouts.τ).loc Cert.EvWouts.main_arg0)
      ∧ r.2.mem ((c.tc : Thread Cert.EvWouts.nD Cert.EvWouts.τ).loc Cert.EvWouts.main_arg1) = m ((c.tc : Thread Cert.EvWouts.nD Cert.EvWouts.τ).loc Cert.EvWouts.main_arg1)
      ∧ r.2.mem ((c.tc : Thread Cert.EvWouts.nD Cert.EvWouts.τ).loc Cert.EvWouts.main_arg2) = m ((c.tc : Thread Cert.EvWouts.nD Cert.EvWouts.τ).loc Cert.EvWouts.main_arg2)
      ∧ r.2.mem ((c.tc : Thread Cert.EvWouts.nD Cert.EvWouts.τ).loc Cert.EvWouts.main_arg3) = m ((c.tc : Thread Cert.EvWouts.nD Cert.EvWouts.τ).loc Cert.EvWouts.main_arg3))
      ∧ r.2.sem = fun _ => 0)

def quiescent_EvWoutsIdeal [hEvWoutsIdeal : Cert.EvWoutsIdeal.Facts] : Prop :=
  ∀ (m : (ℓ : Loc Cert.EvWoutsIdeal.nD Cert.EvWoutsIdeal.τ Cert.EvWoutsIdeal.sig) → Buf (Elt Ideal) ℓ) (g : Dev Cert.EvWoutsIdeal.nD → PrngReg), Pre_EvWoutsIdeal m →
    θ_run (Cert.EvWoutsIdeal.defs (F := Ideal)) (onTc (τ := Cert.EvWoutsIdeal.τ) (Cert.EvWoutsIdeal.main (F := Ideal))) ⟨m, fun _ => 0, g⟩ (fun r => (∀ c : Dev Cert.EvWoutsIdeal.nD,
      r.2.mem ((c.tc : Thread Cert.EvWoutsIdeal.nD Cert.EvWoutsIdeal.τ).loc Cert.EvWoutsIdeal.main_arg0) = m ((c.tc : Thread Cert.EvWoutsIdeal.nD Cert.EvWoutsIdeal.τ).loc Cert.EvWoutsIdeal.main_arg0)
      ∧ r.2.mem ((c.tc : Thread Cert.EvWoutsIdeal.nD Cert.EvWoutsIdeal.τ).loc Cert.EvWoutsIdeal.main_arg1) = m ((c.tc : Thread Cert.EvWoutsIdeal.nD Cert.EvWoutsIdeal.τ).loc Cert.EvWoutsIdeal.main_arg1)
      ∧ r.2.mem ((c.tc : Thread Cert.EvWoutsIdeal.nD Cert.EvWoutsIdeal.τ).loc Cert.EvWoutsIdeal.main_arg2) = m ((c.tc : Thread Cert.EvWoutsIdeal.nD Cert.EvWoutsIdeal.τ).loc Cert.EvWoutsIdeal.main_arg2)
      ∧ r.2.mem ((c.tc : Thread Cert.EvWoutsIdeal.nD Cert.EvWoutsIdeal.τ).loc Cert.EvWoutsIdeal.main_arg3) = m ((c.tc : Thread Cert.EvWoutsIdeal.nD Cert.EvWoutsIdeal.τ).loc Cert.EvWoutsIdeal.main_arg3))
      ∧ r.2.sem = fun _ => 0)

def quiescent_EvWoutsRefIdeal [hEvWoutsRefIdeal : Cert.EvWoutsRefIdeal.Facts] : Prop :=
  ∀ (m : (ℓ : Loc Cert.EvWoutsRefIdeal.nD Cert.EvWoutsRefIdeal.τ Cert.EvWoutsRefIdeal.sig) → Buf (Elt Ideal) ℓ) (g : Dev Cert.EvWoutsRefIdeal.nD → PrngReg), Pre_EvWoutsRefIdeal m →
    θ_run (Cert.EvWoutsRefIdeal.defs (F := Ideal)) (onTc (τ := Cert.EvWoutsRefIdeal.τ) (Cert.EvWoutsRefIdeal.main (F := Ideal))) ⟨m, fun _ => 0, g⟩ (fun r => (∀ c : Dev Cert.EvWoutsRefIdeal.nD,
      r.2.mem ((c.tc : Thread Cert.EvWoutsRefIdeal.nD Cert.EvWoutsRefIdeal.τ).loc Cert.EvWoutsRefIdeal.main_arg0) = m ((c.tc : Thread Cert.EvWoutsRefIdeal.nD Cert.EvWoutsRefIdeal.τ).loc Cert.EvWoutsRefIdeal.main_arg0)
      ∧ r.2.mem ((c.tc : Thread Cert.EvWoutsRefIdeal.nD Cert.EvWoutsRefIdeal.τ).loc Cert.EvWoutsRefIdeal.main_arg1) = m ((c.tc : Thread Cert.EvWoutsRefIdeal.nD Cert.EvWoutsRefIdeal.τ).loc Cert.EvWoutsRefIdeal.main_arg1)
      ∧ r.2.mem ((c.tc : Thread Cert.EvWoutsRefIdeal.nD Cert.EvWoutsRefIdeal.τ).loc Cert.EvWoutsRefIdeal.main_arg2) = m ((c.tc : Thread Cert.EvWoutsRefIdeal.nD Cert.EvWoutsRefIdeal.τ).loc Cert.EvWoutsRefIdeal.main_arg2)
      ∧ r.2.mem ((c.tc : Thread Cert.EvWoutsRefIdeal.nD Cert.EvWoutsRefIdeal.τ).loc Cert.EvWoutsRefIdeal.main_arg3) = m ((c.tc : Thread Cert.EvWoutsRefIdeal.nD Cert.EvWoutsRefIdeal.τ).loc Cert.EvWoutsRefIdeal.main_arg3))
      ∧ r.2.sem = fun _ => 0)

def quiescent_OdWos [hOdWos : Cert.OdWos.Facts] : Prop :=
  ∀ (m : (ℓ : Loc Cert.OdWos.nD Cert.OdWos.τ Cert.OdWos.sig) → Buf (Elt Bits) ℓ) (g : Dev Cert.OdWos.nD → PrngReg), Pre_OdWos m →
    θ_run (Cert.OdWos.defs (F := Bits)) (onTc (τ := Cert.OdWos.τ) (Cert.OdWos.main (F := Bits))) ⟨m, fun _ => 0, g⟩ (fun r => (∀ c : Dev Cert.OdWos.nD,
      r.2.mem ((c.tc : Thread Cert.OdWos.nD Cert.OdWos.τ).loc Cert.OdWos.main_arg0) = m ((c.tc : Thread Cert.OdWos.nD Cert.OdWos.τ).loc Cert.OdWos.main_arg0)
      ∧ r.2.mem ((c.tc : Thread Cert.OdWos.nD Cert.OdWos.τ).loc Cert.OdWos.main_arg1) = m ((c.tc : Thread Cert.OdWos.nD Cert.OdWos.τ).loc Cert.OdWos.main_arg1)
      ∧ r.2.mem ((c.tc : Thread Cert.OdWos.nD Cert.OdWos.τ).loc Cert.OdWos.main_arg2) = m ((c.tc : Thread Cert.OdWos.nD Cert.OdWos.τ).loc Cert.OdWos.main_arg2)
      ∧ r.2.mem ((c.tc : Thread Cert.OdWos.nD Cert.OdWos.τ).loc Cert.OdWos.main_arg3) = m ((c.tc : Thread Cert.OdWos.nD Cert.OdWos.τ).loc Cert.OdWos.main_arg3))
      ∧ r.2.sem = fun _ => 0)

def quiescent_OdWosIdeal [hOdWosIdeal : Cert.OdWosIdeal.Facts] : Prop :=
  ∀ (m : (ℓ : Loc Cert.OdWosIdeal.nD Cert.OdWosIdeal.τ Cert.OdWosIdeal.sig) → Buf (Elt Ideal) ℓ) (g : Dev Cert.OdWosIdeal.nD → PrngReg), Pre_OdWosIdeal m →
    θ_run (Cert.OdWosIdeal.defs (F := Ideal)) (onTc (τ := Cert.OdWosIdeal.τ) (Cert.OdWosIdeal.main (F := Ideal))) ⟨m, fun _ => 0, g⟩ (fun r => (∀ c : Dev Cert.OdWosIdeal.nD,
      r.2.mem ((c.tc : Thread Cert.OdWosIdeal.nD Cert.OdWosIdeal.τ).loc Cert.OdWosIdeal.main_arg0) = m ((c.tc : Thread Cert.OdWosIdeal.nD Cert.OdWosIdeal.τ).loc Cert.OdWosIdeal.main_arg0)
      ∧ r.2.mem ((c.tc : Thread Cert.OdWosIdeal.nD Cert.OdWosIdeal.τ).loc Cert.OdWosIdeal.main_arg1) = m ((c.tc : Thread Cert.OdWosIdeal.nD Cert.OdWosIdeal.τ).loc Cert.OdWosIdeal.main_arg1)
      ∧ r.2.mem ((c.tc : Thread Cert.OdWosIdeal.nD Cert.OdWosIdeal.τ).loc Cert.OdWosIdeal.main_arg2) = m ((c.tc : Thread Cert.OdWosIdeal.nD Cert.OdWosIdeal.τ).loc Cert.OdWosIdeal.main_arg2)
      ∧ r.2.mem ((c.tc : Thread Cert.OdWosIdeal.nD Cert.OdWosIdeal.τ).loc Cert.OdWosIdeal.main_arg3) = m ((c.tc : Thread Cert.OdWosIdeal.nD Cert.OdWosIdeal.τ).loc Cert.OdWosIdeal.main_arg3))
      ∧ r.2.sem = fun _ => 0)

def quiescent_OdWosRefIdeal [hOdWosRefIdeal : Cert.OdWosRefIdeal.Facts] : Prop :=
  ∀ (m : (ℓ : Loc Cert.OdWosRefIdeal.nD Cert.OdWosRefIdeal.τ Cert.OdWosRefIdeal.sig) → Buf (Elt Ideal) ℓ) (g : Dev Cert.OdWosRefIdeal.nD → PrngReg), Pre_OdWosRefIdeal m →
    θ_run (Cert.OdWosRefIdeal.defs (F := Ideal)) (onTc (τ := Cert.OdWosRefIdeal.τ) (Cert.OdWosRefIdeal.main (F := Ideal))) ⟨m, fun _ => 0, g⟩ (fun r => (∀ c : Dev Cert.OdWosRefIdeal.nD,
      r.2.mem ((c.tc : Thread Cert.OdWosRefIdeal.nD Cert.OdWosRefIdeal.τ).loc Cert.OdWosRefIdeal.main_arg0) = m ((c.tc : Thread Cert.OdWosRefIdeal.nD Cert.OdWosRefIdeal.τ).loc Cert.OdWosRefIdeal.main_arg0)
      ∧ r.2.mem ((c.tc : Thread Cert.OdWosRefIdeal.nD Cert.OdWosRefIdeal.τ).loc Cert.OdWosRefIdeal.main_arg1) = m ((c.tc : Thread Cert.OdWosRefIdeal.nD Cert.OdWosRefIdeal.τ).loc Cert.OdWosRefIdeal.main_arg1)
      ∧ r.2.mem ((c.tc : Thread Cert.OdWosRefIdeal.nD Cert.OdWosRefIdeal.τ).loc Cert.OdWosRefIdeal.main_arg2) = m ((c.tc : Thread Cert.OdWosRefIdeal.nD Cert.OdWosRefIdeal.τ).loc Cert.OdWosRefIdeal.main_arg2)
      ∧ r.2.mem ((c.tc : Thread Cert.OdWosRefIdeal.nD Cert.OdWosRefIdeal.τ).loc Cert.OdWosRefIdeal.main_arg3) = m ((c.tc : Thread Cert.OdWosRefIdeal.nD Cert.OdWosRefIdeal.τ).loc Cert.OdWosRefIdeal.main_arg3))
      ∧ r.2.sem = fun _ => 0)

def quiescent_At0 [hAt0 : Cert.At0.Facts] : Prop :=
  ∀ (m : (ℓ : Loc Cert.At0.nD Cert.At0.τ Cert.At0.sig) → Buf (Elt Bits) ℓ) (g : Dev Cert.At0.nD → PrngReg), Pre_At0 m →
    θ_run (Cert.At0.defs (F := Bits)) (onTc (τ := Cert.At0.τ) (Cert.At0.main (F := Bits))) ⟨m, fun _ => 0, g⟩ (fun r => (∀ c : Dev Cert.At0.nD,
      r.2.mem ((c.tc : Thread Cert.At0.nD Cert.At0.τ).loc Cert.At0.main_arg0) = m ((c.tc : Thread Cert.At0.nD Cert.At0.τ).loc Cert.At0.main_arg0)
      ∧ r.2.mem ((c.tc : Thread Cert.At0.nD Cert.At0.τ).loc Cert.At0.main_arg1) = m ((c.tc : Thread Cert.At0.nD Cert.At0.τ).loc Cert.At0.main_arg1)
      ∧ r.2.mem ((c.tc : Thread Cert.At0.nD Cert.At0.τ).loc Cert.At0.main_arg2) = m ((c.tc : Thread Cert.At0.nD Cert.At0.τ).loc Cert.At0.main_arg2)
      ∧ r.2.mem ((c.tc : Thread Cert.At0.nD Cert.At0.τ).loc Cert.At0.main_arg3) = m ((c.tc : Thread Cert.At0.nD Cert.At0.τ).loc Cert.At0.main_arg3)
      ∧ r.2.mem ((c.tc : Thread Cert.At0.nD Cert.At0.τ).loc Cert.At0.main_arg4) = m ((c.tc : Thread Cert.At0.nD Cert.At0.τ).loc Cert.At0.main_arg4)
      ∧ r.2.mem ((c.tc : Thread Cert.At0.nD Cert.At0.τ).loc Cert.At0.main_arg5) = m ((c.tc : Thread Cert.At0.nD Cert.At0.τ).loc Cert.At0.main_arg5)
      ∧ r.2.mem ((c.tc : Thread Cert.At0.nD Cert.At0.τ).loc Cert.At0.main_arg6) = m ((c.tc : Thread Cert.At0.nD Cert.At0.τ).loc Cert.At0.main_arg6)
      ∧ r.2.mem ((c.tc : Thread Cert.At0.nD Cert.At0.τ).loc Cert.At0.main_arg7) = m ((c.tc : Thread Cert.At0.nD Cert.At0.τ).loc Cert.At0.main_arg7))
      ∧ r.2.sem = fun _ => 0)

def quiescent_At0Ideal [hAt0Ideal : Cert.At0Ideal.Facts] : Prop :=
  ∀ (m : (ℓ : Loc Cert.At0Ideal.nD Cert.At0Ideal.τ Cert.At0Ideal.sig) → Buf (Elt Ideal) ℓ) (g : Dev Cert.At0Ideal.nD → PrngReg), Pre_At0Ideal m →
    θ_run (Cert.At0Ideal.defs (F := Ideal)) (onTc (τ := Cert.At0Ideal.τ) (Cert.At0Ideal.main (F := Ideal))) ⟨m, fun _ => 0, g⟩ (fun r => (∀ c : Dev Cert.At0Ideal.nD,
      r.2.mem ((c.tc : Thread Cert.At0Ideal.nD Cert.At0Ideal.τ).loc Cert.At0Ideal.main_arg0) = m ((c.tc : Thread Cert.At0Ideal.nD Cert.At0Ideal.τ).loc Cert.At0Ideal.main_arg0)
      ∧ r.2.mem ((c.tc : Thread Cert.At0Ideal.nD Cert.At0Ideal.τ).loc Cert.At0Ideal.main_arg1) = m ((c.tc : Thread Cert.At0Ideal.nD Cert.At0Ideal.τ).loc Cert.At0Ideal.main_arg1)
      ∧ r.2.mem ((c.tc : Thread Cert.At0Ideal.nD Cert.At0Ideal.τ).loc Cert.At0Ideal.main_arg2) = m ((c.tc : Thread Cert.At0Ideal.nD Cert.At0Ideal.τ).loc Cert.At0Ideal.main_arg2)
      ∧ r.2.mem ((c.tc : Thread Cert.At0Ideal.nD Cert.At0Ideal.τ).loc Cert.At0Ideal.main_arg3) = m ((c.tc : Thread Cert.At0Ideal.nD Cert.At0Ideal.τ).loc Cert.At0Ideal.main_arg3)
      ∧ r.2.mem ((c.tc : Thread Cert.At0Ideal.nD Cert.At0Ideal.τ).loc Cert.At0Ideal.main_arg4) = m ((c.tc : Thread Cert.At0Ideal.nD Cert.At0Ideal.τ).loc Cert.At0Ideal.main_arg4)
      ∧ r.2.mem ((c.tc : Thread Cert.At0Ideal.nD Cert.At0Ideal.τ).loc Cert.At0Ideal.main_arg5) = m ((c.tc : Thread Cert.At0Ideal.nD Cert.At0Ideal.τ).loc Cert.At0Ideal.main_arg5)
      ∧ r.2.mem ((c.tc : Thread Cert.At0Ideal.nD Cert.At0Ideal.τ).loc Cert.At0Ideal.main_arg6) = m ((c.tc : Thread Cert.At0Ideal.nD Cert.At0Ideal.τ).loc Cert.At0Ideal.main_arg6)
      ∧ r.2.mem ((c.tc : Thread Cert.At0Ideal.nD Cert.At0Ideal.τ).loc Cert.At0Ideal.main_arg7) = m ((c.tc : Thread Cert.At0Ideal.nD Cert.At0Ideal.τ).loc Cert.At0Ideal.main_arg7))
      ∧ r.2.sem = fun _ => 0)

def quiescent_At0Ideal_pre_attn_finite [hAt0Ideal : Cert.At0Ideal.Facts] [hPre_attn_finite : Cert.Pre_attn_finite.Facts] : Prop :=
  ∀ (m : (ℓ : Loc Cert.At0Ideal.nD Cert.At0Ideal.τ Cert.At0Ideal.sig) → Buf (Elt Ideal) ℓ) (g : Dev Cert.At0Ideal.nD → PrngReg), Pre_At0Ideal_attn_finite m →
    θ_run (Cert.At0Ideal.defs (F := Ideal)) (onTc (τ := Cert.At0Ideal.τ) (Cert.At0Ideal.main (F := Ideal))) ⟨m, fun _ => 0, g⟩ (fun r => (∀ c : Dev Cert.At0Ideal.nD,
      r.2.mem ((c.tc : Thread Cert.At0Ideal.nD Cert.At0Ideal.τ).loc Cert.At0Ideal.main_arg0) = m ((c.tc : Thread Cert.At0Ideal.nD Cert.At0Ideal.τ).loc Cert.At0Ideal.main_arg0)
      ∧ r.2.mem ((c.tc : Thread Cert.At0Ideal.nD Cert.At0Ideal.τ).loc Cert.At0Ideal.main_arg1) = m ((c.tc : Thread Cert.At0Ideal.nD Cert.At0Ideal.τ).loc Cert.At0Ideal.main_arg1)
      ∧ r.2.mem ((c.tc : Thread Cert.At0Ideal.nD Cert.At0Ideal.τ).loc Cert.At0Ideal.main_arg2) = m ((c.tc : Thread Cert.At0Ideal.nD Cert.At0Ideal.τ).loc Cert.At0Ideal.main_arg2)
      ∧ r.2.mem ((c.tc : Thread Cert.At0Ideal.nD Cert.At0Ideal.τ).loc Cert.At0Ideal.main_arg3) = m ((c.tc : Thread Cert.At0Ideal.nD Cert.At0Ideal.τ).loc Cert.At0Ideal.main_arg3)
      ∧ r.2.mem ((c.tc : Thread Cert.At0Ideal.nD Cert.At0Ideal.τ).loc Cert.At0Ideal.main_arg4) = m ((c.tc : Thread Cert.At0Ideal.nD Cert.At0Ideal.τ).loc Cert.At0Ideal.main_arg4)
      ∧ r.2.mem ((c.tc : Thread Cert.At0Ideal.nD Cert.At0Ideal.τ).loc Cert.At0Ideal.main_arg5) = m ((c.tc : Thread Cert.At0Ideal.nD Cert.At0Ideal.τ).loc Cert.At0Ideal.main_arg5)
      ∧ r.2.mem ((c.tc : Thread Cert.At0Ideal.nD Cert.At0Ideal.τ).loc Cert.At0Ideal.main_arg6) = m ((c.tc : Thread Cert.At0Ideal.nD Cert.At0Ideal.τ).loc Cert.At0Ideal.main_arg6)
      ∧ r.2.mem ((c.tc : Thread Cert.At0Ideal.nD Cert.At0Ideal.τ).loc Cert.At0Ideal.main_arg7) = m ((c.tc : Thread Cert.At0Ideal.nD Cert.At0Ideal.τ).loc Cert.At0Ideal.main_arg7))
      ∧ r.2.sem = fun _ => 0)

def quiescent_At0RefIdeal [hAt0RefIdeal : Cert.At0RefIdeal.Facts] : Prop :=
  ∀ (m : (ℓ : Loc Cert.At0RefIdeal.nD Cert.At0RefIdeal.τ Cert.At0RefIdeal.sig) → Buf (Elt Ideal) ℓ) (g : Dev Cert.At0RefIdeal.nD → PrngReg), Pre_At0RefIdeal m →
    θ_run (Cert.At0RefIdeal.defs (F := Ideal)) (onTc (τ := Cert.At0RefIdeal.τ) (Cert.At0RefIdeal.main (F := Ideal))) ⟨m, fun _ => 0, g⟩ (fun r => (∀ c : Dev Cert.At0RefIdeal.nD,
      r.2.mem ((c.tc : Thread Cert.At0RefIdeal.nD Cert.At0RefIdeal.τ).loc Cert.At0RefIdeal.main_arg0) = m ((c.tc : Thread Cert.At0RefIdeal.nD Cert.At0RefIdeal.τ).loc Cert.At0RefIdeal.main_arg0)
      ∧ r.2.mem ((c.tc : Thread Cert.At0RefIdeal.nD Cert.At0RefIdeal.τ).loc Cert.At0RefIdeal.main_arg1) = m ((c.tc : Thread Cert.At0RefIdeal.nD Cert.At0RefIdeal.τ).loc Cert.At0RefIdeal.main_arg1)
      ∧ r.2.mem ((c.tc : Thread Cert.At0RefIdeal.nD Cert.At0RefIdeal.τ).loc Cert.At0RefIdeal.main_arg2) = m ((c.tc : Thread Cert.At0RefIdeal.nD Cert.At0RefIdeal.τ).loc Cert.At0RefIdeal.main_arg2)
      ∧ r.2.mem ((c.tc : Thread Cert.At0RefIdeal.nD Cert.At0RefIdeal.τ).loc Cert.At0RefIdeal.main_arg3) = m ((c.tc : Thread Cert.At0RefIdeal.nD Cert.At0RefIdeal.τ).loc Cert.At0RefIdeal.main_arg3)
      ∧ r.2.mem ((c.tc : Thread Cert.At0RefIdeal.nD Cert.At0RefIdeal.τ).loc Cert.At0RefIdeal.main_arg4) = m ((c.tc : Thread Cert.At0RefIdeal.nD Cert.At0RefIdeal.τ).loc Cert.At0RefIdeal.main_arg4)
      ∧ r.2.mem ((c.tc : Thread Cert.At0RefIdeal.nD Cert.At0RefIdeal.τ).loc Cert.At0RefIdeal.main_arg5) = m ((c.tc : Thread Cert.At0RefIdeal.nD Cert.At0RefIdeal.τ).loc Cert.At0RefIdeal.main_arg5)
      ∧ r.2.mem ((c.tc : Thread Cert.At0RefIdeal.nD Cert.At0RefIdeal.τ).loc Cert.At0RefIdeal.main_arg6) = m ((c.tc : Thread Cert.At0RefIdeal.nD Cert.At0RefIdeal.τ).loc Cert.At0RefIdeal.main_arg6)
      ∧ r.2.mem ((c.tc : Thread Cert.At0RefIdeal.nD Cert.At0RefIdeal.τ).loc Cert.At0RefIdeal.main_arg7) = m ((c.tc : Thread Cert.At0RefIdeal.nD Cert.At0RefIdeal.τ).loc Cert.At0RefIdeal.main_arg7))
      ∧ r.2.sem = fun _ => 0)

def quiescent_At0RefIdeal_pre_attn_finite [hAt0RefIdeal : Cert.At0RefIdeal.Facts] [hPre_attn_finite : Cert.Pre_attn_finite.Facts] : Prop :=
  ∀ (m : (ℓ : Loc Cert.At0RefIdeal.nD Cert.At0RefIdeal.τ Cert.At0RefIdeal.sig) → Buf (Elt Ideal) ℓ) (g : Dev Cert.At0RefIdeal.nD → PrngReg), Pre_At0RefIdeal_attn_finite m →
    θ_run (Cert.At0RefIdeal.defs (F := Ideal)) (onTc (τ := Cert.At0RefIdeal.τ) (Cert.At0RefIdeal.main (F := Ideal))) ⟨m, fun _ => 0, g⟩ (fun r => (∀ c : Dev Cert.At0RefIdeal.nD,
      r.2.mem ((c.tc : Thread Cert.At0RefIdeal.nD Cert.At0RefIdeal.τ).loc Cert.At0RefIdeal.main_arg0) = m ((c.tc : Thread Cert.At0RefIdeal.nD Cert.At0RefIdeal.τ).loc Cert.At0RefIdeal.main_arg0)
      ∧ r.2.mem ((c.tc : Thread Cert.At0RefIdeal.nD Cert.At0RefIdeal.τ).loc Cert.At0RefIdeal.main_arg1) = m ((c.tc : Thread Cert.At0RefIdeal.nD Cert.At0RefIdeal.τ).loc Cert.At0RefIdeal.main_arg1)
      ∧ r.2.mem ((c.tc : Thread Cert.At0RefIdeal.nD Cert.At0RefIdeal.τ).loc Cert.At0RefIdeal.main_arg2) = m ((c.tc : Thread Cert.At0RefIdeal.nD Cert.At0RefIdeal.τ).loc Cert.At0RefIdeal.main_arg2)
      ∧ r.2.mem ((c.tc : Thread Cert.At0RefIdeal.nD Cert.At0RefIdeal.τ).loc Cert.At0RefIdeal.main_arg3) = m ((c.tc : Thread Cert.At0RefIdeal.nD Cert.At0RefIdeal.τ).loc Cert.At0RefIdeal.main_arg3)
      ∧ r.2.mem ((c.tc : Thread Cert.At0RefIdeal.nD Cert.At0RefIdeal.τ).loc Cert.At0RefIdeal.main_arg4) = m ((c.tc : Thread Cert.At0RefIdeal.nD Cert.At0RefIdeal.τ).loc Cert.At0RefIdeal.main_arg4)
      ∧ r.2.mem ((c.tc : Thread Cert.At0RefIdeal.nD Cert.At0RefIdeal.τ).loc Cert.At0RefIdeal.main_arg5) = m ((c.tc : Thread Cert.At0RefIdeal.nD Cert.At0RefIdeal.τ).loc Cert.At0RefIdeal.main_arg5)
      ∧ r.2.mem ((c.tc : Thread Cert.At0RefIdeal.nD Cert.At0RefIdeal.τ).loc Cert.At0RefIdeal.main_arg6) = m ((c.tc : Thread Cert.At0RefIdeal.nD Cert.At0RefIdeal.τ).loc Cert.At0RefIdeal.main_arg6)
      ∧ r.2.mem ((c.tc : Thread Cert.At0RefIdeal.nD Cert.At0RefIdeal.τ).loc Cert.At0RefIdeal.main_arg7) = m ((c.tc : Thread Cert.At0RefIdeal.nD Cert.At0RefIdeal.τ).loc Cert.At0RefIdeal.main_arg7))
      ∧ r.2.sem = fun _ => 0)

def quiescent_At1 [hAt1 : Cert.At1.Facts] : Prop :=
  ∀ (m : (ℓ : Loc Cert.At1.nD Cert.At1.τ Cert.At1.sig) → Buf (Elt Bits) ℓ) (g : Dev Cert.At1.nD → PrngReg), Pre_At1 m →
    θ_run (Cert.At1.defs (F := Bits)) (onTc (τ := Cert.At1.τ) (Cert.At1.main (F := Bits))) ⟨m, fun _ => 0, g⟩ (fun r => (∀ c : Dev Cert.At1.nD,
      r.2.mem ((c.tc : Thread Cert.At1.nD Cert.At1.τ).loc Cert.At1.main_arg0) = m ((c.tc : Thread Cert.At1.nD Cert.At1.τ).loc Cert.At1.main_arg0)
      ∧ r.2.mem ((c.tc : Thread Cert.At1.nD Cert.At1.τ).loc Cert.At1.main_arg1) = m ((c.tc : Thread Cert.At1.nD Cert.At1.τ).loc Cert.At1.main_arg1)
      ∧ r.2.mem ((c.tc : Thread Cert.At1.nD Cert.At1.τ).loc Cert.At1.main_arg2) = m ((c.tc : Thread Cert.At1.nD Cert.At1.τ).loc Cert.At1.main_arg2)
      ∧ r.2.mem ((c.tc : Thread Cert.At1.nD Cert.At1.τ).loc Cert.At1.main_arg3) = m ((c.tc : Thread Cert.At1.nD Cert.At1.τ).loc Cert.At1.main_arg3)
      ∧ r.2.mem ((c.tc : Thread Cert.At1.nD Cert.At1.τ).loc Cert.At1.main_arg4) = m ((c.tc : Thread Cert.At1.nD Cert.At1.τ).loc Cert.At1.main_arg4)
      ∧ r.2.mem ((c.tc : Thread Cert.At1.nD Cert.At1.τ).loc Cert.At1.main_arg5) = m ((c.tc : Thread Cert.At1.nD Cert.At1.τ).loc Cert.At1.main_arg5)
      ∧ r.2.mem ((c.tc : Thread Cert.At1.nD Cert.At1.τ).loc Cert.At1.main_arg6) = m ((c.tc : Thread Cert.At1.nD Cert.At1.τ).loc Cert.At1.main_arg6)
      ∧ r.2.mem ((c.tc : Thread Cert.At1.nD Cert.At1.τ).loc Cert.At1.main_arg7) = m ((c.tc : Thread Cert.At1.nD Cert.At1.τ).loc Cert.At1.main_arg7))
      ∧ r.2.sem = fun _ => 0)

def quiescent_At1Ideal [hAt1Ideal : Cert.At1Ideal.Facts] : Prop :=
  ∀ (m : (ℓ : Loc Cert.At1Ideal.nD Cert.At1Ideal.τ Cert.At1Ideal.sig) → Buf (Elt Ideal) ℓ) (g : Dev Cert.At1Ideal.nD → PrngReg), Pre_At1Ideal m →
    θ_run (Cert.At1Ideal.defs (F := Ideal)) (onTc (τ := Cert.At1Ideal.τ) (Cert.At1Ideal.main (F := Ideal))) ⟨m, fun _ => 0, g⟩ (fun r => (∀ c : Dev Cert.At1Ideal.nD,
      r.2.mem ((c.tc : Thread Cert.At1Ideal.nD Cert.At1Ideal.τ).loc Cert.At1Ideal.main_arg0) = m ((c.tc : Thread Cert.At1Ideal.nD Cert.At1Ideal.τ).loc Cert.At1Ideal.main_arg0)
      ∧ r.2.mem ((c.tc : Thread Cert.At1Ideal.nD Cert.At1Ideal.τ).loc Cert.At1Ideal.main_arg1) = m ((c.tc : Thread Cert.At1Ideal.nD Cert.At1Ideal.τ).loc Cert.At1Ideal.main_arg1)
      ∧ r.2.mem ((c.tc : Thread Cert.At1Ideal.nD Cert.At1Ideal.τ).loc Cert.At1Ideal.main_arg2) = m ((c.tc : Thread Cert.At1Ideal.nD Cert.At1Ideal.τ).loc Cert.At1Ideal.main_arg2)
      ∧ r.2.mem ((c.tc : Thread Cert.At1Ideal.nD Cert.At1Ideal.τ).loc Cert.At1Ideal.main_arg3) = m ((c.tc : Thread Cert.At1Ideal.nD Cert.At1Ideal.τ).loc Cert.At1Ideal.main_arg3)
      ∧ r.2.mem ((c.tc : Thread Cert.At1Ideal.nD Cert.At1Ideal.τ).loc Cert.At1Ideal.main_arg4) = m ((c.tc : Thread Cert.At1Ideal.nD Cert.At1Ideal.τ).loc Cert.At1Ideal.main_arg4)
      ∧ r.2.mem ((c.tc : Thread Cert.At1Ideal.nD Cert.At1Ideal.τ).loc Cert.At1Ideal.main_arg5) = m ((c.tc : Thread Cert.At1Ideal.nD Cert.At1Ideal.τ).loc Cert.At1Ideal.main_arg5)
      ∧ r.2.mem ((c.tc : Thread Cert.At1Ideal.nD Cert.At1Ideal.τ).loc Cert.At1Ideal.main_arg6) = m ((c.tc : Thread Cert.At1Ideal.nD Cert.At1Ideal.τ).loc Cert.At1Ideal.main_arg6)
      ∧ r.2.mem ((c.tc : Thread Cert.At1Ideal.nD Cert.At1Ideal.τ).loc Cert.At1Ideal.main_arg7) = m ((c.tc : Thread Cert.At1Ideal.nD Cert.At1Ideal.τ).loc Cert.At1Ideal.main_arg7))
      ∧ r.2.sem = fun _ => 0)

def quiescent_At1Ideal_pre_attn_finite [hAt1Ideal : Cert.At1Ideal.Facts] [hPre_attn_finite : Cert.Pre_attn_finite.Facts] : Prop :=
  ∀ (m : (ℓ : Loc Cert.At1Ideal.nD Cert.At1Ideal.τ Cert.At1Ideal.sig) → Buf (Elt Ideal) ℓ) (g : Dev Cert.At1Ideal.nD → PrngReg), Pre_At1Ideal_attn_finite m →
    θ_run (Cert.At1Ideal.defs (F := Ideal)) (onTc (τ := Cert.At1Ideal.τ) (Cert.At1Ideal.main (F := Ideal))) ⟨m, fun _ => 0, g⟩ (fun r => (∀ c : Dev Cert.At1Ideal.nD,
      r.2.mem ((c.tc : Thread Cert.At1Ideal.nD Cert.At1Ideal.τ).loc Cert.At1Ideal.main_arg0) = m ((c.tc : Thread Cert.At1Ideal.nD Cert.At1Ideal.τ).loc Cert.At1Ideal.main_arg0)
      ∧ r.2.mem ((c.tc : Thread Cert.At1Ideal.nD Cert.At1Ideal.τ).loc Cert.At1Ideal.main_arg1) = m ((c.tc : Thread Cert.At1Ideal.nD Cert.At1Ideal.τ).loc Cert.At1Ideal.main_arg1)
      ∧ r.2.mem ((c.tc : Thread Cert.At1Ideal.nD Cert.At1Ideal.τ).loc Cert.At1Ideal.main_arg2) = m ((c.tc : Thread Cert.At1Ideal.nD Cert.At1Ideal.τ).loc Cert.At1Ideal.main_arg2)
      ∧ r.2.mem ((c.tc : Thread Cert.At1Ideal.nD Cert.At1Ideal.τ).loc Cert.At1Ideal.main_arg3) = m ((c.tc : Thread Cert.At1Ideal.nD Cert.At1Ideal.τ).loc Cert.At1Ideal.main_arg3)
      ∧ r.2.mem ((c.tc : Thread Cert.At1Ideal.nD Cert.At1Ideal.τ).loc Cert.At1Ideal.main_arg4) = m ((c.tc : Thread Cert.At1Ideal.nD Cert.At1Ideal.τ).loc Cert.At1Ideal.main_arg4)
      ∧ r.2.mem ((c.tc : Thread Cert.At1Ideal.nD Cert.At1Ideal.τ).loc Cert.At1Ideal.main_arg5) = m ((c.tc : Thread Cert.At1Ideal.nD Cert.At1Ideal.τ).loc Cert.At1Ideal.main_arg5)
      ∧ r.2.mem ((c.tc : Thread Cert.At1Ideal.nD Cert.At1Ideal.τ).loc Cert.At1Ideal.main_arg6) = m ((c.tc : Thread Cert.At1Ideal.nD Cert.At1Ideal.τ).loc Cert.At1Ideal.main_arg6)
      ∧ r.2.mem ((c.tc : Thread Cert.At1Ideal.nD Cert.At1Ideal.τ).loc Cert.At1Ideal.main_arg7) = m ((c.tc : Thread Cert.At1Ideal.nD Cert.At1Ideal.τ).loc Cert.At1Ideal.main_arg7))
      ∧ r.2.sem = fun _ => 0)

def quiescent_At1RefIdeal [hAt1RefIdeal : Cert.At1RefIdeal.Facts] : Prop :=
  ∀ (m : (ℓ : Loc Cert.At1RefIdeal.nD Cert.At1RefIdeal.τ Cert.At1RefIdeal.sig) → Buf (Elt Ideal) ℓ) (g : Dev Cert.At1RefIdeal.nD → PrngReg), Pre_At1RefIdeal m →
    θ_run (Cert.At1RefIdeal.defs (F := Ideal)) (onTc (τ := Cert.At1RefIdeal.τ) (Cert.At1RefIdeal.main (F := Ideal))) ⟨m, fun _ => 0, g⟩ (fun r => (∀ c : Dev Cert.At1RefIdeal.nD,
      r.2.mem ((c.tc : Thread Cert.At1RefIdeal.nD Cert.At1RefIdeal.τ).loc Cert.At1RefIdeal.main_arg0) = m ((c.tc : Thread Cert.At1RefIdeal.nD Cert.At1RefIdeal.τ).loc Cert.At1RefIdeal.main_arg0)
      ∧ r.2.mem ((c.tc : Thread Cert.At1RefIdeal.nD Cert.At1RefIdeal.τ).loc Cert.At1RefIdeal.main_arg1) = m ((c.tc : Thread Cert.At1RefIdeal.nD Cert.At1RefIdeal.τ).loc Cert.At1RefIdeal.main_arg1)
      ∧ r.2.mem ((c.tc : Thread Cert.At1RefIdeal.nD Cert.At1RefIdeal.τ).loc Cert.At1RefIdeal.main_arg2) = m ((c.tc : Thread Cert.At1RefIdeal.nD Cert.At1RefIdeal.τ).loc Cert.At1RefIdeal.main_arg2)
      ∧ r.2.mem ((c.tc : Thread Cert.At1RefIdeal.nD Cert.At1RefIdeal.τ).loc Cert.At1RefIdeal.main_arg3) = m ((c.tc : Thread Cert.At1RefIdeal.nD Cert.At1RefIdeal.τ).loc Cert.At1RefIdeal.main_arg3)
      ∧ r.2.mem ((c.tc : Thread Cert.At1RefIdeal.nD Cert.At1RefIdeal.τ).loc Cert.At1RefIdeal.main_arg4) = m ((c.tc : Thread Cert.At1RefIdeal.nD Cert.At1RefIdeal.τ).loc Cert.At1RefIdeal.main_arg4)
      ∧ r.2.mem ((c.tc : Thread Cert.At1RefIdeal.nD Cert.At1RefIdeal.τ).loc Cert.At1RefIdeal.main_arg5) = m ((c.tc : Thread Cert.At1RefIdeal.nD Cert.At1RefIdeal.τ).loc Cert.At1RefIdeal.main_arg5)
      ∧ r.2.mem ((c.tc : Thread Cert.At1RefIdeal.nD Cert.At1RefIdeal.τ).loc Cert.At1RefIdeal.main_arg6) = m ((c.tc : Thread Cert.At1RefIdeal.nD Cert.At1RefIdeal.τ).loc Cert.At1RefIdeal.main_arg6)
      ∧ r.2.mem ((c.tc : Thread Cert.At1RefIdeal.nD Cert.At1RefIdeal.τ).loc Cert.At1RefIdeal.main_arg7) = m ((c.tc : Thread Cert.At1RefIdeal.nD Cert.At1RefIdeal.τ).loc Cert.At1RefIdeal.main_arg7))
      ∧ r.2.sem = fun _ => 0)

def quiescent_At1RefIdeal_pre_attn_finite [hAt1RefIdeal : Cert.At1RefIdeal.Facts] [hPre_attn_finite : Cert.Pre_attn_finite.Facts] : Prop :=
  ∀ (m : (ℓ : Loc Cert.At1RefIdeal.nD Cert.At1RefIdeal.τ Cert.At1RefIdeal.sig) → Buf (Elt Ideal) ℓ) (g : Dev Cert.At1RefIdeal.nD → PrngReg), Pre_At1RefIdeal_attn_finite m →
    θ_run (Cert.At1RefIdeal.defs (F := Ideal)) (onTc (τ := Cert.At1RefIdeal.τ) (Cert.At1RefIdeal.main (F := Ideal))) ⟨m, fun _ => 0, g⟩ (fun r => (∀ c : Dev Cert.At1RefIdeal.nD,
      r.2.mem ((c.tc : Thread Cert.At1RefIdeal.nD Cert.At1RefIdeal.τ).loc Cert.At1RefIdeal.main_arg0) = m ((c.tc : Thread Cert.At1RefIdeal.nD Cert.At1RefIdeal.τ).loc Cert.At1RefIdeal.main_arg0)
      ∧ r.2.mem ((c.tc : Thread Cert.At1RefIdeal.nD Cert.At1RefIdeal.τ).loc Cert.At1RefIdeal.main_arg1) = m ((c.tc : Thread Cert.At1RefIdeal.nD Cert.At1RefIdeal.τ).loc Cert.At1RefIdeal.main_arg1)
      ∧ r.2.mem ((c.tc : Thread Cert.At1RefIdeal.nD Cert.At1RefIdeal.τ).loc Cert.At1RefIdeal.main_arg2) = m ((c.tc : Thread Cert.At1RefIdeal.nD Cert.At1RefIdeal.τ).loc Cert.At1RefIdeal.main_arg2)
      ∧ r.2.mem ((c.tc : Thread Cert.At1RefIdeal.nD Cert.At1RefIdeal.τ).loc Cert.At1RefIdeal.main_arg3) = m ((c.tc : Thread Cert.At1RefIdeal.nD Cert.At1RefIdeal.τ).loc Cert.At1RefIdeal.main_arg3)
      ∧ r.2.mem ((c.tc : Thread Cert.At1RefIdeal.nD Cert.At1RefIdeal.τ).loc Cert.At1RefIdeal.main_arg4) = m ((c.tc : Thread Cert.At1RefIdeal.nD Cert.At1RefIdeal.τ).loc Cert.At1RefIdeal.main_arg4)
      ∧ r.2.mem ((c.tc : Thread Cert.At1RefIdeal.nD Cert.At1RefIdeal.τ).loc Cert.At1RefIdeal.main_arg5) = m ((c.tc : Thread Cert.At1RefIdeal.nD Cert.At1RefIdeal.τ).loc Cert.At1RefIdeal.main_arg5)
      ∧ r.2.mem ((c.tc : Thread Cert.At1RefIdeal.nD Cert.At1RefIdeal.τ).loc Cert.At1RefIdeal.main_arg6) = m ((c.tc : Thread Cert.At1RefIdeal.nD Cert.At1RefIdeal.τ).loc Cert.At1RefIdeal.main_arg6)
      ∧ r.2.mem ((c.tc : Thread Cert.At1RefIdeal.nD Cert.At1RefIdeal.τ).loc Cert.At1RefIdeal.main_arg7) = m ((c.tc : Thread Cert.At1RefIdeal.nD Cert.At1RefIdeal.τ).loc Cert.At1RefIdeal.main_arg7))
      ∧ r.2.sem = fun _ => 0)

def quiescent_Af1 [hAf1 : Cert.Af1.Facts] : Prop :=
  ∀ (m : (ℓ : Loc Cert.Af1.nD Cert.Af1.τ Cert.Af1.sig) → Buf (Elt Bits) ℓ) (g : Dev Cert.Af1.nD → PrngReg), Pre_Af1 m →
    θ_run (Cert.Af1.defs (F := Bits)) (onTc (τ := Cert.Af1.τ) (Cert.Af1.main (F := Bits))) ⟨m, fun _ => 0, g⟩ (fun r => (∀ c : Dev Cert.Af1.nD,
      r.2.mem ((c.tc : Thread Cert.Af1.nD Cert.Af1.τ).loc Cert.Af1.main_arg0) = m ((c.tc : Thread Cert.Af1.nD Cert.Af1.τ).loc Cert.Af1.main_arg0)
      ∧ r.2.mem ((c.tc : Thread Cert.Af1.nD Cert.Af1.τ).loc Cert.Af1.main_arg1) = m ((c.tc : Thread Cert.Af1.nD Cert.Af1.τ).loc Cert.Af1.main_arg1)
      ∧ r.2.mem ((c.tc : Thread Cert.Af1.nD Cert.Af1.τ).loc Cert.Af1.main_arg2) = m ((c.tc : Thread Cert.Af1.nD Cert.Af1.τ).loc Cert.Af1.main_arg2)
      ∧ r.2.mem ((c.tc : Thread Cert.Af1.nD Cert.Af1.τ).loc Cert.Af1.main_arg3) = m ((c.tc : Thread Cert.Af1.nD Cert.Af1.τ).loc Cert.Af1.main_arg3)
      ∧ r.2.mem ((c.tc : Thread Cert.Af1.nD Cert.Af1.τ).loc Cert.Af1.main_arg4) = m ((c.tc : Thread Cert.Af1.nD Cert.Af1.τ).loc Cert.Af1.main_arg4))
      ∧ r.2.sem = fun _ => 0)

def quiescent_Af1Ideal [hAf1Ideal : Cert.Af1Ideal.Facts] : Prop :=
  ∀ (m : (ℓ : Loc Cert.Af1Ideal.nD Cert.Af1Ideal.τ Cert.Af1Ideal.sig) → Buf (Elt Ideal) ℓ) (g : Dev Cert.Af1Ideal.nD → PrngReg), Pre_Af1Ideal m →
    θ_run (Cert.Af1Ideal.defs (F := Ideal)) (onTc (τ := Cert.Af1Ideal.τ) (Cert.Af1Ideal.main (F := Ideal))) ⟨m, fun _ => 0, g⟩ (fun r => (∀ c : Dev Cert.Af1Ideal.nD,
      r.2.mem ((c.tc : Thread Cert.Af1Ideal.nD Cert.Af1Ideal.τ).loc Cert.Af1Ideal.main_arg0) = m ((c.tc : Thread Cert.Af1Ideal.nD Cert.Af1Ideal.τ).loc Cert.Af1Ideal.main_arg0)
      ∧ r.2.mem ((c.tc : Thread Cert.Af1Ideal.nD Cert.Af1Ideal.τ).loc Cert.Af1Ideal.main_arg1) = m ((c.tc : Thread Cert.Af1Ideal.nD Cert.Af1Ideal.τ).loc Cert.Af1Ideal.main_arg1)
      ∧ r.2.mem ((c.tc : Thread Cert.Af1Ideal.nD Cert.Af1Ideal.τ).loc Cert.Af1Ideal.main_arg2) = m ((c.tc : Thread Cert.Af1Ideal.nD Cert.Af1Ideal.τ).loc Cert.Af1Ideal.main_arg2)
      ∧ r.2.mem ((c.tc : Thread Cert.Af1Ideal.nD Cert.Af1Ideal.τ).loc Cert.Af1Ideal.main_arg3) = m ((c.tc : Thread Cert.Af1Ideal.nD Cert.Af1Ideal.τ).loc Cert.Af1Ideal.main_arg3)
      ∧ r.2.mem ((c.tc : Thread Cert.Af1Ideal.nD Cert.Af1Ideal.τ).loc Cert.Af1Ideal.main_arg4) = m ((c.tc : Thread Cert.Af1Ideal.nD Cert.Af1Ideal.τ).loc Cert.Af1Ideal.main_arg4))
      ∧ r.2.sem = fun _ => 0)

def quiescent_Af1RefIdeal [hAf1RefIdeal : Cert.Af1RefIdeal.Facts] : Prop :=
  ∀ (m : (ℓ : Loc Cert.Af1RefIdeal.nD Cert.Af1RefIdeal.τ Cert.Af1RefIdeal.sig) → Buf (Elt Ideal) ℓ) (g : Dev Cert.Af1RefIdeal.nD → PrngReg), Pre_Af1RefIdeal m →
    θ_run (Cert.Af1RefIdeal.defs (F := Ideal)) (onTc (τ := Cert.Af1RefIdeal.τ) (Cert.Af1RefIdeal.main (F := Ideal))) ⟨m, fun _ => 0, g⟩ (fun r => (∀ c : Dev Cert.Af1RefIdeal.nD,
      r.2.mem ((c.tc : Thread Cert.Af1RefIdeal.nD Cert.Af1RefIdeal.τ).loc Cert.Af1RefIdeal.main_arg0) = m ((c.tc : Thread Cert.Af1RefIdeal.nD Cert.Af1RefIdeal.τ).loc Cert.Af1RefIdeal.main_arg0)
      ∧ r.2.mem ((c.tc : Thread Cert.Af1RefIdeal.nD Cert.Af1RefIdeal.τ).loc Cert.Af1RefIdeal.main_arg1) = m ((c.tc : Thread Cert.Af1RefIdeal.nD Cert.Af1RefIdeal.τ).loc Cert.Af1RefIdeal.main_arg1)
      ∧ r.2.mem ((c.tc : Thread Cert.Af1RefIdeal.nD Cert.Af1RefIdeal.τ).loc Cert.Af1RefIdeal.main_arg2) = m ((c.tc : Thread Cert.Af1RefIdeal.nD Cert.Af1RefIdeal.τ).loc Cert.Af1RefIdeal.main_arg2)
      ∧ r.2.mem ((c.tc : Thread Cert.Af1RefIdeal.nD Cert.Af1RefIdeal.τ).loc Cert.Af1RefIdeal.main_arg3) = m ((c.tc : Thread Cert.Af1RefIdeal.nD Cert.Af1RefIdeal.τ).loc Cert.Af1RefIdeal.main_arg3)
      ∧ r.2.mem ((c.tc : Thread Cert.Af1RefIdeal.nD Cert.Af1RefIdeal.τ).loc Cert.Af1RefIdeal.main_arg4) = m ((c.tc : Thread Cert.Af1RefIdeal.nD Cert.Af1RefIdeal.τ).loc Cert.Af1RefIdeal.main_arg4))
      ∧ r.2.sem = fun _ => 0)

def quiescent_Af2 [hAf2 : Cert.Af2.Facts] : Prop :=
  ∀ (m : (ℓ : Loc Cert.Af2.nD Cert.Af2.τ Cert.Af2.sig) → Buf (Elt Bits) ℓ) (g : Dev Cert.Af2.nD → PrngReg), Pre_Af2 m →
    θ_run (Cert.Af2.defs (F := Bits)) (onTc (τ := Cert.Af2.τ) (Cert.Af2.main (F := Bits))) ⟨m, fun _ => 0, g⟩ (fun r => (∀ c : Dev Cert.Af2.nD,
      r.2.mem ((c.tc : Thread Cert.Af2.nD Cert.Af2.τ).loc Cert.Af2.main_arg0) = m ((c.tc : Thread Cert.Af2.nD Cert.Af2.τ).loc Cert.Af2.main_arg0)
      ∧ r.2.mem ((c.tc : Thread Cert.Af2.nD Cert.Af2.τ).loc Cert.Af2.main_arg1) = m ((c.tc : Thread Cert.Af2.nD Cert.Af2.τ).loc Cert.Af2.main_arg1)
      ∧ r.2.mem ((c.tc : Thread Cert.Af2.nD Cert.Af2.τ).loc Cert.Af2.main_arg2) = m ((c.tc : Thread Cert.Af2.nD Cert.Af2.τ).loc Cert.Af2.main_arg2)
      ∧ r.2.mem ((c.tc : Thread Cert.Af2.nD Cert.Af2.τ).loc Cert.Af2.main_arg3) = m ((c.tc : Thread Cert.Af2.nD Cert.Af2.τ).loc Cert.Af2.main_arg3)
      ∧ r.2.mem ((c.tc : Thread Cert.Af2.nD Cert.Af2.τ).loc Cert.Af2.main_arg4) = m ((c.tc : Thread Cert.Af2.nD Cert.Af2.τ).loc Cert.Af2.main_arg4))
      ∧ r.2.sem = fun _ => 0)

def quiescent_Af2Ideal [hAf2Ideal : Cert.Af2Ideal.Facts] : Prop :=
  ∀ (m : (ℓ : Loc Cert.Af2Ideal.nD Cert.Af2Ideal.τ Cert.Af2Ideal.sig) → Buf (Elt Ideal) ℓ) (g : Dev Cert.Af2Ideal.nD → PrngReg), Pre_Af2Ideal m →
    θ_run (Cert.Af2Ideal.defs (F := Ideal)) (onTc (τ := Cert.Af2Ideal.τ) (Cert.Af2Ideal.main (F := Ideal))) ⟨m, fun _ => 0, g⟩ (fun r => (∀ c : Dev Cert.Af2Ideal.nD,
      r.2.mem ((c.tc : Thread Cert.Af2Ideal.nD Cert.Af2Ideal.τ).loc Cert.Af2Ideal.main_arg0) = m ((c.tc : Thread Cert.Af2Ideal.nD Cert.Af2Ideal.τ).loc Cert.Af2Ideal.main_arg0)
      ∧ r.2.mem ((c.tc : Thread Cert.Af2Ideal.nD Cert.Af2Ideal.τ).loc Cert.Af2Ideal.main_arg1) = m ((c.tc : Thread Cert.Af2Ideal.nD Cert.Af2Ideal.τ).loc Cert.Af2Ideal.main_arg1)
      ∧ r.2.mem ((c.tc : Thread Cert.Af2Ideal.nD Cert.Af2Ideal.τ).loc Cert.Af2Ideal.main_arg2) = m ((c.tc : Thread Cert.Af2Ideal.nD Cert.Af2Ideal.τ).loc Cert.Af2Ideal.main_arg2)
      ∧ r.2.mem ((c.tc : Thread Cert.Af2Ideal.nD Cert.Af2Ideal.τ).loc Cert.Af2Ideal.main_arg3) = m ((c.tc : Thread Cert.Af2Ideal.nD Cert.Af2Ideal.τ).loc Cert.Af2Ideal.main_arg3)
      ∧ r.2.mem ((c.tc : Thread Cert.Af2Ideal.nD Cert.Af2Ideal.τ).loc Cert.Af2Ideal.main_arg4) = m ((c.tc : Thread Cert.Af2Ideal.nD Cert.Af2Ideal.τ).loc Cert.Af2Ideal.main_arg4))
      ∧ r.2.sem = fun _ => 0)

def quiescent_Af2RefIdeal [hAf2RefIdeal : Cert.Af2RefIdeal.Facts] : Prop :=
  ∀ (m : (ℓ : Loc Cert.Af2RefIdeal.nD Cert.Af2RefIdeal.τ Cert.Af2RefIdeal.sig) → Buf (Elt Ideal) ℓ) (g : Dev Cert.Af2RefIdeal.nD → PrngReg), Pre_Af2RefIdeal m →
    θ_run (Cert.Af2RefIdeal.defs (F := Ideal)) (onTc (τ := Cert.Af2RefIdeal.τ) (Cert.Af2RefIdeal.main (F := Ideal))) ⟨m, fun _ => 0, g⟩ (fun r => (∀ c : Dev Cert.Af2RefIdeal.nD,
      r.2.mem ((c.tc : Thread Cert.Af2RefIdeal.nD Cert.Af2RefIdeal.τ).loc Cert.Af2RefIdeal.main_arg0) = m ((c.tc : Thread Cert.Af2RefIdeal.nD Cert.Af2RefIdeal.τ).loc Cert.Af2RefIdeal.main_arg0)
      ∧ r.2.mem ((c.tc : Thread Cert.Af2RefIdeal.nD Cert.Af2RefIdeal.τ).loc Cert.Af2RefIdeal.main_arg1) = m ((c.tc : Thread Cert.Af2RefIdeal.nD Cert.Af2RefIdeal.τ).loc Cert.Af2RefIdeal.main_arg1)
      ∧ r.2.mem ((c.tc : Thread Cert.Af2RefIdeal.nD Cert.Af2RefIdeal.τ).loc Cert.Af2RefIdeal.main_arg2) = m ((c.tc : Thread Cert.Af2RefIdeal.nD Cert.Af2RefIdeal.τ).loc Cert.Af2RefIdeal.main_arg2)
      ∧ r.2.mem ((c.tc : Thread Cert.Af2RefIdeal.nD Cert.Af2RefIdeal.τ).loc Cert.Af2RefIdeal.main_arg3) = m ((c.tc : Thread Cert.Af2RefIdeal.nD Cert.Af2RefIdeal.τ).loc Cert.Af2RefIdeal.main_arg3)
      ∧ r.2.mem ((c.tc : Thread Cert.Af2RefIdeal.nD Cert.Af2RefIdeal.τ).loc Cert.Af2RefIdeal.main_arg4) = m ((c.tc : Thread Cert.Af2RefIdeal.nD Cert.Af2RefIdeal.τ).loc Cert.Af2RefIdeal.main_arg4))
      ∧ r.2.sem = fun _ => 0)

def quiescent_Af3 [hAf3 : Cert.Af3.Facts] : Prop :=
  ∀ (m : (ℓ : Loc Cert.Af3.nD Cert.Af3.τ Cert.Af3.sig) → Buf (Elt Bits) ℓ) (g : Dev Cert.Af3.nD → PrngReg), Pre_Af3 m →
    θ_run (Cert.Af3.defs (F := Bits)) (onTc (τ := Cert.Af3.τ) (Cert.Af3.main (F := Bits))) ⟨m, fun _ => 0, g⟩ (fun r => (∀ c : Dev Cert.Af3.nD,
      r.2.mem ((c.tc : Thread Cert.Af3.nD Cert.Af3.τ).loc Cert.Af3.main_arg0) = m ((c.tc : Thread Cert.Af3.nD Cert.Af3.τ).loc Cert.Af3.main_arg0)
      ∧ r.2.mem ((c.tc : Thread Cert.Af3.nD Cert.Af3.τ).loc Cert.Af3.main_arg1) = m ((c.tc : Thread Cert.Af3.nD Cert.Af3.τ).loc Cert.Af3.main_arg1)
      ∧ r.2.mem ((c.tc : Thread Cert.Af3.nD Cert.Af3.τ).loc Cert.Af3.main_arg2) = m ((c.tc : Thread Cert.Af3.nD Cert.Af3.τ).loc Cert.Af3.main_arg2)
      ∧ r.2.mem ((c.tc : Thread Cert.Af3.nD Cert.Af3.τ).loc Cert.Af3.main_arg3) = m ((c.tc : Thread Cert.Af3.nD Cert.Af3.τ).loc Cert.Af3.main_arg3)
      ∧ r.2.mem ((c.tc : Thread Cert.Af3.nD Cert.Af3.τ).loc Cert.Af3.main_arg4) = m ((c.tc : Thread Cert.Af3.nD Cert.Af3.τ).loc Cert.Af3.main_arg4))
      ∧ r.2.sem = fun _ => 0)

def quiescent_Af3Ideal [hAf3Ideal : Cert.Af3Ideal.Facts] : Prop :=
  ∀ (m : (ℓ : Loc Cert.Af3Ideal.nD Cert.Af3Ideal.τ Cert.Af3Ideal.sig) → Buf (Elt Ideal) ℓ) (g : Dev Cert.Af3Ideal.nD → PrngReg), Pre_Af3Ideal m →
    θ_run (Cert.Af3Ideal.defs (F := Ideal)) (onTc (τ := Cert.Af3Ideal.τ) (Cert.Af3Ideal.main (F := Ideal))) ⟨m, fun _ => 0, g⟩ (fun r => (∀ c : Dev Cert.Af3Ideal.nD,
      r.2.mem ((c.tc : Thread Cert.Af3Ideal.nD Cert.Af3Ideal.τ).loc Cert.Af3Ideal.main_arg0) = m ((c.tc : Thread Cert.Af3Ideal.nD Cert.Af3Ideal.τ).loc Cert.Af3Ideal.main_arg0)
      ∧ r.2.mem ((c.tc : Thread Cert.Af3Ideal.nD Cert.Af3Ideal.τ).loc Cert.Af3Ideal.main_arg1) = m ((c.tc : Thread Cert.Af3Ideal.nD Cert.Af3Ideal.τ).loc Cert.Af3Ideal.main_arg1)
      ∧ r.2.mem ((c.tc : Thread Cert.Af3Ideal.nD Cert.Af3Ideal.τ).loc Cert.Af3Ideal.main_arg2) = m ((c.tc : Thread Cert.Af3Ideal.nD Cert.Af3Ideal.τ).loc Cert.Af3Ideal.main_arg2)
      ∧ r.2.mem ((c.tc : Thread Cert.Af3Ideal.nD Cert.Af3Ideal.τ).loc Cert.Af3Ideal.main_arg3) = m ((c.tc : Thread Cert.Af3Ideal.nD Cert.Af3Ideal.τ).loc Cert.Af3Ideal.main_arg3)
      ∧ r.2.mem ((c.tc : Thread Cert.Af3Ideal.nD Cert.Af3Ideal.τ).loc Cert.Af3Ideal.main_arg4) = m ((c.tc : Thread Cert.Af3Ideal.nD Cert.Af3Ideal.τ).loc Cert.Af3Ideal.main_arg4))
      ∧ r.2.sem = fun _ => 0)

def quiescent_Af3RefIdeal [hAf3RefIdeal : Cert.Af3RefIdeal.Facts] : Prop :=
  ∀ (m : (ℓ : Loc Cert.Af3RefIdeal.nD Cert.Af3RefIdeal.τ Cert.Af3RefIdeal.sig) → Buf (Elt Ideal) ℓ) (g : Dev Cert.Af3RefIdeal.nD → PrngReg), Pre_Af3RefIdeal m →
    θ_run (Cert.Af3RefIdeal.defs (F := Ideal)) (onTc (τ := Cert.Af3RefIdeal.τ) (Cert.Af3RefIdeal.main (F := Ideal))) ⟨m, fun _ => 0, g⟩ (fun r => (∀ c : Dev Cert.Af3RefIdeal.nD,
      r.2.mem ((c.tc : Thread Cert.Af3RefIdeal.nD Cert.Af3RefIdeal.τ).loc Cert.Af3RefIdeal.main_arg0) = m ((c.tc : Thread Cert.Af3RefIdeal.nD Cert.Af3RefIdeal.τ).loc Cert.Af3RefIdeal.main_arg0)
      ∧ r.2.mem ((c.tc : Thread Cert.Af3RefIdeal.nD Cert.Af3RefIdeal.τ).loc Cert.Af3RefIdeal.main_arg1) = m ((c.tc : Thread Cert.Af3RefIdeal.nD Cert.Af3RefIdeal.τ).loc Cert.Af3RefIdeal.main_arg1)
      ∧ r.2.mem ((c.tc : Thread Cert.Af3RefIdeal.nD Cert.Af3RefIdeal.τ).loc Cert.Af3RefIdeal.main_arg2) = m ((c.tc : Thread Cert.Af3RefIdeal.nD Cert.Af3RefIdeal.τ).loc Cert.Af3RefIdeal.main_arg2)
      ∧ r.2.mem ((c.tc : Thread Cert.Af3RefIdeal.nD Cert.Af3RefIdeal.τ).loc Cert.Af3RefIdeal.main_arg3) = m ((c.tc : Thread Cert.Af3RefIdeal.nD Cert.Af3RefIdeal.τ).loc Cert.Af3RefIdeal.main_arg3)
      ∧ r.2.mem ((c.tc : Thread Cert.Af3RefIdeal.nD Cert.Af3RefIdeal.τ).loc Cert.Af3RefIdeal.main_arg4) = m ((c.tc : Thread Cert.Af3RefIdeal.nD Cert.Af3RefIdeal.τ).loc Cert.Af3RefIdeal.main_arg4))
      ∧ r.2.sem = fun _ => 0)

def preserves_Gm_GmIdeal : Prop :=
  IdealRules.named_const.Statement Cert.GmIdeal.κ "g1" .f32 0x3D372713#32 ((8943 / 200000 : ℝ) : EReal)
  ∧ IdealRules.named_const.Statement Cert.GmIdeal.κ "g3" .f32 0x3E095D4F#32 ((26829 / 200000 : ℝ) : EReal)

def algebraic_GmIdeal_GmRefIdeal_pre_finite [hGmIdeal : Cert.GmIdeal.Facts] [hGmRefIdeal : Cert.GmRefIdeal.Facts] [hPre_finite : Cert.Pre_finite.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal_finite m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)
      ∧ m' ((c.tc : Thread Cert.GmRefIdeal.nD Cert.GmRefIdeal.τ).loc Cert.GmRefIdeal.main_arg4) = m ((c.tc : Thread Cert.GmIdeal.nD Cert.GmIdeal.τ).loc Cert.GmIdeal.main_arg4)
      ∧ m' ((c.tc : Thread Cert.GmRefIdeal.nD Cert.GmRefIdeal.τ).loc Cert.GmRefIdeal.main_arg5) = m ((c.tc : Thread Cert.GmIdeal.nD Cert.GmIdeal.τ).loc Cert.GmIdeal.main_arg5)) →
    ∃ (v0 : (c : Dev Cert.GmIdeal.nD) → Buf (Elt Ideal) ((c.tc : Thread Cert.GmIdeal.nD Cert.GmIdeal.τ).loc Cert.GmIdeal.main_v3_0)) (v1 : (c : Dev Cert.GmIdeal.nD) → Buf (Elt Ideal) ((c.tc : Thread Cert.GmIdeal.nD Cert.GmIdeal.τ).loc Cert.GmIdeal.main_v3_1)) (v2 : (c : Dev Cert.GmIdeal.nD) → Buf (Elt Ideal) ((c.tc : Thread Cert.GmIdeal.nD Cert.GmIdeal.τ).loc Cert.GmIdeal.main_v3_2)) (v3 : (c : Dev Cert.GmIdeal.nD) → Buf (Elt Ideal) ((c.tc : Thread Cert.GmIdeal.nD Cert.GmIdeal.τ).loc Cert.GmIdeal.main_v3_3)) (v4 : (c : Dev Cert.GmIdeal.nD) → Buf (Elt Ideal) ((c.tc : Thread Cert.GmIdeal.nD Cert.GmIdeal.τ).loc Cert.GmIdeal.main_v3_4)) (v5 : (c : Dev Cert.GmIdeal.nD) → Buf (Elt Ideal) ((c.tc : Thread Cert.GmIdeal.nD Cert.GmIdeal.τ).loc Cert.GmIdeal.main_v3_5)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v3_0) = v0 c
          ∧ r.2.mem ((c.tc : Thread Cert.GmIdeal.nD Cert.GmIdeal.τ).loc Cert.GmIdeal.main_v3_1) = v1 c
          ∧ r.2.mem ((c.tc : Thread Cert.GmIdeal.nD Cert.GmIdeal.τ).loc Cert.GmIdeal.main_v3_2) = v2 c
          ∧ r.2.mem ((c.tc : Thread Cert.GmIdeal.nD Cert.GmIdeal.τ).loc Cert.GmIdeal.main_v3_3) = v3 c
          ∧ r.2.mem ((c.tc : Thread Cert.GmIdeal.nD Cert.GmIdeal.τ).loc Cert.GmIdeal.main_v3_4) = v4 c
          ∧ r.2.mem ((c.tc : Thread Cert.GmIdeal.nD Cert.GmIdeal.τ).loc Cert.GmIdeal.main_v3_5) = v5 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
          ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
          ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v172) = v0 c
          ∧ r.2.mem ((c.tc : Thread Cert.GmRefIdeal.nD Cert.GmRefIdeal.τ).loc Cert.GmRefIdeal.main_v173) = v1 c
          ∧ r.2.mem ((c.tc : Thread Cert.GmRefIdeal.nD Cert.GmRefIdeal.τ).loc Cert.GmRefIdeal.main_v174) = v2 c
          ∧ r.2.mem ((c.tc : Thread Cert.GmRefIdeal.nD Cert.GmRefIdeal.τ).loc Cert.GmRefIdeal.main_v175) = v3 c
          ∧ r.2.mem ((c.tc : Thread Cert.GmRefIdeal.nD Cert.GmRefIdeal.τ).loc Cert.GmRefIdeal.main_v109) = v4 c
          ∧ r.2.mem ((c.tc : Thread Cert.GmRefIdeal.nD Cert.GmRefIdeal.τ).loc Cert.GmRefIdeal.main_v176) = v5 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3)
          ∧ r.2.mem ((c.tc : Thread Cert.GmRefIdeal.nD Cert.GmRefIdeal.τ).loc Cert.GmRefIdeal.main_arg4) = m' ((c.tc : Thread Cert.GmRefIdeal.nD Cert.GmRefIdeal.τ).loc Cert.GmRefIdeal.main_arg4)
          ∧ r.2.mem ((c.tc : Thread Cert.GmRefIdeal.nD Cert.GmRefIdeal.τ).loc Cert.GmRefIdeal.main_arg5) = m' ((c.tc : Thread Cert.GmRefIdeal.nD Cert.GmRefIdeal.τ).loc Cert.GmRefIdeal.main_arg5))

def preserves_FfDa_FfDaIdeal : Prop :=
  True

def algebraic_FfDaIdeal_FfDaRefIdeal [hFfDaIdeal : Cert.FfDaIdeal.Facts] [hFfDaRefIdeal : Cert.FfDaRefIdeal.Facts] : Prop :=
  ∀ (m : (ℓ : Loc Cert.FfDaIdeal.nD Cert.FfDaIdeal.τ Cert.FfDaIdeal.sig) → Buf (Elt Ideal) ℓ) (g : Dev Cert.FfDaIdeal.nD → PrngReg)
    (m' : (ℓ : Loc Cert.FfDaRefIdeal.nD Cert.FfDaRefIdeal.τ Cert.FfDaRefIdeal.sig) → Buf (Elt Ideal) ℓ) (g' : Dev Cert.FfDaRefIdeal.nD → PrngReg), Pre_FfDaIdeal m →
    (∀ c : Dev Cert.FfDaIdeal.nD,
      m' ((c.tc : Thread Cert.FfDaRefIdeal.nD Cert.FfDaRefIdeal.τ).loc Cert.FfDaRefIdeal.main_arg0) = m ((c.tc : Thread Cert.FfDaIdeal.nD Cert.FfDaIdeal.τ).loc Cert.FfDaIdeal.main_arg0)
      ∧ m' ((c.tc : Thread Cert.FfDaRefIdeal.nD Cert.FfDaRefIdeal.τ).loc Cert.FfDaRefIdeal.main_arg1) = m ((c.tc : Thread Cert.FfDaIdeal.nD Cert.FfDaIdeal.τ).loc Cert.FfDaIdeal.main_arg1)) →
    ∃ (v0 : (c : Dev Cert.FfDaIdeal.nD) → Buf (Elt Ideal) ((c.tc : Thread Cert.FfDaIdeal.nD Cert.FfDaIdeal.τ).loc Cert.FfDaIdeal.main_v0)),
      θ_run (Cert.FfDaIdeal.defs (F := Ideal)) (onTc (τ := Cert.FfDaIdeal.τ) (Cert.FfDaIdeal.main (F := Ideal))) ⟨m, fun _ => 0, g⟩ (fun r => ∀ c : Dev Cert.FfDaIdeal.nD,
          r.2.mem ((c.tc : Thread Cert.FfDaIdeal.nD Cert.FfDaIdeal.τ).loc Cert.FfDaIdeal.main_v0) = v0 c
          ∧ r.2.mem ((c.tc : Thread Cert.FfDaIdeal.nD Cert.FfDaIdeal.τ).loc Cert.FfDaIdeal.main_arg0) = m ((c.tc : Thread Cert.FfDaIdeal.nD Cert.FfDaIdeal.τ).loc Cert.FfDaIdeal.main_arg0)
          ∧ r.2.mem ((c.tc : Thread Cert.FfDaIdeal.nD Cert.FfDaIdeal.τ).loc Cert.FfDaIdeal.main_arg1) = m ((c.tc : Thread Cert.FfDaIdeal.nD Cert.FfDaIdeal.τ).loc Cert.FfDaIdeal.main_arg1))
      ∧ θ_run (Cert.FfDaRefIdeal.defs (F := Ideal)) (onTc (τ := Cert.FfDaRefIdeal.τ) (Cert.FfDaRefIdeal.main (F := Ideal))) ⟨m', fun _ => 0, g'⟩ (fun r => ∀ c : Dev Cert.FfDaRefIdeal.nD,
          r.2.mem ((c.tc : Thread Cert.FfDaRefIdeal.nD Cert.FfDaRefIdeal.τ).loc Cert.FfDaRefIdeal.main_v3) = v0 c
          ∧ r.2.mem ((c.tc : Thread Cert.FfDaRefIdeal.nD Cert.FfDaRefIdeal.τ).loc Cert.FfDaRefIdeal.main_arg0) = m' ((c.tc : Thread Cert.FfDaRefIdeal.nD Cert.FfDaRefIdeal.τ).loc Cert.FfDaRefIdeal.main_arg0)
          ∧ r.2.mem ((c.tc : Thread Cert.FfDaRefIdeal.nD Cert.FfDaRefIdeal.τ).loc Cert.FfDaRefIdeal.main_arg1) = m' ((c.tc : Thread Cert.FfDaRefIdeal.nD Cert.FfDaRefIdeal.τ).loc Cert.FfDaRefIdeal.main_arg1))

def preserves_FfDown0_FfDown0Ideal : Prop :=
  True

def algebraic_FfDown0Ideal_FfDown0RefIdeal [hFfDown0Ideal : Cert.FfDown0Ideal.Facts] [hFfDown0RefIdeal : Cert.FfDown0RefIdeal.Facts] : Prop :=
  ∀ (m : (ℓ : Loc Cert.FfDown0Ideal.nD Cert.FfDown0Ideal.τ Cert.FfDown0Ideal.sig) → Buf (Elt Ideal) ℓ) (g : Dev Cert.FfDown0Ideal.nD → PrngReg)
    (m' : (ℓ : Loc Cert.FfDown0RefIdeal.nD Cert.FfDown0RefIdeal.τ Cert.FfDown0RefIdeal.sig) → Buf (Elt Ideal) ℓ) (g' : Dev Cert.FfDown0RefIdeal.nD → PrngReg), Pre_FfDown0Ideal m →
    (∀ c : Dev Cert.FfDown0Ideal.nD,
      m' ((c.tc : Thread Cert.FfDown0RefIdeal.nD Cert.FfDown0RefIdeal.τ).loc Cert.FfDown0RefIdeal.main_arg0) = m ((c.tc : Thread Cert.FfDown0Ideal.nD Cert.FfDown0Ideal.τ).loc Cert.FfDown0Ideal.main_arg0)
      ∧ m' ((c.tc : Thread Cert.FfDown0RefIdeal.nD Cert.FfDown0RefIdeal.τ).loc Cert.FfDown0RefIdeal.main_arg1) = m ((c.tc : Thread Cert.FfDown0Ideal.nD Cert.FfDown0Ideal.τ).loc Cert.FfDown0Ideal.main_arg1)
      ∧ m' ((c.tc : Thread Cert.FfDown0RefIdeal.nD Cert.FfDown0RefIdeal.τ).loc Cert.FfDown0RefIdeal.main_arg2) = m ((c.tc : Thread Cert.FfDown0Ideal.nD Cert.FfDown0Ideal.τ).loc Cert.FfDown0Ideal.main_arg2)) →
    ∃ (v0 : (c : Dev Cert.FfDown0Ideal.nD) → Buf (Elt Ideal) ((c.tc : Thread Cert.FfDown0Ideal.nD Cert.FfDown0Ideal.τ).loc Cert.FfDown0Ideal.main_v0)),
      θ_run (Cert.FfDown0Ideal.defs (F := Ideal)) (onTc (τ := Cert.FfDown0Ideal.τ) (Cert.FfDown0Ideal.main (F := Ideal))) ⟨m, fun _ => 0, g⟩ (fun r => ∀ c : Dev Cert.FfDown0Ideal.nD,
          r.2.mem ((c.tc : Thread Cert.FfDown0Ideal.nD Cert.FfDown0Ideal.τ).loc Cert.FfDown0Ideal.main_v0) = v0 c
          ∧ r.2.mem ((c.tc : Thread Cert.FfDown0Ideal.nD Cert.FfDown0Ideal.τ).loc Cert.FfDown0Ideal.main_arg0) = m ((c.tc : Thread Cert.FfDown0Ideal.nD Cert.FfDown0Ideal.τ).loc Cert.FfDown0Ideal.main_arg0)
          ∧ r.2.mem ((c.tc : Thread Cert.FfDown0Ideal.nD Cert.FfDown0Ideal.τ).loc Cert.FfDown0Ideal.main_arg1) = m ((c.tc : Thread Cert.FfDown0Ideal.nD Cert.FfDown0Ideal.τ).loc Cert.FfDown0Ideal.main_arg1)
          ∧ r.2.mem ((c.tc : Thread Cert.FfDown0Ideal.nD Cert.FfDown0Ideal.τ).loc Cert.FfDown0Ideal.main_arg2) = m ((c.tc : Thread Cert.FfDown0Ideal.nD Cert.FfDown0Ideal.τ).loc Cert.FfDown0Ideal.main_arg2))
      ∧ θ_run (Cert.FfDown0RefIdeal.defs (F := Ideal)) (onTc (τ := Cert.FfDown0RefIdeal.τ) (Cert.FfDown0RefIdeal.main (F := Ideal))) ⟨m', fun _ => 0, g'⟩ (fun r => ∀ c : Dev Cert.FfDown0RefIdeal.nD,
          r.2.mem ((c.tc : Thread Cert.FfDown0RefIdeal.nD Cert.FfDown0RefIdeal.τ).loc Cert.FfDown0RefIdeal.main_v7) = v0 c
          ∧ r.2.mem ((c.tc : Thread Cert.FfDown0RefIdeal.nD Cert.FfDown0RefIdeal.τ).loc Cert.FfDown0RefIdeal.main_arg0) = m' ((c.tc : Thread Cert.FfDown0RefIdeal.nD Cert.FfDown0RefIdeal.τ).loc Cert.FfDown0RefIdeal.main_arg0)
          ∧ r.2.mem ((c.tc : Thread Cert.FfDown0RefIdeal.nD Cert.FfDown0RefIdeal.τ).loc Cert.FfDown0RefIdeal.main_arg1) = m' ((c.tc : Thread Cert.FfDown0RefIdeal.nD Cert.FfDown0RefIdeal.τ).loc Cert.FfDown0RefIdeal.main_arg1)
          ∧ r.2.mem ((c.tc : Thread Cert.FfDown0RefIdeal.nD Cert.FfDown0RefIdeal.τ).loc Cert.FfDown0RefIdeal.main_arg2) = m' ((c.tc : Thread Cert.FfDown0RefIdeal.nD Cert.FfDown0RefIdeal.τ).loc Cert.FfDown0RefIdeal.main_arg2))

def preserves_FfDown1_FfDown1Ideal : Prop :=
  True

def algebraic_FfDown1Ideal_FfDown1RefIdeal [hFfDown1Ideal : Cert.FfDown1Ideal.Facts] [hFfDown1RefIdeal : Cert.FfDown1RefIdeal.Facts] : Prop :=
  ∀ (m : (ℓ : Loc Cert.FfDown1Ideal.nD Cert.FfDown1Ideal.τ Cert.FfDown1Ideal.sig) → Buf (Elt Ideal) ℓ) (g : Dev Cert.FfDown1Ideal.nD → PrngReg)
    (m' : (ℓ : Loc Cert.FfDown1RefIdeal.nD Cert.FfDown1RefIdeal.τ Cert.FfDown1RefIdeal.sig) → Buf (Elt Ideal) ℓ) (g' : Dev Cert.FfDown1RefIdeal.nD → PrngReg), Pre_FfDown1Ideal m →
    (∀ c : Dev Cert.FfDown1Ideal.nD,
      m' ((c.tc : Thread Cert.FfDown1RefIdeal.nD Cert.FfDown1RefIdeal.τ).loc Cert.FfDown1RefIdeal.main_arg0) = m ((c.tc : Thread Cert.FfDown1Ideal.nD Cert.FfDown1Ideal.τ).loc Cert.FfDown1Ideal.main_arg0)
      ∧ m' ((c.tc : Thread Cert.FfDown1RefIdeal.nD Cert.FfDown1RefIdeal.τ).loc Cert.FfDown1RefIdeal.main_arg1) = m ((c.tc : Thread Cert.FfDown1Ideal.nD Cert.FfDown1Ideal.τ).loc Cert.FfDown1Ideal.main_arg1)
      ∧ m' ((c.tc : Thread Cert.FfDown1RefIdeal.nD Cert.FfDown1RefIdeal.τ).loc Cert.FfDown1RefIdeal.main_arg2) = m ((c.tc : Thread Cert.FfDown1Ideal.nD Cert.FfDown1Ideal.τ).loc Cert.FfDown1Ideal.main_arg2)) →
    ∃ (v0 : (c : Dev Cert.FfDown1Ideal.nD) → Buf (Elt Ideal) ((c.tc : Thread Cert.FfDown1Ideal.nD Cert.FfDown1Ideal.τ).loc Cert.FfDown1Ideal.main_v0)),
      θ_run (Cert.FfDown1Ideal.defs (F := Ideal)) (onTc (τ := Cert.FfDown1Ideal.τ) (Cert.FfDown1Ideal.main (F := Ideal))) ⟨m, fun _ => 0, g⟩ (fun r => ∀ c : Dev Cert.FfDown1Ideal.nD,
          r.2.mem ((c.tc : Thread Cert.FfDown1Ideal.nD Cert.FfDown1Ideal.τ).loc Cert.FfDown1Ideal.main_v0) = v0 c
          ∧ r.2.mem ((c.tc : Thread Cert.FfDown1Ideal.nD Cert.FfDown1Ideal.τ).loc Cert.FfDown1Ideal.main_arg0) = m ((c.tc : Thread Cert.FfDown1Ideal.nD Cert.FfDown1Ideal.τ).loc Cert.FfDown1Ideal.main_arg0)
          ∧ r.2.mem ((c.tc : Thread Cert.FfDown1Ideal.nD Cert.FfDown1Ideal.τ).loc Cert.FfDown1Ideal.main_arg1) = m ((c.tc : Thread Cert.FfDown1Ideal.nD Cert.FfDown1Ideal.τ).loc Cert.FfDown1Ideal.main_arg1)
          ∧ r.2.mem ((c.tc : Thread Cert.FfDown1Ideal.nD Cert.FfDown1Ideal.τ).loc Cert.FfDown1Ideal.main_arg2) = m ((c.tc : Thread Cert.FfDown1Ideal.nD Cert.FfDown1Ideal.τ).loc Cert.FfDown1Ideal.main_arg2))
      ∧ θ_run (Cert.FfDown1RefIdeal.defs (F := Ideal)) (onTc (τ := Cert.FfDown1RefIdeal.τ) (Cert.FfDown1RefIdeal.main (F := Ideal))) ⟨m', fun _ => 0, g'⟩ (fun r => ∀ c : Dev Cert.FfDown1RefIdeal.nD,
          r.2.mem ((c.tc : Thread Cert.FfDown1RefIdeal.nD Cert.FfDown1RefIdeal.τ).loc Cert.FfDown1RefIdeal.main_v8) = v0 c
          ∧ r.2.mem ((c.tc : Thread Cert.FfDown1RefIdeal.nD Cert.FfDown1RefIdeal.τ).loc Cert.FfDown1RefIdeal.main_arg0) = m' ((c.tc : Thread Cert.FfDown1RefIdeal.nD Cert.FfDown1RefIdeal.τ).loc Cert.FfDown1RefIdeal.main_arg0)
          ∧ r.2.mem ((c.tc : Thread Cert.FfDown1RefIdeal.nD Cert.FfDown1RefIdeal.τ).loc Cert.FfDown1RefIdeal.main_arg1) = m' ((c.tc : Thread Cert.FfDown1RefIdeal.nD Cert.FfDown1RefIdeal.τ).loc Cert.FfDown1RefIdeal.main_arg1)
          ∧ r.2.mem ((c.tc : Thread Cert.FfDown1RefIdeal.nD Cert.FfDown1RefIdeal.τ).loc Cert.FfDown1RefIdeal.main_arg2) = m' ((c.tc : Thread Cert.FfDown1RefIdeal.nD Cert.FfDown1RefIdeal.τ).loc Cert.FfDown1RefIdeal.main_arg2))

def preserves_FfDown2_FfDown2Ideal : Prop :=
  True

def algebraic_FfDown2Ideal_FfDown2RefIdeal [hFfDown2Ideal : Cert.FfDown2Ideal.Facts] [hFfDown2RefIdeal : Cert.FfDown2RefIdeal.Facts] : Prop :=
  ∀ (m : (ℓ : Loc Cert.FfDown2Ideal.nD Cert.FfDown2Ideal.τ Cert.FfDown2Ideal.sig) → Buf (Elt Ideal) ℓ) (g : Dev Cert.FfDown2Ideal.nD → PrngReg)
    (m' : (ℓ : Loc Cert.FfDown2RefIdeal.nD Cert.FfDown2RefIdeal.τ Cert.FfDown2RefIdeal.sig) → Buf (Elt Ideal) ℓ) (g' : Dev Cert.FfDown2RefIdeal.nD → PrngReg), Pre_FfDown2Ideal m →
    (∀ c : Dev Cert.FfDown2Ideal.nD,
      m' ((c.tc : Thread Cert.FfDown2RefIdeal.nD Cert.FfDown2RefIdeal.τ).loc Cert.FfDown2RefIdeal.main_arg0) = m ((c.tc : Thread Cert.FfDown2Ideal.nD Cert.FfDown2Ideal.τ).loc Cert.FfDown2Ideal.main_arg0)
      ∧ m' ((c.tc : Thread Cert.FfDown2RefIdeal.nD Cert.FfDown2RefIdeal.τ).loc Cert.FfDown2RefIdeal.main_arg1) = m ((c.tc : Thread Cert.FfDown2Ideal.nD Cert.FfDown2Ideal.τ).loc Cert.FfDown2Ideal.main_arg1)
      ∧ m' ((c.tc : Thread Cert.FfDown2RefIdeal.nD Cert.FfDown2RefIdeal.τ).loc Cert.FfDown2RefIdeal.main_arg2) = m ((c.tc : Thread Cert.FfDown2Ideal.nD Cert.FfDown2Ideal.τ).loc Cert.FfDown2Ideal.main_arg2)) →
    ∃ (v0 : (c : Dev Cert.FfDown2Ideal.nD) → Buf (Elt Ideal) ((c.tc : Thread Cert.FfDown2Ideal.nD Cert.FfDown2Ideal.τ).loc Cert.FfDown2Ideal.main_v0)),
      θ_run (Cert.FfDown2Ideal.defs (F := Ideal)) (onTc (τ := Cert.FfDown2Ideal.τ) (Cert.FfDown2Ideal.main (F := Ideal))) ⟨m, fun _ => 0, g⟩ (fun r => ∀ c : Dev Cert.FfDown2Ideal.nD,
          r.2.mem ((c.tc : Thread Cert.FfDown2Ideal.nD Cert.FfDown2Ideal.τ).loc Cert.FfDown2Ideal.main_v0) = v0 c
          ∧ r.2.mem ((c.tc : Thread Cert.FfDown2Ideal.nD Cert.FfDown2Ideal.τ).loc Cert.FfDown2Ideal.main_arg0) = m ((c.tc : Thread Cert.FfDown2Ideal.nD Cert.FfDown2Ideal.τ).loc Cert.FfDown2Ideal.main_arg0)
          ∧ r.2.mem ((c.tc : Thread Cert.FfDown2Ideal.nD Cert.FfDown2Ideal.τ).loc Cert.FfDown2Ideal.main_arg1) = m ((c.tc : Thread Cert.FfDown2Ideal.nD Cert.FfDown2Ideal.τ).loc Cert.FfDown2Ideal.main_arg1)
          ∧ r.2.mem ((c.tc : Thread Cert.FfDown2Ideal.nD Cert.FfDown2Ideal.τ).loc Cert.FfDown2Ideal.main_arg2) = m ((c.tc : Thread Cert.FfDown2Ideal.nD Cert.FfDown2Ideal.τ).loc Cert.FfDown2Ideal.main_arg2))
      ∧ θ_run (Cert.FfDown2RefIdeal.defs (F := Ideal)) (onTc (τ := Cert.FfDown2RefIdeal.τ) (Cert.FfDown2RefIdeal.main (F := Ideal))) ⟨m', fun _ => 0, g'⟩ (fun r => ∀ c : Dev Cert.FfDown2RefIdeal.nD,
          r.2.mem ((c.tc : Thread Cert.FfDown2RefIdeal.nD Cert.FfDown2RefIdeal.τ).loc Cert.FfDown2RefIdeal.main_v8) = v0 c
          ∧ r.2.mem ((c.tc : Thread Cert.FfDown2RefIdeal.nD Cert.FfDown2RefIdeal.τ).loc Cert.FfDown2RefIdeal.main_arg0) = m' ((c.tc : Thread Cert.FfDown2RefIdeal.nD Cert.FfDown2RefIdeal.τ).loc Cert.FfDown2RefIdeal.main_arg0)
          ∧ r.2.mem ((c.tc : Thread Cert.FfDown2RefIdeal.nD Cert.FfDown2RefIdeal.τ).loc Cert.FfDown2RefIdeal.main_arg1) = m' ((c.tc : Thread Cert.FfDown2RefIdeal.nD Cert.FfDown2RefIdeal.τ).loc Cert.FfDown2RefIdeal.main_arg1)
          ∧ r.2.mem ((c.tc : Thread Cert.FfDown2RefIdeal.nD Cert.FfDown2RefIdeal.τ).loc Cert.FfDown2RefIdeal.main_arg2) = m' ((c.tc : Thread Cert.FfDown2RefIdeal.nD Cert.FfDown2RefIdeal.τ).loc Cert.FfDown2RefIdeal.main_arg2))

def preserves_FfDhn0_FfDhn0Ideal : Prop :=
  True

def algebraic_FfDhn0Ideal_FfDhn0RefIdeal [hFfDhn0Ideal : Cert.FfDhn0Ideal.Facts] [hFfDhn0RefIdeal : Cert.FfDhn0RefIdeal.Facts] : Prop :=
  ∀ (m : (ℓ : Loc Cert.FfDhn0Ideal.nD Cert.FfDhn0Ideal.τ Cert.FfDhn0Ideal.sig) → Buf (Elt Ideal) ℓ) (g : Dev Cert.FfDhn0Ideal.nD → PrngReg)
    (m' : (ℓ : Loc Cert.FfDhn0RefIdeal.nD Cert.FfDhn0RefIdeal.τ Cert.FfDhn0RefIdeal.sig) → Buf (Elt Ideal) ℓ) (g' : Dev Cert.FfDhn0RefIdeal.nD → PrngReg), Pre_FfDhn0Ideal m →
    (∀ c : Dev Cert.FfDhn0Ideal.nD,
      m' ((c.tc : Thread Cert.FfDhn0RefIdeal.nD Cert.FfDhn0RefIdeal.τ).loc Cert.FfDhn0RefIdeal.main_arg0) = m ((c.tc : Thread Cert.FfDhn0Ideal.nD Cert.FfDhn0Ideal.τ).loc Cert.FfDhn0Ideal.main_arg0)
      ∧ m' ((c.tc : Thread Cert.FfDhn0RefIdeal.nD Cert.FfDhn0RefIdeal.τ).loc Cert.FfDhn0RefIdeal.main_arg1) = m ((c.tc : Thread Cert.FfDhn0Ideal.nD Cert.FfDhn0Ideal.τ).loc Cert.FfDhn0Ideal.main_arg1)) →
    ∃ (v0 : (c : Dev Cert.FfDhn0Ideal.nD) → Buf (Elt Ideal) ((c.tc : Thread Cert.FfDhn0Ideal.nD Cert.FfDhn0Ideal.τ).loc Cert.FfDhn0Ideal.main_v0)),
      θ_run (Cert.FfDhn0Ideal.defs (F := Ideal)) (onTc (τ := Cert.FfDhn0Ideal.τ) (Cert.FfDhn0Ideal.main (F := Ideal))) ⟨m, fun _ => 0, g⟩ (fun r => ∀ c : Dev Cert.FfDhn0Ideal.nD,
          r.2.mem ((c.tc : Thread Cert.FfDhn0Ideal.nD Cert.FfDhn0Ideal.τ).loc Cert.FfDhn0Ideal.main_v0) = v0 c
          ∧ r.2.mem ((c.tc : Thread Cert.FfDhn0Ideal.nD Cert.FfDhn0Ideal.τ).loc Cert.FfDhn0Ideal.main_arg0) = m ((c.tc : Thread Cert.FfDhn0Ideal.nD Cert.FfDhn0Ideal.τ).loc Cert.FfDhn0Ideal.main_arg0)
          ∧ r.2.mem ((c.tc : Thread Cert.FfDhn0Ideal.nD Cert.FfDhn0Ideal.τ).loc Cert.FfDhn0Ideal.main_arg1) = m ((c.tc : Thread Cert.FfDhn0Ideal.nD Cert.FfDhn0Ideal.τ).loc Cert.FfDhn0Ideal.main_arg1))
      ∧ θ_run (Cert.FfDhn0RefIdeal.defs (F := Ideal)) (onTc (τ := Cert.FfDhn0RefIdeal.τ) (Cert.FfDhn0RefIdeal.main (F := Ideal))) ⟨m', fun _ => 0, g'⟩ (fun r => ∀ c : Dev Cert.FfDhn0RefIdeal.nD,
          r.2.mem ((c.tc : Thread Cert.FfDhn0RefIdeal.nD Cert.FfDhn0RefIdeal.τ).loc Cert.FfDhn0RefIdeal.main_v8) = v0 c
          ∧ r.2.mem ((c.tc : Thread Cert.FfDhn0RefIdeal.nD Cert.FfDhn0RefIdeal.τ).loc Cert.FfDhn0RefIdeal.main_arg0) = m' ((c.tc : Thread Cert.FfDhn0RefIdeal.nD Cert.FfDhn0RefIdeal.τ).loc Cert.FfDhn0RefIdeal.main_arg0)
          ∧ r.2.mem ((c.tc : Thread Cert.FfDhn0RefIdeal.nD Cert.FfDhn0RefIdeal.τ).loc Cert.FfDhn0RefIdeal.main_arg1) = m' ((c.tc : Thread Cert.FfDhn0RefIdeal.nD Cert.FfDhn0RefIdeal.τ).loc Cert.FfDhn0RefIdeal.main_arg1))

def preserves_FfDhn1_FfDhn1Ideal : Prop :=
  True

def algebraic_FfDhn1Ideal_FfDhn1RefIdeal [hFfDhn1Ideal : Cert.FfDhn1Ideal.Facts] [hFfDhn1RefIdeal : Cert.FfDhn1RefIdeal.Facts] : Prop :=
  ∀ (m : (ℓ : Loc Cert.FfDhn1Ideal.nD Cert.FfDhn1Ideal.τ Cert.FfDhn1Ideal.sig) → Buf (Elt Ideal) ℓ) (g : Dev Cert.FfDhn1Ideal.nD → PrngReg)
    (m' : (ℓ : Loc Cert.FfDhn1RefIdeal.nD Cert.FfDhn1RefIdeal.τ Cert.FfDhn1RefIdeal.sig) → Buf (Elt Ideal) ℓ) (g' : Dev Cert.FfDhn1RefIdeal.nD → PrngReg), Pre_FfDhn1Ideal m →
    (∀ c : Dev Cert.FfDhn1Ideal.nD,
      m' ((c.tc : Thread Cert.FfDhn1RefIdeal.nD Cert.FfDhn1RefIdeal.τ).loc Cert.FfDhn1RefIdeal.main_arg0) = m ((c.tc : Thread Cert.FfDhn1Ideal.nD Cert.FfDhn1Ideal.τ).loc Cert.FfDhn1Ideal.main_arg0)
      ∧ m' ((c.tc : Thread Cert.FfDhn1RefIdeal.nD Cert.FfDhn1RefIdeal.τ).loc Cert.FfDhn1RefIdeal.main_arg1) = m ((c.tc : Thread Cert.FfDhn1Ideal.nD Cert.FfDhn1Ideal.τ).loc Cert.FfDhn1Ideal.main_arg1)) →
    ∃ (v0 : (c : Dev Cert.FfDhn1Ideal.nD) → Buf (Elt Ideal) ((c.tc : Thread Cert.FfDhn1Ideal.nD Cert.FfDhn1Ideal.τ).loc Cert.FfDhn1Ideal.main_v0)),
      θ_run (Cert.FfDhn1Ideal.defs (F := Ideal)) (onTc (τ := Cert.FfDhn1Ideal.τ) (Cert.FfDhn1Ideal.main (F := Ideal))) ⟨m, fun _ => 0, g⟩ (fun r => ∀ c : Dev Cert.FfDhn1Ideal.nD,
          r.2.mem ((c.tc : Thread Cert.FfDhn1Ideal.nD Cert.FfDhn1Ideal.τ).loc Cert.FfDhn1Ideal.main_v0) = v0 c
          ∧ r.2.mem ((c.tc : Thread Cert.FfDhn1Ideal.nD Cert.FfDhn1Ideal.τ).loc Cert.FfDhn1Ideal.main_arg0) = m ((c.tc : Thread Cert.FfDhn1Ideal.nD Cert.FfDhn1Ideal.τ).loc Cert.FfDhn1Ideal.main_arg0)
          ∧ r.2.mem ((c.tc : Thread Cert.FfDhn1Ideal.nD Cert.FfDhn1Ideal.τ).loc Cert.FfDhn1Ideal.main_arg1) = m ((c.tc : Thread Cert.FfDhn1Ideal.nD Cert.FfDhn1Ideal.τ).loc Cert.FfDhn1Ideal.main_arg1))
      ∧ θ_run (Cert.FfDhn1RefIdeal.defs (F := Ideal)) (onTc (τ := Cert.FfDhn1RefIdeal.τ) (Cert.FfDhn1RefIdeal.main (F := Ideal))) ⟨m', fun _ => 0, g'⟩ (fun r => ∀ c : Dev Cert.FfDhn1RefIdeal.nD,
          r.2.mem ((c.tc : Thread Cert.FfDhn1RefIdeal.nD Cert.FfDhn1RefIdeal.τ).loc Cert.FfDhn1RefIdeal.main_v8) = v0 c
          ∧ r.2.mem ((c.tc : Thread Cert.FfDhn1RefIdeal.nD Cert.FfDhn1RefIdeal.τ).loc Cert.FfDhn1RefIdeal.main_arg0) = m' ((c.tc : Thread Cert.FfDhn1RefIdeal.nD Cert.FfDhn1RefIdeal.τ).loc Cert.FfDhn1RefIdeal.main_arg0)
          ∧ r.2.mem ((c.tc : Thread Cert.FfDhn1RefIdeal.nD Cert.FfDhn1RefIdeal.τ).loc Cert.FfDhn1RefIdeal.main_arg1) = m' ((c.tc : Thread Cert.FfDhn1RefIdeal.nD Cert.FfDhn1RefIdeal.τ).loc Cert.FfDhn1RefIdeal.main_arg1))

def preserves_FfDhn2_FfDhn2Ideal : Prop :=
  True

def algebraic_FfDhn2Ideal_FfDhn2RefIdeal [hFfDhn2Ideal : Cert.FfDhn2Ideal.Facts] [hFfDhn2RefIdeal : Cert.FfDhn2RefIdeal.Facts] : Prop :=
  ∀ (m : (ℓ : Loc Cert.FfDhn2Ideal.nD Cert.FfDhn2Ideal.τ Cert.FfDhn2Ideal.sig) → Buf (Elt Ideal) ℓ) (g : Dev Cert.FfDhn2Ideal.nD → PrngReg)
    (m' : (ℓ : Loc Cert.FfDhn2RefIdeal.nD Cert.FfDhn2RefIdeal.τ Cert.FfDhn2RefIdeal.sig) → Buf (Elt Ideal) ℓ) (g' : Dev Cert.FfDhn2RefIdeal.nD → PrngReg), Pre_FfDhn2Ideal m →
    (∀ c : Dev Cert.FfDhn2Ideal.nD,
      m' ((c.tc : Thread Cert.FfDhn2RefIdeal.nD Cert.FfDhn2RefIdeal.τ).loc Cert.FfDhn2RefIdeal.main_arg0) = m ((c.tc : Thread Cert.FfDhn2Ideal.nD Cert.FfDhn2Ideal.τ).loc Cert.FfDhn2Ideal.main_arg0)
      ∧ m' ((c.tc : Thread Cert.FfDhn2RefIdeal.nD Cert.FfDhn2RefIdeal.τ).loc Cert.FfDhn2RefIdeal.main_arg1) = m ((c.tc : Thread Cert.FfDhn2Ideal.nD Cert.FfDhn2Ideal.τ).loc Cert.FfDhn2Ideal.main_arg1)) →
    ∃ (v0 : (c : Dev Cert.FfDhn2Ideal.nD) → Buf (Elt Ideal) ((c.tc : Thread Cert.FfDhn2Ideal.nD Cert.FfDhn2Ideal.τ).loc Cert.FfDhn2Ideal.main_v0)),
      θ_run (Cert.FfDhn2Ideal.defs (F := Ideal)) (onTc (τ := Cert.FfDhn2Ideal.τ) (Cert.FfDhn2Ideal.main (F := Ideal))) ⟨m, fun _ => 0, g⟩ (fun r => ∀ c : Dev Cert.FfDhn2Ideal.nD,
          r.2.mem ((c.tc : Thread Cert.FfDhn2Ideal.nD Cert.FfDhn2Ideal.τ).loc Cert.FfDhn2Ideal.main_v0) = v0 c
          ∧ r.2.mem ((c.tc : Thread Cert.FfDhn2Ideal.nD Cert.FfDhn2Ideal.τ).loc Cert.FfDhn2Ideal.main_arg0) = m ((c.tc : Thread Cert.FfDhn2Ideal.nD Cert.FfDhn2Ideal.τ).loc Cert.FfDhn2Ideal.main_arg0)
          ∧ r.2.mem ((c.tc : Thread Cert.FfDhn2Ideal.nD Cert.FfDhn2Ideal.τ).loc Cert.FfDhn2Ideal.main_arg1) = m ((c.tc : Thread Cert.FfDhn2Ideal.nD Cert.FfDhn2Ideal.τ).loc Cert.FfDhn2Ideal.main_arg1))
      ∧ θ_run (Cert.FfDhn2RefIdeal.defs (F := Ideal)) (onTc (τ := Cert.FfDhn2RefIdeal.τ) (Cert.FfDhn2RefIdeal.main (F := Ideal))) ⟨m', fun _ => 0, g'⟩ (fun r => ∀ c : Dev Cert.FfDhn2RefIdeal.nD,
          r.2.mem ((c.tc : Thread Cert.FfDhn2RefIdeal.nD Cert.FfDhn2RefIdeal.τ).loc Cert.FfDhn2RefIdeal.main_v8) = v0 c
          ∧ r.2.mem ((c.tc : Thread Cert.FfDhn2RefIdeal.nD Cert.FfDhn2RefIdeal.τ).loc Cert.FfDhn2RefIdeal.main_arg0) = m' ((c.tc : Thread Cert.FfDhn2RefIdeal.nD Cert.FfDhn2RefIdeal.τ).loc Cert.FfDhn2RefIdeal.main_arg0)
          ∧ r.2.mem ((c.tc : Thread Cert.FfDhn2RefIdeal.nD Cert.FfDhn2RefIdeal.τ).loc Cert.FfDhn2RefIdeal.main_arg1) = m' ((c.tc : Thread Cert.FfDhn2RefIdeal.nD Cert.FfDhn2RefIdeal.τ).loc Cert.FfDhn2RefIdeal.main_arg1))

def preserves_FfDhn3_FfDhn3Ideal : Prop :=
  True

def algebraic_FfDhn3Ideal_FfDhn3RefIdeal [hFfDhn3Ideal : Cert.FfDhn3Ideal.Facts] [hFfDhn3RefIdeal : Cert.FfDhn3RefIdeal.Facts] : Prop :=
  ∀ (m : (ℓ : Loc Cert.FfDhn3Ideal.nD Cert.FfDhn3Ideal.τ Cert.FfDhn3Ideal.sig) → Buf (Elt Ideal) ℓ) (g : Dev Cert.FfDhn3Ideal.nD → PrngReg)
    (m' : (ℓ : Loc Cert.FfDhn3RefIdeal.nD Cert.FfDhn3RefIdeal.τ Cert.FfDhn3RefIdeal.sig) → Buf (Elt Ideal) ℓ) (g' : Dev Cert.FfDhn3RefIdeal.nD → PrngReg), Pre_FfDhn3Ideal m →
    (∀ c : Dev Cert.FfDhn3Ideal.nD,
      m' ((c.tc : Thread Cert.FfDhn3RefIdeal.nD Cert.FfDhn3RefIdeal.τ).loc Cert.FfDhn3RefIdeal.main_arg0) = m ((c.tc : Thread Cert.FfDhn3Ideal.nD Cert.FfDhn3Ideal.τ).loc Cert.FfDhn3Ideal.main_arg0)
      ∧ m' ((c.tc : Thread Cert.FfDhn3RefIdeal.nD Cert.FfDhn3RefIdeal.τ).loc Cert.FfDhn3RefIdeal.main_arg1) = m ((c.tc : Thread Cert.FfDhn3Ideal.nD Cert.FfDhn3Ideal.τ).loc Cert.FfDhn3Ideal.main_arg1)) →
    ∃ (v0 : (c : Dev Cert.FfDhn3Ideal.nD) → Buf (Elt Ideal) ((c.tc : Thread Cert.FfDhn3Ideal.nD Cert.FfDhn3Ideal.τ).loc Cert.FfDhn3Ideal.main_v0)),
      θ_run (Cert.FfDhn3Ideal.defs (F := Ideal)) (onTc (τ := Cert.FfDhn3Ideal.τ) (Cert.FfDhn3Ideal.main (F := Ideal))) ⟨m, fun _ => 0, g⟩ (fun r => ∀ c : Dev Cert.FfDhn3Ideal.nD,
          r.2.mem ((c.tc : Thread Cert.FfDhn3Ideal.nD Cert.FfDhn3Ideal.τ).loc Cert.FfDhn3Ideal.main_v0) = v0 c
          ∧ r.2.mem ((c.tc : Thread Cert.FfDhn3Ideal.nD Cert.FfDhn3Ideal.τ).loc Cert.FfDhn3Ideal.main_arg0) = m ((c.tc : Thread Cert.FfDhn3Ideal.nD Cert.FfDhn3Ideal.τ).loc Cert.FfDhn3Ideal.main_arg0)
          ∧ r.2.mem ((c.tc : Thread Cert.FfDhn3Ideal.nD Cert.FfDhn3Ideal.τ).loc Cert.FfDhn3Ideal.main_arg1) = m ((c.tc : Thread Cert.FfDhn3Ideal.nD Cert.FfDhn3Ideal.τ).loc Cert.FfDhn3Ideal.main_arg1))
      ∧ θ_run (Cert.FfDhn3RefIdeal.defs (F := Ideal)) (onTc (τ := Cert.FfDhn3RefIdeal.τ) (Cert.FfDhn3RefIdeal.main (F := Ideal))) ⟨m', fun _ => 0, g'⟩ (fun r => ∀ c : Dev Cert.FfDhn3RefIdeal.nD,
          r.2.mem ((c.tc : Thread Cert.FfDhn3RefIdeal.nD Cert.FfDhn3RefIdeal.τ).loc Cert.FfDhn3RefIdeal.main_v8) = v0 c
          ∧ r.2.mem ((c.tc : Thread Cert.FfDhn3RefIdeal.nD Cert.FfDhn3RefIdeal.τ).loc Cert.FfDhn3RefIdeal.main_arg0) = m' ((c.tc : Thread Cert.FfDhn3RefIdeal.nD Cert.FfDhn3RefIdeal.τ).loc Cert.FfDhn3RefIdeal.main_arg0)
          ∧ r.2.mem ((c.tc : Thread Cert.FfDhn3RefIdeal.nD Cert.FfDhn3RefIdeal.τ).loc Cert.FfDhn3RefIdeal.main_arg1) = m' ((c.tc : Thread Cert.FfDhn3RefIdeal.nD Cert.FfDhn3RefIdeal.τ).loc Cert.FfDhn3RefIdeal.main_arg1))

def preserves_FfUp0_FfUp0Ideal : Prop :=
  True

def algebraic_FfUp0Ideal_FfUp0RefIdeal [hFfUp0Ideal : Cert.FfUp0Ideal.Facts] [hFfUp0RefIdeal : Cert.FfUp0RefIdeal.Facts] : Prop :=
  ∀ (m : (ℓ : Loc Cert.FfUp0Ideal.nD Cert.FfUp0Ideal.τ Cert.FfUp0Ideal.sig) → Buf (Elt Ideal) ℓ) (g : Dev Cert.FfUp0Ideal.nD → PrngReg)
    (m' : (ℓ : Loc Cert.FfUp0RefIdeal.nD Cert.FfUp0RefIdeal.τ Cert.FfUp0RefIdeal.sig) → Buf (Elt Ideal) ℓ) (g' : Dev Cert.FfUp0RefIdeal.nD → PrngReg), Pre_FfUp0Ideal m →
    (∀ c : Dev Cert.FfUp0Ideal.nD,
      m' ((c.tc : Thread Cert.FfUp0RefIdeal.nD Cert.FfUp0RefIdeal.τ).loc Cert.FfUp0RefIdeal.main_arg0) = m ((c.tc : Thread Cert.FfUp0Ideal.nD Cert.FfUp0Ideal.τ).loc Cert.FfUp0Ideal.main_arg0)
      ∧ m' ((c.tc : Thread Cert.FfUp0RefIdeal.nD Cert.FfUp0RefIdeal.τ).loc Cert.FfUp0RefIdeal.main_arg1) = m ((c.tc : Thread Cert.FfUp0Ideal.nD Cert.FfUp0Ideal.τ).loc Cert.FfUp0Ideal.main_arg1)
      ∧ m' ((c.tc : Thread Cert.FfUp0RefIdeal.nD Cert.FfUp0RefIdeal.τ).loc Cert.FfUp0RefIdeal.main_arg2) = m ((c.tc : Thread Cert.FfUp0Ideal.nD Cert.FfUp0Ideal.τ).loc Cert.FfUp0Ideal.main_arg2)) →
    ∃ (v0 : (c : Dev Cert.FfUp0Ideal.nD) → Buf (Elt Ideal) ((c.tc : Thread Cert.FfUp0Ideal.nD Cert.FfUp0Ideal.τ).loc Cert.FfUp0Ideal.main_v0)),
      θ_run (Cert.FfUp0Ideal.defs (F := Ideal)) (onTc (τ := Cert.FfUp0Ideal.τ) (Cert.FfUp0Ideal.main (F := Ideal))) ⟨m, fun _ => 0, g⟩ (fun r => ∀ c : Dev Cert.FfUp0Ideal.nD,
          r.2.mem ((c.tc : Thread Cert.FfUp0Ideal.nD Cert.FfUp0Ideal.τ).loc Cert.FfUp0Ideal.main_v0) = v0 c
          ∧ r.2.mem ((c.tc : Thread Cert.FfUp0Ideal.nD Cert.FfUp0Ideal.τ).loc Cert.FfUp0Ideal.main_arg0) = m ((c.tc : Thread Cert.FfUp0Ideal.nD Cert.FfUp0Ideal.τ).loc Cert.FfUp0Ideal.main_arg0)
          ∧ r.2.mem ((c.tc : Thread Cert.FfUp0Ideal.nD Cert.FfUp0Ideal.τ).loc Cert.FfUp0Ideal.main_arg1) = m ((c.tc : Thread Cert.FfUp0Ideal.nD Cert.FfUp0Ideal.τ).loc Cert.FfUp0Ideal.main_arg1)
          ∧ r.2.mem ((c.tc : Thread Cert.FfUp0Ideal.nD Cert.FfUp0Ideal.τ).loc Cert.FfUp0Ideal.main_arg2) = m ((c.tc : Thread Cert.FfUp0Ideal.nD Cert.FfUp0Ideal.τ).loc Cert.FfUp0Ideal.main_arg2))
      ∧ θ_run (Cert.FfUp0RefIdeal.defs (F := Ideal)) (onTc (τ := Cert.FfUp0RefIdeal.τ) (Cert.FfUp0RefIdeal.main (F := Ideal))) ⟨m', fun _ => 0, g'⟩ (fun r => ∀ c : Dev Cert.FfUp0RefIdeal.nD,
          r.2.mem ((c.tc : Thread Cert.FfUp0RefIdeal.nD Cert.FfUp0RefIdeal.τ).loc Cert.FfUp0RefIdeal.main_v10) = v0 c
          ∧ r.2.mem ((c.tc : Thread Cert.FfUp0RefIdeal.nD Cert.FfUp0RefIdeal.τ).loc Cert.FfUp0RefIdeal.main_arg0) = m' ((c.tc : Thread Cert.FfUp0RefIdeal.nD Cert.FfUp0RefIdeal.τ).loc Cert.FfUp0RefIdeal.main_arg0)
          ∧ r.2.mem ((c.tc : Thread Cert.FfUp0RefIdeal.nD Cert.FfUp0RefIdeal.τ).loc Cert.FfUp0RefIdeal.main_arg1) = m' ((c.tc : Thread Cert.FfUp0RefIdeal.nD Cert.FfUp0RefIdeal.τ).loc Cert.FfUp0RefIdeal.main_arg1)
          ∧ r.2.mem ((c.tc : Thread Cert.FfUp0RefIdeal.nD Cert.FfUp0RefIdeal.τ).loc Cert.FfUp0RefIdeal.main_arg2) = m' ((c.tc : Thread Cert.FfUp0RefIdeal.nD Cert.FfUp0RefIdeal.τ).loc Cert.FfUp0RefIdeal.main_arg2))

def preserves_FfUp1_FfUp1Ideal : Prop :=
  True

def algebraic_FfUp1Ideal_FfUp1RefIdeal [hFfUp1Ideal : Cert.FfUp1Ideal.Facts] [hFfUp1RefIdeal : Cert.FfUp1RefIdeal.Facts] : Prop :=
  ∀ (m : (ℓ : Loc Cert.FfUp1Ideal.nD Cert.FfUp1Ideal.τ Cert.FfUp1Ideal.sig) → Buf (Elt Ideal) ℓ) (g : Dev Cert.FfUp1Ideal.nD → PrngReg)
    (m' : (ℓ : Loc Cert.FfUp1RefIdeal.nD Cert.FfUp1RefIdeal.τ Cert.FfUp1RefIdeal.sig) → Buf (Elt Ideal) ℓ) (g' : Dev Cert.FfUp1RefIdeal.nD → PrngReg), Pre_FfUp1Ideal m →
    (∀ c : Dev Cert.FfUp1Ideal.nD,
      m' ((c.tc : Thread Cert.FfUp1RefIdeal.nD Cert.FfUp1RefIdeal.τ).loc Cert.FfUp1RefIdeal.main_arg0) = m ((c.tc : Thread Cert.FfUp1Ideal.nD Cert.FfUp1Ideal.τ).loc Cert.FfUp1Ideal.main_arg0)
      ∧ m' ((c.tc : Thread Cert.FfUp1RefIdeal.nD Cert.FfUp1RefIdeal.τ).loc Cert.FfUp1RefIdeal.main_arg1) = m ((c.tc : Thread Cert.FfUp1Ideal.nD Cert.FfUp1Ideal.τ).loc Cert.FfUp1Ideal.main_arg1)
      ∧ m' ((c.tc : Thread Cert.FfUp1RefIdeal.nD Cert.FfUp1RefIdeal.τ).loc Cert.FfUp1RefIdeal.main_arg2) = m ((c.tc : Thread Cert.FfUp1Ideal.nD Cert.FfUp1Ideal.τ).loc Cert.FfUp1Ideal.main_arg2)) →
    ∃ (v0 : (c : Dev Cert.FfUp1Ideal.nD) → Buf (Elt Ideal) ((c.tc : Thread Cert.FfUp1Ideal.nD Cert.FfUp1Ideal.τ).loc Cert.FfUp1Ideal.main_v0)),
      θ_run (Cert.FfUp1Ideal.defs (F := Ideal)) (onTc (τ := Cert.FfUp1Ideal.τ) (Cert.FfUp1Ideal.main (F := Ideal))) ⟨m, fun _ => 0, g⟩ (fun r => ∀ c : Dev Cert.FfUp1Ideal.nD,
          r.2.mem ((c.tc : Thread Cert.FfUp1Ideal.nD Cert.FfUp1Ideal.τ).loc Cert.FfUp1Ideal.main_v0) = v0 c
          ∧ r.2.mem ((c.tc : Thread Cert.FfUp1Ideal.nD Cert.FfUp1Ideal.τ).loc Cert.FfUp1Ideal.main_arg0) = m ((c.tc : Thread Cert.FfUp1Ideal.nD Cert.FfUp1Ideal.τ).loc Cert.FfUp1Ideal.main_arg0)
          ∧ r.2.mem ((c.tc : Thread Cert.FfUp1Ideal.nD Cert.FfUp1Ideal.τ).loc Cert.FfUp1Ideal.main_arg1) = m ((c.tc : Thread Cert.FfUp1Ideal.nD Cert.FfUp1Ideal.τ).loc Cert.FfUp1Ideal.main_arg1)
          ∧ r.2.mem ((c.tc : Thread Cert.FfUp1Ideal.nD Cert.FfUp1Ideal.τ).loc Cert.FfUp1Ideal.main_arg2) = m ((c.tc : Thread Cert.FfUp1Ideal.nD Cert.FfUp1Ideal.τ).loc Cert.FfUp1Ideal.main_arg2))
      ∧ θ_run (Cert.FfUp1RefIdeal.defs (F := Ideal)) (onTc (τ := Cert.FfUp1RefIdeal.τ) (Cert.FfUp1RefIdeal.main (F := Ideal))) ⟨m', fun _ => 0, g'⟩ (fun r => ∀ c : Dev Cert.FfUp1RefIdeal.nD,
          r.2.mem ((c.tc : Thread Cert.FfUp1RefIdeal.nD Cert.FfUp1RefIdeal.τ).loc Cert.FfUp1RefIdeal.main_v11) = v0 c
          ∧ r.2.mem ((c.tc : Thread Cert.FfUp1RefIdeal.nD Cert.FfUp1RefIdeal.τ).loc Cert.FfUp1RefIdeal.main_arg0) = m' ((c.tc : Thread Cert.FfUp1RefIdeal.nD Cert.FfUp1RefIdeal.τ).loc Cert.FfUp1RefIdeal.main_arg0)
          ∧ r.2.mem ((c.tc : Thread Cert.FfUp1RefIdeal.nD Cert.FfUp1RefIdeal.τ).loc Cert.FfUp1RefIdeal.main_arg1) = m' ((c.tc : Thread Cert.FfUp1RefIdeal.nD Cert.FfUp1RefIdeal.τ).loc Cert.FfUp1RefIdeal.main_arg1)
          ∧ r.2.mem ((c.tc : Thread Cert.FfUp1RefIdeal.nD Cert.FfUp1RefIdeal.τ).loc Cert.FfUp1RefIdeal.main_arg2) = m' ((c.tc : Thread Cert.FfUp1RefIdeal.nD Cert.FfUp1RefIdeal.τ).loc Cert.FfUp1RefIdeal.main_arg2))

def preserves_FfUp2_FfUp2Ideal : Prop :=
  True

def algebraic_FfUp2Ideal_FfUp2RefIdeal [hFfUp2Ideal : Cert.FfUp2Ideal.Facts] [hFfUp2RefIdeal : Cert.FfUp2RefIdeal.Facts] : Prop :=
  ∀ (m : (ℓ : Loc Cert.FfUp2Ideal.nD Cert.FfUp2Ideal.τ Cert.FfUp2Ideal.sig) → Buf (Elt Ideal) ℓ) (g : Dev Cert.FfUp2Ideal.nD → PrngReg)
    (m' : (ℓ : Loc Cert.FfUp2RefIdeal.nD Cert.FfUp2RefIdeal.τ Cert.FfUp2RefIdeal.sig) → Buf (Elt Ideal) ℓ) (g' : Dev Cert.FfUp2RefIdeal.nD → PrngReg), Pre_FfUp2Ideal m →
    (∀ c : Dev Cert.FfUp2Ideal.nD,
      m' ((c.tc : Thread Cert.FfUp2RefIdeal.nD Cert.FfUp2RefIdeal.τ).loc Cert.FfUp2RefIdeal.main_arg0) = m ((c.tc : Thread Cert.FfUp2Ideal.nD Cert.FfUp2Ideal.τ).loc Cert.FfUp2Ideal.main_arg0)
      ∧ m' ((c.tc : Thread Cert.FfUp2RefIdeal.nD Cert.FfUp2RefIdeal.τ).loc Cert.FfUp2RefIdeal.main_arg1) = m ((c.tc : Thread Cert.FfUp2Ideal.nD Cert.FfUp2Ideal.τ).loc Cert.FfUp2Ideal.main_arg1)
      ∧ m' ((c.tc : Thread Cert.FfUp2RefIdeal.nD Cert.FfUp2RefIdeal.τ).loc Cert.FfUp2RefIdeal.main_arg2) = m ((c.tc : Thread Cert.FfUp2Ideal.nD Cert.FfUp2Ideal.τ).loc Cert.FfUp2Ideal.main_arg2)) →
    ∃ (v0 : (c : Dev Cert.FfUp2Ideal.nD) → Buf (Elt Ideal) ((c.tc : Thread Cert.FfUp2Ideal.nD Cert.FfUp2Ideal.τ).loc Cert.FfUp2Ideal.main_v0)),
      θ_run (Cert.FfUp2Ideal.defs (F := Ideal)) (onTc (τ := Cert.FfUp2Ideal.τ) (Cert.FfUp2Ideal.main (F := Ideal))) ⟨m, fun _ => 0, g⟩ (fun r => ∀ c : Dev Cert.FfUp2Ideal.nD,
          r.2.mem ((c.tc : Thread Cert.FfUp2Ideal.nD Cert.FfUp2Ideal.τ).loc Cert.FfUp2Ideal.main_v0) = v0 c
          ∧ r.2.mem ((c.tc : Thread Cert.FfUp2Ideal.nD Cert.FfUp2Ideal.τ).loc Cert.FfUp2Ideal.main_arg0) = m ((c.tc : Thread Cert.FfUp2Ideal.nD Cert.FfUp2Ideal.τ).loc Cert.FfUp2Ideal.main_arg0)
          ∧ r.2.mem ((c.tc : Thread Cert.FfUp2Ideal.nD Cert.FfUp2Ideal.τ).loc Cert.FfUp2Ideal.main_arg1) = m ((c.tc : Thread Cert.FfUp2Ideal.nD Cert.FfUp2Ideal.τ).loc Cert.FfUp2Ideal.main_arg1)
          ∧ r.2.mem ((c.tc : Thread Cert.FfUp2Ideal.nD Cert.FfUp2Ideal.τ).loc Cert.FfUp2Ideal.main_arg2) = m ((c.tc : Thread Cert.FfUp2Ideal.nD Cert.FfUp2Ideal.τ).loc Cert.FfUp2Ideal.main_arg2))
      ∧ θ_run (Cert.FfUp2RefIdeal.defs (F := Ideal)) (onTc (τ := Cert.FfUp2RefIdeal.τ) (Cert.FfUp2RefIdeal.main (F := Ideal))) ⟨m', fun _ => 0, g'⟩ (fun r => ∀ c : Dev Cert.FfUp2RefIdeal.nD,
          r.2.mem ((c.tc : Thread Cert.FfUp2RefIdeal.nD Cert.FfUp2RefIdeal.τ).loc Cert.FfUp2RefIdeal.main_v11) = v0 c
          ∧ r.2.mem ((c.tc : Thread Cert.FfUp2RefIdeal.nD Cert.FfUp2RefIdeal.τ).loc Cert.FfUp2RefIdeal.main_arg0) = m' ((c.tc : Thread Cert.FfUp2RefIdeal.nD Cert.FfUp2RefIdeal.τ).loc Cert.FfUp2RefIdeal.main_arg0)
          ∧ r.2.mem ((c.tc : Thread Cert.FfUp2RefIdeal.nD Cert.FfUp2RefIdeal.τ).loc Cert.FfUp2RefIdeal.main_arg1) = m' ((c.tc : Thread Cert.FfUp2RefIdeal.nD Cert.FfUp2RefIdeal.τ).loc Cert.FfUp2RefIdeal.main_arg1)
          ∧ r.2.mem ((c.tc : Thread Cert.FfUp2RefIdeal.nD Cert.FfUp2RefIdeal.τ).loc Cert.FfUp2RefIdeal.main_arg2) = m' ((c.tc : Thread Cert.FfUp2RefIdeal.nD Cert.FfUp2RefIdeal.τ).loc Cert.FfUp2RefIdeal.main_arg2))

def preserves_EvDcat_EvDcatIdeal : Prop :=
  True

def algebraic_EvDcatIdeal_EvDcatRefIdeal [hEvDcatIdeal : Cert.EvDcatIdeal.Facts] [hEvDcatRefIdeal : Cert.EvDcatRefIdeal.Facts] : Prop :=
  ∀ (m : (ℓ : Loc Cert.EvDcatIdeal.nD Cert.EvDcatIdeal.τ Cert.EvDcatIdeal.sig) → Buf (Elt Ideal) ℓ) (g : Dev Cert.EvDcatIdeal.nD → PrngReg)
    (m' : (ℓ : Loc Cert.EvDcatRefIdeal.nD Cert.EvDcatRefIdeal.τ Cert.EvDcatRefIdeal.sig) → Buf (Elt Ideal) ℓ) (g' : Dev Cert.EvDcatRefIdeal.nD → PrngReg), Pre_EvDcatIdeal m →
    (∀ c : Dev Cert.EvDcatIdeal.nD,
      m' ((c.tc : Thread Cert.EvDcatRefIdeal.nD Cert.EvDcatRefIdeal.τ).loc Cert.EvDcatRefIdeal.main_arg0) = m ((c.tc : Thread Cert.EvDcatIdeal.nD Cert.EvDcatIdeal.τ).loc Cert.EvDcatIdeal.main_arg0)
      ∧ m' ((c.tc : Thread Cert.EvDcatRefIdeal.nD Cert.EvDcatRefIdeal.τ).loc Cert.EvDcatRefIdeal.main_arg1) = m ((c.tc : Thread Cert.EvDcatIdeal.nD Cert.EvDcatIdeal.τ).loc Cert.EvDcatIdeal.main_arg1)) →
    ∃ (v0 : (c : Dev Cert.EvDcatIdeal.nD) → Buf (Elt Ideal) ((c.tc : Thread Cert.EvDcatIdeal.nD Cert.EvDcatIdeal.τ).loc Cert.EvDcatIdeal.main_v0)),
      θ_run (Cert.EvDcatIdeal.defs (F := Ideal)) (onTc (τ := Cert.EvDcatIdeal.τ) (Cert.EvDcatIdeal.main (F := Ideal))) ⟨m, fun _ => 0, g⟩ (fun r => ∀ c : Dev Cert.EvDcatIdeal.nD,
          r.2.mem ((c.tc : Thread Cert.EvDcatIdeal.nD Cert.EvDcatIdeal.τ).loc Cert.EvDcatIdeal.main_v0) = v0 c
          ∧ r.2.mem ((c.tc : Thread Cert.EvDcatIdeal.nD Cert.EvDcatIdeal.τ).loc Cert.EvDcatIdeal.main_arg0) = m ((c.tc : Thread Cert.EvDcatIdeal.nD Cert.EvDcatIdeal.τ).loc Cert.EvDcatIdeal.main_arg0)
          ∧ r.2.mem ((c.tc : Thread Cert.EvDcatIdeal.nD Cert.EvDcatIdeal.τ).loc Cert.EvDcatIdeal.main_arg1) = m ((c.tc : Thread Cert.EvDcatIdeal.nD Cert.EvDcatIdeal.τ).loc Cert.EvDcatIdeal.main_arg1))
      ∧ θ_run (Cert.EvDcatRefIdeal.defs (F := Ideal)) (onTc (τ := Cert.EvDcatRefIdeal.τ) (Cert.EvDcatRefIdeal.main (F := Ideal))) ⟨m', fun _ => 0, g'⟩ (fun r => ∀ c : Dev Cert.EvDcatRefIdeal.nD,
          r.2.mem ((c.tc : Thread Cert.EvDcatRefIdeal.nD Cert.EvDcatRefIdeal.τ).loc Cert.EvDcatRefIdeal.main_v3) = v0 c
          ∧ r.2.mem ((c.tc : Thread Cert.EvDcatRefIdeal.nD Cert.EvDcatRefIdeal.τ).loc Cert.EvDcatRefIdeal.main_arg0) = m' ((c.tc : Thread Cert.EvDcatRefIdeal.nD Cert.EvDcatRefIdeal.τ).loc Cert.EvDcatRefIdeal.main_arg0)
          ∧ r.2.mem ((c.tc : Thread Cert.EvDcatRefIdeal.nD Cert.EvDcatRefIdeal.τ).loc Cert.EvDcatRefIdeal.main_arg1) = m' ((c.tc : Thread Cert.EvDcatRefIdeal.nD Cert.EvDcatRefIdeal.τ).loc Cert.EvDcatRefIdeal.main_arg1))

def preserves_EvWout_EvWoutIdeal : Prop :=
  True

def algebraic_EvWoutIdeal_EvWoutRefIdeal [hEvWoutIdeal : Cert.EvWoutIdeal.Facts] [hEvWoutRefIdeal : Cert.EvWoutRefIdeal.Facts] : Prop :=
  ∀ (m : (ℓ : Loc Cert.EvWoutIdeal.nD Cert.EvWoutIdeal.τ Cert.EvWoutIdeal.sig) → Buf (Elt Ideal) ℓ) (g : Dev Cert.EvWoutIdeal.nD → PrngReg)
    (m' : (ℓ : Loc Cert.EvWoutRefIdeal.nD Cert.EvWoutRefIdeal.τ Cert.EvWoutRefIdeal.sig) → Buf (Elt Ideal) ℓ) (g' : Dev Cert.EvWoutRefIdeal.nD → PrngReg), Pre_EvWoutIdeal m →
    (∀ c : Dev Cert.EvWoutIdeal.nD,
      m' ((c.tc : Thread Cert.EvWoutRefIdeal.nD Cert.EvWoutRefIdeal.τ).loc Cert.EvWoutRefIdeal.main_arg0) = m ((c.tc : Thread Cert.EvWoutIdeal.nD Cert.EvWoutIdeal.τ).loc Cert.EvWoutIdeal.main_arg0)
      ∧ m' ((c.tc : Thread Cert.EvWoutRefIdeal.nD Cert.EvWoutRefIdeal.τ).loc Cert.EvWoutRefIdeal.main_arg1) = m ((c.tc : Thread Cert.EvWoutIdeal.nD Cert.EvWoutIdeal.τ).loc Cert.EvWoutIdeal.main_arg1)
      ∧ m' ((c.tc : Thread Cert.EvWoutRefIdeal.nD Cert.EvWoutRefIdeal.τ).loc Cert.EvWoutRefIdeal.main_arg2) = m ((c.tc : Thread Cert.EvWoutIdeal.nD Cert.EvWoutIdeal.τ).loc Cert.EvWoutIdeal.main_arg2)) →
    ∃ (v0 : (c : Dev Cert.EvWoutIdeal.nD) → Buf (Elt Ideal) ((c.tc : Thread Cert.EvWoutIdeal.nD Cert.EvWoutIdeal.τ).loc Cert.EvWoutIdeal.main_v0)),
      θ_run (Cert.EvWoutIdeal.defs (F := Ideal)) (onTc (τ := Cert.EvWoutIdeal.τ) (Cert.EvWoutIdeal.main (F := Ideal))) ⟨m, fun _ => 0, g⟩ (fun r => ∀ c : Dev Cert.EvWoutIdeal.nD,
          r.2.mem ((c.tc : Thread Cert.EvWoutIdeal.nD Cert.EvWoutIdeal.τ).loc Cert.EvWoutIdeal.main_v0) = v0 c
          ∧ r.2.mem ((c.tc : Thread Cert.EvWoutIdeal.nD Cert.EvWoutIdeal.τ).loc Cert.EvWoutIdeal.main_arg0) = m ((c.tc : Thread Cert.EvWoutIdeal.nD Cert.EvWoutIdeal.τ).loc Cert.EvWoutIdeal.main_arg0)
          ∧ r.2.mem ((c.tc : Thread Cert.EvWoutIdeal.nD Cert.EvWoutIdeal.τ).loc Cert.EvWoutIdeal.main_arg1) = m ((c.tc : Thread Cert.EvWoutIdeal.nD Cert.EvWoutIdeal.τ).loc Cert.EvWoutIdeal.main_arg1)
          ∧ r.2.mem ((c.tc : Thread Cert.EvWoutIdeal.nD Cert.EvWoutIdeal.τ).loc Cert.EvWoutIdeal.main_arg2) = m ((c.tc : Thread Cert.EvWoutIdeal.nD Cert.EvWoutIdeal.τ).loc Cert.EvWoutIdeal.main_arg2))
      ∧ θ_run (Cert.EvWoutRefIdeal.defs (F := Ideal)) (onTc (τ := Cert.EvWoutRefIdeal.τ) (Cert.EvWoutRefIdeal.main (F := Ideal))) ⟨m', fun _ => 0, g'⟩ (fun r => ∀ c : Dev Cert.EvWoutRefIdeal.nD,
          r.2.mem ((c.tc : Thread Cert.EvWoutRefIdeal.nD Cert.EvWoutRefIdeal.τ).loc Cert.EvWoutRefIdeal.main_v7) = v0 c
          ∧ r.2.mem ((c.tc : Thread Cert.EvWoutRefIdeal.nD Cert.EvWoutRefIdeal.τ).loc Cert.EvWoutRefIdeal.main_arg0) = m' ((c.tc : Thread Cert.EvWoutRefIdeal.nD Cert.EvWoutRefIdeal.τ).loc Cert.EvWoutRefIdeal.main_arg0)
          ∧ r.2.mem ((c.tc : Thread Cert.EvWoutRefIdeal.nD Cert.EvWoutRefIdeal.τ).loc Cert.EvWoutRefIdeal.main_arg1) = m' ((c.tc : Thread Cert.EvWoutRefIdeal.nD Cert.EvWoutRefIdeal.τ).loc Cert.EvWoutRefIdeal.main_arg1)
          ∧ r.2.mem ((c.tc : Thread Cert.EvWoutRefIdeal.nD Cert.EvWoutRefIdeal.τ).loc Cert.EvWoutRefIdeal.main_arg2) = m' ((c.tc : Thread Cert.EvWoutRefIdeal.nD Cert.EvWoutRefIdeal.τ).loc Cert.EvWoutRefIdeal.main_arg2))

def preserves_EvDhn_EvDhnIdeal : Prop :=
  True

def algebraic_EvDhnIdeal_EvDhnRefIdeal [hEvDhnIdeal : Cert.EvDhnIdeal.Facts] [hEvDhnRefIdeal : Cert.EvDhnRefIdeal.Facts] : Prop :=
  ∀ (m : (ℓ : Loc Cert.EvDhnIdeal.nD Cert.EvDhnIdeal.τ Cert.EvDhnIdeal.sig) → Buf (Elt Ideal) ℓ) (g : Dev Cert.EvDhnIdeal.nD → PrngReg)
    (m' : (ℓ : Loc Cert.EvDhnRefIdeal.nD Cert.EvDhnRefIdeal.τ Cert.EvDhnRefIdeal.sig) → Buf (Elt Ideal) ℓ) (g' : Dev Cert.EvDhnRefIdeal.nD → PrngReg), Pre_EvDhnIdeal m →
    (∀ c : Dev Cert.EvDhnIdeal.nD,
      m' ((c.tc : Thread Cert.EvDhnRefIdeal.nD Cert.EvDhnRefIdeal.τ).loc Cert.EvDhnRefIdeal.main_arg0) = m ((c.tc : Thread Cert.EvDhnIdeal.nD Cert.EvDhnIdeal.τ).loc Cert.EvDhnIdeal.main_arg0)
      ∧ m' ((c.tc : Thread Cert.EvDhnRefIdeal.nD Cert.EvDhnRefIdeal.τ).loc Cert.EvDhnRefIdeal.main_arg1) = m ((c.tc : Thread Cert.EvDhnIdeal.nD Cert.EvDhnIdeal.τ).loc Cert.EvDhnIdeal.main_arg1)) →
    ∃ (v0 : (c : Dev Cert.EvDhnIdeal.nD) → Buf (Elt Ideal) ((c.tc : Thread Cert.EvDhnIdeal.nD Cert.EvDhnIdeal.τ).loc Cert.EvDhnIdeal.main_v0)),
      θ_run (Cert.EvDhnIdeal.defs (F := Ideal)) (onTc (τ := Cert.EvDhnIdeal.τ) (Cert.EvDhnIdeal.main (F := Ideal))) ⟨m, fun _ => 0, g⟩ (fun r => ∀ c : Dev Cert.EvDhnIdeal.nD,
          r.2.mem ((c.tc : Thread Cert.EvDhnIdeal.nD Cert.EvDhnIdeal.τ).loc Cert.EvDhnIdeal.main_v0) = v0 c
          ∧ r.2.mem ((c.tc : Thread Cert.EvDhnIdeal.nD Cert.EvDhnIdeal.τ).loc Cert.EvDhnIdeal.main_arg0) = m ((c.tc : Thread Cert.EvDhnIdeal.nD Cert.EvDhnIdeal.τ).loc Cert.EvDhnIdeal.main_arg0)
          ∧ r.2.mem ((c.tc : Thread Cert.EvDhnIdeal.nD Cert.EvDhnIdeal.τ).loc Cert.EvDhnIdeal.main_arg1) = m ((c.tc : Thread Cert.EvDhnIdeal.nD Cert.EvDhnIdeal.τ).loc Cert.EvDhnIdeal.main_arg1))
      ∧ θ_run (Cert.EvDhnRefIdeal.defs (F := Ideal)) (onTc (τ := Cert.EvDhnRefIdeal.τ) (Cert.EvDhnRefIdeal.main (F := Ideal))) ⟨m', fun _ => 0, g'⟩ (fun r => ∀ c : Dev Cert.EvDhnRefIdeal.nD,
          r.2.mem ((c.tc : Thread Cert.EvDhnRefIdeal.nD Cert.EvDhnRefIdeal.τ).loc Cert.EvDhnRefIdeal.main_v4) = v0 c
          ∧ r.2.mem ((c.tc : Thread Cert.EvDhnRefIdeal.nD Cert.EvDhnRefIdeal.τ).loc Cert.EvDhnRefIdeal.main_arg0) = m' ((c.tc : Thread Cert.EvDhnRefIdeal.nD Cert.EvDhnRefIdeal.τ).loc Cert.EvDhnRefIdeal.main_arg0)
          ∧ r.2.mem ((c.tc : Thread Cert.EvDhnRefIdeal.nD Cert.EvDhnRefIdeal.τ).loc Cert.EvDhnRefIdeal.main_arg1) = m' ((c.tc : Thread Cert.EvDhnRefIdeal.nD Cert.EvDhnRefIdeal.τ).loc Cert.EvDhnRefIdeal.main_arg1))

def preserves_EvDhn2_EvDhn2Ideal : Prop :=
  True

def algebraic_EvDhn2Ideal_EvDhn2RefIdeal [hEvDhn2Ideal : Cert.EvDhn2Ideal.Facts] [hEvDhn2RefIdeal : Cert.EvDhn2RefIdeal.Facts] : Prop :=
  ∀ (m : (ℓ : Loc Cert.EvDhn2Ideal.nD Cert.EvDhn2Ideal.τ Cert.EvDhn2Ideal.sig) → Buf (Elt Ideal) ℓ) (g : Dev Cert.EvDhn2Ideal.nD → PrngReg)
    (m' : (ℓ : Loc Cert.EvDhn2RefIdeal.nD Cert.EvDhn2RefIdeal.τ Cert.EvDhn2RefIdeal.sig) → Buf (Elt Ideal) ℓ) (g' : Dev Cert.EvDhn2RefIdeal.nD → PrngReg), Pre_EvDhn2Ideal m →
    (∀ c : Dev Cert.EvDhn2Ideal.nD,
      m' ((c.tc : Thread Cert.EvDhn2RefIdeal.nD Cert.EvDhn2RefIdeal.τ).loc Cert.EvDhn2RefIdeal.main_arg0) = m ((c.tc : Thread Cert.EvDhn2Ideal.nD Cert.EvDhn2Ideal.τ).loc Cert.EvDhn2Ideal.main_arg0)
      ∧ m' ((c.tc : Thread Cert.EvDhn2RefIdeal.nD Cert.EvDhn2RefIdeal.τ).loc Cert.EvDhn2RefIdeal.main_arg1) = m ((c.tc : Thread Cert.EvDhn2Ideal.nD Cert.EvDhn2Ideal.τ).loc Cert.EvDhn2Ideal.main_arg1)
      ∧ m' ((c.tc : Thread Cert.EvDhn2RefIdeal.nD Cert.EvDhn2RefIdeal.τ).loc Cert.EvDhn2RefIdeal.main_arg2) = m ((c.tc : Thread Cert.EvDhn2Ideal.nD Cert.EvDhn2Ideal.τ).loc Cert.EvDhn2Ideal.main_arg2)) →
    ∃ (v0 : (c : Dev Cert.EvDhn2Ideal.nD) → Buf (Elt Ideal) ((c.tc : Thread Cert.EvDhn2Ideal.nD Cert.EvDhn2Ideal.τ).loc Cert.EvDhn2Ideal.main_v0)),
      θ_run (Cert.EvDhn2Ideal.defs (F := Ideal)) (onTc (τ := Cert.EvDhn2Ideal.τ) (Cert.EvDhn2Ideal.main (F := Ideal))) ⟨m, fun _ => 0, g⟩ (fun r => ∀ c : Dev Cert.EvDhn2Ideal.nD,
          r.2.mem ((c.tc : Thread Cert.EvDhn2Ideal.nD Cert.EvDhn2Ideal.τ).loc Cert.EvDhn2Ideal.main_v0) = v0 c
          ∧ r.2.mem ((c.tc : Thread Cert.EvDhn2Ideal.nD Cert.EvDhn2Ideal.τ).loc Cert.EvDhn2Ideal.main_arg0) = m ((c.tc : Thread Cert.EvDhn2Ideal.nD Cert.EvDhn2Ideal.τ).loc Cert.EvDhn2Ideal.main_arg0)
          ∧ r.2.mem ((c.tc : Thread Cert.EvDhn2Ideal.nD Cert.EvDhn2Ideal.τ).loc Cert.EvDhn2Ideal.main_arg1) = m ((c.tc : Thread Cert.EvDhn2Ideal.nD Cert.EvDhn2Ideal.τ).loc Cert.EvDhn2Ideal.main_arg1)
          ∧ r.2.mem ((c.tc : Thread Cert.EvDhn2Ideal.nD Cert.EvDhn2Ideal.τ).loc Cert.EvDhn2Ideal.main_arg2) = m ((c.tc : Thread Cert.EvDhn2Ideal.nD Cert.EvDhn2Ideal.τ).loc Cert.EvDhn2Ideal.main_arg2))
      ∧ θ_run (Cert.EvDhn2RefIdeal.defs (F := Ideal)) (onTc (τ := Cert.EvDhn2RefIdeal.τ) (Cert.EvDhn2RefIdeal.main (F := Ideal))) ⟨m', fun _ => 0, g'⟩ (fun r => ∀ c : Dev Cert.EvDhn2RefIdeal.nD,
          r.2.mem ((c.tc : Thread Cert.EvDhn2RefIdeal.nD Cert.EvDhn2RefIdeal.τ).loc Cert.EvDhn2RefIdeal.main_v5) = v0 c
          ∧ r.2.mem ((c.tc : Thread Cert.EvDhn2RefIdeal.nD Cert.EvDhn2RefIdeal.τ).loc Cert.EvDhn2RefIdeal.main_arg0) = m' ((c.tc : Thread Cert.EvDhn2RefIdeal.nD Cert.EvDhn2RefIdeal.τ).loc Cert.EvDhn2RefIdeal.main_arg0)
          ∧ r.2.mem ((c.tc : Thread Cert.EvDhn2RefIdeal.nD Cert.EvDhn2RefIdeal.τ).loc Cert.EvDhn2RefIdeal.main_arg1) = m' ((c.tc : Thread Cert.EvDhn2RefIdeal.nD Cert.EvDhn2RefIdeal.τ).loc Cert.EvDhn2RefIdeal.main_arg1)
          ∧ r.2.mem ((c.tc : Thread Cert.EvDhn2RefIdeal.nD Cert.EvDhn2RefIdeal.τ).loc Cert.EvDhn2RefIdeal.main_arg2) = m' ((c.tc : Thread Cert.EvDhn2RefIdeal.nD Cert.EvDhn2RefIdeal.τ).loc Cert.EvDhn2RefIdeal.main_arg2))

def preserves_EvWin_EvWinIdeal : Prop :=
  True

def algebraic_EvWinIdeal_EvWinRefIdeal [hEvWinIdeal : Cert.EvWinIdeal.Facts] [hEvWinRefIdeal : Cert.EvWinRefIdeal.Facts] : Prop :=
  ∀ (m : (ℓ : Loc Cert.EvWinIdeal.nD Cert.EvWinIdeal.τ Cert.EvWinIdeal.sig) → Buf (Elt Ideal) ℓ) (g : Dev Cert.EvWinIdeal.nD → PrngReg)
    (m' : (ℓ : Loc Cert.EvWinRefIdeal.nD Cert.EvWinRefIdeal.τ Cert.EvWinRefIdeal.sig) → Buf (Elt Ideal) ℓ) (g' : Dev Cert.EvWinRefIdeal.nD → PrngReg), Pre_EvWinIdeal m →
    (∀ c : Dev Cert.EvWinIdeal.nD,
      m' ((c.tc : Thread Cert.EvWinRefIdeal.nD Cert.EvWinRefIdeal.τ).loc Cert.EvWinRefIdeal.main_arg0) = m ((c.tc : Thread Cert.EvWinIdeal.nD Cert.EvWinIdeal.τ).loc Cert.EvWinIdeal.main_arg0)
      ∧ m' ((c.tc : Thread Cert.EvWinRefIdeal.nD Cert.EvWinRefIdeal.τ).loc Cert.EvWinRefIdeal.main_arg1) = m ((c.tc : Thread Cert.EvWinIdeal.nD Cert.EvWinIdeal.τ).loc Cert.EvWinIdeal.main_arg1)) →
    ∃ (v0 : (c : Dev Cert.EvWinIdeal.nD) → Buf (Elt Ideal) ((c.tc : Thread Cert.EvWinIdeal.nD Cert.EvWinIdeal.τ).loc Cert.EvWinIdeal.main_v0)),
      θ_run (Cert.EvWinIdeal.defs (F := Ideal)) (onTc (τ := Cert.EvWinIdeal.τ) (Cert.EvWinIdeal.main (F := Ideal))) ⟨m, fun _ => 0, g⟩ (fun r => ∀ c : Dev Cert.EvWinIdeal.nD,
          r.2.mem ((c.tc : Thread Cert.EvWinIdeal.nD Cert.EvWinIdeal.τ).loc Cert.EvWinIdeal.main_v0) = v0 c
          ∧ r.2.mem ((c.tc : Thread Cert.EvWinIdeal.nD Cert.EvWinIdeal.τ).loc Cert.EvWinIdeal.main_arg0) = m ((c.tc : Thread Cert.EvWinIdeal.nD Cert.EvWinIdeal.τ).loc Cert.EvWinIdeal.main_arg0)
          ∧ r.2.mem ((c.tc : Thread Cert.EvWinIdeal.nD Cert.EvWinIdeal.τ).loc Cert.EvWinIdeal.main_arg1) = m ((c.tc : Thread Cert.EvWinIdeal.nD Cert.EvWinIdeal.τ).loc Cert.EvWinIdeal.main_arg1))
      ∧ θ_run (Cert.EvWinRefIdeal.defs (F := Ideal)) (onTc (τ := Cert.EvWinRefIdeal.τ) (Cert.EvWinRefIdeal.main (F := Ideal))) ⟨m', fun _ => 0, g'⟩ (fun r => ∀ c : Dev Cert.EvWinRefIdeal.nD,
          r.2.mem ((c.tc : Thread Cert.EvWinRefIdeal.nD Cert.EvWinRefIdeal.τ).loc Cert.EvWinRefIdeal.main_v5) = v0 c
          ∧ r.2.mem ((c.tc : Thread Cert.EvWinRefIdeal.nD Cert.EvWinRefIdeal.τ).loc Cert.EvWinRefIdeal.main_arg0) = m' ((c.tc : Thread Cert.EvWinRefIdeal.nD Cert.EvWinRefIdeal.τ).loc Cert.EvWinRefIdeal.main_arg0)
          ∧ r.2.mem ((c.tc : Thread Cert.EvWinRefIdeal.nD Cert.EvWinRefIdeal.τ).loc Cert.EvWinRefIdeal.main_arg1) = m' ((c.tc : Thread Cert.EvWinRefIdeal.nD Cert.EvWinRefIdeal.τ).loc Cert.EvWinRefIdeal.main_arg1))

def preserves_EvWdt_EvWdtIdeal : Prop :=
  True

def algebraic_EvWdtIdeal_EvWdtRefIdeal [hEvWdtIdeal : Cert.EvWdtIdeal.Facts] [hEvWdtRefIdeal : Cert.EvWdtRefIdeal.Facts] : Prop :=
  ∀ (m : (ℓ : Loc Cert.EvWdtIdeal.nD Cert.EvWdtIdeal.τ Cert.EvWdtIdeal.sig) → Buf (Elt Ideal) ℓ) (g : Dev Cert.EvWdtIdeal.nD → PrngReg)
    (m' : (ℓ : Loc Cert.EvWdtRefIdeal.nD Cert.EvWdtRefIdeal.τ Cert.EvWdtRefIdeal.sig) → Buf (Elt Ideal) ℓ) (g' : Dev Cert.EvWdtRefIdeal.nD → PrngReg), Pre_EvWdtIdeal m →
    (∀ c : Dev Cert.EvWdtIdeal.nD,
      m' ((c.tc : Thread Cert.EvWdtRefIdeal.nD Cert.EvWdtRefIdeal.τ).loc Cert.EvWdtRefIdeal.main_arg0) = m ((c.tc : Thread Cert.EvWdtIdeal.nD Cert.EvWdtIdeal.τ).loc Cert.EvWdtIdeal.main_arg0)
      ∧ m' ((c.tc : Thread Cert.EvWdtRefIdeal.nD Cert.EvWdtRefIdeal.τ).loc Cert.EvWdtRefIdeal.main_arg1) = m ((c.tc : Thread Cert.EvWdtIdeal.nD Cert.EvWdtIdeal.τ).loc Cert.EvWdtIdeal.main_arg1)) →
    ∃ (v0 : (c : Dev Cert.EvWdtIdeal.nD) → Buf (Elt Ideal) ((c.tc : Thread Cert.EvWdtIdeal.nD Cert.EvWdtIdeal.τ).loc Cert.EvWdtIdeal.main_v0)),
      θ_run (Cert.EvWdtIdeal.defs (F := Ideal)) (onTc (τ := Cert.EvWdtIdeal.τ) (Cert.EvWdtIdeal.main (F := Ideal))) ⟨m, fun _ => 0, g⟩ (fun r => ∀ c : Dev Cert.EvWdtIdeal.nD,
          r.2.mem ((c.tc : Thread Cert.EvWdtIdeal.nD Cert.EvWdtIdeal.τ).loc Cert.EvWdtIdeal.main_v0) = v0 c
          ∧ r.2.mem ((c.tc : Thread Cert.EvWdtIdeal.nD Cert.EvWdtIdeal.τ).loc Cert.EvWdtIdeal.main_arg0) = m ((c.tc : Thread Cert.EvWdtIdeal.nD Cert.EvWdtIdeal.τ).loc Cert.EvWdtIdeal.main_arg0)
          ∧ r.2.mem ((c.tc : Thread Cert.EvWdtIdeal.nD Cert.EvWdtIdeal.τ).loc Cert.EvWdtIdeal.main_arg1) = m ((c.tc : Thread Cert.EvWdtIdeal.nD Cert.EvWdtIdeal.τ).loc Cert.EvWdtIdeal.main_arg1))
      ∧ θ_run (Cert.EvWdtRefIdeal.defs (F := Ideal)) (onTc (τ := Cert.EvWdtRefIdeal.τ) (Cert.EvWdtRefIdeal.main (F := Ideal))) ⟨m', fun _ => 0, g'⟩ (fun r => ∀ c : Dev Cert.EvWdtRefIdeal.nD,
          r.2.mem ((c.tc : Thread Cert.EvWdtRefIdeal.nD Cert.EvWdtRefIdeal.τ).loc Cert.EvWdtRefIdeal.main_v5) = v0 c
          ∧ r.2.mem ((c.tc : Thread Cert.EvWdtRefIdeal.nD Cert.EvWdtRefIdeal.τ).loc Cert.EvWdtRefIdeal.main_arg0) = m' ((c.tc : Thread Cert.EvWdtRefIdeal.nD Cert.EvWdtRefIdeal.τ).loc Cert.EvWdtRefIdeal.main_arg0)
          ∧ r.2.mem ((c.tc : Thread Cert.EvWdtRefIdeal.nD Cert.EvWdtRefIdeal.τ).loc Cert.EvWdtRefIdeal.main_arg1) = m' ((c.tc : Thread Cert.EvWdtRefIdeal.nD Cert.EvWdtRefIdeal.τ).loc Cert.EvWdtRefIdeal.main_arg1))

def preserves_OdDo_OdDoIdeal : Prop :=
  True

def algebraic_OdDoIdeal_OdDoRefIdeal [hOdDoIdeal : Cert.OdDoIdeal.Facts] [hOdDoRefIdeal : Cert.OdDoRefIdeal.Facts] : Prop :=
  ∀ (m : (ℓ : Loc Cert.OdDoIdeal.nD Cert.OdDoIdeal.τ Cert.OdDoIdeal.sig) → Buf (Elt Ideal) ℓ) (g : Dev Cert.OdDoIdeal.nD → PrngReg)
    (m' : (ℓ : Loc Cert.OdDoRefIdeal.nD Cert.OdDoRefIdeal.τ Cert.OdDoRefIdeal.sig) → Buf (Elt Ideal) ℓ) (g' : Dev Cert.OdDoRefIdeal.nD → PrngReg), Pre_OdDoIdeal m →
    (∀ c : Dev Cert.OdDoIdeal.nD,
      m' ((c.tc : Thread Cert.OdDoRefIdeal.nD Cert.OdDoRefIdeal.τ).loc Cert.OdDoRefIdeal.main_arg0) = m ((c.tc : Thread Cert.OdDoIdeal.nD Cert.OdDoIdeal.τ).loc Cert.OdDoIdeal.main_arg0)
      ∧ m' ((c.tc : Thread Cert.OdDoRefIdeal.nD Cert.OdDoRefIdeal.τ).loc Cert.OdDoRefIdeal.main_arg1) = m ((c.tc : Thread Cert.OdDoIdeal.nD Cert.OdDoIdeal.τ).loc Cert.OdDoIdeal.main_arg1)) →
    ∃ (v0 : (c : Dev Cert.OdDoIdeal.nD) → Buf (Elt Ideal) ((c.tc : Thread Cert.OdDoIdeal.nD Cert.OdDoIdeal.τ).loc Cert.OdDoIdeal.main_v0)),
      θ_run (Cert.OdDoIdeal.defs (F := Ideal)) (onTc (τ := Cert.OdDoIdeal.τ) (Cert.OdDoIdeal.main (F := Ideal))) ⟨m, fun _ => 0, g⟩ (fun r => ∀ c : Dev Cert.OdDoIdeal.nD,
          r.2.mem ((c.tc : Thread Cert.OdDoIdeal.nD Cert.OdDoIdeal.τ).loc Cert.OdDoIdeal.main_v0) = v0 c
          ∧ r.2.mem ((c.tc : Thread Cert.OdDoIdeal.nD Cert.OdDoIdeal.τ).loc Cert.OdDoIdeal.main_arg0) = m ((c.tc : Thread Cert.OdDoIdeal.nD Cert.OdDoIdeal.τ).loc Cert.OdDoIdeal.main_arg0)
          ∧ r.2.mem ((c.tc : Thread Cert.OdDoIdeal.nD Cert.OdDoIdeal.τ).loc Cert.OdDoIdeal.main_arg1) = m ((c.tc : Thread Cert.OdDoIdeal.nD Cert.OdDoIdeal.τ).loc Cert.OdDoIdeal.main_arg1))
      ∧ θ_run (Cert.OdDoRefIdeal.defs (F := Ideal)) (onTc (τ := Cert.OdDoRefIdeal.τ) (Cert.OdDoRefIdeal.main (F := Ideal))) ⟨m', fun _ => 0, g'⟩ (fun r => ∀ c : Dev Cert.OdDoRefIdeal.nD,
          r.2.mem ((c.tc : Thread Cert.OdDoRefIdeal.nD Cert.OdDoRefIdeal.τ).loc Cert.OdDoRefIdeal.main_v3) = v0 c
          ∧ r.2.mem ((c.tc : Thread Cert.OdDoRefIdeal.nD Cert.OdDoRefIdeal.τ).loc Cert.OdDoRefIdeal.main_arg0) = m' ((c.tc : Thread Cert.OdDoRefIdeal.nD Cert.OdDoRefIdeal.τ).loc Cert.OdDoRefIdeal.main_arg0)
          ∧ r.2.mem ((c.tc : Thread Cert.OdDoRefIdeal.nD Cert.OdDoRefIdeal.τ).loc Cert.OdDoRefIdeal.main_arg1) = m' ((c.tc : Thread Cert.OdDoRefIdeal.nD Cert.OdDoRefIdeal.τ).loc Cert.OdDoRefIdeal.main_arg1))

def preserves_OdWo_OdWoIdeal : Prop :=
  True

def algebraic_OdWoIdeal_OdWoRefIdeal [hOdWoIdeal : Cert.OdWoIdeal.Facts] [hOdWoRefIdeal : Cert.OdWoRefIdeal.Facts] : Prop :=
  ∀ (m : (ℓ : Loc Cert.OdWoIdeal.nD Cert.OdWoIdeal.τ Cert.OdWoIdeal.sig) → Buf (Elt Ideal) ℓ) (g : Dev Cert.OdWoIdeal.nD → PrngReg)
    (m' : (ℓ : Loc Cert.OdWoRefIdeal.nD Cert.OdWoRefIdeal.τ Cert.OdWoRefIdeal.sig) → Buf (Elt Ideal) ℓ) (g' : Dev Cert.OdWoRefIdeal.nD → PrngReg), Pre_OdWoIdeal m →
    (∀ c : Dev Cert.OdWoIdeal.nD,
      m' ((c.tc : Thread Cert.OdWoRefIdeal.nD Cert.OdWoRefIdeal.τ).loc Cert.OdWoRefIdeal.main_arg0) = m ((c.tc : Thread Cert.OdWoIdeal.nD Cert.OdWoIdeal.τ).loc Cert.OdWoIdeal.main_arg0)
      ∧ m' ((c.tc : Thread Cert.OdWoRefIdeal.nD Cert.OdWoRefIdeal.τ).loc Cert.OdWoRefIdeal.main_arg1) = m ((c.tc : Thread Cert.OdWoIdeal.nD Cert.OdWoIdeal.τ).loc Cert.OdWoIdeal.main_arg1)
      ∧ m' ((c.tc : Thread Cert.OdWoRefIdeal.nD Cert.OdWoRefIdeal.τ).loc Cert.OdWoRefIdeal.main_arg2) = m ((c.tc : Thread Cert.OdWoIdeal.nD Cert.OdWoIdeal.τ).loc Cert.OdWoIdeal.main_arg2)) →
    ∃ (v0 : (c : Dev Cert.OdWoIdeal.nD) → Buf (Elt Ideal) ((c.tc : Thread Cert.OdWoIdeal.nD Cert.OdWoIdeal.τ).loc Cert.OdWoIdeal.main_v0)),
      θ_run (Cert.OdWoIdeal.defs (F := Ideal)) (onTc (τ := Cert.OdWoIdeal.τ) (Cert.OdWoIdeal.main (F := Ideal))) ⟨m, fun _ => 0, g⟩ (fun r => ∀ c : Dev Cert.OdWoIdeal.nD,
          r.2.mem ((c.tc : Thread Cert.OdWoIdeal.nD Cert.OdWoIdeal.τ).loc Cert.OdWoIdeal.main_v0) = v0 c
          ∧ r.2.mem ((c.tc : Thread Cert.OdWoIdeal.nD Cert.OdWoIdeal.τ).loc Cert.OdWoIdeal.main_arg0) = m ((c.tc : Thread Cert.OdWoIdeal.nD Cert.OdWoIdeal.τ).loc Cert.OdWoIdeal.main_arg0)
          ∧ r.2.mem ((c.tc : Thread Cert.OdWoIdeal.nD Cert.OdWoIdeal.τ).loc Cert.OdWoIdeal.main_arg1) = m ((c.tc : Thread Cert.OdWoIdeal.nD Cert.OdWoIdeal.τ).loc Cert.OdWoIdeal.main_arg1)
          ∧ r.2.mem ((c.tc : Thread Cert.OdWoIdeal.nD Cert.OdWoIdeal.τ).loc Cert.OdWoIdeal.main_arg2) = m ((c.tc : Thread Cert.OdWoIdeal.nD Cert.OdWoIdeal.τ).loc Cert.OdWoIdeal.main_arg2))
      ∧ θ_run (Cert.OdWoRefIdeal.defs (F := Ideal)) (onTc (τ := Cert.OdWoRefIdeal.τ) (Cert.OdWoRefIdeal.main (F := Ideal))) ⟨m', fun _ => 0, g'⟩ (fun r => ∀ c : Dev Cert.OdWoRefIdeal.nD,
          r.2.mem ((c.tc : Thread Cert.OdWoRefIdeal.nD Cert.OdWoRefIdeal.τ).loc Cert.OdWoRefIdeal.main_v7) = v0 c
          ∧ r.2.mem ((c.tc : Thread Cert.OdWoRefIdeal.nD Cert.OdWoRefIdeal.τ).loc Cert.OdWoRefIdeal.main_arg0) = m' ((c.tc : Thread Cert.OdWoRefIdeal.nD Cert.OdWoRefIdeal.τ).loc Cert.OdWoRefIdeal.main_arg0)
          ∧ r.2.mem ((c.tc : Thread Cert.OdWoRefIdeal.nD Cert.OdWoRefIdeal.τ).loc Cert.OdWoRefIdeal.main_arg1) = m' ((c.tc : Thread Cert.OdWoRefIdeal.nD Cert.OdWoRefIdeal.τ).loc Cert.OdWoRefIdeal.main_arg1)
          ∧ r.2.mem ((c.tc : Thread Cert.OdWoRefIdeal.nD Cert.OdWoRefIdeal.τ).loc Cert.OdWoRefIdeal.main_arg2) = m' ((c.tc : Thread Cert.OdWoRefIdeal.nD Cert.OdWoRefIdeal.τ).loc Cert.OdWoRefIdeal.main_arg2))

def preserves_OdDcq_OdDcqIdeal : Prop :=
  True

def algebraic_OdDcqIdeal_OdDcqRefIdeal [hOdDcqIdeal : Cert.OdDcqIdeal.Facts] [hOdDcqRefIdeal : Cert.OdDcqRefIdeal.Facts] : Prop :=
  ∀ (m : (ℓ : Loc Cert.OdDcqIdeal.nD Cert.OdDcqIdeal.τ Cert.OdDcqIdeal.sig) → Buf (Elt Ideal) ℓ) (g : Dev Cert.OdDcqIdeal.nD → PrngReg)
    (m' : (ℓ : Loc Cert.OdDcqRefIdeal.nD Cert.OdDcqRefIdeal.τ Cert.OdDcqRefIdeal.sig) → Buf (Elt Ideal) ℓ) (g' : Dev Cert.OdDcqRefIdeal.nD → PrngReg), Pre_OdDcqIdeal m →
    (∀ c : Dev Cert.OdDcqIdeal.nD,
      m' ((c.tc : Thread Cert.OdDcqRefIdeal.nD Cert.OdDcqRefIdeal.τ).loc Cert.OdDcqRefIdeal.main_arg0) = m ((c.tc : Thread Cert.OdDcqIdeal.nD Cert.OdDcqIdeal.τ).loc Cert.OdDcqIdeal.main_arg0)
      ∧ m' ((c.tc : Thread Cert.OdDcqRefIdeal.nD Cert.OdDcqRefIdeal.τ).loc Cert.OdDcqRefIdeal.main_arg1) = m ((c.tc : Thread Cert.OdDcqIdeal.nD Cert.OdDcqIdeal.τ).loc Cert.OdDcqIdeal.main_arg1)) →
    ∃ (v0 : (c : Dev Cert.OdDcqIdeal.nD) → Buf (Elt Ideal) ((c.tc : Thread Cert.OdDcqIdeal.nD Cert.OdDcqIdeal.τ).loc Cert.OdDcqIdeal.main_v0)),
      θ_run (Cert.OdDcqIdeal.defs (F := Ideal)) (onTc (τ := Cert.OdDcqIdeal.τ) (Cert.OdDcqIdeal.main (F := Ideal))) ⟨m, fun _ => 0, g⟩ (fun r => ∀ c : Dev Cert.OdDcqIdeal.nD,
          r.2.mem ((c.tc : Thread Cert.OdDcqIdeal.nD Cert.OdDcqIdeal.τ).loc Cert.OdDcqIdeal.main_v0) = v0 c
          ∧ r.2.mem ((c.tc : Thread Cert.OdDcqIdeal.nD Cert.OdDcqIdeal.τ).loc Cert.OdDcqIdeal.main_arg0) = m ((c.tc : Thread Cert.OdDcqIdeal.nD Cert.OdDcqIdeal.τ).loc Cert.OdDcqIdeal.main_arg0)
          ∧ r.2.mem ((c.tc : Thread Cert.OdDcqIdeal.nD Cert.OdDcqIdeal.τ).loc Cert.OdDcqIdeal.main_arg1) = m ((c.tc : Thread Cert.OdDcqIdeal.nD Cert.OdDcqIdeal.τ).loc Cert.OdDcqIdeal.main_arg1))
      ∧ θ_run (Cert.OdDcqRefIdeal.defs (F := Ideal)) (onTc (τ := Cert.OdDcqRefIdeal.τ) (Cert.OdDcqRefIdeal.main (F := Ideal))) ⟨m', fun _ => 0, g'⟩ (fun r => ∀ c : Dev Cert.OdDcqRefIdeal.nD,
          r.2.mem ((c.tc : Thread Cert.OdDcqRefIdeal.nD Cert.OdDcqRefIdeal.τ).loc Cert.OdDcqRefIdeal.main_v4) = v0 c
          ∧ r.2.mem ((c.tc : Thread Cert.OdDcqRefIdeal.nD Cert.OdDcqRefIdeal.τ).loc Cert.OdDcqRefIdeal.main_arg0) = m' ((c.tc : Thread Cert.OdDcqRefIdeal.nD Cert.OdDcqRefIdeal.τ).loc Cert.OdDcqRefIdeal.main_arg0)
          ∧ r.2.mem ((c.tc : Thread Cert.OdDcqRefIdeal.nD Cert.OdDcqRefIdeal.τ).loc Cert.OdDcqRefIdeal.main_arg1) = m' ((c.tc : Thread Cert.OdDcqRefIdeal.nD Cert.OdDcqRefIdeal.τ).loc Cert.OdDcqRefIdeal.main_arg1))

def preserves_OdWuq_OdWuqIdeal : Prop :=
  True

def algebraic_OdWuqIdeal_OdWuqRefIdeal [hOdWuqIdeal : Cert.OdWuqIdeal.Facts] [hOdWuqRefIdeal : Cert.OdWuqRefIdeal.Facts] : Prop :=
  ∀ (m : (ℓ : Loc Cert.OdWuqIdeal.nD Cert.OdWuqIdeal.τ Cert.OdWuqIdeal.sig) → Buf (Elt Ideal) ℓ) (g : Dev Cert.OdWuqIdeal.nD → PrngReg)
    (m' : (ℓ : Loc Cert.OdWuqRefIdeal.nD Cert.OdWuqRefIdeal.τ Cert.OdWuqRefIdeal.sig) → Buf (Elt Ideal) ℓ) (g' : Dev Cert.OdWuqRefIdeal.nD → PrngReg), Pre_OdWuqIdeal m →
    (∀ c : Dev Cert.OdWuqIdeal.nD,
      m' ((c.tc : Thread Cert.OdWuqRefIdeal.nD Cert.OdWuqRefIdeal.τ).loc Cert.OdWuqRefIdeal.main_arg0) = m ((c.tc : Thread Cert.OdWuqIdeal.nD Cert.OdWuqIdeal.τ).loc Cert.OdWuqIdeal.main_arg0)
      ∧ m' ((c.tc : Thread Cert.OdWuqRefIdeal.nD Cert.OdWuqRefIdeal.τ).loc Cert.OdWuqRefIdeal.main_arg1) = m ((c.tc : Thread Cert.OdWuqIdeal.nD Cert.OdWuqIdeal.τ).loc Cert.OdWuqIdeal.main_arg1)) →
    ∃ (v0 : (c : Dev Cert.OdWuqIdeal.nD) → Buf (Elt Ideal) ((c.tc : Thread Cert.OdWuqIdeal.nD Cert.OdWuqIdeal.τ).loc Cert.OdWuqIdeal.main_v0)),
      θ_run (Cert.OdWuqIdeal.defs (F := Ideal)) (onTc (τ := Cert.OdWuqIdeal.τ) (Cert.OdWuqIdeal.main (F := Ideal))) ⟨m, fun _ => 0, g⟩ (fun r => ∀ c : Dev Cert.OdWuqIdeal.nD,
          r.2.mem ((c.tc : Thread Cert.OdWuqIdeal.nD Cert.OdWuqIdeal.τ).loc Cert.OdWuqIdeal.main_v0) = v0 c
          ∧ r.2.mem ((c.tc : Thread Cert.OdWuqIdeal.nD Cert.OdWuqIdeal.τ).loc Cert.OdWuqIdeal.main_arg0) = m ((c.tc : Thread Cert.OdWuqIdeal.nD Cert.OdWuqIdeal.τ).loc Cert.OdWuqIdeal.main_arg0)
          ∧ r.2.mem ((c.tc : Thread Cert.OdWuqIdeal.nD Cert.OdWuqIdeal.τ).loc Cert.OdWuqIdeal.main_arg1) = m ((c.tc : Thread Cert.OdWuqIdeal.nD Cert.OdWuqIdeal.τ).loc Cert.OdWuqIdeal.main_arg1))
      ∧ θ_run (Cert.OdWuqRefIdeal.defs (F := Ideal)) (onTc (τ := Cert.OdWuqRefIdeal.τ) (Cert.OdWuqRefIdeal.main (F := Ideal))) ⟨m', fun _ => 0, g'⟩ (fun r => ∀ c : Dev Cert.OdWuqRefIdeal.nD,
          r.2.mem ((c.tc : Thread Cert.OdWuqRefIdeal.nD Cert.OdWuqRefIdeal.τ).loc Cert.OdWuqRefIdeal.main_v5) = v0 c
          ∧ r.2.mem ((c.tc : Thread Cert.OdWuqRefIdeal.nD Cert.OdWuqRefIdeal.τ).loc Cert.OdWuqRefIdeal.main_arg0) = m' ((c.tc : Thread Cert.OdWuqRefIdeal.nD Cert.OdWuqRefIdeal.τ).loc Cert.OdWuqRefIdeal.main_arg0)
          ∧ r.2.mem ((c.tc : Thread Cert.OdWuqRefIdeal.nD Cert.OdWuqRefIdeal.τ).loc Cert.OdWuqRefIdeal.main_arg1) = m' ((c.tc : Thread Cert.OdWuqRefIdeal.nD Cert.OdWuqRefIdeal.τ).loc Cert.OdWuqRefIdeal.main_arg1))

def preserves_OdDckv_OdDckvIdeal : Prop :=
  True

def algebraic_OdDckvIdeal_OdDckvRefIdeal [hOdDckvIdeal : Cert.OdDckvIdeal.Facts] [hOdDckvRefIdeal : Cert.OdDckvRefIdeal.Facts] : Prop :=
  ∀ (m : (ℓ : Loc Cert.OdDckvIdeal.nD Cert.OdDckvIdeal.τ Cert.OdDckvIdeal.sig) → Buf (Elt Ideal) ℓ) (g : Dev Cert.OdDckvIdeal.nD → PrngReg)
    (m' : (ℓ : Loc Cert.OdDckvRefIdeal.nD Cert.OdDckvRefIdeal.τ Cert.OdDckvRefIdeal.sig) → Buf (Elt Ideal) ℓ) (g' : Dev Cert.OdDckvRefIdeal.nD → PrngReg), Pre_OdDckvIdeal m →
    (∀ c : Dev Cert.OdDckvIdeal.nD,
      m' ((c.tc : Thread Cert.OdDckvRefIdeal.nD Cert.OdDckvRefIdeal.τ).loc Cert.OdDckvRefIdeal.main_arg0) = m ((c.tc : Thread Cert.OdDckvIdeal.nD Cert.OdDckvIdeal.τ).loc Cert.OdDckvIdeal.main_arg0)
      ∧ m' ((c.tc : Thread Cert.OdDckvRefIdeal.nD Cert.OdDckvRefIdeal.τ).loc Cert.OdDckvRefIdeal.main_arg1) = m ((c.tc : Thread Cert.OdDckvIdeal.nD Cert.OdDckvIdeal.τ).loc Cert.OdDckvIdeal.main_arg1)) →
    ∃ (v0 : (c : Dev Cert.OdDckvIdeal.nD) → Buf (Elt Ideal) ((c.tc : Thread Cert.OdDckvIdeal.nD Cert.OdDckvIdeal.τ).loc Cert.OdDckvIdeal.main_v0)),
      θ_run (Cert.OdDckvIdeal.defs (F := Ideal)) (onTc (τ := Cert.OdDckvIdeal.τ) (Cert.OdDckvIdeal.main (F := Ideal))) ⟨m, fun _ => 0, g⟩ (fun r => ∀ c : Dev Cert.OdDckvIdeal.nD,
          r.2.mem ((c.tc : Thread Cert.OdDckvIdeal.nD Cert.OdDckvIdeal.τ).loc Cert.OdDckvIdeal.main_v0) = v0 c
          ∧ r.2.mem ((c.tc : Thread Cert.OdDckvIdeal.nD Cert.OdDckvIdeal.τ).loc Cert.OdDckvIdeal.main_arg0) = m ((c.tc : Thread Cert.OdDckvIdeal.nD Cert.OdDckvIdeal.τ).loc Cert.OdDckvIdeal.main_arg0)
          ∧ r.2.mem ((c.tc : Thread Cert.OdDckvIdeal.nD Cert.OdDckvIdeal.τ).loc Cert.OdDckvIdeal.main_arg1) = m ((c.tc : Thread Cert.OdDckvIdeal.nD Cert.OdDckvIdeal.τ).loc Cert.OdDckvIdeal.main_arg1))
      ∧ θ_run (Cert.OdDckvRefIdeal.defs (F := Ideal)) (onTc (τ := Cert.OdDckvRefIdeal.τ) (Cert.OdDckvRefIdeal.main (F := Ideal))) ⟨m', fun _ => 0, g'⟩ (fun r => ∀ c : Dev Cert.OdDckvRefIdeal.nD,
          r.2.mem ((c.tc : Thread Cert.OdDckvRefIdeal.nD Cert.OdDckvRefIdeal.τ).loc Cert.OdDckvRefIdeal.main_v3) = v0 c
          ∧ r.2.mem ((c.tc : Thread Cert.OdDckvRefIdeal.nD Cert.OdDckvRefIdeal.τ).loc Cert.OdDckvRefIdeal.main_arg0) = m' ((c.tc : Thread Cert.OdDckvRefIdeal.nD Cert.OdDckvRefIdeal.τ).loc Cert.OdDckvRefIdeal.main_arg0)
          ∧ r.2.mem ((c.tc : Thread Cert.OdDckvRefIdeal.nD Cert.OdDckvRefIdeal.τ).loc Cert.OdDckvRefIdeal.main_arg1) = m' ((c.tc : Thread Cert.OdDckvRefIdeal.nD Cert.OdDckvRefIdeal.τ).loc Cert.OdDckvRefIdeal.main_arg1))

def preserves_OdWukv_OdWukvIdeal : Prop :=
  True

def algebraic_OdWukvIdeal_OdWukvRefIdeal [hOdWukvIdeal : Cert.OdWukvIdeal.Facts] [hOdWukvRefIdeal : Cert.OdWukvRefIdeal.Facts] : Prop :=
  ∀ (m : (ℓ : Loc Cert.OdWukvIdeal.nD Cert.OdWukvIdeal.τ Cert.OdWukvIdeal.sig) → Buf (Elt Ideal) ℓ) (g : Dev Cert.OdWukvIdeal.nD → PrngReg)
    (m' : (ℓ : Loc Cert.OdWukvRefIdeal.nD Cert.OdWukvRefIdeal.τ Cert.OdWukvRefIdeal.sig) → Buf (Elt Ideal) ℓ) (g' : Dev Cert.OdWukvRefIdeal.nD → PrngReg), Pre_OdWukvIdeal m →
    (∀ c : Dev Cert.OdWukvIdeal.nD,
      m' ((c.tc : Thread Cert.OdWukvRefIdeal.nD Cert.OdWukvRefIdeal.τ).loc Cert.OdWukvRefIdeal.main_arg0) = m ((c.tc : Thread Cert.OdWukvIdeal.nD Cert.OdWukvIdeal.τ).loc Cert.OdWukvIdeal.main_arg0)
      ∧ m' ((c.tc : Thread Cert.OdWukvRefIdeal.nD Cert.OdWukvRefIdeal.τ).loc Cert.OdWukvRefIdeal.main_arg1) = m ((c.tc : Thread Cert.OdWukvIdeal.nD Cert.OdWukvIdeal.τ).loc Cert.OdWukvIdeal.main_arg1)) →
    ∃ (v0 : (c : Dev Cert.OdWukvIdeal.nD) → Buf (Elt Ideal) ((c.tc : Thread Cert.OdWukvIdeal.nD Cert.OdWukvIdeal.τ).loc Cert.OdWukvIdeal.main_v0)),
      θ_run (Cert.OdWukvIdeal.defs (F := Ideal)) (onTc (τ := Cert.OdWukvIdeal.τ) (Cert.OdWukvIdeal.main (F := Ideal))) ⟨m, fun _ => 0, g⟩ (fun r => ∀ c : Dev Cert.OdWukvIdeal.nD,
          r.2.mem ((c.tc : Thread Cert.OdWukvIdeal.nD Cert.OdWukvIdeal.τ).loc Cert.OdWukvIdeal.main_v0) = v0 c
          ∧ r.2.mem ((c.tc : Thread Cert.OdWukvIdeal.nD Cert.OdWukvIdeal.τ).loc Cert.OdWukvIdeal.main_arg0) = m ((c.tc : Thread Cert.OdWukvIdeal.nD Cert.OdWukvIdeal.τ).loc Cert.OdWukvIdeal.main_arg0)
          ∧ r.2.mem ((c.tc : Thread Cert.OdWukvIdeal.nD Cert.OdWukvIdeal.τ).loc Cert.OdWukvIdeal.main_arg1) = m ((c.tc : Thread Cert.OdWukvIdeal.nD Cert.OdWukvIdeal.τ).loc Cert.OdWukvIdeal.main_arg1))
      ∧ θ_run (Cert.OdWukvRefIdeal.defs (F := Ideal)) (onTc (τ := Cert.OdWukvRefIdeal.τ) (Cert.OdWukvRefIdeal.main (F := Ideal))) ⟨m', fun _ => 0, g'⟩ (fun r => ∀ c : Dev Cert.OdWukvRefIdeal.nD,
          r.2.mem ((c.tc : Thread Cert.OdWukvRefIdeal.nD Cert.OdWukvRefIdeal.τ).loc Cert.OdWukvRefIdeal.main_v4) = v0 c
          ∧ r.2.mem ((c.tc : Thread Cert.OdWukvRefIdeal.nD Cert.OdWukvRefIdeal.τ).loc Cert.OdWukvRefIdeal.main_arg0) = m' ((c.tc : Thread Cert.OdWukvRefIdeal.nD Cert.OdWukvRefIdeal.τ).loc Cert.OdWukvRefIdeal.main_arg0)
          ∧ r.2.mem ((c.tc : Thread Cert.OdWukvRefIdeal.nD Cert.OdWukvRefIdeal.τ).loc Cert.OdWukvRefIdeal.main_arg1) = m' ((c.tc : Thread Cert.OdWukvRefIdeal.nD Cert.OdWukvRefIdeal.τ).loc Cert.OdWukvRefIdeal.main_arg1))

def preserves_OdDhn_OdDhnIdeal : Prop :=
  True

def algebraic_OdDhnIdeal_OdDhnRefIdeal [hOdDhnIdeal : Cert.OdDhnIdeal.Facts] [hOdDhnRefIdeal : Cert.OdDhnRefIdeal.Facts] : Prop :=
  ∀ (m : (ℓ : Loc Cert.OdDhnIdeal.nD Cert.OdDhnIdeal.τ Cert.OdDhnIdeal.sig) → Buf (Elt Ideal) ℓ) (g : Dev Cert.OdDhnIdeal.nD → PrngReg)
    (m' : (ℓ : Loc Cert.OdDhnRefIdeal.nD Cert.OdDhnRefIdeal.τ Cert.OdDhnRefIdeal.sig) → Buf (Elt Ideal) ℓ) (g' : Dev Cert.OdDhnRefIdeal.nD → PrngReg), Pre_OdDhnIdeal m →
    (∀ c : Dev Cert.OdDhnIdeal.nD,
      m' ((c.tc : Thread Cert.OdDhnRefIdeal.nD Cert.OdDhnRefIdeal.τ).loc Cert.OdDhnRefIdeal.main_arg0) = m ((c.tc : Thread Cert.OdDhnIdeal.nD Cert.OdDhnIdeal.τ).loc Cert.OdDhnIdeal.main_arg0)
      ∧ m' ((c.tc : Thread Cert.OdDhnRefIdeal.nD Cert.OdDhnRefIdeal.τ).loc Cert.OdDhnRefIdeal.main_arg1) = m ((c.tc : Thread Cert.OdDhnIdeal.nD Cert.OdDhnIdeal.τ).loc Cert.OdDhnIdeal.main_arg1)) →
    ∃ (v0 : (c : Dev Cert.OdDhnIdeal.nD) → Buf (Elt Ideal) ((c.tc : Thread Cert.OdDhnIdeal.nD Cert.OdDhnIdeal.τ).loc Cert.OdDhnIdeal.main_v0)),
      θ_run (Cert.OdDhnIdeal.defs (F := Ideal)) (onTc (τ := Cert.OdDhnIdeal.τ) (Cert.OdDhnIdeal.main (F := Ideal))) ⟨m, fun _ => 0, g⟩ (fun r => ∀ c : Dev Cert.OdDhnIdeal.nD,
          r.2.mem ((c.tc : Thread Cert.OdDhnIdeal.nD Cert.OdDhnIdeal.τ).loc Cert.OdDhnIdeal.main_v0) = v0 c
          ∧ r.2.mem ((c.tc : Thread Cert.OdDhnIdeal.nD Cert.OdDhnIdeal.τ).loc Cert.OdDhnIdeal.main_arg0) = m ((c.tc : Thread Cert.OdDhnIdeal.nD Cert.OdDhnIdeal.τ).loc Cert.OdDhnIdeal.main_arg0)
          ∧ r.2.mem ((c.tc : Thread Cert.OdDhnIdeal.nD Cert.OdDhnIdeal.τ).loc Cert.OdDhnIdeal.main_arg1) = m ((c.tc : Thread Cert.OdDhnIdeal.nD Cert.OdDhnIdeal.τ).loc Cert.OdDhnIdeal.main_arg1))
      ∧ θ_run (Cert.OdDhnRefIdeal.defs (F := Ideal)) (onTc (τ := Cert.OdDhnRefIdeal.τ) (Cert.OdDhnRefIdeal.main (F := Ideal))) ⟨m', fun _ => 0, g'⟩ (fun r => ∀ c : Dev Cert.OdDhnRefIdeal.nD,
          r.2.mem ((c.tc : Thread Cert.OdDhnRefIdeal.nD Cert.OdDhnRefIdeal.τ).loc Cert.OdDhnRefIdeal.main_v4) = v0 c
          ∧ r.2.mem ((c.tc : Thread Cert.OdDhnRefIdeal.nD Cert.OdDhnRefIdeal.τ).loc Cert.OdDhnRefIdeal.main_arg0) = m' ((c.tc : Thread Cert.OdDhnRefIdeal.nD Cert.OdDhnRefIdeal.τ).loc Cert.OdDhnRefIdeal.main_arg0)
          ∧ r.2.mem ((c.tc : Thread Cert.OdDhnRefIdeal.nD Cert.OdDhnRefIdeal.τ).loc Cert.OdDhnRefIdeal.main_arg1) = m' ((c.tc : Thread Cert.OdDhnRefIdeal.nD Cert.OdDhnRefIdeal.τ).loc Cert.OdDhnRefIdeal.main_arg1))

def preserves_OdWin_OdWinIdeal : Prop :=
  True

def algebraic_OdWinIdeal_OdWinRefIdeal [hOdWinIdeal : Cert.OdWinIdeal.Facts] [hOdWinRefIdeal : Cert.OdWinRefIdeal.Facts] : Prop :=
  ∀ (m : (ℓ : Loc Cert.OdWinIdeal.nD Cert.OdWinIdeal.τ Cert.OdWinIdeal.sig) → Buf (Elt Ideal) ℓ) (g : Dev Cert.OdWinIdeal.nD → PrngReg)
    (m' : (ℓ : Loc Cert.OdWinRefIdeal.nD Cert.OdWinRefIdeal.τ Cert.OdWinRefIdeal.sig) → Buf (Elt Ideal) ℓ) (g' : Dev Cert.OdWinRefIdeal.nD → PrngReg), Pre_OdWinIdeal m →
    (∀ c : Dev Cert.OdWinIdeal.nD,
      m' ((c.tc : Thread Cert.OdWinRefIdeal.nD Cert.OdWinRefIdeal.τ).loc Cert.OdWinRefIdeal.main_arg0) = m ((c.tc : Thread Cert.OdWinIdeal.nD Cert.OdWinIdeal.τ).loc Cert.OdWinIdeal.main_arg0)
      ∧ m' ((c.tc : Thread Cert.OdWinRefIdeal.nD Cert.OdWinRefIdeal.τ).loc Cert.OdWinRefIdeal.main_arg1) = m ((c.tc : Thread Cert.OdWinIdeal.nD Cert.OdWinIdeal.τ).loc Cert.OdWinIdeal.main_arg1)) →
    ∃ (v0 : (c : Dev Cert.OdWinIdeal.nD) → Buf (Elt Ideal) ((c.tc : Thread Cert.OdWinIdeal.nD Cert.OdWinIdeal.τ).loc Cert.OdWinIdeal.main_v0)),
      θ_run (Cert.OdWinIdeal.defs (F := Ideal)) (onTc (τ := Cert.OdWinIdeal.τ) (Cert.OdWinIdeal.main (F := Ideal))) ⟨m, fun _ => 0, g⟩ (fun r => ∀ c : Dev Cert.OdWinIdeal.nD,
          r.2.mem ((c.tc : Thread Cert.OdWinIdeal.nD Cert.OdWinIdeal.τ).loc Cert.OdWinIdeal.main_v0) = v0 c
          ∧ r.2.mem ((c.tc : Thread Cert.OdWinIdeal.nD Cert.OdWinIdeal.τ).loc Cert.OdWinIdeal.main_arg0) = m ((c.tc : Thread Cert.OdWinIdeal.nD Cert.OdWinIdeal.τ).loc Cert.OdWinIdeal.main_arg0)
          ∧ r.2.mem ((c.tc : Thread Cert.OdWinIdeal.nD Cert.OdWinIdeal.τ).loc Cert.OdWinIdeal.main_arg1) = m ((c.tc : Thread Cert.OdWinIdeal.nD Cert.OdWinIdeal.τ).loc Cert.OdWinIdeal.main_arg1))
      ∧ θ_run (Cert.OdWinRefIdeal.defs (F := Ideal)) (onTc (τ := Cert.OdWinRefIdeal.τ) (Cert.OdWinRefIdeal.main (F := Ideal))) ⟨m', fun _ => 0, g'⟩ (fun r => ∀ c : Dev Cert.OdWinRefIdeal.nD,
          r.2.mem ((c.tc : Thread Cert.OdWinRefIdeal.nD Cert.OdWinRefIdeal.τ).loc Cert.OdWinRefIdeal.main_v5) = v0 c
          ∧ r.2.mem ((c.tc : Thread Cert.OdWinRefIdeal.nD Cert.OdWinRefIdeal.τ).loc Cert.OdWinRefIdeal.main_arg0) = m' ((c.tc : Thread Cert.OdWinRefIdeal.nD Cert.OdWinRefIdeal.τ).loc Cert.OdWinRefIdeal.main_arg0)
          ∧ r.2.mem ((c.tc : Thread Cert.OdWinRefIdeal.nD Cert.OdWinRefIdeal.τ).loc Cert.OdWinRefIdeal.main_arg1) = m' ((c.tc : Thread Cert.OdWinRefIdeal.nD Cert.OdWinRefIdeal.τ).loc Cert.OdWinRefIdeal.main_arg1))

def preserves_FwUp0_FwUp0Ideal : Prop :=
  True

def algebraic_FwUp0Ideal_FwUp0RefIdeal [hFwUp0Ideal : Cert.FwUp0Ideal.Facts] [hFwUp0RefIdeal : Cert.FwUp0RefIdeal.Facts] : Prop :=
  ∀ (m : (ℓ : Loc Cert.FwUp0Ideal.nD Cert.FwUp0Ideal.τ Cert.FwUp0Ideal.sig) → Buf (Elt Ideal) ℓ) (g : Dev Cert.FwUp0Ideal.nD → PrngReg)
    (m' : (ℓ : Loc Cert.FwUp0RefIdeal.nD Cert.FwUp0RefIdeal.τ Cert.FwUp0RefIdeal.sig) → Buf (Elt Ideal) ℓ) (g' : Dev Cert.FwUp0RefIdeal.nD → PrngReg), Pre_FwUp0Ideal m →
    (∀ c : Dev Cert.FwUp0Ideal.nD,
      m' ((c.tc : Thread Cert.FwUp0RefIdeal.nD Cert.FwUp0RefIdeal.τ).loc Cert.FwUp0RefIdeal.main_arg0) = m ((c.tc : Thread Cert.FwUp0Ideal.nD Cert.FwUp0Ideal.τ).loc Cert.FwUp0Ideal.main_arg0)
      ∧ m' ((c.tc : Thread Cert.FwUp0RefIdeal.nD Cert.FwUp0RefIdeal.τ).loc Cert.FwUp0RefIdeal.main_arg1) = m ((c.tc : Thread Cert.FwUp0Ideal.nD Cert.FwUp0Ideal.τ).loc Cert.FwUp0Ideal.main_arg1)) →
    ∃ (v0 : (c : Dev Cert.FwUp0Ideal.nD) → Buf (Elt Ideal) ((c.tc : Thread Cert.FwUp0Ideal.nD Cert.FwUp0Ideal.τ).loc Cert.FwUp0Ideal.main_v0)),
      θ_run (Cert.FwUp0Ideal.defs (F := Ideal)) (onTc (τ := Cert.FwUp0Ideal.τ) (Cert.FwUp0Ideal.main (F := Ideal))) ⟨m, fun _ => 0, g⟩ (fun r => ∀ c : Dev Cert.FwUp0Ideal.nD,
          r.2.mem ((c.tc : Thread Cert.FwUp0Ideal.nD Cert.FwUp0Ideal.τ).loc Cert.FwUp0Ideal.main_v0) = v0 c
          ∧ r.2.mem ((c.tc : Thread Cert.FwUp0Ideal.nD Cert.FwUp0Ideal.τ).loc Cert.FwUp0Ideal.main_arg0) = m ((c.tc : Thread Cert.FwUp0Ideal.nD Cert.FwUp0Ideal.τ).loc Cert.FwUp0Ideal.main_arg0)
          ∧ r.2.mem ((c.tc : Thread Cert.FwUp0Ideal.nD Cert.FwUp0Ideal.τ).loc Cert.FwUp0Ideal.main_arg1) = m ((c.tc : Thread Cert.FwUp0Ideal.nD Cert.FwUp0Ideal.τ).loc Cert.FwUp0Ideal.main_arg1))
      ∧ θ_run (Cert.FwUp0RefIdeal.defs (F := Ideal)) (onTc (τ := Cert.FwUp0RefIdeal.τ) (Cert.FwUp0RefIdeal.main (F := Ideal))) ⟨m', fun _ => 0, g'⟩ (fun r => ∀ c : Dev Cert.FwUp0RefIdeal.nD,
          r.2.mem ((c.tc : Thread Cert.FwUp0RefIdeal.nD Cert.FwUp0RefIdeal.τ).loc Cert.FwUp0RefIdeal.main_v6) = v0 c
          ∧ r.2.mem ((c.tc : Thread Cert.FwUp0RefIdeal.nD Cert.FwUp0RefIdeal.τ).loc Cert.FwUp0RefIdeal.main_arg0) = m' ((c.tc : Thread Cert.FwUp0RefIdeal.nD Cert.FwUp0RefIdeal.τ).loc Cert.FwUp0RefIdeal.main_arg0)
          ∧ r.2.mem ((c.tc : Thread Cert.FwUp0RefIdeal.nD Cert.FwUp0RefIdeal.τ).loc Cert.FwUp0RefIdeal.main_arg1) = m' ((c.tc : Thread Cert.FwUp0RefIdeal.nD Cert.FwUp0RefIdeal.τ).loc Cert.FwUp0RefIdeal.main_arg1))

def preserves_FwUp1_FwUp1Ideal : Prop :=
  True

def algebraic_FwUp1Ideal_FwUp1RefIdeal [hFwUp1Ideal : Cert.FwUp1Ideal.Facts] [hFwUp1RefIdeal : Cert.FwUp1RefIdeal.Facts] : Prop :=
  ∀ (m : (ℓ : Loc Cert.FwUp1Ideal.nD Cert.FwUp1Ideal.τ Cert.FwUp1Ideal.sig) → Buf (Elt Ideal) ℓ) (g : Dev Cert.FwUp1Ideal.nD → PrngReg)
    (m' : (ℓ : Loc Cert.FwUp1RefIdeal.nD Cert.FwUp1RefIdeal.τ Cert.FwUp1RefIdeal.sig) → Buf (Elt Ideal) ℓ) (g' : Dev Cert.FwUp1RefIdeal.nD → PrngReg), Pre_FwUp1Ideal m →
    (∀ c : Dev Cert.FwUp1Ideal.nD,
      m' ((c.tc : Thread Cert.FwUp1RefIdeal.nD Cert.FwUp1RefIdeal.τ).loc Cert.FwUp1RefIdeal.main_arg0) = m ((c.tc : Thread Cert.FwUp1Ideal.nD Cert.FwUp1Ideal.τ).loc Cert.FwUp1Ideal.main_arg0)
      ∧ m' ((c.tc : Thread Cert.FwUp1RefIdeal.nD Cert.FwUp1RefIdeal.τ).loc Cert.FwUp1RefIdeal.main_arg1) = m ((c.tc : Thread Cert.FwUp1Ideal.nD Cert.FwUp1Ideal.τ).loc Cert.FwUp1Ideal.main_arg1)) →
    ∃ (v0 : (c : Dev Cert.FwUp1Ideal.nD) → Buf (Elt Ideal) ((c.tc : Thread Cert.FwUp1Ideal.nD Cert.FwUp1Ideal.τ).loc Cert.FwUp1Ideal.main_v0)),
      θ_run (Cert.FwUp1Ideal.defs (F := Ideal)) (onTc (τ := Cert.FwUp1Ideal.τ) (Cert.FwUp1Ideal.main (F := Ideal))) ⟨m, fun _ => 0, g⟩ (fun r => ∀ c : Dev Cert.FwUp1Ideal.nD,
          r.2.mem ((c.tc : Thread Cert.FwUp1Ideal.nD Cert.FwUp1Ideal.τ).loc Cert.FwUp1Ideal.main_v0) = v0 c
          ∧ r.2.mem ((c.tc : Thread Cert.FwUp1Ideal.nD Cert.FwUp1Ideal.τ).loc Cert.FwUp1Ideal.main_arg0) = m ((c.tc : Thread Cert.FwUp1Ideal.nD Cert.FwUp1Ideal.τ).loc Cert.FwUp1Ideal.main_arg0)
          ∧ r.2.mem ((c.tc : Thread Cert.FwUp1Ideal.nD Cert.FwUp1Ideal.τ).loc Cert.FwUp1Ideal.main_arg1) = m ((c.tc : Thread Cert.FwUp1Ideal.nD Cert.FwUp1Ideal.τ).loc Cert.FwUp1Ideal.main_arg1))
      ∧ θ_run (Cert.FwUp1RefIdeal.defs (F := Ideal)) (onTc (τ := Cert.FwUp1RefIdeal.τ) (Cert.FwUp1RefIdeal.main (F := Ideal))) ⟨m', fun _ => 0, g'⟩ (fun r => ∀ c : Dev Cert.FwUp1RefIdeal.nD,
          r.2.mem ((c.tc : Thread Cert.FwUp1RefIdeal.nD Cert.FwUp1RefIdeal.τ).loc Cert.FwUp1RefIdeal.main_v6) = v0 c
          ∧ r.2.mem ((c.tc : Thread Cert.FwUp1RefIdeal.nD Cert.FwUp1RefIdeal.τ).loc Cert.FwUp1RefIdeal.main_arg0) = m' ((c.tc : Thread Cert.FwUp1RefIdeal.nD Cert.FwUp1RefIdeal.τ).loc Cert.FwUp1RefIdeal.main_arg0)
          ∧ r.2.mem ((c.tc : Thread Cert.FwUp1RefIdeal.nD Cert.FwUp1RefIdeal.τ).loc Cert.FwUp1RefIdeal.main_arg1) = m' ((c.tc : Thread Cert.FwUp1RefIdeal.nD Cert.FwUp1RefIdeal.τ).loc Cert.FwUp1RefIdeal.main_arg1))

def preserves_FwUp2_FwUp2Ideal : Prop :=
  True

def algebraic_FwUp2Ideal_FwUp2RefIdeal [hFwUp2Ideal : Cert.FwUp2Ideal.Facts] [hFwUp2RefIdeal : Cert.FwUp2RefIdeal.Facts] : Prop :=
  ∀ (m : (ℓ : Loc Cert.FwUp2Ideal.nD Cert.FwUp2Ideal.τ Cert.FwUp2Ideal.sig) → Buf (Elt Ideal) ℓ) (g : Dev Cert.FwUp2Ideal.nD → PrngReg)
    (m' : (ℓ : Loc Cert.FwUp2RefIdeal.nD Cert.FwUp2RefIdeal.τ Cert.FwUp2RefIdeal.sig) → Buf (Elt Ideal) ℓ) (g' : Dev Cert.FwUp2RefIdeal.nD → PrngReg), Pre_FwUp2Ideal m →
    (∀ c : Dev Cert.FwUp2Ideal.nD,
      m' ((c.tc : Thread Cert.FwUp2RefIdeal.nD Cert.FwUp2RefIdeal.τ).loc Cert.FwUp2RefIdeal.main_arg0) = m ((c.tc : Thread Cert.FwUp2Ideal.nD Cert.FwUp2Ideal.τ).loc Cert.FwUp2Ideal.main_arg0)
      ∧ m' ((c.tc : Thread Cert.FwUp2RefIdeal.nD Cert.FwUp2RefIdeal.τ).loc Cert.FwUp2RefIdeal.main_arg1) = m ((c.tc : Thread Cert.FwUp2Ideal.nD Cert.FwUp2Ideal.τ).loc Cert.FwUp2Ideal.main_arg1)) →
    ∃ (v0 : (c : Dev Cert.FwUp2Ideal.nD) → Buf (Elt Ideal) ((c.tc : Thread Cert.FwUp2Ideal.nD Cert.FwUp2Ideal.τ).loc Cert.FwUp2Ideal.main_v0)),
      θ_run (Cert.FwUp2Ideal.defs (F := Ideal)) (onTc (τ := Cert.FwUp2Ideal.τ) (Cert.FwUp2Ideal.main (F := Ideal))) ⟨m, fun _ => 0, g⟩ (fun r => ∀ c : Dev Cert.FwUp2Ideal.nD,
          r.2.mem ((c.tc : Thread Cert.FwUp2Ideal.nD Cert.FwUp2Ideal.τ).loc Cert.FwUp2Ideal.main_v0) = v0 c
          ∧ r.2.mem ((c.tc : Thread Cert.FwUp2Ideal.nD Cert.FwUp2Ideal.τ).loc Cert.FwUp2Ideal.main_arg0) = m ((c.tc : Thread Cert.FwUp2Ideal.nD Cert.FwUp2Ideal.τ).loc Cert.FwUp2Ideal.main_arg0)
          ∧ r.2.mem ((c.tc : Thread Cert.FwUp2Ideal.nD Cert.FwUp2Ideal.τ).loc Cert.FwUp2Ideal.main_arg1) = m ((c.tc : Thread Cert.FwUp2Ideal.nD Cert.FwUp2Ideal.τ).loc Cert.FwUp2Ideal.main_arg1))
      ∧ θ_run (Cert.FwUp2RefIdeal.defs (F := Ideal)) (onTc (τ := Cert.FwUp2RefIdeal.τ) (Cert.FwUp2RefIdeal.main (F := Ideal))) ⟨m', fun _ => 0, g'⟩ (fun r => ∀ c : Dev Cert.FwUp2RefIdeal.nD,
          r.2.mem ((c.tc : Thread Cert.FwUp2RefIdeal.nD Cert.FwUp2RefIdeal.τ).loc Cert.FwUp2RefIdeal.main_v6) = v0 c
          ∧ r.2.mem ((c.tc : Thread Cert.FwUp2RefIdeal.nD Cert.FwUp2RefIdeal.τ).loc Cert.FwUp2RefIdeal.main_arg0) = m' ((c.tc : Thread Cert.FwUp2RefIdeal.nD Cert.FwUp2RefIdeal.τ).loc Cert.FwUp2RefIdeal.main_arg0)
          ∧ r.2.mem ((c.tc : Thread Cert.FwUp2RefIdeal.nD Cert.FwUp2RefIdeal.τ).loc Cert.FwUp2RefIdeal.main_arg1) = m' ((c.tc : Thread Cert.FwUp2RefIdeal.nD Cert.FwUp2RefIdeal.τ).loc Cert.FwUp2RefIdeal.main_arg1))

def preserves_FwUp3_FwUp3Ideal : Prop :=
  True

def algebraic_FwUp3Ideal_FwUp3RefIdeal [hFwUp3Ideal : Cert.FwUp3Ideal.Facts] [hFwUp3RefIdeal : Cert.FwUp3RefIdeal.Facts] : Prop :=
  ∀ (m : (ℓ : Loc Cert.FwUp3Ideal.nD Cert.FwUp3Ideal.τ Cert.FwUp3Ideal.sig) → Buf (Elt Ideal) ℓ) (g : Dev Cert.FwUp3Ideal.nD → PrngReg)
    (m' : (ℓ : Loc Cert.FwUp3RefIdeal.nD Cert.FwUp3RefIdeal.τ Cert.FwUp3RefIdeal.sig) → Buf (Elt Ideal) ℓ) (g' : Dev Cert.FwUp3RefIdeal.nD → PrngReg), Pre_FwUp3Ideal m →
    (∀ c : Dev Cert.FwUp3Ideal.nD,
      m' ((c.tc : Thread Cert.FwUp3RefIdeal.nD Cert.FwUp3RefIdeal.τ).loc Cert.FwUp3RefIdeal.main_arg0) = m ((c.tc : Thread Cert.FwUp3Ideal.nD Cert.FwUp3Ideal.τ).loc Cert.FwUp3Ideal.main_arg0)
      ∧ m' ((c.tc : Thread Cert.FwUp3RefIdeal.nD Cert.FwUp3RefIdeal.τ).loc Cert.FwUp3RefIdeal.main_arg1) = m ((c.tc : Thread Cert.FwUp3Ideal.nD Cert.FwUp3Ideal.τ).loc Cert.FwUp3Ideal.main_arg1)) →
    ∃ (v0 : (c : Dev Cert.FwUp3Ideal.nD) → Buf (Elt Ideal) ((c.tc : Thread Cert.FwUp3Ideal.nD Cert.FwUp3Ideal.τ).loc Cert.FwUp3Ideal.main_v0)),
      θ_run (Cert.FwUp3Ideal.defs (F := Ideal)) (onTc (τ := Cert.FwUp3Ideal.τ) (Cert.FwUp3Ideal.main (F := Ideal))) ⟨m, fun _ => 0, g⟩ (fun r => ∀ c : Dev Cert.FwUp3Ideal.nD,
          r.2.mem ((c.tc : Thread Cert.FwUp3Ideal.nD Cert.FwUp3Ideal.τ).loc Cert.FwUp3Ideal.main_v0) = v0 c
          ∧ r.2.mem ((c.tc : Thread Cert.FwUp3Ideal.nD Cert.FwUp3Ideal.τ).loc Cert.FwUp3Ideal.main_arg0) = m ((c.tc : Thread Cert.FwUp3Ideal.nD Cert.FwUp3Ideal.τ).loc Cert.FwUp3Ideal.main_arg0)
          ∧ r.2.mem ((c.tc : Thread Cert.FwUp3Ideal.nD Cert.FwUp3Ideal.τ).loc Cert.FwUp3Ideal.main_arg1) = m ((c.tc : Thread Cert.FwUp3Ideal.nD Cert.FwUp3Ideal.τ).loc Cert.FwUp3Ideal.main_arg1))
      ∧ θ_run (Cert.FwUp3RefIdeal.defs (F := Ideal)) (onTc (τ := Cert.FwUp3RefIdeal.τ) (Cert.FwUp3RefIdeal.main (F := Ideal))) ⟨m', fun _ => 0, g'⟩ (fun r => ∀ c : Dev Cert.FwUp3RefIdeal.nD,
          r.2.mem ((c.tc : Thread Cert.FwUp3RefIdeal.nD Cert.FwUp3RefIdeal.τ).loc Cert.FwUp3RefIdeal.main_v6) = v0 c
          ∧ r.2.mem ((c.tc : Thread Cert.FwUp3RefIdeal.nD Cert.FwUp3RefIdeal.τ).loc Cert.FwUp3RefIdeal.main_arg0) = m' ((c.tc : Thread Cert.FwUp3RefIdeal.nD Cert.FwUp3RefIdeal.τ).loc Cert.FwUp3RefIdeal.main_arg0)
          ∧ r.2.mem ((c.tc : Thread Cert.FwUp3RefIdeal.nD Cert.FwUp3RefIdeal.τ).loc Cert.FwUp3RefIdeal.main_arg1) = m' ((c.tc : Thread Cert.FwUp3RefIdeal.nD Cert.FwUp3RefIdeal.τ).loc Cert.FwUp3RefIdeal.main_arg1))

def preserves_FwDown_FwDownIdeal : Prop :=
  True

def algebraic_FwDownIdeal_FwDownRefIdeal [hFwDownIdeal : Cert.FwDownIdeal.Facts] [hFwDownRefIdeal : Cert.FwDownRefIdeal.Facts] : Prop :=
  ∀ (m : (ℓ : Loc Cert.FwDownIdeal.nD Cert.FwDownIdeal.τ Cert.FwDownIdeal.sig) → Buf (Elt Ideal) ℓ) (g : Dev Cert.FwDownIdeal.nD → PrngReg)
    (m' : (ℓ : Loc Cert.FwDownRefIdeal.nD Cert.FwDownRefIdeal.τ Cert.FwDownRefIdeal.sig) → Buf (Elt Ideal) ℓ) (g' : Dev Cert.FwDownRefIdeal.nD → PrngReg), Pre_FwDownIdeal m →
    (∀ c : Dev Cert.FwDownIdeal.nD,
      m' ((c.tc : Thread Cert.FwDownRefIdeal.nD Cert.FwDownRefIdeal.τ).loc Cert.FwDownRefIdeal.main_arg0) = m ((c.tc : Thread Cert.FwDownIdeal.nD Cert.FwDownIdeal.τ).loc Cert.FwDownIdeal.main_arg0)
      ∧ m' ((c.tc : Thread Cert.FwDownRefIdeal.nD Cert.FwDownRefIdeal.τ).loc Cert.FwDownRefIdeal.main_arg1) = m ((c.tc : Thread Cert.FwDownIdeal.nD Cert.FwDownIdeal.τ).loc Cert.FwDownIdeal.main_arg1)
      ∧ m' ((c.tc : Thread Cert.FwDownRefIdeal.nD Cert.FwDownRefIdeal.τ).loc Cert.FwDownRefIdeal.main_arg2) = m ((c.tc : Thread Cert.FwDownIdeal.nD Cert.FwDownIdeal.τ).loc Cert.FwDownIdeal.main_arg2)) →
    ∃ (v0 : (c : Dev Cert.FwDownIdeal.nD) → Buf (Elt Ideal) ((c.tc : Thread Cert.FwDownIdeal.nD Cert.FwDownIdeal.τ).loc Cert.FwDownIdeal.main_v0)),
      θ_run (Cert.FwDownIdeal.defs (F := Ideal)) (onTc (τ := Cert.FwDownIdeal.τ) (Cert.FwDownIdeal.main (F := Ideal))) ⟨m, fun _ => 0, g⟩ (fun r => ∀ c : Dev Cert.FwDownIdeal.nD,
          r.2.mem ((c.tc : Thread Cert.FwDownIdeal.nD Cert.FwDownIdeal.τ).loc Cert.FwDownIdeal.main_v0) = v0 c
          ∧ r.2.mem ((c.tc : Thread Cert.FwDownIdeal.nD Cert.FwDownIdeal.τ).loc Cert.FwDownIdeal.main_arg0) = m ((c.tc : Thread Cert.FwDownIdeal.nD Cert.FwDownIdeal.τ).loc Cert.FwDownIdeal.main_arg0)
          ∧ r.2.mem ((c.tc : Thread Cert.FwDownIdeal.nD Cert.FwDownIdeal.τ).loc Cert.FwDownIdeal.main_arg1) = m ((c.tc : Thread Cert.FwDownIdeal.nD Cert.FwDownIdeal.τ).loc Cert.FwDownIdeal.main_arg1)
          ∧ r.2.mem ((c.tc : Thread Cert.FwDownIdeal.nD Cert.FwDownIdeal.τ).loc Cert.FwDownIdeal.main_arg2) = m ((c.tc : Thread Cert.FwDownIdeal.nD Cert.FwDownIdeal.τ).loc Cert.FwDownIdeal.main_arg2))
      ∧ θ_run (Cert.FwDownRefIdeal.defs (F := Ideal)) (onTc (τ := Cert.FwDownRefIdeal.τ) (Cert.FwDownRefIdeal.main (F := Ideal))) ⟨m', fun _ => 0, g'⟩ (fun r => ∀ c : Dev Cert.FwDownRefIdeal.nD,
          r.2.mem ((c.tc : Thread Cert.FwDownRefIdeal.nD Cert.FwDownRefIdeal.τ).loc Cert.FwDownRefIdeal.main_v3) = v0 c
          ∧ r.2.mem ((c.tc : Thread Cert.FwDownRefIdeal.nD Cert.FwDownRefIdeal.τ).loc Cert.FwDownRefIdeal.main_arg0) = m' ((c.tc : Thread Cert.FwDownRefIdeal.nD Cert.FwDownRefIdeal.τ).loc Cert.FwDownRefIdeal.main_arg0)
          ∧ r.2.mem ((c.tc : Thread Cert.FwDownRefIdeal.nD Cert.FwDownRefIdeal.τ).loc Cert.FwDownRefIdeal.main_arg1) = m' ((c.tc : Thread Cert.FwDownRefIdeal.nD Cert.FwDownRefIdeal.τ).loc Cert.FwDownRefIdeal.main_arg1)
          ∧ r.2.mem ((c.tc : Thread Cert.FwDownRefIdeal.nD Cert.FwDownRefIdeal.τ).loc Cert.FwDownRefIdeal.main_arg2) = m' ((c.tc : Thread Cert.FwDownRefIdeal.nD Cert.FwDownRefIdeal.τ).loc Cert.FwDownRefIdeal.main_arg2))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v2) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvInDt_EvInDtIdeal : Prop :=
  True

def algebraic_EvInDtIdeal_EvInDtRefIdeal [hEvInDtIdeal : Cert.EvInDtIdeal.Facts] [hEvInDtRefIdeal : Cert.EvInDtRefIdeal.Facts] : Prop :=
  ∀ (m : (ℓ : Loc Cert.EvInDtIdeal.nD Cert.EvInDtIdeal.τ Cert.EvInDtIdeal.sig) → Buf (Elt Ideal) ℓ) (g : Dev Cert.EvInDtIdeal.nD → PrngReg)
    (m' : (ℓ : Loc Cert.EvInDtRefIdeal.nD Cert.EvInDtRefIdeal.τ Cert.EvInDtRefIdeal.sig) → Buf (Elt Ideal) ℓ) (g' : Dev Cert.EvInDtRefIdeal.nD → PrngReg), Pre_EvInDtIdeal m →
    (∀ c : Dev Cert.EvInDtIdeal.nD,
      m' ((c.tc : Thread Cert.EvInDtRefIdeal.nD Cert.EvInDtRefIdeal.τ).loc Cert.EvInDtRefIdeal.main_arg0) = m ((c.tc : Thread Cert.EvInDtIdeal.nD Cert.EvInDtIdeal.τ).loc Cert.EvInDtIdeal.main_arg0)
      ∧ m' ((c.tc : Thread Cert.EvInDtRefIdeal.nD Cert.EvInDtRefIdeal.τ).loc Cert.EvInDtRefIdeal.main_arg1) = m ((c.tc : Thread Cert.EvInDtIdeal.nD Cert.EvInDtIdeal.τ).loc Cert.EvInDtIdeal.main_arg1)) →
    ∃ (v0 : (c : Dev Cert.EvInDtIdeal.nD) → Buf (Elt Ideal) ((c.tc : Thread Cert.EvInDtIdeal.nD Cert.EvInDtIdeal.τ).loc Cert.EvInDtIdeal.main_v0)),
      θ_run (Cert.EvInDtIdeal.defs (F := Ideal)) (onTc (τ := Cert.EvInDtIdeal.τ) (Cert.EvInDtIdeal.main (F := Ideal))) ⟨m, fun _ => 0, g⟩ (fun r => ∀ c : Dev Cert.EvInDtIdeal.nD,
          r.2.mem ((c.tc : Thread Cert.EvInDtIdeal.nD Cert.EvInDtIdeal.τ).loc Cert.EvInDtIdeal.main_v0) = v0 c
          ∧ r.2.mem ((c.tc : Thread Cert.EvInDtIdeal.nD Cert.EvInDtIdeal.τ).loc Cert.EvInDtIdeal.main_arg0) = m ((c.tc : Thread Cert.EvInDtIdeal.nD Cert.EvInDtIdeal.τ).loc Cert.EvInDtIdeal.main_arg0)
          ∧ r.2.mem ((c.tc : Thread Cert.EvInDtIdeal.nD Cert.EvInDtIdeal.τ).loc Cert.EvInDtIdeal.main_arg1) = m ((c.tc : Thread Cert.EvInDtIdeal.nD Cert.EvInDtIdeal.τ).loc Cert.EvInDtIdeal.main_arg1))
      ∧ θ_run (Cert.EvInDtRefIdeal.defs (F := Ideal)) (onTc (τ := Cert.EvInDtRefIdeal.τ) (Cert.EvInDtRefIdeal.main (F := Ideal))) ⟨m', fun _ => 0, g'⟩ (fun r => ∀ c : Dev Cert.EvInDtRefIdeal.nD,
          r.2.mem ((c.tc : Thread Cert.EvInDtRefIdeal.nD Cert.EvInDtRefIdeal.τ).loc Cert.EvInDtRefIdeal.main_v2) = v0 c
          ∧ r.2.mem ((c.tc : Thread Cert.EvInDtRefIdeal.nD Cert.EvInDtRefIdeal.τ).loc Cert.EvInDtRefIdeal.main_arg0) = m' ((c.tc : Thread Cert.EvInDtRefIdeal.nD Cert.EvInDtRefIdeal.τ).loc Cert.EvInDtRefIdeal.main_arg0)
          ∧ r.2.mem ((c.tc : Thread Cert.EvInDtRefIdeal.nD Cert.EvInDtRefIdeal.τ).loc Cert.EvInDtRefIdeal.main_arg1) = m' ((c.tc : Thread Cert.EvInDtRefIdeal.nD Cert.EvInDtRefIdeal.τ).loc Cert.EvInDtRefIdeal.main_arg1))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)) →
    ∃ (v0 : (c : Dev Cert.EvOutIdeal.nD) → Buf (Elt Ideal) ((c.tc : Thread Cert.EvOutIdeal.nD Cert.EvOutIdeal.τ).loc Cert.EvOutIdeal.main_v0)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0) = v0 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v3) = v0 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v2) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_OdUq_OdUqIdeal : Prop :=
  True

def algebraic_OdUqIdeal_OdUqRefIdeal [hOdUqIdeal : Cert.OdUqIdeal.Facts] [hOdUqRefIdeal : Cert.OdUqRefIdeal.Facts] : Prop :=
  ∀ (m : (ℓ : Loc Cert.OdUqIdeal.nD Cert.OdUqIdeal.τ Cert.OdUqIdeal.sig) → Buf (Elt Ideal) ℓ) (g : Dev Cert.OdUqIdeal.nD → PrngReg)
    (m' : (ℓ : Loc Cert.OdUqRefIdeal.nD Cert.OdUqRefIdeal.τ Cert.OdUqRefIdeal.sig) → Buf (Elt Ideal) ℓ) (g' : Dev Cert.OdUqRefIdeal.nD → PrngReg), Pre_OdUqIdeal m →
    (∀ c : Dev Cert.OdUqIdeal.nD,
      m' ((c.tc : Thread Cert.OdUqRefIdeal.nD Cert.OdUqRefIdeal.τ).loc Cert.OdUqRefIdeal.main_arg0) = m ((c.tc : Thread Cert.OdUqIdeal.nD Cert.OdUqIdeal.τ).loc Cert.OdUqIdeal.main_arg0)
      ∧ m' ((c.tc : Thread Cert.OdUqRefIdeal.nD Cert.OdUqRefIdeal.τ).loc Cert.OdUqRefIdeal.main_arg1) = m ((c.tc : Thread Cert.OdUqIdeal.nD Cert.OdUqIdeal.τ).loc Cert.OdUqIdeal.main_arg1)) →
    ∃ (v0 : (c : Dev Cert.OdUqIdeal.nD) → Buf (Elt Ideal) ((c.tc : Thread Cert.OdUqIdeal.nD Cert.OdUqIdeal.τ).loc Cert.OdUqIdeal.main_v0)),
      θ_run (Cert.OdUqIdeal.defs (F := Ideal)) (onTc (τ := Cert.OdUqIdeal.τ) (Cert.OdUqIdeal.main (F := Ideal))) ⟨m, fun _ => 0, g⟩ (fun r => ∀ c : Dev Cert.OdUqIdeal.nD,
          r.2.mem ((c.tc : Thread Cert.OdUqIdeal.nD Cert.OdUqIdeal.τ).loc Cert.OdUqIdeal.main_v0) = v0 c
          ∧ r.2.mem ((c.tc : Thread Cert.OdUqIdeal.nD Cert.OdUqIdeal.τ).loc Cert.OdUqIdeal.main_arg0) = m ((c.tc : Thread Cert.OdUqIdeal.nD Cert.OdUqIdeal.τ).loc Cert.OdUqIdeal.main_arg0)
          ∧ r.2.mem ((c.tc : Thread Cert.OdUqIdeal.nD Cert.OdUqIdeal.τ).loc Cert.OdUqIdeal.main_arg1) = m ((c.tc : Thread Cert.OdUqIdeal.nD Cert.OdUqIdeal.τ).loc Cert.OdUqIdeal.main_arg1))
      ∧ θ_run (Cert.OdUqRefIdeal.defs (F := Ideal)) (onTc (τ := Cert.OdUqRefIdeal.τ) (Cert.OdUqRefIdeal.main (F := Ideal))) ⟨m', fun _ => 0, g'⟩ (fun r => ∀ c : Dev Cert.OdUqRefIdeal.nD,
          r.2.mem ((c.tc : Thread Cert.OdUqRefIdeal.nD Cert.OdUqRefIdeal.τ).loc Cert.OdUqRefIdeal.main_v2) = v0 c
          ∧ r.2.mem ((c.tc : Thread Cert.OdUqRefIdeal.nD Cert.OdUqRefIdeal.τ).loc Cert.OdUqRefIdeal.main_arg0) = m' ((c.tc : Thread Cert.OdUqRefIdeal.nD Cert.OdUqRefIdeal.τ).loc Cert.OdUqRefIdeal.main_arg0)
          ∧ r.2.mem ((c.tc : Thread Cert.OdUqRefIdeal.nD Cert.OdUqRefIdeal.τ).loc Cert.OdUqRefIdeal.main_arg1) = m' ((c.tc : Thread Cert.OdUqRefIdeal.nD Cert.OdUqRefIdeal.τ).loc Cert.OdUqRefIdeal.main_arg1))

def preserves_OdUkv_OdUkvIdeal : Prop :=
  True

def algebraic_OdUkvIdeal_OdUkvRefIdeal [hOdUkvIdeal : Cert.OdUkvIdeal.Facts] [hOdUkvRefIdeal : Cert.OdUkvRefIdeal.Facts] : Prop :=
  ∀ (m : (ℓ : Loc Cert.OdUkvIdeal.nD Cert.OdUkvIdeal.τ Cert.OdUkvIdeal.sig) → Buf (Elt Ideal) ℓ) (g : Dev Cert.OdUkvIdeal.nD → PrngReg)
    (m' : (ℓ : Loc Cert.OdUkvRefIdeal.nD Cert.OdUkvRefIdeal.τ Cert.OdUkvRefIdeal.sig) → Buf (Elt Ideal) ℓ) (g' : Dev Cert.OdUkvRefIdeal.nD → PrngReg), Pre_OdUkvIdeal m →
    (∀ c : Dev Cert.OdUkvIdeal.nD,
      m' ((c.tc : Thread Cert.OdUkvRefIdeal.nD Cert.OdUkvRefIdeal.τ).loc Cert.OdUkvRefIdeal.main_arg0) = m ((c.tc : Thread Cert.OdUkvIdeal.nD Cert.OdUkvIdeal.τ).loc Cert.OdUkvIdeal.main_arg0)
      ∧ m' ((c.tc : Thread Cert.OdUkvRefIdeal.nD Cert.OdUkvRefIdeal.τ).loc Cert.OdUkvRefIdeal.main_arg1) = m ((c.tc : Thread Cert.OdUkvIdeal.nD Cert.OdUkvIdeal.τ).loc Cert.OdUkvIdeal.main_arg1)) →
    ∃ (v0 : (c : Dev Cert.OdUkvIdeal.nD) → Buf (Elt Ideal) ((c.tc : Thread Cert.OdUkvIdeal.nD Cert.OdUkvIdeal.τ).loc Cert.OdUkvIdeal.main_v0)),
      θ_run (Cert.OdUkvIdeal.defs (F := Ideal)) (onTc (τ := Cert.OdUkvIdeal.τ) (Cert.OdUkvIdeal.main (F := Ideal))) ⟨m, fun _ => 0, g⟩ (fun r => ∀ c : Dev Cert.OdUkvIdeal.nD,
          r.2.mem ((c.tc : Thread Cert.OdUkvIdeal.nD Cert.OdUkvIdeal.τ).loc Cert.OdUkvIdeal.main_v0) = v0 c
          ∧ r.2.mem ((c.tc : Thread Cert.OdUkvIdeal.nD Cert.OdUkvIdeal.τ).loc Cert.OdUkvIdeal.main_arg0) = m ((c.tc : Thread Cert.OdUkvIdeal.nD Cert.OdUkvIdeal.τ).loc Cert.OdUkvIdeal.main_arg0)
          ∧ r.2.mem ((c.tc : Thread Cert.OdUkvIdeal.nD Cert.OdUkvIdeal.τ).loc Cert.OdUkvIdeal.main_arg1) = m ((c.tc : Thread Cert.OdUkvIdeal.nD Cert.OdUkvIdeal.τ).loc Cert.OdUkvIdeal.main_arg1))
      ∧ θ_run (Cert.OdUkvRefIdeal.defs (F := Ideal)) (onTc (τ := Cert.OdUkvRefIdeal.τ) (Cert.OdUkvRefIdeal.main (F := Ideal))) ⟨m', fun _ => 0, g'⟩ (fun r => ∀ c : Dev Cert.OdUkvRefIdeal.nD,
          r.2.mem ((c.tc : Thread Cert.OdUkvRefIdeal.nD Cert.OdUkvRefIdeal.τ).loc Cert.OdUkvRefIdeal.main_v2) = v0 c
          ∧ r.2.mem ((c.tc : Thread Cert.OdUkvRefIdeal.nD Cert.OdUkvRefIdeal.τ).loc Cert.OdUkvRefIdeal.main_arg0) = m' ((c.tc : Thread Cert.OdUkvRefIdeal.nD Cert.OdUkvRefIdeal.τ).loc Cert.OdUkvRefIdeal.main_arg0)
          ∧ r.2.mem ((c.tc : Thread Cert.OdUkvRefIdeal.nD Cert.OdUkvRefIdeal.τ).loc Cert.OdUkvRefIdeal.main_arg1) = m' ((c.tc : Thread Cert.OdUkvRefIdeal.nD Cert.OdUkvRefIdeal.τ).loc Cert.OdUkvRefIdeal.main_arg1))

def preserves_OdO_OdOIdeal : Prop :=
  True

def algebraic_OdOIdeal_OdORefIdeal [hOdOIdeal : Cert.OdOIdeal.Facts] [hOdORefIdeal : Cert.OdORefIdeal.Facts] : Prop :=
  ∀ (m : (ℓ : Loc Cert.OdOIdeal.nD Cert.OdOIdeal.τ Cert.OdOIdeal.sig) → Buf (Elt Ideal) ℓ) (g : Dev Cert.OdOIdeal.nD → PrngReg)
    (m' : (ℓ : Loc Cert.OdORefIdeal.nD Cert.OdORefIdeal.τ Cert.OdORefIdeal.sig) → Buf (Elt Ideal) ℓ) (g' : Dev Cert.OdORefIdeal.nD → PrngReg), Pre_OdOIdeal m →
    (∀ c : Dev Cert.OdOIdeal.nD,
      m' ((c.tc : Thread Cert.OdORefIdeal.nD Cert.OdORefIdeal.τ).loc Cert.OdORefIdeal.main_arg0) = m ((c.tc : Thread Cert.OdOIdeal.nD Cert.OdOIdeal.τ).loc Cert.OdOIdeal.main_arg0)
      ∧ m' ((c.tc : Thread Cert.OdORefIdeal.nD Cert.OdORefIdeal.τ).loc Cert.OdORefIdeal.main_arg1) = m ((c.tc : Thread Cert.OdOIdeal.nD Cert.OdOIdeal.τ).loc Cert.OdOIdeal.main_arg1)
      ∧ m' ((c.tc : Thread Cert.OdORefIdeal.nD Cert.OdORefIdeal.τ).loc Cert.OdORefIdeal.main_arg2) = m ((c.tc : Thread Cert.OdOIdeal.nD Cert.OdOIdeal.τ).loc Cert.OdOIdeal.main_arg2)) →
    ∃ (v0 : (c : Dev Cert.OdOIdeal.nD) → Buf (Elt Ideal) ((c.tc : Thread Cert.OdOIdeal.nD Cert.OdOIdeal.τ).loc Cert.OdOIdeal.main_v0)),
      θ_run (Cert.OdOIdeal.defs (F := Ideal)) (onTc (τ := Cert.OdOIdeal.τ) (Cert.OdOIdeal.main (F := Ideal))) ⟨m, fun _ => 0, g⟩ (fun r => ∀ c : Dev Cert.OdOIdeal.nD,
          r.2.mem ((c.tc : Thread Cert.OdOIdeal.nD Cert.OdOIdeal.τ).loc Cert.OdOIdeal.main_v0) = v0 c
          ∧ r.2.mem ((c.tc : Thread Cert.OdOIdeal.nD Cert.OdOIdeal.τ).loc Cert.OdOIdeal.main_arg0) = m ((c.tc : Thread Cert.OdOIdeal.nD Cert.OdOIdeal.τ).loc Cert.OdOIdeal.main_arg0)
          ∧ r.2.mem ((c.tc : Thread Cert.OdOIdeal.nD Cert.OdOIdeal.τ).loc Cert.OdOIdeal.main_arg1) = m ((c.tc : Thread Cert.OdOIdeal.nD Cert.OdOIdeal.τ).loc Cert.OdOIdeal.main_arg1)
          ∧ r.2.mem ((c.tc : Thread Cert.OdOIdeal.nD Cert.OdOIdeal.τ).loc Cert.OdOIdeal.main_arg2) = m ((c.tc : Thread Cert.OdOIdeal.nD Cert.OdOIdeal.τ).loc Cert.OdOIdeal.main_arg2))
      ∧ θ_run (Cert.OdORefIdeal.defs (F := Ideal)) (onTc (τ := Cert.OdORefIdeal.τ) (Cert.OdORefIdeal.main (F := Ideal))) ⟨m', fun _ => 0, g'⟩ (fun r => ∀ c : Dev Cert.OdORefIdeal.nD,
          r.2.mem ((c.tc : Thread Cert.OdORefIdeal.nD Cert.OdORefIdeal.τ).loc Cert.OdORefIdeal.main_v3) = v0 c
          ∧ r.2.mem ((c.tc : Thread Cert.OdORefIdeal.nD Cert.OdORefIdeal.τ).loc Cert.OdORefIdeal.main_arg0) = m' ((c.tc : Thread Cert.OdORefIdeal.nD Cert.OdORefIdeal.τ).loc Cert.OdORefIdeal.main_arg0)
          ∧ r.2.mem ((c.tc : Thread Cert.OdORefIdeal.nD Cert.OdORefIdeal.τ).loc Cert.OdORefIdeal.main_arg1) = m' ((c.tc : Thread Cert.OdORefIdeal.nD Cert.OdORefIdeal.τ).loc Cert.OdORefIdeal.main_arg1)
          ∧ r.2.mem ((c.tc : Thread Cert.OdORefIdeal.nD Cert.OdORefIdeal.τ).loc Cert.OdORefIdeal.main_arg2) = m' ((c.tc : Thread Cert.OdORefIdeal.nD Cert.OdORefIdeal.τ).loc Cert.OdORefIdeal.main_arg2))

def preserves_FfDowns_FfDownsIdeal : Prop :=
  True

def algebraic_FfDownsIdeal_FfDownsRefIdeal [hFfDownsIdeal : Cert.FfDownsIdeal.Facts] [hFfDownsRefIdeal : Cert.FfDownsRefIdeal.Facts] : Prop :=
  ∀ (m : (ℓ : Loc Cert.FfDownsIdeal.nD Cert.FfDownsIdeal.τ Cert.FfDownsIdeal.sig) → Buf (Elt Ideal) ℓ) (g : Dev Cert.FfDownsIdeal.nD → PrngReg)
    (m' : (ℓ : Loc Cert.FfDownsRefIdeal.nD Cert.FfDownsRefIdeal.τ Cert.FfDownsRefIdeal.sig) → Buf (Elt Ideal) ℓ) (g' : Dev Cert.FfDownsRefIdeal.nD → PrngReg), Pre_FfDownsIdeal m →
    (∀ c : Dev Cert.FfDownsIdeal.nD,
      m' ((c.tc : Thread Cert.FfDownsRefIdeal.nD Cert.FfDownsRefIdeal.τ).loc Cert.FfDownsRefIdeal.main_arg0) = m ((c.tc : Thread Cert.FfDownsIdeal.nD Cert.FfDownsIdeal.τ).loc Cert.FfDownsIdeal.main_arg0)
      ∧ m' ((c.tc : Thread Cert.FfDownsRefIdeal.nD Cert.FfDownsRefIdeal.τ).loc Cert.FfDownsRefIdeal.main_arg1) = m ((c.tc : Thread Cert.FfDownsIdeal.nD Cert.FfDownsIdeal.τ).loc Cert.FfDownsIdeal.main_arg1)
      ∧ m' ((c.tc : Thread Cert.FfDownsRefIdeal.nD Cert.FfDownsRefIdeal.τ).loc Cert.FfDownsRefIdeal.main_arg2) = m ((c.tc : Thread Cert.FfDownsIdeal.nD Cert.FfDownsIdeal.τ).loc Cert.FfDownsIdeal.main_arg2)
      ∧ m' ((c.tc : Thread Cert.FfDownsRefIdeal.nD Cert.FfDownsRefIdeal.τ).loc Cert.FfDownsRefIdeal.main_arg3) = m ((c.tc : Thread Cert.FfDownsIdeal.nD Cert.FfDownsIdeal.τ).loc Cert.FfDownsIdeal.main_arg3)
      ∧ m' ((c.tc : Thread Cert.FfDownsRefIdeal.nD Cert.FfDownsRefIdeal.τ).loc Cert.FfDownsRefIdeal.main_arg4) = m ((c.tc : Thread Cert.FfDownsIdeal.nD Cert.FfDownsIdeal.τ).loc Cert.FfDownsIdeal.main_arg4)
      ∧ m' ((c.tc : Thread Cert.FfDownsRefIdeal.nD Cert.FfDownsRefIdeal.τ).loc Cert.FfDownsRefIdeal.main_arg5) = m ((c.tc : Thread Cert.FfDownsIdeal.nD Cert.FfDownsIdeal.τ).loc Cert.FfDownsIdeal.main_arg5)
      ∧ m' ((c.tc : Thread Cert.FfDownsRefIdeal.nD Cert.FfDownsRefIdeal.τ).loc Cert.FfDownsRefIdeal.main_arg6) = m ((c.tc : Thread Cert.FfDownsIdeal.nD Cert.FfDownsIdeal.τ).loc Cert.FfDownsIdeal.main_arg6)
      ∧ m' ((c.tc : Thread Cert.FfDownsRefIdeal.nD Cert.FfDownsRefIdeal.τ).loc Cert.FfDownsRefIdeal.main_arg7) = m ((c.tc : Thread Cert.FfDownsIdeal.nD Cert.FfDownsIdeal.τ).loc Cert.FfDownsIdeal.main_arg7)) →
    ∃ (v0 : (c : Dev Cert.FfDownsIdeal.nD) → Buf (Elt Ideal) ((c.tc : Thread Cert.FfDownsIdeal.nD Cert.FfDownsIdeal.τ).loc Cert.FfDownsIdeal.main_v3)),
      θ_run (Cert.FfDownsIdeal.defs (F := Ideal)) (onTc (τ := Cert.FfDownsIdeal.τ) (Cert.FfDownsIdeal.main (F := Ideal))) ⟨m, fun _ => 0, g⟩ (fun r => ∀ c : Dev Cert.FfDownsIdeal.nD,
          r.2.mem ((c.tc : Thread Cert.FfDownsIdeal.nD Cert.FfDownsIdeal.τ).loc Cert.FfDownsIdeal.main_v3) = v0 c
          ∧ r.2.mem ((c.tc : Thread Cert.FfDownsIdeal.nD Cert.FfDownsIdeal.τ).loc Cert.FfDownsIdeal.main_arg0) = m ((c.tc : Thread Cert.FfDownsIdeal.nD Cert.FfDownsIdeal.τ).loc Cert.FfDownsIdeal.main_arg0)
          ∧ r.2.mem ((c.tc : Thread Cert.FfDownsIdeal.nD Cert.FfDownsIdeal.τ).loc Cert.FfDownsIdeal.main_arg1) = m ((c.tc : Thread Cert.FfDownsIdeal.nD Cert.FfDownsIdeal.τ).loc Cert.FfDownsIdeal.main_arg1)
          ∧ r.2.mem ((c.tc : Thread Cert.FfDownsIdeal.nD Cert.FfDownsIdeal.τ).loc Cert.FfDownsIdeal.main_arg2) = m ((c.tc : Thread Cert.FfDownsIdeal.nD Cert.FfDownsIdeal.τ).loc Cert.FfDownsIdeal.main_arg2)
          ∧ r.2.mem ((c.tc : Thread Cert.FfDownsIdeal.nD Cert.FfDownsIdeal.τ).loc Cert.FfDownsIdeal.main_arg3) = m ((c.tc : Thread Cert.FfDownsIdeal.nD Cert.FfDownsIdeal.τ).loc Cert.FfDownsIdeal.main_arg3)
          ∧ r.2.mem ((c.tc : Thread Cert.FfDownsIdeal.nD Cert.FfDownsIdeal.τ).loc Cert.FfDownsIdeal.main_arg4) = m ((c.tc : Thread Cert.FfDownsIdeal.nD Cert.FfDownsIdeal.τ).loc Cert.FfDownsIdeal.main_arg4)
          ∧ r.2.mem ((c.tc : Thread Cert.FfDownsIdeal.nD Cert.FfDownsIdeal.τ).loc Cert.FfDownsIdeal.main_arg5) = m ((c.tc : Thread Cert.FfDownsIdeal.nD Cert.FfDownsIdeal.τ).loc Cert.FfDownsIdeal.main_arg5)
          ∧ r.2.mem ((c.tc : Thread Cert.FfDownsIdeal.nD Cert.FfDownsIdeal.τ).loc Cert.FfDownsIdeal.main_arg6) = m ((c.tc : Thread Cert.FfDownsIdeal.nD Cert.FfDownsIdeal.τ).loc Cert.FfDownsIdeal.main_arg6)
          ∧ r.2.mem ((c.tc : Thread Cert.FfDownsIdeal.nD Cert.FfDownsIdeal.τ).loc Cert.FfDownsIdeal.main_arg7) = m ((c.tc : Thread Cert.FfDownsIdeal.nD Cert.FfDownsIdeal.τ).loc Cert.FfDownsIdeal.main_arg7))
      ∧ θ_run (Cert.FfDownsRefIdeal.defs (F := Ideal)) (onTc (τ := Cert.FfDownsRefIdeal.τ) (Cert.FfDownsRefIdeal.main (F := Ideal))) ⟨m', fun _ => 0, g'⟩ (fun r => ∀ c : Dev Cert.FfDownsRefIdeal.nD,
          r.2.mem ((c.tc : Thread Cert.FfDownsRefIdeal.nD Cert.FfDownsRefIdeal.τ).loc Cert.FfDownsRefIdeal.main_v24) = v0 c
          ∧ r.2.mem ((c.tc : Thread Cert.FfDownsRefIdeal.nD Cert.FfDownsRefIdeal.τ).loc Cert.FfDownsRefIdeal.main_arg0) = m' ((c.tc : Thread Cert.FfDownsRefIdeal.nD Cert.FfDownsRefIdeal.τ).loc Cert.FfDownsRefIdeal.main_arg0)
          ∧ r.2.mem ((c.tc : Thread Cert.FfDownsRefIdeal.nD Cert.FfDownsRefIdeal.τ).loc Cert.FfDownsRefIdeal.main_arg1) = m' ((c.tc : Thread Cert.FfDownsRefIdeal.nD Cert.FfDownsRefIdeal.τ).loc Cert.FfDownsRefIdeal.main_arg1)
          ∧ r.2.mem ((c.tc : Thread Cert.FfDownsRefIdeal.nD Cert.FfDownsRefIdeal.τ).loc Cert.FfDownsRefIdeal.main_arg2) = m' ((c.tc : Thread Cert.FfDownsRefIdeal.nD Cert.FfDownsRefIdeal.τ).loc Cert.FfDownsRefIdeal.main_arg2)
          ∧ r.2.mem ((c.tc : Thread Cert.FfDownsRefIdeal.nD Cert.FfDownsRefIdeal.τ).loc Cert.FfDownsRefIdeal.main_arg3) = m' ((c.tc : Thread Cert.FfDownsRefIdeal.nD Cert.FfDownsRefIdeal.τ).loc Cert.FfDownsRefIdeal.main_arg3)
          ∧ r.2.mem ((c.tc : Thread Cert.FfDownsRefIdeal.nD Cert.FfDownsRefIdeal.τ).loc Cert.FfDownsRefIdeal.main_arg4) = m' ((c.tc : Thread Cert.FfDownsRefIdeal.nD Cert.FfDownsRefIdeal.τ).loc Cert.FfDownsRefIdeal.main_arg4)
          ∧ r.2.mem ((c.tc : Thread Cert.FfDownsRefIdeal.nD Cert.FfDownsRefIdeal.τ).loc Cert.FfDownsRefIdeal.main_arg5) = m' ((c.tc : Thread Cert.FfDownsRefIdeal.nD Cert.FfDownsRefIdeal.τ).loc Cert.FfDownsRefIdeal.main_arg5)
          ∧ r.2.mem ((c.tc : Thread Cert.FfDownsRefIdeal.nD Cert.FfDownsRefIdeal.τ).loc Cert.FfDownsRefIdeal.main_arg6) = m' ((c.tc : Thread Cert.FfDownsRefIdeal.nD Cert.FfDownsRefIdeal.τ).loc Cert.FfDownsRefIdeal.main_arg6)
          ∧ r.2.mem ((c.tc : Thread Cert.FfDownsRefIdeal.nD Cert.FfDownsRefIdeal.τ).loc Cert.FfDownsRefIdeal.main_arg7) = m' ((c.tc : Thread Cert.FfDownsRefIdeal.nD Cert.FfDownsRefIdeal.τ).loc Cert.FfDownsRefIdeal.main_arg7))

def preserves_FfUps_FfUpsIdeal : Prop :=
  True

def algebraic_FfUpsIdeal_FfUpsRefIdeal [hFfUpsIdeal : Cert.FfUpsIdeal.Facts] [hFfUpsRefIdeal : Cert.FfUpsRefIdeal.Facts] : Prop :=
  ∀ (m : (ℓ : Loc Cert.FfUpsIdeal.nD Cert.FfUpsIdeal.τ Cert.FfUpsIdeal.sig) → Buf (Elt Ideal) ℓ) (g : Dev Cert.FfUpsIdeal.nD → PrngReg)
    (m' : (ℓ : Loc Cert.FfUpsRefIdeal.nD Cert.FfUpsRefIdeal.τ Cert.FfUpsRefIdeal.sig) → Buf (Elt Ideal) ℓ) (g' : Dev Cert.FfUpsRefIdeal.nD → PrngReg), Pre_FfUpsIdeal m →
    (∀ c : Dev Cert.FfUpsIdeal.nD,
      m' ((c.tc : Thread Cert.FfUpsRefIdeal.nD Cert.FfUpsRefIdeal.τ).loc Cert.FfUpsRefIdeal.main_arg0) = m ((c.tc : Thread Cert.FfUpsIdeal.nD Cert.FfUpsIdeal.τ).loc Cert.FfUpsIdeal.main_arg0)
      ∧ m' ((c.tc : Thread Cert.FfUpsRefIdeal.nD Cert.FfUpsRefIdeal.τ).loc Cert.FfUpsRefIdeal.main_arg1) = m ((c.tc : Thread Cert.FfUpsIdeal.nD Cert.FfUpsIdeal.τ).loc Cert.FfUpsIdeal.main_arg1)
      ∧ m' ((c.tc : Thread Cert.FfUpsRefIdeal.nD Cert.FfUpsRefIdeal.τ).loc Cert.FfUpsRefIdeal.main_arg2) = m ((c.tc : Thread Cert.FfUpsIdeal.nD Cert.FfUpsIdeal.τ).loc Cert.FfUpsIdeal.main_arg2)
      ∧ m' ((c.tc : Thread Cert.FfUpsRefIdeal.nD Cert.FfUpsRefIdeal.τ).loc Cert.FfUpsRefIdeal.main_arg3) = m ((c.tc : Thread Cert.FfUpsIdeal.nD Cert.FfUpsIdeal.τ).loc Cert.FfUpsIdeal.main_arg3)
      ∧ m' ((c.tc : Thread Cert.FfUpsRefIdeal.nD Cert.FfUpsRefIdeal.τ).loc Cert.FfUpsRefIdeal.main_arg4) = m ((c.tc : Thread Cert.FfUpsIdeal.nD Cert.FfUpsIdeal.τ).loc Cert.FfUpsIdeal.main_arg4)
      ∧ m' ((c.tc : Thread Cert.FfUpsRefIdeal.nD Cert.FfUpsRefIdeal.τ).loc Cert.FfUpsRefIdeal.main_arg5) = m ((c.tc : Thread Cert.FfUpsIdeal.nD Cert.FfUpsIdeal.τ).loc Cert.FfUpsIdeal.main_arg5)
      ∧ m' ((c.tc : Thread Cert.FfUpsRefIdeal.nD Cert.FfUpsRefIdeal.τ).loc Cert.FfUpsRefIdeal.main_arg6) = m ((c.tc : Thread Cert.FfUpsIdeal.nD Cert.FfUpsIdeal.τ).loc Cert.FfUpsIdeal.main_arg6)
      ∧ m' ((c.tc : Thread Cert.FfUpsRefIdeal.nD Cert.FfUpsRefIdeal.τ).loc Cert.FfUpsRefIdeal.main_arg7) = m ((c.tc : Thread Cert.FfUpsIdeal.nD Cert.FfUpsIdeal.τ).loc Cert.FfUpsIdeal.main_arg7)) →
    ∃ (v0 : (c : Dev Cert.FfUpsIdeal.nD) → Buf (Elt Ideal) ((c.tc : Thread Cert.FfUpsIdeal.nD Cert.FfUpsIdeal.τ).loc Cert.FfUpsIdeal.main_v3)),
      θ_run (Cert.FfUpsIdeal.defs (F := Ideal)) (onTc (τ := Cert.FfUpsIdeal.τ) (Cert.FfUpsIdeal.main (F := Ideal))) ⟨m, fun _ => 0, g⟩ (fun r => ∀ c : Dev Cert.FfUpsIdeal.nD,
          r.2.mem ((c.tc : Thread Cert.FfUpsIdeal.nD Cert.FfUpsIdeal.τ).loc Cert.FfUpsIdeal.main_v3) = v0 c
          ∧ r.2.mem ((c.tc : Thread Cert.FfUpsIdeal.nD Cert.FfUpsIdeal.τ).loc Cert.FfUpsIdeal.main_arg0) = m ((c.tc : Thread Cert.FfUpsIdeal.nD Cert.FfUpsIdeal.τ).loc Cert.FfUpsIdeal.main_arg0)
          ∧ r.2.mem ((c.tc : Thread Cert.FfUpsIdeal.nD Cert.FfUpsIdeal.τ).loc Cert.FfUpsIdeal.main_arg1) = m ((c.tc : Thread Cert.FfUpsIdeal.nD Cert.FfUpsIdeal.τ).loc Cert.FfUpsIdeal.main_arg1)
          ∧ r.2.mem ((c.tc : Thread Cert.FfUpsIdeal.nD Cert.FfUpsIdeal.τ).loc Cert.FfUpsIdeal.main_arg2) = m ((c.tc : Thread Cert.FfUpsIdeal.nD Cert.FfUpsIdeal.τ).loc Cert.FfUpsIdeal.main_arg2)
          ∧ r.2.mem ((c.tc : Thread Cert.FfUpsIdeal.nD Cert.FfUpsIdeal.τ).loc Cert.FfUpsIdeal.main_arg3) = m ((c.tc : Thread Cert.FfUpsIdeal.nD Cert.FfUpsIdeal.τ).loc Cert.FfUpsIdeal.main_arg3)
          ∧ r.2.mem ((c.tc : Thread Cert.FfUpsIdeal.nD Cert.FfUpsIdeal.τ).loc Cert.FfUpsIdeal.main_arg4) = m ((c.tc : Thread Cert.FfUpsIdeal.nD Cert.FfUpsIdeal.τ).loc Cert.FfUpsIdeal.main_arg4)
          ∧ r.2.mem ((c.tc : Thread Cert.FfUpsIdeal.nD Cert.FfUpsIdeal.τ).loc Cert.FfUpsIdeal.main_arg5) = m ((c.tc : Thread Cert.FfUpsIdeal.nD Cert.FfUpsIdeal.τ).loc Cert.FfUpsIdeal.main_arg5)
          ∧ r.2.mem ((c.tc : Thread Cert.FfUpsIdeal.nD Cert.FfUpsIdeal.τ).loc Cert.FfUpsIdeal.main_arg6) = m ((c.tc : Thread Cert.FfUpsIdeal.nD Cert.FfUpsIdeal.τ).loc Cert.FfUpsIdeal.main_arg6)
          ∧ r.2.mem ((c.tc : Thread Cert.FfUpsIdeal.nD Cert.FfUpsIdeal.τ).loc Cert.FfUpsIdeal.main_arg7) = m ((c.tc : Thread Cert.FfUpsIdeal.nD Cert.FfUpsIdeal.τ).loc Cert.FfUpsIdeal.main_arg7))
      ∧ θ_run (Cert.FfUpsRefIdeal.defs (F := Ideal)) (onTc (τ := Cert.FfUpsRefIdeal.τ) (Cert.FfUpsRefIdeal.main (F := Ideal))) ⟨m', fun _ => 0, g'⟩ (fun r => ∀ c : Dev Cert.FfUpsRefIdeal.nD,
          r.2.mem ((c.tc : Thread Cert.FfUpsRefIdeal.nD Cert.FfUpsRefIdeal.τ).loc Cert.FfUpsRefIdeal.main_v36) = v0 c
          ∧ r.2.mem ((c.tc : Thread Cert.FfUpsRefIdeal.nD Cert.FfUpsRefIdeal.τ).loc Cert.FfUpsRefIdeal.main_arg0) = m' ((c.tc : Thread Cert.FfUpsRefIdeal.nD Cert.FfUpsRefIdeal.τ).loc Cert.FfUpsRefIdeal.main_arg0)
          ∧ r.2.mem ((c.tc : Thread Cert.FfUpsRefIdeal.nD Cert.FfUpsRefIdeal.τ).loc Cert.FfUpsRefIdeal.main_arg1) = m' ((c.tc : Thread Cert.FfUpsRefIdeal.nD Cert.FfUpsRefIdeal.τ).loc Cert.FfUpsRefIdeal.main_arg1)
          ∧ r.2.mem ((c.tc : Thread Cert.FfUpsRefIdeal.nD Cert.FfUpsRefIdeal.τ).loc Cert.FfUpsRefIdeal.main_arg2) = m' ((c.tc : Thread Cert.FfUpsRefIdeal.nD Cert.FfUpsRefIdeal.τ).loc Cert.FfUpsRefIdeal.main_arg2)
          ∧ r.2.mem ((c.tc : Thread Cert.FfUpsRefIdeal.nD Cert.FfUpsRefIdeal.τ).loc Cert.FfUpsRefIdeal.main_arg3) = m' ((c.tc : Thread Cert.FfUpsRefIdeal.nD Cert.FfUpsRefIdeal.τ).loc Cert.FfUpsRefIdeal.main_arg3)
          ∧ r.2.mem ((c.tc : Thread Cert.FfUpsRefIdeal.nD Cert.FfUpsRefIdeal.τ).loc Cert.FfUpsRefIdeal.main_arg4) = m' ((c.tc : Thread Cert.FfUpsRefIdeal.nD Cert.FfUpsRefIdeal.τ).loc Cert.FfUpsRefIdeal.main_arg4)
          ∧ r.2.mem ((c.tc : Thread Cert.FfUpsRefIdeal.nD Cert.FfUpsRefIdeal.τ).loc Cert.FfUpsRefIdeal.main_arg5) = m' ((c.tc : Thread Cert.FfUpsRefIdeal.nD Cert.FfUpsRefIdeal.τ).loc Cert.FfUpsRefIdeal.main_arg5)
          ∧ r.2.mem ((c.tc : Thread Cert.FfUpsRefIdeal.nD Cert.FfUpsRefIdeal.τ).loc Cert.FfUpsRefIdeal.main_arg6) = m' ((c.tc : Thread Cert.FfUpsRefIdeal.nD Cert.FfUpsRefIdeal.τ).loc Cert.FfUpsRefIdeal.main_arg6)
          ∧ r.2.mem ((c.tc : Thread Cert.FfUpsRefIdeal.nD Cert.FfUpsRefIdeal.τ).loc Cert.FfUpsRefIdeal.main_arg7) = m' ((c.tc : Thread Cert.FfUpsRefIdeal.nD Cert.FfUpsRefIdeal.τ).loc Cert.FfUpsRefIdeal.main_arg7))

def preserves_EvWouts_EvWoutsIdeal : Prop :=
  True

def algebraic_EvWoutsIdeal_EvWoutsRefIdeal [hEvWoutsIdeal : Cert.EvWoutsIdeal.Facts] [hEvWoutsRefIdeal : Cert.EvWoutsRefIdeal.Facts] : Prop :=
  ∀ (m : (ℓ : Loc Cert.EvWoutsIdeal.nD Cert.EvWoutsIdeal.τ Cert.EvWoutsIdeal.sig) → Buf (Elt Ideal) ℓ) (g : Dev Cert.EvWoutsIdeal.nD → PrngReg)
    (m' : (ℓ : Loc Cert.EvWoutsRefIdeal.nD Cert.EvWoutsRefIdeal.τ Cert.EvWoutsRefIdeal.sig) → Buf (Elt Ideal) ℓ) (g' : Dev Cert.EvWoutsRefIdeal.nD → PrngReg), Pre_EvWoutsIdeal m →
    (∀ c : Dev Cert.EvWoutsIdeal.nD,
      m' ((c.tc : Thread Cert.EvWoutsRefIdeal.nD Cert.EvWoutsRefIdeal.τ).loc Cert.EvWoutsRefIdeal.main_arg0) = m ((c.tc : Thread Cert.EvWoutsIdeal.nD Cert.EvWoutsIdeal.τ).loc Cert.EvWoutsIdeal.main_arg0)
      ∧ m' ((c.tc : Thread Cert.EvWoutsRefIdeal.nD Cert.EvWoutsRefIdeal.τ).loc Cert.EvWoutsRefIdeal.main_arg1) = m ((c.tc : Thread Cert.EvWoutsIdeal.nD Cert.EvWoutsIdeal.τ).loc Cert.EvWoutsIdeal.main_arg1)
      ∧ m' ((c.tc : Thread Cert.EvWoutsRefIdeal.nD Cert.EvWoutsRefIdeal.τ).loc Cert.EvWoutsRefIdeal.main_arg2) = m ((c.tc : Thread Cert.EvWoutsIdeal.nD Cert.EvWoutsIdeal.τ).loc Cert.EvWoutsIdeal.main_arg2)
      ∧ m' ((c.tc : Thread Cert.EvWoutsRefIdeal.nD Cert.EvWoutsRefIdeal.τ).loc Cert.EvWoutsRefIdeal.main_arg3) = m ((c.tc : Thread Cert.EvWoutsIdeal.nD Cert.EvWoutsIdeal.τ).loc Cert.EvWoutsIdeal.main_arg3)) →
    ∃ (v0 : (c : Dev Cert.EvWoutsIdeal.nD) → Buf (Elt Ideal) ((c.tc : Thread Cert.EvWoutsIdeal.nD Cert.EvWoutsIdeal.τ).loc Cert.EvWoutsIdeal.main_v1)),
      θ_run (Cert.EvWoutsIdeal.defs (F := Ideal)) (onTc (τ := Cert.EvWoutsIdeal.τ) (Cert.EvWoutsIdeal.main (F := Ideal))) ⟨m, fun _ => 0, g⟩ (fun r => ∀ c : Dev Cert.EvWoutsIdeal.nD,
          r.2.mem ((c.tc : Thread Cert.EvWoutsIdeal.nD Cert.EvWoutsIdeal.τ).loc Cert.EvWoutsIdeal.main_v1) = v0 c
          ∧ r.2.mem ((c.tc : Thread Cert.EvWoutsIdeal.nD Cert.EvWoutsIdeal.τ).loc Cert.EvWoutsIdeal.main_arg0) = m ((c.tc : Thread Cert.EvWoutsIdeal.nD Cert.EvWoutsIdeal.τ).loc Cert.EvWoutsIdeal.main_arg0)
          ∧ r.2.mem ((c.tc : Thread Cert.EvWoutsIdeal.nD Cert.EvWoutsIdeal.τ).loc Cert.EvWoutsIdeal.main_arg1) = m ((c.tc : Thread Cert.EvWoutsIdeal.nD Cert.EvWoutsIdeal.τ).loc Cert.EvWoutsIdeal.main_arg1)
          ∧ r.2.mem ((c.tc : Thread Cert.EvWoutsIdeal.nD Cert.EvWoutsIdeal.τ).loc Cert.EvWoutsIdeal.main_arg2) = m ((c.tc : Thread Cert.EvWoutsIdeal.nD Cert.EvWoutsIdeal.τ).loc Cert.EvWoutsIdeal.main_arg2)
          ∧ r.2.mem ((c.tc : Thread Cert.EvWoutsIdeal.nD Cert.EvWoutsIdeal.τ).loc Cert.EvWoutsIdeal.main_arg3) = m ((c.tc : Thread Cert.EvWoutsIdeal.nD Cert.EvWoutsIdeal.τ).loc Cert.EvWoutsIdeal.main_arg3))
      ∧ θ_run (Cert.EvWoutsRefIdeal.defs (F := Ideal)) (onTc (τ := Cert.EvWoutsRefIdeal.τ) (Cert.EvWoutsRefIdeal.main (F := Ideal))) ⟨m', fun _ => 0, g'⟩ (fun r => ∀ c : Dev Cert.EvWoutsRefIdeal.nD,
          r.2.mem ((c.tc : Thread Cert.EvWoutsRefIdeal.nD Cert.EvWoutsRefIdeal.τ).loc Cert.EvWoutsRefIdeal.main_v12) = v0 c
          ∧ r.2.mem ((c.tc : Thread Cert.EvWoutsRefIdeal.nD Cert.EvWoutsRefIdeal.τ).loc Cert.EvWoutsRefIdeal.main_arg0) = m' ((c.tc : Thread Cert.EvWoutsRefIdeal.nD Cert.EvWoutsRefIdeal.τ).loc Cert.EvWoutsRefIdeal.main_arg0)
          ∧ r.2.mem ((c.tc : Thread Cert.EvWoutsRefIdeal.nD Cert.EvWoutsRefIdeal.τ).loc Cert.EvWoutsRefIdeal.main_arg1) = m' ((c.tc : Thread Cert.EvWoutsRefIdeal.nD Cert.EvWoutsRefIdeal.τ).loc Cert.EvWoutsRefIdeal.main_arg1)
          ∧ r.2.mem ((c.tc : Thread Cert.EvWoutsRefIdeal.nD Cert.EvWoutsRefIdeal.τ).loc Cert.EvWoutsRefIdeal.main_arg2) = m' ((c.tc : Thread Cert.EvWoutsRefIdeal.nD Cert.EvWoutsRefIdeal.τ).loc Cert.EvWoutsRefIdeal.main_arg2)
          ∧ r.2.mem ((c.tc : Thread Cert.EvWoutsRefIdeal.nD Cert.EvWoutsRefIdeal.τ).loc Cert.EvWoutsRefIdeal.main_arg3) = m' ((c.tc : Thread Cert.EvWoutsRefIdeal.nD Cert.EvWoutsRefIdeal.τ).loc Cert.EvWoutsRefIdeal.main_arg3))

def preserves_OdWos_OdWosIdeal : Prop :=
  True

def algebraic_OdWosIdeal_OdWosRefIdeal [hOdWosIdeal : Cert.OdWosIdeal.Facts] [hOdWosRefIdeal : Cert.OdWosRefIdeal.Facts] : Prop :=
  ∀ (m : (ℓ : Loc Cert.OdWosIdeal.nD Cert.OdWosIdeal.τ Cert.OdWosIdeal.sig) → Buf (Elt Ideal) ℓ) (g : Dev Cert.OdWosIdeal.nD → PrngReg)
    (m' : (ℓ : Loc Cert.OdWosRefIdeal.nD Cert.OdWosRefIdeal.τ Cert.OdWosRefIdeal.sig) → Buf (Elt Ideal) ℓ) (g' : Dev Cert.OdWosRefIdeal.nD → PrngReg), Pre_OdWosIdeal m →
    (∀ c : Dev Cert.OdWosIdeal.nD,
      m' ((c.tc : Thread Cert.OdWosRefIdeal.nD Cert.OdWosRefIdeal.τ).loc Cert.OdWosRefIdeal.main_arg0) = m ((c.tc : Thread Cert.OdWosIdeal.nD Cert.OdWosIdeal.τ).loc Cert.OdWosIdeal.main_arg0)
      ∧ m' ((c.tc : Thread Cert.OdWosRefIdeal.nD Cert.OdWosRefIdeal.τ).loc Cert.OdWosRefIdeal.main_arg1) = m ((c.tc : Thread Cert.OdWosIdeal.nD Cert.OdWosIdeal.τ).loc Cert.OdWosIdeal.main_arg1)
      ∧ m' ((c.tc : Thread Cert.OdWosRefIdeal.nD Cert.OdWosRefIdeal.τ).loc Cert.OdWosRefIdeal.main_arg2) = m ((c.tc : Thread Cert.OdWosIdeal.nD Cert.OdWosIdeal.τ).loc Cert.OdWosIdeal.main_arg2)
      ∧ m' ((c.tc : Thread Cert.OdWosRefIdeal.nD Cert.OdWosRefIdeal.τ).loc Cert.OdWosRefIdeal.main_arg3) = m ((c.tc : Thread Cert.OdWosIdeal.nD Cert.OdWosIdeal.τ).loc Cert.OdWosIdeal.main_arg3)) →
    ∃ (v0 : (c : Dev Cert.OdWosIdeal.nD) → Buf (Elt Ideal) ((c.tc : Thread Cert.OdWosIdeal.nD Cert.OdWosIdeal.τ).loc Cert.OdWosIdeal.main_v1)),
      θ_run (Cert.OdWosIdeal.defs (F := Ideal)) (onTc (τ := Cert.OdWosIdeal.τ) (Cert.OdWosIdeal.main (F := Ideal))) ⟨m, fun _ => 0, g⟩ (fun r => ∀ c : Dev Cert.OdWosIdeal.nD,
          r.2.mem ((c.tc : Thread Cert.OdWosIdeal.nD Cert.OdWosIdeal.τ).loc Cert.OdWosIdeal.main_v1) = v0 c
          ∧ r.2.mem ((c.tc : Thread Cert.OdWosIdeal.nD Cert.OdWosIdeal.τ).loc Cert.OdWosIdeal.main_arg0) = m ((c.tc : Thread Cert.OdWosIdeal.nD Cert.OdWosIdeal.τ).loc Cert.OdWosIdeal.main_arg0)
          ∧ r.2.mem ((c.tc : Thread Cert.OdWosIdeal.nD Cert.OdWosIdeal.τ).loc Cert.OdWosIdeal.main_arg1) = m ((c.tc : Thread Cert.OdWosIdeal.nD Cert.OdWosIdeal.τ).loc Cert.OdWosIdeal.main_arg1)
          ∧ r.2.mem ((c.tc : Thread Cert.OdWosIdeal.nD Cert.OdWosIdeal.τ).loc Cert.OdWosIdeal.main_arg2) = m ((c.tc : Thread Cert.OdWosIdeal.nD Cert.OdWosIdeal.τ).loc Cert.OdWosIdeal.main_arg2)
          ∧ r.2.mem ((c.tc : Thread Cert.OdWosIdeal.nD Cert.OdWosIdeal.τ).loc Cert.OdWosIdeal.main_arg3) = m ((c.tc : Thread Cert.OdWosIdeal.nD Cert.OdWosIdeal.τ).loc Cert.OdWosIdeal.main_arg3))
      ∧ θ_run (Cert.OdWosRefIdeal.defs (F := Ideal)) (onTc (τ := Cert.OdWosRefIdeal.τ) (Cert.OdWosRefIdeal.main (F := Ideal))) ⟨m', fun _ => 0, g'⟩ (fun r => ∀ c : Dev Cert.OdWosRefIdeal.nD,
          r.2.mem ((c.tc : Thread Cert.OdWosRefIdeal.nD Cert.OdWosRefIdeal.τ).loc Cert.OdWosRefIdeal.main_v12) = v0 c
          ∧ r.2.mem ((c.tc : Thread Cert.OdWosRefIdeal.nD Cert.OdWosRefIdeal.τ).loc Cert.OdWosRefIdeal.main_arg0) = m' ((c.tc : Thread Cert.OdWosRefIdeal.nD Cert.OdWosRefIdeal.τ).loc Cert.OdWosRefIdeal.main_arg0)
          ∧ r.2.mem ((c.tc : Thread Cert.OdWosRefIdeal.nD Cert.OdWosRefIdeal.τ).loc Cert.OdWosRefIdeal.main_arg1) = m' ((c.tc : Thread Cert.OdWosRefIdeal.nD Cert.OdWosRefIdeal.τ).loc Cert.OdWosRefIdeal.main_arg1)
          ∧ r.2.mem ((c.tc : Thread Cert.OdWosRefIdeal.nD Cert.OdWosRefIdeal.τ).loc Cert.OdWosRefIdeal.main_arg2) = m' ((c.tc : Thread Cert.OdWosRefIdeal.nD Cert.OdWosRefIdeal.τ).loc Cert.OdWosRefIdeal.main_arg2)
          ∧ r.2.mem ((c.tc : Thread Cert.OdWosRefIdeal.nD Cert.OdWosRefIdeal.τ).loc Cert.OdWosRefIdeal.main_arg3) = m' ((c.tc : Thread Cert.OdWosRefIdeal.nD Cert.OdWosRefIdeal.τ).loc Cert.OdWosRefIdeal.main_arg3))

def preserves_At0_At0Ideal : Prop :=
  True

def algebraic_At0Ideal_At0RefIdeal_pre_attn_finite [hAt0Ideal : Cert.At0Ideal.Facts] [hAt0RefIdeal : Cert.At0RefIdeal.Facts] [hPre_attn_finite : Cert.Pre_attn_finite.Facts] : Prop :=
  ∀ (m : (ℓ : Loc Cert.At0Ideal.nD Cert.At0Ideal.τ Cert.At0Ideal.sig) → Buf (Elt Ideal) ℓ) (g : Dev Cert.At0Ideal.nD → PrngReg)
    (m' : (ℓ : Loc Cert.At0RefIdeal.nD Cert.At0RefIdeal.τ Cert.At0RefIdeal.sig) → Buf (Elt Ideal) ℓ) (g' : Dev Cert.At0RefIdeal.nD → PrngReg), Pre_At0Ideal_attn_finite m →
    (∀ c : Dev Cert.At0Ideal.nD,
      m' ((c.tc : Thread Cert.At0RefIdeal.nD Cert.At0RefIdeal.τ).loc Cert.At0RefIdeal.main_arg0) = m ((c.tc : Thread Cert.At0Ideal.nD Cert.At0Ideal.τ).loc Cert.At0Ideal.main_arg0)
      ∧ m' ((c.tc : Thread Cert.At0RefIdeal.nD Cert.At0RefIdeal.τ).loc Cert.At0RefIdeal.main_arg1) = m ((c.tc : Thread Cert.At0Ideal.nD Cert.At0Ideal.τ).loc Cert.At0Ideal.main_arg1)
      ∧ m' ((c.tc : Thread Cert.At0RefIdeal.nD Cert.At0RefIdeal.τ).loc Cert.At0RefIdeal.main_arg2) = m ((c.tc : Thread Cert.At0Ideal.nD Cert.At0Ideal.τ).loc Cert.At0Ideal.main_arg2)
      ∧ m' ((c.tc : Thread Cert.At0RefIdeal.nD Cert.At0RefIdeal.τ).loc Cert.At0RefIdeal.main_arg3) = m ((c.tc : Thread Cert.At0Ideal.nD Cert.At0Ideal.τ).loc Cert.At0Ideal.main_arg3)
      ∧ m' ((c.tc : Thread Cert.At0RefIdeal.nD Cert.At0RefIdeal.τ).loc Cert.At0RefIdeal.main_arg4) = m ((c.tc : Thread Cert.At0Ideal.nD Cert.At0Ideal.τ).loc Cert.At0Ideal.main_arg4)
      ∧ m' ((c.tc : Thread Cert.At0RefIdeal.nD Cert.At0RefIdeal.τ).loc Cert.At0RefIdeal.main_arg5) = m ((c.tc : Thread Cert.At0Ideal.nD Cert.At0Ideal.τ).loc Cert.At0Ideal.main_arg5)
      ∧ m' ((c.tc : Thread Cert.At0RefIdeal.nD Cert.At0RefIdeal.τ).loc Cert.At0RefIdeal.main_arg6) = m ((c.tc : Thread Cert.At0Ideal.nD Cert.At0Ideal.τ).loc Cert.At0Ideal.main_arg6)
      ∧ m' ((c.tc : Thread Cert.At0RefIdeal.nD Cert.At0RefIdeal.τ).loc Cert.At0RefIdeal.main_arg7) = m ((c.tc : Thread Cert.At0Ideal.nD Cert.At0Ideal.τ).loc Cert.At0Ideal.main_arg7)) →
    ∃ (v0 : (c : Dev Cert.At0Ideal.nD) → Buf (Elt Ideal) ((c.tc : Thread Cert.At0Ideal.nD Cert.At0Ideal.τ).loc Cert.At0Ideal.main_v22_0)) (v1 : (c : Dev Cert.At0Ideal.nD) → Buf (Elt Ideal) ((c.tc : Thread Cert.At0Ideal.nD Cert.At0Ideal.τ).loc Cert.At0Ideal.main_v22_1)) (v2 : (c : Dev Cert.At0Ideal.nD) → Buf (Elt Ideal) ((c.tc : Thread Cert.At0Ideal.nD Cert.At0Ideal.τ).loc Cert.At0Ideal.main_v22_2)),
      θ_run (Cert.At0Ideal.defs (F := Ideal)) (onTc (τ := Cert.At0Ideal.τ) (Cert.At0Ideal.main (F := Ideal))) ⟨m, fun _ => 0, g⟩ (fun r => ∀ c : Dev Cert.At0Ideal.nD,
          r.2.mem ((c.tc : Thread Cert.At0Ideal.nD Cert.At0Ideal.τ).loc Cert.At0Ideal.main_v22_0) = v0 c
          ∧ r.2.mem ((c.tc : Thread Cert.At0Ideal.nD Cert.At0Ideal.τ).loc Cert.At0Ideal.main_v22_1) = v1 c
          ∧ r.2.mem ((c.tc : Thread Cert.At0Ideal.nD Cert.At0Ideal.τ).loc Cert.At0Ideal.main_v22_2) = v2 c
          ∧ r.2.mem ((c.tc : Thread Cert.At0Ideal.nD Cert.At0Ideal.τ).loc Cert.At0Ideal.main_arg0) = m ((c.tc : Thread Cert.At0Ideal.nD Cert.At0Ideal.τ).loc Cert.At0Ideal.main_arg0)
          ∧ r.2.mem ((c.tc : Thread Cert.At0Ideal.nD Cert.At0Ideal.τ).loc Cert.At0Ideal.main_arg1) = m ((c.tc : Thread Cert.At0Ideal.nD Cert.At0Ideal.τ).loc Cert.At0Ideal.main_arg1)
          ∧ r.2.mem ((c.tc : Thread Cert.At0Ideal.nD Cert.At0Ideal.τ).loc Cert.At0Ideal.main_arg2) = m ((c.tc : Thread Cert.At0Ideal.nD Cert.At0Ideal.τ).loc Cert.At0Ideal.main_arg2)
          ∧ r.2.mem ((c.tc : Thread Cert.At0Ideal.nD Cert.At0Ideal.τ).loc Cert.At0Ideal.main_arg3) = m ((c.tc : Thread Cert.At0Ideal.nD Cert.At0Ideal.τ).loc Cert.At0Ideal.main_arg3)
          ∧ r.2.mem ((c.tc : Thread Cert.At0Ideal.nD Cert.At0Ideal.τ).loc Cert.At0Ideal.main_arg4) = m ((c.tc : Thread Cert.At0Ideal.nD Cert.At0Ideal.τ).loc Cert.At0Ideal.main_arg4)
          ∧ r.2.mem ((c.tc : Thread Cert.At0Ideal.nD Cert.At0Ideal.τ).loc Cert.At0Ideal.main_arg5) = m ((c.tc : Thread Cert.At0Ideal.nD Cert.At0Ideal.τ).loc Cert.At0Ideal.main_arg5)
          ∧ r.2.mem ((c.tc : Thread Cert.At0Ideal.nD Cert.At0Ideal.τ).loc Cert.At0Ideal.main_arg6) = m ((c.tc : Thread Cert.At0Ideal.nD Cert.At0Ideal.τ).loc Cert.At0Ideal.main_arg6)
          ∧ r.2.mem ((c.tc : Thread Cert.At0Ideal.nD Cert.At0Ideal.τ).loc Cert.At0Ideal.main_arg7) = m ((c.tc : Thread Cert.At0Ideal.nD Cert.At0Ideal.τ).loc Cert.At0Ideal.main_arg7))
      ∧ θ_run (Cert.At0RefIdeal.defs (F := Ideal)) (onTc (τ := Cert.At0RefIdeal.τ) (Cert.At0RefIdeal.main (F := Ideal))) ⟨m', fun _ => 0, g'⟩ (fun r => ∀ c : Dev Cert.At0RefIdeal.nD,
          r.2.mem ((c.tc : Thread Cert.At0RefIdeal.nD Cert.At0RefIdeal.τ).loc Cert.At0RefIdeal.main_v168) = v0 c
          ∧ r.2.mem ((c.tc : Thread Cert.At0RefIdeal.nD Cert.At0RefIdeal.τ).loc Cert.At0RefIdeal.main_v172) = v1 c
          ∧ r.2.mem ((c.tc : Thread Cert.At0RefIdeal.nD Cert.At0RefIdeal.τ).loc Cert.At0RefIdeal.main_v176) = v2 c
          ∧ r.2.mem ((c.tc : Thread Cert.At0RefIdeal.nD Cert.At0RefIdeal.τ).loc Cert.At0RefIdeal.main_arg0) = m' ((c.tc : Thread Cert.At0RefIdeal.nD Cert.At0RefIdeal.τ).loc Cert.At0RefIdeal.main_arg0)
          ∧ r.2.mem ((c.tc : Thread Cert.At0RefIdeal.nD Cert.At0RefIdeal.τ).loc Cert.At0RefIdeal.main_arg1) = m' ((c.tc : Thread Cert.At0RefIdeal.nD Cert.At0RefIdeal.τ).loc Cert.At0RefIdeal.main_arg1)
          ∧ r.2.mem ((c.tc : Thread Cert.At0RefIdeal.nD Cert.At0RefIdeal.τ).loc Cert.At0RefIdeal.main_arg2) = m' ((c.tc : Thread Cert.At0RefIdeal.nD Cert.At0RefIdeal.τ).loc Cert.At0RefIdeal.main_arg2)
          ∧ r.2.mem ((c.tc : Thread Cert.At0RefIdeal.nD Cert.At0RefIdeal.τ).loc Cert.At0RefIdeal.main_arg3) = m' ((c.tc : Thread Cert.At0RefIdeal.nD Cert.At0RefIdeal.τ).loc Cert.At0RefIdeal.main_arg3)
          ∧ r.2.mem ((c.tc : Thread Cert.At0RefIdeal.nD Cert.At0RefIdeal.τ).loc Cert.At0RefIdeal.main_arg4) = m' ((c.tc : Thread Cert.At0RefIdeal.nD Cert.At0RefIdeal.τ).loc Cert.At0RefIdeal.main_arg4)
          ∧ r.2.mem ((c.tc : Thread Cert.At0RefIdeal.nD Cert.At0RefIdeal.τ).loc Cert.At0RefIdeal.main_arg5) = m' ((c.tc : Thread Cert.At0RefIdeal.nD Cert.At0RefIdeal.τ).loc Cert.At0RefIdeal.main_arg5)
          ∧ r.2.mem ((c.tc : Thread Cert.At0RefIdeal.nD Cert.At0RefIdeal.τ).loc Cert.At0RefIdeal.main_arg6) = m' ((c.tc : Thread Cert.At0RefIdeal.nD Cert.At0RefIdeal.τ).loc Cert.At0RefIdeal.main_arg6)
          ∧ r.2.mem ((c.tc : Thread Cert.At0RefIdeal.nD Cert.At0RefIdeal.τ).loc Cert.At0RefIdeal.main_arg7) = m' ((c.tc : Thread Cert.At0RefIdeal.nD Cert.At0RefIdeal.τ).loc Cert.At0RefIdeal.main_arg7))

def preserves_At1_At1Ideal : Prop :=
  True

def algebraic_At1Ideal_At1RefIdeal_pre_attn_finite [hAt1Ideal : Cert.At1Ideal.Facts] [hAt1RefIdeal : Cert.At1RefIdeal.Facts] [hPre_attn_finite : Cert.Pre_attn_finite.Facts] : Prop :=
  ∀ (m : (ℓ : Loc Cert.At1Ideal.nD Cert.At1Ideal.τ Cert.At1Ideal.sig) → Buf (Elt Ideal) ℓ) (g : Dev Cert.At1Ideal.nD → PrngReg)
    (m' : (ℓ : Loc Cert.At1RefIdeal.nD Cert.At1RefIdeal.τ Cert.At1RefIdeal.sig) → Buf (Elt Ideal) ℓ) (g' : Dev Cert.At1RefIdeal.nD → PrngReg), Pre_At1Ideal_attn_finite m →
    (∀ c : Dev Cert.At1Ideal.nD,
      m' ((c.tc : Thread Cert.At1RefIdeal.nD Cert.At1RefIdeal.τ).loc Cert.At1RefIdeal.main_arg0) = m ((c.tc : Thread Cert.At1Ideal.nD Cert.At1Ideal.τ).loc Cert.At1Ideal.main_arg0)
      ∧ m' ((c.tc : Thread Cert.At1RefIdeal.nD Cert.At1RefIdeal.τ).loc Cert.At1RefIdeal.main_arg1) = m ((c.tc : Thread Cert.At1Ideal.nD Cert.At1Ideal.τ).loc Cert.At1Ideal.main_arg1)
      ∧ m' ((c.tc : Thread Cert.At1RefIdeal.nD Cert.At1RefIdeal.τ).loc Cert.At1RefIdeal.main_arg2) = m ((c.tc : Thread Cert.At1Ideal.nD Cert.At1Ideal.τ).loc Cert.At1Ideal.main_arg2)
      ∧ m' ((c.tc : Thread Cert.At1RefIdeal.nD Cert.At1RefIdeal.τ).loc Cert.At1RefIdeal.main_arg3) = m ((c.tc : Thread Cert.At1Ideal.nD Cert.At1Ideal.τ).loc Cert.At1Ideal.main_arg3)
      ∧ m' ((c.tc : Thread Cert.At1RefIdeal.nD Cert.At1RefIdeal.τ).loc Cert.At1RefIdeal.main_arg4) = m ((c.tc : Thread Cert.At1Ideal.nD Cert.At1Ideal.τ).loc Cert.At1Ideal.main_arg4)
      ∧ m' ((c.tc : Thread Cert.At1RefIdeal.nD Cert.At1RefIdeal.τ).loc Cert.At1RefIdeal.main_arg5) = m ((c.tc : Thread Cert.At1Ideal.nD Cert.At1Ideal.τ).loc Cert.At1Ideal.main_arg5)
      ∧ m' ((c.tc : Thread Cert.At1RefIdeal.nD Cert.At1RefIdeal.τ).loc Cert.At1RefIdeal.main_arg6) = m ((c.tc : Thread Cert.At1Ideal.nD Cert.At1Ideal.τ).loc Cert.At1Ideal.main_arg6)
      ∧ m' ((c.tc : Thread Cert.At1RefIdeal.nD Cert.At1RefIdeal.τ).loc Cert.At1RefIdeal.main_arg7) = m ((c.tc : Thread Cert.At1Ideal.nD Cert.At1Ideal.τ).loc Cert.At1Ideal.main_arg7)) →
    ∃ (v0 : (c : Dev Cert.At1Ideal.nD) → Buf (Elt Ideal) ((c.tc : Thread Cert.At1Ideal.nD Cert.At1Ideal.τ).loc Cert.At1Ideal.main_v22_0)) (v1 : (c : Dev Cert.At1Ideal.nD) → Buf (Elt Ideal) ((c.tc : Thread Cert.At1Ideal.nD Cert.At1Ideal.τ).loc Cert.At1Ideal.main_v22_1)) (v2 : (c : Dev Cert.At1Ideal.nD) → Buf (Elt Ideal) ((c.tc : Thread Cert.At1Ideal.nD Cert.At1Ideal.τ).loc Cert.At1Ideal.main_v22_2)),
      θ_run (Cert.At1Ideal.defs (F := Ideal)) (onTc (τ := Cert.At1Ideal.τ) (Cert.At1Ideal.main (F := Ideal))) ⟨m, fun _ => 0, g⟩ (fun r => ∀ c : Dev Cert.At1Ideal.nD,
          r.2.mem ((c.tc : Thread Cert.At1Ideal.nD Cert.At1Ideal.τ).loc Cert.At1Ideal.main_v22_0) = v0 c
          ∧ r.2.mem ((c.tc : Thread Cert.At1Ideal.nD Cert.At1Ideal.τ).loc Cert.At1Ideal.main_v22_1) = v1 c
          ∧ r.2.mem ((c.tc : Thread Cert.At1Ideal.nD Cert.At1Ideal.τ).loc Cert.At1Ideal.main_v22_2) = v2 c
          ∧ r.2.mem ((c.tc : Thread Cert.At1Ideal.nD Cert.At1Ideal.τ).loc Cert.At1Ideal.main_arg0) = m ((c.tc : Thread Cert.At1Ideal.nD Cert.At1Ideal.τ).loc Cert.At1Ideal.main_arg0)
          ∧ r.2.mem ((c.tc : Thread Cert.At1Ideal.nD Cert.At1Ideal.τ).loc Cert.At1Ideal.main_arg1) = m ((c.tc : Thread Cert.At1Ideal.nD Cert.At1Ideal.τ).loc Cert.At1Ideal.main_arg1)
          ∧ r.2.mem ((c.tc : Thread Cert.At1Ideal.nD Cert.At1Ideal.τ).loc Cert.At1Ideal.main_arg2) = m ((c.tc : Thread Cert.At1Ideal.nD Cert.At1Ideal.τ).loc Cert.At1Ideal.main_arg2)
          ∧ r.2.mem ((c.tc : Thread Cert.At1Ideal.nD Cert.At1Ideal.τ).loc Cert.At1Ideal.main_arg3) = m ((c.tc : Thread Cert.At1Ideal.nD Cert.At1Ideal.τ).loc Cert.At1Ideal.main_arg3)
          ∧ r.2.mem ((c.tc : Thread Cert.At1Ideal.nD Cert.At1Ideal.τ).loc Cert.At1Ideal.main_arg4) = m ((c.tc : Thread Cert.At1Ideal.nD Cert.At1Ideal.τ).loc Cert.At1Ideal.main_arg4)
          ∧ r.2.mem ((c.tc : Thread Cert.At1Ideal.nD Cert.At1Ideal.τ).loc Cert.At1Ideal.main_arg5) = m ((c.tc : Thread Cert.At1Ideal.nD Cert.At1Ideal.τ).loc Cert.At1Ideal.main_arg5)
          ∧ r.2.mem ((c.tc : Thread Cert.At1Ideal.nD Cert.At1Ideal.τ).loc Cert.At1Ideal.main_arg6) = m ((c.tc : Thread Cert.At1Ideal.nD Cert.At1Ideal.τ).loc Cert.At1Ideal.main_arg6)
          ∧ r.2.mem ((c.tc : Thread Cert.At1Ideal.nD Cert.At1Ideal.τ).loc Cert.At1Ideal.main_arg7) = m ((c.tc : Thread Cert.At1Ideal.nD Cert.At1Ideal.τ).loc Cert.At1Ideal.main_arg7))
      ∧ θ_run (Cert.At1RefIdeal.defs (F := Ideal)) (onTc (τ := Cert.At1RefIdeal.τ) (Cert.At1RefIdeal.main (F := Ideal))) ⟨m', fun _ => 0, g'⟩ (fun r => ∀ c : Dev Cert.At1RefIdeal.nD,
          r.2.mem ((c.tc : Thread Cert.At1RefIdeal.nD Cert.At1RefIdeal.τ).loc Cert.At1RefIdeal.main_v169) = v0 c
          ∧ r.2.mem ((c.tc : Thread Cert.At1RefIdeal.nD Cert.At1RefIdeal.τ).loc Cert.At1RefIdeal.main_v173) = v1 c
          ∧ r.2.mem ((c.tc : Thread Cert.At1RefIdeal.nD Cert.At1RefIdeal.τ).loc Cert.At1RefIdeal.main_v177) = v2 c
          ∧ r.2.mem ((c.tc : Thread Cert.At1RefIdeal.nD Cert.At1RefIdeal.τ).loc Cert.At1RefIdeal.main_arg0) = m' ((c.tc : Thread Cert.At1RefIdeal.nD Cert.At1RefIdeal.τ).loc Cert.At1RefIdeal.main_arg0)
          ∧ r.2.mem ((c.tc : Thread Cert.At1RefIdeal.nD Cert.At1RefIdeal.τ).loc Cert.At1RefIdeal.main_arg1) = m' ((c.tc : Thread Cert.At1RefIdeal.nD Cert.At1RefIdeal.τ).loc Cert.At1RefIdeal.main_arg1)
          ∧ r.2.mem ((c.tc : Thread Cert.At1RefIdeal.nD Cert.At1RefIdeal.τ).loc Cert.At1RefIdeal.main_arg2) = m' ((c.tc : Thread Cert.At1RefIdeal.nD Cert.At1RefIdeal.τ).loc Cert.At1RefIdeal.main_arg2)
          ∧ r.2.mem ((c.tc : Thread Cert.At1RefIdeal.nD Cert.At1RefIdeal.τ).loc Cert.At1RefIdeal.main_arg3) = m' ((c.tc : Thread Cert.At1RefIdeal.nD Cert.At1RefIdeal.τ).loc Cert.At1RefIdeal.main_arg3)
          ∧ r.2.mem ((c.tc : Thread Cert.At1RefIdeal.nD Cert.At1RefIdeal.τ).loc Cert.At1RefIdeal.main_arg4) = m' ((c.tc : Thread Cert.At1RefIdeal.nD Cert.At1RefIdeal.τ).loc Cert.At1RefIdeal.main_arg4)
          ∧ r.2.mem ((c.tc : Thread Cert.At1RefIdeal.nD Cert.At1RefIdeal.τ).loc Cert.At1RefIdeal.main_arg5) = m' ((c.tc : Thread Cert.At1RefIdeal.nD Cert.At1RefIdeal.τ).loc Cert.At1RefIdeal.main_arg5)
          ∧ r.2.mem ((c.tc : Thread Cert.At1RefIdeal.nD Cert.At1RefIdeal.τ).loc Cert.At1RefIdeal.main_arg6) = m' ((c.tc : Thread Cert.At1RefIdeal.nD Cert.At1RefIdeal.τ).loc Cert.At1RefIdeal.main_arg6)
          ∧ r.2.mem ((c.tc : Thread Cert.At1RefIdeal.nD Cert.At1RefIdeal.τ).loc Cert.At1RefIdeal.main_arg7) = m' ((c.tc : Thread Cert.At1RefIdeal.nD Cert.At1RefIdeal.τ).loc Cert.At1RefIdeal.main_arg7))

def preserves_Af1_Af1Ideal : Prop :=
  True

def algebraic_Af1Ideal_Af1RefIdeal [hAf1Ideal : Cert.Af1Ideal.Facts] [hAf1RefIdeal : Cert.Af1RefIdeal.Facts] : Prop :=
  ∀ (m : (ℓ : Loc Cert.Af1Ideal.nD Cert.Af1Ideal.τ Cert.Af1Ideal.sig) → Buf (Elt Ideal) ℓ) (g : Dev Cert.Af1Ideal.nD → PrngReg)
    (m' : (ℓ : Loc Cert.Af1RefIdeal.nD Cert.Af1RefIdeal.τ Cert.Af1RefIdeal.sig) → Buf (Elt Ideal) ℓ) (g' : Dev Cert.Af1RefIdeal.nD → PrngReg), Pre_Af1Ideal m →
    (∀ c : Dev Cert.Af1Ideal.nD,
      m' ((c.tc : Thread Cert.Af1RefIdeal.nD Cert.Af1RefIdeal.τ).loc Cert.Af1RefIdeal.main_arg0) = m ((c.tc : Thread Cert.Af1Ideal.nD Cert.Af1Ideal.τ).loc Cert.Af1Ideal.main_arg0)
      ∧ m' ((c.tc : Thread Cert.Af1RefIdeal.nD Cert.Af1RefIdeal.τ).loc Cert.Af1RefIdeal.main_arg1) = m ((c.tc : Thread Cert.Af1Ideal.nD Cert.Af1Ideal.τ).loc Cert.Af1Ideal.main_arg1)
      ∧ m' ((c.tc : Thread Cert.Af1RefIdeal.nD Cert.Af1RefIdeal.τ).loc Cert.Af1RefIdeal.main_arg2) = m ((c.tc : Thread Cert.Af1Ideal.nD Cert.Af1Ideal.τ).loc Cert.Af1Ideal.main_arg2)
      ∧ m' ((c.tc : Thread Cert.Af1RefIdeal.nD Cert.Af1RefIdeal.τ).loc Cert.Af1RefIdeal.main_arg3) = m ((c.tc : Thread Cert.Af1Ideal.nD Cert.Af1Ideal.τ).loc Cert.Af1Ideal.main_arg3)
      ∧ m' ((c.tc : Thread Cert.Af1RefIdeal.nD Cert.Af1RefIdeal.τ).loc Cert.Af1RefIdeal.main_arg4) = m ((c.tc : Thread Cert.Af1Ideal.nD Cert.Af1Ideal.τ).loc Cert.Af1Ideal.main_arg4)) →
    ∃ (v0 : (c : Dev Cert.Af1Ideal.nD) → Buf (Elt Ideal) ((c.tc : Thread Cert.Af1Ideal.nD Cert.Af1Ideal.τ).loc Cert.Af1Ideal.main_v22)),
      θ_run (Cert.Af1Ideal.defs (F := Ideal)) (onTc (τ := Cert.Af1Ideal.τ) (Cert.Af1Ideal.main (F := Ideal))) ⟨m, fun _ => 0, g⟩ (fun r => ∀ c : Dev Cert.Af1Ideal.nD,
          r.2.mem ((c.tc : Thread Cert.Af1Ideal.nD Cert.Af1Ideal.τ).loc Cert.Af1Ideal.main_v22) = v0 c
          ∧ r.2.mem ((c.tc : Thread Cert.Af1Ideal.nD Cert.Af1Ideal.τ).loc Cert.Af1Ideal.main_arg0) = m ((c.tc : Thread Cert.Af1Ideal.nD Cert.Af1Ideal.τ).loc Cert.Af1Ideal.main_arg0)
          ∧ r.2.mem ((c.tc : Thread Cert.Af1Ideal.nD Cert.Af1Ideal.τ).loc Cert.Af1Ideal.main_arg1) = m ((c.tc : Thread Cert.Af1Ideal.nD Cert.Af1Ideal.τ).loc Cert.Af1Ideal.main_arg1)
          ∧ r.2.mem ((c.tc : Thread Cert.Af1Ideal.nD Cert.Af1Ideal.τ).loc Cert.Af1Ideal.main_arg2) = m ((c.tc : Thread Cert.Af1Ideal.nD Cert.Af1Ideal.τ).loc Cert.Af1Ideal.main_arg2)
          ∧ r.2.mem ((c.tc : Thread Cert.Af1Ideal.nD Cert.Af1Ideal.τ).loc Cert.Af1Ideal.main_arg3) = m ((c.tc : Thread Cert.Af1Ideal.nD Cert.Af1Ideal.τ).loc Cert.Af1Ideal.main_arg3)
          ∧ r.2.mem ((c.tc : Thread Cert.Af1Ideal.nD Cert.Af1Ideal.τ).loc Cert.Af1Ideal.main_arg4) = m ((c.tc : Thread Cert.Af1Ideal.nD Cert.Af1Ideal.τ).loc Cert.Af1Ideal.main_arg4))
      ∧ θ_run (Cert.Af1RefIdeal.defs (F := Ideal)) (onTc (τ := Cert.Af1RefIdeal.τ) (Cert.Af1RefIdeal.main (F := Ideal))) ⟨m', fun _ => 0, g'⟩ (fun r => ∀ c : Dev Cert.Af1RefIdeal.nD,
          r.2.mem ((c.tc : Thread Cert.Af1RefIdeal.nD Cert.Af1RefIdeal.τ).loc Cert.Af1RefIdeal.main_v91) = v0 c
          ∧ r.2.mem ((c.tc : Thread Cert.Af1RefIdeal.nD Cert.Af1RefIdeal.τ).loc Cert.Af1RefIdeal.main_arg0) = m' ((c.tc : Thread Cert.Af1RefIdeal.nD Cert.Af1RefIdeal.τ).loc Cert.Af1RefIdeal.main_arg0)
          ∧ r.2.mem ((c.tc : Thread Cert.Af1RefIdeal.nD Cert.Af1RefIdeal.τ).loc Cert.Af1RefIdeal.main_arg1) = m' ((c.tc : Thread Cert.Af1RefIdeal.nD Cert.Af1RefIdeal.τ).loc Cert.Af1RefIdeal.main_arg1)
          ∧ r.2.mem ((c.tc : Thread Cert.Af1RefIdeal.nD Cert.Af1RefIdeal.τ).loc Cert.Af1RefIdeal.main_arg2) = m' ((c.tc : Thread Cert.Af1RefIdeal.nD Cert.Af1RefIdeal.τ).loc Cert.Af1RefIdeal.main_arg2)
          ∧ r.2.mem ((c.tc : Thread Cert.Af1RefIdeal.nD Cert.Af1RefIdeal.τ).loc Cert.Af1RefIdeal.main_arg3) = m' ((c.tc : Thread Cert.Af1RefIdeal.nD Cert.Af1RefIdeal.τ).loc Cert.Af1RefIdeal.main_arg3)
          ∧ r.2.mem ((c.tc : Thread Cert.Af1RefIdeal.nD Cert.Af1RefIdeal.τ).loc Cert.Af1RefIdeal.main_arg4) = m' ((c.tc : Thread Cert.Af1RefIdeal.nD Cert.Af1RefIdeal.τ).loc Cert.Af1RefIdeal.main_arg4))

def preserves_Af2_Af2Ideal : Prop :=
  True

def algebraic_Af2Ideal_Af2RefIdeal [hAf2Ideal : Cert.Af2Ideal.Facts] [hAf2RefIdeal : Cert.Af2RefIdeal.Facts] : Prop :=
  ∀ (m : (ℓ : Loc Cert.Af2Ideal.nD Cert.Af2Ideal.τ Cert.Af2Ideal.sig) → Buf (Elt Ideal) ℓ) (g : Dev Cert.Af2Ideal.nD → PrngReg)
    (m' : (ℓ : Loc Cert.Af2RefIdeal.nD Cert.Af2RefIdeal.τ Cert.Af2RefIdeal.sig) → Buf (Elt Ideal) ℓ) (g' : Dev Cert.Af2RefIdeal.nD → PrngReg), Pre_Af2Ideal m →
    (∀ c : Dev Cert.Af2Ideal.nD,
      m' ((c.tc : Thread Cert.Af2RefIdeal.nD Cert.Af2RefIdeal.τ).loc Cert.Af2RefIdeal.main_arg0) = m ((c.tc : Thread Cert.Af2Ideal.nD Cert.Af2Ideal.τ).loc Cert.Af2Ideal.main_arg0)
      ∧ m' ((c.tc : Thread Cert.Af2RefIdeal.nD Cert.Af2RefIdeal.τ).loc Cert.Af2RefIdeal.main_arg1) = m ((c.tc : Thread Cert.Af2Ideal.nD Cert.Af2Ideal.τ).loc Cert.Af2Ideal.main_arg1)
      ∧ m' ((c.tc : Thread Cert.Af2RefIdeal.nD Cert.Af2RefIdeal.τ).loc Cert.Af2RefIdeal.main_arg2) = m ((c.tc : Thread Cert.Af2Ideal.nD Cert.Af2Ideal.τ).loc Cert.Af2Ideal.main_arg2)
      ∧ m' ((c.tc : Thread Cert.Af2RefIdeal.nD Cert.Af2RefIdeal.τ).loc Cert.Af2RefIdeal.main_arg3) = m ((c.tc : Thread Cert.Af2Ideal.nD Cert.Af2Ideal.τ).loc Cert.Af2Ideal.main_arg3)
      ∧ m' ((c.tc : Thread Cert.Af2RefIdeal.nD Cert.Af2RefIdeal.τ).loc Cert.Af2RefIdeal.main_arg4) = m ((c.tc : Thread Cert.Af2Ideal.nD Cert.Af2Ideal.τ).loc Cert.Af2Ideal.main_arg4)) →
    ∃ (v0 : (c : Dev Cert.Af2Ideal.nD) → Buf (Elt Ideal) ((c.tc : Thread Cert.Af2Ideal.nD Cert.Af2Ideal.τ).loc Cert.Af2Ideal.main_v22)),
      θ_run (Cert.Af2Ideal.defs (F := Ideal)) (onTc (τ := Cert.Af2Ideal.τ) (Cert.Af2Ideal.main (F := Ideal))) ⟨m, fun _ => 0, g⟩ (fun r => ∀ c : Dev Cert.Af2Ideal.nD,
          r.2.mem ((c.tc : Thread Cert.Af2Ideal.nD Cert.Af2Ideal.τ).loc Cert.Af2Ideal.main_v22) = v0 c
          ∧ r.2.mem ((c.tc : Thread Cert.Af2Ideal.nD Cert.Af2Ideal.τ).loc Cert.Af2Ideal.main_arg0) = m ((c.tc : Thread Cert.Af2Ideal.nD Cert.Af2Ideal.τ).loc Cert.Af2Ideal.main_arg0)
          ∧ r.2.mem ((c.tc : Thread Cert.Af2Ideal.nD Cert.Af2Ideal.τ).loc Cert.Af2Ideal.main_arg1) = m ((c.tc : Thread Cert.Af2Ideal.nD Cert.Af2Ideal.τ).loc Cert.Af2Ideal.main_arg1)
          ∧ r.2.mem ((c.tc : Thread Cert.Af2Ideal.nD Cert.Af2Ideal.τ).loc Cert.Af2Ideal.main_arg2) = m ((c.tc : Thread Cert.Af2Ideal.nD Cert.Af2Ideal.τ).loc Cert.Af2Ideal.main_arg2)
          ∧ r.2.mem ((c.tc : Thread Cert.Af2Ideal.nD Cert.Af2Ideal.τ).loc Cert.Af2Ideal.main_arg3) = m ((c.tc : Thread Cert.Af2Ideal.nD Cert.Af2Ideal.τ).loc Cert.Af2Ideal.main_arg3)
          ∧ r.2.mem ((c.tc : Thread Cert.Af2Ideal.nD Cert.Af2Ideal.τ).loc Cert.Af2Ideal.main_arg4) = m ((c.tc : Thread Cert.Af2Ideal.nD Cert.Af2Ideal.τ).loc Cert.Af2Ideal.main_arg4))
      ∧ θ_run (Cert.Af2RefIdeal.defs (F := Ideal)) (onTc (τ := Cert.Af2RefIdeal.τ) (Cert.Af2RefIdeal.main (F := Ideal))) ⟨m', fun _ => 0, g'⟩ (fun r => ∀ c : Dev Cert.Af2RefIdeal.nD,
          r.2.mem ((c.tc : Thread Cert.Af2RefIdeal.nD Cert.Af2RefIdeal.τ).loc Cert.Af2RefIdeal.main_v91) = v0 c
          ∧ r.2.mem ((c.tc : Thread Cert.Af2RefIdeal.nD Cert.Af2RefIdeal.τ).loc Cert.Af2RefIdeal.main_arg0) = m' ((c.tc : Thread Cert.Af2RefIdeal.nD Cert.Af2RefIdeal.τ).loc Cert.Af2RefIdeal.main_arg0)
          ∧ r.2.mem ((c.tc : Thread Cert.Af2RefIdeal.nD Cert.Af2RefIdeal.τ).loc Cert.Af2RefIdeal.main_arg1) = m' ((c.tc : Thread Cert.Af2RefIdeal.nD Cert.Af2RefIdeal.τ).loc Cert.Af2RefIdeal.main_arg1)
          ∧ r.2.mem ((c.tc : Thread Cert.Af2RefIdeal.nD Cert.Af2RefIdeal.τ).loc Cert.Af2RefIdeal.main_arg2) = m' ((c.tc : Thread Cert.Af2RefIdeal.nD Cert.Af2RefIdeal.τ).loc Cert.Af2RefIdeal.main_arg2)
          ∧ r.2.mem ((c.tc : Thread Cert.Af2RefIdeal.nD Cert.Af2RefIdeal.τ).loc Cert.Af2RefIdeal.main_arg3) = m' ((c.tc : Thread Cert.Af2RefIdeal.nD Cert.Af2RefIdeal.τ).loc Cert.Af2RefIdeal.main_arg3)
          ∧ r.2.mem ((c.tc : Thread Cert.Af2RefIdeal.nD Cert.Af2RefIdeal.τ).loc Cert.Af2RefIdeal.main_arg4) = m' ((c.tc : Thread Cert.Af2RefIdeal.nD Cert.Af2RefIdeal.τ).loc Cert.Af2RefIdeal.main_arg4))

def preserves_Af3_Af3Ideal : Prop :=
  True

def algebraic_Af3Ideal_Af3RefIdeal [hAf3Ideal : Cert.Af3Ideal.Facts] [hAf3RefIdeal : Cert.Af3RefIdeal.Facts] : Prop :=
  ∀ (m : (ℓ : Loc Cert.Af3Ideal.nD Cert.Af3Ideal.τ Cert.Af3Ideal.sig) → Buf (Elt Ideal) ℓ) (g : Dev Cert.Af3Ideal.nD → PrngReg)
    (m' : (ℓ : Loc Cert.Af3RefIdeal.nD Cert.Af3RefIdeal.τ Cert.Af3RefIdeal.sig) → Buf (Elt Ideal) ℓ) (g' : Dev Cert.Af3RefIdeal.nD → PrngReg), Pre_Af3Ideal m →
    (∀ c : Dev Cert.Af3Ideal.nD,
      m' ((c.tc : Thread Cert.Af3RefIdeal.nD Cert.Af3RefIdeal.τ).loc Cert.Af3RefIdeal.main_arg0) = m ((c.tc : Thread Cert.Af3Ideal.nD Cert.Af3Ideal.τ).loc Cert.Af3Ideal.main_arg0)
      ∧ m' ((c.tc : Thread Cert.Af3RefIdeal.nD Cert.Af3RefIdeal.τ).loc Cert.Af3RefIdeal.main_arg1) = m ((c.tc : Thread Cert.Af3Ideal.nD Cert.Af3Ideal.τ).loc Cert.Af3Ideal.main_arg1)
      ∧ m' ((c.tc : Thread Cert.Af3RefIdeal.nD Cert.Af3RefIdeal.τ).loc Cert.Af3RefIdeal.main_arg2) = m ((c.tc : Thread Cert.Af3Ideal.nD Cert.Af3Ideal.τ).loc Cert.Af3Ideal.main_arg2)
      ∧ m' ((c.tc : Thread Cert.Af3RefIdeal.nD Cert.Af3RefIdeal.τ).loc Cert.Af3RefIdeal.main_arg3) = m ((c.tc : Thread Cert.Af3Ideal.nD Cert.Af3Ideal.τ).loc Cert.Af3Ideal.main_arg3)
      ∧ m' ((c.tc : Thread Cert.Af3RefIdeal.nD Cert.Af3RefIdeal.τ).loc Cert.Af3RefIdeal.main_arg4) = m ((c.tc : Thread Cert.Af3Ideal.nD Cert.Af3Ideal.τ).loc Cert.Af3Ideal.main_arg4)) →
    ∃ (v0 : (c : Dev Cert.Af3Ideal.nD) → Buf (Elt Ideal) ((c.tc : Thread Cert.Af3Ideal.nD Cert.Af3Ideal.τ).loc Cert.Af3Ideal.main_v22)),
      θ_run (Cert.Af3Ideal.defs (F := Ideal)) (onTc (τ := Cert.Af3Ideal.τ) (Cert.Af3Ideal.main (F := Ideal))) ⟨m, fun _ => 0, g⟩ (fun r => ∀ c : Dev Cert.Af3Ideal.nD,
          r.2.mem ((c.tc : Thread Cert.Af3Ideal.nD Cert.Af3Ideal.τ).loc Cert.Af3Ideal.main_v22) = v0 c
          ∧ r.2.mem ((c.tc : Thread Cert.Af3Ideal.nD Cert.Af3Ideal.τ).loc Cert.Af3Ideal.main_arg0) = m ((c.tc : Thread Cert.Af3Ideal.nD Cert.Af3Ideal.τ).loc Cert.Af3Ideal.main_arg0)
          ∧ r.2.mem ((c.tc : Thread Cert.Af3Ideal.nD Cert.Af3Ideal.τ).loc Cert.Af3Ideal.main_arg1) = m ((c.tc : Thread Cert.Af3Ideal.nD Cert.Af3Ideal.τ).loc Cert.Af3Ideal.main_arg1)
          ∧ r.2.mem ((c.tc : Thread Cert.Af3Ideal.nD Cert.Af3Ideal.τ).loc Cert.Af3Ideal.main_arg2) = m ((c.tc : Thread Cert.Af3Ideal.nD Cert.Af3Ideal.τ).loc Cert.Af3Ideal.main_arg2)
          ∧ r.2.mem ((c.tc : Thread Cert.Af3Ideal.nD Cert.Af3Ideal.τ).loc Cert.Af3Ideal.main_arg3) = m ((c.tc : Thread Cert.Af3Ideal.nD Cert.Af3Ideal.τ).loc Cert.Af3Ideal.main_arg3)
          ∧ r.2.mem ((c.tc : Thread Cert.Af3Ideal.nD Cert.Af3Ideal.τ).loc Cert.Af3Ideal.main_arg4) = m ((c.tc : Thread Cert.Af3Ideal.nD Cert.Af3Ideal.τ).loc Cert.Af3Ideal.main_arg4))
      ∧ θ_run (Cert.Af3RefIdeal.defs (F := Ideal)) (onTc (τ := Cert.Af3RefIdeal.τ) (Cert.Af3RefIdeal.main (F := Ideal))) ⟨m', fun _ => 0, g'⟩ (fun r => ∀ c : Dev Cert.Af3RefIdeal.nD,
          r.2.mem ((c.tc : Thread Cert.Af3RefIdeal.nD Cert.Af3RefIdeal.τ).loc Cert.Af3RefIdeal.main_v87) = v0 c
          ∧ r.2.mem ((c.tc : Thread Cert.Af3RefIdeal.nD Cert.Af3RefIdeal.τ).loc Cert.Af3RefIdeal.main_arg0) = m' ((c.tc : Thread Cert.Af3RefIdeal.nD Cert.Af3RefIdeal.τ).loc Cert.Af3RefIdeal.main_arg0)
          ∧ r.2.mem ((c.tc : Thread Cert.Af3RefIdeal.nD Cert.Af3RefIdeal.τ).loc Cert.Af3RefIdeal.main_arg1) = m' ((c.tc : Thread Cert.Af3RefIdeal.nD Cert.Af3RefIdeal.τ).loc Cert.Af3RefIdeal.main_arg1)
          ∧ r.2.mem ((c.tc : Thread Cert.Af3RefIdeal.nD Cert.Af3RefIdeal.τ).loc Cert.Af3RefIdeal.main_arg2) = m' ((c.tc : Thread Cert.Af3RefIdeal.nD Cert.Af3RefIdeal.τ).loc Cert.Af3RefIdeal.main_arg2)
          ∧ r.2.mem ((c.tc : Thread Cert.Af3RefIdeal.nD Cert.Af3RefIdeal.τ).loc Cert.Af3RefIdeal.main_arg3) = m' ((c.tc : Thread Cert.Af3RefIdeal.nD Cert.Af3RefIdeal.τ).loc Cert.Af3RefIdeal.main_arg3)
          ∧ r.2.mem ((c.tc : Thread Cert.Af3RefIdeal.nD Cert.Af3RefIdeal.τ).loc Cert.Af3RefIdeal.main_arg4) = m' ((c.tc : Thread Cert.Af3RefIdeal.nD Cert.Af3RefIdeal.τ).loc Cert.Af3RefIdeal.main_arg4))

def Claim : Prop :=
  ∃ (hGm : Cert.Gm.Facts) (hGmIdeal : Cert.GmIdeal.Facts) (hGmRefIdeal : Cert.GmRefIdeal.Facts) (hFfDa : Cert.FfDa.Facts) (hFfDaIdeal : Cert.FfDaIdeal.Facts) (hFfDaRefIdeal : Cert.FfDaRefIdeal.Facts) (hFfDown0 : Cert.FfDown0.Facts) (hFfDown0Ideal : Cert.FfDown0Ideal.Facts) (hFfDown0RefIdeal : Cert.FfDown0RefIdeal.Facts) (hFfDown1 : Cert.FfDown1.Facts) (hFfDown1Ideal : Cert.FfDown1Ideal.Facts) (hFfDown1RefIdeal : Cert.FfDown1RefIdeal.Facts) (hFfDown2 : Cert.FfDown2.Facts) (hFfDown2Ideal : Cert.FfDown2Ideal.Facts) (hFfDown2RefIdeal : Cert.FfDown2RefIdeal.Facts) (hFfDhn0 : Cert.FfDhn0.Facts) (hFfDhn0Ideal : Cert.FfDhn0Ideal.Facts) (hFfDhn0RefIdeal : Cert.FfDhn0RefIdeal.Facts) (hFfDhn1 : Cert.FfDhn1.Facts) (hFfDhn1Ideal : Cert.FfDhn1Ideal.Facts) (hFfDhn1RefIdeal : Cert.FfDhn1RefIdeal.Facts) (hFfDhn2 : Cert.FfDhn2.Facts) (hFfDhn2Ideal : Cert.FfDhn2Ideal.Facts) (hFfDhn2RefIdeal : Cert.FfDhn2RefIdeal.Facts) (hFfDhn3 : Cert.FfDhn3.Facts) (hFfDhn3Ideal : Cert.FfDhn3Ideal.Facts) (hFfDhn3RefIdeal : Cert.FfDhn3RefIdeal.Facts) (hFfUp0 : Cert.FfUp0.Facts) (hFfUp0Ideal : Cert.FfUp0Ideal.Facts) (hFfUp0RefIdeal : Cert.FfUp0RefIdeal.Facts) (hFfUp1 : Cert.FfUp1.Facts) (hFfUp1Ideal : Cert.FfUp1Ideal.Facts) (hFfUp1RefIdeal : Cert.FfUp1RefIdeal.Facts) (hFfUp2 : Cert.FfUp2.Facts) (hFfUp2Ideal : Cert.FfUp2Ideal.Facts) (hFfUp2RefIdeal : Cert.FfUp2RefIdeal.Facts) (hEvDcat : Cert.EvDcat.Facts) (hEvDcatIdeal : Cert.EvDcatIdeal.Facts) (hEvDcatRefIdeal : Cert.EvDcatRefIdeal.Facts) (hEvWout : Cert.EvWout.Facts) (hEvWoutIdeal : Cert.EvWoutIdeal.Facts) (hEvWoutRefIdeal : Cert.EvWoutRefIdeal.Facts) (hEvDhn : Cert.EvDhn.Facts) (hEvDhnIdeal : Cert.EvDhnIdeal.Facts) (hEvDhnRefIdeal : Cert.EvDhnRefIdeal.Facts) (hEvDhn2 : Cert.EvDhn2.Facts) (hEvDhn2Ideal : Cert.EvDhn2Ideal.Facts) (hEvDhn2RefIdeal : Cert.EvDhn2RefIdeal.Facts) (hEvWin : Cert.EvWin.Facts) (hEvWinIdeal : Cert.EvWinIdeal.Facts) (hEvWinRefIdeal : Cert.EvWinRefIdeal.Facts) (hEvWdt : Cert.EvWdt.Facts) (hEvWdtIdeal : Cert.EvWdtIdeal.Facts) (hEvWdtRefIdeal : Cert.EvWdtRefIdeal.Facts) (hOdDo : Cert.OdDo.Facts) (hOdDoIdeal : Cert.OdDoIdeal.Facts) (hOdDoRefIdeal : Cert.OdDoRefIdeal.Facts) (hOdWo : Cert.OdWo.Facts) (hOdWoIdeal : Cert.OdWoIdeal.Facts) (hOdWoRefIdeal : Cert.OdWoRefIdeal.Facts) (hOdDcq : Cert.OdDcq.Facts) (hOdDcqIdeal : Cert.OdDcqIdeal.Facts) (hOdDcqRefIdeal : Cert.OdDcqRefIdeal.Facts) (hOdWuq : Cert.OdWuq.Facts) (hOdWuqIdeal : Cert.OdWuqIdeal.Facts) (hOdWuqRefIdeal : Cert.OdWuqRefIdeal.Facts) (hOdDckv : Cert.OdDckv.Facts) (hOdDckvIdeal : Cert.OdDckvIdeal.Facts) (hOdDckvRefIdeal : Cert.OdDckvRefIdeal.Facts) (hOdWukv : Cert.OdWukv.Facts) (hOdWukvIdeal : Cert.OdWukvIdeal.Facts) (hOdWukvRefIdeal : Cert.OdWukvRefIdeal.Facts) (hOdDhn : Cert.OdDhn.Facts) (hOdDhnIdeal : Cert.OdDhnIdeal.Facts) (hOdDhnRefIdeal : Cert.OdDhnRefIdeal.Facts) (hOdWin : Cert.OdWin.Facts) (hOdWinIdeal : Cert.OdWinIdeal.Facts) (hOdWinRefIdeal : Cert.OdWinRefIdeal.Facts) (hFwUp0 : Cert.FwUp0.Facts) (hFwUp0Ideal : Cert.FwUp0Ideal.Facts) (hFwUp0RefIdeal : Cert.FwUp0RefIdeal.Facts) (hFwUp1 : Cert.FwUp1.Facts) (hFwUp1Ideal : Cert.FwUp1Ideal.Facts) (hFwUp1RefIdeal : Cert.FwUp1RefIdeal.Facts) (hFwUp2 : Cert.FwUp2.Facts) (hFwUp2Ideal : Cert.FwUp2Ideal.Facts) (hFwUp2RefIdeal : Cert.FwUp2RefIdeal.Facts) (hFwUp3 : Cert.FwUp3.Facts) (hFwUp3Ideal : Cert.FwUp3Ideal.Facts) (hFwUp3RefIdeal : Cert.FwUp3RefIdeal.Facts) (hFwDown : Cert.FwDown.Facts) (hFwDownIdeal : Cert.FwDownIdeal.Facts) (hFwDownRefIdeal : Cert.FwDownRefIdeal.Facts) (hEvIn : Cert.EvIn.Facts) (hEvInIdeal : Cert.EvInIdeal.Facts) (hEvInRefIdeal : Cert.EvInRefIdeal.Facts) (hEvInDt : Cert.EvInDt.Facts) (hEvInDtIdeal : Cert.EvInDtIdeal.Facts) (hEvInDtRefIdeal : Cert.EvInDtRefIdeal.Facts) (hEvOut : Cert.EvOut.Facts) (hEvOutIdeal : Cert.EvOutIdeal.Facts) (hEvOutRefIdeal : Cert.EvOutRefIdeal.Facts) (hOdIn : Cert.OdIn.Facts) (hOdInIdeal : Cert.OdInIdeal.Facts) (hOdInRefIdeal : Cert.OdInRefIdeal.Facts) (hOdUq : Cert.OdUq.Facts) (hOdUqIdeal : Cert.OdUqIdeal.Facts) (hOdUqRefIdeal : Cert.OdUqRefIdeal.Facts) (hOdUkv : Cert.OdUkv.Facts) (hOdUkvIdeal : Cert.OdUkvIdeal.Facts) (hOdUkvRefIdeal : Cert.OdUkvRefIdeal.Facts) (hOdO : Cert.OdO.Facts) (hOdOIdeal : Cert.OdOIdeal.Facts) (hOdORefIdeal : Cert.OdORefIdeal.Facts) (hFfDowns : Cert.FfDowns.Facts) (hFfDownsIdeal : Cert.FfDownsIdeal.Facts) (hFfDownsRefIdeal : Cert.FfDownsRefIdeal.Facts) (hFfUps : Cert.FfUps.Facts) (hFfUpsIdeal : Cert.FfUpsIdeal.Facts) (hFfUpsRefIdeal : Cert.FfUpsRefIdeal.Facts) (hEvWouts : Cert.EvWouts.Facts) (hEvWoutsIdeal : Cert.EvWoutsIdeal.Facts) (hEvWoutsRefIdeal : Cert.EvWoutsRefIdeal.Facts) (hOdWos : Cert.OdWos.Facts) (hOdWosIdeal : Cert.OdWosIdeal.Facts) (hOdWosRefIdeal : Cert.OdWosRefIdeal.Facts) (hAt0 : Cert.At0.Facts) (hAt0Ideal : Cert.At0Ideal.Facts) (hAt0RefIdeal : Cert.At0RefIdeal.Facts) (hAt1 : Cert.At1.Facts) (hAt1Ideal : Cert.At1Ideal.Facts) (hAt1RefIdeal : Cert.At1RefIdeal.Facts) (hAf1 : Cert.Af1.Facts) (hAf1Ideal : Cert.Af1Ideal.Facts) (hAf1RefIdeal : Cert.Af1RefIdeal.Facts) (hAf2 : Cert.Af2.Facts) (hAf2Ideal : Cert.Af2Ideal.Facts) (hAf2RefIdeal : Cert.Af2RefIdeal.Facts) (hAf3 : Cert.Af3.Facts) (hAf3Ideal : Cert.Af3Ideal.Facts) (hAf3RefIdeal : Cert.Af3RefIdeal.Facts) (hPre_finite : Cert.Pre_finite.Facts) (hPre_attn_finite : Cert.Pre_attn_finite.Facts),
    quiescent_Gm (hGm := hGm)
    ∧ quiescent_GmIdeal (hGmIdeal := hGmIdeal)
    ∧ quiescent_GmIdeal_pre_finite (hGmIdeal := hGmIdeal) (hPre_finite := hPre_finite)
    ∧ quiescent_GmRefIdeal (hGmRefIdeal := hGmRefIdeal)
    ∧ quiescent_GmRefIdeal_pre_finite (hGmRefIdeal := hGmRefIdeal) (hPre_finite := hPre_finite)
    ∧ quiescent_FfDa (hFfDa := hFfDa)
    ∧ quiescent_FfDaIdeal (hFfDaIdeal := hFfDaIdeal)
    ∧ quiescent_FfDaRefIdeal (hFfDaRefIdeal := hFfDaRefIdeal)
    ∧ quiescent_FfDown0 (hFfDown0 := hFfDown0)
    ∧ quiescent_FfDown0Ideal (hFfDown0Ideal := hFfDown0Ideal)
    ∧ quiescent_FfDown0RefIdeal (hFfDown0RefIdeal := hFfDown0RefIdeal)
    ∧ quiescent_FfDown1 (hFfDown1 := hFfDown1)
    ∧ quiescent_FfDown1Ideal (hFfDown1Ideal := hFfDown1Ideal)
    ∧ quiescent_FfDown1RefIdeal (hFfDown1RefIdeal := hFfDown1RefIdeal)
    ∧ quiescent_FfDown2 (hFfDown2 := hFfDown2)
    ∧ quiescent_FfDown2Ideal (hFfDown2Ideal := hFfDown2Ideal)
    ∧ quiescent_FfDown2RefIdeal (hFfDown2RefIdeal := hFfDown2RefIdeal)
    ∧ quiescent_FfDhn0 (hFfDhn0 := hFfDhn0)
    ∧ quiescent_FfDhn0Ideal (hFfDhn0Ideal := hFfDhn0Ideal)
    ∧ quiescent_FfDhn0RefIdeal (hFfDhn0RefIdeal := hFfDhn0RefIdeal)
    ∧ quiescent_FfDhn1 (hFfDhn1 := hFfDhn1)
    ∧ quiescent_FfDhn1Ideal (hFfDhn1Ideal := hFfDhn1Ideal)
    ∧ quiescent_FfDhn1RefIdeal (hFfDhn1RefIdeal := hFfDhn1RefIdeal)
    ∧ quiescent_FfDhn2 (hFfDhn2 := hFfDhn2)
    ∧ quiescent_FfDhn2Ideal (hFfDhn2Ideal := hFfDhn2Ideal)
    ∧ quiescent_FfDhn2RefIdeal (hFfDhn2RefIdeal := hFfDhn2RefIdeal)
    ∧ quiescent_FfDhn3 (hFfDhn3 := hFfDhn3)
    ∧ quiescent_FfDhn3Ideal (hFfDhn3Ideal := hFfDhn3Ideal)
    ∧ quiescent_FfDhn3RefIdeal (hFfDhn3RefIdeal := hFfDhn3RefIdeal)
    ∧ quiescent_FfUp0 (hFfUp0 := hFfUp0)
    ∧ quiescent_FfUp0Ideal (hFfUp0Ideal := hFfUp0Ideal)
    ∧ quiescent_FfUp0RefIdeal (hFfUp0RefIdeal := hFfUp0RefIdeal)
    ∧ quiescent_FfUp1 (hFfUp1 := hFfUp1)
    ∧ quiescent_FfUp1Ideal (hFfUp1Ideal := hFfUp1Ideal)
    ∧ quiescent_FfUp1RefIdeal (hFfUp1RefIdeal := hFfUp1RefIdeal)
    ∧ quiescent_FfUp2 (hFfUp2 := hFfUp2)
    ∧ quiescent_FfUp2Ideal (hFfUp2Ideal := hFfUp2Ideal)
    ∧ quiescent_FfUp2RefIdeal (hFfUp2RefIdeal := hFfUp2RefIdeal)
    ∧ quiescent_EvDcat (hEvDcat := hEvDcat)
    ∧ quiescent_EvDcatIdeal (hEvDcatIdeal := hEvDcatIdeal)
    ∧ quiescent_EvDcatRefIdeal (hEvDcatRefIdeal := hEvDcatRefIdeal)
    ∧ quiescent_EvWout (hEvWout := hEvWout)
    ∧ quiescent_EvWoutIdeal (hEvWoutIdeal := hEvWoutIdeal)
    ∧ quiescent_EvWoutRefIdeal (hEvWoutRefIdeal := hEvWoutRefIdeal)
    ∧ quiescent_EvDhn (hEvDhn := hEvDhn)
    ∧ quiescent_EvDhnIdeal (hEvDhnIdeal := hEvDhnIdeal)
    ∧ quiescent_EvDhnRefIdeal (hEvDhnRefIdeal := hEvDhnRefIdeal)
    ∧ quiescent_EvDhn2 (hEvDhn2 := hEvDhn2)
    ∧ quiescent_EvDhn2Ideal (hEvDhn2Ideal := hEvDhn2Ideal)
    ∧ quiescent_EvDhn2RefIdeal (hEvDhn2RefIdeal := hEvDhn2RefIdeal)
    ∧ quiescent_EvWin (hEvWin := hEvWin)
    ∧ quiescent_EvWinIdeal (hEvWinIdeal := hEvWinIdeal)
    ∧ quiescent_EvWinRefIdeal (hEvWinRefIdeal := hEvWinRefIdeal)
    ∧ quiescent_EvWdt (hEvWdt := hEvWdt)
    ∧ quiescent_EvWdtIdeal (hEvWdtIdeal := hEvWdtIdeal)
    ∧ quiescent_EvWdtRefIdeal (hEvWdtRefIdeal := hEvWdtRefIdeal)
    ∧ quiescent_OdDo (hOdDo := hOdDo)
    ∧ quiescent_OdDoIdeal (hOdDoIdeal := hOdDoIdeal)
    ∧ quiescent_OdDoRefIdeal (hOdDoRefIdeal := hOdDoRefIdeal)
    ∧ quiescent_OdWo (hOdWo := hOdWo)
    ∧ quiescent_OdWoIdeal (hOdWoIdeal := hOdWoIdeal)
    ∧ quiescent_OdWoRefIdeal (hOdWoRefIdeal := hOdWoRefIdeal)
    ∧ quiescent_OdDcq (hOdDcq := hOdDcq)
    ∧ quiescent_OdDcqIdeal (hOdDcqIdeal := hOdDcqIdeal)
    ∧ quiescent_OdDcqRefIdeal (hOdDcqRefIdeal := hOdDcqRefIdeal)
    ∧ quiescent_OdWuq (hOdWuq := hOdWuq)
    ∧ quiescent_OdWuqIdeal (hOdWuqIdeal := hOdWuqIdeal)
    ∧ quiescent_OdWuqRefIdeal (hOdWuqRefIdeal := hOdWuqRefIdeal)
    ∧ quiescent_OdDckv (hOdDckv := hOdDckv)
    ∧ quiescent_OdDckvIdeal (hOdDckvIdeal := hOdDckvIdeal)
    ∧ quiescent_OdDckvRefIdeal (hOdDckvRefIdeal := hOdDckvRefIdeal)
    ∧ quiescent_OdWukv (hOdWukv := hOdWukv)
    ∧ quiescent_OdWukvIdeal (hOdWukvIdeal := hOdWukvIdeal)
    ∧ quiescent_OdWukvRefIdeal (hOdWukvRefIdeal := hOdWukvRefIdeal)
    ∧ quiescent_OdDhn (hOdDhn := hOdDhn)
    ∧ quiescent_OdDhnIdeal (hOdDhnIdeal := hOdDhnIdeal)
    ∧ quiescent_OdDhnRefIdeal (hOdDhnRefIdeal := hOdDhnRefIdeal)
    ∧ quiescent_OdWin (hOdWin := hOdWin)
    ∧ quiescent_OdWinIdeal (hOdWinIdeal := hOdWinIdeal)
    ∧ quiescent_OdWinRefIdeal (hOdWinRefIdeal := hOdWinRefIdeal)
    ∧ quiescent_FwUp0 (hFwUp0 := hFwUp0)
    ∧ quiescent_FwUp0Ideal (hFwUp0Ideal := hFwUp0Ideal)
    ∧ quiescent_FwUp0RefIdeal (hFwUp0RefIdeal := hFwUp0RefIdeal)
    ∧ quiescent_FwUp1 (hFwUp1 := hFwUp1)
    ∧ quiescent_FwUp1Ideal (hFwUp1Ideal := hFwUp1Ideal)
    ∧ quiescent_FwUp1RefIdeal (hFwUp1RefIdeal := hFwUp1RefIdeal)
    ∧ quiescent_FwUp2 (hFwUp2 := hFwUp2)
    ∧ quiescent_FwUp2Ideal (hFwUp2Ideal := hFwUp2Ideal)
    ∧ quiescent_FwUp2RefIdeal (hFwUp2RefIdeal := hFwUp2RefIdeal)
    ∧ quiescent_FwUp3 (hFwUp3 := hFwUp3)
    ∧ quiescent_FwUp3Ideal (hFwUp3Ideal := hFwUp3Ideal)
    ∧ quiescent_FwUp3RefIdeal (hFwUp3RefIdeal := hFwUp3RefIdeal)
    ∧ quiescent_FwDown (hFwDown := hFwDown)
    ∧ quiescent_FwDownIdeal (hFwDownIdeal := hFwDownIdeal)
    ∧ quiescent_FwDownRefIdeal (hFwDownRefIdeal := hFwDownRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvInDt (hEvInDt := hEvInDt)
    ∧ quiescent_EvInDtIdeal (hEvInDtIdeal := hEvInDtIdeal)
    ∧ quiescent_EvInDtRefIdeal (hEvInDtRefIdeal := hEvInDtRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_OdUq (hOdUq := hOdUq)
    ∧ quiescent_OdUqIdeal (hOdUqIdeal := hOdUqIdeal)
    ∧ quiescent_OdUqRefIdeal (hOdUqRefIdeal := hOdUqRefIdeal)
    ∧ quiescent_OdUkv (hOdUkv := hOdUkv)
    ∧ quiescent_OdUkvIdeal (hOdUkvIdeal := hOdUkvIdeal)
    ∧ quiescent_OdUkvRefIdeal (hOdUkvRefIdeal := hOdUkvRefIdeal)
    ∧ quiescent_OdO (hOdO := hOdO)
    ∧ quiescent_OdOIdeal (hOdOIdeal := hOdOIdeal)
    ∧ quiescent_OdORefIdeal (hOdORefIdeal := hOdORefIdeal)
    ∧ quiescent_FfDowns (hFfDowns := hFfDowns)
    ∧ quiescent_FfDownsIdeal (hFfDownsIdeal := hFfDownsIdeal)
    ∧ quiescent_FfDownsRefIdeal (hFfDownsRefIdeal := hFfDownsRefIdeal)
    ∧ quiescent_FfUps (hFfUps := hFfUps)
    ∧ quiescent_FfUpsIdeal (hFfUpsIdeal := hFfUpsIdeal)
    ∧ quiescent_FfUpsRefIdeal (hFfUpsRefIdeal := hFfUpsRefIdeal)
    ∧ quiescent_EvWouts (hEvWouts := hEvWouts)
    ∧ quiescent_EvWoutsIdeal (hEvWoutsIdeal := hEvWoutsIdeal)
    ∧ quiescent_EvWoutsRefIdeal (hEvWoutsRefIdeal := hEvWoutsRefIdeal)
    ∧ quiescent_OdWos (hOdWos := hOdWos)
    ∧ quiescent_OdWosIdeal (hOdWosIdeal := hOdWosIdeal)
    ∧ quiescent_OdWosRefIdeal (hOdWosRefIdeal := hOdWosRefIdeal)
    ∧ quiescent_At0 (hAt0 := hAt0)
    ∧ quiescent_At0Ideal (hAt0Ideal := hAt0Ideal)
    ∧ quiescent_At0Ideal_pre_attn_finite (hAt0Ideal := hAt0Ideal) (hPre_attn_finite := hPre_attn_finite)
    ∧ quiescent_At0RefIdeal (hAt0RefIdeal := hAt0RefIdeal)
    ∧ quiescent_At0RefIdeal_pre_attn_finite (hAt0RefIdeal := hAt0RefIdeal) (hPre_attn_finite := hPre_attn_finite)
    ∧ quiescent_At1 (hAt1 := hAt1)
    ∧ quiescent_At1Ideal (hAt1Ideal := hAt1Ideal)
    ∧ quiescent_At1Ideal_pre_attn_finite (hAt1Ideal := hAt1Ideal) (hPre_attn_finite := hPre_attn_finite)
    ∧ quiescent_At1RefIdeal (hAt1RefIdeal := hAt1RefIdeal)
    ∧ quiescent_At1RefIdeal_pre_attn_finite (hAt1RefIdeal := hAt1RefIdeal) (hPre_attn_finite := hPre_attn_finite)
    ∧ quiescent_Af1 (hAf1 := hAf1)
    ∧ quiescent_Af1Ideal (hAf1Ideal := hAf1Ideal)
    ∧ quiescent_Af1RefIdeal (hAf1RefIdeal := hAf1RefIdeal)
    ∧ quiescent_Af2 (hAf2 := hAf2)
    ∧ quiescent_Af2Ideal (hAf2Ideal := hAf2Ideal)
    ∧ quiescent_Af2RefIdeal (hAf2RefIdeal := hAf2RefIdeal)
    ∧ quiescent_Af3 (hAf3 := hAf3)
    ∧ quiescent_Af3Ideal (hAf3Ideal := hAf3Ideal)
    ∧ quiescent_Af3RefIdeal (hAf3RefIdeal := hAf3RefIdeal)
    ∧ preserves_Gm_GmIdeal
    ∧ algebraic_GmIdeal_GmRefIdeal_pre_finite (hGmIdeal := hGmIdeal) (hGmRefIdeal := hGmRefIdeal) (hPre_finite := hPre_finite)
    ∧ preserves_FfDa_FfDaIdeal
    ∧ algebraic_FfDaIdeal_FfDaRefIdeal (hFfDaIdeal := hFfDaIdeal) (hFfDaRefIdeal := hFfDaRefIdeal)
    ∧ preserves_FfDown0_FfDown0Ideal
    ∧ algebraic_FfDown0Ideal_FfDown0RefIdeal (hFfDown0Ideal := hFfDown0Ideal) (hFfDown0RefIdeal := hFfDown0RefIdeal)
    ∧ preserves_FfDown1_FfDown1Ideal
    ∧ algebraic_FfDown1Ideal_FfDown1RefIdeal (hFfDown1Ideal := hFfDown1Ideal) (hFfDown1RefIdeal := hFfDown1RefIdeal)
    ∧ preserves_FfDown2_FfDown2Ideal
    ∧ algebraic_FfDown2Ideal_FfDown2RefIdeal (hFfDown2Ideal := hFfDown2Ideal) (hFfDown2RefIdeal := hFfDown2RefIdeal)
    ∧ preserves_FfDhn0_FfDhn0Ideal
    ∧ algebraic_FfDhn0Ideal_FfDhn0RefIdeal (hFfDhn0Ideal := hFfDhn0Ideal) (hFfDhn0RefIdeal := hFfDhn0RefIdeal)
    ∧ preserves_FfDhn1_FfDhn1Ideal
    ∧ algebraic_FfDhn1Ideal_FfDhn1RefIdeal (hFfDhn1Ideal := hFfDhn1Ideal) (hFfDhn1RefIdeal := hFfDhn1RefIdeal)
    ∧ preserves_FfDhn2_FfDhn2Ideal
    ∧ algebraic_FfDhn2Ideal_FfDhn2RefIdeal (hFfDhn2Ideal := hFfDhn2Ideal) (hFfDhn2RefIdeal := hFfDhn2RefIdeal)
    ∧ preserves_FfDhn3_FfDhn3Ideal
    ∧ algebraic_FfDhn3Ideal_FfDhn3RefIdeal (hFfDhn3Ideal := hFfDhn3Ideal) (hFfDhn3RefIdeal := hFfDhn3RefIdeal)
    ∧ preserves_FfUp0_FfUp0Ideal
    ∧ algebraic_FfUp0Ideal_FfUp0RefIdeal (hFfUp0Ideal := hFfUp0Ideal) (hFfUp0RefIdeal := hFfUp0RefIdeal)
    ∧ preserves_FfUp1_FfUp1Ideal
    ∧ algebraic_FfUp1Ideal_FfUp1RefIdeal (hFfUp1Ideal := hFfUp1Ideal) (hFfUp1RefIdeal := hFfUp1RefIdeal)
    ∧ preserves_FfUp2_FfUp2Ideal
    ∧ algebraic_FfUp2Ideal_FfUp2RefIdeal (hFfUp2Ideal := hFfUp2Ideal) (hFfUp2RefIdeal := hFfUp2RefIdeal)
    ∧ preserves_EvDcat_EvDcatIdeal
    ∧ algebraic_EvDcatIdeal_EvDcatRefIdeal (hEvDcatIdeal := hEvDcatIdeal) (hEvDcatRefIdeal := hEvDcatRefIdeal)
    ∧ preserves_EvWout_EvWoutIdeal
    ∧ algebraic_EvWoutIdeal_EvWoutRefIdeal (hEvWoutIdeal := hEvWoutIdeal) (hEvWoutRefIdeal := hEvWoutRefIdeal)
    ∧ preserves_EvDhn_EvDhnIdeal
    ∧ algebraic_EvDhnIdeal_EvDhnRefIdeal (hEvDhnIdeal := hEvDhnIdeal) (hEvDhnRefIdeal := hEvDhnRefIdeal)
    ∧ preserves_EvDhn2_EvDhn2Ideal
    ∧ algebraic_EvDhn2Ideal_EvDhn2RefIdeal (hEvDhn2Ideal := hEvDhn2Ideal) (hEvDhn2RefIdeal := hEvDhn2RefIdeal)
    ∧ preserves_EvWin_EvWinIdeal
    ∧ algebraic_EvWinIdeal_EvWinRefIdeal (hEvWinIdeal := hEvWinIdeal) (hEvWinRefIdeal := hEvWinRefIdeal)
    ∧ preserves_EvWdt_EvWdtIdeal
    ∧ algebraic_EvWdtIdeal_EvWdtRefIdeal (hEvWdtIdeal := hEvWdtIdeal) (hEvWdtRefIdeal := hEvWdtRefIdeal)
    ∧ preserves_OdDo_OdDoIdeal
    ∧ algebraic_OdDoIdeal_OdDoRefIdeal (hOdDoIdeal := hOdDoIdeal) (hOdDoRefIdeal := hOdDoRefIdeal)
    ∧ preserves_OdWo_OdWoIdeal
    ∧ algebraic_OdWoIdeal_OdWoRefIdeal (hOdWoIdeal := hOdWoIdeal) (hOdWoRefIdeal := hOdWoRefIdeal)
    ∧ preserves_OdDcq_OdDcqIdeal
    ∧ algebraic_OdDcqIdeal_OdDcqRefIdeal (hOdDcqIdeal := hOdDcqIdeal) (hOdDcqRefIdeal := hOdDcqRefIdeal)
    ∧ preserves_OdWuq_OdWuqIdeal
    ∧ algebraic_OdWuqIdeal_OdWuqRefIdeal (hOdWuqIdeal := hOdWuqIdeal) (hOdWuqRefIdeal := hOdWuqRefIdeal)
    ∧ preserves_OdDckv_OdDckvIdeal
    ∧ algebraic_OdDckvIdeal_OdDckvRefIdeal (hOdDckvIdeal := hOdDckvIdeal) (hOdDckvRefIdeal := hOdDckvRefIdeal)
    ∧ preserves_OdWukv_OdWukvIdeal
    ∧ algebraic_OdWukvIdeal_OdWukvRefIdeal (hOdWukvIdeal := hOdWukvIdeal) (hOdWukvRefIdeal := hOdWukvRefIdeal)
    ∧ preserves_OdDhn_OdDhnIdeal
    ∧ algebraic_OdDhnIdeal_OdDhnRefIdeal (hOdDhnIdeal := hOdDhnIdeal) (hOdDhnRefIdeal := hOdDhnRefIdeal)
    ∧ preserves_OdWin_OdWinIdeal
    ∧ algebraic_OdWinIdeal_OdWinRefIdeal (hOdWinIdeal := hOdWinIdeal) (hOdWinRefIdeal := hOdWinRefIdeal)
    ∧ preserves_FwUp0_FwUp0Ideal
    ∧ algebraic_FwUp0Ideal_FwUp0RefIdeal (hFwUp0Ideal := hFwUp0Ideal) (hFwUp0RefIdeal := hFwUp0RefIdeal)
    ∧ preserves_FwUp1_FwUp1Ideal
    ∧ algebraic_FwUp1Ideal_FwUp1RefIdeal (hFwUp1Ideal := hFwUp1Ideal) (hFwUp1RefIdeal := hFwUp1RefIdeal)
    ∧ preserves_FwUp2_FwUp2Ideal
    ∧ algebraic_FwUp2Ideal_FwUp2RefIdeal (hFwUp2Ideal := hFwUp2Ideal) (hFwUp2RefIdeal := hFwUp2RefIdeal)
    ∧ preserves_FwUp3_FwUp3Ideal
    ∧ algebraic_FwUp3Ideal_FwUp3RefIdeal (hFwUp3Ideal := hFwUp3Ideal) (hFwUp3RefIdeal := hFwUp3RefIdeal)
    ∧ preserves_FwDown_FwDownIdeal
    ∧ algebraic_FwDownIdeal_FwDownRefIdeal (hFwDownIdeal := hFwDownIdeal) (hFwDownRefIdeal := hFwDownRefIdeal)
    ∧ preserves_EvIn_EvInIdeal
    ∧ algebraic_EvInIdeal_EvInRefIdeal (hEvInIdeal := hEvInIdeal) (hEvInRefIdeal := hEvInRefIdeal)
    ∧ preserves_EvInDt_EvInDtIdeal
    ∧ algebraic_EvInDtIdeal_EvInDtRefIdeal (hEvInDtIdeal := hEvInDtIdeal) (hEvInDtRefIdeal := hEvInDtRefIdeal)
    ∧ preserves_EvOut_EvOutIdeal
    ∧ algebraic_EvOutIdeal_EvOutRefIdeal (hEvOutIdeal := hEvOutIdeal) (hEvOutRefIdeal := hEvOutRefIdeal)
    ∧ preserves_OdIn_OdInIdeal
    ∧ algebraic_OdInIdeal_OdInRefIdeal (hOdInIdeal := hOdInIdeal) (hOdInRefIdeal := hOdInRefIdeal)
    ∧ preserves_OdUq_OdUqIdeal
    ∧ algebraic_OdUqIdeal_OdUqRefIdeal (hOdUqIdeal := hOdUqIdeal) (hOdUqRefIdeal := hOdUqRefIdeal)
    ∧ preserves_OdUkv_OdUkvIdeal
    ∧ algebraic_OdUkvIdeal_OdUkvRefIdeal (hOdUkvIdeal := hOdUkvIdeal) (hOdUkvRefIdeal := hOdUkvRefIdeal)
    ∧ preserves_OdO_OdOIdeal
    ∧ algebraic_OdOIdeal_OdORefIdeal (hOdOIdeal := hOdOIdeal) (hOdORefIdeal := hOdORefIdeal)
    ∧ preserves_FfDowns_FfDownsIdeal
    ∧ algebraic_FfDownsIdeal_FfDownsRefIdeal (hFfDownsIdeal := hFfDownsIdeal) (hFfDownsRefIdeal := hFfDownsRefIdeal)
    ∧ preserves_FfUps_FfUpsIdeal
    ∧ algebraic_FfUpsIdeal_FfUpsRefIdeal (hFfUpsIdeal := hFfUpsIdeal) (hFfUpsRefIdeal := hFfUpsRefIdeal)
    ∧ preserves_EvWouts_EvWoutsIdeal
    ∧ algebraic_EvWoutsIdeal_EvWoutsRefIdeal (hEvWoutsIdeal := hEvWoutsIdeal) (hEvWoutsRefIdeal := hEvWoutsRefIdeal)
    ∧ preserves_OdWos_OdWosIdeal
    ∧ algebraic_OdWosIdeal_OdWosRefIdeal (hOdWosIdeal := hOdWosIdeal) (hOdWosRefIdeal := hOdWosRefIdeal)
    ∧ preserves_At0_At0Ideal
    ∧ algebraic_At0Ideal_At0RefIdeal_pre_attn_finite (hAt0Ideal := hAt0Ideal) (hAt0RefIdeal := hAt0RefIdeal) (hPre_attn_finite := hPre_attn_finite)
    ∧ preserves_At1_At1Ideal
    ∧ algebraic_At1Ideal_At1RefIdeal_pre_attn_finite (hAt1Ideal := hAt1Ideal) (hAt1RefIdeal := hAt1RefIdeal) (hPre_attn_finite := hPre_attn_finite)
    ∧ preserves_Af1_Af1Ideal
    ∧ algebraic_Af1Ideal_Af1RefIdeal (hAf1Ideal := hAf1Ideal) (hAf1RefIdeal := hAf1RefIdeal)
    ∧ preserves_Af2_Af2Ideal
    ∧ algebraic_Af2Ideal_Af2RefIdeal (hAf2Ideal := hAf2Ideal) (hAf2RefIdeal := hAf2RefIdeal)
    ∧ preserves_Af3_Af3Ideal
    ∧ algebraic_Af3Ideal_Af3RefIdeal (hAf3Ideal := hAf3Ideal) (hAf3RefIdeal := hAf3RefIdeal)
-- ==== Pre_attn_finite.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S2048x128 : Shape := ⟨2, ![2048, 128]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1152 : S_.BroadcastsInDim S2048x1152 (![] : Fin 0 → Fin S2048x1152.rank)
  reducesTo_S2048x1152_S_d0_1 : S2048x1152.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x4096 .f32) (main_arg1 : FVec F S2048x4096 .f32) (main_arg2 : FVec F S2048x1152 .f32) (main_arg3 : IVec S2048 32) (main_arg4 : FVec F S2048x2048 .f32) (main_arg5 : FVec F S2048x4096 .bf16) (main_arg6 : FVec F S2048x4096 .f32) (main_arg7 : FVec F S2048x128 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x1152 .f32 := Host.absf main_arg2
  let main_cst_2 : FVec F S_ .f32 := constant S_ .f32 0x7F800000#32
  let main_v10 : FVec F S2048x1152 .f32 := broadcastInDim S2048x1152 ![] bcast_S_S2048x1152 main_cst_2
  let main_v11 : IVec S2048x1152 1 := cmpf .olt main_v9 main_v10
  let main_c_3 : IVec S_ 1 := constantI S_ 1 1#1
  let main_v12 : IVec S_ 1 := (fun x v => Host.reduce IntOp.andi x v reducesTo_S2048x1152_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_finite.lean ====
abbrev S2048x9216 : Shape := ⟨2, ![2048, 9216]⟩
abbrev S8x256 : Shape := ⟨2, ![8, 256]⟩
abbrev S8x128x128 : Shape := ⟨3, ![8, 128, 128]⟩
abbrev S8x128 : Shape := ⟨2, ![8, 128]⟩
abbrev S2048x4096 : Shape := ⟨2, ![2048, 4096]⟩
abbrev S_ : Shape := ⟨0, ![]⟩

class Facts : Prop where
  bcast_S_S2048x9216 : S_.BroadcastsInDim S2048x9216 (![] : Fin 0 → Fin S2048x9216.rank)
  reducesTo_S2048x9216_S_d0_1 : S2048x9216.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S8x128 .f32) (main_arg5 : FVec F S2048x4096 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  main_v28

def fn {F : FTy → Type} [FloatOps F] (main_arg0 : FVec F S2048x9216 .f32) (main_arg1 : FVec F S8x256 .f32) (main_arg2 : FVec F S8x256 .f32) (main_arg3 : FVec F S8x128x128 .f32) (main_arg4 : FVec F S8x128 .f32) (main_arg5 : FVec F S2048x4096 .f32) : IVec S_ 1 :=
  let main_v0 : FVec F S2048x9216 .f32 := Host.absf main_arg0
  let main_cst : FVec F S_ .f32 := constant S_ .f32 0x7F800000#32
  let main_v1 : FVec F S2048x9216 .f32 := broadcastInDim S2048x9216 ![] bcast_S_S2048x9216 main_cst
  let main_v2 : IVec S2048x9216 1 := cmpf .olt main_v0 main_v1
  let main_c : IVec S_ 1 := constantI S_ 1 1#1
  let main_v3 : IVec S_ 1 := (fun x v => Host.reduce IntOp.andi x v reducesTo_S2048x9216_S_d0_1 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_v13 main_v16
-- ==== Gm.lean ====
abbrev S2048x9216 : Shape := ⟨2, ![2048, 9216]⟩
abbrev S8x256 : Shape := ⟨2, ![8, 256]⟩
abbrev S8x128x128 : Shape := ⟨3, ![8, 128, 128]⟩
abbrev S8x128 : Shape := ⟨2, ![8, 128]⟩
abbrev S2048x4096 : Shape := ⟨2, ![2048, 4096]⟩
abbrev S1x2048 : Shape := ⟨2, ![1, 2048]⟩
abbrev S8x128x1 : Shape := ⟨3, ![8, 128, 1]⟩
abbrev S2048x2048 : Shape := ⟨2, ![2048, 2048]⟩
abbrev S128x256 : Shape := ⟨2, ![128, 256]⟩
abbrev S1x256 : Shape := ⟨2, ![1, 256]⟩
abbrev S1x128x128 : Shape := ⟨3, ![1, 128, 128]⟩
abbrev S1x128x1 : Shape := ⟨3, ![1, 128, 1]⟩
abbrev S128 : Shape := ⟨1, ![128]⟩
abbrev S128x1 : Shape := ⟨2, ![128, 1]⟩
abbrev S128x128 : Shape := ⟨2, ![128, 128]⟩
abbrev S256 : Shape := ⟨1, ![256]⟩

abbrev nBuf : Space → Nat
  | .hbm => 15
  | .vmem => 26
  | .smem => 0
  | _ => 0

abbrev bufTy : (tb : Table) → Fin (tcTables nBuf tb) → BufTy
  | .hbm, ⟨0, _⟩ => ⟨S2048x9216, .f32⟩
  | .hbm, ⟨1, _⟩ => ⟨S8x256, .f32⟩
  | .hbm, ⟨2, _⟩ => ⟨S8x256, .f32⟩
  | .hbm, ⟨3, _⟩ => ⟨S8x128x128, .f32⟩
  | .hbm, ⟨4, _⟩ => ⟨S8x128, .f32⟩
  | .hbm, ⟨5, _⟩ => ⟨S2048x4096, .f32⟩
  | .hbm, ⟨6, _⟩ => ⟨S1x2048, .f32⟩
  | .hbm, ⟨7, _⟩ => ⟨S1x2048, .f32⟩
  | .hbm, ⟨8, _⟩ => ⟨S8x128x1, .f32⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S8x128x128, .f32⟩
  | .hbm, ⟨14, _⟩ => ⟨S8x128x1, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S128x256, .f32⟩
  | .local _ .vmem, ⟨13, _⟩ => ⟨S128x256, .f32⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GmIdeal.lean ====
variable {F : FTy → Type} [FloatOps F] [Named F]
def κ : String → Option EReal := fun
  | "g1" => some ((8943 / 200000 : ℝ) : EReal)
  | "g3" => some ((26829 / 200000 : ℝ) : EReal)
  | _ => none
-- ==== GmRefIdeal.lean ====
abbrev S2048x9216 : Shape := ⟨2, ![2048, 9216]⟩
abbrev S8x256 : Shape := ⟨2, ![8, 256]⟩
abbrev S8x128x128 : Shape := ⟨3, ![8, 128, 128]⟩
abbrev S8x128 : Shape := ⟨2, ![8, 128]⟩
abbrev S2048x4096 : Shape := ⟨2, ![2048, 4096]⟩
abbrev S2048x2048 : Shape := ⟨2, ![2048, 2048]⟩
abbrev S_ : Shape := ⟨0, ![]⟩
abbrev S16x128x8x256 : Shape := ⟨4, ![16, 128, 8, 256]⟩
abbrev S16x128x8 : Shape := ⟨3, ![16, 128, 8]⟩
abbrev S16x128x8x1 : Shape := ⟨4, ![16, 128, 8, 1]⟩
abbrev S1x1x8x256 : Shape := ⟨4, ![1, 1, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x16x256x128 : Shape := ⟨4, ![8, 16, 256, 128]⟩
abbrev S128x8 : Shape := ⟨2, ![128, 8]⟩
abbrev S128x8x1 : Shape := ⟨3, ![128, 8, 1]⟩
abbrev S1x128x8x1 : Shape := ⟨4, ![1, 128, 8, 1]⟩
abbrev S1x2048 : Shape := ⟨2, ![1, 2048]⟩
abbrev S8x128x1 : Shape := ⟨3, ![8, 128, 1]⟩

abbrev nBuf : Space → Nat
  | .hbm => 252
  | .vmem => 0
  | .smem => 0
  | _ => 0

abbrev hbmTy0_0 (i : Nat) : BufTy := match i % 128 with
  | 0 => ⟨S2048x9216, .f32⟩
  | 1 => ⟨S8x256, .f32⟩
  | 2 => ⟨S8x256, .f32⟩
  | 3 => ⟨S8x128x128, .f32⟩
  | 4 => ⟨S8x128, .f32⟩
  | 5 => ⟨S2048x4096, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S_, .f32⟩
  | 12 => ⟨S2048x2048, .f32⟩
  | 13 => ⟨S2048x2048, .f32⟩
  | 14 => ⟨S_, .f32⟩
  | 15 => ⟨S2048x2048, .f32⟩
  | 16 => ⟨S2048x2048, .f32⟩
  | 17 => ⟨S_, .f32⟩
  | 18 => ⟨S2048x2048, .f32⟩
  | 19 => ⟨S2048x2048, .f32⟩
  | 20 => ⟨S2048x2048, .f32⟩
  | 21 => ⟨S_, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S_, .f32⟩
  | 29 => ⟨S2048x2048, .f32⟩
  | 30 => ⟨S2048x2048, .f32⟩
  | 31 => ⟨S2048x2048, .f32⟩
  | 32 => ⟨S_, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S2048x2048, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S2048x2048, .f32⟩
  | 52 => ⟨S_, .f32⟩
  | 53 => ⟨S2048x2048, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x2048, .f32⟩
  | 63 => ⟨S_, .f32⟩
  | 64 => ⟨S2048x2048, .f32⟩
  | 65 => ⟨S2048x2048, .f32⟩
  | 66 => ⟨S_, .f32⟩
  | 67 => ⟨S2048x2048, .f32⟩
  | 68 => ⟨S2048x2048, .f32⟩
  | 69 => ⟨S2048x2048, .f32⟩
  | 70 => ⟨S16x128x8x256, .f32⟩
  | 71 => ⟨S_, .f32⟩
  | 72 => ⟨S16x128x8, .f32⟩
  | 73 => ⟨S16x128x8x1, .f32⟩
  | 74 => ⟨S_, .f32⟩
  | 75 => ⟨S16x128x8x1, .f32⟩
  | 76 => ⟨S16x128x8x1, .f32⟩
  | 77 => ⟨S16x128x8x256, .f32⟩
  | 78 => ⟨S16x128x8x256, .f32⟩
  | 79 => ⟨S16x128x8x256, .f32⟩
  | 80 => ⟨S_, .f32⟩
  | 81 => ⟨S16x128x8x256, .f32⟩
  | 82 => ⟨S16x128x8x256, .f32⟩
  | 83 => ⟨S_, .f32⟩
  | 84 => ⟨S16x128x8, .f32⟩
  | 85 => ⟨S16x128x8x1, .f32⟩
  | 86 => ⟨S_, .f32⟩
  | 87 => ⟨S16x128x8x1, .f32⟩
  | 88 => ⟨S16x128x8x1, .f32⟩
  | 89 => ⟨S16x128x8x256, .f32⟩
  | 90 => ⟨S16x128x8x256, .f32⟩
  | 91 => ⟨S_, .f32⟩
  | 92 => ⟨S16x128x8x1, .f32⟩
  | 93 => ⟨S16x128x8x1, .f32⟩
  | 94 => ⟨S16x128x8x1, .f32⟩
  | 95 => ⟨S16x128x8x1, .f32⟩
  | 96 => ⟨S_, .f32⟩
  | 97 => ⟨S16x128x8x1, .f32⟩
  | 98 => ⟨S16x128x8x1, .f32⟩
  | 99 => ⟨S16x128x8x256, .f32⟩
  | 100 => ⟨S16x128x8x256, .f32⟩
  | 101 => ⟨S1x1x8x256, .f32⟩
  | 102 => ⟨S16x128x8x256, .f32⟩
  | 103 => ⟨S16x128x8x256, .f32⟩
  | 104 => ⟨S1x1x8x256, .f32⟩
  | 105 => ⟨S16x128x8x256, .f32⟩
  | 106 => ⟨S16x128x8x256, .f32⟩
  | 107 => ⟨S128, .i32⟩
  | 108 => ⟨S_, .i32⟩
  | 109 => ⟨S_, .i32⟩
  | 110 => ⟨S128, .i32⟩
  | 111 => ⟨S128, .i32⟩
  | 112 => ⟨S128, .i32⟩
  | 113 => ⟨S_, .i32⟩
  | 114 => ⟨S128, .i32⟩
  | 115 => ⟨S128, .i1⟩
  | 116 => ⟨S128, .i32⟩
  | 117 => ⟨S128, .i32⟩
  | 118 => ⟨S_, .i32⟩
  | 119 => ⟨S128, .i32⟩
  | 120 => ⟨S128, .i1⟩
  | 121 => ⟨S128, .i1⟩
  | 122 => ⟨S_, .i32⟩
  | 123 => ⟨S128, .i32⟩
  | 124 => ⟨S128, .i32⟩
  | 125 => ⟨S128, .i32⟩
  | 126 => ⟨S128x1, .i32⟩
  | 127 => ⟨S1x128, .i32⟩
  | _ => ⟨S2048x9216, .f32⟩

abbrev hbmTy0_1 (i : Nat) : BufTy := match i % 128 with
  | 0 => ⟨S128x128, .i32⟩
  | 1 => ⟨S128x128, .i32⟩
  | 2 => ⟨S128x128, .i1⟩
  | 3 => ⟨S_, .f32⟩
  | 4 => ⟨S8x128x128, .i1⟩
  | 5 => ⟨S8x128x128, .f32⟩
  | 6 => ⟨S8x128x128, .f32⟩
  | 7 => ⟨S_, .f32⟩
  | 8 => ⟨S8x128x128, .f32⟩
  | 9 => ⟨S8x16x256x128, .f32⟩
  | 10 => ⟨S16x128x8x256, .f32⟩
  | 11 => ⟨S128x8, .f32⟩
  | 12 => ⟨S128x8x1, .f32⟩
  | 13 => ⟨S1x128x8x1, .f32⟩
  | 14 => ⟨S16x128x8x256, .f32⟩
  | 15 => ⟨S16x128x8x256, .f32⟩
  | 16 => ⟨S2048x2048, .f32⟩
  | 17 => ⟨S2048x2048, .f32⟩
  | 18 => ⟨S2048x2048, .f32⟩
  | 19 => ⟨S2048x2048, .f32⟩
  | 20 => ⟨S2048x2048, .f32⟩
  | 21 => ⟨S16x128x8x256, .f32⟩
  | 22 => ⟨S_, .f32⟩
  | 23 => ⟨S128x8, .f32⟩
  | 24 => ⟨S1x128x8x1, .f32⟩
  | 25 => ⟨S_, .f32⟩
  | 26 => ⟨S128x8, .f32⟩
  | 27 => ⟨S128x8x1, .f32⟩
  | 28 => ⟨S_, .f32⟩
  | 29 => ⟨S128x8, .f32⟩
  | 30 => ⟨S8x128, .f32⟩
  | 31 => ⟨S8x16x256x128, .f32⟩
  | 32 => ⟨S8x128x128, .f32⟩
  | 33 => ⟨S8x16x256x128, .f32⟩
  | 34 => ⟨S16x128x8x256, .f32⟩
  | 35 => ⟨S_, .f32⟩
  | 36 => ⟨S8x128x128, .f32⟩
  | 37 => ⟨S8x128x128, .f32⟩
  | 38 => ⟨S_, .f32⟩
  | 39 => ⟨S8x256, .f32⟩
  | 40 => ⟨S1x1x8x256, .f32⟩
  | 41 => ⟨S_, .f32⟩
  | 42 => ⟨S8x256, .f32⟩
  | 43 => ⟨S16x128x8x256, .f32⟩
  | 44 => ⟨S_, .f32⟩
  | 45 => ⟨S8x256, .f32⟩
  | 46 => ⟨S1x1x8x256, .f32⟩
  | 47 => ⟨S16x128x8x256, .f32⟩
  | 48 => ⟨S16x128x8x256, .f32⟩
  | 49 => ⟨S_, .f32⟩
  | 50 => ⟨S8x256, .f32⟩
  | 51 => ⟨S16x128x8x256, .f32⟩
  | 52 => ⟨S_, .f32⟩
  | 53 => ⟨S16x128x8, .f32⟩
  | 54 => ⟨S16x128x8x1, .f32⟩
  | 55 => ⟨S16x128x8x256, .f32⟩
  | 56 => ⟨S16x128x8x256, .f32⟩
  | 57 => ⟨S16x128x8x1, .f32⟩
  | 58 => ⟨S16x128x8x256, .f32⟩
  | 59 => ⟨S_, .f32⟩
  | 60 => ⟨S16x128x8, .f32⟩
  | 61 => ⟨S16x128x8x1, .f32⟩
  | 62 => ⟨S_, .f32⟩
  | 63 => ⟨S16x128x8x1, .f32⟩
  | 64 => ⟨S16x128x8x1, .f32⟩
  | 65 => ⟨S_, .f32⟩
  | 66 => ⟨S16x128x8, .f32⟩
  | 67 => ⟨S16x128x8x256, .f32⟩
  | 68 => ⟨S16x128x8x256, .f32⟩
  | 69 => ⟨S16x128x8x256, .f32⟩
  | 70 => ⟨S_, .f32⟩
  | 71 => ⟨S16x128x8, .f32⟩
  | 72 => ⟨S16x128x8x1, .f32⟩
  | 73 => ⟨S16x128x8x256, .f32⟩
  | 74 => ⟨S16x128x8x1, .f32⟩
  | 75 => ⟨S_, .f32⟩
  | 76 => ⟨S16x128x8x1, .f32⟩
  | 77 => ⟨S16x128x8x1, .f32⟩
  | 78 => ⟨S_, .f32⟩
  | 79 => ⟨S16x128x8, .f32⟩
  | 80 => ⟨S16x128x8x256, .f32⟩
  | 81 => ⟨S16x128x8x256, .f32⟩
  | 82 => ⟨S2048x2048, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S2048x2048, .f32⟩
  | 89 => ⟨S_, .f32⟩
  | 90 => ⟨S2048x2048, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S_, .f32⟩
  | 97 => ⟨S2048x2048, .f32⟩
  | 98 => ⟨S2048x2048, .f32⟩
  | 99 => ⟨S2048x2048, .f32⟩
  | 100 => ⟨S2048x2048, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S2048x2048, .f32⟩
  | 107 => ⟨S_, .f32⟩
  | 108 => ⟨S2048x2048, .f32⟩
  | 109 => ⟨S2048x2048, .f32⟩
  | 110 => ⟨S2048x2048, .f32⟩
  | 111 => ⟨S_, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S2048x2048, .f32⟩
  | 118 => ⟨S2048x2048, .f32⟩
  | 119 => ⟨S2048x2048, .bf16⟩
  | 120 => ⟨S2048x2048, .bf16⟩
  | 121 => ⟨S1x2048, .f32⟩
  | 122 => ⟨S1x2048, .f32⟩
  | 123 => ⟨S8x128x1, .f32⟩
  | _ => ⟨S2048x9216, .f32⟩

abbrev hbmTy (i : Nat) : BufTy := match i / 128 with
  | 0 => hbmTy0_0 i
  | 1 => hbmTy0_1 i
  | _ => ⟨S2048x9216, .f32⟩

abbrev bufTy : (tb : Table) → Fin (tcTables nBuf tb) → BufTy
  | .hbm, ⟨i, _⟩ => hbmTy i
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_c : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_c_0 : Ref sig .tc := ⟨.hbm, 122, rfl⟩
abbrev main_call0_v12 : Ref sig .tc := ⟨.hbm, 123, rfl⟩
abbrev main_call0_v13 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_22 : Ref sig .tc := ⟨.hbm, 131, rfl⟩
abbrev main_v85_1 : Ref sig .tc := ⟨.hbm, 132, rfl⟩
abbrev main_call1_v1 : Ref sig .tc := ⟨.hbm, 133, rfl⟩
abbrev main_v85_0 : Ref sig .tc := ⟨.hbm, 134, rfl⟩
abbrev main_call1_cst : Ref sig .tc := ⟨.hbm, 135, rfl⟩
abbrev main_v85_2 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_23 : Ref sig .tc := ⟨.hbm, 150, rfl⟩
abbrev main_v99 : Ref sig .tc := ⟨.hbm, 151, rfl⟩
abbrev main_v100 : Ref sig .tc := ⟨.hbm, 152, rfl⟩
abbrev main_cst_24 : Ref sig .tc := ⟨.hbm, 153, rfl⟩
abbrev main_v101 : Ref sig .tc := ⟨.hbm, 154, rfl⟩
abbrev main_v102 : Ref sig .tc := ⟨.hbm, 155, rfl⟩
abbrev main_cst_25 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_call2_cst : Ref sig .tc := ⟨.hbm, 163, rfl⟩
abbrev main_call2_v0 : Ref sig .tc := ⟨.hbm, 164, rfl⟩
abbrev main_v109 : Ref sig .tc := ⟨.hbm, 165, rfl⟩
abbrev main_cst_26 : Ref sig .tc := ⟨.hbm, 166, rfl⟩
abbrev main_v110 : Ref sig .tc := ⟨.hbm, 167, rfl⟩
abbrev main_v111 : Ref sig .tc := ⟨.hbm, 168, rfl⟩
abbrev main_cst_27 : Ref sig .tc := ⟨.hbm, 169, rfl⟩
abbrev main_v112 : Ref sig .tc := ⟨.hbm, 170, rfl⟩
abbrev main_v113 : Ref sig .tc := ⟨.hbm, 171, rfl⟩
abbrev main_cst_28 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_29 : Ref sig .tc := ⟨.hbm, 177, rfl⟩
abbrev main_v118 : Ref sig .tc := ⟨.hbm, 178, rfl⟩
abbrev main_v119 : Ref sig .tc := ⟨.hbm, 179, rfl⟩
abbrev main_cst_30 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_31 : Ref sig .tc := ⟨.hbm, 187, rfl⟩
abbrev main_v126 : Ref sig .tc := ⟨.hbm, 188, rfl⟩
abbrev main_v127 : Ref sig .tc := ⟨.hbm, 189, rfl⟩
abbrev main_cst_32 : Ref sig .tc := ⟨.hbm, 190, rfl⟩
abbrev main_v128 : Ref sig .tc := ⟨.hbm, 191, rfl⟩
abbrev main_v129 : Ref sig .tc := ⟨.hbm, 192, rfl⟩
abbrev main_cst_33 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_34 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_35 : Ref sig .tc := ⟨.hbm, 203, rfl⟩
abbrev main_v138 : Ref sig .tc := ⟨.hbm, 204, rfl⟩
abbrev main_v139 : Ref sig .tc := ⟨.hbm, 205, rfl⟩
abbrev main_cst_36 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_37 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_38 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_cst_39 : Ref sig .tc := ⟨.hbm, 221, rfl⟩
abbrev main_v152 : Ref sig .tc := ⟨.hbm, 222, rfl⟩
abbrev main_v153 : Ref sig .tc := ⟨.hbm, 223, rfl⟩
abbrev main_cst_40 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_41 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_42 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_43 : Ref sig .tc := ⟨.hbm, 239, rfl⟩
abbrev main_v166 : Ref sig .tc := ⟨.hbm, 240, rfl⟩
abbrev main_v167 : Ref sig .tc := ⟨.hbm, 241, rfl⟩
abbrev main_cst_44 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩

abbrev nD : Nat := 1
abbrev τ : Topo := Topo.v7x

variable {F : FTy → Type} [FloatOps F]
-- ==== FfDa.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .local _ .vmem, ⟨0, _⟩ => ⟨S1024x2048, .f32⟩
  | .local _ .vmem, ⟨1, _⟩ => ⟨S1024x2048, .f32⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDaRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfDown0.lean ====
abbrev S2048x5632 : Shape := ⟨2, ![2048, 5632]⟩
abbrev S2048x2048 : Shape := ⟨2, ![2048, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S4x5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDown0RefIdeal.lean ====
abbrev S2048x5632 : Shape := ⟨2, ![2048, 5632]⟩
abbrev S2048x2048 : Shape := ⟨2, ![2048, 2048]⟩
abbrev S4x5632x2048 : Shape := ⟨3, ![4, 5632, 2048]⟩
abbrev S_ : Shape := ⟨0, ![]⟩
abbrev S5632x2048 : Shape := ⟨2, ![5632, 2048]⟩
abbrev S1x5632x2048 : Shape := ⟨3, ![1, 5632, 2048]⟩
abbrev S3x5632x2048 : Shape := ⟨3, ![3, 5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S1x5632x2048, .f32⟩
  | .hbm, ⟨10, _⟩ => ⟨S3x5632x2048, .f32⟩
  | .hbm, ⟨11, _⟩ => ⟨S4x5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfDown1.lean ====
abbrev S2048x5632 : Shape := ⟨2, ![2048, 5632]⟩
abbrev S2048x2048 : Shape := ⟨2, ![2048, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S4x5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDown1RefIdeal.lean ====
abbrev S2048x5632 : Shape := ⟨2, ![2048, 5632]⟩
abbrev S2048x2048 : Shape := ⟨2, ![2048, 2048]⟩
abbrev S4x5632x2048 : Shape := ⟨3, ![4, 5632, 2048]⟩
abbrev S_ : Shape := ⟨0, ![]⟩
abbrev S5632x2048 : Shape := ⟨2, ![5632, 2048]⟩
abbrev S1x5632x2048 : Shape := ⟨3, ![1, 5632, 2048]⟩
abbrev S2x5632x2048 : Shape := ⟨3, ![2, 5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S1x5632x2048, .f32⟩
  | .hbm, ⟨10, _⟩ => ⟨S1x5632x2048, .f32⟩
  | .hbm, ⟨11, _⟩ => ⟨S2x5632x2048, .f32⟩
  | .hbm, ⟨12, _⟩ => ⟨S4x5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfDown2.lean ====
abbrev S2048x5632 : Shape := ⟨2, ![2048, 5632]⟩
abbrev S2048x2048 : Shape := ⟨2, ![2048, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S4x5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDown2RefIdeal.lean ====
abbrev S2048x5632 : Shape := ⟨2, ![2048, 5632]⟩
abbrev S2048x2048 : Shape := ⟨2, ![2048, 2048]⟩
abbrev S4x5632x2048 : Shape := ⟨3, ![4, 5632, 2048]⟩
abbrev S_ : Shape := ⟨0, ![]⟩
abbrev S5632x2048 : Shape := ⟨2, ![5632, 2048]⟩
abbrev S2x5632x2048 : Shape := ⟨3, ![2, 5632, 2048]⟩
abbrev S1x5632x2048 : Shape := ⟨3, ![1, 5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S4x5632x2048, .f32⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2x5632x2048, .f32⟩
  | .hbm, ⟨10, _⟩ => ⟨S1x5632x2048, .f32⟩
  | .hbm, ⟨11, _⟩ => ⟨S1x5632x2048, .f32⟩
  | .hbm, ⟨12, _⟩ => ⟨S4x5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfDhn0.lean ====
abbrev S2048x11264 : Shape := ⟨2, ![2048, 11264]⟩
abbrev S4x4x2048x2816 : Shape := ⟨4, ![4, 4, 2048, 2816]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_8 : BitVec 32 := 7#32
  let v12 : BitVec 1 := Scalar.cmpi .eq arg2 c7_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDhn0RefIdeal.lean ====
abbrev S2048x11264 : Shape := ⟨2, ![2048, 11264]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfDhn1.lean ====
abbrev S2048x11264 : Shape := ⟨2, ![2048, 11264]⟩
abbrev S4x4x2048x2816 : Shape := ⟨4, ![4, 4, 2048, 2816]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_8 : BitVec 32 := 7#32
  let v12 : BitVec 1 := Scalar.cmpi .eq arg2 c7_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDhn1RefIdeal.lean ====
abbrev S2048x11264 : Shape := ⟨2, ![2048, 11264]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfDhn2.lean ====
abbrev S2048x11264 : Shape := ⟨2, ![2048, 11264]⟩
abbrev S4x4x2048x2816 : Shape := ⟨4, ![4, 4, 2048, 2816]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_8 : BitVec 32 := 7#32
  let v12 : BitVec 1 := Scalar.cmpi .eq arg2 c7_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDhn2RefIdeal.lean ====
abbrev S2048x11264 : Shape := ⟨2, ![2048, 11264]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfDhn3.lean ====
abbrev S2048x11264 : Shape := ⟨2, ![2048, 11264]⟩
abbrev S4x4x2048x2816 : Shape := ⟨4, ![4, 4, 2048, 2816]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_8 : BitVec 32 := 7#32
  let v12 : BitVec 1 := Scalar.cmpi .eq arg2 c7_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDhn3RefIdeal.lean ====
abbrev S2048x11264 : Shape := ⟨2, ![2048, 11264]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfUp0.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S8x128 : Shape := ⟨2, ![8, 128]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S4x4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUp0RefIdeal.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4x3x2048x2816 : Shape := ⟨4, ![4, 3, 2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S_, .f32⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S11264x2048, .f32⟩
  | .hbm, ⟨9, _⟩ => ⟨S2048x11264, .f32⟩
  | .hbm, ⟨10, _⟩ => ⟨S2048x4x2816, .f32⟩
  | .hbm, ⟨11, _⟩ => ⟨S4x2048x2816, .f32⟩
  | .hbm, ⟨12, _⟩ => ⟨S4x1x2048x2816, .f32⟩
  | .hbm, ⟨13, _⟩ => ⟨S4x3x2048x2816, .f32⟩
  | .hbm, ⟨14, _⟩ => ⟨S4x4x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfUp1.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S8x128 : Shape := ⟨2, ![8, 128]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S4x4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUp1RefIdeal.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4x2x2048x2816 : Shape := ⟨4, ![4, 2, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S_, .f32⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S11264x2048, .f32⟩
  | .hbm, ⟨9, _⟩ => ⟨S2048x11264, .f32⟩
  | .hbm, ⟨10, _⟩ => ⟨S2048x4x2816, .f32⟩
  | .hbm, ⟨11, _⟩ => ⟨S4x2048x2816, .f32⟩
  | .hbm, ⟨12, _⟩ => ⟨S4x1x2048x2816, .f32⟩
  | .hbm, ⟨13, _⟩ => ⟨S4x1x2048x2816, .f32⟩
  | .hbm, ⟨14, _⟩ => ⟨S4x2x2048x2816, .f32⟩
  | .hbm, ⟨15, _⟩ => ⟨S4x4x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== FfUp2.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S8x128 : Shape := ⟨2, ![8, 128]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S4x4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUp2RefIdeal.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x2x2048x2816 : Shape := ⟨4, ![4, 2, 2048, 2816]⟩
abbrev S4x1x2048x2816 : Shape := ⟨4, ![4, 1, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x4x2048x2816, .f32⟩
  | .hbm, ⟨3, _⟩ => ⟨S_, .f32⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S11264x2048, .f32⟩
  | .hbm, ⟨9, _⟩ => ⟨S2048x11264, .f32⟩
  | .hbm, ⟨10, _⟩ => ⟨S2048x4x2816, .f32⟩
  | .hbm, ⟨11, _⟩ => ⟨S4x2048x2816, .f32⟩
  | .hbm, ⟨12, _⟩ => ⟨S4x2x2048x2816, .f32⟩
  | .hbm, ⟨13, _⟩ => ⟨S4x1x2048x2816, .f32⟩
  | .hbm, ⟨14, _⟩ => ⟨S4x1x2048x2816, .f32⟩
  | .hbm, ⟨15, _⟩ => ⟨S4x4x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== EvDcat.lean ====
abbrev S2048x2048 : Shape := ⟨2, ![2048, 2048]⟩
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .bf16⟩
  | .hbm, ⟨2, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDcatRefIdeal.lean ====
abbrev S2048x2048 : Shape := ⟨2, ![2048, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvWout.lean ====
abbrev S2048x4096 : Shape := ⟨2, ![2048, 4096]⟩
abbrev S2048x2048 : Shape := ⟨2, ![2048, 2048]⟩
abbrev S2x4096x2048 : Shape := ⟨3, ![2, 4096, 2048]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S2x4096x2048, .f32⟩
  | .hbm, ⟨3, _⟩ => ⟨S2x4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvWoutRefIdeal.lean ====
abbrev S2048x4096 : Shape := ⟨2, ![2048, 4096]⟩
abbrev S2048x2048 : Shape := ⟨2, ![2048, 2048]⟩
abbrev S2x4096x2048 : Shape := ⟨3, ![2, 4096, 2048]⟩
abbrev S_ : Shape := ⟨0, ![]⟩
abbrev S4096x2048 : Shape := ⟨2, ![4096, 2048]⟩
abbrev S1x4096x2048 : Shape := ⟨3, ![1, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S2x4096x2048, .f32⟩
  | .hbm, ⟨3, _⟩ => ⟨S_, .f32⟩
  | .hbm, ⟨4, _⟩ => ⟨S4096x2048, .f32⟩
  | .hbm, ⟨5, _⟩ => ⟨S2048x4096, .f32⟩
  | .hbm, ⟨6, _⟩ => ⟨S2048x2048, .f32⟩
  | .hbm, ⟨7, _⟩ => ⟨S2048x4096, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S2x4096x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== EvDhn.lean ====
abbrev S2048x9216 : Shape := ⟨2, ![2048, 9216]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 9], ![false, false, false]⟩

def k0_cond3 (i : grid0.Coords) : BitVec 1 :=
  let arg2 : BitVec 32 := BitVec.ofNat 32 (i 2).val
  let c8_i32_6 : BitVec 32 := 8#32
  let v11 : BitVec 1 := Scalar.cmpi .eq arg2 c8_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDhnRefIdeal.lean ====
abbrev S2048x9216 : Shape := ⟨2, ![2048, 9216]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S_, .f32⟩
  | .hbm, ⟨3, _⟩ => ⟨S2048x2048, .f32⟩
  | .hbm, ⟨4, _⟩ => ⟨S2048x9216, .f32⟩
  | .hbm, ⟨5, _⟩ => ⟨S2048x9216, .f32⟩
  | .hbm, ⟨6, _⟩ => ⟨S2048x9216, .f32⟩
  | .hbm, ⟨7, _⟩ => ⟨S2048x2048, .f32⟩
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvDhn2.lean ====
abbrev S2048x128 : Shape := ⟨2, ![2048, 128]⟩
abbrev S2048x2048 : Shape := ⟨2, ![2048, 2048]⟩
abbrev S1024x128 : Shape := ⟨2, ![1024, 128]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x2048, .f32⟩
  | .hbm, ⟨3, _⟩ => ⟨S2048x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvDhn2RefIdeal.lean ====
abbrev S2048x128 : Shape := ⟨2, ![2048, 128]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x2048, .f32⟩
  | .hbm, ⟨9, _⟩ => ⟨S2048x2048, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== EvWin.lean ====
abbrev S2048x2048 : Shape := ⟨2, ![2048, 2048]⟩
abbrev S2048x9216 : Shape := ⟨2, ![2048, 9216]⟩
abbrev S2048x1024 : Shape := ⟨2, ![2048, 1024]⟩
abbrev S2048x1536 : Shape := ⟨2, ![2048, 1536]⟩
abbrev S1024x1536 : Shape := ⟨2, ![1024, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x9216, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvWinRefIdeal.lean ====
abbrev S2048x2048 : Shape := ⟨2, ![2048, 2048]⟩
abbrev S2048x9216 : Shape := ⟨2, ![2048, 9216]⟩
abbrev S_ : Shape := ⟨0, ![]⟩
abbrev S9216x2048 : Shape := ⟨2, ![9216, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S_, .f32⟩
  | .hbm, ⟨3, _⟩ => ⟨S2048x9216, .f32⟩
  | .hbm, ⟨4, _⟩ => ⟨S2048x2048, .f32⟩
  | .hbm, ⟨5, _⟩ => ⟨S2048x9216, .f32⟩
  | .hbm, ⟨6, _⟩ => ⟨S2048x9216, .f32⟩
  | .hbm, ⟨7, _⟩ => ⟨S9216x2048, .f32⟩
  | .hbm, ⟨8, _⟩ => ⟨S2048x9216, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvWdt.lean ====
abbrev S2048x2048 : Shape := ⟨2, ![2048, 2048]⟩
abbrev S2048x128 : Shape := ⟨2, ![2048, 128]⟩
abbrev S2048x1024 : Shape := ⟨2, ![2048, 1024]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvWdtRefIdeal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDo.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDoRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdWo.lean ====
abbrev S2048x2048 : Shape := ⟨2, ![2048, 2048]⟩
abbrev S2x2048x2048 : Shape := ⟨3, ![2, 2048, 2048]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2x2048x2048, .f32⟩
  | .hbm, ⟨3, _⟩ => ⟨S2x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdWoRefIdeal.lean ====
abbrev S2048x2048 : Shape := ⟨2, ![2048, 2048]⟩
abbrev S2x2048x2048 : Shape := ⟨3, ![2, 2048, 2048]⟩
abbrev S_ : Shape := ⟨0, ![]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2x2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .f32⟩
  | .hbm, ⟨11, _⟩ => ⟨S2x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OdDcq.lean ====
abbrev S2048x4096 : Shape := ⟨2, ![2048, 4096]⟩
abbrev S512x4096 : Shape := ⟨2, ![512, 4096]⟩
abbrev S2048x512 : Shape := ⟨2, ![2048, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDcqRefIdeal.lean ====
abbrev S2048x4096 : Shape := ⟨2, ![2048, 4096]⟩
abbrev S512x4096 : Shape := ⟨2, ![512, 4096]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S_, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x4096, .f32⟩
  | .hbm, ⟨7, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdWuq.lean ====
abbrev S2048x512 : Shape := ⟨2, ![2048, 512]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S512x4096, .f32⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdWuqRefIdeal.lean ====
abbrev S2048x512 : Shape := ⟨2, ![2048, 512]⟩
abbrev S2048x4096 : Shape := ⟨2, ![2048, 4096]⟩
abbrev S_ : Shape := ⟨0, ![]⟩
abbrev S512x4096 : Shape := ⟨2, ![512, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S_, .f32⟩
  | .hbm, ⟨3, _⟩ => ⟨S512x4096, .f32⟩
  | .hbm, ⟨4, _⟩ => ⟨S2048x512, .f32⟩
  | .hbm, ⟨5, _⟩ => ⟨S2048x4096, .f32⟩
  | .hbm, ⟨6, _⟩ => ⟨S2048x4096, .f32⟩
  | .hbm, ⟨7, _⟩ => ⟨S4096x512, .f32⟩
  | .hbm, ⟨8, _⟩ => ⟨S512x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDckv.lean ====
abbrev S2048x4096 : Shape := ⟨2, ![2048, 4096]⟩
abbrev S512x4096 : Shape := ⟨2, ![512, 4096]⟩
abbrev S2048x512 : Shape := ⟨2, ![2048, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S512x4096, .bf16⟩
  | .hbm, ⟨2, _⟩ => ⟨S2048x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDckvRefIdeal.lean ====
abbrev S2048x4096 : Shape := ⟨2, ![2048, 4096]⟩
abbrev S512x4096 : Shape := ⟨2, ![512, 4096]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S512x4096, .bf16⟩
  | .hbm, ⟨2, _⟩ => ⟨S_, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdWukv.lean ====
abbrev S2048x512 : Shape := ⟨2, ![2048, 512]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x4096, .f32⟩
  | .hbm, ⟨2, _⟩ => ⟨S512x4096, .f32⟩
  | .local _ .vmem, ⟨0, _⟩ => ⟨S2048x512, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdWukvRefIdeal.lean ====
abbrev S2048x512 : Shape := ⟨2, ![2048, 512]⟩
abbrev S2048x4096 : Shape := ⟨2, ![2048, 4096]⟩
abbrev S_ : Shape := ⟨0, ![]⟩
abbrev S512x4096 : Shape := ⟨2, ![512, 4096]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x4096, .f32⟩
  | .hbm, ⟨2, _⟩ => ⟨S_, .f32⟩
  | .hbm, ⟨3, _⟩ => ⟨S512x4096, .f32⟩
  | .hbm, ⟨4, _⟩ => ⟨S2048x512, .f32⟩
  | .hbm, ⟨5, _⟩ => ⟨S2048x4096, .f32⟩
  | .hbm, ⟨6, _⟩ => ⟨S4096x512, .f32⟩
  | .hbm, ⟨7, _⟩ => ⟨S512x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdDhn.lean ====
abbrev S2048x1152 : Shape := ⟨2, ![2048, 1152]⟩
abbrev S2048x2048 : Shape := ⟨2, ![2048, 2048]⟩
abbrev S1024x1152 : Shape := ⟨2, ![1024, 1152]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x1152, .bf16⟩
  | .hbm, ⟨1, _⟩ => ⟨S2048x1152, .bf16⟩
  | .hbm, ⟨2, _⟩ => ⟨S2048x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDhnRefIdeal.lean ====
abbrev S2048x1152 : Shape := ⟨2, ![2048, 1152]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1152, .bf16⟩
  | .hbm, ⟨1, _⟩ => ⟨S2048x1152, .bf16⟩
  | .hbm, ⟨2, _⟩ => ⟨S_, .f32⟩
  | .hbm, ⟨3, _⟩ => ⟨S2048x2048, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x2048, .f32⟩
  | _, _ => ⟨S2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdWin.lean ====
abbrev S2048x2048 : Shape := ⟨2, ![2048, 2048]⟩
abbrev S2048x1152 : Shape := ⟨2, ![2048, 1152]⟩
abbrev S2048x1024 : Shape := ⟨2, ![2048, 1024]⟩
abbrev S1024x1152 : Shape := ⟨2, ![1024, 1152]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x1152, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdWinRefIdeal.lean ====
abbrev S2048x2048 : Shape := ⟨2, ![2048, 2048]⟩
abbrev S2048x1152 : Shape := ⟨2, ![2048, 1152]⟩
abbrev S_ : Shape := ⟨0, ![]⟩
abbrev S1152x2048 : Shape := ⟨2, ![1152, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S_, .f32⟩
  | .hbm, ⟨3, _⟩ => ⟨S2048x1152, .f32⟩
  | .hbm, ⟨4, _⟩ => ⟨S2048x2048, .f32⟩
  | .hbm, ⟨5, _⟩ => ⟨S2048x1152, .f32⟩
  | .hbm, ⟨6, _⟩ => ⟨S2048x1152, .f32⟩
  | .hbm, ⟨7, _⟩ => ⟨S1152x2048, .f32⟩
  | .hbm, ⟨8, _⟩ => ⟨S2048x1152, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FwUp0.lean ====
abbrev S2048x2048 : Shape := ⟨2, ![2048, 2048]⟩
abbrev S4x4x2048x2816 : Shape := ⟨4, ![4, 4, 2048, 2816]⟩
abbrev S2048x11264 : Shape := ⟨2, ![2048, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUp0RefIdeal.lean ====
abbrev S2048x2048 : Shape := ⟨2, ![2048, 2048]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S2048x2048, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FwUp1.lean ====
abbrev S2048x2048 : Shape := ⟨2, ![2048, 2048]⟩
abbrev S4x4x2048x2816 : Shape := ⟨4, ![4, 4, 2048, 2816]⟩
abbrev S2048x11264 : Shape := ⟨2, ![2048, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUp1RefIdeal.lean ====
abbrev S2048x2048 : Shape := ⟨2, ![2048, 2048]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S2048x2048, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FwUp2.lean ====
abbrev S2048x2048 : Shape := ⟨2, ![2048, 2048]⟩
abbrev S4x4x2048x2816 : Shape := ⟨4, ![4, 4, 2048, 2816]⟩
abbrev S2048x11264 : Shape := ⟨2, ![2048, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUp2RefIdeal.lean ====
abbrev S2048x2048 : Shape := ⟨2, ![2048, 2048]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S2048x2048, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FwUp3.lean ====
abbrev S2048x2048 : Shape := ⟨2, ![2048, 2048]⟩
abbrev S4x4x2048x2816 : Shape := ⟨4, ![4, 4, 2048, 2816]⟩
abbrev S2048x11264 : Shape := ⟨2, ![2048, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUp3RefIdeal.lean ====
abbrev S2048x2048 : Shape := ⟨2, ![2048, 2048]⟩
abbrev S4x4x2048x2816 : Shape := ⟨4, ![4, 4, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x2048x2816, .bf16⟩
  | .hbm, ⟨2, _⟩ => ⟨S4x1x2048x2816, .bf16⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S2048x2048, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FwDown.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvIn.lean ====
abbrev S2048x2048 : Shape := ⟨2, ![2048, 2048]⟩
abbrev S2048x9216 : Shape := ⟨2, ![2048, 9216]⟩
abbrev S1024x2048 : Shape := ⟨2, ![1024, 2048]⟩
abbrev S2048x1536 : Shape := ⟨2, ![2048, 1536]⟩
abbrev S1024x1536 : Shape := ⟨2, ![1024, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S2048x2048 : Shape := ⟨2, ![2048, 2048]⟩
abbrev S2048x9216 : Shape := ⟨2, ![2048, 9216]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x2048, .f32⟩
  | .hbm, ⟨3, _⟩ => ⟨S2048x9216, .f32⟩
  | .hbm, ⟨4, _⟩ => ⟨S2048x9216, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvInDt.lean ====
abbrev S2048x2048 : Shape := ⟨2, ![2048, 2048]⟩
abbrev S2048x128 : Shape := ⟨2, ![2048, 128]⟩
abbrev S1024x2048 : Shape := ⟨2, ![1024, 2048]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDtRefIdeal.lean ====
abbrev S2048x2048 : Shape := ⟨2, ![2048, 2048]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x2048, .f32⟩
  | .hbm, ⟨3, _⟩ => ⟨S2048x128, .f32⟩
  | .hbm, ⟨4, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvOut.lean ====
abbrev S2048x4096 : Shape := ⟨2, ![2048, 4096]⟩
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvOutRefIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdIn.lean ====
abbrev S2048x2048 : Shape := ⟨2, ![2048, 2048]⟩
abbrev S2048x1152 : Shape := ⟨2, ![2048, 1152]⟩
abbrev S1024x2048 : Shape := ⟨2, ![1024, 2048]⟩
abbrev S1024x1152 : Shape := ⟨2, ![1024, 1152]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInRefIdeal.lean ====
abbrev S2048x2048 : Shape := ⟨2, ![2048, 2048]⟩
abbrev S2048x1152 : Shape := ⟨2, ![2048, 1152]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x2048, .f32⟩
  | .hbm, ⟨3, _⟩ => ⟨S2048x1152, .f32⟩
  | .hbm, ⟨4, _⟩ => ⟨S2048x1152, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdUq.lean ====
abbrev S2048x512 : Shape := ⟨2, ![2048, 512]⟩
abbrev S512x4096 : Shape := ⟨2, ![512, 4096]⟩
abbrev S2048x4096 : Shape := ⟨2, ![2048, 4096]⟩
abbrev S1024x512 : Shape := ⟨2, ![1024, 512]⟩
abbrev S512x1024 : Shape := ⟨2, ![512, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdUqRefIdeal.lean ====
abbrev S2048x512 : Shape := ⟨2, ![2048, 512]⟩
abbrev S512x4096 : Shape := ⟨2, ![512, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x512, .f32⟩
  | .hbm, ⟨3, _⟩ => ⟨S512x4096, .f32⟩
  | .hbm, ⟨4, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdUkv.lean ====
abbrev S2048x512 : Shape := ⟨2, ![2048, 512]⟩
abbrev S512x4096 : Shape := ⟨2, ![512, 4096]⟩
abbrev S2048x4096 : Shape := ⟨2, ![2048, 4096]⟩
abbrev S1024x512 : Shape := ⟨2, ![1024, 512]⟩
abbrev S512x1024 : Shape := ⟨2, ![512, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdUkvRefIdeal.lean ====
abbrev S2048x512 : Shape := ⟨2, ![2048, 512]⟩
abbrev S512x4096 : Shape := ⟨2, ![512, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x512, .f32⟩
  | .hbm, ⟨3, _⟩ => ⟨S512x4096, .f32⟩
  | .hbm, ⟨4, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdO.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OdORefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfDowns.lean ====
abbrev S2048x5632 : Shape := ⟨2, ![2048, 5632]⟩
abbrev S2048x2048 : Shape := ⟨2, ![2048, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 12
  | .vmem => 28
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x5632, .bf16⟩
  | .hbm, ⟨3, _⟩ => ⟨S2048x2048, .f32⟩
  | .hbm, ⟨4, _⟩ => ⟨S2048x5632, .bf16⟩
  | .hbm, ⟨5, _⟩ => ⟨S2048x2048, .f32⟩
  | .hbm, ⟨6, _⟩ => ⟨S2048x5632, .bf16⟩
  | .hbm, ⟨7, _⟩ => ⟨S2048x2048, .f32⟩
  | .hbm, ⟨8, _⟩ => ⟨S4x5632x2048, .f32⟩
  | .hbm, ⟨9, _⟩ => ⟨S4x5632x2048, .f32⟩
  | .hbm, ⟨10, _⟩ => ⟨S4x5632x2048, .f32⟩
  | .hbm, ⟨11, _⟩ => ⟨S4x5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S8x128, .f32⟩
  | .local _ .vmem, ⟨7, _⟩ => ⟨S2048x512, .bf16⟩
  | .local _ .vmem, ⟨8, _⟩ => ⟨S2048x512, .bf16⟩
  | .local _ .vmem, ⟨9, _⟩ => ⟨S2048x1024, .f32⟩
  | .local _ .vmem, ⟨10, _⟩ => ⟨S2048x1024, .f32⟩
  | .local _ .vmem, ⟨11, _⟩ => ⟨S1x512x1024, .f32⟩
  | .local _ .vmem, ⟨12, _⟩ => ⟨S1x512x1024, .f32⟩
  | .local _ .vmem, ⟨13, _⟩ => ⟨S8x128, .f32⟩
  | .local _ .vmem, ⟨14, _⟩ => ⟨S2048x512, .bf16⟩
  | .local _ .vmem, ⟨15, _⟩ => ⟨S2048x512, .bf16⟩
  | .local _ .vmem, ⟨16, _⟩ => ⟨S2048x1024, .f32⟩
  | .local _ .vmem, ⟨17, _⟩ => ⟨S2048x1024, .f32⟩
  | .local _ .vmem, ⟨18, _⟩ => ⟨S1x512x1024, .f32⟩
  | .local _ .vmem, ⟨19, _⟩ => ⟨S1x512x1024, .f32⟩
  | .local _ .vmem, ⟨20, _⟩ => ⟨S8x128, .f32⟩
  | .local _ .vmem, ⟨21, _⟩ => ⟨S2048x512, .bf16⟩
  | .local _ .vmem, ⟨22, _⟩ => ⟨S2048x512, .bf16⟩
  | .local _ .vmem, ⟨23, _⟩ => ⟨S2048x1024, .f32⟩
  | .local _ .vmem, ⟨24, _⟩ => ⟨S2048x1024, .f32⟩
  | .local _ .vmem, ⟨25, _⟩ => ⟨S1x512x1024, .f32⟩
  | .local _ .vmem, ⟨26, _⟩ => ⟨S1x512x1024, .f32⟩
  | .local _ .vmem, ⟨27, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![11, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfDownsRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S1x5632x2048 : Shape := ⟨3, ![1, 5632, 2048]⟩
abbrev S4x5632x2048 : Shape := ⟨3, ![4, 5632, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x5632, .bf16⟩
  | .hbm, ⟨3, _⟩ => ⟨S2048x2048, .f32⟩
  | .hbm, ⟨4, _⟩ => ⟨S2048x5632, .bf16⟩
  | .hbm, ⟨5, _⟩ => ⟨S2048x2048, .f32⟩
  | .hbm, ⟨6, _⟩ => ⟨S2048x5632, .bf16⟩
  | .hbm, ⟨7, _⟩ => ⟨S2048x2048, .f32⟩
  | .hbm, ⟨8, _⟩ => ⟨S_, .f32⟩
  | .hbm, ⟨9, _⟩ => ⟨S5632x2048, .f32⟩
  | .hbm, ⟨10, _⟩ => ⟨S2048x5632, .f32⟩
  | .hbm, ⟨11, _⟩ => ⟨S2048x2048, .f32⟩
  | .hbm, ⟨12, _⟩ => ⟨S2048x5632, .f32⟩
  | .hbm, ⟨13, _⟩ => ⟨S5632x2048, .f32⟩
  | .hbm, ⟨14, _⟩ => ⟨S_, .f32⟩
  | .hbm, ⟨15, _⟩ => ⟨S5632x2048, .f32⟩
  | .hbm, ⟨16, _⟩ => ⟨S2048x5632, .f32⟩
  | .hbm, ⟨17, _⟩ => ⟨S2048x2048, .f32⟩
  | .hbm, ⟨18, _⟩ => ⟨S2048x5632, .f32⟩
  | .hbm, ⟨19, _⟩ => ⟨S5632x2048, .f32⟩
  | .hbm, ⟨20, _⟩ => ⟨S_, .f32⟩
  | .hbm, ⟨21, _⟩ => ⟨S5632x2048, .f32⟩
  | .hbm, ⟨22, _⟩ => ⟨S2048x5632, .f32⟩
  | .hbm, ⟨23, _⟩ => ⟨S2048x2048, .f32⟩
  | .hbm, ⟨24, _⟩ => ⟨S2048x5632, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S2048x5632, .f32⟩
  | .hbm, ⟨29, _⟩ => ⟨S2048x2048, .f32⟩
  | .hbm, ⟨30, _⟩ => ⟨S2048x5632, .f32⟩
  | .hbm, ⟨31, _⟩ => ⟨S5632x2048, .f32⟩
  | .hbm, ⟨32, _⟩ => ⟨S1x5632x2048, .f32⟩
  | .hbm, ⟨33, _⟩ => ⟨S1x5632x2048, .f32⟩
  | .hbm, ⟨34, _⟩ => ⟨S1x5632x2048, .f32⟩
  | .hbm, ⟨35, _⟩ => ⟨S1x5632x2048, .f32⟩
  | .hbm, ⟨36, _⟩ => ⟨S4x5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== FfUps.lean ====
abbrev S2048x2048 : Shape := ⟨2, ![2048, 2048]⟩
abbrev S2048x11264 : Shape := ⟨2, ![2048, 11264]⟩
abbrev S4x4x2048x2816 : Shape := ⟨4, ![4, 4, 2048, 2816]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S8x128 : Shape := ⟨2, ![8, 128]⟩
abbrev S1024x1408 : Shape := ⟨2, ![1024, 1408]⟩

abbrev nBuf : Space → Nat
  | .hbm => 12
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .bf16⟩
  | .hbm, ⟨3, _⟩ => ⟨S2048x11264, .bf16⟩
  | .hbm, ⟨4, _⟩ => ⟨S2048x2048, .bf16⟩
  | .hbm, ⟨5, _⟩ => ⟨S2048x11264, .bf16⟩
  | .hbm, ⟨6, _⟩ => ⟨S2048x2048, .bf16⟩
  | .hbm, ⟨7, _⟩ => ⟨S2048x11264, .bf16⟩
  | .hbm, ⟨8, _⟩ => ⟨S4x4x2048x2816, .f32⟩
  | .hbm, ⟨9, _⟩ => ⟨S4x4x2048x2816, .f32⟩
  | .hbm, ⟨10, _⟩ => ⟨S4x4x2048x2816, .f32⟩
  | .hbm, ⟨11, _⟩ => ⟨S4x4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S8x128, .f32⟩
  | .local _ .vmem, ⟨7, _⟩ => ⟨S2048x1024, .bf16⟩
  | .local _ .vmem, ⟨8, _⟩ => ⟨S2048x1024, .bf16⟩
  | .local _ .vmem, ⟨9, _⟩ => ⟨S2048x1408, .bf16⟩
  | .local _ .vmem, ⟨10, _⟩ => ⟨S2048x1408, .bf16⟩
  | .local _ .vmem, ⟨11, _⟩ => ⟨S1x1x1024x1408, .f32⟩
  | .local _ .vmem, ⟨12, _⟩ => ⟨S1x1x1024x1408, .f32⟩
  | .local _ .vmem, ⟨13, _⟩ => ⟨S8x128, .f32⟩
  | .local _ .vmem, ⟨14, _⟩ => ⟨S2048x1024, .bf16⟩
  | .local _ .vmem, ⟨15, _⟩ => ⟨S2048x1024, .bf16⟩
  | .local _ .vmem, ⟨16, _⟩ => ⟨S2048x1408, .bf16⟩
  | .local _ .vmem, ⟨17, _⟩ => ⟨S2048x1408, .bf16⟩
  | .local _ .vmem, ⟨18, _⟩ => ⟨S1x1x1024x1408, .f32⟩
  | .local _ .vmem, ⟨19, _⟩ => ⟨S1x1x1024x1408, .f32⟩
  | .local _ .vmem, ⟨20, _⟩ => ⟨S8x128, .f32⟩
  | .local _ .vmem, ⟨21, _⟩ => ⟨S2048x1024, .bf16⟩
  | .local _ .vmem, ⟨22, _⟩ => ⟨S2048x1024, .bf16⟩
  | .local _ .vmem, ⟨23, _⟩ => ⟨S2048x1408, .bf16⟩
  | .local _ .vmem, ⟨24, _⟩ => ⟨S2048x1408, .bf16⟩
  | .local _ .vmem, ⟨25, _⟩ => ⟨S1x1x1024x1408, .f32⟩
  | .local _ .vmem, ⟨26, _⟩ => ⟨S1x1x1024x1408, .f32⟩
  | .local _ .vmem, ⟨27, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg0.toNat, v26.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1x1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfUpsRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4x4x2048x2816 : Shape := ⟨4, ![4, 4, 2048, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .bf16⟩
  | .hbm, ⟨3, _⟩ => ⟨S2048x11264, .bf16⟩
  | .hbm, ⟨4, _⟩ => ⟨S2048x2048, .bf16⟩
  | .hbm, ⟨5, _⟩ => ⟨S2048x11264, .bf16⟩
  | .hbm, ⟨6, _⟩ => ⟨S2048x2048, .bf16⟩
  | .hbm, ⟨7, _⟩ => ⟨S2048x11264, .bf16⟩
  | .hbm, ⟨8, _⟩ => ⟨S_, .f32⟩
  | .hbm, ⟨9, _⟩ => ⟨S2048x11264, .f32⟩
  | .hbm, ⟨10, _⟩ => ⟨S2048x2048, .f32⟩
  | .hbm, ⟨11, _⟩ => ⟨S2048x11264, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x4x2816, .f32⟩
  | .hbm, ⟨16, _⟩ => ⟨S4x2048x2816, .f32⟩
  | .hbm, ⟨17, _⟩ => ⟨S_, .f32⟩
  | .hbm, ⟨18, _⟩ => ⟨S2048x11264, .f32⟩
  | .hbm, ⟨19, _⟩ => ⟨S2048x2048, .f32⟩
  | .hbm, ⟨20, _⟩ => ⟨S2048x11264, .f32⟩
  | .hbm, ⟨21, _⟩ => ⟨S2048x11264, .f32⟩
  | .hbm, ⟨22, _⟩ => ⟨S11264x2048, .f32⟩
  | .hbm, ⟨23, _⟩ => ⟨S2048x11264, .f32⟩
  | .hbm, ⟨24, _⟩ => ⟨S2048x4x2816, .f32⟩
  | .hbm, ⟨25, _⟩ => ⟨S4x2048x2816, .f32⟩
  | .hbm, ⟨26, _⟩ => ⟨S_, .f32⟩
  | .hbm, ⟨27, _⟩ => ⟨S2048x11264, .f32⟩
  | .hbm, ⟨28, _⟩ => ⟨S2048x2048, .f32⟩
  | .hbm, ⟨29, _⟩ => ⟨S2048x11264, .f32⟩
  | .hbm, ⟨30, _⟩ => ⟨S2048x11264, .f32⟩
  | .hbm, ⟨31, _⟩ => ⟨S11264x2048, .f32⟩
  | .hbm, ⟨32, _⟩ => ⟨S2048x11264, .f32⟩
  | .hbm, ⟨33, _⟩ => ⟨S2048x4x2816, .f32⟩
  | .hbm, ⟨34, _⟩ => ⟨S4x2048x2816, .f32⟩
  | .hbm, ⟨35, _⟩ => ⟨S_, .f32⟩
  | .hbm, ⟨36, _⟩ => ⟨S2048x11264, .f32⟩
  | .hbm, ⟨37, _⟩ => ⟨S2048x2048, .f32⟩
  | .hbm, ⟨38, _⟩ => ⟨S2048x11264, .f32⟩
  | .hbm, ⟨39, _⟩ => ⟨S2048x11264, .f32⟩
  | .hbm, ⟨40, _⟩ => ⟨S11264x2048, .f32⟩
  | .hbm, ⟨41, _⟩ => ⟨S2048x11264, .f32⟩
  | .hbm, ⟨42, _⟩ => ⟨S2048x4x2816, .f32⟩
  | .hbm, ⟨43, _⟩ => ⟨S4x2048x2816, .f32⟩
  | .hbm, ⟨44, _⟩ => ⟨S4x1x2048x2816, .f32⟩
  | .hbm, ⟨45, _⟩ => ⟨S4x1x2048x2816, .f32⟩
  | .hbm, ⟨46, _⟩ => ⟨S4x1x2048x2816, .f32⟩
  | .hbm, ⟨47, _⟩ => ⟨S4x1x2048x2816, .f32⟩
  | .hbm, ⟨48, _⟩ => ⟨S4x4x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== EvWouts.lean ====
abbrev S2048x4096 : Shape := ⟨2, ![2048, 4096]⟩
abbrev S2048x2048 : Shape := ⟨2, ![2048, 2048]⟩
abbrev S2x4096x2048 : Shape := ⟨3, ![2, 4096, 2048]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S2048x4096, .bf16⟩
  | .hbm, ⟨3, _⟩ => ⟨S2048x2048, .f32⟩
  | .hbm, ⟨4, _⟩ => ⟨S2x4096x2048, .f32⟩
  | .hbm, ⟨5, _⟩ => ⟨S2x4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .f32⟩
  | .local _ .vmem, ⟨10, _⟩ => ⟨S2048x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== EvWoutsRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩
abbrev S1x4096x2048 : Shape := ⟨3, ![1, 4096, 2048]⟩
abbrev S2x4096x2048 : Shape := ⟨3, ![2, 4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S2048x4096, .bf16⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S2048x4096, .f32⟩
  | .hbm, ⟨7, _⟩ => ⟨S2048x2048, .f32⟩
  | .hbm, ⟨8, _⟩ => ⟨S2048x4096, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S2048x4096, .f32⟩
  | .hbm, ⟨13, _⟩ => ⟨S2048x2048, .f32⟩
  | .hbm, ⟨14, _⟩ => ⟨S2048x4096, .f32⟩
  | .hbm, ⟨15, _⟩ => ⟨S4096x2048, .f32⟩
  | .hbm, ⟨16, _⟩ => ⟨S1x4096x2048, .f32⟩
  | .hbm, ⟨17, _⟩ => ⟨S1x4096x2048, .f32⟩
  | .hbm, ⟨18, _⟩ => ⟨S2x4096x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== OdWos.lean ====
abbrev S2048x2048 : Shape := ⟨2, ![2048, 2048]⟩
abbrev S2x2048x2048 : Shape := ⟨3, ![2, 2048, 2048]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2x2048x2048, .f32⟩
  | .hbm, ⟨5, _⟩ => ⟨S2x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .f32⟩
  | .local _ .vmem, ⟨10, _⟩ => ⟨S2048x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== OdWosRefIdeal.lean ====
abbrev S2048x2048 : Shape := ⟨2, ![2048, 2048]⟩
abbrev S_ : Shape := ⟨0, ![]⟩
abbrev S1x2048x2048 : Shape := ⟨3, ![1, 2048, 2048]⟩
abbrev S2x2048x2048 : Shape := ⟨3, ![2, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S1x2048x2048, .f32⟩
  | .hbm, ⟨17, _⟩ => ⟨S1x2048x2048, .f32⟩
  | .hbm, ⟨18, _⟩ => ⟨S2x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== At0.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S2048x128 : Shape := ⟨2, ![2048, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S256x128 : Shape := ⟨2, ![256, 128]⟩
abbrev S512x128 : Shape := ⟨2, ![512, 128]⟩
abbrev S512x256 : Shape := ⟨2, ![512, 256]⟩
abbrev S256x256 : Shape := ⟨2, ![256, 256]⟩
abbrev S256x512 : Shape := ⟨2, ![256, 512]⟩
abbrev S256 : Shape := ⟨1, ![256]⟩
abbrev S256x1 : Shape := ⟨2, ![256, 1]⟩

abbrev nBuf : Space → Nat
  | .hbm => 38
  | .vmem => 25
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1152, .f32⟩
  | .hbm, ⟨3, _⟩ => ⟨S2048, .i32⟩
  | .hbm, ⟨4, _⟩ => ⟨S2048x2048, .f32⟩
  | .hbm, ⟨5, _⟩ => ⟨S2048x4096, .bf16⟩
  | .hbm, ⟨6, _⟩ => ⟨S2048x4096, .f32⟩
  | .hbm, ⟨7, _⟩ => ⟨S2048x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S_, .f32⟩
  | .hbm, ⟨31, _⟩ => ⟨S2048x64, .f32⟩
  | .hbm, ⟨32, _⟩ => ⟨S2048x128, .f32⟩
  | .hbm, ⟨33, _⟩ => ⟨S2048x32, .f32⟩
  | .hbm, ⟨34, _⟩ => ⟨S2048x128, .f32⟩
  | .hbm, ⟨35, _⟩ => ⟨S2048x4096, .bf16⟩
  | .hbm, ⟨36, _⟩ => ⟨S2048x4096, .f32⟩
  | .hbm, ⟨37, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S256x128, .f32⟩
  | .local _ .vmem, ⟨16, _⟩ => ⟨S256x128, .f32⟩
  | .local _ .vmem, ⟨17, _⟩ => ⟨S512x256, .f32⟩
  | .local _ .vmem, ⟨18, _⟩ => ⟨S512x256, .f32⟩
  | .local _ .vmem, ⟨19, _⟩ => ⟨S512x128, .f32⟩
  | .local _ .vmem, ⟨20, _⟩ => ⟨S256x256, .bf16⟩
  | .local _ .vmem, ⟨21, _⟩ => ⟨S256x256, .bf16⟩
  | .local _ .vmem, ⟨22, _⟩ => ⟨S512x256, .f32⟩
  | .local _ .vmem, ⟨23, _⟩ => ⟨S512x256, .f32⟩
  | .local _ .vmem, ⟨24, _⟩ => ⟨S512x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.muli c2_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.muli c2_i32 arg0
  let c1_i32 : BitVec 32 := 1#32
  let v2 : BitVec 32 := Scalar.addi v1 c1_i32
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== At0RefIdeal.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S2048x128 : Shape := ⟨2, ![2048, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x32 : Shape := ⟨2, ![512, 32]⟩
abbrev S512x1x32 : Shape := ⟨3, ![512, 1, 32]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x4096 : Shape := ⟨2, ![512, 4096]⟩
abbrev S512x16x256 : Shape := ⟨3, ![512, 16, 256]⟩
abbrev S512x16x64 : Shape := ⟨3, ![512, 16, 64]⟩
abbrev S512x16x32 : Shape := ⟨3, ![512, 16, 32]⟩
abbrev S512x64 : Shape := ⟨2, ![512, 64]⟩
abbrev S512x16x128 : Shape := ⟨3, ![512, 16, 128]⟩
abbrev S16x512x512 : Shape := ⟨3, ![16, 512, 512]⟩
abbrev S512x512x16 : Shape := ⟨3, ![512, 512, 16]⟩
abbrev S1x512x512 : Shape := ⟨3, ![1, 512, 512]⟩
abbrev S16x512 : Shape := ⟨2, ![16, 512]⟩
abbrev S16x512x1 : Shape := ⟨3, ![16, 512, 1]⟩
abbrev S16x128x512 : Shape := ⟨3, ![16, 128, 512]⟩
abbrev S512x2048 : Shape := ⟨2, ![512, 2048]⟩
abbrev S16x512x128 : Shape := ⟨3, ![16, 512, 128]⟩
abbrev S512x128 : Shape := ⟨2, ![512, 128]⟩
abbrev S1536x4096 : Shape := ⟨2, ![1536, 4096]⟩
abbrev S1536x128 : Shape := ⟨2, ![1536, 128]⟩

abbrev nBuf : Space → Nat
  | .hbm => 248
  | .vmem => 0
  | .smem => 0
  | _ => 0

abbrev hbmTy0_0 (i : Nat) : BufTy := match i % 128 with
  | 0 => ⟨S2048x4096, .f32⟩
  | 1 => ⟨S2048x4096, .f32⟩
  | 2 => ⟨S2048x1152, .f32⟩
  | 3 => ⟨S2048, .i32⟩
  | 4 => ⟨S2048x2048, .f32⟩
  | 5 => ⟨S2048x4096, .bf16⟩
  | 6 => ⟨S2048x4096, .f32⟩
  | 7 => ⟨S2048x128, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S512x32, .f32⟩
  | 31 => ⟨S512x1x32, .f32⟩
  | 32 => ⟨S512x32, .f32⟩
  | 33 => ⟨S512x1x32, .f32⟩
  | 34 => ⟨S512x32, .f32⟩
  | 35 => ⟨S512x32, .f32⟩
  | 36 => ⟨S512, .i32⟩
  | 37 => ⟨S1x512, .i32⟩
  | 38 => ⟨S_, .i32⟩
  | 39 => ⟨S_, .i32⟩
  | 40 => ⟨S1x512, .i32⟩
  | 41 => ⟨S1x512, .i32⟩
  | 42 => ⟨S1x512, .i32⟩
  | 43 => ⟨S_, .i32⟩
  | 44 => ⟨S1x512, .i32⟩
  | 45 => ⟨S1x512, .i1⟩
  | 46 => ⟨S1x512, .i32⟩
  | 47 => ⟨S1x512, .i32⟩
  | 48 => ⟨S_, .i32⟩
  | 49 => ⟨S1x512, .i32⟩
  | 50 => ⟨S1x512, .i1⟩
  | 51 => ⟨S1x512, .i1⟩
  | 52 => ⟨S_, .i32⟩
  | 53 => ⟨S1x512, .i32⟩
  | 54 => ⟨S1x512, .i32⟩
  | 55 => ⟨S1x512, .i32⟩
  | 56 => ⟨S512, .i32⟩
  | 57 => ⟨S_, .i32⟩
  | 58 => ⟨S512, .i32⟩
  | 59 => ⟨S512, .i32⟩
  | 60 => ⟨S512x1, .i32⟩
  | 61 => ⟨S_, .i32⟩
  | 62 => ⟨S_, .i32⟩
  | 63 => ⟨S512x1, .i32⟩
  | 64 => ⟨S512x1, .i32⟩
  | 65 => ⟨S512x1, .i32⟩
  | 66 => ⟨S_, .i32⟩
  | 67 => ⟨S512x1, .i32⟩
  | 68 => ⟨S512x1, .i1⟩
  | 69 => ⟨S512x1, .i32⟩
  | 70 => ⟨S512x1, .i32⟩
  | 71 => ⟨S_, .i32⟩
  | 72 => ⟨S512x1, .i32⟩
  | 73 => ⟨S512x1, .i1⟩
  | 74 => ⟨S512x1, .i1⟩
  | 75 => ⟨S_, .i32⟩
  | 76 => ⟨S512x1, .i32⟩
  | 77 => ⟨S512x1, .i32⟩
  | 78 => ⟨S512x1, .i32⟩
  | 79 => ⟨S512x512, .i32⟩
  | 80 => ⟨S512x512, .i32⟩
  | 81 => ⟨S512x512, .i1⟩
  | 82 => ⟨S512x4096, .f32⟩
  | 83 => ⟨S512x16x256, .f32⟩
  | 84 => ⟨S512x4096, .f32⟩
  | 85 => ⟨S512x16x256, .f32⟩
  | 86 => ⟨S512x16x64, .f32⟩
  | 87 => ⟨S512x16x32, .f32⟩
  | 88 => ⟨S512x16x32, .f32⟩
  | 89 => ⟨S512x16x32, .f32⟩
  | 90 => ⟨S512x16x32, .f32⟩
  | 91 => ⟨S512x16x32, .f32⟩
  | 92 => ⟨S512x16x32, .f32⟩
  | 93 => ⟨S512x16x32, .f32⟩
  | 94 => ⟨S512x16x32, .f32⟩
  | 95 => ⟨S512x16x32, .f32⟩
  | 96 => ⟨S512x16x32, .f32⟩
  | 97 => ⟨S512x16x32, .f32⟩
  | 98 => ⟨S512x16x32, .f32⟩
  | 99 => ⟨S512x16x64, .f32⟩
  | 100 => ⟨S512x64, .f32⟩
  | 101 => ⟨S512x32, .f32⟩
  | 102 => ⟨S512x32, .f32⟩
  | 103 => ⟨S512x32, .f32⟩
  | 104 => ⟨S512x32, .f32⟩
  | 105 => ⟨S512x32, .f32⟩
  | 106 => ⟨S512x32, .f32⟩
  | 107 => ⟨S512x32, .f32⟩
  | 108 => ⟨S512x32, .f32⟩
  | 109 => ⟨S512x64, .f32⟩
  | 110 => ⟨S512x16x128, .f32⟩
  | 111 => ⟨S512x16x128, .f32⟩
  | 112 => ⟨S512x16x128, .f32⟩
  | 113 => ⟨S16x512x512, .f32⟩
  | 114 => ⟨S512x512x16, .f32⟩
  | 115 => ⟨S16x512x512, .f32⟩
  | 116 => ⟨S16x512x512, .f32⟩
  | 117 => ⟨S1x512x512, .i1⟩
  | 118 => ⟨S_, .f32⟩
  | 119 => ⟨S16x512x512, .f32⟩
  | 120 => ⟨S16x512x512, .f32⟩
  | 121 => ⟨S_, .f32⟩
  | 122 => ⟨S_, .f32⟩
  | 123 => ⟨S16x512x512, .i1⟩
  | 124 => ⟨S16x512x512, .f32⟩
  | 125 => ⟨S16x512x512, .f32⟩
  | 126 => ⟨S_, .f32⟩
  | 127 => ⟨S16x512x512, .f32⟩
  | _ => ⟨S2048x4096, .f32⟩

abbrev hbmTy0_1 (i : Nat) : BufTy := match i % 128 with
  | 0 => ⟨S_, .f32⟩
  | 1 => ⟨S16x512, .f32⟩
  | 2 => ⟨S16x512x1, .f32⟩
  | 3 => ⟨S16x512x512, .f32⟩
  | 4 => ⟨S16x512x512, .i1⟩
  | 5 => ⟨S16x512x512, .f32⟩
  | 6 => ⟨S_, .f32⟩
  | 7 => ⟨S16x512, .f32⟩
  | 8 => ⟨S_, .f32⟩
  | 9 => ⟨S16x512, .f32⟩
  | 10 => ⟨S16x512, .f32⟩
  | 11 => ⟨S_, .f32⟩
  | 12 => ⟨S16x512, .f32⟩
  | 13 => ⟨S16x512, .i1⟩
  | 14 => ⟨S_, .f32⟩
  | 15 => ⟨S16x512, .f32⟩
  | 16 => ⟨S16x512, .i1⟩
  | 17 => ⟨S_, .f32⟩
  | 18 => ⟨S16x512, .f32⟩
  | 19 => ⟨S_, .f32⟩
  | 20 => ⟨S16x512, .f32⟩
  | 21 => ⟨S_, .f32⟩
  | 22 => ⟨S16x512, .f32⟩
  | 23 => ⟨S16x512, .f32⟩
  | 24 => ⟨S16x512, .f32⟩
  | 25 => ⟨S16x512x1, .f32⟩
  | 26 => ⟨S16x512x512, .f32⟩
  | 27 => ⟨S16x512x512, .f32⟩
  | 28 => ⟨S16x512x512, .f32⟩
  | 29 => ⟨S_, .f32⟩
  | 30 => ⟨S16x512, .f32⟩
  | 31 => ⟨S16x512x1, .f32⟩
  | 32 => ⟨S16x512x512, .f32⟩
  | 33 => ⟨S16x512x512, .f32⟩
  | 34 => ⟨S16x512x1, .f32⟩
  | 35 => ⟨S_, .f32⟩
  | 36 => ⟨S16x512x1, .f32⟩
  | 37 => ⟨S16x512x1, .f32⟩
  | 38 => ⟨S16x128x512, .f32⟩
  | 39 => ⟨S512x16x128, .f32⟩
  | 40 => ⟨S512x2048, .f32⟩
  | 41 => ⟨S512x16x128, .f32⟩
  | 42 => ⟨S16x128x512, .f32⟩
  | 43 => ⟨S16x512x512, .f32⟩
  | 44 => ⟨S16x128x512, .f32⟩
  | 45 => ⟨S512x16x128, .f32⟩
  | 46 => ⟨S16x512x512, .f32⟩
  | 47 => ⟨S16x512x512, .f32⟩
  | 48 => ⟨S16x512x512, .f32⟩
  | 49 => ⟨S_, .f32⟩
  | 50 => ⟨S16x512, .f32⟩
  | 51 => ⟨S16x512x1, .f32⟩
  | 52 => ⟨S16x512x1, .f32⟩
  | 53 => ⟨S16x512x512, .f32⟩
  | 54 => ⟨S16x512x512, .f32⟩
  | 55 => ⟨S_, .f32⟩
  | 56 => ⟨S16x512, .f32⟩
  | 57 => ⟨S16x512x512, .f32⟩
  | 58 => ⟨S16x512x512, .f32⟩
  | 59 => ⟨S16x512x512, .f32⟩
  | 60 => ⟨S_, .f32⟩
  | 61 => ⟨S16x512x512, .f32⟩
  | 62 => ⟨S16x512x512, .f32⟩
  | 63 => ⟨S_, .f32⟩
  | 64 => ⟨S16x512x512, .f32⟩
  | 65 => ⟨S16x512x512, .f32⟩
  | 66 => ⟨S512x512x16, .f32⟩
  | 67 => ⟨S512x16x64, .f32⟩
  | 68 => ⟨S512x64, .f32⟩
  | 69 => ⟨S16x512x128, .f32⟩
  | 70 => ⟨S512x16x128, .f32⟩
  | 71 => ⟨S16x512x128, .f32⟩
  | 72 => ⟨S512x16x128, .f32⟩
  | 73 => ⟨S_, .f32⟩
  | 74 => ⟨S512x16x32, .f32⟩
  | 75 => ⟨S_, .f32⟩
  | 76 => ⟨S512x32, .f32⟩
  | 77 => ⟨S512x16x32, .f32⟩
  | 78 => ⟨S512x16x32, .f32⟩
  | 79 => ⟨S512x16x32, .f32⟩
  | 80 => ⟨S512x16x32, .f32⟩
  | 81 => ⟨S512x16x32, .f32⟩
  | 82 => ⟨S512x16x32, .f32⟩
  | 83 => ⟨S512x16x32, .f32⟩
  | 84 => ⟨S512x16x32, .f32⟩
  | 85 => ⟨S512x16x32, .f32⟩
  | 86 => ⟨S512x16x32, .f32⟩
  | 87 => ⟨S512x16x32, .f32⟩
  | 88 => ⟨S512x16x32, .f32⟩
  | 89 => ⟨S512x16x64, .f32⟩
  | 90 => ⟨S512x16x32, .f32⟩
  | 91 => ⟨S512x16x32, .f32⟩
  | 92 => ⟨S512x16x32, .f32⟩
  | 93 => ⟨S512x16x256, .f32⟩
  | 94 => ⟨S512x4096, .f32⟩
  | 95 => ⟨S512x16x256, .f32⟩
  | 96 => ⟨S512x4096, .f32⟩
  | 97 => ⟨S512x32, .f32⟩
  | 98 => ⟨S512x32, .f32⟩
  | 99 => ⟨S512x32, .f32⟩
  | 100 => ⟨S512x32, .f32⟩
  | 101 => ⟨S512x32, .f32⟩
  | 102 => ⟨S512x32, .f32⟩
  | 103 => ⟨S512x32, .f32⟩
  | 104 => ⟨S512x32, .f32⟩
  | 105 => ⟨S512x64, .f32⟩
  | 106 => ⟨S512x32, .f32⟩
  | 107 => ⟨S512x32, .f32⟩
  | 108 => ⟨S512x128, .f32⟩
  | 109 => ⟨S512x4096, .bf16⟩
  | 110 => ⟨S1536x4096, .bf16⟩
  | 111 => ⟨S2048x4096, .bf16⟩
  | 112 => ⟨S512x4096, .f32⟩
  | 113 => ⟨S512x4096, .f32⟩
  | 114 => ⟨S1536x4096, .f32⟩
  | 115 => ⟨S2048x4096, .f32⟩
  | 116 => ⟨S512x128, .f32⟩
  | 117 => ⟨S512x128, .f32⟩
  | 118 => ⟨S1536x128, .f32⟩
  | 119 => ⟨S2048x128, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_5 : Ref sig .tc := ⟨.hbm, 118, rfl⟩
abbrev main_v71 : Ref sig .tc := ⟨.hbm, 119, rfl⟩
abbrev main_v72 : Ref sig .tc := ⟨.hbm, 120, rfl⟩
abbrev main_cst_6 : Ref sig .tc := ⟨.hbm, 121, rfl⟩
abbrev main_call2_v0 : Ref sig .tc := ⟨.hbm, 122, rfl⟩
abbrev main_v73_1 : Ref sig .tc := ⟨.hbm, 123, rfl⟩
abbrev main_call2_v2 : Ref sig .tc := ⟨.hbm, 124, rfl⟩
abbrev main_v73_0 : Ref sig .tc := ⟨.hbm, 125, rfl⟩
abbrev main_call2_cst : Ref sig .tc := ⟨.hbm, 126, rfl⟩
abbrev main_v73_2 : Ref sig .tc := ⟨.hbm, 127, rfl⟩
abbrev main_cst_7 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_8 : Ref sig .tc := ⟨.hbm, 134, rfl⟩
abbrev main_v79 : Ref sig .tc := ⟨.hbm, 135, rfl⟩
abbrev main_cst_9 : Ref sig .tc := ⟨.hbm, 136, rfl⟩
abbrev main_v80 : Ref sig .tc := ⟨.hbm, 137, rfl⟩
abbrev main_v81 : Ref sig .tc := ⟨.hbm, 138, rfl⟩
abbrev main_cst_10 : Ref sig .tc := ⟨.hbm, 139, rfl⟩
abbrev main_v82 : Ref sig .tc := ⟨.hbm, 140, rfl⟩
abbrev main_v83 : Ref sig .tc := ⟨.hbm, 141, rfl⟩
abbrev main_cst_11 : Ref sig .tc := ⟨.hbm, 142, rfl⟩
abbrev main_v84 : Ref sig .tc := ⟨.hbm, 143, rfl⟩
abbrev main_v85 : Ref sig .tc := ⟨.hbm, 144, rfl⟩
abbrev main_cst_12 : Ref sig .tc := ⟨.hbm, 145, rfl⟩
abbrev main_v86 : Ref sig .tc := ⟨.hbm, 146, rfl⟩
abbrev main_cst_13 : Ref sig .tc := ⟨.hbm, 147, rfl⟩
abbrev main_v87 : Ref sig .tc := ⟨.hbm, 148, rfl⟩
abbrev main_cst_14 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_15 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_16 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_17 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_18 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call3_cst : Ref sig .tc := ⟨.hbm, 188, rfl⟩
abbrev main_call3_v0 : Ref sig .tc := ⟨.hbm, 189, rfl⟩
abbrev main_v122 : Ref sig .tc := ⟨.hbm, 190, rfl⟩
abbrev main_cst_19 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_20 : Ref sig .tc := ⟨.hbm, 201, rfl⟩
abbrev main_v132 : Ref sig .tc := ⟨.hbm, 202, rfl⟩
abbrev main_cst_21 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩

abbrev nD : Nat := 1
abbrev τ : Topo := Topo.v7x

variable {F : FTy → Type} [FloatOps F]
-- ==== At1.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S2048x128 : Shape := ⟨2, ![2048, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S256x128 : Shape := ⟨2, ![256, 128]⟩
abbrev S1024x128 : Shape := ⟨2, ![1024, 128]⟩
abbrev S1024x256 : Shape := ⟨2, ![1024, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 38
  | .vmem => 25
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1152, .f32⟩
  | .hbm, ⟨3, _⟩ => ⟨S2048, .i32⟩
  | .hbm, ⟨4, _⟩ => ⟨S2048x2048, .f32⟩
  | .hbm, ⟨5, _⟩ => ⟨S2048x4096, .bf16⟩
  | .hbm, ⟨6, _⟩ => ⟨S2048x4096, .f32⟩
  | .hbm, ⟨7, _⟩ => ⟨S2048x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S_, .f32⟩
  | .hbm, ⟨31, _⟩ => ⟨S2048x64, .f32⟩
  | .hbm, ⟨32, _⟩ => ⟨S2048x128, .f32⟩
  | .hbm, ⟨33, _⟩ => ⟨S2048x32, .f32⟩
  | .hbm, ⟨34, _⟩ => ⟨S2048x128, .f32⟩
  | .hbm, ⟨35, _⟩ => ⟨S2048x4096, .bf16⟩
  | .hbm, ⟨36, _⟩ => ⟨S2048x4096, .f32⟩
  | .hbm, ⟨37, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S256x128, .f32⟩
  | .local _ .vmem, ⟨16, _⟩ => ⟨S256x128, .f32⟩
  | .local _ .vmem, ⟨17, _⟩ => ⟨S1024x256, .f32⟩
  | .local _ .vmem, ⟨18, _⟩ => ⟨S1024x256, .f32⟩
  | .local _ .vmem, ⟨19, _⟩ => ⟨S1024x128, .f32⟩
  | .local _ .vmem, ⟨20, _⟩ => ⟨S256x256, .bf16⟩
  | .local _ .vmem, ⟨21, _⟩ => ⟨S256x256, .bf16⟩
  | .local _ .vmem, ⟨22, _⟩ => ⟨S1024x256, .f32⟩
  | .local _ .vmem, ⟨23, _⟩ => ⟨S1024x256, .f32⟩
  | .local _ .vmem, ⟨24, _⟩ => ⟨S1024x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.muli c2_i32_0 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.muli c2_i32_0 arg0
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== At1RefIdeal.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S2048x128 : Shape := ⟨2, ![2048, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x32 : Shape := ⟨2, ![512, 32]⟩
abbrev S512x1x32 : Shape := ⟨3, ![512, 1, 32]⟩
abbrev S1024x32 : Shape := ⟨2, ![1024, 32]⟩
abbrev S1024 : Shape := ⟨1, ![1024]⟩
abbrev S1x1024 : Shape := ⟨2, ![1, 1024]⟩
abbrev S512 : Shape := ⟨1, ![512]⟩
abbrev S512x1 : Shape := ⟨2, ![512, 1]⟩
abbrev S512x1024 : Shape := ⟨2, ![512, 1024]⟩
abbrev S512x4096 : Shape := ⟨2, ![512, 4096]⟩
abbrev S512x16x256 : Shape := ⟨3, ![512, 16, 256]⟩
abbrev S1024x4096 : Shape := ⟨2, ![1024, 4096]⟩
abbrev S1024x16x256 : Shape := ⟨3, ![1024, 16, 256]⟩
abbrev S512x16x64 : Shape := ⟨3, ![512, 16, 64]⟩
abbrev S512x16x32 : Shape := ⟨3, ![512, 16, 32]⟩
abbrev S1024x64 : Shape := ⟨2, ![1024, 64]⟩
abbrev S512x16x128 : Shape := ⟨3, ![512, 16, 128]⟩
abbrev S1024x16x128 : Shape := ⟨3, ![1024, 16, 128]⟩
abbrev S16x512x1024 : Shape := ⟨3, ![16, 512, 1024]⟩
abbrev S1024x512x16 : Shape := ⟨3, ![1024, 512, 16]⟩
abbrev S1x512x1024 : Shape := ⟨3, ![1, 512, 1024]⟩
abbrev S16x512 : Shape := ⟨2, ![16, 512]⟩
abbrev S16x512x1 : Shape := ⟨3, ![16, 512, 1]⟩
abbrev S16x128x512 : Shape := ⟨3, ![16, 128, 512]⟩
abbrev S512x2048 : Shape := ⟨2, ![512, 2048]⟩
abbrev S16x128x1024 : Shape := ⟨3, ![16, 128, 1024]⟩
abbrev S16x1024x128 : Shape := ⟨3, ![16, 1024, 128]⟩
abbrev S16x512x128 : Shape := ⟨3, ![16, 512, 128]⟩
abbrev S1024x128 : Shape := ⟨2, ![1024, 128]⟩

abbrev nBuf : Space → Nat
  | .hbm => 249
  | .vmem => 0
  | .smem => 0
  | _ => 0

abbrev hbmTy0_0 (i : Nat) : BufTy := match i % 128 with
  | 0 => ⟨S2048x4096, .f32⟩
  | 1 => ⟨S2048x4096, .f32⟩
  | 2 => ⟨S2048x1152, .f32⟩
  | 3 => ⟨S2048, .i32⟩
  | 4 => ⟨S2048x2048, .f32⟩
  | 5 => ⟨S2048x4096, .bf16⟩
  | 6 => ⟨S2048x4096, .f32⟩
  | 7 => ⟨S2048x128, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S512x32, .f32⟩
  | 31 => ⟨S512x1x32, .f32⟩
  | 32 => ⟨S512x32, .f32⟩
  | 33 => ⟨S512x1x32, .f32⟩
  | 34 => ⟨S1024x32, .f32⟩
  | 35 => ⟨S1024x32, .f32⟩
  | 36 => ⟨S1024, .i32⟩
  | 37 => ⟨S1x1024, .i32⟩
  | 38 => ⟨S_, .i32⟩
  | 39 => ⟨S_, .i32⟩
  | 40 => ⟨S1x1024, .i32⟩
  | 41 => ⟨S1x1024, .i32⟩
  | 42 => ⟨S1x1024, .i32⟩
  | 43 => ⟨S_, .i32⟩
  | 44 => ⟨S1x1024, .i32⟩
  | 45 => ⟨S1x1024, .i1⟩
  | 46 => ⟨S1x1024, .i32⟩
  | 47 => ⟨S1x1024, .i32⟩
  | 48 => ⟨S_, .i32⟩
  | 49 => ⟨S1x1024, .i32⟩
  | 50 => ⟨S1x1024, .i1⟩
  | 51 => ⟨S1x1024, .i1⟩
  | 52 => ⟨S_, .i32⟩
  | 53 => ⟨S1x1024, .i32⟩
  | 54 => ⟨S1x1024, .i32⟩
  | 55 => ⟨S1x1024, .i32⟩
  | 56 => ⟨S512, .i32⟩
  | 57 => ⟨S_, .i32⟩
  | 58 => ⟨S512, .i32⟩
  | 59 => ⟨S512, .i32⟩
  | 60 => ⟨S512x1, .i32⟩
  | 61 => ⟨S_, .i32⟩
  | 62 => ⟨S_, .i32⟩
  | 63 => ⟨S512x1, .i32⟩
  | 64 => ⟨S512x1, .i32⟩
  | 65 => ⟨S512x1, .i32⟩
  | 66 => ⟨S_, .i32⟩
  | 67 => ⟨S512x1, .i32⟩
  | 68 => ⟨S512x1, .i1⟩
  | 69 => ⟨S512x1, .i32⟩
  | 70 => ⟨S512x1, .i32⟩
  | 71 => ⟨S_, .i32⟩
  | 72 => ⟨S512x1, .i32⟩
  | 73 => ⟨S512x1, .i1⟩
  | 74 => ⟨S512x1, .i1⟩
  | 75 => ⟨S_, .i32⟩
  | 76 => ⟨S512x1, .i32⟩
  | 77 => ⟨S512x1, .i32⟩
  | 78 => ⟨S512x1, .i32⟩
  | 79 => ⟨S512x1024, .i32⟩
  | 80 => ⟨S512x1024, .i32⟩
  | 81 => ⟨S512x1024, .i1⟩
  | 82 => ⟨S512x4096, .f32⟩
  | 83 => ⟨S512x16x256, .f32⟩
  | 84 => ⟨S1024x4096, .f32⟩
  | 85 => ⟨S1024x16x256, .f32⟩
  | 86 => ⟨S512x16x64, .f32⟩
  | 87 => ⟨S512x16x32, .f32⟩
  | 88 => ⟨S512x16x32, .f32⟩
  | 89 => ⟨S512x16x32, .f32⟩
  | 90 => ⟨S512x16x32, .f32⟩
  | 91 => ⟨S512x16x32, .f32⟩
  | 92 => ⟨S512x16x32, .f32⟩
  | 93 => ⟨S512x16x32, .f32⟩
  | 94 => ⟨S512x16x32, .f32⟩
  | 95 => ⟨S512x16x32, .f32⟩
  | 96 => ⟨S512x16x32, .f32⟩
  | 97 => ⟨S512x16x32, .f32⟩
  | 98 => ⟨S512x16x32, .f32⟩
  | 99 => ⟨S512x16x64, .f32⟩
  | 100 => ⟨S1024x64, .f32⟩
  | 101 => ⟨S1024x32, .f32⟩
  | 102 => ⟨S1024x32, .f32⟩
  | 103 => ⟨S1024x32, .f32⟩
  | 104 => ⟨S1024x32, .f32⟩
  | 105 => ⟨S1024x32, .f32⟩
  | 106 => ⟨S1024x32, .f32⟩
  | 107 => ⟨S1024x32, .f32⟩
  | 108 => ⟨S1024x32, .f32⟩
  | 109 => ⟨S1024x64, .f32⟩
  | 110 => ⟨S512x16x128, .f32⟩
  | 111 => ⟨S1024x16x128, .f32⟩
  | 112 => ⟨S1024x16x128, .f32⟩
  | 113 => ⟨S16x512x1024, .f32⟩
  | 114 => ⟨S1024x512x16, .f32⟩
  | 115 => ⟨S16x512x1024, .f32⟩
  | 116 => ⟨S16x512x1024, .f32⟩
  | 117 => ⟨S1x512x1024, .i1⟩
  | 118 => ⟨S_, .f32⟩
  | 119 => ⟨S16x512x1024, .f32⟩
  | 120 => ⟨S16x512x1024, .f32⟩
  | 121 => ⟨S_, .f32⟩
  | 122 => ⟨S_, .f32⟩
  | 123 => ⟨S16x512x1024, .i1⟩
  | 124 => ⟨S16x512x1024, .f32⟩
  | 125 => ⟨S16x512x1024, .f32⟩
  | 126 => ⟨S_, .f32⟩
  | 127 => ⟨S16x512x1024, .f32⟩
  | _ => ⟨S2048x4096, .f32⟩

abbrev hbmTy0_1 (i : Nat) : BufTy := match i % 128 with
  | 0 => ⟨S_, .f32⟩
  | 1 => ⟨S16x512, .f32⟩
  | 2 => ⟨S16x512x1, .f32⟩
  | 3 => ⟨S16x512x1024, .f32⟩
  | 4 => ⟨S16x512x1024, .i1⟩
  | 5 => ⟨S16x512x1024, .f32⟩
  | 6 => ⟨S_, .f32⟩
  | 7 => ⟨S16x512, .f32⟩
  | 8 => ⟨S_, .f32⟩
  | 9 => ⟨S16x512, .f32⟩
  | 10 => ⟨S16x512, .f32⟩
  | 11 => ⟨S_, .f32⟩
  | 12 => ⟨S16x512, .f32⟩
  | 13 => ⟨S16x512, .i1⟩
  | 14 => ⟨S_, .f32⟩
  | 15 => ⟨S16x512, .f32⟩
  | 16 => ⟨S16x512, .i1⟩
  | 17 => ⟨S_, .f32⟩
  | 18 => ⟨S16x512, .f32⟩
  | 19 => ⟨S_, .f32⟩
  | 20 => ⟨S16x512, .f32⟩
  | 21 => ⟨S_, .f32⟩
  | 22 => ⟨S16x512, .f32⟩
  | 23 => ⟨S16x512, .f32⟩
  | 24 => ⟨S16x512, .f32⟩
  | 25 => ⟨S16x512x1, .f32⟩
  | 26 => ⟨S16x512x1024, .f32⟩
  | 27 => ⟨S16x512x1024, .f32⟩
  | 28 => ⟨S16x512x1024, .f32⟩
  | 29 => ⟨S_, .f32⟩
  | 30 => ⟨S16x512, .f32⟩
  | 31 => ⟨S16x512x1, .f32⟩
  | 32 => ⟨S16x512x1024, .f32⟩
  | 33 => ⟨S16x512x1024, .f32⟩
  | 34 => ⟨S16x512x1, .f32⟩
  | 35 => ⟨S_, .f32⟩
  | 36 => ⟨S16x512x1, .f32⟩
  | 37 => ⟨S16x512x1, .f32⟩
  | 38 => ⟨S16x128x512, .f32⟩
  | 39 => ⟨S512x16x128, .f32⟩
  | 40 => ⟨S512x2048, .f32⟩
  | 41 => ⟨S512x16x128, .f32⟩
  | 42 => ⟨S16x128x512, .f32⟩
  | 43 => ⟨S16x512x1024, .f32⟩
  | 44 => ⟨S16x128x1024, .f32⟩
  | 45 => ⟨S1024x16x128, .f32⟩
  | 46 => ⟨S16x512x1024, .f32⟩
  | 47 => ⟨S16x512x1024, .f32⟩
  | 48 => ⟨S16x512x1024, .f32⟩
  | 49 => ⟨S_, .f32⟩
  | 50 => ⟨S16x512, .f32⟩
  | 51 => ⟨S16x512x1, .f32⟩
  | 52 => ⟨S16x512x1, .f32⟩
  | 53 => ⟨S16x512x1024, .f32⟩
  | 54 => ⟨S16x512x1024, .f32⟩
  | 55 => ⟨S_, .f32⟩
  | 56 => ⟨S16x512, .f32⟩
  | 57 => ⟨S16x512x1024, .f32⟩
  | 58 => ⟨S16x512x1024, .f32⟩
  | 59 => ⟨S16x512x1024, .f32⟩
  | 60 => ⟨S_, .f32⟩
  | 61 => ⟨S16x512x1024, .f32⟩
  | 62 => ⟨S16x512x1024, .f32⟩
  | 63 => ⟨S_, .f32⟩
  | 64 => ⟨S16x512x1024, .f32⟩
  | 65 => ⟨S16x512x1024, .f32⟩
  | 66 => ⟨S1024x512x16, .f32⟩
  | 67 => ⟨S512x16x64, .f32⟩
  | 68 => ⟨S1024x64, .f32⟩
  | 69 => ⟨S16x1024x128, .f32⟩
  | 70 => ⟨S1024x16x128, .f32⟩
  | 71 => ⟨S16x512x128, .f32⟩
  | 72 => ⟨S512x16x128, .f32⟩
  | 73 => ⟨S_, .f32⟩
  | 74 => ⟨S512x16x32, .f32⟩
  | 75 => ⟨S_, .f32⟩
  | 76 => ⟨S1024x32, .f32⟩
  | 77 => ⟨S512x16x32, .f32⟩
  | 78 => ⟨S512x16x32, .f32⟩
  | 79 => ⟨S512x16x32, .f32⟩
  | 80 => ⟨S512x16x32, .f32⟩
  | 81 => ⟨S512x16x32, .f32⟩
  | 82 => ⟨S512x16x32, .f32⟩
  | 83 => ⟨S512x16x32, .f32⟩
  | 84 => ⟨S512x16x32, .f32⟩
  | 85 => ⟨S512x16x32, .f32⟩
  | 86 => ⟨S512x16x32, .f32⟩
  | 87 => ⟨S512x16x32, .f32⟩
  | 88 => ⟨S512x16x32, .f32⟩
  | 89 => ⟨S512x16x64, .f32⟩
  | 90 => ⟨S512x16x32, .f32⟩
  | 91 => ⟨S512x16x32, .f32⟩
  | 92 => ⟨S512x16x32, .f32⟩
  | 93 => ⟨S512x16x256, .f32⟩
  | 94 => ⟨S512x4096, .f32⟩
  | 95 => ⟨S1024x16x256, .f32⟩
  | 96 => ⟨S1024x4096, .f32⟩
  | 97 => ⟨S1024x32, .f32⟩
  | 98 => ⟨S1024x32, .f32⟩
  | 99 => ⟨S1024x32, .f32⟩
  | 100 => ⟨S1024x32, .f32⟩
  | 101 => ⟨S1024x32, .f32⟩
  | 102 => ⟨S1024x32, .f32⟩
  | 103 => ⟨S1024x32, .f32⟩
  | 104 => ⟨S1024x32, .f32⟩
  | 105 => ⟨S1024x64, .f32⟩
  | 106 => ⟨S1024x32, .f32⟩
  | 107 => ⟨S1024x32, .f32⟩
  | 108 => ⟨S1024x128, .f32⟩
  | 109 => ⟨S512x4096, .bf16⟩
  | 110 => ⟨S512x4096, .bf16⟩
  | 111 => ⟨S1024x4096, .bf16⟩
  | 112 => ⟨S2048x4096, .bf16⟩
  | 113 => ⟨S1024x4096, .f32⟩
  | 114 => ⟨S1024x4096, .f32⟩
  | 115 => ⟨S1024x4096, .f32⟩
  | 116 => ⟨S2048x4096, .f32⟩
  | 117 => ⟨S1024x128, .f32⟩
  | 118 => ⟨S1024x128, .f32⟩
  | 119 => ⟨S1024x128, .f32⟩
  | 120 => ⟨S2048x128, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_5 : Ref sig .tc := ⟨.hbm, 118, rfl⟩
abbrev main_v71 : Ref sig .tc := ⟨.hbm, 119, rfl⟩
abbrev main_v72 : Ref sig .tc := ⟨.hbm, 120, rfl⟩
abbrev main_cst_6 : Ref sig .tc := ⟨.hbm, 121, rfl⟩
abbrev main_call2_v0 : Ref sig .tc := ⟨.hbm, 122, rfl⟩
abbrev main_v73_1 : Ref sig .tc := ⟨.hbm, 123, rfl⟩
abbrev main_call2_v2 : Ref sig .tc := ⟨.hbm, 124, rfl⟩
abbrev main_v73_0 : Ref sig .tc := ⟨.hbm, 125, rfl⟩
abbrev main_call2_cst : Ref sig .tc := ⟨.hbm, 126, rfl⟩
abbrev main_v73_2 : Ref sig .tc := ⟨.hbm, 127, rfl⟩
abbrev main_cst_7 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_8 : Ref sig .tc := ⟨.hbm, 134, rfl⟩
abbrev main_v79 : Ref sig .tc := ⟨.hbm, 135, rfl⟩
abbrev main_cst_9 : Ref sig .tc := ⟨.hbm, 136, rfl⟩
abbrev main_v80 : Ref sig .tc := ⟨.hbm, 137, rfl⟩
abbrev main_v81 : Ref sig .tc := ⟨.hbm, 138, rfl⟩
abbrev main_cst_10 : Ref sig .tc := ⟨.hbm, 139, rfl⟩
abbrev main_v82 : Ref sig .tc := ⟨.hbm, 140, rfl⟩
abbrev main_v83 : Ref sig .tc := ⟨.hbm, 141, rfl⟩
abbrev main_cst_11 : Ref sig .tc := ⟨.hbm, 142, rfl⟩
abbrev main_v84 : Ref sig .tc := ⟨.hbm, 143, rfl⟩
abbrev main_v85 : Ref sig .tc := ⟨.hbm, 144, rfl⟩
abbrev main_cst_12 : Ref sig .tc := ⟨.hbm, 145, rfl⟩
abbrev main_v86 : Ref sig .tc := ⟨.hbm, 146, rfl⟩
abbrev main_cst_13 : Ref sig .tc := ⟨.hbm, 147, rfl⟩
abbrev main_v87 : Ref sig .tc := ⟨.hbm, 148, rfl⟩
abbrev main_cst_14 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_15 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_16 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_17 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_18 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call3_cst : Ref sig .tc := ⟨.hbm, 188, rfl⟩
abbrev main_call3_v0 : Ref sig .tc := ⟨.hbm, 189, rfl⟩
abbrev main_v122 : Ref sig .tc := ⟨.hbm, 190, rfl⟩
abbrev main_cst_19 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_20 : Ref sig .tc := ⟨.hbm, 201, rfl⟩
abbrev main_v132 : Ref sig .tc := ⟨.hbm, 202, rfl⟩
abbrev main_cst_21 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩

abbrev nD : Nat := 1
abbrev τ : Topo := Topo.v7x

variable {F : FTy → Type} [FloatOps F]
-- ==== Af1.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩

abbrev nBuf : Space → Nat
  | .hbm => 33
  | .vmem => 17
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1152, .f32⟩
  | .hbm, ⟨3, _⟩ => ⟨S2048, .i32⟩
  | .hbm, ⟨4, _⟩ => ⟨S2048x2048, .bf16⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .f32⟩
  | .hbm, ⟨28, _⟩ => ⟨S2048x64, .f32⟩
  | .hbm, ⟨29, _⟩ => ⟨S2048x128, .f32⟩
  | .hbm, ⟨30, _⟩ => ⟨S2048x32, .f32⟩
  | .hbm, ⟨31, _⟩ => ⟨S2048x128, .f32⟩
  | .hbm, ⟨32, _⟩ => ⟨S2048x2048, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S256x128, .bf16⟩
  | .local _ .vmem, ⟨16, _⟩ => ⟨S256x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.muli c2_i32_0 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.muli c2_i32_0 arg0
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Af1RefIdeal.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x4096 : Shape := ⟨2, ![512, 4096]⟩
abbrev S512x16x256 : Shape := ⟨3, ![512, 16, 256]⟩
abbrev S512x16x64 : Shape := ⟨3, ![512, 16, 64]⟩
abbrev S512x32 : Shape := ⟨2, ![512, 32]⟩
abbrev S512x1x32 : Shape := ⟨3, ![512, 1, 32]⟩
abbrev S512x16x32 : Shape := ⟨3, ![512, 16, 32]⟩
abbrev S1024x4096 : Shape := ⟨2, ![1024, 4096]⟩
abbrev S1024x16x256 : Shape := ⟨3, ![1024, 16, 256]⟩
abbrev S1024x64 : Shape := ⟨2, ![1024, 64]⟩
abbrev S1024x32 : Shape := ⟨2, ![1024, 32]⟩
abbrev S512x16x128 : Shape := ⟨3, ![512, 16, 128]⟩
abbrev S1024x16x128 : Shape := ⟨3, ![1024, 16, 128]⟩
abbrev S16x512x1024 : Shape := ⟨3, ![16, 512, 1024]⟩
abbrev S1024x512x16 : Shape := ⟨3, ![1024, 512, 16]⟩
abbrev S1024 : Shape := ⟨1, ![1024]⟩
abbrev S1x1024 : Shape := ⟨2, ![1, 1024]⟩
abbrev S512 : Shape := ⟨1, ![512]⟩
abbrev S512x1 : Shape := ⟨2, ![512, 1]⟩
abbrev S512x1024 : Shape := ⟨2, ![512, 1024]⟩
abbrev S1x512x1024 : Shape := ⟨3, ![1, 512, 1024]⟩
abbrev S16x512 : Shape := ⟨2, ![16, 512]⟩
abbrev S16x512x1 : Shape := ⟨3, ![16, 512, 1]⟩
abbrev S16x128x512 : Shape := ⟨3, ![16, 128, 512]⟩
abbrev S512x2048 : Shape := ⟨2, ![512, 2048]⟩
abbrev S1024x2048 : Shape := ⟨2, ![1024, 2048]⟩

abbrev nBuf : Space → Nat
  | .hbm => 144
  | .vmem => 0
  | .smem => 0
  | _ => 0

abbrev hbmTy0_0 (i : Nat) : BufTy := match i % 128 with
  | 0 => ⟨S2048x4096, .f32⟩
  | 1 => ⟨S2048x4096, .f32⟩
  | 2 => ⟨S2048x1152, .f32⟩
  | 3 => ⟨S2048, .i32⟩
  | 4 => ⟨S2048x2048, .bf16⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S512x4096, .f32⟩
  | 28 => ⟨S512x16x256, .f32⟩
  | 29 => ⟨S512x16x64, .f32⟩
  | 30 => ⟨S512x32, .f32⟩
  | 31 => ⟨S512x1x32, .f32⟩
  | 32 => ⟨S512x32, .f32⟩
  | 33 => ⟨S512x1x32, .f32⟩
  | 34 => ⟨S512x16x32, .f32⟩
  | 35 => ⟨S512x16x32, .f32⟩
  | 36 => ⟨S512x16x32, .f32⟩
  | 37 => ⟨S512x16x32, .f32⟩
  | 38 => ⟨S512x16x32, .f32⟩
  | 39 => ⟨S512x16x32, .f32⟩
  | 40 => ⟨S512x16x32, .f32⟩
  | 41 => ⟨S512x16x32, .f32⟩
  | 42 => ⟨S512x16x32, .f32⟩
  | 43 => ⟨S512x16x32, .f32⟩
  | 44 => ⟨S512x16x32, .f32⟩
  | 45 => ⟨S512x16x32, .f32⟩
  | 46 => ⟨S512x16x64, .f32⟩
  | 47 => ⟨S1024x4096, .f32⟩
  | 48 => ⟨S1024x16x256, .f32⟩
  | 49 => ⟨S1024x64, .f32⟩
  | 50 => ⟨S1024x32, .f32⟩
  | 51 => ⟨S1024x32, .f32⟩
  | 52 => ⟨S1024x32, .f32⟩
  | 53 => ⟨S1024x32, .f32⟩
  | 54 => ⟨S1024x32, .f32⟩
  | 55 => ⟨S1024x32, .f32⟩
  | 56 => ⟨S1024x32, .f32⟩
  | 57 => ⟨S1024x32, .f32⟩
  | 58 => ⟨S1024x32, .f32⟩
  | 59 => ⟨S1024x32, .f32⟩
  | 60 => ⟨S1024x64, .f32⟩
  | 61 => ⟨S512x16x128, .f32⟩
  | 62 => ⟨S1024x16x128, .f32⟩
  | 63 => ⟨S16x512x1024, .f32⟩
  | 64 => ⟨S1024x512x16, .f32⟩
  | 65 => ⟨S16x512x1024, .f32⟩
  | 66 => ⟨S16x512x1024, .f32⟩
  | 67 => ⟨S1024, .i32⟩
  | 68 => ⟨S1x1024, .i32⟩
  | 69 => ⟨S_, .i32⟩
  | 70 => ⟨S_, .i32⟩
  | 71 => ⟨S1x1024, .i32⟩
  | 72 => ⟨S1x1024, .i32⟩
  | 73 => ⟨S1x1024, .i32⟩
  | 74 => ⟨S_, .i32⟩
  | 75 => ⟨S1x1024, .i32⟩
  | 76 => ⟨S1x1024, .i1⟩
  | 77 => ⟨S1x1024, .i32⟩
  | 78 => ⟨S1x1024, .i32⟩
  | 79 => ⟨S_, .i32⟩
  | 80 => ⟨S1x1024, .i32⟩
  | 81 => ⟨S1x1024, .i1⟩
  | 82 => ⟨S1x1024, .i1⟩
  | 83 => ⟨S_, .i32⟩
  | 84 => ⟨S1x1024, .i32⟩
  | 85 => ⟨S1x1024, .i32⟩
  | 86 => ⟨S1x1024, .i32⟩
  | 87 => ⟨S512, .i32⟩
  | 88 => ⟨S_, .i32⟩
  | 89 => ⟨S512, .i32⟩
  | 90 => ⟨S512, .i32⟩
  | 91 => ⟨S512x1, .i32⟩
  | 92 => ⟨S_, .i32⟩
  | 93 => ⟨S_, .i32⟩
  | 94 => ⟨S512x1, .i32⟩
  | 95 => ⟨S512x1, .i32⟩
  | 96 => ⟨S512x1, .i32⟩
  | 97 => ⟨S_, .i32⟩
  | 98 => ⟨S512x1, .i32⟩
  | 99 => ⟨S512x1, .i1⟩
  | 100 => ⟨S512x1, .i32⟩
  | 101 => ⟨S512x1, .i32⟩
  | 102 => ⟨S_, .i32⟩
  | 103 => ⟨S512x1, .i32⟩
  | 104 => ⟨S512x1, .i1⟩
  | 105 => ⟨S512x1, .i1⟩
  | 106 => ⟨S_, .i32⟩
  | 107 => ⟨S512x1, .i32⟩
  | 108 => ⟨S512x1, .i32⟩
  | 109 => ⟨S512x1, .i32⟩
  | 110 => ⟨S512x1024, .i32⟩
  | 111 => ⟨S512x1024, .i32⟩
  | 112 => ⟨S512x1024, .i1⟩
  | 113 => ⟨S1x512x1024, .i1⟩
  | 114 => ⟨S_, .f32⟩
  | 115 => ⟨S16x512x1024, .f32⟩
  | 116 => ⟨S16x512x1024, .f32⟩
  | 117 => ⟨S_, .f32⟩
  | 118 => ⟨S_, .f32⟩
  | 119 => ⟨S16x512x1024, .i1⟩
  | 120 => ⟨S16x512x1024, .f32⟩
  | 121 => ⟨S16x512x1024, .f32⟩
  | 122 => ⟨S_, .f32⟩
  | 123 => ⟨S16x512, .f32⟩
  | 124 => ⟨S_, .f32⟩
  | 125 => ⟨S16x512, .f32⟩
  | 126 => ⟨S16x512, .f32⟩
  | 127 => ⟨S16x512x1, .f32⟩
  | _ => ⟨S2048x4096, .f32⟩

abbrev hbmTy0_1 (i : Nat) : BufTy := match i % 128 with
  | 0 => ⟨S16x512x1024, .f32⟩
  | 1 => ⟨S16x512x1024, .f32⟩
  | 2 => ⟨S16x512x1024, .f32⟩
  | 3 => ⟨S_, .f32⟩
  | 4 => ⟨S16x512, .f32⟩
  | 5 => ⟨S16x512x1, .f32⟩
  | 6 => ⟨S16x512x1024, .f32⟩
  | 7 => ⟨S16x512x1024, .f32⟩
  | 8 => ⟨S1024x16x128, .f32⟩
  | 9 => ⟨S16x128x512, .f32⟩
  | 10 => ⟨S512x16x128, .f32⟩
  | 11 => ⟨S512x2048, .f32⟩
  | 12 => ⟨S512x2048, .bf16⟩
  | 13 => ⟨S512x2048, .bf16⟩
  | 14 => ⟨S1024x2048, .bf16⟩
  | 15 => ⟨S2048x2048, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v60 : Ref sig .tc := ⟨.hbm, 86, rfl⟩
abbrev main_v61 : Ref sig .tc := ⟨.hbm, 87, rfl⟩
abbrev main_c_3 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_4 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_c : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_0 : Ref sig .tc := ⟨.hbm, 106, rfl⟩
abbrev main_call1_v12 : Ref sig .tc := ⟨.hbm, 107, rfl⟩
abbrev main_call1_v13 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_5 : Ref sig .tc := ⟨.hbm, 114, rfl⟩
abbrev main_v70 : Ref sig .tc := ⟨.hbm, 115, rfl⟩
abbrev main_v71 : Ref sig .tc := ⟨.hbm, 116, rfl⟩
abbrev main_cst_6 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v72 : Ref sig .tc := ⟨.hbm, 121, rfl⟩
abbrev main_cst_7 : Ref sig .tc := ⟨.hbm, 122, rfl⟩
abbrev main_v73 : Ref sig .tc := ⟨.hbm, 123, rfl⟩
abbrev main_cst_8 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_9 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩

abbrev nD : Nat := 1
abbrev τ : Topo := Topo.v7x

variable {F : FTy → Type} [FloatOps F]
-- ==== Af2.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S1536x128 : Shape := ⟨2, ![1536, 128]⟩
abbrev S256x1536 : Shape := ⟨2, ![256, 1536]⟩
abbrev S256 : Shape := ⟨1, ![256]⟩
abbrev S256x1 : Shape := ⟨2, ![256, 1]⟩

abbrev nBuf : Space → Nat
  | .hbm => 33
  | .vmem => 17
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1152, .f32⟩
  | .hbm, ⟨3, _⟩ => ⟨S2048, .i32⟩
  | .hbm, ⟨4, _⟩ => ⟨S2048x2048, .bf16⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .f32⟩
  | .hbm, ⟨28, _⟩ => ⟨S2048x64, .f32⟩
  | .hbm, ⟨29, _⟩ => ⟨S2048x128, .f32⟩
  | .hbm, ⟨30, _⟩ => ⟨S2048x32, .f32⟩
  | .hbm, ⟨31, _⟩ => ⟨S2048x128, .f32⟩
  | .hbm, ⟨32, _⟩ => ⟨S2048x2048, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S256x128, .bf16⟩
  | .local _ .vmem, ⟨16, _⟩ => ⟨S256x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c2_i32 : BitVec 32 := 2#32
  let v1 : BitVec 32 := Scalar.muli c2_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c2_i32 : BitVec 32 := 2#32
  let v1 : BitVec 32 := Scalar.muli c2_i32 arg0
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![v0.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1536x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Af2RefIdeal.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x4096 : Shape := ⟨2, ![512, 4096]⟩
abbrev S512x16x256 : Shape := ⟨3, ![512, 16, 256]⟩
abbrev S512x16x64 : Shape := ⟨3, ![512, 16, 64]⟩
abbrev S512x32 : Shape := ⟨2, ![512, 32]⟩
abbrev S512x1x32 : Shape := ⟨3, ![512, 1, 32]⟩
abbrev S512x16x32 : Shape := ⟨3, ![512, 16, 32]⟩
abbrev S1536x4096 : Shape := ⟨2, ![1536, 4096]⟩
abbrev S1536x16x256 : Shape := ⟨3, ![1536, 16, 256]⟩
abbrev S1536x64 : Shape := ⟨2, ![1536, 64]⟩
abbrev S1536x32 : Shape := ⟨2, ![1536, 32]⟩
abbrev S512x16x128 : Shape := ⟨3, ![512, 16, 128]⟩
abbrev S1536x16x128 : Shape := ⟨3, ![1536, 16, 128]⟩
abbrev S16x512x1536 : Shape := ⟨3, ![16, 512, 1536]⟩
abbrev S1536x512x16 : Shape := ⟨3, ![1536, 512, 16]⟩
abbrev S1536 : Shape := ⟨1, ![1536]⟩
abbrev S1x1536 : Shape := ⟨2, ![1, 1536]⟩
abbrev S512 : Shape := ⟨1, ![512]⟩
abbrev S512x1 : Shape := ⟨2, ![512, 1]⟩
abbrev S512x1536 : Shape := ⟨2, ![512, 1536]⟩
abbrev S1x512x1536 : Shape := ⟨3, ![1, 512, 1536]⟩
abbrev S16x512 : Shape := ⟨2, ![16, 512]⟩
abbrev S16x512x1 : Shape := ⟨3, ![16, 512, 1]⟩
abbrev S16x128x512 : Shape := ⟨3, ![16, 128, 512]⟩
abbrev S512x2048 : Shape := ⟨2, ![512, 2048]⟩
abbrev S1024x2048 : Shape := ⟨2, ![1024, 2048]⟩

abbrev nBuf : Space → Nat
  | .hbm => 144
  | .vmem => 0
  | .smem => 0
  | _ => 0

abbrev hbmTy0_0 (i : Nat) : BufTy := match i % 128 with
  | 0 => ⟨S2048x4096, .f32⟩
  | 1 => ⟨S2048x4096, .f32⟩
  | 2 => ⟨S2048x1152, .f32⟩
  | 3 => ⟨S2048, .i32⟩
  | 4 => ⟨S2048x2048, .bf16⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S512x4096, .f32⟩
  | 28 => ⟨S512x16x256, .f32⟩
  | 29 => ⟨S512x16x64, .f32⟩
  | 30 => ⟨S512x32, .f32⟩
  | 31 => ⟨S512x1x32, .f32⟩
  | 32 => ⟨S512x32, .f32⟩
  | 33 => ⟨S512x1x32, .f32⟩
  | 34 => ⟨S512x16x32, .f32⟩
  | 35 => ⟨S512x16x32, .f32⟩
  | 36 => ⟨S512x16x32, .f32⟩
  | 37 => ⟨S512x16x32, .f32⟩
  | 38 => ⟨S512x16x32, .f32⟩
  | 39 => ⟨S512x16x32, .f32⟩
  | 40 => ⟨S512x16x32, .f32⟩
  | 41 => ⟨S512x16x32, .f32⟩
  | 42 => ⟨S512x16x32, .f32⟩
  | 43 => ⟨S512x16x32, .f32⟩
  | 44 => ⟨S512x16x32, .f32⟩
  | 45 => ⟨S512x16x32, .f32⟩
  | 46 => ⟨S512x16x64, .f32⟩
  | 47 => ⟨S1536x4096, .f32⟩
  | 48 => ⟨S1536x16x256, .f32⟩
  | 49 => ⟨S1536x64, .f32⟩
  | 50 => ⟨S1536x32, .f32⟩
  | 51 => ⟨S1536x32, .f32⟩
  | 52 => ⟨S1536x32, .f32⟩
  | 53 => ⟨S1536x32, .f32⟩
  | 54 => ⟨S1536x32, .f32⟩
  | 55 => ⟨S1536x32, .f32⟩
  | 56 => ⟨S1536x32, .f32⟩
  | 57 => ⟨S1536x32, .f32⟩
  | 58 => ⟨S1536x32, .f32⟩
  | 59 => ⟨S1536x32, .f32⟩
  | 60 => ⟨S1536x64, .f32⟩
  | 61 => ⟨S512x16x128, .f32⟩
  | 62 => ⟨S1536x16x128, .f32⟩
  | 63 => ⟨S16x512x1536, .f32⟩
  | 64 => ⟨S1536x512x16, .f32⟩
  | 65 => ⟨S16x512x1536, .f32⟩
  | 66 => ⟨S16x512x1536, .f32⟩
  | 67 => ⟨S1536, .i32⟩
  | 68 => ⟨S1x1536, .i32⟩
  | 69 => ⟨S_, .i32⟩
  | 70 => ⟨S_, .i32⟩
  | 71 => ⟨S1x1536, .i32⟩
  | 72 => ⟨S1x1536, .i32⟩
  | 73 => ⟨S1x1536, .i32⟩
  | 74 => ⟨S_, .i32⟩
  | 75 => ⟨S1x1536, .i32⟩
  | 76 => ⟨S1x1536, .i1⟩
  | 77 => ⟨S1x1536, .i32⟩
  | 78 => ⟨S1x1536, .i32⟩
  | 79 => ⟨S_, .i32⟩
  | 80 => ⟨S1x1536, .i32⟩
  | 81 => ⟨S1x1536, .i1⟩
  | 82 => ⟨S1x1536, .i1⟩
  | 83 => ⟨S_, .i32⟩
  | 84 => ⟨S1x1536, .i32⟩
  | 85 => ⟨S1x1536, .i32⟩
  | 86 => ⟨S1x1536, .i32⟩
  | 87 => ⟨S512, .i32⟩
  | 88 => ⟨S_, .i32⟩
  | 89 => ⟨S512, .i32⟩
  | 90 => ⟨S512, .i32⟩
  | 91 => ⟨S512x1, .i32⟩
  | 92 => ⟨S_, .i32⟩
  | 93 => ⟨S_, .i32⟩
  | 94 => ⟨S512x1, .i32⟩
  | 95 => ⟨S512x1, .i32⟩
  | 96 => ⟨S512x1, .i32⟩
  | 97 => ⟨S_, .i32⟩
  | 98 => ⟨S512x1, .i32⟩
  | 99 => ⟨S512x1, .i1⟩
  | 100 => ⟨S512x1, .i32⟩
  | 101 => ⟨S512x1, .i32⟩
  | 102 => ⟨S_, .i32⟩
  | 103 => ⟨S512x1, .i32⟩
  | 104 => ⟨S512x1, .i1⟩
  | 105 => ⟨S512x1, .i1⟩
  | 106 => ⟨S_, .i32⟩
  | 107 => ⟨S512x1, .i32⟩
  | 108 => ⟨S512x1, .i32⟩
  | 109 => ⟨S512x1, .i32⟩
  | 110 => ⟨S512x1536, .i32⟩
  | 111 => ⟨S512x1536, .i32⟩
  | 112 => ⟨S512x1536, .i1⟩
  | 113 => ⟨S1x512x1536, .i1⟩
  | 114 => ⟨S_, .f32⟩
  | 115 => ⟨S16x512x1536, .f32⟩
  | 116 => ⟨S16x512x1536, .f32⟩
  | 117 => ⟨S_, .f32⟩
  | 118 => ⟨S_, .f32⟩
  | 119 => ⟨S16x512x1536, .i1⟩
  | 120 => ⟨S16x512x1536, .f32⟩
  | 121 => ⟨S16x512x1536, .f32⟩
  | 122 => ⟨S_, .f32⟩
  | 123 => ⟨S16x512, .f32⟩
  | 124 => ⟨S_, .f32⟩
  | 125 => ⟨S16x512, .f32⟩
  | 126 => ⟨S16x512, .f32⟩
  | 127 => ⟨S16x512x1, .f32⟩
  | _ => ⟨S2048x4096, .f32⟩

abbrev hbmTy0_1 (i : Nat) : BufTy := match i % 128 with
  | 0 => ⟨S16x512x1536, .f32⟩
  | 1 => ⟨S16x512x1536, .f32⟩
  | 2 => ⟨S16x512x1536, .f32⟩
  | 3 => ⟨S_, .f32⟩
  | 4 => ⟨S16x512, .f32⟩
  | 5 => ⟨S16x512x1, .f32⟩
  | 6 => ⟨S16x512x1536, .f32⟩
  | 7 => ⟨S16x512x1536, .f32⟩
  | 8 => ⟨S1536x16x128, .f32⟩
  | 9 => ⟨S16x128x512, .f32⟩
  | 10 => ⟨S512x16x128, .f32⟩
  | 11 => ⟨S512x2048, .f32⟩
  | 12 => ⟨S1024x2048, .bf16⟩
  | 13 => ⟨S512x2048, .bf16⟩
  | 14 => ⟨S512x2048, .bf16⟩
  | 15 => ⟨S2048x2048, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v60 : Ref sig .tc := ⟨.hbm, 86, rfl⟩
abbrev main_v61 : Ref sig .tc := ⟨.hbm, 87, rfl⟩
abbrev main_c_3 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_4 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_c : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_0 : Ref sig .tc := ⟨.hbm, 106, rfl⟩
abbrev main_call1_v12 : Ref sig .tc := ⟨.hbm, 107, rfl⟩
abbrev main_call1_v13 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_5 : Ref sig .tc := ⟨.hbm, 114, rfl⟩
abbrev main_v70 : Ref sig .tc := ⟨.hbm, 115, rfl⟩
abbrev main_v71 : Ref sig .tc := ⟨.hbm, 116, rfl⟩
abbrev main_cst_6 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v72 : Ref sig .tc := ⟨.hbm, 121, rfl⟩
abbrev main_cst_7 : Ref sig .tc := ⟨.hbm, 122, rfl⟩
abbrev main_v73 : Ref sig .tc := ⟨.hbm, 123, rfl⟩
abbrev main_cst_8 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_9 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩

abbrev nD : Nat := 1
abbrev τ : Topo := Topo.v7x

variable {F : FTy → Type} [FloatOps F]
-- ==== Af3.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 33
  | .vmem => 17
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1152, .f32⟩
  | .hbm, ⟨3, _⟩ => ⟨S2048, .i32⟩
  | .hbm, ⟨4, _⟩ => ⟨S2048x2048, .bf16⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .f32⟩
  | .hbm, ⟨28, _⟩ => ⟨S2048x64, .f32⟩
  | .hbm, ⟨29, _⟩ => ⟨S2048x128, .f32⟩
  | .hbm, ⟨30, _⟩ => ⟨S2048x32, .f32⟩
  | .hbm, ⟨31, _⟩ => ⟨S2048x128, .f32⟩
  | .hbm, ⟨32, _⟩ => ⟨S2048x2048, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S256x128, .bf16⟩
  | .local _ .vmem, ⟨16, _⟩ => ⟨S256x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c2_i32 : BitVec 32 := 2#32
  let v1 : BitVec 32 := Scalar.muli c2_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c2_i32 : BitVec 32 := 2#32
  let v1 : BitVec 32 := Scalar.muli c2_i32 arg0
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![v0.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Af3RefIdeal.lean ====
abbrev S2048x4096 : Shape := ⟨2, ![2048, 4096]⟩
abbrev S2048x1152 : Shape := ⟨2, ![2048, 1152]⟩
abbrev S2048 : Shape := ⟨1, ![2048]⟩
abbrev S2048x2048 : Shape := ⟨2, ![2048, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x4096 : Shape := ⟨2, ![512, 4096]⟩
abbrev S512x16x256 : Shape := ⟨3, ![512, 16, 256]⟩
abbrev S512x16x64 : Shape := ⟨3, ![512, 16, 64]⟩
abbrev S512x32 : Shape := ⟨2, ![512, 32]⟩
abbrev S512x1x32 : Shape := ⟨3, ![512, 1, 32]⟩
abbrev S512x16x32 : Shape := ⟨3, ![512, 16, 32]⟩
abbrev S2048x16x256 : Shape := ⟨3, ![2048, 16, 256]⟩
abbrev S2048x64 : Shape := ⟨2, ![2048, 64]⟩
abbrev S512x16x128 : Shape := ⟨3, ![512, 16, 128]⟩
abbrev S2048x16x128 : Shape := ⟨3, ![2048, 16, 128]⟩
abbrev S16x512x2048 : Shape := ⟨3, ![16, 512, 2048]⟩
abbrev S2048x512x16 : Shape := ⟨3, ![2048, 512, 16]⟩
abbrev S1x2048 : Shape := ⟨2, ![1, 2048]⟩
abbrev S512 : Shape := ⟨1, ![512]⟩
abbrev S512x1 : Shape := ⟨2, ![512, 1]⟩
abbrev S512x2048 : Shape := ⟨2, ![512, 2048]⟩
abbrev S1x512x2048 : Shape := ⟨3, ![1, 512, 2048]⟩
abbrev S16x512 : Shape := ⟨2, ![16, 512]⟩
abbrev S16x512x1 : Shape := ⟨3, ![16, 512, 1]⟩
abbrev S16x128x512 : Shape := ⟨3, ![16, 128, 512]⟩
abbrev S1536x2048 : Shape := ⟨2, ![1536, 2048]⟩

abbrev nBuf : Space → Nat
  | .hbm => 140
  | .vmem => 0
  | .smem => 0
  | _ => 0

abbrev hbmTy0_0 (i : Nat) : BufTy := match i % 128 with
  | 0 => ⟨S2048x4096, .f32⟩
  | 1 => ⟨S2048x4096, .f32⟩
  | 2 => ⟨S2048x1152, .f32⟩
  | 3 => ⟨S2048, .i32⟩
  | 4 => ⟨S2048x2048, .bf16⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S512x4096, .f32⟩
  | 28 => ⟨S512x16x256, .f32⟩
  | 29 => ⟨S512x16x64, .f32⟩
  | 30 => ⟨S512x32, .f32⟩
  | 31 => ⟨S512x1x32, .f32⟩
  | 32 => ⟨S512x32, .f32⟩
  | 33 => ⟨S512x1x32, .f32⟩
  | 34 => ⟨S512x16x32, .f32⟩
  | 35 => ⟨S512x16x32, .f32⟩
  | 36 => ⟨S512x16x32, .f32⟩
  | 37 => ⟨S512x16x32, .f32⟩
  | 38 => ⟨S512x16x32, .f32⟩
  | 39 => ⟨S512x16x32, .f32⟩
  | 40 => ⟨S512x16x32, .f32⟩
  | 41 => ⟨S512x16x32, .f32⟩
  | 42 => ⟨S512x16x32, .f32⟩
  | 43 => ⟨S512x16x32, .f32⟩
  | 44 => ⟨S512x16x32, .f32⟩
  | 45 => ⟨S512x16x32, .f32⟩
  | 46 => ⟨S512x16x64, .f32⟩
  | 47 => ⟨S2048x16x256, .f32⟩
  | 48 => ⟨S2048x64, .f32⟩
  | 49 => ⟨S2048x32, .f32⟩
  | 50 => ⟨S2048x32, .f32⟩
  | 51 => ⟨S2048x32, .f32⟩
  | 52 => ⟨S2048x32, .f32⟩
  | 53 => ⟨S2048x32, .f32⟩
  | 54 => ⟨S2048x32, .f32⟩
  | 55 => ⟨S2048x32, .f32⟩
  | 56 => ⟨S2048x32, .f32⟩
  | 57 => ⟨S2048x64, .f32⟩
  | 58 => ⟨S512x16x128, .f32⟩
  | 59 => ⟨S2048x16x128, .f32⟩
  | 60 => ⟨S16x512x2048, .f32⟩
  | 61 => ⟨S2048x512x16, .f32⟩
  | 62 => ⟨S16x512x2048, .f32⟩
  | 63 => ⟨S16x512x2048, .f32⟩
  | 64 => ⟨S2048, .i32⟩
  | 65 => ⟨S1x2048, .i32⟩
  | 66 => ⟨S_, .i32⟩
  | 67 => ⟨S_, .i32⟩
  | 68 => ⟨S1x2048, .i32⟩
  | 69 => ⟨S1x2048, .i32⟩
  | 70 => ⟨S1x2048, .i32⟩
  | 71 => ⟨S_, .i32⟩
  | 72 => ⟨S1x2048, .i32⟩
  | 73 => ⟨S1x2048, .i1⟩
  | 74 => ⟨S1x2048, .i32⟩
  | 75 => ⟨S1x2048, .i32⟩
  | 76 => ⟨S_, .i32⟩
  | 77 => ⟨S1x2048, .i32⟩
  | 78 => ⟨S1x2048, .i1⟩
  | 79 => ⟨S1x2048, .i1⟩
  | 80 => ⟨S_, .i32⟩
  | 81 => ⟨S1x2048, .i32⟩
  | 82 => ⟨S1x2048, .i32⟩
  | 83 => ⟨S1x2048, .i32⟩
  | 84 => ⟨S512, .i32⟩
  | 85 => ⟨S_, .i32⟩
  | 86 => ⟨S512, .i32⟩
  | 87 => ⟨S512, .i32⟩
  | 88 => ⟨S512x1, .i32⟩
  | 89 => ⟨S_, .i32⟩
  | 90 => ⟨S_, .i32⟩
  | 91 => ⟨S512x1, .i32⟩
  | 92 => ⟨S512x1, .i32⟩
  | 93 => ⟨S512x1, .i32⟩
  | 94 => ⟨S_, .i32⟩
  | 95 => ⟨S512x1, .i32⟩
  | 96 => ⟨S512x1, .i1⟩
  | 97 => ⟨S512x1, .i32⟩
  | 98 => ⟨S512x1, .i32⟩
  | 99 => ⟨S_, .i32⟩
  | 100 => ⟨S512x1, .i32⟩
  | 101 => ⟨S512x1, .i1⟩
  | 102 => ⟨S512x1, .i1⟩
  | 103 => ⟨S_, .i32⟩
  | 104 => ⟨S512x1, .i32⟩
  | 105 => ⟨S512x1, .i32⟩
  | 106 => ⟨S512x1, .i32⟩
  | 107 => ⟨S512x2048, .i32⟩
  | 108 => ⟨S512x2048, .i32⟩
  | 109 => ⟨S512x2048, .i1⟩
  | 110 => ⟨S1x512x2048, .i1⟩
  | 111 => ⟨S_, .f32⟩
  | 112 => ⟨S16x512x2048, .f32⟩
  | 113 => ⟨S16x512x2048, .f32⟩
  | 114 => ⟨S_, .f32⟩
  | 115 => ⟨S_, .f32⟩
  | 116 => ⟨S16x512x2048, .i1⟩
  | 117 => ⟨S16x512x2048, .f32⟩
  | 118 => ⟨S16x512x2048, .f32⟩
  | 119 => ⟨S_, .f32⟩
  | 120 => ⟨S16x512, .f32⟩
  | 121 => ⟨S_, .f32⟩
  | 122 => ⟨S16x512, .f32⟩
  | 123 => ⟨S16x512, .f32⟩
  | 124 => ⟨S16x512x1, .f32⟩
  | 125 => ⟨S16x512x2048, .f32⟩
  | 126 => ⟨S16x512x2048, .f32⟩
  | 127 => ⟨S16x512x2048, .f32⟩
  | _ => ⟨S2048x4096, .f32⟩

abbrev hbmTy0_1 (i : Nat) : BufTy := match i % 128 with
  | 0 => ⟨S_, .f32⟩
  | 1 => ⟨S16x512, .f32⟩
  | 2 => ⟨S16x512x1, .f32⟩
  | 3 => ⟨S16x512x2048, .f32⟩
  | 4 => ⟨S16x512x2048, .f32⟩
  | 5 => ⟨S2048x16x128, .f32⟩
  | 6 => ⟨S16x128x512, .f32⟩
  | 7 => ⟨S512x16x128, .f32⟩
  | 8 => ⟨S512x2048, .f32⟩
  | 9 => ⟨S1536x2048, .bf16⟩
  | 10 => ⟨S512x2048, .bf16⟩
  | 11 => ⟨S2048x2048, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v57 : Ref sig .tc := ⟨.hbm, 83, rfl⟩
abbrev main_v58 : Ref sig .tc := ⟨.hbm, 84, rfl⟩
abbrev main_c_3 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_4 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_5 : Ref sig .tc := ⟨.hbm, 111, rfl⟩
abbrev main_v67 : Ref sig .tc := ⟨.hbm, 112, rfl⟩
abbrev main_v68 : Ref sig .tc := ⟨.hbm, 113, rfl⟩
abbrev main_cst_6 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v69 : Ref sig .tc := ⟨.hbm, 118, rfl⟩
abbrev main_cst_7 : Ref sig .tc := ⟨.hbm, 119, rfl⟩
abbrev main_v70 : Ref sig .tc := ⟨.hbm, 120, rfl⟩
abbrev main_cst_8 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_9 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩

abbrev nD : Nat := 1
abbrev τ : Topo := Topo.v7x

variable {F : FTy → Type} [FloatOps F]
-- ==== Proof.GmOut.lean ====
/- What one grid point leaves in each of its six output blocks, as the printed operations over the blocks it reads:
   `A` at the first of a group's sixteen points, which clears the four accumulators, `B` at the others. -/
module

public import proofs.«01_k».proof.Proof.Gen.GmIdeal.Value

@[expose] public section

set_option maxRecDepth 16384

noncomputable section

namespace Cert.Proof.Gm

open Idealize.ShloMosaic Idealize.SL.Sem Cert.GmIdeal Cert.GmIdeal.Gen

theorem hz2 : (![0, 0] : Fin 2 → ℕ) = fun _ => 0 := by decide
theorem hz3 : (![0, 0, 0] : Fin 3 → ℕ) = fun _ => 0 := by decide

/-- Column numbers of the 128 × 128 mask. -/
def tCol : IVec S128x128 32 := iota .tc S128x128 32 [1] iota_S128x128_d1_w32
/-- The sign of the divisor 64, as the floor division computes it. -/
def tSgn : BitVec 32 :=
  Scalar.subi (Scalar.extui (Scalar.cmpi .sgt 64#32 0#32)) (Scalar.extui (Scalar.cmpi .slt 64#32 0#32))
/-- The mask. -/
def tMask : IVec S128x128 1 := k0_pay17 k0_pay14 tCol 64#32 k0_pay15 k0_pay16 tSgn

variable (x0 x1 : Vec Ideal S128x256 .f32) (x2 x3 : Vec Ideal S1x256 .f32) (x4 : Vec Ideal S1x128x128 .f32)
  (x5 : Vec Ideal S1x128x1 .f32) (x6 : Vec Ideal S128x256 .f32)

/-- The normalised rows. -/
def tXh : FVec Ideal S128x256 .f32 := k0_pay11 x1 (k0_pay6 x1)
/-- The normalised rows, scaled and shifted. -/
def tVn : FVec Ideal S128x256 .bf16 := k0_pay13 (tXh x1) (k0_pay12 x2) x3
/-- The gradient in the normalised, scaled and shifted rows. -/
def tDvn : FVec Ideal S128x256 .f32 := k0_pay23 (k0_pay4 x0) k0_pay14 tCol 64#32 k0_pay15 k0_pay16 tSgn x4 x6
/-- The block of the gradient in the first branch. -/
def tDu : FVec Ideal S128x256 .bf16 :=
  k0_pay19 (k0_pay5 x0) (tVn x1 x2 x3) k0_pay14 tCol 64#32 k0_pay15 k0_pay16 tSgn x4 x5 x6
/-- The block of the gradient in the second branch. -/
def tDv : FVec Ideal S128x256 .bf16 :=
  k0_pay26 (k0_pay8 x1 (k0_pay6 x1)) (k0_pay10 x1 (k0_pay6 x1)) (tXh x1)
    (k0_pay24 (k0_pay4 x0) k0_pay14 tCol 64#32 k0_pay15 k0_pay16 tSgn x4 x6 x2)
    (k0_pay25 (k0_pay4 x0) k0_pay14 tCol 64#32 k0_pay15 k0_pay16 tSgn x4 x6 x2)
/-- The block of the scale's gradient, over what it held. -/
def tDlg (y : Vec Ideal S1x256 .f32) : FVec Ideal S1x256 .f32 := k0_pay31 (tXh x1) (tDvn x0 x4 x6) y
/-- The block of the shift's gradient, over what it held. -/
def tDlb (y : Vec Ideal S1x256 .f32) : FVec Ideal S1x256 .f32 := k0_pay32 (tDvn x0 x4 x6) y
/-- The block of the weights' gradient, over what it held. -/
def tDws (y : Vec Ideal S1x128x128 .f32) : FVec Ideal S1x128x128 .f32 :=
  k0_pay1 (k0_pay33 tMask (k0_pay22 (k0_pay4 x0) (tVn x1 x2 x3) x6) y)
/-- The block of the bias's gradient, over what it held. -/
def tDbs (y : Vec Ideal S1x128x1 .f32) : FVec Ideal S1x128x1 .f32 := k0_pay2 (k0_pay20 (k0_pay4 x0) x6) y

theorem out_A_7 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDu x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_A_8 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDv x0 x1 x2 x4 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_A_9 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDlg x0 x1 x4 x6 (k0_pay27 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  sl_unfold_run_names
  rw [View.canon_cons_unit_zero (S := S1x256) hz2, View.readCov_unit_zero (S := S1x256) _ hz2]
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_A_10 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDlb x0 x4 x6 (k0_pay28 (F := Ideal)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  sl_unfold_run_names
  rw [View.canon_cons_unit_zero (S := S1x256) hz2, View.readCov_unit_zero (S := S1x256) _ hz2]
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_A_11 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDws x0 x1 x2 x3 x6 (k0_pay29 (F := Ideal)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  sl_unfold_run_names
  rw [View.canon_cons_unit_zero (S := S1x128x128) hz3, View.readCov_unit_zero (S := S1x128x128) _ hz3]
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_A_12 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tDbs x0 x6 (k0_pay30 (F := Ideal)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A; dsimp only
  sl_unfold_run_names
  rw [View.canon_cons_unit_zero (S := S1x128x1) hz3, View.readCov_unit_zero (S := S1x128x1) _ hz3]
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_7 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDu x0 x1 x2 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_8 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDv x0 x1 x2 x4 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_9 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDlg x0 x1 x4 x6 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_10 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDlb x0 x4 x6 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz2]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_11 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDws x0 x1 x2 x3 x6 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz3]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

theorem out_B_12 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x256 .f32) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128x128 .f32) (harg13 : arg13.IsWhole) (arg14 : Memref sig .tc .vmem S1x128x1 .f32) (harg14 : arg14.IsWhole) (hc0 : ¬cond0_0 i)
    (xo9 xo10 : Vec Ideal S1x256 .f32) (xo11 : Vec Ideal S1x128x128 .f32) (xo12 : Vec Ideal S1x128x1 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12 = tDbs x0 x6 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 xo11 xo12)]
  unfold kernelRun0_B; dsimp only
  rw [View.canon_unit_zero hz3]
  sl_unfold_run_names
  simp only [View.readAt_eq_ld, harg2.read_unread, harg3.read_unread, harg4.read_unread, harg5.read_unread, harg6.read_unread,
    harg7.read_unread, harg8.read_unread, harg11.read_unread, harg12.read_unread, harg13.read_unread, harg14.read_unread,
    View.ld_unit_zero (S := S128x256) hz2, View.ld_unit_zero (S := S1x256) hz2, View.ld_unit_zero (S := S1x128x128) hz3,
    View.ld_unit_zero (S := S1x128x1) hz3]
  rfl

end Cert.Proof.Gm

end
-- ==== Proof.GmConsts.lean ====
/- The float constants the two programs spell, as the real numbers their bit patterns denote over the
   extended reals, and the two constants that carry a name. -/
module

public import Idealize.ShloMosaic.PureOps.Ideal

@[expose] public section

noncomputable section

namespace Cert.Proof.Gm

open Idealize.ShloMosaic

/-- The float nearest to `√(2/π)`. -/
def c0 : ℝ := 6693141 / 8388608

/-- The cubic coefficient of the tanh form of gelu. -/
def g1 : ℝ := 8943 / 200000

/-- The float nearest to `10⁻⁶`. -/
def eps : ℝ := 8796093 / 8796093022208

theorem eps_pos : 0 < eps := by unfold eps; norm_num

/-- `0.5`. -/
theorem lit_half : Ideal.ofBits .f32 0x3F000000#32 = (((1 / 2 : ℝ)) : EReal) := by
  simp [Ideal.ofBits, Ideal.ieee, -EReal.coe_mul]; norm_num
/-- `-0.5`. -/
theorem lit_neg_half : Ideal.ofBits .f32 0xBF000000#32 = (((-(1 / 2) : ℝ)) : EReal) := by
  simp [Ideal.ofBits, Ideal.ieee, -EReal.coe_mul]; norm_num
/-- `0`. -/
theorem lit_zero : Ideal.ofBits .f32 0x00000000#32 = ((0 : ℝ) : EReal) := by
  simp [Ideal.ofBits, Ideal.ieee, -EReal.coe_mul]
/-- `1`. -/
theorem lit_one : Ideal.ofBits .f32 0x3F800000#32 = ((1 : ℝ) : EReal) := by
  simp [Ideal.ofBits, Ideal.ieee, -EReal.coe_mul]; norm_num
/-- `2`. -/
theorem lit_two : Ideal.ofBits .f32 0x40000000#32 = ((2 : ℝ) : EReal) := by
  simp [Ideal.ofBits, Ideal.ieee, -EReal.coe_mul]; norm_num
/-- `3`. -/
theorem lit_three : Ideal.ofBits .f32 0x40400000#32 = ((3 : ℝ) : EReal) := by
  simp [Ideal.ofBits, Ideal.ieee, -EReal.coe_mul]; norm_num
/-- `256`. -/
theorem lit_256 : Ideal.ofBits .f32 0x43800000#32 = ((256 : ℝ) : EReal) := by
  simp [Ideal.ofBits, Ideal.ieee, -EReal.coe_mul]; norm_num
/-- The rounded `√(2/π)`. -/
theorem lit_c0 : Ideal.ofBits .f32 0x3F4C422A#32 = (c0 : EReal) := by
  unfold c0; simp [Ideal.ofBits, Ideal.ieee, -EReal.coe_mul]; norm_num
/-- The rounded `10⁻⁶`. -/
theorem lit_eps : Ideal.ofBits .f32 0x358637BD#32 = (eps : EReal) := by
  unfold eps; simp [Ideal.ofBits, Ideal.ieee, -EReal.coe_mul]; norm_num
/-- `44715`. -/
theorem lit_44715 : Ideal.ofBits .f32 0x472EAB00#32 = ((44715 : ℝ) : EReal) := by
  simp [Ideal.ofBits, Ideal.ieee, -EReal.coe_mul]; norm_num
/-- `10⁶`. -/
theorem lit_million : Ideal.ofBits .f32 0x49742400#32 = ((1000000 : ℝ) : EReal) := by
  simp [Ideal.ofBits, Ideal.ieee, -EReal.coe_mul]; norm_num
/-- `+∞`. -/
theorem lit_inf : Ideal.ofBits .f32 0x7F800000#32 = (⊤ : EReal) := by
  simp [Ideal.ofBits, Ideal.ieee, -EReal.coe_mul]

/-- A finite sum of reals, read as an extended real, is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing one real by another that is not zero is real division. -/
theorem div_real (x y : ℝ) (h : y ≠ 0) : Ideal.div (x : EReal) (y : EReal) = ((x / y : ℝ) : EReal) := by
  rw [Ideal.div_coe h, ← EReal.coe_mul]; congr 1; ring

/-- The reciprocal square root of a positive real. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

end Cert.Proof.Gm

end
-- ==== Proof.GmMath.lean ====
/- The spatial gating unit with a gelu on both branches, and its gradient, over the real numbers. -/
module

public import proofs.«01_k».proof.Proof.GmConsts

@[expose] public section

noncomputable section

namespace Cert.Proof.Gm

/-- The tanh of gelu's tanh form. -/
def th (x : ℝ) : ℝ := Real.tanh (c0 * (x + g1 * x * x * x))
/-- Gelu, in its tanh form. -/
def gelu (x : ℝ) : ℝ := 1 / 2 * x * (1 + th x)
/-- The derivative of gelu. -/
def gelud (x : ℝ) : ℝ :=
  1 / 2 * (1 + th x) + 1 / 2 * x * (1 - th x * th x) * c0 * (1 + 3 * g1 * x * x)

/-- The mean of a row of 256 numbers. -/
def mean (f : Fin 256 → ℝ) : ℝ := (∑ c, f c) / 256
/-- A row less its mean. -/
def vc (f : Fin 256 → ℝ) (c : Fin 256) : ℝ := f c - mean f
/-- The variance of a row plus the small constant. -/
def vare (f : Fin 256 → ℝ) : ℝ := mean (fun c => vc f c * vc f c) + eps
/-- The reciprocal standard deviation of a row. -/
def rstd (f : Fin 256 → ℝ) : ℝ := (Real.sqrt (vare f))⁻¹
/-- A row normalised to mean zero and variance one. -/
def xh (f : Fin 256 → ℝ) (c : Fin 256) : ℝ := vc f c * rstd f
/-- The gradient of a row's normalisation: `d` is the gradient in the normalised row. -/
def lnb (f d : Fin 256 → ℝ) (c : Fin 256) : ℝ :=
  rstd f * (d c - mean d - xh f c * mean (fun k => d k * xh f k))

theorem vare_pos (f : Fin 256 → ℝ) : 0 < vare f := by
  have h : 0 ≤ mean (fun c => vc f c * vc f c) :=
    div_nonneg (Finset.sum_nonneg fun c _ => mul_self_nonneg _) (by norm_num)
  unfold vare; linarith [eps_pos]

theorem rstd_pos (f : Fin 256 → ℝ) : 0 < rstd f := inv_pos.mpr (Real.sqrt_pos.mpr (vare_pos f))

/-- The reciprocal standard deviation over the variance is its cube. -/
theorem rstd_div (f : Fin 256 → ℝ) : rstd f / vare f = rstd f * rstd f * rstd f := by
  have h : rstd f * rstd f = (vare f)⁻¹ := by
    unfold rstd; rw [← mul_inv, Real.mul_self_sqrt (vare_pos f).le]
  rw [h, div_eq_mul_inv, mul_comm]

/-- A row less its mean sums to zero. -/
theorem sum_vc (f : Fin 256 → ℝ) : ∑ c, vc f c = 0 := by
  unfold vc mean; rw [Finset.sum_sub_distrib]; simp; ring

/-- The gradient of the normalisation as it comes from differentiating each step of it (the product with the
    reciprocal deviation, the root, the variance, the mean): the closed form `lnb`. -/
theorem lnb_steps (f d : Fin 256 → ℝ) (c : Fin 256) :
    d c * rstd f
      + (∑ k, vc f k * d k) * (-(1 / 2) * (rstd f / vare f)) / 256 * (2 * vc f c)
      + ((∑ k, -(d k * rstd f))
        + ∑ k, -((∑ k, vc f k * d k) * (-(1 / 2) * (rstd f / vare f)) / 256 * (2 * vc f k))) / 256
      = lnb f d c := by
  have h1 : (∑ k, -((∑ k, vc f k * d k) * (-(1 / 2) * (rstd f / vare f)) / 256 * (2 * vc f k))) = 0 := by
    rw [Finset.sum_neg_distrib, ← Finset.mul_sum, ← Finset.mul_sum, sum_vc]; ring
  have h2 : (∑ k, -(d k * rstd f)) = -((∑ k, d k) * rstd f) := by
    rw [Finset.sum_neg_distrib, Finset.sum_mul]
  have h3 : (∑ k, d k * xh f k) = (∑ k, vc f k * d k) * rstd f := by
    rw [Finset.sum_mul]; exact Finset.sum_congr rfl fun k _ => by unfold xh; ring
  rw [h1, h2, rstd_div]
  unfold lnb mean; rw [h3]; unfold xh; ring

/-- Whether position `j` is visible from position `i` within a chunk of 128: blocks of 64, causal. -/
abbrev vis (i j : Fin 128) : Prop := j.val / 64 ≤ i.val / 64
/-- The mixing weights with what is not visible set to zero. -/
def wm (W : Fin 128 → Fin 128 → ℝ) (i j : Fin 128) : ℝ := if vis i j then W i j else 0

variable (U V D : Fin 128 → Fin 256 → ℝ) (G B : Fin 256 → ℝ) (W : Fin 128 → Fin 128 → ℝ) (b : Fin 128 → ℝ)

/-- The normalised branch of one chunk and one group, scaled and shifted. -/
def vn (r : Fin 128) (c : Fin 256) : ℝ := xh (fun k => gelu (V r k)) c * G c + B c
/-- The gate of one chunk and one group. -/
def gate (r : Fin 128) (c : Fin 256) : ℝ := (∑ j, wm W r j * vn V G B j c) + b r
/-- The gradient in the first branch. -/
def du (r : Fin 128) (c : Fin 256) : ℝ := D r c * gate V G B W b r c * gelud (U r c)
/-- The gradient in the gate. -/
def dgate (r : Fin 128) (c : Fin 256) : ℝ := D r c * gelu (U r c)
/-- One chunk's contribution to the gradient in the weights, before the mask. -/
def dwm (i j : Fin 128) : ℝ := ∑ c, dgate U D i c * vn V G B j c
/-- The gradient in the normalised branch. -/
def dvn (j : Fin 128) (c : Fin 256) : ℝ := ∑ i, wm W i j * dgate U D i c
/-- The gradient in the second branch. -/
def dv (r : Fin 128) (c : Fin 256) : ℝ :=
  lnb (fun k => gelu (V r k)) (fun k => dvn U D W r k * G k) c * gelud (V r c)
/-- One chunk's contribution to the gradient in the scale. -/
def dlg (c : Fin 256) : ℝ := ∑ r, dvn U D W r c * xh (fun k => gelu (V r k)) c
/-- One chunk's contribution to the gradient in the shift. -/
def dlb (c : Fin 256) : ℝ := ∑ r, dvn U D W r c
/-- One chunk's contribution to the gradient in the weights. -/
def dws (i j : Fin 128) : ℝ := if vis i j then dwm U V D G B i j else 0
/-- One chunk's contribution to the gradient in the bias. -/
def dbs (i : Fin 128) : ℝ := ∑ c, dgate U D i c

end Cert.Proof.Gm

end
-- ==== Proof.GmPay.lean ====
/- What one grid point's blocks hold when the blocks it reads hold real numbers: the gradient's real formulas. -/
module

public import proofs.«01_k».proof.Proof.GmOut
public import proofs.«01_k».proof.Proof.GmMath
public import Idealize.ShloMosaic.Lib.Pointwise

@[expose] public section

set_option maxRecDepth 16384

noncomputable section

namespace Cert.Proof.Gm

open Idealize.ShloMosaic Idealize.SL.Sem Cert.GmIdeal Cert.GmIdeal.Gen

/-- The named cubic coefficient. -/
theorem nm_g1 : Named.named (F := Ideal) (φ := .f32) κ "g1" 0x3D372713#32 = ((g1 : ℝ) : EReal) :=
  IdealRules.named_const.ideal_named_scalar _ _ _ _ rfl
/-- The named triple of the cubic coefficient. -/
theorem nm_g3 : Named.named (F := Ideal) (φ := .f32) κ "g3" 0x3E095D4F#32 = ((3 * g1 : ℝ) : EReal) := by
  have h : Named.named (F := Ideal) (φ := .f32) κ "g3" 0x3E095D4F#32 = ((26829 / 200000 : ℝ) : EReal) :=
    IdealRules.named_const.ideal_named_scalar _ _ _ _ rfl
  rw [h]; unfold g1; norm_num

variable (x0 x1 : Vec Ideal S128x256 .f32) (x2 x3 : Vec Ideal S1x256 .f32) (x4 : Vec Ideal S1x128x128 .f32)
  (x5 : Vec Ideal S1x128x1 .f32) (x6 : Vec Ideal S128x256 .f32)
variable (U V D : Fin 128 → Fin 256 → ℝ) (G B : Fin 256 → ℝ) (W : Fin 128 → Fin 128 → ℝ) (b : Fin 128 → ℝ)

/-- A block of real numbers. -/
abbrev Is (x : Vec Ideal S128x256 .f32) (U : Fin 128 → Fin 256 → ℝ) : Prop := ∀ r c, x (ix2 r c) = (U r c : EReal)

variable {x0 x1 x2 x3 x4 x5 x6 U V D G B W b}

theorem pay3_eq (h : Is x0 U) (r : Fin 128) (c : Fin 256) : k0_pay3 (F := Ideal) x0 (ix2 r c) = (th (U r c) : EReal) := by
  pointwise [k0_pay3]
  rw [h, nm_g1, lit_c0]
  norm_cast
theorem pay4_eq (h : Is x0 U) (r : Fin 128) (c : Fin 256) : k0_pay4 (F := Ideal) x0 (ix2 r c) = (gelu (U r c) : EReal) := by
  pointwise [k0_pay4]
  rw [pay3_eq h, h, lit_half]
  norm_cast
theorem pay5_eq (h : Is x0 U) (r : Fin 128) (c : Fin 256) : k0_pay5 (F := Ideal) x0 (ix2 r c) = (gelud (U r c) : EReal) := by
  pointwise [k0_pay5]
  rw [pay3_eq h, h, lit_half, lit_c0, nm_g3]
  norm_cast
theorem pay7_eq (h : Is x1 V) (r : Fin 128) (c : Fin 256) : k0_pay7 (F := Ideal) (k0_pay6 x1) (ix2 r c) = (th (V r c) : EReal) := by
  pointwise [k0_pay7, k0_pay6]
  rw [h, nm_g1, lit_c0]
  norm_cast
theorem pay8_eq (h : Is x1 V) (r : Fin 128) (c : Fin 256) : k0_pay8 (F := Ideal) x1 (k0_pay6 x1) (ix2 r c) = (gelud (V r c) : EReal) := by
  pointwise [k0_pay8]
  rw [pay7_eq h, h, lit_half, lit_c0, nm_g3]
  norm_cast
theorem pay9_eq (h : Is x1 V) (r : Fin 128) (c : Fin 256) :
    k0_pay9 (F := Ideal) x1 (k0_pay6 x1) (ix2 r c) = (vc (fun k => gelu (V r k)) c : EReal) := by
  pointwise [k0_pay9]
  simp only [pay7_eq h, h _ _, lit_half, lit_256, ← EReal.coe_one, ← EReal.coe_mul, ← EReal.coe_add, ← coe_sum]
  rw [div_real _ _ (by norm_num)]
  norm_cast
theorem pay10_eq (h : Is x1 V) (r : Fin 128) :
    k0_pay10 (F := Ideal) x1 (k0_pay6 x1) (ix2 r 0) = (rstd (fun k => gelu (V r k)) : EReal) := by
  pointwise [k0_pay10]
  simp only [pay9_eq h, lit_eps, lit_256, ← EReal.coe_mul, ← coe_sum]
  rw [div_real _ _ (by norm_num), ← EReal.coe_add]
  exact rsqrt_real _ (vare_pos _)
theorem tXh_eq (h : Is x1 V) (r : Fin 128) (c : Fin 256) : tXh x1 (ix2 r c) = (xh (fun k => gelu (V r k)) c : EReal) := by
  pointwise [tXh, k0_pay11]
  rw [pay9_eq h, pay10_eq h]
  norm_cast
theorem tVn_eq (h : Is x1 V) (h2 : ∀ c, x2 (ix2 0 c) = (G c : EReal)) (h3 : ∀ c, x3 (ix2 0 c) = (B c : EReal))
    (r : Fin 128) (c : Fin 256) : tVn x1 x2 x3 (ix2 r c) = (vn V G B r c : EReal) := by
  pointwise [tVn, k0_pay13, k0_pay12]
  rw [tXh_eq h, h2, h3]
  norm_cast
/-- The floor division by 64, as it is spelled. -/
theorem floor64 : ∀ i : Fin 128, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by decide +kernel
/-- Comparing the block numbers. -/
theorem sge64 (i j : Fin 128) : IntOp.cmpi CmpIPredicate.sge (BitVec.ofNat 32 (i.val / 64)) (BitVec.ofNat 32 (j.val / 64))
    = if vis i j then 1#1 else 0#1 := by
  have key : ∀ p q : Fin 2, IntOp.cmpi CmpIPredicate.sge (BitVec.ofNat 32 p.val) (BitVec.ofNat 32 q.val)
      = if q.val ≤ p.val then 1#1 else 0#1 := by decide
  exact key ⟨i.val / 64, by omega⟩ ⟨j.val / 64, by omega⟩
theorem tRow_eq (i j : Fin 128) : k0_pay14 (ix2 i j) = BitVec.ofNat 32 (i.val / 64) := by
  pointwise [k0_pay14]
  exact floor64 i
theorem tMask_eq (i j : Fin 128) : tMask (ix2 i j) = if vis i j then 1#1 else 0#1 := by
  pointwise [tMask, k0_pay17, k0_pay15, k0_pay16, tCol]
  rw [tRow_eq, tSgn, floor64 j]
  exact sge64 i j
/-- A block of the weights. -/
abbrev IsW (x : Vec Ideal S1x128x128 .f32) (W : Fin 128 → Fin 128 → ℝ) : Prop := ∀ i j, x (ix3 0 i j) = (W i j : EReal)
theorem pay18_eq (h : IsW x4 W) (i j : Fin 128) :
    k0_pay18 (F := Ideal) k0_pay14 tCol 64#32 k0_pay15 k0_pay16 tSgn x4 (ix2 i j) = (wm W i j : EReal) := by
  pointwise [k0_pay18]
  have hm := tMask_eq i j
  unfold tMask at hm
  rw [hm, h]
  unfold wm
  by_cases hv : vis i j <;> simp [hv, Scalar.select]
theorem tDu_eq (h0 : Is x0 U) (h : Is x1 V) (h2 : ∀ c, x2 (ix2 0 c) = (G c : EReal)) (h3 : ∀ c, x3 (ix2 0 c) = (B c : EReal))
    (h4 : IsW x4 W) (h5 : ∀ i, x5 (ix3 0 i 0) = (b i : EReal)) (h6 : Is x6 D) (r : Fin 128) (c : Fin 256) :
    tDu x0 x1 x2 x3 x4 x5 x6 (ix2 r c) = (du U V D G B W b r c : EReal) := by
  pointwise [tDu, k0_pay19]
  simp only [pay18_eq h4, tVn_eq h h2 h3, pay5_eq h0]
  simp only [h5 _, h6 _ _, ← EReal.coe_mul, ← EReal.coe_add, ← EReal.coe_sub, ← coe_sum]
  rfl
theorem pay20_eq (h0 : Is x0 U) (h6 : Is x6 D) (r : Fin 128) (c : Fin 256) :
    k0_pay20 (F := Ideal) (k0_pay4 x0) x6 (ix2 r c) = (dgate U D r c : EReal) := by
  pointwise [k0_pay20]
  rw [pay4_eq h0, h6]
  norm_cast
theorem pay21_eq (h0 : Is x0 U) (h6 : Is x6 D) (r : Fin 128) (c : Fin 256) :
    k0_pay21 (F := Ideal) (k0_pay4 x0) x6 (ix2 r c) = (dgate U D r c : EReal) := by
  pointwise [k0_pay21]
  exact pay20_eq h0 h6 r c
theorem pay22_eq (h0 : Is x0 U) (h : Is x1 V) (h2 : ∀ c, x2 (ix2 0 c) = (G c : EReal)) (h3 : ∀ c, x3 (ix2 0 c) = (B c : EReal))
    (h6 : Is x6 D) (i j : Fin 128) :
    k0_pay22 (F := Ideal) (k0_pay4 x0) (tVn x1 x2 x3) x6 (ix2 i j) = (dwm U V D G B i j : EReal) := by
  pointwise [k0_pay22]
  simp only [pay21_eq h0 h6, tVn_eq h h2 h3]
  simp only [← EReal.coe_mul, ← EReal.coe_add, ← EReal.coe_sub, ← coe_sum]
  rfl
theorem tDvn_eq (h0 : Is x0 U) (h4 : IsW x4 W) (h6 : Is x6 D) (r : Fin 128) (c : Fin 256) :
    tDvn x0 x4 x6 (ix2 r c) = (dvn U D W r c : EReal) := by
  pointwise [tDvn, k0_pay23]
  simp only [pay21_eq h0 h6, pay18_eq h4]
  simp only [← EReal.coe_mul, ← EReal.coe_add, ← EReal.coe_sub, ← coe_sum]
  rfl
theorem pay24_eq (h0 : Is x0 U) (h2 : ∀ c, x2 (ix2 0 c) = (G c : EReal)) (h4 : IsW x4 W) (h6 : Is x6 D) (r : Fin 128) (c : Fin 256) :
    k0_pay24 (F := Ideal) (k0_pay4 x0) k0_pay14 tCol 64#32 k0_pay15 k0_pay16 tSgn x4 x6 x2 (ix2 r c)
      = ((dvn U D W r c * G c : ℝ) : EReal) := by
  pointwise [k0_pay24]
  have e := tDvn_eq h0 h4 h6 r c
  unfold tDvn at e
  rw [e, h2]
  norm_cast
theorem pay25_eq (h0 : Is x0 U) (h2 : ∀ c, x2 (ix2 0 c) = (G c : EReal)) (h4 : IsW x4 W) (h6 : Is x6 D) (r : Fin 128) (c : Fin 256) :
    k0_pay25 (F := Ideal) (k0_pay4 x0) k0_pay14 tCol 64#32 k0_pay15 k0_pay16 tSgn x4 x6 x2 (ix2 r c)
      = ((mean (fun k => dvn U D W r k * G k) : ℝ) : EReal) := by
  pointwise [k0_pay25]
  simp only [pay24_eq h0 h2 h4 h6, lit_256, ← EReal.coe_mul, ← EReal.coe_add, ← EReal.coe_sub, ← coe_sum]
  rw [div_real _ _ (by norm_num)]
  rfl
theorem tDv_eq (h0 : Is x0 U) (h : Is x1 V) (h2 : ∀ c, x2 (ix2 0 c) = (G c : EReal))
    (h4 : IsW x4 W) (h6 : Is x6 D) (r : Fin 128) (c : Fin 256) :
    tDv x0 x1 x2 x4 x6 (ix2 r c) = (dv U V D G W r c : EReal) := by
  pointwise [tDv, k0_pay26]
  simp only [pay24_eq h0 h2 h4 h6, pay25_eq h0 h2 h4 h6, pay10_eq h, tXh_eq h, pay8_eq h, lit_256, ← EReal.coe_mul, ← EReal.coe_add, ← EReal.coe_sub, ← coe_sum]
  rw [div_real _ _ (by norm_num)]
  simp only [← EReal.coe_mul, ← EReal.coe_add, ← EReal.coe_sub, ← coe_sum]
  rfl
theorem tDlg_eq (h0 : Is x0 U) (h : Is x1 V) (h4 : IsW x4 W) (h6 : Is x6 D) (y : Vec Ideal S1x256 .f32) (c : Fin 256) :
    tDlg x0 x1 x4 x6 y (ix2 0 c) = y (ix2 0 c) + (dlg U V D W c : EReal) := by
  pointwise [tDlg, k0_pay31]
  simp only [tDvn_eq h0 h4 h6, tXh_eq h, ← EReal.coe_mul, ← EReal.coe_add, ← EReal.coe_sub, ← coe_sum]
  rfl
theorem tDlb_eq (h0 : Is x0 U) (h4 : IsW x4 W) (h6 : Is x6 D) (y : Vec Ideal S1x256 .f32) (c : Fin 256) :
    tDlb x0 x4 x6 y (ix2 0 c) = y (ix2 0 c) + (dlb U D W c : EReal) := by
  pointwise [tDlb, k0_pay32]
  simp only [tDvn_eq h0 h4 h6, ← EReal.coe_mul, ← EReal.coe_add, ← EReal.coe_sub, ← coe_sum]
  rfl
theorem tDws_eq (h0 : Is x0 U) (h : Is x1 V) (h2 : ∀ c, x2 (ix2 0 c) = (G c : EReal)) (h3 : ∀ c, x3 (ix2 0 c) = (B c : EReal))
    (h6 : Is x6 D) (y : Vec Ideal S1x128x128 .f32) (i j : Fin 128) :
    tDws x0 x1 x2 x3 x6 y (ix3 0 i j) = y (ix3 0 i j) + (dws U V D G B i j : EReal) := by
  pointwise [tDws, k0_pay1, k0_pay33]
  rw [tMask_eq, pay22_eq h0 h h2 h3 h6]
  unfold dws
  by_cases hv : vis i j <;> simp [hv, Scalar.select]
theorem tDbs_eq (h0 : Is x0 U) (h6 : Is x6 D) (y : Vec Ideal S1x128x1 .f32) (i : Fin 128) :
    tDbs x0 x6 y (ix3 0 i 0) = y (ix3 0 i 0) + (dbs U D i : EReal) := by
  pointwise [tDbs, k0_pay2]
  simp only [pay20_eq h0 h6, ← EReal.coe_mul, ← EReal.coe_add, ← EReal.coe_sub, ← coe_sum]
  rfl
end Cert.Proof.Gm

end
-- ==== Proof.GmGlob.lean ====
/- The arguments of one device as real arrays, cut into sixteen chunks of 128 rows and eight groups of 256 columns, and the
   six gradients of the whole array, each from the formulas of one chunk and one group. -/
module

public import proofs.«01_k».proof.Proof.GmMath

@[expose] public section

noncomputable section

namespace Cert.Proof.Gm

/-- Row `r` of chunk `n`. -/
def ni (n : Fin 16) (r : Fin 128) : Fin 2048 := ⟨128 * n.val + r.val, by omega⟩
/-- Column `k` of group `g`, in an array of 2048 columns. -/
def ci (g : Fin 8) (k : Fin 256) : Fin 2048 := ⟨256 * g.val + k.val, by omega⟩
/-- Column `k` of group `g` of the first branch. -/
def ui (g : Fin 8) (k : Fin 256) : Fin 9216 := ⟨256 * g.val + k.val, by omega⟩
/-- Column `k` of group `g` of the second branch. -/
def vi (g : Fin 8) (k : Fin 256) : Fin 9216 := ⟨2048 + (256 * g.val + k.val), by omega⟩
/-- Column `k` of group `g` of the incoming gradient. -/
def di (g : Fin 8) (k : Fin 256) : Fin 4096 := ⟨256 * g.val + k.val, by omega⟩

/-- The chunk of a row. -/
def nOf (i : Fin 2048) : Fin 16 := ⟨i.val / 128, by omega⟩
/-- The row in its chunk. -/
def rOf (i : Fin 2048) : Fin 128 := ⟨i.val % 128, by omega⟩
/-- The group of a column. -/
def gOf (i : Fin 2048) : Fin 8 := ⟨i.val / 256, by omega⟩
/-- The column in its group. -/
def cOf (i : Fin 2048) : Fin 256 := ⟨i.val % 256, by omega⟩

theorem nOf_ni (n : Fin 16) (r : Fin 128) : nOf (ni n r) = n := by apply Fin.ext; simp only [nOf, ni]; omega
theorem rOf_ni (n : Fin 16) (r : Fin 128) : rOf (ni n r) = r := by apply Fin.ext; simp only [rOf, ni]; omega
theorem gOf_ci (g : Fin 8) (k : Fin 256) : gOf (ci g k) = g := by apply Fin.ext; simp only [gOf, ci]; omega
theorem cOf_ci (g : Fin 8) (k : Fin 256) : cOf (ci g k) = k := by apply Fin.ext; simp only [cOf, ci]; omega
theorem ni_of (i : Fin 2048) : ni (nOf i) (rOf i) = i := by apply Fin.ext; simp only [nOf, rOf, ni]; omega
theorem ci_of (i : Fin 2048) : ci (gOf i) (cOf i) = i := by apply Fin.ext; simp only [gOf, cOf, ci]; omega

/-- The six arguments as real arrays. -/
structure Args where
  /-- The projection: first branch in columns 0–2047, second in columns 2048–4095. -/
  P : Fin 2048 → Fin 9216 → ℝ
  /-- The scale, by group. -/
  lg : Fin 8 → Fin 256 → ℝ
  /-- The shift, by group. -/
  lb : Fin 8 → Fin 256 → ℝ
  /-- The mixing weights, by group. -/
  ws : Fin 8 → Fin 128 → Fin 128 → ℝ
  /-- The bias, by group. -/
  bs : Fin 8 → Fin 128 → ℝ
  /-- The incoming gradient, in columns 0–2047. -/
  dy : Fin 2048 → Fin 4096 → ℝ

variable (a : Args) (n : Fin 16) (g : Fin 8)

/-- The first branch of one chunk and group. -/
def Args.U (r : Fin 128) (k : Fin 256) : ℝ := a.P (ni n r) (ui g k)
/-- The second branch of one chunk and group. -/
def Args.V (r : Fin 128) (k : Fin 256) : ℝ := a.P (ni n r) (vi g k)
/-- The incoming gradient of one chunk and group. -/
def Args.D (r : Fin 128) (k : Fin 256) : ℝ := a.dy (ni n r) (di g k)

/-- The gradient in the first branch. -/
def Args.du (r : Fin 128) (k : Fin 256) : ℝ :=
  Gm.du (a.U n g) (a.V n g) (a.D n g) (a.lg g) (a.lb g) (a.ws g) (a.bs g) r k
/-- The gradient in the second branch. -/
def Args.dv (r : Fin 128) (k : Fin 256) : ℝ := Gm.dv (a.U n g) (a.V n g) (a.D n g) (a.lg g) (a.ws g) r k
/-- One chunk's part of the scale's gradient. -/
def Args.pLg (k : Fin 256) : ℝ := Gm.dlg (a.U n g) (a.V n g) (a.D n g) (a.ws g) k
/-- One chunk's part of the shift's gradient. -/
def Args.pLb (k : Fin 256) : ℝ := Gm.dlb (a.U n g) (a.D n g) (a.ws g) k
/-- One chunk's part of the weights' gradient. -/
def Args.pWs (i j : Fin 128) : ℝ := Gm.dws (a.U n g) (a.V n g) (a.D n g) (a.lg g) (a.lb g) i j
/-- One chunk's part of the bias's gradient. -/
def Args.pBs (i : Fin 128) : ℝ := Gm.dbs (a.U n g) (a.D n g) i

/-- The sum of the first `k + 1` of sixteen numbers. -/
def part (f : Fin 16 → ℝ) (k : ℕ) : ℝ := ∑ j : Fin 16, if j.val ≤ k then f j else 0

theorem part_zero (f : Fin 16 → ℝ) : part f 0 = f 0 := by
  unfold part
  rw [Finset.sum_eq_single (0 : Fin 16)]
  · simp
  · intro j _ hj
    have : ¬ j.val ≤ 0 := by intro h; exact hj (Fin.ext (by simpa using h))
    rw [if_neg this]
  · simp
theorem part_succ (f : Fin 16 → ℝ) (k : ℕ) (h : k + 1 < 16) : part f (k + 1) = part f k + f ⟨k + 1, h⟩ := by
  unfold part
  have e : ∀ j : Fin 16, (if j.val ≤ k + 1 then f j else 0)
      = (if j.val ≤ k then f j else 0) + (if j = ⟨k + 1, h⟩ then f j else 0) := by
    intro j
    by_cases h1 : j.val ≤ k
    · have h2 : j ≠ ⟨k + 1, h⟩ := by rintro rfl; simp at h1
      simp [h1, h2, Nat.le_succ_of_le h1]
    · by_cases h2 : j = ⟨k + 1, h⟩
      · subst h2; simp
      · have h3 : ¬ j.val ≤ k + 1 := by intro h4; exact h2 (Fin.ext (by simp; omega))
        simp [h1, h2, h3]
  rw [Finset.sum_congr rfl fun j _ => e j, Finset.sum_add_distrib, Finset.sum_ite_eq' Finset.univ _ f]
  simp
theorem part_last (f : Fin 16 → ℝ) : part f 15 = ∑ j, f j := by
  unfold part
  exact Finset.sum_congr rfl fun j _ => if_pos (by omega)

end Cert.Proof.Gm

end
-- ==== Proof.GmArr.lean ====
/- What the six result arrays hold after the last grid point, when the arguments hold real numbers. -/
module

public import proofs.«01_k».proof.Proof.GmPay
public import proofs.«01_k».proof.Proof.GmGlob
public import Idealize.ShloMosaic.Lib.Pipeline.Value

@[expose] public section

set_option maxRecDepth 16384

noncomputable section

namespace Cert.Proof.Gm

open Idealize.ShloMosaic Idealize.ShloMosaic.TcCoe Idealize.SL.Sem Cert.GmIdeal Cert.GmIdeal.Gen Cert.GmIdeal.Value
open Idealize.ShloMosaic.Pipeline (Dat)

/-- The six argument arrays hold the real numbers `a`. -/
structure Args.Is (a : Args) (x0 : (⟨2, ![2048, 9216]⟩ : Shape).Idx → EReal) (x1 x2 : (⟨2, ![8, 256]⟩ : Shape).Idx → EReal)
    (x3 : (⟨3, ![8, 128, 128]⟩ : Shape).Idx → EReal) (x4 : (⟨2, ![8, 128]⟩ : Shape).Idx → EReal)
    (x5 : (⟨2, ![2048, 4096]⟩ : Shape).Idx → EReal) : Prop where
  h0 : ∀ i j, x0 (ix2 i j) = (a.P i j : EReal)
  h1 : ∀ g k, x1 (ix2 g k) = (a.lg g k : EReal)
  h2 : ∀ g k, x2 (ix2 g k) = (a.lb g k : EReal)
  h3 : ∀ g i j, x3 (ix3 g i j) = (a.ws g i j : EReal)
  h4 : ∀ g i, x4 (ix2 g i) = (a.bs g i : EReal)
  h5 : ∀ i j, x5 (ix2 i j) = (a.dy i j : EReal)

variable (m : (ℓ : Loc nD τ sig) → Buf (Elt Ideal) ℓ)

/-- The launch memory of one device holds the real arguments `a`. -/
abbrev HasArgs (c : Dev nD) (a : Args) : Prop :=
  a.Is (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The chunk a grid point works on. -/
def tn (t : Fin cfg0.N) : Fin 16 := ⟨t.val % 16, by omega⟩
/-- The group a grid point works on. -/
def tg (t : Fin cfg0.N) : Fin 8 := ⟨t.val / 16, by have := t.isLt; have h : cfg0.N = 128 := N_0; omega⟩

/-- The scale, flattened before the launch. -/
theorem V_v0 (c : Dev nD) : V m c main_v0 = shapeCast S1x2048 (m ((c : Thread nD τ).loc main_arg1)) shapeCasts_S8x256_S1x2048 := by
  show StableHlo.after hostOps0 _ _ = _
  after_results; rfl
/-- The shift, flattened before the launch. -/
theorem V_v1 (c : Dev nD) : V m c main_v1 = shapeCast S1x2048 (m ((c : Thread nD τ).loc main_arg2)) shapeCasts_S8x256_S1x2048 := by
  show StableHlo.after hostOps0 _ _ = _
  after_results; rfl
/-- The bias, given a trailing unit axis before the launch. -/
theorem V_v2 (c : Dev nD) : V m c main_v2 = shapeCast S8x128x1 (m ((c : Thread nD τ).loc main_arg4)) shapeCasts_S8x128_S8x128x1 := by
  show StableHlo.after hostOps0 _ _ = _
  after_results; rfl

theorem v0_at (x : Vec Ideal S8x256 .f32) (g : Fin 8) (k : Fin 256) :
    shapeCast S1x2048 x shapeCasts_S8x256_S1x2048 (ix2 0 (ci g k)) = x (ix2 g k) := by
  pointwise []
  exact congrArg x (congrArg₂ ix2 (gOf_ci g k) (cOf_ci g k))
theorem v2_at (x : Vec Ideal S8x128 .f32) (g : Fin 8) (k : Fin 128) :
    shapeCast S8x128x1 x shapeCasts_S8x128_S8x128x1 (ix3 g k 0) = x (ix2 g k) := by
  pointwise []

theorem idx0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem idx1 : ∀ t : Fin cfg0.N, win0_1.index t 0 = t.val % 16 ∧ win0_1.index t 1 = t.val / 16 + 8 :=
  (by decide +kernel : ∀ t : Fin grid0.N, win0_1.index t 0 = t.val % 16 ∧ win0_1.index t 1 = t.val / 16 + 8)
theorem idx2 : ∀ t : Fin cfg0.N, win0_2.index t 0 = 0 ∧ win0_2.index t 1 = t.val / 16 :=
  (by decide +kernel : ∀ t : Fin grid0.N, win0_2.index t 0 = 0 ∧ win0_2.index t 1 = t.val / 16)
theorem idx3 : ∀ t : Fin cfg0.N, win0_3.index t 0 = 0 ∧ win0_3.index t 1 = t.val / 16 :=
  (by decide +kernel : ∀ t : Fin grid0.N, win0_3.index t 0 = 0 ∧ win0_3.index t 1 = t.val / 16)
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem idx6 : ∀ t : Fin cfg0.N, win0_6.index t 0 = t.val % 16 ∧ win0_6.index t 1 = t.val / 16 :=
  (by decide +kernel : ∀ t : Fin grid0.N, win0_6.index t 0 = t.val % 16 ∧ win0_6.index t 1 = t.val / 16)
theorem idx7 : ∀ t : Fin cfg0.N, win0_7.index t 0 = t.val % 16 ∧ win0_7.index t 1 = t.val / 16 :=
  (by decide +kernel : ∀ t : Fin grid0.N, win0_7.index t 0 = t.val % 16 ∧ win0_7.index t 1 = t.val / 16)
theorem idx8 : ∀ t : Fin cfg0.N, win0_8.index t 0 = t.val % 16 ∧ win0_8.index t 1 = t.val / 16 :=
  (by decide +kernel : ∀ t : Fin grid0.N, win0_8.index t 0 = t.val % 16 ∧ win0_8.index t 1 = t.val / 16)
theorem idx9 : ∀ t : Fin cfg0.N, win0_9.index t 0 = 0 ∧ win0_9.index t 1 = t.val / 16 :=
  (by decide +kernel : ∀ t : Fin grid0.N, win0_9.index t 0 = 0 ∧ win0_9.index t 1 = t.val / 16)
theorem idx10 : ∀ t : Fin cfg0.N, win0_10.index t 0 = 0 ∧ win0_10.index t 1 = t.val / 16 :=
  (by decide +kernel : ∀ t : Fin grid0.N, win0_10.index t 0 = 0 ∧ win0_10.index t 1 = t.val / 16)
theorem idx11 : ∀ t : Fin cfg0.N, win0_11.index t 0 = t.val / 16 ∧ win0_11.index t 1 = 0 ∧ win0_11.index t 2 = 0 :=
  (by decide +kernel : ∀ t : Fin grid0.N, win0_11.index t 0 = t.val / 16 ∧ win0_11.index t 1 = 0 ∧ win0_11.index t 2 = 0)
theorem idx12 : ∀ t : Fin cfg0.N, win0_12.index t 0 = t.val / 16 ∧ win0_12.index t 1 = 0 ∧ win0_12.index t 2 = 0 :=
  (by decide +kernel : ∀ t : Fin grid0.N, win0_12.index t 0 = t.val / 16 ∧ win0_12.index t 1 = 0 ∧ win0_12.index t 2 = 0)
theorem iblk0 (c : Dev nD) (t : Fin cfg0.N) (r : Fin 128) (k : Fin 256) :
    (iblk m c 0 t : Vec Ideal S128x256 .f32) (ix2 r k) = V m c main_arg0 (ix2 (ni (tn t) r) (ui (tg t) k)) := by
  have hi := idx0 t
  unfold iblk
  rw [View.read_apply]
  show V m c main_arg0 _ = _
  congr 1
  funext a
  apply Fin.ext
  match a with
  | ⟨0, _⟩ =>
    show win0_0.index t 0 * 128 + 1 * r.val = 128 * (t.val % 16) + r.val
    rw [hi.1]; try omega
  | ⟨1, _⟩ =>
    show win0_0.index t 1 * 256 + 1 * k.val = 256 * (t.val / 16) + k.val
    rw [hi.2]; try omega
theorem iblk1 (c : Dev nD) (t : Fin cfg0.N) (r : Fin 128) (k : Fin 256) :
    (iblk m c 1 t : Vec Ideal S128x256 .f32) (ix2 r k) = V m c main_arg0 (ix2 (ni (tn t) r) (vi (tg t) k)) := by
  have hi := idx1 t
  unfold iblk
  rw [View.read_apply]
  show V m c main_arg0 _ = _
  congr 1
  funext a
  apply Fin.ext
  match a with
  | ⟨0, _⟩ =>
    show win0_1.index t 0 * 128 + 1 * r.val = 128 * (t.val % 16) + r.val
    rw [hi.1]; try omega
  | ⟨1, _⟩ =>
    show win0_1.index t 1 * 256 + 1 * k.val = 2048 + (256 * (t.val / 16) + k.val)
    rw [hi.2]; try omega
theorem iblk2 (c : Dev nD) (t : Fin cfg0.N) (k : Fin 256) :
    (iblk m c 2 t : Vec Ideal S1x256 .f32) (ix2 0 k) = V m c main_v0 (ix2 0 (ci (tg t) k)) := by
  have hi := idx2 t
  unfold iblk
  rw [View.read_apply]
  show V m c main_v0 _ = _
  congr 1
  funext a
  apply Fin.ext
  match a with
  | ⟨0, _⟩ =>
    show win0_2.index t 0 * 1 + 1 * 0 = 0
    rw [hi.1]; try omega
  | ⟨1, _⟩ =>
    show win0_2.index t 1 * 256 + 1 * k.val = 256 * (t.val / 16) + k.val
    rw [hi.2]; try omega
theorem iblk3 (c : Dev nD) (t : Fin cfg0.N) (k : Fin 256) :
    (iblk m c 3 t : Vec Ideal S1x256 .f32) (ix2 0 k) = V m c main_v1 (ix2 0 (ci (tg t) k)) := by
  have hi := idx3 t
  unfold iblk
  rw [View.read_apply]
  show V m c main_v1 _ = _
  congr 1
  funext a
  apply Fin.ext
  match a with
  | ⟨0, _⟩ =>
    show win0_3.index t 0 * 1 + 1 * 0 = 0
    rw [hi.1]; try omega
  | ⟨1, _⟩ =>
    show win0_3.index t 1 * 256 + 1 * k.val = 256 * (t.val / 16) + k.val
    rw [hi.2]; try omega
theorem iblk4 (c : Dev nD) (t : Fin cfg0.N) (i j : Fin 128) :
    (iblk m c 4 t : Vec Ideal S1x128x128 .f32) (ix3 0 i j) = V m c main_arg3 (ix3 (tg t) i j) := by
  have hi := idx4 t
  unfold iblk
  rw [View.read_apply]
  show V m c main_arg3 _ = _
  congr 1
  funext a
  apply Fin.ext
  match a with
  | ⟨0, _⟩ =>
    show win0_4.index t 0 * 1 + 1 * 0 = t.val / 16
    rw [hi.1]; try omega
  | ⟨1, _⟩ =>
    show win0_4.index t 1 * 128 + 1 * i.val = i.val
    rw [hi.2.1]; try omega
  | ⟨2, _⟩ =>
    show win0_4.index t 2 * 128 + 1 * j.val = j.val
    rw [hi.2.2]; try omega
theorem iblk5 (c : Dev nD) (t : Fin cfg0.N) (i : Fin 128) :
    (iblk m c 5 t : Vec Ideal S1x128x1 .f32) (ix3 0 i 0) = V m c main_v2 (ix3 (tg t) i 0) := by
  have hi := idx5 t
  unfold iblk
  rw [View.read_apply]
  show V m c main_v2 _ = _
  congr 1
  funext a
  apply Fin.ext
  match a with
  | ⟨0, _⟩ =>
    show win0_5.index t 0 * 1 + 1 * 0 = t.val / 16
    rw [hi.1]; try omega
  | ⟨1, _⟩ =>
    show win0_5.index t 1 * 128 + 1 * i.val = i.val
    rw [hi.2.1]; try omega
  | ⟨2, _⟩ =>
    show win0_5.index t 2 * 1 + 1 * 0 = 0
    rw [hi.2.2]; try omega
theorem iblk6 (c : Dev nD) (t : Fin cfg0.N) (r : Fin 128) (k : Fin 256) :
    (iblk m c 6 t : Vec Ideal S128x256 .f32) (ix2 r k) = V m c main_arg5 (ix2 (ni (tn t) r) (di (tg t) k)) := by
  have hi := idx6 t
  unfold iblk
  rw [View.read_apply]
  show V m c main_arg5 _ = _
  congr 1
  funext a
  apply Fin.ext
  match a with
  | ⟨0, _⟩ =>
    show win0_6.index t 0 * 128 + 1 * r.val = 128 * (t.val % 16) + r.val
    rw [hi.1]; try omega
  | ⟨1, _⟩ =>
    show win0_6.index t 1 * 256 + 1 * k.val = 256 * (t.val / 16) + k.val
    rw [hi.2]; try omega

variable {m}

/-- What the seven input blocks of a grid point hold. -/
theorem blocks (c : Dev nD) (a : Args) (h : HasArgs m c a) (t : Fin cfg0.N) :
    Is (iblk m c 0 t) (a.U (tn t) (tg t)) ∧ Is (iblk m c 1 t) (a.V (tn t) (tg t))
    ∧ (∀ k, (iblk m c 2 t : Vec Ideal S1x256 .f32) (ix2 0 k) = (a.lg (tg t) k : EReal))
    ∧ (∀ k, (iblk m c 3 t : Vec Ideal S1x256 .f32) (ix2 0 k) = (a.lb (tg t) k : EReal))
    ∧ IsW (iblk m c 4 t) (a.ws (tg t))
    ∧ (∀ i, (iblk m c 5 t : Vec Ideal S1x128x1 .f32) (ix3 0 i 0) = (a.bs (tg t) i : EReal))
    ∧ Is (iblk m c 6 t) (a.D (tn t) (tg t)) := by
  refine ⟨fun r k => ?_, fun r k => ?_, fun k => ?_, fun k => ?_, fun i j => ?_, fun i => ?_, fun r k => ?_⟩
  · rw [iblk0, V_main_arg0]; exact h.h0 _ _
  · rw [iblk1, V_main_arg0]; exact h.h0 _ _
  · rw [iblk2, V_v0, v0_at]; exact h.h1 _ _
  · rw [iblk3, V_v1, v0_at]; exact h.h2 _ _
  · rw [iblk4, V_main_arg3]; exact h.h3 _ _ _
  · rw [iblk5, V_v2, v2_at]; exact h.h4 _ _
  · rw [iblk6, V_main_arg5]; exact h.h5 _ _

/-- What the point's block of the first branch's gradient holds. -/
theorem after7 (c : Dev nD) (a : Args) (h : HasArgs m c a) (t : Fin cfg0.N) (r : Fin 128) (k : Fin 256) :
    (outsAt0 m c t.val t.isLt).1 (ix2 r k) = (a.du (tn t) (tg t) r k : EReal) := by
  obtain ⟨b0, b1, b2, b3, b4, b5, b6⟩ := blocks c a h t
  by_cases h0 : t.val % 16 = 0
  · rw [outsAt0_A m c t h0]; dsimp only; rw [out_A_7]; exact tDu_eq b0 b1 b2 b3 b4 b5 b6 r k
  · rw [outsAt0_B m c t h0]; dsimp only; rw [out_B_7]; exact tDu_eq b0 b1 b2 b3 b4 b5 b6 r k
/-- What the point's block of the second branch's gradient holds. -/
theorem after8 (c : Dev nD) (a : Args) (h : HasArgs m c a) (t : Fin cfg0.N) (r : Fin 128) (k : Fin 256) :
    (outsAt0 m c t.val t.isLt).2.1 (ix2 r k) = (a.dv (tn t) (tg t) r k : EReal) := by
  obtain ⟨b0, b1, b2, b3, b4, b5, b6⟩ := blocks c a h t
  by_cases h0 : t.val % 16 = 0
  · rw [outsAt0_A m c t h0]; dsimp only; rw [out_A_8]; exact tDv_eq b0 b1 b2 b4 b6 r k
  · rw [outsAt0_B m c t h0]; dsimp only; rw [out_B_8]; exact tDv_eq b0 b1 b2 b4 b6 r k

theorem zero9 (k : Fin 256) : k0_pay27 (F := Ideal) (ix2 0 k) = ((0 : ℝ) : EReal) := by
  pointwise [k0_pay27]
  exact EReal.coe_zero.symm
/-- What the running sum of the scale's gradient holds after point `n`: the parts of the group's chunks so far. -/
theorem after9 (c : Dev nD) (a : Args) (h : HasArgs m c a) (k : Fin 256) : ∀ (n : ℕ) (hn : n < cfg0.N),
    (outsAt0 m c n hn).2.2.1 (ix2 0 k) = (part (fun q => a.pLg q (tg ⟨n, hn⟩) k) (n % 16) : EReal) := by
  intro n
  induction n with
  | zero =>
    intro hn
    obtain ⟨b0, b1, b2, b3, b4, b5, b6⟩ := blocks c a h ⟨0, hn⟩
    rw [outsAt0_A m c ⟨0, hn⟩ rfl]; dsimp only
    rw [out_A_9, tDlg_eq b0 b1 b4 b6, zero9, ← EReal.coe_add, zero_add, Nat.zero_mod, part_zero]
    rfl
  | succ n ih =>
    intro hn
    obtain ⟨b0, b1, b2, b3, b4, b5, b6⟩ := blocks c a h ⟨n + 1, hn⟩
    by_cases h0 : (n + 1) % 16 = 0
    · rw [outsAt0_A m c ⟨n + 1, hn⟩ h0]; dsimp only
      rw [out_A_9, tDlg_eq b0 b1 b4 b6, zero9, ← EReal.coe_add, zero_add, h0, part_zero]
      have e : tn ⟨n + 1, hn⟩ = 0 := Fin.ext h0
      rw [e]; rfl
    · have h1 : (n + 1) % 16 = n % 16 + 1 := by omega
      have e : tg ⟨n, Nat.lt_of_succ_lt hn⟩ = tg ⟨n + 1, hn⟩ := Fin.ext (by show n / 16 = (n + 1) / 16; omega)
      have h2 : n % 16 + 1 < 16 := by omega
      have e2 : tn ⟨n + 1, hn⟩ = ⟨n % 16 + 1, h2⟩ := Fin.ext h1
      rw [outsAt0_B m c ⟨n + 1, hn⟩ h0]; dsimp only
      rw [out_B_9, tDlg_eq b0 b1 b4 b6]
      simp only [Nat.add_sub_cancel]
      rw [ih (Nat.lt_of_succ_lt hn), ← EReal.coe_add, h1, part_succ _ _ h2, e, e2]
      rfl

theorem zero10 (k : Fin 256) : k0_pay28 (F := Ideal) (ix2 0 k) = ((0 : ℝ) : EReal) := by
  pointwise [k0_pay28]
  exact EReal.coe_zero.symm
/-- What the running sum of the shift's gradient holds after point `n`: the parts of the group's chunks so far. -/
theorem after10 (c : Dev nD) (a : Args) (h : HasArgs m c a) (k : Fin 256) : ∀ (n : ℕ) (hn : n < cfg0.N),
    (outsAt0 m c n hn).2.2.2.1 (ix2 0 k) = (part (fun q => a.pLb q (tg ⟨n, hn⟩) k) (n % 16) : EReal) := by
  intro n
  induction n with
  | zero =>
    intro hn
    obtain ⟨b0, b1, b2, b3, b4, b5, b6⟩ := blocks c a h ⟨0, hn⟩
    rw [outsAt0_A m c ⟨0, hn⟩ rfl]; dsimp only
    rw [out_A_10, tDlb_eq b0 b4 b6, zero10, ← EReal.coe_add, zero_add, Nat.zero_mod, part_zero]
    rfl
  | succ n ih =>
    intro hn
    obtain ⟨b0, b1, b2, b3, b4, b5, b6⟩ := blocks c a h ⟨n + 1, hn⟩
    by_cases h0 : (n + 1) % 16 = 0
    · rw [outsAt0_A m c ⟨n + 1, hn⟩ h0]; dsimp only
      rw [out_A_10, tDlb_eq b0 b4 b6, zero10, ← EReal.coe_add, zero_add, h0, part_zero]
      have e : tn ⟨n + 1, hn⟩ = 0 := Fin.ext h0
      rw [e]; rfl
    · have h1 : (n + 1) % 16 = n % 16 + 1 := by omega
      have e : tg ⟨n, Nat.lt_of_succ_lt hn⟩ = tg ⟨n + 1, hn⟩ := Fin.ext (by show n / 16 = (n + 1) / 16; omega)
      have h2 : n % 16 + 1 < 16 := by omega
      have e2 : tn ⟨n + 1, hn⟩ = ⟨n % 16 + 1, h2⟩ := Fin.ext h1
      rw [outsAt0_B m c ⟨n + 1, hn⟩ h0]; dsimp only
      rw [out_B_10, tDlb_eq b0 b4 b6]
      simp only [Nat.add_sub_cancel]
      rw [ih (Nat.lt_of_succ_lt hn), ← EReal.coe_add, h1, part_succ _ _ h2, e, e2]
      rfl

theorem zero11 (i j : Fin 128) : k0_pay29 (F := Ideal) (ix3 0 i j) = ((0 : ℝ) : EReal) := by
  pointwise [k0_pay29]
  exact EReal.coe_zero.symm
/-- What the running sum of the weights's gradient holds after point `n`: the parts of the group's chunks so far. -/
theorem after11 (c : Dev nD) (a : Args) (h : HasArgs m c a) (i j : Fin 128) : ∀ (n : ℕ) (hn : n < cfg0.N),
    (outsAt0 m c n hn).2.2.2.2.1 (ix3 0 i j) = (part (fun q => a.pWs q (tg ⟨n, hn⟩) i j) (n % 16) : EReal) := by
  intro n
  induction n with
  | zero =>
    intro hn
    obtain ⟨b0, b1, b2, b3, b4, b5, b6⟩ := blocks c a h ⟨0, hn⟩
    rw [outsAt0_A m c ⟨0, hn⟩ rfl]; dsimp only
    rw [out_A_11, tDws_eq b0 b1 b2 b3 b6, zero11, ← EReal.coe_add, zero_add, Nat.zero_mod, part_zero]
    rfl
  | succ n ih =>
    intro hn
    obtain ⟨b0, b1, b2, b3, b4, b5, b6⟩ := blocks c a h ⟨n + 1, hn⟩
    by_cases h0 : (n + 1) % 16 = 0
    · rw [outsAt0_A m c ⟨n + 1, hn⟩ h0]; dsimp only
      rw [out_A_11, tDws_eq b0 b1 b2 b3 b6, zero11, ← EReal.coe_add, zero_add, h0, part_zero]
      have e : tn ⟨n + 1, hn⟩ = 0 := Fin.ext h0
      rw [e]; rfl
    · have h1 : (n + 1) % 16 = n % 16 + 1 := by omega
      have e : tg ⟨n, Nat.lt_of_succ_lt hn⟩ = tg ⟨n + 1, hn⟩ := Fin.ext (by show n / 16 = (n + 1) / 16; omega)
      have h2 : n % 16 + 1 < 16 := by omega
      have e2 : tn ⟨n + 1, hn⟩ = ⟨n % 16 + 1, h2⟩ := Fin.ext h1
      rw [outsAt0_B m c ⟨n + 1, hn⟩ h0]; dsimp only
      rw [out_B_11, tDws_eq b0 b1 b2 b3 b6]
      simp only [Nat.add_sub_cancel]
      rw [ih (Nat.lt_of_succ_lt hn), ← EReal.coe_add, h1, part_succ _ _ h2, e, e2]
      rfl

theorem zero12 (i : Fin 128) : k0_pay30 (F := Ideal) (ix3 0 i 0) = ((0 : ℝ) : EReal) := by
  pointwise [k0_pay30]
  exact EReal.coe_zero.symm
/-- What the running sum of the bias's gradient holds after point `n`: the parts of the group's chunks so far. -/
theorem after12 (c : Dev nD) (a : Args) (h : HasArgs m c a) (i : Fin 128) : ∀ (n : ℕ) (hn : n < cfg0.N),
    (outsAt0 m c n hn).2.2.2.2.2 (ix3 0 i 0) = (part (fun q => a.pBs q (tg ⟨n, hn⟩) i) (n % 16) : EReal) := by
  intro n
  induction n with
  | zero =>
    intro hn
    obtain ⟨b0, b1, b2, b3, b4, b5, b6⟩ := blocks c a h ⟨0, hn⟩
    rw [outsAt0_A m c ⟨0, hn⟩ rfl]; dsimp only
    rw [out_A_12, tDbs_eq b0 b6, zero12, ← EReal.coe_add, zero_add, Nat.zero_mod, part_zero]
    rfl
  | succ n ih =>
    intro hn
    obtain ⟨b0, b1, b2, b3, b4, b5, b6⟩ := blocks c a h ⟨n + 1, hn⟩
    by_cases h0 : (n + 1) % 16 = 0
    · rw [outsAt0_A m c ⟨n + 1, hn⟩ h0]; dsimp only
      rw [out_A_12, tDbs_eq b0 b6, zero12, ← EReal.coe_add, zero_add, h0, part_zero]
      have e : tn ⟨n + 1, hn⟩ = 0 := Fin.ext h0
      rw [e]; rfl
    · have h1 : (n + 1) % 16 = n % 16 + 1 := by omega
      have e : tg ⟨n, Nat.lt_of_succ_lt hn⟩ = tg ⟨n + 1, hn⟩ := Fin.ext (by show n / 16 = (n + 1) / 16; omega)
      have h2 : n % 16 + 1 < 16 := by omega
      have e2 : tn ⟨n + 1, hn⟩ = ⟨n % 16 + 1, h2⟩ := Fin.ext h1
      rw [outsAt0_B m c ⟨n + 1, hn⟩ h0]; dsimp only
      rw [out_B_12, tDbs_eq b0 b6]
      simp only [Nat.add_sub_cancel]
      rw [ih (Nat.lt_of_succ_lt hn), ← EReal.coe_add, h1, part_succ _ _ h2, e, e2]
      rfl

/-- The array of the first branch's gradient. -/
def rDu (a : Args) : (⟨2, ![2048, 2048]⟩ : Shape).Idx → EReal := fun i => (a.du (nOf (i 0)) (gOf (i 1)) (rOf (i 0)) (cOf (i 1)) : EReal)
theorem flushed_7 (c : Dev nD) (a : Args) (h : HasArgs m c a) (t : Fin cfg0.N) (hf : (cfg0.win 7).flush t = true) :
    (dats m 0 c).flushed 7 t = ((cfg0.win 7).blk t).view.read (Elt Ideal) (rDu a) := by
  rw [flushed7]
  funext j
  obtain ⟨r, k, rfl⟩ : ∃ (r : Fin 128) (k : Fin 256), j = ix2 r k := ⟨j 0, j 1, (ix2_eta j).symm⟩
  rw [View.read_apply]
  show (outsAt0 m c t.val t.isLt).1 (ix2 r k) = rDu a _
  rw [after7 c a h]
  have e : (((cfg0.win 7).blk t).view.emb (ix2 r k) : S2048x2048.Idx) = ix2 (ni (tn t) r) (ci (tg t) k) := by
    funext q
    apply Fin.ext
    match q with
    | ⟨0, _⟩ => show win0_7.index t 0 * 128 + 1 * r.val = 128 * (t.val % 16) + r.val; rw [(idx7 t).1]; omega
    | ⟨1, _⟩ => show win0_7.index t 1 * 256 + 1 * k.val = 256 * (t.val / 16) + k.val; rw [(idx7 t).2]; omega
  show _ = rDu a (((cfg0.win 7).blk t).view.emb (ix2 r k))
  rw [e]
  unfold rDu
  simp only [ix2_0, ix2_1, nOf_ni, rOf_ni, gOf_ci, cOf_ci]
/-- What the first branch's gradient ends at. -/
theorem final7 (c : Dev nD) (a : Args) (h : HasArgs m c a) : (dats m 0 c).arrAt 7 cfg0.N = rDu a :=
  (dats m 0 c).arrAt_eq_of_cover 7 (rDu a) (flushed_7 c a h) fun i => by
    have hN : cfg0.N = 128 := N_0
    have hi0 : (i 0).val < 2048 := (i 0).isLt
    have hi1 : (i 1).val < 2048 := (i 1).isLt
    obtain ⟨t, ht⟩ : ∃ t : Fin cfg0.N, t.val = (i 0).val / 128 + 16 * ((i 1).val / 256) := ⟨⟨(i 0).val / 128 + 16 * ((i 1).val / 256), by omega⟩, rfl⟩
    refine ⟨t, flush0_7 t, ?_⟩
    show i ∈ ((View.whole main_v3_0).slice (win0_7.rect t)).set
    rw [View.set_slice_whole, Rect.mem_set_unit]
    intro q
    match q with
    | ⟨0, _⟩ =>
      show win0_7.index t 0 * 128 ≤ (i 0).val ∧ (i 0).val < win0_7.index t 0 * 128 + 128
      rw [(idx7 t).1]; simp only [ht]; omega
    | ⟨1, _⟩ =>
      show win0_7.index t 1 * 256 ≤ (i 1).val ∧ (i 1).val < win0_7.index t 1 * 256 + 256
      rw [(idx7 t).2]; simp only [ht]; omega

/-- The array of the second branch's gradient. -/
def rDv (a : Args) : (⟨2, ![2048, 2048]⟩ : Shape).Idx → EReal := fun i => (a.dv (nOf (i 0)) (gOf (i 1)) (rOf (i 0)) (cOf (i 1)) : EReal)
theorem flushed_8 (c : Dev nD) (a : Args) (h : HasArgs m c a) (t : Fin cfg0.N) (hf : (cfg0.win 8).flush t = true) :
    (dats m 0 c).flushed 8 t = ((cfg0.win 8).blk t).view.read (Elt Ideal) (rDv a) := by
  rw [flushed8]
  funext j
  obtain ⟨r, k, rfl⟩ : ∃ (r : Fin 128) (k : Fin 256), j = ix2 r k := ⟨j 0, j 1, (ix2_eta j).symm⟩
  rw [View.read_apply]
  show (outsAt0 m c t.val t.isLt).2.1 (ix2 r k) = rDv a _
  rw [after8 c a h]
  have e : (((cfg0.win 8).blk t).view.emb (ix2 r k) : S2048x2048.Idx) = ix2 (ni (tn t) r) (ci (tg t) k) := by
    funext q
    apply Fin.ext
    match q with
    | ⟨0, _⟩ => show win0_8.index t 0 * 128 + 1 * r.val = 128 * (t.val % 16) + r.val; rw [(idx8 t).1]; omega
    | ⟨1, _⟩ => show win0_8.index t 1 * 256 + 1 * k.val = 256 * (t.val / 16) + k.val; rw [(idx8 t).2]; omega
  show _ = rDv a (((cfg0.win 8).blk t).view.emb (ix2 r k))
  rw [e]
  unfold rDv
  simp only [ix2_0, ix2_1, nOf_ni, rOf_ni, gOf_ci, cOf_ci]
/-- What the second branch's gradient ends at. -/
theorem final8 (c : Dev nD) (a : Args) (h : HasArgs m c a) : (dats m 0 c).arrAt 8 cfg0.N = rDv a :=
  (dats m 0 c).arrAt_eq_of_cover 8 (rDv a) (flushed_8 c a h) fun i => by
    have hN : cfg0.N = 128 := N_0
    have hi0 : (i 0).val < 2048 := (i 0).isLt
    have hi1 : (i 1).val < 2048 := (i 1).isLt
    obtain ⟨t, ht⟩ : ∃ t : Fin cfg0.N, t.val = (i 0).val / 128 + 16 * ((i 1).val / 256) := ⟨⟨(i 0).val / 128 + 16 * ((i 1).val / 256), by omega⟩, rfl⟩
    refine ⟨t, flush0_8 t, ?_⟩
    show i ∈ ((View.whole main_v3_1).slice (win0_8.rect t)).set
    rw [View.set_slice_whole, Rect.mem_set_unit]
    intro q
    match q with
    | ⟨0, _⟩ =>
      show win0_8.index t 0 * 128 ≤ (i 0).val ∧ (i 0).val < win0_8.index t 0 * 128 + 128
      rw [(idx8 t).1]; simp only [ht]; omega
    | ⟨1, _⟩ =>
      show win0_8.index t 1 * 256 ≤ (i 1).val ∧ (i 1).val < win0_8.index t 1 * 256 + 256
      rw [(idx8 t).2]; simp only [ht]; omega

/-- The array of the scale's gradient. -/
def rLg (a : Args) : (⟨2, ![1, 2048]⟩ : Shape).Idx → EReal := fun i => ((∑ n, a.pLg n (gOf (i 1)) (cOf (i 1)) : ℝ) : EReal)
theorem flushed_9 (c : Dev nD) (a : Args) (h : HasArgs m c a) (t : Fin cfg0.N) (hf : (cfg0.win 9).flush t = true) :
    (dats m 0 c).flushed 9 t = ((cfg0.win 9).blk t).view.read (Elt Ideal) (rLg a) := by
  rw [flushed9]
  funext j
  have hf' := (flush0_9 t).mp hf
  obtain ⟨r, k, rfl⟩ : ∃ (r : Fin 1) (k : Fin 256), j = ix2 r k := ⟨j 0, j 1, (ix2_eta j).symm⟩
  obtain rfl : r = 0 := Subsingleton.elim _ _
  rw [View.read_apply]
  show (outsAt0 m c t.val t.isLt).2.2.1 (ix2 0 k) = rLg a _
  rw [after9 c a h, hf', part_last]
  have e : (((cfg0.win 9).blk t).view.emb (ix2 0 k) : S1x2048.Idx) = ix2 0 (ci (tg t) k) := by
    funext q
    apply Fin.ext
    match q with
    | ⟨0, _⟩ => show win0_9.index t 0 * 1 + 1 * 0 = 0; rw [(idx9 t).1]
    | ⟨1, _⟩ => show win0_9.index t 1 * 256 + 1 * k.val = 256 * (t.val / 16) + k.val; rw [(idx9 t).2]; omega
  show _ = rLg a (((cfg0.win 9).blk t).view.emb (ix2 0 k))
  rw [e]
  unfold rLg
  simp only [ix2_0, ix2_1, gOf_ci, cOf_ci]
/-- What the scale's gradient ends at. -/
theorem final9 (c : Dev nD) (a : Args) (h : HasArgs m c a) : (dats m 0 c).arrAt 9 cfg0.N = rLg a :=
  (dats m 0 c).arrAt_eq_of_cover 9 (rLg a) (flushed_9 c a h) fun i => by
    have hN : cfg0.N = 128 := N_0
    have hi0 : (i 0).val < 1 := (i 0).isLt
    have hi1 : (i 1).val < 2048 := (i 1).isLt
    obtain ⟨t, ht⟩ : ∃ t : Fin cfg0.N, t.val = 15 + 16 * ((i 1).val / 256) := ⟨⟨15 + 16 * ((i 1).val / 256), by omega⟩, rfl⟩
    refine ⟨t, (flush0_9 t).mpr (by rw [ht]; omega), ?_⟩
    show i ∈ ((View.whole main_v3_2).slice (win0_9.rect t)).set
    rw [View.set_slice_whole, Rect.mem_set_unit]
    intro q
    match q with
    | ⟨0, _⟩ =>
      show win0_9.index t 0 * 1 ≤ (i 0).val ∧ (i 0).val < win0_9.index t 0 * 1 + 1
      rw [(idx9 t).1]; simp only [ht]; omega
    | ⟨1, _⟩ =>
      show win0_9.index t 1 * 256 ≤ (i 1).val ∧ (i 1).val < win0_9.index t 1 * 256 + 256
      rw [(idx9 t).2]; simp only [ht]; omega

/-- The array of the shift's gradient. -/
def rLb (a : Args) : (⟨2, ![1, 2048]⟩ : Shape).Idx → EReal := fun i => ((∑ n, a.pLb n (gOf (i 1)) (cOf (i 1)) : ℝ) : EReal)
theorem flushed_10 (c : Dev nD) (a : Args) (h : HasArgs m c a) (t : Fin cfg0.N) (hf : (cfg0.win 10).flush t = true) :
    (dats m 0 c).flushed 10 t = ((cfg0.win 10).blk t).view.read (Elt Ideal) (rLb a) := by
  rw [flushed10]
  funext j
  have hf' := (flush0_10 t).mp hf
  obtain ⟨r, k, rfl⟩ : ∃ (r : Fin 1) (k : Fin 256), j = ix2 r k := ⟨j 0, j 1, (ix2_eta j).symm⟩
  obtain rfl : r = 0 := Subsingleton.elim _ _
  rw [View.read_apply]
  show (outsAt0 m c t.val t.isLt).2.2.2.1 (ix2 0 k) = rLb a _
  rw [after10 c a h, hf', part_last]
  have e : (((cfg0.win 10).blk t).view.emb (ix2 0 k) : S1x2048.Idx) = ix2 0 (ci (tg t) k) := by
    funext q
    apply Fin.ext
    match q with
    | ⟨0, _⟩ => show win0_10.index t 0 * 1 + 1 * 0 = 0; rw [(idx10 t).1]
    | ⟨1, _⟩ => show win0_10.index t 1 * 256 + 1 * k.val = 256 * (t.val / 16) + k.val; rw [(idx10 t).2]; omega
  show _ = rLb a (((cfg0.win 10).blk t).view.emb (ix2 0 k))
  rw [e]
  unfold rLb
  simp only [ix2_0, ix2_1, gOf_ci, cOf_ci]
/-- What the shift's gradient ends at. -/
theorem final10 (c : Dev nD) (a : Args) (h : HasArgs m c a) : (dats m 0 c).arrAt 10 cfg0.N = rLb a :=
  (dats m 0 c).arrAt_eq_of_cover 10 (rLb a) (flushed_10 c a h) fun i => by
    have hN : cfg0.N = 128 := N_0
    have hi0 : (i 0).val < 1 := (i 0).isLt
    have hi1 : (i 1).val < 2048 := (i 1).isLt
    obtain ⟨t, ht⟩ : ∃ t : Fin cfg0.N, t.val = 15 + 16 * ((i 1).val / 256) := ⟨⟨15 + 16 * ((i 1).val / 256), by omega⟩, rfl⟩
    refine ⟨t, (flush0_10 t).mpr (by rw [ht]; omega), ?_⟩
    show i ∈ ((View.whole main_v3_3).slice (win0_10.rect t)).set
    rw [View.set_slice_whole, Rect.mem_set_unit]
    intro q
    match q with
    | ⟨0, _⟩ =>
      show win0_10.index t 0 * 1 ≤ (i 0).val ∧ (i 0).val < win0_10.index t 0 * 1 + 1
      rw [(idx10 t).1]; simp only [ht]; omega
    | ⟨1, _⟩ =>
      show win0_10.index t 1 * 256 ≤ (i 1).val ∧ (i 1).val < win0_10.index t 1 * 256 + 256
      rw [(idx10 t).2]; simp only [ht]; omega

/-- The array of the weights' gradient. -/
def rWs (a : Args) : (⟨3, ![8, 128, 128]⟩ : Shape).Idx → EReal := fun i => ((∑ n, a.pWs n (i 0) (i 1) (i 2) : ℝ) : EReal)
theorem flushed_11 (c : Dev nD) (a : Args) (h : HasArgs m c a) (t : Fin cfg0.N) (hf : (cfg0.win 11).flush t = true) :
    (dats m 0 c).flushed 11 t = ((cfg0.win 11).blk t).view.read (Elt Ideal) (rWs a) := by
  rw [flushed11]
  funext j'
  have hf' := (flush0_11 t).mp hf
  obtain ⟨r, i, j, rfl⟩ : ∃ (r : Fin 1) (i : Fin 128) (j : Fin 128), j' = ix3 r i j := ⟨j' 0, j' 1, j' 2, (ix3_eta j').symm⟩
  obtain rfl : r = 0 := Subsingleton.elim _ _
  rw [View.read_apply]
  show (outsAt0 m c t.val t.isLt).2.2.2.2.1 (ix3 0 i j) = rWs a _
  rw [after11 c a h, hf', part_last]
  have e : (((cfg0.win 11).blk t).view.emb (ix3 0 i j) : S8x128x128.Idx) = ix3 (tg t) i j := by
    funext q
    apply Fin.ext
    match q with
    | ⟨0, _⟩ => show win0_11.index t 0 * 1 + 1 * 0 = t.val / 16; rw [(idx11 t).1]; omega
    | ⟨1, _⟩ => show win0_11.index t 1 * 128 + 1 * i.val = i.val; rw [(idx11 t).2.1]; omega
    | ⟨2, _⟩ => show win0_11.index t 2 * 128 + 1 * j.val = j.val; rw [(idx11 t).2.2]; try omega
  show _ = rWs a (((cfg0.win 11).blk t).view.emb (ix3 0 i j))
  rw [e]
  unfold rWs
  simp only [ix3_0, ix3_1, ix3_2]
/-- What the weights' gradient ends at. -/
theorem final11 (c : Dev nD) (a : Args) (h : HasArgs m c a) : (dats m 0 c).arrAt 11 cfg0.N = rWs a :=
  (dats m 0 c).arrAt_eq_of_cover 11 (rWs a) (flushed_11 c a h) fun i => by
    have hN : cfg0.N = 128 := N_0
    have hi0 : (i 0).val < 8 := (i 0).isLt
    have hi1 : (i 1).val < 128 := (i 1).isLt
    have hi2 : (i 2).val < 128 := (i 2).isLt
    obtain ⟨t, ht⟩ : ∃ t : Fin cfg0.N, t.val = 15 + 16 * (i 0).val := ⟨⟨15 + 16 * (i 0).val, by omega⟩, rfl⟩
    refine ⟨t, (flush0_11 t).mpr (by rw [ht]; omega), ?_⟩
    show i ∈ ((View.whole main_v3_4).slice (win0_11.rect t)).set
    rw [View.set_slice_whole, Rect.mem_set_unit]
    intro q
    match q with
    | ⟨0, _⟩ =>
      show win0_11.index t 0 * 1 ≤ (i 0).val ∧ (i 0).val < win0_11.index t 0 * 1 + 1
      rw [(idx11 t).1]; simp only [ht]; omega
    | ⟨1, _⟩ =>
      show win0_11.index t 1 * 128 ≤ (i 1).val ∧ (i 1).val < win0_11.index t 1 * 128 + 128
      rw [(idx11 t).2.1]; simp only [ht]; omega
    | ⟨2, _⟩ =>
      show win0_11.index t 2 * 128 ≤ (i 2).val ∧ (i 2).val < win0_11.index t 2 * 128 + 128
      rw [(idx11 t).2.2]; simp only [ht]; omega

/-- The array of the bias's gradient. -/
def rBs (a : Args) : (⟨3, ![8, 128, 1]⟩ : Shape).Idx → EReal := fun i => ((∑ n, a.pBs n (i 0) (i 1) : ℝ) : EReal)
theorem flushed_12 (c : Dev nD) (a : Args) (h : HasArgs m c a) (t : Fin cfg0.N) (hf : (cfg0.win 12).flush t = true) :
    (dats m 0 c).flushed 12 t = ((cfg0.win 12).blk t).view.read (Elt Ideal) (rBs a) := by
  rw [flushed12]
  funext j'
  have hf' := (flush0_12 t).mp hf
  obtain ⟨r, i, j, rfl⟩ : ∃ (r : Fin 1) (i : Fin 128) (j : Fin 1), j' = ix3 r i j := ⟨j' 0, j' 1, j' 2, (ix3_eta j').symm⟩
  obtain rfl : r = 0 := Subsingleton.elim _ _
  obtain rfl : j = 0 := Subsingleton.elim _ _
  rw [View.read_apply]
  show (outsAt0 m c t.val t.isLt).2.2.2.2.2 (ix3 0 i 0) = rBs a _
  rw [after12 c a h, hf', part_last]
  have e : (((cfg0.win 12).blk t).view.emb (ix3 0 i 0) : S8x128x1.Idx) = ix3 (tg t) i 0 := by
    funext q
    apply Fin.ext
    match q with
    | ⟨0, _⟩ => show win0_12.index t 0 * 1 + 1 * 0 = t.val / 16; rw [(idx12 t).1]; omega
    | ⟨1, _⟩ => show win0_12.index t 1 * 128 + 1 * i.val = i.val; rw [(idx12 t).2.1]; omega
    | ⟨2, _⟩ => show win0_12.index t 2 * 1 + 1 * 0 = 0; rw [(idx12 t).2.2]; try omega
  show _ = rBs a (((cfg0.win 12).blk t).view.emb (ix3 0 i 0))
  rw [e]
  unfold rBs
  simp only [ix3_0, ix3_1, ix3_2]
/-- What the bias's gradient ends at. -/
theorem final12 (c : Dev nD) (a : Args) (h : HasArgs m c a) : (dats m 0 c).arrAt 12 cfg0.N = rBs a :=
  (dats m 0 c).arrAt_eq_of_cover 12 (rBs a) (flushed_12 c a h) fun i => by
    have hN : cfg0.N = 128 := N_0
    have hi0 : (i 0).val < 8 := (i 0).isLt
    have hi1 : (i 1).val < 128 := (i 1).isLt
    have hi2 : (i 2).val < 1 := (i 2).isLt
    obtain ⟨t, ht⟩ : ∃ t : Fin cfg0.N, t.val = 15 + 16 * (i 0).val := ⟨⟨15 + 16 * (i 0).val, by omega⟩, rfl⟩
    refine ⟨t, (flush0_12 t).mpr (by rw [ht]; omega), ?_⟩
    show i ∈ ((View.whole main_v3_5).slice (win0_12.rect t)).set
    rw [View.set_slice_whole, Rect.mem_set_unit]
    intro q
    match q with
    | ⟨0, _⟩ =>
      show win0_12.index t 0 * 1 ≤ (i 0).val ∧ (i 0).val < win0_12.index t 0 * 1 + 1
      rw [(idx12 t).1]; simp only [ht]; omega
    | ⟨1, _⟩ =>
      show win0_12.index t 1 * 128 ≤ (i 1).val ∧ (i 1).val < win0_12.index t 1 * 128 + 128
      rw [(idx12 t).2.1]; simp only [ht]; omega
    | ⟨2, _⟩ =>
      show win0_12.index t 2 * 1 ≤ (i 2).val ∧ (i 2).val < win0_12.index t 2 * 1 + 1
      rw [(idx12 t).2.2]; simp only [ht]; omega

end Cert.Proof.Gm

end
-- ==== Proof.GmRef.lean ====
/- What the reference's arrays hold when the arguments hold real numbers. -/
module

public import proofs.«01_k».proof.Proof.GmArr
public import proofs.«01_k».proof.Proof.Gen.GmRefIdeal.Run

@[expose] public section

set_option maxRecDepth 16384

noncomputable section

namespace Cert.Proof.Gm

open Idealize.ShloMosaic Idealize.SL.Sem Cert.GmRefIdeal Cert.GmRefIdeal.Gen Cert.GmRefIdeal.Value

variable (V0 : Valuation τ sig (Elt Ideal))

/-- The reference's argument arrays hold the real numbers `a`. -/
abbrev RefArgs (a : Args) : Prop :=
  a.Is (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))

variable {V0} {a : Args} (h : RefArgs V0 a) (n : Fin 16) (r : Fin 128) (g : Fin 8) (k : Fin 256)
include h

theorem r0 : res_main_v0 V0 (ix2 (ni n r) (ci g k)) = (a.U n g r k : EReal) := by
  pointwise [res_main_v0]
  exact (congrArg (V0 (Proc.devRef .tc main_arg0)) (congrArg₂ ix2 (Fin.ext (by simp [ni])) (Fin.ext (by simp [ci, ui])))).trans (h.h0 (ni n r) (ui g k))
theorem r1 : res_main_v1 V0 (ix2 (ni n r) (ci g k)) = (a.V n g r k : EReal) := by
  pointwise [res_main_v1]
  exact (congrArg (V0 (Proc.devRef .tc main_arg0)) (congrArg₂ ix2 (Fin.ext (by simp [ni])) (Fin.ext (by simp [ci, vi])))).trans (h.h0 (ni n r) (vi g k))
theorem r95 : res_main_v95 V0 (ix2 (ni n r) (ci g k)) = (a.D n g r k : EReal) := by
  pointwise [res_main_v95]
  exact (congrArg (V0 (Proc.devRef .tc main_arg5)) (congrArg₂ ix2 (Fin.ext (by simp [ni])) (Fin.ext (by simp [ci, di])))).trans (h.h5 (ni n r) (di g k))
omit h in
/-- The tanh argument, with the cubic coefficient spelled as a quotient. -/
theorem th_quot (x : ℝ) : Real.tanh (c0 * (x + 44715 * (x * x * x) / 1000000)) = th x := by
  unfold th g1; congr 1; ring
theorem r14 : res_main_v14 V0 (ix2 (ni n r) (ci g k)) = (th (a.U n g r k) : EReal) := by
  pointwise [res_main_v14]
  simp only [r0 h, lit_c0, lit_44715, lit_million, ← EReal.coe_mul]
  rw [div_real _ _ (by norm_num), ← th_quot]
  norm_cast
theorem r37 : res_main_v37 V0 (ix2 (ni n r) (ci g k)) = (th (a.V n g r k) : EReal) := by
  pointwise [res_main_v37]
  simp only [r1 h, lit_c0, lit_44715, lit_million, ← EReal.coe_mul]
  rw [div_real _ _ (by norm_num), ← th_quot]
  norm_cast
theorem r23 : res_main_v23 V0 (ix2 (ni n r) (ci g k)) = ((1 / 2 * (1 + th (a.U n g r k)) : ℝ) : EReal) := by
  pointwise [res_main_v23]
  simp only [r14 h, lit_half]
  norm_cast
theorem r46 : res_main_v46 V0 (ix2 (ni n r) (ci g k)) = ((1 / 2 * (1 + th (a.V n g r k)) : ℝ) : EReal) := by
  pointwise [res_main_v46]
  simp only [r37 h, lit_half]
  norm_cast
theorem r24 : res_main_v24 V0 (ix2 (ni n r) (ci g k)) = (gelu (a.U n g r k) : EReal) := by
  pointwise [res_main_v24]
  rw [r0 h, r23 h, ← EReal.coe_mul]
  congr 1; unfold gelu; ring
omit h in
/-- The position in the four-axis array of a row and a column. -/
theorem flat4 (x : Vec Ideal S2048x2048 .f32) :
    shapeCast S16x128x8x256 x shapeCasts_S2048x2048_S16x128x8x256 (ix4 n r g k) = x (ix2 (ni n r) (ci g k)) := by
  pointwise []
  refine congrArg x (congrArg₂ ix2 (Fin.ext ?_) (Fin.ext ?_))
  all_goals (simp only [ni, ci]; omega)
omit h in
/-- The row and column of a position in the four-axis array. -/
theorem flat2 (x : Vec Ideal S16x128x8x256 .f32) :
    shapeCast S2048x2048 x shapeCasts_S16x128x8x256_S2048x2048 (ix2 (ni n r) (ci g k)) = x (ix4 n r g k) := by
  pointwise []
  congr 1
  have e1 := nOf_ni n r
  have e2 := rOf_ni n r
  have e3 := gOf_ci g k
  have e4 := cOf_ci g k
  simp only [nOf, rOf, gOf, cOf] at e1 e2 e3 e4
  rw [e1, e2, e3, e4]
theorem r48 : res_main_v48 V0 (ix4 n r g k) = (gelu (a.V n g r k) : EReal) := by
  unfold res_main_v48
  refine (flat4 n r g k _).trans ?_
  pointwise []
  rw [r1 h, r46 h, ← EReal.coe_mul]
  congr 1; unfold gelu; ring
theorem r52 : res_main_v52 V0 (ix4 n r g 0) = (mean (fun k => gelu (a.V n g r k)) : EReal) := by
  pointwise [res_main_v52]
  simp only [r48 h, lit_256, ← coe_sum]
  rw [div_real _ _ (by norm_num)]
  rfl
theorem r54 : res_main_v54 V0 (ix4 n r g k) = (vc (fun k => gelu (a.V n g r k)) k : EReal) := by
  pointwise [res_main_v54]
  rw [r48 h, r52 h]
  norm_cast
theorem r63 : res_main_v63 V0 (ix4 n r g k) = (vc (fun k => gelu (a.V n g r k)) k : EReal) := by
  pointwise [res_main_v63]
  rw [r48 h, r52 h]
  norm_cast
theorem r65 : res_main_v65 V0 (ix4 n r g 0) = (vare (fun k => gelu (a.V n g r k)) : EReal) := by
  pointwise [res_main_v65]
  simp only [r54 h, lit_256, lit_eps, ← EReal.coe_mul, ← coe_sum]
  rw [div_real _ _ (by norm_num)]
  norm_cast
theorem r66 : res_main_v66 V0 (ix4 n r g 0) = (rstd (fun k => gelu (a.V n g r k)) : EReal) := by
  pointwise [res_main_v66]
  rw [r65 h]
  exact rsqrt_real _ (vare_pos _)
theorem r71 : res_main_v71 V0 (ix4 n r g k) = (xh (fun k => gelu (a.V n g r k)) k : EReal) := by
  pointwise [res_main_v71]
  rw [r63 h, r66 h]
  norm_cast
theorem r72 : res_main_v72 V0 (ix4 0 0 g k) = (a.lg g k : EReal) := by
  pointwise [res_main_v72]
  exact h.h1 g k
theorem r77 : res_main_v77 V0 (ix4 n r g k) = (vn (a.V n g) (a.lg g) (a.lb g) r k : EReal) := by
  pointwise [res_main_v77]
  rw [r71 h, r72 h, h.h2]
  norm_cast
omit h in
/-- The floor division by 64, as the host spells it. -/
theorem r79 (i : Fin 128) : res_main_v79 V0 (ix1 i) = BitVec.ofNat 32 (i.val / 64) := by
  pointwise [res_main_v79, res_main_call0_v2, res_main_call0_v0, res_main_v78]
  have key : ∀ i : Fin 128, Scalar.select
      (IntOp.andi
        (IntOp.cmpi CmpIPredicate.ne
          (if BitVec.ofNat 32 i.val = 0 then (0 : BitVec 32) else if (BitVec.ofNat 32 i.val).msb = true then -1 else 1)
          (if 64#32 = 0 then 0 else if BitVec.msb 64#32 = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) =
    BitVec.ofNat 32 (i.val / 64) := by decide +kernel
  exact key i
omit h in
theorem r85_1 (i j : Fin 128) : res_main_v85_1 V0 (ix3 g i j) = if vis i j then 1#1 else 0#1 := by
  pointwise [res_main_v85_1]
  rw [r79, r79]
  exact sge64 i j
theorem r85_0 (i j : Fin 128) : res_main_v85_0 V0 (ix3 g i j) = (wm (a.ws g) i j : EReal) := by
  pointwise [res_main_v85_0]
  rw [r85_1, h.h3]
  unfold wm
  by_cases hv : vis i j <;> simp [hv, Scalar.select]
theorem r93 : res_main_v93 V0 (ix2 (ni n r) (ci g k))
    = (gate (a.V n g) (a.lg g) (a.lb g) (a.ws g) (a.bs g) r k : EReal) := by
  unfold res_main_v93
  refine (flat2 n r g k _).trans ?_
  pointwise []
  simp only [r77 h, r85_0 h, h.h4 _ _, ← EReal.coe_mul, ← EReal.coe_add, ← coe_sum]
  congr 1; unfold gate; congr 1
  exact Finset.sum_congr rfl fun i _ => mul_comm _ _
theorem r97 : res_main_v97 V0 (ix2 (ni n r) (ci g k))
    = ((a.D n g r k * gate (a.V n g) (a.lg g) (a.lb g) (a.ws g) (a.bs g) r k : ℝ) : EReal) := by
  pointwise [res_main_v97]
  rw [r95 h, r93 h]
  norm_cast
theorem r98 : res_main_v98 V0 (ix4 n r g k) = (dgate (a.U n g) (a.D n g) r k : EReal) := by
  unfold res_main_v98
  refine (flat4 n r g k _).trans ?_
  pointwise []
  rw [r24 h, r95 h, ← EReal.coe_mul]
  congr 1; unfold dgate; ring
theorem r105 : res_main_v105 V0 (ix4 g n k r) = (dgate (a.U n g) (a.D n g) r k : EReal) := by
  pointwise [res_main_v105]
  exact r98 h n r g k
theorem r108 : res_main_v108 V0 (ix4 n r g k) = (dvn (a.U n g) (a.D n g) (a.ws g) r k : EReal) := by
  pointwise [res_main_v108]
  simp only [r105 h, r85_0 h, ← EReal.coe_mul, ← coe_sum]
  congr 1; unfold dvn
  exact Finset.sum_congr rfl fun i _ => mul_comm _ _
theorem r117 : res_main_v117 V0 (ix4 n r g k) = ((dvn (a.U n g) (a.D n g) (a.ws g) r k * a.lg g k : ℝ) : EReal) := by
  pointwise [res_main_v117]
  rw [r108 h, r72 h]
  norm_cast
theorem r123 : res_main_v123 V0 (ix4 n r g k)
    = ((dvn (a.U n g) (a.D n g) (a.ws g) r k * a.lg g k * rstd (fun k => gelu (a.V n g r k)) : ℝ) : EReal) := by
  pointwise [res_main_v123]
  rw [r117 h, r66 h]
  norm_cast

/-- The gradient in the normalised row. -/
abbrev Args.dx (a : Args) (n : Fin 16) (g : Fin 8) (r : Fin 128) (k : Fin 256) : ℝ :=
  dvn (a.U n g) (a.D n g) (a.ws g) r k * a.lg g k

theorem r132 : res_main_v132 V0 (ix4 n r g k)
    = (((∑ k, vc (fun k => gelu (a.V n g r k)) k * a.dx n g r k)
        * (-(1 / 2) * (rstd (fun k => gelu (a.V n g r k)) / vare (fun k => gelu (a.V n g r k)))) / 256
        * (2 * vc (fun k => gelu (a.V n g r k)) k) : ℝ) : EReal) := by
  pointwise [res_main_v132]
  rw [Fin.sum_univ_one]
  simp only [r54 h, r63 h, r65 h, r66 h, r117 h, lit_neg_half, lit_two, lit_256, ← EReal.coe_mul, ← coe_sum]
  rw [div_real _ _ (vare_pos _).ne']
  simp only [← EReal.coe_mul]
  rw [div_real _ _ (by norm_num)]
  norm_cast
theorem r143 : res_main_v143 V0 (ix2 (ni n r) (ci g k))
    = (lnb (fun k => gelu (a.V n g r k)) (a.dx n g r) k : EReal) := by
  unfold res_main_v143
  refine (flat2 n r g k _).trans ?_
  pointwise []
  rw [Fin.sum_univ_one]
  simp only [r123 h, r132 h, lit_256, ← EReal.coe_neg, ← coe_sum, ← EReal.coe_add]
  rw [div_real _ _ (by norm_num), ← EReal.coe_add]
  exact congrArg Real.toEReal (lnb_steps (fun k => gelu (a.V n g r k)) (a.dx n g r) k)
theorem r150 : res_main_v150 V0 (ix2 (ni n r) (ci g k))
    = ((c0 * (1 / 2 * (a.V n g r k * lnb (fun k => gelu (a.V n g r k)) (a.dx n g r) k)
        * ((1 + th (a.V n g r k)) * (1 - th (a.V n g r k)))) : ℝ) : EReal) := by
  pointwise [res_main_v150]
  simp only [r1 h, r143 h, r37 h, lit_c0, lit_half]
  norm_cast
theorem r164 : res_main_v164 V0 (ix2 (ni n r) (ci g k))
    = ((c0 * (1 / 2 * (a.U n g r k * (a.D n g r k * gate (a.V n g) (a.lg g) (a.lb g) (a.ws g) (a.bs g) r k))
        * ((1 + th (a.U n g r k)) * (1 - th (a.U n g r k)))) : ℝ) : EReal) := by
  pointwise [res_main_v164]
  simp only [r0 h, r97 h, r14 h, lit_c0, lit_half]
  norm_cast
omit h in
/-- The steps of gelu's derivative add up to the derivative. -/
theorem gelud_steps (x d : ℝ) :
    d * (1 / 2 * (1 + th x)) + c0 * (1 / 2 * (x * d) * ((1 + th x) * (1 - th x)))
      + 44715 * (c0 * (1 / 2 * (x * d) * ((1 + th x) * (1 - th x))) / 1000000) * (3 * (x * x)) = d * gelud x := by
  unfold gelud g1; ring
omit h in
/-- Every position of a square array is a row of a chunk and a column of a group. -/
theorem ix_of (i : (⟨2, ![2048, 2048]⟩ : Shape).Idx) : ∃ n r g k, i = ix2 (ni n r) (ci g k) :=
  ⟨nOf (i 0), rOf (i 0), gOf (i 1), cOf (i 1), (ix2_eta i).symm.trans (congrArg₂ ix2 (ni_of _).symm (ci_of _).symm)⟩
/-- The gradient in the first branch. -/
theorem ref_du : truncf .bf16 (addf (addf (mulf (res_main_v97 V0) (res_main_v23 V0)) (res_main_v164 V0)) (mulf (mulf (broadcastInDim S2048x2048 ![] bcast_S_S2048x2048 (constant S_ .f32 0x472EAB00#32)) (Host.divf (res_main_v164 V0) (broadcastInDim S2048x2048 ![] bcast_S_S2048x2048 (constant S_ .f32 0x49742400#32)))) (mulf (broadcastInDim S2048x2048 ![] bcast_S_S2048x2048 (constant S_ .f32 0x40400000#32)) (mulf (res_main_v0 V0) (res_main_v0 V0))))) bitsLt_bf16_f32
    = rDu a := by
  funext i
  obtain ⟨n, r, g, k, rfl⟩ := ix_of i
  pointwise []
  simp only [r97 h, r23 h, r164 h, r0 h, lit_three, lit_44715, lit_million]
  rw [div_real _ _ (by norm_num)]
  unfold rDu
  simp only [← EReal.coe_mul, ← EReal.coe_add]
  rw [gelud_steps]
  rw [ix2_0, ix2_1, nOf_ni, rOf_ni, gOf_ci, cOf_ci]
  rfl
/-- The gradient in the second branch. -/
theorem ref_dv : truncf .bf16 (addf (addf (mulf (res_main_v143 V0) (res_main_v46 V0)) (res_main_v150 V0)) (mulf (mulf (broadcastInDim S2048x2048 ![] bcast_S_S2048x2048 (constant S_ .f32 0x472EAB00#32)) (Host.divf (res_main_v150 V0) (broadcastInDim S2048x2048 ![] bcast_S_S2048x2048 (constant S_ .f32 0x49742400#32)))) (mulf (broadcastInDim S2048x2048 ![] bcast_S_S2048x2048 (constant S_ .f32 0x40400000#32)) (mulf (res_main_v1 V0) (res_main_v1 V0))))) bitsLt_bf16_f32
    = rDv a := by
  funext i
  obtain ⟨n, r, g, k, rfl⟩ := ix_of i
  pointwise []
  simp only [r143 h, r46 h, r150 h, r1 h, lit_three, lit_44715, lit_million]
  rw [div_real _ _ (by norm_num)]
  unfold rDv
  simp only [← EReal.coe_mul, ← EReal.coe_add]
  rw [gelud_steps]
  rw [ix2_0, ix2_1, nOf_ni, rOf_ni, gOf_ci, cOf_ci]
  rfl
omit h in
/-- A host sum over the first two of four axes. -/
theorem sum4_01 {n0 n1 n2 n3 : ℕ} (hr : (⟨4, ![n0, n1, n2, n3]⟩ : Shape).ReducesTo [0, 1] ⟨2, ![n2, n3]⟩)
    (v : (⟨4, ![n0, n1, n2, n3]⟩ : Shape).Idx → EReal) (c : EReal) (p : Fin n2) (q : Fin n3) :
    Ideal.hostReduceAdd hr v c (ix2 p q) = c + ∑ x, ∑ y, v (ix4 x y p q) := by
  refine congrArg (c + ·) ((Finset.sum_filter_eq_sum_of_fiber _ (fun k : Fin n0 × Fin n1 => ix4 k.1 k.2 p q)
    (fun _ _ e => Prod.ext (congrFun e 0) (congrFun e 1)) (fun i => ?_) v).trans (Fintype.sum_prod_type _))
  constructor
  · intro e
    refine ⟨(i 0, i 1), ?_⟩
    funext x; apply Fin.ext
    match x with
    | ⟨0, _⟩ => rfl
    | ⟨1, _⟩ => rfl
    | ⟨2, _⟩ => exact (congrArg Fin.val (congrFun e (0 : Fin 2))).symm
    | ⟨3, _⟩ => exact (congrArg Fin.val (congrFun e (1 : Fin 2))).symm
  · rintro ⟨k, rfl⟩
    funext x; apply Fin.ext
    match x with
    | ⟨0, _⟩ => rfl
    | ⟨1, _⟩ => rfl
omit h in
/-- A host sum over the first and the last of four axes. -/
theorem sum4_03 {n0 n1 n2 n3 : ℕ} (hr : (⟨4, ![n0, n1, n2, n3]⟩ : Shape).ReducesTo [0, 3] ⟨2, ![n1, n2]⟩)
    (v : (⟨4, ![n0, n1, n2, n3]⟩ : Shape).Idx → EReal) (c : EReal) (p : Fin n1) (q : Fin n2) :
    Ideal.hostReduceAdd hr v c (ix2 p q) = c + ∑ x, ∑ y, v (ix4 x p q y) := by
  refine congrArg (c + ·) ((Finset.sum_filter_eq_sum_of_fiber _ (fun k : Fin n0 × Fin n3 => ix4 k.1 p q k.2)
    (fun _ _ e => Prod.ext (congrFun e 0) (congrFun e 3)) (fun i => ?_) v).trans (Fintype.sum_prod_type _))
  constructor
  · intro e
    refine ⟨(i 0, i 3), ?_⟩
    funext x; apply Fin.ext
    match x with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext x; apply Fin.ext
    match x with
    | ⟨0, _⟩ => rfl
    | ⟨1, _⟩ => rfl
/-- The gradient in the scale. -/
theorem ref_lg : shapeCast S1x2048 (Host.reduceAdd (shapeCast S1x1x8x256 (Host.reduceAdd (mulf (res_main_v71 V0) (res_main_v108 V0)) (constant S_ .f32 0x00000000#32) reducesTo_S16x128x8x256_S8x256_d0_1 h_S_) shapeCasts_S8x256_S1x1x8x256) (constant S_ .f32 0x00000000#32) reducesTo_S1x1x8x256_S8x256_d0_1 h_S_) shapeCasts_S8x256_S1x2048
    = rLg a := by
  funext i
  obtain ⟨x, j, rfl⟩ : ∃ (x : Fin 1) (j : Fin 2048), i = ix2 x j := ⟨i 0, i 1, (ix2_eta i).symm⟩
  pointwise []
  rw [sum4_01, Fin.sum_univ_one, Fin.sum_univ_one]
  pointwise []
  rw [sum4_01]
  pointwise []
  simp only [r71 h, r108 h, ← EReal.coe_mul, ← coe_sum]
  refine congrArg Real.toEReal (Finset.sum_congr rfl fun i _ => (Finset.sum_congr rfl fun l _ => mul_comm _ _).trans ?_)
  rfl
/-- The gradient in the shift. -/
theorem ref_lb : shapeCast S1x2048 (Host.reduceAdd (shapeCast S1x1x8x256 (Host.reduceAdd (res_main_v108 V0) (constant S_ .f32 0x00000000#32) reducesTo_S16x128x8x256_S8x256_d0_1 h_S_) shapeCasts_S8x256_S1x1x8x256) (constant S_ .f32 0x00000000#32) reducesTo_S1x1x8x256_S8x256_d0_1 h_S_) shapeCasts_S8x256_S1x2048
    = rLb a := by
  funext i
  obtain ⟨x, j, rfl⟩ : ∃ (x : Fin 1) (j : Fin 2048), i = ix2 x j := ⟨i 0, i 1, (ix2_eta i).symm⟩
  pointwise []
  rw [sum4_01, Fin.sum_univ_one, Fin.sum_univ_one]
  pointwise []
  rw [sum4_01]
  pointwise []
  simp only [r71 h, r108 h, ← EReal.coe_mul, ← coe_sum]
  rfl
/-- The gradient in the weights. -/
theorem ref_ws : select (res_main_v85_1 V0) (Host.dotGeneral (φ₁ := .f32) (φ₂ := .f32) dot_S8x16x256x128_S16x128x8x256_S8x128x128_12_03_3_1_0_2 none (res_main_v105 V0) (res_main_v77 V0)) (broadcastInDim S8x128x128 ![] bcast_S_S8x128x128 (constant S_ .f32 0x00000000#32))
    = rWs a := by
  funext i
  obtain ⟨g, p, q, rfl⟩ : ∃ (g : Fin 8) (p q : Fin 128), i = ix3 g p q := ⟨i 0, i 1, i 2, (ix3_eta i).symm⟩
  pointwise []
  simp only [r85_1, r105 h, r77 h, ← EReal.coe_mul, ← coe_sum]
  unfold rWs
  rw [ix3_0, ix3_1, ix3_2]
  by_cases hv : vis p q
  · simp only [hv, if_true, Args.pWs, dws, dwm]; rfl
  · simp only [hv, if_false, Args.pWs, dws, Finset.sum_const_zero]; exact EReal.coe_zero.symm
/-- The gradient in the bias. -/
theorem ref_bs : shapeCast S8x128x1 (transpose S8x128 [1, 0] (Host.reduceAdd (broadcastInDim S128x8x1 ![0, 1] bcast_S128x8_S128x8x1_0_1 (Host.reduceAdd (shapeCast S1x128x8x1 (Host.reduceAdd (res_main_v98 V0) (constant S_ .f32 0x00000000#32) reducesTo_S16x128x8x256_S128x8_d0_3 h_S_) shapeCasts_S128x8_S1x128x8x1) (constant S_ .f32 0x00000000#32) reducesTo_S1x128x8x1_S128x8_d0_3 h_S_)) (constant S_ .f32 0x00000000#32) reducesTo_S128x8x1_S128x8_d2 h_S_) transposes_S128x8_S8x128_1_0) shapeCasts_S8x128_S8x128x1
    = rBs a := by
  funext i
  obtain ⟨g, p, q, rfl⟩ : ∃ (g : Fin 8) (p : Fin 128) (q : Fin 1), i = ix3 g p q := ⟨i 0, i 1, i 2, (ix3_eta i).symm⟩
  pointwise []
  rw [Fin.sum_univ_one, sum4_03, Fin.sum_univ_one, Fin.sum_univ_one]
  pointwise []
  rw [sum4_03]
  pointwise []
  simp only [r98 h, ← EReal.coe_mul, ← coe_sum]
  rfl

end Cert.Proof.Gm

end
-- ==== Proof.GmPre.lean ====
/- The precondition says that every entry of the six arguments is a real number. -/
module

public import proofs.«01_k».proof.Defs
public import proofs.«01_k».proof.Proof.Gen.Pre_finite
public import proofs.«01_k».proof.Proof.GmArr
public import Idealize.ShloMosaic.Lib.ReduceAll

@[expose] public section

set_option maxRecDepth 16384

noncomputable section

namespace Cert.Proof.Gm

open Idealize.ShloMosaic Idealize.ShloMosaic.TcCoe Idealize.SL.Sem

/-- Two bits whose conjunction is one are both one. -/
theorem and_one (a b : BitVec 1) (h : IntOp.andi a b = 1#1) : a = 1#1 ∧ b = 1#1 := by
  revert a b; decide
/-- An extended real whose magnitude is below infinity is a real number. -/
theorem real_of_abs (x : EReal) (h : Ideal.cmp .olt (max x (-x)) ⊤ = 1#1) : x = ((x.toReal : ℝ) : EReal) := by
  induction x using EReal.rec with
  | bot => simp [Ideal.cmp] at h
  | top => simp [Ideal.cmp] at h
  | coe r => rfl
/-- An array all of whose entries pass the test holds real numbers. -/
theorem real_all {s : Shape} {axes : List (Fin s.rank)} (x : FVec Ideal s .f32) (d) (hb : Cert.Pre_finite.S_.BroadcastsInDim s d)
    (hr : s.ReducesTo axes Cert.Pre_finite.S_) (hu)
    (h : Host.reduce IntOp.andi (cmpf .olt (Host.absf x) (broadcastInDim s d hb (constant Cert.Pre_finite.S_ .f32 0x7F800000#32)))
      (constantI Cert.Pre_finite.S_ 1 1#1) hr hu ix0 = 1#1) (i : s.Idx) :
    x i = ((x i).toReal : EReal) := by
  have e := Host.reduce_andi_all _ _ hr hu ix0 h i
  apply real_of_abs
  rw [← lit_inf]
  exact e

/-- The real numbers in the six arguments. -/
def argsOf (m : (ℓ : Loc Cert.GmIdeal.nD Cert.GmIdeal.τ Cert.GmIdeal.sig) → Buf (Elt Ideal) ℓ) (c : Dev Cert.GmIdeal.nD) : Args where
  P i j := EReal.toReal ((m ((c : Thread Cert.GmIdeal.nD Cert.GmIdeal.τ).loc Cert.GmIdeal.main_arg0) : FVec Ideal ⟨2, ![2048, 9216]⟩ .f32) (ix2 i j))
  lg g k := EReal.toReal ((m ((c : Thread Cert.GmIdeal.nD Cert.GmIdeal.τ).loc Cert.GmIdeal.main_arg1) : FVec Ideal ⟨2, ![8, 256]⟩ .f32) (ix2 g k))
  lb g k := EReal.toReal ((m ((c : Thread Cert.GmIdeal.nD Cert.GmIdeal.τ).loc Cert.GmIdeal.main_arg2) : FVec Ideal ⟨2, ![8, 256]⟩ .f32) (ix2 g k))
  ws g i j := EReal.toReal ((m ((c : Thread Cert.GmIdeal.nD Cert.GmIdeal.τ).loc Cert.GmIdeal.main_arg3) : FVec Ideal ⟨3, ![8, 128, 128]⟩ .f32) (ix3 g i j))
  bs g i := EReal.toReal ((m ((c : Thread Cert.GmIdeal.nD Cert.GmIdeal.τ).loc Cert.GmIdeal.main_arg4) : FVec Ideal ⟨2, ![8, 128]⟩ .f32) (ix2 g i))
  dy i j := EReal.toReal ((m ((c : Thread Cert.GmIdeal.nD Cert.GmIdeal.τ).loc Cert.GmIdeal.main_arg5) : FVec Ideal ⟨2, ![2048, 4096]⟩ .f32) (ix2 i j))

/-- Under the precondition each device's arguments hold real numbers. -/
theorem hasArgs (m : (ℓ : Loc Cert.GmIdeal.nD Cert.GmIdeal.τ Cert.GmIdeal.sig) → Buf (Elt Ideal) ℓ)
    (h : Pre_GmIdeal_finite (hPre_finite := Cert.Pre_finite.Gen.facts) m) (c : Dev Cert.GmIdeal.nD) : HasArgs m c (argsOf m c) := by
  have e := congrFun (h c) ix0
  dsimp only [Cert.Pre_finite.fn, Cert.Pre_finite.fn_part1] at e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact ⟨fun i j => real_all _ _ _ _ _ e0 (ix2 i j), fun i j => real_all _ _ _ _ _ e1 (ix2 i j), fun i j => real_all _ _ _ _ _ e2 (ix2 i j),
    fun g i j => real_all _ _ _ _ _ e3 (ix3 g i j), fun i j => real_all _ _ _ _ _ e4 (ix2 i j), fun i j => real_all _ _ _ _ _ e5 (ix2 i j)⟩

end Cert.Proof.Gm

end
-- ==== Proof.GmClaim.lean ====
/- The claims about the gated unit's gradient, put together. -/
module

public import proofs.«01_k».proof.Defs
public import proofs.«01_k».proof.Proof.Gen.Gm
public import proofs.«01_k».proof.Proof.Gen.Gm.Frame
public import proofs.«01_k».proof.Proof.GmRef
public import proofs.«01_k».proof.Proof.GmPre

@[expose] public section

noncomputable section

namespace Cert.Proof.Gm

open Idealize.ShloMosaic Idealize.SL.Sem

/-- The kernel at the machine's floats terminates, keeps its arguments, and leaves every counter at zero. -/
theorem frame : Cert.quiescent_Gm (hGm := Cert.Gm.Gen.facts) := fun m ρ _ => Cert.Gm.Gen.frame m ρ
/-- So does the kernel over the extended reals. -/
theorem frame_ideal : Cert.quiescent_GmIdeal (hGmIdeal := Cert.GmIdeal.Gen.facts) := fun m ρ _ => Cert.GmIdeal.Gen.frame m ρ
/-- So does the reference over the extended reals. -/
theorem frame_ref : Cert.quiescent_GmRefIdeal (hGmRefIdeal := Cert.GmRefIdeal.Gen.facts) := fun m ρ _ =>
  (θ_run Cert.GmRefIdeal.defs _ _).mono
    (fun r h => ⟨fun c => by
        obtain ⟨-, -, -, -, -, -, e⟩ := h c
        exact e,
      sem_eq_zero_of_no_sems (by decide) r.2⟩)
    (Cert.GmRefIdeal.Value.run (F := Ideal) m ρ)
/-- The two named coefficients are the decimal numbers that the kernel's source spells. -/
theorem preserves : Cert.preserves_Gm_GmIdeal :=
  ⟨IdealRules.named_const.statement Cert.GmIdeal.κ "g1" .f32 0x3D372713#32 ((8943 / 200000 : ℝ) : EReal) rfl,
    IdealRules.named_const.statement Cert.GmIdeal.κ "g3" .f32 0x3E095D4F#32 ((26829 / 200000 : ℝ) : EReal) rfl⟩
/-- Kernel and reference end with the same six gradients, when every argument entry is a real number. -/
theorem algebraic : Cert.algebraic_GmIdeal_GmRefIdeal_pre_finite (hGmIdeal := Cert.GmIdeal.Gen.facts)
    (hGmRefIdeal := Cert.GmRefIdeal.Gen.facts) (hPre_finite := Cert.Pre_finite.Gen.facts) := by
  intro m g m' g' hpre hargs
  have hA := fun c => hasArgs m hpre c
  refine ⟨fun c => rDu (argsOf m c), fun c => rDv (argsOf m c), fun c => rLg (argsOf m c), fun c => rLb (argsOf m c),
    fun c => rWs (argsOf m c), fun c => rBs (argsOf m c),
    (θ_run Cert.GmIdeal.defs _ _).mono (fun r h c => ?_) (Cert.GmIdeal.Value.run_blocks m g),
    (θ_run Cert.GmRefIdeal.defs _ _).mono (fun r h c => ?_) (Cert.GmRefIdeal.Value.run m' g')⟩
  · obtain ⟨h0, h1, h2, h3, h4, h5, e⟩ := h c
    exact ⟨h0.trans (final7 c _ (hA c)), h1.trans (final8 c _ (hA c)), h2.trans (final9 c _ (hA c)),
      h3.trans (final10 c _ (hA c)), h4.trans (final11 c _ (hA c)), h5.trans (final12 c _ (hA c)), e⟩
  · obtain ⟨h0, h1, h2, h3, h4, h5, e⟩ := h c
    obtain ⟨a0, a1, a2, a3, a4, a5⟩ := hargs c
    have hR : RefArgs (StableHlo.launchContents m' c) (argsOf m c) := by
      obtain ⟨b0, b1, b2, b3, b4, b5⟩ := hA c
      exact ⟨fun i j => (congrFun a0 _).trans (b0 i j), fun i j => (congrFun a1 _).trans (b1 i j),
        fun i j => (congrFun a2 _).trans (b2 i j), fun i j k => (congrFun a3 _).trans (b3 i j k),
        fun i j => (congrFun a4 _).trans (b4 i j), fun i j => (congrFun a5 _).trans (b5 i j)⟩
    exact ⟨h0.trans (ref_du hR), h1.trans (ref_dv hR), h2.trans (ref_lg hR), h3.trans (ref_lb hR),
      h4.trans (ref_ws hR), h5.trans (ref_bs hR), e⟩

end Cert.Proof.Gm

end
-- ==== Proof.Mm.lean ====
/- Arrays read at natural numbers, and sums of products cut in blocks: what the tiled products share. -/
module

public import proofs.«01_k».proof.Defs
public import Idealize.ShloMosaic.Lib.Pointwise

@[expose] public section

noncomputable section

namespace Cert.Proof.Mm

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A matrix read at two natural numbers, zero outside. -/
def at2 {M N : ℕ} (x : (⟨2, ![M, N]⟩ : Shape).Idx → EReal) (i j : ℕ) : EReal :=
  if h : i < M ∧ j < N then x (ix2 ⟨i, h.1⟩ ⟨j, h.2⟩) else 0

/-- An array of rank three read at natural numbers, zero outside. -/
def at3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

/-- An array of rank four read at natural numbers, zero outside. -/
def at4 {A B C D : ℕ} (x : (⟨4, ![A, B, C, D]⟩ : Shape).Idx → EReal) (i j k l : ℕ) : EReal :=
  if h : i < A ∧ j < B ∧ k < C ∧ l < D then x (ix4 ⟨i, h.1⟩ ⟨j, h.2.1⟩ ⟨k, h.2.2.1⟩ ⟨l, h.2.2.2⟩) else 0

theorem at2_ix2 {M N : ℕ} (x : (⟨2, ![M, N]⟩ : Shape).Idx → EReal) (i : Fin M) (j : Fin N) : x (ix2 i j) = at2 x i.val j.val := by
  unfold at2; rw [dif_pos ⟨i.isLt, j.isLt⟩]
theorem at3_ix3 {A B C : ℕ} (x : (⟨3, ![A, B, C]⟩ : Shape).Idx → EReal) (i : Fin A) (j : Fin B) (k : Fin C) :
    x (ix3 i j k) = at3 x i.val j.val k.val := by
  unfold at3; rw [dif_pos ⟨i.isLt, j.isLt, k.isLt⟩]
theorem at4_ix4 {A B C D : ℕ} (x : (⟨4, ![A, B, C, D]⟩ : Shape).Idx → EReal) (i : Fin A) (j : Fin B) (k : Fin C) (l : Fin D) :
    x (ix4 i j k l) = at4 x i.val j.val k.val l.val := by
  unfold at4; rw [dif_pos ⟨i.isLt, j.isLt, k.isLt, l.isLt⟩]

/-- An entry of a matrix, by the values of its two coordinates. -/
theorem at2_eq {M N : ℕ} (x : (⟨2, ![M, N]⟩ : Shape).Idx → EReal) (p : (⟨2, ![M, N]⟩ : Shape).Idx) {i j : ℕ}
    (hi : (p 0).val = i) (hj : (p 1).val = j) : x p = at2 x i j := by
  subst hi hj
  exact (congrArg x (ix2_eta p).symm).trans (at2_ix2 x (p 0) (p 1))
theorem at3_eq {A B C : ℕ} (x : (⟨3, ![A, B, C]⟩ : Shape).Idx → EReal) (p : (⟨3, ![A, B, C]⟩ : Shape).Idx) {i j k : ℕ}
    (hi : (p 0).val = i) (hj : (p 1).val = j) (hk : (p 2).val = k) : x p = at3 x i j k := by
  subst hi hj hk
  exact (congrArg x (ix3_eta p).symm).trans (at3_ix3 x (p 0) (p 1) (p 2))
theorem at4_eq {A B C D : ℕ} (x : (⟨4, ![A, B, C, D]⟩ : Shape).Idx → EReal) (p : (⟨4, ![A, B, C, D]⟩ : Shape).Idx) {i j k l : ℕ}
    (hi : (p 0).val = i) (hj : (p 1).val = j) (hk : (p 2).val = k) (hl : (p 3).val = l) : x p = at4 x i j k l := by
  subst hi hj hk hl
  exact (congrArg x (ix4_eta p).symm).trans (at4_ix4 x (p 0) (p 1) (p 2) (p 3))

/-- An entry of the product of a matrix's transpose with a matrix, over the first `n` terms. -/
def prod {K M N : ℕ} (n : ℕ) (x : (⟨2, ![K, M]⟩ : Shape).Idx → EReal) (y : (⟨2, ![K, N]⟩ : Shape).Idx → EReal) (i j : ℕ) : EReal :=
  ∑ k ∈ Finset.range n, at2 x k i * at2 y k j

/-- The same entry, with the factors the other way round. -/
theorem prod_eq {K M N : ℕ} (x : (⟨2, ![K, M]⟩ : Shape).Idx → EReal) (y : (⟨2, ![K, N]⟩ : Shape).Idx → EReal) (i : Fin M) (j : Fin N) {r s : ℕ}
    (hi : i.val = r) (hj : j.val = s) : ∑ k : Fin K, y (ix2 k j) * x (ix2 k i) = prod K x y r s := by
  subst hi hj
  unfold prod
  rw [Finset.sum_range fun k => at2 x k i.val * at2 y k j.val]
  exact Finset.sum_congr rfl fun k _ => (mul_comm _ _).trans (congrArg₂ (· * ·) (at2_ix2 ..) (at2_ix2 ..))

/-- A sum over the first `n + b` numbers is the sum over the first `n` and one block of `b` more. -/
theorem sum_step (f : ℕ → EReal) (n b N : ℕ) (h : N = n + b) :
    ∑ k ∈ Finset.range N, f k = ∑ k ∈ Finset.range n, f k + ∑ k : Fin b, f (n + k.val) := by
  subst h
  rw [Finset.sum_range_add, Finset.sum_range fun k => f (n + k)]

/-- A sum over the first `n` numbers that is one block. -/
theorem sum_first (f : ℕ → EReal) (n : ℕ) : ∑ k ∈ Finset.range n, f k = ∑ k : Fin n, f k.val := Finset.sum_range f

theorem succ_mod (n nk : ℕ) (h : (n + 1) % nk ≠ 0) : (n + 1) % nk = n % nk + 1 := by
  rcases Nat.eq_zero_or_pos nk with rfl | hk
  · simp
  · rw [Nat.add_mod] at h ⊢
    rcases Nat.lt_or_ge 1 nk with h1 | h1
    · rw [Nat.mod_eq_of_lt h1] at h ⊢
      have := Nat.mod_lt n hk
      rcases Nat.lt_or_ge (n % nk + 1) nk with h3 | h3
      · exact Nat.mod_eq_of_lt h3
      · exact absurd (by rw [show n % nk + 1 = nk by omega, Nat.mod_self]) h
    · obtain rfl : nk = 1 := by omega
      exact absurd (Nat.mod_one _) h
/-- A run of `nk` grid points adds `nk` blocks of terms up; before the last of them the accumulator holds the terms so far. -/
theorem run_sum (b nk : ℕ) (h2 : 2 ≤ nk) (f : ℕ → ℕ → EReal) (hf : ∀ n, (n + 1) % nk ≠ 0 → f (n + 1) = f n) (N : ℕ)
    (acc : ∀ n, n < N → EReal)
    (hA : ∀ n h, n % nk = 0 → acc n h = ∑ k : Fin b, f n (b * (n % nk) + k.val))
    (hB : ∀ n h, (n + 1) % nk ≠ 0 → (n + 1) % nk ≠ nk - 1 →
      acc (n + 1) h = acc n (Nat.lt_of_succ_lt h) + ∑ k : Fin b, f (n + 1) (b * ((n + 1) % nk) + k.val)) :
    ∀ n h, n % nk ≠ nk - 1 → acc n h = ∑ k ∈ Finset.range (b * (n % nk) + b), f n k := by
  have first : ∀ n h, n % nk = 0 → acc n h = ∑ k ∈ Finset.range (b * (n % nk) + b), f n k := fun n h h0 => by
    rw [hA n h h0, sum_step _ (b * (n % nk)) b _ rfl, h0, Nat.mul_zero, Finset.sum_range_zero, zero_add]
  intro n
  induction n with
  | zero => exact fun h _ => first 0 h (Nat.zero_mod nk)
  | succ n ih =>
    intro h hn
    by_cases h0 : (n + 1) % nk = 0
    · exact first _ h h0
    · have e := succ_mod n nk h0
      have hl := Nat.mod_lt (n + 1) (show 0 < nk by omega)
      rw [hB n h h0 hn, ih _ (by omega), sum_step _ (b * ((n + 1) % nk)) b _ rfl, hf n h0, e, Nat.mul_succ]
/-- The last point of the run completes the sum. -/
theorem run_last (b nk : ℕ) (h2 : 2 ≤ nk) (f : ℕ → ℕ → EReal) (hf : ∀ n, (n + 1) % nk ≠ 0 → f (n + 1) = f n) {t K : ℕ}
    (ht : t % nk = nk - 1) (hK : b * nk = K) {a : EReal} (ha : a = ∑ k ∈ Finset.range (b * ((t - 1) % nk) + b), f (t - 1) k) :
    a + ∑ k : Fin b, f t (b * (t % nk) + k.val) = ∑ k ∈ Finset.range K, f t k := by
  obtain ⟨n, rfl⟩ : ∃ n, t = n + 1 := ⟨t - 1, by rcases t with _ | t <;> [skip; rfl]; rw [Nat.zero_mod] at ht; omega⟩
  have h0 : (n + 1) % nk ≠ 0 := by omega
  have e := succ_mod n nk h0
  rw [ha, sum_step _ (b * ((n + 1) % nk)) b K (by rw [ht, ← hK, ← Nat.mul_succ]; congr 1; omega), Nat.add_sub_cancel, hf n h0, e, Nat.mul_succ]

/-- A number below the bound, as a grid point. -/
theorem fin_of {n N : ℕ} (h : n < N) : ∃ t : Fin N, t.val = n := ⟨⟨n, h⟩, rfl⟩
/-- A coordinate that lies in the block of a given index. -/
theorem in_blk (d i : ℕ) {a b : ℕ} (h : a = b) (hb : b * d ≤ i ∧ i < b * d + d) : a * d ≤ i ∧ i < a * d + d := h ▸ hb

end Cert.Proof.Mm

end
-- ==== Proof.FfDaClaim.lean ====
/- The feed-forward hidden gradient. -/
module

public import proofs.«01_k».proof.Proof.Mm
public import proofs.«01_k».proof.Proof.Gen.FfDa.Frame
public import proofs.«01_k».proof.Proof.Gen.FfDaIdeal.Value
public import proofs.«01_k».proof.Proof.Gen.FfDaRefIdeal.Run

@[expose] public section

set_option maxRecDepth 16384

noncomputable section

namespace Cert.Proof.FfDa

open Idealize.ShloMosaic Idealize.ShloMosaic.TcCoe Idealize.SL.Sem Mm FfDaIdeal FfDaIdeal.Gen FfDaIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (1408 * (n % 4) + s)

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel
/-- One block of the product's terms. -/
theorem block (t : Fin cfg0.N) (r : Fin 1024) (s : Fin 1408) (x0 : Vec Ideal S1024x2048 .f32) (x1 : Vec Ideal S1408x2048 .bf16) (h0 : x0 = iblk m c 0 t) (h1 : x1 = iblk m c 1 t) :
    ∑ k, x0 (ix2 r k) * x1 (ix2 s k) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 1408 + 1 * s.val = _; rw [(idx1 t).1]; omega) (by show win0_1.index t 1 * 2048 + 1 * k.val = _; rw [(idx1 t).2]; omega)
theorem outA (c i arg3 harg3 arg4 harg4 arg5 harg5 arg6 harg6 x0 x1) (r : Fin 1024) (s : Fin 1408) :
    out0_A_2 (F := Ideal) c i arg3 harg3 arg4 harg4 arg5 harg5 arg6 harg6 x0 x1 (ix2 r s) = ∑ k, x0 (ix2 r k) * x1 (ix2 s k) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1408x2048) hz2, View.ld_unit_zero (S := S1024x1408) hz2]
  pointwise [k0_pay1]
/-- What a point leaves in the product's block. -/
theorem out_at (t : Fin cfg0.N) (r : Fin 1024) (s : Fin 1408) :
    (outsAt0 m c t : Vec Ideal S1024x1408 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1408), j = ix2 r s := ⟨j 0, j 1, (ix2_eta j).symm⟩
  rw [View.read_apply]
  refine (out_at m c t r s).trans ?_
  generalize hp : (((cfg0.win 2).blk t).view.emb (ix2 r s) : S2048x5632.Idx) = p
  have p0 : (p 0).val = win0_2.index t 0 * 1024 + 1 * r.val := by rw [← hp]; rfl
  rw [(idx2 t).1] at p0
  have p1 : (p 1).val = win0_2.index t 1 * 1408 + 1 * s.val := by rw [← hp]; rfl
  rw [(idx2 t).2] at p1
  show _ = total m c (p 0).val (p 1).val
  rw [show (p 0).val = 1024 * (t.val / 4) + r.val by omega, show (p 1).val = 1408 * (t.val % 4) + s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 5632 := (i 1).isLt
  obtain ⟨t, ht⟩ := fin_of (show 4 * ((i 0).val / 1024) + 1 * ((i 1).val / 1408) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1408 (i 1).val (idx2 t).2 (by omega)

/-- The kernel at the machine's floats terminates, keeps its arguments, and leaves every counter at zero. -/
theorem frame : quiescent_FfDa (hFfDa := FfDa.Gen.facts) := fun m ρ _ => FfDa.Gen.frame m ρ
/-- So does the kernel over the extended reals. -/
theorem frame_ideal : quiescent_FfDaIdeal (hFfDaIdeal := facts) := fun m ρ _ => FfDaIdeal.Gen.frame m ρ
/-- So does the reference over the extended reals. -/
theorem frame_ref : quiescent_FfDaRefIdeal (hFfDaRefIdeal := FfDaRefIdeal.Gen.facts) := fun m ρ _ =>
  (θ_run FfDaRefIdeal.defs _ _).mono (fun r h => ⟨fun c => (h c).2, sem_eq_zero_of_no_sems (by decide) r.2⟩)
    (FfDaRefIdeal.Value.run (F := Ideal) m ρ)
/-- No operation of the kernel is replaced. -/
theorem preserves : preserves_FfDa_FfDaIdeal := trivial
/-- Kernel and reference end with the same array. -/
theorem algebraic : algebraic_FfDaIdeal_FfDaRefIdeal (hFfDaIdeal := facts) (hFfDaRefIdeal := FfDaRefIdeal.Gen.facts) := by
  intro m g m' g' _ hargs
  refine ⟨fun c => G m c, (θ_run defs _ _).mono (fun r h c => ⟨(h c).1.trans (final m c), (h c).2⟩) (run_blocks m g),
    (θ_run FfDaRefIdeal.defs _ _).mono (fun r h c => ⟨(h c).1.trans ?_, (h c).2⟩) (FfDaRefIdeal.Value.run (F := Ideal) m' g')⟩
  obtain ⟨a0, a1⟩ := hargs c
  rw [a0, a1]
  funext i
  obtain ⟨r, s, rfl⟩ : ∃ (r : Fin 2048) (s : Fin 5632), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.FfDa

end
-- ==== Proof.FfDown0Claim.lean ====
/- The down projection's gradient, layer 0. -/
module

public import proofs.«01_k».proof.Proof.Mm
public import proofs.«01_k».proof.Proof.Gen.FfDown0.Frame
public import proofs.«01_k».proof.Proof.Gen.FfDown0Ideal.Value
public import proofs.«01_k».proof.Proof.Gen.FfDown0RefIdeal.Run

@[expose] public section

set_option maxRecDepth 16384

noncomputable section

namespace Cert.Proof.FfDown0

open Idealize.ShloMosaic Idealize.ShloMosaic.TcCoe Idealize.SL.Sem Mm FfDown0Ideal FfDown0Ideal.Gen FfDown0Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 0).val = 0 then total m c (i 1).val (i 2).val else (m ((c : Thread nD τ).loc main_arg2)) i
/-- The terms at row `r` and column `s` of grid point `n`'s block. -/
def f (r s n : ℕ) : ℕ → EReal := term m c (512 * (n / 2) + r) (1024 * (n % 2) + s)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = 0 ∧ win0_2.index t 1 = t.val / 2 ∧ win0_2.index t 2 = t.val % 2 := by decide +kernel
/-- One block of the product's terms. -/
theorem block (t : Fin cfg0.N) (r : Fin 512) (s : Fin 1024) (x0 : Vec Ideal S2048x512 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 512 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg6 harg6 arg7 harg7 x0 x1) (r : Fin 512) (s : Fin 1024) :
    out0_A_2 (F := Ideal) c i arg3 harg3 arg4 harg4 arg6 harg6 arg7 harg7 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2, View.ld_unit_zero (S := S512x1024) hz2]
  pointwise [k0_pay1]
/-- What a point leaves in the product's block. -/
theorem out_at (t : Fin cfg0.N) (r : Fin 512) (s : Fin 1024) :
    (outsAt0 m c t : Vec Ideal S1x512x1024 .f32) (ix3 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine (out_at m c t r s).trans ?_
  generalize hp : (((cfg0.win 2).blk t).view.emb (ix3 0 r s) : S4x5632x2048.Idx) = p
  have p0 : (p 0).val = win0_2.index t 0 * 1 + 1 * 0 := by rw [← hp]; rfl
  rw [(idx2 t).1] at p0
  have p1 : (p 1).val = win0_2.index t 1 * 512 + 1 * r.val := by rw [← hp]; rfl
  rw [(idx2 t).2.1] at p1
  have p2 : (p 2).val = win0_2.index t 2 * 1024 + 1 * s.val := by rw [← hp]; rfl
  rw [(idx2 t).2.2] at p2
  show _ = if (p 0).val = 0 then total m c (p 1).val (p 2).val else _
  rw [if_pos (by omega), show (p 1).val = 512 * (t.val / 2) + r.val by omega, show (p 2).val = 1024 * (t.val % 2) + s.val by omega]
  rfl
theorem cover (i : S4x5632x2048.Idx) (hL : (i 0).val = 0) : ∃ t : Fin cfg0.N, (cfg0.win 2).flush t = true ∧ i ∈ ((cfg0.win 2).blk t).view.set := by
  have hN : cfg0.N = 22 := N_0
  have h0 : (i 0).val < 4 := (i 0).isLt
  have h1 : (i 1).val < 5632 := (i 1).isLt
  have h2 : (i 2).val < 2048 := (i 2).isLt
  obtain ⟨t, ht⟩ := fin_of (show 2 * ((i 1).val / 512) + 1 * ((i 2).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 512 (i 1).val (idx2 t).2.1 (by omega)
  | ⟨2, _⟩ => exact in_blk 1024 (i 2).val (idx2 t).2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfDown0 (hFfDown0 := FfDown0.Gen.facts) := fun m ρ _ => FfDown0.Gen.frame m ρ
/-- So does the kernel over the extended reals. -/
theorem frame_ideal : quiescent_FfDown0Ideal (hFfDown0Ideal := facts) := fun m ρ _ => FfDown0Ideal.Gen.frame m ρ
/-- So does the reference over the extended reals. -/
theorem frame_ref : quiescent_FfDown0RefIdeal (hFfDown0RefIdeal := FfDown0RefIdeal.Gen.facts) := fun m ρ _ =>
  (θ_run FfDown0RefIdeal.defs _ _).mono (fun r h => ⟨fun c => (h c).2, sem_eq_zero_of_no_sems (by decide) r.2⟩)
    (FfDown0RefIdeal.Value.run (F := Ideal) m ρ)
/-- No operation of the kernel is replaced. -/
theorem preserves : preserves_FfDown0_FfDown0Ideal := trivial
/-- Kernel and reference end with the same array. -/
theorem algebraic : algebraic_FfDown0Ideal_FfDown0RefIdeal (hFfDown0Ideal := facts) (hFfDown0RefIdeal := FfDown0RefIdeal.Gen.facts) := by
  intro m g m' g' _ hargs
  refine ⟨fun c => G m c, (θ_run defs _ _).mono (fun r h c => ⟨(h c).1.trans (final m c), (h c).2⟩) (run_blocks m g),
    (θ_run FfDown0RefIdeal.defs _ _).mono (fun r h c => ⟨(h c).1.trans ?_, (h c).2⟩) (FfDown0RefIdeal.Value.run (F := Ideal) m' g')⟩
  obtain ⟨a0, a1, a2⟩ := hargs c
  rw [a0, a1, a2]
  funext i
  obtain ⟨x, r, s, rfl⟩ : ∃ (x : Fin 4) (r : Fin 5632) (s : Fin 2048), i = ix3 x r s := ⟨i 0, i 1, i 2, (ix3_eta i).symm⟩
  pointwise []
  show _ = if x.val = 0 then total m c r.val s.val else (m ((c : Thread nD τ).loc main_arg2)) (ix3 x r s)
  by_cases h2 : x.val = 0
  · rw [dif_pos (by omega), if_pos h2]
    unfold total
    rw [sum_first]
    refine Finset.sum_congr rfl fun k _ => ?_
    exact (mul_comm _ _).trans (congrArg₂ (· * ·) (at2_eq _ _ rfl rfl) (at2_eq _ _ rfl rfl))
  · rw [if_neg h2, dif_neg (by omega)]
    exact congrArg (fun z => (m ((c : Thread nD τ).loc main_arg2)) (ix3 z r s)) (Fin.ext (by show 1 + (x.val - 1) = x.val; omega))

end Cert.Proof.FfDown0

end
-- ==== Proof.FfDown1Claim.lean ====
/- The down projection's gradient, layer 1. -/
module

public import proofs.«01_k».proof.Proof.Mm
public import proofs.«01_k».proof.Proof.Gen.FfDown1.Frame
public import proofs.«01_k».proof.Proof.Gen.FfDown1Ideal.Value
public import proofs.«01_k».proof.Proof.Gen.FfDown1RefIdeal.Run

@[expose] public section

set_option maxRecDepth 16384

noncomputable section

namespace Cert.Proof.FfDown1

open Idealize.ShloMosaic Idealize.ShloMosaic.TcCoe Idealize.SL.Sem Mm FfDown1Ideal FfDown1Ideal.Gen FfDown1Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 0).val = 1 then total m c (i 1).val (i 2).val else (m ((c : Thread nD τ).loc main_arg2)) i
/-- The terms at row `r` and column `s` of grid point `n`'s block. -/
def f (r s n : ℕ) : ℕ → EReal := term m c (512 * (n / 2) + r) (1024 * (n % 2) + s)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = 1 ∧ win0_2.index t 1 = t.val / 2 ∧ win0_2.index t 2 = t.val % 2 := by decide +kernel
/-- One block of the product's terms. -/
theorem block (t : Fin cfg0.N) (r : Fin 512) (s : Fin 1024) (x0 : Vec Ideal S2048x512 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 512 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg6 harg6 arg7 harg7 x0 x1) (r : Fin 512) (s : Fin 1024) :
    out0_A_2 (F := Ideal) c i arg3 harg3 arg4 harg4 arg6 harg6 arg7 harg7 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2, View.ld_unit_zero (S := S512x1024) hz2]
  pointwise [k0_pay1]
/-- What a point leaves in the product's block. -/
theorem out_at (t : Fin cfg0.N) (r : Fin 512) (s : Fin 1024) :
    (outsAt0 m c t : Vec Ideal S1x512x1024 .f32) (ix3 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine (out_at m c t r s).trans ?_
  generalize hp : (((cfg0.win 2).blk t).view.emb (ix3 0 r s) : S4x5632x2048.Idx) = p
  have p0 : (p 0).val = win0_2.index t 0 * 1 + 1 * 0 := by rw [← hp]; rfl
  rw [(idx2 t).1] at p0
  have p1 : (p 1).val = win0_2.index t 1 * 512 + 1 * r.val := by rw [← hp]; rfl
  rw [(idx2 t).2.1] at p1
  have p2 : (p 2).val = win0_2.index t 2 * 1024 + 1 * s.val := by rw [← hp]; rfl
  rw [(idx2 t).2.2] at p2
  show _ = if (p 0).val = 1 then total m c (p 1).val (p 2).val else _
  rw [if_pos (by omega), show (p 1).val = 512 * (t.val / 2) + r.val by omega, show (p 2).val = 1024 * (t.val % 2) + s.val by omega]
  rfl
theorem cover (i : S4x5632x2048.Idx) (hL : (i 0).val = 1) : ∃ t : Fin cfg0.N, (cfg0.win 2).flush t = true ∧ i ∈ ((cfg0.win 2).blk t).view.set := by
  have hN : cfg0.N = 22 := N_0
  have h0 : (i 0).val < 4 := (i 0).isLt
  have h1 : (i 1).val < 5632 := (i 1).isLt
  have h2 : (i 2).val < 2048 := (i 2).isLt
  obtain ⟨t, ht⟩ := fin_of (show 2 * ((i 1).val / 512) + 1 * ((i 2).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 512 (i 1).val (idx2 t).2.1 (by omega)
  | ⟨2, _⟩ => exact in_blk 1024 (i 2).val (idx2 t).2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfDown1 (hFfDown1 := FfDown1.Gen.facts) := fun m ρ _ => FfDown1.Gen.frame m ρ
/-- So does the kernel over the extended reals. -/
theorem frame_ideal : quiescent_FfDown1Ideal (hFfDown1Ideal := facts) := fun m ρ _ => FfDown1Ideal.Gen.frame m ρ
/-- So does the reference over the extended reals. -/
theorem frame_ref : quiescent_FfDown1RefIdeal (hFfDown1RefIdeal := FfDown1RefIdeal.Gen.facts) := fun m ρ _ =>
  (θ_run FfDown1RefIdeal.defs _ _).mono (fun r h => ⟨fun c => (h c).2, sem_eq_zero_of_no_sems (by decide) r.2⟩)
    (FfDown1RefIdeal.Value.run (F := Ideal) m ρ)
/-- No operation of the kernel is replaced. -/
theorem preserves : preserves_FfDown1_FfDown1Ideal := trivial
/-- Kernel and reference end with the same array. -/
theorem algebraic : algebraic_FfDown1Ideal_FfDown1RefIdeal (hFfDown1Ideal := facts) (hFfDown1RefIdeal := FfDown1RefIdeal.Gen.facts) := by
  intro m g m' g' _ hargs
  refine ⟨fun c => G m c, (θ_run defs _ _).mono (fun r h c => ⟨(h c).1.trans (final m c), (h c).2⟩) (run_blocks m g),
    (θ_run FfDown1RefIdeal.defs _ _).mono (fun r h c => ⟨(h c).1.trans ?_, (h c).2⟩) (FfDown1RefIdeal.Value.run (F := Ideal) m' g')⟩
  obtain ⟨a0, a1, a2⟩ := hargs c
  rw [a0, a1, a2]
  funext i
  obtain ⟨x, r, s, rfl⟩ : ∃ (x : Fin 4) (r : Fin 5632) (s : Fin 2048), i = ix3 x r s := ⟨i 0, i 1, i 2, (ix3_eta i).symm⟩
  pointwise []
  show _ = if x.val = 1 then total m c r.val s.val else (m ((c : Thread nD τ).loc main_arg2)) (ix3 x r s)
  by_cases h2 : x.val = 1
  · rw [dif_neg (by omega), dif_pos (by omega), if_pos h2]
    unfold total
    rw [sum_first]
    refine Finset.sum_congr rfl fun k _ => ?_
    exact (mul_comm _ _).trans (congrArg₂ (· * ·) (at2_eq _ _ rfl rfl) (at2_eq _ _ rfl rfl))
  · rw [if_neg h2]
    by_cases h1 : x.val < 1
    · rw [dif_pos h1]
    · rw [dif_neg h1, dif_neg (by omega)]
      exact congrArg (fun z => (m ((c : Thread nD τ).loc main_arg2)) (ix3 z r s)) (Fin.ext (by show 2 + (x.val - 1 - 1) = x.val; omega))

end Cert.Proof.FfDown1

end
-- ==== Proof.FfDown2Claim.lean ====
/- The down projection's gradient, layer 2. -/
module

public import proofs.«01_k».proof.Proof.Mm
public import proofs.«01_k».proof.Proof.Gen.FfDown2.Frame
public import proofs.«01_k».proof.Proof.Gen.FfDown2Ideal.Value
public import proofs.«01_k».proof.Proof.Gen.FfDown2RefIdeal.Run

@[expose] public section

set_option maxRecDepth 16384

noncomputable section

namespace Cert.Proof.FfDown2

open Idealize.ShloMosaic Idealize.ShloMosaic.TcCoe Idealize.SL.Sem Mm FfDown2Ideal FfDown2Ideal.Gen FfDown2Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 0).val = 2 then total m c (i 1).val (i 2).val else (m ((c : Thread nD τ).loc main_arg2)) i
/-- The terms at row `r` and column `s` of grid point `n`'s block. -/
def f (r s n : ℕ) : ℕ → EReal := term m c (512 * (n / 2) + r) (1024 * (n % 2) + s)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = 2 ∧ win0_2.index t 1 = t.val / 2 ∧ win0_2.index t 2 = t.val % 2 := by decide +kernel
/-- One block of the product's terms. -/
theorem block (t : Fin cfg0.N) (r : Fin 512) (s : Fin 1024) (x0 : Vec Ideal S2048x512 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 512 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg6 harg6 arg7 harg7 x0 x1) (r : Fin 512) (s : Fin 1024) :
    out0_A_2 (F := Ideal) c i arg3 harg3 arg4 harg4 arg6 harg6 arg7 harg7 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2, View.ld_unit_zero (S := S512x1024) hz2]
  pointwise [k0_pay1]
/-- What a point leaves in the product's block. -/
theorem out_at (t : Fin cfg0.N) (r : Fin 512) (s : Fin 1024) :
    (outsAt0 m c t : Vec Ideal S1x512x1024 .f32) (ix3 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine (out_at m c t r s).trans ?_
  generalize hp : (((cfg0.win 2).blk t).view.emb (ix3 0 r s) : S4x5632x2048.Idx) = p
  have p0 : (p 0).val = win0_2.index t 0 * 1 + 1 * 0 := by rw [← hp]; rfl
  rw [(idx2 t).1] at p0
  have p1 : (p 1).val = win0_2.index t 1 * 512 + 1 * r.val := by rw [← hp]; rfl
  rw [(idx2 t).2.1] at p1
  have p2 : (p 2).val = win0_2.index t 2 * 1024 + 1 * s.val := by rw [← hp]; rfl
  rw [(idx2 t).2.2] at p2
  show _ = if (p 0).val = 2 then total m c (p 1).val (p 2).val else _
  rw [if_pos (by omega), show (p 1).val = 512 * (t.val / 2) + r.val by omega, show (p 2).val = 1024 * (t.val % 2) + s.val by omega]
  rfl
theorem cover (i : S4x5632x2048.Idx) (hL : (i 0).val = 2) : ∃ t : Fin cfg0.N, (cfg0.win 2).flush t = true ∧ i ∈ ((cfg0.win 2).blk t).view.set := by
  have hN : cfg0.N = 22 := N_0
  have h0 : (i 0).val < 4 := (i 0).isLt
  have h1 : (i 1).val < 5632 := (i 1).isLt
  have h2 : (i 2).val < 2048 := (i 2).isLt
  obtain ⟨t, ht⟩ := fin_of (show 2 * ((i 1).val / 512) + 1 * ((i 2).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 512 (i 1).val (idx2 t).2.1 (by omega)
  | ⟨2, _⟩ => exact in_blk 1024 (i 2).val (idx2 t).2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfDown2 (hFfDown2 := FfDown2.Gen.facts) := fun m ρ _ => FfDown2.Gen.frame m ρ
/-- So does the kernel over the extended reals. -/
theorem frame_ideal : quiescent_FfDown2Ideal (hFfDown2Ideal := facts) := fun m ρ _ => FfDown2Ideal.Gen.frame m ρ
/-- So does the reference over the extended reals. -/
theorem frame_ref : quiescent_FfDown2RefIdeal (hFfDown2RefIdeal := FfDown2RefIdeal.Gen.facts) := fun m ρ _ =>
  (θ_run FfDown2RefIdeal.defs _ _).mono (fun r h => ⟨fun c => (h c).2, sem_eq_zero_of_no_sems (by decide) r.2⟩)
    (FfDown2RefIdeal.Value.run (F := Ideal) m ρ)
/-- No operation of the kernel is replaced. -/
theorem preserves : preserves_FfDown2_FfDown2Ideal := trivial
/-- Kernel and reference end with the same array. -/
theorem algebraic : algebraic_FfDown2Ideal_FfDown2RefIdeal (hFfDown2Ideal := facts) (hFfDown2RefIdeal := FfDown2RefIdeal.Gen.facts) := by
  intro m g m' g' _ hargs
  refine ⟨fun c => G m c, (θ_run defs _ _).mono (fun r h c => ⟨(h c).1.trans (final m c), (h c).2⟩) (run_blocks m g),
    (θ_run FfDown2RefIdeal.defs _ _).mono (fun r h c => ⟨(h c).1.trans ?_, (h c).2⟩) (FfDown2RefIdeal.Value.run (F := Ideal) m' g')⟩
  obtain ⟨a0, a1, a2⟩ := hargs c
  rw [a0, a1, a2]
  funext i
  obtain ⟨x, r, s, rfl⟩ : ∃ (x : Fin 4) (r : Fin 5632) (s : Fin 2048), i = ix3 x r s := ⟨i 0, i 1, i 2, (ix3_eta i).symm⟩
  pointwise []
  show _ = if x.val = 2 then total m c r.val s.val else (m ((c : Thread nD τ).loc main_arg2)) (ix3 x r s)
  by_cases h2 : x.val = 2
  · rw [dif_neg (by omega), dif_pos (by omega), if_pos h2]
    unfold total
    rw [sum_first]
    refine Finset.sum_congr rfl fun k _ => ?_
    exact (mul_comm _ _).trans (congrArg₂ (· * ·) (at2_eq _ _ rfl rfl) (at2_eq _ _ rfl rfl))
  · rw [if_neg h2]
    by_cases h1 : x.val < 2
    · rw [dif_pos h1]
    · rw [dif_neg h1, dif_neg (by omega)]
      exact congrArg (fun z => (m ((c : Thread nD τ).loc main_arg2)) (ix3 z r s)) (Fin.ext (by show 3 + (x.val - 2 - 1) = x.val; omega))

end Cert.Proof.FfDown2

end
-- ==== Proof.FfDhn0Claim.lean ====
/- The gradient at the feed-forward block's normalised input, layer 0. -/
module

public import proofs.«01_k».proof.Proof.Mm
public import proofs.«01_k».proof.Proof.Gen.FfDhn0.Frame
public import proofs.«01_k».proof.Proof.Gen.FfDhn0Ideal.Value
public import proofs.«01_k».proof.Proof.Gen.FfDhn0RefIdeal.Run

@[expose] public section

set_option maxRecDepth 16384

noncomputable section

namespace Cert.Proof.FfDhn0

open Idealize.ShloMosaic Idealize.ShloMosaic.TcCoe Idealize.SL.Sem Mm FfDhn0Ideal FfDhn0Ideal.Gen FfDhn0Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (k / 2816) 0 j (k % 2816)
/-- The product's entry there. -/
def total (i j : ℕ) : EReal := ∑ k ∈ Finset.range 11264, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 16) + r) (1024 * (n / 8 % 2) + s)

theorem idx0 : ∀ t : Fin grid0.N, win0_0.index t 0 = t.val / 16 ∧ win0_0.index t 1 = t.val % 8 := by decide +kernel
theorem idx1 : ∀ t : Fin grid0.N, win0_1.index t 0 = t.val % 8 / 2 ∧ win0_1.index t 1 = 0 ∧ win0_1.index t 2 = t.val / 8 % 2 ∧ win0_1.index t 3 = t.val % 8 % 2 := by decide +kernel
theorem idx2 : ∀ t : Fin grid0.N, win0_2.index t 0 = t.val / 16 ∧ win0_2.index t 1 = t.val / 8 % 2 := by decide +kernel
/-- One block of the product's terms. -/
theorem block (t : Fin cfg0.N) (r : Fin 1024) (s : Fin 1024) (x0 : Vec Ideal S1024x1408 .bf16) (x1 : Vec Ideal S1x1x1024x1408 .bf16) (h0 : x0 = iblk m c 0 t) (h1 : x1 = iblk m c 1 t) :
    ∑ k, x0 (ix2 r k) * x1 (ix4 0 0 s k) = ∑ k : Fin 1408, f m c r.val s.val t.val (1408 * (t.val % 8) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1408 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 1024 + 1 * s.val = _; rw [(idx1 t).2.2.1]; omega) (by show win0_1.index t 3 * 1408 + 1 * k.val = _; rw [(idx1 t).2.2.2]; omega)
theorem accA (c i arg3 harg3 arg4 harg4 arg5 harg5 arg6 harg6 hc0 hc1 hc2 x0 x1) (r : Fin 1024) (s : Fin 1024) :
    sout0_A_0 (F := Ideal) c i arg3 harg3 arg4 harg4 arg5 harg5 arg6 harg6 hc0 hc1 hc2 x0 x1 (ix2 r s) = ∑ k, x0 (ix2 r k) * x1 (ix4 0 0 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem accB (c i arg3 harg3 arg4 harg4 arg5 harg5 arg6 harg6 hc0 hc1 hc2 x0 x1 xs0) (r : Fin 1024) (s : Fin 1024) :
    sout0_B_0 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem outC (c i arg3 harg3 arg4 harg4 arg5 harg5 arg6 harg6 hc0 hc1 hc2 x0 x1 xs0) (r : Fin 1024) (s : Fin 1024) :
    out0_C_2 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
/-- A row and a column of terms stay through a run of grid points. -/
theorem stay (r s n : ℕ) (h : (n + 1) % 8 ≠ 0) : f m c r s (n + 1) = f m c r s n := by
  unfold f
  rw [show (n + 1) / 16 = n / 16 by omega, show (n + 1) / 8 % 2 = n / 8 % 2 by omega]
/-- What the accumulator holds after a point that is not the last of its run: the terms so far. -/
theorem acc_at (r : Fin 1024) (s : Fin 1024) : ∀ n (h : n < cfg0.N), n % 8 ≠ 7 → ((outsAt0 m c n h).2 : Vec Ideal S1024x1024 .f32) (ix2 r s)
    = ∑ k ∈ Finset.range (1408 * (n % 8) + 1408), f m c r.val s.val n k := run_sum 1408 8 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 8 = 7) (r : Fin 1024) (s : Fin 1024) :
    ((outsAt0 m c t.val t.isLt).1 : Vec Ideal S1024x1024 .f32) (ix2 r s) = ∑ k ∈ Finset.range 11264, f m c r.val s.val t.val k := by
  rw [outsAt0_C m c t (by omega) (by omega) h]
  dsimp only
  rw [outC, block m c t r s _ _ rfl rfl]
  exact run_last 1408 8 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t ((flush0_2 t).mp hf) r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 16) + r.val by omega, show (p 1).val = 1024 * (t.val / 8 % 2) + s.val by omega]
  rfl
theorem final : (dats m 0 c).arrAt 2 cfg0.N = G m c := (dats m 0 c).arrAt_eq_of_cover 2 (G m c) (flushed_G m c) fun i => by
  have hN : cfg0.N = 32 := N_0
  have h0 : (i 0).val < 2048 := (i 0).isLt
  have h1 : (i 1).val < 2048 := (i 1).isLt
  obtain ⟨t, ht⟩ := fin_of (show 16 * ((i 0).val / 1024) + 8 * ((i 1).val / 1024) + 7 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_FfDhn0 (hFfDhn0 := FfDhn0.Gen.facts) := fun m ρ _ => FfDhn0.Gen.frame m ρ
/-- So does the kernel over the extended reals. -/
theorem frame_ideal : quiescent_FfDhn0Ideal (hFfDhn0Ideal := facts) := fun m ρ _ => FfDhn0Ideal.Gen.frame m ρ
/-- So does the reference over the extended reals. -/
theorem frame_ref : quiescent_FfDhn0RefIdeal (hFfDhn0RefIdeal := FfDhn0RefIdeal.Gen.facts) := fun m ρ _ =>
  (θ_run FfDhn0RefIdeal.defs _ _).mono (fun r h => ⟨fun c => (h c).2, sem_eq_zero_of_no_sems (by decide) r.2⟩)
    (FfDhn0RefIdeal.Value.run (F := Ideal) m ρ)
/-- No operation of the kernel is replaced. -/
theorem preserves : preserves_FfDhn0_FfDhn0Ideal := trivial
/-- Kernel and reference end with the same array. -/
theorem algebraic : algebraic_FfDhn0Ideal_FfDhn0RefIdeal (hFfDhn0Ideal := facts) (hFfDhn0RefIdeal := FfDhn0RefIdeal.Gen.facts) := by
  intro m g m' g' _ hargs
  refine ⟨fun c => G m c, (θ_run defs _ _).mono (fun r h c => ⟨(h c).1.trans (final m c), (h c).2⟩) (run_blocks m g),
    (θ_run FfDhn0RefIdeal.defs _ _).mono (fun r h c => ⟨(h c).1.trans ?_, (h c).2⟩) (FfDhn0RefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FfDhn0

end
-- ==== Proof.FfDhn1Claim.lean ====
/- The gradient at the feed-forward block's normalised input, layer 1. -/
module

public import proofs.«01_k».proof.Proof.Mm
public import proofs.«01_k».proof.Proof.Gen.FfDhn1.Frame
public import proofs.«01_k».proof.Proof.Gen.FfDhn1Ideal.Value
public import proofs.«01_k».proof.Proof.Gen.FfDhn1RefIdeal.Run

@[expose] public section

set_option maxRecDepth 16384

noncomputable section

namespace Cert.Proof.FfDhn1

open Idealize.ShloMosaic Idealize.ShloMosaic.TcCoe Idealize.SL.Sem Mm FfDhn1Ideal FfDhn1Ideal.Gen FfDhn1Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (k / 2816) 1 j (k % 2816)
/-- The product's entry there. -/
def total (i j : ℕ) : EReal := ∑ k ∈ Finset.range 11264, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 16) + r) (1024 * (n / 8 % 2) + s)

theorem idx0 : ∀ t : Fin grid0.N, win0_0.index t 0 = t.val / 16 ∧ win0_0.index t 1 = t.val % 8 := by decide +kernel
theorem idx1 : ∀ t : Fin grid0.N, win0_1.index t 0 = t.val % 8 / 2 ∧ win0_1.index t 1 = 1 ∧ win0_1.index t 2 = t.val / 8 % 2 ∧ win0_1.index t 3 = t.val % 8 % 2 := by decide +kernel
theorem idx2 : ∀ t : Fin grid0.N, win0_2.index t 0 = t.val / 16 ∧ win0_2.index t 1 = t.val / 8 % 2 := by decide +kernel
/-- One block of the product's terms. -/
theorem block (t : Fin cfg0.N) (r : Fin 1024) (s : Fin 1024) (x0 : Vec Ideal S1024x1408 .bf16) (x1 : Vec Ideal S1x1x1024x1408 .bf16) (h0 : x0 = iblk m c 0 t) (h1 : x1 = iblk m c 1 t) :
    ∑ k, x0 (ix2 r k) * x1 (ix4 0 0 s k) = ∑ k : Fin 1408, f m c r.val s.val t.val (1408 * (t.val % 8) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1408 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 1024 + 1 * s.val = _; rw [(idx1 t).2.2.1]; omega) (by show win0_1.index t 3 * 1408 + 1 * k.val = _; rw [(idx1 t).2.2.2]; omega)
theorem accA (c i arg3 harg3 arg4 harg4 arg5 harg5 arg6 harg6 hc0 hc1 hc2 x0 x1) (r : Fin 1024) (s : Fin 1024) :
    sout0_A_0 (F := Ideal) c i arg3 harg3 arg4 harg4 arg5 harg5 arg6 harg6 hc0 hc1 hc2 x0 x1 (ix2 r s) = ∑ k, x0 (ix2 r k) * x1 (ix4 0 0 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem accB (c i arg3 harg3 arg4 harg4 arg5 harg5 arg6 harg6 hc0 hc1 hc2 x0 x1 xs0) (r : Fin 1024) (s : Fin 1024) :
    sout0_B_0 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem outC (c i arg3 harg3 arg4 harg4 arg5 harg5 arg6 harg6 hc0 hc1 hc2 x0 x1 xs0) (r : Fin 1024) (s : Fin 1024) :
    out0_C_2 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
/-- A row and a column of terms stay through a run of grid points. -/
theorem stay (r s n : ℕ) (h : (n + 1) % 8 ≠ 0) : f m c r s (n + 1) = f m c r s n := by
  unfold f
  rw [show (n + 1) / 16 = n / 16 by omega, show (n + 1) / 8 % 2 = n / 8 % 2 by omega]
/-- What the accumulator holds after a point that is not the last of its run: the terms so far. -/
theorem acc_at (r : Fin 1024) (s : Fin 1024) : ∀ n (h : n < cfg0.N), n % 8 ≠ 7 → ((outsAt0 m c n h).2 : Vec Ideal S1024x1024 .f32) (ix2 r s)
    = ∑ k ∈ Finset.range (1408 * (n % 8) + 1408), f m c r.val s.val n k := run_sum 1408 8 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 8 = 7) (r : Fin 1024) (s : Fin 1024) :
    ((outsAt0 m c t.val t.isLt).1 : Vec Ideal S1024x1024 .f32) (ix2 r s) = ∑ k ∈ Finset.range 11264, f m c r.val s.val t.val k := by
  rw [outsAt0_C m c t (by omega) (by omega) h]
  dsimp only
  rw [outC, block m c t r s _ _ rfl rfl]
  exact run_last 1408 8 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t ((flush0_2 t).mp hf) r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 16) + r.val by omega, show (p 1).val = 1024 * (t.val / 8 % 2) + s.val by omega]
  rfl
theorem final : (dats m 0 c).arrAt 2 cfg0.N = G m c := (dats m 0 c).arrAt_eq_of_cover 2 (G m c) (flushed_G m c) fun i => by
  have hN : cfg0.N = 32 := N_0
  have h0 : (i 0).val < 2048 := (i 0).isLt
  have h1 : (i 1).val < 2048 := (i 1).isLt
  obtain ⟨t, ht⟩ := fin_of (show 16 * ((i 0).val / 1024) + 8 * ((i 1).val / 1024) + 7 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_FfDhn1 (hFfDhn1 := FfDhn1.Gen.facts) := fun m ρ _ => FfDhn1.Gen.frame m ρ
/-- So does the kernel over the extended reals. -/
theorem frame_ideal : quiescent_FfDhn1Ideal (hFfDhn1Ideal := facts) := fun m ρ _ => FfDhn1Ideal.Gen.frame m ρ
/-- So does the reference over the extended reals. -/
theorem frame_ref : quiescent_FfDhn1RefIdeal (hFfDhn1RefIdeal := FfDhn1RefIdeal.Gen.facts) := fun m ρ _ =>
  (θ_run FfDhn1RefIdeal.defs _ _).mono (fun r h => ⟨fun c => (h c).2, sem_eq_zero_of_no_sems (by decide) r.2⟩)
    (FfDhn1RefIdeal.Value.run (F := Ideal) m ρ)
/-- No operation of the kernel is replaced. -/
theorem preserves : preserves_FfDhn1_FfDhn1Ideal := trivial
/-- Kernel and reference end with the same array. -/
theorem algebraic : algebraic_FfDhn1Ideal_FfDhn1RefIdeal (hFfDhn1Ideal := facts) (hFfDhn1RefIdeal := FfDhn1RefIdeal.Gen.facts) := by
  intro m g m' g' _ hargs
  refine ⟨fun c => G m c, (θ_run defs _ _).mono (fun r h c => ⟨(h c).1.trans (final m c), (h c).2⟩) (run_blocks m g),
    (θ_run FfDhn1RefIdeal.defs _ _).mono (fun r h c => ⟨(h c).1.trans ?_, (h c).2⟩) (FfDhn1RefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FfDhn1

end
-- ==== Proof.FfDhn2Claim.lean ====
/- The gradient at the feed-forward block's normalised input, layer 2. -/
module

public import proofs.«01_k».proof.Proof.Mm
public import proofs.«01_k».proof.Proof.Gen.FfDhn2.Frame
public import proofs.«01_k».proof.Proof.Gen.FfDhn2Ideal.Value
public import proofs.«01_k».proof.Proof.Gen.FfDhn2RefIdeal.Run

@[expose] public section

set_option maxRecDepth 16384

noncomputable section

namespace Cert.Proof.FfDhn2

open Idealize.ShloMosaic Idealize.ShloMosaic.TcCoe Idealize.SL.Sem Mm FfDhn2Ideal FfDhn2Ideal.Gen FfDhn2Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (k / 2816) 2 j (k % 2816)
/-- The product's entry there. -/
def total (i j : ℕ) : EReal := ∑ k ∈ Finset.range 11264, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 16) + r) (1024 * (n / 8 % 2) + s)

theorem idx0 : ∀ t : Fin grid0.N, win0_0.index t 0 = t.val / 16 ∧ win0_0.index t 1 = t.val % 8 := by decide +kernel
theorem idx1 : ∀ t : Fin grid0.N, win0_1.index t 0 = t.val % 8 / 2 ∧ win0_1.index t 1 = 2 ∧ win0_1.index t 2 = t.val / 8 % 2 ∧ win0_1.index t 3 = t.val % 8 % 2 := by decide +kernel
theorem idx2 : ∀ t : Fin grid0.N, win0_2.index t 0 = t.val / 16 ∧ win0_2.index t 1 = t.val / 8 % 2 := by decide +kernel
/-- One block of the product's terms. -/
theorem block (t : Fin cfg0.N) (r : Fin 1024) (s : Fin 1024) (x0 : Vec Ideal S1024x1408 .bf16) (x1 : Vec Ideal S1x1x1024x1408 .bf16) (h0 : x0 = iblk m c 0 t) (h1 : x1 = iblk m c 1 t) :
    ∑ k, x0 (ix2 r k) * x1 (ix4 0 0 s k) = ∑ k : Fin 1408, f m c r.val s.val t.val (1408 * (t.val % 8) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1408 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 1024 + 1 * s.val = _; rw [(idx1 t).2.2.1]; omega) (by show win0_1.index t 3 * 1408 + 1 * k.val = _; rw [(idx1 t).2.2.2]; omega)
theorem accA (c i arg3 harg3 arg4 harg4 arg5 harg5 arg6 harg6 hc0 hc1 hc2 x0 x1) (r : Fin 1024) (s : Fin 1024) :
    sout0_A_0 (F := Ideal) c i arg3 harg3 arg4 harg4 arg5 harg5 arg6 harg6 hc0 hc1 hc2 x0 x1 (ix2 r s) = ∑ k, x0 (ix2 r k) * x1 (ix4 0 0 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem accB (c i arg3 harg3 arg4 harg4 arg5 harg5 arg6 harg6 hc0 hc1 hc2 x0 x1 xs0) (r : Fin 1024) (s : Fin 1024) :
    sout0_B_0 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem outC (c i arg3 harg3 arg4 harg4 arg5 harg5 arg6 harg6 hc0 hc1 hc2 x0 x1 xs0) (r : Fin 1024) (s : Fin 1024) :
    out0_C_2 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
/-- A row and a column of terms stay through a run of grid points. -/
theorem stay (r s n : ℕ) (h : (n + 1) % 8 ≠ 0) : f m c r s (n + 1) = f m c r s n := by
  unfold f
  rw [show (n + 1) / 16 = n / 16 by omega, show (n + 1) / 8 % 2 = n / 8 % 2 by omega]
/-- What the accumulator holds after a point that is not the last of its run: the terms so far. -/
theorem acc_at (r : Fin 1024) (s : Fin 1024) : ∀ n (h : n < cfg0.N), n % 8 ≠ 7 → ((outsAt0 m c n h).2 : Vec Ideal S1024x1024 .f32) (ix2 r s)
    = ∑ k ∈ Finset.range (1408 * (n % 8) + 1408), f m c r.val s.val n k := run_sum 1408 8 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 8 = 7) (r : Fin 1024) (s : Fin 1024) :
    ((outsAt0 m c t.val t.isLt).1 : Vec Ideal S1024x1024 .f32) (ix2 r s) = ∑ k ∈ Finset.range 11264, f m c r.val s.val t.val k := by
  rw [outsAt0_C m c t (by omega) (by omega) h]
  dsimp only
  rw [outC, block m c t r s _ _ rfl rfl]
  exact run_last 1408 8 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t ((flush0_2 t).mp hf) r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 16) + r.val by omega, show (p 1).val = 1024 * (t.val / 8 % 2) + s.val by omega]
  rfl
theorem final : (dats m 0 c).arrAt 2 cfg0.N = G m c := (dats m 0 c).arrAt_eq_of_cover 2 (G m c) (flushed_G m c) fun i => by
  have hN : cfg0.N = 32 := N_0
  have h0 : (i 0).val < 2048 := (i 0).isLt
  have h1 : (i 1).val < 2048 := (i 1).isLt
  obtain ⟨t, ht⟩ := fin_of (show 16 * ((i 0).val / 1024) + 8 * ((i 1).val / 1024) + 7 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_FfDhn2 (hFfDhn2 := FfDhn2.Gen.facts) := fun m ρ _ => FfDhn2.Gen.frame m ρ
/-- So does the kernel over the extended reals. -/
theorem frame_ideal : quiescent_FfDhn2Ideal (hFfDhn2Ideal := facts) := fun m ρ _ => FfDhn2Ideal.Gen.frame m ρ
/-- So does the reference over the extended reals. -/
theorem frame_ref : quiescent_FfDhn2RefIdeal (hFfDhn2RefIdeal := FfDhn2RefIdeal.Gen.facts) := fun m ρ _ =>
  (θ_run FfDhn2RefIdeal.defs _ _).mono (fun r h => ⟨fun c => (h c).2, sem_eq_zero_of_no_sems (by decide) r.2⟩)
    (FfDhn2RefIdeal.Value.run (F := Ideal) m ρ)
/-- No operation of the kernel is replaced. -/
theorem preserves : preserves_FfDhn2_FfDhn2Ideal := trivial
/-- Kernel and reference end with the same array. -/
theorem algebraic : algebraic_FfDhn2Ideal_FfDhn2RefIdeal (hFfDhn2Ideal := facts) (hFfDhn2RefIdeal := FfDhn2RefIdeal.Gen.facts) := by
  intro m g m' g' _ hargs
  refine ⟨fun c => G m c, (θ_run defs _ _).mono (fun r h c => ⟨(h c).1.trans (final m c), (h c).2⟩) (run_blocks m g),
    (θ_run FfDhn2RefIdeal.defs _ _).mono (fun r h c => ⟨(h c).1.trans ?_, (h c).2⟩) (FfDhn2RefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FfDhn2

end
-- ==== Proof.FfDhn3Claim.lean ====
/- The gradient at the feed-forward block's normalised input, layer 3. -/
module

public import proofs.«01_k».proof.Proof.Mm
public import proofs.«01_k».proof.Proof.Gen.FfDhn3.Frame
public import proofs.«01_k».proof.Proof.Gen.FfDhn3Ideal.Value
public import proofs.«01_k».proof.Proof.Gen.FfDhn3RefIdeal.Run

@[expose] public section

set_option maxRecDepth 16384

noncomputable section

namespace Cert.Proof.FfDhn3

open Idealize.ShloMosaic Idealize.ShloMosaic.TcCoe Idealize.SL.Sem Mm FfDhn3Ideal FfDhn3Ideal.Gen FfDhn3Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (k / 2816) 3 j (k % 2816)
/-- The product's entry there. -/
def total (i j : ℕ) : EReal := ∑ k ∈ Finset.range 11264, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 16) + r) (1024 * (n / 8 % 2) + s)

theorem idx0 : ∀ t : Fin grid0.N, win0_0.index t 0 = t.val / 16 ∧ win0_0.index t 1 = t.val % 8 := by decide +kernel
theorem idx1 : ∀ t : Fin grid0.N, win0_1.index t 0 = t.val % 8 / 2 ∧ win0_1.index t 1 = 3 ∧ win0_1.index t 2 = t.val / 8 % 2 ∧ win0_1.index t 3 = t.val % 8 % 2 := by decide +kernel
theorem idx2 : ∀ t : Fin grid0.N, win0_2.index t 0 = t.val / 16 ∧ win0_2.index t 1 = t.val / 8 % 2 := by decide +kernel
/-- One block of the product's terms. -/
theorem block (t : Fin cfg0.N) (r : Fin 1024) (s : Fin 1024) (x0 : Vec Ideal S1024x1408 .bf16) (x1 : Vec Ideal S1x1x1024x1408 .bf16) (h0 : x0 = iblk m c 0 t) (h1 : x1 = iblk m c 1 t) :
    ∑ k, x0 (ix2 r k) * x1 (ix4 0 0 s k) = ∑ k : Fin 1408, f m c r.val s.val t.val (1408 * (t.val % 8) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1408 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 1024 + 1 * s.val = _; rw [(idx1 t).2.2.1]; omega) (by show win0_1.index t 3 * 1408 + 1 * k.val = _; rw [(idx1 t).2.2.2]; omega)
theorem accA (c i arg3 harg3 arg4 harg4 arg5 harg5 arg6 harg6 hc0 hc1 hc2 x0 x1) (r : Fin 1024) (s : Fin 1024) :
    sout0_A_0 (F := Ideal) c i arg3 harg3 arg4 harg4 arg5 harg5 arg6 harg6 hc0 hc1 hc2 x0 x1 (ix2 r s) = ∑ k, x0 (ix2 r k) * x1 (ix4 0 0 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem accB (c i arg3 harg3 arg4 harg4 arg5 harg5 arg6 harg6 hc0 hc1 hc2 x0 x1 xs0) (r : Fin 1024) (s : Fin 1024) :
    sout0_B_0 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
theorem outC (c i arg3 harg3 arg4 harg4 arg5 harg5 arg6 harg6 hc0 hc1 hc2 x0 x1 xs0) (r : Fin 1024) (s : Fin 1024) :
    out0_C_2 (F := Ideal) c i arg3 harg3 arg4 harg4 arg5 harg5 arg6 harg6 hc0 hc1 hc2 x0 x1 xs0 (ix2 r s) = xs0 (ix2 r s) + ∑ k, x0 (ix2 r k) * x1 (ix4 0 0 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1408) hz2, View.ld_unit_zero (S := S1x1x1024x1408) hz4, View.ld_unit_zero (S := S1024x1024) hz2]
  pointwise [k0_pay1, k0_pay2, k0_pay3, k0_pay4]
/-- A row and a column of terms stay through a run of grid points. -/
theorem stay (r s n : ℕ) (h : (n + 1) % 8 ≠ 0) : f m c r s (n + 1) = f m c r s n := by
  unfold f
  rw [show (n + 1) / 16 = n / 16 by omega, show (n + 1) / 8 % 2 = n / 8 % 2 by omega]
/-- What the accumulator holds after a point that is not the last of its run: the terms so far. -/
theorem acc_at (r : Fin 1024) (s : Fin 1024) : ∀ n (h : n < cfg0.N), n % 8 ≠ 7 → ((outsAt0 m c n h).2 : Vec Ideal S1024x1024 .f32) (ix2 r s)
    = ∑ k ∈ Finset.range (1408 * (n % 8) + 1408), f m c r.val s.val n k := run_sum 1408 8 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 8 = 7) (r : Fin 1024) (s : Fin 1024) :
    ((outsAt0 m c t.val t.isLt).1 : Vec Ideal S1024x1024 .f32) (ix2 r s) = ∑ k ∈ Finset.range 11264, f m c r.val s.val t.val k := by
  rw [outsAt0_C m c t (by omega) (by omega) h]
  dsimp only
  rw [outC, block m c t r s _ _ rfl rfl]
  exact run_last 1408 8 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t ((flush0_2 t).mp hf) r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 16) + r.val by omega, show (p 1).val = 1024 * (t.val / 8 % 2) + s.val by omega]
  rfl
theorem final : (dats m 0 c).arrAt 2 cfg0.N = G m c := (dats m 0 c).arrAt_eq_of_cover 2 (G m c) (flushed_G m c) fun i => by
  have hN : cfg0.N = 32 := N_0
  have h0 : (i 0).val < 2048 := (i 0).isLt
  have h1 : (i 1).val < 2048 := (i 1).isLt
  obtain ⟨t, ht⟩ := fin_of (show 16 * ((i 0).val / 1024) + 8 * ((i 1).val / 1024) + 7 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_FfDhn3 (hFfDhn3 := FfDhn3.Gen.facts) := fun m ρ _ => FfDhn3.Gen.frame m ρ
/-- So does the kernel over the extended reals. -/
theorem frame_ideal : quiescent_FfDhn3Ideal (hFfDhn3Ideal := facts) := fun m ρ _ => FfDhn3Ideal.Gen.frame m ρ
/-- So does the reference over the extended reals. -/
theorem frame_ref : quiescent_FfDhn3RefIdeal (hFfDhn3RefIdeal := FfDhn3RefIdeal.Gen.facts) := fun m ρ _ =>
  (θ_run FfDhn3RefIdeal.defs _ _).mono (fun r h => ⟨fun c => (h c).2, sem_eq_zero_of_no_sems (by decide) r.2⟩)
    (FfDhn3RefIdeal.Value.run (F := Ideal) m ρ)
/-- No operation of the kernel is replaced. -/
theorem preserves : preserves_FfDhn3_FfDhn3Ideal := trivial
/-- Kernel and reference end with the same array. -/
theorem algebraic : algebraic_FfDhn3Ideal_FfDhn3RefIdeal (hFfDhn3Ideal := facts) (hFfDhn3RefIdeal := FfDhn3RefIdeal.Gen.facts) := by
  intro m g m' g' _ hargs
  refine ⟨fun c => G m c, (θ_run defs _ _).mono (fun r h c => ⟨(h c).1.trans (final m c), (h c).2⟩) (run_blocks m g),
    (θ_run FfDhn3RefIdeal.defs _ _).mono (fun r h c => ⟨(h c).1.trans ?_, (h c).2⟩) (FfDhn3RefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FfDhn3

end
-- ==== Proof.FfUp0Claim.lean ====
/- The up projection's gradient, layer 0. -/
module

public import proofs.«01_k».proof.Proof.Mm
public import proofs.«01_k».proof.Proof.Gen.FfUp0.Frame
public import proofs.«01_k».proof.Proof.Gen.FfUp0Ideal.Value
public import proofs.«01_k».proof.Proof.Gen.FfUp0RefIdeal.Run

@[expose] public section

set_option maxRecDepth 16384

noncomputable section

namespace Cert.Proof.FfUp0

open Idealize.ShloMosaic Idealize.ShloMosaic.TcCoe Idealize.SL.Sem Mm FfUp0Ideal FfUp0Ideal.Gen FfUp0Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 1).val = 0 then total m c (i 2).val (2816 * (i 0).val + (i 3).val) else (m ((c : Thread nD τ).loc main_arg2)) i
/-- The terms at row `r` and column `s` of grid point `n`'s block. -/
def f (r s n : ℕ) : ℕ → EReal := term m c (1024 * (n / 8) + r) (1408 * (n % 8) + s)

theorem idx0 : ∀ t : Fin grid0.N, win0_0.index t 0 = 0 ∧ win0_0.index t 1 = t.val / 8 := by decide +kernel
theorem idx1 : ∀ t : Fin grid0.N, win0_1.index t 0 = 0 ∧ win0_1.index t 1 = t.val % 8 := by decide +kernel
theorem idx2 : ∀ t : Fin grid0.N, win0_2.index t 0 = t.val % 8 / 2 ∧ win0_2.index t 1 = 0 ∧ win0_2.index t 2 = t.val / 8 ∧ win0_2.index t 3 = t.val % 8 % 2 := by decide +kernel
/-- One block of the product's terms. -/
theorem block (t : Fin cfg0.N) (r : Fin 1024) (s : Fin 1408) (x0 : Vec Ideal S2048x1024 .bf16) (x1 : Vec Ideal S2048x1408 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1408 + 1 * s.val = _; rw [(idx1 t).2]; omega)
theorem outA (c i arg3 harg3 arg4 harg4 arg6 harg6 arg7 harg7 x0 x1) (r : Fin 1024) (s : Fin 1408) :
    out0_A_2 (F := Ideal) c i arg3 harg3 arg4 harg4 arg6 harg6 arg7 harg7 x0 x1 (ix4 0 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2, View.ld_unit_zero (S := S1024x1408) hz2]
  pointwise [k0_pay1]
/-- What a point leaves in the product's block. -/
theorem out_at (t : Fin cfg0.N) (r : Fin 1024) (s : Fin 1408) :
    (outsAt0 m c t : Vec Ideal S1x1x1024x1408 .f32) (ix4 0 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine (out_at m c t r s).trans ?_
  generalize hp : (((cfg0.win 2).blk t).view.emb (ix4 0 0 r s) : S4x4x2048x2816.Idx) = p
  have p0 : (p 0).val = win0_2.index t 0 * 1 + 1 * 0 := by rw [← hp]; rfl
  rw [(idx2 t).1] at p0
  have p1 : (p 1).val = win0_2.index t 1 * 1 + 1 * 0 := by rw [← hp]; rfl
  rw [(idx2 t).2.1] at p1
  have p2 : (p 2).val = win0_2.index t 2 * 1024 + 1 * r.val := by rw [← hp]; rfl
  rw [(idx2 t).2.2.1] at p2
  have p3 : (p 3).val = win0_2.index t 3 * 1408 + 1 * s.val := by rw [← hp]; rfl
  rw [(idx2 t).2.2.2] at p3
  show _ = if (p 1).val = 0 then total m c (p 2).val (2816 * (p 0).val + (p 3).val) else _
  rw [if_pos (by omega), show (p 2).val = 1024 * (t.val / 8) + r.val by omega, show 2816 * (p 0).val + (p 3).val = 1408 * (t.val % 8) + s.val by omega]
  rfl
theorem cover (i : S4x4x2048x2816.Idx) (hL : (i 1).val = 0) : ∃ t : Fin cfg0.N, (cfg0.win 2).flush t = true ∧ i ∈ ((cfg0.win 2).blk t).view.set := by
  have hN : cfg0.N = 16 := N_0
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + 1 * ((2 * (i 0).val + (i 3).val / 1408)) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 1 (i 1).val (idx2 t).2.1 (by omega)
  | ⟨2, _⟩ => exact in_blk 1024 (i 2).val (idx2 t).2.2.1 (by omega)
  | ⟨3, _⟩ => exact in_blk 1408 (i 3).val (idx2 t).2.2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfUp0 (hFfUp0 := FfUp0.Gen.facts) := fun m ρ _ => FfUp0.Gen.frame m ρ
/-- So does the kernel over the extended reals. -/
theorem frame_ideal : quiescent_FfUp0Ideal (hFfUp0Ideal := facts) := fun m ρ _ => FfUp0Ideal.Gen.frame m ρ
/-- So does the reference over the extended reals. -/
theorem frame_ref : quiescent_FfUp0RefIdeal (hFfUp0RefIdeal := FfUp0RefIdeal.Gen.facts) := fun m ρ _ =>
  (θ_run FfUp0RefIdeal.defs _ _).mono (fun r h => ⟨fun c => (h c).2, sem_eq_zero_of_no_sems (by decide) r.2⟩)
    (FfUp0RefIdeal.Value.run (F := Ideal) m ρ)
/-- No operation of the kernel is replaced. -/
theorem preserves : preserves_FfUp0_FfUp0Ideal := trivial
/-- Kernel and reference end with the same array. -/
theorem algebraic : algebraic_FfUp0Ideal_FfUp0RefIdeal (hFfUp0Ideal := facts) (hFfUp0RefIdeal := FfUp0RefIdeal.Gen.facts) := by
  intro m g m' g' _ hargs
  refine ⟨fun c => G m c, (θ_run defs _ _).mono (fun r h c => ⟨(h c).1.trans (final m c), (h c).2⟩) (run_blocks m g),
    (θ_run FfUp0RefIdeal.defs _ _).mono (fun r h c => ⟨(h c).1.trans ?_, (h c).2⟩) (FfUp0RefIdeal.Value.run (F := Ideal) m' g')⟩
  obtain ⟨a0, a1, a2⟩ := hargs c
  rw [a0, a1, a2]
  funext i
  obtain ⟨x, y, r, s, rfl⟩ : ∃ (x : Fin 4) (y : Fin 4) (r : Fin 2048) (s : Fin 2816), i = ix4 x y r s := ⟨i 0, i 1, i 2, i 3, (ix4_eta i).symm⟩
  pointwise []
  show _ = if y.val = 0 then total m c r.val (2816 * x.val + s.val) else (m ((c : Thread nD τ).loc main_arg2)) (ix4 x y r s)
  by_cases h2 : y.val = 0
  · rw [dif_pos (by omega), if_pos h2]
    unfold total
    rw [sum_first]
    refine Finset.sum_congr rfl fun k _ => ?_
    exact (mul_comm _ _).trans (congrArg₂ (· * ·) (at2_eq _ _ rfl rfl) (at2_eq _ _ rfl (by show x.val * 2816 + s.val = 2816 * x.val + s.val; omega)))
  · rw [if_neg h2, dif_neg (by omega)]
    exact congrArg (fun z => (m ((c : Thread nD τ).loc main_arg2)) (ix4 x z r s)) (Fin.ext (by show 1 + (y.val - 1) = y.val; omega))

end Cert.Proof.FfUp0

end
-- ==== Proof.FfUp1Claim.lean ====
/- The up projection's gradient, layer 1. -/
module

public import proofs.«01_k».proof.Proof.Mm
public import proofs.«01_k».proof.Proof.Gen.FfUp1.Frame
public import proofs.«01_k».proof.Proof.Gen.FfUp1Ideal.Value
public import proofs.«01_k».proof.Proof.Gen.FfUp1RefIdeal.Run

@[expose] public section

set_option maxRecDepth 16384

noncomputable section

namespace Cert.Proof.FfUp1

open Idealize.ShloMosaic Idealize.ShloMosaic.TcCoe Idealize.SL.Sem Mm FfUp1Ideal FfUp1Ideal.Gen FfUp1Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 1).val = 1 then total m c (i 2).val (2816 * (i 0).val + (i 3).val) else (m ((c : Thread nD τ).loc main_arg2)) i
/-- The terms at row `r` and column `s` of grid point `n`'s block. -/
def f (r s n : ℕ) : ℕ → EReal := term m c (1024 * (n / 8) + r) (1408 * (n % 8) + s)

theorem idx0 : ∀ t : Fin grid0.N, win0_0.index t 0 = 0 ∧ win0_0.index t 1 = t.val / 8 := by decide +kernel
theorem idx1 : ∀ t : Fin grid0.N, win0_1.index t 0 = 0 ∧ win0_1.index t 1 = t.val % 8 := by decide +kernel
theorem idx2 : ∀ t : Fin grid0.N, win0_2.index t 0 = t.val % 8 / 2 ∧ win0_2.index t 1 = 1 ∧ win0_2.index t 2 = t.val / 8 ∧ win0_2.index t 3 = t.val % 8 % 2 := by decide +kernel
/-- One block of the product's terms. -/
theorem block (t : Fin cfg0.N) (r : Fin 1024) (s : Fin 1408) (x0 : Vec Ideal S2048x1024 .bf16) (x1 : Vec Ideal S2048x1408 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1408 + 1 * s.val = _; rw [(idx1 t).2]; omega)
theorem outA (c i arg3 harg3 arg4 harg4 arg6 harg6 arg7 harg7 x0 x1) (r : Fin 1024) (s : Fin 1408) :
    out0_A_2 (F := Ideal) c i arg3 harg3 arg4 harg4 arg6 harg6 arg7 harg7 x0 x1 (ix4 0 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2, View.ld_unit_zero (S := S1024x1408) hz2]
  pointwise [k0_pay1]
/-- What a point leaves in the product's block. -/
theorem out_at (t : Fin cfg0.N) (r : Fin 1024) (s : Fin 1408) :
    (outsAt0 m c t : Vec Ideal S1x1x1024x1408 .f32) (ix4 0 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine (out_at m c t r s).trans ?_
  generalize hp : (((cfg0.win 2).blk t).view.emb (ix4 0 0 r s) : S4x4x2048x2816.Idx) = p
  have p0 : (p 0).val = win0_2.index t 0 * 1 + 1 * 0 := by rw [← hp]; rfl
  rw [(idx2 t).1] at p0
  have p1 : (p 1).val = win0_2.index t 1 * 1 + 1 * 0 := by rw [← hp]; rfl
  rw [(idx2 t).2.1] at p1
  have p2 : (p 2).val = win0_2.index t 2 * 1024 + 1 * r.val := by rw [← hp]; rfl
  rw [(idx2 t).2.2.1] at p2
  have p3 : (p 3).val = win0_2.index t 3 * 1408 + 1 * s.val := by rw [← hp]; rfl
  rw [(idx2 t).2.2.2] at p3
  show _ = if (p 1).val = 1 then total m c (p 2).val (2816 * (p 0).val + (p 3).val) else _
  rw [if_pos (by omega), show (p 2).val = 1024 * (t.val / 8) + r.val by omega, show 2816 * (p 0).val + (p 3).val = 1408 * (t.val % 8) + s.val by omega]
  rfl
theorem cover (i : S4x4x2048x2816.Idx) (hL : (i 1).val = 1) : ∃ t : Fin cfg0.N, (cfg0.win 2).flush t = true ∧ i ∈ ((cfg0.win 2).blk t).view.set := by
  have hN : cfg0.N = 16 := N_0
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + 1 * ((2 * (i 0).val + (i 3).val / 1408)) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 1 (i 1).val (idx2 t).2.1 (by omega)
  | ⟨2, _⟩ => exact in_blk 1024 (i 2).val (idx2 t).2.2.1 (by omega)
  | ⟨3, _⟩ => exact in_blk 1408 (i 3).val (idx2 t).2.2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfUp1 (hFfUp1 := FfUp1.Gen.facts) := fun m ρ _ => FfUp1.Gen.frame m ρ
/-- So does the kernel over the extended reals. -/
theorem frame_ideal : quiescent_FfUp1Ideal (hFfUp1Ideal := facts) := fun m ρ _ => FfUp1Ideal.Gen.frame m ρ
/-- So does the reference over the extended reals. -/
theorem frame_ref : quiescent_FfUp1RefIdeal (hFfUp1RefIdeal := FfUp1RefIdeal.Gen.facts) := fun m ρ _ =>
  (θ_run FfUp1RefIdeal.defs _ _).mono (fun r h => ⟨fun c => (h c).2, sem_eq_zero_of_no_sems (by decide) r.2⟩)
    (FfUp1RefIdeal.Value.run (F := Ideal) m ρ)
/-- No operation of the kernel is replaced. -/
theorem preserves : preserves_FfUp1_FfUp1Ideal := trivial
/-- Kernel and reference end with the same array. -/
theorem algebraic : algebraic_FfUp1Ideal_FfUp1RefIdeal (hFfUp1Ideal := facts) (hFfUp1RefIdeal := FfUp1RefIdeal.Gen.facts) := by
  intro m g m' g' _ hargs
  refine ⟨fun c => G m c, (θ_run defs _ _).mono (fun r h c => ⟨(h c).1.trans (final m c), (h c).2⟩) (run_blocks m g),
    (θ_run FfUp1RefIdeal.defs _ _).mono (fun r h c => ⟨(h c).1.trans ?_, (h c).2⟩) (FfUp1RefIdeal.Value.run (F := Ideal) m' g')⟩
  obtain ⟨a0, a1, a2⟩ := hargs c
  rw [a0, a1, a2]
  funext i
  obtain ⟨x, y, r, s, rfl⟩ : ∃ (x : Fin 4) (y : Fin 4) (r : Fin 2048) (s : Fin 2816), i = ix4 x y r s := ⟨i 0, i 1, i 2, i 3, (ix4_eta i).symm⟩
  pointwise []
  show _ = if y.val = 1 then total m c r.val (2816 * x.val + s.val) else (m ((c : Thread nD τ).loc main_arg2)) (ix4 x y r s)
  by_cases h2 : y.val = 1
  · rw [dif_neg (by omega), dif_pos (by omega), if_pos h2]
    unfold total
    rw [sum_first]
    refine Finset.sum_congr rfl fun k _ => ?_
    exact (mul_comm _ _).trans (congrArg₂ (· * ·) (at2_eq _ _ rfl rfl) (at2_eq _ _ rfl (by show x.val * 2816 + s.val = 2816 * x.val + s.val; omega)))
  · rw [if_neg h2]
    by_cases h1 : y.val < 1
    · rw [dif_pos h1]
    · rw [dif_neg h1, dif_neg (by omega)]
      exact congrArg (fun z => (m ((c : Thread nD τ).loc main_arg2)) (ix4 x z r s)) (Fin.ext (by show 2 + (y.val - 1 - 1) = y.val; omega))

end Cert.Proof.FfUp1

end
-- ==== Proof.FfUp2Claim.lean ====
/- The up projection's gradient, layer 2. -/
module

public import proofs.«01_k».proof.Proof.Mm
public import proofs.«01_k».proof.Proof.Gen.FfUp2.Frame
public import proofs.«01_k».proof.Proof.Gen.FfUp2Ideal.Value
public import proofs.«01_k».proof.Proof.Gen.FfUp2RefIdeal.Run

@[expose] public section

set_option maxRecDepth 16384

noncomputable section

namespace Cert.Proof.FfUp2

open Idealize.ShloMosaic Idealize.ShloMosaic.TcCoe Idealize.SL.Sem Mm FfUp2Ideal FfUp2Ideal.Gen FfUp2Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 1).val = 2 then total m c (i 2).val (2816 * (i 0).val + (i 3).val) else (m ((c : Thread nD τ).loc main_arg2)) i
/-- The terms at row `r` and column `s` of grid point `n`'s block. -/
def f (r s n : ℕ) : ℕ → EReal := term m c (1024 * (n / 8) + r) (1408 * (n % 8) + s)

theorem idx0 : ∀ t : Fin grid0.N, win0_0.index t 0 = 0 ∧ win0_0.index t 1 = t.val / 8 := by decide +kernel
theorem idx1 : ∀ t : Fin grid0.N, win0_1.index t 0 = 0 ∧ win0_1.index t 1 = t.val % 8 := by decide +kernel
theorem idx2 : ∀ t : Fin grid0.N, win0_2.index t 0 = t.val % 8 / 2 ∧ win0_2.index t 1 = 2 ∧ win0_2.index t 2 = t.val / 8 ∧ win0_2.index t 3 = t.val % 8 % 2 := by decide +kernel
/-- One block of the product's terms. -/
theorem block (t : Fin cfg0.N) (r : Fin 1024) (s : Fin 1408) (x0 : Vec Ideal S2048x1024 .bf16) (x1 : Vec Ideal S2048x1408 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1408 + 1 * s.val = _; rw [(idx1 t).2]; omega)
theorem outA (c i arg3 harg3 arg4 harg4 arg6 harg6 arg7 harg7 x0 x1) (r : Fin 1024) (s : Fin 1408) :
    out0_A_2 (F := Ideal) c i arg3 harg3 arg4 harg4 arg6 harg6 arg7 harg7 x0 x1 (ix4 0 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2, View.ld_unit_zero (S := S1024x1408) hz2]
  pointwise [k0_pay1]
/-- What a point leaves in the product's block. -/
theorem out_at (t : Fin cfg0.N) (r : Fin 1024) (s : Fin 1408) :
    (outsAt0 m c t : Vec Ideal S1x1x1024x1408 .f32) (ix4 0 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine (out_at m c t r s).trans ?_
  generalize hp : (((cfg0.win 2).blk t).view.emb (ix4 0 0 r s) : S4x4x2048x2816.Idx) = p
  have p0 : (p 0).val = win0_2.index t 0 * 1 + 1 * 0 := by rw [← hp]; rfl
  rw [(idx2 t).1] at p0
  have p1 : (p 1).val = win0_2.index t 1 * 1 + 1 * 0 := by rw [← hp]; rfl
  rw [(idx2 t).2.1] at p1
  have p2 : (p 2).val = win0_2.index t 2 * 1024 + 1 * r.val := by rw [← hp]; rfl
  rw [(idx2 t).2.2.1] at p2
  have p3 : (p 3).val = win0_2.index t 3 * 1408 + 1 * s.val := by rw [← hp]; rfl
  rw [(idx2 t).2.2.2] at p3
  show _ = if (p 1).val = 2 then total m c (p 2).val (2816 * (p 0).val + (p 3).val) else _
  rw [if_pos (by omega), show (p 2).val = 1024 * (t.val / 8) + r.val by omega, show 2816 * (p 0).val + (p 3).val = 1408 * (t.val % 8) + s.val by omega]
  rfl
theorem cover (i : S4x4x2048x2816.Idx) (hL : (i 1).val = 2) : ∃ t : Fin cfg0.N, (cfg0.win 2).flush t = true ∧ i ∈ ((cfg0.win 2).blk t).view.set := by
  have hN : cfg0.N = 16 := N_0
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + 1 * ((2 * (i 0).val + (i 3).val / 1408)) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 1 (i 1).val (idx2 t).2.1 (by omega)
  | ⟨2, _⟩ => exact in_blk 1024 (i 2).val (idx2 t).2.2.1 (by omega)
  | ⟨3, _⟩ => exact in_blk 1408 (i 3).val (idx2 t).2.2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_FfUp2 (hFfUp2 := FfUp2.Gen.facts) := fun m ρ _ => FfUp2.Gen.frame m ρ
/-- So does the kernel over the extended reals. -/
theorem frame_ideal : quiescent_FfUp2Ideal (hFfUp2Ideal := facts) := fun m ρ _ => FfUp2Ideal.Gen.frame m ρ
/-- So does the reference over the extended reals. -/
theorem frame_ref : quiescent_FfUp2RefIdeal (hFfUp2RefIdeal := FfUp2RefIdeal.Gen.facts) := fun m ρ _ =>
  (θ_run FfUp2RefIdeal.defs _ _).mono (fun r h => ⟨fun c => (h c).2, sem_eq_zero_of_no_sems (by decide) r.2⟩)
    (FfUp2RefIdeal.Value.run (F := Ideal) m ρ)
/-- No operation of the kernel is replaced. -/
theorem preserves : preserves_FfUp2_FfUp2Ideal := trivial
/-- Kernel and reference end with the same array. -/
theorem algebraic : algebraic_FfUp2Ideal_FfUp2RefIdeal (hFfUp2Ideal := facts) (hFfUp2RefIdeal := FfUp2RefIdeal.Gen.facts) := by
  intro m g m' g' _ hargs
  refine ⟨fun c => G m c, (θ_run defs _ _).mono (fun r h c => ⟨(h c).1.trans (final m c), (h c).2⟩) (run_blocks m g),
    (θ_run FfUp2RefIdeal.defs _ _).mono (fun r h c => ⟨(h c).1.trans ?_, (h c).2⟩) (FfUp2RefIdeal.Value.run (F := Ideal) m' g')⟩
  obtain ⟨a0, a1, a2⟩ := hargs c
  rw [a0, a1, a2]
  funext i
  obtain ⟨x, y, r, s, rfl⟩ : ∃ (x : Fin 4) (y : Fin 4) (r : Fin 2048) (s : Fin 2816), i = ix4 x y r s := ⟨i 0, i 1, i 2, i 3, (ix4_eta i).symm⟩
  pointwise []
  show _ = if y.val = 2 then total m c r.val (2816 * x.val + s.val) else (m ((c : Thread nD τ).loc main_arg2)) (ix4 x y r s)
  by_cases h2 : y.val = 2
  · rw [dif_neg (by omega), dif_pos (by omega), if_pos h2]
    unfold total
    rw [sum_first]
    refine Finset.sum_congr rfl fun k _ => ?_
    exact (mul_comm _ _).trans (congrArg₂ (· * ·) (at2_eq _ _ rfl rfl) (at2_eq _ _ rfl (by show x.val * 2816 + s.val = 2816 * x.val + s.val; omega)))
  · rw [if_neg h2]
    by_cases h1 : y.val < 2
    · rw [dif_pos h1]
    · rw [dif_neg h1, dif_neg (by omega)]
      exact congrArg (fun z => (m ((c : Thread nD τ).loc main_arg2)) (ix4 x z r s)) (Fin.ext (by show 3 + (y.val - 2 - 1) = y.val; omega))

end Cert.Proof.FfUp2

end
-- ==== Proof.EvDcatClaim.lean ====
/- The gradient at the even layers' concatenated mixers. -/
module

public import proofs.«01_k».proof.Proof.Mm
public import proofs.«01_k».proof.Proof.Gen.EvDcat.Frame
public import proofs.«01_k».proof.Proof.Gen.EvDcatIdeal.Value
public import proofs.«01_k».proof.Proof.Gen.EvDcatRefIdeal.Run

@[expose] public section

set_option maxRecDepth 16384

noncomputable section

namespace Cert.Proof.EvDcat

open Idealize.ShloMosaic Idealize.ShloMosaic.TcCoe Idealize.SL.Sem Mm EvDcatIdeal EvDcatIdeal.Gen EvDcatIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (1024 * (n % 4) + s)

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel
/-- One block of the product's terms. -/
theorem block (t : Fin cfg0.N) (r : Fin 1024) (s : Fin 1024) (x0 : Vec Ideal S1024x2048 .f32) (x1 : Vec Ideal S1024x2048 .bf16) (h0 : x0 = iblk m c 0 t) (h1 : x1 = iblk m c 1 t) :
    ∑ k, x0 (ix2 r k) * x1 (ix2 s k) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 1024 + 1 * s.val = _; rw [(idx1 t).1]; omega) (by show win0_1.index t 1 * 2048 + 1 * k.val = _; rw [(idx1 t).2]; omega)
theorem outA (c i arg3 harg3 arg4 harg4 arg5 harg5 arg6 harg6 x0 x1) (r : Fin 1024) (s : Fin 1024) :
    out0_A_2 (F := Ideal) c i arg3 harg3 arg4 harg4 arg5 harg5 arg6 harg6 x0 x1 (ix2 r s) = ∑ k, x0 (ix2 r k) * x1 (ix2 s k) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 2).blk t).view.emb (ix2 r s) : S2048x4096.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 4) + r.val by omega, show (p 1).val = 1024 * (t.val % 4) + s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 4096 := (i 1).isLt
  obtain ⟨t, ht⟩ := fin_of (show 4 * ((i 0).val / 1024) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_EvDcat (hEvDcat := EvDcat.Gen.facts) := fun m ρ _ => EvDcat.Gen.frame m ρ
/-- So does the kernel over the extended reals. -/
theorem frame_ideal : quiescent_EvDcatIdeal (hEvDcatIdeal := facts) := fun m ρ _ => EvDcatIdeal.Gen.frame m ρ
/-- So does the reference over the extended reals. -/
theorem frame_ref : quiescent_EvDcatRefIdeal (hEvDcatRefIdeal := EvDcatRefIdeal.Gen.facts) := fun m ρ _ =>
  (θ_run EvDcatRefIdeal.defs _ _).mono (fun r h => ⟨fun c => (h c).2, sem_eq_zero_of_no_sems (by decide) r.2⟩)
    (EvDcatRefIdeal.Value.run (F := Ideal) m ρ)
/-- No operation of the kernel is replaced. -/
theorem preserves : preserves_EvDcat_EvDcatIdeal := trivial
/-- Kernel and reference end with the same array. -/
theorem algebraic : algebraic_EvDcatIdeal_EvDcatRefIdeal (hEvDcatIdeal := facts) (hEvDcatRefIdeal := EvDcatRefIdeal.Gen.facts) := by
  intro m g m' g' _ hargs
  refine ⟨fun c => G m c, (θ_run defs _ _).mono (fun r h c => ⟨(h c).1.trans (final m c), (h c).2⟩) (run_blocks m g),
    (θ_run EvDcatRefIdeal.defs _ _).mono (fun r h c => ⟨(h c).1.trans ?_, (h c).2⟩) (EvDcatRefIdeal.Value.run (F := Ideal) m' g')⟩
  obtain ⟨a0, a1⟩ := hargs c
  rw [a0, a1]
  funext i
  obtain ⟨r, s, rfl⟩ : ∃ (r : Fin 2048) (s : Fin 4096), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.EvDcat

end
-- ==== Proof.EvWoutClaim.lean ====
/- The even output projection's gradient. -/
module

public import proofs.«01_k».proof.Proof.Mm
public import proofs.«01_k».proof.Proof.Gen.EvWout.Frame
public import proofs.«01_k».proof.Proof.Gen.EvWoutIdeal.Value
public import proofs.«01_k».proof.Proof.Gen.EvWoutRefIdeal.Run

@[expose] public section

set_option maxRecDepth 16384

noncomputable section

namespace Cert.Proof.EvWout

open Idealize.ShloMosaic Idealize.ShloMosaic.TcCoe Idealize.SL.Sem Mm EvWoutIdeal EvWoutIdeal.Gen EvWoutIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 0).val = 0 then total m c (i 1).val (i 2).val else (m ((c : Thread nD τ).loc main_arg2)) i
/-- The terms at row `r` and column `s` of grid point `n`'s block. -/
def f (r s n : ℕ) : ℕ → EReal := term m c (1024 * (n / 2) + r) (1024 * (n % 2) + s)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = 0 ∧ win0_2.index t 1 = t.val / 2 ∧ win0_2.index t 2 = t.val % 2 := by decide +kernel
/-- One block of the product's terms. -/
theorem block (t : Fin cfg0.N) (r : Fin 1024) (s : Fin 1024) (x0 : Vec Ideal S2048x1024 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg6 harg6 arg7 harg7 x0 x1) (r : Fin 1024) (s : Fin 1024) :
    out0_A_2 (F := Ideal) c i arg3 harg3 arg4 harg4 arg6 harg6 arg7 harg7 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg6.read_unread, harg7.read_unread, View.ld_unit_zero (S := S2048x1024) hz2, View.ld_unit_zero (S := S1024x1024) hz2]
  pointwise [k0_pay1]
/-- What a point leaves in the product's block. -/
theorem out_at (t : Fin cfg0.N) (r : Fin 1024) (s : Fin 1024) :
    (outsAt0 m c t : Vec Ideal S1x1024x1024 .f32) (ix3 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine (out_at m c t r s).trans ?_
  generalize hp : (((cfg0.win 2).blk t).view.emb (ix3 0 r s) : S2x4096x2048.Idx) = p
  have p0 : (p 0).val = win0_2.index t 0 * 1 + 1 * 0 := by rw [← hp]; rfl
  rw [(idx2 t).1] at p0
  have p1 : (p 1).val = win0_2.index t 1 * 1024 + 1 * r.val := by rw [← hp]; rfl
  rw [(idx2 t).2.1] at p1
  have p2 : (p 2).val = win0_2.index t 2 * 1024 + 1 * s.val := by rw [← hp]; rfl
  rw [(idx2 t).2.2] at p2
  show _ = if (p 0).val = 0 then total m c (p 1).val (p 2).val else _
  rw [if_pos (by omega), show (p 1).val = 1024 * (t.val / 2) + r.val by omega, show (p 2).val = 1024 * (t.val % 2) + s.val by omega]
  rfl
theorem cover (i : S2x4096x2048.Idx) (hL : (i 0).val = 0) : ∃ t : Fin cfg0.N, (cfg0.win 2).flush t = true ∧ i ∈ ((cfg0.win 2).blk t).view.set := by
  have hN : cfg0.N = 8 := N_0
  have h0 : (i 0).val < 2 := (i 0).isLt
  have h1 : (i 1).val < 4096 := (i 1).isLt
  have h2 : (i 2).val < 2048 := (i 2).isLt
  obtain ⟨t, ht⟩ := fin_of (show 2 * ((i 1).val / 1024) + 1 * ((i 2).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 1024 (i 1).val (idx2 t).2.1 (by omega)
  | ⟨2, _⟩ => exact in_blk 1024 (i 2).val (idx2 t).2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_EvWout (hEvWout := EvWout.Gen.facts) := fun m ρ _ => EvWout.Gen.frame m ρ
/-- So does the kernel over the extended reals. -/
theorem frame_ideal : quiescent_EvWoutIdeal (hEvWoutIdeal := facts) := fun m ρ _ => EvWoutIdeal.Gen.frame m ρ
/-- So does the reference over the extended reals. -/
theorem frame_ref : quiescent_EvWoutRefIdeal (hEvWoutRefIdeal := EvWoutRefIdeal.Gen.facts) := fun m ρ _ =>
  (θ_run EvWoutRefIdeal.defs _ _).mono (fun r h => ⟨fun c => (h c).2, sem_eq_zero_of_no_sems (by decide) r.2⟩)
    (EvWoutRefIdeal.Value.run (F := Ideal) m ρ)
/-- No operation of the kernel is replaced. -/
theorem preserves : preserves_EvWout_EvWoutIdeal := trivial
/-- Kernel and reference end with the same array. -/
theorem algebraic : algebraic_EvWoutIdeal_EvWoutRefIdeal (hEvWoutIdeal := facts) (hEvWoutRefIdeal := EvWoutRefIdeal.Gen.facts) := by
  intro m g m' g' _ hargs
  refine ⟨fun c => G m c, (θ_run defs _ _).mono (fun r h c => ⟨(h c).1.trans (final m c), (h c).2⟩) (run_blocks m g),
    (θ_run EvWoutRefIdeal.defs _ _).mono (fun r h c => ⟨(h c).1.trans ?_, (h c).2⟩) (EvWoutRefIdeal.Value.run (F := Ideal) m' g')⟩
  obtain ⟨a0, a1, a2⟩ := hargs c
  rw [a0, a1, a2]
  funext i
  obtain ⟨x, r, s, rfl⟩ : ∃ (x : Fin 2) (r : Fin 4096) (s : Fin 2048), i = ix3 x r s := ⟨i 0, i 1, i 2, (ix3_eta i).symm⟩
  pointwise []
  show _ = if x.val = 0 then total m c r.val s.val else (m ((c : Thread nD τ).loc main_arg2)) (ix3 x r s)
  by_cases h2 : x.val = 0
  · rw [dif_pos (by omega), if_pos h2]
    unfold total
    rw [sum_first]
    refine Finset.sum_congr rfl fun k _ => ?_
    exact (mul_comm _ _).trans (congrArg₂ (· * ·) (at2_eq _ _ rfl rfl) (at2_eq _ _ rfl rfl))
  · rw [if_neg h2, dif_neg (by omega)]
    exact congrArg (fun z => (m ((c : Thread nD τ).loc main_arg2)) (ix3 z r s)) (Fin.ext (by show 1 + (x.val - 1) = x.val; omega))

end Cert.Proof.EvWout

end
-- ==== Proof.EvDhnClaim.lean ====
/- The gradient at the even layers' normalised input. -/
module

public import proofs.«01_k».proof.Proof.Mm
public import proofs.«01_k».proof.Proof.Gen.EvDhn.Frame
public import proofs.«01_k».proof.Proof.Gen.EvDhnIdeal.Value
public import proofs.«01_k».proof.Proof.Gen.EvDhnRefIdeal.Run

@[expose] public section

set_option maxRecDepth 16384

noncomputable section

namespace Cert.Proof.EvDhn

open Idealize.ShloMosaic Idealize.ShloMosaic.TcCoe Idealize.SL.Sem Mm EvDhnIdeal EvDhnIdeal.Gen EvDhnIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 9216, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 18) + r) (1024 * (n / 9 % 2) + s)

theorem idx0 : ∀ t : Fin grid0.N, win0_0.index t 0 = t.val / 18 ∧ win0_0.index t 1 = t.val % 9 := by decide +kernel
theorem idx1 : ∀ t : Fin grid0.N, win0_1.index t 0 = t.val / 9 % 2 ∧ win0_1.index t 1 = t.val % 9 := by decide +kernel
theorem idx2 : ∀ t : Fin grid0.N, win0_2.index t 0 = t.val / 18 ∧ win0_2.index t 1 = t.val / 9 % 2 := by decide +kernel
/-- One block of the product's terms. -/
theorem block (t : Fin cfg0.N) (r : Fin 1024) (s : Fin 1024) (x0 : Vec Ideal S1024x1024 .bf16) (x1 : Vec Ideal S1024x1024 .bf16) (h0 : x0 = iblk m c 0 t) (h1 : x1 = iblk m c 1 t) :
    ∑ k, x0 (ix2 r k) * x1 (ix2 s k) = ∑ k : Fin 1024, f m c r.val s.val t.val (1024 * (t.val % 9) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1024 + 1 * k.val = _; rw [(idx0 t).2]; omega)
  · exact at2_eq _ _ (by show win0_1.index t 0 * 1024 + 1 * s.val = _; rw [(idx1 t).1]; omega) (by show win0_1.index t 1 * 1024 + 1 * k.val = _; rw [(idx1 t).2]; omega)
theorem accA (c i arg3 harg3 arg4 harg4 arg5 harg5 arg6 harg6 hc0 hc1 hc2 x0 x1) (r : Fin 1024) (s : Fin 1024) :
    sout0_A_0 (F := Ideal) c i arg3 harg3 arg4 harg4 arg5 harg5 arg6 harg6 hc0 hc1 hc2 x0 x1 (ix2 r s) = ∑ k, x0 (ix2 r k) * x1 (ix2 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1024) hz2]
  pointwise [k0_pay1, k0_pay2, k0_pay3, k0_pay4]
theorem accB (c i arg3 harg3 arg4 harg4 arg5 harg5 arg6 harg6 hc0 hc1 hc2 x0 x1 xs0) (r : Fin 1024) (s : Fin 1024) :
    sout0_B_0 (F := Ideal) c i arg3 harg3 arg4 harg4 arg5 harg5 arg6 harg6 hc0 hc1 hc2 x0 x1 xs0 (ix2 r s) = xs0 (ix2 r s) + ∑ k, x0 (ix2 r k) * x1 (ix2 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1024) hz2]
  pointwise [k0_pay1, k0_pay2, k0_pay3, k0_pay4]
theorem outC (c i arg3 harg3 arg4 harg4 arg5 harg5 arg6 harg6 hc0 hc1 hc2 x0 x1 xs0) (r : Fin 1024) (s : Fin 1024) :
    out0_C_2 (F := Ideal) c i arg3 harg3 arg4 harg4 arg5 harg5 arg6 harg6 hc0 hc1 hc2 x0 x1 xs0 (ix2 r s) = xs0 (ix2 r s) + ∑ k, x0 (ix2 r k) * x1 (ix2 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1024) hz2]
  pointwise [k0_pay1, k0_pay2, k0_pay3, k0_pay4]
/-- A row and a column of terms stay through a run of grid points. -/
theorem stay (r s n : ℕ) (h : (n + 1) % 9 ≠ 0) : f m c r s (n + 1) = f m c r s n := by
  unfold f
  rw [show (n + 1) / 18 = n / 18 by omega, show (n + 1) / 9 % 2 = n / 9 % 2 by omega]
/-- What the accumulator holds after a point that is not the last of its run: the terms so far. -/
theorem acc_at (r : Fin 1024) (s : Fin 1024) : ∀ n (h : n < cfg0.N), n % 9 ≠ 8 → ((outsAt0 m c n h).2 : Vec Ideal S1024x1024 .f32) (ix2 r s)
    = ∑ k ∈ Finset.range (1024 * (n % 9) + 1024), f m c r.val s.val n k := run_sum 1024 9 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 9 = 8) (r : Fin 1024) (s : Fin 1024) :
    ((outsAt0 m c t.val t.isLt).1 : Vec Ideal S1024x1024 .f32) (ix2 r s) = ∑ k ∈ Finset.range 9216, f m c r.val s.val t.val k := by
  rw [outsAt0_C m c t (by omega) (by omega) h]
  dsimp only
  rw [outC, block m c t r s _ _ rfl rfl]
  exact run_last 1024 9 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t ((flush0_2 t).mp hf) r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 18) + r.val by omega, show (p 1).val = 1024 * (t.val / 9 % 2) + s.val by omega]
  rfl
theorem final : (dats m 0 c).arrAt 2 cfg0.N = G m c := (dats m 0 c).arrAt_eq_of_cover 2 (G m c) (flushed_G m c) fun i => by
  have hN : cfg0.N = 36 := N_0
  have h0 : (i 0).val < 2048 := (i 0).isLt
  have h1 : (i 1).val < 2048 := (i 1).isLt
  obtain ⟨t, ht⟩ := fin_of (show 18 * ((i 0).val / 1024) + 9 * ((i 1).val / 1024) + 8 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_EvDhn (hEvDhn := EvDhn.Gen.facts) := fun m ρ _ => EvDhn.Gen.frame m ρ
/-- So does the kernel over the extended reals. -/
theorem frame_ideal : quiescent_EvDhnIdeal (hEvDhnIdeal := facts) := fun m ρ _ => EvDhnIdeal.Gen.frame m ρ
/-- So does the reference over the extended reals. -/
theorem frame_ref : quiescent_EvDhnRefIdeal (hEvDhnRefIdeal := EvDhnRefIdeal.Gen.facts) := fun m ρ _ =>
  (θ_run EvDhnRefIdeal.defs _ _).mono (fun r h => ⟨fun c => (h c).2, sem_eq_zero_of_no_sems (by decide) r.2⟩)
    (EvDhnRefIdeal.Value.run (F := Ideal) m ρ)
/-- No operation of the kernel is replaced. -/
theorem preserves : preserves_EvDhn_EvDhnIdeal := trivial
/-- Kernel and reference end with the same array. -/
theorem algebraic : algebraic_EvDhnIdeal_EvDhnRefIdeal (hEvDhnIdeal := facts) (hEvDhnRefIdeal := EvDhnRefIdeal.Gen.facts) := by
  intro m g m' g' _ hargs
  refine ⟨fun c => G m c, (θ_run defs _ _).mono (fun r h c => ⟨(h c).1.trans (final m c), (h c).2⟩) (run_blocks m g),
    (θ_run EvDhnRefIdeal.defs _ _).mono (fun r h c => ⟨(h c).1.trans ?_, (h c).2⟩) (EvDhnRefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.EvDhn

end
-- ==== Proof.EvDhn2Claim.lean ====
/- The gradient at the even layers' normalised input, with the step sizes' part. -/
module

public import proofs.«01_k».proof.Proof.Mm
public import proofs.«01_k».proof.Proof.Gen.EvDhn2.Frame
public import proofs.«01_k».proof.Proof.Gen.EvDhn2Ideal.Value
public import proofs.«01_k».proof.Proof.Gen.EvDhn2RefIdeal.Run

@[expose] public section

set_option maxRecDepth 16384

noncomputable section

namespace Cert.Proof.EvDhn2

open Idealize.ShloMosaic Idealize.ShloMosaic.TcCoe Idealize.SL.Sem Mm EvDhn2Ideal EvDhn2Ideal.Gen EvDhn2Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 128, term m c i j k
/-- The product's array. -/
def G : Buf (Elt Ideal) ((c : Thread nD τ).loc main_v0) := fun i => (total m c (i 0).val (i 1).val) + at2 (m ((c : Thread nD τ).loc main_arg2)) (i 0).val (i 1).val
/-- The terms at row `r` and column `s` of grid point `n`'s block. -/
def f (r s n : ℕ) : ℕ → EReal := term m c (1024 * (n / 2) + r) (1024 * (n % 2) + s)

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
/-- One block of the product's terms. -/
theorem block (t : Fin cfg0.N) (r : Fin 1024) (s : Fin 1024) (x0 : Vec Ideal S1024x128 .bf16) (x1 : Vec Ideal S1024x128 .bf16) (h0 : x0 = iblk m c 0 t) (h1 : x1 = iblk m c 1 t) :
    ∑ k, x0 (ix2 r k) * x1 (ix2 s k) = ∑ k : Fin 128, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 128 + 1 * k.val = _; rw [(idx0 t).2]; omega)
  · exact at2_eq _ _ (by show win0_1.index t 0 * 1024 + 1 * s.val = _; rw [(idx1 t).1]; omega) (by show win0_1.index t 1 * 128 + 1 * k.val = _; rw [(idx1 t).2]; omega)
theorem iblk2 (t : Fin cfg0.N) (r : Fin 1024) (s : Fin 1024) :
    (iblk m c 2 t : Vec Ideal S1024x1024 .f32) (ix2 r s) = at2 (m ((c : Thread nD τ).loc main_arg2)) (1024 * (t.val / 2) + r.val) (1024 * (t.val % 2) + s.val) := by
  unfold iblk
  rw [View.read_apply]
  exact (congrFun (V_main_arg2 m c) _).trans (at2_eq _ _ (by show win0_2.index t 0 * 1024 + 1 * r.val = _; rw [(idx2 t).1]; omega) (by show win0_2.index t 1 * 1024 + 1 * s.val = _; rw [(idx2 t).2]; omega))
theorem outA (c i arg3 harg3 arg4 harg4 arg5 harg5 arg6 harg6 arg7 harg7 x0 x1 x2) (r : Fin 1024) (s : Fin 1024) :
    out0_A_3 (F := Ideal) c i arg3 harg3 arg4 harg4 arg5 harg5 arg6 harg6 arg7 harg7 x0 x1 x2 (ix2 r s) = ∑ k, x0 (ix2 r k) * x1 (ix2 s k) + x2 (ix2 r s) := by
  unfold out0_A_3
  rw [View.read_writes_eq_canon _ _ _ (fun _ => cover0_A_3 ..)]
  unfold kernelRun0_A
  dsimp only
  rw [View.canon_unit_zero hz2]
  simp only [View.readAt_eq_ld, harg3.read_unread, harg4.read_unread, harg5.read_unread, harg6.read_unread, harg7.read_unread, View.ld_unit_zero (S := S1024x128) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = (∑ k ∈ Finset.range 128, f m c r.val s.val t.val k) + at2 (m ((c : Thread nD τ).loc main_arg2)) (1024 * (t.val / 2) + r.val) (1024 * (t.val % 2) + s.val) := by
  refine (outA ..).trans ?_
  rw [sum_first, iblk2, block m c t r s _ _ rfl rfl]
theorem flushed_G (t : Fin cfg0.N) (hf : (cfg0.win 3).flush t = true) :
    (dats m 0 c).flushed 3 t = ((cfg0.win 3).blk t).view.read (Elt Ideal) (G m c) := by
  rw [flushed3]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 3).blk t).view.emb (ix2 r s) : S2048x2048.Idx) = p
  have p0 : (p 0).val = win0_3.index t 0 * 1024 + 1 * r.val := by rw [← hp]; rfl
  rw [(idx3 t).1] at p0
  have p1 : (p 1).val = win0_3.index t 1 * 1024 + 1 * s.val := by rw [← hp]; rfl
  rw [(idx3 t).2] at p1
  show _ = (total m c (p 0).val (p 1).val) + at2 (m ((c : Thread nD τ).loc main_arg2)) (p 0).val (p 1).val
  rw [show (p 0).val = 1024 * (t.val / 2) + r.val by omega, show (p 1).val = 1024 * (t.val % 2) + s.val by omega]
  rfl
theorem final : (dats m 0 c).arrAt 3 cfg0.N = G m c := (dats m 0 c).arrAt_eq_of_cover 3 (G m c) (flushed_G m c) fun i => by
  have hN : cfg0.N = 4 := N_0
  have h0 : (i 0).val < 2048 := (i 0).isLt
  have h1 : (i 1).val < 2048 := (i 1).isLt
  obtain ⟨t, ht⟩ := fin_of (show 2 * ((i 0).val / 1024) + 1 * ((i 1).val / 1024) + 0 < cfg0.N by omega)
  refine ⟨t, flush0_3 t, ?_⟩
  show i ∈ ((View.whole main_v0).slice (win0_3.rect t)).set
  rw [View.set_slice_whole, Rect.mem_set_unit]
  intro q
  match q with
  | ⟨0, _⟩ => exact in_blk 1024 (i 0).val (idx3 t).1 (by omega)
  | ⟨1, _⟩ => exact in_blk 1024 (i 1).val (idx3 t).2 (by omega)

/-- The kernel at the machine's floats terminates, keeps its arguments, and leaves every counter at zero. -/
theorem frame : quiescent_EvDhn2 (hEvDhn2 := EvDhn2.Gen.facts) := fun m ρ _ => EvDhn2.Gen.frame m ρ
/-- So does the kernel over the extended reals. -/
theorem frame_ideal : quiescent_EvDhn2Ideal (hEvDhn2Ideal := facts) := fun m ρ _ => EvDhn2Ideal.Gen.frame m ρ
/-- So does the reference over the extended reals. -/
theorem frame_ref : quiescent_EvDhn2RefIdeal (hEvDhn2RefIdeal := EvDhn2RefIdeal.Gen.facts) := fun m ρ _ =>
  (θ_run EvDhn2RefIdeal.defs _ _).mono (fun r h => ⟨fun c => (h c).2, sem_eq_zero_of_no_sems (by decide) r.2⟩)
    (EvDhn2RefIdeal.Value.run (F := Ideal) m ρ)
/-- No operation of the kernel is replaced. -/
theorem preserves : preserves_EvDhn2_EvDhn2Ideal := trivial
/-- Kernel and reference end with the same array. -/
theorem algebraic : algebraic_EvDhn2Ideal_EvDhn2RefIdeal (hEvDhn2Ideal := facts) (hEvDhn2RefIdeal := EvDhn2RefIdeal.Gen.facts) := by
  intro m g m' g' _ hargs
  refine ⟨fun c => G m c, (θ_run defs _ _).mono (fun r h c => ⟨(h c).1.trans (final m c), (h c).2⟩) (run_blocks m g),
    (θ_run EvDhn2RefIdeal.defs _ _).mono (fun r h c => ⟨(h c).1.trans ?_, (h c).2⟩) (EvDhn2RefIdeal.Value.run (F := Ideal) m' g')⟩
  obtain ⟨a0, a1, a2⟩ := hargs c
  rw [a0, a1, a2]
  funext i
  obtain ⟨r, s, rfl⟩ : ∃ (r : Fin 2048) (s : Fin 2048), i = ix2 r s := ⟨i 0, i 1, (ix2_eta i).symm⟩
  pointwise []
  show _ = (total m c r.val s.val) + at2 (m ((c : Thread nD τ).loc main_arg2)) r.val s.val
  unfold total
  rw [sum_first]
  refine (add_comm _ _).trans (congrArg₂ (· + ·) ?_ (at2_eq _ _ rfl rfl))
  refine Finset.sum_congr rfl fun k _ => ?_
  exact congrArg₂ (· * ·) (at2_eq _ _ rfl rfl) (at2_eq _ _ rfl rfl)

end Cert.Proof.EvDhn2

end
-- ==== Proof.EvWinClaim.lean ====
/- The even input projection's gradient. -/
module

public import proofs.«01_k».proof.Proof.Mm
public import proofs.«01_k».proof.Proof.Gen.EvWin.Frame
public import proofs.«01_k».proof.Proof.Gen.EvWinIdeal.Value
public import proofs.«01_k».proof.Proof.Gen.EvWinRefIdeal.Run

@[expose] public section

set_option maxRecDepth 16384

noncomputable section

namespace Cert.Proof.EvWin

open Idealize.ShloMosaic Idealize.ShloMosaic.TcCoe Idealize.SL.Sem Mm EvWinIdeal EvWinIdeal.Gen EvWinIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 6) + r) (1536 * (n % 6) + s)

theorem idx0 : ∀ t : Fin grid0.N, win0_0.index t 0 = 0 ∧ win0_0.index t 1 = t.val / 6 := by decide +kernel
theorem idx1 : ∀ t : Fin grid0.N, win0_1.index t 0 = 0 ∧ win0_1.index t 1 = t.val % 6 := by decide +kernel
theorem idx2 : ∀ t : Fin grid0.N, win0_2.index t 0 = t.val / 6 ∧ win0_2.index t 1 = t.val % 6 := by decide +kernel
/-- One block of the product's terms. -/
theorem block (t : Fin cfg0.N) (r : Fin 1024) (s : Fin 1536) (x0 : Vec Ideal S2048x1024 .bf16) (x1 : Vec Ideal S2048x1536 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1536 + 1 * s.val = _; rw [(idx1 t).2]; omega)
theorem outA (c i arg3 harg3 arg4 harg4 arg5 harg5 arg6 harg6 x0 x1) (r : Fin 1024) (s : Fin 1536) :
    out0_A_2 (F := Ideal) c i arg3 harg3 arg4 harg4 arg5 harg5 arg6 harg6 x0 x1 (ix2 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S2048x1024) hz2, View.ld_unit_zero (S := S2048x1536) hz2, View.ld_unit_zero (S := S1024x1536) hz2]
  pointwise [k0_pay1]
/-- What a point leaves in the product's block. -/
theorem out_at (t : Fin cfg0.N) (r : Fin 1024) (s : Fin 1536) :
    (outsAt0 m c t : Vec Ideal S1024x1536 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1536), j = ix2 r s := ⟨j 0, j 1, (ix2_eta j).symm⟩
  rw [View.read_apply]
  refine (out_at m c t r s).trans ?_
  generalize hp : (((cfg0.win 2).blk t).view.emb (ix2 r s) : S2048x9216.Idx) = p
  have p0 : (p 0).val = win0_2.index t 0 * 1024 + 1 * r.val := by rw [← hp]; rfl
  rw [(idx2 t).1] at p0
  have p1 : (p 1).val = win0_2.index t 1 * 1536 + 1 * s.val := by rw [← hp]; rfl
  rw [(idx2 t).2] at p1
  show _ = total m c (p 0).val (p 1).val
  rw [show (p 0).val = 1024 * (t.val / 6) + r.val by omega, show (p 1).val = 1536 * (t.val % 6) + s.val by omega]
  rfl
theorem final : (dats m 0 c).arrAt 2 cfg0.N = G m c := (dats m 0 c).arrAt_eq_of_cover 2 (G m c) (flushed_G m c) fun i => by
  have hN : cfg0.N = 12 := N_0
  have h0 : (i 0).val < 2048 := (i 0).isLt
  have h1 : (i 1).val < 9216 := (i 1).isLt
  obtain ⟨t, ht⟩ := fin_of (show 6 * ((i 0).val / 1024) + 1 * ((i 1).val / 1536) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1536 (i 1).val (idx2 t).2 (by omega)

/-- The kernel at the machine's floats terminates, keeps its arguments, and leaves every counter at zero. -/
theorem frame : quiescent_EvWin (hEvWin := EvWin.Gen.facts) := fun m ρ _ => EvWin.Gen.frame m ρ
/-- So does the kernel over the extended reals. -/
theorem frame_ideal : quiescent_EvWinIdeal (hEvWinIdeal := facts) := fun m ρ _ => EvWinIdeal.Gen.frame m ρ
/-- So does the reference over the extended reals. -/
theorem frame_ref : quiescent_EvWinRefIdeal (hEvWinRefIdeal := EvWinRefIdeal.Gen.facts) := fun m ρ _ =>
  (θ_run EvWinRefIdeal.defs _ _).mono (fun r h => ⟨fun c => (h c).2, sem_eq_zero_of_no_sems (by decide) r.2⟩)
    (EvWinRefIdeal.Value.run (F := Ideal) m ρ)
/-- No operation of the kernel is replaced. -/
theorem preserves : preserves_EvWin_EvWinIdeal := trivial
/-- Kernel and reference end with the same array. -/
theorem algebraic : algebraic_EvWinIdeal_EvWinRefIdeal (hEvWinIdeal := facts) (hEvWinRefIdeal := EvWinRefIdeal.Gen.facts) := by
  intro m g m' g' _ hargs
  refine ⟨fun c => G m c, (θ_run defs _ _).mono (fun r h c => ⟨(h c).1.trans (final m c), (h c).2⟩) (run_blocks m g),
    (θ_run EvWinRefIdeal.defs _ _).mono (fun r h c => ⟨(h c).1.trans ?_, (h c).2⟩) (EvWinRefIdeal.Value.run (F := Ideal) m' g')⟩
  obtain ⟨a0, a1⟩ := hargs c
  rw [a0, a1]
  funext i
  obtain ⟨r, s, rfl⟩ : ∃ (r : Fin 2048) (s : Fin 9216), i = ix2 r s := ⟨i 0, i 1, (ix2_eta i).symm⟩
  pointwise []
  show _ = total m c r.val s.val
  unfold total
  rw [sum_first]
  refine Finset.sum_congr rfl fun k _ => ?_
  exact (mul_comm _ _).trans (congrArg₂ (· * ·) (at2_eq _ _ rfl rfl) (at2_eq _ _ rfl rfl))

end Cert.Proof.EvWin

end
-- ==== Proof.EvWdtClaim.lean ====
/- The gradient of the step sizes' projection. -/
module

public import proofs.«01_k».proof.Proof.Mm
public import proofs.«01_k».proof.Proof.Gen.EvWdt.Frame
public import proofs.«01_k».proof.Proof.Gen.EvWdtIdeal.Value
public import proofs.«01_k».proof.Proof.Gen.EvWdtRefIdeal.Run

@[expose] public section

set_option maxRecDepth 16384

noncomputable section

namespace Cert.Proof.EvWdt

open Idealize.ShloMosaic Idealize.ShloMosaic.TcCoe Idealize.SL.Sem Mm EvWdtIdeal EvWdtIdeal.Gen EvWdtIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * n + r) (s)

theorem idx0 : ∀ t : Fin grid0.N, win0_0.index t 0 = 0 ∧ win0_0.index t 1 = t.val := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
/-- One block of the product's terms. -/
theorem block (t : Fin cfg0.N) (r : Fin 1024) (s : Fin 128) (x0 : Vec Ideal S2048x1024 .bf16) (x1 : Vec Ideal S2048x128 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 128 + 1 * s.val = _; rw [(idx1 t).2]; omega)
theorem outA (c i arg3 harg3 arg4 harg4 arg5 harg5 arg6 harg6 x0 x1) (r : Fin 1024) (s : Fin 128) :
    out0_A_2 (F := Ideal) c i arg3 harg3 arg4 harg4 arg5 harg5 arg6 harg6 x0 x1 (ix2 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S2048x1024) hz2, View.ld_unit_zero (S := S2048x128) hz2, View.ld_unit_zero (S := S1024x128) hz2]
  pointwise [k0_pay1]
/-- What a point leaves in the product's block. -/
theorem out_at (t : Fin cfg0.N) (r : Fin 1024) (s : Fin 128) :
    (outsAt0 m c t : Vec Ideal S1024x128 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 128), j = ix2 r s := ⟨j 0, j 1, (ix2_eta j).symm⟩
  rw [View.read_apply]
  refine (out_at m c t r s).trans ?_
  generalize hp : (((cfg0.win 2).blk t).view.emb (ix2 r s) : S2048x128.Idx) = p
  have p0 : (p 0).val = win0_2.index t 0 * 1024 + 1 * r.val := by rw [← hp]; rfl
  rw [(idx2 t).1] at p0
  have p1 : (p 1).val = win0_2.index t 1 * 128 + 1 * s.val := by rw [← hp]; rfl
  rw [(idx2 t).2] at p1
  show _ = total m c (p 0).val (p 1).val
  rw [show (p 0).val = 1024 * t.val + r.val by omega, show (p 1).val = s.val by omega]
  rfl
theorem final : (dats m 0 c).arrAt 2 cfg0.N = G m c := (dats m 0 c).arrAt_eq_of_cover 2 (G m c) (flushed_G m c) fun i => by
  have hN : cfg0.N = 2 := N_0
  have h0 : (i 0).val < 2048 := (i 0).isLt
  have h1 : (i 1).val < 128 := (i 1).isLt
  obtain ⟨t, ht⟩ := fin_of (show 1 * ((i 0).val / 1024) + 1 * ((i 1).val / 128) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 128 (i 1).val (idx2 t).2 (by omega)

/-- The kernel at the machine's floats terminates, keeps its arguments, and leaves every counter at zero. -/
theorem frame : quiescent_EvWdt (hEvWdt := EvWdt.Gen.facts) := fun m ρ _ => EvWdt.Gen.frame m ρ
/-- So does the kernel over the extended reals. -/
theorem frame_ideal : quiescent_EvWdtIdeal (hEvWdtIdeal := facts) := fun m ρ _ => EvWdtIdeal.Gen.frame m ρ
/-- So does the reference over the extended reals. -/
theorem frame_ref : quiescent_EvWdtRefIdeal (hEvWdtRefIdeal := EvWdtRefIdeal.Gen.facts) := fun m ρ _ =>
  (θ_run EvWdtRefIdeal.defs _ _).mono (fun r h => ⟨fun c => (h c).2, sem_eq_zero_of_no_sems (by decide) r.2⟩)
    (EvWdtRefIdeal.Value.run (F := Ideal) m ρ)
/-- No operation of the kernel is replaced. -/
theorem preserves : preserves_EvWdt_EvWdtIdeal := trivial
/-- Kernel and reference end with the same array. -/
theorem algebraic : algebraic_EvWdtIdeal_EvWdtRefIdeal (hEvWdtIdeal := facts) (hEvWdtRefIdeal := EvWdtRefIdeal.Gen.facts) := by
  intro m g m' g' _ hargs
  refine ⟨fun c => G m c, (θ_run defs _ _).mono (fun r h c => ⟨(h c).1.trans (final m c), (h c).2⟩) (run_blocks m g),
    (θ_run EvWdtRefIdeal.defs _ _).mono (fun r h c => ⟨(h c).1.trans ?_, (h c).2⟩) (EvWdtRefIdeal.Value.run (F := Ideal) m' g')⟩
  obtain ⟨a0, a1⟩ := hargs c
  rw [a0, a1]
  funext i
  obtain ⟨r, s, rfl⟩ : ∃ (r : Fin 2048) (s : Fin 128), i = ix2 r s := ⟨i 0, i 1, (ix2_eta i).symm⟩
  pointwise []
  show _ = total m c r.val s.val
  unfold total
  rw [sum_first]
  refine Finset.sum_congr rfl fun k _ => ?_
  exact (mul_comm _ _).trans (congrArg₂ (· * ·) (at2_eq _ _ rfl rfl) (at2_eq _ _ rfl rfl))

end Cert.Proof.EvWdt

end
-- ==== Proof.OdDoClaim.lean ====
/- The gradient at the attention's output. -/
module

public import proofs.«01_k».proof.Proof.Mm
public import proofs.«01_k».proof.Proof.Gen.OdDo.Frame
public import proofs.«01_k».proof.Proof.Gen.OdDoIdeal.Value
public import proofs.«01_k».proof.Proof.Gen.OdDoRefIdeal.Run

@[expose] public section

set_option maxRecDepth 16384

noncomputable section

namespace Cert.Proof.OdDo

open Idealize.ShloMosaic Idealize.ShloMosaic.TcCoe Idealize.SL.Sem Mm OdDoIdeal OdDoIdeal.Gen OdDoIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 2) + r) (1024 * (n % 2) + s)

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
/-- One block of the product's terms. -/
theorem block (t : Fin cfg0.N) (r : Fin 1024) (s : Fin 1024) (x0 : Vec Ideal S1024x2048 .f32) (x1 : Vec Ideal S1024x2048 .bf16) (h0 : x0 = iblk m c 0 t) (h1 : x1 = iblk m c 1 t) :
    ∑ k, x0 (ix2 r k) * x1 (ix2 s k) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 1024 + 1 * s.val = _; rw [(idx1 t).1]; omega) (by show win0_1.index t 1 * 2048 + 1 * k.val = _; rw [(idx1 t).2]; omega)
theorem outA (c i arg3 harg3 arg4 harg4 arg5 harg5 arg6 harg6 x0 x1) (r : Fin 1024) (s : Fin 1024) :
    out0_A_2 (F := Ideal) c i arg3 harg3 arg4 harg4 arg5 harg5 arg6 harg6 x0 x1 (ix2 r s) = ∑ k, x0 (ix2 r k) * x1 (ix2 s k) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 2) + r.val by omega, show (p 1).val = 1024 * (t.val % 2) + s.val by omega]
  rfl
theorem final : (dats m 0 c).arrAt 2 cfg0.N = G m c := (dats m 0 c).arrAt_eq_of_cover 2 (G m c) (flushed_G m c) fun i => by
  have hN : cfg0.N = 4 := N_0
  have h0 : (i 0).val < 2048 := (i 0).isLt
  have h1 : (i 1).val < 2048 := (i 1).isLt
  obtain ⟨t, ht⟩ := fin_of (show 2 * ((i 0).val / 1024) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_OdDo (hOdDo := OdDo.Gen.facts) := fun m ρ _ => OdDo.Gen.frame m ρ
/-- So does the kernel over the extended reals. -/
theorem frame_ideal : quiescent_OdDoIdeal (hOdDoIdeal := facts) := fun m ρ _ => OdDoIdeal.Gen.frame m ρ
/-- So does the reference over the extended reals. -/
theorem frame_ref : quiescent_OdDoRefIdeal (hOdDoRefIdeal := OdDoRefIdeal.Gen.facts) := fun m ρ _ =>
  (θ_run OdDoRefIdeal.defs _ _).mono (fun r h => ⟨fun c => (h c).2, sem_eq_zero_of_no_sems (by decide) r.2⟩)
    (OdDoRefIdeal.Value.run (F := Ideal) m ρ)
/-- No operation of the kernel is replaced. -/
theorem preserves : preserves_OdDo_OdDoIdeal := trivial
/-- Kernel and reference end with the same array. -/
theorem algebraic : algebraic_OdDoIdeal_OdDoRefIdeal (hOdDoIdeal := facts) (hOdDoRefIdeal := OdDoRefIdeal.Gen.facts) := by
  intro m g m' g' _ hargs
  refine ⟨fun c => G m c, (θ_run defs _ _).mono (fun r h c => ⟨(h c).1.trans (final m c), (h c).2⟩) (run_blocks m g),
    (θ_run OdDoRefIdeal.defs _ _).mono (fun r h c => ⟨(h c).1.trans ?_, (h c).2⟩) (OdDoRefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdDo

end
-- ==== Proof.OdWoClaim.lean ====
/- The attention output projection's gradient. -/
module

public import proofs.«01_k».proof.Proof.Mm
public import proofs.«01_k».proof.Proof.Gen.OdWo.Frame
public import proofs.«01_k».proof.Proof.Gen.OdWoIdeal.Value
public import proofs.«01_k».proof.Proof.Gen.OdWoRefIdeal.Run

@[expose] public section

set_option maxRecDepth 16384

noncomputable section

namespace Cert.Proof.OdWo

open Idealize.ShloMosaic Idealize.ShloMosaic.TcCoe Idealize.SL.Sem Mm OdWoIdeal OdWoIdeal.Gen OdWoIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => if (i 0).val = 0 then total m c (i 1).val (i 2).val else (m ((c : Thread nD τ).loc main_arg2)) i
/-- The terms at row `r` and column `s` of grid point `n`'s block. -/
def f (r s n : ℕ) : ℕ → EReal := term m c (1024 * (n / 2) + r) (1024 * (n % 2) + s)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = 0 ∧ win0_2.index t 1 = t.val / 2 ∧ win0_2.index t 2 = t.val % 2 := by decide +kernel
/-- One block of the product's terms. -/
theorem block (t : Fin cfg0.N) (r : Fin 1024) (s : Fin 1024) (x0 : Vec Ideal S2048x1024 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg6 harg6 arg7 harg7 x0 x1) (r : Fin 1024) (s : Fin 1024) :
    out0_A_2 (F := Ideal) c i arg3 harg3 arg4 harg4 arg6 harg6 arg7 harg7 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg6.read_unread, harg7.read_unread, View.ld_unit_zero (S := S2048x1024) hz2, View.ld_unit_zero (S := S1024x1024) hz2]
  pointwise [k0_pay1]
/-- What a point leaves in the product's block. -/
theorem out_at (t : Fin cfg0.N) (r : Fin 1024) (s : Fin 1024) :
    (outsAt0 m c t : Vec Ideal S1x1024x1024 .f32) (ix3 0 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine (out_at m c t r s).trans ?_
  generalize hp : (((cfg0.win 2).blk t).view.emb (ix3 0 r s) : S2x2048x2048.Idx) = p
  have p0 : (p 0).val = win0_2.index t 0 * 1 + 1 * 0 := by rw [← hp]; rfl
  rw [(idx2 t).1] at p0
  have p1 : (p 1).val = win0_2.index t 1 * 1024 + 1 * r.val := by rw [← hp]; rfl
  rw [(idx2 t).2.1] at p1
  have p2 : (p 2).val = win0_2.index t 2 * 1024 + 1 * s.val := by rw [← hp]; rfl
  rw [(idx2 t).2.2] at p2
  show _ = if (p 0).val = 0 then total m c (p 1).val (p 2).val else _
  rw [if_pos (by omega), show (p 1).val = 1024 * (t.val / 2) + r.val by omega, show (p 2).val = 1024 * (t.val % 2) + s.val by omega]
  rfl
theorem cover (i : S2x2048x2048.Idx) (hL : (i 0).val = 0) : ∃ t : Fin cfg0.N, (cfg0.win 2).flush t = true ∧ i ∈ ((cfg0.win 2).blk t).view.set := by
  have hN : cfg0.N = 4 := N_0
  have h0 : (i 0).val < 2 := (i 0).isLt
  have h1 : (i 1).val < 2048 := (i 1).isLt
  have h2 : (i 2).val < 2048 := (i 2).isLt
  obtain ⟨t, ht⟩ := fin_of (show 2 * ((i 1).val / 1024) + 1 * ((i 2).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx2 t).1 (by omega)
  | ⟨1, _⟩ => exact in_blk 1024 (i 1).val (idx2 t).2.1 (by omega)
  | ⟨2, _⟩ => exact in_blk 1024 (i 2).val (idx2 t).2.2 (by omega)
/-- Before the launch the array holds the earlier gradient. -/
theorem V_prev : V m c main_v0 = (m ((c : Thread nD τ).loc main_arg2)) := by
  show StableHlo.after hostOps0 _ _ = _
  after_results; try rfl
theorem final : (dats m 0 c).arrAt 2 cfg0.N = G m c := by
  funext i
  rw [(dats m 0 c).arrAt_eq_piecewise 2 (G m c) (flushed_G m c) i]
  split
  · rfl
  · next hno =>
    rw [A_eq]
    exact (congrFun (V_prev m c) i).trans (if_neg fun h => hno (cover i h)).symm

/-- The kernel at the machine's floats terminates, keeps its arguments, and leaves every counter at zero. -/
theorem frame : quiescent_OdWo (hOdWo := OdWo.Gen.facts) := fun m ρ _ => OdWo.Gen.frame m ρ
/-- So does the kernel over the extended reals. -/
theorem frame_ideal : quiescent_OdWoIdeal (hOdWoIdeal := facts) := fun m ρ _ => OdWoIdeal.Gen.frame m ρ
/-- So does the reference over the extended reals. -/
theorem frame_ref : quiescent_OdWoRefIdeal (hOdWoRefIdeal := OdWoRefIdeal.Gen.facts) := fun m ρ _ =>
  (θ_run OdWoRefIdeal.defs _ _).mono (fun r h => ⟨fun c => (h c).2, sem_eq_zero_of_no_sems (by decide) r.2⟩)
    (OdWoRefIdeal.Value.run (F := Ideal) m ρ)
/-- No operation of the kernel is replaced. -/
theorem preserves : preserves_OdWo_OdWoIdeal := trivial
/-- Kernel and reference end with the same array. -/
theorem algebraic : algebraic_OdWoIdeal_OdWoRefIdeal (hOdWoIdeal := facts) (hOdWoRefIdeal := OdWoRefIdeal.Gen.facts) := by
  intro m g m' g' _ hargs
  refine ⟨fun c => G m c, (θ_run defs _ _).mono (fun r h c => ⟨(h c).1.trans (final m c), (h c).2⟩) (run_blocks m g),
    (θ_run OdWoRefIdeal.defs _ _).mono (fun r h c => ⟨(h c).1.trans ?_, (h c).2⟩) (OdWoRefIdeal.Value.run (F := Ideal) m' g')⟩
  obtain ⟨a0, a1, a2⟩ := hargs c
  rw [a0, a1, a2]
  funext i
  obtain ⟨x, r, s, rfl⟩ : ∃ (x : Fin 2) (r : Fin 2048) (s : Fin 2048), i = ix3 x r s := ⟨i 0, i 1, i 2, (ix3_eta i).symm⟩
  pointwise []
  show _ = if x.val = 0 then total m c r.val s.val else (m ((c : Thread nD τ).loc main_arg2)) (ix3 x r s)
  by_cases h2 : x.val = 0
  · rw [dif_pos (by omega), if_pos h2]
    unfold total
    rw [sum_first]
    refine Finset.sum_congr rfl fun k _ => ?_
    exact (mul_comm _ _).trans (congrArg₂ (· * ·) (at2_eq _ _ rfl rfl) (at2_eq _ _ rfl rfl))
  · rw [if_neg h2, dif_neg (by omega)]
    exact congrArg (fun z => (m ((c : Thread nD τ).loc main_arg2)) (ix3 z r s)) (Fin.ext (by show 1 + (x.val - 1) = x.val; omega))

end Cert.Proof.OdWo

end
-- ==== Proof.OdDcqClaim.lean ====
/- The gradient at the queries' latent. -/
module

public import proofs.«01_k».proof.Proof.Mm
public import proofs.«01_k».proof.Proof.Gen.OdDcq.Frame
public import proofs.«01_k».proof.Proof.Gen.OdDcqIdeal.Value
public import proofs.«01_k».proof.Proof.Gen.OdDcqRefIdeal.Run

@[expose] public section

set_option maxRecDepth 16384

noncomputable section

namespace Cert.Proof.OdDcq

open Idealize.ShloMosaic Idealize.ShloMosaic.TcCoe Idealize.SL.Sem Mm OdDcqIdeal OdDcqIdeal.Gen OdDcqIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 4096, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (s)

theorem idx0 : ∀ t : Fin grid0.N, win0_0.index t 0 = t.val / 4 ∧ win0_0.index t 1 = t.val % 4 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = 0 := by decide +kernel
/-- One block of the product's terms. -/
theorem block (t : Fin cfg0.N) (r : Fin 1024) (s : Fin 512) (x0 : Vec Ideal S1024x1024 .bf16) (x1 : Vec Ideal S512x1024 .bf16) (h0 : x0 = iblk m c 0 t) (h1 : x1 = iblk m c 1 t) :
    ∑ k, x0 (ix2 r k) * x1 (ix2 s k) = ∑ k : Fin 1024, f m c r.val s.val t.val (1024 * (t.val % 4) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1024 + 1 * k.val = _; rw [(idx0 t).2]; omega)
  · exact at2_eq _ _ (by show win0_1.index t 0 * 512 + 1 * s.val = _; rw [(idx1 t).1]; omega) (by show win0_1.index t 1 * 1024 + 1 * k.val = _; rw [(idx1 t).2]; omega)
theorem accA (c i arg3 harg3 arg4 harg4 arg5 harg5 arg6 harg6 hc0 hc1 hc2 x0 x1) (r : Fin 1024) (s : Fin 512) :
    sout0_A_0 (F := Ideal) c i arg3 harg3 arg4 harg4 arg5 harg5 arg6 harg6 hc0 hc1 hc2 x0 x1 (ix2 r s) = ∑ k, x0 (ix2 r k) * x1 (ix2 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
theorem accB (c i arg3 harg3 arg4 harg4 arg5 harg5 arg6 harg6 hc0 hc1 hc2 x0 x1 xs0) (r : Fin 1024) (s : Fin 512) :
    sout0_B_0 (F := Ideal) c i arg3 harg3 arg4 harg4 arg5 harg5 arg6 harg6 hc0 hc1 hc2 x0 x1 xs0 (ix2 r s) = xs0 (ix2 r s) + ∑ k, x0 (ix2 r k) * x1 (ix2 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
theorem outC (c i arg3 harg3 arg4 harg4 arg5 harg5 arg6 harg6 hc0 hc1 hc2 x0 x1 xs0) (r : Fin 1024) (s : Fin 512) :
    out0_C_2 (F := Ideal) c i arg3 harg3 arg4 harg4 arg5 harg5 arg6 harg6 hc0 hc1 hc2 x0 x1 xs0 (ix2 r s) = xs0 (ix2 r s) + ∑ k, x0 (ix2 r k) * x1 (ix2 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
/-- A row and a column of terms stay through a run of grid points. -/
theorem stay (r s n : ℕ) (h : (n + 1) % 4 ≠ 0) : f m c r s (n + 1) = f m c r s n := by
  unfold f
  rw [show (n + 1) / 4 = n / 4 by omega]
/-- What the accumulator holds after a point that is not the last of its run: the terms so far. -/
theorem acc_at (r : Fin 1024) (s : Fin 512) : ∀ n (h : n < cfg0.N), n % 4 ≠ 3 → ((outsAt0 m c n h).2 : Vec Ideal S1024x512 .f32) (ix2 r s)
    = ∑ k ∈ Finset.range (1024 * (n % 4) + 1024), f m c r.val s.val n k := run_sum 1024 4 (by decide) (f m c r.val s.val) (stay m c r.val s.val) cfg0.N
  (fun n h => ((outsAt0 m c n h).2 : Vec Ideal S1024x512 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 4 = 3) (r : Fin 1024) (s : Fin 512) :
    ((outsAt0 m c t.val t.isLt).1 : Vec Ideal S1024x512 .f32) (ix2 r s) = ∑ k ∈ Finset.range 4096, f m c r.val s.val t.val k := by
  rw [outsAt0_C m c t (by omega) (by omega) h]
  dsimp only
  rw [outC, block m c t r s _ _ rfl rfl]
  exact run_last 1024 4 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 512), j = ix2 r s := ⟨j 0, j 1, (ix2_eta j).symm⟩
  rw [View.read_apply]
  refine (out_at m c t ((flush0_2 t).mp hf) r s).trans ?_
  generalize hp : (((cfg0.win 2).blk t).view.emb (ix2 r s) : S2048x512.Idx) = p
  have p0 : (p 0).val = win0_2.index t 0 * 1024 + 1 * r.val := by rw [← hp]; rfl
  rw [(idx2 t).1] at p0
  have p1 : (p 1).val = win0_2.index t 1 * 512 + 1 * s.val := by rw [← hp]; rfl
  rw [(idx2 t).2] at p1
  show _ = total m c (p 0).val (p 1).val
  rw [show (p 0).val = 1024 * (t.val / 4) + r.val by omega, show (p 1).val = s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 512 := (i 1).isLt
  obtain ⟨t, ht⟩ := fin_of (show 4 * ((i 0).val / 1024) + 4 * ((i 1).val / 512) + 3 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 512 (i 1).val (idx2 t).2 (by omega)

/-- The kernel at the machine's floats terminates, keeps its arguments, and leaves every counter at zero. -/
theorem frame : quiescent_OdDcq (hOdDcq := OdDcq.Gen.facts) := fun m ρ _ => OdDcq.Gen.frame m ρ
/-- So does the kernel over the extended reals. -/
theorem frame_ideal : quiescent_OdDcqIdeal (hOdDcqIdeal := facts) := fun m ρ _ => OdDcqIdeal.Gen.frame m ρ
/-- So does the reference over the extended reals. -/
theorem frame_ref : quiescent_OdDcqRefIdeal (hOdDcqRefIdeal := OdDcqRefIdeal.Gen.facts) := fun m ρ _ =>
  (θ_run OdDcqRefIdeal.defs _ _).mono (fun r h => ⟨fun c => (h c).2, sem_eq_zero_of_no_sems (by decide) r.2⟩)
    (OdDcqRefIdeal.Value.run (F := Ideal) m ρ)
/-- No operation of the kernel is replaced. -/
theorem preserves : preserves_OdDcq_OdDcqIdeal := trivial
/-- Kernel and reference end with the same array. -/
theorem algebraic : algebraic_OdDcqIdeal_OdDcqRefIdeal (hOdDcqIdeal := facts) (hOdDcqRefIdeal := OdDcqRefIdeal.Gen.facts) := by
  intro m g m' g' _ hargs
  refine ⟨fun c => G m c, (θ_run defs _ _).mono (fun r h c => ⟨(h c).1.trans (final m c), (h c).2⟩) (run_blocks m g),
    (θ_run OdDcqRefIdeal.defs _ _).mono (fun r h c => ⟨(h c).1.trans ?_, (h c).2⟩) (OdDcqRefIdeal.Value.run (F := Ideal) m' g')⟩
  obtain ⟨a0, a1⟩ := hargs c
  rw [a0, a1]
  funext i
  obtain ⟨r, s, rfl⟩ : ∃ (r : Fin 2048) (s : Fin 512), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdDcq

end
-- ==== Proof.OdWuqClaim.lean ====
/- The gradient of the queries' projection. -/
module

public import proofs.«01_k».proof.Proof.Mm
public import proofs.«01_k».proof.Proof.Gen.OdWuq.Frame
public import proofs.«01_k».proof.Proof.Gen.OdWuqIdeal.Value
public import proofs.«01_k».proof.Proof.Gen.OdWuqRefIdeal.Run

@[expose] public section

set_option maxRecDepth 16384

noncomputable section

namespace Cert.Proof.OdWuq

open Idealize.ShloMosaic Idealize.ShloMosaic.TcCoe Idealize.SL.Sem Mm OdWuqIdeal OdWuqIdeal.Gen OdWuqIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (512 * (n / 4) + r) (1024 * (n % 4) + s)

theorem idx0 : ∀ t : Fin grid0.N, win0_0.index t 0 = 0 ∧ win0_0.index t 1 = t.val / 4 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
/-- One block of the product's terms. -/
theorem block (t : Fin cfg0.N) (r : Fin 512) (s : Fin 1024) (x0 : Vec Ideal S2048x512 .bf16) (x1 : Vec Ideal S2048x1024 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 512 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg5 harg5 arg6 harg6 x0 x1) (r : Fin 512) (s : Fin 1024) :
    out0_A_2 (F := Ideal) c i arg3 harg3 arg4 harg4 arg5 harg5 arg6 harg6 x0 x1 (ix2 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  pointwise [k0_pay1]
/-- What a point leaves in the product's block. -/
theorem out_at (t : Fin cfg0.N) (r : Fin 512) (s : Fin 1024) :
    (outsAt0 m c t : Vec Ideal S512x1024 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 512) (s : Fin 1024), j = ix2 r s := ⟨j 0, j 1, (ix2_eta j).symm⟩
  rw [View.read_apply]
  refine (out_at m c t r s).trans ?_
  generalize hp : (((cfg0.win 2).blk t).view.emb (ix2 r s) : S512x4096.Idx) = p
  have p0 : (p 0).val = win0_2.index t 0 * 512 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 512 * (t.val / 4) + r.val by omega, show (p 1).val = 1024 * (t.val % 4) + s.val by omega]
  rfl
theorem final : (dats m 0 c).arrAt 2 cfg0.N = G m c := (dats m 0 c).arrAt_eq_of_cover 2 (G m c) (flushed_G m c) fun i => by
  have hN : cfg0.N = 4 := N_0
  have h0 : (i 0).val < 512 := (i 0).isLt
  have h1 : (i 1).val < 4096 := (i 1).isLt
  obtain ⟨t, ht⟩ := fin_of (show 4 * ((i 0).val / 512) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 512 (i 0).val (idx2 t).1 (by omega)
  | ⟨1, _⟩ => exact in_blk 1024 (i 1).val (idx2 t).2 (by omega)

/-- The kernel at the machine's floats terminates, keeps its arguments, and leaves every counter at zero. -/
theorem frame : quiescent_OdWuq (hOdWuq := OdWuq.Gen.facts) := fun m ρ _ => OdWuq.Gen.frame m ρ
/-- So does the kernel over the extended reals. -/
theorem frame_ideal : quiescent_OdWuqIdeal (hOdWuqIdeal := facts) := fun m ρ _ => OdWuqIdeal.Gen.frame m ρ
/-- So does the reference over the extended reals. -/
theorem frame_ref : quiescent_OdWuqRefIdeal (hOdWuqRefIdeal := OdWuqRefIdeal.Gen.facts) := fun m ρ _ =>
  (θ_run OdWuqRefIdeal.defs _ _).mono (fun r h => ⟨fun c => (h c).2, sem_eq_zero_of_no_sems (by decide) r.2⟩)
    (OdWuqRefIdeal.Value.run (F := Ideal) m ρ)
/-- No operation of the kernel is replaced. -/
theorem preserves : preserves_OdWuq_OdWuqIdeal := trivial
/-- Kernel and reference end with the same array. -/
theorem algebraic : algebraic_OdWuqIdeal_OdWuqRefIdeal (hOdWuqIdeal := facts) (hOdWuqRefIdeal := OdWuqRefIdeal.Gen.facts) := by
  intro m g m' g' _ hargs
  refine ⟨fun c => G m c, (θ_run defs _ _).mono (fun r h c => ⟨(h c).1.trans (final m c), (h c).2⟩) (run_blocks m g),
    (θ_run OdWuqRefIdeal.defs _ _).mono (fun r h c => ⟨(h c).1.trans ?_, (h c).2⟩) (OdWuqRefIdeal.Value.run (F := Ideal) m' g')⟩
  obtain ⟨a0, a1⟩ := hargs c
  rw [a0, a1]
  funext i
  obtain ⟨r, s, rfl⟩ : ∃ (r : Fin 512) (s : Fin 4096), i = ix2 r s := ⟨i 0, i 1, (ix2_eta i).symm⟩
  pointwise []
  show _ = total m c r.val s.val
  unfold total
  rw [sum_first]
  refine Finset.sum_congr rfl fun k _ => ?_
  exact (mul_comm _ _).trans (congrArg₂ (· * ·) (at2_eq _ _ rfl rfl) (at2_eq _ _ rfl rfl))

end Cert.Proof.OdWuq

end
-- ==== Proof.OdDckvClaim.lean ====
/- The gradient at the keys' and values' latent. -/
module

public import proofs.«01_k».proof.Proof.Mm
public import proofs.«01_k».proof.Proof.Gen.OdDckv.Frame
public import proofs.«01_k».proof.Proof.Gen.OdDckvIdeal.Value
public import proofs.«01_k».proof.Proof.Gen.OdDckvRefIdeal.Run

@[expose] public section

set_option maxRecDepth 16384

noncomputable section

namespace Cert.Proof.OdDckv

open Idealize.ShloMosaic Idealize.ShloMosaic.TcCoe Idealize.SL.Sem Mm OdDckvIdeal OdDckvIdeal.Gen OdDckvIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 4096, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (s)

theorem idx0 : ∀ t : Fin grid0.N, win0_0.index t 0 = t.val / 4 ∧ win0_0.index t 1 = t.val % 4 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = 0 := by decide +kernel
/-- One block of the product's terms. -/
theorem block (t : Fin cfg0.N) (r : Fin 1024) (s : Fin 512) (x0 : Vec Ideal S1024x1024 .f32) (x1 : Vec Ideal S512x1024 .bf16) (h0 : x0 = iblk m c 0 t) (h1 : x1 = iblk m c 1 t) :
    ∑ k, x0 (ix2 r k) * x1 (ix2 s k) = ∑ k : Fin 1024, f m c r.val s.val t.val (1024 * (t.val % 4) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1024 + 1 * k.val = _; rw [(idx0 t).2]; omega)
  · exact at2_eq _ _ (by show win0_1.index t 0 * 512 + 1 * s.val = _; rw [(idx1 t).1]; omega) (by show win0_1.index t 1 * 1024 + 1 * k.val = _; rw [(idx1 t).2]; omega)
theorem accA (c i arg3 harg3 arg4 harg4 arg5 harg5 arg6 harg6 hc0 hc1 hc2 x0 x1) (r : Fin 1024) (s : Fin 512) :
    sout0_A_0 (F := Ideal) c i arg3 harg3 arg4 harg4 arg5 harg5 arg6 harg6 hc0 hc1 hc2 x0 x1 (ix2 r s) = ∑ k, x0 (ix2 r k) * x1 (ix2 s k) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
theorem accB (c i arg3 harg3 arg4 harg4 arg5 harg5 arg6 harg6 hc0 hc1 hc2 x0 x1 xs0) (r : Fin 1024) (s : Fin 512) :
    sout0_B_0 (F := Ideal) c i arg3 harg3 arg4 harg4 arg5 harg5 arg6 harg6 hc0 hc1 hc2 x0 x1 xs0 (ix2 r s) = xs0 (ix2 r s) + ∑ k, x0 (ix2 r k) * x1 (ix2 s k) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
theorem outC (c i arg3 harg3 arg4 harg4 arg5 harg5 arg6 harg6 hc0 hc1 hc2 x0 x1 xs0) (r : Fin 1024) (s : Fin 512) :
    out0_C_2 (F := Ideal) c i arg3 harg3 arg4 harg4 arg5 harg5 arg6 harg6 hc0 hc1 hc2 x0 x1 xs0 (ix2 r s) = xs0 (ix2 r s) + ∑ k, x0 (ix2 r k) * x1 (ix2 s k) := by
  unfold out0_C_2
  rw [View.read_writes_eq_canon _ _ _ (fun _ => cover0_C_2 ..)]
  unfold kernelRun0_C
  dsimp only
  rw [View.canon_unit_zero hz2]
  simp only [View.readAt_eq_ld, harg3.read_unread, harg4.read_unread, harg5.read_unread, harg6.read_unread, View.ld_unit_zero (S := S1024x1024) hz2, View.ld_unit_zero (S := S512x1024) hz2, View.ld_unit_zero (S := S1024x512) hz2]
  pointwise [k0_pay1, k0_pay2, k0_pay3, k0_pay4]
/-- A row and a column of terms stay through a run of grid points. -/
theorem stay (r s n : ℕ) (h : (n + 1) % 4 ≠ 0) : f m c r s (n + 1) = f m c r s n := by
  unfold f
  rw [show (n + 1) / 4 = n / 4 by omega]
/-- What the accumulator holds after a point that is not the last of its run: the terms so far. -/
theorem acc_at (r : Fin 1024) (s : Fin 512) : ∀ n (h : n < cfg0.N), n % 4 ≠ 3 → ((outsAt0 m c n h).2 : Vec Ideal S1024x512 .f32) (ix2 r s)
    = ∑ k ∈ Finset.range (1024 * (n % 4) + 1024), f m c r.val s.val n k := run_sum 1024 4 (by decide) (f m c r.val s.val) (stay m c r.val s.val) cfg0.N
  (fun n h => ((outsAt0 m c n h).2 : Vec Ideal S1024x512 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 4 = 3) (r : Fin 1024) (s : Fin 512) :
    ((outsAt0 m c t.val t.isLt).1 : Vec Ideal S1024x512 .f32) (ix2 r s) = ∑ k ∈ Finset.range 4096, f m c r.val s.val t.val k := by
  rw [outsAt0_C m c t (by omega) (by omega) h]
  dsimp only
  rw [outC, block m c t r s _ _ rfl rfl]
  exact run_last 1024 4 (by decide) _ (stay m c r.val s.val) h (by decide) (acc_at m c r s (t.val - 1) (t.val.sub_le 1 |>.trans_lt t.isLt) (by omega))
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 512), j = ix2 r s := ⟨j 0, j 1, (ix2_eta j).symm⟩
  rw [View.read_apply]
  refine (out_at m c t ((flush0_2 t).mp hf) r s).trans ?_
  generalize hp : (((cfg0.win 2).blk t).view.emb (ix2 r s) : S2048x512.Idx) = p
  have p0 : (p 0).val = win0_2.index t 0 * 1024 + 1 * r.val := by rw [← hp]; rfl
  rw [(idx2 t).1] at p0
  have p1 : (p 1).val = win0_2.index t 1 * 512 + 1 * s.val := by rw [← hp]; rfl
  rw [(idx2 t).2] at p1
  show _ = total m c (p 0).val (p 1).val
  rw [show (p 0).val = 1024 * (t.val / 4) + r.val by omega, show (p 1).val = s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 512 := (i 1).isLt
  obtain ⟨t, ht⟩ := fin_of (show 4 * ((i 0).val / 1024) + 4 * ((i 1).val / 512) + 3 < cfg0.N by omega)
  refine ⟨t, (flush0_2 t).mpr (by omega), ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 512 (i 1).val (idx2 t).2 (by omega)

/-- The kernel at the machine's floats terminates, keeps its arguments, and leaves every counter at zero. -/
theorem frame : quiescent_OdDckv (hOdDckv := OdDckv.Gen.facts) := fun m ρ _ => OdDckv.Gen.frame m ρ
/-- So does the kernel over the extended reals. -/
theorem frame_ideal : quiescent_OdDckvIdeal (hOdDckvIdeal := facts) := fun m ρ _ => OdDckvIdeal.Gen.frame m ρ
/-- So does the reference over the extended reals. -/
theorem frame_ref : quiescent_OdDckvRefIdeal (hOdDckvRefIdeal := OdDckvRefIdeal.Gen.facts) := fun m ρ _ =>
  (θ_run OdDckvRefIdeal.defs _ _).mono (fun r h => ⟨fun c => (h c).2, sem_eq_zero_of_no_sems (by decide) r.2⟩)
    (OdDckvRefIdeal.Value.run (F := Ideal) m ρ)
/-- No operation of the kernel is replaced. -/
theorem preserves : preserves_OdDckv_OdDckvIdeal := trivial
/-- Kernel and reference end with the same array. -/
theorem algebraic : algebraic_OdDckvIdeal_OdDckvRefIdeal (hOdDckvIdeal := facts) (hOdDckvRefIdeal := OdDckvRefIdeal.Gen.facts) := by
  intro m g m' g' _ hargs
  refine ⟨fun c => G m c, (θ_run defs _ _).mono (fun r h c => ⟨(h c).1.trans (final m c), (h c).2⟩) (run_blocks m g),
    (θ_run OdDckvRefIdeal.defs _ _).mono (fun r h c => ⟨(h c).1.trans ?_, (h c).2⟩) (OdDckvRefIdeal.Value.run (F := Ideal) m' g')⟩
  obtain ⟨a0, a1⟩ := hargs c
  rw [a0, a1]
  funext i
  obtain ⟨r, s, rfl⟩ : ∃ (r : Fin 2048) (s : Fin 512), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdDckv

end
-- ==== Proof.OdWukvClaim.lean ====
/- The gradient of the keys' and values' projection. -/
module

public import proofs.«01_k».proof.Proof.Mm
public import proofs.«01_k».proof.Proof.Gen.OdWukv.Frame
public import proofs.«01_k».proof.Proof.Gen.OdWukvIdeal.Value
public import proofs.«01_k».proof.Proof.Gen.OdWukvRefIdeal.Run

@[expose] public section

set_option maxRecDepth 16384

noncomputable section

namespace Cert.Proof.OdWukv

open Idealize.ShloMosaic Idealize.ShloMosaic.TcCoe Idealize.SL.Sem Mm OdWukvIdeal OdWukvIdeal.Gen OdWukvIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (512 * (n / 4) + r) (1024 * (n % 4) + s)

theorem idx0 : ∀ t : Fin grid0.N, win0_0.index t 0 = 0 ∧ win0_0.index t 1 = t.val / 4 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
/-- One block of the product's terms. -/
theorem block (t : Fin cfg0.N) (r : Fin 512) (s : Fin 1024) (x0 : Vec Ideal S2048x512 .bf16) (x1 : Vec Ideal S2048x1024 .f32) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 512 + 1 * r.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem outA (c i arg3 harg3 arg4 harg4 arg5 harg5 arg6 harg6 x0 x1) (r : Fin 512) (s : Fin 1024) :
    out0_A_2 (F := Ideal) c i arg3 harg3 arg4 harg4 arg5 harg5 arg6 harg6 x0 x1 (ix2 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  pointwise [k0_pay1]
/-- What a point leaves in the product's block. -/
theorem out_at (t : Fin cfg0.N) (r : Fin 512) (s : Fin 1024) :
    (outsAt0 m c t : Vec Ideal S512x1024 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 512) (s : Fin 1024), j = ix2 r s := ⟨j 0, j 1, (ix2_eta j).symm⟩
  rw [View.read_apply]
  refine (out_at m c t r s).trans ?_
  generalize hp : (((cfg0.win 2).blk t).view.emb (ix2 r s) : S512x4096.Idx) = p
  have p0 : (p 0).val = win0_2.index t 0 * 512 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 512 * (t.val / 4) + r.val by omega, show (p 1).val = 1024 * (t.val % 4) + s.val by omega]
  rfl
theorem final : (dats m 0 c).arrAt 2 cfg0.N = G m c := (dats m 0 c).arrAt_eq_of_cover 2 (G m c) (flushed_G m c) fun i => by
  have hN : cfg0.N = 4 := N_0
  have h0 : (i 0).val < 512 := (i 0).isLt
  have h1 : (i 1).val < 4096 := (i 1).isLt
  obtain ⟨t, ht⟩ := fin_of (show 4 * ((i 0).val / 512) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 512 (i 0).val (idx2 t).1 (by omega)
  | ⟨1, _⟩ => exact in_blk 1024 (i 1).val (idx2 t).2 (by omega)

/-- The kernel at the machine's floats terminates, keeps its arguments, and leaves every counter at zero. -/
theorem frame : quiescent_OdWukv (hOdWukv := OdWukv.Gen.facts) := fun m ρ _ => OdWukv.Gen.frame m ρ
/-- So does the kernel over the extended reals. -/
theorem frame_ideal : quiescent_OdWukvIdeal (hOdWukvIdeal := facts) := fun m ρ _ => OdWukvIdeal.Gen.frame m ρ
/-- So does the reference over the extended reals. -/
theorem frame_ref : quiescent_OdWukvRefIdeal (hOdWukvRefIdeal := OdWukvRefIdeal.Gen.facts) := fun m ρ _ =>
  (θ_run OdWukvRefIdeal.defs _ _).mono (fun r h => ⟨fun c => (h c).2, sem_eq_zero_of_no_sems (by decide) r.2⟩)
    (OdWukvRefIdeal.Value.run (F := Ideal) m ρ)
/-- No operation of the kernel is replaced. -/
theorem preserves : preserves_OdWukv_OdWukvIdeal := trivial
/-- Kernel and reference end with the same array. -/
theorem algebraic : algebraic_OdWukvIdeal_OdWukvRefIdeal (hOdWukvIdeal := facts) (hOdWukvRefIdeal := OdWukvRefIdeal.Gen.facts) := by
  intro m g m' g' _ hargs
  refine ⟨fun c => G m c, (θ_run defs _ _).mono (fun r h c => ⟨(h c).1.trans (final m c), (h c).2⟩) (run_blocks m g),
    (θ_run OdWukvRefIdeal.defs _ _).mono (fun r h c => ⟨(h c).1.trans ?_, (h c).2⟩) (OdWukvRefIdeal.Value.run (F := Ideal) m' g')⟩
  obtain ⟨a0, a1⟩ := hargs c
  rw [a0, a1]
  funext i
  obtain ⟨r, s, rfl⟩ : ∃ (r : Fin 512) (s : Fin 4096), i = ix2 r s := ⟨i 0, i 1, (ix2_eta i).symm⟩
  pointwise []
  show _ = total m c r.val s.val
  unfold total
  rw [sum_first]
  refine Finset.sum_congr rfl fun k _ => ?_
  exact (mul_comm _ _).trans (congrArg₂ (· * ·) (at2_eq _ _ rfl rfl) (at2_eq _ _ rfl rfl))

end Cert.Proof.OdWukv

end
-- ==== Proof.OdDhnClaim.lean ====
/- The gradient at the odd layers' normalised input. -/
module

public import proofs.«01_k».proof.Proof.Mm
public import proofs.«01_k».proof.Proof.Gen.OdDhn.Frame
public import proofs.«01_k».proof.Proof.Gen.OdDhnIdeal.Value
public import proofs.«01_k».proof.Proof.Gen.OdDhnRefIdeal.Run

@[expose] public section

set_option maxRecDepth 16384

noncomputable section

namespace Cert.Proof.OdDhn

open Idealize.ShloMosaic Idealize.ShloMosaic.TcCoe Idealize.SL.Sem Mm OdDhnIdeal OdDhnIdeal.Gen OdDhnIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) j k
/-- The product's entry there. -/
def total (i j : ℕ) : EReal := ∑ k ∈ Finset.range 1152, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 2) + r) (1024 * (n % 2) + s)

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
/-- One block of the product's terms. -/
theorem block (t : Fin cfg0.N) (r : Fin 1024) (s : Fin 1024) (x0 : Vec Ideal S1024x1152 .bf16) (x1 : Vec Ideal S1024x1152 .bf16) (h0 : x0 = iblk m c 0 t) (h1 : x1 = iblk m c 1 t) :
    ∑ k, x0 (ix2 r k) * x1 (ix2 s k) = ∑ k : Fin 1152, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1152 + 1 * k.val = _; rw [(idx0 t).2]; omega)
  · exact at2_eq _ _ (by show win0_1.index t 0 * 1024 + 1 * s.val = _; rw [(idx1 t).1]; omega) (by show win0_1.index t 1 * 1152 + 1 * k.val = _; rw [(idx1 t).2]; omega)
theorem outA (c i arg3 harg3 arg4 harg4 arg5 harg5 arg6 harg6 x0 x1) (r : Fin 1024) (s : Fin 1024) :
    out0_A_2 (F := Ideal) c i arg3 harg3 arg4 harg4 arg5 harg5 arg6 harg6 x0 x1 (ix2 r s) = ∑ k, x0 (ix2 r k) * x1 (ix2 s k) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x1152) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = ∑ k ∈ Finset.range 1152, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 2).blk t).view.emb (ix2 r s) : S2048x2048.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 2) + r.val by omega, show (p 1).val = 1024 * (t.val % 2) + s.val by omega]
  rfl
theorem final : (dats m 0 c).arrAt 2 cfg0.N = G m c := (dats m 0 c).arrAt_eq_of_cover 2 (G m c) (flushed_G m c) fun i => by
  have hN : cfg0.N = 4 := N_0
  have h0 : (i 0).val < 2048 := (i 0).isLt
  have h1 : (i 1).val < 2048 := (i 1).isLt
  obtain ⟨t, ht⟩ := fin_of (show 2 * ((i 0).val / 1024) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_OdDhn (hOdDhn := OdDhn.Gen.facts) := fun m ρ _ => OdDhn.Gen.frame m ρ
/-- So does the kernel over the extended reals. -/
theorem frame_ideal : quiescent_OdDhnIdeal (hOdDhnIdeal := facts) := fun m ρ _ => OdDhnIdeal.Gen.frame m ρ
/-- So does the reference over the extended reals. -/
theorem frame_ref : quiescent_OdDhnRefIdeal (hOdDhnRefIdeal := OdDhnRefIdeal.Gen.facts) := fun m ρ _ =>
  (θ_run OdDhnRefIdeal.defs _ _).mono (fun r h => ⟨fun c => (h c).2, sem_eq_zero_of_no_sems (by decide) r.2⟩)
    (OdDhnRefIdeal.Value.run (F := Ideal) m ρ)
/-- No operation of the kernel is replaced. -/
theorem preserves : preserves_OdDhn_OdDhnIdeal := trivial
/-- Kernel and reference end with the same array. -/
theorem algebraic : algebraic_OdDhnIdeal_OdDhnRefIdeal (hOdDhnIdeal := facts) (hOdDhnRefIdeal := OdDhnRefIdeal.Gen.facts) := by
  intro m g m' g' _ hargs
  refine ⟨fun c => G m c, (θ_run defs _ _).mono (fun r h c => ⟨(h c).1.trans (final m c), (h c).2⟩) (run_blocks m g),
    (θ_run OdDhnRefIdeal.defs _ _).mono (fun r h c => ⟨(h c).1.trans ?_, (h c).2⟩) (OdDhnRefIdeal.Value.run (F := Ideal) m' g')⟩
  obtain ⟨a0, a1⟩ := hargs c
  rw [a0, a1]
  funext i
  obtain ⟨r, s, rfl⟩ : ∃ (r : Fin 2048) (s : Fin 2048), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdDhn

end
-- ==== Proof.OdWinClaim.lean ====
/- The odd input projection's gradient. -/
module

public import proofs.«01_k».proof.Proof.Mm
public import proofs.«01_k».proof.Proof.Gen.OdWin.Frame
public import proofs.«01_k».proof.Proof.Gen.OdWinIdeal.Value
public import proofs.«01_k».proof.Proof.Gen.OdWinRefIdeal.Run

@[expose] public section

set_option maxRecDepth 16384

noncomputable section

namespace Cert.Proof.OdWin

open Idealize.ShloMosaic Idealize.ShloMosaic.TcCoe Idealize.SL.Sem Mm OdWinIdeal OdWinIdeal.Gen OdWinIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) k i * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * n + r) (s)

theorem idx0 : ∀ t : Fin grid0.N, win0_0.index t 0 = 0 ∧ win0_0.index t 1 = t.val := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
/-- One block of the product's terms. -/
theorem block (t : Fin cfg0.N) (r : Fin 1024) (s : Fin 1152) (x0 : Vec Ideal S2048x1024 .bf16) (x1 : Vec Ideal S2048x1152 .bf16) (h0 : x0 = iblk m c 0 t) (h1 : x1 = iblk m c 1 t) :
    ∑ k, x0 (ix2 k r) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 2048 + 1 * k.val = _; rw [(idx0 t).1]; omega) (by show win0_0.index t 1 * 1024 + 1 * r.val = _; rw [(idx0 t).2]; omega)
  · exact at2_eq _ _ (by show win0_1.index t 0 * 2048 + 1 * k.val = _; rw [(idx1 t).1]; omega) (by show win0_1.index t 1 * 1152 + 1 * s.val = _; rw [(idx1 t).2]; omega)
theorem outA (c i arg3 harg3 arg4 harg4 arg5 harg5 arg6 harg6 x0 x1) (r : Fin 1024) (s : Fin 1152) :
    out0_A_2 (F := Ideal) c i arg3 harg3 arg4 harg4 arg5 harg5 arg6 harg6 x0 x1 (ix2 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S2048x1024) hz2, View.ld_unit_zero (S := S2048x1152) hz2, View.ld_unit_zero (S := S1024x1152) hz2]
  pointwise [k0_pay1]
/-- What a point leaves in the product's block. -/
theorem out_at (t : Fin cfg0.N) (r : Fin 1024) (s : Fin 1152) :
    (outsAt0 m c t : Vec Ideal S1024x1152 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1152), j = ix2 r s := ⟨j 0, j 1, (ix2_eta j).symm⟩
  rw [View.read_apply]
  refine (out_at m c t r s).trans ?_
  generalize hp : (((cfg0.win 2).blk t).view.emb (ix2 r s) : S2048x1152.Idx) = p
  have p0 : (p 0).val = win0_2.index t 0 * 1024 + 1 * r.val := by rw [← hp]; rfl
  rw [(idx2 t).1] at p0
  have p1 : (p 1).val = win0_2.index t 1 * 1152 + 1 * s.val := by rw [← hp]; rfl
  rw [(idx2 t).2] at p1
  show _ = total m c (p 0).val (p 1).val
  rw [show (p 0).val = 1024 * t.val + r.val by omega, show (p 1).val = s.val by omega]
  rfl
theorem final : (dats m 0 c).arrAt 2 cfg0.N = G m c := (dats m 0 c).arrAt_eq_of_cover 2 (G m c) (flushed_G m c) fun i => by
  have hN : cfg0.N = 2 := N_0
  have h0 : (i 0).val < 2048 := (i 0).isLt
  have h1 : (i 1).val < 1152 := (i 1).isLt
  obtain ⟨t, ht⟩ := fin_of (show 1 * ((i 0).val / 1024) + 1 * ((i 1).val / 1152) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1152 (i 1).val (idx2 t).2 (by omega)

/-- The kernel at the machine's floats terminates, keeps its arguments, and leaves every counter at zero. -/
theorem frame : quiescent_OdWin (hOdWin := OdWin.Gen.facts) := fun m ρ _ => OdWin.Gen.frame m ρ
/-- So does the kernel over the extended reals. -/
theorem frame_ideal : quiescent_OdWinIdeal (hOdWinIdeal := facts) := fun m ρ _ => OdWinIdeal.Gen.frame m ρ
/-- So does the reference over the extended reals. -/
theorem frame_ref : quiescent_OdWinRefIdeal (hOdWinRefIdeal := OdWinRefIdeal.Gen.facts) := fun m ρ _ =>
  (θ_run OdWinRefIdeal.defs _ _).mono (fun r h => ⟨fun c => (h c).2, sem_eq_zero_of_no_sems (by decide) r.2⟩)
    (OdWinRefIdeal.Value.run (F := Ideal) m ρ)
/-- No operation of the kernel is replaced. -/
theorem preserves : preserves_OdWin_OdWinIdeal := trivial
/-- Kernel and reference end with the same array. -/
theorem algebraic : algebraic_OdWinIdeal_OdWinRefIdeal (hOdWinIdeal := facts) (hOdWinRefIdeal := OdWinRefIdeal.Gen.facts) := by
  intro m g m' g' _ hargs
  refine ⟨fun c => G m c, (θ_run defs _ _).mono (fun r h c => ⟨(h c).1.trans (final m c), (h c).2⟩) (run_blocks m g),
    (θ_run OdWinRefIdeal.defs _ _).mono (fun r h c => ⟨(h c).1.trans ?_, (h c).2⟩) (OdWinRefIdeal.Value.run (F := Ideal) m' g')⟩
  obtain ⟨a0, a1⟩ := hargs c
  rw [a0, a1]
  funext i
  obtain ⟨r, s, rfl⟩ : ∃ (r : Fin 2048) (s : Fin 1152), i = ix2 r s := ⟨i 0, i 1, (ix2_eta i).symm⟩
  pointwise []
  show _ = total m c r.val s.val
  unfold total
  rw [sum_first]
  refine Finset.sum_congr rfl fun k _ => ?_
  exact (mul_comm _ _).trans (congrArg₂ (· * ·) (at2_eq _ _ rfl rfl) (at2_eq _ _ rfl rfl))

end Cert.Proof.OdWin

end
-- ==== Proof.FwUp0Claim.lean ====
/- The up projection, layer 0. -/
module

public import proofs.«01_k».proof.Proof.Mm
public import proofs.«01_k».proof.Proof.Gen.FwUp0.Frame
public import proofs.«01_k».proof.Proof.Gen.FwUp0Ideal.Value
public import proofs.«01_k».proof.Proof.Gen.FwUp0RefIdeal.Run

@[expose] public section

set_option maxRecDepth 16384

noncomputable section

namespace Cert.Proof.FwUp0

open Idealize.ShloMosaic Idealize.ShloMosaic.TcCoe Idealize.SL.Sem Mm FwUp0Ideal FwUp0Ideal.Gen FwUp0Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (j / 2816) 0 k (j % 2816)
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 8) + r) (1408 * (n % 8) + s)

theorem idx0 : ∀ t : Fin grid0.N, win0_0.index t 0 = t.val / 8 ∧ win0_0.index t 1 = 0 := by decide +kernel
theorem idx1 : ∀ t : Fin grid0.N, win0_1.index t 0 = t.val % 8 / 2 ∧ win0_1.index t 1 = 0 ∧ win0_1.index t 2 = 0 ∧ win0_1.index t 3 = t.val % 8 % 2 := by decide +kernel
theorem idx2 : ∀ t : Fin grid0.N, win0_2.index t 0 = t.val / 8 ∧ win0_2.index t 1 = t.val % 8 := by decide +kernel
/-- One block of the product's terms. -/
theorem block (t : Fin cfg0.N) (r : Fin 1024) (s : Fin 1408) (x0 : Vec Ideal S1024x2048 .bf16) (x1 : Vec Ideal S1x1x2048x1408 .bf16) (h0 : x0 = iblk m c 0 t) (h1 : x1 = iblk m c 1 t) :
    ∑ k, x0 (ix2 r k) * x1 (ix4 0 0 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 2048 + 1 * k.val = _; rw [(idx1 t).2.2.1]; omega) (by show win0_1.index t 3 * 1408 + 1 * s.val = _; rw [(idx1 t).2.2.2]; omega)
theorem outA (c i arg3 harg3 arg4 harg4 arg5 harg5 arg6 harg6 x0 x1) (r : Fin 1024) (s : Fin 1408) :
    out0_A_2 (F := Ideal) c i arg3 harg3 arg4 harg4 arg5 harg5 arg6 harg6 x0 x1 (ix2 r s) = ∑ k, x0 (ix2 r k) * x1 (ix4 0 0 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1x1x2048x1408) hz4, View.ld_unit_zero (S := S1024x1408) hz2]
  pointwise [k0_pay1]
/-- What a point leaves in the product's block. -/
theorem out_at (t : Fin cfg0.N) (r : Fin 1024) (s : Fin 1408) :
    (outsAt0 m c t : Vec Ideal S1024x1408 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1408), j = ix2 r s := ⟨j 0, j 1, (ix2_eta j).symm⟩
  rw [View.read_apply]
  refine (out_at m c t r s).trans ?_
  generalize hp : (((cfg0.win 2).blk t).view.emb (ix2 r s) : S2048x11264.Idx) = p
  have p0 : (p 0).val = win0_2.index t 0 * 1024 + 1 * r.val := by rw [← hp]; rfl
  rw [(idx2 t).1] at p0
  have p1 : (p 1).val = win0_2.index t 1 * 1408 + 1 * s.val := by rw [← hp]; rfl
  rw [(idx2 t).2] at p1
  show _ = total m c (p 0).val (p 1).val
  rw [show (p 0).val = 1024 * (t.val / 8) + r.val by omega, show (p 1).val = 1408 * (t.val % 8) + s.val by omega]
  rfl
theorem final : (dats m 0 c).arrAt 2 cfg0.N = G m c := (dats m 0 c).arrAt_eq_of_cover 2 (G m c) (flushed_G m c) fun i => by
  have hN : cfg0.N = 16 := N_0
  have h0 : (i 0).val < 2048 := (i 0).isLt
  have h1 : (i 1).val < 11264 := (i 1).isLt
  obtain ⟨t, ht⟩ := fin_of (show 8 * ((i 0).val / 1024) + 1 * ((i 1).val / 1408) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1408 (i 1).val (idx2 t).2 (by omega)

/-- The kernel at the machine's floats terminates, keeps its arguments, and leaves every counter at zero. -/
theorem frame : quiescent_FwUp0 (hFwUp0 := FwUp0.Gen.facts) := fun m ρ _ => FwUp0.Gen.frame m ρ
/-- So does the kernel over the extended reals. -/
theorem frame_ideal : quiescent_FwUp0Ideal (hFwUp0Ideal := facts) := fun m ρ _ => FwUp0Ideal.Gen.frame m ρ
/-- So does the reference over the extended reals. -/
theorem frame_ref : quiescent_FwUp0RefIdeal (hFwUp0RefIdeal := FwUp0RefIdeal.Gen.facts) := fun m ρ _ =>
  (θ_run FwUp0RefIdeal.defs _ _).mono (fun r h => ⟨fun c => (h c).2, sem_eq_zero_of_no_sems (by decide) r.2⟩)
    (FwUp0RefIdeal.Value.run (F := Ideal) m ρ)
/-- No operation of the kernel is replaced. -/
theorem preserves : preserves_FwUp0_FwUp0Ideal := trivial
/-- Kernel and reference end with the same array. -/
theorem algebraic : algebraic_FwUp0Ideal_FwUp0RefIdeal (hFwUp0Ideal := facts) (hFwUp0RefIdeal := FwUp0RefIdeal.Gen.facts) := by
  intro m g m' g' _ hargs
  refine ⟨fun c => G m c, (θ_run defs _ _).mono (fun r h c => ⟨(h c).1.trans (final m c), (h c).2⟩) (run_blocks m g),
    (θ_run FwUp0RefIdeal.defs _ _).mono (fun r h c => ⟨(h c).1.trans ?_, (h c).2⟩) (FwUp0RefIdeal.Value.run (F := Ideal) m' g')⟩
  obtain ⟨a0, a1⟩ := hargs c
  rw [a0, a1]
  funext i
  obtain ⟨r, s, rfl⟩ : ∃ (r : Fin 2048) (s : Fin 11264), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FwUp0

end
-- ==== Proof.FwUp1Claim.lean ====
/- The up projection, layer 1. -/
module

public import proofs.«01_k».proof.Proof.Mm
public import proofs.«01_k».proof.Proof.Gen.FwUp1.Frame
public import proofs.«01_k».proof.Proof.Gen.FwUp1Ideal.Value
public import proofs.«01_k».proof.Proof.Gen.FwUp1RefIdeal.Run

@[expose] public section

set_option maxRecDepth 16384

noncomputable section

namespace Cert.Proof.FwUp1

open Idealize.ShloMosaic Idealize.ShloMosaic.TcCoe Idealize.SL.Sem Mm FwUp1Ideal FwUp1Ideal.Gen FwUp1Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (j / 2816) 1 k (j % 2816)
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 8) + r) (1408 * (n % 8) + s)

theorem idx0 : ∀ t : Fin grid0.N, win0_0.index t 0 = t.val / 8 ∧ win0_0.index t 1 = 0 := by decide +kernel
theorem idx1 : ∀ t : Fin grid0.N, win0_1.index t 0 = t.val % 8 / 2 ∧ win0_1.index t 1 = 1 ∧ win0_1.index t 2 = 0 ∧ win0_1.index t 3 = t.val % 8 % 2 := by decide +kernel
theorem idx2 : ∀ t : Fin grid0.N, win0_2.index t 0 = t.val / 8 ∧ win0_2.index t 1 = t.val % 8 := by decide +kernel
/-- One block of the product's terms. -/
theorem block (t : Fin cfg0.N) (r : Fin 1024) (s : Fin 1408) (x0 : Vec Ideal S1024x2048 .bf16) (x1 : Vec Ideal S1x1x2048x1408 .bf16) (h0 : x0 = iblk m c 0 t) (h1 : x1 = iblk m c 1 t) :
    ∑ k, x0 (ix2 r k) * x1 (ix4 0 0 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 2048 + 1 * k.val = _; rw [(idx1 t).2.2.1]; omega) (by show win0_1.index t 3 * 1408 + 1 * s.val = _; rw [(idx1 t).2.2.2]; omega)
theorem outA (c i arg3 harg3 arg4 harg4 arg5 harg5 arg6 harg6 x0 x1) (r : Fin 1024) (s : Fin 1408) :
    out0_A_2 (F := Ideal) c i arg3 harg3 arg4 harg4 arg5 harg5 arg6 harg6 x0 x1 (ix2 r s) = ∑ k, x0 (ix2 r k) * x1 (ix4 0 0 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1x1x2048x1408) hz4, View.ld_unit_zero (S := S1024x1408) hz2]
  pointwise [k0_pay1]
/-- What a point leaves in the product's block. -/
theorem out_at (t : Fin cfg0.N) (r : Fin 1024) (s : Fin 1408) :
    (outsAt0 m c t : Vec Ideal S1024x1408 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1408), j = ix2 r s := ⟨j 0, j 1, (ix2_eta j).symm⟩
  rw [View.read_apply]
  refine (out_at m c t r s).trans ?_
  generalize hp : (((cfg0.win 2).blk t).view.emb (ix2 r s) : S2048x11264.Idx) = p
  have p0 : (p 0).val = win0_2.index t 0 * 1024 + 1 * r.val := by rw [← hp]; rfl
  rw [(idx2 t).1] at p0
  have p1 : (p 1).val = win0_2.index t 1 * 1408 + 1 * s.val := by rw [← hp]; rfl
  rw [(idx2 t).2] at p1
  show _ = total m c (p 0).val (p 1).val
  rw [show (p 0).val = 1024 * (t.val / 8) + r.val by omega, show (p 1).val = 1408 * (t.val % 8) + s.val by omega]
  rfl
theorem final : (dats m 0 c).arrAt 2 cfg0.N = G m c := (dats m 0 c).arrAt_eq_of_cover 2 (G m c) (flushed_G m c) fun i => by
  have hN : cfg0.N = 16 := N_0
  have h0 : (i 0).val < 2048 := (i 0).isLt
  have h1 : (i 1).val < 11264 := (i 1).isLt
  obtain ⟨t, ht⟩ := fin_of (show 8 * ((i 0).val / 1024) + 1 * ((i 1).val / 1408) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1408 (i 1).val (idx2 t).2 (by omega)

/-- The kernel at the machine's floats terminates, keeps its arguments, and leaves every counter at zero. -/
theorem frame : quiescent_FwUp1 (hFwUp1 := FwUp1.Gen.facts) := fun m ρ _ => FwUp1.Gen.frame m ρ
/-- So does the kernel over the extended reals. -/
theorem frame_ideal : quiescent_FwUp1Ideal (hFwUp1Ideal := facts) := fun m ρ _ => FwUp1Ideal.Gen.frame m ρ
/-- So does the reference over the extended reals. -/
theorem frame_ref : quiescent_FwUp1RefIdeal (hFwUp1RefIdeal := FwUp1RefIdeal.Gen.facts) := fun m ρ _ =>
  (θ_run FwUp1RefIdeal.defs _ _).mono (fun r h => ⟨fun c => (h c).2, sem_eq_zero_of_no_sems (by decide) r.2⟩)
    (FwUp1RefIdeal.Value.run (F := Ideal) m ρ)
/-- No operation of the kernel is replaced. -/
theorem preserves : preserves_FwUp1_FwUp1Ideal := trivial
/-- Kernel and reference end with the same array. -/
theorem algebraic : algebraic_FwUp1Ideal_FwUp1RefIdeal (hFwUp1Ideal := facts) (hFwUp1RefIdeal := FwUp1RefIdeal.Gen.facts) := by
  intro m g m' g' _ hargs
  refine ⟨fun c => G m c, (θ_run defs _ _).mono (fun r h c => ⟨(h c).1.trans (final m c), (h c).2⟩) (run_blocks m g),
    (θ_run FwUp1RefIdeal.defs _ _).mono (fun r h c => ⟨(h c).1.trans ?_, (h c).2⟩) (FwUp1RefIdeal.Value.run (F := Ideal) m' g')⟩
  obtain ⟨a0, a1⟩ := hargs c
  rw [a0, a1]
  funext i
  obtain ⟨r, s, rfl⟩ : ∃ (r : Fin 2048) (s : Fin 11264), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FwUp1

end
-- ==== Proof.FwUp2Claim.lean ====
/- The up projection, layer 2. -/
module

public import proofs.«01_k».proof.Proof.Mm
public import proofs.«01_k».proof.Proof.Gen.FwUp2.Frame
public import proofs.«01_k».proof.Proof.Gen.FwUp2Ideal.Value
public import proofs.«01_k».proof.Proof.Gen.FwUp2RefIdeal.Run

@[expose] public section

set_option maxRecDepth 16384

noncomputable section

namespace Cert.Proof.FwUp2

open Idealize.ShloMosaic Idealize.ShloMosaic.TcCoe Idealize.SL.Sem Mm FwUp2Ideal FwUp2Ideal.Gen FwUp2Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (j / 2816) 2 k (j % 2816)
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 8) + r) (1408 * (n % 8) + s)

theorem idx0 : ∀ t : Fin grid0.N, win0_0.index t 0 = t.val / 8 ∧ win0_0.index t 1 = 0 := by decide +kernel
theorem idx1 : ∀ t : Fin grid0.N, win0_1.index t 0 = t.val % 8 / 2 ∧ win0_1.index t 1 = 2 ∧ win0_1.index t 2 = 0 ∧ win0_1.index t 3 = t.val % 8 % 2 := by decide +kernel
theorem idx2 : ∀ t : Fin grid0.N, win0_2.index t 0 = t.val / 8 ∧ win0_2.index t 1 = t.val % 8 := by decide +kernel
/-- One block of the product's terms. -/
theorem block (t : Fin cfg0.N) (r : Fin 1024) (s : Fin 1408) (x0 : Vec Ideal S1024x2048 .bf16) (x1 : Vec Ideal S1x1x2048x1408 .bf16) (h0 : x0 = iblk m c 0 t) (h1 : x1 = iblk m c 1 t) :
    ∑ k, x0 (ix2 r k) * x1 (ix4 0 0 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 2048 + 1 * k.val = _; rw [(idx1 t).2.2.1]; omega) (by show win0_1.index t 3 * 1408 + 1 * s.val = _; rw [(idx1 t).2.2.2]; omega)
theorem outA (c i arg3 harg3 arg4 harg4 arg5 harg5 arg6 harg6 x0 x1) (r : Fin 1024) (s : Fin 1408) :
    out0_A_2 (F := Ideal) c i arg3 harg3 arg4 harg4 arg5 harg5 arg6 harg6 x0 x1 (ix2 r s) = ∑ k, x0 (ix2 r k) * x1 (ix4 0 0 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1x1x2048x1408) hz4, View.ld_unit_zero (S := S1024x1408) hz2]
  pointwise [k0_pay1]
/-- What a point leaves in the product's block. -/
theorem out_at (t : Fin cfg0.N) (r : Fin 1024) (s : Fin 1408) :
    (outsAt0 m c t : Vec Ideal S1024x1408 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1408), j = ix2 r s := ⟨j 0, j 1, (ix2_eta j).symm⟩
  rw [View.read_apply]
  refine (out_at m c t r s).trans ?_
  generalize hp : (((cfg0.win 2).blk t).view.emb (ix2 r s) : S2048x11264.Idx) = p
  have p0 : (p 0).val = win0_2.index t 0 * 1024 + 1 * r.val := by rw [← hp]; rfl
  rw [(idx2 t).1] at p0
  have p1 : (p 1).val = win0_2.index t 1 * 1408 + 1 * s.val := by rw [← hp]; rfl
  rw [(idx2 t).2] at p1
  show _ = total m c (p 0).val (p 1).val
  rw [show (p 0).val = 1024 * (t.val / 8) + r.val by omega, show (p 1).val = 1408 * (t.val % 8) + s.val by omega]
  rfl
theorem final : (dats m 0 c).arrAt 2 cfg0.N = G m c := (dats m 0 c).arrAt_eq_of_cover 2 (G m c) (flushed_G m c) fun i => by
  have hN : cfg0.N = 16 := N_0
  have h0 : (i 0).val < 2048 := (i 0).isLt
  have h1 : (i 1).val < 11264 := (i 1).isLt
  obtain ⟨t, ht⟩ := fin_of (show 8 * ((i 0).val / 1024) + 1 * ((i 1).val / 1408) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1408 (i 1).val (idx2 t).2 (by omega)

/-- The kernel at the machine's floats terminates, keeps its arguments, and leaves every counter at zero. -/
theorem frame : quiescent_FwUp2 (hFwUp2 := FwUp2.Gen.facts) := fun m ρ _ => FwUp2.Gen.frame m ρ
/-- So does the kernel over the extended reals. -/
theorem frame_ideal : quiescent_FwUp2Ideal (hFwUp2Ideal := facts) := fun m ρ _ => FwUp2Ideal.Gen.frame m ρ
/-- So does the reference over the extended reals. -/
theorem frame_ref : quiescent_FwUp2RefIdeal (hFwUp2RefIdeal := FwUp2RefIdeal.Gen.facts) := fun m ρ _ =>
  (θ_run FwUp2RefIdeal.defs _ _).mono (fun r h => ⟨fun c => (h c).2, sem_eq_zero_of_no_sems (by decide) r.2⟩)
    (FwUp2RefIdeal.Value.run (F := Ideal) m ρ)
/-- No operation of the kernel is replaced. -/
theorem preserves : preserves_FwUp2_FwUp2Ideal := trivial
/-- Kernel and reference end with the same array. -/
theorem algebraic : algebraic_FwUp2Ideal_FwUp2RefIdeal (hFwUp2Ideal := facts) (hFwUp2RefIdeal := FwUp2RefIdeal.Gen.facts) := by
  intro m g m' g' _ hargs
  refine ⟨fun c => G m c, (θ_run defs _ _).mono (fun r h c => ⟨(h c).1.trans (final m c), (h c).2⟩) (run_blocks m g),
    (θ_run FwUp2RefIdeal.defs _ _).mono (fun r h c => ⟨(h c).1.trans ?_, (h c).2⟩) (FwUp2RefIdeal.Value.run (F := Ideal) m' g')⟩
  obtain ⟨a0, a1⟩ := hargs c
  rw [a0, a1]
  funext i
  obtain ⟨r, s, rfl⟩ : ∃ (r : Fin 2048) (s : Fin 11264), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FwUp2

end
-- ==== Proof.FwUp3Claim.lean ====
/- The up projection, layer 3. -/
module

public import proofs.«01_k».proof.Proof.Mm
public import proofs.«01_k».proof.Proof.Gen.FwUp3.Frame
public import proofs.«01_k».proof.Proof.Gen.FwUp3Ideal.Value
public import proofs.«01_k».proof.Proof.Gen.FwUp3RefIdeal.Run

@[expose] public section

set_option maxRecDepth 16384

noncomputable section

namespace Cert.Proof.FwUp3

open Idealize.ShloMosaic Idealize.ShloMosaic.TcCoe Idealize.SL.Sem Mm FwUp3Ideal FwUp3Ideal.Gen FwUp3Ideal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at4 (m ((c : Thread nD τ).loc main_arg1)) (j / 2816) 3 k (j % 2816)
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 8) + r) (1408 * (n % 8) + s)

theorem idx0 : ∀ t : Fin grid0.N, win0_0.index t 0 = t.val / 8 ∧ win0_0.index t 1 = 0 := by decide +kernel
theorem idx1 : ∀ t : Fin grid0.N, win0_1.index t 0 = t.val % 8 / 2 ∧ win0_1.index t 1 = 3 ∧ win0_1.index t 2 = 0 ∧ win0_1.index t 3 = t.val % 8 % 2 := by decide +kernel
theorem idx2 : ∀ t : Fin grid0.N, win0_2.index t 0 = t.val / 8 ∧ win0_2.index t 1 = t.val % 8 := by decide +kernel
/-- One block of the product's terms. -/
theorem block (t : Fin cfg0.N) (r : Fin 1024) (s : Fin 1408) (x0 : Vec Ideal S1024x2048 .bf16) (x1 : Vec Ideal S1x1x2048x1408 .bf16) (h0 : x0 = iblk m c 0 t) (h1 : x1 = iblk m c 1 t) :
    ∑ k, x0 (ix2 r k) * x1 (ix4 0 0 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at4_eq _ _ (by show win0_1.index t 0 * 1 + 1 * 0 = _; rw [(idx1 t).1]; omega) (by show win0_1.index t 1 * 1 + 1 * 0 = _; rw [(idx1 t).2.1]) (by show win0_1.index t 2 * 2048 + 1 * k.val = _; rw [(idx1 t).2.2.1]; omega) (by show win0_1.index t 3 * 1408 + 1 * s.val = _; rw [(idx1 t).2.2.2]; omega)
theorem outA (c i arg3 harg3 arg4 harg4 arg5 harg5 arg6 harg6 x0 x1) (r : Fin 1024) (s : Fin 1408) :
    out0_A_2 (F := Ideal) c i arg3 harg3 arg4 harg4 arg5 harg5 arg6 harg6 x0 x1 (ix2 r s) = ∑ k, x0 (ix2 r k) * x1 (ix4 0 0 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1x1x2048x1408) hz4, View.ld_unit_zero (S := S1024x1408) hz2]
  pointwise [k0_pay1]
/-- What a point leaves in the product's block. -/
theorem out_at (t : Fin cfg0.N) (r : Fin 1024) (s : Fin 1408) :
    (outsAt0 m c t : Vec Ideal S1024x1408 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1408), j = ix2 r s := ⟨j 0, j 1, (ix2_eta j).symm⟩
  rw [View.read_apply]
  refine (out_at m c t r s).trans ?_
  generalize hp : (((cfg0.win 2).blk t).view.emb (ix2 r s) : S2048x11264.Idx) = p
  have p0 : (p 0).val = win0_2.index t 0 * 1024 + 1 * r.val := by rw [← hp]; rfl
  rw [(idx2 t).1] at p0
  have p1 : (p 1).val = win0_2.index t 1 * 1408 + 1 * s.val := by rw [← hp]; rfl
  rw [(idx2 t).2] at p1
  show _ = total m c (p 0).val (p 1).val
  rw [show (p 0).val = 1024 * (t.val / 8) + r.val by omega, show (p 1).val = 1408 * (t.val % 8) + s.val by omega]
  rfl
theorem final : (dats m 0 c).arrAt 2 cfg0.N = G m c := (dats m 0 c).arrAt_eq_of_cover 2 (G m c) (flushed_G m c) fun i => by
  have hN : cfg0.N = 16 := N_0
  have h0 : (i 0).val < 2048 := (i 0).isLt
  have h1 : (i 1).val < 11264 := (i 1).isLt
  obtain ⟨t, ht⟩ := fin_of (show 8 * ((i 0).val / 1024) + 1 * ((i 1).val / 1408) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1408 (i 1).val (idx2 t).2 (by omega)

/-- The kernel at the machine's floats terminates, keeps its arguments, and leaves every counter at zero. -/
theorem frame : quiescent_FwUp3 (hFwUp3 := FwUp3.Gen.facts) := fun m ρ _ => FwUp3.Gen.frame m ρ
/-- So does the kernel over the extended reals. -/
theorem frame_ideal : quiescent_FwUp3Ideal (hFwUp3Ideal := facts) := fun m ρ _ => FwUp3Ideal.Gen.frame m ρ
/-- So does the reference over the extended reals. -/
theorem frame_ref : quiescent_FwUp3RefIdeal (hFwUp3RefIdeal := FwUp3RefIdeal.Gen.facts) := fun m ρ _ =>
  (θ_run FwUp3RefIdeal.defs _ _).mono (fun r h => ⟨fun c => (h c).2, sem_eq_zero_of_no_sems (by decide) r.2⟩)
    (FwUp3RefIdeal.Value.run (F := Ideal) m ρ)
/-- No operation of the kernel is replaced. -/
theorem preserves : preserves_FwUp3_FwUp3Ideal := trivial
/-- Kernel and reference end with the same array. -/
theorem algebraic : algebraic_FwUp3Ideal_FwUp3RefIdeal (hFwUp3Ideal := facts) (hFwUp3RefIdeal := FwUp3RefIdeal.Gen.facts) := by
  intro m g m' g' _ hargs
  refine ⟨fun c => G m c, (θ_run defs _ _).mono (fun r h c => ⟨(h c).1.trans (final m c), (h c).2⟩) (run_blocks m g),
    (θ_run FwUp3RefIdeal.defs _ _).mono (fun r h c => ⟨(h c).1.trans ?_, (h c).2⟩) (FwUp3RefIdeal.Value.run (F := Ideal) m' g')⟩
  obtain ⟨a0, a1⟩ := hargs c
  rw [a0, a1]
  funext i
  obtain ⟨r, s, rfl⟩ : ∃ (r : Fin 2048) (s : Fin 11264), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at4_eq _ _ rfl rfl rfl rfl)

end Cert.Proof.FwUp3

end
-- ==== Proof.FwDownClaim.lean ====
/- The down projection. -/
module

public import proofs.«01_k».proof.Proof.Mm
public import proofs.«01_k».proof.Proof.Gen.FwDown.Frame
public import proofs.«01_k».proof.Proof.Gen.FwDownIdeal.Value
public import proofs.«01_k».proof.Proof.Gen.FwDownRefIdeal.Run

@[expose] public section

set_option maxRecDepth 16384

noncomputable section

namespace Cert.Proof.FwDown

open Idealize.ShloMosaic Idealize.ShloMosaic.TcCoe Idealize.SL.Sem Mm FwDownIdeal FwDownIdeal.Gen FwDownIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 5632, term m c i j k
/-- The product's array. -/
def G : Buf (Elt Ideal) ((c : Thread nD τ).loc main_v0) := fun i => (total m c (i 0).val (i 1).val) + at2 (m ((c : Thread nD τ).loc main_arg2)) (i 0).val (i 1).val
/-- The terms at row `r` and column `s` of grid point `n`'s block. -/
def f (r s n : ℕ) : ℕ → EReal := term m c (1024 * (n / 8) + r) (1024 * (n / 4 % 2) + s)

theorem idx0 : ∀ t : Fin grid0.N, win0_0.index t 0 = t.val / 8 ∧ win0_0.index t 1 = t.val % 4 := by decide +kernel
theorem idx1 : ∀ t : Fin grid0.N, win0_1.index t 0 = t.val % 4 ∧ win0_1.index t 1 = t.val / 4 % 2 := by decide +kernel
theorem idx2 : ∀ t : Fin grid0.N, win0_2.index t 0 = t.val / 8 ∧ win0_2.index t 1 = t.val / 4 % 2 := by decide +kernel
theorem idx3 : ∀ t : Fin grid0.N, win0_3.index t 0 = t.val / 8 ∧ win0_3.index t 1 = t.val / 4 % 2 := by decide +kernel
/-- One block of the product's terms. -/
theorem block (t : Fin cfg0.N) (r : Fin 1024) (s : Fin 1024) (x0 : Vec Ideal S1024x1408 .bf16) (x1 : Vec Ideal S1408x1024 .bf16) (h0 : x0 = iblk m c 0 t) (h1 : x1 = iblk m c 1 t) :
    ∑ k, x0 (ix2 r k) * x1 (ix2 k s) = ∑ k : Fin 1408, f m c r.val s.val t.val (1408 * (t.val % 4) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1408 + 1 * k.val = _; rw [(idx0 t).2]; omega)
  · exact at2_eq _ _ (by show win0_1.index t 0 * 1408 + 1 * k.val = _; rw [(idx1 t).1]; omega) (by show win0_1.index t 1 * 1024 + 1 * s.val = _; rw [(idx1 t).2]; omega)
theorem iblk2 (t : Fin cfg0.N) (r : Fin 1024) (s : Fin 1024) :
    (iblk m c 2 t : Vec Ideal S1024x1024 .f32) (ix2 r s) = at2 (m ((c : Thread nD τ).loc main_arg2)) (1024 * (t.val / 8) + r.val) (1024 * (t.val / 4 % 2) + s.val) := by
  unfold iblk
  rw [View.read_apply]
  exact (congrFun (V_main_arg2 m c) _).trans (at2_eq _ _ (by show win0_2.index t 0 * 1024 + 1 * r.val = _; rw [(idx2 t).1]; omega) (by show win0_2.index t 1 * 1024 + 1 * s.val = _; rw [(idx2 t).2]; omega))
theorem accA (c i arg3 harg3 arg4 harg4 arg5 harg5 arg6 harg6 arg7 harg7 hc0 hc1 hc2 x0 x1 x2) (r : Fin 1024) (s : Fin 1024) :
    sout0_A_0 (F := Ideal) c i arg3 harg3 arg4 harg4 arg5 harg5 arg6 harg6 arg7 harg7 hc0 hc1 hc2 x0 x1 x2 (ix2 r s) = ∑ k, x0 (ix2 r k) * x1 (ix2 k s) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, harg7.read_unread, View.ld_unit_zero (S := S1024x1408) hz2, View.ld_unit_zero (S := S1408x1024) hz2, View.ld_unit_zero (S := S1024x1024) hz2]
  pointwise [k0_pay1, k0_pay2, k0_pay3, k0_pay4]
theorem accB (c i arg3 harg3 arg4 harg4 arg5 harg5 arg6 harg6 arg7 harg7 hc0 hc1 hc2 x0 x1 x2 xs0) (r : Fin 1024) (s : Fin 1024) :
    sout0_B_0 (F := Ideal) c i arg3 harg3 arg4 harg4 arg5 harg5 arg6 harg6 arg7 harg7 hc0 hc1 hc2 x0 x1 x2 xs0 (ix2 r s) = xs0 (ix2 r s) + ∑ k, x0 (ix2 r k) * x1 (ix2 k s) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, harg7.read_unread, View.ld_unit_zero (S := S1024x1408) hz2, View.ld_unit_zero (S := S1408x1024) hz2, View.ld_unit_zero (S := S1024x1024) hz2]
  pointwise [k0_pay1, k0_pay2, k0_pay3, k0_pay4]
theorem outC (c i arg3 harg3 arg4 harg4 arg5 harg5 arg6 harg6 arg7 harg7 hc0 hc1 hc2 x0 x1 x2 xs0) (r : Fin 1024) (s : Fin 1024) :
    out0_C_3 (F := Ideal) c i arg3 harg3 arg4 harg4 arg5 harg5 arg6 harg6 arg7 harg7 hc0 hc1 hc2 x0 x1 x2 xs0 (ix2 r s) = xs0 (ix2 r s) + ∑ k, x0 (ix2 r k) * x1 (ix2 k s) + x2 (ix2 r s) := by
  unfold out0_C_3
  rw [View.read_writes_eq_canon _ _ _ (fun _ => cover0_C_3 ..)]
  unfold kernelRun0_C
  dsimp only
  rw [View.canon_unit_zero hz2]
  simp only [View.readAt_eq_ld, harg3.read_unread, harg4.read_unread, harg5.read_unread, harg6.read_unread, harg7.read_unread, View.ld_unit_zero (S := S1024x1408) hz2, View.ld_unit_zero (S := S1408x1024) hz2, View.ld_unit_zero (S := S1024x1024) hz2]
  pointwise [k0_pay1, k0_pay2, k0_pay3, k0_pay4]
/-- A row and a column of terms stay through a run of grid points. -/
theorem stay (r s n : ℕ) (h : (n + 1) % 4 ≠ 0) : f m c r s (n + 1) = f m c r s n := by
  unfold f
  rw [show (n + 1) / 8 = n / 8 by omega, show (n + 1) / 4 % 2 = n / 4 % 2 by omega]
/-- What the accumulator holds after a point that is not the last of its run: the terms so far. -/
theorem acc_at (r : Fin 1024) (s : Fin 1024) : ∀ n (h : n < cfg0.N), n % 4 ≠ 3 → ((outsAt0 m c n h).2 : Vec Ideal S1024x1024 .f32) (ix2 r s)
    = ∑ k ∈ Finset.range (1408 * (n % 4) + 1408), f m c r.val s.val n k := run_sum 1408 4 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 4 = 3) (r : Fin 1024) (s : Fin 1024) :
    ((outsAt0 m c t.val t.isLt).1 : Vec Ideal S1024x1024 .f32) (ix2 r s) = (∑ k ∈ Finset.range 5632, f m c r.val s.val t.val k) + at2 (m ((c : Thread nD τ).loc main_arg2)) (1024 * (t.val / 8) + r.val) (1024 * (t.val / 4 % 2) + s.val) := by
  rw [outsAt0_C m c t (by omega) (by omega) h]
  dsimp only
  rw [outC, block m c t r s _ _ rfl rfl, iblk2]
  exact congrArg (· + _) (run_last 1408 4 (by decide) _ (stay m c r.val s.val) h (by decide) (acc_at m c r s (t.val - 1) (t.val.sub_le 1 |>.trans_lt t.isLt) (by omega)))
theorem flushed_G (t : Fin cfg0.N) (hf : (cfg0.win 3).flush t = true) :
    (dats m 0 c).flushed 3 t = ((cfg0.win 3).blk t).view.read (Elt Ideal) (G m c) := by
  rw [flushed3]
  funext j
  obtain ⟨r, s, rfl⟩ : ∃ (r : Fin 1024) (s : Fin 1024), j = ix2 r s := ⟨j 0, j 1, (ix2_eta j).symm⟩
  rw [View.read_apply]
  refine (out_at m c t ((flush0_3 t).mp hf) r s).trans ?_
  generalize hp : (((cfg0.win 3).blk t).view.emb (ix2 r s) : S2048x2048.Idx) = p
  have p0 : (p 0).val = win0_3.index t 0 * 1024 + 1 * r.val := by rw [← hp]; rfl
  rw [(idx3 t).1] at p0
  have p1 : (p 1).val = win0_3.index t 1 * 1024 + 1 * s.val := by rw [← hp]; rfl
  rw [(idx3 t).2] at p1
  show _ = (total m c (p 0).val (p 1).val) + at2 (m ((c : Thread nD τ).loc main_arg2)) (p 0).val (p 1).val
  rw [show (p 0).val = 1024 * (t.val / 8) + r.val by omega, show (p 1).val = 1024 * (t.val / 4 % 2) + s.val by omega]
  rfl
theorem final : (dats m 0 c).arrAt 3 cfg0.N = G m c := (dats m 0 c).arrAt_eq_of_cover 3 (G m c) (flushed_G m c) fun i => by
  have hN : cfg0.N = 16 := N_0
  have h0 : (i 0).val < 2048 := (i 0).isLt
  have h1 : (i 1).val < 2048 := (i 1).isLt
  obtain ⟨t, ht⟩ := fin_of (show 8 * ((i 0).val / 1024) + 4 * ((i 1).val / 1024) + 3 < cfg0.N by omega)
  refine ⟨t, (flush0_3 t).mpr (by omega), ?_⟩
  show i ∈ ((View.whole main_v0).slice (win0_3.rect t)).set
  rw [View.set_slice_whole, Rect.mem_set_unit]
  intro q
  match q with
  | ⟨0, _⟩ => exact in_blk 1024 (i 0).val (idx3 t).1 (by omega)
  | ⟨1, _⟩ => exact in_blk 1024 (i 1).val (idx3 t).2 (by omega)

/-- The kernel at the machine's floats terminates, keeps its arguments, and leaves every counter at zero. -/
theorem frame : quiescent_FwDown (hFwDown := FwDown.Gen.facts) := fun m ρ _ => FwDown.Gen.frame m ρ
/-- So does the kernel over the extended reals. -/
theorem frame_ideal : quiescent_FwDownIdeal (hFwDownIdeal := facts) := fun m ρ _ => FwDownIdeal.Gen.frame m ρ
/-- So does the reference over the extended reals. -/
theorem frame_ref : quiescent_FwDownRefIdeal (hFwDownRefIdeal := FwDownRefIdeal.Gen.facts) := fun m ρ _ =>
  (θ_run FwDownRefIdeal.defs _ _).mono (fun r h => ⟨fun c => (h c).2, sem_eq_zero_of_no_sems (by decide) r.2⟩)
    (FwDownRefIdeal.Value.run (F := Ideal) m ρ)
/-- No operation of the kernel is replaced. -/
theorem preserves : preserves_FwDown_FwDownIdeal := trivial
/-- Kernel and reference end with the same array. -/
theorem algebraic : algebraic_FwDownIdeal_FwDownRefIdeal (hFwDownIdeal := facts) (hFwDownRefIdeal := FwDownRefIdeal.Gen.facts) := by
  intro m g m' g' _ hargs
  refine ⟨fun c => G m c, (θ_run defs _ _).mono (fun r h c => ⟨(h c).1.trans (final m c), (h c).2⟩) (run_blocks m g),
    (θ_run FwDownRefIdeal.defs _ _).mono (fun r h c => ⟨(h c).1.trans ?_, (h c).2⟩) (FwDownRefIdeal.Value.run (F := Ideal) m' g')⟩
  obtain ⟨a0, a1, a2⟩ := hargs c
  rw [a0, a1, a2]
  funext i
  obtain ⟨r, s, rfl⟩ : ∃ (r : Fin 2048) (s : Fin 2048), i = ix2 r s := ⟨i 0, i 1, (ix2_eta i).symm⟩
  pointwise []
  show _ = (total m c r.val s.val) + at2 (m ((c : Thread nD τ).loc main_arg2)) r.val s.val
  unfold total
  rw [sum_first]
  refine (add_comm _ _).trans (congrArg₂ (· + ·) ?_ (at2_eq _ _ rfl rfl))
  refine Finset.sum_congr rfl fun k _ => ?_
  exact congrArg₂ (· * ·) (at2_eq _ _ rfl rfl) (at2_eq _ _ rfl rfl)

end Cert.Proof.FwDown

end
-- ==== Proof.EvInClaim.lean ====
/- The even input projection. -/
module

public import proofs.«01_k».proof.Proof.Mm
public import proofs.«01_k».proof.Proof.Gen.EvIn.Frame
public import proofs.«01_k».proof.Proof.Gen.EvInIdeal.Value
public import proofs.«01_k».proof.Proof.Gen.EvInRefIdeal.Run

@[expose] public section

set_option maxRecDepth 16384

noncomputable section

namespace Cert.Proof.EvIn

open Idealize.ShloMosaic Idealize.ShloMosaic.TcCoe Idealize.SL.Sem Mm EvInIdeal EvInIdeal.Gen EvInIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 6) + r) (1536 * (n % 6) + s)

theorem idx0 : ∀ t : Fin grid0.N, win0_0.index t 0 = t.val / 6 ∧ win0_0.index t 1 = 0 := by decide +kernel
theorem idx1 : ∀ t : Fin grid0.N, win0_1.index t 0 = 0 ∧ win0_1.index t 1 = t.val % 6 := by decide +kernel
theorem idx2 : ∀ t : Fin grid0.N, win0_2.index t 0 = t.val / 6 ∧ win0_2.index t 1 = t.val % 6 := by decide +kernel
/-- One block of the product's terms. -/
theorem block (t : Fin cfg0.N) (r : Fin 1024) (s : Fin 1536) (x0 : Vec Ideal S1024x2048 .bf16) (x1 : Vec Ideal S2048x1536 .bf16) (h0 : x0 = iblk m c 0 t) (h1 : x1 = iblk m c 1 t) :
    ∑ k, x0 (ix2 r k) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 2048 + 1 * k.val = _; rw [(idx1 t).1]; omega) (by show win0_1.index t 1 * 1536 + 1 * s.val = _; rw [(idx1 t).2]; omega)
theorem outA (c i arg3 harg3 arg4 harg4 arg5 harg5 arg6 harg6 x0 x1) (r : Fin 1024) (s : Fin 1536) :
    out0_A_2 (F := Ideal) c i arg3 harg3 arg4 harg4 arg5 harg5 arg6 harg6 x0 x1 (ix2 r s) = ∑ k, x0 (ix2 r k) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S2048x1536) hz2, View.ld_unit_zero (S := S1024x1536) hz2]
  pointwise [k0_pay1]
/-- What a point leaves in the product's block. -/
theorem out_at (t : Fin cfg0.N) (r : Fin 1024) (s : Fin 1536) :
    (outsAt0 m c t : Vec Ideal S1024x1536 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1536), j = ix2 r s := ⟨j 0, j 1, (ix2_eta j).symm⟩
  rw [View.read_apply]
  refine (out_at m c t r s).trans ?_
  generalize hp : (((cfg0.win 2).blk t).view.emb (ix2 r s) : S2048x9216.Idx) = p
  have p0 : (p 0).val = win0_2.index t 0 * 1024 + 1 * r.val := by rw [← hp]; rfl
  rw [(idx2 t).1] at p0
  have p1 : (p 1).val = win0_2.index t 1 * 1536 + 1 * s.val := by rw [← hp]; rfl
  rw [(idx2 t).2] at p1
  show _ = total m c (p 0).val (p 1).val
  rw [show (p 0).val = 1024 * (t.val / 6) + r.val by omega, show (p 1).val = 1536 * (t.val % 6) + s.val by omega]
  rfl
theorem final : (dats m 0 c).arrAt 2 cfg0.N = G m c := (dats m 0 c).arrAt_eq_of_cover 2 (G m c) (flushed_G m c) fun i => by
  have hN : cfg0.N = 12 := N_0
  have h0 : (i 0).val < 2048 := (i 0).isLt
  have h1 : (i 1).val < 9216 := (i 1).isLt
  obtain ⟨t, ht⟩ := fin_of (show 6 * ((i 0).val / 1024) + 1 * ((i 1).val / 1536) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1536 (i 1).val (idx2 t).2 (by omega)

/-- The kernel at the machine's floats terminates, keeps its arguments, and leaves every counter at zero. -/
theorem frame : quiescent_EvIn (hEvIn := EvIn.Gen.facts) := fun m ρ _ => EvIn.Gen.frame m ρ
/-- So does the kernel over the extended reals. -/
theorem frame_ideal : quiescent_EvInIdeal (hEvInIdeal := facts) := fun m ρ _ => EvInIdeal.Gen.frame m ρ
/-- So does the reference over the extended reals. -/
theorem frame_ref : quiescent_EvInRefIdeal (hEvInRefIdeal := EvInRefIdeal.Gen.facts) := fun m ρ _ =>
  (θ_run EvInRefIdeal.defs _ _).mono (fun r h => ⟨fun c => (h c).2, sem_eq_zero_of_no_sems (by decide) r.2⟩)
    (EvInRefIdeal.Value.run (F := Ideal) m ρ)
/-- No operation of the kernel is replaced. -/
theorem preserves : preserves_EvIn_EvInIdeal := trivial
/-- Kernel and reference end with the same array. -/
theorem algebraic : algebraic_EvInIdeal_EvInRefIdeal (hEvInIdeal := facts) (hEvInRefIdeal := EvInRefIdeal.Gen.facts) := by
  intro m g m' g' _ hargs
  refine ⟨fun c => G m c, (θ_run defs _ _).mono (fun r h c => ⟨(h c).1.trans (final m c), (h c).2⟩) (run_blocks m g),
    (θ_run EvInRefIdeal.defs _ _).mono (fun r h c => ⟨(h c).1.trans ?_, (h c).2⟩) (EvInRefIdeal.Value.run (F := Ideal) m' g')⟩
  obtain ⟨a0, a1⟩ := hargs c
  rw [a0, a1]
  funext i
  obtain ⟨r, s, rfl⟩ : ∃ (r : Fin 2048) (s : Fin 9216), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.EvIn

end
-- ==== Proof.EvInDtClaim.lean ====
/- The step sizes' projection. -/
module

public import proofs.«01_k».proof.Proof.Mm
public import proofs.«01_k».proof.Proof.Gen.EvInDt.Frame
public import proofs.«01_k».proof.Proof.Gen.EvInDtIdeal.Value
public import proofs.«01_k».proof.Proof.Gen.EvInDtRefIdeal.Run

@[expose] public section

set_option maxRecDepth 16384

noncomputable section

namespace Cert.Proof.EvInDt

open Idealize.ShloMosaic Idealize.ShloMosaic.TcCoe Idealize.SL.Sem Mm EvInDtIdeal EvInDtIdeal.Gen EvInDtIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * n + r) (s)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
/-- One block of the product's terms. -/
theorem block (t : Fin cfg0.N) (r : Fin 1024) (s : Fin 128) (x0 : Vec Ideal S1024x2048 .bf16) (x1 : Vec Ideal S2048x128 .bf16) (h0 : x0 = iblk m c 0 t) (h1 : x1 = iblk m c 1 t) :
    ∑ k, x0 (ix2 r k) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 2048 + 1 * k.val = _; rw [(idx1 t).1]; omega) (by show win0_1.index t 1 * 128 + 1 * s.val = _; rw [(idx1 t).2]; omega)
theorem outA (c i arg3 harg3 arg4 harg4 arg5 harg5 arg6 harg6 x0 x1) (r : Fin 1024) (s : Fin 128) :
    out0_A_2 (F := Ideal) c i arg3 harg3 arg4 harg4 arg5 harg5 arg6 harg6 x0 x1 (ix2 r s) = ∑ k, x0 (ix2 r k) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S2048x128) hz2, View.ld_unit_zero (S := S1024x128) hz2]
  pointwise [k0_pay1]
/-- What a point leaves in the product's block. -/
theorem out_at (t : Fin cfg0.N) (r : Fin 1024) (s : Fin 128) :
    (outsAt0 m c t : Vec Ideal S1024x128 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 128), j = ix2 r s := ⟨j 0, j 1, (ix2_eta j).symm⟩
  rw [View.read_apply]
  refine (out_at m c t r s).trans ?_
  generalize hp : (((cfg0.win 2).blk t).view.emb (ix2 r s) : S2048x128.Idx) = p
  have p0 : (p 0).val = win0_2.index t 0 * 1024 + 1 * r.val := by rw [← hp]; rfl
  rw [(idx2 t).1] at p0
  have p1 : (p 1).val = win0_2.index t 1 * 128 + 1 * s.val := by rw [← hp]; rfl
  rw [(idx2 t).2] at p1
  show _ = total m c (p 0).val (p 1).val
  rw [show (p 0).val = 1024 * t.val + r.val by omega, show (p 1).val = s.val by omega]
  rfl
theorem final : (dats m 0 c).arrAt 2 cfg0.N = G m c := (dats m 0 c).arrAt_eq_of_cover 2 (G m c) (flushed_G m c) fun i => by
  have hN : cfg0.N = 2 := N_0
  have h0 : (i 0).val < 2048 := (i 0).isLt
  have h1 : (i 1).val < 128 := (i 1).isLt
  obtain ⟨t, ht⟩ := fin_of (show 1 * ((i 0).val / 1024) + 1 * ((i 1).val / 128) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 128 (i 1).val (idx2 t).2 (by omega)

/-- The kernel at the machine's floats terminates, keeps its arguments, and leaves every counter at zero. -/
theorem frame : quiescent_EvInDt (hEvInDt := EvInDt.Gen.facts) := fun m ρ _ => EvInDt.Gen.frame m ρ
/-- So does the kernel over the extended reals. -/
theorem frame_ideal : quiescent_EvInDtIdeal (hEvInDtIdeal := facts) := fun m ρ _ => EvInDtIdeal.Gen.frame m ρ
/-- So does the reference over the extended reals. -/
theorem frame_ref : quiescent_EvInDtRefIdeal (hEvInDtRefIdeal := EvInDtRefIdeal.Gen.facts) := fun m ρ _ =>
  (θ_run EvInDtRefIdeal.defs _ _).mono (fun r h => ⟨fun c => (h c).2, sem_eq_zero_of_no_sems (by decide) r.2⟩)
    (EvInDtRefIdeal.Value.run (F := Ideal) m ρ)
/-- No operation of the kernel is replaced. -/
theorem preserves : preserves_EvInDt_EvInDtIdeal := trivial
/-- Kernel and reference end with the same array. -/
theorem algebraic : algebraic_EvInDtIdeal_EvInDtRefIdeal (hEvInDtIdeal := facts) (hEvInDtRefIdeal := EvInDtRefIdeal.Gen.facts) := by
  intro m g m' g' _ hargs
  refine ⟨fun c => G m c, (θ_run defs _ _).mono (fun r h c => ⟨(h c).1.trans (final m c), (h c).2⟩) (run_blocks m g),
    (θ_run EvInDtRefIdeal.defs _ _).mono (fun r h c => ⟨(h c).1.trans ?_, (h c).2⟩) (EvInDtRefIdeal.Value.run (F := Ideal) m' g')⟩
  obtain ⟨a0, a1⟩ := hargs c
  rw [a0, a1]
  funext i
  obtain ⟨r, s, rfl⟩ : ∃ (r : Fin 2048) (s : Fin 128), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.EvInDt

end
-- ==== Proof.EvOutClaim.lean ====
/- The even output projection. -/
module

public import proofs.«01_k».proof.Proof.Mm
public import proofs.«01_k».proof.Proof.Gen.EvOut.Frame
public import proofs.«01_k».proof.Proof.Gen.EvOutIdeal.Value
public import proofs.«01_k».proof.Proof.Gen.EvOutRefIdeal.Run

@[expose] public section

set_option maxRecDepth 16384

noncomputable section

namespace Cert.Proof.EvOut

open Idealize.ShloMosaic Idealize.ShloMosaic.TcCoe Idealize.SL.Sem Mm EvOutIdeal EvOutIdeal.Gen EvOutIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 4096, term m c i j k
/-- The product's array. -/
def G : Buf (Elt Ideal) ((c : Thread nD τ).loc main_v0) := fun i => (total m c (i 0).val (i 1).val) + at2 (m ((c : Thread nD τ).loc main_arg2)) (i 0).val (i 1).val
/-- The terms at row `r` and column `s` of grid point `n`'s block. -/
def f (r s n : ℕ) : ℕ → EReal := term m c (1024 * (n / 8) + r) (1024 * (n / 4 % 2) + s)

theorem idx0 : ∀ t : Fin grid0.N, win0_0.index t 0 = t.val / 8 ∧ win0_0.index t 1 = t.val % 4 := by decide +kernel
theorem idx1 : ∀ t : Fin grid0.N, win0_1.index t 0 = t.val % 4 ∧ win0_1.index t 1 = t.val / 4 % 2 := by decide +kernel
theorem idx2 : ∀ t : Fin grid0.N, win0_2.index t 0 = t.val / 8 ∧ win0_2.index t 1 = t.val / 4 % 2 := by decide +kernel
theorem idx3 : ∀ t : Fin grid0.N, win0_3.index t 0 = t.val / 8 ∧ win0_3.index t 1 = t.val / 4 % 2 := by decide +kernel
/-- One block of the product's terms. -/
theorem block (t : Fin cfg0.N) (r : Fin 1024) (s : Fin 1024) (x0 : Vec Ideal S1024x1024 .bf16) (x1 : Vec Ideal S1024x1024 .bf16) (h0 : x0 = iblk m c 0 t) (h1 : x1 = iblk m c 1 t) :
    ∑ k, x0 (ix2 r k) * x1 (ix2 k s) = ∑ k : Fin 1024, f m c r.val s.val t.val (1024 * (t.val % 4) + k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 1024 + 1 * k.val = _; rw [(idx0 t).2]; omega)
  · exact at2_eq _ _ (by show win0_1.index t 0 * 1024 + 1 * k.val = _; rw [(idx1 t).1]; omega) (by show win0_1.index t 1 * 1024 + 1 * s.val = _; rw [(idx1 t).2]; omega)
theorem iblk2 (t : Fin cfg0.N) (r : Fin 1024) (s : Fin 1024) :
    (iblk m c 2 t : Vec Ideal S1024x1024 .f32) (ix2 r s) = at2 (m ((c : Thread nD τ).loc main_arg2)) (1024 * (t.val / 8) + r.val) (1024 * (t.val / 4 % 2) + s.val) := by
  unfold iblk
  rw [View.read_apply]
  exact (congrFun (V_main_arg2 m c) _).trans (at2_eq _ _ (by show win0_2.index t 0 * 1024 + 1 * r.val = _; rw [(idx2 t).1]; omega) (by show win0_2.index t 1 * 1024 + 1 * s.val = _; rw [(idx2 t).2]; omega))
theorem accA (c i arg3 harg3 arg4 harg4 arg5 harg5 arg6 harg6 arg7 harg7 hc0 hc1 hc2 x0 x1 x2) (r : Fin 1024) (s : Fin 1024) :
    sout0_A_0 (F := Ideal) c i arg3 harg3 arg4 harg4 arg5 harg5 arg6 harg6 arg7 harg7 hc0 hc1 hc2 x0 x1 x2 (ix2 r s) = ∑ k, x0 (ix2 r k) * x1 (ix2 k s) := by
  unfold sout0_A_0
  rw [View.read_writes_eq_canon _ _ _ (fun _ => scover0_A_0 ..)]
  unfold kernelRun0_A
  dsimp only
  rw [View.canon_unit_zero hz2]
  simp only [View.readAt_eq_ld, harg3.read_unread, harg4.read_unread, harg5.read_unread, harg6.read_unread, harg7.read_unread, View.ld_unit_zero (S := S1024x1024) hz2]
  pointwise [k0_pay1, k0_pay2, k0_pay3, k0_pay4]
theorem accB (c i arg3 harg3 arg4 harg4 arg5 harg5 arg6 harg6 arg7 harg7 hc0 hc1 hc2 x0 x1 x2 xs0) (r : Fin 1024) (s : Fin 1024) :
    sout0_B_0 (F := Ideal) c i arg3 harg3 arg4 harg4 arg5 harg5 arg6 harg6 arg7 harg7 hc0 hc1 hc2 x0 x1 x2 xs0 (ix2 r s) = xs0 (ix2 r s) + ∑ k, x0 (ix2 r k) * x1 (ix2 k s) := by
  unfold sout0_B_0
  rw [View.read_writes_eq_canon _ _ _ (fun _ => scover0_B_0 ..)]
  unfold kernelRun0_B
  dsimp only
  rw [View.canon_unit_zero hz2]
  simp only [View.readAt_eq_ld, harg3.read_unread, harg4.read_unread, harg5.read_unread, harg6.read_unread, harg7.read_unread, View.ld_unit_zero (S := S1024x1024) hz2]
  pointwise [k0_pay1, k0_pay2, k0_pay3, k0_pay4]
theorem outC (c i arg3 harg3 arg4 harg4 arg5 harg5 arg6 harg6 arg7 harg7 hc0 hc1 hc2 x0 x1 x2 xs0) (r : Fin 1024) (s : Fin 1024) :
    out0_C_3 (F := Ideal) c i arg3 harg3 arg4 harg4 arg5 harg5 arg6 harg6 arg7 harg7 hc0 hc1 hc2 x0 x1 x2 xs0 (ix2 r s) = xs0 (ix2 r s) + ∑ k, x0 (ix2 r k) * x1 (ix2 k s) + x2 (ix2 r s) := by
  unfold out0_C_3
  rw [View.read_writes_eq_canon _ _ _ (fun _ => cover0_C_3 ..)]
  unfold kernelRun0_C
  dsimp only
  rw [View.canon_unit_zero hz2]
  simp only [View.readAt_eq_ld, harg3.read_unread, harg4.read_unread, harg5.read_unread, harg6.read_unread, harg7.read_unread, View.ld_unit_zero (S := S1024x1024) hz2]
  pointwise [k0_pay1, k0_pay2, k0_pay3, k0_pay4]
/-- A row and a column of terms stay through a run of grid points. -/
theorem stay (r s n : ℕ) (h : (n + 1) % 4 ≠ 0) : f m c r s (n + 1) = f m c r s n := by
  unfold f
  rw [show (n + 1) / 8 = n / 8 by omega, show (n + 1) / 4 % 2 = n / 4 % 2 by omega]
/-- What the accumulator holds after a point that is not the last of its run: the terms so far. -/
theorem acc_at (r : Fin 1024) (s : Fin 1024) : ∀ n (h : n < cfg0.N), n % 4 ≠ 3 → ((outsAt0 m c n h).2 : Vec Ideal S1024x1024 .f32) (ix2 r s)
    = ∑ k ∈ Finset.range (1024 * (n % 4) + 1024), f m c r.val s.val n k := run_sum 1024 4 (by decide) (f m c r.val s.val) (stay m c r.val s.val) cfg0.N
  (fun n h => ((outsAt0 m c n h).2 : Vec Ideal S1024x1024 .f32) (ix2 r s))
  (fun n h h0 => by rw [outsAt0_A m c ⟨n, h⟩ h0 (by dsimp only; omega) (by dsimp only; omega)]; dsimp only; rw [accA, block m c ⟨n, h⟩ r s _ _ rfl rfl])
  (fun n h h0 h1 => by rw [outsAt0_B m c ⟨n + 1, h⟩ h0 (by dsimp only; omega) (by dsimp only; omega)]; dsimp only; rw [accB, block m c ⟨n + 1, h⟩ r s _ _ rfl rfl]; rfl)
/-- What the last point of a run leaves in the product's block. -/
theorem out_at (t : Fin cfg0.N) (h : t.val % 4 = 3) (r : Fin 1024) (s : Fin 1024) :
    ((outsAt0 m c t.val t.isLt).1 : Vec Ideal S1024x1024 .f32) (ix2 r s) = (∑ k ∈ Finset.range 4096, f m c r.val s.val t.val k) + at2 (m ((c : Thread nD τ).loc main_arg2)) (1024 * (t.val / 8) + r.val) (1024 * (t.val / 4 % 2) + s.val) := by
  rw [outsAt0_C m c t (by omega) (by omega) h]
  dsimp only
  rw [outC, block m c t r s _ _ rfl rfl, iblk2]
  exact congrArg (· + _) (run_last 1024 4 (by decide) _ (stay m c r.val s.val) h (by decide) (acc_at m c r s (t.val - 1) (t.val.sub_le 1 |>.trans_lt t.isLt) (by omega)))
theorem flushed_G (t : Fin cfg0.N) (hf : (cfg0.win 3).flush t = true) :
    (dats m 0 c).flushed 3 t = ((cfg0.win 3).blk t).view.read (Elt Ideal) (G m c) := by
  rw [flushed3]
  funext j
  obtain ⟨r, s, rfl⟩ : ∃ (r : Fin 1024) (s : Fin 1024), j = ix2 r s := ⟨j 0, j 1, (ix2_eta j).symm⟩
  rw [View.read_apply]
  refine (out_at m c t ((flush0_3 t).mp hf) r s).trans ?_
  generalize hp : (((cfg0.win 3).blk t).view.emb (ix2 r s) : S2048x2048.Idx) = p
  have p0 : (p 0).val = win0_3.index t 0 * 1024 + 1 * r.val := by rw [← hp]; rfl
  rw [(idx3 t).1] at p0
  have p1 : (p 1).val = win0_3.index t 1 * 1024 + 1 * s.val := by rw [← hp]; rfl
  rw [(idx3 t).2] at p1
  show _ = (total m c (p 0).val (p 1).val) + at2 (m ((c : Thread nD τ).loc main_arg2)) (p 0).val (p 1).val
  rw [show (p 0).val = 1024 * (t.val / 8) + r.val by omega, show (p 1).val = 1024 * (t.val / 4 % 2) + s.val by omega]
  rfl
theorem final : (dats m 0 c).arrAt 3 cfg0.N = G m c := (dats m 0 c).arrAt_eq_of_cover 3 (G m c) (flushed_G m c) fun i => by
  have hN : cfg0.N = 16 := N_0
  have h0 : (i 0).val < 2048 := (i 0).isLt
  have h1 : (i 1).val < 2048 := (i 1).isLt
  obtain ⟨t, ht⟩ := fin_of (show 8 * ((i 0).val / 1024) + 4 * ((i 1).val / 1024) + 3 < cfg0.N by omega)
  refine ⟨t, (flush0_3 t).mpr (by omega), ?_⟩
  show i ∈ ((View.whole main_v0).slice (win0_3.rect t)).set
  rw [View.set_slice_whole, Rect.mem_set_unit]
  intro q
  match q with
  | ⟨0, _⟩ => exact in_blk 1024 (i 0).val (idx3 t).1 (by omega)
  | ⟨1, _⟩ => exact in_blk 1024 (i 1).val (idx3 t).2 (by omega)

/-- The kernel at the machine's floats terminates, keeps its arguments, and leaves every counter at zero. -/
theorem frame : quiescent_EvOut (hEvOut := EvOut.Gen.facts) := fun m ρ _ => EvOut.Gen.frame m ρ
/-- So does the kernel over the extended reals. -/
theorem frame_ideal : quiescent_EvOutIdeal (hEvOutIdeal := facts) := fun m ρ _ => EvOutIdeal.Gen.frame m ρ
/-- So does the reference over the extended reals. -/
theorem frame_ref : quiescent_EvOutRefIdeal (hEvOutRefIdeal := EvOutRefIdeal.Gen.facts) := fun m ρ _ =>
  (θ_run EvOutRefIdeal.defs _ _).mono (fun r h => ⟨fun c => (h c).2, sem_eq_zero_of_no_sems (by decide) r.2⟩)
    (EvOutRefIdeal.Value.run (F := Ideal) m ρ)
/-- No operation of the kernel is replaced. -/
theorem preserves : preserves_EvOut_EvOutIdeal := trivial
/-- Kernel and reference end with the same array. -/
theorem algebraic : algebraic_EvOutIdeal_EvOutRefIdeal (hEvOutIdeal := facts) (hEvOutRefIdeal := EvOutRefIdeal.Gen.facts) := by
  intro m g m' g' _ hargs
  refine ⟨fun c => G m c, (θ_run defs _ _).mono (fun r h c => ⟨(h c).1.trans (final m c), (h c).2⟩) (run_blocks m g),
    (θ_run EvOutRefIdeal.defs _ _).mono (fun r h c => ⟨(h c).1.trans ?_, (h c).2⟩) (EvOutRefIdeal.Value.run (F := Ideal) m' g')⟩
  obtain ⟨a0, a1, a2⟩ := hargs c
  rw [a0, a1, a2]
  funext i
  obtain ⟨r, s, rfl⟩ : ∃ (r : Fin 2048) (s : Fin 2048), i = ix2 r s := ⟨i 0, i 1, (ix2_eta i).symm⟩
  pointwise []
  show _ = (total m c r.val s.val) + at2 (m ((c : Thread nD τ).loc main_arg2)) r.val s.val
  unfold total
  rw [sum_first]
  refine (add_comm _ _).trans (congrArg₂ (· + ·) ?_ (at2_eq _ _ rfl rfl))
  refine Finset.sum_congr rfl fun k _ => ?_
  exact congrArg₂ (· * ·) (at2_eq _ _ rfl rfl) (at2_eq _ _ rfl rfl)

end Cert.Proof.EvOut

end
-- ==== Proof.OdInClaim.lean ====
/- The odd input projection. -/
module

public import proofs.«01_k».proof.Proof.Mm
public import proofs.«01_k».proof.Proof.Gen.OdIn.Frame
public import proofs.«01_k».proof.Proof.Gen.OdInIdeal.Value
public import proofs.«01_k».proof.Proof.Gen.OdInRefIdeal.Run

@[expose] public section

set_option maxRecDepth 16384

noncomputable section

namespace Cert.Proof.OdIn

open Idealize.ShloMosaic Idealize.ShloMosaic.TcCoe Idealize.SL.Sem Mm OdInIdeal OdInIdeal.Gen OdInIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * n + r) (s)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
/-- One block of the product's terms. -/
theorem block (t : Fin cfg0.N) (r : Fin 1024) (s : Fin 1152) (x0 : Vec Ideal S1024x2048 .bf16) (x1 : Vec Ideal S2048x1152 .bf16) (h0 : x0 = iblk m c 0 t) (h1 : x1 = iblk m c 1 t) :
    ∑ k, x0 (ix2 r k) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 2048 + 1 * k.val = _; rw [(idx1 t).1]; omega) (by show win0_1.index t 1 * 1152 + 1 * s.val = _; rw [(idx1 t).2]; omega)
theorem outA (c i arg3 harg3 arg4 harg4 arg5 harg5 arg6 harg6 x0 x1) (r : Fin 1024) (s : Fin 1152) :
    out0_A_2 (F := Ideal) c i arg3 harg3 arg4 harg4 arg5 harg5 arg6 harg6 x0 x1 (ix2 r s) = ∑ k, x0 (ix2 r k) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S2048x1152) hz2, View.ld_unit_zero (S := S1024x1152) hz2]
  pointwise [k0_pay1]
/-- What a point leaves in the product's block. -/
theorem out_at (t : Fin cfg0.N) (r : Fin 1024) (s : Fin 1152) :
    (outsAt0 m c t : Vec Ideal S1024x1152 .f32) (ix2 r s) = ∑ k ∈ Finset.range 2048, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1152), j = ix2 r s := ⟨j 0, j 1, (ix2_eta j).symm⟩
  rw [View.read_apply]
  refine (out_at m c t r s).trans ?_
  generalize hp : (((cfg0.win 2).blk t).view.emb (ix2 r s) : S2048x1152.Idx) = p
  have p0 : (p 0).val = win0_2.index t 0 * 1024 + 1 * r.val := by rw [← hp]; rfl
  rw [(idx2 t).1] at p0
  have p1 : (p 1).val = win0_2.index t 1 * 1152 + 1 * s.val := by rw [← hp]; rfl
  rw [(idx2 t).2] at p1
  show _ = total m c (p 0).val (p 1).val
  rw [show (p 0).val = 1024 * t.val + r.val by omega, show (p 1).val = s.val by omega]
  rfl
theorem final : (dats m 0 c).arrAt 2 cfg0.N = G m c := (dats m 0 c).arrAt_eq_of_cover 2 (G m c) (flushed_G m c) fun i => by
  have hN : cfg0.N = 2 := N_0
  have h0 : (i 0).val < 2048 := (i 0).isLt
  have h1 : (i 1).val < 1152 := (i 1).isLt
  obtain ⟨t, ht⟩ := fin_of (show 1 * ((i 0).val / 1024) + 1 * ((i 1).val / 1152) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1152 (i 1).val (idx2 t).2 (by omega)

/-- The kernel at the machine's floats terminates, keeps its arguments, and leaves every counter at zero. -/
theorem frame : quiescent_OdIn (hOdIn := OdIn.Gen.facts) := fun m ρ _ => OdIn.Gen.frame m ρ
/-- So does the kernel over the extended reals. -/
theorem frame_ideal : quiescent_OdInIdeal (hOdInIdeal := facts) := fun m ρ _ => OdInIdeal.Gen.frame m ρ
/-- So does the reference over the extended reals. -/
theorem frame_ref : quiescent_OdInRefIdeal (hOdInRefIdeal := OdInRefIdeal.Gen.facts) := fun m ρ _ =>
  (θ_run OdInRefIdeal.defs _ _).mono (fun r h => ⟨fun c => (h c).2, sem_eq_zero_of_no_sems (by decide) r.2⟩)
    (OdInRefIdeal.Value.run (F := Ideal) m ρ)
/-- No operation of the kernel is replaced. -/
theorem preserves : preserves_OdIn_OdInIdeal := trivial
/-- Kernel and reference end with the same array. -/
theorem algebraic : algebraic_OdInIdeal_OdInRefIdeal (hOdInIdeal := facts) (hOdInRefIdeal := OdInRefIdeal.Gen.facts) := by
  intro m g m' g' _ hargs
  refine ⟨fun c => G m c, (θ_run defs _ _).mono (fun r h c => ⟨(h c).1.trans (final m c), (h c).2⟩) (run_blocks m g),
    (θ_run OdInRefIdeal.defs _ _).mono (fun r h c => ⟨(h c).1.trans ?_, (h c).2⟩) (OdInRefIdeal.Value.run (F := Ideal) m' g')⟩
  obtain ⟨a0, a1⟩ := hargs c
  rw [a0, a1]
  funext i
  obtain ⟨r, s, rfl⟩ : ∃ (r : Fin 2048) (s : Fin 1152), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdIn

end
-- ==== Proof.OdUqClaim.lean ====
/- The queries' projection. -/
module

public import proofs.«01_k».proof.Proof.Mm
public import proofs.«01_k».proof.Proof.Gen.OdUq.Frame
public import proofs.«01_k».proof.Proof.Gen.OdUqIdeal.Value
public import proofs.«01_k».proof.Proof.Gen.OdUqRefIdeal.Run

@[expose] public section

set_option maxRecDepth 16384

noncomputable section

namespace Cert.Proof.OdUq

open Idealize.ShloMosaic Idealize.ShloMosaic.TcCoe Idealize.SL.Sem Mm OdUqIdeal OdUqIdeal.Gen OdUqIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 512, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (1024 * (n % 4) + s)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
/-- One block of the product's terms. -/
theorem block (t : Fin cfg0.N) (r : Fin 1024) (s : Fin 1024) (x0 : Vec Ideal S1024x512 .bf16) (x1 : Vec Ideal S512x1024 .bf16) (h0 : x0 = iblk m c 0 t) (h1 : x1 = iblk m c 1 t) :
    ∑ k, x0 (ix2 r k) * x1 (ix2 k s) = ∑ k : Fin 512, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 512 + 1 * k.val = _; rw [(idx0 t).2]; omega)
  · exact at2_eq _ _ (by show win0_1.index t 0 * 512 + 1 * k.val = _; rw [(idx1 t).1]; omega) (by show win0_1.index t 1 * 1024 + 1 * s.val = _; rw [(idx1 t).2]; omega)
theorem outA (c i arg3 harg3 arg4 harg4 arg5 harg5 arg6 harg6 x0 x1) (r : Fin 1024) (s : Fin 1024) :
    out0_A_2 (F := Ideal) c i arg3 harg3 arg4 harg4 arg5 harg5 arg6 harg6 x0 x1 (ix2 r s) = ∑ k, x0 (ix2 r k) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x512) hz2, View.ld_unit_zero (S := S512x1024) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = ∑ k ∈ Finset.range 512, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 2).blk t).view.emb (ix2 r s) : S2048x4096.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 4) + r.val by omega, show (p 1).val = 1024 * (t.val % 4) + s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 4096 := (i 1).isLt
  obtain ⟨t, ht⟩ := fin_of (show 4 * ((i 0).val / 1024) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_OdUq (hOdUq := OdUq.Gen.facts) := fun m ρ _ => OdUq.Gen.frame m ρ
/-- So does the kernel over the extended reals. -/
theorem frame_ideal : quiescent_OdUqIdeal (hOdUqIdeal := facts) := fun m ρ _ => OdUqIdeal.Gen.frame m ρ
/-- So does the reference over the extended reals. -/
theorem frame_ref : quiescent_OdUqRefIdeal (hOdUqRefIdeal := OdUqRefIdeal.Gen.facts) := fun m ρ _ =>
  (θ_run OdUqRefIdeal.defs _ _).mono (fun r h => ⟨fun c => (h c).2, sem_eq_zero_of_no_sems (by decide) r.2⟩)
    (OdUqRefIdeal.Value.run (F := Ideal) m ρ)
/-- No operation of the kernel is replaced. -/
theorem preserves : preserves_OdUq_OdUqIdeal := trivial
/-- Kernel and reference end with the same array. -/
theorem algebraic : algebraic_OdUqIdeal_OdUqRefIdeal (hOdUqIdeal := facts) (hOdUqRefIdeal := OdUqRefIdeal.Gen.facts) := by
  intro m g m' g' _ hargs
  refine ⟨fun c => G m c, (θ_run defs _ _).mono (fun r h c => ⟨(h c).1.trans (final m c), (h c).2⟩) (run_blocks m g),
    (θ_run OdUqRefIdeal.defs _ _).mono (fun r h c => ⟨(h c).1.trans ?_, (h c).2⟩) (OdUqRefIdeal.Value.run (F := Ideal) m' g')⟩
  obtain ⟨a0, a1⟩ := hargs c
  rw [a0, a1]
  funext i
  obtain ⟨r, s, rfl⟩ : ∃ (r : Fin 2048) (s : Fin 4096), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdUq

end
-- ==== Proof.OdUkvClaim.lean ====
/- The keys' and values' projection. -/
module

public import proofs.«01_k».proof.Proof.Mm
public import proofs.«01_k».proof.Proof.Gen.OdUkv.Frame
public import proofs.«01_k».proof.Proof.Gen.OdUkvIdeal.Value
public import proofs.«01_k».proof.Proof.Gen.OdUkvRefIdeal.Run

@[expose] public section

set_option maxRecDepth 16384

noncomputable section

namespace Cert.Proof.OdUkv

open Idealize.ShloMosaic Idealize.ShloMosaic.TcCoe Idealize.SL.Sem Mm OdUkvIdeal OdUkvIdeal.Gen OdUkvIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 512, term m c i j k
/-- The product's array. -/
def G : Buf (Elt Ideal) ((c : Thread nD τ).loc main_v0) := fun i => total m c (i 0).val (i 1).val
/-- The terms at row `r` and column `s` of grid point `n`'s block. -/
def f (r s n : ℕ) : ℕ → EReal := term m c (1024 * (n / 4) + r) (1024 * (n % 4) + s)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
/-- One block of the product's terms. -/
theorem block (t : Fin cfg0.N) (r : Fin 1024) (s : Fin 1024) (x0 : Vec Ideal S1024x512 .bf16) (x1 : Vec Ideal S512x1024 .bf16) (h0 : x0 = iblk m c 0 t) (h1 : x1 = iblk m c 1 t) :
    ∑ k, x0 (ix2 r k) * x1 (ix2 k s) = ∑ k : Fin 512, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 512 + 1 * k.val = _; rw [(idx0 t).2]; omega)
  · exact at2_eq _ _ (by show win0_1.index t 0 * 512 + 1 * k.val = _; rw [(idx1 t).1]; omega) (by show win0_1.index t 1 * 1024 + 1 * s.val = _; rw [(idx1 t).2]; omega)
theorem outA (c i arg3 harg3 arg4 harg4 arg5 harg5 arg6 harg6 x0 x1) (r : Fin 1024) (s : Fin 1024) :
    out0_A_2 (F := Ideal) c i arg3 harg3 arg4 harg4 arg5 harg5 arg6 harg6 x0 x1 (ix2 r s) = ∑ k, x0 (ix2 r k) * x1 (ix2 k s) := by
  unfold out0_A_2
  rw [View.read_writes_eq_canon _ _ _ (fun _ => cover0_A_2 ..)]
  unfold kernelRun0_A
  dsimp only
  rw [View.canon_unit_zero hz2]
  simp only [View.readAt_eq_ld, harg3.read_unread, harg4.read_unread, harg5.read_unread, harg6.read_unread, View.ld_unit_zero (S := S1024x512) hz2, View.ld_unit_zero (S := S512x1024) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = ∑ k ∈ Finset.range 512, f m c r.val s.val t.val k := by
  refine (outA ..).trans ?_
  rw [sum_first, block m c t r s _ _ rfl rfl]
theorem flushed_G (t : Fin cfg0.N) (hf : (cfg0.win 2).flush t = true) :
    (dats m 0 c).flushed 2 t = ((cfg0.win 2).blk t).view.read (Elt Ideal) (G m c) := by
  rw [flushed2]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 2).blk t).view.emb (ix2 r s) : S2048x4096.Idx) = p
  have p0 : (p 0).val = win0_2.index t 0 * 1024 + 1 * r.val := by rw [← hp]; rfl
  rw [(idx2 t).1] at p0
  have p1 : (p 1).val = win0_2.index t 1 * 1024 + 1 * s.val := by rw [← hp]; rfl
  rw [(idx2 t).2] at p1
  show _ = total m c (p 0).val (p 1).val
  rw [show (p 0).val = 1024 * (t.val / 4) + r.val by omega, show (p 1).val = 1024 * (t.val % 4) + s.val by omega]
  rfl
theorem final : (dats m 0 c).arrAt 2 cfg0.N = G m c := (dats m 0 c).arrAt_eq_of_cover 2 (G m c) (flushed_G m c) fun i => by
  have hN : cfg0.N = 8 := N_0
  have h0 : (i 0).val < 2048 := (i 0).isLt
  have h1 : (i 1).val < 4096 := (i 1).isLt
  obtain ⟨t, ht⟩ := fin_of (show 4 * ((i 0).val / 1024) + 1 * ((i 1).val / 1024) + 0 < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1024 (i 0).val (idx2 t).1 (by omega)
  | ⟨1, _⟩ => exact in_blk 1024 (i 1).val (idx2 t).2 (by omega)

/-- The kernel at the machine's floats terminates, keeps its arguments, and leaves every counter at zero. -/
theorem frame : quiescent_OdUkv (hOdUkv := OdUkv.Gen.facts) := fun m ρ _ => OdUkv.Gen.frame m ρ
/-- So does the kernel over the extended reals. -/
theorem frame_ideal : quiescent_OdUkvIdeal (hOdUkvIdeal := facts) := fun m ρ _ => OdUkvIdeal.Gen.frame m ρ
/-- So does the reference over the extended reals. -/
theorem frame_ref : quiescent_OdUkvRefIdeal (hOdUkvRefIdeal := OdUkvRefIdeal.Gen.facts) := fun m ρ _ =>
  (θ_run OdUkvRefIdeal.defs _ _).mono (fun r h => ⟨fun c => (h c).2, sem_eq_zero_of_no_sems (by decide) r.2⟩)
    (OdUkvRefIdeal.Value.run (F := Ideal) m ρ)
/-- No operation of the kernel is replaced. -/
theorem preserves : preserves_OdUkv_OdUkvIdeal := trivial
/-- Kernel and reference end with the same array. -/
theorem algebraic : algebraic_OdUkvIdeal_OdUkvRefIdeal (hOdUkvIdeal := facts) (hOdUkvRefIdeal := OdUkvRefIdeal.Gen.facts) := by
  intro m g m' g' _ hargs
  refine ⟨fun c => G m c, (θ_run defs _ _).mono (fun r h c => ⟨(h c).1.trans (final m c), (h c).2⟩) (run_blocks m g),
    (θ_run OdUkvRefIdeal.defs _ _).mono (fun r h c => ⟨(h c).1.trans ?_, (h c).2⟩) (OdUkvRefIdeal.Value.run (F := Ideal) m' g')⟩
  obtain ⟨a0, a1⟩ := hargs c
  rw [a0, a1]
  funext i
  obtain ⟨r, s, rfl⟩ : ∃ (r : Fin 2048) (s : Fin 4096), i = ix2 r s := ⟨i 0, i 1, (ix2_eta i).symm⟩
  pointwise []
  show _ = total m c r.val s.val
  unfold total
  rw [sum_first]
  refine Finset.sum_congr rfl fun k _ => ?_
  exact congrArg₂ (· * ·) (at2_eq _ _ rfl rfl) (at2_eq _ _ rfl rfl)

end Cert.Proof.OdUkv

end
-- ==== Proof.OdOClaim.lean ====
/- The attention's output projection. -/
module

public import proofs.«01_k».proof.Proof.Mm
public import proofs.«01_k».proof.Proof.Gen.OdO.Frame
public import proofs.«01_k».proof.Proof.Gen.OdOIdeal.Value
public import proofs.«01_k».proof.Proof.Gen.OdORefIdeal.Run

@[expose] public section

set_option maxRecDepth 16384

noncomputable section

namespace Cert.Proof.OdO

open Idealize.ShloMosaic Idealize.ShloMosaic.TcCoe Idealize.SL.Sem Mm OdOIdeal OdOIdeal.Gen OdOIdeal.Value

variable (m : (ℓ : Loc nD τ sig) → Buf (Elt Ideal) ℓ) (c : Dev nD)

/-- One term of the product's sum at row `i` and column `j`. -/
def term (i j k : ℕ) : EReal := at2 (m ((c : Thread nD τ).loc main_arg0)) i k * at2 (m ((c : Thread nD τ).loc main_arg1)) k j
/-- The product's entry there. -/
def total (i j : ℕ) : EReal := ∑ k ∈ Finset.range 2048, term m c i j k
/-- The product's array. -/
def G : Buf (Elt Ideal) ((c : Thread nD τ).loc main_v0) := fun i => (total m c (i 0).val (i 1).val) + at2 (m ((c : Thread nD τ).loc main_arg2)) (i 0).val (i 1).val
/-- The terms at row `r` and column `s` of grid point `n`'s block. -/
def f (r s n : ℕ) : ℕ → EReal := term m c (1024 * (n / 2) + r) (1024 * (n % 2) + s)

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
/-- One block of the product's terms. -/
theorem block (t : Fin cfg0.N) (r : Fin 1024) (s : Fin 1024) (x0 : Vec Ideal S1024x2048 .bf16) (x1 : Vec Ideal S2048x1024 .bf16) (h0 : x0 = iblk m c 0 t) (h1 : x1 = iblk m c 1 t) :
    ∑ k, x0 (ix2 r k) * x1 (ix2 k s) = ∑ k : Fin 2048, f m c r.val s.val t.val (k.val) := by
  subst h0 h1
  refine Finset.sum_congr rfl fun k _ => ?_
  unfold f term iblk
  rw [View.read_apply, View.read_apply]
  refine congrArg₂ (· * ·) ((congrFun (V_main_arg0 m c) _).trans ?_) ((congrFun (V_main_arg1 m c) _).trans ?_)
  · exact at2_eq _ _ (by show win0_0.index t 0 * 1024 + 1 * r.val = _; rw [(idx0 t).1]; omega) (by show win0_0.index t 1 * 2048 + 1 * k.val = _; rw [(idx0 t).2]; omega)
  · exact at2_eq _ _ (by show win0_1.index t 0 * 2048 + 1 * k.val = _; rw [(idx1 t).1]; omega) (by show win0_1.index t 1 * 1024 + 1 * s.val = _; rw [(idx1 t).2]; omega)
theorem iblk2 (t : Fin cfg0.N) (r : Fin 1024) (s : Fin 1024) :
    (iblk m c 2 t : Vec Ideal S1024x1024 .f32) (ix2 r s) = at2 (m ((c : Thread nD τ).loc main_arg2)) (1024 * (t.val / 2) + r.val) (1024 * (t.val % 2) + s.val) := by
  unfold iblk
  rw [View.read_apply]
  exact (congrFun (V_main_arg2 m c) _).trans (at2_eq _ _ (by show win0_2.index t 0 * 1024 + 1 * r.val = _; rw [(idx2 t).1]; omega) (by show win0_2.index t 1 * 1024 + 1 * s.val = _; rw [(idx2 t).2]; omega))
theorem outA (c i arg3 harg3 arg4 harg4 arg5 harg5 arg6 harg6 arg7 harg7 x0 x1 x2) (r : Fin 1024) (s : Fin 1024) :
    out0_A_3 (F := Ideal) c i arg3 harg3 arg4 harg4 arg5 harg5 arg6 harg6 arg7 harg7 x0 x1 x2 (ix2 r s) = ∑ k, x0 (ix2 r k) * x1 (ix2 k s) + x2 (ix2 r s) := by
  unfold out0_A_3
  rw [View.read_writes_eq_canon _ _ _ (fun _ => cover0_A_3 ..)]
  unfold kernelRun0_A
  dsimp only
  rw [View.canon_unit_zero hz2]
  simp only [View.readAt_eq_ld, harg3.read_unread, harg4.read_unread, harg5.read_unread, harg6.read_unread, harg7.read_unread, View.ld_unit_zero (S := S1024x2048) hz2, View.ld_unit_zero (S := S2048x1024) hz2, View.ld_unit_zero (S := S1024x1024) hz2]
  pointwise [k0_pay1]
/-- What a point leaves in the product's block. -/
theorem out_at (t : Fin cfg0.N) (r : Fin 1024) (s : Fin 1024) :
    (outsAt0 m c t : Vec Ideal S1024x1024 .f32) (ix2 r s) = (∑ k ∈ Finset.range 2048, f m c r.val s.val t.val k) + at2 (m ((c : Thread nD τ).loc main_arg2)) (1024 * (t.val / 2) + r.val) (1024 * (t.val % 2) + s.val) := by
  refine (outA ..).trans ?_
  rw [sum_first, iblk2, block m c t r s _ _ rfl rfl]
theorem flushed_G (t : Fin cfg0.N) (hf : (cfg0.win 3).flush t = true) :
    (dats m 0 c).flushed 3 t = ((cfg0.win 3).blk t).view.read (Elt Ideal) (G m c) := by
  rw [flushed3]
  funext j
  obtain ⟨r, s, rfl⟩ : ∃ (r : Fin 1024) (s : Fin 1024), j = ix2 r s := ⟨j 0, j 1, (ix2_eta j).symm⟩
  rw [View.read_apply]
  refine (out_at m c t r s).trans ?_
  generalize hp : (((cfg0.win 3).blk t).view.emb (ix2 r s) : S2048x2048.Idx) = p
  have p0 : (p 0).val = win0_3.index t 0 * 1024 + 1 * r.val := by rw [← hp]; rfl
  rw [(idx3 t).1] at p0
  have p1 : (p 1).val = win0_3.index t 1 * 1024 + 1 * s.val := by rw [← hp]; rfl
  rw [(idx3 t).2] at p1
  show _ = (total m c (p 0).val (p 1).val) + at2 (m ((c : Thread nD τ).loc main_arg2)) (p 0).val (p 1).val
  rw [show (p 0).val = 1024 * (t.val / 2) + r.val by omega, show (p 1).val = 1024 * (t.val % 2) + s.val by omega]
  rfl
theorem final : (dats m 0 c).arrAt 3 cfg0.N = G m c := (dats m 0 c).arrAt_eq_of_cover 3 (G m c) (flushed_G m c) fun i => by
  have hN : cfg0.N = 4 := N_0
  have h0 : (i 0).val < 2048 := (i 0).isLt
  have h1 : (i 1).val < 2048 := (i 1).isLt
  obtain ⟨t, ht⟩ := fin_of (show 2 * ((i 0).val / 1024) + 1 * ((i 1).val / 1024) + 0 < cfg0.N by omega)
  refine ⟨t, flush0_3 t, ?_⟩
  show i ∈ ((View.whole main_v0).slice (win0_3.rect t)).set
  rw [View.set_slice_whole, Rect.mem_set_unit]
  intro q
  match q with
  | ⟨0, _⟩ => exact in_blk 1024 (i 0).val (idx3 t).1 (by omega)
  | ⟨1, _⟩ => exact in_blk 1024 (i 1).val (idx3 t).2 (by omega)

/-- The kernel at the machine's floats terminates, keeps its arguments, and leaves every counter at zero. -/
theorem frame : quiescent_OdO (hOdO := OdO.Gen.facts) := fun m ρ _ => OdO.Gen.frame m ρ
/-- So does the kernel over the extended reals. -/
theorem frame_ideal : quiescent_OdOIdeal (hOdOIdeal := facts) := fun m ρ _ => OdOIdeal.Gen.frame m ρ
/-- So does the reference over the extended reals. -/
theorem frame_ref : quiescent_OdORefIdeal (hOdORefIdeal := OdORefIdeal.Gen.facts) := fun m ρ _ =>
  (θ_run OdORefIdeal.defs _ _).mono (fun r h => ⟨fun c => (h c).2, sem_eq_zero_of_no_sems (by decide) r.2⟩)
    (OdORefIdeal.Value.run (F := Ideal) m ρ)
/-- No operation of the kernel is replaced. -/
theorem preserves : preserves_OdO_OdOIdeal := trivial
/-- Kernel and reference end with the same array. -/
theorem algebraic : algebraic_OdOIdeal_OdORefIdeal (hOdOIdeal := facts) (hOdORefIdeal := OdORefIdeal.Gen.facts) := by
  intro m g m' g' _ hargs
  refine ⟨fun c => G m c, (θ_run defs _ _).mono (fun r h c => ⟨(h c).1.trans (final m c), (h c).2⟩) (run_blocks m g),
    (θ_run OdORefIdeal.defs _ _).mono (fun r h c => ⟨(h c).1.trans ?_, (h c).2⟩) (OdORefIdeal.Value.run (F := Ideal) m' g')⟩
  obtain ⟨a0, a1, a2⟩ := hargs c
  rw [a0, a1, a2]
  funext i
  obtain ⟨r, s, rfl⟩ : ∃ (r : Fin 2048) (s : Fin 2048), i = ix2 r s := ⟨i 0, i 1, (ix2_eta i).symm⟩
  pointwise []
  show _ = (total m c r.val s.val) + at2 (m ((c : Thread nD τ).loc main_arg2)) r.val s.val
  unfold total
  rw [sum_first]
  refine (add_comm _ _).trans (congrArg₂ (· + ·) ?_ (at2_eq _ _ rfl rfl))
  refine Finset.sum_congr rfl fun k _ => ?_
  exact congrArg₂ (· * ·) (at2_eq _ _ rfl rfl) (at2_eq _ _ rfl rfl)

end Cert.Proof.OdO

end
-- ==== Proof.FfDownsClaim.lean ====
/- The down projection's gradients, all four layers. -/
module

public import proofs.«01_k».proof.Proof.Mm
public import proofs.«01_k».proof.Proof.Gen.FfDowns.Frame
public import proofs.«01_k».proof.Proof.Gen.FfDownsIdeal.Frame
public import proofs.«01_k».proof.Proof.Gen.FfDownsRefIdeal.Run

@[expose] public section

set_option maxRecDepth 16384

noncomputable section

namespace Cert.Proof.FfDowns

open Idealize.ShloMosaic Idealize.ShloMosaic.TcCoe Idealize.SL Idealize.SL.RA Idealize.SL.BI Idealize.SL.BI.BIBase Idealize.SL.BI.Laws Idealize.SL.ProofMode Idealize.SL.Sem
open Idealize.ShloMosaic.Rounds Mm FfDownsIdeal FfDownsIdeal.Gen
open Idealize.ShloMosaic.Pipeline (cellOf)

section Calls
variable (V : (c : Dev nD) → (b : Ref sig .tc) → Buf (Elt Ideal) ((c : Thread nD τ).loc b)) (c : Dev nD)

/-- One product's entries at row `r` and column `s` of grid point `n`'s block, term by term. -/
def term (x : S2048x5632.Idx → EReal) (y : S2048x2048.Idx → EReal) (r s n k : ℕ) : EReal :=
  at2 x k (512 * (n / 2) + r) * at2 y k (1024 * (n % 2) + s)

theorem idx0_0 : ∀ t : Fin grid0.N, win0_0.index t 0 = 0 ∧ win0_0.index t 1 = t.val / 2 := by decide +kernel
theorem idx0_1 : ∀ t : Fin grid0.N, win0_1.index t 0 = 0 ∧ win0_1.index t 1 = t.val % 2 := by decide +kernel
theorem idx0_2 : ∀ t : Fin grid0.N, win0_2.index t 0 = 3 ∧ win0_2.index t 1 = t.val / 2 ∧ win0_2.index t 2 = t.val % 2 := by decide +kernel
/-- What call 0 leaves: the product in layer 3, the other layers as it finds them. -/
def G0 : Buf (Elt Ideal) ((c : Thread nD τ).loc main_v0) := fun i => if (i 0).val = 3 then prod 2048 (V c main_arg0) (V c main_arg1) (i 1).val (i 2).val else V c main_v0 i
theorem block0 (t : Fin cfg0.N) (r : Fin 512) (s : Fin 1024) (x0 : Vec Ideal S2048x512 .bf16) (x1 : Vec Ideal S2048x1024 .f32) (h0 : x0 = iblk0 V c 0 t) (h1 : x1 = iblk0 V c 1 t) :
    ∑ k, x0 (ix2 k r) * x1 (ix2 k s) = ∑ k : Fin 2048, term (V c main_arg0) (V c main_arg1) r.val s.val t.val k.val := by
  subst h0 h1
  refine Finset.sum_congr rfl fun k _ => ?_
  unfold term iblk0
  rw [View.read_apply, View.read_apply]
  refine congrArg₂ (· * ·) ?_ ?_
  · exact at2_eq _ _ (by show win0_0.index t 0 * 2048 + 1 * k.val = _; rw [(idx0_0 t).1]; omega) (by show win0_0.index t 1 * 512 + 1 * r.val = _; rw [(idx0_0 t).2]; omega)
  · exact at2_eq _ _ (by show win0_1.index t 0 * 2048 + 1 * k.val = _; rw [(idx0_1 t).1]; omega) (by show win0_1.index t 1 * 1024 + 1 * s.val = _; rw [(idx0_1 t).2]; omega)
theorem out0 (c i arg3 harg3 arg4 harg4 arg5 harg5 arg6 harg6 x0 x1) (r : Fin 512) (s : Fin 1024) :
    out0_A_2 (F := Ideal) c i arg3 harg3 arg4 harg4 arg5 harg5 arg6 harg6 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg5.read_unread, harg6.read_unread, View.ld_unit_zero (S := S2048x512) hz2, View.ld_unit_zero (S := S2048x1024) hz2]
  pointwise [k0_pay1]
theorem flushed0 (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [after0_2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine ((out0 ..).trans (block0 V c t r s _ _ rfl rfl)).trans ?_
  generalize hp : (((cfg0.win 2).blk t).view.emb (ix3 0 r s) : S4x5632x2048.Idx) = p
  have p0 : (p 0).val = win0_2.index t 0 * 1 + 1 * 0 := by rw [← hp]; rfl
  rw [(idx0_2 t).1] at p0
  have p1 : (p 1).val = win0_2.index t 1 * 512 + 1 * r.val := by rw [← hp]; rfl
  rw [(idx0_2 t).2.1] at p1
  have p2 : (p 2).val = win0_2.index t 2 * 1024 + 1 * s.val := by rw [← hp]; rfl
  rw [(idx0_2 t).2.2] at p2
  show _ = if (p 0).val = 3 then prod 2048 (V c main_arg0) (V c main_arg1) (p 1).val (p 2).val else _
  rw [if_pos (by omega), show (p 1).val = 512 * (t.val / 2) + r.val by omega, show (p 2).val = 1024 * (t.val % 2) + s.val by omega]
  exact (sum_first _ _).symm
theorem cover0 (i : S4x5632x2048.Idx) (hL : (i 0).val = 3) : ∃ t : Fin cfg0.N, (cfg0.win 2).flush t = true ∧ i ∈ ((cfg0.win 2).blk t).view.set := by
  have hN : cfg0.N = 22 := N_0
  have h0 : (i 0).val < 4 := (i 0).isLt
  have h1 : (i 1).val < 5632 := (i 1).isLt
  have h2 : (i 2).val < 2048 := (i 2).isLt
  obtain ⟨t, ht⟩ := fin_of (show 2 * ((i 1).val / 512) + ((i 2).val / 1024) < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx0_2 t).1 (by omega)
  | ⟨1, _⟩ => exact in_blk 512 (i 1).val (idx0_2 t).2.1 (by omega)
  | ⟨2, _⟩ => exact in_blk 1024 (i 2).val (idx0_2 t).2.2 (by omega)
theorem arr0 : (dat0 V c).arrAt 2 cfg0.N = G0 V c := by
  funext i
  rw [(dat0 V c).arrAt_eq_piecewise 2 (G0 V c) (flushed0 V c) i]
  split
  · rfl
  · next hno =>
    rw [A_eq0]
    exact (if_neg fun h => hno (cover0 i h)).symm

theorem idx1_0 : ∀ t : Fin grid1.N, win1_0.index t 0 = 0 ∧ win1_0.index t 1 = t.val / 2 := by decide +kernel
theorem idx1_1 : ∀ t : Fin grid1.N, win1_1.index t 0 = 0 ∧ win1_1.index t 1 = t.val % 2 := by decide +kernel
theorem idx1_2 : ∀ t : Fin grid1.N, win1_2.index t 0 = 2 ∧ win1_2.index t 1 = t.val / 2 ∧ win1_2.index t 2 = t.val % 2 := by decide +kernel
/-- What call 1 leaves: the product in layer 2, the other layers as it finds them. -/
def G1 : Buf (Elt Ideal) ((c : Thread nD τ).loc main_v1) := fun i => if (i 0).val = 2 then prod 2048 (V c main_arg2) (V c main_arg3) (i 1).val (i 2).val else V c main_v1 i
theorem block1 (t : Fin cfg1.N) (r : Fin 512) (s : Fin 1024) (x0 : Vec Ideal S2048x512 .bf16) (x1 : Vec Ideal S2048x1024 .f32) (h0 : x0 = iblk1 V c 0 t) (h1 : x1 = iblk1 V c 1 t) :
    ∑ k, x0 (ix2 k r) * x1 (ix2 k s) = ∑ k : Fin 2048, term (V c main_arg2) (V c main_arg3) r.val s.val t.val k.val := by
  subst h0 h1
  refine Finset.sum_congr rfl fun k _ => ?_
  unfold term iblk1
  rw [View.read_apply, View.read_apply]
  refine congrArg₂ (· * ·) ?_ ?_
  · exact at2_eq _ _ (by show win1_0.index t 0 * 2048 + 1 * k.val = _; rw [(idx1_0 t).1]; omega) (by show win1_0.index t 1 * 512 + 1 * r.val = _; rw [(idx1_0 t).2]; omega)
  · exact at2_eq _ _ (by show win1_1.index t 0 * 2048 + 1 * k.val = _; rw [(idx1_1 t).1]; omega) (by show win1_1.index t 1 * 1024 + 1 * s.val = _; rw [(idx1_1 t).2]; omega)
theorem out1 (c i arg3 harg3 arg4 harg4 arg6 harg6 arg7 harg7 x0 x1) (r : Fin 512) (s : Fin 1024) :
    out1_A_2 (F := Ideal) c i arg3 harg3 arg4 harg4 arg6 harg6 arg7 harg7 x0 x1 (ix3 0 r s) = ∑ k, x0 (ix2 k r) * x1 (ix2 k s) := by
  unfold out1_A_2
  rw [View.read_writes_eq_canon _ _ _ (fun _ => cover1_A_2 ..)]
  unfold kernelRun1_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2]
  pointwise [k1_pay1]
theorem flushed1 (t : Fin cfg1.N) (hf : (cfg1.win 2).flush t = true) :
    (dat1 V c).flushed 2 t = ((cfg1.win 2).blk t).view.read (Elt Ideal) (G1 V c) := by
  show (cfg1.win 2).cut (grid1.coords t) ((dat1 V c).after 2 t) = _
  rw [after1_2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine ((out1 ..).trans (block1 V c t r s _ _ rfl rfl)).trans ?_
  generalize hp : (((cfg1.win 2).blk t).view.emb (ix3 0 r s) : S4x5632x2048.Idx) = p
  have p0 : (p 0).val = win1_2.index t 0 * 1 + 1 * 0 := by rw [← hp]; rfl
  rw [(idx1_2 t).1] at p0
  have p1 : (p 1).val = win1_2.index t 1 * 512 + 1 * r.val := by rw [← hp]; rfl
  rw [(idx1_2 t).2.1] at p1
  have p2 : (p 2).val = win1_2.index t 2 * 1024 + 1 * s.val := by rw [← hp]; rfl
  rw [(idx1_2 t).2.2] at p2
  show _ = if (p 0).val = 2 then prod 2048 (V c main_arg2) (V c main_arg3) (p 1).val (p 2).val else _
  rw [if_pos (by omega), show (p 1).val = 512 * (t.val / 2) + r.val by omega, show (p 2).val = 1024 * (t.val % 2) + s.val by omega]
  exact (sum_first _ _).symm
theorem cover1 (i : S4x5632x2048.Idx) (hL : (i 0).val = 2) : ∃ t : Fin cfg1.N, (cfg1.win 2).flush t = true ∧ i ∈ ((cfg1.win 2).blk t).view.set := by
  have hN : cfg1.N = 22 := N_1
  have h0 : (i 0).val < 4 := (i 0).isLt
  have h1 : (i 1).val < 5632 := (i 1).isLt
  have h2 : (i 2).val < 2048 := (i 2).isLt
  obtain ⟨t, ht⟩ := fin_of (show 2 * ((i 1).val / 512) + ((i 2).val / 1024) < cfg1.N by omega)
  refine ⟨t, flush1_2 t, ?_⟩
  show i ∈ ((View.whole main_v1).slice (win1_2.rect t)).set
  rw [View.set_slice_whole, Rect.mem_set_unit]
  intro q
  match q with
  | ⟨0, _⟩ => exact in_blk 1 (i 0).val (idx1_2 t).1 (by omega)
  | ⟨1, _⟩ => exact in_blk 512 (i 1).val (idx1_2 t).2.1 (by omega)
  | ⟨2, _⟩ => exact in_blk 1024 (i 2).val (idx1_2 t).2.2 (by omega)
theorem arr1 : (dat1 V c).arrAt 2 cfg1.N = G1 V c := by
  funext i
  rw [(dat1 V c).arrAt_eq_piecewise 2 (G1 V c) (flushed1 V c) i]
  split
  · rfl
  · next hno =>
    rw [A_eq1]
    exact (if_neg fun h => hno (cover1 i h)).symm

theorem idx2_0 : ∀ t : Fin grid2.N, win2_0.index t 0 = 0 ∧ win2_0.index t 1 = t.val / 2 := by decide +kernel
theorem idx2_1 : ∀ t : Fin grid2.N, win2_1.index t 0 = 0 ∧ win2_1.index t 1 = t.val % 2 := by decide +kernel
theorem idx2_2 : ∀ t : Fin grid2.N, win2_2.index t 0 = 1 ∧ win2_2.index t 1 = t.val / 2 ∧ win2_2.index t 2 = t.val % 2 := by decide +kernel
/-- What call 2 leaves: the product in layer 1, the other layers as it finds them. -/
def G2 : Buf (Elt Ideal) ((c : Thread nD τ).loc main_v2) := fun i => if (i 0).val = 1 then prod 2048 (V c main_arg4) (V c main_arg5) (i 1).val (i 2).val else V c main_v2 i
theorem block2 (t : Fin cfg2.N) (r : Fin 512) (s : Fin 1024) (x0 : Vec Ideal S2048x512 .bf16) (x1 : Vec Ideal S2048x1024 .f32) (h0 : x0 = iblk2 V c 0 t) (h1 : x1 = iblk2 V c 1 t) :
    ∑ k, x0 (ix2 k r) * x1 (ix2 k s) = ∑ k : Fin 2048, term (V c main_arg4) (V c main_arg5) r.val s.val t.val k.val := by
  subst h0 h1
  refine Finset.sum_congr rfl fun k _ => ?_
  unfold term iblk2
  rw [View.read_apply, View.read_apply]
  refine congrArg₂ (· * ·) ?_ ?_
  · exact at2_eq _ _ (by show win2_0.index t 0 * 2048 + 1 * k.val = _; rw [(idx2_0 t).1]; omega) (by show win2_0.index t 1 * 512 + 1 * r.val = _; rw [(idx2_0 t).2]; omega)
  · exact at2_eq _ _ (by show win2_1.index t 0 * 2048 + 1 * k.val = _; rw [(idx2_1 t).1]; omega) (by show win2_1.index t 1 * 1024 + 1 * s.val = _; rw [(idx2_1 t).2]; omega)
theorem out2 (c i arg3 harg3 arg4 harg4 arg6 harg6 arg7 harg7 x0 x1) (r : Fin 512) (s : Fin 1024) :
    out2_A_2 (F := Ideal) c i arg3 harg3 arg4 harg4 arg6 harg6 arg7 harg7 x0 x1 (ix3 0 r s) = ∑ k, x0 (ix2 k r) * x1 (ix2 k s) := by
  unfold out2_A_2
  rw [View.read_writes_eq_canon _ _ _ (fun _ => cover2_A_2 ..)]
  unfold kernelRun2_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2]
  pointwise [k2_pay1]
theorem flushed2 (t : Fin cfg2.N) (hf : (cfg2.win 2).flush t = true) :
    (dat2 V c).flushed 2 t = ((cfg2.win 2).blk t).view.read (Elt Ideal) (G2 V c) := by
  show (cfg2.win 2).cut (grid2.coords t) ((dat2 V c).after 2 t) = _
  rw [after2_2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine ((out2 ..).trans (block2 V c t r s _ _ rfl rfl)).trans ?_
  generalize hp : (((cfg2.win 2).blk t).view.emb (ix3 0 r s) : S4x5632x2048.Idx) = p
  have p0 : (p 0).val = win2_2.index t 0 * 1 + 1 * 0 := by rw [← hp]; rfl
  rw [(idx2_2 t).1] at p0
  have p1 : (p 1).val = win2_2.index t 1 * 512 + 1 * r.val := by rw [← hp]; rfl
  rw [(idx2_2 t).2.1] at p1
  have p2 : (p 2).val = win2_2.index t 2 * 1024 + 1 * s.val := by rw [← hp]; rfl
  rw [(idx2_2 t).2.2] at p2
  show _ = if (p 0).val = 1 then prod 2048 (V c main_arg4) (V c main_arg5) (p 1).val (p 2).val else _
  rw [if_pos (by omega), show (p 1).val = 512 * (t.val / 2) + r.val by omega, show (p 2).val = 1024 * (t.val % 2) + s.val by omega]
  exact (sum_first _ _).symm
theorem cover2 (i : S4x5632x2048.Idx) (hL : (i 0).val = 1) : ∃ t : Fin cfg2.N, (cfg2.win 2).flush t = true ∧ i ∈ ((cfg2.win 2).blk t).view.set := by
  have hN : cfg2.N = 22 := N_2
  have h0 : (i 0).val < 4 := (i 0).isLt
  have h1 : (i 1).val < 5632 := (i 1).isLt
  have h2 : (i 2).val < 2048 := (i 2).isLt
  obtain ⟨t, ht⟩ := fin_of (show 2 * ((i 1).val / 512) + ((i 2).val / 1024) < cfg2.N by omega)
  refine ⟨t, flush2_2 t, ?_⟩
  show i ∈ ((View.whole main_v2).slice (win2_2.rect t)).set
  rw [View.set_slice_whole, Rect.mem_set_unit]
  intro q
  match q with
  | ⟨0, _⟩ => exact in_blk 1 (i 0).val (idx2_2 t).1 (by omega)
  | ⟨1, _⟩ => exact in_blk 512 (i 1).val (idx2_2 t).2.1 (by omega)
  | ⟨2, _⟩ => exact in_blk 1024 (i 2).val (idx2_2 t).2.2 (by omega)
theorem arr2 : (dat2 V c).arrAt 2 cfg2.N = G2 V c := by
  funext i
  rw [(dat2 V c).arrAt_eq_piecewise 2 (G2 V c) (flushed2 V c) i]
  split
  · rfl
  · next hno =>
    rw [A_eq2]
    exact (if_neg fun h => hno (cover2 i h)).symm

theorem idx3_0 : ∀ t : Fin grid3.N, win3_0.index t 0 = 0 ∧ win3_0.index t 1 = t.val / 2 := by decide +kernel
theorem idx3_1 : ∀ t : Fin grid3.N, win3_1.index t 0 = 0 ∧ win3_1.index t 1 = t.val % 2 := by decide +kernel
theorem idx3_2 : ∀ t : Fin grid3.N, win3_2.index t 0 = 0 ∧ win3_2.index t 1 = t.val / 2 ∧ win3_2.index t 2 = t.val % 2 := by decide +kernel
/-- What call 3 leaves: the product in layer 0, the other layers as it finds them. -/
def G3 : Buf (Elt Ideal) ((c : Thread nD τ).loc main_v3) := fun i => if (i 0).val = 0 then prod 2048 (V c main_arg6) (V c main_arg7) (i 1).val (i 2).val else V c main_v3 i
theorem block3 (t : Fin cfg3.N) (r : Fin 512) (s : Fin 1024) (x0 : Vec Ideal S2048x512 .bf16) (x1 : Vec Ideal S2048x1024 .f32) (h0 : x0 = iblk3 V c 0 t) (h1 : x1 = iblk3 V c 1 t) :
    ∑ k, x0 (ix2 k r) * x1 (ix2 k s) = ∑ k : Fin 2048, term (V c main_arg6) (V c main_arg7) r.val s.val t.val k.val := by
  subst h0 h1
  refine Finset.sum_congr rfl fun k _ => ?_
  unfold term iblk3
  rw [View.read_apply, View.read_apply]
  refine congrArg₂ (· * ·) ?_ ?_
  · exact at2_eq _ _ (by show win3_0.index t 0 * 2048 + 1 * k.val = _; rw [(idx3_0 t).1]; omega) (by show win3_0.index t 1 * 512 + 1 * r.val = _; rw [(idx3_0 t).2]; omega)
  · exact at2_eq _ _ (by show win3_1.index t 0 * 2048 + 1 * k.val = _; rw [(idx3_1 t).1]; omega) (by show win3_1.index t 1 * 1024 + 1 * s.val = _; rw [(idx3_1 t).2]; omega)
theorem out3 (c i arg3 harg3 arg4 harg4 arg6 harg6 arg7 harg7 x0 x1) (r : Fin 512) (s : Fin 1024) :
    out3_A_2 (F := Ideal) c i arg3 harg3 arg4 harg4 arg6 harg6 arg7 harg7 x0 x1 (ix3 0 r s) = ∑ k, x0 (ix2 k r) * x1 (ix2 k s) := by
  unfold out3_A_2
  rw [View.read_writes_eq_canon _ _ _ (fun _ => cover3_A_2 ..)]
  unfold kernelRun3_A
  dsimp only
  rw [View.canon_unit_zero hz3]
  simp only [View.readAt_eq_ld, harg3.read_unread, harg4.read_unread, harg6.read_unread, harg7.read_unread, View.ld_unit_zero (S := S2048x512) hz2, View.ld_unit_zero (S := S2048x1024) hz2]
  pointwise [k3_pay1]
theorem flushed3 (t : Fin cfg3.N) (hf : (cfg3.win 2).flush t = true) :
    (dat3 V c).flushed 2 t = ((cfg3.win 2).blk t).view.read (Elt Ideal) (G3 V c) := by
  show (cfg3.win 2).cut (grid3.coords t) ((dat3 V c).after 2 t) = _
  rw [after3_2]
  funext j
  obtain ⟨x, r, s, rfl⟩ : ∃ (x : Fin 1) (r : Fin 512) (s : Fin 1024), j = ix3 x r s := ⟨j 0, j 1, j 2, (ix3_eta j).symm⟩
  obtain rfl : x = 0 := Subsingleton.elim _ _
  rw [View.read_apply]
  refine ((out3 ..).trans (block3 V c t r s _ _ rfl rfl)).trans ?_
  generalize hp : (((cfg3.win 2).blk t).view.emb (ix3 0 r s) : S4x5632x2048.Idx) = p
  have p0 : (p 0).val = win3_2.index t 0 * 1 + 1 * 0 := by rw [← hp]; rfl
  rw [(idx3_2 t).1] at p0
  have p1 : (p 1).val = win3_2.index t 1 * 512 + 1 * r.val := by rw [← hp]; rfl
  rw [(idx3_2 t).2.1] at p1
  have p2 : (p 2).val = win3_2.index t 2 * 1024 + 1 * s.val := by rw [← hp]; rfl
  rw [(idx3_2 t).2.2] at p2
  show _ = if (p 0).val = 0 then prod 2048 (V c main_arg6) (V c main_arg7) (p 1).val (p 2).val else _
  rw [if_pos (by omega), show (p 1).val = 512 * (t.val / 2) + r.val by omega, show (p 2).val = 1024 * (t.val % 2) + s.val by omega]
  exact (sum_first _ _).symm
theorem cover3 (i : S4x5632x2048.Idx) (hL : (i 0).val = 0) : ∃ t : Fin cfg3.N, (cfg3.win 2).flush t = true ∧ i ∈ ((cfg3.win 2).blk t).view.set := by
  have hN : cfg3.N = 22 := N_3
  have h0 : (i 0).val < 4 := (i 0).isLt
  have h1 : (i 1).val < 5632 := (i 1).isLt
  have h2 : (i 2).val < 2048 := (i 2).isLt
  obtain ⟨t, ht⟩ := fin_of (show 2 * ((i 1).val / 512) + ((i 2).val / 1024) < cfg3.N by omega)
  refine ⟨t, flush3_2 t, ?_⟩
  show i ∈ ((View.whole main_v3).slice (win3_2.rect t)).set
  rw [View.set_slice_whole, Rect.mem_set_unit]
  intro q
  match q with
  | ⟨0, _⟩ => exact in_blk 1 (i 0).val (idx3_2 t).1 (by omega)
  | ⟨1, _⟩ => exact in_blk 512 (i 1).val (idx3_2 t).2.1 (by omega)
  | ⟨2, _⟩ => exact in_blk 1024 (i 2).val (idx3_2 t).2.2 (by omega)
theorem arr3 : (dat3 V c).arrAt 2 cfg3.N = G3 V c := by
  funext i
  rw [(dat3 V c).arrAt_eq_piecewise 2 (G3 V c) (flushed3 V c) i]
  split
  · rfl
  · next hno =>
    rw [A_eq3]
    exact (if_neg fun h => hno (cover3 i h)).symm

end Calls

variable (m : (ℓ : Loc nD τ sig) → Buf (Elt Ideal) ℓ) (ρ : Dev nD → PrngReg) (c : Dev nD)

/-- The first call's layer, after it. -/
theorem val0 (i : S4x5632x2048.Idx) (h : (i 0).val = 3) : (W1 m ρ c (Proc.devRef .tc main_v0) : S4x5632x2048.Idx → EReal) i = prod 2048 (m ((c : Thread nD τ).loc main_arg0)) (m ((c : Thread nD τ).loc main_arg1)) (i 1).val (i 2).val := by
  refine (congrFun ((W1_arr m ρ c 2).trans (arr0 _ c)) i).trans ((if_pos h).trans ?_)
  rfl
/-- Call 1 adds its layer to what the call before it left. -/
theorem val1 (i : S4x5632x2048.Idx) : (W3 m ρ c (Proc.devRef .tc main_v1) : S4x5632x2048.Idx → EReal) i
    = if (i 0).val = 2 then prod 2048 (m ((c : Thread nD τ).loc main_arg2)) (m ((c : Thread nD τ).loc main_arg3)) (i 1).val (i 2).val else (W1 m ρ c (Proc.devRef .tc main_v0) : S4x5632x2048.Idx → EReal) i := by
  refine (congrFun ((W3_arr m ρ c 2).trans (arr1 _ c)) i).trans ?_
  have hv : W2 m ρ c (Proc.devRef .tc main_v1) = W1 m ρ c (Proc.devRef .tc main_v0) := by
    show StableHlo.after hostOps1 _ _ = _
    after_results; try rfl
  show (if _ then prod 2048 (W2 m ρ c (Proc.devRef .tc main_arg2)) (W2 m ρ c (Proc.devRef .tc main_arg3)) _ _ else W2 m ρ c (Proc.devRef .tc main_v1) i) = _
  rw [hv, W2_args m ρ c main_arg2 (by decide), W2_args m ρ c main_arg3 (by decide)]
/-- Call 2 adds its layer to what the call before it left. -/
theorem val2 (i : S4x5632x2048.Idx) : (W5 m ρ c (Proc.devRef .tc main_v2) : S4x5632x2048.Idx → EReal) i
    = if (i 0).val = 1 then prod 2048 (m ((c : Thread nD τ).loc main_arg4)) (m ((c : Thread nD τ).loc main_arg5)) (i 1).val (i 2).val else (W3 m ρ c (Proc.devRef .tc main_v1) : S4x5632x2048.Idx → EReal) i := by
  refine (congrFun ((W5_arr m ρ c 2).trans (arr2 _ c)) i).trans ?_
  have hv : W4 m ρ c (Proc.devRef .tc main_v2) = W3 m ρ c (Proc.devRef .tc main_v1) := by
    show StableHlo.after hostOps2 _ _ = _
    after_results; try rfl
  show (if _ then prod 2048 (W4 m ρ c (Proc.devRef .tc main_arg4)) (W4 m ρ c (Proc.devRef .tc main_arg5)) _ _ else W4 m ρ c (Proc.devRef .tc main_v2) i) = _
  rw [hv, W4_args m ρ c main_arg4 (by decide), W4_args m ρ c main_arg5 (by decide)]
/-- Call 3 adds its layer to what the call before it left. -/
theorem val3 (i : S4x5632x2048.Idx) : (W7 m ρ c (Proc.devRef .tc main_v3) : S4x5632x2048.Idx → EReal) i
    = if (i 0).val = 0 then prod 2048 (m ((c : Thread nD τ).loc main_arg6)) (m ((c : Thread nD τ).loc main_arg7)) (i 1).val (i 2).val else (W5 m ρ c (Proc.devRef .tc main_v2) : S4x5632x2048.Idx → EReal) i := by
  refine (congrFun ((W7_arr m ρ c 2).trans (arr3 _ c)) i).trans ?_
  have hv : W6 m ρ c (Proc.devRef .tc main_v3) = W5 m ρ c (Proc.devRef .tc main_v2) := by
    show StableHlo.after hostOps3 _ _ = _
    after_results; try rfl
  show (if _ then prod 2048 (W6 m ρ c (Proc.devRef .tc main_arg6)) (W6 m ρ c (Proc.devRef .tc main_arg7)) _ _ else W6 m ρ c (Proc.devRef .tc main_v3) i) = _
  rw [hv, W6_args m ρ c main_arg6 (by decide), W6_args m ρ c main_arg7 (by decide)]
/-- The array of all the layers. -/
def G : Buf (Elt Ideal) ((c : Thread nD τ).loc main_v3) := fun i =>
  if (i 0).val = 0 then prod 2048 (m ((c : Thread nD τ).loc main_arg6)) (m ((c : Thread nD τ).loc main_arg7)) (i 1).val (i 2).val else if (i 0).val = 1 then prod 2048 (m ((c : Thread nD τ).loc main_arg4)) (m ((c : Thread nD τ).loc main_arg5)) (i 1).val (i 2).val else if (i 0).val = 2 then prod 2048 (m ((c : Thread nD τ).loc main_arg2)) (m ((c : Thread nD τ).loc main_arg3)) (i 1).val (i 2).val else prod 2048 (m ((c : Thread nD τ).loc main_arg0)) (m ((c : Thread nD τ).loc main_arg1)) (i 1).val (i 2).val
theorem final : W7 m ρ c (Proc.devRef .tc main_v3) = G m c := by
  funext i
  have hi : (i 0).val < 4 := (i 0).isLt
  refine (val3 m ρ c i).trans ?_
  unfold G
  by_cases h0 : (i 0).val = 0
  · rw [if_pos h0, if_pos h0]
  rw [if_neg h0, if_neg h0, val2 m ρ c i]
  by_cases h1 : (i 0).val = 1
  · rw [if_pos h1, if_pos h1]
  rw [if_neg h1, if_neg h1, val1 m ρ c i]
  by_cases h2 : (i 0).val = 2
  · rw [if_pos h2, if_pos h2]
  rw [if_neg h2, if_neg h2, val0 m ρ c i (by omega)]

/-- Every weakly fair execution of the calls terminates with every array as the last boundary has it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m ρ c b)
    (hfin := fun c s' => by
      iintro ⟨⟨Hh, -⟩, HSI⟩
      unfold StableHlo.held
      imodintro
      iapply (pointsTo_read_all (Pipeline.ucRefs τ sig) (fun b => ((c : Thread nD τ).1, b)) (W7 m ρ c) s')
      isplitl [Hh] <;> iassumption)
    (hQ := fun s h _ => h)

/-- The calls at the machine's floats terminate, keep their arguments, and leave every counter at zero. -/
theorem frame : quiescent_FfDowns (hFfDowns := FfDowns.Gen.facts) := fun m ρ _ => FfDowns.Gen.frame m ρ
/-- So do the calls over the extended reals. -/
theorem frame_ideal : quiescent_FfDownsIdeal (hFfDownsIdeal := facts) := fun m ρ _ => FfDownsIdeal.Gen.frame m ρ
/-- So does the reference over the extended reals. -/
theorem frame_ref : quiescent_FfDownsRefIdeal (hFfDownsRefIdeal := FfDownsRefIdeal.Gen.facts) := fun m ρ _ =>
  (θ_run FfDownsRefIdeal.defs _ _).mono (fun r h => ⟨fun c => (h c).2, sem_eq_zero_of_no_sems (by decide) r.2⟩)
    (FfDownsRefIdeal.Value.run (F := Ideal) m ρ)
/-- No operation of the calls is replaced. -/
theorem preserves : preserves_FfDowns_FfDownsIdeal := trivial
/-- Calls and reference end with the same array. -/
theorem algebraic : algebraic_FfDownsIdeal_FfDownsRefIdeal (hFfDownsIdeal := facts) (hFfDownsRefIdeal := FfDownsRefIdeal.Gen.facts) := by
  intro m g m' g' _ hargs
  refine ⟨fun c => G m c, (θ_run defs _ _).mono (fun r h c => ⟨(h c _ (mem_uc main_v3 (by decide))).trans (final m g c),
      (h c _ (mem_uc main_arg0 (by decide))).trans (W7_main_arg0 m g c),
      (h c _ (mem_uc main_arg1 (by decide))).trans (W7_main_arg1 m g c),
      (h c _ (mem_uc main_arg2 (by decide))).trans (W7_main_arg2 m g c),
      (h c _ (mem_uc main_arg3 (by decide))).trans (W7_main_arg3 m g c),
      (h c _ (mem_uc main_arg4 (by decide))).trans (W7_main_arg4 m g c),
      (h c _ (mem_uc main_arg5 (by decide))).trans (W7_main_arg5 m g c),
      (h c _ (mem_uc main_arg6 (by decide))).trans (W7_main_arg6 m g c),
      (h c _ (mem_uc main_arg7 (by decide))).trans (W7_main_arg7 m g c)⟩) (run_all m g),
    (θ_run FfDownsRefIdeal.defs _ _).mono (fun r h c => ⟨(h c).1.trans ?_, (h c).2⟩) (FfDownsRefIdeal.Value.run (F := Ideal) m' g')⟩
  obtain ⟨a0, a1, a2, a3, a4, a5, a6, a7⟩ := hargs c
  rw [a0, a1, a2, a3, a4, a5, a6, a7]
  funext i
  obtain ⟨x, r, s, rfl⟩ : ∃ (x : Fin 4) (r : Fin 5632) (s : Fin 2048), i = ix3 x r s := ⟨i 0, i 1, i 2, (ix3_eta i).symm⟩
  pointwise []
  show _ = if x.val = 0 then prod 2048 (m ((c : Thread nD τ).loc main_arg6)) (m ((c : Thread nD τ).loc main_arg7)) r.val s.val else if x.val = 1 then prod 2048 (m ((c : Thread nD τ).loc main_arg4)) (m ((c : Thread nD τ).loc main_arg5)) r.val s.val else if x.val = 2 then prod 2048 (m ((c : Thread nD τ).loc main_arg2)) (m ((c : Thread nD τ).loc main_arg3)) r.val s.val else prod 2048 (m ((c : Thread nD τ).loc main_arg0)) (m ((c : Thread nD τ).loc main_arg1)) r.val s.val
  by_cases h0 : x.val = 0
  · rw [dif_pos (by omega), if_pos h0]
    exact prod_eq _ _ _ _ rfl rfl
  rw [dif_neg (by omega), if_neg h0]
  by_cases h1 : x.val = 1
  · rw [dif_pos (by omega), if_pos h1]
    exact prod_eq _ _ _ _ rfl rfl
  rw [dif_neg (by omega), if_neg h1]
  by_cases h2 : x.val = 2
  · rw [dif_pos (by omega), if_pos h2]
    exact prod_eq _ _ _ _ rfl rfl
  rw [dif_neg (by omega), if_neg h2]
  exact prod_eq _ _ _ _ rfl rfl

end Cert.Proof.FfDowns

end
-- ==== Proof.FfUpsClaim.lean ====
/- The up projection's gradients, all four layers. -/
module

public import proofs.«01_k».proof.Proof.Mm
public import proofs.«01_k».proof.Proof.Gen.FfUps.Frame
public import proofs.«01_k».proof.Proof.Gen.FfUpsIdeal.Frame
public import proofs.«01_k».proof.Proof.Gen.FfUpsRefIdeal.Run

@[expose] public section

set_option maxRecDepth 16384

noncomputable section

namespace Cert.Proof.FfUps

open Idealize.ShloMosaic Idealize.ShloMosaic.TcCoe Idealize.SL Idealize.SL.RA Idealize.SL.BI Idealize.SL.BI.BIBase Idealize.SL.BI.Laws Idealize.SL.ProofMode Idealize.SL.Sem
open Idealize.ShloMosaic.Rounds Mm FfUpsIdeal FfUpsIdeal.Gen
open Idealize.ShloMosaic.Pipeline (cellOf)

section Calls
variable (V : (c : Dev nD) → (b : Ref sig .tc) → Buf (Elt Ideal) ((c : Thread nD τ).loc b)) (c : Dev nD)

/-- One product's entries at row `r` and column `s` of grid point `n`'s block, term by term. -/
def term (x : S2048x2048.Idx → EReal) (y : S2048x11264.Idx → EReal) (r s n k : ℕ) : EReal :=
  at2 x k (1024 * (n / 8) + r) * at2 y k (1408 * (n % 8) + s)

theorem idx0_0 : ∀ t : Fin grid0.N, win0_0.index t 0 = 0 ∧ win0_0.index t 1 = t.val / 8 := by decide +kernel
theorem idx0_1 : ∀ t : Fin grid0.N, win0_1.index t 0 = 0 ∧ win0_1.index t 1 = t.val % 8 := by decide +kernel
theorem idx0_2 : ∀ t : Fin grid0.N, win0_2.index t 0 = t.val % 8 / 2 ∧ win0_2.index t 1 = 3 ∧ win0_2.index t 2 = t.val / 8 ∧ win0_2.index t 3 = t.val % 8 % 2 := by decide +kernel
/-- What call 0 leaves: the product in layer 3, the other layers as it finds them. -/
def G0 : Buf (Elt Ideal) ((c : Thread nD τ).loc main_v0) := fun i => if (i 1).val = 3 then prod 2048 (V c main_arg0) (V c main_arg1) (i 2).val (2816 * (i 0).val + (i 3).val) else V c main_v0 i
theorem block0 (t : Fin cfg0.N) (r : Fin 1024) (s : Fin 1408) (x0 : Vec Ideal S2048x1024 .bf16) (x1 : Vec Ideal S2048x1408 .bf16) (h0 : x0 = iblk0 V c 0 t) (h1 : x1 = iblk0 V c 1 t) :
    ∑ k, x0 (ix2 k r) * x1 (ix2 k s) = ∑ k : Fin 2048, term (V c main_arg0) (V c main_arg1) r.val s.val t.val k.val := by
  subst h0 h1
  refine Finset.sum_congr rfl fun k _ => ?_
  unfold term iblk0
  rw [View.read_apply, View.read_apply]
  refine congrArg₂ (· * ·) ?_ ?_
  · exact at2_eq _ _ (by show win0_0.index t 0 * 2048 + 1 * k.val = _; rw [(idx0_0 t).1]; omega) (by show win0_0.index t 1 * 1024 + 1 * r.val = _; rw [(idx0_0 t).2]; omega)
  · exact at2_eq _ _ (by show win0_1.index t 0 * 2048 + 1 * k.val = _; rw [(idx0_1 t).1]; omega) (by show win0_1.index t 1 * 1408 + 1 * s.val = _; rw [(idx0_1 t).2]; omega)
theorem out0 (c i arg3 harg3 arg4 harg4 arg5 harg5 arg6 harg6 x0 x1) (r : Fin 1024) (s : Fin 1408) :
    out0_A_2 (F := Ideal) c i arg3 harg3 arg4 harg4 arg5 harg5 arg6 harg6 x0 x1 (ix4 0 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz4]
  simp only [View.readAt_eq_ld, harg3.read_unread, harg4.read_unread, harg5.read_unread, harg6.read_unread, View.ld_unit_zero (S := S2048x1024) hz2, View.ld_unit_zero (S := S2048x1408) hz2]
  pointwise [k0_pay1]
theorem flushed0 (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [after0_2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine ((out0 ..).trans (block0 V c t r s _ _ rfl rfl)).trans ?_
  generalize hp : (((cfg0.win 2).blk t).view.emb (ix4 0 0 r s) : S4x4x2048x2816.Idx) = p
  have p0 : (p 0).val = win0_2.index t 0 * 1 + 1 * 0 := by rw [← hp]; rfl
  rw [(idx0_2 t).1] at p0
  have p1 : (p 1).val = win0_2.index t 1 * 1 + 1 * 0 := by rw [← hp]; rfl
  rw [(idx0_2 t).2.1] at p1
  have p2 : (p 2).val = win0_2.index t 2 * 1024 + 1 * r.val := by rw [← hp]; rfl
  rw [(idx0_2 t).2.2.1] at p2
  have p3 : (p 3).val = win0_2.index t 3 * 1408 + 1 * s.val := by rw [← hp]; rfl
  rw [(idx0_2 t).2.2.2] at p3
  show _ = if (p 1).val = 3 then prod 2048 (V c main_arg0) (V c main_arg1) (p 2).val (2816 * (p 0).val + (p 3).val) else _
  rw [if_pos (by omega), show (p 2).val = 1024 * (t.val / 8) + r.val by omega, show (2816 * (p 0).val + (p 3).val) = 1408 * (t.val % 8) + s.val by omega]
  exact (sum_first _ _).symm
theorem cover0 (i : S4x4x2048x2816.Idx) (hL : (i 1).val = 3) : ∃ t : Fin cfg0.N, (cfg0.win 2).flush t = true ∧ i ∈ ((cfg0.win 2).blk t).view.set := by
  have hN : cfg0.N = 16 := N_0
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + (2 * (i 0).val + (i 3).val / 1408) < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx0_2 t).1 (by omega)
  | ⟨1, _⟩ => exact in_blk 1 (i 1).val (idx0_2 t).2.1 (by omega)
  | ⟨2, _⟩ => exact in_blk 1024 (i 2).val (idx0_2 t).2.2.1 (by omega)
  | ⟨3, _⟩ => exact in_blk 1408 (i 3).val (idx0_2 t).2.2.2 (by omega)
theorem arr0 : (dat0 V c).arrAt 2 cfg0.N = G0 V c := by
  funext i
  rw [(dat0 V c).arrAt_eq_piecewise 2 (G0 V c) (flushed0 V c) i]
  split
  · rfl
  · next hno =>
    rw [A_eq0]
    exact (if_neg fun h => hno (cover0 i h)).symm

theorem idx1_0 : ∀ t : Fin grid1.N, win1_0.index t 0 = 0 ∧ win1_0.index t 1 = t.val / 8 := by decide +kernel
theorem idx1_1 : ∀ t : Fin grid1.N, win1_1.index t 0 = 0 ∧ win1_1.index t 1 = t.val % 8 := by decide +kernel
theorem idx1_2 : ∀ t : Fin grid1.N, win1_2.index t 0 = t.val % 8 / 2 ∧ win1_2.index t 1 = 2 ∧ win1_2.index t 2 = t.val / 8 ∧ win1_2.index t 3 = t.val % 8 % 2 := by decide +kernel
/-- What call 1 leaves: the product in layer 2, the other layers as it finds them. -/
def G1 : Buf (Elt Ideal) ((c : Thread nD τ).loc main_v1) := fun i => if (i 1).val = 2 then prod 2048 (V c main_arg2) (V c main_arg3) (i 2).val (2816 * (i 0).val + (i 3).val) else V c main_v1 i
theorem block1 (t : Fin cfg1.N) (r : Fin 1024) (s : Fin 1408) (x0 : Vec Ideal S2048x1024 .bf16) (x1 : Vec Ideal S2048x1408 .bf16) (h0 : x0 = iblk1 V c 0 t) (h1 : x1 = iblk1 V c 1 t) :
    ∑ k, x0 (ix2 k r) * x1 (ix2 k s) = ∑ k : Fin 2048, term (V c main_arg2) (V c main_arg3) r.val s.val t.val k.val := by
  subst h0 h1
  refine Finset.sum_congr rfl fun k _ => ?_
  unfold term iblk1
  rw [View.read_apply, View.read_apply]
  refine congrArg₂ (· * ·) ?_ ?_
  · exact at2_eq _ _ (by show win1_0.index t 0 * 2048 + 1 * k.val = _; rw [(idx1_0 t).1]; omega) (by show win1_0.index t 1 * 1024 + 1 * r.val = _; rw [(idx1_0 t).2]; omega)
  · exact at2_eq _ _ (by show win1_1.index t 0 * 2048 + 1 * k.val = _; rw [(idx1_1 t).1]; omega) (by show win1_1.index t 1 * 1408 + 1 * s.val = _; rw [(idx1_1 t).2]; omega)
theorem out1 (c i arg3 harg3 arg4 harg4 arg6 harg6 arg7 harg7 x0 x1) (r : Fin 1024) (s : Fin 1408) :
    out1_A_2 (F := Ideal) c i arg3 harg3 arg4 harg4 arg6 harg6 arg7 harg7 x0 x1 (ix4 0 0 r s) = ∑ k, x0 (ix2 k r) * x1 (ix2 k s) := by
  unfold out1_A_2
  rw [View.read_writes_eq_canon _ _ _ (fun _ => cover1_A_2 ..)]
  unfold kernelRun1_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2]
  pointwise [k1_pay1]
theorem flushed1 (t : Fin cfg1.N) (hf : (cfg1.win 2).flush t = true) :
    (dat1 V c).flushed 2 t = ((cfg1.win 2).blk t).view.read (Elt Ideal) (G1 V c) := by
  show (cfg1.win 2).cut (grid1.coords t) ((dat1 V c).after 2 t) = _
  rw [after1_2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine ((out1 ..).trans (block1 V c t r s _ _ rfl rfl)).trans ?_
  generalize hp : (((cfg1.win 2).blk t).view.emb (ix4 0 0 r s) : S4x4x2048x2816.Idx) = p
  have p0 : (p 0).val = win1_2.index t 0 * 1 + 1 * 0 := by rw [← hp]; rfl
  rw [(idx1_2 t).1] at p0
  have p1 : (p 1).val = win1_2.index t 1 * 1 + 1 * 0 := by rw [← hp]; rfl
  rw [(idx1_2 t).2.1] at p1
  have p2 : (p 2).val = win1_2.index t 2 * 1024 + 1 * r.val := by rw [← hp]; rfl
  rw [(idx1_2 t).2.2.1] at p2
  have p3 : (p 3).val = win1_2.index t 3 * 1408 + 1 * s.val := by rw [← hp]; rfl
  rw [(idx1_2 t).2.2.2] at p3
  show _ = if (p 1).val = 2 then prod 2048 (V c main_arg2) (V c main_arg3) (p 2).val (2816 * (p 0).val + (p 3).val) else _
  rw [if_pos (by omega), show (p 2).val = 1024 * (t.val / 8) + r.val by omega, show (2816 * (p 0).val + (p 3).val) = 1408 * (t.val % 8) + s.val by omega]
  exact (sum_first _ _).symm
theorem cover1 (i : S4x4x2048x2816.Idx) (hL : (i 1).val = 2) : ∃ t : Fin cfg1.N, (cfg1.win 2).flush t = true ∧ i ∈ ((cfg1.win 2).blk t).view.set := by
  have hN : cfg1.N = 16 := N_1
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + (2 * (i 0).val + (i 3).val / 1408) < cfg1.N by omega)
  refine ⟨t, flush1_2 t, ?_⟩
  show i ∈ ((View.whole main_v1).slice (win1_2.rect t)).set
  rw [View.set_slice_whole, Rect.mem_set_unit]
  intro q
  match q with
  | ⟨0, _⟩ => exact in_blk 1 (i 0).val (idx1_2 t).1 (by omega)
  | ⟨1, _⟩ => exact in_blk 1 (i 1).val (idx1_2 t).2.1 (by omega)
  | ⟨2, _⟩ => exact in_blk 1024 (i 2).val (idx1_2 t).2.2.1 (by omega)
  | ⟨3, _⟩ => exact in_blk 1408 (i 3).val (idx1_2 t).2.2.2 (by omega)
theorem arr1 : (dat1 V c).arrAt 2 cfg1.N = G1 V c := by
  funext i
  rw [(dat1 V c).arrAt_eq_piecewise 2 (G1 V c) (flushed1 V c) i]
  split
  · rfl
  · next hno =>
    rw [A_eq1]
    exact (if_neg fun h => hno (cover1 i h)).symm

theorem idx2_0 : ∀ t : Fin grid2.N, win2_0.index t 0 = 0 ∧ win2_0.index t 1 = t.val / 8 := by decide +kernel
theorem idx2_1 : ∀ t : Fin grid2.N, win2_1.index t 0 = 0 ∧ win2_1.index t 1 = t.val % 8 := by decide +kernel
theorem idx2_2 : ∀ t : Fin grid2.N, win2_2.index t 0 = t.val % 8 / 2 ∧ win2_2.index t 1 = 1 ∧ win2_2.index t 2 = t.val / 8 ∧ win2_2.index t 3 = t.val % 8 % 2 := by decide +kernel
/-- What call 2 leaves: the product in layer 1, the other layers as it finds them. -/
def G2 : Buf (Elt Ideal) ((c : Thread nD τ).loc main_v2) := fun i => if (i 1).val = 1 then prod 2048 (V c main_arg4) (V c main_arg5) (i 2).val (2816 * (i 0).val + (i 3).val) else V c main_v2 i
theorem block2 (t : Fin cfg2.N) (r : Fin 1024) (s : Fin 1408) (x0 : Vec Ideal S2048x1024 .bf16) (x1 : Vec Ideal S2048x1408 .bf16) (h0 : x0 = iblk2 V c 0 t) (h1 : x1 = iblk2 V c 1 t) :
    ∑ k, x0 (ix2 k r) * x1 (ix2 k s) = ∑ k : Fin 2048, term (V c main_arg4) (V c main_arg5) r.val s.val t.val k.val := by
  subst h0 h1
  refine Finset.sum_congr rfl fun k _ => ?_
  unfold term iblk2
  rw [View.read_apply, View.read_apply]
  refine congrArg₂ (· * ·) ?_ ?_
  · exact at2_eq _ _ (by show win2_0.index t 0 * 2048 + 1 * k.val = _; rw [(idx2_0 t).1]; omega) (by show win2_0.index t 1 * 1024 + 1 * r.val = _; rw [(idx2_0 t).2]; omega)
  · exact at2_eq _ _ (by show win2_1.index t 0 * 2048 + 1 * k.val = _; rw [(idx2_1 t).1]; omega) (by show win2_1.index t 1 * 1408 + 1 * s.val = _; rw [(idx2_1 t).2]; omega)
theorem out2 (c i arg3 harg3 arg4 harg4 arg6 harg6 arg7 harg7 x0 x1) (r : Fin 1024) (s : Fin 1408) :
    out2_A_2 (F := Ideal) c i arg3 harg3 arg4 harg4 arg6 harg6 arg7 harg7 x0 x1 (ix4 0 0 r s) = ∑ k, x0 (ix2 k r) * x1 (ix2 k s) := by
  unfold out2_A_2
  rw [View.read_writes_eq_canon _ _ _ (fun _ => cover2_A_2 ..)]
  unfold kernelRun2_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2]
  pointwise [k2_pay1]
theorem flushed2 (t : Fin cfg2.N) (hf : (cfg2.win 2).flush t = true) :
    (dat2 V c).flushed 2 t = ((cfg2.win 2).blk t).view.read (Elt Ideal) (G2 V c) := by
  show (cfg2.win 2).cut (grid2.coords t) ((dat2 V c).after 2 t) = _
  rw [after2_2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine ((out2 ..).trans (block2 V c t r s _ _ rfl rfl)).trans ?_
  generalize hp : (((cfg2.win 2).blk t).view.emb (ix4 0 0 r s) : S4x4x2048x2816.Idx) = p
  have p0 : (p 0).val = win2_2.index t 0 * 1 + 1 * 0 := by rw [← hp]; rfl
  rw [(idx2_2 t).1] at p0
  have p1 : (p 1).val = win2_2.index t 1 * 1 + 1 * 0 := by rw [← hp]; rfl
  rw [(idx2_2 t).2.1] at p1
  have p2 : (p 2).val = win2_2.index t 2 * 1024 + 1 * r.val := by rw [← hp]; rfl
  rw [(idx2_2 t).2.2.1] at p2
  have p3 : (p 3).val = win2_2.index t 3 * 1408 + 1 * s.val := by rw [← hp]; rfl
  rw [(idx2_2 t).2.2.2] at p3
  show _ = if (p 1).val = 1 then prod 2048 (V c main_arg4) (V c main_arg5) (p 2).val (2816 * (p 0).val + (p 3).val) else _
  rw [if_pos (by omega), show (p 2).val = 1024 * (t.val / 8) + r.val by omega, show (2816 * (p 0).val + (p 3).val) = 1408 * (t.val % 8) + s.val by omega]
  exact (sum_first _ _).symm
theorem cover2 (i : S4x4x2048x2816.Idx) (hL : (i 1).val = 1) : ∃ t : Fin cfg2.N, (cfg2.win 2).flush t = true ∧ i ∈ ((cfg2.win 2).blk t).view.set := by
  have hN : cfg2.N = 16 := N_2
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + (2 * (i 0).val + (i 3).val / 1408) < cfg2.N by omega)
  refine ⟨t, flush2_2 t, ?_⟩
  show i ∈ ((View.whole main_v2).slice (win2_2.rect t)).set
  rw [View.set_slice_whole, Rect.mem_set_unit]
  intro q
  match q with
  | ⟨0, _⟩ => exact in_blk 1 (i 0).val (idx2_2 t).1 (by omega)
  | ⟨1, _⟩ => exact in_blk 1 (i 1).val (idx2_2 t).2.1 (by omega)
  | ⟨2, _⟩ => exact in_blk 1024 (i 2).val (idx2_2 t).2.2.1 (by omega)
  | ⟨3, _⟩ => exact in_blk 1408 (i 3).val (idx2_2 t).2.2.2 (by omega)
theorem arr2 : (dat2 V c).arrAt 2 cfg2.N = G2 V c := by
  funext i
  rw [(dat2 V c).arrAt_eq_piecewise 2 (G2 V c) (flushed2 V c) i]
  split
  · rfl
  · next hno =>
    rw [A_eq2]
    exact (if_neg fun h => hno (cover2 i h)).symm

theorem idx3_0 : ∀ t : Fin grid3.N, win3_0.index t 0 = 0 ∧ win3_0.index t 1 = t.val / 8 := by decide +kernel
theorem idx3_1 : ∀ t : Fin grid3.N, win3_1.index t 0 = 0 ∧ win3_1.index t 1 = t.val % 8 := by decide +kernel
theorem idx3_2 : ∀ t : Fin grid3.N, win3_2.index t 0 = t.val % 8 / 2 ∧ win3_2.index t 1 = 0 ∧ win3_2.index t 2 = t.val / 8 ∧ win3_2.index t 3 = t.val % 8 % 2 := by decide +kernel
/-- What call 3 leaves: the product in layer 0, the other layers as it finds them. -/
def G3 : Buf (Elt Ideal) ((c : Thread nD τ).loc main_v3) := fun i => if (i 1).val = 0 then prod 2048 (V c main_arg6) (V c main_arg7) (i 2).val (2816 * (i 0).val + (i 3).val) else V c main_v3 i
theorem block3 (t : Fin cfg3.N) (r : Fin 1024) (s : Fin 1408) (x0 : Vec Ideal S2048x1024 .bf16) (x1 : Vec Ideal S2048x1408 .bf16) (h0 : x0 = iblk3 V c 0 t) (h1 : x1 = iblk3 V c 1 t) :
    ∑ k, x0 (ix2 k r) * x1 (ix2 k s) = ∑ k : Fin 2048, term (V c main_arg6) (V c main_arg7) r.val s.val t.val k.val := by
  subst h0 h1
  refine Finset.sum_congr rfl fun k _ => ?_
  unfold term iblk3
  rw [View.read_apply, View.read_apply]
  refine congrArg₂ (· * ·) ?_ ?_
  · exact at2_eq _ _ (by show win3_0.index t 0 * 2048 + 1 * k.val = _; rw [(idx3_0 t).1]; omega) (by show win3_0.index t 1 * 1024 + 1 * r.val = _; rw [(idx3_0 t).2]; omega)
  · exact at2_eq _ _ (by show win3_1.index t 0 * 2048 + 1 * k.val = _; rw [(idx3_1 t).1]; omega) (by show win3_1.index t 1 * 1408 + 1 * s.val = _; rw [(idx3_1 t).2]; omega)
theorem out3 (c i arg3 harg3 arg4 harg4 arg6 harg6 arg7 harg7 x0 x1) (r : Fin 1024) (s : Fin 1408) :
    out3_A_2 (F := Ideal) c i arg3 harg3 arg4 harg4 arg6 harg6 arg7 harg7 x0 x1 (ix4 0 0 r s) = ∑ k, x0 (ix2 k r) * x1 (ix2 k s) := by
  unfold out3_A_2
  rw [View.read_writes_eq_canon _ _ _ (fun _ => cover3_A_2 ..)]
  unfold kernelRun3_A
  dsimp only
  rw [View.canon_unit_zero hz4]
  simp only [View.readAt_eq_ld, harg3.read_unread, harg4.read_unread, harg6.read_unread, harg7.read_unread, View.ld_unit_zero (S := S2048x1024) hz2, View.ld_unit_zero (S := S2048x1408) hz2]
  pointwise [k3_pay1]
theorem flushed3 (t : Fin cfg3.N) (hf : (cfg3.win 2).flush t = true) :
    (dat3 V c).flushed 2 t = ((cfg3.win 2).blk t).view.read (Elt Ideal) (G3 V c) := by
  show (cfg3.win 2).cut (grid3.coords t) ((dat3 V c).after 2 t) = _
  rw [after3_2]
  funext j
  obtain ⟨x, y, r, s, rfl⟩ : ∃ (x : Fin 1) (y : Fin 1) (r : Fin 1024) (s : Fin 1408), j = ix4 x y r s := ⟨j 0, j 1, j 2, j 3, (ix4_eta j).symm⟩
  obtain rfl : x = 0 := Subsingleton.elim _ _
  obtain rfl : y = 0 := Subsingleton.elim _ _
  rw [View.read_apply]
  refine ((out3 ..).trans (block3 V c t r s _ _ rfl rfl)).trans ?_
  generalize hp : (((cfg3.win 2).blk t).view.emb (ix4 0 0 r s) : S4x4x2048x2816.Idx) = p
  have p0 : (p 0).val = win3_2.index t 0 * 1 + 1 * 0 := by rw [← hp]; rfl
  rw [(idx3_2 t).1] at p0
  have p1 : (p 1).val = win3_2.index t 1 * 1 + 1 * 0 := by rw [← hp]; rfl
  rw [(idx3_2 t).2.1] at p1
  have p2 : (p 2).val = win3_2.index t 2 * 1024 + 1 * r.val := by rw [← hp]; rfl
  rw [(idx3_2 t).2.2.1] at p2
  have p3 : (p 3).val = win3_2.index t 3 * 1408 + 1 * s.val := by rw [← hp]; rfl
  rw [(idx3_2 t).2.2.2] at p3
  show _ = if (p 1).val = 0 then prod 2048 (V c main_arg6) (V c main_arg7) (p 2).val (2816 * (p 0).val + (p 3).val) else _
  rw [if_pos (by omega), show (p 2).val = 1024 * (t.val / 8) + r.val by omega, show (2816 * (p 0).val + (p 3).val) = 1408 * (t.val % 8) + s.val by omega]
  exact (sum_first _ _).symm
theorem cover3 (i : S4x4x2048x2816.Idx) (hL : (i 1).val = 0) : ∃ t : Fin cfg3.N, (cfg3.win 2).flush t = true ∧ i ∈ ((cfg3.win 2).blk t).view.set := by
  have hN : cfg3.N = 16 := N_3
  have h0 : (i 0).val < 4 := (i 0).isLt
  have h1 : (i 1).val < 4 := (i 1).isLt
  have h2 : (i 2).val < 2048 := (i 2).isLt
  have h3 : (i 3).val < 2816 := (i 3).isLt
  obtain ⟨t, ht⟩ := fin_of (show 8 * ((i 2).val / 1024) + (2 * (i 0).val + (i 3).val / 1408) < cfg3.N by omega)
  refine ⟨t, flush3_2 t, ?_⟩
  show i ∈ ((View.whole main_v3).slice (win3_2.rect t)).set
  rw [View.set_slice_whole, Rect.mem_set_unit]
  intro q
  match q with
  | ⟨0, _⟩ => exact in_blk 1 (i 0).val (idx3_2 t).1 (by omega)
  | ⟨1, _⟩ => exact in_blk 1 (i 1).val (idx3_2 t).2.1 (by omega)
  | ⟨2, _⟩ => exact in_blk 1024 (i 2).val (idx3_2 t).2.2.1 (by omega)
  | ⟨3, _⟩ => exact in_blk 1408 (i 3).val (idx3_2 t).2.2.2 (by omega)
theorem arr3 : (dat3 V c).arrAt 2 cfg3.N = G3 V c := by
  funext i
  rw [(dat3 V c).arrAt_eq_piecewise 2 (G3 V c) (flushed3 V c) i]
  split
  · rfl
  · next hno =>
    rw [A_eq3]
    exact (if_neg fun h => hno (cover3 i h)).symm

end Calls

variable (m : (ℓ : Loc nD τ sig) → Buf (Elt Ideal) ℓ) (ρ : Dev nD → PrngReg) (c : Dev nD)

/-- The first call's layer, after it. -/
theorem val0 (i : S4x4x2048x2816.Idx) (h : (i 1).val = 3) : (W1 m ρ c (Proc.devRef .tc main_v0) : S4x4x2048x2816.Idx → EReal) i = prod 2048 (m ((c : Thread nD τ).loc main_arg0)) (m ((c : Thread nD τ).loc main_arg1)) (i 2).val (2816 * (i 0).val + (i 3).val) := by
  refine (congrFun ((W1_arr m ρ c 2).trans (arr0 _ c)) i).trans ((if_pos h).trans ?_)
  rfl
/-- Call 1 adds its layer to what the call before it left. -/
theorem val1 (i : S4x4x2048x2816.Idx) : (W3 m ρ c (Proc.devRef .tc main_v1) : S4x4x2048x2816.Idx → EReal) i
    = if (i 1).val = 2 then prod 2048 (m ((c : Thread nD τ).loc main_arg2)) (m ((c : Thread nD τ).loc main_arg3)) (i 2).val (2816 * (i 0).val + (i 3).val) else (W1 m ρ c (Proc.devRef .tc main_v0) : S4x4x2048x2816.Idx → EReal) i := by
  refine (congrFun ((W3_arr m ρ c 2).trans (arr1 _ c)) i).trans ?_
  have hv : W2 m ρ c (Proc.devRef .tc main_v1) = W1 m ρ c (Proc.devRef .tc main_v0) := by
    show StableHlo.after hostOps1 _ _ = _
    after_results; try rfl
  show (if _ then prod 2048 (W2 m ρ c (Proc.devRef .tc main_arg2)) (W2 m ρ c (Proc.devRef .tc main_arg3)) _ _ else W2 m ρ c (Proc.devRef .tc main_v1) i) = _
  rw [hv, W2_args m ρ c main_arg2 (by decide), W2_args m ρ c main_arg3 (by decide)]
/-- Call 2 adds its layer to what the call before it left. -/
theorem val2 (i : S4x4x2048x2816.Idx) : (W5 m ρ c (Proc.devRef .tc main_v2) : S4x4x2048x2816.Idx → EReal) i
    = if (i 1).val = 1 then prod 2048 (m ((c : Thread nD τ).loc main_arg4)) (m ((c : Thread nD τ).loc main_arg5)) (i 2).val (2816 * (i 0).val + (i 3).val) else (W3 m ρ c (Proc.devRef .tc main_v1) : S4x4x2048x2816.Idx → EReal) i := by
  refine (congrFun ((W5_arr m ρ c 2).trans (arr2 _ c)) i).trans ?_
  have hv : W4 m ρ c (Proc.devRef .tc main_v2) = W3 m ρ c (Proc.devRef .tc main_v1) := by
    show StableHlo.after hostOps2 _ _ = _
    after_results; try rfl
  show (if _ then prod 2048 (W4 m ρ c (Proc.devRef .tc main_arg4)) (W4 m ρ c (Proc.devRef .tc main_arg5)) _ _ else W4 m ρ c (Proc.devRef .tc main_v2) i) = _
  rw [hv, W4_args m ρ c main_arg4 (by decide), W4_args m ρ c main_arg5 (by decide)]
/-- Call 3 adds its layer to what the call before it left. -/
theorem val3 (i : S4x4x2048x2816.Idx) : (W7 m ρ c (Proc.devRef .tc main_v3) : S4x4x2048x2816.Idx → EReal) i
    = if (i 1).val = 0 then prod 2048 (m ((c : Thread nD τ).loc main_arg6)) (m ((c : Thread nD τ).loc main_arg7)) (i 2).val (2816 * (i 0).val + (i 3).val) else (W5 m ρ c (Proc.devRef .tc main_v2) : S4x4x2048x2816.Idx → EReal) i := by
  refine (congrFun ((W7_arr m ρ c 2).trans (arr3 _ c)) i).trans ?_
  have hv : W6 m ρ c (Proc.devRef .tc main_v3) = W5 m ρ c (Proc.devRef .tc main_v2) := by
    show StableHlo.after hostOps3 _ _ = _
    after_results; try rfl
  show (if _ then prod 2048 (W6 m ρ c (Proc.devRef .tc main_arg6)) (W6 m ρ c (Proc.devRef .tc main_arg7)) _ _ else W6 m ρ c (Proc.devRef .tc main_v3) i) = _
  rw [hv, W6_args m ρ c main_arg6 (by decide), W6_args m ρ c main_arg7 (by decide)]
/-- The array of all the layers. -/
def G : Buf (Elt Ideal) ((c : Thread nD τ).loc main_v3) := fun i =>
  if (i 1).val = 0 then prod 2048 (m ((c : Thread nD τ).loc main_arg6)) (m ((c : Thread nD τ).loc main_arg7)) (i 2).val (2816 * (i 0).val + (i 3).val) else if (i 1).val = 1 then prod 2048 (m ((c : Thread nD τ).loc main_arg4)) (m ((c : Thread nD τ).loc main_arg5)) (i 2).val (2816 * (i 0).val + (i 3).val) else if (i 1).val = 2 then prod 2048 (m ((c : Thread nD τ).loc main_arg2)) (m ((c : Thread nD τ).loc main_arg3)) (i 2).val (2816 * (i 0).val + (i 3).val) else prod 2048 (m ((c : Thread nD τ).loc main_arg0)) (m ((c : Thread nD τ).loc main_arg1)) (i 2).val (2816 * (i 0).val + (i 3).val)
theorem final : W7 m ρ c (Proc.devRef .tc main_v3) = G m c := by
  funext i
  have hi : (i 1).val < 4 := (i 1).isLt
  refine (val3 m ρ c i).trans ?_
  unfold G
  by_cases h0 : (i 1).val = 0
  · rw [if_pos h0, if_pos h0]
  rw [if_neg h0, if_neg h0, val2 m ρ c i]
  by_cases h1 : (i 1).val = 1
  · rw [if_pos h1, if_pos h1]
  rw [if_neg h1, if_neg h1, val1 m ρ c i]
  by_cases h2 : (i 1).val = 2
  · rw [if_pos h2, if_pos h2]
  rw [if_neg h2, if_neg h2, val0 m ρ c i (by omega)]

/-- Every weakly fair execution of the calls terminates with every array as the last boundary has it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m ρ c b)
    (hfin := fun c s' => by
      iintro ⟨⟨Hh, -⟩, HSI⟩
      unfold StableHlo.held
      imodintro
      iapply (pointsTo_read_all (Pipeline.ucRefs τ sig) (fun b => ((c : Thread nD τ).1, b)) (W7 m ρ c) s')
      isplitl [Hh] <;> iassumption)
    (hQ := fun s h _ => h)

/-- The calls at the machine's floats terminate, keep their arguments, and leave every counter at zero. -/
theorem frame : quiescent_FfUps (hFfUps := FfUps.Gen.facts) := fun m ρ _ => FfUps.Gen.frame m ρ
/-- So do the calls over the extended reals. -/
theorem frame_ideal : quiescent_FfUpsIdeal (hFfUpsIdeal := facts) := fun m ρ _ => FfUpsIdeal.Gen.frame m ρ
/-- So does the reference over the extended reals. -/
theorem frame_ref : quiescent_FfUpsRefIdeal (hFfUpsRefIdeal := FfUpsRefIdeal.Gen.facts) := fun m ρ _ =>
  (θ_run FfUpsRefIdeal.defs _ _).mono (fun r h => ⟨fun c => (h c).2, sem_eq_zero_of_no_sems (by decide) r.2⟩)
    (FfUpsRefIdeal.Value.run (F := Ideal) m ρ)
/-- No operation of the calls is replaced. -/
theorem preserves : preserves_FfUps_FfUpsIdeal := trivial
/-- Calls and reference end with the same array. -/
theorem algebraic : algebraic_FfUpsIdeal_FfUpsRefIdeal (hFfUpsIdeal := facts) (hFfUpsRefIdeal := FfUpsRefIdeal.Gen.facts) := by
  intro m g m' g' _ hargs
  refine ⟨fun c => G m c, (θ_run defs _ _).mono (fun r h c => ⟨(h c _ (mem_uc main_v3 (by decide))).trans (final m g c),
      (h c _ (mem_uc main_arg0 (by decide))).trans (W7_main_arg0 m g c),
      (h c _ (mem_uc main_arg1 (by decide))).trans (W7_main_arg1 m g c),
      (h c _ (mem_uc main_arg2 (by decide))).trans (W7_main_arg2 m g c),
      (h c _ (mem_uc main_arg3 (by decide))).trans (W7_main_arg3 m g c),
      (h c _ (mem_uc main_arg4 (by decide))).trans (W7_main_arg4 m g c),
      (h c _ (mem_uc main_arg5 (by decide))).trans (W7_main_arg5 m g c),
      (h c _ (mem_uc main_arg6 (by decide))).trans (W7_main_arg6 m g c),
      (h c _ (mem_uc main_arg7 (by decide))).trans (W7_main_arg7 m g c)⟩) (run_all m g),
    (θ_run FfUpsRefIdeal.defs _ _).mono (fun r h c => ⟨(h c).1.trans ?_, (h c).2⟩) (FfUpsRefIdeal.Value.run (F := Ideal) m' g')⟩
  obtain ⟨a0, a1, a2, a3, a4, a5, a6, a7⟩ := hargs c
  rw [a0, a1, a2, a3, a4, a5, a6, a7]
  funext i
  obtain ⟨x, y, r, s, rfl⟩ : ∃ (x : Fin 4) (y : Fin 4) (r : Fin 2048) (s : Fin 2816), i = ix4 x y r s := ⟨i 0, i 1, i 2, i 3, (ix4_eta i).symm⟩
  pointwise []
  show _ = if y.val = 0 then prod 2048 (m ((c : Thread nD τ).loc main_arg6)) (m ((c : Thread nD τ).loc main_arg7)) r.val (2816 * x.val + s.val) else if y.val = 1 then prod 2048 (m ((c : Thread nD τ).loc main_arg4)) (m ((c : Thread nD τ).loc main_arg5)) r.val (2816 * x.val + s.val) else if y.val = 2 then prod 2048 (m ((c : Thread nD τ).loc main_arg2)) (m ((c : Thread nD τ).loc main_arg3)) r.val (2816 * x.val + s.val) else prod 2048 (m ((c : Thread nD τ).loc main_arg0)) (m ((c : Thread nD τ).loc main_arg1)) r.val (2816 * x.val + s.val)
  by_cases h0 : y.val = 0
  · rw [dif_pos (by omega), if_pos h0]
    exact prod_eq _ _ _ _ rfl (by show x.val * 2816 + s.val = 2816 * x.val + s.val; omega)
  rw [dif_neg (by omega), if_neg h0]
  by_cases h1 : y.val = 1
  · rw [dif_pos (by omega), if_pos h1]
    exact prod_eq _ _ _ _ rfl (by show x.val * 2816 + s.val = 2816 * x.val + s.val; omega)
  rw [dif_neg (by omega), if_neg h1]
  by_cases h2 : y.val = 2
  · rw [dif_pos (by omega), if_pos h2]
    exact prod_eq _ _ _ _ rfl (by show x.val * 2816 + s.val = 2816 * x.val + s.val; omega)
  rw [dif_neg (by omega), if_neg h2]
  exact prod_eq _ _ _ _ rfl (by show x.val * 2816 + s.val = 2816 * x.val + s.val; omega)

end Cert.Proof.FfUps

end
-- ==== Proof.EvWoutsClaim.lean ====
/- The even output projections' gradients, both layers. -/
module

public import proofs.«01_k».proof.Proof.Mm
public import proofs.«01_k».proof.Proof.Gen.EvWouts.Frame
public import proofs.«01_k».proof.Proof.Gen.EvWoutsIdeal.Frame
public import proofs.«01_k».proof.Proof.Gen.EvWoutsRefIdeal.Run

@[expose] public section

set_option maxRecDepth 16384

noncomputable section

namespace Cert.Proof.EvWouts

open Idealize.ShloMosaic Idealize.ShloMosaic.TcCoe Idealize.SL Idealize.SL.RA Idealize.SL.BI Idealize.SL.BI.BIBase Idealize.SL.BI.Laws Idealize.SL.ProofMode Idealize.SL.Sem
open Idealize.ShloMosaic.Rounds Mm EvWoutsIdeal EvWoutsIdeal.Gen
open Idealize.ShloMosaic.Pipeline (cellOf)

section Calls
variable (V : (c : Dev nD) → (b : Ref sig .tc) → Buf (Elt Ideal) ((c : Thread nD τ).loc b)) (c : Dev nD)

/-- One product's entries at row `r` and column `s` of grid point `n`'s block, term by term. -/
def term (x : S2048x4096.Idx → EReal) (y : S2048x2048.Idx → EReal) (r s n k : ℕ) : EReal :=
  at2 x k (1024 * (n / 2) + r) * at2 y k (1024 * (n % 2) + s)

theorem idx0_0 : ∀ t : Fin grid0.N, win0_0.index t 0 = 0 ∧ win0_0.index t 1 = t.val / 2 := by decide +kernel
theorem idx0_1 : ∀ t : Fin grid0.N, win0_1.index t 0 = 0 ∧ win0_1.index t 1 = t.val % 2 := by decide +kernel
theorem idx0_2 : ∀ t : Fin grid0.N, win0_2.index t 0 = 1 ∧ win0_2.index t 1 = t.val / 2 ∧ win0_2.index t 2 = t.val % 2 := by decide +kernel
/-- What call 0 leaves: the product in layer 1, the other layers as it finds them. -/
def G0 : Buf (Elt Ideal) ((c : Thread nD τ).loc main_v0) := fun i => if (i 0).val = 1 then prod 2048 (V c main_arg0) (V c main_arg1) (i 1).val (i 2).val else V c main_v0 i
theorem block0 (t : Fin cfg0.N) (r : Fin 1024) (s : Fin 1024) (x0 : Vec Ideal S2048x1024 .bf16) (x1 : Vec Ideal S2048x1024 .f32) (h0 : x0 = iblk0 V c 0 t) (h1 : x1 = iblk0 V c 1 t) :
    ∑ k, x0 (ix2 k r) * x1 (ix2 k s) = ∑ k : Fin 2048, term (V c main_arg0) (V c main_arg1) r.val s.val t.val k.val := by
  subst h0 h1
  refine Finset.sum_congr rfl fun k _ => ?_
  unfold term iblk0
  rw [View.read_apply, View.read_apply]
  refine congrArg₂ (· * ·) ?_ ?_
  · exact at2_eq _ _ (by show win0_0.index t 0 * 2048 + 1 * k.val = _; rw [(idx0_0 t).1]; omega) (by show win0_0.index t 1 * 1024 + 1 * r.val = _; rw [(idx0_0 t).2]; omega)
  · exact at2_eq _ _ (by show win0_1.index t 0 * 2048 + 1 * k.val = _; rw [(idx0_1 t).1]; omega) (by show win0_1.index t 1 * 1024 + 1 * s.val = _; rw [(idx0_1 t).2]; omega)
theorem out0 (c i arg3 harg3 arg4 harg4 arg5 harg5 arg6 harg6 x0 x1) (r : Fin 1024) (s : Fin 1024) :
    out0_A_2 (F := Ideal) c i arg3 harg3 arg4 harg4 arg5 harg5 arg6 harg6 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg5.read_unread, harg6.read_unread, View.ld_unit_zero (S := S2048x1024) hz2]
  pointwise [k0_pay1]
theorem flushed0 (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [after0_2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine ((out0 ..).trans (block0 V c t r s _ _ rfl rfl)).trans ?_
  generalize hp : (((cfg0.win 2).blk t).view.emb (ix3 0 r s) : S2x4096x2048.Idx) = p
  have p0 : (p 0).val = win0_2.index t 0 * 1 + 1 * 0 := by rw [← hp]; rfl
  rw [(idx0_2 t).1] at p0
  have p1 : (p 1).val = win0_2.index t 1 * 1024 + 1 * r.val := by rw [← hp]; rfl
  rw [(idx0_2 t).2.1] at p1
  have p2 : (p 2).val = win0_2.index t 2 * 1024 + 1 * s.val := by rw [← hp]; rfl
  rw [(idx0_2 t).2.2] at p2
  show _ = if (p 0).val = 1 then prod 2048 (V c main_arg0) (V c main_arg1) (p 1).val (p 2).val else _
  rw [if_pos (by omega), show (p 1).val = 1024 * (t.val / 2) + r.val by omega, show (p 2).val = 1024 * (t.val % 2) + s.val by omega]
  exact (sum_first _ _).symm
theorem cover0 (i : S2x4096x2048.Idx) (hL : (i 0).val = 1) : ∃ t : Fin cfg0.N, (cfg0.win 2).flush t = true ∧ i ∈ ((cfg0.win 2).blk t).view.set := by
  have hN : cfg0.N = 8 := N_0
  have h0 : (i 0).val < 2 := (i 0).isLt
  have h1 : (i 1).val < 4096 := (i 1).isLt
  have h2 : (i 2).val < 2048 := (i 2).isLt
  obtain ⟨t, ht⟩ := fin_of (show 2 * ((i 1).val / 1024) + ((i 2).val / 1024) < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx0_2 t).1 (by omega)
  | ⟨1, _⟩ => exact in_blk 1024 (i 1).val (idx0_2 t).2.1 (by omega)
  | ⟨2, _⟩ => exact in_blk 1024 (i 2).val (idx0_2 t).2.2 (by omega)
theorem arr0 : (dat0 V c).arrAt 2 cfg0.N = G0 V c := by
  funext i
  rw [(dat0 V c).arrAt_eq_piecewise 2 (G0 V c) (flushed0 V c) i]
  split
  · rfl
  · next hno =>
    rw [A_eq0]
    exact (if_neg fun h => hno (cover0 i h)).symm

theorem idx1_0 : ∀ t : Fin grid1.N, win1_0.index t 0 = 0 ∧ win1_0.index t 1 = t.val / 2 := by decide +kernel
theorem idx1_1 : ∀ t : Fin grid1.N, win1_1.index t 0 = 0 ∧ win1_1.index t 1 = t.val % 2 := by decide +kernel
theorem idx1_2 : ∀ t : Fin grid1.N, win1_2.index t 0 = 0 ∧ win1_2.index t 1 = t.val / 2 ∧ win1_2.index t 2 = t.val % 2 := by decide +kernel
/-- What call 1 leaves: the product in layer 0, the other layers as it finds them. -/
def G1 : Buf (Elt Ideal) ((c : Thread nD τ).loc main_v1) := fun i => if (i 0).val = 0 then prod 2048 (V c main_arg2) (V c main_arg3) (i 1).val (i 2).val else V c main_v1 i
theorem block1 (t : Fin cfg1.N) (r : Fin 1024) (s : Fin 1024) (x0 : Vec Ideal S2048x1024 .bf16) (x1 : Vec Ideal S2048x1024 .f32) (h0 : x0 = iblk1 V c 0 t) (h1 : x1 = iblk1 V c 1 t) :
    ∑ k, x0 (ix2 k r) * x1 (ix2 k s) = ∑ k : Fin 2048, term (V c main_arg2) (V c main_arg3) r.val s.val t.val k.val := by
  subst h0 h1
  refine Finset.sum_congr rfl fun k _ => ?_
  unfold term iblk1
  rw [View.read_apply, View.read_apply]
  refine congrArg₂ (· * ·) ?_ ?_
  · exact at2_eq _ _ (by show win1_0.index t 0 * 2048 + 1 * k.val = _; rw [(idx1_0 t).1]; omega) (by show win1_0.index t 1 * 1024 + 1 * r.val = _; rw [(idx1_0 t).2]; omega)
  · exact at2_eq _ _ (by show win1_1.index t 0 * 2048 + 1 * k.val = _; rw [(idx1_1 t).1]; omega) (by show win1_1.index t 1 * 1024 + 1 * s.val = _; rw [(idx1_1 t).2]; omega)
theorem out1 (c i arg3 harg3 arg4 harg4 arg6 harg6 arg7 harg7 x0 x1) (r : Fin 1024) (s : Fin 1024) :
    out1_A_2 (F := Ideal) c i arg3 harg3 arg4 harg4 arg6 harg6 arg7 harg7 x0 x1 (ix3 0 r s) = ∑ k, x0 (ix2 k r) * x1 (ix2 k s) := by
  unfold out1_A_2
  rw [View.read_writes_eq_canon _ _ _ (fun _ => cover1_A_2 ..)]
  unfold kernelRun1_A
  dsimp only
  rw [View.canon_unit_zero hz3]
  simp only [View.readAt_eq_ld, harg3.read_unread, harg4.read_unread, harg6.read_unread, harg7.read_unread, View.ld_unit_zero (S := S2048x1024) hz2]
  pointwise [k1_pay1]
theorem flushed1 (t : Fin cfg1.N) (hf : (cfg1.win 2).flush t = true) :
    (dat1 V c).flushed 2 t = ((cfg1.win 2).blk t).view.read (Elt Ideal) (G1 V c) := by
  show (cfg1.win 2).cut (grid1.coords t) ((dat1 V c).after 2 t) = _
  rw [after1_2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine ((out1 ..).trans (block1 V c t r s _ _ rfl rfl)).trans ?_
  generalize hp : (((cfg1.win 2).blk t).view.emb (ix3 0 r s) : S2x4096x2048.Idx) = p
  have p0 : (p 0).val = win1_2.index t 0 * 1 + 1 * 0 := by rw [← hp]; rfl
  rw [(idx1_2 t).1] at p0
  have p1 : (p 1).val = win1_2.index t 1 * 1024 + 1 * r.val := by rw [← hp]; rfl
  rw [(idx1_2 t).2.1] at p1
  have p2 : (p 2).val = win1_2.index t 2 * 1024 + 1 * s.val := by rw [← hp]; rfl
  rw [(idx1_2 t).2.2] at p2
  show _ = if (p 0).val = 0 then prod 2048 (V c main_arg2) (V c main_arg3) (p 1).val (p 2).val else _
  rw [if_pos (by omega), show (p 1).val = 1024 * (t.val / 2) + r.val by omega, show (p 2).val = 1024 * (t.val % 2) + s.val by omega]
  exact (sum_first _ _).symm
theorem cover1 (i : S2x4096x2048.Idx) (hL : (i 0).val = 0) : ∃ t : Fin cfg1.N, (cfg1.win 2).flush t = true ∧ i ∈ ((cfg1.win 2).blk t).view.set := by
  have hN : cfg1.N = 8 := N_1
  have h0 : (i 0).val < 2 := (i 0).isLt
  have h1 : (i 1).val < 4096 := (i 1).isLt
  have h2 : (i 2).val < 2048 := (i 2).isLt
  obtain ⟨t, ht⟩ := fin_of (show 2 * ((i 1).val / 1024) + ((i 2).val / 1024) < cfg1.N by omega)
  refine ⟨t, flush1_2 t, ?_⟩
  show i ∈ ((View.whole main_v1).slice (win1_2.rect t)).set
  rw [View.set_slice_whole, Rect.mem_set_unit]
  intro q
  match q with
  | ⟨0, _⟩ => exact in_blk 1 (i 0).val (idx1_2 t).1 (by omega)
  | ⟨1, _⟩ => exact in_blk 1024 (i 1).val (idx1_2 t).2.1 (by omega)
  | ⟨2, _⟩ => exact in_blk 1024 (i 2).val (idx1_2 t).2.2 (by omega)
theorem arr1 : (dat1 V c).arrAt 2 cfg1.N = G1 V c := by
  funext i
  rw [(dat1 V c).arrAt_eq_piecewise 2 (G1 V c) (flushed1 V c) i]
  split
  · rfl
  · next hno =>
    rw [A_eq1]
    exact (if_neg fun h => hno (cover1 i h)).symm

end Calls

variable (m : (ℓ : Loc nD τ sig) → Buf (Elt Ideal) ℓ) (ρ : Dev nD → PrngReg) (c : Dev nD)

/-- The first call's layer, after it. -/
theorem val0 (i : S2x4096x2048.Idx) (h : (i 0).val = 1) : (W1 m ρ c (Proc.devRef .tc main_v0) : S2x4096x2048.Idx → EReal) i = prod 2048 (m ((c : Thread nD τ).loc main_arg0)) (m ((c : Thread nD τ).loc main_arg1)) (i 1).val (i 2).val := by
  refine (congrFun ((W1_arr m ρ c 2).trans (arr0 _ c)) i).trans ((if_pos h).trans ?_)
  rfl
/-- Call 1 adds its layer to what the call before it left. -/
theorem val1 (i : S2x4096x2048.Idx) : (W3 m ρ c (Proc.devRef .tc main_v1) : S2x4096x2048.Idx → EReal) i
    = if (i 0).val = 0 then prod 2048 (m ((c : Thread nD τ).loc main_arg2)) (m ((c : Thread nD τ).loc main_arg3)) (i 1).val (i 2).val else (W1 m ρ c (Proc.devRef .tc main_v0) : S2x4096x2048.Idx → EReal) i := by
  refine (congrFun ((W3_arr m ρ c 2).trans (arr1 _ c)) i).trans ?_
  have hv : W2 m ρ c (Proc.devRef .tc main_v1) = W1 m ρ c (Proc.devRef .tc main_v0) := by
    show StableHlo.after hostOps1 _ _ = _
    after_results; try rfl
  show (if _ then prod 2048 (W2 m ρ c (Proc.devRef .tc main_arg2)) (W2 m ρ c (Proc.devRef .tc main_arg3)) _ _ else W2 m ρ c (Proc.devRef .tc main_v1) i) = _
  rw [hv, W2_args m ρ c main_arg2 (by decide), W2_args m ρ c main_arg3 (by decide)]
/-- The array of all the layers. -/
def G : Buf (Elt Ideal) ((c : Thread nD τ).loc main_v1) := fun i =>
  if (i 0).val = 0 then prod 2048 (m ((c : Thread nD τ).loc main_arg2)) (m ((c : Thread nD τ).loc main_arg3)) (i 1).val (i 2).val else prod 2048 (m ((c : Thread nD τ).loc main_arg0)) (m ((c : Thread nD τ).loc main_arg1)) (i 1).val (i 2).val
theorem final : W3 m ρ c (Proc.devRef .tc main_v1) = G m c := by
  funext i
  have hi : (i 0).val < 2 := (i 0).isLt
  refine (val1 m ρ c i).trans ?_
  unfold G
  by_cases h0 : (i 0).val = 0
  · rw [if_pos h0, if_pos h0]
  rw [if_neg h0, if_neg h0, val0 m ρ c i (by omega)]

/-- Every weakly fair execution of the calls terminates with every array as the last boundary has it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W3 m ρ c b)
    (hfin := fun c s' => by
      iintro ⟨⟨Hh, -⟩, HSI⟩
      unfold StableHlo.held
      imodintro
      iapply (pointsTo_read_all (Pipeline.ucRefs τ sig) (fun b => ((c : Thread nD τ).1, b)) (W3 m ρ c) s')
      isplitl [Hh] <;> iassumption)
    (hQ := fun s h _ => h)

/-- The calls at the machine's floats terminate, keep their arguments, and leave every counter at zero. -/
theorem frame : quiescent_EvWouts (hEvWouts := EvWouts.Gen.facts) := fun m ρ _ => EvWouts.Gen.frame m ρ
/-- So do the calls over the extended reals. -/
theorem frame_ideal : quiescent_EvWoutsIdeal (hEvWoutsIdeal := facts) := fun m ρ _ => EvWoutsIdeal.Gen.frame m ρ
/-- So does the reference over the extended reals. -/
theorem frame_ref : quiescent_EvWoutsRefIdeal (hEvWoutsRefIdeal := EvWoutsRefIdeal.Gen.facts) := fun m ρ _ =>
  (θ_run EvWoutsRefIdeal.defs _ _).mono (fun r h => ⟨fun c => (h c).2, sem_eq_zero_of_no_sems (by decide) r.2⟩)
    (EvWoutsRefIdeal.Value.run (F := Ideal) m ρ)
/-- No operation of the calls is replaced. -/
theorem preserves : preserves_EvWouts_EvWoutsIdeal := trivial
/-- Calls and reference end with the same array. -/
theorem algebraic : algebraic_EvWoutsIdeal_EvWoutsRefIdeal (hEvWoutsIdeal := facts) (hEvWoutsRefIdeal := EvWoutsRefIdeal.Gen.facts) := by
  intro m g m' g' _ hargs
  refine ⟨fun c => G m c, (θ_run defs _ _).mono (fun r h c => ⟨(h c _ (mem_uc main_v1 (by decide))).trans (final m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c)⟩) (run_all m g),
    (θ_run EvWoutsRefIdeal.defs _ _).mono (fun r h c => ⟨(h c).1.trans ?_, (h c).2⟩) (EvWoutsRefIdeal.Value.run (F := Ideal) m' g')⟩
  obtain ⟨a0, a1, a2, a3⟩ := hargs c
  rw [a0, a1, a2, a3]
  funext i
  obtain ⟨x, r, s, rfl⟩ : ∃ (x : Fin 2) (r : Fin 4096) (s : Fin 2048), i = ix3 x r s := ⟨i 0, i 1, i 2, (ix3_eta i).symm⟩
  pointwise []
  show _ = if x.val = 0 then prod 2048 (m ((c : Thread nD τ).loc main_arg2)) (m ((c : Thread nD τ).loc main_arg3)) r.val s.val else prod 2048 (m ((c : Thread nD τ).loc main_arg0)) (m ((c : Thread nD τ).loc main_arg1)) r.val s.val
  by_cases h0 : x.val = 0
  · rw [dif_pos (by omega), if_pos h0]
    exact prod_eq _ _ _ _ rfl rfl
  rw [dif_neg (by omega), if_neg h0]
  exact prod_eq _ _ _ _ rfl rfl

end Cert.Proof.EvWouts

end
-- ==== Proof.OdWosClaim.lean ====
/- The attention output projections' gradients, both layers. -/
module

public import proofs.«01_k».proof.Proof.Mm
public import proofs.«01_k».proof.Proof.Gen.OdWos.Frame
public import proofs.«01_k».proof.Proof.Gen.OdWosIdeal.Frame
public import proofs.«01_k».proof.Proof.Gen.OdWosRefIdeal.Run

@[expose] public section

set_option maxRecDepth 16384

noncomputable section

namespace Cert.Proof.OdWos

open Idealize.ShloMosaic Idealize.ShloMosaic.TcCoe Idealize.SL Idealize.SL.RA Idealize.SL.BI Idealize.SL.BI.BIBase Idealize.SL.BI.Laws Idealize.SL.ProofMode Idealize.SL.Sem
open Idealize.ShloMosaic.Rounds Mm OdWosIdeal OdWosIdeal.Gen
open Idealize.ShloMosaic.Pipeline (cellOf)

section Calls
variable (V : (c : Dev nD) → (b : Ref sig .tc) → Buf (Elt Ideal) ((c : Thread nD τ).loc b)) (c : Dev nD)

/-- One product's entries at row `r` and column `s` of grid point `n`'s block, term by term. -/
def term (x : S2048x2048.Idx → EReal) (y : S2048x2048.Idx → EReal) (r s n k : ℕ) : EReal :=
  at2 x k (1024 * (n / 2) + r) * at2 y k (1024 * (n % 2) + s)

theorem idx0_0 : ∀ t : Fin grid0.N, win0_0.index t 0 = 0 ∧ win0_0.index t 1 = t.val / 2 := by decide +kernel
theorem idx0_1 : ∀ t : Fin grid0.N, win0_1.index t 0 = 0 ∧ win0_1.index t 1 = t.val % 2 := by decide +kernel
theorem idx0_2 : ∀ t : Fin grid0.N, win0_2.index t 0 = 1 ∧ win0_2.index t 1 = t.val / 2 ∧ win0_2.index t 2 = t.val % 2 := by decide +kernel
/-- What call 0 leaves: the product in layer 1, the other layers as it finds them. -/
def G0 : Buf (Elt Ideal) ((c : Thread nD τ).loc main_v0) := fun i => if (i 0).val = 1 then prod 2048 (V c main_arg0) (V c main_arg1) (i 1).val (i 2).val else V c main_v0 i
theorem block0 (t : Fin cfg0.N) (r : Fin 1024) (s : Fin 1024) (x0 : Vec Ideal S2048x1024 .bf16) (x1 : Vec Ideal S2048x1024 .f32) (h0 : x0 = iblk0 V c 0 t) (h1 : x1 = iblk0 V c 1 t) :
    ∑ k, x0 (ix2 k r) * x1 (ix2 k s) = ∑ k : Fin 2048, term (V c main_arg0) (V c main_arg1) r.val s.val t.val k.val := by
  subst h0 h1
  refine Finset.sum_congr rfl fun k _ => ?_
  unfold term iblk0
  rw [View.read_apply, View.read_apply]
  refine congrArg₂ (· * ·) ?_ ?_
  · exact at2_eq _ _ (by show win0_0.index t 0 * 2048 + 1 * k.val = _; rw [(idx0_0 t).1]; omega) (by show win0_0.index t 1 * 1024 + 1 * r.val = _; rw [(idx0_0 t).2]; omega)
  · exact at2_eq _ _ (by show win0_1.index t 0 * 2048 + 1 * k.val = _; rw [(idx0_1 t).1]; omega) (by show win0_1.index t 1 * 1024 + 1 * s.val = _; rw [(idx0_1 t).2]; omega)
theorem out0 (c i arg3 harg3 arg4 harg4 arg5 harg5 arg6 harg6 x0 x1) (r : Fin 1024) (s : Fin 1024) :
    out0_A_2 (F := Ideal) c i arg3 harg3 arg4 harg4 arg5 harg5 arg6 harg6 x0 x1 (ix3 0 r s) = ∑ k, x0 (ix2 k r) * x1 (ix2 k s) := by
  unfold out0_A_2
  rw [View.read_writes_eq_canon _ _ _ (fun _ => cover0_A_2 ..)]
  unfold kernelRun0_A
  dsimp only
  rw [View.canon_unit_zero hz3]
  simp only [View.readAt_eq_ld, harg3.read_unread, harg4.read_unread, harg5.read_unread, harg6.read_unread, View.ld_unit_zero (S := S2048x1024) hz2]
  pointwise [k0_pay1]
theorem flushed0 (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [after0_2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine ((out0 ..).trans (block0 V c t r s _ _ rfl rfl)).trans ?_
  generalize hp : (((cfg0.win 2).blk t).view.emb (ix3 0 r s) : S2x2048x2048.Idx) = p
  have p0 : (p 0).val = win0_2.index t 0 * 1 + 1 * 0 := by rw [← hp]; rfl
  rw [(idx0_2 t).1] at p0
  have p1 : (p 1).val = win0_2.index t 1 * 1024 + 1 * r.val := by rw [← hp]; rfl
  rw [(idx0_2 t).2.1] at p1
  have p2 : (p 2).val = win0_2.index t 2 * 1024 + 1 * s.val := by rw [← hp]; rfl
  rw [(idx0_2 t).2.2] at p2
  show _ = if (p 0).val = 1 then prod 2048 (V c main_arg0) (V c main_arg1) (p 1).val (p 2).val else _
  rw [if_pos (by omega), show (p 1).val = 1024 * (t.val / 2) + r.val by omega, show (p 2).val = 1024 * (t.val % 2) + s.val by omega]
  exact (sum_first _ _).symm
theorem cover0 (i : S2x2048x2048.Idx) (hL : (i 0).val = 1) : ∃ t : Fin cfg0.N, (cfg0.win 2).flush t = true ∧ i ∈ ((cfg0.win 2).blk t).view.set := by
  have hN : cfg0.N = 4 := N_0
  have h0 : (i 0).val < 2 := (i 0).isLt
  have h1 : (i 1).val < 2048 := (i 1).isLt
  have h2 : (i 2).val < 2048 := (i 2).isLt
  obtain ⟨t, ht⟩ := fin_of (show 2 * ((i 1).val / 1024) + ((i 2).val / 1024) < cfg0.N by omega)
  refine ⟨t, flush0_2 t, ?_⟩
  show i ∈ ((View.whole main_v0).slice (win0_2.rect t)).set
  rw [View.set_slice_whole, Rect.mem_set_unit]
  intro q
  match q with
  | ⟨0, _⟩ => exact in_blk 1 (i 0).val (idx0_2 t).1 (by omega)
  | ⟨1, _⟩ => exact in_blk 1024 (i 1).val (idx0_2 t).2.1 (by omega)
  | ⟨2, _⟩ => exact in_blk 1024 (i 2).val (idx0_2 t).2.2 (by omega)
theorem arr0 : (dat0 V c).arrAt 2 cfg0.N = G0 V c := by
  funext i
  rw [(dat0 V c).arrAt_eq_piecewise 2 (G0 V c) (flushed0 V c) i]
  split
  · rfl
  · next hno =>
    rw [A_eq0]
    exact (if_neg fun h => hno (cover0 i h)).symm

theorem idx1_0 : ∀ t : Fin grid1.N, win1_0.index t 0 = 0 ∧ win1_0.index t 1 = t.val / 2 := by decide +kernel
theorem idx1_1 : ∀ t : Fin grid1.N, win1_1.index t 0 = 0 ∧ win1_1.index t 1 = t.val % 2 := by decide +kernel
theorem idx1_2 : ∀ t : Fin grid1.N, win1_2.index t 0 = 0 ∧ win1_2.index t 1 = t.val / 2 ∧ win1_2.index t 2 = t.val % 2 := by decide +kernel
/-- What call 1 leaves: the product in layer 0, the other layers as it finds them. -/
def G1 : Buf (Elt Ideal) ((c : Thread nD τ).loc main_v1) := fun i => if (i 0).val = 0 then prod 2048 (V c main_arg2) (V c main_arg3) (i 1).val (i 2).val else V c main_v1 i
theorem block1 (t : Fin cfg1.N) (r : Fin 1024) (s : Fin 1024) (x0 : Vec Ideal S2048x1024 .bf16) (x1 : Vec Ideal S2048x1024 .f32) (h0 : x0 = iblk1 V c 0 t) (h1 : x1 = iblk1 V c 1 t) :
    ∑ k, x0 (ix2 k r) * x1 (ix2 k s) = ∑ k : Fin 2048, term (V c main_arg2) (V c main_arg3) r.val s.val t.val k.val := by
  subst h0 h1
  refine Finset.sum_congr rfl fun k _ => ?_
  unfold term iblk1
  rw [View.read_apply, View.read_apply]
  refine congrArg₂ (· * ·) ?_ ?_
  · exact at2_eq _ _ (by show win1_0.index t 0 * 2048 + 1 * k.val = _; rw [(idx1_0 t).1]; omega) (by show win1_0.index t 1 * 1024 + 1 * r.val = _; rw [(idx1_0 t).2]; omega)
  · exact at2_eq _ _ (by show win1_1.index t 0 * 2048 + 1 * k.val = _; rw [(idx1_1 t).1]; omega) (by show win1_1.index t 1 * 1024 + 1 * s.val = _; rw [(idx1_1 t).2]; omega)
theorem out1 (c i arg3 harg3 arg4 harg4 arg6 harg6 arg7 harg7 x0 x1) (r : Fin 1024) (s : Fin 1024) :
    out1_A_2 (F := Ideal) c i arg3 harg3 arg4 harg4 arg6 harg6 arg7 harg7 x0 x1 (ix3 0 r s) = ∑ k, x0 (ix2 k r) * x1 (ix2 k s) := by
  unfold out1_A_2
  rw [View.read_writes_eq_canon _ _ _ (fun _ => cover1_A_2 ..)]
  unfold kernelRun1_A
  dsimp only
  rw [View.canon_unit_zero hz3]
  simp only [View.readAt_eq_ld, harg3.read_unread, harg4.read_unread, harg6.read_unread, harg7.read_unread, View.ld_unit_zero (S := S2048x1024) hz2]
  pointwise [k1_pay1]
theorem flushed1 (t : Fin cfg1.N) (hf : (cfg1.win 2).flush t = true) :
    (dat1 V c).flushed 2 t = ((cfg1.win 2).blk t).view.read (Elt Ideal) (G1 V c) := by
  show (cfg1.win 2).cut (grid1.coords t) ((dat1 V c).after 2 t) = _
  rw [after1_2]
  funext j
  obtain ⟨x, r, s, rfl⟩ : ∃ (x : Fin 1) (r : Fin 1024) (s : Fin 1024), j = ix3 x r s := ⟨j 0, j 1, j 2, (ix3_eta j).symm⟩
  obtain rfl : x = 0 := Subsingleton.elim _ _
  rw [View.read_apply]
  refine ((out1 ..).trans (block1 V c t r s _ _ rfl rfl)).trans ?_
  generalize hp : (((cfg1.win 2).blk t).view.emb (ix3 0 r s) : S2x2048x2048.Idx) = p
  have p0 : (p 0).val = win1_2.index t 0 * 1 + 1 * 0 := by rw [← hp]; rfl
  rw [(idx1_2 t).1] at p0
  have p1 : (p 1).val = win1_2.index t 1 * 1024 + 1 * r.val := by rw [← hp]; rfl
  rw [(idx1_2 t).2.1] at p1
  have p2 : (p 2).val = win1_2.index t 2 * 1024 + 1 * s.val := by rw [← hp]; rfl
  rw [(idx1_2 t).2.2] at p2
  show _ = if (p 0).val = 0 then prod 2048 (V c main_arg2) (V c main_arg3) (p 1).val (p 2).val else _
  rw [if_pos (by omega), show (p 1).val = 1024 * (t.val / 2) + r.val by omega, show (p 2).val = 1024 * (t.val % 2) + s.val by omega]
  exact (sum_first _ _).symm
theorem cover1 (i : S2x2048x2048.Idx) (hL : (i 0).val = 0) : ∃ t : Fin cfg1.N, (cfg1.win 2).flush t = true ∧ i ∈ ((cfg1.win 2).blk t).view.set := by
  have hN : cfg1.N = 4 := N_1
  have h0 : (i 0).val < 2 := (i 0).isLt
  have h1 : (i 1).val < 2048 := (i 1).isLt
  have h2 : (i 2).val < 2048 := (i 2).isLt
  obtain ⟨t, ht⟩ := fin_of (show 2 * ((i 1).val / 1024) + ((i 2).val / 1024) < cfg1.N by omega)
  refine ⟨t, flush1_2 t, ?_⟩
  show i ∈ ((View.whole main_v1).slice (win1_2.rect t)).set
  rw [View.set_slice_whole, Rect.mem_set_unit]
  intro q
  match q with
  | ⟨0, _⟩ => exact in_blk 1 (i 0).val (idx1_2 t).1 (by omega)
  | ⟨1, _⟩ => exact in_blk 1024 (i 1).val (idx1_2 t).2.1 (by omega)
  | ⟨2, _⟩ => exact in_blk 1024 (i 2).val (idx1_2 t).2.2 (by omega)
theorem arr1 : (dat1 V c).arrAt 2 cfg1.N = G1 V c := by
  funext i
  rw [(dat1 V c).arrAt_eq_piecewise 2 (G1 V c) (flushed1 V c) i]
  split
  · rfl
  · next hno =>
    rw [A_eq1]
    exact (if_neg fun h => hno (cover1 i h)).symm

end Calls

variable (m : (ℓ : Loc nD τ sig) → Buf (Elt Ideal) ℓ) (ρ : Dev nD → PrngReg) (c : Dev nD)

/-- The first call's layer, after it. -/
theorem val0 (i : S2x2048x2048.Idx) (h : (i 0).val = 1) : (W1 m ρ c (Proc.devRef .tc main_v0) : S2x2048x2048.Idx → EReal) i = prod 2048 (m ((c : Thread nD τ).loc main_arg0)) (m ((c : Thread nD τ).loc main_arg1)) (i 1).val (i 2).val := by
  refine (congrFun ((W1_arr m ρ c 2).trans (arr0 _ c)) i).trans ((if_pos h).trans ?_)
  rfl
/-- Call 1 adds its layer to what the call before it left. -/
theorem val1 (i : S2x2048x2048.Idx) : (W3 m ρ c (Proc.devRef .tc main_v1) : S2x2048x2048.Idx → EReal) i
    = if (i 0).val = 0 then prod 2048 (m ((c : Thread nD τ).loc main_arg2)) (m ((c : Thread nD τ).loc main_arg3)) (i 1).val (i 2).val else (W1 m ρ c (Proc.devRef .tc main_v0) : S2x2048x2048.Idx → EReal) i := by
  refine (congrFun ((W3_arr m ρ c 2).trans (arr1 _ c)) i).trans ?_
  have hv : W2 m ρ c (Proc.devRef .tc main_v1) = W1 m ρ c (Proc.devRef .tc main_v0) := by
    show StableHlo.after hostOps1 _ _ = _
    after_results; try rfl
  show (if _ then prod 2048 (W2 m ρ c (Proc.devRef .tc main_arg2)) (W2 m ρ c (Proc.devRef .tc main_arg3)) _ _ else W2 m ρ c (Proc.devRef .tc main_v1) i) = _
  rw [hv, W2_args m ρ c main_arg2 (by decide), W2_args m ρ c main_arg3 (by decide)]
/-- The array of all the layers. -/
def G : Buf (Elt Ideal) ((c : Thread nD τ).loc main_v1) := fun i =>
  if (i 0).val = 0 then prod 2048 (m ((c : Thread nD τ).loc main_arg2)) (m ((c : Thread nD τ).loc main_arg3)) (i 1).val (i 2).val else prod 2048 (m ((c : Thread nD τ).loc main_arg0)) (m ((c : Thread nD τ).loc main_arg1)) (i 1).val (i 2).val
theorem final : W3 m ρ c (Proc.devRef .tc main_v1) = G m c := by
  funext i
  have hi : (i 0).val < 2 := (i 0).isLt
  refine (val1 m ρ c i).trans ?_
  unfold G
  by_cases h0 : (i 0).val = 0
  · rw [if_pos h0, if_pos h0]
  rw [if_neg h0, if_neg h0, val0 m ρ c i (by omega)]

/-- Every weakly fair execution of the calls terminates with every array as the last boundary has it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W3 m ρ c b)
    (hfin := fun c s' => by
      iintro ⟨⟨Hh, -⟩, HSI⟩
      unfold StableHlo.held
      imodintro
      iapply (pointsTo_read_all (Pipeline.ucRefs τ sig) (fun b => ((c : Thread nD τ).1, b)) (W3 m ρ c) s')
      isplitl [Hh] <;> iassumption)
    (hQ := fun s h _ => h)

/-- The calls at the machine's floats terminate, keep their arguments, and leave every counter at zero. -/
theorem frame : quiescent_OdWos (hOdWos := OdWos.Gen.facts) := fun m ρ _ => OdWos.Gen.frame m ρ
/-- So do the calls over the extended reals. -/
theorem frame_ideal : quiescent_OdWosIdeal (hOdWosIdeal := facts) := fun m ρ _ => OdWosIdeal.Gen.frame m ρ
/-- So does the reference over the extended reals. -/
theorem frame_ref : quiescent_OdWosRefIdeal (hOdWosRefIdeal := OdWosRefIdeal.Gen.facts) := fun m ρ _ =>
  (θ_run OdWosRefIdeal.defs _ _).mono (fun r h => ⟨fun c => (h c).2, sem_eq_zero_of_no_sems (by decide) r.2⟩)
    (OdWosRefIdeal.Value.run (F := Ideal) m ρ)
/-- No operation of the calls is replaced. -/
theorem preserves : preserves_OdWos_OdWosIdeal := trivial
/-- Calls and reference end with the same array. -/
theorem algebraic : algebraic_OdWosIdeal_OdWosRefIdeal (hOdWosIdeal := facts) (hOdWosRefIdeal := OdWosRefIdeal.Gen.facts) := by
  intro m g m' g' _ hargs
  refine ⟨fun c => G m c, (θ_run defs _ _).mono (fun r h c => ⟨(h c _ (mem_uc main_v1 (by decide))).trans (final m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c)⟩) (run_all m g),
    (θ_run OdWosRefIdeal.defs _ _).mono (fun r h c => ⟨(h c).1.trans ?_, (h c).2⟩) (OdWosRefIdeal.Value.run (F := Ideal) m' g')⟩
  obtain ⟨a0, a1, a2, a3⟩ := hargs c
  rw [a0, a1, a2, a3]
  funext i
  obtain ⟨x, r, s, rfl⟩ : ∃ (x : Fin 2) (r : Fin 2048) (s : Fin 2048), i = ix3 x r s := ⟨i 0, i 1, i 2, (ix3_eta i).symm⟩
  pointwise []
  show _ = if x.val = 0 then prod 2048 (m ((c : Thread nD τ).loc main_arg2)) (m ((c : Thread nD τ).loc main_arg3)) r.val s.val else prod 2048 (m ((c : Thread nD τ).loc main_arg0)) (m ((c : Thread nD τ).loc main_arg1)) r.val s.val
  by_cases h0 : x.val = 0
  · rw [dif_pos (by omega), if_pos h0]
    exact prod_eq _ _ _ _ rfl rfl
  rw [dif_neg (by omega), if_neg h0]
  exact prod_eq _ _ _ _ rfl rfl

end Cert.Proof.OdWos

end
-- ==== Proof.AtMath.lean ====
/- The gradient of causal attention with rotated positions, over the real numbers. -/
module

public import proofs.«01_k».proof.Proof.GmConsts
public import Idealize.ShloMosaic.PureOps.Ideal

@[expose] public section

noncomputable section

namespace Cert.Proof.At

open Idealize.ShloMosaic

/-- The float nearest to `1 / √192`. -/
def scale : ℝ := 4843165 / 67108864
/-- The rounded `1 / √192`. -/
theorem lit_scale : Ideal.ofBits .f32 0x3D93CD3A#32 = (scale : EReal) := by
  unfold scale; simp [Ideal.ofBits, Ideal.ieee, -EReal.coe_mul]; norm_num
/-- `-∞`. -/
theorem lit_ninf : Ideal.ofBits .f32 0xFF800000#32 = (⊥ : EReal) := by
  simp [Ideal.ofBits, Ideal.ieee, -EReal.coe_mul]

/-- The lane 32 above, around the end. -/
abbrev up (j : Fin 128) : Fin 128 := ⟨(j.val + 128 - 96) % 128, Nat.mod_lt _ (by decide)⟩
/-- The lane 32 below, around the end. -/
abbrev dn (j : Fin 128) : Fin 128 := ⟨(j.val + 128 - 32) % 128, Nat.mod_lt _ (by decide)⟩
/-- The first 32 lanes from 32 above, the others from 32 below. -/
def sw (x : Fin 128 → ℝ) (j : Fin 128) : ℝ := if j.val < 32 then x (up j) else x (dn j)
/-- The rotation of 64 lanes, padded to 128: `c` and `s` are the padded cosines and sines. -/
def rope (x c s : Fin 128 → ℝ) (j : Fin 128) : ℝ := x j * c j + sw x j * s j
/-- The rotation back. -/
def ropeT (x c s : Fin 128 → ℝ) (j : Fin 128) : ℝ := x j * c j + sw (fun k => x k * s k) j

/-- One head's attention: `R` queries, at the positions `pos`, and `K` keys. -/
structure Blk (R K : ℕ) where
  /-- The queries' part without positions. -/
  qn : Fin R → Fin 128 → ℝ
  /-- The queries' part with positions, before the rotation. -/
  qp : Fin R → Fin 128 → ℝ
  /-- The keys' part without positions. -/
  kn : Fin K → Fin 128 → ℝ
  /-- The keys' part with positions, before the rotation. -/
  kp : Fin K → Fin 128 → ℝ
  /-- The queries' padded cosines. -/
  cq : Fin R → Fin 128 → ℝ
  /-- The queries' padded sines. -/
  sq : Fin R → Fin 128 → ℝ
  /-- The keys' padded cosines. -/
  ck : Fin K → Fin 128 → ℝ
  /-- The keys' padded sines. -/
  sk : Fin K → Fin 128 → ℝ
  /-- The values. -/
  v : Fin K → Fin 128 → ℝ
  /-- The gradient in the output. -/
  g : Fin R → Fin 128 → ℝ
  /-- The queries' positions. -/
  pos : Fin R → ℕ

namespace Blk

variable {R K : ℕ} (B : Blk R K)

/-- Whether a query sees a key: blocks of 64, causal. -/
abbrev vis (r : Fin R) (k : Fin K) : Prop := k.val / 64 ≤ B.pos r / 64
/-- The rotated queries. -/
def qr (r : Fin R) : Fin 128 → ℝ := rope (B.qp r) (B.cq r) (B.sq r)
/-- The rotated keys. -/
def kr (k : Fin K) : Fin 128 → ℝ := rope (B.kp k) (B.ck k) (B.sk k)
/-- The scores. -/
def sc (r : Fin R) (k : Fin K) : ℝ := ((∑ x, B.qn r x * B.kn k x) + ∑ x, B.qr r x * B.kr k x) * scale
/-- The scores with what is not seen at minus infinity. -/
def msc (r : Fin R) (k : Fin K) : EReal := if B.vis r k then (B.sc r k : EReal) else ⊥
/-- A query's greatest score. -/
def mx (r : Fin R) : ℝ := (Finset.fold max ⊥ (B.msc r) Finset.univ).toReal
/-- The exponentials. -/
def ex (r : Fin R) (k : Fin K) : ℝ := if B.vis r k then Real.exp (B.sc r k - B.mx r) else 0
/-- Their sum. -/
def sm (r : Fin R) : ℝ := ∑ k, B.ex r k
/-- The probabilities. -/
def pr (r : Fin R) (k : Fin K) : ℝ := B.ex r k / B.sm r
/-- The gradient in the probabilities. -/
def dp (r : Fin R) (k : Fin K) : ℝ := ∑ x, B.g r x * B.v k x
/-- The gradient in the products of queries and keys. -/
def ds (r : Fin R) (k : Fin K) : ℝ := B.pr r k * (B.dp r k - ∑ x, B.dp r x * B.pr r x) * scale
/-- The gradient in the queries' part without positions. -/
def dqn (r : Fin R) (j : Fin 128) : ℝ := ∑ k, B.ds r k * B.kn k j
/-- The gradient in the rotated queries. -/
def dqr (r : Fin R) (j : Fin 128) : ℝ := ∑ k, B.ds r k * B.kr k j
/-- The gradient in the queries' part with positions. -/
def dqp (r : Fin R) : Fin 128 → ℝ := ropeT (B.dqr r) (B.cq r) (B.sq r)
/-- The gradient in the keys' part without positions. -/
def dkn (k : Fin K) (j : Fin 128) : ℝ := ∑ r, B.ds r k * B.qn r j
/-- The gradient in the values. -/
def dv (k : Fin K) (j : Fin 128) : ℝ := ∑ r, B.pr r k * B.g r j
/-- The gradient in the rotated keys. -/
def dkr (k : Fin K) (j : Fin 128) : ℝ := ∑ r, B.ds r k * B.qr r j
/-- The gradient in the keys' part with positions. -/
def dkp (k : Fin K) : Fin 128 → ℝ := ropeT (B.dkr k) (B.ck k) (B.sk k)

/-- Every query sees the first key. -/
theorem vis_zero [NeZero K] (r : Fin R) : B.vis r 0 := by simp [vis]
/-- A query's greatest score is a real number. -/
theorem fold_max [NeZero K] (r : Fin R) : Finset.fold max ⊥ (B.msc r) Finset.univ = (B.mx r : EReal) := by
  have h : Finset.fold max ⊥ (B.msc r) Finset.univ = Finset.univ.sup (B.msc r) := rfl
  obtain ⟨k, -, hk⟩ := Finset.exists_mem_eq_sup (Finset.univ : Finset (Fin K)) ⟨0, Finset.mem_univ _⟩ (B.msc r)
  have h0 : B.msc r 0 ≤ B.msc r k := hk ▸ Finset.le_sup (f := B.msc r) (Finset.mem_univ 0)
  unfold mx
  rw [h, hk]
  by_cases hv : B.vis r k
  · simp [msc, hv]
  · simp [msc, hv, B.vis_zero r] at h0
/-- The exponential of a score below the greatest. -/
theorem exp_msc (r : Fin R) (k : Fin K) : Ideal.exp (B.msc r k - (B.mx r : EReal)) = (B.ex r k : EReal) := by
  unfold msc ex
  by_cases hv : B.vis r k
  · rw [if_pos hv, if_pos hv, ← EReal.coe_sub]; rfl
  · rw [if_neg hv, if_neg hv, sub_eq_add_neg, EReal.bot_add]; rfl
theorem ex_nonneg (r : Fin R) (k : Fin K) : 0 ≤ B.ex r k := by
  unfold ex; split_ifs
  · exact (Real.exp_pos _).le
  · exact le_rfl
theorem sm_pos [NeZero K] (r : Fin R) : 0 < B.sm r :=
  Finset.sum_pos' (fun k _ => B.ex_nonneg r k) ⟨0, Finset.mem_univ _, by
    unfold ex; rw [if_pos (B.vis_zero r)]; exact Real.exp_pos _⟩
/-- The gradient in the scores as it comes from differentiating the quotient and the exponential. -/
theorem ds_steps [NeZero K] (r : Fin R) (k : Fin K) :
    (B.dp r k / B.sm r + -∑ x, B.dp r x * (1 / (B.sm r * B.sm r)) * B.ex r x) * B.ex r k * scale = B.ds r k := by
  have hs := (B.sm_pos r).ne'
  have h : (∑ x, B.dp r x * (1 / (B.sm r * B.sm r)) * B.ex r x) = (∑ x, B.dp r x * B.pr r x) / B.sm r := by
    rw [Finset.sum_div]; exact Finset.sum_congr rfl fun x _ => by unfold pr; field_simp
  rw [h]; unfold ds pr; field_simp; ring
/-- Where the query does not see the key the gradient is zero. -/
theorem ds_zero (r : Fin R) (k : Fin K) (h : ¬ B.vis r k) : B.ds r k = 0 := by
  unfold ds pr ex; rw [if_neg h]; simp

end Blk

end Cert.Proof.At

end
-- ==== Proof.AtHalf.lean ====
/- A block of 256 lanes written and read in its two halves of 128. -/
module

public import Idealize.ShloMosaic.Lib.Pipeline.Value
public import Idealize.ShloMosaic.Lib.Pointwise

@[expose] public section

noncomputable section

namespace Cert.Proof.At

open Idealize.ShloMosaic Idealize.SL.Sem

/-- A lane of the left half. -/
abbrev lo (j : Fin 128) : Fin 256 := ⟨j.val, by omega⟩
/-- A lane of the right half. -/
abbrev hi (j : Fin 128) : Fin 256 := ⟨128 + j.val, by omega⟩

variable {R : ℕ} {e : EltTy} (h1 : ∀ a, (![0, 128] : Fin 2 → ℕ) a + (![R, 128] : Fin 2 → ℕ) a ≤ (![R, 256] : Fin 2 → ℕ) a)
  (h0 : ∀ a, (![0, 0] : Fin 2 → ℕ) a + (![R, 128] : Fin 2 → ℕ) a ≤ (![R, 256] : Fin 2 → ℕ) a)
  (hw : ∀ a, (![0, 0] : Fin 2 → ℕ) a + (![R, 256] : Fin 2 → ℕ) a ≤ (![R, 256] : Fin 2 → ℕ) a)

/-- The left half. -/
abbrev rl : Rect ⟨2, ![R, 256]⟩ := Rect.unit ![0, 0] ![R, 128] h0
/-- The right half. -/
abbrev rr : Rect ⟨2, ![R, 256]⟩ := Rect.unit ![0, 128] ![R, 128] h1

theorem rl_emb (r : Fin R) (j : Fin 128) : (rl h0).emb (ix2 r j) = ix2 r (lo j) := by
  funext a; apply Fin.ext
  match a with
  | ⟨0, _⟩ => show 0 + 1 * r.val = r.val; omega
  | ⟨1, _⟩ => show 0 + 1 * j.val = j.val; omega
theorem rr_emb (r : Fin R) (j : Fin 128) : (rr h1).emb (ix2 r j) = ix2 r (hi j) := by
  funext a; apply Fin.ext
  match a with
  | ⟨0, _⟩ => show 0 + 1 * r.val = r.val; omega
  | ⟨1, _⟩ => show 128 + 1 * j.val = 128 + j.val; omega
theorem rl_out (r : Fin R) (j : Fin 128) : (ix2 r (hi j) : (⟨2, ![R, 256]⟩ : Shape).Idx) ∉ (rl h0).set := by
  intro h
  obtain ⟨x, hx⟩ := (rl h0).exists_idx_of_mem h
  have e := congrArg (fun y : (⟨2, ![R, 256]⟩ : Shape).Idx => (y 1).val) hx
  have e' : 0 + 1 * (x 1).val = 128 + j.val := e
  have : (x 1).val < 128 := (x 1).isLt
  omega
theorem rr_out (r : Fin R) (j : Fin 128) : (ix2 r (lo j) : (⟨2, ![R, 256]⟩ : Shape).Idx) ∉ (rr h1).set := by
  intro h
  obtain ⟨x, hx⟩ := (rr h1).exists_idx_of_mem h
  have e := congrArg (fun y : (⟨2, ![R, 256]⟩ : Shape).Idx => (y 1).val) hx
  have e' : 128 + 1 * (x 1).val = j.val := e
  omega

variable (w1 w0 : (⟨2, ![R, 128]⟩ : Shape).Idx → Elt Ideal e) (L : List (View.Piece (Elt Ideal) ⟨2, ![R, 256]⟩ e))

/-- The right half last written reads what was written; -/
theorem canon_hi (r : Fin R) (j : Fin 128) :
    View.canon ((⟨rr h1, w1⟩ : View.Piece (Elt Ideal) ⟨2, ![R, 256]⟩ e) :: L) (ix2 r (hi j)) = w1 (ix2 r j) := by
  have h := View.canon_cons_emb (Val := Elt Ideal) (e := e) (rr h1) w1 L (ix2 r j)
  rwa [rr_emb] at h
/-- so does the left half, written before it. -/
theorem canon_lo (r : Fin R) (j : Fin 128) :
    View.canon ((⟨rr h1, w1⟩ : View.Piece (Elt Ideal) ⟨2, ![R, 256]⟩ e) :: ⟨rl h0, w0⟩ :: L) (ix2 r (lo j)) = w0 (ix2 r j) := by
  have h := View.canon_cons_emb (Val := Elt Ideal) (e := e) (rl h0) w0 L (ix2 r j)
  rw [rl_emb] at h
  rw [View.canon_cons_of_not_mem (⟨rr h1, w1⟩ : View.Piece (Elt Ideal) ⟨2, ![R, 256]⟩ e) _ (rr_out h1 r j), h]

variable {sig : RefSig} {κ : Kind} {sp : Space} (v : View sig κ sp ⟨2, ![R, 256]⟩ e) (z : (⟨2, ![R, 256]⟩ : Shape).Idx → Elt Ideal e)

/-- The left half of a block written whole. -/
theorem cov_lo (r : Fin R) (j : Fin 128) :
    v.readCov [(⟨Rect.unit ![0, 0] ![R, 256] hw, z⟩ : View.Piece (Elt Ideal) ⟨2, ![R, 256]⟩ e)] (rl h0).toLoadRect (ix2 r j) = z (ix2 r (lo j)) := by
  have hz : (![0, 0] : Fin 2 → ℕ) = fun _ => 0 := by decide
  rw [View.readCov_eq_canon']
  show View.canon _ ((rl h0).emb (ix2 r j)) = _
  rw [rl_emb, View.canon_unit_zero hz hw]
/-- The right half of a block written whole, when the left half has since been written. -/
theorem cov_hi (r : Fin R) (j : Fin 128) :
    v.readCov [(⟨rl h0, w0⟩ : View.Piece (Elt Ideal) ⟨2, ![R, 256]⟩ e), ⟨Rect.unit ![0, 0] ![R, 256] hw, z⟩] (rr h1).toLoadRect (ix2 r j) = z (ix2 r (hi j)) := by
  have hz : (![0, 0] : Fin 2 → ℕ) = fun _ => 0 := by decide
  rw [View.readCov_eq_canon']
  show View.canon _ ((rr h1).emb (ix2 r j)) = _
  rw [rr_emb, View.canon_cons_of_not_mem (⟨rl h0, w0⟩ : View.Piece (Elt Ideal) ⟨2, ![R, 256]⟩ e) _ (rl_out h0 r j), View.canon_unit_zero hz hw]
/-- The left half of what a block holds. -/
theorem ld_lo (r : Fin R) (j : Fin 128) : View.ld z (rl h0) (ix2 r j) = z (ix2 r (lo j)) := congrArg z (rl_emb h0 r j)
/-- The right half of what a block holds. -/
theorem ld_hi (r : Fin R) (j : Fin 128) : View.ld z (rr h1) (ix2 r j) = z (ix2 r (hi j)) := congrArg z (rr_emb h1 r j)

end Cert.Proof.At

end
-- ==== Proof.AtArgs.lean ====
/- The attention's arguments over the real numbers: a head's queries and keys cut from the argument arrays, and how the
   gradients of a block of queries add up. -/
module

public import proofs.«01_k».proof.Proof.AtMath
public import proofs.«01_k».proof.Proof.AtHalf
public import Idealize.ShloMosaic.Lib.Pointwise

@[expose] public section

noncomputable section

namespace Cert.Proof.At

open Idealize.ShloMosaic
open Cert.Proof.Gm (div_real)

/-- A rotation's frequency: `10000` to the power `-2l/64`. -/
def freq (l : Fin 32) : EReal :=
  Ideal.pow (Ideal.ofBits .f32 0x461C4000#32) (Ideal.div (-(Ideal.ofBits .f32 0x40000000#32 * FloatOps.sitofp (F := Ideal) .f32 (BitVec.ofNat 32 l.val)))
    (Ideal.ofBits .f32 0x42800000#32))
theorem freq_real (l : Fin 32) : freq l = ((freq l).toReal : EReal) := by
  have e1 : Ideal.ofBits .f32 0x461C4000#32 = ((10000 : ℝ) : EReal) := by simp [Ideal.ofBits, Ideal.ieee, -EReal.coe_mul]; norm_num
  have e2 : Ideal.ofBits .f32 0x40000000#32 = ((2 : ℝ) : EReal) := by simp [Ideal.ofBits, Ideal.ieee, -EReal.coe_mul]; norm_num
  have e3 : Ideal.ofBits .f32 0x42800000#32 = ((64 : ℝ) : EReal) := by simp [Ideal.ofBits, Ideal.ieee, -EReal.coe_mul]; norm_num
  have e : ∃ r : ℝ, freq l = (r : EReal) := by
    unfold freq
    rw [e1, e2, e3]
    show ∃ r : ℝ, Ideal.pow _ (Ideal.div (-(((2 : ℝ) : EReal) * (((BitVec.ofNat 32 l.val).toInt : ℝ) : EReal))) _) = _
    rw [← EReal.coe_mul, ← EReal.coe_neg, div_real _ _ (by norm_num)]
    exact ⟨_, rfl⟩
  obtain ⟨r, hr⟩ := e
  rw [hr, EReal.toReal_coe]

/-- The arguments, as real numbers by row and column: the queries, the keys and values, the projection whose columns
    from 1024 are the keys' rotated part, the gradient in the output, and the positions. -/
structure Args where
  Q : ℕ → ℕ → ℝ
  KV : ℕ → ℕ → ℝ
  P : ℕ → ℕ → ℝ
  D : ℕ → ℕ → ℝ
  pos : ℕ → BitVec 32

namespace Args

variable (a : Args)

/-- The rotation's angle. -/
def ang (i : ℕ) (l : Fin 32) : ℝ := ((a.pos i).toInt : ℝ) * (freq l).toReal
/-- The cosines. -/
def C (i : ℕ) (l : Fin 32) : ℝ := Real.cos (a.ang i l)
/-- The sines. -/
def S (i : ℕ) (l : Fin 32) : ℝ := Real.sin (a.ang i l)
/-- The cosines padded to 128 lanes. -/
def pc (i : ℕ) (j : Fin 128) : ℝ :=
  if h : j.val < 32 then a.C i ⟨j.val, h⟩ else if h : j.val - 32 < 32 then a.C i ⟨j.val - 32, h⟩ else 0
/-- The sines padded to 128 lanes, the first 32 negated. -/
def ps (i : ℕ) (j : Fin 128) : ℝ :=
  if h : j.val < 32 then -a.S i ⟨j.val, h⟩ else if h : j.val - 32 < 32 then a.S i ⟨j.val - 32, h⟩ else 0

/-- Head `h`: `R` queries from row `lo` on, and the first `K` keys. -/
def blk (lo h R K : ℕ) : Blk R K where
  qn r j := a.Q (lo + r.val) (256 * h + j.val)
  qp r j := a.Q (lo + r.val) (256 * h + 128 + j.val)
  kn k j := a.KV k.val (256 * h + j.val)
  kp k j := a.P k.val (1024 + j.val)
  cq r := a.pc (lo + r.val)
  sq r := a.ps (lo + r.val)
  ck k := a.pc k.val
  sk k := a.ps k.val
  v k j := a.KV k.val (256 * h + 128 + j.val)
  g r j := a.D (lo + r.val) (128 * h + j.val)
  pos r := lo + r.val

/-- The argument arrays hold the real numbers `a`. -/
structure Is (x0 x1 : (⟨2, ![2048, 4096]⟩ : Shape).Idx → EReal) (x2 : (⟨2, ![2048, 1152]⟩ : Shape).Idx → EReal)
    (x3 : (⟨1, ![2048]⟩ : Shape).Idx → BitVec 32) (x4 : (⟨2, ![2048, 2048]⟩ : Shape).Idx → EReal) : Prop where
  h0 : ∀ i j, x0 (ix2 i j) = (a.Q i.val j.val : EReal)
  h1 : ∀ i j, x1 (ix2 i j) = (a.KV i.val j.val : EReal)
  h2 : ∀ i j, x2 (ix2 i j) = (a.P i.val j.val : EReal)
  h3 : ∀ i, x3 (ix1 i) = a.pos i.val
  h4 : ∀ i j, x4 (ix2 i j) = (a.D i.val j.val : EReal)

variable {a}

/-- The angle of an array of positions. -/
theorem ang_at (b : BitVec 32) (i : ℕ) (hb : b = a.pos i) (l : Fin 32) :
    FloatOps.sitofp (F := Ideal) .f32 b * freq l = (a.ang i l : EReal) := by
  subst hb; rw [freq_real]; show (((a.pos i).toInt : ℝ) : EReal) * _ = _; rw [← EReal.coe_mul]; rfl

variable (a) (h R R' K lo : ℕ) (k : Fin K) (j : Fin 128)

/-- A query's row of gradients does not depend on the block it is in. -/
theorem dqn_row (r : Fin R) : (a.blk lo h R K).dqn r j = (a.blk (lo + r.val) h 1 K).dqn 0 j := rfl
theorem dqp_row (r : Fin R) : (a.blk lo h R K).dqp r j = (a.blk (lo + r.val) h 1 K).dqp 0 j := rfl
theorem dqr_row (r : Fin R) : (a.blk lo h R K).dqr r j = (a.blk (lo + r.val) h 1 K).dqr 0 j := rfl

theorem sum_rows (T : ℕ → ℝ) (R R' lo : ℕ) : ∑ r : Fin (R + R'), T (lo + r.val) = (∑ r : Fin R, T (lo + r.val)) + ∑ r : Fin R', T (lo + R + r.val) := by
  refine (Fin.sum_univ_add _).trans (congrArg₂ (· + ·) rfl (Finset.sum_congr rfl fun r _ => congrArg T ?_))
  simp [Nat.add_assoc]
/-- The keys' gradients add up over two runs of rows. -/
theorem dkn_add : (a.blk lo h (R + R') K).dkn k j = (a.blk lo h R K).dkn k j + (a.blk (lo + R) h R' K).dkn k j :=
  sum_rows (fun i => (a.blk i h 1 K).ds 0 k * (a.blk i h 1 K).qn 0 j) R R' lo
theorem dv_add : (a.blk lo h (R + R') K).dv k j = (a.blk lo h R K).dv k j + (a.blk (lo + R) h R' K).dv k j :=
  sum_rows (fun i => (a.blk i h 1 K).pr 0 k * (a.blk i h 1 K).g 0 j) R R' lo
theorem dkr_add : (a.blk lo h (R + R') K).dkr k j = (a.blk lo h R K).dkr k j + (a.blk (lo + R) h R' K).dkr k j :=
  sum_rows (fun i => (a.blk i h 1 K).ds 0 k * (a.blk i h 1 K).qr 0 j) R R' lo
/-- The rotation back is linear. -/
theorem ropeT_add (x y c s : Fin 128 → ℝ) (j : Fin 128) : ropeT (fun i => x i + y i) c s j = ropeT x c s j + ropeT y c s j := by
  unfold ropeT sw; split_ifs <;> ring
theorem ropeT_sum (n : ℕ) (x : ℕ → Fin 128 → ℝ) (c s : Fin 128 → ℝ) (j : Fin 128) :
    ropeT (fun i => ∑ e ∈ Finset.range n, x e i) c s j = ∑ e ∈ Finset.range n, ropeT (x e) c s j := by
  induction n with
  | zero => simp [ropeT, sw]
  | succ n ih => simp only [Finset.sum_range_succ]; rw [ropeT_add, ih]
theorem sum_pairs (T : ℕ → ℝ) (n : ℕ) : ∑ s ∈ Finset.range (2 * n), T s = ∑ e ∈ Finset.range n, (T (2 * e) + T (2 * e + 1)) := by
  induction n with
  | zero => simp
  | succ n ih => rw [Nat.mul_succ, Finset.sum_range_succ, Finset.sum_range_succ, Finset.sum_range_succ, ih, add_assoc]
/-- The gradient in the keys' rotated part, which the heads share: the heads' sums, rotated back once. -/
def dkpAll : ℝ := ropeT (fun i => ∑ e : Fin 16, (a.blk lo e.val R K).dkr k i) (a.pc k.val) (a.ps k.val) j
/-- It is what 32 blocks of 256 queries add up to, two for every head. -/
theorem dkpAll_eq : a.dkpAll 512 K lo k j = ∑ s ∈ Finset.range 32, (a.blk (lo + 256 * (s % 2)) (s / 2) 256 K).dkp k j := by
  refine Eq.trans ?_ (sum_pairs (fun s => (a.blk (lo + 256 * (s % 2)) (s / 2) 256 K).dkp k j) 16).symm
  unfold dkpAll
  refine (congrArg (fun y => ropeT y (a.pc k.val) (a.ps k.val) j) (funext fun i =>
    Fin.sum_univ_eq_sum_range (fun e => (a.blk lo e 512 K).dkr k i) 16)).trans ((ropeT_sum 16 (fun e i => (a.blk lo e 512 K).dkr k i) _ _ j).trans ?_)
  refine Finset.sum_congr rfl fun e _ => ?_
  have e1 : 2 * e % 2 = 0 := by omega
  have e2 : (2 * e + 1) % 2 = 1 := by omega
  have e3 : 2 * e / 2 = e := by omega
  have e4 : (2 * e + 1) / 2 = e := by omega
  simp only [e1, e2, e3, e4]
  rw [show (fun i => (a.blk lo e 512 K).dkr k i) = fun i => (a.blk lo e 256 K).dkr k i + (a.blk (lo + 256) e 256 K).dkr k i from
    funext fun i => a.dkr_add e 256 256 K lo k i, ropeT_add]
  rfl

variable {h R R' K lo k j} (x : Fin 128 → ℝ) (i : ℕ) (l : Fin 32)

/-- The lanes in four groups of 32. -/
theorem sw_0 : sw x ⟨l.val, by omega⟩ = x ⟨32 + l.val, by omega⟩ := by
  refine (if_pos (by show l.val < 32; omega)).trans (congrArg x (Fin.ext ?_))
  show (l.val + 128 - 96) % 128 = 32 + l.val; omega
theorem sw_32 : sw x ⟨32 + l.val, by omega⟩ = x ⟨l.val, by omega⟩ := by
  refine (if_neg (by show ¬32 + l.val < 32; omega)).trans (congrArg x (Fin.ext ?_))
  show (32 + l.val + 128 - 32) % 128 = l.val; omega
theorem sw_64 : sw x ⟨64 + l.val, by omega⟩ = x ⟨32 + l.val, by omega⟩ := by
  refine (if_neg (by show ¬64 + l.val < 32; omega)).trans (congrArg x (Fin.ext ?_))
  show (64 + l.val + 128 - 32) % 128 = 32 + l.val; omega
theorem sw_96 : sw x ⟨96 + l.val, by omega⟩ = x ⟨64 + l.val, by omega⟩ := by
  refine (if_neg (by show ¬96 + l.val < 32; omega)).trans (congrArg x (Fin.ext ?_))
  show (96 + l.val + 128 - 32) % 128 = 64 + l.val; omega
theorem pc_0 : a.pc i ⟨l.val, by omega⟩ = a.C i l := dif_pos l.isLt
theorem pc_1 : a.pc i ⟨32 + l.val, by omega⟩ = a.C i l := by
  refine (dif_neg (by show ¬32 + l.val < 32; omega)).trans ((dif_pos (by show 32 + l.val - 32 < 32; omega)).trans (congrArg (a.C i) (Fin.ext ?_)))
  show 32 + l.val - 32 = l.val; omega
theorem ps_0 : a.ps i ⟨l.val, by omega⟩ = -a.S i l := dif_pos l.isLt
theorem ps_1 : a.ps i ⟨32 + l.val, by omega⟩ = a.S i l := by
  refine (dif_neg (by show ¬32 + l.val < 32; omega)).trans ((dif_pos (by show 32 + l.val - 32 < 32; omega)).trans (congrArg (a.S i) (Fin.ext ?_)))
  show 32 + l.val - 32 = l.val; omega
theorem pc_2 (j : Fin 128) (h : 64 ≤ j.val) : a.pc i j = 0 := by
  unfold pc; rw [dif_neg (by omega), dif_neg (by omega)]
theorem ps_2 (j : Fin 128) (h : 64 ≤ j.val) : a.ps i j = 0 := by
  unfold ps; rw [dif_neg (by omega), dif_neg (by omega)]
/-- The rotation and the rotation back, by the groups of lanes. -/
theorem rope_0 : rope x (a.pc i) (a.ps i) ⟨l.val, by omega⟩ = x ⟨l.val, by omega⟩ * a.C i l - x ⟨32 + l.val, by omega⟩ * a.S i l := by
  unfold rope; rw [sw_0, pc_0, ps_0]; ring
theorem rope_1 : rope x (a.pc i) (a.ps i) ⟨32 + l.val, by omega⟩ = x ⟨l.val, by omega⟩ * a.S i l + x ⟨32 + l.val, by omega⟩ * a.C i l := by
  unfold rope; rw [sw_32, pc_1, ps_1]; ring
theorem rope_2 (j : Fin 128) (h : 64 ≤ j.val) : rope x (a.pc i) (a.ps i) j = 0 := by
  unfold rope; rw [a.pc_2 i j h, a.ps_2 i j h]; ring
theorem ropeT_0 : ropeT x (a.pc i) (a.ps i) ⟨l.val, by omega⟩ = x ⟨l.val, by omega⟩ * a.C i l + x ⟨32 + l.val, by omega⟩ * a.S i l := by
  unfold ropeT; rw [sw_0, pc_0, ps_1]
theorem ropeT_1 : ropeT x (a.pc i) (a.ps i) ⟨32 + l.val, by omega⟩ = x ⟨32 + l.val, by omega⟩ * a.C i l - x ⟨l.val, by omega⟩ * a.S i l := by
  unfold ropeT; rw [sw_32, pc_1, ps_0]; ring
theorem ropeT_2 : ropeT x (a.pc i) (a.ps i) ⟨64 + l.val, by omega⟩ = x ⟨32 + l.val, by omega⟩ * a.S i l := by
  unfold ropeT; rw [sw_64, ps_1, a.pc_2 i _ (by show 64 ≤ 64 + l.val; omega)]; ring
theorem ropeT_3 : ropeT x (a.pc i) (a.ps i) ⟨96 + l.val, by omega⟩ = 0 := by
  unfold ropeT; rw [sw_96, a.ps_2 i _ (by show 64 ≤ 64 + l.val; omega), a.pc_2 i _ (by show 64 ≤ 96 + l.val; omega)]; ring
/-- A sum over the lanes whose upper half is zero. -/
theorem sum_lanes (y : Fin 128 → ℝ) (hy : ∀ j : Fin 128, 64 ≤ j.val → y j = 0) : ∑ j, y j = ∑ j : Fin 64, y ⟨j.val, by omega⟩ := by
  refine (Fin.sum_univ_add (a := 64) (b := 64) y).trans ?_
  rw [Finset.sum_eq_zero (s := Finset.univ) (f := fun i : Fin 64 => y (Fin.natAdd 64 i)) (fun i _ => hy _ (by simp)), add_zero]
  rfl

/-- The rotation back of 64 lanes, written by the groups. -/
theorem ropeT_groups (y : Fin 64 → EReal) (c s : Fin 32 → EReal) (hy : ∀ l : Fin 64, y l = (x ⟨l.val, by omega⟩ : EReal)) (hc : ∀ l, c l = (a.C i l : EReal))
    (hs : ∀ l, s l = (a.S i l : EReal)) (j : Fin 128) :
    (if h : j.val < 64 then
      if h2 : j.val < 32 then y ⟨j.val, h⟩ * c ⟨j.val, h2⟩ + y ⟨32 + j.val, by omega⟩ * s ⟨j.val, h2⟩
      else y ⟨32 + (j.val - 32), by omega⟩ * c ⟨j.val - 32, by omega⟩ - y ⟨j.val - 32, by omega⟩ * s ⟨j.val - 32, by omega⟩
    else if h2 : j.val - 64 < 32 then y ⟨32 + (j.val - 64), by omega⟩ * s ⟨j.val - 64, h2⟩ else 0)
      = (ropeT x (a.pc i) (a.ps i) j : EReal) := by
  simp only [hy, hc, hs]
  by_cases h1 : j.val < 32
  · rw [dif_pos (by omega), dif_pos h1]
    refine Eq.trans ?_ (congrArg Real.toEReal (ropeT_0 a x i ⟨j.val, h1⟩)).symm
    norm_cast
  by_cases h2 : j.val < 64
  · obtain ⟨l, rfl⟩ : ∃ l : Fin 32, j = ⟨32 + l.val, (Nat.add_lt_add_left l.isLt 32).trans_le (by decide)⟩ := ⟨⟨j.val - 32, by omega⟩, Fin.ext (by show j.val = 32 + (j.val - 32); omega)⟩
    rw [dif_pos h2, dif_neg h1, ropeT_1]
    simp only [Nat.add_sub_cancel_left]
    norm_cast
  by_cases h3 : j.val - 64 < 32
  · obtain ⟨l, rfl⟩ : ∃ l : Fin 32, j = ⟨64 + l.val, (Nat.add_lt_add_left l.isLt 64).trans_le (by decide)⟩ := ⟨⟨j.val - 64, by omega⟩, Fin.ext (by show j.val = 64 + (j.val - 64); omega)⟩
    rw [dif_neg h2, dif_pos h3, ropeT_2]
    simp only [Nat.add_sub_cancel_left]
    norm_cast
  · obtain ⟨l, rfl⟩ : ∃ l : Fin 32, j = ⟨96 + l.val, (Nat.add_lt_add_left l.isLt 96).trans_le (by decide)⟩ := ⟨⟨j.val - 96, by omega⟩, Fin.ext (by show j.val = 96 + (j.val - 96); omega)⟩
    rw [dif_neg h2, dif_neg h3, ropeT_3]
    rfl

end Args

/-- Two rows of 128 lanes side by side. -/
def half (x y : Fin 128 → ℝ) (l : Fin 256) : ℝ := if h : l.val < 128 then x ⟨l.val, h⟩ else y ⟨l.val - 128, by omega⟩
theorem half_lo (x y : Fin 128 → ℝ) (j : Fin 128) : half x y (lo j) = x j := dif_pos j.isLt
theorem half_hi (x y : Fin 128 → ℝ) (j : Fin 128) : half x y (hi j) = y j :=
  (dif_neg (by show ¬128 + j.val < 128; omega)).trans (congrArg y (Fin.ext (by show 128 + j.val - 128 = j.val; omega)))
theorem lane_cases (l : Fin 256) : (∃ j, l = lo j) ∨ ∃ j, l = hi j :=
  if h : l.val < 128 then .inl ⟨⟨l.val, h⟩, rfl⟩ else .inr ⟨⟨l.val - 128, by omega⟩, Fin.ext (by show l.val = 128 + (l.val - 128); omega)⟩

/-- What the three arrays hold after the queries `q0` to `q0 + 511` with the first `K` keys: the queries' gradient in
    these rows, the keys' and values' gradients and the gradient of the keys' rotated part added in the first `K` rows. -/
def rDq (a : Args) (q0 K : ℕ) (x : (⟨2, ![2048, 4096]⟩ : Shape).Idx → EReal) : (⟨2, ![2048, 4096]⟩ : Shape).Idx → EReal := fun i =>
  if q0 ≤ (i 0).val ∧ (i 0).val < q0 + 512 then
    (half ((a.blk (i 0).val ((i 1).val / 256) 1 K).dqn 0) ((a.blk (i 0).val ((i 1).val / 256) 1 K).dqp 0)
      ⟨(i 1).val % 256, Nat.mod_lt _ (by decide)⟩ : EReal)
  else x i
def rDkv (a : Args) (q0 K : ℕ) (x : (⟨2, ![2048, 4096]⟩ : Shape).Idx → EReal) : (⟨2, ![2048, 4096]⟩ : Shape).Idx → EReal := fun i =>
  if h : (i 0).val < K then
    x i + (half ((a.blk q0 ((i 1).val / 256) 512 K).dkn ⟨(i 0).val, h⟩) ((a.blk q0 ((i 1).val / 256) 512 K).dv ⟨(i 0).val, h⟩)
      ⟨(i 1).val % 256, Nat.mod_lt _ (by decide)⟩ : EReal)
  else x i
def rDkp (a : Args) (q0 K : ℕ) (x : (⟨2, ![2048, 128]⟩ : Shape).Idx → EReal) : (⟨2, ![2048, 128]⟩ : Shape).Idx → EReal := fun i =>
  if h : (i 0).val < K then x i + (a.dkpAll 512 K q0 ⟨(i 0).val, h⟩ ⟨(i 1).val, (i 1).isLt⟩ : EReal) else x i

/-- Column `l` of head `h`. -/
def col (h : Fin 16) (l : Fin 256) : Fin 4096 := ⟨256 * h.val + l.val, by omega⟩

variable (a : Args) (q0 K : ℕ) (x : (⟨2, ![2048, 4096]⟩ : Shape).Idx → EReal) (i : Fin 2048) (h : Fin 16) (l : Fin 256)
theorem col_div : (col h l).val / 256 = h.val := by show (256 * h.val + l.val) / 256 = _; omega
theorem col_mod : (⟨(col h l).val % 256, Nat.mod_lt _ (by decide)⟩ : Fin 256) = l := Fin.ext (by show (256 * h.val + l.val) % 256 = _; omega)
/-- Their entries by head and lane. -/
theorem rDq_in (hq : q0 ≤ i.val ∧ i.val < q0 + 512) :
    rDq a q0 K x (ix2 i (col h l)) = (half ((a.blk i.val h.val 1 K).dqn 0) ((a.blk i.val h.val 1 K).dqp 0) l : EReal) := by
  refine (if_pos hq).trans ?_
  show ((half ((a.blk i.val ((col h l).val / 256) 1 K).dqn 0) ((a.blk i.val ((col h l).val / 256) 1 K).dqp 0) ⟨(col h l).val % 256, _⟩ : ℝ) : EReal) = _
  rw [col_div, col_mod]
theorem rDkv_in (hk : i.val < K) :
    rDkv a q0 K x (ix2 i (col h l)) = x (ix2 i (col h l)) + (half ((a.blk q0 h.val 512 K).dkn ⟨i.val, hk⟩) ((a.blk q0 h.val 512 K).dv ⟨i.val, hk⟩) l : EReal) := by
  refine (dif_pos hk).trans ?_
  show x _ + ((half ((a.blk q0 ((col h l).val / 256) 512 K).dkn _) ((a.blk q0 ((col h l).val / 256) 512 K).dv _) ⟨(col h l).val % 256, _⟩ : ℝ) : EReal) = _
  rw [col_div, col_mod]; rfl
theorem rDq_out (j : Fin 4096) (hq : ¬(q0 ≤ i.val ∧ i.val < q0 + 512)) : rDq a q0 K x (ix2 i j) = x (ix2 i j) := if_neg hq
theorem rDkv_out (j : Fin 4096) (hk : ¬i.val < K) : rDkv a q0 K x (ix2 i j) = x (ix2 i j) := dif_neg hk
theorem rDkp_in (y : (⟨2, ![2048, 128]⟩ : Shape).Idx → EReal) (j : Fin 128) (hk : i.val < K) :
    rDkp a q0 K y (ix2 i j) = y (ix2 i j) + (a.dkpAll 512 K q0 ⟨i.val, hk⟩ j : EReal) := dif_pos hk
theorem rDkp_out (y : (⟨2, ![2048, 128]⟩ : Shape).Idx → EReal) (j : Fin 128) (hk : ¬i.val < K) : rDkp a q0 K y (ix2 i j) = y (ix2 i j) := dif_neg hk
theorem col_cases (j : Fin 4096) : ∃ h l, j = col h l := ⟨⟨j.val / 256, by omega⟩, ⟨j.val % 256, by omega⟩, Fin.ext (by show j.val = 256 * (j.val / 256) + j.val % 256; omega)⟩

end Cert.Proof.At

end
-- ==== Proof.AtPre.lean ====
/- The precondition says that every entry of the four float arguments is a real number. -/
module

public import proofs.«01_k».proof.Defs
public import proofs.«01_k».proof.Proof.Gen.Pre_attn_finite
public import proofs.«01_k».proof.Proof.AtArgs
public import proofs.«01_k».proof.Proof.GmPre
public import proofs.«01_k».proof.Proof.Mm

@[expose] public section

noncomputable section

namespace Cert.Proof.At

open Idealize.ShloMosaic Idealize.SL.Sem
open Cert.Proof.Gm (and_one real_all)
open Cert.Proof.Mm (at2 at2_ix2)

/-- The real numbers and the positions in the first five arguments. -/
def argsOf (x0 x1 : (⟨2, ![2048, 4096]⟩ : Shape).Idx → EReal) (x2 : (⟨2, ![2048, 1152]⟩ : Shape).Idx → EReal)
    (x3 : (⟨1, ![2048]⟩ : Shape).Idx → BitVec 32) (x4 : (⟨2, ![2048, 2048]⟩ : Shape).Idx → EReal) : Args where
  Q i j := (at2 x0 i j).toReal
  KV i j := (at2 x1 i j).toReal
  P i j := (at2 x2 i j).toReal
  D i j := (at2 x4 i j).toReal
  pos i := if h : i < 2048 then x3 (ix1 ⟨i, h⟩) else 0

/-- Under the precondition the arguments hold those numbers. -/
theorem is_argsOf (x0 x1 : FVec Ideal ⟨2, ![2048, 4096]⟩ .f32) (x2 : FVec Ideal ⟨2, ![2048, 1152]⟩ .f32) (x3 : IVec ⟨1, ![2048]⟩ 32)
    (x4 : FVec Ideal ⟨2, ![2048, 2048]⟩ .f32) (x5 : FVec Ideal ⟨2, ![2048, 4096]⟩ .bf16) (x6 : FVec Ideal ⟨2, ![2048, 4096]⟩ .f32)
    (x7 : FVec Ideal ⟨2, ![2048, 128]⟩ .f32)
    (e : letI := Cert.Pre_attn_finite.Gen.facts; Cert.Pre_attn_finite.fn (F := Ideal) x0 x1 x2 x3 x4 x5 x6 x7 ix0 = 1#1) :
    (argsOf x0 x1 x2 x3 x4).Is x0 x1 x2 x3 x4 := by
  dsimp only [Cert.Pre_attn_finite.fn, Cert.Pre_attn_finite.fn_part1] at e
  obtain ⟨e, e4⟩ := and_one _ _ e
  obtain ⟨e, e2⟩ := and_one _ _ e
  obtain ⟨e0, e1⟩ := and_one _ _ e
  refine ⟨fun i j => ?_, fun i j => ?_, fun i j => ?_, fun i => by unfold argsOf; dsimp only; rw [dif_pos i.isLt], fun i j => ?_⟩
  · exact (real_all x0 _ _ _ _ e0 (ix2 i j)).trans (congrArg (fun y => ((EReal.toReal y : ℝ) : EReal)) (at2_ix2 x0 i j))
  · exact (real_all x1 _ _ _ _ e1 (ix2 i j)).trans (congrArg (fun y => ((EReal.toReal y : ℝ) : EReal)) (at2_ix2 x1 i j))
  · exact (real_all x2 _ _ _ _ e2 (ix2 i j)).trans (congrArg (fun y => ((EReal.toReal y : ℝ) : EReal)) (at2_ix2 x2 i j))
  · exact (real_all x4 _ _ _ _ e4 (ix2 i j)).trans (congrArg (fun y => ((EReal.toReal y : ℝ) : EReal)) (at2_ix2 x4 i j))

end Cert.Proof.At

end
-- ==== Proof.At0Pay.lean ====
/- What one grid point computes from blocks that hold real numbers: the gradient's real formulas. -/
module

public import proofs.«01_k».proof.Proof.Gen.At0Ideal.Value
public import proofs.«01_k».proof.Proof.AtMath
public import Idealize.ShloMosaic.Lib.Pointwise

@[expose] public section

set_option maxRecDepth 16384

noncomputable section

namespace Cert.Proof.At0

open Idealize.ShloMosaic Idealize.SL.Sem Cert.At0Ideal Cert.At0Ideal.Gen Cert.Proof.At
open Cert.Proof.Gm (coe_sum div_real)

theorem hz2 : (![0, 0] : Fin 2 → ℕ) = fun _ => 0 := by decide

variable (q : ℕ) (x0 x1 : Vec Ideal S256x128 .f32) (x2 x3 : Vec Ideal S512x128 .f32) (x4 x5 : Vec Ideal S256x128 .f32)
  (x6 x7 x8 : Vec Ideal S512x128 .f32) (x9 : Vec Ideal S256x128 .f32)

/-- The scores. -/
def tSc : FVec Ideal S256x512 .f32 := k0_pay8 (k0_pay2 x0) (k0_pay3 x1 x4 x5) (k0_pay4 x2) x3 (k0_pay5 x6) (k0_pay6 x7)
/-- The probabilities. -/
def tPr : FVec Ideal S256x512 .f32 := k0_pay11 (tSc x0 x1 x2 x3 x4 x5 x6 x7) (k0_pay9 (BitVec.ofNat 32 q)) k0_pay10
/-- The gradient in the probabilities. -/
def tDp : FVec Ideal S256x512 .f32 := k0_pay14 x9 x8
/-- The gradient in the probabilities times the probabilities. -/
def tDpp : FVec Ideal S256x512 .f32 :=
  k0_pay15 (tSc x0 x1 x2 x3 x4 x5 x6 x7) (k0_pay9 (BitVec.ofNat 32 q)) k0_pay10 x9 x8
/-- The gradient in the products of queries and keys. -/
def tDs : FVec Ideal S256x512 .bf16 :=
  k0_pay16 (tPr q x0 x1 x2 x3 x4 x5 x6 x7) (tDp x8 x9) (tDpp q x0 x1 x2 x3 x4 x5 x6 x7 x8 x9)

/-- The ten blocks a point reads hold the numbers of `B`, whose queries start at block `q` of the queries. -/
structure Holds (B : Blk 256 512) : Prop where
  h0 : ∀ r j, x0 (ix2 r j) = (B.qn r j : EReal)
  h1 : ∀ r j, x1 (ix2 r j) = (B.qp r j : EReal)
  h2 : ∀ r j, x2 (ix2 r j) = (B.kn r j : EReal)
  h3 : ∀ r j, x3 (ix2 r j) = (B.kp r j : EReal)
  h4 : ∀ r j, x4 (ix2 r j) = (B.cq r j : EReal)
  h5 : ∀ r j, x5 (ix2 r j) = (B.sq r j : EReal)
  h6 : ∀ r j, x6 (ix2 r j) = (B.ck r j : EReal)
  h7 : ∀ r j, x7 (ix2 r j) = (B.sk r j : EReal)
  h8 : ∀ r j, x8 (ix2 r j) = (B.v r j : EReal)
  h9 : ∀ r j, x9 (ix2 r j) = (B.g r j : EReal)
  hp : ∀ r, B.pos r = 0 + 256 * q + r.val
  hq : q < 2

theorem slt32 : ∀ j : Fin 128, IntOp.cmpi CmpIPredicate.slt (BitVec.ofNat 32 j.val) 32#32 = if j.val < 32 then 1#1 else 0#1 := by
  decide +kernel
/-- The choice between the two rotated rows. -/
theorem sel_sw (f : Fin 128 → EReal) (x : Fin 128 → ℝ) (h : ∀ j, f j = (x j : EReal)) (j : Fin 128) :
    Scalar.select (IntOp.cmpi CmpIPredicate.slt (BitVec.ofNat 32 j.val) 32#32) (f (up j)) (f (dn j)) = (sw x j : EReal) := by
  rw [slt32, h, h]; unfold sw
  by_cases hj : j.val < 32 <;> simp [hj, Scalar.select]
/-- The floor division by 64, as it is spelled. -/
theorem floor64 : ∀ i : Fin 512, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by decide +kernel
/-- Comparing the block numbers. -/
theorem sle64 (i j : Fin 512) : IntOp.cmpi CmpIPredicate.sle (BitVec.ofNat 32 (i.val / 64)) (BitVec.ofNat 32 (j.val / 64))
    = if i.val / 64 ≤ j.val / 64 then 1#1 else 0#1 := by
  have key : ∀ p q : Fin 16, IntOp.cmpi CmpIPredicate.sle (BitVec.ofNat 32 p.val) (BitVec.ofNat 32 q.val)
      = if p.val ≤ q.val then 1#1 else 0#1 := by decide +kernel
  exact key ⟨i.val / 64, by omega⟩ ⟨j.val / 64, by omega⟩

variable {q x0 x1 x2 x3 x4 x5 x6 x7 x8 x9} {B : Blk 256 512} (H : Holds q x0 x1 x2 x3 x4 x5 x6 x7 x8 x9 B)

include H

theorem pay3_eq (r : Fin 256) (j : Fin 128) : k0_pay3 (F := Ideal) x1 x4 x5 (ix2 r j) = (B.qr r j : EReal) := by
  pointwise [k0_pay3]
  rw [sel_sw (fun k => x1 (ix2 r k)) _ (H.h1 r) j, H.h1, H.h4, H.h5]
  norm_cast
theorem pay7_eq (k : Fin 512) (j : Fin 128) : k0_pay7 (F := Ideal) x3 (k0_pay5 x6) (k0_pay6 x7) (ix2 k j) = (B.kr k j : EReal) := by
  pointwise [k0_pay7, k0_pay5, k0_pay6]
  rw [sel_sw (fun i => x3 (ix2 k i)) _ (H.h3 k) j, H.h3, H.h6, H.h7]
  norm_cast
theorem tSc_eq (r : Fin 256) (k : Fin 512) : tSc x0 x1 x2 x3 x4 x5 x6 x7 (ix2 r k) = (B.sc r k : EReal) := by
  pointwise [tSc, k0_pay8, k0_pay2, k0_pay4]
  simp only [pay3_eq H, pay7_eq H, H.h0, H.h2, lit_scale, ← EReal.coe_mul, ← EReal.coe_add, ← coe_sum]
  rfl
theorem pay9_eq (r : Fin 256) (k : Fin 512) : k0_pay9 (BitVec.ofNat 32 q) (ix2 r k) = BitVec.ofNat 32 (B.pos r) := by
  pointwise [k0_pay9]
  rw [H.hp]
  have hq := H.hq
  interval_cases q <;> revert r <;> decide +kernel
theorem mask_eq (r : Fin 256) (k : Fin 512) (a : EReal) : Scalar.select
        (IntOp.cmpi CmpIPredicate.sle (k0_pay10 (ix2 r k))
          (Scalar.select
            (IntOp.andi
              (IntOp.cmpi CmpIPredicate.ne
                (IntOp.subi (BitVec.setWidth 32 (IntOp.cmpi CmpIPredicate.sgt (k0_pay9 (BitVec.ofNat 32 q) (ix2 r k)) 0#32))
                  (BitVec.setWidth 32 (IntOp.cmpi CmpIPredicate.slt (k0_pay9 (BitVec.ofNat 32 q) (ix2 r k)) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (k0_pay9 (BitVec.ofNat 32 q) (ix2 r k)) 64#32) 0#32))
            (IntOp.subi (IntOp.divsi ArithUnit.vector (k0_pay9 (BitVec.ofNat 32 q) (ix2 r k)) 64#32) 1#32)
            (IntOp.divsi ArithUnit.vector (k0_pay9 (BitVec.ofNat 32 q) (ix2 r k)) 64#32)))
        a ⊥ = if B.vis r k then a else ⊥ := by
  have hl : B.pos r < 512 := by have := H.hp r; have := H.hq; omega
  have hk : k0_pay10 (ix2 r k) = BitVec.ofNat 32 (k.val / 64) := by
    pointwise [k0_pay10]
    exact floor64 k
  rw [pay9_eq H, hk, floor64 ⟨B.pos r, hl⟩, sle64 k ⟨B.pos r, hl⟩]
  unfold Blk.vis
  by_cases hv : k.val / 64 ≤ B.pos r / 64 <;> simp [hv, Scalar.select]
theorem tPr_eq (r : Fin 256) (k : Fin 512) : tPr q x0 x1 x2 x3 x4 x5 x6 x7 (ix2 r k) = (B.pr r k : EReal) := by
  pointwise [tPr, k0_pay11]
  simp only [mask_eq H, tSc_eq H, lit_ninf]
  have e : ∀ k, (if B.vis r k then (B.sc r k : EReal) else ⊥) = B.msc r k := fun _ => rfl
  simp only [e, B.fold_max, B.exp_msc, ← coe_sum]
  exact div_real _ _ (B.sm_pos r).ne'
theorem tDp_eq (r : Fin 256) (k : Fin 512) : tDp x8 x9 (ix2 r k) = (B.dp r k : EReal) := by
  pointwise [tDp, k0_pay14, k0_pay12]
  simp only [H.h8, H.h9, ← EReal.coe_mul, ← coe_sum]
  rfl
theorem tDs_eq (r : Fin 256) (k : Fin 512) : tDs q x0 x1 x2 x3 x4 x5 x6 x7 x8 x9 (ix2 r k) = (B.ds r k : EReal) := by
  pointwise [tDs, k0_pay16, tDpp, k0_pay15]
  have e (i) := tPr_eq H r i
  have e' (i) := tDp_eq H r i
  unfold tPr at e
  unfold tDp at e'
  simp only [tPr_eq H, tDp_eq H, e, e', lit_scale, ← EReal.coe_mul, ← EReal.coe_sub, ← coe_sum]
  rfl
theorem pay17_eq (r : Fin 256) (j : Fin 128) :
    k0_pay17 (F := Ideal) (k0_pay4 x2) (tPr q x0 x1 x2 x3 x4 x5 x6 x7) (tDp x8 x9) (tDpp q x0 x1 x2 x3 x4 x5 x6 x7 x8 x9) (ix2 r j)
      = (B.dqn r j : EReal) := by
  pointwise [k0_pay17, k0_pay4]
  have e (i) := tDs_eq H r i
  unfold tDs at e
  simp only [e, H.h2, ← EReal.coe_mul, ← coe_sum]
  rfl
theorem pay18_eq (r : Fin 256) (j : Fin 128) :
    k0_pay18 (F := Ideal) (k0_pay7 x3 (k0_pay5 x6) (k0_pay6 x7)) (tPr q x0 x1 x2 x3 x4 x5 x6 x7) (tDp x8 x9)
      (tDpp q x0 x1 x2 x3 x4 x5 x6 x7 x8 x9) x4 x5 (ix2 r j) = (B.dqp r j : EReal) := by
  pointwise [k0_pay18]
  have e (i) := tDs_eq H r i
  unfold tDs at e
  simp only [e, pay7_eq H, H.h4, H.h5, ← EReal.coe_mul, ← coe_sum]
  rw [sel_sw (fun i => ((((∑ x, B.ds r x * B.kr x i) * B.sq r i : ℝ)) : EReal)) _ (fun _ => rfl) j]
  norm_cast
theorem pay19_eq (y : Vec Ideal S512x128 .f32) (k : Fin 512) (j : Fin 128) :
    k0_pay19 (F := Ideal) (k0_pay2 x0) (tPr q x0 x1 x2 x3 x4 x5 x6 x7) (tDp x8 x9) (tDpp q x0 x1 x2 x3 x4 x5 x6 x7 x8 x9) y (ix2 k j)
      = y (ix2 k j) + (B.dkn k j : EReal) := by
  pointwise [k0_pay19, k0_pay2]
  have e (i) := tDs_eq H i k
  unfold tDs at e
  simp only [e, H.h0, ← EReal.coe_mul, ← coe_sum]
  rfl
theorem pay20_eq (y : Vec Ideal S512x128 .f32) (k : Fin 512) (j : Fin 128) :
    k0_pay20 (F := Ideal) (k0_pay13 (tSc x0 x1 x2 x3 x4 x5 x6 x7) (k0_pay9 (BitVec.ofNat 32 q)) k0_pay10 x9) y (ix2 k j)
      = y (ix2 k j) + (B.dv k j : EReal) := by
  pointwise [k0_pay20, k0_pay13, k0_pay12]
  have e (i) := tPr_eq H i k
  unfold tPr at e
  simp only [e, H.h9, ← EReal.coe_mul, ← coe_sum]
  rfl
theorem pay1_eq (y : Vec Ideal S512x128 .f32) (k : Fin 512) (j : Fin 128) :
    k0_pay1 (F := Ideal) (k0_pay3 x1 x4 x5) (tDs q x0 x1 x2 x3 x4 x5 x6 x7 x8 x9) y x6 x7 (ix2 k j)
      = y (ix2 k j) + (B.dkp k j : EReal) := by
  pointwise [k0_pay1]
  simp only [tDs_eq H, pay3_eq H, H.h6, H.h7, ← EReal.coe_mul, ← coe_sum]
  rw [sel_sw (fun i => ((((∑ x, B.ds x k * B.qr x i) * B.sk k i : ℝ)) : EReal)) _ (fun _ => rfl) j]
  norm_cast

end Cert.Proof.At0

end
-- ==== Proof.At0Out.lean ====
/- What one grid point leaves in its three output blocks: `A` at the first point, `C` at the first of a head's two
   points, `B` at the second. -/
module

public import proofs.«01_k».proof.Proof.At0Pay
public import proofs.«01_k».proof.Proof.AtHalf

@[expose] public section

set_option maxRecDepth 16384

noncomputable section

namespace Cert.Proof.At0

open Idealize.ShloMosaic Idealize.SL.Sem Cert.At0Ideal Cert.At0Ideal.Gen Cert.Proof.At

/-- The second grid coordinate. -/
theorem coord1 : ∀ t : Fin cfg0.N, (grid0.coords t 1).val = t.val % 2 := (by decide +kernel : ∀ t : Fin grid0.N, (grid0.coords t 1).val = t.val % 2)

variable (m : (ℓ : Loc nD τ sig) → Buf (Elt Ideal) ℓ) (c : Dev nD)

/-- A point's blocks hold the numbers of `B`. -/
abbrev HoldsAt (t : Fin cfg0.N) (B : Blk 256 512) : Prop :=
  Holds (t.val % 2) (iblk m c 0 t) (iblk m c 1 t) (iblk m c 2 t) (iblk m c 3 t) (iblk m c 4 t) (iblk m c 5 t) (iblk m c 6 t)
    (iblk m c 7 t) (iblk m c 8 t) (iblk m c 9 t) B

/-- The blocks of the two arrays the call adds to. -/
abbrev blkKV (t : Fin cfg0.N) : S512x256.Idx → EReal := iblk m c 10 t
abbrev blkKP (t : Fin cfg0.N) : S512x128.Idx → EReal := iblk m c 11 t

variable {m c} {t : Fin cfg0.N} {B : Blk 256 512} (H : HoldsAt m c t B)

include H

theorem dq_A (h0 : t.val % 2 = 0) (h1 : t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_A m c t h0 h1]; dsimp only
  unfold out0_A_12
  rw [View.read_writes_eq_canon _ _ _ (fun _ => cover0_A_12 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 256) _ _ _ _ _ r j).trans (pay17_eq H r j), (canon_hi (R := 256) _ _ _ r j).trans (pay18_eq H r j)⟩
theorem dq_B (h0 : ¬t.val % 2 = 0) (h1 : ¬t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_B m c t h0 h1]; dsimp only
  unfold out0_B_12
  rw [View.read_writes_eq_canon _ _ _ (fun _ => cover0_B_12 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 256) _ _ _ _ _ r j).trans (pay17_eq H r j), (canon_hi (R := 256) _ _ _ r j).trans (pay18_eq H r j)⟩
theorem dq_C (h0 : t.val % 2 = 0) (h1 : ¬t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_C m c t h0 h1]; dsimp only
  unfold out0_C_12
  rw [View.read_writes_eq_canon _ _ _ (fun _ => cover0_C_12 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 256) _ _ _ _ _ r j).trans (pay17_eq H r j), (canon_hi (R := 256) _ _ _ r j).trans (pay18_eq H r j)⟩
theorem dkv_A (h0 : t.val % 2 = 0) (h1 : t.val % 32 = 0) (k : Fin 512) (j : Fin 128) :
    (outsAt0 (F := Ideal) m c t.val t.isLt).2.1 (ix2 k (lo j)) = blkKV m c t (ix2 k (lo j)) + (B.dkn k j : EReal) ∧
      (outsAt0 (F := Ideal) m c t.val t.isLt).2.1 (ix2 k (hi j)) = blkKV m c t (ix2 k (hi j)) + (B.dv k j : EReal) := by
  rw [outsAt0_A m c t h0 h1]; dsimp only
  unfold out0_A_13
  rw [View.read_writes_eq_canon _ _ _ (fun _ => cover0_A_13 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 512) _ _ _ _ _ k j).trans ((pay19_eq H _ k j).trans (congrArg (· + _) (cov_lo (R := 512) _ _ _ _ k j))),
    (canon_hi (R := 512) _ _ _ k j).trans ((pay20_eq H _ k j).trans (congrArg (· + _) (cov_hi (R := 512) _ _ _ _ _ _ k j)))⟩
theorem dkv_C (h0 : t.val % 2 = 0) (h1 : ¬t.val % 32 = 0) (k : Fin 512) (j : Fin 128) :
    (outsAt0 (F := Ideal) m c t.val t.isLt).2.1 (ix2 k (lo j)) = blkKV m c t (ix2 k (lo j)) + (B.dkn k j : EReal) ∧
      (outsAt0 (F := Ideal) m c t.val t.isLt).2.1 (ix2 k (hi j)) = blkKV m c t (ix2 k (hi j)) + (B.dv k j : EReal) := by
  rw [outsAt0_C m c t h0 h1]; dsimp only
  unfold out0_C_13
  rw [View.read_writes_eq_canon _ _ _ (fun _ => cover0_C_13 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 512) _ _ _ _ _ k j).trans ((pay19_eq H _ k j).trans (congrArg (· + _) (cov_lo (R := 512) _ _ _ _ k j))),
    (canon_hi (R := 512) _ _ _ k j).trans ((pay20_eq H _ k j).trans (congrArg (· + _) (cov_hi (R := 512) _ _ _ _ _ _ k j)))⟩
theorem dkv_B (h0 : ¬t.val % 2 = 0) (h1 : ¬t.val % 32 = 0) (k : Fin 512) (j : Fin 128) :
    (outsAt0 (F := Ideal) m c t.val t.isLt).2.1 (ix2 k (lo j)) = (outsAt0 (F := Ideal) m c (t.val - 1) (Nat.lt_of_le_of_lt (Nat.sub_le _ _) t.isLt)).2.1 (ix2 k (lo j)) + (B.dkn k j : EReal) ∧
      (outsAt0 (F := Ideal) m c t.val t.isLt).2.1 (ix2 k (hi j)) = (outsAt0 (F := Ideal) m c (t.val - 1) (Nat.lt_of_le_of_lt (Nat.sub_le _ _) t.isLt)).2.1 (ix2 k (hi j)) + (B.dv k j : EReal) := by
  rw [outsAt0_B m c t h0 h1]; dsimp only
  unfold out0_B_13
  rw [View.read_writes_eq_canon _ _ _ (fun _ => cover0_B_13 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  exact ⟨(canon_lo (R := 512) _ _ _ _ _ k j).trans ((pay19_eq H _ k j).trans (congrArg (· + _) (ld_lo (R := 512) _ _ k j))),
    (canon_hi (R := 512) _ _ _ k j).trans ((pay20_eq H _ k j).trans (congrArg (· + _) (ld_hi (R := 512) _ _ k j)))⟩
theorem dkp_A (h0 : t.val % 2 = 0) (h1 : t.val % 32 = 0) (k : Fin 512) (j : Fin 128) :
    (outsAt0 (F := Ideal) m c t.val t.isLt).2.2 (ix2 k j) = blkKP m c t (ix2 k j) + (B.dkp k j : EReal) := by
  rw [outsAt0_A m c t h0 h1]; dsimp only
  unfold out0_A_14
  rw [View.read_writes_eq_canon _ _ _ (fun _ => cover0_A_14 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  rw [View.canon_cons_unit_zero (S := S512x128) hz2, View.readCov_unit_zero (S := S512x128) _ hz2]
  exact pay1_eq H _ k j
theorem dkp_C (h0 : t.val % 2 = 0) (h1 : ¬t.val % 32 = 0) (k : Fin 512) (j : Fin 128) :
    (outsAt0 (F := Ideal) m c t.val t.isLt).2.2 (ix2 k j) = (outsAt0 (F := Ideal) m c (t.val - 1) (Nat.lt_of_le_of_lt (Nat.sub_le _ _) t.isLt)).2.2 (ix2 k j) + (B.dkp k j : EReal) := by
  rw [outsAt0_C m c t h0 h1]; dsimp only
  unfold out0_C_14
  rw [View.read_writes_eq_canon _ _ _ (fun _ => cover0_C_14 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  rw [View.canon_unit_zero (S := S512x128) hz2]
  exact pay1_eq H _ k j
theorem dkp_B (h0 : ¬t.val % 2 = 0) (h1 : ¬t.val % 32 = 0) (k : Fin 512) (j : Fin 128) :
    (outsAt0 (F := Ideal) m c t.val t.isLt).2.2 (ix2 k j) = (outsAt0 (F := Ideal) m c (t.val - 1) (Nat.lt_of_le_of_lt (Nat.sub_le _ _) t.isLt)).2.2 (ix2 k j) + (B.dkp k j : EReal) := by
  rw [outsAt0_B m c t h0 h1]; dsimp only
  unfold out0_B_14
  rw [View.read_writes_eq_canon _ _ _ (fun _ => cover0_B_14 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S512x128) hz2, View.ld_unit_zero (S := S512x256) hz2]
  rw [coord1]
  rw [View.canon_unit_zero (S := S512x128) hz2]
  exact pay1_eq H _ k j

end Cert.Proof.At0

end
-- ==== Proof.At0Arr.lean ====
/- What the three result arrays hold after the last grid point, when the arguments hold real numbers. -/
module

public import proofs.«01_k».proof.Proof.At0Out
public import proofs.«01_k».proof.Proof.AtArgs
public import Idealize.ShloMosaic.Lib.Pipeline.Value

@[expose] public section

set_option maxRecDepth 16384

noncomputable section

namespace Cert.Proof.At0

open Idealize.ShloMosaic Idealize.ShloMosaic.TcCoe Idealize.SL.Sem Cert.At0Ideal Cert.At0Ideal.Gen Cert.At0Ideal.Value Cert.Proof.At
open Idealize.ShloMosaic.Pipeline (Dat)

variable (m : (ℓ : Loc nD τ sig) → Buf (Elt Ideal) ℓ) (c : Dev nD)

/-- The launch memory of one device holds the real arguments `a`. -/
abbrev HasArgs (a : Args) : Prop :=
  a.Is (m ((c : Thread nD τ).loc main_arg0)) (m ((c : Thread nD τ).loc main_arg1)) (m ((c : Thread nD τ).loc main_arg2))
    (m ((c : Thread nD τ).loc main_arg3)) (m ((c : Thread nD τ).loc main_arg4))

/-- What the arrays the call continues held before the launch. -/
abbrev X5 : S2048x4096.Idx → EReal := m ((c : Thread nD τ).loc main_arg5)
abbrev X6 : S2048x4096.Idx → EReal := m ((c : Thread nD τ).loc main_arg6)
abbrev X7 : S2048x128.Idx → EReal := m ((c : Thread nD τ).loc main_arg7)
/-- The tables are set side by side before the launch. -/
theorem V_v19 : V m c main_v19 = concatenate S2048x128 1 [⟨S2048x32, V m c main_v16⟩, ⟨S2048x32, V m c main_v16⟩, ⟨S2048x64, V m c main_v18⟩]
    concatenates_S2048x32_S2048x32_S2048x64_S2048x128_d1 := by rfl
theorem V_v21 : V m c main_v21 = concatenate S2048x128 1 [⟨S2048x32, V m c main_v20⟩, ⟨S2048x32, V m c main_v17⟩, ⟨S2048x64, V m c main_v18⟩]
    concatenates_S2048x32_S2048x32_S2048x64_S2048x128_d1 := by rfl
theorem V_v18 : V m c main_v18 = broadcastInDim S2048x64 ![] bcast_S_S2048x64 (constant (F := Ideal) S_ .f32 0x00000000#32) := by
  show StableHlo.after hostOps0 _ _ = _
  after_results; try rfl
/-- The angles. -/
def angT : FVec Ideal S2048x32 .f32 := mulf (broadcastInDim S2048x32 ![0, 1] bcast_S2048x1_S2048x32_0_1 (broadcastInDim S2048x1 ![0] bcast_S2048_S2048x1_0 (sitofp .f32 (m ((c : Thread nD τ).loc main_arg3) : IVec S2048 32)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
theorem V_v16 : V m c main_v16 = Host.cos (angT m c) := by
  show StableHlo.after hostOps0 _ _ = _
  after_results; try rfl
theorem V_v17 : V m c main_v17 = Host.sin (angT m c) := by
  show StableHlo.after hostOps0 _ _ = _
  after_results; try rfl
theorem V_v20 : V m c main_v20 = Host.negf (Host.sin (angT m c)) := by
  show StableHlo.after hostOps0 _ _ = _
  after_results; try rfl

variable {m c} {a : Args} (h : HasArgs m c a)
include h

theorem angT_at (i : Fin 2048) (l : Fin 32) : angT m c (ix2 i l) = (a.ang i.val l : EReal) := by
  pointwise [angT]
  exact Args.ang_at _ _ (h.h3 i) l
theorem v19_at (i : Fin 2048) (j : Fin 128) : (V m c main_v19 : Vec Ideal S2048x128 .f32) (ix2 i j) = (a.pc i.val j : EReal) := by
  rw [V_v19, V_v16, V_v18]
  pointwise []
  simp only [angT_at h]
  unfold Args.pc
  split_ifs <;> first | rfl | exact EReal.coe_zero.symm
theorem v21_at (i : Fin 2048) (j : Fin 128) : (V m c main_v21 : Vec Ideal S2048x128 .f32) (ix2 i j) = (a.ps i.val j : EReal) := by
  rw [V_v21, V_v20, V_v17, V_v18]
  pointwise []
  simp only [angT_at h]
  unfold Args.ps
  split_ifs <;> first | rfl | exact EReal.coe_zero.symm

omit h

theorem idx0 : ∀ t : Fin cfg0.N, win0_0.index t 0 = 0 + t.val % 2 ∧ win0_0.index t 1 = 2 * (t.val / 2) := (by decide +kernel : ∀ t : Fin grid0.N, win0_0.index t 0 = 0 + t.val % 2 ∧ win0_0.index t 1 = 2 * (t.val / 2))
theorem idx1 : ∀ t : Fin cfg0.N, win0_1.index t 0 = 0 + t.val % 2 ∧ win0_1.index t 1 = 2 * (t.val / 2) + 1 := (by decide +kernel : ∀ t : Fin grid0.N, win0_1.index t 0 = 0 + t.val % 2 ∧ win0_1.index t 1 = 2 * (t.val / 2) + 1)
theorem idx2 : ∀ t : Fin cfg0.N, win0_2.index t 0 = 0 ∧ win0_2.index t 1 = 2 * (t.val / 2) := (by decide +kernel : ∀ t : Fin grid0.N, win0_2.index t 0 = 0 ∧ win0_2.index t 1 = 2 * (t.val / 2))
theorem idx3 : ∀ t : Fin cfg0.N, win0_3.index t 0 = 0 ∧ win0_3.index t 1 = 8 := (by decide +kernel : ∀ t : Fin grid0.N, win0_3.index t 0 = 0 ∧ win0_3.index t 1 = 8)
theorem idx4 : ∀ t : Fin cfg0.N, win0_4.index t 0 = 0 + t.val % 2 ∧ win0_4.index t 1 = 0 := (by decide +kernel : ∀ t : Fin grid0.N, win0_4.index t 0 = 0 + t.val % 2 ∧ win0_4.index t 1 = 0)
theorem idx5 : ∀ t : Fin cfg0.N, win0_5.index t 0 = 0 + t.val % 2 ∧ win0_5.index t 1 = 0 := (by decide +kernel : ∀ t : Fin grid0.N, win0_5.index t 0 = 0 + t.val % 2 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 2 * (t.val / 2) + 1 := (by decide +kernel : ∀ t : Fin grid0.N, win0_8.index t 0 = 0 ∧ win0_8.index t 1 = 2 * (t.val / 2) + 1)
theorem idx9 : ∀ t : Fin cfg0.N, win0_9.index t 0 = 0 + t.val % 2 ∧ win0_9.index t 1 = t.val / 2 := (by decide +kernel : ∀ t : Fin grid0.N, win0_9.index t 0 = 0 + t.val % 2 ∧ win0_9.index t 1 = t.val / 2)
theorem idx10 : ∀ t : Fin cfg0.N, win0_10.index t 0 = 0 ∧ win0_10.index t 1 = t.val / 2 := (by decide +kernel : ∀ t : Fin grid0.N, win0_10.index t 0 = 0 ∧ win0_10.index t 1 = t.val / 2)
theorem idx11 : ∀ t : Fin cfg0.N, win0_11.index t 0 = 0 ∧ win0_11.index t 1 = 0 := (by decide +kernel : ∀ t : Fin grid0.N, win0_11.index t 0 = 0 ∧ win0_11.index t 1 = 0)
theorem idx12 : ∀ t : Fin cfg0.N, win0_12.index t 0 = 0 + t.val % 2 ∧ win0_12.index t 1 = t.val / 2 := (by decide +kernel : ∀ t : Fin grid0.N, win0_12.index t 0 = 0 + t.val % 2 ∧ win0_12.index t 1 = t.val / 2)
theorem idx13 : ∀ t : Fin cfg0.N, win0_13.index t 0 = 0 ∧ win0_13.index t 1 = t.val / 2 := (by decide +kernel : ∀ t : Fin grid0.N, win0_13.index t 0 = 0 ∧ win0_13.index t 1 = t.val / 2)
theorem idx14 : ∀ t : Fin cfg0.N, win0_14.index t 0 = 0 ∧ win0_14.index t 1 = 0 := (by decide +kernel : ∀ t : Fin grid0.N, win0_14.index t 0 = 0 ∧ win0_14.index t 1 = 0)
theorem rd0 (t : Fin cfg0.N) (r : Fin 256) (j : Fin 128) (hr : 0 + 256 * (t.val % 2) + r.val < 2048) (hc : 256 * (t.val / 2) + j.val < 4096) :
    (iblk m c 0 t : Vec Ideal S256x128 .f32) (ix2 r j) = (V m c main_arg0 : Vec Ideal S2048x4096 .f32) (ix2 ⟨0 + 256 * (t.val % 2) + r.val, hr⟩ ⟨256 * (t.val / 2) + j.val, hc⟩) := by
  have hi := idx0 t
  unfold iblk
  rw [View.read_apply]
  show V m c main_arg0 _ = _
  congr 1; funext q; apply Fin.ext
  match q with
  | ⟨0, _⟩ => show win0_0.index t 0 * 256 + 1 * r.val = 0 + 256 * (t.val % 2) + r.val; rw [hi.1]; omega
  | ⟨1, _⟩ => show win0_0.index t 1 * 128 + 1 * j.val = 256 * (t.val / 2) + j.val; rw [hi.2]; omega
theorem rd1 (t : Fin cfg0.N) (r : Fin 256) (j : Fin 128) (hr : 0 + 256 * (t.val % 2) + r.val < 2048) (hc : 256 * (t.val / 2) + 128 + j.val < 4096) :
    (iblk m c 1 t : Vec Ideal S256x128 .f32) (ix2 r j) = (V m c main_arg0 : Vec Ideal S2048x4096 .f32) (ix2 ⟨0 + 256 * (t.val % 2) + r.val, hr⟩ ⟨256 * (t.val / 2) + 128 + j.val, hc⟩) := by
  have hi := idx1 t
  unfold iblk
  rw [View.read_apply]
  show V m c main_arg0 _ = _
  congr 1; funext q; apply Fin.ext
  match q with
  | ⟨0, _⟩ => show win0_1.index t 0 * 256 + 1 * r.val = 0 + 256 * (t.val % 2) + r.val; rw [hi.1]; omega
  | ⟨1, _⟩ => show win0_1.index t 1 * 128 + 1 * j.val = 256 * (t.val / 2) + 128 + j.val; rw [hi.2]; omega
theorem rd2 (t : Fin cfg0.N) (r : Fin 512) (j : Fin 128) (hr : r.val < 2048) (hc : 256 * (t.val / 2) + j.val < 4096) :
    (iblk m c 2 t : Vec Ideal S512x128 .f32) (ix2 r j) = (V m c main_arg1 : Vec Ideal S2048x4096 .f32) (ix2 ⟨r.val, hr⟩ ⟨256 * (t.val / 2) + j.val, hc⟩) := by
  have hi := idx2 t
  unfold iblk
  rw [View.read_apply]
  show V m c main_arg1 _ = _
  congr 1; funext q; apply Fin.ext
  match q with
  | ⟨0, _⟩ => show win0_2.index t 0 * 512 + 1 * r.val = r.val; rw [hi.1]; omega
  | ⟨1, _⟩ => show win0_2.index t 1 * 128 + 1 * j.val = 256 * (t.val / 2) + j.val; rw [hi.2]; omega
theorem rd3 (t : Fin cfg0.N) (r : Fin 512) (j : Fin 128) (hr : r.val < 2048) (hc : 1024 + j.val < 1152) :
    (iblk m c 3 t : Vec Ideal S512x128 .f32) (ix2 r j) = (V m c main_arg2 : Vec Ideal S2048x1152 .f32) (ix2 ⟨r.val, hr⟩ ⟨1024 + j.val, hc⟩) := by
  have hi := idx3 t
  unfold iblk
  rw [View.read_apply]
  show V m c main_arg2 _ = _
  congr 1; funext q; apply Fin.ext
  match q with
  | ⟨0, _⟩ => show win0_3.index t 0 * 512 + 1 * r.val = r.val; rw [hi.1]; omega
  | ⟨1, _⟩ => show win0_3.index t 1 * 128 + 1 * j.val = 1024 + j.val; rw [hi.2]; omega
theorem rd4 (t : Fin cfg0.N) (r : Fin 256) (j : Fin 128) (hr : 0 + 256 * (t.val % 2) + r.val < 2048) (hc : j.val < 128) :
    (iblk m c 4 t : Vec Ideal S256x128 .f32) (ix2 r j) = (V m c main_v19 : Vec Ideal S2048x128 .f32) (ix2 ⟨0 + 256 * (t.val % 2) + r.val, hr⟩ ⟨j.val, hc⟩) := by
  have hi := idx4 t
  unfold iblk
  rw [View.read_apply]
  show V m c main_v19 _ = _
  congr 1; funext q; apply Fin.ext
  match q with
  | ⟨0, _⟩ => show win0_4.index t 0 * 256 + 1 * r.val = 0 + 256 * (t.val % 2) + r.val; rw [hi.1]; omega
  | ⟨1, _⟩ => show win0_4.index t 1 * 128 + 1 * j.val = j.val; rw [hi.2]; omega
theorem rd5 (t : Fin cfg0.N) (r : Fin 256) (j : Fin 128) (hr : 0 + 256 * (t.val % 2) + r.val < 2048) (hc : j.val < 128) :
    (iblk m c 5 t : Vec Ideal S256x128 .f32) (ix2 r j) = (V m c main_v21 : Vec Ideal S2048x128 .f32) (ix2 ⟨0 + 256 * (t.val % 2) + r.val, hr⟩ ⟨j.val, hc⟩) := by
  have hi := idx5 t
  unfold iblk
  rw [View.read_apply]
  show V m c main_v21 _ = _
  congr 1; funext q; apply Fin.ext
  match q with
  | ⟨0, _⟩ => show win0_5.index t 0 * 256 + 1 * r.val = 0 + 256 * (t.val % 2) + r.val; rw [hi.1]; omega
  | ⟨1, _⟩ => show win0_5.index t 1 * 128 + 1 * j.val = j.val; rw [hi.2]; omega
theorem rd6 (t : Fin cfg0.N) (r : Fin 512) (j : Fin 128) (hr : r.val < 2048) (hc : j.val < 128) :
    (iblk m c 6 t : Vec Ideal S512x128 .f32) (ix2 r j) = (V m c main_v19 : Vec Ideal S2048x128 .f32) (ix2 ⟨r.val, hr⟩ ⟨j.val, hc⟩) := by
  have hi := idx6 t
  unfold iblk
  rw [View.read_apply]
  show V m c main_v19 _ = _
  congr 1; funext q; apply Fin.ext
  match q with
  | ⟨0, _⟩ => show win0_6.index t 0 * 512 + 1 * r.val = r.val; rw [hi.1]; omega
  | ⟨1, _⟩ => show win0_6.index t 1 * 128 + 1 * j.val = j.val; rw [hi.2]; omega
theorem rd7 (t : Fin cfg0.N) (r : Fin 512) (j : Fin 128) (hr : r.val < 2048) (hc : j.val < 128) :
    (iblk m c 7 t : Vec Ideal S512x128 .f32) (ix2 r j) = (V m c main_v21 : Vec Ideal S2048x128 .f32) (ix2 ⟨r.val, hr⟩ ⟨j.val, hc⟩) := by
  have hi := idx7 t
  unfold iblk
  rw [View.read_apply]
  show V m c main_v21 _ = _
  congr 1; funext q; apply Fin.ext
  match q with
  | ⟨0, _⟩ => show win0_7.index t 0 * 512 + 1 * r.val = r.val; rw [hi.1]; omega
  | ⟨1, _⟩ => show win0_7.index t 1 * 128 + 1 * j.val = j.val; rw [hi.2]; omega
theorem rd8 (t : Fin cfg0.N) (r : Fin 512) (j : Fin 128) (hr : r.val < 2048) (hc : 256 * (t.val / 2) + 128 + j.val < 4096) :
    (iblk m c 8 t : Vec Ideal S512x128 .f32) (ix2 r j) = (V m c main_arg1 : Vec Ideal S2048x4096 .f32) (ix2 ⟨r.val, hr⟩ ⟨256 * (t.val / 2) + 128 + j.val, hc⟩) := by
  have hi := idx8 t
  unfold iblk
  rw [View.read_apply]
  show V m c main_arg1 _ = _
  congr 1; funext q; apply Fin.ext
  match q with
  | ⟨0, _⟩ => show win0_8.index t 0 * 512 + 1 * r.val = r.val; rw [hi.1]; omega
  | ⟨1, _⟩ => show win0_8.index t 1 * 128 + 1 * j.val = 256 * (t.val / 2) + 128 + j.val; rw [hi.2]; omega
theorem rd9 (t : Fin cfg0.N) (r : Fin 256) (j : Fin 128) (hr : 0 + 256 * (t.val % 2) + r.val < 2048) (hc : 128 * (t.val / 2) + j.val < 2048) :
    (iblk m c 9 t : Vec Ideal S256x128 .f32) (ix2 r j) = (V m c main_arg4 : Vec Ideal S2048x2048 .f32) (ix2 ⟨0 + 256 * (t.val % 2) + r.val, hr⟩ ⟨128 * (t.val / 2) + j.val, hc⟩) := by
  have hi := idx9 t
  unfold iblk
  rw [View.read_apply]
  show V m c main_arg4 _ = _
  congr 1; funext q; apply Fin.ext
  match q with
  | ⟨0, _⟩ => show win0_9.index t 0 * 256 + 1 * r.val = 0 + 256 * (t.val % 2) + r.val; rw [hi.1]; omega
  | ⟨1, _⟩ => show win0_9.index t 1 * 128 + 1 * j.val = 128 * (t.val / 2) + j.val; rw [hi.2]; omega
theorem rd10 (t : Fin cfg0.N) (r : Fin 512) (j : Fin 256) (hr : r.val < 2048) (hc : 256 * (t.val / 2) + j.val < 4096) :
    (iblk m c 10 t : Vec Ideal S512x256 .f32) (ix2 r j) = (V m c main_arg6 : Vec Ideal S2048x4096 .f32) (ix2 ⟨r.val, hr⟩ ⟨256 * (t.val / 2) + j.val, hc⟩) := by
  have hi := idx10 t
  unfold iblk
  rw [View.read_apply]
  show V m c main_arg6 _ = _
  congr 1; funext q; apply Fin.ext
  match q with
  | ⟨0, _⟩ => show win0_10.index t 0 * 512 + 1 * r.val = r.val; rw [hi.1]; omega
  | ⟨1, _⟩ => show win0_10.index t 1 * 256 + 1 * j.val = 256 * (t.val / 2) + j.val; rw [hi.2]; omega
theorem rd11 (t : Fin cfg0.N) (r : Fin 512) (j : Fin 128) (hr : r.val < 2048) (hc : j.val < 128) :
    (iblk m c 11 t : Vec Ideal S512x128 .f32) (ix2 r j) = (V m c main_arg7 : Vec Ideal S2048x128 .f32) (ix2 ⟨r.val, hr⟩ ⟨j.val, hc⟩) := by
  have hi := idx11 t
  unfold iblk
  rw [View.read_apply]
  show V m c main_arg7 _ = _
  congr 1; funext q; apply Fin.ext
  match q with
  | ⟨0, _⟩ => show win0_11.index t 0 * 512 + 1 * r.val = r.val; rw [hi.1]; omega
  | ⟨1, _⟩ => show win0_11.index t 1 * 128 + 1 * j.val = j.val; rw [hi.2]; omega

include h

/-- The blocks a point reads hold its head's numbers. -/
theorem holds (t : Fin cfg0.N) : HoldsAt m c t (a.blk (0 + 256 * (t.val % 2)) (t.val / 2) 256 512) := by
  have hN : t.val < 32 := t.isLt.trans_eq N_0
  refine ⟨?_, ?_, ?_, ?_, ?_, ?_, ?_, ?_, ?_, ?_, fun r => rfl, by omega⟩
  · exact fun r j => (rd0 t r j (by omega) (by omega)).trans ((congrFun (V_main_arg0 m c) _).trans (h.h0 _ _))
  · exact fun r j => (rd1 t r j (by omega) (by omega)).trans ((congrFun (V_main_arg0 m c) _).trans (h.h0 _ _))
  · exact fun r j => (rd2 t r j (by omega) (by omega)).trans ((congrFun (V_main_arg1 m c) _).trans (h.h1 _ _))
  · exact fun r j => (rd3 t r j (by omega) (by omega)).trans ((congrFun (V_main_arg2 m c) _).trans (h.h2 _ _))
  · exact fun r j => (rd4 t r j (by omega) (by omega)).trans (v19_at h _ _)
  · exact fun r j => (rd5 t r j (by omega) (by omega)).trans (v21_at h _ _)
  · exact fun r j => (rd6 t r j (by omega) (by omega)).trans (v19_at h _ _)
  · exact fun r j => (rd7 t r j (by omega) (by omega)).trans (v21_at h _ _)
  · exact fun r j => (rd8 t r j (by omega) (by omega)).trans ((congrFun (V_main_arg1 m c) _).trans (h.h1 _ _))
  · exact fun r j => (rd9 t r j (by omega) (by omega)).trans ((congrFun (V_main_arg4 m c) _).trans (h.h4 _ _))

theorem dq_at (t : Fin cfg0.N) (r : Fin 256) (j : Fin 128) :
    (outsAt0 (F := Ideal) m c t.val t.isLt).1 (ix2 r (lo j)) = ((a.blk (0 + 256 * (t.val % 2)) (t.val / 2) 256 512).dqn r j : EReal) ∧
      (outsAt0 (F := Ideal) m c t.val t.isLt).1 (ix2 r (hi j)) = ((a.blk (0 + 256 * (t.val % 2)) (t.val / 2) 256 512).dqp r j : EReal) := by
  by_cases h0 : t.val % 2 = 0
  · by_cases h1 : t.val % 32 = 0
    · exact dq_A (holds h t) h0 h1 r j
    · exact dq_C (holds h t) h0 h1 r j
  · exact dq_B (holds h t) h0 (by omega) r j
/-- The first of a head's two points adds to what the array held before the launch; -/
theorem dkv_even (t : Fin cfg0.N) (h0 : t.val % 2 = 0) (k : Fin 512) (j : Fin 128) :
    (outsAt0 (F := Ideal) m c t.val t.isLt).2.1 (ix2 k (lo j)) = blkKV m c t (ix2 k (lo j)) + ((a.blk (0 + 256 * (t.val % 2)) (t.val / 2) 256 512).dkn k j : EReal) ∧
      (outsAt0 (F := Ideal) m c t.val t.isLt).2.1 (ix2 k (hi j)) = blkKV m c t (ix2 k (hi j)) + ((a.blk (0 + 256 * (t.val % 2)) (t.val / 2) 256 512).dv k j : EReal) := by
  by_cases h1 : t.val % 32 = 0
  · exact dkv_A (holds h t) h0 h1 k j
  · exact dkv_C (holds h t) h0 h1 k j
/-- after the second both have been added. -/
theorem dkv_odd (t : Fin cfg0.N) (h0 : t.val % 2 = 1) (k : Fin 512) (j : Fin 128) :
    (outsAt0 (F := Ideal) m c t.val t.isLt).2.1 (ix2 k (lo j)) = blkKV m c t (ix2 k (lo j)) + ((a.blk 0 (t.val / 2) 512 512).dkn k j : EReal) ∧
      (outsAt0 (F := Ideal) m c t.val t.isLt).2.1 (ix2 k (hi j)) = blkKV m c t (ix2 k (hi j)) + ((a.blk 0 (t.val / 2) 512 512).dv k j : EReal) := by
  have hN : t.val < 32 := t.isLt.trans_eq N_0
  have ht : t.val - 1 < cfg0.N := Nat.lt_of_le_of_lt (Nat.sub_le _ _) t.isLt
  have B := dkv_B (holds h t) (by omega) (by omega) k j
  have E := dkv_even h ⟨t.val - 1, ht⟩ (by show (t.val - 1) % 2 = 0; omega) k j
  have e1 : (t.val - 1) % 2 = 0 := by omega
  have e2 : (t.val - 1) / 2 = t.val / 2 := by omega
  have b (l : Fin 256) : blkKV m c ⟨t.val - 1, ht⟩ (ix2 k l) = blkKV m c t (ix2 k l) := by
    refine (rd10 ⟨t.val - 1, ht⟩ k l (by omega) (by show 256 * ((t.val - 1) / 2) + l.val < 4096; omega)).trans (Eq.trans ?_ (rd10 t k l (by omega) (by omega)).symm)
    refine congrArg (V m c main_arg6 : Vec Ideal S2048x4096 .f32) (congrArg (ix2 _) (Fin.ext ?_))
    show 256 * ((t.val - 1) / 2) + l.val = _
    rw [e2]
  simp only [b, e1, e2, h0, Nat.mul_zero, Nat.mul_one, Nat.add_zero] at E B
  have s1 := a.dkn_add (t.val / 2) 256 256 512 0 k j
  have s2 := a.dv_add (t.val / 2) 256 256 512 0 k j
  constructor
  · rw [B.1, E.1, add_assoc, ← EReal.coe_add]
    exact congrArg (fun y : ℝ => _ + (y : EReal)) s1.symm
  · rw [B.2, E.2, add_assoc, ← EReal.coe_add]
    exact congrArg (fun y : ℝ => _ + (y : EReal)) s2.symm
/-- The gradient of the keys' rotated part adds up over the points. -/
theorem dkp_at (k : Fin 512) (j : Fin 128) : ∀ (n : ℕ) (hn : n < cfg0.N),
    (outsAt0 (F := Ideal) m c n hn).2.2 (ix2 k j) = X7 m c (ix2 ⟨k.val, by omega⟩ j)
      + ((∑ s ∈ Finset.range (n + 1), (a.blk (0 + 256 * (s % 2)) (s / 2) 256 512).dkp k j : ℝ) : EReal) := by
  intro n
  induction n with
  | zero =>
    intro hn
    refine (dkp_A (holds h ⟨0, hn⟩) rfl rfl k j).trans (congrArg₂ (· + ·) ((rd11 ⟨0, hn⟩ k j (by omega) (by omega)).trans (congrFun (V_main_arg7 m c) _)) (congrArg Real.toEReal ?_))
    exact (Finset.sum_range_one fun s => (a.blk (0 + 256 * (s % 2)) (s / 2) 256 512).dkp k j).symm
  | succ n ih =>
    intro hn
    have hN : n + 1 < 32 := hn.trans_eq N_0
    have step : (outsAt0 (F := Ideal) m c (n + 1) hn).2.2 (ix2 k j) = (outsAt0 (F := Ideal) m c n (Nat.lt_of_succ_lt hn)).2.2 (ix2 k j)
        + ((a.blk (0 + 256 * ((n + 1) % 2)) ((n + 1) / 2) 256 512).dkp k j : EReal) := by
      by_cases h0 : (n + 1) % 2 = 0
      · exact dkp_C (holds h ⟨n + 1, hn⟩) h0 (by show ¬(n + 1) % 32 = 0; omega) k j
      · exact dkp_B (holds h ⟨n + 1, hn⟩) h0 (by show ¬(n + 1) % 32 = 0; omega) k j
    rw [step, ih, add_assoc, ← EReal.coe_add, ← Finset.sum_range_succ]

omit h
variable (m c)
theorem V_dq : V m c main_v22_0 = X5 m c := by
  show StableHlo.after hostOps0 _ _ = _
  after_results; try rfl
theorem V_dkv : V m c main_v22_1 = X6 m c := by
  show StableHlo.after hostOps0 _ _ = _
  after_results; try rfl
theorem V_dkp : V m c main_v22_2 = X7 m c := by
  show StableHlo.after hostOps0 _ _ = _
  after_results; try rfl
variable {m c}
include h

theorem flushed_12 (t : Fin cfg0.N) (hf : (cfg0.win 12).flush t = true) :
    (dats m 0 c).flushed 12 t = ((cfg0.win 12).blk t).view.read (Elt Ideal) (rDq a 0 512 (X5 m c)) := by
  have hN : t.val < 32 := t.isLt.trans_eq N_0
  rw [flushed12]
  funext p
  obtain ⟨r, l, rfl⟩ : ∃ (r : Fin 256) (l : Fin 256), p = ix2 r l := ⟨p 0, p 1, (ix2_eta p).symm⟩
  rw [View.read_apply]
  have e : (((cfg0.win 12).blk t).view.emb (ix2 r l) : S2048x4096.Idx) = ix2 ⟨0 + 256 * (t.val % 2) + r.val, by omega⟩ (col ⟨t.val / 2, by omega⟩ l) := by
    funext q; apply Fin.ext
    match q with
    | ⟨0, _⟩ => show win0_12.index t 0 * 256 + 1 * r.val = 0 + 256 * (t.val % 2) + r.val; rw [(idx12 t).1]; omega
    | ⟨1, _⟩ => show win0_12.index t 1 * 256 + 1 * l.val = 256 * (t.val / 2) + l.val; rw [(idx12 t).2]; omega
  show (outsAt0 m c t.val t.isLt).1 (ix2 r l) = rDq a 0 512 (X5 m c) (((cfg0.win 12).blk t).view.emb (ix2 r l))
  rw [e]
  rw [rDq_in _ _ _ _ _ _ _ ⟨by show 0 ≤ 0 + 256 * (t.val % 2) + r.val; omega, by show 0 + 256 * (t.val % 2) + r.val < 0 + 512; omega⟩]
  rcases lane_cases l with ⟨j, rfl⟩ | ⟨j, rfl⟩
  · rw [half_lo]; exact (dq_at h t r j).1
  · rw [half_hi]; exact (dq_at h t r j).2
theorem final12 : (dats m 0 c).arrAt 12 cfg0.N = rDq a 0 512 (X5 m c) := by
  funext i
  rw [(dats m 0 c).arrAt_eq_piecewise 12 _ (flushed_12 h) i]
  split
  · rfl
  · next hno =>
    rw [A_eq]
    refine (congrFun (V_dq m c) i).trans (Eq.symm (if_neg fun hL : 0 ≤ (i 0).val ∧ (i 0).val < 0 + 512 => hno ?_))
    have hN : cfg0.N = 32 := N_0
    have hi1 : (i 1).val < 4096 := (i 1).isLt
    obtain ⟨t, ht⟩ : ∃ t : Fin cfg0.N, t.val = 2 * ((i 1).val / 256) + ((i 0).val - 0) / 256 := ⟨⟨2 * ((i 1).val / 256) + ((i 0).val - 0) / 256, by omega⟩, rfl⟩
    refine ⟨t, flush0_12 t, ?_⟩
    show i ∈ ((View.whole main_v22_0).slice (win0_12.rect t)).set
    rw [View.set_slice_whole, Rect.mem_set_unit]
    intro q
    match q with
    | ⟨0, _⟩ =>
      show win0_12.index t 0 * 256 ≤ (i 0).val ∧ (i 0).val < win0_12.index t 0 * 256 + 256
      rw [(idx12 t).1]; simp only [ht]; omega
    | ⟨1, _⟩ =>
      show win0_12.index t 1 * 256 ≤ (i 1).val ∧ (i 1).val < win0_12.index t 1 * 256 + 256
      rw [(idx12 t).2]; simp only [ht]; omega

theorem flushed_13 (t : Fin cfg0.N) (hf : (cfg0.win 13).flush t = true) :
    (dats m 0 c).flushed 13 t = ((cfg0.win 13).blk t).view.read (Elt Ideal) (rDkv a 0 512 (X6 m c)) := by
  have hN : t.val < 32 := t.isLt.trans_eq N_0
  rw [flushed13]
  funext p
  obtain ⟨r, l, rfl⟩ : ∃ (r : Fin 512) (l : Fin 256), p = ix2 r l := ⟨p 0, p 1, (ix2_eta p).symm⟩
  rw [View.read_apply]
  have e : (((cfg0.win 13).blk t).view.emb (ix2 r l) : S2048x4096.Idx) = ix2 ⟨r.val, by omega⟩ (col ⟨t.val / 2, by omega⟩ l) := by
    funext q; apply Fin.ext
    match q with
    | ⟨0, _⟩ => show win0_13.index t 0 * 512 + 1 * r.val = r.val; rw [(idx13 t).1]; omega
    | ⟨1, _⟩ => show win0_13.index t 1 * 256 + 1 * l.val = 256 * (t.val / 2) + l.val; rw [(idx13 t).2]; omega
  show (outsAt0 m c t.val t.isLt).2.1 (ix2 r l) = rDkv a 0 512 (X6 m c) (((cfg0.win 13).blk t).view.emb (ix2 r l))
  rw [e]
  have hf' := (flush0_13 t).mp hf
  rw [rDkv_in _ _ _ _ _ _ _ r.isLt]
  have b (l : Fin 256) : blkKV m c t (ix2 r l) = X6 m c (ix2 ⟨r.val, by omega⟩ (col ⟨t.val / 2, by omega⟩ l)) :=
    (rd10 t r l (by omega) (by omega)).trans (congrFun (V_main_arg6 m c) _)
  rcases lane_cases l with ⟨j, rfl⟩ | ⟨j, rfl⟩
  · rw [half_lo, ← b]; exact (dkv_odd h t hf' r j).1
  · rw [half_hi, ← b]; exact (dkv_odd h t hf' r j).2
theorem final13 : (dats m 0 c).arrAt 13 cfg0.N = rDkv a 0 512 (X6 m c) := by
  funext i
  rw [(dats m 0 c).arrAt_eq_piecewise 13 _ (flushed_13 h) i]
  split
  · rfl
  · next hno =>
    rw [A_eq]
    refine (congrFun (V_dkv m c) i).trans (Eq.symm (dif_neg fun hL : (i 0).val < 512 => hno ?_))
    have hN : cfg0.N = 32 := N_0
    have hi1 : (i 1).val < 4096 := (i 1).isLt
    obtain ⟨t, ht⟩ : ∃ t : Fin cfg0.N, t.val = 2 * ((i 1).val / 256) + 1 := ⟨⟨2 * ((i 1).val / 256) + 1, by omega⟩, rfl⟩
    refine ⟨t, (flush0_13 t).mpr (by rw [ht]; omega), ?_⟩
    show i ∈ ((View.whole main_v22_1).slice (win0_13.rect t)).set
    rw [View.set_slice_whole, Rect.mem_set_unit]
    intro q
    match q with
    | ⟨0, _⟩ =>
      show win0_13.index t 0 * 512 ≤ (i 0).val ∧ (i 0).val < win0_13.index t 0 * 512 + 512
      rw [(idx13 t).1]; omega
    | ⟨1, _⟩ =>
      show win0_13.index t 1 * 256 ≤ (i 1).val ∧ (i 1).val < win0_13.index t 1 * 256 + 256
      rw [(idx13 t).2]; simp only [ht]; omega

theorem flushed_14 (t : Fin cfg0.N) (hf : (cfg0.win 14).flush t = true) :
    (dats m 0 c).flushed 14 t = ((cfg0.win 14).blk t).view.read (Elt Ideal) (rDkp a 0 512 (X7 m c)) := by
  have hN : t.val < 32 := t.isLt.trans_eq N_0
  rw [flushed14]
  funext p
  obtain ⟨r, l, rfl⟩ : ∃ (r : Fin 512) (l : Fin 128), p = ix2 r l := ⟨p 0, p 1, (ix2_eta p).symm⟩
  rw [View.read_apply]
  have e : (((cfg0.win 14).blk t).view.emb (ix2 r l) : S2048x128.Idx) = ix2 ⟨r.val, by omega⟩ l := by
    funext q; apply Fin.ext
    match q with
    | ⟨0, _⟩ => show win0_14.index t 0 * 512 + 1 * r.val = r.val; rw [(idx14 t).1]; omega
    | ⟨1, _⟩ => show win0_14.index t 1 * 128 + 1 * l.val = l.val; rw [(idx14 t).2]; omega
  show (outsAt0 m c t.val t.isLt).2.2 (ix2 r l) = rDkp a 0 512 (X7 m c) (((cfg0.win 14).blk t).view.emb (ix2 r l))
  rw [e]
  have hf' := (flush0_14 t).mp hf
  obtain rfl : t = ⟨31, (by decide : 31 < 32).trans_eq N_0.symm⟩ := Fin.ext (by show t.val = 31; omega)
  refine (dkp_at h r l 31 _).trans ?_
  rw [show (31 + 1 : ℕ) = 32 from rfl, ← Args.dkpAll_eq]
  exact Eq.symm ((dif_pos r.isLt : rDkp a 0 512 (X7 m c) (ix2 ⟨r.val, by omega⟩ l) = _))
theorem final14 : (dats m 0 c).arrAt 14 cfg0.N = rDkp a 0 512 (X7 m c) := by
  funext i
  rw [(dats m 0 c).arrAt_eq_piecewise 14 _ (flushed_14 h) i]
  split
  · rfl
  · next hno =>
    rw [A_eq]
    refine (congrFun (V_dkp m c) i).trans (Eq.symm (dif_neg fun hL : (i 0).val < 512 => hno ?_))
    have hN : cfg0.N = 32 := N_0
    have hi1 : (i 1).val < 128 := (i 1).isLt
    obtain ⟨t, ht⟩ : ∃ t : Fin cfg0.N, t.val = 31 := ⟨⟨31, by omega⟩, rfl⟩
    refine ⟨t, (flush0_14 t).mpr (by rw [ht]), ?_⟩
    show i ∈ ((View.whole main_v22_2).slice (win0_14.rect t)).set
    rw [View.set_slice_whole, Rect.mem_set_unit]
    intro q
    match q with
    | ⟨0, _⟩ =>
      show win0_14.index t 0 * 512 ≤ (i 0).val ∧ (i 0).val < win0_14.index t 0 * 512 + 512
      rw [(idx14 t).1]; omega
    | ⟨1, _⟩ =>
      show win0_14.index t 1 * 128 ≤ (i 1).val ∧ (i 1).val < win0_14.index t 1 * 128 + 128
      rw [(idx14 t).2]; omega

end Cert.Proof.At0

end
-- ==== Proof.At0Ref.lean ====
/- What the reference's arrays hold when the arguments hold real numbers. -/
module

public import proofs.«01_k».proof.Proof.AtArgs
public import proofs.«01_k».proof.Proof.Gen.At0RefIdeal.Run

@[expose] public section

set_option maxRecDepth 16384

noncomputable section

namespace Cert.Proof.At0

open Idealize.ShloMosaic Idealize.SL.Sem Cert.At0RefIdeal Cert.At0RefIdeal.Gen Cert.At0RefIdeal.Value Cert.Proof.At
open Cert.Proof.Gm (coe_sum div_real)

variable (V0 : Valuation τ sig (Elt Ideal))

/-- The reference's argument arrays hold the real numbers `a`. -/
abbrev RefArgs (a : Args) : Prop :=
  a.Is (V0 (Proc.devRef .tc main_arg0)) (V0 (Proc.devRef .tc main_arg1)) (V0 (Proc.devRef .tc main_arg2))
    (V0 (Proc.devRef .tc main_arg3)) (V0 (Proc.devRef .tc main_arg4))

variable {V0} {a : Args} (h : RefArgs V0 a) (i : Fin 512) (k : Fin 512) (e : Fin 16) (j : Fin 128)
include h

theorem r15 (i : Fin 2048) (l : Fin 32) : res_main_v15 V0 (ix2 i l) = (a.ang i.val l : EReal) := by
  pointwise [res_main_v15]
  exact Args.ang_at _ _ (h.h3 i) l
theorem r19 (l : Fin 32) : res_main_v19 V0 (ix3 i 0 l) = (a.C (0 + i.val) l : EReal) := by
  pointwise [res_main_v19, res_main_v16]
  rw [r15 h]; rfl
theorem r21 (l : Fin 32) : res_main_v21 V0 (ix3 i 0 l) = (a.S (0 + i.val) l : EReal) := by
  pointwise [res_main_v21, res_main_v17]
  rw [r15 h]; rfl
theorem r22 (l : Fin 32) : res_main_v22 V0 (ix2 k l) = (a.C k.val l : EReal) := by
  pointwise [res_main_v22, res_main_v16]
  rw [r15 h]; rfl
theorem r23 (l : Fin 32) : res_main_v23 V0 (ix2 k l) = (a.S k.val l : EReal) := by
  pointwise [res_main_v23, res_main_v17]
  rw [r15 h]; rfl
theorem r36 (l : Fin 256) : res_main_v36 V0 (ix3 i e l) = (a.Q (0 + i.val) (256 * e.val + l.val) : EReal) := by
  pointwise [res_main_v36]
  exact (h.h0 _ _).trans (by congr 2 <;> (simp only []; omega))
theorem r38 (l : Fin 256) : res_main_v38 V0 (ix3 k e l) = (a.KV k.val (256 * e.val + l.val) : EReal) := by
  pointwise [res_main_v38]
  exact (h.h1 _ _).trans (by congr 2 <;> (simp only []; omega))
theorem r106 : res_main_v106 V0 (ix3 e j i) = (a.D (0 + i.val) (128 * e.val + j.val) : EReal) := by
  pointwise [res_main_v106]
  exact (h.h4 _ _).trans (by congr 2 <;> (simp only []; omega))
theorem r54 (l : Fin 32) : res_main_v54 V0 (ix2 k l) = (a.P k.val (1024 + l.val) : EReal) := by
  pointwise [res_main_v54, res_main_v53]
  exact h.h2 _ _
theorem r55 (l : Fin 32) : res_main_v55 V0 (ix2 k l) = (a.P k.val (1024 + (32 + l.val)) : EReal) := by
  pointwise [res_main_v55, res_main_v53]
  exact h.h2 _ _
omit h in
theorem lane64 (l : Fin 64) : (∃ l' : Fin 32, l = ⟨l'.val, by omega⟩) ∨ ∃ l' : Fin 32, l = ⟨32 + l'.val, by omega⟩ :=
  if h : l.val < 32 then .inl ⟨⟨l.val, h⟩, rfl⟩ else .inr ⟨⟨l.val - 32, by omega⟩, Fin.ext (by show l.val = 32 + (l.val - 32); omega)⟩
theorem r40 (l : Fin 32) : res_main_v40 V0 (ix3 i e l) = (a.Q (0 + i.val) (256 * e.val + 128 + l.val) : EReal) := by
  pointwise [res_main_v40, res_main_v39]
  exact (r36 h i e ⟨128 + l.val, by omega⟩).trans (congrArg₂ (fun n y : ℕ => ((a.Q n y : ℝ) : EReal)) (by omega) (by show 256 * e.val + (128 + l.val) = 256 * e.val + 128 + l.val; omega))
theorem r41 (l : Fin 32) : res_main_v41 V0 (ix3 i e l) = (a.Q (0 + i.val) (256 * e.val + 128 + (32 + l.val)) : EReal) := by
  pointwise [res_main_v41, res_main_v39]
  exact (r36 h i e ⟨128 + (32 + l.val), by omega⟩).trans (congrArg₂ (fun n y : ℕ => ((a.Q n y : ℝ) : EReal)) (by omega) (by show 256 * e.val + (128 + (32 + l.val)) = 256 * e.val + 128 + (32 + l.val); omega))
theorem r52 (l : Fin 64) : res_main_v52 V0 (ix3 i e l) = ((a.blk 0 e.val 512 512).qr i ⟨l.val, by omega⟩ : EReal) := by
  pointwise [res_main_v52]
  rcases lane64 l with ⟨l, rfl⟩ | ⟨l, rfl⟩
  · rw [dif_pos l.isLt, r40 h, r41 h, r19 h, r21 h]
    refine Eq.trans ?_ (congrArg Real.toEReal (Args.rope_0 a _ _ l)).symm
    norm_cast
  · rw [dif_neg (by simp)]
    simp only [Nat.add_sub_cancel_left]
    rw [r40 h, r41 h, r19 h, r21 h]
    refine Eq.trans ?_ (congrArg Real.toEReal (Args.rope_1 a _ _ l)).symm
    norm_cast
theorem r62 (l : Fin 64) : res_main_v62 V0 (ix2 k l) = ((a.blk 0 e.val 512 512).kr k ⟨l.val, by omega⟩ : EReal) := by
  pointwise [res_main_v62]
  rcases lane64 l with ⟨l, rfl⟩ | ⟨l, rfl⟩
  · rw [dif_pos l.isLt, r54 h, r55 h, r22 h, r23 h]
    refine Eq.trans ?_ (congrArg Real.toEReal (Args.rope_0 a _ _ l)).symm
    norm_cast
  · rw [dif_neg (by simp)]
    simp only [Nat.add_sub_cancel_left]
    rw [r54 h, r55 h, r22 h, r23 h]
    refine Eq.trans ?_ (congrArg Real.toEReal (Args.rope_1 a _ _ l)).symm
    norm_cast
theorem r63 : res_main_v63 V0 (ix3 i e j) = ((a.blk 0 e.val 512 512).qn i j : EReal) := by
  pointwise [res_main_v63]
  exact r36 h i e _
theorem r64 : res_main_v64 V0 (ix3 k e j) = ((a.blk 0 e.val 512 512).kn k j : EReal) := by
  pointwise [res_main_v64]
  exact r38 h k e _
theorem r65 : res_main_v65 V0 (ix3 k e j) = ((a.blk 0 e.val 512 512).v k j : EReal) := by
  pointwise [res_main_v65]
  exact (r38 h k e _).trans (by congr 2; simp only []; omega)
omit h in
/-- The floor division by 64, as the host spells it. -/
theorem hfloor64 : ∀ i : Fin 512, Scalar.select
      (IntOp.andi
        (IntOp.cmpi CmpIPredicate.ne
          (if BitVec.ofNat 32 i.val = 0 then (0 : BitVec 32) else if (BitVec.ofNat 32 i.val).msb = true then -1 else 1)
          (if 64#32 = 0 then 0 else if BitVec.msb 64#32 = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) =
    BitVec.ofNat 32 (i.val / 64) := by decide +kernel
omit h in
theorem hsle : ∀ p q : Fin 32, IntOp.cmpi CmpIPredicate.sle (BitVec.ofNat 32 p.val) (BitVec.ofNat 32 q.val) = if p.val ≤ q.val then 1#1 else 0#1 := by
  decide +kernel
omit h in
theorem r73_1 : res_main_v73_1 V0 (ix3 e i k) = if (a.blk 0 e.val 512 512).vis i k then 1#1 else 0#1 := by
  pointwise [res_main_v73_1, res_main_v25, res_main_v30, res_main_call0_v0, res_main_call1_v0, res_main_call0_v2, res_main_call1_v2]
  have e1 : (id (constantI S_ 32 64#32) ix0 : BitVec 32) = 64#32 := rfl
  have e2 : IntOp.addi 0#32 (BitVec.ofNat 32 i.val) = BitVec.ofNat 32 (0 + i.val) := (BitVec.ofNat_add ..).symm
  simp only [e1, e2]
  rw [hfloor64 k, hfloor64 ⟨0 + i.val, by omega⟩]
  exact hsle ⟨k.val / 64, by omega⟩ ⟨(0 + i.val) / 64, by omega⟩
theorem r73_0 : res_main_v73_0 V0 (ix3 e i k) = (a.blk 0 e.val 512 512).msc i k := by
  pointwise [res_main_v73_0]
  have s := Args.sum_lanes (fun x => (a.blk 0 e.val 512 512).qr i x * (a.blk 0 e.val 512 512).kr k x)
    (fun x hx => mul_eq_zero_of_left (Args.rope_2 a _ _ x hx) _)
  rw [r73_1 (a := a), show (id (constant (F := Ideal) S_ FTy.f32 0xFF800000#32) ix0 : EReal) = ⊥ from lit_ninf]
  simp only [r63 h, r64 h, r62 h _ e, r52 h, lit_scale, ← EReal.coe_mul, ← coe_sum, ← EReal.coe_add]
  unfold Blk.msc Blk.sc
  rw [s]
  by_cases hv : (a.blk 0 e.val 512 512).vis i k
  · rw [if_pos hv, if_pos hv]
    refine congrArg Real.toEReal (congrArg (fun y => (_ + y) * scale) (Finset.sum_congr rfl fun x _ => mul_comm _ _))
  · rw [if_neg hv, if_neg hv]; rfl
omit h in
theorem drop_iff (p : S16x512x512.Idx) : reducesTo_S16x512x512_S16x512_d2.drop p = ix2 e i ↔ ∃ k, p = ix3 e i k := by
  constructor
  · intro hp
    refine ⟨p 2, funext fun q => ?_⟩
    match q with
    | ⟨0, _⟩ => exact Fin.ext (congrArg Fin.val (congrFun hp 0) : (p 0).val = e.val)
    | ⟨1, _⟩ => exact Fin.ext (congrArg Fin.val (congrFun hp 1) : (p 1).val = i.val)
    | ⟨2, _⟩ => rfl
  · rintro ⟨k, rfl⟩
    funext q
    match q with
    | ⟨0, _⟩ => rfl
    | ⟨1, _⟩ => rfl
omit h in
theorem fold_row (x : S16x512x512.Idx → EReal) (f : Fin 512 → EReal) (hx : ∀ k, x (ix3 e i k) = f k) :
    Finset.fold max ⊥ x (Finset.univ.filter fun p => reducesTo_S16x512x512_S16x512_d2.drop p = ix2 e i) = Finset.fold max ⊥ f Finset.univ := by
  refine le_antisymm (Finset.sup_le (f := x) fun p hp => ?_) (Finset.sup_le (f := f) fun k _ => ?_)
  · obtain ⟨k, rfl⟩ := (drop_iff i e p).1 (Finset.mem_filter.1 hp).2
    exact (hx k).le.trans (Finset.le_sup (f := f) (Finset.mem_univ k))
  · exact (hx k).ge.trans (Finset.le_sup (f := x) (Finset.mem_filter.2 ⟨Finset.mem_univ _, (drop_iff i e _).2 ⟨k, rfl⟩⟩))
theorem r74 : res_main_v74 V0 (ix2 e i) = ((a.blk 0 e.val 512 512).mx i : EReal) := by
  pointwise [res_main_v74]
  rw [lit_ninf]
  exact (fold_row i e _ _ fun k => r73_0 h i k e).trans (Blk.fold_max _ i)
theorem r94 : res_main_v94 V0 (ix3 e i k) = ((a.blk 0 e.val 512 512).ex i k : EReal) := by
  have h1 := r73_0 h i k e
  have h2 := r74 h i e
  unfold res_main_v94
  obtain ⟨x, hx⟩ : ∃ x : FVec Ideal S16x512x512 .f32, res_main_v73_0 V0 = x := ⟨_, rfl⟩
  obtain ⟨y, hy⟩ : ∃ y : FVec Ideal S16x512 .f32, res_main_v74 V0 = y := ⟨_, rfl⟩
  rw [hx] at h1 ⊢
  rw [hy] at h2 ⊢
  pointwise []
  rw [h1, h2, lit_ninf, max_eq_right bot_le, Blk.exp_msc]
theorem r96 : res_main_v96 V0 (ix3 e i 0) = ((a.blk 0 e.val 512 512).sm i : EReal) := by
  pointwise [res_main_v96]
  simp only [r94 h, ← coe_sum]
  rfl
theorem r98 : res_main_v98 V0 (ix3 e i k) = ((a.blk 0 e.val 512 512).pr i k : EReal) := by
  pointwise [res_main_v98]
  rw [r94 h, r96 h, div_real _ _ (Blk.sm_pos _ _).ne']
  rfl
theorem r107 : res_main_v107 V0 (ix3 e i k) = ((a.blk 0 e.val 512 512).dp i k : EReal) := by
  pointwise [res_main_v107]
  simp only [r106 h, r65 h, ← EReal.coe_mul, ← coe_sum]
  rfl
theorem r124 : res_main_v124 V0 (ix3 e i k) = ((a.blk 0 e.val 512 512).ds i k : EReal) := by
  pointwise [res_main_v124]
  have hs := (Blk.sm_pos (a.blk 0 e.val 512 512) i).ne'
  have e1 : (1 : EReal) = ((1 : ℝ) : EReal) := rfl
  simp only [Finset.univ_unique, Finset.sum_singleton, r107 h, r96 h, r94 h, e1, ← EReal.coe_mul, div_real _ _ hs, div_real _ _ (mul_ne_zero hs hs), lit_scale,
    ← coe_sum, ← EReal.coe_neg, ← EReal.coe_add]
  rw [Blk.ds_steps, r73_1 (a := a)]
  by_cases hv : (a.blk 0 e.val 512 512).vis i k
  · rw [if_pos hv]; rfl
  · rw [if_neg hv, Blk.ds_zero _ _ _ hv]; rfl
theorem r126 (l : Fin 64) : res_main_v126 V0 (ix3 i e l) = ((a.blk 0 e.val 512 512).dqr i ⟨l.val, by omega⟩ : EReal) := by
  pointwise [res_main_v126, res_main_v125]
  simp only [r124 h, r62 h _ e, ← EReal.coe_mul, ← coe_sum]
  rfl
theorem r127 (l : Fin 64) : res_main_v127 V0 (ix2 k l) = ((∑ e : Fin 16, (a.blk 0 e.val 512 512).dkr k ⟨l.val, by omega⟩ : ℝ) : EReal) := by
  pointwise [res_main_v127, res_main_v125]
  simp only [r124 h, r52 h, ← EReal.coe_mul, ← coe_sum]
  exact congrArg Real.toEReal Finset.sum_comm

omit h in
theorem cmod (e : Fin 16) (l : Fin 256) : (col e l).val % 256 = l.val := congrArg Fin.val (col_mod e l)
omit h in
theorem hsub (j : Fin 128) : (hi j).val - 128 = j.val := by show 128 + j.val - 128 = _; omega
/-- The three results. -/
theorem ref_0 (x : S2048x4096.Idx → EReal) (hx : V0 (Proc.devRef .tc main_arg5) = x) :
    @Eq (S2048x4096.Idx → EReal) (val4 V0 (Proc.devRef .tc main_v168)) (rDq a 0 512 x) := by
  refine (val4_main_v168 V0).trans ?_
  rw [hx]
  funext p
  obtain ⟨i, j, rfl⟩ : ∃ (i : Fin 2048) (j : Fin 4096), p = ix2 i j := ⟨p 0, p 1, (ix2_eta p).symm⟩
  obtain ⟨e, l, rfl⟩ := col_cases j
  by_cases h2 : i.val - 0 < 512
  · obtain ⟨q, rfl⟩ : ∃ q : Fin 512, i = ⟨0 + q.val, (Nat.add_lt_add_left q.isLt 0).trans_le (by decide)⟩ := ⟨⟨i.val - 0, h2⟩, Fin.ext (by show i.val = 0 + (i.val - 0); omega)⟩
    refine Eq.trans ?_ (rDq_in a 0 512 x ⟨0 + q.val, by omega⟩ e l ⟨by show 0 ≤ 0 + q.val; omega, by show 0 + q.val < 0 + 512; omega⟩).symm
    rcases lane_cases l with ⟨j, rfl⟩ | ⟨j, rfl⟩
    · rw [half_lo]
      pointwise []
      simp only [cmod, col_div, Nat.add_sub_cancel_left]
      refine (dif_pos j.isLt).trans ?_
      simp only [r124 h, r64 h, ← EReal.coe_mul, ← coe_sum]
      exact congrArg (fun n => (((a.blk n e.val 1 512).dqn 0 j : ℝ) : EReal)) (Nat.zero_add q.val)
    · rw [half_hi]
      pointwise [res_main_v134, res_main_v135]
      simp only [cmod, col_div, Nat.add_sub_cancel_left, hsub]
      refine (dif_neg (by show ¬128 + j.val < 128; omega)).trans ?_
      exact (Args.ropeT_groups a ((a.blk 0 e.val 512 512).dqr q) (0 + q.val) (fun l => res_main_v126 V0 (ix3 q e l)) (fun l => res_main_v19 V0 (ix3 q 0 l))
        (fun l => res_main_v21 V0 (ix3 q 0 l)) (r126 h q e) (r19 h q) (r21 h q) j).trans (congrArg (fun n => (((a.blk n e.val 1 512).dqp 0 j : ℝ) : EReal)) (Nat.zero_add q.val))
  · refine Eq.trans ?_ (rDq_out a 0 512 x i (col e l) (by omega)).symm
    pointwise []
    refine (dif_neg h2).trans ?_
    exact congrArg (fun n : Fin 2048 => x (ix2 n (col e l))) (Fin.ext (by show 512 + (i.val - 512) = i.val; omega))
theorem ref_1 (x : S2048x4096.Idx → EReal) (hx : V0 (Proc.devRef .tc main_arg6) = x) :
    @Eq (S2048x4096.Idx → EReal) (val4 V0 (Proc.devRef .tc main_v172)) (rDkv a 0 512 x) := by
  refine (val4_main_v172 V0).trans ?_
  rw [hx]
  funext p
  obtain ⟨i, j, rfl⟩ : ∃ (i : Fin 2048) (j : Fin 4096), p = ix2 i j := ⟨p 0, p 1, (ix2_eta p).symm⟩
  obtain ⟨e, l, rfl⟩ := col_cases j
  by_cases h1 : i.val < 512
  · refine Eq.trans ?_ (rDkv_in a 0 512 x i e l h1).symm
    rcases lane_cases l with ⟨j, rfl⟩ | ⟨j, rfl⟩
    · rw [half_lo]
      pointwise []
      simp only [cmod, col_div]
      refine (dif_pos h1).trans (congrArg (fun y : EReal => x (ix2 i (col e (lo j))) + y) ((dif_pos j.isLt).trans ?_))
      simp only [r124 h, r63 h, ← EReal.coe_mul, ← coe_sum]
      rfl
    · rw [half_hi]
      pointwise []
      simp only [cmod, col_div, hsub, Nat.add_sub_cancel_left]
      refine (dif_pos h1).trans (congrArg (fun y : EReal => x (ix2 i (col e (hi j))) + y) ((dif_neg (by show ¬128 + j.val < 128; omega)).trans ?_))
      simp only [r106 h, r98 h, ← EReal.coe_mul, ← coe_sum]
      exact congrArg Real.toEReal (Finset.sum_congr rfl fun q _ => mul_comm _ _)
  · refine Eq.trans ?_ (rDkv_out a 0 512 x i (col e l) h1).symm
    pointwise []
    refine (dif_neg h1).trans ?_
    have e1 : 512 + (i.val - 512) = i.val := by omega
    simp only [e1]
theorem ref_2 (x : S2048x128.Idx → EReal) (hx : V0 (Proc.devRef .tc main_arg7) = x) :
    @Eq (S2048x128.Idx → EReal) (val4 V0 (Proc.devRef .tc main_v176)) (rDkp a 0 512 x) := by
  refine (val4_main_v176 V0).trans ?_
  rw [hx]
  funext p
  obtain ⟨i, j, rfl⟩ : ∃ (i : Fin 2048) (j : Fin 128), p = ix2 i j := ⟨p 0, p 1, (ix2_eta p).symm⟩
  by_cases h1 : i.val < 512
  · refine Eq.trans ?_ (rDkp_in a 0 512 i x j h1).symm
    pointwise [res_main_v154, res_main_v155]
    refine (dif_pos h1).trans (congrArg (fun y : EReal => x (ix2 i j) + y) ?_)
    exact Args.ropeT_groups a (fun l => ∑ e : Fin 16, (a.blk 0 e.val 512 512).dkr ⟨i.val, h1⟩ l) i.val (fun l => res_main_v127 V0 (ix2 ⟨i.val, h1⟩ l))
      (fun l => res_main_v22 V0 (ix2 ⟨i.val, h1⟩ l)) (fun l => res_main_v23 V0 (ix2 ⟨i.val, h1⟩ l)) (r127 h ⟨i.val, h1⟩) (r22 h ⟨i.val, h1⟩) (r23 h ⟨i.val, h1⟩) j
  · refine Eq.trans ?_ (rDkp_out a 0 512 i x j h1).symm
    pointwise []
    refine (dif_neg h1).trans ?_
    have e1 : 512 + (i.val - 512) = i.val := by omega
    simp only [e1]

end Cert.Proof.At0

end
-- ==== Proof.At0Claim.lean ====
/- The claims about the attention's gradient for the first quarter of the queries. -/
module

public import proofs.«01_k».proof.Proof.Gen.At0
public import proofs.«01_k».proof.Proof.Gen.At0.Frame
public import proofs.«01_k».proof.Proof.AtPre
public import proofs.«01_k».proof.Proof.At0Arr
public import proofs.«01_k».proof.Proof.At0Ref

@[expose] public section

noncomputable section

namespace Cert.Proof.At0

open Idealize.ShloMosaic Idealize.ShloMosaic.TcCoe Idealize.SL.Sem Cert.Proof.At

/-- The kernel at the machine's floats terminates, keeps its arguments, and leaves every counter at zero. -/
theorem frame : Cert.quiescent_At0 (hAt0 := Cert.At0.Gen.facts) := fun m ρ _ => Cert.At0.Gen.frame m ρ
/-- So does the kernel over the extended reals. -/
theorem frame_ideal : Cert.quiescent_At0Ideal (hAt0Ideal := Cert.At0Ideal.Gen.facts) := fun m ρ _ => Cert.At0Ideal.Gen.frame m ρ
/-- So does the reference over the extended reals. -/
theorem frame_ref : Cert.quiescent_At0RefIdeal (hAt0RefIdeal := Cert.At0RefIdeal.Gen.facts) := fun m ρ _ =>
  (θ_run Cert.At0RefIdeal.defs _ _).mono
    (fun r h => ⟨fun c => (h c).2.2.2, sem_eq_zero_of_no_sems (by decide) r.2⟩)
    (Cert.At0RefIdeal.Value.run (F := Ideal) m ρ)
/-- No operation of the kernel is replaced. -/
theorem preserves : Cert.preserves_At0_At0Ideal := trivial
/-- The real numbers in a device's arguments. -/
abbrev args (m : (ℓ : Loc Cert.At0Ideal.nD Cert.At0Ideal.τ Cert.At0Ideal.sig) → Buf (Elt Ideal) ℓ) (c : Dev Cert.At0Ideal.nD) : Args :=
  argsOf (m ((c : Thread Cert.At0Ideal.nD Cert.At0Ideal.τ).loc Cert.At0Ideal.main_arg0)) (m ((c : Thread Cert.At0Ideal.nD Cert.At0Ideal.τ).loc Cert.At0Ideal.main_arg1))
    (m ((c : Thread Cert.At0Ideal.nD Cert.At0Ideal.τ).loc Cert.At0Ideal.main_arg2)) (m ((c : Thread Cert.At0Ideal.nD Cert.At0Ideal.τ).loc Cert.At0Ideal.main_arg3))
    (m ((c : Thread Cert.At0Ideal.nD Cert.At0Ideal.τ).loc Cert.At0Ideal.main_arg4))
/-- Kernel and reference end with the same three gradients, when every entry of the first three arguments and of the gradient coming in is a real number. -/
theorem algebraic : Cert.algebraic_At0Ideal_At0RefIdeal_pre_attn_finite (hAt0Ideal := Cert.At0Ideal.Gen.facts)
    (hAt0RefIdeal := Cert.At0RefIdeal.Gen.facts) (hPre_attn_finite := Cert.Pre_attn_finite.Gen.facts) := by
  intro m g m' g' hpre hargs
  have hA : ∀ c, HasArgs m c (args m c) := fun c => is_argsOf _ _ _ _ _ _ _ _ (congrFun (hpre c) ix0)
  refine ⟨fun c => rDq (args m c) 0 512 (X5 m c), fun c => rDkv (args m c) 0 512 (X6 m c),
    fun c => rDkp (args m c) 0 512 (X7 m c),
    (θ_run Cert.At0Ideal.defs _ _).mono (fun r h c => ?_) (Cert.At0Ideal.Value.run_blocks m g),
    (θ_run Cert.At0RefIdeal.defs _ _).mono (fun r h c => ?_) (Cert.At0RefIdeal.Value.run (F := Ideal) m' g')⟩
  · obtain ⟨h0, h1, h2, e⟩ := h c
    exact ⟨h0.trans (final12 (hA c)), h1.trans (final13 (hA c)), h2.trans (final14 (hA c)), e⟩
  · obtain ⟨h0, h1, h2, e⟩ := h c
    obtain ⟨a0, a1, a2, a3, a4, a5, a6, a7⟩ := hargs c
    have hR : RefArgs (StableHlo.launchContents m' c) (args m c) := by
      obtain ⟨b0, b1, b2, b3, b4⟩ := hA c
      exact ⟨fun i j => (congrFun a0 _).trans (b0 i j), fun i j => (congrFun a1 _).trans (b1 i j),
        fun i j => (congrFun a2 _).trans (b2 i j), fun i => (congrFun a3 _).trans (b3 i),
        fun i j => (congrFun a4 _).trans (b4 i j)⟩
    exact ⟨h0.trans ((Cert.At0RefIdeal.Value.val4_main_v168 _).symm.trans (ref_0 hR _ a5)),
      h1.trans ((Cert.At0RefIdeal.Value.val4_main_v172 _).symm.trans (ref_1 hR _ a6)),
      h2.trans ((Cert.At0RefIdeal.Value.val4_main_v176 _).symm.trans (ref_2 hR _ a7)), e⟩

end Cert.Proof.At0

end
-- ==== Proof.At1Pay.lean ====
/- What one grid point computes from blocks that hold real numbers: the gradient's real formulas. -/
module

public import proofs.«01_k».proof.Proof.Gen.At1Ideal.Value
public import proofs.«01_k».proof.Proof.AtMath
public import Idealize.ShloMosaic.Lib.Pointwise

@[expose] public section

set_option maxRecDepth 16384

noncomputable section

namespace Cert.Proof.At1

open Idealize.ShloMosaic Idealize.SL.Sem Cert.At1Ideal Cert.At1Ideal.Gen Cert.Proof.At
open Cert.Proof.Gm (coe_sum div_real)

theorem hz2 : (![0, 0] : Fin 2 → ℕ) = fun _ => 0 := by decide

variable (q : ℕ) (x0 x1 : Vec Ideal S256x128 .f32) (x2 x3 : Vec Ideal S1024x128 .f32) (x4 x5 : Vec Ideal S256x128 .f32)
  (x6 x7 x8 : Vec Ideal S1024x128 .f32) (x9 : Vec Ideal S256x128 .f32)

/-- The scores. -/
def tSc : FVec Ideal S256x1024 .f32 := k0_pay8 (k0_pay2 x0) (k0_pay3 x1 x4 x5) (k0_pay4 x2) x3 (k0_pay5 x6) (k0_pay6 x7)
/-- The probabilities. -/
def tPr : FVec Ideal S256x1024 .f32 := k0_pay11 (tSc x0 x1 x2 x3 x4 x5 x6 x7) (k0_pay9 (BitVec.ofNat 32 q)) k0_pay10
/-- The gradient in the probabilities. -/
def tDp : FVec Ideal S256x1024 .f32 := k0_pay14 x9 x8
/-- The gradient in the probabilities times the probabilities. -/
def tDpp : FVec Ideal S256x1024 .f32 :=
  k0_pay15 (tSc x0 x1 x2 x3 x4 x5 x6 x7) (k0_pay9 (BitVec.ofNat 32 q)) k0_pay10 x9 x8
/-- The gradient in the products of queries and keys. -/
def tDs : FVec Ideal S256x1024 .bf16 :=
  k0_pay16 (tPr q x0 x1 x2 x3 x4 x5 x6 x7) (tDp x8 x9) (tDpp q x0 x1 x2 x3 x4 x5 x6 x7 x8 x9)

/-- The ten blocks a point reads hold the numbers of `B`, whose queries start at block `q` of the queries. -/
structure Holds (B : Blk 256 1024) : Prop where
  h0 : ∀ r j, x0 (ix2 r j) = (B.qn r j : EReal)
  h1 : ∀ r j, x1 (ix2 r j) = (B.qp r j : EReal)
  h2 : ∀ r j, x2 (ix2 r j) = (B.kn r j : EReal)
  h3 : ∀ r j, x3 (ix2 r j) = (B.kp r j : EReal)
  h4 : ∀ r j, x4 (ix2 r j) = (B.cq r j : EReal)
  h5 : ∀ r j, x5 (ix2 r j) = (B.sq r j : EReal)
  h6 : ∀ r j, x6 (ix2 r j) = (B.ck r j : EReal)
  h7 : ∀ r j, x7 (ix2 r j) = (B.sk r j : EReal)
  h8 : ∀ r j, x8 (ix2 r j) = (B.v r j : EReal)
  h9 : ∀ r j, x9 (ix2 r j) = (B.g r j : EReal)
  hp : ∀ r, B.pos r = 512 + 256 * q + r.val
  hq : q < 2

theorem slt32 : ∀ j : Fin 128, IntOp.cmpi CmpIPredicate.slt (BitVec.ofNat 32 j.val) 32#32 = if j.val < 32 then 1#1 else 0#1 := by
  decide +kernel
/-- The choice between the two rotated rows. -/
theorem sel_sw (f : Fin 128 → EReal) (x : Fin 128 → ℝ) (h : ∀ j, f j = (x j : EReal)) (j : Fin 128) :
    Scalar.select (IntOp.cmpi CmpIPredicate.slt (BitVec.ofNat 32 j.val) 32#32) (f (up j)) (f (dn j)) = (sw x j : EReal) := by
  rw [slt32, h, h]; unfold sw
  by_cases hj : j.val < 32 <;> simp [hj, Scalar.select]
/-- The floor division by 64, as it is spelled. -/
theorem floor64 : ∀ i : Fin 1024, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by decide +kernel
/-- Comparing the block numbers. -/
theorem sle64 (i j : Fin 1024) : IntOp.cmpi CmpIPredicate.sle (BitVec.ofNat 32 (i.val / 64)) (BitVec.ofNat 32 (j.val / 64))
    = if i.val / 64 ≤ j.val / 64 then 1#1 else 0#1 := by
  have key : ∀ p q : Fin 16, IntOp.cmpi CmpIPredicate.sle (BitVec.ofNat 32 p.val) (BitVec.ofNat 32 q.val)
      = if p.val ≤ q.val then 1#1 else 0#1 := by decide +kernel
  exact key ⟨i.val / 64, by omega⟩ ⟨j.val / 64, by omega⟩

variable {q x0 x1 x2 x3 x4 x5 x6 x7 x8 x9} {B : Blk 256 1024} (H : Holds q x0 x1 x2 x3 x4 x5 x6 x7 x8 x9 B)

include H

theorem pay3_eq (r : Fin 256) (j : Fin 128) : k0_pay3 (F := Ideal) x1 x4 x5 (ix2 r j) = (B.qr r j : EReal) := by
  pointwise [k0_pay3]
  rw [sel_sw (fun k => x1 (ix2 r k)) _ (H.h1 r) j, H.h1, H.h4, H.h5]
  norm_cast
theorem pay7_eq (k : Fin 1024) (j : Fin 128) : k0_pay7 (F := Ideal) x3 (k0_pay5 x6) (k0_pay6 x7) (ix2 k j) = (B.kr k j : EReal) := by
  pointwise [k0_pay7, k0_pay5, k0_pay6]
  rw [sel_sw (fun i => x3 (ix2 k i)) _ (H.h3 k) j, H.h3, H.h6, H.h7]
  norm_cast
theorem tSc_eq (r : Fin 256) (k : Fin 1024) : tSc x0 x1 x2 x3 x4 x5 x6 x7 (ix2 r k) = (B.sc r k : EReal) := by
  pointwise [tSc, k0_pay8, k0_pay2, k0_pay4]
  simp only [pay3_eq H, pay7_eq H, H.h0, H.h2, lit_scale, ← EReal.coe_mul, ← EReal.coe_add, ← coe_sum]
  rfl
theorem pay9_eq (r : Fin 256) (k : Fin 1024) : k0_pay9 (BitVec.ofNat 32 q) (ix2 r k) = BitVec.ofNat 32 (B.pos r) := by
  pointwise [k0_pay9]
  rw [H.hp]
  have hq := H.hq
  interval_cases q <;> revert r <;> decide +kernel
theorem mask_eq (r : Fin 256) (k : Fin 1024) (a : EReal) : Scalar.select
        (IntOp.cmpi CmpIPredicate.sle (k0_pay10 (ix2 r k))
          (Scalar.select
            (IntOp.andi
              (IntOp.cmpi CmpIPredicate.ne
                (IntOp.subi (BitVec.setWidth 32 (IntOp.cmpi CmpIPredicate.sgt (k0_pay9 (BitVec.ofNat 32 q) (ix2 r k)) 0#32))
                  (BitVec.setWidth 32 (IntOp.cmpi CmpIPredicate.slt (k0_pay9 (BitVec.ofNat 32 q) (ix2 r k)) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (k0_pay9 (BitVec.ofNat 32 q) (ix2 r k)) 64#32) 0#32))
            (IntOp.subi (IntOp.divsi ArithUnit.vector (k0_pay9 (BitVec.ofNat 32 q) (ix2 r k)) 64#32) 1#32)
            (IntOp.divsi ArithUnit.vector (k0_pay9 (BitVec.ofNat 32 q) (ix2 r k)) 64#32)))
        a ⊥ = if B.vis r k then a else ⊥ := by
  have hl : B.pos r < 1024 := by have := H.hp r; have := H.hq; omega
  have hk : k0_pay10 (ix2 r k) = BitVec.ofNat 32 (k.val / 64) := by
    pointwise [k0_pay10]
    exact floor64 k
  rw [pay9_eq H, hk, floor64 ⟨B.pos r, hl⟩, sle64 k ⟨B.pos r, hl⟩]
  unfold Blk.vis
  by_cases hv : k.val / 64 ≤ B.pos r / 64 <;> simp [hv, Scalar.select]
theorem tPr_eq (r : Fin 256) (k : Fin 1024) : tPr q x0 x1 x2 x3 x4 x5 x6 x7 (ix2 r k) = (B.pr r k : EReal) := by
  pointwise [tPr, k0_pay11]
  simp only [mask_eq H, tSc_eq H, lit_ninf]
  have e : ∀ k, (if B.vis r k then (B.sc r k : EReal) else ⊥) = B.msc r k := fun _ => rfl
  simp only [e, B.fold_max, B.exp_msc, ← coe_sum]
  exact div_real _ _ (B.sm_pos r).ne'
theorem tDp_eq (r : Fin 256) (k : Fin 1024) : tDp x8 x9 (ix2 r k) = (B.dp r k : EReal) := by
  pointwise [tDp, k0_pay14, k0_pay12]
  simp only [H.h8, H.h9, ← EReal.coe_mul, ← coe_sum]
  rfl
theorem tDs_eq (r : Fin 256) (k : Fin 1024) : tDs q x0 x1 x2 x3 x4 x5 x6 x7 x8 x9 (ix2 r k) = (B.ds r k : EReal) := by
  pointwise [tDs, k0_pay16, tDpp, k0_pay15]
  have e (i) := tPr_eq H r i
  have e' (i) := tDp_eq H r i
  unfold tPr at e
  unfold tDp at e'
  simp only [tPr_eq H, tDp_eq H, e, e', lit_scale, ← EReal.coe_mul, ← EReal.coe_sub, ← coe_sum]
  rfl
theorem pay17_eq (r : Fin 256) (j : Fin 128) :
    k0_pay17 (F := Ideal) (k0_pay4 x2) (tPr q x0 x1 x2 x3 x4 x5 x6 x7) (tDp x8 x9) (tDpp q x0 x1 x2 x3 x4 x5 x6 x7 x8 x9) (ix2 r j)
      = (B.dqn r j : EReal) := by
  pointwise [k0_pay17, k0_pay4]
  have e (i) := tDs_eq H r i
  unfold tDs at e
  simp only [e, H.h2, ← EReal.coe_mul, ← coe_sum]
  rfl
theorem pay18_eq (r : Fin 256) (j : Fin 128) :
    k0_pay18 (F := Ideal) (k0_pay7 x3 (k0_pay5 x6) (k0_pay6 x7)) (tPr q x0 x1 x2 x3 x4 x5 x6 x7) (tDp x8 x9)
      (tDpp q x0 x1 x2 x3 x4 x5 x6 x7 x8 x9) x4 x5 (ix2 r j) = (B.dqp r j : EReal) := by
  pointwise [k0_pay18]
  have e (i) := tDs_eq H r i
  unfold tDs at e
  simp only [e, pay7_eq H, H.h4, H.h5, ← EReal.coe_mul, ← coe_sum]
  rw [sel_sw (fun i => ((((∑ x, B.ds r x * B.kr x i) * B.sq r i : ℝ)) : EReal)) _ (fun _ => rfl) j]
  norm_cast
theorem pay19_eq (y : Vec Ideal S1024x128 .f32) (k : Fin 1024) (j : Fin 128) :
    k0_pay19 (F := Ideal) (k0_pay2 x0) (tPr q x0 x1 x2 x3 x4 x5 x6 x7) (tDp x8 x9) (tDpp q x0 x1 x2 x3 x4 x5 x6 x7 x8 x9) y (ix2 k j)
      = y (ix2 k j) + (B.dkn k j : EReal) := by
  pointwise [k0_pay19, k0_pay2]
  have e (i) := tDs_eq H i k
  unfold tDs at e
  simp only [e, H.h0, ← EReal.coe_mul, ← coe_sum]
  rfl
theorem pay20_eq (y : Vec Ideal S1024x128 .f32) (k : Fin 1024) (j : Fin 128) :
    k0_pay20 (F := Ideal) (k0_pay13 (tSc x0 x1 x2 x3 x4 x5 x6 x7) (k0_pay9 (BitVec.ofNat 32 q)) k0_pay10 x9) y (ix2 k j)
      = y (ix2 k j) + (B.dv k j : EReal) := by
  pointwise [k0_pay20, k0_pay13, k0_pay12]
  have e (i) := tPr_eq H i k
  unfold tPr at e
  simp only [e, H.h9, ← EReal.coe_mul, ← coe_sum]
  rfl
theorem pay1_eq (y : Vec Ideal S1024x128 .f32) (k : Fin 1024) (j : Fin 128) :
    k0_pay1 (F := Ideal) (k0_pay3 x1 x4 x5) (tDs q x0 x1 x2 x3 x4 x5 x6 x7 x8 x9) y x6 x7 (ix2 k j)
      = y (ix2 k j) + (B.dkp k j : EReal) := by
  pointwise [k0_pay1]
  simp only [tDs_eq H, pay3_eq H, H.h6, H.h7, ← EReal.coe_mul, ← coe_sum]
  rw [sel_sw (fun i => ((((∑ x, B.ds x k * B.qr x i) * B.sk k i : ℝ)) : EReal)) _ (fun _ => rfl) j]
  norm_cast

end Cert.Proof.At1

end
-- ==== Proof.At1Out.lean ====
/- What one grid point leaves in its three output blocks: `A` at the first point, `C` at the first of a head's two
   points, `B` at the second. -/
module

public import proofs.«01_k».proof.Proof.At1Pay
public import proofs.«01_k».proof.Proof.AtHalf

@[expose] public section

set_option maxRecDepth 16384

noncomputable section

namespace Cert.Proof.At1

open Idealize.ShloMosaic Idealize.SL.Sem Cert.At1Ideal Cert.At1Ideal.Gen Cert.Proof.At

/-- The second grid coordinate. -/
theorem coord1 : ∀ t : Fin cfg0.N, (grid0.coords t 1).val = t.val % 2 := (by decide +kernel : ∀ t : Fin grid0.N, (grid0.coords t 1).val = t.val % 2)

variable (m : (ℓ : Loc nD τ sig) → Buf (Elt Ideal) ℓ) (c : Dev nD)

/-- A point's blocks hold the numbers of `B`. -/
abbrev HoldsAt (t : Fin cfg0.N) (B : Blk 256 1024) : Prop :=
  Holds (t.val % 2) (iblk m c 0 t) (iblk m c 1 t) (iblk m c 2 t) (iblk m c 3 t) (iblk m c 4 t) (iblk m c 5 t) (iblk m c 6 t)
    (iblk m c 7 t) (iblk m c 8 t) (iblk m c 9 t) B

/-- The blocks of the two arrays the call adds to. -/
abbrev blkKV (t : Fin cfg0.N) : S1024x256.Idx → EReal := iblk m c 10 t
abbrev blkKP (t : Fin cfg0.N) : S1024x128.Idx → EReal := iblk m c 11 t

variable {m c} {t : Fin cfg0.N} {B : Blk 256 1024} (H : HoldsAt m c t B)

include H

theorem dq_A (h0 : t.val % 2 = 0) (h1 : t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_A m c t h0 h1]; dsimp only
  unfold out0_A_12
  rw [View.read_writes_eq_canon _ _ _ (fun _ => cover0_A_12 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 256) _ _ _ _ _ r j).trans (pay17_eq H r j), (canon_hi (R := 256) _ _ _ r j).trans (pay18_eq H r j)⟩
theorem dq_B (h0 : ¬t.val % 2 = 0) (h1 : ¬t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_B m c t h0 h1]; dsimp only
  unfold out0_B_12
  rw [View.read_writes_eq_canon _ _ _ (fun _ => cover0_B_12 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 256) _ _ _ _ _ r j).trans (pay17_eq H r j), (canon_hi (R := 256) _ _ _ r j).trans (pay18_eq H r j)⟩
theorem dq_C (h0 : t.val % 2 = 0) (h1 : ¬t.val % 32 = 0) (r : Fin 256) (j : Fin 128) :
    (outsAt0 (F := Ideal) m c t.val t.isLt).1 (ix2 r (lo j)) = (B.dqn r j : EReal) ∧
      (outsAt0 (F := Ideal) m c t.val t.isLt).1 (ix2 r (hi j)) = (B.dqp r j : EReal) := by
  rw [outsAt0_C m c t h0 h1]; dsimp only
  unfold out0_C_12
  rw [View.read_writes_eq_canon _ _ _ (fun _ => cover0_C_12 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 256) _ _ _ _ _ r j).trans (pay17_eq H r j), (canon_hi (R := 256) _ _ _ r j).trans (pay18_eq H r j)⟩
theorem dkv_A (h0 : t.val % 2 = 0) (h1 : t.val % 32 = 0) (k : Fin 1024) (j : Fin 128) :
    (outsAt0 (F := Ideal) m c t.val t.isLt).2.1 (ix2 k (lo j)) = blkKV m c t (ix2 k (lo j)) + (B.dkn k j : EReal) ∧
      (outsAt0 (F := Ideal) m c t.val t.isLt).2.1 (ix2 k (hi j)) = blkKV m c t (ix2 k (hi j)) + (B.dv k j : EReal) := by
  rw [outsAt0_A m c t h0 h1]; dsimp only
  unfold out0_A_13
  rw [View.read_writes_eq_canon _ _ _ (fun _ => cover0_A_13 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 1024) _ _ _ _ _ k j).trans ((pay19_eq H _ k j).trans (congrArg (· + _) (cov_lo (R := 1024) _ _ _ _ k j))),
    (canon_hi (R := 1024) _ _ _ k j).trans ((pay20_eq H _ k j).trans (congrArg (· + _) (cov_hi (R := 1024) _ _ _ _ _ _ k j)))⟩
theorem dkv_C (h0 : t.val % 2 = 0) (h1 : ¬t.val % 32 = 0) (k : Fin 1024) (j : Fin 128) :
    (outsAt0 (F := Ideal) m c t.val t.isLt).2.1 (ix2 k (lo j)) = blkKV m c t (ix2 k (lo j)) + (B.dkn k j : EReal) ∧
      (outsAt0 (F := Ideal) m c t.val t.isLt).2.1 (ix2 k (hi j)) = blkKV m c t (ix2 k (hi j)) + (B.dv k j : EReal) := by
  rw [outsAt0_C m c t h0 h1]; dsimp only
  unfold out0_C_13
  rw [View.read_writes_eq_canon _ _ _ (fun _ => cover0_C_13 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 1024) _ _ _ _ _ k j).trans ((pay19_eq H _ k j).trans (congrArg (· + _) (cov_lo (R := 1024) _ _ _ _ k j))),
    (canon_hi (R := 1024) _ _ _ k j).trans ((pay20_eq H _ k j).trans (congrArg (· + _) (cov_hi (R := 1024) _ _ _ _ _ _ k j)))⟩
theorem dkv_B (h0 : ¬t.val % 2 = 0) (h1 : ¬t.val % 32 = 0) (k : Fin 1024) (j : Fin 128) :
    (outsAt0 (F := Ideal) m c t.val t.isLt).2.1 (ix2 k (lo j)) = (outsAt0 (F := Ideal) m c (t.val - 1) (Nat.lt_of_le_of_lt (Nat.sub_le _ _) t.isLt)).2.1 (ix2 k (lo j)) + (B.dkn k j : EReal) ∧
      (outsAt0 (F := Ideal) m c t.val t.isLt).2.1 (ix2 k (hi j)) = (outsAt0 (F := Ideal) m c (t.val - 1) (Nat.lt_of_le_of_lt (Nat.sub_le _ _) t.isLt)).2.1 (ix2 k (hi j)) + (B.dv k j : EReal) := by
  rw [outsAt0_B m c t h0 h1]; dsimp only
  unfold out0_B_13
  rw [View.read_writes_eq_canon _ _ _ (fun _ => cover0_B_13 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  exact ⟨(canon_lo (R := 1024) _ _ _ _ _ k j).trans ((pay19_eq H _ k j).trans (congrArg (· + _) (ld_lo (R := 1024) _ _ k j))),
    (canon_hi (R := 1024) _ _ _ k j).trans ((pay20_eq H _ k j).trans (congrArg (· + _) (ld_hi (R := 1024) _ _ k j)))⟩
theorem dkp_A (h0 : t.val % 2 = 0) (h1 : t.val % 32 = 0) (k : Fin 1024) (j : Fin 128) :
    (outsAt0 (F := Ideal) m c t.val t.isLt).2.2 (ix2 k j) = blkKP m c t (ix2 k j) + (B.dkp k j : EReal) := by
  rw [outsAt0_A m c t h0 h1]; dsimp only
  unfold out0_A_14
  rw [View.read_writes_eq_canon _ _ _ (fun _ => cover0_A_14 ..)]
  unfold kernelRun0_A; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  rw [View.canon_cons_unit_zero (S := S1024x128) hz2, View.readCov_unit_zero (S := S1024x128) _ hz2]
  exact pay1_eq H _ k j
theorem dkp_C (h0 : t.val % 2 = 0) (h1 : ¬t.val % 32 = 0) (k : Fin 1024) (j : Fin 128) :
    (outsAt0 (F := Ideal) m c t.val t.isLt).2.2 (ix2 k j) = (outsAt0 (F := Ideal) m c (t.val - 1) (Nat.lt_of_le_of_lt (Nat.sub_le _ _) t.isLt)).2.2 (ix2 k j) + (B.dkp k j : EReal) := by
  rw [outsAt0_C m c t h0 h1]; dsimp only
  unfold out0_C_14
  rw [View.read_writes_eq_canon _ _ _ (fun _ => cover0_C_14 ..)]
  unfold kernelRun0_C; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  rw [View.canon_unit_zero (S := S1024x128) hz2]
  exact pay1_eq H _ k j
theorem dkp_B (h0 : ¬t.val % 2 = 0) (h1 : ¬t.val % 32 = 0) (k : Fin 1024) (j : Fin 128) :
    (outsAt0 (F := Ideal) m c t.val t.isLt).2.2 (ix2 k j) = (outsAt0 (F := Ideal) m c (t.val - 1) (Nat.lt_of_le_of_lt (Nat.sub_le _ _) t.isLt)).2.2 (ix2 k j) + (B.dkp k j : EReal) := by
  rw [outsAt0_B m c t h0 h1]; dsimp only
  unfold out0_B_14
  rw [View.read_writes_eq_canon _ _ _ (fun _ => cover0_B_14 ..)]
  unfold kernelRun0_B; dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread,
    View.ld_unit_zero (S := S256x128) hz2, View.ld_unit_zero (S := S1024x128) hz2, View.ld_unit_zero (S := S1024x256) hz2]
  rw [coord1]
  rw [View.canon_unit_zero (S := S1024x128) hz2]
  exact pay1_eq H _ k j

end Cert.Proof.At1

end
-- ==== Proof.At1Arr.lean ====
/- What the three result arrays hold after the last grid point, when the arguments hold real numbers. -/
module

public import proofs.«01_k».proof.Proof.At1Out
public import proofs.«01_k».proof.Proof.AtArgs
public import Idealize.ShloMosaic.Lib.Pipeline.Value

@[expose] public section

set_option maxRecDepth 16384

noncomputable section

namespace Cert.Proof.At1

open Idealize.ShloMosaic Idealize.ShloMosaic.TcCoe Idealize.SL.Sem Cert.At1Ideal Cert.At1Ideal.Gen Cert.At1Ideal.Value Cert.Proof.At
open Idealize.ShloMosaic.Pipeline (Dat)

variable (m : (ℓ : Loc nD τ sig) → Buf (Elt Ideal) ℓ) (c : Dev nD)

/-- The launch memory of one device holds the real arguments `a`. -/
abbrev HasArgs (a : Args) : Prop :=
  a.Is (m ((c : Thread nD τ).loc main_arg0)) (m ((c : Thread nD τ).loc main_arg1)) (m ((c : Thread nD τ).loc main_arg2))
    (m ((c : Thread nD τ).loc main_arg3)) (m ((c : Thread nD τ).loc main_arg4))

/-- What the arrays the call continues held before the launch. -/
abbrev X5 : S2048x4096.Idx → EReal := m ((c : Thread nD τ).loc main_arg5)
abbrev X6 : S2048x4096.Idx → EReal := m ((c : Thread nD τ).loc main_arg6)
abbrev X7 : S2048x128.Idx → EReal := m ((c : Thread nD τ).loc main_arg7)
/-- The tables are set side by side before the launch. -/
theorem V_v19 : V m c main_v19 = concatenate S2048x128 1 [⟨S2048x32, V m c main_v16⟩, ⟨S2048x32, V m c main_v16⟩, ⟨S2048x64, V m c main_v18⟩]
    concatenates_S2048x32_S2048x32_S2048x64_S2048x128_d1 := by rfl
theorem V_v21 : V m c main_v21 = concatenate S2048x128 1 [⟨S2048x32, V m c main_v20⟩, ⟨S2048x32, V m c main_v17⟩, ⟨S2048x64, V m c main_v18⟩]
    concatenates_S2048x32_S2048x32_S2048x64_S2048x128_d1 := by rfl
theorem V_v18 : V m c main_v18 = broadcastInDim S2048x64 ![] bcast_S_S2048x64 (constant (F := Ideal) S_ .f32 0x00000000#32) := by
  show StableHlo.after hostOps0 _ _ = _
  after_results; try rfl
/-- The angles. -/
def angT : FVec Ideal S2048x32 .f32 := mulf (broadcastInDim S2048x32 ![0, 1] bcast_S2048x1_S2048x32_0_1 (broadcastInDim S2048x1 ![0] bcast_S2048_S2048x1_0 (sitofp .f32 (m ((c : Thread nD τ).loc main_arg3) : IVec S2048 32)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
theorem V_v16 : V m c main_v16 = Host.cos (angT m c) := by
  show StableHlo.after hostOps0 _ _ = _
  after_results; try rfl
theorem V_v17 : V m c main_v17 = Host.sin (angT m c) := by
  show StableHlo.after hostOps0 _ _ = _
  after_results; try rfl
theorem V_v20 : V m c main_v20 = Host.negf (Host.sin (angT m c)) := by
  show StableHlo.after hostOps0 _ _ = _
  after_results; try rfl

variable {m c} {a : Args} (h : HasArgs m c a)
include h

theorem angT_at (i : Fin 2048) (l : Fin 32) : angT m c (ix2 i l) = (a.ang i.val l : EReal) := by
  pointwise [angT]
  exact Args.ang_at _ _ (h.h3 i) l
theorem v19_at (i : Fin 2048) (j : Fin 128) : (V m c main_v19 : Vec Ideal S2048x128 .f32) (ix2 i j) = (a.pc i.val j : EReal) := by
  rw [V_v19, V_v16, V_v18]
  pointwise []
  simp only [angT_at h]
  unfold Args.pc
  split_ifs <;> first | rfl | exact EReal.coe_zero.symm
theorem v21_at (i : Fin 2048) (j : Fin 128) : (V m c main_v21 : Vec Ideal S2048x128 .f32) (ix2 i j) = (a.ps i.val j : EReal) := by
  rw [V_v21, V_v20, V_v17, V_v18]
  pointwise []
  simp only [angT_at h]
  unfold Args.ps
  split_ifs <;> first | rfl | exact EReal.coe_zero.symm

omit h

theorem idx0 : ∀ t : Fin cfg0.N, win0_0.index t 0 = 2 + t.val % 2 ∧ win0_0.index t 1 = 2 * (t.val / 2) := (by decide +kernel : ∀ t : Fin grid0.N, win0_0.index t 0 = 2 + t.val % 2 ∧ win0_0.index t 1 = 2 * (t.val / 2))
theorem idx1 : ∀ t : Fin cfg0.N, win0_1.index t 0 = 2 + t.val % 2 ∧ win0_1.index t 1 = 2 * (t.val / 2) + 1 := (by decide +kernel : ∀ t : Fin grid0.N, win0_1.index t 0 = 2 + t.val % 2 ∧ win0_1.index t 1 = 2 * (t.val / 2) + 1)
theorem idx2 : ∀ t : Fin cfg0.N, win0_2.index t 0 = 0 ∧ win0_2.index t 1 = 2 * (t.val / 2) := (by decide +kernel : ∀ t : Fin grid0.N, win0_2.index t 0 = 0 ∧ win0_2.index t 1 = 2 * (t.val / 2))
theorem idx3 : ∀ t : Fin cfg0.N, win0_3.index t 0 = 0 ∧ win0_3.index t 1 = 8 := (by decide +kernel : ∀ t : Fin grid0.N, win0_3.index t 0 = 0 ∧ win0_3.index t 1 = 8)
theorem idx4 : ∀ t : Fin cfg0.N, win0_4.index t 0 = 2 + t.val % 2 ∧ win0_4.index t 1 = 0 := (by decide +kernel : ∀ t : Fin grid0.N, win0_4.index t 0 = 2 + t.val % 2 ∧ win0_4.index t 1 = 0)
theorem idx5 : ∀ t : Fin cfg0.N, win0_5.index t 0 = 2 + t.val % 2 ∧ win0_5.index t 1 = 0 := (by decide +kernel : ∀ t : Fin grid0.N, win0_5.index t 0 = 2 + t.val % 2 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 2 * (t.val / 2) + 1 := (by decide +kernel : ∀ t : Fin grid0.N, win0_8.index t 0 = 0 ∧ win0_8.index t 1 = 2 * (t.val / 2) + 1)
theorem idx9 : ∀ t : Fin cfg0.N, win0_9.index t 0 = 2 + t.val % 2 ∧ win0_9.index t 1 = t.val / 2 := (by decide +kernel : ∀ t : Fin grid0.N, win0_9.index t 0 = 2 + t.val % 2 ∧ win0_9.index t 1 = t.val / 2)
theorem idx10 : ∀ t : Fin cfg0.N, win0_10.index t 0 = 0 ∧ win0_10.index t 1 = t.val / 2 := (by decide +kernel : ∀ t : Fin grid0.N, win0_10.index t 0 = 0 ∧ win0_10.index t 1 = t.val / 2)
theorem idx11 : ∀ t : Fin cfg0.N, win0_11.index t 0 = 0 ∧ win0_11.index t 1 = 0 := (by decide +kernel : ∀ t : Fin grid0.N, win0_11.index t 0 = 0 ∧ win0_11.index t 1 = 0)
theorem idx12 : ∀ t : Fin cfg0.N, win0_12.index t 0 = 2 + t.val % 2 ∧ win0_12.index t 1 = t.val / 2 := (by decide +kernel : ∀ t : Fin grid0.N, win0_12.index t 0 = 2 + t.val % 2 ∧ win0_12.index t 1 = t.val / 2)
theorem idx13 : ∀ t : Fin cfg0.N, win0_13.index t 0 = 0 ∧ win0_13.index t 1 = t.val / 2 := (by decide +kernel : ∀ t : Fin grid0.N, win0_13.index t 0 = 0 ∧ win0_13.index t 1 = t.val / 2)
theorem idx14 : ∀ t : Fin cfg0.N, win0_14.index t 0 = 0 ∧ win0_14.index t 1 = 0 := (by decide +kernel : ∀ t : Fin grid0.N, win0_14.index t 0 = 0 ∧ win0_14.index t 1 = 0)
theorem rd0 (t : Fin cfg0.N) (r : Fin 256) (j : Fin 128) (hr : 512 + 256 * (t.val % 2) + r.val < 2048) (hc : 256 * (t.val / 2) + j.val < 4096) :
    (iblk m c 0 t : Vec Ideal S256x128 .f32) (ix2 r j) = (V m c main_arg0 : Vec Ideal S2048x4096 .f32) (ix2 ⟨512 + 256 * (t.val % 2) + r.val, hr⟩ ⟨256 * (t.val / 2) + j.val, hc⟩) := by
  have hi := idx0 t
  unfold iblk
  rw [View.read_apply]
  show V m c main_arg0 _ = _
  congr 1; funext q; apply Fin.ext
  match q with
  | ⟨0, _⟩ => show win0_0.index t 0 * 256 + 1 * r.val = 512 + 256 * (t.val % 2) + r.val; rw [hi.1]; omega
  | ⟨1, _⟩ => show win0_0.index t 1 * 128 + 1 * j.val = 256 * (t.val / 2) + j.val; rw [hi.2]; omega
theorem rd1 (t : Fin cfg0.N) (r : Fin 256) (j : Fin 128) (hr : 512 + 256 * (t.val % 2) + r.val < 2048) (hc : 256 * (t.val / 2) + 128 + j.val < 4096) :
    (iblk m c 1 t : Vec Ideal S256x128 .f32) (ix2 r j) = (V m c main_arg0 : Vec Ideal S2048x4096 .f32) (ix2 ⟨512 + 256 * (t.val % 2) + r.val, hr⟩ ⟨256 * (t.val / 2) + 128 + j.val, hc⟩) := by
  have hi := idx1 t
  unfold iblk
  rw [View.read_apply]
  show V m c main_arg0 _ = _
  congr 1; funext q; apply Fin.ext
  match q with
  | ⟨0, _⟩ => show win0_1.index t 0 * 256 + 1 * r.val = 512 + 256 * (t.val % 2) + r.val; rw [hi.1]; omega
  | ⟨1, _⟩ => show win0_1.index t 1 * 128 + 1 * j.val = 256 * (t.val / 2) + 128 + j.val; rw [hi.2]; omega
theorem rd2 (t : Fin cfg0.N) (r : Fin 1024) (j : Fin 128) (hr : r.val < 2048) (hc : 256 * (t.val / 2) + j.val < 4096) :
    (iblk m c 2 t : Vec Ideal S1024x128 .f32) (ix2 r j) = (V m c main_arg1 : Vec Ideal S2048x4096 .f32) (ix2 ⟨r.val, hr⟩ ⟨256 * (t.val / 2) + j.val, hc⟩) := by
  have hi := idx2 t
  unfold iblk
  rw [View.read_apply]
  show V m c main_arg1 _ = _
  congr 1; funext q; apply Fin.ext
  match q with
  | ⟨0, _⟩ => show win0_2.index t 0 * 1024 + 1 * r.val = r.val; rw [hi.1]; omega
  | ⟨1, _⟩ => show win0_2.index t 1 * 128 + 1 * j.val = 256 * (t.val / 2) + j.val; rw [hi.2]; omega
theorem rd3 (t : Fin cfg0.N) (r : Fin 1024) (j : Fin 128) (hr : r.val < 2048) (hc : 1024 + j.val < 1152) :
    (iblk m c 3 t : Vec Ideal S1024x128 .f32) (ix2 r j) = (V m c main_arg2 : Vec Ideal S2048x1152 .f32) (ix2 ⟨r.val, hr⟩ ⟨1024 + j.val, hc⟩) := by
  have hi := idx3 t
  unfold iblk
  rw [View.read_apply]
  show V m c main_arg2 _ = _
  congr 1; funext q; apply Fin.ext
  match q with
  | ⟨0, _⟩ => show win0_3.index t 0 * 1024 + 1 * r.val = r.val; rw [hi.1]; omega
  | ⟨1, _⟩ => show win0_3.index t 1 * 128 + 1 * j.val = 1024 + j.val; rw [hi.2]; omega
theorem rd4 (t : Fin cfg0.N) (r : Fin 256) (j : Fin 128) (hr : 512 + 256 * (t.val % 2) + r.val < 2048) (hc : j.val < 128) :
    (iblk m c 4 t : Vec Ideal S256x128 .f32) (ix2 r j) = (V m c main_v19 : Vec Ideal S2048x128 .f32) (ix2 ⟨512 + 256 * (t.val % 2) + r.val, hr⟩ ⟨j.val, hc⟩) := by
  have hi := idx4 t
  unfold iblk
  rw [View.read_apply]
  show V m c main_v19 _ = _
  congr 1; funext q; apply Fin.ext
  match q with
  | ⟨0, _⟩ => show win0_4.index t 0 * 256 + 1 * r.val = 512 + 256 * (t.val % 2) + r.val; rw [hi.1]; omega
  | ⟨1, _⟩ => show win0_4.index t 1 * 128 + 1 * j.val = j.val; rw [hi.2]; omega
theorem rd5 (t : Fin cfg0.N) (r : Fin 256) (j : Fin 128) (hr : 512 + 256 * (t.val % 2) + r.val < 2048) (hc : j.val < 128) :
    (iblk m c 5 t : Vec Ideal S256x128 .f32) (ix2 r j) = (V m c main_v21 : Vec Ideal S2048x128 .f32) (ix2 ⟨512 + 256 * (t.val % 2) + r.val, hr⟩ ⟨j.val, hc⟩) := by
  have hi := idx5 t
  unfold iblk
  rw [View.read_apply]
  show V m c main_v21 _ = _
  congr 1; funext q; apply Fin.ext
  match q with
  | ⟨0, _⟩ => show win0_5.index t 0 * 256 + 1 * r.val = 512 + 256 * (t.val % 2) + r.val; rw [hi.1]; omega
  | ⟨1, _⟩ => show win0_5.index t 1 * 128 + 1 * j.val = j.val; rw [hi.2]; omega
theorem rd6 (t : Fin cfg0.N) (r : Fin 1024) (j : Fin 128) (hr : r.val < 2048) (hc : j.val < 128) :
    (iblk m c 6 t : Vec Ideal S1024x128 .f32) (ix2 r j) = (V m c main_v19 : Vec Ideal S2048x128 .f32) (ix2 ⟨r.val, hr⟩ ⟨j.val, hc⟩) := by
  have hi := idx6 t
  unfold iblk
  rw [View.read_apply]
  show V m c main_v19 _ = _
  congr 1; funext q; apply Fin.ext
  match q with
  | ⟨0, _⟩ => show win0_6.index t 0 * 1024 + 1 * r.val = r.val; rw [hi.1]; omega
  | ⟨1, _⟩ => show win0_6.index t 1 * 128 + 1 * j.val = j.val; rw [hi.2]; omega
theorem rd7 (t : Fin cfg0.N) (r : Fin 1024) (j : Fin 128) (hr : r.val < 2048) (hc : j.val < 128) :
    (iblk m c 7 t : Vec Ideal S1024x128 .f32) (ix2 r j) = (V m c main_v21 : Vec Ideal S2048x128 .f32) (ix2 ⟨r.val, hr⟩ ⟨j.val, hc⟩) := by
  have hi := idx7 t
  unfold iblk
  rw [View.read_apply]
  show V m c main_v21 _ = _
  congr 1; funext q; apply Fin.ext
  match q with
  | ⟨0, _⟩ => show win0_7.index t 0 * 1024 + 1 * r.val = r.val; rw [hi.1]; omega
  | ⟨1, _⟩ => show win0_7.index t 1 * 128 + 1 * j.val = j.val; rw [hi.2]; omega
theorem rd8 (t : Fin cfg0.N) (r : Fin 1024) (j : Fin 128) (hr : r.val < 2048) (hc : 256 * (t.val / 2) + 128 + j.val < 4096) :
    (iblk m c 8 t : Vec Ideal S1024x128 .f32) (ix2 r j) = (V m c main_arg1 : Vec Ideal S2048x4096 .f32) (ix2 ⟨r.val, hr⟩ ⟨256 * (t.val / 2) + 128 + j.val, hc⟩) := by
  have hi := idx8 t
  unfold iblk
  rw [View.read_apply]
  show V m c main_arg1 _ = _
  congr 1; funext q; apply Fin.ext
  match q with
  | ⟨0, _⟩ => show win0_8.index t 0 * 1024 + 1 * r.val = r.val; rw [hi.1]; omega
  | ⟨1, _⟩ => show win0_8.index t 1 * 128 + 1 * j.val = 256 * (t.val / 2) + 128 + j.val; rw [hi.2]; omega
theorem rd9 (t : Fin cfg0.N) (r : Fin 256) (j : Fin 128) (hr : 512 + 256 * (t.val % 2) + r.val < 2048) (hc : 128 * (t.val / 2) + j.val < 2048) :
    (iblk m c 9 t : Vec Ideal S256x128 .f32) (ix2 r j) = (V m c main_arg4 : Vec Ideal S2048x2048 .f32) (ix2 ⟨512 + 256 * (t.val % 2) + r.val, hr⟩ ⟨128 * (t.val / 2) + j.val, hc⟩) := by
  have hi := idx9 t
  unfold iblk
  rw [View.read_apply]
  show V m c main_arg4 _ = _
  congr 1; funext q; apply Fin.ext
  match q with
  | ⟨0, _⟩ => show win0_9.index t 0 * 256 + 1 * r.val = 512 + 256 * (t.val % 2) + r.val; rw [hi.1]; omega
  | ⟨1, _⟩ => show win0_9.index t 1 * 128 + 1 * j.val = 128 * (t.val / 2) + j.val; rw [hi.2]; omega
theorem rd10 (t : Fin cfg0.N) (r : Fin 1024) (j : Fin 256) (hr : r.val < 2048) (hc : 256 * (t.val / 2) + j.val < 4096) :
    (iblk m c 10 t : Vec Ideal S1024x256 .f32) (ix2 r j) = (V m c main_arg6 : Vec Ideal S2048x4096 .f32) (ix2 ⟨r.val, hr⟩ ⟨256 * (t.val / 2) + j.val, hc⟩) := by
  have hi := idx10 t
  unfold iblk
  rw [View.read_apply]
  show V m c main_arg6 _ = _
  congr 1; funext q; apply Fin.ext
  match q with
  | ⟨0, _⟩ => show win0_10.index t 0 * 1024 + 1 * r.val = r.val; rw [hi.1]; omega
  | ⟨1, _⟩ => show win0_10.index t 1 * 256 + 1 * j.val = 256 * (t.val / 2) + j.val; rw [hi.2]; omega
theorem rd11 (t : Fin cfg0.N) (r : Fin 1024) (j : Fin 128) (hr : r.val < 2048) (hc : j.val < 128) :
    (iblk m c 11 t : Vec Ideal S1024x128 .f32) (ix2 r j) = (V m c main_arg7 : Vec Ideal S2048x128 .f32) (ix2 ⟨r.val, hr⟩ ⟨j.val, hc⟩) := by
  have hi := idx11 t
  unfold iblk
  rw [View.read_apply]
  show V m c main_arg7 _ = _
  congr 1; funext q; apply Fin.ext
  match q with
  | ⟨0, _⟩ => show win0_11.index t 0 * 1024 + 1 * r.val = r.val; rw [hi.1]; omega
  | ⟨1, _⟩ => show win0_11.index t 1 * 128 + 1 * j.val = j.val; rw [hi.2]; omega

include h

/-- The blocks a point reads hold its head's numbers. -/
theorem holds (t : Fin cfg0.N) : HoldsAt m c t (a.blk (512 + 256 * (t.val % 2)) (t.val / 2) 256 1024) := by
  have hN : t.val < 32 := t.isLt.trans_eq N_0
  refine ⟨?_, ?_, ?_, ?_, ?_, ?_, ?_, ?_, ?_, ?_, fun r => rfl, by omega⟩
  · exact fun r j => (rd0 t r j (by omega) (by omega)).trans ((congrFun (V_main_arg0 m c) _).trans (h.h0 _ _))
  · exact fun r j => (rd1 t r j (by omega) (by omega)).trans ((congrFun (V_main_arg0 m c) _).trans (h.h0 _ _))
  · exact fun r j => (rd2 t r j (by omega) (by omega)).trans ((congrFun (V_main_arg1 m c) _).trans (h.h1 _ _))
  · exact fun r j => (rd3 t r j (by omega) (by omega)).trans ((congrFun (V_main_arg2 m c) _).trans (h.h2 _ _))
  · exact fun r j => (rd4 t r j (by omega) (by omega)).trans (v19_at h _ _)
  · exact fun r j => (rd5 t r j (by omega) (by omega)).trans (v21_at h _ _)
  · exact fun r j => (rd6 t r j (by omega) (by omega)).trans (v19_at h _ _)
  · exact fun r j => (rd7 t r j (by omega) (by omega)).trans (v21_at h _ _)
  · exact fun r j => (rd8 t r j (by omega) (by omega)).trans ((congrFun (V_main_arg1 m c) _).trans (h.h1 _ _))
  · exact fun r j => (rd9 t r j (by omega) (by omega)).trans ((congrFun (V_main_arg4 m c) _).trans (h.h4 _ _))

theorem dq_at (t : Fin cfg0.N) (r : Fin 256) (j : Fin 128) :
    (outsAt0 (F := Ideal) m c t.val t.isLt).1 (ix2 r (lo j)) = ((a.blk (512 + 256 * (t.val % 2)) (t.val / 2) 256 1024).dqn r j : EReal) ∧
      (outsAt0 (F := Ideal) m c t.val t.isLt).1 (ix2 r (hi j)) = ((a.blk (512 + 256 * (t.val % 2)) (t.val / 2) 256 1024).dqp r j : EReal) := by
  by_cases h0 : t.val % 2 = 0
  · by_cases h1 : t.val % 32 = 0
    · exact dq_A (holds h t) h0 h1 r j
    · exact dq_C (holds h t) h0 h1 r j
  · exact dq_B (holds h t) h0 (by omega) r j
/-- The first of a head's two points adds to what the array held before the launch; -/
theorem dkv_even (t : Fin cfg0.N) (h0 : t.val % 2 = 0) (k : Fin 1024) (j : Fin 128) :
    (outsAt0 (F := Ideal) m c t.val t.isLt).2.1 (ix2 k (lo j)) = blkKV m c t (ix2 k (lo j)) + ((a.blk (512 + 256 * (t.val % 2)) (t.val / 2) 256 1024).dkn k j : EReal) ∧
      (outsAt0 (F := Ideal) m c t.val t.isLt).2.1 (ix2 k (hi j)) = blkKV m c t (ix2 k (hi j)) + ((a.blk (512 + 256 * (t.val % 2)) (t.val / 2) 256 1024).dv k j : EReal) := by
  by_cases h1 : t.val % 32 = 0
  · exact dkv_A (holds h t) h0 h1 k j
  · exact dkv_C (holds h t) h0 h1 k j
/-- after the second both have been added. -/
theorem dkv_odd (t : Fin cfg0.N) (h0 : t.val % 2 = 1) (k : Fin 1024) (j : Fin 128) :
    (outsAt0 (F := Ideal) m c t.val t.isLt).2.1 (ix2 k (lo j)) = blkKV m c t (ix2 k (lo j)) + ((a.blk 512 (t.val / 2) 512 1024).dkn k j : EReal) ∧
      (outsAt0 (F := Ideal) m c t.val t.isLt).2.1 (ix2 k (hi j)) = blkKV m c t (ix2 k (hi j)) + ((a.blk 512 (t.val / 2) 512 1024).dv k j : EReal) := by
  have hN : t.val < 32 := t.isLt.trans_eq N_0
  have ht : t.val - 1 < cfg0.N := Nat.lt_of_le_of_lt (Nat.sub_le _ _) t.isLt
  have B := dkv_B (holds h t) (by omega) (by omega) k j
  have E := dkv_even h ⟨t.val - 1, ht⟩ (by show (t.val - 1) % 2 = 0; omega) k j
  have e1 : (t.val - 1) % 2 = 0 := by omega
  have e2 : (t.val - 1) / 2 = t.val / 2 := by omega
  have b (l : Fin 256) : blkKV m c ⟨t.val - 1, ht⟩ (ix2 k l) = blkKV m c t (ix2 k l) := by
    refine (rd10 ⟨t.val - 1, ht⟩ k l (by omega) (by show 256 * ((t.val - 1) / 2) + l.val < 4096; omega)).trans (Eq.trans ?_ (rd10 t k l (by omega) (by omega)).symm)
    refine congrArg (V m c main_arg6 : Vec Ideal S2048x4096 .f32) (congrArg (ix2 _) (Fin.ext ?_))
    show 256 * ((t.val - 1) / 2) + l.val = _
    rw [e2]
  simp only [b, e1, e2, h0, Nat.mul_zero, Nat.mul_one, Nat.add_zero] at E B
  have s1 := a.dkn_add (t.val / 2) 256 256 1024 512 k j
  have s2 := a.dv_add (t.val / 2) 256 256 1024 512 k j
  constructor
  · rw [B.1, E.1, add_assoc, ← EReal.coe_add]
    exact congrArg (fun y : ℝ => _ + (y : EReal)) s1.symm
  · rw [B.2, E.2, add_assoc, ← EReal.coe_add]
    exact congrArg (fun y : ℝ => _ + (y : EReal)) s2.symm
/-- The gradient of the keys' rotated part adds up over the points. -/
theorem dkp_at (k : Fin 1024) (j : Fin 128) : ∀ (n : ℕ) (hn : n < cfg0.N),
    (outsAt0 (F := Ideal) m c n hn).2.2 (ix2 k j) = X7 m c (ix2 ⟨k.val, by omega⟩ j)
      + ((∑ s ∈ Finset.range (n + 1), (a.blk (512 + 256 * (s % 2)) (s / 2) 256 1024).dkp k j : ℝ) : EReal) := by
  intro n
  induction n with
  | zero =>
    intro hn
    refine (dkp_A (holds h ⟨0, hn⟩) rfl rfl k j).trans (congrArg₂ (· + ·) ((rd11 ⟨0, hn⟩ k j (by omega) (by omega)).trans (congrFun (V_main_arg7 m c) _)) (congrArg Real.toEReal ?_))
    rw [Finset.sum_range_succ, Finset.sum_range_zero, zero_add]
  | succ n ih =>
    intro hn
    have hN : n + 1 < 32 := hn.trans_eq N_0
    have step : (outsAt0 (F := Ideal) m c (n + 1) hn).2.2 (ix2 k j) = (outsAt0 (F := Ideal) m c n (Nat.lt_of_succ_lt hn)).2.2 (ix2 k j)
        + ((a.blk (512 + 256 * ((n + 1) % 2)) ((n + 1) / 2) 256 1024).dkp k j : EReal) := by
      by_cases h0 : (n + 1) % 2 = 0
      · exact dkp_C (holds h ⟨n + 1, hn⟩) h0 (by show ¬(n + 1) % 32 = 0; omega) k j
      · exact dkp_B (holds h ⟨n + 1, hn⟩) h0 (by show ¬(n + 1) % 32 = 0; omega) k j
    rw [step, ih, add_assoc, ← EReal.coe_add, ← Finset.sum_range_succ]

omit h
variable (m c)
theorem V_dq : V m c main_v22_0 = X5 m c := by
  show StableHlo.after hostOps0 _ _ = _
  after_results; try rfl
theorem V_dkv : V m c main_v22_1 = X6 m c := by
  show StableHlo.after hostOps0 _ _ = _
  after_results; try rfl
theorem V_dkp : V m c main_v22_2 = X7 m c := by
  show StableHlo.after hostOps0 _ _ = _
  after_results; try rfl
variable {m c}
include h

theorem flushed_12 (t : Fin cfg0.N) (hf : (cfg0.win 12).flush t = true) :
    (dats m 0 c).flushed 12 t = ((cfg0.win 12).blk t).view.read (Elt Ideal) (rDq a 512 1024 (X5 m c)) := by
  have hN : t.val < 32 := t.isLt.trans_eq N_0
  rw [flushed12]
  funext p
  obtain ⟨r, l, rfl⟩ : ∃ (r : Fin 256) (l : Fin 256), p = ix2 r l := ⟨p 0, p 1, (ix2_eta p).symm⟩
  rw [View.read_apply]
  have e : (((cfg0.win 12).blk t).view.emb (ix2 r l) : S2048x4096.Idx) = ix2 ⟨512 + 256 * (t.val % 2) + r.val, by omega⟩ (col ⟨t.val / 2, by omega⟩ l) := by
    funext q; apply Fin.ext
    match q with
    | ⟨0, _⟩ => show win0_12.index t 0 * 256 + 1 * r.val = 512 + 256 * (t.val % 2) + r.val; rw [(idx12 t).1]; omega
    | ⟨1, _⟩ => show win0_12.index t 1 * 256 + 1 * l.val = 256 * (t.val / 2) + l.val; rw [(idx12 t).2]; omega
  show (outsAt0 m c t.val t.isLt).1 (ix2 r l) = rDq a 512 1024 (X5 m c) (((cfg0.win 12).blk t).view.emb (ix2 r l))
  rw [e]
  rw [rDq_in _ _ _ _ _ _ _ ⟨by show 512 ≤ 512 + 256 * (t.val % 2) + r.val; omega, by show 512 + 256 * (t.val % 2) + r.val < 512 + 512; omega⟩]
  rcases lane_cases l with ⟨j, rfl⟩ | ⟨j, rfl⟩
  · rw [half_lo]; exact (dq_at h t r j).1
  · rw [half_hi]; exact (dq_at h t r j).2
theorem final12 : (dats m 0 c).arrAt 12 cfg0.N = rDq a 512 1024 (X5 m c) := by
  funext i
  rw [(dats m 0 c).arrAt_eq_piecewise 12 _ (flushed_12 h) i]
  split
  · rfl
  · next hno =>
    rw [A_eq]
    refine (congrFun (V_dq m c) i).trans (Eq.symm (if_neg fun hL : 512 ≤ (i 0).val ∧ (i 0).val < 512 + 512 => hno ?_))
    have hN : cfg0.N = 32 := N_0
    have hi1 : (i 1).val < 4096 := (i 1).isLt
    obtain ⟨t, ht⟩ : ∃ t : Fin cfg0.N, t.val = 2 * ((i 1).val / 256) + ((i 0).val - 512) / 256 := ⟨⟨2 * ((i 1).val / 256) + ((i 0).val - 512) / 256, by omega⟩, rfl⟩
    refine ⟨t, flush0_12 t, ?_⟩
    show i ∈ ((View.whole main_v22_0).slice (win0_12.rect t)).set
    rw [View.set_slice_whole, Rect.mem_set_unit]
    intro q
    match q with
    | ⟨0, _⟩ =>
      show win0_12.index t 0 * 256 ≤ (i 0).val ∧ (i 0).val < win0_12.index t 0 * 256 + 256
      rw [(idx12 t).1]; simp only [ht]; omega
    | ⟨1, _⟩ =>
      show win0_12.index t 1 * 256 ≤ (i 1).val ∧ (i 1).val < win0_12.index t 1 * 256 + 256
      rw [(idx12 t).2]; simp only [ht]; omega

theorem flushed_13 (t : Fin cfg0.N) (hf : (cfg0.win 13).flush t = true) :
    (dats m 0 c).flushed 13 t = ((cfg0.win 13).blk t).view.read (Elt Ideal) (rDkv a 512 1024 (X6 m c)) := by
  have hN : t.val < 32 := t.isLt.trans_eq N_0
  rw [flushed13]
  funext p
  obtain ⟨r, l, rfl⟩ : ∃ (r : Fin 1024) (l : Fin 256), p = ix2 r l := ⟨p 0, p 1, (ix2_eta p).symm⟩
  rw [View.read_apply]
  have e : (((cfg0.win 13).blk t).view.emb (ix2 r l) : S2048x4096.Idx) = ix2 ⟨r.val, by omega⟩ (col ⟨t.val / 2, by omega⟩ l) := by
    funext q; apply Fin.ext
    match q with
    | ⟨0, _⟩ => show win0_13.index t 0 * 1024 + 1 * r.val = r.val; rw [(idx13 t).1]; omega
    | ⟨1, _⟩ => show win0_13.index t 1 * 256 + 1 * l.val = 256 * (t.val / 2) + l.val; rw [(idx13 t).2]; omega
  show (outsAt0 m c t.val t.isLt).2.1 (ix2 r l) = rDkv a 512 1024 (X6 m c) (((cfg0.win 13).blk t).view.emb (ix2 r l))
  rw [e]
  have hf' := (flush0_13 t).mp hf
  rw [rDkv_in _ _ _ _ _ _ _ r.isLt]
  have b (l : Fin 256) : blkKV m c t (ix2 r l) = X6 m c (ix2 ⟨r.val, by omega⟩ (col ⟨t.val / 2, by omega⟩ l)) :=
    (rd10 t r l (by omega) (by omega)).trans (congrFun (V_main_arg6 m c) _)
  rcases lane_cases l with ⟨j, rfl⟩ | ⟨j, rfl⟩
  · rw [half_lo, ← b]; exact (dkv_odd h t hf' r j).1
  · rw [half_hi, ← b]; exact (dkv_odd h t hf' r j).2
theorem final13 : (dats m 0 c).arrAt 13 cfg0.N = rDkv a 512 1024 (X6 m c) := by
  funext i
  rw [(dats m 0 c).arrAt_eq_piecewise 13 _ (flushed_13 h) i]
  split
  · rfl
  · next hno =>
    rw [A_eq]
    refine (congrFun (V_dkv m c) i).trans (Eq.symm (dif_neg fun hL : (i 0).val < 1024 => hno ?_))
    have hN : cfg0.N = 32 := N_0
    have hi1 : (i 1).val < 4096 := (i 1).isLt
    obtain ⟨t, ht⟩ : ∃ t : Fin cfg0.N, t.val = 2 * ((i 1).val / 256) + 1 := ⟨⟨2 * ((i 1).val / 256) + 1, by omega⟩, rfl⟩
    refine ⟨t, (flush0_13 t).mpr (by rw [ht]; omega), ?_⟩
    show i ∈ ((View.whole main_v22_1).slice (win0_13.rect t)).set
    rw [View.set_slice_whole, Rect.mem_set_unit]
    intro q
    match q with
    | ⟨0, _⟩ =>
      show win0_13.index t 0 * 1024 ≤ (i 0).val ∧ (i 0).val < win0_13.index t 0 * 1024 + 1024
      rw [(idx13 t).1]; omega
    | ⟨1, _⟩ =>
      show win0_13.index t 1 * 256 ≤ (i 1).val ∧ (i 1).val < win0_13.index t 1 * 256 + 256
      rw [(idx13 t).2]; simp only [ht]; omega

theorem flushed_14 (t : Fin cfg0.N) (hf : (cfg0.win 14).flush t = true) :
    (dats m 0 c).flushed 14 t = ((cfg0.win 14).blk t).view.read (Elt Ideal) (rDkp a 512 1024 (X7 m c)) := by
  have hN : t.val < 32 := t.isLt.trans_eq N_0
  rw [flushed14]
  funext p
  obtain ⟨r, l, rfl⟩ : ∃ (r : Fin 1024) (l : Fin 128), p = ix2 r l := ⟨p 0, p 1, (ix2_eta p).symm⟩
  rw [View.read_apply]
  have e : (((cfg0.win 14).blk t).view.emb (ix2 r l) : S2048x128.Idx) = ix2 ⟨r.val, by omega⟩ l := by
    funext q; apply Fin.ext
    match q with
    | ⟨0, _⟩ => show win0_14.index t 0 * 1024 + 1 * r.val = r.val; rw [(idx14 t).1]; omega
    | ⟨1, _⟩ => show win0_14.index t 1 * 128 + 1 * l.val = l.val; rw [(idx14 t).2]; omega
  show (outsAt0 m c t.val t.isLt).2.2 (ix2 r l) = rDkp a 512 1024 (X7 m c) (((cfg0.win 14).blk t).view.emb (ix2 r l))
  rw [e]
  have hf' := (flush0_14 t).mp hf
  obtain rfl : t = ⟨31, (by decide : 31 < 32).trans_eq N_0.symm⟩ := Fin.ext (by show t.val = 31; omega)
  refine (dkp_at h r l 31 _).trans ?_
  rw [show (31 + 1 : ℕ) = 32 from rfl, ← Args.dkpAll_eq]
  exact Eq.symm ((dif_pos r.isLt : rDkp a 512 1024 (X7 m c) (ix2 ⟨r.val, by omega⟩ l) = _))
theorem final14 : (dats m 0 c).arrAt 14 cfg0.N = rDkp a 512 1024 (X7 m c) := by
  funext i
  rw [(dats m 0 c).arrAt_eq_piecewise 14 _ (flushed_14 h) i]
  split
  · rfl
  · next hno =>
    rw [A_eq]
    refine (congrFun (V_dkp m c) i).trans (Eq.symm (dif_neg fun hL : (i 0).val < 1024 => hno ?_))
    have hN : cfg0.N = 32 := N_0
    have hi1 : (i 1).val < 128 := (i 1).isLt
    obtain ⟨t, ht⟩ : ∃ t : Fin cfg0.N, t.val = 31 := ⟨⟨31, by omega⟩, rfl⟩
    refine ⟨t, (flush0_14 t).mpr (by rw [ht]), ?_⟩
    show i ∈ ((View.whole main_v22_2).slice (win0_14.rect t)).set
    rw [View.set_slice_whole, Rect.mem_set_unit]
    intro q
    match q with
    | ⟨0, _⟩ =>
      show win0_14.index t 0 * 1024 ≤ (i 0).val ∧ (i 0).val < win0_14.index t 0 * 1024 + 1024
      rw [(idx14 t).1]; omega
    | ⟨1, _⟩ =>
      show win0_14.index t 1 * 128 ≤ (i 1).val ∧ (i 1).val < win0_14.index t 1 * 128 + 128
      rw [(idx14 t).2]; omega

end Cert.Proof.At1

end
-- ==== Proof.At1Ref.lean ====
/- What the reference's arrays hold when the arguments hold real numbers. -/
module

public import proofs.«01_k».proof.Proof.AtArgs
public import proofs.«01_k».proof.Proof.Gen.At1RefIdeal.Run

@[expose] public section

set_option maxRecDepth 16384

noncomputable section

namespace Cert.Proof.At1

open Idealize.ShloMosaic Idealize.SL.Sem Cert.At1RefIdeal Cert.At1RefIdeal.Gen Cert.At1RefIdeal.Value Cert.Proof.At
open Cert.Proof.Gm (coe_sum div_real)

variable (V0 : Valuation τ sig (Elt Ideal))

/-- The reference's argument arrays hold the real numbers `a`. -/
abbrev RefArgs (a : Args) : Prop :=
  a.Is (V0 (Proc.devRef .tc main_arg0)) (V0 (Proc.devRef .tc main_arg1)) (V0 (Proc.devRef .tc main_arg2))
    (V0 (Proc.devRef .tc main_arg3)) (V0 (Proc.devRef .tc main_arg4))

variable {V0} {a : Args} (h : RefArgs V0 a) (i : Fin 512) (k : Fin 1024) (e : Fin 16) (j : Fin 128)
include h

theorem r15 (i : Fin 2048) (l : Fin 32) : res_main_v15 V0 (ix2 i l) = (a.ang i.val l : EReal) := by
  pointwise [res_main_v15]
  exact Args.ang_at _ _ (h.h3 i) l
theorem r19 (l : Fin 32) : res_main_v19 V0 (ix3 i 0 l) = (a.C (512 + i.val) l : EReal) := by
  pointwise [res_main_v19, res_main_v16]
  rw [r15 h]; rfl
theorem r21 (l : Fin 32) : res_main_v21 V0 (ix3 i 0 l) = (a.S (512 + i.val) l : EReal) := by
  pointwise [res_main_v21, res_main_v17]
  rw [r15 h]; rfl
theorem r22 (l : Fin 32) : res_main_v22 V0 (ix2 k l) = (a.C k.val l : EReal) := by
  pointwise [res_main_v22, res_main_v16]
  rw [r15 h]; rfl
theorem r23 (l : Fin 32) : res_main_v23 V0 (ix2 k l) = (a.S k.val l : EReal) := by
  pointwise [res_main_v23, res_main_v17]
  rw [r15 h]; rfl
theorem r36 (l : Fin 256) : res_main_v36 V0 (ix3 i e l) = (a.Q (512 + i.val) (256 * e.val + l.val) : EReal) := by
  pointwise [res_main_v36]
  exact (h.h0 _ _).trans (by congr 2 <;> (simp only []; omega))
theorem r38 (l : Fin 256) : res_main_v38 V0 (ix3 k e l) = (a.KV k.val (256 * e.val + l.val) : EReal) := by
  pointwise [res_main_v38]
  exact (h.h1 _ _).trans (by congr 2 <;> (simp only []; omega))
theorem r106 : res_main_v106 V0 (ix3 e j i) = (a.D (512 + i.val) (128 * e.val + j.val) : EReal) := by
  pointwise [res_main_v106]
  exact (h.h4 _ _).trans (by congr 2 <;> (simp only []; omega))
theorem r54 (l : Fin 32) : res_main_v54 V0 (ix2 k l) = (a.P k.val (1024 + l.val) : EReal) := by
  pointwise [res_main_v54, res_main_v53]
  exact h.h2 _ _
theorem r55 (l : Fin 32) : res_main_v55 V0 (ix2 k l) = (a.P k.val (1024 + (32 + l.val)) : EReal) := by
  pointwise [res_main_v55, res_main_v53]
  exact h.h2 _ _
omit h in
theorem lane64 (l : Fin 64) : (∃ l' : Fin 32, l = ⟨l'.val, by omega⟩) ∨ ∃ l' : Fin 32, l = ⟨32 + l'.val, by omega⟩ :=
  if h : l.val < 32 then .inl ⟨⟨l.val, h⟩, rfl⟩ else .inr ⟨⟨l.val - 32, by omega⟩, Fin.ext (by show l.val = 32 + (l.val - 32); omega)⟩
theorem r40 (l : Fin 32) : res_main_v40 V0 (ix3 i e l) = (a.Q (512 + i.val) (256 * e.val + 128 + l.val) : EReal) := by
  pointwise [res_main_v40, res_main_v39]
  exact (r36 h i e _).trans (by congr 2; simp only []; omega)
theorem r41 (l : Fin 32) : res_main_v41 V0 (ix3 i e l) = (a.Q (512 + i.val) (256 * e.val + 128 + (32 + l.val)) : EReal) := by
  pointwise [res_main_v41, res_main_v39]
  exact (r36 h i e _).trans (by congr 2; simp only []; omega)
theorem r52 (l : Fin 64) : res_main_v52 V0 (ix3 i e l) = ((a.blk 512 e.val 512 1024).qr i ⟨l.val, by omega⟩ : EReal) := by
  pointwise [res_main_v52]
  rcases lane64 l with ⟨l, rfl⟩ | ⟨l, rfl⟩
  · rw [dif_pos l.isLt, r40 h, r41 h, r19 h, r21 h]
    refine Eq.trans ?_ (congrArg Real.toEReal (Args.rope_0 a _ _ l)).symm
    norm_cast
  · rw [dif_neg (by simp)]
    simp only [Nat.add_sub_cancel_left]
    rw [r40 h, r41 h, r19 h, r21 h]
    refine Eq.trans ?_ (congrArg Real.toEReal (Args.rope_1 a _ _ l)).symm
    norm_cast
theorem r62 (l : Fin 64) : res_main_v62 V0 (ix2 k l) = ((a.blk 512 e.val 512 1024).kr k ⟨l.val, by omega⟩ : EReal) := by
  pointwise [res_main_v62]
  rcases lane64 l with ⟨l, rfl⟩ | ⟨l, rfl⟩
  · rw [dif_pos l.isLt, r54 h, r55 h, r22 h, r23 h]
    refine Eq.trans ?_ (congrArg Real.toEReal (Args.rope_0 a _ _ l)).symm
    norm_cast
  · rw [dif_neg (by simp)]
    simp only [Nat.add_sub_cancel_left]
    rw [r54 h, r55 h, r22 h, r23 h]
    refine Eq.trans ?_ (congrArg Real.toEReal (Args.rope_1 a _ _ l)).symm
    norm_cast
theorem r63 : res_main_v63 V0 (ix3 i e j) = ((a.blk 512 e.val 512 1024).qn i j : EReal) := by
  pointwise [res_main_v63]
  exact r36 h i e _
theorem r64 : res_main_v64 V0 (ix3 k e j) = ((a.blk 512 e.val 512 1024).kn k j : EReal) := by
  pointwise [res_main_v64]
  exact r38 h k e _
theorem r65 : res_main_v65 V0 (ix3 k e j) = ((a.blk 512 e.val 512 1024).v k j : EReal) := by
  pointwise [res_main_v65]
  exact (r38 h k e _).trans (by congr 2; simp only []; omega)
omit h in
/-- The floor division by 64, as the host spells it. -/
theorem hfloor64 : ∀ i : Fin 1024, Scalar.select
      (IntOp.andi
        (IntOp.cmpi CmpIPredicate.ne
          (if BitVec.ofNat 32 i.val = 0 then (0 : BitVec 32) else if (BitVec.ofNat 32 i.val).msb = true then -1 else 1)
          (if 64#32 = 0 then 0 else if BitVec.msb 64#32 = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) =
    BitVec.ofNat 32 (i.val / 64) := by decide +kernel
omit h in
theorem hsle : ∀ p q : Fin 32, IntOp.cmpi CmpIPredicate.sle (BitVec.ofNat 32 p.val) (BitVec.ofNat 32 q.val) = if p.val ≤ q.val then 1#1 else 0#1 := by
  decide +kernel
omit h in
theorem r73_1 : res_main_v73_1 V0 (ix3 e i k) = if (a.blk 512 e.val 512 1024).vis i k then 1#1 else 0#1 := by
  pointwise [res_main_v73_1, res_main_v25, res_main_v30, res_main_call0_v0, res_main_call1_v0, res_main_call0_v2, res_main_call1_v2]
  have e1 : (id (constantI S_ 32 64#32) ix0 : BitVec 32) = 64#32 := rfl
  have e2 : IntOp.addi 512#32 (BitVec.ofNat 32 i.val) = BitVec.ofNat 32 (512 + i.val) := (BitVec.ofNat_add ..).symm
  simp only [e1, e2]
  rw [hfloor64 k, hfloor64 ⟨512 + i.val, by omega⟩]
  exact hsle ⟨k.val / 64, by omega⟩ ⟨(512 + i.val) / 64, by omega⟩
theorem r73_0 : res_main_v73_0 V0 (ix3 e i k) = (a.blk 512 e.val 512 1024).msc i k := by
  pointwise [res_main_v73_0]
  have s := Args.sum_lanes (fun x => (a.blk 512 e.val 512 1024).qr i x * (a.blk 512 e.val 512 1024).kr k x)
    (fun x hx => mul_eq_zero_of_left (Args.rope_2 a _ _ x hx) _)
  rw [r73_1 (a := a), show (id (constant (F := Ideal) S_ FTy.f32 0xFF800000#32) ix0 : EReal) = ⊥ from lit_ninf]
  simp only [r63 h, r64 h, r62 h _ e, r52 h, lit_scale, ← EReal.coe_mul, ← coe_sum, ← EReal.coe_add]
  unfold Blk.msc Blk.sc
  rw [s]
  by_cases hv : (a.blk 512 e.val 512 1024).vis i k
  · rw [if_pos hv, if_pos hv]
    refine congrArg Real.toEReal (congrArg (fun y => (_ + y) * scale) (Finset.sum_congr rfl fun x _ => mul_comm _ _))
  · rw [if_neg hv, if_neg hv]; rfl
omit h in
theorem drop_iff (p : S16x512x1024.Idx) : reducesTo_S16x512x1024_S16x512_d2.drop p = ix2 e i ↔ ∃ k, p = ix3 e i k := by
  constructor
  · intro hp
    refine ⟨p 2, funext fun q => ?_⟩
    match q with
    | ⟨0, _⟩ => exact Fin.ext (congrArg Fin.val (congrFun hp 0) : (p 0).val = e.val)
    | ⟨1, _⟩ => exact Fin.ext (congrArg Fin.val (congrFun hp 1) : (p 1).val = i.val)
    | ⟨2, _⟩ => rfl
  · rintro ⟨k, rfl⟩
    funext q
    match q with
    | ⟨0, _⟩ => rfl
    | ⟨1, _⟩ => rfl
omit h in
theorem fold_row (x : S16x512x1024.Idx → EReal) (f : Fin 1024 → EReal) (hx : ∀ k, x (ix3 e i k) = f k) :
    Finset.fold max ⊥ x (Finset.univ.filter fun p => reducesTo_S16x512x1024_S16x512_d2.drop p = ix2 e i) = Finset.fold max ⊥ f Finset.univ := by
  refine le_antisymm (Finset.sup_le (f := x) fun p hp => ?_) (Finset.sup_le (f := f) fun k _ => ?_)
  · obtain ⟨k, rfl⟩ := (drop_iff i e p).1 (Finset.mem_filter.1 hp).2
    exact (hx k).le.trans (Finset.le_sup (f := f) (Finset.mem_univ k))
  · exact (hx k).ge.trans (Finset.le_sup (f := x) (Finset.mem_filter.2 ⟨Finset.mem_univ _, (drop_iff i e _).2 ⟨k, rfl⟩⟩))
theorem r74 : res_main_v74 V0 (ix2 e i) = ((a.blk 512 e.val 512 1024).mx i : EReal) := by
  pointwise [res_main_v74]
  rw [lit_ninf]
  exact (fold_row i e _ _ fun k => r73_0 h i k e).trans (Blk.fold_max _ i)
theorem r94 : res_main_v94 V0 (ix3 e i k) = ((a.blk 512 e.val 512 1024).ex i k : EReal) := by
  have h1 := r73_0 h i k e
  have h2 := r74 h i e
  unfold res_main_v94
  obtain ⟨x, hx⟩ : ∃ x : FVec Ideal S16x512x1024 .f32, res_main_v73_0 V0 = x := ⟨_, rfl⟩
  obtain ⟨y, hy⟩ : ∃ y : FVec Ideal S16x512 .f32, res_main_v74 V0 = y := ⟨_, rfl⟩
  rw [hx] at h1 ⊢
  rw [hy] at h2 ⊢
  pointwise []
  rw [h1, h2, lit_ninf, max_eq_right bot_le, Blk.exp_msc]
theorem r96 : res_main_v96 V0 (ix3 e i 0) = ((a.blk 512 e.val 512 1024).sm i : EReal) := by
  pointwise [res_main_v96]
  simp only [r94 h, ← coe_sum]
  rfl
theorem r98 : res_main_v98 V0 (ix3 e i k) = ((a.blk 512 e.val 512 1024).pr i k : EReal) := by
  pointwise [res_main_v98]
  rw [r94 h, r96 h, div_real _ _ (Blk.sm_pos _ _).ne']
  rfl
theorem r107 : res_main_v107 V0 (ix3 e i k) = ((a.blk 512 e.val 512 1024).dp i k : EReal) := by
  pointwise [res_main_v107]
  simp only [r106 h, r65 h, ← EReal.coe_mul, ← coe_sum]
  rfl
theorem r124 : res_main_v124 V0 (ix3 e i k) = ((a.blk 512 e.val 512 1024).ds i k : EReal) := by
  pointwise [res_main_v124]
  have hs := (Blk.sm_pos (a.blk 512 e.val 512 1024) i).ne'
  have e1 : (1 : EReal) = ((1 : ℝ) : EReal) := rfl
  simp only [Finset.univ_unique, Finset.sum_singleton, r107 h, r96 h, r94 h, e1, ← EReal.coe_mul, div_real _ _ hs, div_real _ _ (mul_ne_zero hs hs), lit_scale,
    ← coe_sum, ← EReal.coe_neg, ← EReal.coe_add]
  rw [Blk.ds_steps, r73_1 (a := a)]
  by_cases hv : (a.blk 512 e.val 512 1024).vis i k
  · rw [if_pos hv]; rfl
  · rw [if_neg hv, Blk.ds_zero _ _ _ hv]; rfl
theorem r126 (l : Fin 64) : res_main_v126 V0 (ix3 i e l) = ((a.blk 512 e.val 512 1024).dqr i ⟨l.val, by omega⟩ : EReal) := by
  pointwise [res_main_v126, res_main_v125]
  simp only [r124 h, r62 h _ e, ← EReal.coe_mul, ← coe_sum]
  rfl
theorem r127 (l : Fin 64) : res_main_v127 V0 (ix2 k l) = ((∑ e : Fin 16, (a.blk 512 e.val 512 1024).dkr k ⟨l.val, by omega⟩ : ℝ) : EReal) := by
  pointwise [res_main_v127, res_main_v125]
  simp only [r124 h, r52 h, ← EReal.coe_mul, ← coe_sum]
  exact congrArg Real.toEReal Finset.sum_comm

omit h in
theorem cmod (e : Fin 16) (l : Fin 256) : (col e l).val % 256 = l.val := congrArg Fin.val (col_mod e l)
omit h in
theorem hsub (j : Fin 128) : (hi j).val - 128 = j.val := by show 128 + j.val - 128 = _; omega
/-- The three results. -/
theorem ref_0 (x : S2048x4096.Idx → EReal) (hx : V0 (Proc.devRef .tc main_arg5) = x) :
    @Eq (S2048x4096.Idx → EReal) (val4 V0 (Proc.devRef .tc main_v169)) (rDq a 512 1024 x) := by
  refine (val4_main_v169 V0).trans ?_
  rw [hx]
  funext p
  obtain ⟨i, j, rfl⟩ : ∃ (i : Fin 2048) (j : Fin 4096), p = ix2 i j := ⟨p 0, p 1, (ix2_eta p).symm⟩
  obtain ⟨e, l, rfl⟩ := col_cases j
  by_cases h1 : i.val < 512
  · refine Eq.trans ?_ (rDq_out a 512 1024 x i (col e l) (by omega)).symm
    pointwise []
    exact dif_pos h1
  by_cases h2 : i.val - 512 < 512
  · obtain ⟨q, rfl⟩ : ∃ q : Fin 512, i = ⟨512 + q.val, (Nat.add_lt_add_left q.isLt 512).trans_le (by decide)⟩ := ⟨⟨i.val - 512, h2⟩, Fin.ext (by show i.val = 512 + (i.val - 512); omega)⟩
    refine Eq.trans ?_ (rDq_in a 512 1024 x ⟨512 + q.val, by omega⟩ e l ⟨by show 512 ≤ 512 + q.val; omega, by show 512 + q.val < 512 + 512; omega⟩).symm
    rcases lane_cases l with ⟨j, rfl⟩ | ⟨j, rfl⟩
    · rw [half_lo]
      pointwise []
      simp only [cmod, col_div, Nat.add_sub_cancel_left]
      refine (dif_pos j.isLt).trans ?_
      simp only [r124 h, r64 h, ← EReal.coe_mul, ← coe_sum]
      rfl
    · rw [half_hi]
      pointwise [res_main_v134, res_main_v135]
      simp only [cmod, col_div, Nat.add_sub_cancel_left, hsub]
      refine (dif_neg (by show ¬128 + j.val < 128; omega)).trans ?_
      exact Args.ropeT_groups a ((a.blk 512 e.val 512 1024).dqr q) (512 + q.val) (fun l => res_main_v126 V0 (ix3 q e l)) (fun l => res_main_v19 V0 (ix3 q 0 l))
        (fun l => res_main_v21 V0 (ix3 q 0 l)) (r126 h q e) (r19 h q) (r21 h q) j
  · refine Eq.trans ?_ (rDq_out a 512 1024 x i (col e l) (by omega)).symm
    pointwise []
    refine (dif_neg h1).trans ?_
    refine (dif_neg h2).trans ?_
    have e1 : 1024 + (i.val - 512 - 512) = i.val := by omega
    simp only [e1]
theorem ref_1 (x : S2048x4096.Idx → EReal) (hx : V0 (Proc.devRef .tc main_arg6) = x) :
    @Eq (S2048x4096.Idx → EReal) (val4 V0 (Proc.devRef .tc main_v173)) (rDkv a 512 1024 x) := by
  refine (val4_main_v173 V0).trans ?_
  rw [hx]
  funext p
  obtain ⟨i, j, rfl⟩ : ∃ (i : Fin 2048) (j : Fin 4096), p = ix2 i j := ⟨p 0, p 1, (ix2_eta p).symm⟩
  obtain ⟨e, l, rfl⟩ := col_cases j
  by_cases h1 : i.val < 1024
  · refine Eq.trans ?_ (rDkv_in a 512 1024 x i e l h1).symm
    rcases lane_cases l with ⟨j, rfl⟩ | ⟨j, rfl⟩
    · rw [half_lo]
      pointwise []
      simp only [cmod, col_div]
      refine (dif_pos h1).trans (congrArg (fun y : EReal => x (ix2 i (col e (lo j))) + y) ((dif_pos j.isLt).trans ?_))
      simp only [r124 h, r63 h, ← EReal.coe_mul, ← coe_sum]
      rfl
    · rw [half_hi]
      pointwise []
      simp only [cmod, col_div, hsub, Nat.add_sub_cancel_left]
      refine (dif_pos h1).trans (congrArg (fun y : EReal => x (ix2 i (col e (hi j))) + y) ((dif_neg (by show ¬128 + j.val < 128; omega)).trans ?_))
      simp only [r106 h, r98 h, ← EReal.coe_mul, ← coe_sum]
      exact congrArg Real.toEReal (Finset.sum_congr rfl fun q _ => mul_comm _ _)
  · refine Eq.trans ?_ (rDkv_out a 512 1024 x i (col e l) h1).symm
    pointwise []
    refine (dif_neg h1).trans ?_
    have e1 : 1024 + (i.val - 1024) = i.val := by omega
    simp only [e1]
theorem ref_2 (x : S2048x128.Idx → EReal) (hx : V0 (Proc.devRef .tc main_arg7) = x) :
    @Eq (S2048x128.Idx → EReal) (val4 V0 (Proc.devRef .tc main_v177)) (rDkp a 512 1024 x) := by
  refine (val4_main_v177 V0).trans ?_
  rw [hx]
  funext p
  obtain ⟨i, j, rfl⟩ : ∃ (i : Fin 2048) (j : Fin 128), p = ix2 i j := ⟨p 0, p 1, (ix2_eta p).symm⟩
  by_cases h1 : i.val < 1024
  · refine Eq.trans ?_ (rDkp_in a 512 1024 i x j h1).symm
    pointwise [res_main_v154, res_main_v155]
    refine (dif_pos h1).trans (congrArg (fun y : EReal => x (ix2 i j) + y) ?_)
    exact Args.ropeT_groups a (fun l => ∑ e : Fin 16, (a.blk 512 e.val 512 1024).dkr ⟨i.val, h1⟩ l) i.val (fun l => res_main_v127 V0 (ix2 ⟨i.val, h1⟩ l))
      (fun l => res_main_v22 V0 (ix2 ⟨i.val, h1⟩ l)) (fun l => res_main_v23 V0 (ix2 ⟨i.val, h1⟩ l)) (r127 h ⟨i.val, h1⟩) (r22 h ⟨i.val, h1⟩) (r23 h ⟨i.val, h1⟩) j
  · refine Eq.trans ?_ (rDkp_out a 512 1024 i x j h1).symm
    pointwise []
    refine (dif_neg h1).trans ?_
    have e1 : 1024 + (i.val - 1024) = i.val := by omega
    simp only [e1]

end Cert.Proof.At1

end
-- ==== Proof.At1Claim.lean ====
/- The claims about the attention's gradient for the second quarter of the queries. -/
module

public import proofs.«01_k».proof.Proof.Gen.At1
public import proofs.«01_k».proof.Proof.Gen.At1.Frame
public import proofs.«01_k».proof.Proof.AtPre
public import proofs.«01_k».proof.Proof.At1Arr
public import proofs.«01_k».proof.Proof.At1Ref

@[expose] public section

noncomputable section

namespace Cert.Proof.At1

open Idealize.ShloMosaic Idealize.ShloMosaic.TcCoe Idealize.SL.Sem Cert.Proof.At

/-- The kernel at the machine's floats terminates, keeps its arguments, and leaves every counter at zero. -/
theorem frame : Cert.quiescent_At1 (hAt1 := Cert.At1.Gen.facts) := fun m ρ _ => Cert.At1.Gen.frame m ρ
/-- So does the kernel over the extended reals. -/
theorem frame_ideal : Cert.quiescent_At1Ideal (hAt1Ideal := Cert.At1Ideal.Gen.facts) := fun m ρ _ => Cert.At1Ideal.Gen.frame m ρ
/-- So does the reference over the extended reals. -/
theorem frame_ref : Cert.quiescent_At1RefIdeal (hAt1RefIdeal := Cert.At1RefIdeal.Gen.facts) := fun m ρ _ =>
  (θ_run Cert.At1RefIdeal.defs _ _).mono
    (fun r h => ⟨fun c => (h c).2.2.2, sem_eq_zero_of_no_sems (by decide) r.2⟩)
    (Cert.At1RefIdeal.Value.run (F := Ideal) m ρ)
/-- No operation of the kernel is replaced. -/
theorem preserves : Cert.preserves_At1_At1Ideal := trivial
/-- The real numbers in a device's arguments. -/
abbrev args (m : (ℓ : Loc Cert.At1Ideal.nD Cert.At1Ideal.τ Cert.At1Ideal.sig) → Buf (Elt Ideal) ℓ) (c : Dev Cert.At1Ideal.nD) : Args :=
  argsOf (m ((c : Thread Cert.At1Ideal.nD Cert.At1Ideal.τ).loc Cert.At1Ideal.main_arg0)) (m ((c : Thread Cert.At1Ideal.nD Cert.At1Ideal.τ).loc Cert.At1Ideal.main_arg1))
    (m ((c : Thread Cert.At1Ideal.nD Cert.At1Ideal.τ).loc Cert.At1Ideal.main_arg2)) (m ((c : Thread Cert.At1Ideal.nD Cert.At1Ideal.τ).loc Cert.At1Ideal.main_arg3))
    (m ((c : Thread Cert.At1Ideal.nD Cert.At1Ideal.τ).loc Cert.At1Ideal.main_arg4))
/-- Kernel and reference end with the same three gradients, when every entry of the first three arguments and of the gradient coming in is a real number. -/
theorem algebraic : Cert.algebraic_At1Ideal_At1RefIdeal_pre_attn_finite (hAt1Ideal := Cert.At1Ideal.Gen.facts)
    (hAt1RefIdeal := Cert.At1RefIdeal.Gen.facts) (hPre_attn_finite := Cert.Pre_attn_finite.Gen.facts) := by
  intro m g m' g' hpre hargs
  have hA : ∀ c, HasArgs m c (args m c) := fun c => is_argsOf _ _ _ _ _ _ _ _ (congrFun (hpre c) ix0)
  refine ⟨fun c => rDq (args m c) 512 1024 (X5 m c), fun c => rDkv (args m c) 512 1024 (X6 m c),
    fun c => rDkp (args m c) 512 1024 (X7 m c),
    (θ_run Cert.At1Ideal.defs _ _).mono (fun r h c => ?_) (Cert.At1Ideal.Value.run_blocks m g),
    (θ_run Cert.At1RefIdeal.defs _ _).mono (fun r h c => ?_) (Cert.At1RefIdeal.Value.run (F := Ideal) m' g')⟩
  · obtain ⟨h0, h1, h2, e⟩ := h c
    exact ⟨h0.trans (final12 (hA c)), h1.trans (final13 (hA c)), h2.trans (final14 (hA c)), e⟩
  · obtain ⟨h0, h1, h2, e⟩ := h c
    obtain ⟨a0, a1, a2, a3, a4, a5, a6, a7⟩ := hargs c
    have hR : RefArgs (StableHlo.launchContents m' c) (args m c) := by
      obtain ⟨b0, b1, b2, b3, b4⟩ := hA c
      exact ⟨fun i j => (congrFun a0 _).trans (b0 i j), fun i j => (congrFun a1 _).trans (b1 i j),
        fun i j => (congrFun a2 _).trans (b2 i j), fun i => (congrFun a3 _).trans (b3 i),
        fun i j => (congrFun a4 _).trans (b4 i j)⟩
    exact ⟨h0.trans ((Cert.At1RefIdeal.Value.val4_main_v169 _).symm.trans (ref_0 hR _ a5)),
      h1.trans ((Cert.At1RefIdeal.Value.val4_main_v173 _).symm.trans (ref_1 hR _ a6)),
      h2.trans ((Cert.At1RefIdeal.Value.val4_main_v177 _).symm.trans (ref_2 hR _ a7)), e⟩

end Cert.Proof.At1

end
-- ==== Proof.AfMath.lean ====
/- One head's attention over the extended reals, and the bits of a causal mask: what the forward attention calls share. -/
module

public import proofs.«01_k».proof.Proof.AtArgs
public import proofs.«01_k».proof.Proof.Mm

@[expose] public section

set_option maxRecDepth 16384

noncomputable section

namespace Cert.Proof.Af

open Idealize.ShloMosaic Idealize.SL.Sem
open Cert.Proof.At (scale up dn freq)
open Cert.Proof.Mm (at2 at2_ix2)

/-- The first 32 lanes from 32 above, the others from 32 below. -/
def sw (x : Fin 128 → EReal) (j : Fin 128) : EReal := if j.val < 32 then x (up j) else x (dn j)
/-- The rotation of 64 lanes, padded to 128: `c` and `s` are the padded cosines and sines. -/
def rope (x c s : Fin 128 → EReal) (j : Fin 128) : EReal := x j * c j + sw x j * s j

/-- One head's attention: `R` queries, at the positions `pos`, and `K` keys; each has a part without positions, a part
    with positions before its rotation, and that rotation's padded cosines and sines. -/
structure Blk (R K : ℕ) where
  qn : Fin R → Fin 128 → EReal
  qp : Fin R → Fin 128 → EReal
  kn : Fin K → Fin 128 → EReal
  kp : Fin K → Fin 128 → EReal
  cq : Fin R → Fin 128 → EReal
  sq : Fin R → Fin 128 → EReal
  ck : Fin K → Fin 128 → EReal
  sk : Fin K → Fin 128 → EReal
  v : Fin K → Fin 128 → EReal
  pos : Fin R → ℕ

namespace Blk

variable {R K : ℕ} (B : Blk R K)

/-- The rotated queries and keys. -/
def qr (r : Fin R) : Fin 128 → EReal := rope (B.qp r) (B.cq r) (B.sq r)
def kr (k : Fin K) : Fin 128 → EReal := rope (B.kp k) (B.ck k) (B.sk k)
/-- The scores. -/
def sc (r : Fin R) (k : Fin K) : EReal := ((∑ x, B.qn r x * B.kn k x) + ∑ x, B.qr r x * B.kr k x) * (scale : EReal)
/-- The scores with what is not seen at minus infinity: blocks of 64, causal. -/
def msc (r : Fin R) (k : Fin K) : EReal := if k.val / 64 ≤ B.pos r / 64 then B.sc r k else ⊥
/-- A query's greatest score. -/
def mx (r : Fin R) : EReal := Finset.fold max ⊥ (B.msc r) Finset.univ
/-- The exponentials. -/
def ex (r : Fin R) (k : Fin K) : EReal := Ideal.exp (B.msc r k - B.mx r)
/-- The probabilities. -/
def pr (r : Fin R) (k : Fin K) : EReal := Ideal.div (B.ex r k) (∑ i, B.ex r i)
/-- A query's output: the values weighted by the probabilities. -/
def out (r : Fin R) (j : Fin 128) : EReal := ∑ k, B.pr r k * B.v k j

end Blk

/-- The arguments by row and column: the queries, the keys and values, the projection whose columns from 1024 are the
    keys' part with positions, and the positions. -/
structure Args where
  Q : ℕ → ℕ → EReal
  KV : ℕ → ℕ → EReal
  P : ℕ → ℕ → EReal
  pos : ℕ → BitVec 32

namespace Args

variable (a : Args)

/-- The rotation's angle, its cosine and its sine. -/
def ang (i : ℕ) (l : Fin 32) : EReal := FloatOps.sitofp (F := Ideal) .f32 (a.pos i) * freq l
def C (i : ℕ) (l : Fin 32) : EReal := Ideal.cos (a.ang i l)
def S (i : ℕ) (l : Fin 32) : EReal := Ideal.sin (a.ang i l)
/-- The cosines padded to 128 lanes. -/
def pc (i : ℕ) (j : Fin 128) : EReal :=
  if h : j.val < 32 then a.C i ⟨j.val, h⟩ else if h : j.val - 32 < 32 then a.C i ⟨j.val - 32, h⟩ else 0
/-- The sines padded to 128 lanes, the first 32 negated. -/
def ps (i : ℕ) (j : Fin 128) : EReal :=
  if h : j.val < 32 then -a.S i ⟨j.val, h⟩ else if h : j.val - 32 < 32 then a.S i ⟨j.val - 32, h⟩ else 0
/-- Head `h`: `R` queries from row `lo` on, and the first `K` keys. -/
def blk (lo h R K : ℕ) : Blk R K where
  qn r j := a.Q (lo + r.val) (256 * h + j.val)
  qp r j := a.Q (lo + r.val) (256 * h + 128 + j.val)
  kn k j := a.KV k.val (256 * h + j.val)
  kp k j := a.P k.val (1024 + j.val)
  cq r := a.pc (lo + r.val)
  sq r := a.ps (lo + r.val)
  ck k := a.pc k.val
  sk k := a.ps k.val
  v k j := a.KV k.val (256 * h + 128 + j.val)
  pos r := lo + r.val
/-- The argument arrays hold `a`. -/
structure Is (x0 x1 : (⟨2, ![2048, 4096]⟩ : Shape).Idx → EReal) (x2 : (⟨2, ![2048, 1152]⟩ : Shape).Idx → EReal)
    (x3 : (⟨1, ![2048]⟩ : Shape).Idx → BitVec 32) : Prop where
  h0 : ∀ i j, x0 (ix2 i j) = a.Q i.val j.val
  h1 : ∀ i j, x1 (ix2 i j) = a.KV i.val j.val
  h2 : ∀ i j, x2 (ix2 i j) = a.P i.val j.val
  h3 : ∀ i, x3 (ix1 i) = a.pos i.val
/-- The arguments that given arrays hold. -/
def of (x0 x1 : (⟨2, ![2048, 4096]⟩ : Shape).Idx → EReal) (x2 : (⟨2, ![2048, 1152]⟩ : Shape).Idx → EReal)
    (x3 : (⟨1, ![2048]⟩ : Shape).Idx → BitVec 32) : Args where
  Q := at2 x0
  KV := at2 x1
  P := at2 x2
  pos i := if h : i < 2048 then x3 (ix1 ⟨i, h⟩) else 0
theorem is_of (x0 x1 : (⟨2, ![2048, 4096]⟩ : Shape).Idx → EReal) (x2 : (⟨2, ![2048, 1152]⟩ : Shape).Idx → EReal)
    (x3 : (⟨1, ![2048]⟩ : Shape).Idx → BitVec 32) : (of x0 x1 x2 x3).Is x0 x1 x2 x3 :=
  ⟨at2_ix2 x0, at2_ix2 x1, at2_ix2 x2, fun i => by unfold of; dsimp only; rw [dif_pos i.isLt]⟩

variable {a}
theorem ang_at (b : BitVec 32) (i : ℕ) (hb : b = a.pos i) (l : Fin 32) : FloatOps.sitofp (F := Ideal) .f32 b * freq l = a.ang i l := by
  subst hb; rfl

variable (a) (x : Fin 128 → EReal) (i : ℕ) (l : Fin 32)
/-- The rotation by the groups of lanes. -/
theorem rope_0 : rope x (a.pc i) (a.ps i) ⟨l.val, by omega⟩ = x ⟨l.val, by omega⟩ * a.C i l - x ⟨32 + l.val, by omega⟩ * a.S i l := by
  have e : sw x ⟨l.val, by omega⟩ = x ⟨32 + l.val, by omega⟩ :=
    (if_pos l.isLt).trans (congrArg x (Fin.ext (by show (l.val + 128 - 96) % 128 = 32 + l.val; omega)))
  unfold rope pc ps
  rw [e, dif_pos l.isLt, dif_pos l.isLt, sub_eq_add_neg, mul_comm _ (-_), EReal.neg_mul, mul_comm _ (a.S i l)]
theorem rope_1 : rope x (a.pc i) (a.ps i) ⟨32 + l.val, by omega⟩ = x ⟨l.val, by omega⟩ * a.S i l + x ⟨32 + l.val, by omega⟩ * a.C i l := by
  have e : sw x ⟨32 + l.val, by omega⟩ = x ⟨l.val, by omega⟩ :=
    (if_neg (by show ¬32 + l.val < 32; omega)).trans (congrArg x (Fin.ext (by show (32 + l.val + 128 - 32) % 128 = l.val; omega)))
  have h1 : ¬32 + l.val < 32 := by omega
  have h2 : 32 + l.val - 32 < 32 := by omega
  have h3 : (⟨32 + l.val - 32, h2⟩ : Fin 32) = l := Fin.ext (Nat.add_sub_cancel_left ..)
  unfold rope pc ps
  rw [e, dif_neg h1, dif_neg h1, dif_pos h2, dif_pos h2, h3, add_comm]
theorem rope_2 (j : Fin 128) (h : 64 ≤ j.val) : rope x (a.pc i) (a.ps i) j = 0 := by
  unfold rope pc ps
  rw [dif_neg (by omega), dif_neg (by omega), dif_neg (by omega), dif_neg (by omega), mul_zero, mul_zero, add_zero]

end Args

/-- A sum over the lanes whose upper half is zero. -/
theorem sum_lanes (y : Fin 128 → EReal) (hy : ∀ j : Fin 128, 64 ≤ j.val → y j = 0) : ∑ j, y j = ∑ j : Fin 64, y ⟨j.val, by omega⟩ := by
  refine (Fin.sum_univ_add (a := 64) (b := 64) y).trans ?_
  rw [Finset.sum_eq_zero (s := Finset.univ) (f := fun i : Fin 64 => y (Fin.natAdd 64 i)) (fun i _ => hy _ (by simp)), add_zero]
  rfl

/-- The array with `x` outside the 512 rows from `lo` on, and there the outputs of these rows' queries against the first `K` keys. -/
def rO (a : Args) (lo K : ℕ) (x : (⟨2, ![2048, 2048]⟩ : Shape).Idx → EReal) : (⟨2, ![2048, 2048]⟩ : Shape).Idx → EReal := fun p =>
  if lo ≤ (p 0).val ∧ (p 0).val < lo + 512 then
    (a.blk (p 0).val ((p 1).val / 128) 1 K).out 0 ⟨(p 1).val % 128, Nat.mod_lt _ (by decide)⟩ else x p
/-- A block's output in it. -/
theorem rO_in (a : Args) (lo K : ℕ) (x : (⟨2, ![2048, 2048]⟩ : Shape).Idx → EReal) (p : (⟨2, ![2048, 2048]⟩ : Shape).Idx)
    {R lo' e : ℕ} (r : Fin R) (j : Fin 128) (h0 : (p 0).val = lo' + r.val) (h1 : (p 1).val = 128 * e + j.val)
    (hl : lo ≤ lo') (hR : lo' + R ≤ lo + 512) : rO a lo K x p = (a.blk lo' e R K).out r j := by
  have hr := r.isLt
  have hj := j.isLt
  have e1 : (p 1).val / 128 = e := by omega
  have e2 : (⟨(p 1).val % 128, Nat.mod_lt _ (by decide)⟩ : Fin 128) = j := Fin.ext (by show (p 1).val % 128 = j.val; omega)
  unfold rO
  rw [if_pos ⟨by omega, by omega⟩, e2, e1, h0]
  rfl

/-- An entry, by the values of its coordinates. -/
theorem ent {M N : ℕ} {x : (⟨2, ![M, N]⟩ : Shape).Idx → EReal} {f : ℕ → ℕ → EReal} (h : ∀ i j, x (ix2 i j) = f i.val j.val)
    (p : (⟨2, ![M, N]⟩ : Shape).Idx) {i j : ℕ} (hi : (p 0).val = i) (hj : (p 1).val = j) : x p = f i j := by
  subst hi hj
  exact (congrArg x (ix2_eta p).symm).trans (h (p 0) (p 1))
theorem ent' {M N : ℕ} {x : (⟨2, ![M, N]⟩ : Shape).Idx → EReal} {f : ℕ → Fin N → EReal} (h : ∀ i j, x (ix2 i j) = f i.val j)
    (p : (⟨2, ![M, N]⟩ : Shape).Idx) {i : ℕ} {j : Fin N} (hi : (p 0).val = i) (hj : (p 1).val = j.val) : x p = f i j := by
  obtain rfl : p 1 = j := Fin.ext hj
  subst hi
  exact (congrArg x (ix2_eta p).symm).trans (h (p 0) (p 1))

/-- The nine blocks a grid point reads hold the numbers of `B`, whose queries start at row `lo`. -/
structure Holds {K : ℕ} (lo : ℕ) (x0 x1 : FVec Ideal ⟨2, ![256, 128]⟩ .f32) (x2 x3 : FVec Ideal ⟨2, ![K, 128]⟩ .f32)
    (x4 x5 : FVec Ideal ⟨2, ![256, 128]⟩ .f32) (x6 x7 x8 : FVec Ideal ⟨2, ![K, 128]⟩ .f32) (B : Blk 256 K) : Prop where
  h0 : ∀ r j, x0 (ix2 r j) = B.qn r j
  h1 : ∀ r j, x1 (ix2 r j) = B.qp r j
  h2 : ∀ r j, x2 (ix2 r j) = B.kn r j
  h3 : ∀ r j, x3 (ix2 r j) = B.kp r j
  h4 : ∀ r j, x4 (ix2 r j) = B.cq r j
  h5 : ∀ r j, x5 (ix2 r j) = B.sq r j
  h6 : ∀ r j, x6 (ix2 r j) = B.ck r j
  h7 : ∀ r j, x7 (ix2 r j) = B.sk r j
  h8 : ∀ r j, x8 (ix2 r j) = B.v r j
  hp : ∀ r, B.pos r = lo + r.val
  hl : lo + 256 ≤ 2048

theorem lt32 : ∀ j : Fin 128, IntOp.cmpi CmpIPredicate.slt (BitVec.ofNat 32 j.val) 32#32 = if j.val < 32 then 1#1 else 0#1 := by
  decide +kernel
/-- The choice between the two rotated rows. -/
theorem sel_rot (x : Fin 128 → EReal) (j : Fin 128) :
    Scalar.select (IntOp.cmpi CmpIPredicate.slt (BitVec.ofNat 32 j.val) 32#32) (x (up j)) (x (dn j)) = sw x j := by
  rw [lt32]; unfold sw
  by_cases hj : j.val < 32 <;> simp [hj, Scalar.select]
/-- The floor division by 64, as the kernel spells it. -/
theorem kfloor : ∀ i : Fin 2048, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by decide +kernel
/-- The floor division by 64, as the host spells it. -/
theorem hfloor : ∀ i : Fin 2048, Scalar.select
      (IntOp.andi
        (IntOp.cmpi CmpIPredicate.ne
          (if BitVec.ofNat 32 i.val = 0 then (0 : BitVec 32) else if (BitVec.ofNat 32 i.val).msb = true then -1 else 1)
          (if 64#32 = 0 then 0 else if BitVec.msb 64#32 = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) =
    BitVec.ofNat 32 (i.val / 64) := by decide +kernel
/-- Comparing two numbers below 32. -/
theorem le32 : ∀ p q : Fin 32, IntOp.cmpi CmpIPredicate.sle (BitVec.ofNat 32 p.val) (BitVec.ofNat 32 q.val) = if p.val ≤ q.val then 1#1 else 0#1 := by
  decide +kernel
/-- A masked entry. -/
theorem sel_le {i k : ℕ} (hi : i < 2048) (hk : k < 2048) (x : EReal) :
    Scalar.select (IntOp.cmpi CmpIPredicate.sle (BitVec.ofNat 32 (k / 64)) (BitVec.ofNat 32 (i / 64))) x ⊥ = if k / 64 ≤ i / 64 then x else ⊥ := by
  rw [le32 ⟨k / 64, by omega⟩ ⟨i / 64, by omega⟩]
  by_cases h : k / 64 ≤ i / 64 <;> simp [h, Scalar.select]
/-- The 64 lanes that the rotation mixes, in two groups. -/
theorem lane_two (l : Fin 64) : (∃ l' : Fin 32, l = ⟨l'.val, by omega⟩) ∨ ∃ l' : Fin 32, l = ⟨32 + l'.val, by omega⟩ :=
  if h : l.val < 32 then .inl ⟨⟨l.val, h⟩, rfl⟩ else .inr ⟨⟨l.val - 32, by omega⟩, Fin.ext (by show l.val = 32 + (l.val - 32); omega)⟩

end Cert.Proof.Af

end
-- ==== Proof.Af1Val.lean ====
/- The forward attention call of the second quarter of the queries: what its result array holds when the arguments hold
   given numbers. -/
module

public import proofs.«01_k».proof.Proof.Gen.Af1Ideal.Value
public import proofs.«01_k».proof.Proof.AfMath
public import Idealize.ShloMosaic.Lib.Pointwise
public import Idealize.ShloMosaic.Lib.Pipeline.Value

@[expose] public section

set_option maxRecDepth 16384

noncomputable section

namespace Cert.Proof.Af1

open Idealize.ShloMosaic Idealize.ShloMosaic.TcCoe Idealize.SL.Sem Cert.Af1Ideal Cert.Af1Ideal.Gen Cert.Af1Ideal.Value Cert.Proof.Af
open Cert.Proof.At (scale lit_scale lit_ninf)
open Cert.Proof.Mm (hz2)

section
variable {q : ℕ} {x0 x1 : Vec Ideal S256x128 .f32} {x2 x3 : Vec Ideal S1024x128 .f32} {x4 x5 : Vec Ideal S256x128 .f32}
  {x6 x7 x8 : Vec Ideal S1024x128 .f32} {B : Blk 256 1024} (H : Holds (512 + 256 * q) x0 x1 x2 x3 x4 x5 x6 x7 x8 B)
include H

theorem pay2_eq (r : Fin 256) (j : Fin 128) : k0_pay2 (F := Ideal) x1 x4 x5 (ix2 r j) = B.qr r j := by
  pointwise [k0_pay2]
  rw [sel_rot (fun k => x1 (ix2 r k)), H.h4, H.h5, funext (H.h1 r), H.h1]
  rfl
theorem pay3_eq (k : Fin 1024) (j : Fin 128) : k0_pay3 (F := Ideal) x3 x6 x7 (ix2 k j) = B.kr k j := by
  pointwise [k0_pay3]
  rw [sel_rot (fun i => x3 (ix2 k i)), H.h6, H.h7, funext (H.h3 k), H.h3]
  rfl
/-- The scores. -/
theorem pay5_eq (r : Fin 256) (k : Fin 1024) :
    k0_pay5 (F := Ideal) (k0_pay2 x1 x4 x5) (k0_pay3 x3 x6 x7) (k0_pay4 x0 x2) (ix2 r k) = B.sc r k := by
  pointwise [k0_pay5, k0_pay4]
  simp only [pay2_eq H, pay3_eq H, H.h0, H.h2, lit_scale]
  rfl
theorem pay6_eq (hq : q < 2) (r : Fin 256) (k : Fin 1024) : k0_pay6 (BitVec.ofNat 32 q) (ix2 r k) = BitVec.ofNat 32 (B.pos r) := by
  pointwise [k0_pay6]
  rw [H.hp]
  interval_cases q <;> revert r <;> decide +kernel
omit H in
theorem pay7_eq (r : Fin 256) (k : Fin 1024) : k0_pay7 (ix2 r k) = BitVec.ofNat 32 (k.val / 64) := by
  pointwise [k0_pay7]
  exact kfloor ⟨k.val, by omega⟩
/-- The block a point stores. -/
theorem pay1_eq (hq : q < 2) (r : Fin 256) (j : Fin 128) :
    k0_pay1 (F := Ideal) (k0_pay5 (k0_pay2 x1 x4 x5) (k0_pay3 x3 x6 x7) (k0_pay4 x0 x2)) (k0_pay6 (BitVec.ofNat 32 q)) k0_pay7 64#32
      (k0_pay8 (BitVec.ofNat 32 q)) (k0_pay9 (BitVec.ofNat 32 q)) (Scalar.extui (Scalar.cmpi CmpIPredicate.sgt 64#32 0#32)) x8 (ix2 r j) = B.out r j := by
  have hl : B.pos r < 2048 := by have := H.hp r; have := H.hl; omega
  pointwise [k0_pay1, k0_pay8, k0_pay9]
  simp only [pay6_eq H hq, pay7_eq, pay5_eq H, lit_ninf, kfloor ⟨B.pos r, hl⟩]
  have e (k : Fin 1024) : Scalar.select (IntOp.cmpi CmpIPredicate.sle (BitVec.ofNat 32 (k.val / 64)) (BitVec.ofNat 32 (B.pos r / 64))) (B.sc r k) ⊥ = B.msc r k :=
    sel_le hl (by omega) _
  simp only [e, H.h8]
  rfl
end

theorem coord1 : ∀ t : Fin cfg0.N, (grid0.coords t 1).val = t.val % 2 := (by decide +kernel : ∀ t : Fin grid0.N, (grid0.coords t 1).val = t.val % 2)

variable (m : (ℓ : Loc nD τ sig) → Buf (Elt Ideal) ℓ) (c : Dev nD)

/-- The launch memory of one device holds the arguments `a`. -/
abbrev HasArgs (a : Args) : Prop :=
  a.Is (m ((c : Thread nD τ).loc main_arg0)) (m ((c : Thread nD τ).loc main_arg1)) (m ((c : Thread nD τ).loc main_arg2))
    (m ((c : Thread nD τ).loc main_arg3))
/-- What the result array held before the launch. -/
abbrev X4 : S2048x2048.Idx → EReal := m ((c : Thread nD τ).loc main_arg4)
/-- What a point leaves in its block. -/
theorem out_at (t : Fin cfg0.N) {B : Blk 256 1024} (H : Holds (512 + 256 * (t.val % 2)) (iblk m c 0 t) (iblk m c 1 t) (iblk m c 2 t) (iblk m c 3 t)
    (iblk m c 4 t) (iblk m c 5 t) (iblk m c 6 t) (iblk m c 7 t) (iblk m c 8 t) B) (r : Fin 256) (j : Fin 128) :
    (outsAt0 m c t : Vec Ideal S256x128 .bf16) (ix2 r j) = B.out r j := by
  unfold outsAt0 out0_A_9
  rw [View.read_writes_eq_canon _ _ _ (fun _ => cover0_A_9 ..)]
  unfold kernelRun0_A; dsimp only
  rw [View.canon_unit_zero hz2]
  sl_unfold_run_names
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    View.ld_unit_zero (S := S256x128) hz2, View.ld_unit_zero (S := S1024x128) hz2]
  rw [coord1]
  exact pay1_eq H (Nat.mod_lt _ (by decide)) r j

/-- The tables are set side by side before the launch. -/
theorem V_v19 : V m c main_v19 = concatenate S2048x128 1 [⟨S2048x32, V m c main_v16⟩, ⟨S2048x32, V m c main_v16⟩, ⟨S2048x64, V m c main_v18⟩]
    concatenates_S2048x32_S2048x32_S2048x64_S2048x128_d1 := by rfl
theorem V_v21 : V m c main_v21 = concatenate S2048x128 1 [⟨S2048x32, V m c main_v20⟩, ⟨S2048x32, V m c main_v17⟩, ⟨S2048x64, V m c main_v18⟩]
    concatenates_S2048x32_S2048x32_S2048x64_S2048x128_d1 := by rfl
theorem V_v18 : V m c main_v18 = broadcastInDim S2048x64 ![] bcast_S_S2048x64 (constant (F := Ideal) S_ .f32 0x00000000#32) := by
  show StableHlo.after hostOps0 _ _ = _
  after_results; try rfl
/-- The angles. -/
def angT : FVec Ideal S2048x32 .f32 := mulf (broadcastInDim S2048x32 ![0, 1] bcast_S2048x1_S2048x32_0_1 (broadcastInDim S2048x1 ![0] bcast_S2048_S2048x1_0 (sitofp .f32 (m ((c : Thread nD τ).loc main_arg3) : IVec S2048 32)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
theorem V_v16 : V m c main_v16 = Host.cos (angT m c) := by
  show StableHlo.after hostOps0 _ _ = _
  after_results; try rfl
theorem V_v17 : V m c main_v17 = Host.sin (angT m c) := by
  show StableHlo.after hostOps0 _ _ = _
  after_results; try rfl
theorem V_v20 : V m c main_v20 = Host.negf (Host.sin (angT m c)) := by
  show StableHlo.after hostOps0 _ _ = _
  after_results; try rfl
theorem V_prev : V m c main_v22 = X4 m c := by
  show StableHlo.after hostOps0 _ _ = _
  after_results; try rfl

variable {m c} {a : Args} (h : HasArgs m c a)
include h

theorem angT_at (i : Fin 2048) (l : Fin 32) : angT m c (ix2 i l) = a.ang i.val l := by
  pointwise [angT]
  exact Args.ang_at _ _ (h.h3 i) l
theorem v19_at (i : Fin 2048) (j : Fin 128) : (V m c main_v19 : Vec Ideal S2048x128 .f32) (ix2 i j) = a.pc i.val j := by
  rw [V_v19, V_v16, V_v18]
  pointwise []
  simp only [angT_at h]
  unfold Args.pc
  rfl
theorem v21_at (i : Fin 2048) (j : Fin 128) : (V m c main_v21 : Vec Ideal S2048x128 .f32) (ix2 i j) = a.ps i.val j := by
  rw [V_v21, V_v20, V_v17, V_v18]
  pointwise []
  simp only [angT_at h]
  unfold Args.ps
  rfl

omit h
theorem idx0 : ∀ t : Fin cfg0.N, win0_0.index t 0 = 2 + t.val % 2 ∧ win0_0.index t 1 = 2 * (t.val / 2) := (by decide +kernel : ∀ t : Fin grid0.N, win0_0.index t 0 = 2 + t.val % 2 ∧ win0_0.index t 1 = 2 * (t.val / 2))
theorem idx1 : ∀ t : Fin cfg0.N, win0_1.index t 0 = 2 + t.val % 2 ∧ win0_1.index t 1 = 2 * (t.val / 2) + 1 := (by decide +kernel : ∀ t : Fin grid0.N, win0_1.index t 0 = 2 + t.val % 2 ∧ win0_1.index t 1 = 2 * (t.val / 2) + 1)
theorem idx2 : ∀ t : Fin cfg0.N, win0_2.index t 0 = 0 ∧ win0_2.index t 1 = 2 * (t.val / 2) := (by decide +kernel : ∀ t : Fin grid0.N, win0_2.index t 0 = 0 ∧ win0_2.index t 1 = 2 * (t.val / 2))
theorem idx3 : ∀ t : Fin cfg0.N, win0_3.index t 0 = 0 ∧ win0_3.index t 1 = 8 := (by decide +kernel : ∀ t : Fin grid0.N, win0_3.index t 0 = 0 ∧ win0_3.index t 1 = 8)
theorem idx4 : ∀ t : Fin cfg0.N, win0_4.index t 0 = 2 + t.val % 2 ∧ win0_4.index t 1 = 0 := (by decide +kernel : ∀ t : Fin grid0.N, win0_4.index t 0 = 2 + t.val % 2 ∧ win0_4.index t 1 = 0)
theorem idx5 : ∀ t : Fin cfg0.N, win0_5.index t 0 = 2 + t.val % 2 ∧ win0_5.index t 1 = 0 := (by decide +kernel : ∀ t : Fin grid0.N, win0_5.index t 0 = 2 + t.val % 2 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 2 * (t.val / 2) + 1 := (by decide +kernel : ∀ t : Fin grid0.N, win0_8.index t 0 = 0 ∧ win0_8.index t 1 = 2 * (t.val / 2) + 1)
theorem idx9 : ∀ t : Fin cfg0.N, win0_9.index t 0 = 2 + t.val % 2 ∧ win0_9.index t 1 = t.val / 2 := (by decide +kernel : ∀ t : Fin grid0.N, win0_9.index t 0 = 2 + t.val % 2 ∧ win0_9.index t 1 = t.val / 2)
theorem rd0 (t : Fin cfg0.N) (r : Fin 256) (j : Fin 128) : ∃ p : S2048x4096.Idx, (p 0).val = 512 + 256 * (t.val % 2) + r.val ∧ (p 1).val = 256 * (t.val / 2) + j.val ∧
    (iblk m c 0 t : Vec Ideal S256x128 .f32) (ix2 r j) = (V m c main_arg0 : Vec Ideal S2048x4096 .f32) p := by
  refine ⟨?p, ?_, ?_, ?e⟩
  case e => unfold iblk; rw [View.read_apply]; rfl
  · show win0_0.index t 0 * 256 + 1 * r.val = _; rw [(idx0 t).1]; omega
  · show win0_0.index t 1 * 128 + 1 * j.val = _; rw [(idx0 t).2]; omega
theorem rd1 (t : Fin cfg0.N) (r : Fin 256) (j : Fin 128) : ∃ p : S2048x4096.Idx, (p 0).val = 512 + 256 * (t.val % 2) + r.val ∧ (p 1).val = 256 * (t.val / 2) + 128 + j.val ∧
    (iblk m c 1 t : Vec Ideal S256x128 .f32) (ix2 r j) = (V m c main_arg0 : Vec Ideal S2048x4096 .f32) p := by
  refine ⟨?p, ?_, ?_, ?e⟩
  case e => unfold iblk; rw [View.read_apply]; rfl
  · show win0_1.index t 0 * 256 + 1 * r.val = _; rw [(idx1 t).1]; omega
  · show win0_1.index t 1 * 128 + 1 * j.val = _; rw [(idx1 t).2]; omega
theorem rd2 (t : Fin cfg0.N) (r : Fin 1024) (j : Fin 128) : ∃ p : S2048x4096.Idx, (p 0).val = r.val ∧ (p 1).val = 256 * (t.val / 2) + j.val ∧
    (iblk m c 2 t : Vec Ideal S1024x128 .f32) (ix2 r j) = (V m c main_arg1 : Vec Ideal S2048x4096 .f32) p := by
  refine ⟨?p, ?_, ?_, ?e⟩
  case e => unfold iblk; rw [View.read_apply]; rfl
  · show win0_2.index t 0 * 1024 + 1 * r.val = _; rw [(idx2 t).1]; omega
  · show win0_2.index t 1 * 128 + 1 * j.val = _; rw [(idx2 t).2]; omega
theorem rd3 (t : Fin cfg0.N) (r : Fin 1024) (j : Fin 128) : ∃ p : S2048x1152.Idx, (p 0).val = r.val ∧ (p 1).val = 1024 + j.val ∧
    (iblk m c 3 t : Vec Ideal S1024x128 .f32) (ix2 r j) = (V m c main_arg2 : Vec Ideal S2048x1152 .f32) p := by
  refine ⟨?p, ?_, ?_, ?e⟩
  case e => unfold iblk; rw [View.read_apply]; rfl
  · show win0_3.index t 0 * 1024 + 1 * r.val = _; rw [(idx3 t).1]; omega
  · show win0_3.index t 1 * 128 + 1 * j.val = _; rw [(idx3 t).2]; omega
theorem rd4 (t : Fin cfg0.N) (r : Fin 256) (j : Fin 128) : ∃ p : S2048x128.Idx, (p 0).val = 512 + 256 * (t.val % 2) + r.val ∧ (p 1).val = j.val ∧
    (iblk m c 4 t : Vec Ideal S256x128 .f32) (ix2 r j) = (V m c main_v19 : Vec Ideal S2048x128 .f32) p := by
  refine ⟨?p, ?_, ?_, ?e⟩
  case e => unfold iblk; rw [View.read_apply]; rfl
  · show win0_4.index t 0 * 256 + 1 * r.val = _; rw [(idx4 t).1]; omega
  · show win0_4.index t 1 * 128 + 1 * j.val = _; rw [(idx4 t).2]; omega
theorem rd5 (t : Fin cfg0.N) (r : Fin 256) (j : Fin 128) : ∃ p : S2048x128.Idx, (p 0).val = 512 + 256 * (t.val % 2) + r.val ∧ (p 1).val = j.val ∧
    (iblk m c 5 t : Vec Ideal S256x128 .f32) (ix2 r j) = (V m c main_v21 : Vec Ideal S2048x128 .f32) p := by
  refine ⟨?p, ?_, ?_, ?e⟩
  case e => unfold iblk; rw [View.read_apply]; rfl
  · show win0_5.index t 0 * 256 + 1 * r.val = _; rw [(idx5 t).1]; omega
  · show win0_5.index t 1 * 128 + 1 * j.val = _; rw [(idx5 t).2]; omega
theorem rd6 (t : Fin cfg0.N) (r : Fin 1024) (j : Fin 128) : ∃ p : S2048x128.Idx, (p 0).val = r.val ∧ (p 1).val = j.val ∧
    (iblk m c 6 t : Vec Ideal S1024x128 .f32) (ix2 r j) = (V m c main_v19 : Vec Ideal S2048x128 .f32) p := by
  refine ⟨?p, ?_, ?_, ?e⟩
  case e => unfold iblk; rw [View.read_apply]; rfl
  · show win0_6.index t 0 * 1024 + 1 * r.val = _; rw [(idx6 t).1]; omega
  · show win0_6.index t 1 * 128 + 1 * j.val = _; rw [(idx6 t).2]; omega
theorem rd7 (t : Fin cfg0.N) (r : Fin 1024) (j : Fin 128) : ∃ p : S2048x128.Idx, (p 0).val = r.val ∧ (p 1).val = j.val ∧
    (iblk m c 7 t : Vec Ideal S1024x128 .f32) (ix2 r j) = (V m c main_v21 : Vec Ideal S2048x128 .f32) p := by
  refine ⟨?p, ?_, ?_, ?e⟩
  case e => unfold iblk; rw [View.read_apply]; rfl
  · show win0_7.index t 0 * 1024 + 1 * r.val = _; rw [(idx7 t).1]; omega
  · show win0_7.index t 1 * 128 + 1 * j.val = _; rw [(idx7 t).2]; omega
theorem rd8 (t : Fin cfg0.N) (r : Fin 1024) (j : Fin 128) : ∃ p : S2048x4096.Idx, (p 0).val = r.val ∧ (p 1).val = 256 * (t.val / 2) + 128 + j.val ∧
    (iblk m c 8 t : Vec Ideal S1024x128 .f32) (ix2 r j) = (V m c main_arg1 : Vec Ideal S2048x4096 .f32) p := by
  refine ⟨?p, ?_, ?_, ?e⟩
  case e => unfold iblk; rw [View.read_apply]; rfl
  · show win0_8.index t 0 * 1024 + 1 * r.val = _; rw [(idx8 t).1]; omega
  · show win0_8.index t 1 * 128 + 1 * j.val = _; rw [(idx8 t).2]; omega
include h

/-- The blocks a point reads hold its head's numbers. -/
theorem holds (t : Fin cfg0.N) : Holds (512 + 256 * (t.val % 2)) (iblk m c 0 t) (iblk m c 1 t) (iblk m c 2 t) (iblk m c 3 t)
    (iblk m c 4 t) (iblk m c 5 t) (iblk m c 6 t) (iblk m c 7 t) (iblk m c 8 t) (a.blk (512 + 256 * (t.val % 2)) (t.val / 2) 256 1024) := by
  have hN : t.val < 32 := t.isLt.trans_eq N_0
  refine ⟨?_, ?_, ?_, ?_, ?_, ?_, ?_, ?_, ?_, fun r => rfl, by omega⟩
  · intro r j
    obtain ⟨p, h0, h1, e⟩ := rd0 (m := m) (c := c) t r j
    exact e.trans ((congrFun (V_main_arg0 m c) p).trans (ent h.h0 p h0 h1))
  · intro r j
    obtain ⟨p, h0, h1, e⟩ := rd1 (m := m) (c := c) t r j
    exact e.trans ((congrFun (V_main_arg0 m c) p).trans (ent h.h0 p h0 h1))
  · intro r j
    obtain ⟨p, h0, h1, e⟩ := rd2 (m := m) (c := c) t r j
    exact e.trans ((congrFun (V_main_arg1 m c) p).trans (ent h.h1 p h0 h1))
  · intro r j
    obtain ⟨p, h0, h1, e⟩ := rd3 (m := m) (c := c) t r j
    exact e.trans ((congrFun (V_main_arg2 m c) p).trans (ent h.h2 p h0 h1))
  · intro r j
    obtain ⟨p, h0, h1, e⟩ := rd4 (m := m) (c := c) t r j
    exact e.trans (ent' (v19_at h) p h0 h1)
  · intro r j
    obtain ⟨p, h0, h1, e⟩ := rd5 (m := m) (c := c) t r j
    exact e.trans (ent' (v21_at h) p h0 h1)
  · intro r j
    obtain ⟨p, h0, h1, e⟩ := rd6 (m := m) (c := c) t r j
    exact e.trans (ent' (v19_at h) p h0 h1)
  · intro r j
    obtain ⟨p, h0, h1, e⟩ := rd7 (m := m) (c := c) t r j
    exact e.trans (ent' (v21_at h) p h0 h1)
  · intro r j
    obtain ⟨p, h0, h1, e⟩ := rd8 (m := m) (c := c) t r j
    exact e.trans ((congrFun (V_main_arg1 m c) p).trans (ent h.h1 p h0 h1))
theorem flushed_O (t : Fin cfg0.N) (hf : (cfg0.win 9).flush t = true) :
    (dats m 0 c).flushed 9 t = ((cfg0.win 9).blk t).view.read (Elt Ideal) (rO a 512 1024 (X4 m c)) := by
  have hN : t.val < 32 := t.isLt.trans_eq N_0
  rw [flushed9]
  funext p
  obtain ⟨r, j, rfl⟩ : ∃ (r : Fin 256) (j : Fin 128), p = ix2 r j := ⟨p 0, p 1, (ix2_eta p).symm⟩
  rw [View.read_apply]
  refine (out_at m c t (holds h t) r j).trans (rO_in a 512 1024 (X4 m c) (((cfg0.win 9).blk t).view.emb (ix2 r j)) r j ?_ ?_ (by omega) (by omega)).symm
  · show win0_9.index t 0 * 256 + 1 * r.val = _; rw [(idx9 t).1]; omega
  · show win0_9.index t 1 * 128 + 1 * j.val = _; rw [(idx9 t).2]; omega
theorem final : (dats m 0 c).arrAt 9 cfg0.N = rO a 512 1024 (X4 m c) := by
  funext i
  rw [(dats m 0 c).arrAt_eq_piecewise 9 _ (flushed_O h) i]
  split
  · rfl
  · next hno =>
    rw [A_eq]
    refine (congrFun (V_prev m c) i).trans (Eq.symm (if_neg fun hL : 512 ≤ (i 0).val ∧ (i 0).val < 512 + 512 => hno ?_))
    have hN : cfg0.N = 32 := N_0
    have hi1 : (i 1).val < 2048 := (i 1).isLt
    obtain ⟨t, ht⟩ := Mm.fin_of (show 2 * ((i 1).val / 128) + ((i 0).val - 512) / 256 < cfg0.N by omega)
    refine ⟨t, flush0_9 t, ?_⟩
    show i ∈ ((View.whole main_v22).slice (win0_9.rect t)).set
    rw [View.set_slice_whole, Rect.mem_set_unit]
    intro q
    match q with
    | ⟨0, _⟩ => exact Mm.in_blk 256 (i 0).val (idx9 t).1 (by omega)
    | ⟨1, _⟩ => exact Mm.in_blk 128 (i 1).val (idx9 t).2 (by omega)

end Cert.Proof.Af1

end
-- ==== Proof.Af1Ref.lean ====
/- The forward attention of the second quarter of the queries as the reference computes it. -/
module

public import proofs.«01_k».proof.Proof.AfMath
public import proofs.«01_k».proof.Proof.Gen.Af1RefIdeal.Run

@[expose] public section

set_option maxRecDepth 16384

noncomputable section

namespace Cert.Proof.Af1

open Idealize.ShloMosaic Idealize.SL.Sem Cert.Af1RefIdeal Cert.Af1RefIdeal.Gen Cert.Af1RefIdeal.Value Cert.Proof.Af
open Cert.Proof.At (scale lit_scale lit_ninf)

/-- The angles. -/
def ang (x3 : IVec S2048 32) : FVec Ideal S2048x32 .f32 := mulf (broadcastInDim S2048x32 ![0, 1] bcast_S2048x1_S2048x32_0_1 (broadcastInDim S2048x1 ![0] bcast_S2048_S2048x1_0 (sitofp .f32 x3))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
/-- The queries by heads. -/
def qh (x0 : FVec Ideal S2048x4096 .f32) : FVec Ideal S512x16x256 .f32 := (shapeCast S512x16x256 (extractStridedSlice S512x4096 ![512, 0] x0 slices_S2048x4096_S512x4096_512_0) shapeCasts_S512x4096_S512x16x256)
/-- The keys and values by heads. -/
def kvh (x1 : FVec Ideal S2048x4096 .f32) : FVec Ideal S1024x16x256 .f32 := (shapeCast S1024x16x256 (extractStridedSlice S1024x4096 ![0, 0] x1 slices_S2048x4096_S1024x4096_0_0) shapeCasts_S1024x4096_S1024x16x256)
/-- The two halves of the queries' part with positions. -/
def q1 (q : FVec Ideal S512x16x256 .f32) : FVec Ideal S512x16x32 .f32 := extractStridedSlice S512x16x32 ![0, 0, 0] (extractStridedSlice S512x16x64 ![0, 0, 128] q slices_S512x16x256_S512x16x64_0_0_128) slices_S512x16x64_S512x16x32_0_0_0
def q2 (q : FVec Ideal S512x16x256 .f32) : FVec Ideal S512x16x32 .f32 := extractStridedSlice S512x16x32 ![0, 0, 32] (extractStridedSlice S512x16x64 ![0, 0, 128] q slices_S512x16x256_S512x16x64_0_0_128) slices_S512x16x64_S512x16x32_0_0_32
/-- The rotated queries. -/
def qrot (A : FVec Ideal S2048x32 .f32) (a b : FVec Ideal S512x16x32 .f32) : FVec Ideal S512x16x64 .f32 :=
  concatenate S512x16x64 2 [⟨S512x16x32, subf (mulf a (broadcastInDim S512x16x32 ![0, 1, 2] bcast_S512x1x32_S512x16x32_0_1_2 (broadcastInDim S512x1x32 ![0, 2] bcast_S512x32_S512x1x32_0_2 (extractStridedSlice S512x32 ![512, 0] (Host.cos A) slices_S2048x32_S512x32_512_0)))) (mulf b (broadcastInDim S512x16x32 ![0, 1, 2] bcast_S512x1x32_S512x16x32_0_1_2 (broadcastInDim S512x1x32 ![0, 2] bcast_S512x32_S512x1x32_0_2 (extractStridedSlice S512x32 ![512, 0] (Host.sin A) slices_S2048x32_S512x32_512_0))))⟩,
    ⟨S512x16x32, addf (mulf a (broadcastInDim S512x16x32 ![0, 1, 2] bcast_S512x1x32_S512x16x32_0_1_2 (broadcastInDim S512x1x32 ![0, 2] bcast_S512x32_S512x1x32_0_2 (extractStridedSlice S512x32 ![512, 0] (Host.sin A) slices_S2048x32_S512x32_512_0)))) (mulf b (broadcastInDim S512x16x32 ![0, 1, 2] bcast_S512x1x32_S512x16x32_0_1_2 (broadcastInDim S512x1x32 ![0, 2] bcast_S512x32_S512x1x32_0_2 (extractStridedSlice S512x32 ![512, 0] (Host.cos A) slices_S2048x32_S512x32_512_0))))⟩] concatenates_S512x16x32_S512x16x32_S512x16x64_d2
/-- The two halves of the keys' part with positions. -/
def k1 (x2 : FVec Ideal S2048x1152 .f32) : FVec Ideal S1024x32 .f32 := extractStridedSlice S1024x32 ![0, 0] (extractStridedSlice S1024x64 ![0, 1024] x2 slices_S2048x1152_S1024x64_0_1024) slices_S1024x64_S1024x32_0_0
def k2 (x2 : FVec Ideal S2048x1152 .f32) : FVec Ideal S1024x32 .f32 := extractStridedSlice S1024x32 ![0, 32] (extractStridedSlice S1024x64 ![0, 1024] x2 slices_S2048x1152_S1024x64_0_1024) slices_S1024x64_S1024x32_0_32
/-- The rotated keys. -/
def krot (A : FVec Ideal S2048x32 .f32) (a b : FVec Ideal S1024x32 .f32) : FVec Ideal S1024x64 .f32 :=
  concatenate S1024x64 1 [⟨S1024x32, subf (mulf a (extractStridedSlice S1024x32 ![0, 0] (Host.cos A) slices_S2048x32_S1024x32_0_0)) (mulf b (extractStridedSlice S1024x32 ![0, 0] (Host.sin A) slices_S2048x32_S1024x32_0_0))⟩,
    ⟨S1024x32, addf (mulf a (extractStridedSlice S1024x32 ![0, 0] (Host.sin A) slices_S2048x32_S1024x32_0_0)) (mulf b (extractStridedSlice S1024x32 ![0, 0] (Host.cos A) slices_S2048x32_S1024x32_0_0))⟩] concatenates_S1024x32_S1024x32_S1024x64_d1
/-- The scores. -/
def scs (q : FVec Ideal S512x16x256 .f32) (kv : FVec Ideal S1024x16x256 .f32) (Qr : FVec Ideal S512x16x64 .f32) (Kr : FVec Ideal S1024x64 .f32) : FVec Ideal S16x512x1024 .f32 :=
  mulf (addf (Host.dotGeneral dot_S512x16x128_S1024x16x128_S16x512x1024_2_2_0_0_1_1 none (extractStridedSlice S512x16x128 ![0, 0, 0] q slices_S512x16x256_S512x16x128_0_0_0) (extractStridedSlice S1024x16x128 ![0, 0, 0] kv slices_S1024x16x256_S1024x16x128_0_0_0))
    (transpose S16x512x1024 [2, 1, 0] (Host.dotGeneral dot_S1024x64_S512x16x64_S1024x512x16_1_2_0_01_n_n none Kr Qr) transposes_S1024x512x16_S16x512x1024_2_1_0)) (broadcastInDim S16x512x1024 ![] bcast_S_S16x512x1024 (constant S_ .f32 0x3D93CD3A#32))
/-- The keys' and the queries' block numbers. -/
def kblk : IVec S1x1024 32 := select (andi (cmpi .ne (signi (broadcastInDim S1x1024 ![1] bcast_S1024_S1x1024_1 (iotaInDim S1024 32 0))) (broadcastInDim S1x1024 ![] bcast_S_S1x1024 (signi (id (constantI S_ 32 64#32))))) (cmpi .ne (Host.remsi (broadcastInDim S1x1024 ![1] bcast_S1024_S1x1024_1 (iotaInDim S1024 32 0)) (broadcastInDim S1x1024 ![] bcast_S_S1x1024 (id (constantI S_ 32 64#32)))) (broadcastInDim S1x1024 ![] bcast_S_S1x1024 (constantI S_ 32 0#32)))) (subi (Host.divsi (broadcastInDim S1x1024 ![1] bcast_S1024_S1x1024_1 (iotaInDim S1024 32 0)) (broadcastInDim S1x1024 ![] bcast_S_S1x1024 (id (constantI S_ 32 64#32)))) (broadcastInDim S1x1024 ![] bcast_S_S1x1024 (constantI S_ 32 1#32))) (Host.divsi (broadcastInDim S1x1024 ![1] bcast_S1024_S1x1024_1 (iotaInDim S1024 32 0)) (broadcastInDim S1x1024 ![] bcast_S_S1x1024 (id (constantI S_ 32 64#32))))
def qblk : IVec S512x1 32 := select (andi (cmpi .ne (signi (broadcastInDim S512x1 ![0] bcast_S512_S512x1_0 (addi (broadcastInDim S512 ![] bcast_S_S512 (constantI S_ 32 512#32)) (iotaInDim S512 32 0)))) (broadcastInDim S512x1 ![] bcast_S_S512x1 (signi (id (constantI S_ 32 64#32))))) (cmpi .ne (Host.remsi (broadcastInDim S512x1 ![0] bcast_S512_S512x1_0 (addi (broadcastInDim S512 ![] bcast_S_S512 (constantI S_ 32 512#32)) (iotaInDim S512 32 0))) (broadcastInDim S512x1 ![] bcast_S_S512x1 (id (constantI S_ 32 64#32)))) (broadcastInDim S512x1 ![] bcast_S_S512x1 (constantI S_ 32 0#32)))) (subi (Host.divsi (broadcastInDim S512x1 ![0] bcast_S512_S512x1_0 (addi (broadcastInDim S512 ![] bcast_S_S512 (constantI S_ 32 512#32)) (iotaInDim S512 32 0))) (broadcastInDim S512x1 ![] bcast_S_S512x1 (id (constantI S_ 32 64#32)))) (broadcastInDim S512x1 ![] bcast_S_S512x1 (constantI S_ 32 1#32))) (Host.divsi (broadcastInDim S512x1 ![0] bcast_S512_S512x1_0 (addi (broadcastInDim S512 ![] bcast_S_S512 (constantI S_ 32 512#32)) (iotaInDim S512 32 0))) (broadcastInDim S512x1 ![] bcast_S_S512x1 (id (constantI S_ 32 64#32))))
/-- The scores with what is not seen at minus infinity. -/
def msk (kb : IVec S1x1024 32) (qb : IVec S512x1 32) (s : FVec Ideal S16x512x1024 .f32) : FVec Ideal S16x512x1024 .f32 :=
  select (broadcastInDim S16x512x1024 ![0, 1, 2] bcast_S1x512x1024_S16x512x1024_0_1_2 (broadcastInDim S1x512x1024 ![1, 2] bcast_S512x1024_S1x512x1024_1_2 (cmpi .sle (broadcastInDim S512x1024 ![0, 1] bcast_S1x1024_S512x1024_0_1 kb) (broadcastInDim S512x1024 ![0, 1] bcast_S512x1_S512x1024_0_1 qb))))
    s (broadcastInDim S16x512x1024 ![] bcast_S_S16x512x1024 (id (constant S_ .f32 0xFF800000#32)))
/-- The greatest scores. -/
def top (s : FVec Ideal S16x512x1024 .f32) : FVec Ideal S16x512 .f32 := Host.reduce FloatOps.maximumf s (constant S_ .f32 0xFF800000#32) reducesTo_S16x512x1024_S16x512_d2 h_S_
/-- The exponentials. -/
def exs (s : FVec Ideal S16x512x1024 .f32) (x : FVec Ideal S16x512 .f32) : FVec Ideal S16x512x1024 .f32 :=
  Host.exp (subf s (broadcastInDim S16x512x1024 ![0, 1, 2] bcast_S16x512x1_S16x512x1024_0_1_2 (broadcastInDim S16x512x1 ![0, 1] bcast_S16x512_S16x512x1_0_1 (maximumf (broadcastInDim S16x512 ![] bcast_S_S16x512 (constant S_ .f32 0xFF800000#32)) x))))
/-- The probabilities. -/
def prs (e : FVec Ideal S16x512x1024 .f32) : FVec Ideal S16x512x1024 .f32 :=
  Host.divf e (broadcastInDim S16x512x1024 ![0, 1, 2] bcast_S16x512x1_S16x512x1024_0_1_2 (broadcastInDim S16x512x1 ![0, 1] bcast_S16x512_S16x512x1_0_1 (Host.reduceAdd e (constant S_ .f32 0x00000000#32) reducesTo_S16x512x1024_S16x512_d2 h_S_)))
/-- The outputs. -/
def outs (p : FVec Ideal S16x512x1024 .f32) (kv : FVec Ideal S1024x16x256 .f32) : FVec Ideal S512x2048 .bf16 :=
  truncf .bf16 (shapeCast S512x2048 (transpose S512x16x128 [2, 0, 1] (Host.dotGeneral dot_S1024x16x128_S16x512x1024_S16x128x512_0_2_2_1_1_0 none (extractStridedSlice S1024x16x128 ![0, 0, 128] kv slices_S1024x16x256_S1024x16x128_0_0_128) p) transposes_S16x128x512_S512x16x128_2_0_1) shapeCasts_S512x16x128_S512x2048) bitsLt_bf16_f32
/-- The masked scores from the arguments. -/
def allM (x0 x1 : FVec Ideal S2048x4096 .f32) (x2 : FVec Ideal S2048x1152 .f32) (x3 : IVec S2048 32) : FVec Ideal S16x512x1024 .f32 :=
  msk kblk qblk (scs (qh x0) (kvh x1) (qrot (ang x3) (q1 (qh x0)) (q2 (qh x0))) (krot (ang x3) (k1 x2) (k2 x2)))
/-- The outputs from the arguments. -/
def allO (x0 x1 : FVec Ideal S2048x4096 .f32) (x2 : FVec Ideal S2048x1152 .f32) (x3 : IVec S2048 32) : FVec Ideal S512x2048 .bf16 :=
  outs (prs (exs (allM x0 x1 x2 x3) (top (allM x0 x1 x2 x3)))) (kvh x1)
/-- The result from the arguments. -/
def refT (x0 x1 : FVec Ideal S2048x4096 .f32) (x2 : FVec Ideal S2048x1152 .f32) (x3 : IVec S2048 32) (x4 : FVec Ideal S2048x2048 .bf16) : FVec Ideal S2048x2048 .bf16 :=
  concatenate S2048x2048 0 [⟨S512x2048, extractStridedSlice S512x2048 ![0, 0] x4 slices_S2048x2048_S512x2048_0_0⟩, ⟨S512x2048, allO x0 x1 x2 x3⟩, ⟨S1024x2048, extractStridedSlice S1024x2048 ![1024, 0] x4 slices_S2048x2048_S1024x2048_1024_0⟩] concatenates_S512x2048_S512x2048_S1024x2048_S2048x2048_d0

variable {a : Args} {x0 x1 : FVec Ideal S2048x4096 .f32} {x2 : FVec Ideal S2048x1152 .f32} {x3 : IVec S2048 32}
  (h : a.Is x0 x1 x2 x3) (i : Fin 512) (k : Fin 1024) (e : Fin 16) (j : Fin 128)

section
include h
theorem ang_eq (i : Fin 2048) (l : Fin 32) : ang x3 (ix2 i l) = a.ang i.val l := by
  pointwise [ang]
  exact Args.ang_at _ _ (h.h3 i) l
theorem qh_at (l : Fin 256) : qh x0 (ix3 i e l) = a.Q (512 + i.val) (256 * e.val + l.val) := by
  pointwise [qh]
  exact (h.h0 _ _).trans (by congr 2 <;> (simp only []; omega))
theorem kvh_at (l : Fin 256) : kvh x1 (ix3 k e l) = a.KV k.val (256 * e.val + l.val) := by
  pointwise [kvh]
  exact (h.h1 _ _).trans (by congr 2 <;> (simp only []; omega))
theorem k1_at (l : Fin 32) : k1 x2 (ix2 k l) = a.P k.val (1024 + l.val) := by
  pointwise [k1]
  exact h.h2 _ _
theorem k2_at (l : Fin 32) : k2 x2 (ix2 k l) = a.P k.val (1024 + (32 + l.val)) := by
  pointwise [k2]
  exact h.h2 _ _
theorem q1_at (l : Fin 32) : q1 (qh x0) (ix3 i e l) = a.Q (512 + i.val) (256 * e.val + 128 + l.val) := by
  pointwise [q1]
  exact (qh_at h i e _).trans (congrArg (a.Q _) (by simp only []; omega))
theorem q2_at (l : Fin 32) : q2 (qh x0) (ix3 i e l) = a.Q (512 + i.val) (256 * e.val + 128 + (32 + l.val)) := by
  pointwise [q2]
  exact (qh_at h i e _).trans (congrArg (a.Q _) (by simp only []; omega))
theorem qrot_at (l : Fin 64) : qrot (ang x3) (q1 (qh x0)) (q2 (qh x0)) (ix3 i e l) = (a.blk 512 e.val 512 1024).qr i ⟨l.val, by omega⟩ := by
  have hc (l : Fin 32) : Ideal.cos (ang x3 (ix2 ⟨512 + i.val, by omega⟩ l)) = a.C (512 + i.val) l := by rw [ang_eq h]; rfl
  have hs (l : Fin 32) : Ideal.sin (ang x3 (ix2 ⟨512 + i.val, by omega⟩ l)) = a.S (512 + i.val) l := by rw [ang_eq h]; rfl
  pointwise [qrot]
  rcases lane_two l with ⟨l, rfl⟩ | ⟨l, rfl⟩
  · rw [dif_pos l.isLt, q1_at h, q2_at h, hc, hs]
    exact (Args.rope_0 a ((a.blk 512 e.val 512 1024).qp i) (512 + i.val) l).symm
  · rw [dif_neg (by simp)]
    simp only [Nat.add_sub_cancel_left]
    rw [q1_at h, q2_at h, hc, hs]
    exact (Args.rope_1 a ((a.blk 512 e.val 512 1024).qp i) (512 + i.val) l).symm
theorem krot_at (l : Fin 64) : krot (ang x3) (k1 x2) (k2 x2) (ix2 k l) = (a.blk 512 e.val 512 1024).kr k ⟨l.val, by omega⟩ := by
  have hc (l : Fin 32) : Ideal.cos (ang x3 (ix2 ⟨k.val, by omega⟩ l)) = a.C k.val l := by rw [ang_eq h]; rfl
  have hs (l : Fin 32) : Ideal.sin (ang x3 (ix2 ⟨k.val, by omega⟩ l)) = a.S k.val l := by rw [ang_eq h]; rfl
  pointwise [krot]
  rcases lane_two l with ⟨l, rfl⟩ | ⟨l, rfl⟩
  · rw [dif_pos l.isLt, k1_at h, k2_at h, hc, hs]
    exact (Args.rope_0 a ((a.blk 512 e.val 512 1024).kp k) k.val l).symm
  · rw [dif_neg (by simp)]
    simp only [Nat.add_sub_cancel_left]
    rw [k1_at h, k2_at h, hc, hs]
    exact (Args.rope_1 a ((a.blk 512 e.val 512 1024).kp k) k.val l).symm
theorem scs_at : scs (qh x0) (kvh x1) (qrot (ang x3) (q1 (qh x0)) (q2 (qh x0))) (krot (ang x3) (k1 x2) (k2 x2)) (ix3 e i k) = (a.blk 512 e.val 512 1024).sc i k := by
  pointwise [scs]
  have s := sum_lanes (fun x => (a.blk 512 e.val 512 1024).qr i x * (a.blk 512 e.val 512 1024).kr k x)
    (fun x hx => mul_eq_zero_of_left (Args.rope_2 a _ _ x hx) _)
  simp only [qh_at h, kvh_at h, krot_at h _ e, qrot_at h, lit_scale]
  unfold Blk.sc
  rw [s]
  exact congrArg (fun y => (_ + y) * (scale : EReal)) (Finset.sum_congr rfl fun x _ => mul_comm _ _)
end
theorem kblk_at : kblk (ix2 0 k) = BitVec.ofNat 32 (k.val / 64) := by
  pointwise [kblk]
  exact hfloor ⟨k.val, by omega⟩
theorem qblk_at : qblk (ix2 i 0) = BitVec.ofNat 32 ((512 + i.val) / 64) := by
  pointwise [qblk]
  have e2 : IntOp.addi 512#32 (BitVec.ofNat 32 i.val) = BitVec.ofNat 32 (512 + i.val) := (BitVec.ofNat_add ..).symm
  rw [e2]
  exact hfloor ⟨512 + i.val, by omega⟩
include h
theorem msk_at : allM x0 x1 x2 x3 (ix3 e i k) = (a.blk 512 e.val 512 1024).msc i k := by
  pointwise [allM, msk]
  rw [scs_at h, kblk_at, qblk_at, show (id (constant (F := Ideal) S_ FTy.f32 0xFF800000#32) ix0 : EReal) = ⊥ from lit_ninf]
  exact sel_le (by omega) (by omega) _
omit h
section
variable {s : FVec Ideal S16x512x1024 .f32} {x : FVec Ideal S16x512 .f32} {B : Blk 512 1024}
theorem top_at (hs : ∀ k, s (ix3 e i k) = B.msc i k) : top s (ix2 e i) = B.mx i := by
  pointwise [top]
  rw [lit_ninf]
  simp only [hs]
  rfl
theorem exs_at (hs : ∀ k, s (ix3 e i k) = B.msc i k) (hx : x (ix2 e i) = B.mx i) : exs s x (ix3 e i k) = B.ex i k := by
  pointwise [exs]
  rw [hs, hx, lit_ninf, max_eq_right bot_le]
  rfl
theorem prs_at (hs : ∀ k, s (ix3 e i k) = B.ex i k) : prs s (ix3 e i k) = B.pr i k := by
  pointwise [prs]
  simp only [hs]
  rfl
end
include h
theorem pr_at : prs (exs (allM x0 x1 x2 x3) (top (allM x0 x1 x2 x3))) (ix3 e i k) = (a.blk 512 e.val 512 1024).pr i k :=
  prs_at i k e fun k => exs_at i k e (fun k => msk_at h i k e) (top_at i e fun k => msk_at h i k e)
theorem out_eq (j : Fin 2048) : allO x0 x1 x2 x3 (ix2 i j) = (a.blk 512 (j.val / 128) 512 1024).out i ⟨j.val % 128, Nat.mod_lt _ (by decide)⟩ := by
  unfold allO
  have hp (e k) := pr_at h i k e
  generalize prs (exs (allM x0 x1 x2 x3) (top (allM x0 x1 x2 x3))) = p at hp
  pointwise [outs]
  simp only [hp, kvh_at h]
  refine Finset.sum_congr rfl fun k _ => (mul_comm _ _).trans ?_
  exact congrArg (fun y => _ * a.KV k.val y) (by simp only []; omega)
/-- The reference's result. -/
theorem ref_eq (x : FVec Ideal S2048x2048 .bf16) : refT x0 x1 x2 x3 x = rO a 512 1024 x := by
  funext p
  obtain ⟨i, j, rfl⟩ : ∃ (i : Fin 2048) (j : Fin 2048), p = ix2 i j := ⟨p 0, p 1, (ix2_eta p).symm⟩
  have ho (i : Fin 512) := out_eq h i j
  unfold refT
  generalize allO x0 x1 x2 x3 = o at ho
  by_cases h1 : i.val < 512
  · refine Eq.trans ?_ (if_neg fun hL => by have : 512 ≤ i.val := hL.1; omega).symm
    pointwise []
    exact dif_pos h1
  by_cases h2 : i.val - 512 < 512
  · refine Eq.trans ?_ (rO_in a 512 1024 x (ix2 i j) (R := 512) (lo' := 512) (e := j.val / 128) ⟨i.val - 512, h2⟩ ⟨j.val % 128, Nat.mod_lt _ (by decide)⟩
      (by show i.val = 512 + (i.val - 512); omega) (by show j.val = 128 * (j.val / 128) + j.val % 128; omega) le_rfl le_rfl).symm
    pointwise []
    rw [dif_neg h1, dif_pos h2]
    exact ho ⟨i.val - 512, h2⟩
  · refine Eq.trans ?_ (if_neg fun hL => by have : i.val < 512 + 512 := hL.2; omega).symm
    pointwise []
    rw [dif_neg h1, dif_neg h2]
    exact congrArg (fun z => x (ix2 z j)) (Fin.ext (by show 1024 + (i.val - 512 - 512) = i.val; omega))

end Cert.Proof.Af1

end
-- ==== Proof.Af1Claim.lean ====
/- The claims about the forward attention call of the second quarter of the queries. -/
module

public import proofs.«01_k».proof.Defs
public import proofs.«01_k».proof.Proof.Gen.Af1
public import proofs.«01_k».proof.Proof.Gen.Af1.Frame
public import proofs.«01_k».proof.Proof.Af1Val
public import proofs.«01_k».proof.Proof.Af1Ref

@[expose] public section

set_option maxRecDepth 16384

noncomputable section

namespace Cert.Proof.Af1

open Idealize.ShloMosaic Idealize.ShloMosaic.TcCoe Idealize.SL.Sem Cert.Proof.Af Cert.Af1Ideal

/-- The kernel at the machine's floats terminates, keeps its arguments, and leaves every counter at zero. -/
theorem frame : Cert.quiescent_Af1 (hAf1 := Cert.Af1.Gen.facts) := fun m ρ _ => Cert.Af1.Gen.frame m ρ
/-- So does the kernel over the extended reals. -/
theorem frame_ideal : Cert.quiescent_Af1Ideal (hAf1Ideal := Cert.Af1Ideal.Gen.facts) := fun m ρ _ => Cert.Af1Ideal.Gen.frame m ρ
/-- So does the reference over the extended reals. -/
theorem frame_ref : Cert.quiescent_Af1RefIdeal (hAf1RefIdeal := Cert.Af1RefIdeal.Gen.facts) := fun m ρ _ =>
  (θ_run Cert.Af1RefIdeal.defs _ _).mono (fun r h => ⟨fun c => (h c).2, sem_eq_zero_of_no_sems (by decide) r.2⟩)
    (Cert.Af1RefIdeal.Value.run (F := Ideal) m ρ)
/-- No operation of the kernel is replaced. -/
theorem preserves : Cert.preserves_Af1_Af1Ideal := trivial
/-- Kernel and reference end with the same array. -/
theorem algebraic : Cert.algebraic_Af1Ideal_Af1RefIdeal (hAf1Ideal := Cert.Af1Ideal.Gen.facts) (hAf1RefIdeal := Cert.Af1RefIdeal.Gen.facts) := by
  intro m g m' g' _ hargs
  have hA (c : Dev nD) := Args.is_of (m ((c : Thread nD τ).loc main_arg0)) (m ((c : Thread nD τ).loc main_arg1)) (m ((c : Thread nD τ).loc main_arg2)) (m ((c : Thread nD τ).loc main_arg3))
  refine ⟨fun c => rO (Args.of (m ((c : Thread nD τ).loc main_arg0)) (m ((c : Thread nD τ).loc main_arg1)) (m ((c : Thread nD τ).loc main_arg2)) (m ((c : Thread nD τ).loc main_arg3)))
      512 1024 (X4 m c),
    (θ_run Cert.Af1Ideal.defs _ _).mono (fun r h c => ⟨(h c).1.trans (final (hA c)), (h c).2⟩) (Cert.Af1Ideal.Value.run_blocks m g),
    (θ_run Cert.Af1RefIdeal.defs _ _).mono (fun r h c => ⟨(h c).1.trans ?_, (h c).2⟩) (Cert.Af1RefIdeal.Value.run (F := Ideal) m' g')⟩
  obtain ⟨a0, a1, a2, a3, a4⟩ := hargs c
  refine Eq.trans (?_ : _ = refT (m' (c.tc.loc Cert.Af1RefIdeal.main_arg0)) (m' (c.tc.loc Cert.Af1RefIdeal.main_arg1)) (m' (c.tc.loc Cert.Af1RefIdeal.main_arg2))
    (m' (c.tc.loc Cert.Af1RefIdeal.main_arg3)) (m' (c.tc.loc Cert.Af1RefIdeal.main_arg4))) ?_
  · rfl
  · rw [a0, a1, a2, a3, a4]; exact ref_eq (hA c) _

end Cert.Proof.Af1

end
-- ==== Proof.Af2Val.lean ====
/- The forward attention call of the third quarter of the queries: what its result array holds when the arguments hold
   given numbers. -/
module

public import proofs.«01_k».proof.Proof.Gen.Af2Ideal.Value
public import proofs.«01_k».proof.Proof.AfMath
public import Idealize.ShloMosaic.Lib.Pointwise
public import Idealize.ShloMosaic.Lib.Pipeline.Value

@[expose] public section

set_option maxRecDepth 16384

noncomputable section

namespace Cert.Proof.Af2

open Idealize.ShloMosaic Idealize.ShloMosaic.TcCoe Idealize.SL.Sem Cert.Af2Ideal Cert.Af2Ideal.Gen Cert.Af2Ideal.Value Cert.Proof.Af
open Cert.Proof.At (scale lit_scale lit_ninf)
open Cert.Proof.Mm (hz2)

section
variable {q : ℕ} {x0 x1 : Vec Ideal S256x128 .f32} {x2 x3 : Vec Ideal S1536x128 .f32} {x4 x5 : Vec Ideal S256x128 .f32}
  {x6 x7 x8 : Vec Ideal S1536x128 .f32} {B : Blk 256 1536} (H : Holds (1024 + 256 * q) x0 x1 x2 x3 x4 x5 x6 x7 x8 B)
include H

theorem pay2_eq (r : Fin 256) (j : Fin 128) : k0_pay2 (F := Ideal) x1 x4 x5 (ix2 r j) = B.qr r j := by
  pointwise [k0_pay2]
  rw [sel_rot (fun k => x1 (ix2 r k)), H.h4, H.h5, funext (H.h1 r), H.h1]
  rfl
theorem pay3_eq (k : Fin 1536) (j : Fin 128) : k0_pay3 (F := Ideal) x3 x6 x7 (ix2 k j) = B.kr k j := by
  pointwise [k0_pay3]
  rw [sel_rot (fun i => x3 (ix2 k i)), H.h6, H.h7, funext (H.h3 k), H.h3]
  rfl
/-- The scores. -/
theorem pay5_eq (r : Fin 256) (k : Fin 1536) :
    k0_pay5 (F := Ideal) (k0_pay2 x1 x4 x5) (k0_pay3 x3 x6 x7) (k0_pay4 x0 x2) (ix2 r k) = B.sc r k := by
  pointwise [k0_pay5, k0_pay4]
  simp only [pay2_eq H, pay3_eq H, H.h0, H.h2, lit_scale]
  rfl
theorem pay6_eq (hq : q < 2) (r : Fin 256) (k : Fin 1536) : k0_pay6 (BitVec.ofNat 32 q) (ix2 r k) = BitVec.ofNat 32 (B.pos r) := by
  pointwise [k0_pay6]
  rw [H.hp]
  interval_cases q <;> revert r <;> decide +kernel
omit H in
theorem pay7_eq (r : Fin 256) (k : Fin 1536) : k0_pay7 (ix2 r k) = BitVec.ofNat 32 (k.val / 64) := by
  pointwise [k0_pay7]
  exact kfloor ⟨k.val, by omega⟩
/-- The block a point stores. -/
theorem pay1_eq (hq : q < 2) (r : Fin 256) (j : Fin 128) :
    k0_pay1 (F := Ideal) (k0_pay5 (k0_pay2 x1 x4 x5) (k0_pay3 x3 x6 x7) (k0_pay4 x0 x2)) (k0_pay6 (BitVec.ofNat 32 q)) k0_pay7 64#32
      (k0_pay8 (BitVec.ofNat 32 q)) (k0_pay9 (BitVec.ofNat 32 q)) (Scalar.extui (Scalar.cmpi CmpIPredicate.sgt 64#32 0#32)) x8 (ix2 r j) = B.out r j := by
  have hl : B.pos r < 2048 := by have := H.hp r; have := H.hl; omega
  pointwise [k0_pay1, k0_pay8, k0_pay9]
  simp only [pay6_eq H hq, pay7_eq, pay5_eq H, lit_ninf, kfloor ⟨B.pos r, hl⟩]
  have e (k : Fin 1536) : Scalar.select (IntOp.cmpi CmpIPredicate.sle (BitVec.ofNat 32 (k.val / 64)) (BitVec.ofNat 32 (B.pos r / 64))) (B.sc r k) ⊥ = B.msc r k :=
    sel_le hl (by omega) _
  simp only [e, H.h8]
  rfl
end

theorem coord1 : ∀ t : Fin cfg0.N, (grid0.coords t 1).val = t.val % 2 := (by decide +kernel : ∀ t : Fin grid0.N, (grid0.coords t 1).val = t.val % 2)

variable (m : (ℓ : Loc nD τ sig) → Buf (Elt Ideal) ℓ) (c : Dev nD)

/-- The launch memory of one device holds the arguments `a`. -/
abbrev HasArgs (a : Args) : Prop :=
  a.Is (m ((c : Thread nD τ).loc main_arg0)) (m ((c : Thread nD τ).loc main_arg1)) (m ((c : Thread nD τ).loc main_arg2))
    (m ((c : Thread nD τ).loc main_arg3))
/-- What the result array held before the launch. -/
abbrev X4 : S2048x2048.Idx → EReal := m ((c : Thread nD τ).loc main_arg4)
/-- What a point leaves in its block. -/
theorem out_at (t : Fin cfg0.N) {B : Blk 256 1536} (H : Holds (1024 + 256 * (t.val % 2)) (iblk m c 0 t) (iblk m c 1 t) (X0_2 m c t) (X0_3 m c t)
    (iblk m c 4 t) (iblk m c 5 t) (X0_6 m c t) (X0_7 m c t) (X0_8 m c t) B) (r : Fin 256) (j : Fin 128) :
    (outsAt0 m c t : Vec Ideal S256x128 .bf16) (ix2 r j) = B.out r j := by
  unfold outsAt0 out0_A_9
  rw [View.read_writes_eq_canon _ _ _ (fun _ => cover0_A_9 ..)]
  unfold kernelRun0_A; dsimp only
  rw [View.canon_unit_zero hz2]
  sl_unfold_run_names
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    View.ld_unit_zero (S := S256x128) hz2, View.ld_unit_zero (S := S1536x128) hz2]
  rw [coord1]
  exact pay1_eq H (Nat.mod_lt _ (by decide)) r j

/-- The tables are set side by side before the launch. -/
theorem V_v19 : V m c main_v19 = concatenate S2048x128 1 [⟨S2048x32, V m c main_v16⟩, ⟨S2048x32, V m c main_v16⟩, ⟨S2048x64, V m c main_v18⟩]
    concatenates_S2048x32_S2048x32_S2048x64_S2048x128_d1 := by rfl
theorem V_v21 : V m c main_v21 = concatenate S2048x128 1 [⟨S2048x32, V m c main_v20⟩, ⟨S2048x32, V m c main_v17⟩, ⟨S2048x64, V m c main_v18⟩]
    concatenates_S2048x32_S2048x32_S2048x64_S2048x128_d1 := by rfl
theorem V_v18 : V m c main_v18 = broadcastInDim S2048x64 ![] bcast_S_S2048x64 (constant (F := Ideal) S_ .f32 0x00000000#32) := by
  show StableHlo.after hostOps0 _ _ = _
  after_results; try rfl
/-- The angles. -/
def angT : FVec Ideal S2048x32 .f32 := mulf (broadcastInDim S2048x32 ![0, 1] bcast_S2048x1_S2048x32_0_1 (broadcastInDim S2048x1 ![0] bcast_S2048_S2048x1_0 (sitofp .f32 (m ((c : Thread nD τ).loc main_arg3) : IVec S2048 32)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
theorem V_v16 : V m c main_v16 = Host.cos (angT m c) := by
  show StableHlo.after hostOps0 _ _ = _
  after_results; try rfl
theorem V_v17 : V m c main_v17 = Host.sin (angT m c) := by
  show StableHlo.after hostOps0 _ _ = _
  after_results; try rfl
theorem V_v20 : V m c main_v20 = Host.negf (Host.sin (angT m c)) := by
  show StableHlo.after hostOps0 _ _ = _
  after_results; try rfl
theorem V_prev : V m c main_v22 = X4 m c := by
  show StableHlo.after hostOps0 _ _ = _
  after_results; try rfl

variable {m c} {a : Args} (h : HasArgs m c a)
include h

theorem angT_at (i : Fin 2048) (l : Fin 32) : angT m c (ix2 i l) = a.ang i.val l := by
  pointwise [angT]
  exact Args.ang_at _ _ (h.h3 i) l
theorem v19_at (i : Fin 2048) (j : Fin 128) : (V m c main_v19 : Vec Ideal S2048x128 .f32) (ix2 i j) = a.pc i.val j := by
  rw [V_v19, V_v16, V_v18]
  pointwise []
  simp only [angT_at h]
  unfold Args.pc
  rfl
theorem v21_at (i : Fin 2048) (j : Fin 128) : (V m c main_v21 : Vec Ideal S2048x128 .f32) (ix2 i j) = a.ps i.val j := by
  rw [V_v21, V_v20, V_v17, V_v18]
  pointwise []
  simp only [angT_at h]
  unfold Args.ps
  rfl

omit h
theorem idx0 : ∀ t : Fin cfg0.N, win0_0.index t 0 = 4 + t.val % 2 ∧ win0_0.index t 1 = 2 * (t.val / 2) := (by decide +kernel : ∀ t : Fin grid0.N, win0_0.index t 0 = 4 + t.val % 2 ∧ win0_0.index t 1 = 2 * (t.val / 2))
theorem idx1 : ∀ t : Fin cfg0.N, win0_1.index t 0 = 4 + t.val % 2 ∧ win0_1.index t 1 = 2 * (t.val / 2) + 1 := (by decide +kernel : ∀ t : Fin grid0.N, win0_1.index t 0 = 4 + t.val % 2 ∧ win0_1.index t 1 = 2 * (t.val / 2) + 1)
theorem idx2 : ∀ t : Fin cfg0.N, win0_2.index t 0 = 0 ∧ win0_2.index t 1 = 2 * (t.val / 2) := (by decide +kernel : ∀ t : Fin grid0.N, win0_2.index t 0 = 0 ∧ win0_2.index t 1 = 2 * (t.val / 2))
theorem idx3 : ∀ t : Fin cfg0.N, win0_3.index t 0 = 0 ∧ win0_3.index t 1 = 8 := (by decide +kernel : ∀ t : Fin grid0.N, win0_3.index t 0 = 0 ∧ win0_3.index t 1 = 8)
theorem idx4 : ∀ t : Fin cfg0.N, win0_4.index t 0 = 4 + t.val % 2 ∧ win0_4.index t 1 = 0 := (by decide +kernel : ∀ t : Fin grid0.N, win0_4.index t 0 = 4 + t.val % 2 ∧ win0_4.index t 1 = 0)
theorem idx5 : ∀ t : Fin cfg0.N, win0_5.index t 0 = 4 + t.val % 2 ∧ win0_5.index t 1 = 0 := (by decide +kernel : ∀ t : Fin grid0.N, win0_5.index t 0 = 4 + t.val % 2 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 2 * (t.val / 2) + 1 := (by decide +kernel : ∀ t : Fin grid0.N, win0_8.index t 0 = 0 ∧ win0_8.index t 1 = 2 * (t.val / 2) + 1)
theorem idx9 : ∀ t : Fin cfg0.N, win0_9.index t 0 = 4 + t.val % 2 ∧ win0_9.index t 1 = t.val / 2 := (by decide +kernel : ∀ t : Fin grid0.N, win0_9.index t 0 = 4 + t.val % 2 ∧ win0_9.index t 1 = t.val / 2)
theorem rd0 (t : Fin cfg0.N) (r : Fin 256) (j : Fin 128) : ∃ p : S2048x4096.Idx, (p 0).val = 1024 + 256 * (t.val % 2) + r.val ∧ (p 1).val = 256 * (t.val / 2) + j.val ∧
    (iblk m c 0 t : Vec Ideal S256x128 .f32) (ix2 r j) = (V m c main_arg0 : Vec Ideal S2048x4096 .f32) p := by
  refine ⟨?p, ?_, ?_, ?e⟩
  case e => unfold iblk; rw [View.read_apply]; rfl
  · show win0_0.index t 0 * 256 + 1 * r.val = _; rw [(idx0 t).1]; omega
  · show win0_0.index t 1 * 128 + 1 * j.val = _; rw [(idx0 t).2]; omega
theorem rd1 (t : Fin cfg0.N) (r : Fin 256) (j : Fin 128) : ∃ p : S2048x4096.Idx, (p 0).val = 1024 + 256 * (t.val % 2) + r.val ∧ (p 1).val = 256 * (t.val / 2) + 128 + j.val ∧
    (iblk m c 1 t : Vec Ideal S256x128 .f32) (ix2 r j) = (V m c main_arg0 : Vec Ideal S2048x4096 .f32) p := by
  refine ⟨?p, ?_, ?_, ?e⟩
  case e => unfold iblk; rw [View.read_apply]; rfl
  · show win0_1.index t 0 * 256 + 1 * r.val = _; rw [(idx1 t).1]; omega
  · show win0_1.index t 1 * 128 + 1 * j.val = _; rw [(idx1 t).2]; omega
theorem rd2 (t : Fin cfg0.N) (r : Fin 1536) (j : Fin 128) : ∃ p : S2048x4096.Idx, (p 0).val = r.val ∧ (p 1).val = 256 * (t.val / 2) + j.val ∧
    (X0_2 m c t : Vec Ideal S1536x128 .f32) (ix2 r j) = (V m c main_arg1 : Vec Ideal S2048x4096 .f32) p := by
  refine ⟨?p, ?_, ?_, ?e⟩
  case e => unfold X0_2 Pipeline.Window.fill; rw [dif_pos (moved0_2 t _)]; unfold iblk; rw [View.read_apply]; rfl
  · show win0_2.index t 0 * 1536 + 1 * r.val = _; rw [(idx2 t).1]; omega
  · show win0_2.index t 1 * 128 + 1 * j.val = _; rw [(idx2 t).2]; omega
theorem rd3 (t : Fin cfg0.N) (r : Fin 1536) (j : Fin 128) : ∃ p : S2048x1152.Idx, (p 0).val = r.val ∧ (p 1).val = 1024 + j.val ∧
    (X0_3 m c t : Vec Ideal S1536x128 .f32) (ix2 r j) = (V m c main_arg2 : Vec Ideal S2048x1152 .f32) p := by
  refine ⟨?p, ?_, ?_, ?e⟩
  case e => unfold X0_3 Pipeline.Window.fill; rw [dif_pos (moved0_3 t _)]; unfold iblk; rw [View.read_apply]; rfl
  · show win0_3.index t 0 * 1536 + 1 * r.val = _; rw [(idx3 t).1]; omega
  · show win0_3.index t 1 * 128 + 1 * j.val = _; rw [(idx3 t).2]; omega
theorem rd4 (t : Fin cfg0.N) (r : Fin 256) (j : Fin 128) : ∃ p : S2048x128.Idx, (p 0).val = 1024 + 256 * (t.val % 2) + r.val ∧ (p 1).val = j.val ∧
    (iblk m c 4 t : Vec Ideal S256x128 .f32) (ix2 r j) = (V m c main_v19 : Vec Ideal S2048x128 .f32) p := by
  refine ⟨?p, ?_, ?_, ?e⟩
  case e => unfold iblk; rw [View.read_apply]; rfl
  · show win0_4.index t 0 * 256 + 1 * r.val = _; rw [(idx4 t).1]; omega
  · show win0_4.index t 1 * 128 + 1 * j.val = _; rw [(idx4 t).2]; omega
theorem rd5 (t : Fin cfg0.N) (r : Fin 256) (j : Fin 128) : ∃ p : S2048x128.Idx, (p 0).val = 1024 + 256 * (t.val % 2) + r.val ∧ (p 1).val = j.val ∧
    (iblk m c 5 t : Vec Ideal S256x128 .f32) (ix2 r j) = (V m c main_v21 : Vec Ideal S2048x128 .f32) p := by
  refine ⟨?p, ?_, ?_, ?e⟩
  case e => unfold iblk; rw [View.read_apply]; rfl
  · show win0_5.index t 0 * 256 + 1 * r.val = _; rw [(idx5 t).1]; omega
  · show win0_5.index t 1 * 128 + 1 * j.val = _; rw [(idx5 t).2]; omega
theorem rd6 (t : Fin cfg0.N) (r : Fin 1536) (j : Fin 128) : ∃ p : S2048x128.Idx, (p 0).val = r.val ∧ (p 1).val = j.val ∧
    (X0_6 m c t : Vec Ideal S1536x128 .f32) (ix2 r j) = (V m c main_v19 : Vec Ideal S2048x128 .f32) p := by
  refine ⟨?p, ?_, ?_, ?e⟩
  case e => unfold X0_6 Pipeline.Window.fill; rw [dif_pos (moved0_6 t _)]; unfold iblk; rw [View.read_apply]; rfl
  · show win0_6.index t 0 * 1536 + 1 * r.val = _; rw [(idx6 t).1]; omega
  · show win0_6.index t 1 * 128 + 1 * j.val = _; rw [(idx6 t).2]; omega
theorem rd7 (t : Fin cfg0.N) (r : Fin 1536) (j : Fin 128) : ∃ p : S2048x128.Idx, (p 0).val = r.val ∧ (p 1).val = j.val ∧
    (X0_7 m c t : Vec Ideal S1536x128 .f32) (ix2 r j) = (V m c main_v21 : Vec Ideal S2048x128 .f32) p := by
  refine ⟨?p, ?_, ?_, ?e⟩
  case e => unfold X0_7 Pipeline.Window.fill; rw [dif_pos (moved0_7 t _)]; unfold iblk; rw [View.read_apply]; rfl
  · show win0_7.index t 0 * 1536 + 1 * r.val = _; rw [(idx7 t).1]; omega
  · show win0_7.index t 1 * 128 + 1 * j.val = _; rw [(idx7 t).2]; omega
theorem rd8 (t : Fin cfg0.N) (r : Fin 1536) (j : Fin 128) : ∃ p : S2048x4096.Idx, (p 0).val = r.val ∧ (p 1).val = 256 * (t.val / 2) + 128 + j.val ∧
    (X0_8 m c t : Vec Ideal S1536x128 .f32) (ix2 r j) = (V m c main_arg1 : Vec Ideal S2048x4096 .f32) p := by
  refine ⟨?p, ?_, ?_, ?e⟩
  case e => unfold X0_8 Pipeline.Window.fill; rw [dif_pos (moved0_8 t _)]; unfold iblk; rw [View.read_apply]; rfl
  · show win0_8.index t 0 * 1536 + 1 * r.val = _; rw [(idx8 t).1]; omega
  · show win0_8.index t 1 * 128 + 1 * j.val = _; rw [(idx8 t).2]; omega
include h

/-- The blocks a point reads hold its head's numbers. -/
theorem holds (t : Fin cfg0.N) : Holds (1024 + 256 * (t.val % 2)) (iblk m c 0 t) (iblk m c 1 t) (X0_2 m c t) (X0_3 m c t)
    (iblk m c 4 t) (iblk m c 5 t) (X0_6 m c t) (X0_7 m c t) (X0_8 m c t) (a.blk (1024 + 256 * (t.val % 2)) (t.val / 2) 256 1536) := by
  have hN : t.val < 32 := t.isLt.trans_eq N_0
  refine ⟨?_, ?_, ?_, ?_, ?_, ?_, ?_, ?_, ?_, fun r => rfl, by omega⟩
  · intro r j
    obtain ⟨p, h0, h1, e⟩ := rd0 (m := m) (c := c) t r j
    exact e.trans ((congrFun (V_main_arg0 m c) p).trans (ent h.h0 p h0 h1))
  · intro r j
    obtain ⟨p, h0, h1, e⟩ := rd1 (m := m) (c := c) t r j
    exact e.trans ((congrFun (V_main_arg0 m c) p).trans (ent h.h0 p h0 h1))
  · intro r j
    obtain ⟨p, h0, h1, e⟩ := rd2 (m := m) (c := c) t r j
    exact e.trans ((congrFun (V_main_arg1 m c) p).trans (ent h.h1 p h0 h1))
  · intro r j
    obtain ⟨p, h0, h1, e⟩ := rd3 (m := m) (c := c) t r j
    exact e.trans ((congrFun (V_main_arg2 m c) p).trans (ent h.h2 p h0 h1))
  · intro r j
    obtain ⟨p, h0, h1, e⟩ := rd4 (m := m) (c := c) t r j
    exact e.trans (ent' (v19_at h) p h0 h1)
  · intro r j
    obtain ⟨p, h0, h1, e⟩ := rd5 (m := m) (c := c) t r j
    exact e.trans (ent' (v21_at h) p h0 h1)
  · intro r j
    obtain ⟨p, h0, h1, e⟩ := rd6 (m := m) (c := c) t r j
    exact e.trans (ent' (v19_at h) p h0 h1)
  · intro r j
    obtain ⟨p, h0, h1, e⟩ := rd7 (m := m) (c := c) t r j
    exact e.trans (ent' (v21_at h) p h0 h1)
  · intro r j
    obtain ⟨p, h0, h1, e⟩ := rd8 (m := m) (c := c) t r j
    exact e.trans ((congrFun (V_main_arg1 m c) p).trans (ent h.h1 p h0 h1))
theorem flushed_O (t : Fin cfg0.N) (hf : (cfg0.win 9).flush t = true) :
    (dats m 0 c).flushed 9 t = ((cfg0.win 9).blk t).view.read (Elt Ideal) (rO a 1024 1536 (X4 m c)) := by
  have hN : t.val < 32 := t.isLt.trans_eq N_0
  rw [flushed9]
  funext p
  obtain ⟨r, j, rfl⟩ : ∃ (r : Fin 256) (j : Fin 128), p = ix2 r j := ⟨p 0, p 1, (ix2_eta p).symm⟩
  rw [View.read_apply]
  refine (out_at m c t (holds h t) r j).trans (rO_in a 1024 1536 (X4 m c) (((cfg0.win 9).blk t).view.emb (ix2 r j)) r j ?_ ?_ (by omega) (by omega)).symm
  · show win0_9.index t 0 * 256 + 1 * r.val = _; rw [(idx9 t).1]; omega
  · show win0_9.index t 1 * 128 + 1 * j.val = _; rw [(idx9 t).2]; omega
theorem final : (dats m 0 c).arrAt 9 cfg0.N = rO a 1024 1536 (X4 m c) := by
  funext i
  rw [(dats m 0 c).arrAt_eq_piecewise 9 _ (flushed_O h) i]
  split
  · rfl
  · next hno =>
    rw [A_eq]
    refine (congrFun (V_prev m c) i).trans (Eq.symm (if_neg fun hL : 1024 ≤ (i 0).val ∧ (i 0).val < 1024 + 512 => hno ?_))
    have hN : cfg0.N = 32 := N_0
    have hi1 : (i 1).val < 2048 := (i 1).isLt
    obtain ⟨t, ht⟩ := Mm.fin_of (show 2 * ((i 1).val / 128) + ((i 0).val - 1024) / 256 < cfg0.N by omega)
    refine ⟨t, flush0_9 t, ?_⟩
    show i ∈ ((View.whole main_v22).slice (win0_9.rect t)).set
    rw [View.set_slice_whole, Rect.mem_set_unit]
    intro q
    match q with
    | ⟨0, _⟩ => exact Mm.in_blk 256 (i 0).val (idx9 t).1 (by omega)
    | ⟨1, _⟩ => exact Mm.in_blk 128 (i 1).val (idx9 t).2 (by omega)

end Cert.Proof.Af2

end
-- ==== Proof.Af2Ref.lean ====
/- The forward attention of the third quarter of the queries as the reference computes it. -/
module

public import proofs.«01_k».proof.Proof.AfMath
public import proofs.«01_k».proof.Proof.Gen.Af2RefIdeal.Run

@[expose] public section

set_option maxRecDepth 16384

noncomputable section

namespace Cert.Proof.Af2

open Idealize.ShloMosaic Idealize.SL.Sem Cert.Af2RefIdeal Cert.Af2RefIdeal.Gen Cert.Af2RefIdeal.Value Cert.Proof.Af
open Cert.Proof.At (scale lit_scale lit_ninf)

/-- The angles. -/
def ang (x3 : IVec S2048 32) : FVec Ideal S2048x32 .f32 := mulf (broadcastInDim S2048x32 ![0, 1] bcast_S2048x1_S2048x32_0_1 (broadcastInDim S2048x1 ![0] bcast_S2048_S2048x1_0 (sitofp .f32 x3))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
/-- The queries by heads. -/
def qh (x0 : FVec Ideal S2048x4096 .f32) : FVec Ideal S512x16x256 .f32 := (shapeCast S512x16x256 (extractStridedSlice S512x4096 ![1024, 0] x0 slices_S2048x4096_S512x4096_1024_0) shapeCasts_S512x4096_S512x16x256)
/-- The keys and values by heads. -/
def kvh (x1 : FVec Ideal S2048x4096 .f32) : FVec Ideal S1536x16x256 .f32 := (shapeCast S1536x16x256 (extractStridedSlice S1536x4096 ![0, 0] x1 slices_S2048x4096_S1536x4096_0_0) shapeCasts_S1536x4096_S1536x16x256)
/-- The two halves of the queries' part with positions. -/
def q1 (q : FVec Ideal S512x16x256 .f32) : FVec Ideal S512x16x32 .f32 := extractStridedSlice S512x16x32 ![0, 0, 0] (extractStridedSlice S512x16x64 ![0, 0, 128] q slices_S512x16x256_S512x16x64_0_0_128) slices_S512x16x64_S512x16x32_0_0_0
def q2 (q : FVec Ideal S512x16x256 .f32) : FVec Ideal S512x16x32 .f32 := extractStridedSlice S512x16x32 ![0, 0, 32] (extractStridedSlice S512x16x64 ![0, 0, 128] q slices_S512x16x256_S512x16x64_0_0_128) slices_S512x16x64_S512x16x32_0_0_32
/-- The rotated queries. -/
def qrot (A : FVec Ideal S2048x32 .f32) (a b : FVec Ideal S512x16x32 .f32) : FVec Ideal S512x16x64 .f32 :=
  concatenate S512x16x64 2 [⟨S512x16x32, subf (mulf a (broadcastInDim S512x16x32 ![0, 1, 2] bcast_S512x1x32_S512x16x32_0_1_2 (broadcastInDim S512x1x32 ![0, 2] bcast_S512x32_S512x1x32_0_2 (extractStridedSlice S512x32 ![1024, 0] (Host.cos A) slices_S2048x32_S512x32_1024_0)))) (mulf b (broadcastInDim S512x16x32 ![0, 1, 2] bcast_S512x1x32_S512x16x32_0_1_2 (broadcastInDim S512x1x32 ![0, 2] bcast_S512x32_S512x1x32_0_2 (extractStridedSlice S512x32 ![1024, 0] (Host.sin A) slices_S2048x32_S512x32_1024_0))))⟩,
    ⟨S512x16x32, addf (mulf a (broadcastInDim S512x16x32 ![0, 1, 2] bcast_S512x1x32_S512x16x32_0_1_2 (broadcastInDim S512x1x32 ![0, 2] bcast_S512x32_S512x1x32_0_2 (extractStridedSlice S512x32 ![1024, 0] (Host.sin A) slices_S2048x32_S512x32_1024_0)))) (mulf b (broadcastInDim S512x16x32 ![0, 1, 2] bcast_S512x1x32_S512x16x32_0_1_2 (broadcastInDim S512x1x32 ![0, 2] bcast_S512x32_S512x1x32_0_2 (extractStridedSlice S512x32 ![1024, 0] (Host.cos A) slices_S2048x32_S512x32_1024_0))))⟩] concatenates_S512x16x32_S512x16x32_S512x16x64_d2
/-- The two halves of the keys' part with positions. -/
def k1 (x2 : FVec Ideal S2048x1152 .f32) : FVec Ideal S1536x32 .f32 := extractStridedSlice S1536x32 ![0, 0] (extractStridedSlice S1536x64 ![0, 1024] x2 slices_S2048x1152_S1536x64_0_1024) slices_S1536x64_S1536x32_0_0
def k2 (x2 : FVec Ideal S2048x1152 .f32) : FVec Ideal S1536x32 .f32 := extractStridedSlice S1536x32 ![0, 32] (extractStridedSlice S1536x64 ![0, 1024] x2 slices_S2048x1152_S1536x64_0_1024) slices_S1536x64_S1536x32_0_32
/-- The rotated keys. -/
def krot (A : FVec Ideal S2048x32 .f32) (a b : FVec Ideal S1536x32 .f32) : FVec Ideal S1536x64 .f32 :=
  concatenate S1536x64 1 [⟨S1536x32, subf (mulf a (extractStridedSlice S1536x32 ![0, 0] (Host.cos A) slices_S2048x32_S1536x32_0_0)) (mulf b (extractStridedSlice S1536x32 ![0, 0] (Host.sin A) slices_S2048x32_S1536x32_0_0))⟩,
    ⟨S1536x32, addf (mulf a (extractStridedSlice S1536x32 ![0, 0] (Host.sin A) slices_S2048x32_S1536x32_0_0)) (mulf b (extractStridedSlice S1536x32 ![0, 0] (Host.cos A) slices_S2048x32_S1536x32_0_0))⟩] concatenates_S1536x32_S1536x32_S1536x64_d1
/-- The scores. -/
def scs (q : FVec Ideal S512x16x256 .f32) (kv : FVec Ideal S1536x16x256 .f32) (Qr : FVec Ideal S512x16x64 .f32) (Kr : FVec Ideal S1536x64 .f32) : FVec Ideal S16x512x1536 .f32 :=
  mulf (addf (Host.dotGeneral dot_S512x16x128_S1536x16x128_S16x512x1536_2_2_0_0_1_1 none (extractStridedSlice S512x16x128 ![0, 0, 0] q slices_S512x16x256_S512x16x128_0_0_0) (extractStridedSlice S1536x16x128 ![0, 0, 0] kv slices_S1536x16x256_S1536x16x128_0_0_0))
    (transpose S16x512x1536 [2, 1, 0] (Host.dotGeneral dot_S1536x64_S512x16x64_S1536x512x16_1_2_0_01_n_n none Kr Qr) transposes_S1536x512x16_S16x512x1536_2_1_0)) (broadcastInDim S16x512x1536 ![] bcast_S_S16x512x1536 (constant S_ .f32 0x3D93CD3A#32))
/-- The keys' and the queries' block numbers. -/
def kblk : IVec S1x1536 32 := select (andi (cmpi .ne (signi (broadcastInDim S1x1536 ![1] bcast_S1536_S1x1536_1 (iotaInDim S1536 32 0))) (broadcastInDim S1x1536 ![] bcast_S_S1x1536 (signi (id (constantI S_ 32 64#32))))) (cmpi .ne (Host.remsi (broadcastInDim S1x1536 ![1] bcast_S1536_S1x1536_1 (iotaInDim S1536 32 0)) (broadcastInDim S1x1536 ![] bcast_S_S1x1536 (id (constantI S_ 32 64#32)))) (broadcastInDim S1x1536 ![] bcast_S_S1x1536 (constantI S_ 32 0#32)))) (subi (Host.divsi (broadcastInDim S1x1536 ![1] bcast_S1536_S1x1536_1 (iotaInDim S1536 32 0)) (broadcastInDim S1x1536 ![] bcast_S_S1x1536 (id (constantI S_ 32 64#32)))) (broadcastInDim S1x1536 ![] bcast_S_S1x1536 (constantI S_ 32 1#32))) (Host.divsi (broadcastInDim S1x1536 ![1] bcast_S1536_S1x1536_1 (iotaInDim S1536 32 0)) (broadcastInDim S1x1536 ![] bcast_S_S1x1536 (id (constantI S_ 32 64#32))))
def qblk : IVec S512x1 32 := select (andi (cmpi .ne (signi (broadcastInDim S512x1 ![0] bcast_S512_S512x1_0 (addi (broadcastInDim S512 ![] bcast_S_S512 (constantI S_ 32 1024#32)) (iotaInDim S512 32 0)))) (broadcastInDim S512x1 ![] bcast_S_S512x1 (signi (id (constantI S_ 32 64#32))))) (cmpi .ne (Host.remsi (broadcastInDim S512x1 ![0] bcast_S512_S512x1_0 (addi (broadcastInDim S512 ![] bcast_S_S512 (constantI S_ 32 1024#32)) (iotaInDim S512 32 0))) (broadcastInDim S512x1 ![] bcast_S_S512x1 (id (constantI S_ 32 64#32)))) (broadcastInDim S512x1 ![] bcast_S_S512x1 (constantI S_ 32 0#32)))) (subi (Host.divsi (broadcastInDim S512x1 ![0] bcast_S512_S512x1_0 (addi (broadcastInDim S512 ![] bcast_S_S512 (constantI S_ 32 1024#32)) (iotaInDim S512 32 0))) (broadcastInDim S512x1 ![] bcast_S_S512x1 (id (constantI S_ 32 64#32)))) (broadcastInDim S512x1 ![] bcast_S_S512x1 (constantI S_ 32 1#32))) (Host.divsi (broadcastInDim S512x1 ![0] bcast_S512_S512x1_0 (addi (broadcastInDim S512 ![] bcast_S_S512 (constantI S_ 32 1024#32)) (iotaInDim S512 32 0))) (broadcastInDim S512x1 ![] bcast_S_S512x1 (id (constantI S_ 32 64#32))))
/-- The scores with what is not seen at minus infinity. -/
def msk (kb : IVec S1x1536 32) (qb : IVec S512x1 32) (s : FVec Ideal S16x512x1536 .f32) : FVec Ideal S16x512x1536 .f32 :=
  select (broadcastInDim S16x512x1536 ![0, 1, 2] bcast_S1x512x1536_S16x512x1536_0_1_2 (broadcastInDim S1x512x1536 ![1, 2] bcast_S512x1536_S1x512x1536_1_2 (cmpi .sle (broadcastInDim S512x1536 ![0, 1] bcast_S1x1536_S512x1536_0_1 kb) (broadcastInDim S512x1536 ![0, 1] bcast_S512x1_S512x1536_0_1 qb))))
    s (broadcastInDim S16x512x1536 ![] bcast_S_S16x512x1536 (id (constant S_ .f32 0xFF800000#32)))
/-- The greatest scores. -/
def top (s : FVec Ideal S16x512x1536 .f32) : FVec Ideal S16x512 .f32 := Host.reduce FloatOps.maximumf s (constant S_ .f32 0xFF800000#32) reducesTo_S16x512x1536_S16x512_d2 h_S_
/-- The exponentials. -/
def exs (s : FVec Ideal S16x512x1536 .f32) (x : FVec Ideal S16x512 .f32) : FVec Ideal S16x512x1536 .f32 :=
  Host.exp (subf s (broadcastInDim S16x512x1536 ![0, 1, 2] bcast_S16x512x1_S16x512x1536_0_1_2 (broadcastInDim S16x512x1 ![0, 1] bcast_S16x512_S16x512x1_0_1 (maximumf (broadcastInDim S16x512 ![] bcast_S_S16x512 (constant S_ .f32 0xFF800000#32)) x))))
/-- The probabilities. -/
def prs (e : FVec Ideal S16x512x1536 .f32) : FVec Ideal S16x512x1536 .f32 :=
  Host.divf e (broadcastInDim S16x512x1536 ![0, 1, 2] bcast_S16x512x1_S16x512x1536_0_1_2 (broadcastInDim S16x512x1 ![0, 1] bcast_S16x512_S16x512x1_0_1 (Host.reduceAdd e (constant S_ .f32 0x00000000#32) reducesTo_S16x512x1536_S16x512_d2 h_S_)))
/-- The outputs. -/
def outs (p : FVec Ideal S16x512x1536 .f32) (kv : FVec Ideal S1536x16x256 .f32) : FVec Ideal S512x2048 .bf16 :=
  truncf .bf16 (shapeCast S512x2048 (transpose S512x16x128 [2, 0, 1] (Host.dotGeneral dot_S1536x16x128_S16x512x1536_S16x128x512_0_2_2_1_1_0 none (extractStridedSlice S1536x16x128 ![0, 0, 128] kv slices_S1536x16x256_S1536x16x128_0_0_128) p) transposes_S16x128x512_S512x16x128_2_0_1) shapeCasts_S512x16x128_S512x2048) bitsLt_bf16_f32
/-- The masked scores from the arguments. -/
def allM (x0 x1 : FVec Ideal S2048x4096 .f32) (x2 : FVec Ideal S2048x1152 .f32) (x3 : IVec S2048 32) : FVec Ideal S16x512x1536 .f32 :=
  msk kblk qblk (scs (qh x0) (kvh x1) (qrot (ang x3) (q1 (qh x0)) (q2 (qh x0))) (krot (ang x3) (k1 x2) (k2 x2)))
/-- The outputs from the arguments. -/
def allO (x0 x1 : FVec Ideal S2048x4096 .f32) (x2 : FVec Ideal S2048x1152 .f32) (x3 : IVec S2048 32) : FVec Ideal S512x2048 .bf16 :=
  outs (prs (exs (allM x0 x1 x2 x3) (top (allM x0 x1 x2 x3)))) (kvh x1)
/-- The result from the arguments. -/
def refT (x0 x1 : FVec Ideal S2048x4096 .f32) (x2 : FVec Ideal S2048x1152 .f32) (x3 : IVec S2048 32) (x4 : FVec Ideal S2048x2048 .bf16) : FVec Ideal S2048x2048 .bf16 :=
  concatenate S2048x2048 0 [⟨S1024x2048, extractStridedSlice S1024x2048 ![0, 0] x4 slices_S2048x2048_S1024x2048_0_0⟩, ⟨S512x2048, allO x0 x1 x2 x3⟩, ⟨S512x2048, extractStridedSlice S512x2048 ![1536, 0] x4 slices_S2048x2048_S512x2048_1536_0⟩] concatenates_S1024x2048_S512x2048_S512x2048_S2048x2048_d0

variable {a : Args} {x0 x1 : FVec Ideal S2048x4096 .f32} {x2 : FVec Ideal S2048x1152 .f32} {x3 : IVec S2048 32}
  (h : a.Is x0 x1 x2 x3) (i : Fin 512) (k : Fin 1536) (e : Fin 16) (j : Fin 128)

section
include h
theorem ang_eq (i : Fin 2048) (l : Fin 32) : ang x3 (ix2 i l) = a.ang i.val l := by
  pointwise [ang]
  exact Args.ang_at _ _ (h.h3 i) l
theorem qh_at (l : Fin 256) : qh x0 (ix3 i e l) = a.Q (1024 + i.val) (256 * e.val + l.val) := by
  pointwise [qh]
  exact (h.h0 _ _).trans (by congr 2 <;> (simp only []; omega))
theorem kvh_at (l : Fin 256) : kvh x1 (ix3 k e l) = a.KV k.val (256 * e.val + l.val) := by
  pointwise [kvh]
  exact (h.h1 _ _).trans (by congr 2 <;> (simp only []; omega))
theorem k1_at (l : Fin 32) : k1 x2 (ix2 k l) = a.P k.val (1024 + l.val) := by
  pointwise [k1]
  exact h.h2 _ _
theorem k2_at (l : Fin 32) : k2 x2 (ix2 k l) = a.P k.val (1024 + (32 + l.val)) := by
  pointwise [k2]
  exact h.h2 _ _
theorem q1_at (l : Fin 32) : q1 (qh x0) (ix3 i e l) = a.Q (1024 + i.val) (256 * e.val + 128 + l.val) := by
  pointwise [q1]
  exact (qh_at h i e _).trans (congrArg (a.Q _) (by simp only []; omega))
theorem q2_at (l : Fin 32) : q2 (qh x0) (ix3 i e l) = a.Q (1024 + i.val) (256 * e.val + 128 + (32 + l.val)) := by
  pointwise [q2]
  exact (qh_at h i e _).trans (congrArg (a.Q _) (by simp only []; omega))
theorem qrot_at (l : Fin 64) : qrot (ang x3) (q1 (qh x0)) (q2 (qh x0)) (ix3 i e l) = (a.blk 1024 e.val 512 1536).qr i ⟨l.val, by omega⟩ := by
  have hc (l : Fin 32) : Ideal.cos (ang x3 (ix2 ⟨1024 + i.val, by omega⟩ l)) = a.C (1024 + i.val) l := by rw [ang_eq h]; rfl
  have hs (l : Fin 32) : Ideal.sin (ang x3 (ix2 ⟨1024 + i.val, by omega⟩ l)) = a.S (1024 + i.val) l := by rw [ang_eq h]; rfl
  pointwise [qrot]
  rcases lane_two l with ⟨l, rfl⟩ | ⟨l, rfl⟩
  · rw [dif_pos l.isLt, q1_at h, q2_at h, hc, hs]
    exact (Args.rope_0 a ((a.blk 1024 e.val 512 1536).qp i) (1024 + i.val) l).symm
  · rw [dif_neg (by simp)]
    simp only [Nat.add_sub_cancel_left]
    rw [q1_at h, q2_at h, hc, hs]
    exact (Args.rope_1 a ((a.blk 1024 e.val 512 1536).qp i) (1024 + i.val) l).symm
theorem krot_at (l : Fin 64) : krot (ang x3) (k1 x2) (k2 x2) (ix2 k l) = (a.blk 1024 e.val 512 1536).kr k ⟨l.val, by omega⟩ := by
  have hc (l : Fin 32) : Ideal.cos (ang x3 (ix2 ⟨k.val, by omega⟩ l)) = a.C k.val l := by rw [ang_eq h]; rfl
  have hs (l : Fin 32) : Ideal.sin (ang x3 (ix2 ⟨k.val, by omega⟩ l)) = a.S k.val l := by rw [ang_eq h]; rfl
  pointwise [krot]
  rcases lane_two l with ⟨l, rfl⟩ | ⟨l, rfl⟩
  · rw [dif_pos l.isLt, k1_at h, k2_at h, hc, hs]
    exact (Args.rope_0 a ((a.blk 1024 e.val 512 1536).kp k) k.val l).symm
  · rw [dif_neg (by simp)]
    simp only [Nat.add_sub_cancel_left]
    rw [k1_at h, k2_at h, hc, hs]
    exact (Args.rope_1 a ((a.blk 1024 e.val 512 1536).kp k) k.val l).symm
theorem scs_at : scs (qh x0) (kvh x1) (qrot (ang x3) (q1 (qh x0)) (q2 (qh x0))) (krot (ang x3) (k1 x2) (k2 x2)) (ix3 e i k) = (a.blk 1024 e.val 512 1536).sc i k := by
  pointwise [scs]
  have s := sum_lanes (fun x => (a.blk 1024 e.val 512 1536).qr i x * (a.blk 1024 e.val 512 1536).kr k x)
    (fun x hx => mul_eq_zero_of_left (Args.rope_2 a _ _ x hx) _)
  simp only [qh_at h, kvh_at h, krot_at h _ e, qrot_at h, lit_scale]
  unfold Blk.sc
  rw [s]
  exact congrArg (fun y => (_ + y) * (scale : EReal)) (Finset.sum_congr rfl fun x _ => mul_comm _ _)
end
theorem kblk_at : kblk (ix2 0 k) = BitVec.ofNat 32 (k.val / 64) := by
  pointwise [kblk]
  exact hfloor ⟨k.val, by omega⟩
theorem qblk_at : qblk (ix2 i 0) = BitVec.ofNat 32 ((1024 + i.val) / 64) := by
  pointwise [qblk]
  have e2 : IntOp.addi 1024#32 (BitVec.ofNat 32 i.val) = BitVec.ofNat 32 (1024 + i.val) := (BitVec.ofNat_add ..).symm
  rw [e2]
  exact hfloor ⟨1024 + i.val, by omega⟩
include h
theorem msk_at : allM x0 x1 x2 x3 (ix3 e i k) = (a.blk 1024 e.val 512 1536).msc i k := by
  pointwise [allM, msk]
  rw [scs_at h, kblk_at, qblk_at, show (id (constant (F := Ideal) S_ FTy.f32 0xFF800000#32) ix0 : EReal) = ⊥ from lit_ninf]
  exact sel_le (by omega) (by omega) _
omit h
section
variable {s : FVec Ideal S16x512x1536 .f32} {x : FVec Ideal S16x512 .f32} {B : Blk 512 1536}
theorem top_at (hs : ∀ k, s (ix3 e i k) = B.msc i k) : top s (ix2 e i) = B.mx i := by
  pointwise [top]
  rw [lit_ninf]
  simp only [hs]
  rfl
theorem exs_at (hs : ∀ k, s (ix3 e i k) = B.msc i k) (hx : x (ix2 e i) = B.mx i) : exs s x (ix3 e i k) = B.ex i k := by
  pointwise [exs]
  rw [hs, hx, lit_ninf, max_eq_right bot_le]
  rfl
theorem prs_at (hs : ∀ k, s (ix3 e i k) = B.ex i k) : prs s (ix3 e i k) = B.pr i k := by
  pointwise [prs]
  simp only [hs]
  rfl
end
include h
theorem pr_at : prs (exs (allM x0 x1 x2 x3) (top (allM x0 x1 x2 x3))) (ix3 e i k) = (a.blk 1024 e.val 512 1536).pr i k :=
  prs_at i k e fun k => exs_at i k e (fun k => msk_at h i k e) (top_at i e fun k => msk_at h i k e)
theorem out_eq (j : Fin 2048) : allO x0 x1 x2 x3 (ix2 i j) = (a.blk 1024 (j.val / 128) 512 1536).out i ⟨j.val % 128, Nat.mod_lt _ (by decide)⟩ := by
  unfold allO
  have hp (e k) := pr_at h i k e
  generalize prs (exs (allM x0 x1 x2 x3) (top (allM x0 x1 x2 x3))) = p at hp
  pointwise [outs]
  simp only [hp, kvh_at h]
  refine Finset.sum_congr rfl fun k _ => (mul_comm _ _).trans ?_
  exact congrArg (fun y => _ * a.KV k.val y) (by simp only []; omega)
/-- The reference's result. -/
theorem ref_eq (x : FVec Ideal S2048x2048 .bf16) : refT x0 x1 x2 x3 x = rO a 1024 1536 x := by
  funext p
  obtain ⟨i, j, rfl⟩ : ∃ (i : Fin 2048) (j : Fin 2048), p = ix2 i j := ⟨p 0, p 1, (ix2_eta p).symm⟩
  have ho (i : Fin 512) := out_eq h i j
  unfold refT
  generalize allO x0 x1 x2 x3 = o at ho
  by_cases h1 : i.val < 1024
  · refine Eq.trans ?_ (if_neg fun hL => by have : 1024 ≤ i.val := hL.1; omega).symm
    pointwise []
    exact dif_pos h1
  by_cases h2 : i.val - 1024 < 512
  · refine Eq.trans ?_ (rO_in a 1024 1536 x (ix2 i j) (R := 512) (lo' := 1024) (e := j.val / 128) ⟨i.val - 1024, h2⟩ ⟨j.val % 128, Nat.mod_lt _ (by decide)⟩
      (by show i.val = 1024 + (i.val - 1024); omega) (by show j.val = 128 * (j.val / 128) + j.val % 128; omega) le_rfl le_rfl).symm
    pointwise []
    rw [dif_neg h1, dif_pos h2]
    exact ho ⟨i.val - 1024, h2⟩
  · refine Eq.trans ?_ (if_neg fun hL => by have : i.val < 1024 + 512 := hL.2; omega).symm
    pointwise []
    rw [dif_neg h1, dif_neg h2]
    exact congrArg (fun z => x (ix2 z j)) (Fin.ext (by show 1536 + (i.val - 1024 - 512) = i.val; omega))

end Cert.Proof.Af2

end
-- ==== Proof.Af2Claim.lean ====
/- The claims about the forward attention call of the third quarter of the queries. -/
module

public import proofs.«01_k».proof.Defs
public import proofs.«01_k».proof.Proof.Gen.Af2
public import proofs.«01_k».proof.Proof.Gen.Af2.Frame
public import proofs.«01_k».proof.Proof.Af2Val
public import proofs.«01_k».proof.Proof.Af2Ref

@[expose] public section

set_option maxRecDepth 16384

noncomputable section

namespace Cert.Proof.Af2

open Idealize.ShloMosaic Idealize.ShloMosaic.TcCoe Idealize.SL.Sem Cert.Proof.Af Cert.Af2Ideal

/-- The kernel at the machine's floats terminates, keeps its arguments, and leaves every counter at zero. -/
theorem frame : Cert.quiescent_Af2 (hAf2 := Cert.Af2.Gen.facts) := fun m ρ _ => Cert.Af2.Gen.frame m ρ
/-- So does the kernel over the extended reals. -/
theorem frame_ideal : Cert.quiescent_Af2Ideal (hAf2Ideal := Cert.Af2Ideal.Gen.facts) := fun m ρ _ => Cert.Af2Ideal.Gen.frame m ρ
/-- So does the reference over the extended reals. -/
theorem frame_ref : Cert.quiescent_Af2RefIdeal (hAf2RefIdeal := Cert.Af2RefIdeal.Gen.facts) := fun m ρ _ =>
  (θ_run Cert.Af2RefIdeal.defs _ _).mono (fun r h => ⟨fun c => (h c).2, sem_eq_zero_of_no_sems (by decide) r.2⟩)
    (Cert.Af2RefIdeal.Value.run (F := Ideal) m ρ)
/-- No operation of the kernel is replaced. -/
theorem preserves : Cert.preserves_Af2_Af2Ideal := trivial
/-- Kernel and reference end with the same array. -/
theorem algebraic : Cert.algebraic_Af2Ideal_Af2RefIdeal (hAf2Ideal := Cert.Af2Ideal.Gen.facts) (hAf2RefIdeal := Cert.Af2RefIdeal.Gen.facts) := by
  intro m g m' g' _ hargs
  have hA (c : Dev nD) := Args.is_of (m ((c : Thread nD τ).loc main_arg0)) (m ((c : Thread nD τ).loc main_arg1)) (m ((c : Thread nD τ).loc main_arg2)) (m ((c : Thread nD τ).loc main_arg3))
  refine ⟨fun c => rO (Args.of (m ((c : Thread nD τ).loc main_arg0)) (m ((c : Thread nD τ).loc main_arg1)) (m ((c : Thread nD τ).loc main_arg2)) (m ((c : Thread nD τ).loc main_arg3)))
      1024 1536 (X4 m c),
    (θ_run Cert.Af2Ideal.defs _ _).mono (fun r h c => ⟨(h c).1.trans (final (hA c)), (h c).2⟩) (Cert.Af2Ideal.Value.run_blocks m g),
    (θ_run Cert.Af2RefIdeal.defs _ _).mono (fun r h c => ⟨(h c).1.trans ?_, (h c).2⟩) (Cert.Af2RefIdeal.Value.run (F := Ideal) m' g')⟩
  obtain ⟨a0, a1, a2, a3, a4⟩ := hargs c
  refine Eq.trans (?_ : _ = refT (m' (c.tc.loc Cert.Af2RefIdeal.main_arg0)) (m' (c.tc.loc Cert.Af2RefIdeal.main_arg1)) (m' (c.tc.loc Cert.Af2RefIdeal.main_arg2))
    (m' (c.tc.loc Cert.Af2RefIdeal.main_arg3)) (m' (c.tc.loc Cert.Af2RefIdeal.main_arg4))) ?_
  · rfl
  · rw [a0, a1, a2, a3, a4]; exact ref_eq (hA c) _

end Cert.Proof.Af2

end
-- ==== Proof.Af3Val.lean ====
/- The forward attention call of the fourth quarter of the queries: what its result array holds when the arguments hold
   given numbers. -/
module

public import proofs.«01_k».proof.Proof.Gen.Af3Ideal.Value
public import proofs.«01_k».proof.Proof.AfMath
public import Idealize.ShloMosaic.Lib.Pointwise
public import Idealize.ShloMosaic.Lib.Pipeline.Value

@[expose] public section

set_option maxRecDepth 16384

noncomputable section

namespace Cert.Proof.Af3

open Idealize.ShloMosaic Idealize.ShloMosaic.TcCoe Idealize.SL.Sem Cert.Af3Ideal Cert.Af3Ideal.Gen Cert.Af3Ideal.Value Cert.Proof.Af
open Cert.Proof.At (scale lit_scale lit_ninf)
open Cert.Proof.Mm (hz2)

section
variable {q : ℕ} {x0 x1 : Vec Ideal S256x128 .f32} {x2 x3 : Vec Ideal S2048x128 .f32} {x4 x5 : Vec Ideal S256x128 .f32}
  {x6 x7 x8 : Vec Ideal S2048x128 .f32} {B : Blk 256 2048} (H : Holds (1536 + 256 * q) x0 x1 x2 x3 x4 x5 x6 x7 x8 B)
include H

theorem pay2_eq (r : Fin 256) (j : Fin 128) : k0_pay2 (F := Ideal) x1 x4 x5 (ix2 r j) = B.qr r j := by
  pointwise [k0_pay2]
  rw [sel_rot (fun k => x1 (ix2 r k)), H.h4, H.h5, funext (H.h1 r), H.h1]
  rfl
theorem pay3_eq (k : Fin 2048) (j : Fin 128) : k0_pay3 (F := Ideal) x3 x6 x7 (ix2 k j) = B.kr k j := by
  pointwise [k0_pay3]
  rw [sel_rot (fun i => x3 (ix2 k i)), H.h6, H.h7, funext (H.h3 k), H.h3]
  rfl
/-- The scores. -/
theorem pay5_eq (r : Fin 256) (k : Fin 2048) :
    k0_pay5 (F := Ideal) (k0_pay2 x1 x4 x5) (k0_pay3 x3 x6 x7) (k0_pay4 x0 x2) (ix2 r k) = B.sc r k := by
  pointwise [k0_pay5, k0_pay4]
  simp only [pay2_eq H, pay3_eq H, H.h0, H.h2, lit_scale]
  rfl
theorem pay6_eq (hq : q < 2) (r : Fin 256) (k : Fin 2048) : k0_pay6 (BitVec.ofNat 32 q) (ix2 r k) = BitVec.ofNat 32 (B.pos r) := by
  pointwise [k0_pay6]
  rw [H.hp]
  interval_cases q <;> revert r <;> decide +kernel
omit H in
theorem pay7_eq (r : Fin 256) (k : Fin 2048) : k0_pay7 (ix2 r k) = BitVec.ofNat 32 (k.val / 64) := by
  pointwise [k0_pay7]
  exact kfloor ⟨k.val, by omega⟩
/-- The block a point stores. -/
theorem pay1_eq (hq : q < 2) (r : Fin 256) (j : Fin 128) :
    k0_pay1 (F := Ideal) (k0_pay5 (k0_pay2 x1 x4 x5) (k0_pay3 x3 x6 x7) (k0_pay4 x0 x2)) (k0_pay6 (BitVec.ofNat 32 q)) k0_pay7 64#32
      (k0_pay8 (BitVec.ofNat 32 q)) (k0_pay9 (BitVec.ofNat 32 q)) (Scalar.extui (Scalar.cmpi CmpIPredicate.sgt 64#32 0#32)) x8 (ix2 r j) = B.out r j := by
  have hl : B.pos r < 2048 := by have := H.hp r; have := H.hl; omega
  pointwise [k0_pay1, k0_pay8, k0_pay9]
  simp only [pay6_eq H hq, pay7_eq, pay5_eq H, lit_ninf, kfloor ⟨B.pos r, hl⟩]
  have e (k : Fin 2048) : Scalar.select (IntOp.cmpi CmpIPredicate.sle (BitVec.ofNat 32 (k.val / 64)) (BitVec.ofNat 32 (B.pos r / 64))) (B.sc r k) ⊥ = B.msc r k :=
    sel_le hl (by omega) _
  simp only [e, H.h8]
  rfl
end

theorem coord1 : ∀ t : Fin cfg0.N, (grid0.coords t 1).val = t.val % 2 := (by decide +kernel : ∀ t : Fin grid0.N, (grid0.coords t 1).val = t.val % 2)

variable (m : (ℓ : Loc nD τ sig) → Buf (Elt Ideal) ℓ) (c : Dev nD)

/-- The launch memory of one device holds the arguments `a`. -/
abbrev HasArgs (a : Args) : Prop :=
  a.Is (m ((c : Thread nD τ).loc main_arg0)) (m ((c : Thread nD τ).loc main_arg1)) (m ((c : Thread nD τ).loc main_arg2))
    (m ((c : Thread nD τ).loc main_arg3))
/-- What the result array held before the launch. -/
abbrev X4 : S2048x2048.Idx → EReal := m ((c : Thread nD τ).loc main_arg4)
/-- What a point leaves in its block. -/
theorem out_at (t : Fin cfg0.N) {B : Blk 256 2048} (H : Holds (1536 + 256 * (t.val % 2)) (iblk m c 0 t) (iblk m c 1 t) (iblk m c 2 t) (iblk m c 3 t)
    (iblk m c 4 t) (iblk m c 5 t) (iblk m c 6 t) (iblk m c 7 t) (iblk m c 8 t) B) (r : Fin 256) (j : Fin 128) :
    (outsAt0 m c t : Vec Ideal S256x128 .bf16) (ix2 r j) = B.out r j := by
  unfold outsAt0 out0_A_9
  rw [View.read_writes_eq_canon _ _ _ (fun _ => cover0_A_9 ..)]
  unfold kernelRun0_A; dsimp only
  rw [View.canon_unit_zero hz2]
  sl_unfold_run_names
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    View.ld_unit_zero (S := S256x128) hz2, View.ld_unit_zero (S := S2048x128) hz2]
  rw [coord1]
  exact pay1_eq H (Nat.mod_lt _ (by decide)) r j

/-- The tables are set side by side before the launch. -/
theorem V_v19 : V m c main_v19 = concatenate S2048x128 1 [⟨S2048x32, V m c main_v16⟩, ⟨S2048x32, V m c main_v16⟩, ⟨S2048x64, V m c main_v18⟩]
    concatenates_S2048x32_S2048x32_S2048x64_S2048x128_d1 := by rfl
theorem V_v21 : V m c main_v21 = concatenate S2048x128 1 [⟨S2048x32, V m c main_v20⟩, ⟨S2048x32, V m c main_v17⟩, ⟨S2048x64, V m c main_v18⟩]
    concatenates_S2048x32_S2048x32_S2048x64_S2048x128_d1 := by rfl
theorem V_v18 : V m c main_v18 = broadcastInDim S2048x64 ![] bcast_S_S2048x64 (constant (F := Ideal) S_ .f32 0x00000000#32) := by
  show StableHlo.after hostOps0 _ _ = _
  after_results; try rfl
/-- The angles. -/
def angT : FVec Ideal S2048x32 .f32 := mulf (broadcastInDim S2048x32 ![0, 1] bcast_S2048x1_S2048x32_0_1 (broadcastInDim S2048x1 ![0] bcast_S2048_S2048x1_0 (sitofp .f32 (m ((c : Thread nD τ).loc main_arg3) : IVec S2048 32)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
theorem V_v16 : V m c main_v16 = Host.cos (angT m c) := by
  show StableHlo.after hostOps0 _ _ = _
  after_results; try rfl
theorem V_v17 : V m c main_v17 = Host.sin (angT m c) := by
  show StableHlo.after hostOps0 _ _ = _
  after_results; try rfl
theorem V_v20 : V m c main_v20 = Host.negf (Host.sin (angT m c)) := by
  show StableHlo.after hostOps0 _ _ = _
  after_results; try rfl
theorem V_prev : V m c main_v22 = X4 m c := by
  show StableHlo.after hostOps0 _ _ = _
  after_results; try rfl

variable {m c} {a : Args} (h : HasArgs m c a)
include h

theorem angT_at (i : Fin 2048) (l : Fin 32) : angT m c (ix2 i l) = a.ang i.val l := by
  pointwise [angT]
  exact Args.ang_at _ _ (h.h3 i) l
theorem v19_at (i : Fin 2048) (j : Fin 128) : (V m c main_v19 : Vec Ideal S2048x128 .f32) (ix2 i j) = a.pc i.val j := by
  rw [V_v19, V_v16, V_v18]
  pointwise []
  simp only [angT_at h]
  unfold Args.pc
  rfl
theorem v21_at (i : Fin 2048) (j : Fin 128) : (V m c main_v21 : Vec Ideal S2048x128 .f32) (ix2 i j) = a.ps i.val j := by
  rw [V_v21, V_v20, V_v17, V_v18]
  pointwise []
  simp only [angT_at h]
  unfold Args.ps
  rfl

omit h
theorem idx0 : ∀ t : Fin cfg0.N, win0_0.index t 0 = 6 + t.val % 2 ∧ win0_0.index t 1 = 2 * (t.val / 2) := (by decide +kernel : ∀ t : Fin grid0.N, win0_0.index t 0 = 6 + t.val % 2 ∧ win0_0.index t 1 = 2 * (t.val / 2))
theorem idx1 : ∀ t : Fin cfg0.N, win0_1.index t 0 = 6 + t.val % 2 ∧ win0_1.index t 1 = 2 * (t.val / 2) + 1 := (by decide +kernel : ∀ t : Fin grid0.N, win0_1.index t 0 = 6 + t.val % 2 ∧ win0_1.index t 1 = 2 * (t.val / 2) + 1)
theorem idx2 : ∀ t : Fin cfg0.N, win0_2.index t 0 = 0 ∧ win0_2.index t 1 = 2 * (t.val / 2) := (by decide +kernel : ∀ t : Fin grid0.N, win0_2.index t 0 = 0 ∧ win0_2.index t 1 = 2 * (t.val / 2))
theorem idx3 : ∀ t : Fin cfg0.N, win0_3.index t 0 = 0 ∧ win0_3.index t 1 = 8 := (by decide +kernel : ∀ t : Fin grid0.N, win0_3.index t 0 = 0 ∧ win0_3.index t 1 = 8)
theorem idx4 : ∀ t : Fin cfg0.N, win0_4.index t 0 = 6 + t.val % 2 ∧ win0_4.index t 1 = 0 := (by decide +kernel : ∀ t : Fin grid0.N, win0_4.index t 0 = 6 + t.val % 2 ∧ win0_4.index t 1 = 0)
theorem idx5 : ∀ t : Fin cfg0.N, win0_5.index t 0 = 6 + t.val % 2 ∧ win0_5.index t 1 = 0 := (by decide +kernel : ∀ t : Fin grid0.N, win0_5.index t 0 = 6 + t.val % 2 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 2 * (t.val / 2) + 1 := (by decide +kernel : ∀ t : Fin grid0.N, win0_8.index t 0 = 0 ∧ win0_8.index t 1 = 2 * (t.val / 2) + 1)
theorem idx9 : ∀ t : Fin cfg0.N, win0_9.index t 0 = 6 + t.val % 2 ∧ win0_9.index t 1 = t.val / 2 := (by decide +kernel : ∀ t : Fin grid0.N, win0_9.index t 0 = 6 + t.val % 2 ∧ win0_9.index t 1 = t.val / 2)
theorem rd0 (t : Fin cfg0.N) (r : Fin 256) (j : Fin 128) : ∃ p : S2048x4096.Idx, (p 0).val = 1536 + 256 * (t.val % 2) + r.val ∧ (p 1).val = 256 * (t.val / 2) + j.val ∧
    (iblk m c 0 t : Vec Ideal S256x128 .f32) (ix2 r j) = (V m c main_arg0 : Vec Ideal S2048x4096 .f32) p := by
  refine ⟨?p, ?_, ?_, ?e⟩
  case e => unfold iblk; rw [View.read_apply]; rfl
  · show win0_0.index t 0 * 256 + 1 * r.val = _; rw [(idx0 t).1]; omega
  · show win0_0.index t 1 * 128 + 1 * j.val = _; rw [(idx0 t).2]; omega
theorem rd1 (t : Fin cfg0.N) (r : Fin 256) (j : Fin 128) : ∃ p : S2048x4096.Idx, (p 0).val = 1536 + 256 * (t.val % 2) + r.val ∧ (p 1).val = 256 * (t.val / 2) + 128 + j.val ∧
    (iblk m c 1 t : Vec Ideal S256x128 .f32) (ix2 r j) = (V m c main_arg0 : Vec Ideal S2048x4096 .f32) p := by
  refine ⟨?p, ?_, ?_, ?e⟩
  case e => unfold iblk; rw [View.read_apply]; rfl
  · show win0_1.index t 0 * 256 + 1 * r.val = _; rw [(idx1 t).1]; omega
  · show win0_1.index t 1 * 128 + 1 * j.val = _; rw [(idx1 t).2]; omega
theorem rd2 (t : Fin cfg0.N) (r : Fin 2048) (j : Fin 128) : ∃ p : S2048x4096.Idx, (p 0).val = r.val ∧ (p 1).val = 256 * (t.val / 2) + j.val ∧
    (iblk m c 2 t : Vec Ideal S2048x128 .f32) (ix2 r j) = (V m c main_arg1 : Vec Ideal S2048x4096 .f32) p := by
  refine ⟨?p, ?_, ?_, ?e⟩
  case e => unfold iblk; rw [View.read_apply]; rfl
  · show win0_2.index t 0 * 2048 + 1 * r.val = _; rw [(idx2 t).1]; omega
  · show win0_2.index t 1 * 128 + 1 * j.val = _; rw [(idx2 t).2]; omega
theorem rd3 (t : Fin cfg0.N) (r : Fin 2048) (j : Fin 128) : ∃ p : S2048x1152.Idx, (p 0).val = r.val ∧ (p 1).val = 1024 + j.val ∧
    (iblk m c 3 t : Vec Ideal S2048x128 .f32) (ix2 r j) = (V m c main_arg2 : Vec Ideal S2048x1152 .f32) p := by
  refine ⟨?p, ?_, ?_, ?e⟩
  case e => unfold iblk; rw [View.read_apply]; rfl
  · show win0_3.index t 0 * 2048 + 1 * r.val = _; rw [(idx3 t).1]; omega
  · show win0_3.index t 1 * 128 + 1 * j.val = _; rw [(idx3 t).2]; omega
theorem rd4 (t : Fin cfg0.N) (r : Fin 256) (j : Fin 128) : ∃ p : S2048x128.Idx, (p 0).val = 1536 + 256 * (t.val % 2) + r.val ∧ (p 1).val = j.val ∧
    (iblk m c 4 t : Vec Ideal S256x128 .f32) (ix2 r j) = (V m c main_v19 : Vec Ideal S2048x128 .f32) p := by
  refine ⟨?p, ?_, ?_, ?e⟩
  case e => unfold iblk; rw [View.read_apply]; rfl
  · show win0_4.index t 0 * 256 + 1 * r.val = _; rw [(idx4 t).1]; omega
  · show win0_4.index t 1 * 128 + 1 * j.val = _; rw [(idx4 t).2]; omega
theorem rd5 (t : Fin cfg0.N) (r : Fin 256) (j : Fin 128) : ∃ p : S2048x128.Idx, (p 0).val = 1536 + 256 * (t.val % 2) + r.val ∧ (p 1).val = j.val ∧
    (iblk m c 5 t : Vec Ideal S256x128 .f32) (ix2 r j) = (V m c main_v21 : Vec Ideal S2048x128 .f32) p := by
  refine ⟨?p, ?_, ?_, ?e⟩
  case e => unfold iblk; rw [View.read_apply]; rfl
  · show win0_5.index t 0 * 256 + 1 * r.val = _; rw [(idx5 t).1]; omega
  · show win0_5.index t 1 * 128 + 1 * j.val = _; rw [(idx5 t).2]; omega
theorem rd6 (t : Fin cfg0.N) (r : Fin 2048) (j : Fin 128) : ∃ p : S2048x128.Idx, (p 0).val = r.val ∧ (p 1).val = j.val ∧
    (iblk m c 6 t : Vec Ideal S2048x128 .f32) (ix2 r j) = (V m c main_v19 : Vec Ideal S2048x128 .f32) p := by
  refine ⟨?p, ?_, ?_, ?e⟩
  case e => unfold iblk; rw [View.read_apply]; rfl
  · show win0_6.index t 0 * 2048 + 1 * r.val = _; rw [(idx6 t).1]; omega
  · show win0_6.index t 1 * 128 + 1 * j.val = _; rw [(idx6 t).2]; omega
theorem rd7 (t : Fin cfg0.N) (r : Fin 2048) (j : Fin 128) : ∃ p : S2048x128.Idx, (p 0).val = r.val ∧ (p 1).val = j.val ∧
    (iblk m c 7 t : Vec Ideal S2048x128 .f32) (ix2 r j) = (V m c main_v21 : Vec Ideal S2048x128 .f32) p := by
  refine ⟨?p, ?_, ?_, ?e⟩
  case e => unfold iblk; rw [View.read_apply]; rfl
  · show win0_7.index t 0 * 2048 + 1 * r.val = _; rw [(idx7 t).1]; omega
  · show win0_7.index t 1 * 128 + 1 * j.val = _; rw [(idx7 t).2]; omega
theorem rd8 (t : Fin cfg0.N) (r : Fin 2048) (j : Fin 128) : ∃ p : S2048x4096.Idx, (p 0).val = r.val ∧ (p 1).val = 256 * (t.val / 2) + 128 + j.val ∧
    (iblk m c 8 t : Vec Ideal S2048x128 .f32) (ix2 r j) = (V m c main_arg1 : Vec Ideal S2048x4096 .f32) p := by
  refine ⟨?p, ?_, ?_, ?e⟩
  case e => unfold iblk; rw [View.read_apply]; rfl
  · show win0_8.index t 0 * 2048 + 1 * r.val = _; rw [(idx8 t).1]; omega
  · show win0_8.index t 1 * 128 + 1 * j.val = _; rw [(idx8 t).2]; omega
include h

/-- The blocks a point reads hold its head's numbers. -/
theorem holds (t : Fin cfg0.N) : Holds (1536 + 256 * (t.val % 2)) (iblk m c 0 t) (iblk m c 1 t) (iblk m c 2 t) (iblk m c 3 t)
    (iblk m c 4 t) (iblk m c 5 t) (iblk m c 6 t) (iblk m c 7 t) (iblk m c 8 t) (a.blk (1536 + 256 * (t.val % 2)) (t.val / 2) 256 2048) := by
  have hN : t.val < 32 := t.isLt.trans_eq N_0
  refine ⟨?_, ?_, ?_, ?_, ?_, ?_, ?_, ?_, ?_, fun r => rfl, by omega⟩
  · intro r j
    obtain ⟨p, h0, h1, e⟩ := rd0 (m := m) (c := c) t r j
    exact e.trans ((congrFun (V_main_arg0 m c) p).trans (ent h.h0 p h0 h1))
  · intro r j
    obtain ⟨p, h0, h1, e⟩ := rd1 (m := m) (c := c) t r j
    exact e.trans ((congrFun (V_main_arg0 m c) p).trans (ent h.h0 p h0 h1))
  · intro r j
    obtain ⟨p, h0, h1, e⟩ := rd2 (m := m) (c := c) t r j
    exact e.trans ((congrFun (V_main_arg1 m c) p).trans (ent h.h1 p h0 h1))
  · intro r j
    obtain ⟨p, h0, h1, e⟩ := rd3 (m := m) (c := c) t r j
    exact e.trans ((congrFun (V_main_arg2 m c) p).trans (ent h.h2 p h0 h1))
  · intro r j
    obtain ⟨p, h0, h1, e⟩ := rd4 (m := m) (c := c) t r j
    exact e.trans (ent' (v19_at h) p h0 h1)
  · intro r j
    obtain ⟨p, h0, h1, e⟩ := rd5 (m := m) (c := c) t r j
    exact e.trans (ent' (v21_at h) p h0 h1)
  · intro r j
    obtain ⟨p, h0, h1, e⟩ := rd6 (m := m) (c := c) t r j
    exact e.trans (ent' (v19_at h) p h0 h1)
  · intro r j
    obtain ⟨p, h0, h1, e⟩ := rd7 (m := m) (c := c) t r j
    exact e.trans (ent' (v21_at h) p h0 h1)
  · intro r j
    obtain ⟨p, h0, h1, e⟩ := rd8 (m := m) (c := c) t r j
    exact e.trans ((congrFun (V_main_arg1 m c) p).trans (ent h.h1 p h0 h1))
theorem flushed_O (t : Fin cfg0.N) (hf : (cfg0.win 9).flush t = true) :
    (dats m 0 c).flushed 9 t = ((cfg0.win 9).blk t).view.read (Elt Ideal) (rO a 1536 2048 (X4 m c)) := by
  have hN : t.val < 32 := t.isLt.trans_eq N_0
  rw [flushed9]
  funext p
  obtain ⟨r, j, rfl⟩ : ∃ (r : Fin 256) (j : Fin 128), p = ix2 r j := ⟨p 0, p 1, (ix2_eta p).symm⟩
  rw [View.read_apply]
  refine (out_at m c t (holds h t) r j).trans (rO_in a 1536 2048 (X4 m c) (((cfg0.win 9).blk t).view.emb (ix2 r j)) r j ?_ ?_ (by omega) (by omega)).symm
  · show win0_9.index t 0 * 256 + 1 * r.val = _; rw [(idx9 t).1]; omega
  · show win0_9.index t 1 * 128 + 1 * j.val = _; rw [(idx9 t).2]; omega
theorem final : (dats m 0 c).arrAt 9 cfg0.N = rO a 1536 2048 (X4 m c) := by
  funext i
  rw [(dats m 0 c).arrAt_eq_piecewise 9 _ (flushed_O h) i]
  split
  · rfl
  · next hno =>
    rw [A_eq]
    refine (congrFun (V_prev m c) i).trans (Eq.symm (if_neg fun hL : 1536 ≤ (i 0).val ∧ (i 0).val < 1536 + 512 => hno ?_))
    have hN : cfg0.N = 32 := N_0
    have hi1 : (i 1).val < 2048 := (i 1).isLt
    obtain ⟨t, ht⟩ := Mm.fin_of (show 2 * ((i 1).val / 128) + ((i 0).val - 1536) / 256 < cfg0.N by omega)
    refine ⟨t, flush0_9 t, ?_⟩
    show i ∈ ((View.whole main_v22).slice (win0_9.rect t)).set
    rw [View.set_slice_whole, Rect.mem_set_unit]
    intro q
    match q with
    | ⟨0, _⟩ => exact Mm.in_blk 256 (i 0).val (idx9 t).1 (by omega)
    | ⟨1, _⟩ => exact Mm.in_blk 128 (i 1).val (idx9 t).2 (by omega)

end Cert.Proof.Af3

end
-- ==== Proof.Af3Ref.lean ====
/- The forward attention of the fourth quarter of the queries as the reference computes it. -/
module

public import proofs.«01_k».proof.Proof.AfMath
public import proofs.«01_k».proof.Proof.Gen.Af3RefIdeal.Run

@[expose] public section

set_option maxRecDepth 16384

noncomputable section

namespace Cert.Proof.Af3

open Idealize.ShloMosaic Idealize.SL.Sem Cert.Af3RefIdeal Cert.Af3RefIdeal.Gen Cert.Af3RefIdeal.Value Cert.Proof.Af
open Cert.Proof.At (scale lit_scale lit_ninf)

/-- The angles. -/
def ang (x3 : IVec S2048 32) : FVec Ideal S2048x32 .f32 := mulf (broadcastInDim S2048x32 ![0, 1] bcast_S2048x1_S2048x32_0_1 (broadcastInDim S2048x1 ![0] bcast_S2048_S2048x1_0 (sitofp .f32 x3))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
/-- The queries by heads. -/
def qh (x0 : FVec Ideal S2048x4096 .f32) : FVec Ideal S512x16x256 .f32 := (shapeCast S512x16x256 (extractStridedSlice S512x4096 ![1536, 0] x0 slices_S2048x4096_S512x4096_1536_0) shapeCasts_S512x4096_S512x16x256)
/-- The keys and values by heads. -/
def kvh (x1 : FVec Ideal S2048x4096 .f32) : FVec Ideal S2048x16x256 .f32 := (shapeCast S2048x16x256 x1 shapeCasts_S2048x4096_S2048x16x256)
/-- The two halves of the queries' part with positions. -/
def q1 (q : FVec Ideal S512x16x256 .f32) : FVec Ideal S512x16x32 .f32 := extractStridedSlice S512x16x32 ![0, 0, 0] (extractStridedSlice S512x16x64 ![0, 0, 128] q slices_S512x16x256_S512x16x64_0_0_128) slices_S512x16x64_S512x16x32_0_0_0
def q2 (q : FVec Ideal S512x16x256 .f32) : FVec Ideal S512x16x32 .f32 := extractStridedSlice S512x16x32 ![0, 0, 32] (extractStridedSlice S512x16x64 ![0, 0, 128] q slices_S512x16x256_S512x16x64_0_0_128) slices_S512x16x64_S512x16x32_0_0_32
/-- The rotated queries. -/
def qrot (A : FVec Ideal S2048x32 .f32) (a b : FVec Ideal S512x16x32 .f32) : FVec Ideal S512x16x64 .f32 :=
  concatenate S512x16x64 2 [⟨S512x16x32, subf (mulf a (broadcastInDim S512x16x32 ![0, 1, 2] bcast_S512x1x32_S512x16x32_0_1_2 (broadcastInDim S512x1x32 ![0, 2] bcast_S512x32_S512x1x32_0_2 (extractStridedSlice S512x32 ![1536, 0] (Host.cos A) slices_S2048x32_S512x32_1536_0)))) (mulf b (broadcastInDim S512x16x32 ![0, 1, 2] bcast_S512x1x32_S512x16x32_0_1_2 (broadcastInDim S512x1x32 ![0, 2] bcast_S512x32_S512x1x32_0_2 (extractStridedSlice S512x32 ![1536, 0] (Host.sin A) slices_S2048x32_S512x32_1536_0))))⟩,
    ⟨S512x16x32, addf (mulf a (broadcastInDim S512x16x32 ![0, 1, 2] bcast_S512x1x32_S512x16x32_0_1_2 (broadcastInDim S512x1x32 ![0, 2] bcast_S512x32_S512x1x32_0_2 (extractStridedSlice S512x32 ![1536, 0] (Host.sin A) slices_S2048x32_S512x32_1536_0)))) (mulf b (broadcastInDim S512x16x32 ![0, 1, 2] bcast_S512x1x32_S512x16x32_0_1_2 (broadcastInDim S512x1x32 ![0, 2] bcast_S512x32_S512x1x32_0_2 (extractStridedSlice S512x32 ![1536, 0] (Host.cos A) slices_S2048x32_S512x32_1536_0))))⟩] concatenates_S512x16x32_S512x16x32_S512x16x64_d2
/-- The two halves of the keys' part with positions. -/
def k1 (x2 : FVec Ideal S2048x1152 .f32) : FVec Ideal S2048x32 .f32 := extractStridedSlice S2048x32 ![0, 0] (extractStridedSlice S2048x64 ![0, 1024] x2 slices_S2048x1152_S2048x64_0_1024) slices_S2048x64_S2048x32_0_0
def k2 (x2 : FVec Ideal S2048x1152 .f32) : FVec Ideal S2048x32 .f32 := extractStridedSlice S2048x32 ![0, 32] (extractStridedSlice S2048x64 ![0, 1024] x2 slices_S2048x1152_S2048x64_0_1024) slices_S2048x64_S2048x32_0_32
/-- The rotated keys. -/
def krot (A : FVec Ideal S2048x32 .f32) (a b : FVec Ideal S2048x32 .f32) : FVec Ideal S2048x64 .f32 :=
  concatenate S2048x64 1 [⟨S2048x32, subf (mulf a (Host.cos A)) (mulf b (Host.sin A))⟩,
    ⟨S2048x32, addf (mulf a (Host.sin A)) (mulf b (Host.cos A))⟩] concatenates_S2048x32_S2048x32_S2048x64_d1
/-- The scores. -/
def scs (q : FVec Ideal S512x16x256 .f32) (kv : FVec Ideal S2048x16x256 .f32) (Qr : FVec Ideal S512x16x64 .f32) (Kr : FVec Ideal S2048x64 .f32) : FVec Ideal S16x512x2048 .f32 :=
  mulf (addf (Host.dotGeneral dot_S512x16x128_S2048x16x128_S16x512x2048_2_2_0_0_1_1 none (extractStridedSlice S512x16x128 ![0, 0, 0] q slices_S512x16x256_S512x16x128_0_0_0) (extractStridedSlice S2048x16x128 ![0, 0, 0] kv slices_S2048x16x256_S2048x16x128_0_0_0))
    (transpose S16x512x2048 [2, 1, 0] (Host.dotGeneral dot_S2048x64_S512x16x64_S2048x512x16_1_2_0_01_n_n none Kr Qr) transposes_S2048x512x16_S16x512x2048_2_1_0)) (broadcastInDim S16x512x2048 ![] bcast_S_S16x512x2048 (constant S_ .f32 0x3D93CD3A#32))
/-- The keys' and the queries' block numbers. -/
def kblk : IVec S1x2048 32 := select (andi (cmpi .ne (signi (broadcastInDim S1x2048 ![1] bcast_S2048_S1x2048_1 (iotaInDim S2048 32 0))) (broadcastInDim S1x2048 ![] bcast_S_S1x2048 (signi (id (constantI S_ 32 64#32))))) (cmpi .ne (Host.remsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 64#32))))
def qblk : IVec S512x1 32 := select (andi (cmpi .ne (signi (broadcastInDim S512x1 ![0] bcast_S512_S512x1_0 (addi (broadcastInDim S512 ![] bcast_S_S512 (constantI S_ 32 1536#32)) (iotaInDim S512 32 0)))) (broadcastInDim S512x1 ![] bcast_S_S512x1 (signi (id (constantI S_ 32 64#32))))) (cmpi .ne (Host.remsi (broadcastInDim S512x1 ![0] bcast_S512_S512x1_0 (addi (broadcastInDim S512 ![] bcast_S_S512 (constantI S_ 32 1536#32)) (iotaInDim S512 32 0))) (broadcastInDim S512x1 ![] bcast_S_S512x1 (id (constantI S_ 32 64#32)))) (broadcastInDim S512x1 ![] bcast_S_S512x1 (constantI S_ 32 0#32)))) (subi (Host.divsi (broadcastInDim S512x1 ![0] bcast_S512_S512x1_0 (addi (broadcastInDim S512 ![] bcast_S_S512 (constantI S_ 32 1536#32)) (iotaInDim S512 32 0))) (broadcastInDim S512x1 ![] bcast_S_S512x1 (id (constantI S_ 32 64#32)))) (broadcastInDim S512x1 ![] bcast_S_S512x1 (constantI S_ 32 1#32))) (Host.divsi (broadcastInDim S512x1 ![0] bcast_S512_S512x1_0 (addi (broadcastInDim S512 ![] bcast_S_S512 (constantI S_ 32 1536#32)) (iotaInDim S512 32 0))) (broadcastInDim S512x1 ![] bcast_S_S512x1 (id (constantI S_ 32 64#32))))
/-- The scores with what is not seen at minus infinity. -/
def msk (kb : IVec S1x2048 32) (qb : IVec S512x1 32) (s : FVec Ideal S16x512x2048 .f32) : FVec Ideal S16x512x2048 .f32 :=
  select (broadcastInDim S16x512x2048 ![0, 1, 2] bcast_S1x512x2048_S16x512x2048_0_1_2 (broadcastInDim S1x512x2048 ![1, 2] bcast_S512x2048_S1x512x2048_1_2 (cmpi .sle (broadcastInDim S512x2048 ![0, 1] bcast_S1x2048_S512x2048_0_1 kb) (broadcastInDim S512x2048 ![0, 1] bcast_S512x1_S512x2048_0_1 qb))))
    s (broadcastInDim S16x512x2048 ![] bcast_S_S16x512x2048 (id (constant S_ .f32 0xFF800000#32)))
/-- The greatest scores. -/
def top (s : FVec Ideal S16x512x2048 .f32) : FVec Ideal S16x512 .f32 := Host.reduce FloatOps.maximumf s (constant S_ .f32 0xFF800000#32) reducesTo_S16x512x2048_S16x512_d2 h_S_
/-- The exponentials. -/
def exs (s : FVec Ideal S16x512x2048 .f32) (x : FVec Ideal S16x512 .f32) : FVec Ideal S16x512x2048 .f32 :=
  Host.exp (subf s (broadcastInDim S16x512x2048 ![0, 1, 2] bcast_S16x512x1_S16x512x2048_0_1_2 (broadcastInDim S16x512x1 ![0, 1] bcast_S16x512_S16x512x1_0_1 (maximumf (broadcastInDim S16x512 ![] bcast_S_S16x512 (constant S_ .f32 0xFF800000#32)) x))))
/-- The probabilities. -/
def prs (e : FVec Ideal S16x512x2048 .f32) : FVec Ideal S16x512x2048 .f32 :=
  Host.divf e (broadcastInDim S16x512x2048 ![0, 1, 2] bcast_S16x512x1_S16x512x2048_0_1_2 (broadcastInDim S16x512x1 ![0, 1] bcast_S16x512_S16x512x1_0_1 (Host.reduceAdd e (constant S_ .f32 0x00000000#32) reducesTo_S16x512x2048_S16x512_d2 h_S_)))
/-- The outputs. -/
def outs (p : FVec Ideal S16x512x2048 .f32) (kv : FVec Ideal S2048x16x256 .f32) : FVec Ideal S512x2048 .bf16 :=
  truncf .bf16 (shapeCast S512x2048 (transpose S512x16x128 [2, 0, 1] (Host.dotGeneral dot_S2048x16x128_S16x512x2048_S16x128x512_0_2_2_1_1_0 none (extractStridedSlice S2048x16x128 ![0, 0, 128] kv slices_S2048x16x256_S2048x16x128_0_0_128) p) transposes_S16x128x512_S512x16x128_2_0_1) shapeCasts_S512x16x128_S512x2048) bitsLt_bf16_f32
/-- The masked scores from the arguments. -/
def allM (x0 x1 : FVec Ideal S2048x4096 .f32) (x2 : FVec Ideal S2048x1152 .f32) (x3 : IVec S2048 32) : FVec Ideal S16x512x2048 .f32 :=
  msk kblk qblk (scs (qh x0) (kvh x1) (qrot (ang x3) (q1 (qh x0)) (q2 (qh x0))) (krot (ang x3) (k1 x2) (k2 x2)))
/-- The outputs from the arguments. -/
def allO (x0 x1 : FVec Ideal S2048x4096 .f32) (x2 : FVec Ideal S2048x1152 .f32) (x3 : IVec S2048 32) : FVec Ideal S512x2048 .bf16 :=
  outs (prs (exs (allM x0 x1 x2 x3) (top (allM x0 x1 x2 x3)))) (kvh x1)
/-- The result from the arguments. -/
def refT (x0 x1 : FVec Ideal S2048x4096 .f32) (x2 : FVec Ideal S2048x1152 .f32) (x3 : IVec S2048 32) (x4 : FVec Ideal S2048x2048 .bf16) : FVec Ideal S2048x2048 .bf16 :=
  concatenate S2048x2048 0 [⟨S1536x2048, extractStridedSlice S1536x2048 ![0, 0] x4 slices_S2048x2048_S1536x2048_0_0⟩, ⟨S512x2048, allO x0 x1 x2 x3⟩] concatenates_S1536x2048_S512x2048_S2048x2048_d0

variable {a : Args} {x0 x1 : FVec Ideal S2048x4096 .f32} {x2 : FVec Ideal S2048x1152 .f32} {x3 : IVec S2048 32}
  (h : a.Is x0 x1 x2 x3) (i : Fin 512) (k : Fin 2048) (e : Fin 16) (j : Fin 128)

section
include h
theorem ang_eq (i : Fin 2048) (l : Fin 32) : ang x3 (ix2 i l) = a.ang i.val l := by
  pointwise [ang]
  exact Args.ang_at _ _ (h.h3 i) l
theorem qh_at (l : Fin 256) : qh x0 (ix3 i e l) = a.Q (1536 + i.val) (256 * e.val + l.val) := by
  pointwise [qh]
  exact (h.h0 _ _).trans (by congr 2 <;> (simp only []; omega))
theorem kvh_at (l : Fin 256) : kvh x1 (ix3 k e l) = a.KV k.val (256 * e.val + l.val) := by
  pointwise [kvh]
  exact (h.h1 _ _).trans (by congr 2 <;> (simp only []; omega))
theorem k1_at (l : Fin 32) : k1 x2 (ix2 k l) = a.P k.val (1024 + l.val) := by
  pointwise [k1]
  exact h.h2 _ _
theorem k2_at (l : Fin 32) : k2 x2 (ix2 k l) = a.P k.val (1024 + (32 + l.val)) := by
  pointwise [k2]
  exact h.h2 _ _
theorem q1_at (l : Fin 32) : q1 (qh x0) (ix3 i e l) = a.Q (1536 + i.val) (256 * e.val + 128 + l.val) := by
  pointwise [q1]
  exact (qh_at h i e _).trans (congrArg (a.Q _) (by simp only []; omega))
theorem q2_at (l : Fin 32) : q2 (qh x0) (ix3 i e l) = a.Q (1536 + i.val) (256 * e.val + 128 + (32 + l.val)) := by
  pointwise [q2]
  exact (qh_at h i e _).trans (congrArg (a.Q _) (by simp only []; omega))
theorem qrot_at (l : Fin 64) : qrot (ang x3) (q1 (qh x0)) (q2 (qh x0)) (ix3 i e l) = (a.blk 1536 e.val 512 2048).qr i ⟨l.val, by omega⟩ := by
  have hc (l : Fin 32) : Ideal.cos (ang x3 (ix2 ⟨1536 + i.val, by omega⟩ l)) = a.C (1536 + i.val) l := by rw [ang_eq h]; rfl
  have hs (l : Fin 32) : Ideal.sin (ang x3 (ix2 ⟨1536 + i.val, by omega⟩ l)) = a.S (1536 + i.val) l := by rw [ang_eq h]; rfl
  pointwise [qrot]
  rcases lane_two l with ⟨l, rfl⟩ | ⟨l, rfl⟩
  · rw [dif_pos l.isLt, q1_at h, q2_at h, hc, hs]
    exact (Args.rope_0 a ((a.blk 1536 e.val 512 2048).qp i) (1536 + i.val) l).symm
  · rw [dif_neg (by simp)]
    simp only [Nat.add_sub_cancel_left]
    rw [q1_at h, q2_at h, hc, hs]
    exact (Args.rope_1 a ((a.blk 1536 e.val 512 2048).qp i) (1536 + i.val) l).symm
theorem krot_at (l : Fin 64) : krot (ang x3) (k1 x2) (k2 x2) (ix2 k l) = (a.blk 1536 e.val 512 2048).kr k ⟨l.val, by omega⟩ := by
  have hc (l : Fin 32) : Ideal.cos (ang x3 (ix2 ⟨k.val, by omega⟩ l)) = a.C k.val l := by rw [ang_eq h]; rfl
  have hs (l : Fin 32) : Ideal.sin (ang x3 (ix2 ⟨k.val, by omega⟩ l)) = a.S k.val l := by rw [ang_eq h]; rfl
  pointwise [krot]
  rcases lane_two l with ⟨l, rfl⟩ | ⟨l, rfl⟩
  · rw [dif_pos l.isLt, k1_at h, k2_at h, hc, hs]
    exact (Args.rope_0 a ((a.blk 1536 e.val 512 2048).kp k) k.val l).symm
  · rw [dif_neg (by simp)]
    simp only [Nat.add_sub_cancel_left]
    rw [k1_at h, k2_at h, hc, hs]
    exact (Args.rope_1 a ((a.blk 1536 e.val 512 2048).kp k) k.val l).symm
theorem scs_at : scs (qh x0) (kvh x1) (qrot (ang x3) (q1 (qh x0)) (q2 (qh x0))) (krot (ang x3) (k1 x2) (k2 x2)) (ix3 e i k) = (a.blk 1536 e.val 512 2048).sc i k := by
  pointwise [scs]
  have s := sum_lanes (fun x => (a.blk 1536 e.val 512 2048).qr i x * (a.blk 1536 e.val 512 2048).kr k x)
    (fun x hx => mul_eq_zero_of_left (Args.rope_2 a _ _ x hx) _)
  simp only [qh_at h, kvh_at h, krot_at h _ e, qrot_at h, lit_scale]
  unfold Blk.sc
  rw [s]
  exact congrArg (fun y => (_ + y) * (scale : EReal)) (Finset.sum_congr rfl fun x _ => mul_comm _ _)
end
theorem kblk_at : kblk (ix2 0 k) = BitVec.ofNat 32 (k.val / 64) := by
  pointwise [kblk]
  exact hfloor ⟨k.val, by omega⟩
theorem qblk_at : qblk (ix2 i 0) = BitVec.ofNat 32 ((1536 + i.val) / 64) := by
  pointwise [qblk]
  have e2 : IntOp.addi 1536#32 (BitVec.ofNat 32 i.val) = BitVec.ofNat 32 (1536 + i.val) := (BitVec.ofNat_add ..).symm
  rw [e2]
  exact hfloor ⟨1536 + i.val, by omega⟩
include h
theorem msk_at : allM x0 x1 x2 x3 (ix3 e i k) = (a.blk 1536 e.val 512 2048).msc i k := by
  pointwise [allM, msk]
  rw [scs_at h, kblk_at, qblk_at, show (id (constant (F := Ideal) S_ FTy.f32 0xFF800000#32) ix0 : EReal) = ⊥ from lit_ninf]
  exact sel_le (by omega) (by omega) _
omit h
section
variable {s : FVec Ideal S16x512x2048 .f32} {x : FVec Ideal S16x512 .f32} {B : Blk 512 2048}
theorem top_at (hs : ∀ k, s (ix3 e i k) = B.msc i k) : top s (ix2 e i) = B.mx i := by
  pointwise [top]
  rw [lit_ninf]
  simp only [hs]
  rfl
theorem exs_at (hs : ∀ k, s (ix3 e i k) = B.msc i k) (hx : x (ix2 e i) = B.mx i) : exs s x (ix3 e i k) = B.ex i k := by
  pointwise [exs]
  rw [hs, hx, lit_ninf, max_eq_right bot_le]
  rfl
theorem prs_at (hs : ∀ k, s (ix3 e i k) = B.ex i k) : prs s (ix3 e i k) = B.pr i k := by
  pointwise [prs]
  simp only [hs]
  rfl
end
include h
theorem pr_at : prs (exs (allM x0 x1 x2 x3) (top (allM x0 x1 x2 x3))) (ix3 e i k) = (a.blk 1536 e.val 512 2048).pr i k :=
  prs_at i k e fun k => exs_at i k e (fun k => msk_at h i k e) (top_at i e fun k => msk_at h i k e)
theorem out_eq (j : Fin 2048) : allO x0 x1 x2 x3 (ix2 i j) = (a.blk 1536 (j.val / 128) 512 2048).out i ⟨j.val % 128, Nat.mod_lt _ (by decide)⟩ := by
  unfold allO
  have hp (e k) := pr_at h i k e
  generalize prs (exs (allM x0 x1 x2 x3) (top (allM x0 x1 x2 x3))) = p at hp
  pointwise [outs]
  simp only [hp, kvh_at h]
  refine Finset.sum_congr rfl fun k _ => (mul_comm _ _).trans ?_
  exact congrArg (fun y => _ * a.KV k.val y) (by simp only []; omega)
/-- The reference's result. -/
theorem ref_eq (x : FVec Ideal S2048x2048 .bf16) : refT x0 x1 x2 x3 x = rO a 1536 2048 x := by
  funext p
  obtain ⟨i, j, rfl⟩ : ∃ (i : Fin 2048) (j : Fin 2048), p = ix2 i j := ⟨p 0, p 1, (ix2_eta p).symm⟩
  have ho (i : Fin 512) := out_eq h i j
  unfold refT
  generalize allO x0 x1 x2 x3 = o at ho
  by_cases h1 : i.val < 1536
  · refine Eq.trans ?_ (if_neg fun hL => by have : 1536 ≤ i.val := hL.1; omega).symm
    pointwise []
    exact dif_pos h1
  by_cases h2 : i.val - 1536 < 512
  · refine Eq.trans ?_ (rO_in a 1536 2048 x (ix2 i j) (R := 512) (lo' := 1536) (e := j.val / 128) ⟨i.val - 1536, h2⟩ ⟨j.val % 128, Nat.mod_lt _ (by decide)⟩
      (by show i.val = 1536 + (i.val - 1536); omega) (by show j.val = 128 * (j.val / 128) + j.val % 128; omega) le_rfl le_rfl).symm
    pointwise []
    rw [dif_neg h1]
    exact ho ⟨i.val - 1536, h2⟩
  exact absurd i.isLt (by omega)

end Cert.Proof.Af3

end
-- ==== Proof.Af3Claim.lean ====
/- The claims about the forward attention call of the fourth quarter of the queries. -/
module

public import proofs.«01_k».proof.Defs
public import proofs.«01_k».proof.Proof.Gen.Af3
public import proofs.«01_k».proof.Proof.Gen.Af3.Frame
public import proofs.«01_k».proof.Proof.Af3Val
public import proofs.«01_k».proof.Proof.Af3Ref

@[expose] public section

set_option maxRecDepth 16384

noncomputable section

namespace Cert.Proof.Af3

open Idealize.ShloMosaic Idealize.ShloMosaic.TcCoe Idealize.SL.Sem Cert.Proof.Af Cert.Af3Ideal

/-- The kernel at the machine's floats terminates, keeps its arguments, and leaves every counter at zero. -/
theorem frame : Cert.quiescent_Af3 (hAf3 := Cert.Af3.Gen.facts) := fun m ρ _ => Cert.Af3.Gen.frame m ρ
/-- So does the kernel over the extended reals. -/
theorem frame_ideal : Cert.quiescent_Af3Ideal (hAf3Ideal := Cert.Af3Ideal.Gen.facts) := fun m ρ _ => Cert.Af3Ideal.Gen.frame m ρ
/-- So does the reference over the extended reals. -/
theorem frame_ref : Cert.quiescent_Af3RefIdeal (hAf3RefIdeal := Cert.Af3RefIdeal.Gen.facts) := fun m ρ _ =>
  (θ_run Cert.Af3RefIdeal.defs _ _).mono (fun r h => ⟨fun c => (h c).2, sem_eq_zero_of_no_sems (by decide) r.2⟩)
    (Cert.Af3RefIdeal.Value.run (F := Ideal) m ρ)
/-- No operation of the kernel is replaced. -/
theorem preserves : Cert.preserves_Af3_Af3Ideal := trivial
/-- Kernel and reference end with the same array. -/
theorem algebraic : Cert.algebraic_Af3Ideal_Af3RefIdeal (hAf3Ideal := Cert.Af3Ideal.Gen.facts) (hAf3RefIdeal := Cert.Af3RefIdeal.Gen.facts) := by
  intro m g m' g' _ hargs
  have hA (c : Dev nD) := Args.is_of (m ((c : Thread nD τ).loc main_arg0)) (m ((c : Thread nD τ).loc main_arg1)) (m ((c : Thread nD τ).loc main_arg2)) (m ((c : Thread nD τ).loc main_arg3))
  refine ⟨fun c => rO (Args.of (m ((c : Thread nD τ).loc main_arg0)) (m ((c : Thread nD τ).loc main_arg1)) (m ((c : Thread nD τ).loc main_arg2)) (m ((c : Thread nD τ).loc main_arg3)))
      1536 2048 (X4 m c),
    (θ_run Cert.Af3Ideal.defs _ _).mono (fun r h c => ⟨(h c).1.trans (final (hA c)), (h c).2⟩) (Cert.Af3Ideal.Value.run_blocks m g),
    (θ_run Cert.Af3RefIdeal.defs _ _).mono (fun r h c => ⟨(h c).1.trans ?_, (h c).2⟩) (Cert.Af3RefIdeal.Value.run (F := Ideal) m' g')⟩
  obtain ⟨a0, a1, a2, a3, a4⟩ := hargs c
  refine Eq.trans (?_ : _ = refT (m' (c.tc.loc Cert.Af3RefIdeal.main_arg0)) (m' (c.tc.loc Cert.Af3RefIdeal.main_arg1)) (m' (c.tc.loc Cert.Af3RefIdeal.main_arg2))
    (m' (c.tc.loc Cert.Af3RefIdeal.main_arg3)) (m' (c.tc.loc Cert.Af3RefIdeal.main_arg4))) ?_
  · rfl
  · rw [a0, a1, a2, a3, a4]; exact ref_eq (hA c) _

end Cert.Proof.Af3

end
-- ==== Proof.lean ====
module

public import proofs.«01_k».proof.Defs
public import proofs.«01_k».proof.Proof.Gen.Gm
public import proofs.«01_k».proof.Proof.Gen.Gm.Skeleton
public import proofs.«01_k».proof.Proof.Gen.Gm.Launch
public import proofs.«01_k».proof.Proof.Gen.Gm.Points
public import proofs.«01_k».proof.Proof.Gen.Gm.Frame
public import proofs.«01_k».proof.Proof.Gen.GmIdeal
public import proofs.«01_k».proof.Proof.Gen.GmIdeal.Skeleton
public import proofs.«01_k».proof.Proof.Gen.GmIdeal.Launch
public import proofs.«01_k».proof.Proof.Gen.GmIdeal.Points
public import proofs.«01_k».proof.Proof.Gen.GmIdeal.Frame
public import proofs.«01_k».proof.Proof.Gen.GmRefIdeal
public import proofs.«01_k».proof.Proof.Gen.GmIdeal.Value
public import proofs.«01_k».proof.Proof.Gen.GmRefIdeal.Run
public import proofs.«01_k».proof.Proof.Gen.FfDa
public import proofs.«01_k».proof.Proof.Gen.FfDa.Skeleton
public import proofs.«01_k».proof.Proof.Gen.FfDa.Launch
public import proofs.«01_k».proof.Proof.Gen.FfDa.Points
public import proofs.«01_k».proof.Proof.Gen.FfDa.Frame
public import proofs.«01_k».proof.Proof.Gen.FfDaIdeal
public import proofs.«01_k».proof.Proof.Gen.FfDaIdeal.Skeleton
public import proofs.«01_k».proof.Proof.Gen.FfDaIdeal.Launch
public import proofs.«01_k».proof.Proof.Gen.FfDaIdeal.Points
public import proofs.«01_k».proof.Proof.Gen.FfDaIdeal.Frame
public import proofs.«01_k».proof.Proof.Gen.FfDaRefIdeal
public import proofs.«01_k».proof.Proof.Gen.FfDaIdeal.Value
public import proofs.«01_k».proof.Proof.Gen.FfDaRefIdeal.Run
public import proofs.«01_k».proof.Proof.Gen.FfDown0
public import proofs.«01_k».proof.Proof.Gen.FfDown0.Skeleton
public import proofs.«01_k».proof.Proof.Gen.FfDown0.Launch
public import proofs.«01_k».proof.Proof.Gen.FfDown0.Points
public import proofs.«01_k».proof.Proof.Gen.FfDown0.Frame
public import proofs.«01_k».proof.Proof.Gen.FfDown0Ideal
public import proofs.«01_k».proof.Proof.Gen.FfDown0Ideal.Skeleton
public import proofs.«01_k».proof.Proof.Gen.FfDown0Ideal.Launch
public import proofs.«01_k».proof.Proof.Gen.FfDown0Ideal.Points
public import proofs.«01_k».proof.Proof.Gen.FfDown0Ideal.Frame
public import proofs.«01_k».proof.Proof.Gen.FfDown0RefIdeal
public import proofs.«01_k».proof.Proof.Gen.FfDown0Ideal.Value
public import proofs.«01_k».proof.Proof.Gen.FfDown0RefIdeal.Run
public import proofs.«01_k».proof.Proof.Gen.FfDown1
public import proofs.«01_k».proof.Proof.Gen.FfDown1.Skeleton
public import proofs.«01_k».proof.Proof.Gen.FfDown1.Launch
public import proofs.«01_k».proof.Proof.Gen.FfDown1.Points
public import proofs.«01_k».proof.Proof.Gen.FfDown1.Frame
public import proofs.«01_k».proof.Proof.Gen.FfDown1Ideal
public import proofs.«01_k».proof.Proof.Gen.FfDown1Ideal.Skeleton
public import proofs.«01_k».proof.Proof.Gen.FfDown1Ideal.Launch
public import proofs.«01_k».proof.Proof.Gen.FfDown1Ideal.Points
public import proofs.«01_k».proof.Proof.Gen.FfDown1Ideal.Frame
public import proofs.«01_k».proof.Proof.Gen.FfDown1RefIdeal
public import proofs.«01_k».proof.Proof.Gen.FfDown1Ideal.Value
public import proofs.«01_k».proof.Proof.Gen.FfDown1RefIdeal.Run
public import proofs.«01_k».proof.Proof.Gen.FfDown2
public import proofs.«01_k».proof.Proof.Gen.FfDown2.Skeleton
public import proofs.«01_k».proof.Proof.Gen.FfDown2.Launch
public import proofs.«01_k».proof.Proof.Gen.FfDown2.Points
public import proofs.«01_k».proof.Proof.Gen.FfDown2.Frame
public import proofs.«01_k».proof.Proof.Gen.FfDown2Ideal
public import proofs.«01_k».proof.Proof.Gen.FfDown2Ideal.Skeleton
public import proofs.«01_k».proof.Proof.Gen.FfDown2Ideal.Launch
public import proofs.«01_k».proof.Proof.Gen.FfDown2Ideal.Points
public import proofs.«01_k».proof.Proof.Gen.FfDown2Ideal.Frame
public import proofs.«01_k».proof.Proof.Gen.FfDown2RefIdeal
public import proofs.«01_k».proof.Proof.Gen.FfDown2Ideal.Value
public import proofs.«01_k».proof.Proof.Gen.FfDown2RefIdeal.Run
public import proofs.«01_k».proof.Proof.Gen.FfDhn0
public import proofs.«01_k».proof.Proof.Gen.FfDhn0.Skeleton
public import proofs.«01_k».proof.Proof.Gen.FfDhn0.Launch
public import proofs.«01_k».proof.Proof.Gen.FfDhn0.Points
public import proofs.«01_k».proof.Proof.Gen.FfDhn0.Frame
public import proofs.«01_k».proof.Proof.Gen.FfDhn0Ideal
public import proofs.«01_k».proof.Proof.Gen.FfDhn0Ideal.Skeleton
public import proofs.«01_k».proof.Proof.Gen.FfDhn0Ideal.Launch
public import proofs.«01_k».proof.Proof.Gen.FfDhn0Ideal.Points
public import proofs.«01_k».proof.Proof.Gen.FfDhn0Ideal.Frame
public import proofs.«01_k».proof.Proof.Gen.FfDhn0RefIdeal
public import proofs.«01_k».proof.Proof.Gen.FfDhn0Ideal.Value
public import proofs.«01_k».proof.Proof.Gen.FfDhn0RefIdeal.Run
public import proofs.«01_k».proof.Proof.Gen.FfDhn1
public import proofs.«01_k».proof.Proof.Gen.FfDhn1.Skeleton
public import proofs.«01_k».proof.Proof.Gen.FfDhn1.Launch
public import proofs.«01_k».proof.Proof.Gen.FfDhn1.Points
public import proofs.«01_k».proof.Proof.Gen.FfDhn1.Frame
public import proofs.«01_k».proof.Proof.Gen.FfDhn1Ideal
public import proofs.«01_k».proof.Proof.Gen.FfDhn1Ideal.Skeleton
public import proofs.«01_k».proof.Proof.Gen.FfDhn1Ideal.Launch
public import proofs.«01_k».proof.Proof.Gen.FfDhn1Ideal.Points
public import proofs.«01_k».proof.Proof.Gen.FfDhn1Ideal.Frame
public import proofs.«01_k».proof.Proof.Gen.FfDhn1RefIdeal
public import proofs.«01_k».proof.Proof.Gen.FfDhn1Ideal.Value
public import proofs.«01_k».proof.Proof.Gen.FfDhn1RefIdeal.Run
public import proofs.«01_k».proof.Proof.Gen.FfDhn2
public import proofs.«01_k».proof.Proof.Gen.FfDhn2.Skeleton
public import proofs.«01_k».proof.Proof.Gen.FfDhn2.Launch
public import proofs.«01_k».proof.Proof.Gen.FfDhn2.Points
public import proofs.«01_k».proof.Proof.Gen.FfDhn2.Frame
public import proofs.«01_k».proof.Proof.Gen.FfDhn2Ideal
public import proofs.«01_k».proof.Proof.Gen.FfDhn2Ideal.Skeleton
public import proofs.«01_k».proof.Proof.Gen.FfDhn2Ideal.Launch
public import proofs.«01_k».proof.Proof.Gen.FfDhn2Ideal.Points
public import proofs.«01_k».proof.Proof.Gen.FfDhn2Ideal.Frame
public import proofs.«01_k».proof.Proof.Gen.FfDhn2RefIdeal
public import proofs.«01_k».proof.Proof.Gen.FfDhn2Ideal.Value
public import proofs.«01_k».proof.Proof.Gen.FfDhn2RefIdeal.Run
public import proofs.«01_k».proof.Proof.Gen.FfDhn3
public import proofs.«01_k».proof.Proof.Gen.FfDhn3.Skeleton
public import proofs.«01_k».proof.Proof.Gen.FfDhn3.Launch
public import proofs.«01_k».proof.Proof.Gen.FfDhn3.Points
public import proofs.«01_k».proof.Proof.Gen.FfDhn3.Frame
public import proofs.«01_k».proof.Proof.Gen.FfDhn3Ideal
public import proofs.«01_k».proof.Proof.Gen.FfDhn3Ideal.Skeleton
public import proofs.«01_k».proof.Proof.Gen.FfDhn3Ideal.Launch
public import proofs.«01_k».proof.Proof.Gen.FfDhn3Ideal.Points
public import proofs.«01_k».proof.Proof.Gen.FfDhn3Ideal.Frame
public import proofs.«01_k».proof.Proof.Gen.FfDhn3RefIdeal
public import proofs.«01_k».proof.Proof.Gen.FfDhn3Ideal.Value
public import proofs.«01_k».proof.Proof.Gen.FfDhn3RefIdeal.Run
public import proofs.«01_k».proof.Proof.Gen.FfUp0
public import proofs.«01_k».proof.Proof.Gen.FfUp0.Skeleton
public import proofs.«01_k».proof.Proof.Gen.FfUp0.Launch
public import proofs.«01_k».proof.Proof.Gen.FfUp0.Points
public import proofs.«01_k».proof.Proof.Gen.FfUp0.Frame
public import proofs.«01_k».proof.Proof.Gen.FfUp0Ideal
public import proofs.«01_k».proof.Proof.Gen.FfUp0Ideal.Skeleton
public import proofs.«01_k».proof.Proof.Gen.FfUp0Ideal.Launch
public import proofs.«01_k».proof.Proof.Gen.FfUp0Ideal.Points
public import proofs.«01_k».proof.Proof.Gen.FfUp0Ideal.Frame
public import proofs.«01_k».proof.Proof.Gen.FfUp0RefIdeal
public import proofs.«01_k».proof.Proof.Gen.FfUp0Ideal.Value
public import proofs.«01_k».proof.Proof.Gen.FfUp0RefIdeal.Run
public import proofs.«01_k».proof.Proof.Gen.FfUp1
public import proofs.«01_k».proof.Proof.Gen.FfUp1.Skeleton
public import proofs.«01_k».proof.Proof.Gen.FfUp1.Launch
public import proofs.«01_k».proof.Proof.Gen.FfUp1.Points
public import proofs.«01_k».proof.Proof.Gen.FfUp1.Frame
public import proofs.«01_k».proof.Proof.Gen.FfUp1Ideal
public import proofs.«01_k».proof.Proof.Gen.FfUp1Ideal.Skeleton
public import proofs.«01_k».proof.Proof.Gen.FfUp1Ideal.Launch
public import proofs.«01_k».proof.Proof.Gen.FfUp1Ideal.Points
public import proofs.«01_k».proof.Proof.Gen.FfUp1Ideal.Frame
public import proofs.«01_k».proof.Proof.Gen.FfUp1RefIdeal
public import proofs.«01_k».proof.Proof.Gen.FfUp1Ideal.Value
public import proofs.«01_k».proof.Proof.Gen.FfUp1RefIdeal.Run
public import proofs.«01_k».proof.Proof.Gen.FfUp2
public import proofs.«01_k».proof.Proof.Gen.FfUp2.Skeleton
public import proofs.«01_k».proof.Proof.Gen.FfUp2.Launch
public import proofs.«01_k».proof.Proof.Gen.FfUp2.Points
public import proofs.«01_k».proof.Proof.Gen.FfUp2.Frame
public import proofs.«01_k».proof.Proof.Gen.FfUp2Ideal
public import proofs.«01_k».proof.Proof.Gen.FfUp2Ideal.Skeleton
public import proofs.«01_k».proof.Proof.Gen.FfUp2Ideal.Launch
public import proofs.«01_k».proof.Proof.Gen.FfUp2Ideal.Points
public import proofs.«01_k».proof.Proof.Gen.FfUp2Ideal.Frame
public import proofs.«01_k».proof.Proof.Gen.FfUp2RefIdeal
public import proofs.«01_k».proof.Proof.Gen.FfUp2Ideal.Value
public import proofs.«01_k».proof.Proof.Gen.FfUp2RefIdeal.Run
public import proofs.«01_k».proof.Proof.Gen.EvDcat
public import proofs.«01_k».proof.Proof.Gen.EvDcat.Skeleton
public import proofs.«01_k».proof.Proof.Gen.EvDcat.Launch
public import proofs.«01_k».proof.Proof.Gen.EvDcat.Points
public import proofs.«01_k».proof.Proof.Gen.EvDcat.Frame
public import proofs.«01_k».proof.Proof.Gen.EvDcatIdeal
public import proofs.«01_k».proof.Proof.Gen.EvDcatIdeal.Skeleton
public import proofs.«01_k».proof.Proof.Gen.EvDcatIdeal.Launch
public import proofs.«01_k».proof.Proof.Gen.EvDcatIdeal.Points
public import proofs.«01_k».proof.Proof.Gen.EvDcatIdeal.Frame
public import proofs.«01_k».proof.Proof.Gen.EvDcatRefIdeal
public import proofs.«01_k».proof.Proof.Gen.EvDcatIdeal.Value
public import proofs.«01_k».proof.Proof.Gen.EvDcatRefIdeal.Run
public import proofs.«01_k».proof.Proof.Gen.EvWout
public import proofs.«01_k».proof.Proof.Gen.EvWout.Skeleton
public import proofs.«01_k».proof.Proof.Gen.EvWout.Launch
public import proofs.«01_k».proof.Proof.Gen.EvWout.Points
public import proofs.«01_k».proof.Proof.Gen.EvWout.Frame
public import proofs.«01_k».proof.Proof.Gen.EvWoutIdeal
public import proofs.«01_k».proof.Proof.Gen.EvWoutIdeal.Skeleton
public import proofs.«01_k».proof.Proof.Gen.EvWoutIdeal.Launch
public import proofs.«01_k».proof.Proof.Gen.EvWoutIdeal.Points
public import proofs.«01_k».proof.Proof.Gen.EvWoutIdeal.Frame
public import proofs.«01_k».proof.Proof.Gen.EvWoutRefIdeal
public import proofs.«01_k».proof.Proof.Gen.EvWoutIdeal.Value
public import proofs.«01_k».proof.Proof.Gen.EvWoutRefIdeal.Run
public import proofs.«01_k».proof.Proof.Gen.EvDhn
public import proofs.«01_k».proof.Proof.Gen.EvDhn.Skeleton
public import proofs.«01_k».proof.Proof.Gen.EvDhn.Launch
public import proofs.«01_k».proof.Proof.Gen.EvDhn.Points
public import proofs.«01_k».proof.Proof.Gen.EvDhn.Frame
public import proofs.«01_k».proof.Proof.Gen.EvDhnIdeal
public import proofs.«01_k».proof.Proof.Gen.EvDhnIdeal.Skeleton
public import proofs.«01_k».proof.Proof.Gen.EvDhnIdeal.Launch
public import proofs.«01_k».proof.Proof.Gen.EvDhnIdeal.Points
public import proofs.«01_k».proof.Proof.Gen.EvDhnIdeal.Frame
public import proofs.«01_k».proof.Proof.Gen.EvDhnRefIdeal
public import proofs.«01_k».proof.Proof.Gen.EvDhnIdeal.Value
public import proofs.«01_k».proof.Proof.Gen.EvDhnRefIdeal.Run
public import proofs.«01_k».proof.Proof.Gen.EvDhn2
public import proofs.«01_k».proof.Proof.Gen.EvDhn2.Skeleton
public import proofs.«01_k».proof.Proof.Gen.EvDhn2.Launch
public import proofs.«01_k».proof.Proof.Gen.EvDhn2.Points
public import proofs.«01_k».proof.Proof.Gen.EvDhn2.Frame
public import proofs.«01_k».proof.Proof.Gen.EvDhn2Ideal
public import proofs.«01_k».proof.Proof.Gen.EvDhn2Ideal.Skeleton
public import proofs.«01_k».proof.Proof.Gen.EvDhn2Ideal.Launch
public import proofs.«01_k».proof.Proof.Gen.EvDhn2Ideal.Points
public import proofs.«01_k».proof.Proof.Gen.EvDhn2Ideal.Frame
public import proofs.«01_k».proof.Proof.Gen.EvDhn2RefIdeal
public import proofs.«01_k».proof.Proof.Gen.EvDhn2Ideal.Value
public import proofs.«01_k».proof.Proof.Gen.EvDhn2RefIdeal.Run
public import proofs.«01_k».proof.Proof.Gen.EvWin
public import proofs.«01_k».proof.Proof.Gen.EvWin.Skeleton
public import proofs.«01_k».proof.Proof.Gen.EvWin.Launch
public import proofs.«01_k».proof.Proof.Gen.EvWin.Points
public import proofs.«01_k».proof.Proof.Gen.EvWin.Frame
public import proofs.«01_k».proof.Proof.Gen.EvWinIdeal
public import proofs.«01_k».proof.Proof.Gen.EvWinIdeal.Skeleton
public import proofs.«01_k».proof.Proof.Gen.EvWinIdeal.Launch
public import proofs.«01_k».proof.Proof.Gen.EvWinIdeal.Points
public import proofs.«01_k».proof.Proof.Gen.EvWinIdeal.Frame
public import proofs.«01_k».proof.Proof.Gen.EvWinRefIdeal
public import proofs.«01_k».proof.Proof.Gen.EvWinIdeal.Value
public import proofs.«01_k».proof.Proof.Gen.EvWinRefIdeal.Run
public import proofs.«01_k».proof.Proof.Gen.EvWdt
public import proofs.«01_k».proof.Proof.Gen.EvWdt.Skeleton
public import proofs.«01_k».proof.Proof.Gen.EvWdt.Launch
public import proofs.«01_k».proof.Proof.Gen.EvWdt.Points
public import proofs.«01_k».proof.Proof.Gen.EvWdt.Frame
public import proofs.«01_k».proof.Proof.Gen.EvWdtIdeal
public import proofs.«01_k».proof.Proof.Gen.EvWdtIdeal.Skeleton
public import proofs.«01_k».proof.Proof.Gen.EvWdtIdeal.Launch
public import proofs.«01_k».proof.Proof.Gen.EvWdtIdeal.Points
public import proofs.«01_k».proof.Proof.Gen.EvWdtIdeal.Frame
public import proofs.«01_k».proof.Proof.Gen.EvWdtRefIdeal
public import proofs.«01_k».proof.Proof.Gen.EvWdtIdeal.Value
public import proofs.«01_k».proof.Proof.Gen.EvWdtRefIdeal.Run
public import proofs.«01_k».proof.Proof.Gen.OdDo
public import proofs.«01_k».proof.Proof.Gen.OdDo.Skeleton
public import proofs.«01_k».proof.Proof.Gen.OdDo.Launch
public import proofs.«01_k».proof.Proof.Gen.OdDo.Points
public import proofs.«01_k».proof.Proof.Gen.OdDo.Frame
public import proofs.«01_k».proof.Proof.Gen.OdDoIdeal
public import proofs.«01_k».proof.Proof.Gen.OdDoIdeal.Skeleton
public import proofs.«01_k».proof.Proof.Gen.OdDoIdeal.Launch
public import proofs.«01_k».proof.Proof.Gen.OdDoIdeal.Points
public import proofs.«01_k».proof.Proof.Gen.OdDoIdeal.Frame
public import proofs.«01_k».proof.Proof.Gen.OdDoRefIdeal
public import proofs.«01_k».proof.Proof.Gen.OdDoIdeal.Value
public import proofs.«01_k».proof.Proof.Gen.OdDoRefIdeal.Run
public import proofs.«01_k».proof.Proof.Gen.OdWo
public import proofs.«01_k».proof.Proof.Gen.OdWo.Skeleton
public import proofs.«01_k».proof.Proof.Gen.OdWo.Launch
public import proofs.«01_k».proof.Proof.Gen.OdWo.Points
public import proofs.«01_k».proof.Proof.Gen.OdWo.Frame
public import proofs.«01_k».proof.Proof.Gen.OdWoIdeal
public import proofs.«01_k».proof.Proof.Gen.OdWoIdeal.Skeleton
public import proofs.«01_k».proof.Proof.Gen.OdWoIdeal.Launch
public import proofs.«01_k».proof.Proof.Gen.OdWoIdeal.Points
public import proofs.«01_k».proof.Proof.Gen.OdWoIdeal.Frame
public import proofs.«01_k».proof.Proof.Gen.OdWoRefIdeal
public import proofs.«01_k».proof.Proof.Gen.OdWoIdeal.Value
public import proofs.«01_k».proof.Proof.Gen.OdWoRefIdeal.Run
public import proofs.«01_k».proof.Proof.Gen.OdDcq
public import proofs.«01_k».proof.Proof.Gen.OdDcq.Skeleton
public import proofs.«01_k».proof.Proof.Gen.OdDcq.Launch
public import proofs.«01_k».proof.Proof.Gen.OdDcq.Points
public import proofs.«01_k».proof.Proof.Gen.OdDcq.Frame
public import proofs.«01_k».proof.Proof.Gen.OdDcqIdeal
public import proofs.«01_k».proof.Proof.Gen.OdDcqIdeal.Skeleton
public import proofs.«01_k».proof.Proof.Gen.OdDcqIdeal.Launch
public import proofs.«01_k».proof.Proof.Gen.OdDcqIdeal.Points
public import proofs.«01_k».proof.Proof.Gen.OdDcqIdeal.Frame
public import proofs.«01_k».proof.Proof.Gen.OdDcqRefIdeal
public import proofs.«01_k».proof.Proof.Gen.OdDcqIdeal.Value
public import proofs.«01_k».proof.Proof.Gen.OdDcqRefIdeal.Run
public import proofs.«01_k».proof.Proof.Gen.OdWuq
public import proofs.«01_k».proof.Proof.Gen.OdWuq.Skeleton
public import proofs.«01_k».proof.Proof.Gen.OdWuq.Launch
public import proofs.«01_k».proof.Proof.Gen.OdWuq.Points
public import proofs.«01_k».proof.Proof.Gen.OdWuq.Frame
public import proofs.«01_k».proof.Proof.Gen.OdWuqIdeal
public import proofs.«01_k».proof.Proof.Gen.OdWuqIdeal.Skeleton
public import proofs.«01_k».proof.Proof.Gen.OdWuqIdeal.Launch
public import proofs.«01_k».proof.Proof.Gen.OdWuqIdeal.Points
public import proofs.«01_k».proof.Proof.Gen.OdWuqIdeal.Frame
public import proofs.«01_k».proof.Proof.Gen.OdWuqRefIdeal
public import proofs.«01_k».proof.Proof.Gen.OdWuqIdeal.Value
public import proofs.«01_k».proof.Proof.Gen.OdWuqRefIdeal.Run
public import proofs.«01_k».proof.Proof.Gen.OdDckv
public import proofs.«01_k».proof.Proof.Gen.OdDckv.Skeleton
public import proofs.«01_k».proof.Proof.Gen.OdDckv.Launch
public import proofs.«01_k».proof.Proof.Gen.OdDckv.Points
public import proofs.«01_k».proof.Proof.Gen.OdDckv.Frame
public import proofs.«01_k».proof.Proof.Gen.OdDckvIdeal
public import proofs.«01_k».proof.Proof.Gen.OdDckvIdeal.Skeleton
public import proofs.«01_k».proof.Proof.Gen.OdDckvIdeal.Launch
public import proofs.«01_k».proof.Proof.Gen.OdDckvIdeal.Points
public import proofs.«01_k».proof.Proof.Gen.OdDckvIdeal.Frame
public import proofs.«01_k».proof.Proof.Gen.OdDckvRefIdeal
public import proofs.«01_k».proof.Proof.Gen.OdDckvIdeal.Value
public import proofs.«01_k».proof.Proof.Gen.OdDckvRefIdeal.Run
public import proofs.«01_k».proof.Proof.Gen.OdWukv
public import proofs.«01_k».proof.Proof.Gen.OdWukv.Skeleton
public import proofs.«01_k».proof.Proof.Gen.OdWukv.Launch
public import proofs.«01_k».proof.Proof.Gen.OdWukv.Points
public import proofs.«01_k».proof.Proof.Gen.OdWukv.Frame
public import proofs.«01_k».proof.Proof.Gen.OdWukvIdeal
public import proofs.«01_k».proof.Proof.Gen.OdWukvIdeal.Skeleton
public import proofs.«01_k».proof.Proof.Gen.OdWukvIdeal.Launch
public import proofs.«01_k».proof.Proof.Gen.OdWukvIdeal.Points
public import proofs.«01_k».proof.Proof.Gen.OdWukvIdeal.Frame
public import proofs.«01_k».proof.Proof.Gen.OdWukvRefIdeal
public import proofs.«01_k».proof.Proof.Gen.OdWukvIdeal.Value
public import proofs.«01_k».proof.Proof.Gen.OdWukvRefIdeal.Run
public import proofs.«01_k».proof.Proof.Gen.OdDhn
public import proofs.«01_k».proof.Proof.Gen.OdDhn.Skeleton
public import proofs.«01_k».proof.Proof.Gen.OdDhn.Launch
public import proofs.«01_k».proof.Proof.Gen.OdDhn.Points
public import proofs.«01_k».proof.Proof.Gen.OdDhn.Frame
public import proofs.«01_k».proof.Proof.Gen.OdDhnIdeal
public import proofs.«01_k».proof.Proof.Gen.OdDhnIdeal.Skeleton
public import proofs.«01_k».proof.Proof.Gen.OdDhnIdeal.Launch
public import proofs.«01_k».proof.Proof.Gen.OdDhnIdeal.Points
public import proofs.«01_k».proof.Proof.Gen.OdDhnIdeal.Frame
public import proofs.«01_k».proof.Proof.Gen.OdDhnRefIdeal
public import proofs.«01_k».proof.Proof.Gen.OdDhnIdeal.Value
public import proofs.«01_k».proof.Proof.Gen.OdDhnRefIdeal.Run
public import proofs.«01_k».proof.Proof.Gen.OdWin
public import proofs.«01_k».proof.Proof.Gen.OdWin.Skeleton
public import proofs.«01_k».proof.Proof.Gen.OdWin.Launch
public import proofs.«01_k».proof.Proof.Gen.OdWin.Points
public import proofs.«01_k».proof.Proof.Gen.OdWin.Frame
public import proofs.«01_k».proof.Proof.Gen.OdWinIdeal
public import proofs.«01_k».proof.Proof.Gen.OdWinIdeal.Skeleton
public import proofs.«01_k».proof.Proof.Gen.OdWinIdeal.Launch
public import proofs.«01_k».proof.Proof.Gen.OdWinIdeal.Points
public import proofs.«01_k».proof.Proof.Gen.OdWinIdeal.Frame
public import proofs.«01_k».proof.Proof.Gen.OdWinRefIdeal
public import proofs.«01_k».proof.Proof.Gen.OdWinIdeal.Value
public import proofs.«01_k».proof.Proof.Gen.OdWinRefIdeal.Run
public import proofs.«01_k».proof.Proof.Gen.FwUp0
public import proofs.«01_k».proof.Proof.Gen.FwUp0.Skeleton
public import proofs.«01_k».proof.Proof.Gen.FwUp0.Launch
public import proofs.«01_k».proof.Proof.Gen.FwUp0.Points
public import proofs.«01_k».proof.Proof.Gen.FwUp0.Frame
public import proofs.«01_k».proof.Proof.Gen.FwUp0Ideal
public import proofs.«01_k».proof.Proof.Gen.FwUp0Ideal.Skeleton
public import proofs.«01_k».proof.Proof.Gen.FwUp0Ideal.Launch
public import proofs.«01_k».proof.Proof.Gen.FwUp0Ideal.Points
public import proofs.«01_k».proof.Proof.Gen.FwUp0Ideal.Frame
public import proofs.«01_k».proof.Proof.Gen.FwUp0RefIdeal
public import proofs.«01_k».proof.Proof.Gen.FwUp0Ideal.Value
public import proofs.«01_k».proof.Proof.Gen.FwUp0RefIdeal.Run
public import proofs.«01_k».proof.Proof.Gen.FwUp1
public import proofs.«01_k».proof.Proof.Gen.FwUp1.Skeleton
public import proofs.«01_k».proof.Proof.Gen.FwUp1.Launch
public import proofs.«01_k».proof.Proof.Gen.FwUp1.Points
public import proofs.«01_k».proof.Proof.Gen.FwUp1.Frame
public import proofs.«01_k».proof.Proof.Gen.FwUp1Ideal
public import proofs.«01_k».proof.Proof.Gen.FwUp1Ideal.Skeleton
public import proofs.«01_k».proof.Proof.Gen.FwUp1Ideal.Launch
public import proofs.«01_k».proof.Proof.Gen.FwUp1Ideal.Points
public import proofs.«01_k».proof.Proof.Gen.FwUp1Ideal.Frame
public import proofs.«01_k».proof.Proof.Gen.FwUp1RefIdeal
public import proofs.«01_k».proof.Proof.Gen.FwUp1Ideal.Value
public import proofs.«01_k».proof.Proof.Gen.FwUp1RefIdeal.Run
public import proofs.«01_k».proof.Proof.Gen.FwUp2
public import proofs.«01_k».proof.Proof.Gen.FwUp2.Skeleton
public import proofs.«01_k».proof.Proof.Gen.FwUp2.Launch
public import proofs.«01_k».proof.Proof.Gen.FwUp2.Points
public import proofs.«01_k».proof.Proof.Gen.FwUp2.Frame
public import proofs.«01_k».proof.Proof.Gen.FwUp2Ideal
public import proofs.«01_k».proof.Proof.Gen.FwUp2Ideal.Skeleton
public import proofs.«01_k».proof.Proof.Gen.FwUp2Ideal.Launch
public import proofs.«01_k».proof.Proof.Gen.FwUp2Ideal.Points
public import proofs.«01_k».proof.Proof.Gen.FwUp2Ideal.Frame
public import proofs.«01_k».proof.Proof.Gen.FwUp2RefIdeal
public import proofs.«01_k».proof.Proof.Gen.FwUp2Ideal.Value
public import proofs.«01_k».proof.Proof.Gen.FwUp2RefIdeal.Run
public import proofs.«01_k».proof.Proof.Gen.FwUp3
public import proofs.«01_k».proof.Proof.Gen.FwUp3.Skeleton
public import proofs.«01_k».proof.Proof.Gen.FwUp3.Launch
public import proofs.«01_k».proof.Proof.Gen.FwUp3.Points
public import proofs.«01_k».proof.Proof.Gen.FwUp3.Frame
public import proofs.«01_k».proof.Proof.Gen.FwUp3Ideal
public import proofs.«01_k».proof.Proof.Gen.FwUp3Ideal.Skeleton
public import proofs.«01_k».proof.Proof.Gen.FwUp3Ideal.Launch
public import proofs.«01_k».proof.Proof.Gen.FwUp3Ideal.Points
public import proofs.«01_k».proof.Proof.Gen.FwUp3Ideal.Frame
public import proofs.«01_k».proof.Proof.Gen.FwUp3RefIdeal
public import proofs.«01_k».proof.Proof.Gen.FwUp3Ideal.Value
public import proofs.«01_k».proof.Proof.Gen.FwUp3RefIdeal.Run
public import proofs.«01_k».proof.Proof.Gen.FwDown
public import proofs.«01_k».proof.Proof.Gen.FwDown.Skeleton
public import proofs.«01_k».proof.Proof.Gen.FwDown.Launch
public import proofs.«01_k».proof.Proof.Gen.FwDown.Points
public import proofs.«01_k».proof.Proof.Gen.FwDown.Frame
public import proofs.«01_k».proof.Proof.Gen.FwDownIdeal
public import proofs.«01_k».proof.Proof.Gen.FwDownIdeal.Skeleton
public import proofs.«01_k».proof.Proof.Gen.FwDownIdeal.Launch
public import proofs.«01_k».proof.Proof.Gen.FwDownIdeal.Points
public import proofs.«01_k».proof.Proof.Gen.FwDownIdeal.Frame
public import proofs.«01_k».proof.Proof.Gen.FwDownRefIdeal
public import proofs.«01_k».proof.Proof.Gen.FwDownIdeal.Value
public import proofs.«01_k».proof.Proof.Gen.FwDownRefIdeal.Run
public import proofs.«01_k».proof.Proof.Gen.EvIn
public import proofs.«01_k».proof.Proof.Gen.EvIn.Skeleton
public import proofs.«01_k».proof.Proof.Gen.EvIn.Launch
public import proofs.«01_k».proof.Proof.Gen.EvIn.Points
public import proofs.«01_k».proof.Proof.Gen.EvIn.Frame
public import proofs.«01_k».proof.Proof.Gen.EvInIdeal
public import proofs.«01_k».proof.Proof.Gen.EvInIdeal.Skeleton
public import proofs.«01_k».proof.Proof.Gen.EvInIdeal.Launch
public import proofs.«01_k».proof.Proof.Gen.EvInIdeal.Points
public import proofs.«01_k».proof.Proof.Gen.EvInIdeal.Frame
public import proofs.«01_k».proof.Proof.Gen.EvInRefIdeal
public import proofs.«01_k».proof.Proof.Gen.EvInIdeal.Value
public import proofs.«01_k».proof.Proof.Gen.EvInRefIdeal.Run
public import proofs.«01_k».proof.Proof.Gen.EvInDt
public import proofs.«01_k».proof.Proof.Gen.EvInDt.Skeleton
public import proofs.«01_k».proof.Proof.Gen.EvInDt.Launch
public import proofs.«01_k».proof.Proof.Gen.EvInDt.Points
public import proofs.«01_k».proof.Proof.Gen.EvInDt.Frame
public import proofs.«01_k».proof.Proof.Gen.EvInDtIdeal
public import proofs.«01_k».proof.Proof.Gen.EvInDtIdeal.Skeleton
public import proofs.«01_k».proof.Proof.Gen.EvInDtIdeal.Launch
public import proofs.«01_k».proof.Proof.Gen.EvInDtIdeal.Points
public import proofs.«01_k».proof.Proof.Gen.EvInDtIdeal.Frame
public import proofs.«01_k».proof.Proof.Gen.EvInDtRefIdeal
public import proofs.«01_k».proof.Proof.Gen.EvInDtIdeal.Value
public import proofs.«01_k».proof.Proof.Gen.EvInDtRefIdeal.Run
public import proofs.«01_k».proof.Proof.Gen.EvOut
public import proofs.«01_k».proof.Proof.Gen.EvOut.Skeleton
public import proofs.«01_k».proof.Proof.Gen.EvOut.Launch
public import proofs.«01_k».proof.Proof.Gen.EvOut.Points
public import proofs.«01_k».proof.Proof.Gen.EvOut.Frame
public import proofs.«01_k».proof.Proof.Gen.EvOutIdeal
public import proofs.«01_k».proof.Proof.Gen.EvOutIdeal.Skeleton
public import proofs.«01_k».proof.Proof.Gen.EvOutIdeal.Launch
public import proofs.«01_k».proof.Proof.Gen.EvOutIdeal.Points
public import proofs.«01_k».proof.Proof.Gen.EvOutIdeal.Frame
public import proofs.«01_k».proof.Proof.Gen.EvOutRefIdeal
public import proofs.«01_k».proof.Proof.Gen.EvOutIdeal.Value
public import proofs.«01_k».proof.Proof.Gen.EvOutRefIdeal.Run
public import proofs.«01_k».proof.Proof.Gen.OdIn
public import proofs.«01_k».proof.Proof.Gen.OdIn.Skeleton
public import proofs.«01_k».proof.Proof.Gen.OdIn.Launch
public import proofs.«01_k».proof.Proof.Gen.OdIn.Points
public import proofs.«01_k».proof.Proof.Gen.OdIn.Frame
public import proofs.«01_k».proof.Proof.Gen.OdInIdeal
public import proofs.«01_k».proof.Proof.Gen.OdInIdeal.Skeleton
public import proofs.«01_k».proof.Proof.Gen.OdInIdeal.Launch
public import proofs.«01_k».proof.Proof.Gen.OdInIdeal.Points
public import proofs.«01_k».proof.Proof.Gen.OdInIdeal.Frame
public import proofs.«01_k».proof.Proof.Gen.OdInRefIdeal
public import proofs.«01_k».proof.Proof.Gen.OdInIdeal.Value
public import proofs.«01_k».proof.Proof.Gen.OdInRefIdeal.Run
public import proofs.«01_k».proof.Proof.Gen.OdUq
public import proofs.«01_k».proof.Proof.Gen.OdUq.Skeleton
public import proofs.«01_k».proof.Proof.Gen.OdUq.Launch
public import proofs.«01_k».proof.Proof.Gen.OdUq.Points
public import proofs.«01_k».proof.Proof.Gen.OdUq.Frame
public import proofs.«01_k».proof.Proof.Gen.OdUqIdeal
public import proofs.«01_k».proof.Proof.Gen.OdUqIdeal.Skeleton
public import proofs.«01_k».proof.Proof.Gen.OdUqIdeal.Launch
public import proofs.«01_k».proof.Proof.Gen.OdUqIdeal.Points
public import proofs.«01_k».proof.Proof.Gen.OdUqIdeal.Frame
public import proofs.«01_k».proof.Proof.Gen.OdUqRefIdeal
public import proofs.«01_k».proof.Proof.Gen.OdUqIdeal.Value
public import proofs.«01_k».proof.Proof.Gen.OdUqRefIdeal.Run
public import proofs.«01_k».proof.Proof.Gen.OdUkv
public import proofs.«01_k».proof.Proof.Gen.OdUkv.Skeleton
public import proofs.«01_k».proof.Proof.Gen.OdUkv.Launch
public import proofs.«01_k».proof.Proof.Gen.OdUkv.Points
public import proofs.«01_k».proof.Proof.Gen.OdUkv.Frame
public import proofs.«01_k».proof.Proof.Gen.OdUkvIdeal
public import proofs.«01_k».proof.Proof.Gen.OdUkvIdeal.Skeleton
public import proofs.«01_k».proof.Proof.Gen.OdUkvIdeal.Launch
public import proofs.«01_k».proof.Proof.Gen.OdUkvIdeal.Points
public import proofs.«01_k».proof.Proof.Gen.OdUkvIdeal.Frame
public import proofs.«01_k».proof.Proof.Gen.OdUkvRefIdeal
public import proofs.«01_k».proof.Proof.Gen.OdUkvIdeal.Value
public import proofs.«01_k».proof.Proof.Gen.OdUkvRefIdeal.Run
public import proofs.«01_k».proof.Proof.Gen.OdO
public import proofs.«01_k».proof.Proof.Gen.OdO.Skeleton
public import proofs.«01_k».proof.Proof.Gen.OdO.Launch
public import proofs.«01_k».proof.Proof.Gen.OdO.Points
public import proofs.«01_k».proof.Proof.Gen.OdO.Frame
public import proofs.«01_k».proof.Proof.Gen.OdOIdeal
public import proofs.«01_k».proof.Proof.Gen.OdOIdeal.Skeleton
public import proofs.«01_k».proof.Proof.Gen.OdOIdeal.Launch
public import proofs.«01_k».proof.Proof.Gen.OdOIdeal.Points
public import proofs.«01_k».proof.Proof.Gen.OdOIdeal.Frame
public import proofs.«01_k».proof.Proof.Gen.OdORefIdeal
public import proofs.«01_k».proof.Proof.Gen.OdOIdeal.Value
public import proofs.«01_k».proof.Proof.Gen.OdORefIdeal.Run
public import proofs.«01_k».proof.Proof.Gen.FfDowns
public import proofs.«01_k».proof.Proof.Gen.FfDowns.Skeleton
public import proofs.«01_k».proof.Proof.Gen.FfDowns.Launch
public import proofs.«01_k».proof.Proof.Gen.FfDowns.Points
public import proofs.«01_k».proof.Proof.Gen.FfDowns.Frame
public import proofs.«01_k».proof.Proof.Gen.FfDownsIdeal
public import proofs.«01_k».proof.Proof.Gen.FfDownsIdeal.Skeleton
public import proofs.«01_k».proof.Proof.Gen.FfDownsIdeal.Launch
public import proofs.«01_k».proof.Proof.Gen.FfDownsIdeal.Points
public import proofs.«01_k».proof.Proof.Gen.FfDownsIdeal.Frame
public import proofs.«01_k».proof.Proof.Gen.FfDownsRefIdeal
public import proofs.«01_k».proof.Proof.Gen.FfDownsRefIdeal.Run
public import proofs.«01_k».proof.Proof.Gen.FfUps
public import proofs.«01_k».proof.Proof.Gen.FfUps.Skeleton
public import proofs.«01_k».proof.Proof.Gen.FfUps.Launch
public import proofs.«01_k».proof.Proof.Gen.FfUps.Points
public import proofs.«01_k».proof.Proof.Gen.FfUps.Frame
public import proofs.«01_k».proof.Proof.Gen.FfUpsIdeal
public import proofs.«01_k».proof.Proof.Gen.FfUpsIdeal.Skeleton
public import proofs.«01_k».proof.Proof.Gen.FfUpsIdeal.Launch
public import proofs.«01_k».proof.Proof.Gen.FfUpsIdeal.Points
public import proofs.«01_k».proof.Proof.Gen.FfUpsIdeal.Frame
public import proofs.«01_k».proof.Proof.Gen.FfUpsRefIdeal
public import proofs.«01_k».proof.Proof.Gen.FfUpsRefIdeal.Run
public import proofs.«01_k».proof.Proof.Gen.EvWouts
public import proofs.«01_k».proof.Proof.Gen.EvWouts.Skeleton
public import proofs.«01_k».proof.Proof.Gen.EvWouts.Launch
public import proofs.«01_k».proof.Proof.Gen.EvWouts.Points
public import proofs.«01_k».proof.Proof.Gen.EvWouts.Frame
public import proofs.«01_k».proof.Proof.Gen.EvWoutsIdeal
public import proofs.«01_k».proof.Proof.Gen.EvWoutsIdeal.Skeleton
public import proofs.«01_k».proof.Proof.Gen.EvWoutsIdeal.Launch
public import proofs.«01_k».proof.Proof.Gen.EvWoutsIdeal.Points
public import proofs.«01_k».proof.Proof.Gen.EvWoutsIdeal.Frame
public import proofs.«01_k».proof.Proof.Gen.EvWoutsRefIdeal
public import proofs.«01_k».proof.Proof.Gen.EvWoutsRefIdeal.Run
public import proofs.«01_k».proof.Proof.Gen.OdWos
public import proofs.«01_k».proof.Proof.Gen.OdWos.Skeleton
public import proofs.«01_k».proof.Proof.Gen.OdWos.Launch
public import proofs.«01_k».proof.Proof.Gen.OdWos.Points
public import proofs.«01_k».proof.Proof.Gen.OdWos.Frame
public import proofs.«01_k».proof.Proof.Gen.OdWosIdeal
public import proofs.«01_k».proof.Proof.Gen.OdWosIdeal.Skeleton
public import proofs.«01_k».proof.Proof.Gen.OdWosIdeal.Launch
public import proofs.«01_k».proof.Proof.Gen.OdWosIdeal.Points
public import proofs.«01_k».proof.Proof.Gen.OdWosIdeal.Frame
public import proofs.«01_k».proof.Proof.Gen.OdWosRefIdeal
public import proofs.«01_k».proof.Proof.Gen.OdWosRefIdeal.Run
public import proofs.«01_k».proof.Proof.Gen.At0
public import proofs.«01_k».proof.Proof.Gen.At0.Skeleton
public import proofs.«01_k».proof.Proof.Gen.At0.Launch
public import proofs.«01_k».proof.Proof.Gen.At0.Points
public import proofs.«01_k».proof.Proof.Gen.At0.Frame
public import proofs.«01_k».proof.Proof.Gen.At0Ideal
public import proofs.«01_k».proof.Proof.Gen.At0Ideal.Skeleton
public import proofs.«01_k».proof.Proof.Gen.At0Ideal.Launch
public import proofs.«01_k».proof.Proof.Gen.At0Ideal.Points
public import proofs.«01_k».proof.Proof.Gen.At0Ideal.Frame
public import proofs.«01_k».proof.Proof.Gen.At0RefIdeal
public import proofs.«01_k».proof.Proof.Gen.At0Ideal.Value
public import proofs.«01_k».proof.Proof.Gen.At0RefIdeal.Run
public import proofs.«01_k».proof.Proof.Gen.At1
public import proofs.«01_k».proof.Proof.Gen.At1.Skeleton
public import proofs.«01_k».proof.Proof.Gen.At1.Launch
public import proofs.«01_k».proof.Proof.Gen.At1.Points
public import proofs.«01_k».proof.Proof.Gen.At1.Frame
public import proofs.«01_k».proof.Proof.Gen.At1Ideal
public import proofs.«01_k».proof.Proof.Gen.At1Ideal.Skeleton
public import proofs.«01_k».proof.Proof.Gen.At1Ideal.Launch
public import proofs.«01_k».proof.Proof.Gen.At1Ideal.Points
public import proofs.«01_k».proof.Proof.Gen.At1Ideal.Frame
public import proofs.«01_k».proof.Proof.Gen.At1RefIdeal
public import proofs.«01_k».proof.Proof.Gen.At1Ideal.Value
public import proofs.«01_k».proof.Proof.Gen.At1RefIdeal.Run
public import proofs.«01_k».proof.Proof.Gen.Af1
public import proofs.«01_k».proof.Proof.Gen.Af1.Skeleton
public import proofs.«01_k».proof.Proof.Gen.Af1.Launch
public import proofs.«01_k».proof.Proof.Gen.Af1.Points
public import proofs.«01_k».proof.Proof.Gen.Af1.Frame
public import proofs.«01_k».proof.Proof.Gen.Af1Ideal
public import proofs.«01_k».proof.Proof.Gen.Af1Ideal.Skeleton
public import proofs.«01_k».proof.Proof.Gen.Af1Ideal.Launch
public import proofs.«01_k».proof.Proof.Gen.Af1Ideal.Points
public import proofs.«01_k».proof.Proof.Gen.Af1Ideal.Frame
public import proofs.«01_k».proof.Proof.Gen.Af1RefIdeal
public import proofs.«01_k».proof.Proof.Gen.Af1Ideal.Value
public import proofs.«01_k».proof.Proof.Gen.Af1RefIdeal.Run
public import proofs.«01_k».proof.Proof.Gen.Af2
public import proofs.«01_k».proof.Proof.Gen.Af2.Skeleton
public import proofs.«01_k».proof.Proof.Gen.Af2.Launch
public import proofs.«01_k».proof.Proof.Gen.Af2.Points
public import proofs.«01_k».proof.Proof.Gen.Af2.Frame
public import proofs.«01_k».proof.Proof.Gen.Af2Ideal
public import proofs.«01_k».proof.Proof.Gen.Af2Ideal.Skeleton
public import proofs.«01_k».proof.Proof.Gen.Af2Ideal.Launch
public import proofs.«01_k».proof.Proof.Gen.Af2Ideal.Points
public import proofs.«01_k».proof.Proof.Gen.Af2Ideal.Frame
public import proofs.«01_k».proof.Proof.Gen.Af2RefIdeal
public import proofs.«01_k».proof.Proof.Gen.Af2Ideal.Value
public import proofs.«01_k».proof.Proof.Gen.Af2RefIdeal.Run
public import proofs.«01_k».proof.Proof.Gen.Af3
public import proofs.«01_k».proof.Proof.Gen.Af3.Skeleton
public import proofs.«01_k».proof.Proof.Gen.Af3.Launch
public import proofs.«01_k».proof.Proof.Gen.Af3.Points
public import proofs.«01_k».proof.Proof.Gen.Af3.Frame
public import proofs.«01_k».proof.Proof.Gen.Af3Ideal
public import proofs.«01_k».proof.Proof.Gen.Af3Ideal.Skeleton
public import proofs.«01_k».proof.Proof.Gen.Af3Ideal.Launch
public import proofs.«01_k».proof.Proof.Gen.Af3Ideal.Points
public import proofs.«01_k».proof.Proof.Gen.Af3Ideal.Frame
public import proofs.«01_k».proof.Proof.Gen.Af3RefIdeal
public import proofs.«01_k».proof.Proof.Gen.Af3Ideal.Value
public import proofs.«01_k».proof.Proof.Gen.Af3RefIdeal.Run
public import proofs.«01_k».proof.Proof.Gen.Pre_finite
public import proofs.«01_k».proof.Proof.Gen.Pre_attn_finite
public import proofs.«01_k».proof.Proof.GmClaim
public import proofs.«01_k».proof.Proof.FfDaClaim
public import proofs.«01_k».proof.Proof.FfDown0Claim
public import proofs.«01_k».proof.Proof.FfDown1Claim
public import proofs.«01_k».proof.Proof.FfDown2Claim
public import proofs.«01_k».proof.Proof.FfDhn0Claim
public import proofs.«01_k».proof.Proof.FfDhn1Claim
public import proofs.«01_k».proof.Proof.FfDhn2Claim
public import proofs.«01_k».proof.Proof.FfDhn3Claim
public import proofs.«01_k».proof.Proof.FfUp0Claim
public import proofs.«01_k».proof.Proof.FfUp1Claim
public import proofs.«01_k».proof.Proof.FfUp2Claim
public import proofs.«01_k».proof.Proof.EvDcatClaim
public import proofs.«01_k».proof.Proof.EvWoutClaim
public import proofs.«01_k».proof.Proof.EvDhnClaim
public import proofs.«01_k».proof.Proof.EvDhn2Claim
public import proofs.«01_k».proof.Proof.EvWinClaim
public import proofs.«01_k».proof.Proof.EvWdtClaim
public import proofs.«01_k».proof.Proof.OdDoClaim
public import proofs.«01_k».proof.Proof.OdWoClaim
public import proofs.«01_k».proof.Proof.OdDcqClaim
public import proofs.«01_k».proof.Proof.OdWuqClaim
public import proofs.«01_k».proof.Proof.OdDckvClaim
public import proofs.«01_k».proof.Proof.OdWukvClaim
public import proofs.«01_k».proof.Proof.OdDhnClaim
public import proofs.«01_k».proof.Proof.OdWinClaim
public import proofs.«01_k».proof.Proof.FwUp0Claim
public import proofs.«01_k».proof.Proof.FwUp1Claim
public import proofs.«01_k».proof.Proof.FwUp2Claim
public import proofs.«01_k».proof.Proof.FwUp3Claim
public import proofs.«01_k».proof.Proof.FwDownClaim
public import proofs.«01_k».proof.Proof.EvInClaim
public import proofs.«01_k».proof.Proof.EvInDtClaim
public import proofs.«01_k».proof.Proof.EvOutClaim
public import proofs.«01_k».proof.Proof.OdInClaim
public import proofs.«01_k».proof.Proof.OdUqClaim
public import proofs.«01_k».proof.Proof.OdUkvClaim
public import proofs.«01_k».proof.Proof.OdOClaim
public import proofs.«01_k».proof.Proof.FfDownsClaim
public import proofs.«01_k».proof.Proof.FfUpsClaim
public import proofs.«01_k».proof.Proof.EvWoutsClaim
public import proofs.«01_k».proof.Proof.OdWosClaim
public import proofs.«01_k».proof.Proof.At0Claim
public import proofs.«01_k».proof.Proof.At1Claim
public import proofs.«01_k».proof.Proof.Af1Claim
public import proofs.«01_k».proof.Proof.Af2Claim
public import proofs.«01_k».proof.Proof.Af3Claim
public import Idealize.ShloMosaic.Adequacy
public import Idealize.ShloMosaic.Init

@[expose] public section

noncomputable section

namespace Cert.Proof

open Idealize.ShloMosaic Idealize.SL.Sem Cert.Gm

theorem claim : Cert.Claim := ⟨Cert.Gm.Gen.facts, Cert.GmIdeal.Gen.facts, Cert.GmRefIdeal.Gen.facts, Cert.FfDa.Gen.facts,
  Cert.FfDaIdeal.Gen.facts, Cert.FfDaRefIdeal.Gen.facts, Cert.FfDown0.Gen.facts, Cert.FfDown0Ideal.Gen.facts,
  Cert.FfDown0RefIdeal.Gen.facts, Cert.FfDown1.Gen.facts, Cert.FfDown1Ideal.Gen.facts, Cert.FfDown1RefIdeal.Gen.facts,
  Cert.FfDown2.Gen.facts, Cert.FfDown2Ideal.Gen.facts, Cert.FfDown2RefIdeal.Gen.facts, Cert.FfDhn0.Gen.facts,
  Cert.FfDhn0Ideal.Gen.facts, Cert.FfDhn0RefIdeal.Gen.facts, Cert.FfDhn1.Gen.facts, Cert.FfDhn1Ideal.Gen.facts,
  Cert.FfDhn1RefIdeal.Gen.facts, Cert.FfDhn2.Gen.facts, Cert.FfDhn2Ideal.Gen.facts, Cert.FfDhn2RefIdeal.Gen.facts,
  Cert.FfDhn3.Gen.facts, Cert.FfDhn3Ideal.Gen.facts, Cert.FfDhn3RefIdeal.Gen.facts, Cert.FfUp0.Gen.facts,
  Cert.FfUp0Ideal.Gen.facts, Cert.FfUp0RefIdeal.Gen.facts, Cert.FfUp1.Gen.facts, Cert.FfUp1Ideal.Gen.facts,
  Cert.FfUp1RefIdeal.Gen.facts, Cert.FfUp2.Gen.facts, Cert.FfUp2Ideal.Gen.facts, Cert.FfUp2RefIdeal.Gen.facts,
  Cert.EvDcat.Gen.facts, Cert.EvDcatIdeal.Gen.facts, Cert.EvDcatRefIdeal.Gen.facts, Cert.EvWout.Gen.facts,
  Cert.EvWoutIdeal.Gen.facts, Cert.EvWoutRefIdeal.Gen.facts, Cert.EvDhn.Gen.facts, Cert.EvDhnIdeal.Gen.facts,
  Cert.EvDhnRefIdeal.Gen.facts, Cert.EvDhn2.Gen.facts, Cert.EvDhn2Ideal.Gen.facts, Cert.EvDhn2RefIdeal.Gen.facts,
  Cert.EvWin.Gen.facts, Cert.EvWinIdeal.Gen.facts, Cert.EvWinRefIdeal.Gen.facts, Cert.EvWdt.Gen.facts,
  Cert.EvWdtIdeal.Gen.facts, Cert.EvWdtRefIdeal.Gen.facts, Cert.OdDo.Gen.facts, Cert.OdDoIdeal.Gen.facts,
  Cert.OdDoRefIdeal.Gen.facts, Cert.OdWo.Gen.facts, Cert.OdWoIdeal.Gen.facts, Cert.OdWoRefIdeal.Gen.facts,
  Cert.OdDcq.Gen.facts, Cert.OdDcqIdeal.Gen.facts, Cert.OdDcqRefIdeal.Gen.facts, Cert.OdWuq.Gen.facts,
  Cert.OdWuqIdeal.Gen.facts, Cert.OdWuqRefIdeal.Gen.facts, Cert.OdDckv.Gen.facts, Cert.OdDckvIdeal.Gen.facts,
  Cert.OdDckvRefIdeal.Gen.facts, Cert.OdWukv.Gen.facts, Cert.OdWukvIdeal.Gen.facts, Cert.OdWukvRefIdeal.Gen.facts,
  Cert.OdDhn.Gen.facts, Cert.OdDhnIdeal.Gen.facts, Cert.OdDhnRefIdeal.Gen.facts, Cert.OdWin.Gen.facts,
  Cert.OdWinIdeal.Gen.facts, Cert.OdWinRefIdeal.Gen.facts, Cert.FwUp0.Gen.facts, Cert.FwUp0Ideal.Gen.facts,
  Cert.FwUp0RefIdeal.Gen.facts, Cert.FwUp1.Gen.facts, Cert.FwUp1Ideal.Gen.facts, Cert.FwUp1RefIdeal.Gen.facts,
  Cert.FwUp2.Gen.facts, Cert.FwUp2Ideal.Gen.facts, Cert.FwUp2RefIdeal.Gen.facts, Cert.FwUp3.Gen.facts,
  Cert.FwUp3Ideal.Gen.facts, Cert.FwUp3RefIdeal.Gen.facts, Cert.FwDown.Gen.facts, Cert.FwDownIdeal.Gen.facts,
  Cert.FwDownRefIdeal.Gen.facts, Cert.EvIn.Gen.facts, Cert.EvInIdeal.Gen.facts, Cert.EvInRefIdeal.Gen.facts,
  Cert.EvInDt.Gen.facts, Cert.EvInDtIdeal.Gen.facts, Cert.EvInDtRefIdeal.Gen.facts, Cert.EvOut.Gen.facts,
  Cert.EvOutIdeal.Gen.facts, Cert.EvOutRefIdeal.Gen.facts, Cert.OdIn.Gen.facts, Cert.OdInIdeal.Gen.facts,
  Cert.OdInRefIdeal.Gen.facts, Cert.OdUq.Gen.facts, Cert.OdUqIdeal.Gen.facts, Cert.OdUqRefIdeal.Gen.facts,
  Cert.OdUkv.Gen.facts, Cert.OdUkvIdeal.Gen.facts, Cert.OdUkvRefIdeal.Gen.facts, Cert.OdO.Gen.facts,
  Cert.OdOIdeal.Gen.facts, Cert.OdORefIdeal.Gen.facts, Cert.FfDowns.Gen.facts, Cert.FfDownsIdeal.Gen.facts,
  Cert.FfDownsRefIdeal.Gen.facts, Cert.FfUps.Gen.facts, Cert.FfUpsIdeal.Gen.facts, Cert.FfUpsRefIdeal.Gen.facts,
  Cert.EvWouts.Gen.facts, Cert.EvWoutsIdeal.Gen.facts, Cert.EvWoutsRefIdeal.Gen.facts, Cert.OdWos.Gen.facts,
  Cert.OdWosIdeal.Gen.facts, Cert.OdWosRefIdeal.Gen.facts, Cert.At0.Gen.facts, Cert.At0Ideal.Gen.facts,
  Cert.At0RefIdeal.Gen.facts, Cert.At1.Gen.facts, Cert.At1Ideal.Gen.facts, Cert.At1RefIdeal.Gen.facts,
  Cert.Af1.Gen.facts, Cert.Af1Ideal.Gen.facts, Cert.Af1RefIdeal.Gen.facts, Cert.Af2.Gen.facts,
  Cert.Af2Ideal.Gen.facts, Cert.Af2RefIdeal.Gen.facts, Cert.Af3.Gen.facts, Cert.Af3Ideal.Gen.facts,
  Cert.Af3RefIdeal.Gen.facts, Cert.Pre_finite.Gen.facts, Cert.Pre_attn_finite.Gen.facts,
  Gm.frame, Gm.frame_ideal, fun m g _ => Gm.frame_ideal m g trivial, Gm.frame_ref,
  fun m g _ => Gm.frame_ref m g trivial, FfDa.frame, FfDa.frame_ideal, FfDa.frame_ref,
  FfDown0.frame, FfDown0.frame_ideal, FfDown0.frame_ref, FfDown1.frame,
  FfDown1.frame_ideal, FfDown1.frame_ref, FfDown2.frame, FfDown2.frame_ideal,
  FfDown2.frame_ref, FfDhn0.frame, FfDhn0.frame_ideal, FfDhn0.frame_ref,
  FfDhn1.frame, FfDhn1.frame_ideal, FfDhn1.frame_ref, FfDhn2.frame,
  FfDhn2.frame_ideal, FfDhn2.frame_ref, FfDhn3.frame, FfDhn3.frame_ideal,
  FfDhn3.frame_ref, FfUp0.frame, FfUp0.frame_ideal, FfUp0.frame_ref,
  FfUp1.frame, FfUp1.frame_ideal, FfUp1.frame_ref, FfUp2.frame,
  FfUp2.frame_ideal, FfUp2.frame_ref, EvDcat.frame, EvDcat.frame_ideal,
  EvDcat.frame_ref, EvWout.frame, EvWout.frame_ideal, EvWout.frame_ref,
  EvDhn.frame, EvDhn.frame_ideal, EvDhn.frame_ref, EvDhn2.frame,
  EvDhn2.frame_ideal, EvDhn2.frame_ref, EvWin.frame, EvWin.frame_ideal,
  EvWin.frame_ref, EvWdt.frame, EvWdt.frame_ideal, EvWdt.frame_ref,
  OdDo.frame, OdDo.frame_ideal, OdDo.frame_ref, OdWo.frame,
  OdWo.frame_ideal, OdWo.frame_ref, OdDcq.frame, OdDcq.frame_ideal,
  OdDcq.frame_ref, OdWuq.frame, OdWuq.frame_ideal, OdWuq.frame_ref,
  OdDckv.frame, OdDckv.frame_ideal, OdDckv.frame_ref, OdWukv.frame,
  OdWukv.frame_ideal, OdWukv.frame_ref, OdDhn.frame, OdDhn.frame_ideal,
  OdDhn.frame_ref, OdWin.frame, OdWin.frame_ideal, OdWin.frame_ref,
  FwUp0.frame, FwUp0.frame_ideal, FwUp0.frame_ref, FwUp1.frame,
  FwUp1.frame_ideal, FwUp1.frame_ref, FwUp2.frame, FwUp2.frame_ideal,
  FwUp2.frame_ref, FwUp3.frame, FwUp3.frame_ideal, FwUp3.frame_ref,
  FwDown.frame, FwDown.frame_ideal, FwDown.frame_ref, EvIn.frame,
  EvIn.frame_ideal, EvIn.frame_ref, EvInDt.frame, EvInDt.frame_ideal,
  EvInDt.frame_ref, EvOut.frame, EvOut.frame_ideal, EvOut.frame_ref,
  OdIn.frame, OdIn.frame_ideal, OdIn.frame_ref, OdUq.frame,
  OdUq.frame_ideal, OdUq.frame_ref, OdUkv.frame, OdUkv.frame_ideal,
  OdUkv.frame_ref, OdO.frame, OdO.frame_ideal, OdO.frame_ref,
  FfDowns.frame, FfDowns.frame_ideal, FfDowns.frame_ref, FfUps.frame,
  FfUps.frame_ideal, FfUps.frame_ref, EvWouts.frame, EvWouts.frame_ideal,
  EvWouts.frame_ref, OdWos.frame, OdWos.frame_ideal, OdWos.frame_ref,
  At0.frame, At0.frame_ideal, fun m g _ => At0.frame_ideal m g trivial, At0.frame_ref,
  fun m g _ => At0.frame_ref m g trivial, At1.frame, At1.frame_ideal, fun m g _ => At1.frame_ideal m g trivial,
  At1.frame_ref, fun m g _ => At1.frame_ref m g trivial, Af1.frame, Af1.frame_ideal,
  Af1.frame_ref, Af2.frame, Af2.frame_ideal, Af2.frame_ref,
  Af3.frame, Af3.frame_ideal, Af3.frame_ref, Gm.preserves,
  Gm.algebraic, FfDa.preserves, FfDa.algebraic, FfDown0.preserves,
  FfDown0.algebraic, FfDown1.preserves, FfDown1.algebraic, FfDown2.preserves,
  FfDown2.algebraic, FfDhn0.preserves, FfDhn0.algebraic, FfDhn1.preserves,
  FfDhn1.algebraic, FfDhn2.preserves, FfDhn2.algebraic, FfDhn3.preserves,
  FfDhn3.algebraic, FfUp0.preserves, FfUp0.algebraic, FfUp1.preserves,
  FfUp1.algebraic, FfUp2.preserves, FfUp2.algebraic, EvDcat.preserves,
  EvDcat.algebraic, EvWout.preserves, EvWout.algebraic, EvDhn.preserves,
  EvDhn.algebraic, EvDhn2.preserves, EvDhn2.algebraic, EvWin.preserves,
  EvWin.algebraic, EvWdt.preserves, EvWdt.algebraic, OdDo.preserves,
  OdDo.algebraic, OdWo.preserves, OdWo.algebraic, OdDcq.preserves,
  OdDcq.algebraic, OdWuq.preserves, OdWuq.algebraic, OdDckv.preserves,
  OdDckv.algebraic, OdWukv.preserves, OdWukv.algebraic, OdDhn.preserves,
  OdDhn.algebraic, OdWin.preserves, OdWin.algebraic, FwUp0.preserves,
  FwUp0.algebraic, FwUp1.preserves, FwUp1.algebraic, FwUp2.preserves,
  FwUp2.algebraic, FwUp3.preserves, FwUp3.algebraic, FwDown.preserves,
  FwDown.algebraic, EvIn.preserves, EvIn.algebraic, EvInDt.preserves,
  EvInDt.algebraic, EvOut.preserves, EvOut.algebraic, OdIn.preserves,
  OdIn.algebraic, OdUq.preserves, OdUq.algebraic, OdUkv.preserves,
  OdUkv.algebraic, OdO.preserves, OdO.algebraic, FfDowns.preserves,
  FfDowns.algebraic, FfUps.preserves, FfUps.algebraic, EvWouts.preserves,
  EvWouts.algebraic, OdWos.preserves, OdWos.algebraic, At0.preserves,
  At0.algebraic, At1.preserves, At1.algebraic, Af1.preserves,
  Af1.algebraic, Af2.preserves, Af2.algebraic, Af3.preserves,
  Af3.algebraic⟩

end Cert.Proof

end
